-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_FfnOutDx (m : (ℓ : Loc Cert.FfnOutDx.nD Cert.FfnOutDx.τ Cert.FfnOutDx.sig) → Buf (Elt Bits) ℓ) : Prop :=
  True

def Pre_FfnOutDxIdeal (m : (ℓ : Loc Cert.FfnOutDxIdeal.nD Cert.FfnOutDxIdeal.τ Cert.FfnOutDxIdeal.sig) → Buf (Elt Ideal) ℓ) : Prop :=
  True

def Pre_FfnOutDxRefIdeal (m : (ℓ : Loc Cert.FfnOutDxRefIdeal.nD Cert.FfnOutDxRefIdeal.τ Cert.FfnOutDxRefIdeal.sig) → Buf (Elt Ideal) ℓ) : Prop :=
  True

def Pre_FfnOutDw (m : (ℓ : Loc Cert.FfnOutDw.nD Cert.FfnOutDw.τ Cert.FfnOutDw.sig) → Buf (Elt Bits) ℓ) : Prop :=
  True

def Pre_FfnOutDwIdeal (m : (ℓ : Loc Cert.FfnOutDwIdeal.nD Cert.FfnOutDwIdeal.τ Cert.FfnOutDwIdeal.sig) → Buf (Elt Ideal) ℓ) : Prop :=
  True

def Pre_FfnOutDwRefIdeal (m : (ℓ : Loc Cert.FfnOutDwRefIdeal.nD Cert.FfnOutDwRefIdeal.τ Cert.FfnOutDwRefIdeal.sig) → Buf (Elt Ideal) ℓ) : Prop :=
  True

def Pre_FfnInDx (m : (ℓ : Loc Cert.FfnInDx.nD Cert.FfnInDx.τ Cert.FfnInDx.sig) → Buf (Elt Bits) ℓ) : Prop :=
  True

def Pre_FfnInDxIdeal (m : (ℓ : Loc Cert.FfnInDxIdeal.nD Cert.FfnInDxIdeal.τ Cert.FfnInDxIdeal.sig) → Buf (Elt Ideal) ℓ) : Prop :=
  True

def Pre_FfnInDxRefIdeal (m : (ℓ : Loc Cert.FfnInDxRefIdeal.nD Cert.FfnInDxRefIdeal.τ Cert.FfnInDxRefIdeal.sig) → Buf (Elt Ideal) ℓ) : Prop :=
  True

def Pre_FfnInDw (m : (ℓ : Loc Cert.FfnInDw.nD Cert.FfnInDw.τ Cert.FfnInDw.sig) → Buf (Elt Bits) ℓ) : Prop :=
  True

def Pre_FfnInDwIdeal (m : (ℓ : Loc Cert.FfnInDwIdeal.nD Cert.FfnInDwIdeal.τ Cert.FfnInDwIdeal.sig) → Buf (Elt Ideal) ℓ) : Prop :=
  True

def Pre_FfnInDwRefIdeal (m : (ℓ : Loc Cert.FfnInDwRefIdeal.nD Cert.FfnInDwRefIdeal.τ Cert.FfnInDwRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_BranchDx (m : (ℓ : Loc Cert.BranchDx.nD Cert.BranchDx.τ Cert.BranchDx.sig) → Buf (Elt Bits) ℓ) : Prop :=
  True

def Pre_BranchDxIdeal (m : (ℓ : Loc Cert.BranchDxIdeal.nD Cert.BranchDxIdeal.τ Cert.BranchDxIdeal.sig) → Buf (Elt Ideal) ℓ) : Prop :=
  True

def Pre_BranchDxRefIdeal (m : (ℓ : Loc Cert.BranchDxRefIdeal.nD Cert.BranchDxRefIdeal.τ Cert.BranchDxRefIdeal.sig) → Buf (Elt Ideal) ℓ) : Prop :=
  True

def Pre_BranchDw (m : (ℓ : Loc Cert.BranchDw.nD Cert.BranchDw.τ Cert.BranchDw.sig) → Buf (Elt Bits) ℓ) : Prop :=
  True

def Pre_BranchDwIdeal (m : (ℓ : Loc Cert.BranchDwIdeal.nD Cert.BranchDwIdeal.τ Cert.BranchDwIdeal.sig) → Buf (Elt Ideal) ℓ) : Prop :=
  True

def Pre_BranchDwRefIdeal (m : (ℓ : Loc Cert.BranchDwRefIdeal.nD Cert.BranchDwRefIdeal.τ Cert.BranchDwRefIdeal.sig) → Buf (Elt Ideal) ℓ) : Prop :=
  True

def Pre_UkvDx (m : (ℓ : Loc Cert.UkvDx.nD Cert.UkvDx.τ Cert.UkvDx.sig) → Buf (Elt Bits) ℓ) : Prop :=
  True

def Pre_UkvDxIdeal (m : (ℓ : Loc Cert.UkvDxIdeal.nD Cert.UkvDxIdeal.τ Cert.UkvDxIdeal.sig) → Buf (Elt Ideal) ℓ) : Prop :=
  True

def Pre_UkvDxRefIdeal (m : (ℓ : Loc Cert.UkvDxRefIdeal.nD Cert.UkvDxRefIdeal.τ Cert.UkvDxRefIdeal.sig) → Buf (Elt Ideal) ℓ) : Prop :=
  True

def Pre_UkvDw (m : (ℓ : Loc Cert.UkvDw.nD Cert.UkvDw.τ Cert.UkvDw.sig) → Buf (Elt Bits) ℓ) : Prop :=
  True

def Pre_UkvDwIdeal (m : (ℓ : Loc Cert.UkvDwIdeal.nD Cert.UkvDwIdeal.τ Cert.UkvDwIdeal.sig) → Buf (Elt Ideal) ℓ) : Prop :=
  True

def Pre_UkvDwRefIdeal (m : (ℓ : Loc Cert.UkvDwRefIdeal.nD Cert.UkvDwRefIdeal.τ Cert.UkvDwRefIdeal.sig) → Buf (Elt Ideal) ℓ) : Prop :=
  True

def Pre_InQDx (m : (ℓ : Loc Cert.InQDx.nD Cert.InQDx.τ Cert.InQDx.sig) → Buf (Elt Bits) ℓ) : Prop :=
  True

def Pre_InQDxIdeal (m : (ℓ : Loc Cert.InQDxIdeal.nD Cert.InQDxIdeal.τ Cert.InQDxIdeal.sig) → Buf (Elt Ideal) ℓ) : Prop :=
  True

def Pre_InQDxRefIdeal (m : (ℓ : Loc Cert.InQDxRefIdeal.nD Cert.InQDxRefIdeal.τ Cert.InQDxRefIdeal.sig) → Buf (Elt Ideal) ℓ) : Prop :=
  True

def Pre_InQDw (m : (ℓ : Loc Cert.InQDw.nD Cert.InQDw.τ Cert.InQDw.sig) → Buf (Elt Bits) ℓ) : Prop :=
  True

def Pre_InQDwIdeal (m : (ℓ : Loc Cert.InQDwIdeal.nD Cert.InQDwIdeal.τ Cert.InQDwIdeal.sig) → Buf (Elt Ideal) ℓ) : Prop :=
  True

def Pre_InQDwRefIdeal (m : (ℓ : Loc Cert.InQDwRefIdeal.nD Cert.InQDwRefIdeal.τ Cert.InQDwRefIdeal.sig) → Buf (Elt Ideal) ℓ) : Prop :=
  True

def Pre_InCkvDx (m : (ℓ : Loc Cert.InCkvDx.nD Cert.InCkvDx.τ Cert.InCkvDx.sig) → Buf (Elt Bits) ℓ) : Prop :=
  True

def Pre_InCkvDxIdeal (m : (ℓ : Loc Cert.InCkvDxIdeal.nD Cert.InCkvDxIdeal.τ Cert.InCkvDxIdeal.sig) → Buf (Elt Ideal) ℓ) : Prop :=
  True

def Pre_InCkvDxRefIdeal (m : (ℓ : Loc Cert.InCkvDxRefIdeal.nD Cert.InCkvDxRefIdeal.τ Cert.InCkvDxRefIdeal.sig) → Buf (Elt Ideal) ℓ) : Prop :=
  True

def Pre_InCkvDw (m : (ℓ : Loc Cert.InCkvDw.nD Cert.InCkvDw.τ Cert.InCkvDw.sig) → Buf (Elt Bits) ℓ) : Prop :=
  True

def Pre_InCkvDwIdeal (m : (ℓ : Loc Cert.InCkvDwIdeal.nD Cert.InCkvDwIdeal.τ Cert.InCkvDwIdeal.sig) → Buf (Elt Ideal) ℓ) : Prop :=
  True

def Pre_InCkvDwRefIdeal (m : (ℓ : Loc Cert.InCkvDwRefIdeal.nD Cert.InCkvDwRefIdeal.τ Cert.InCkvDwRefIdeal.sig) → Buf (Elt Ideal) ℓ) : Prop :=
  True

def Pre_InSgDx (m : (ℓ : Loc Cert.InSgDx.nD Cert.InSgDx.τ Cert.InSgDx.sig) → Buf (Elt Bits) ℓ) : Prop :=
  True

def Pre_InSgDxIdeal (m : (ℓ : Loc Cert.InSgDxIdeal.nD Cert.InSgDxIdeal.τ Cert.InSgDxIdeal.sig) → Buf (Elt Ideal) ℓ) : Prop :=
  True

def Pre_InSgDxRefIdeal (m : (ℓ : Loc Cert.InSgDxRefIdeal.nD Cert.InSgDxRefIdeal.τ Cert.InSgDxRefIdeal.sig) → Buf (Elt Ideal) ℓ) : Prop :=
  True

def Pre_InSgDw (m : (ℓ : Loc Cert.InSgDw.nD Cert.InSgDw.τ Cert.InSgDw.sig) → Buf (Elt Bits) ℓ) : Prop :=
  True

def Pre_InSgDwIdeal (m : (ℓ : Loc Cert.InSgDwIdeal.nD Cert.InSgDwIdeal.τ Cert.InSgDwIdeal.sig) → Buf (Elt Ideal) ℓ) : Prop :=
  True

def Pre_InSgDwRefIdeal (m : (ℓ : Loc Cert.InSgDwRefIdeal.nD Cert.InSgDwRefIdeal.τ Cert.InSgDwRefIdeal.sig) → Buf (Elt Ideal) ℓ) : Prop :=
  True

def Pre_InRwDx (m : (ℓ : Loc Cert.InRwDx.nD Cert.InRwDx.τ Cert.InRwDx.sig) → Buf (Elt Bits) ℓ) : Prop :=
  True

def Pre_InRwDxIdeal (m : (ℓ : Loc Cert.InRwDxIdeal.nD Cert.InRwDxIdeal.τ Cert.InRwDxIdeal.sig) → Buf (Elt Ideal) ℓ) : Prop :=
  True

def Pre_InRwDxRefIdeal (m : (ℓ : Loc Cert.InRwDxRefIdeal.nD Cert.InRwDxRefIdeal.τ Cert.InRwDxRefIdeal.sig) → Buf (Elt Ideal) ℓ) : Prop :=
  True

def Pre_InRwDw (m : (ℓ : Loc Cert.InRwDw.nD Cert.InRwDw.τ Cert.InRwDw.sig) → Buf (Elt Bits) ℓ) : Prop :=
  True

def Pre_InRwDwIdeal (m : (ℓ : Loc Cert.InRwDwIdeal.nD Cert.InRwDwIdeal.τ Cert.InRwDwIdeal.sig) → Buf (Elt Ideal) ℓ) : Prop :=
  True

def Pre_InRwDwRefIdeal (m : (ℓ : Loc Cert.InRwDwRefIdeal.nD Cert.InRwDwRefIdeal.τ Cert.InRwDwRefIdeal.sig) → Buf (Elt Ideal) ℓ) : Prop :=
  True

def Pre_InGateDx (m : (ℓ : Loc Cert.InGateDx.nD Cert.InGateDx.τ Cert.InGateDx.sig) → Buf (Elt Bits) ℓ) : Prop :=
  True

def Pre_InGateDxIdeal (m : (ℓ : Loc Cert.InGateDxIdeal.nD Cert.InGateDxIdeal.τ Cert.InGateDxIdeal.sig) → Buf (Elt Ideal) ℓ) : Prop :=
  True

def Pre_InGateDxRefIdeal (m : (ℓ : Loc Cert.InGateDxRefIdeal.nD Cert.InGateDxRefIdeal.τ Cert.InGateDxRefIdeal.sig) → Buf (Elt Ideal) ℓ) : Prop :=
  True

def Pre_InGateDw (m : (ℓ : Loc Cert.InGateDw.nD Cert.InGateDw.τ Cert.InGateDw.sig) → Buf (Elt Bits) ℓ) : Prop :=
  True

def Pre_InGateDwIdeal (m : (ℓ : Loc Cert.InGateDwIdeal.nD Cert.InGateDwIdeal.τ Cert.InGateDwIdeal.sig) → Buf (Elt Ideal) ℓ) : Prop :=
  True

def Pre_InGateDwRefIdeal (m : (ℓ : Loc Cert.InGateDwRefIdeal.nD Cert.InGateDwRefIdeal.τ Cert.InGateDwRefIdeal.sig) → Buf (Elt Ideal) ℓ) : Prop :=
  True

def Pre_InKrDx (m : (ℓ : Loc Cert.InKrDx.nD Cert.InKrDx.τ Cert.InKrDx.sig) → Buf (Elt Bits) ℓ) : Prop :=
  True

def Pre_InKrDxIdeal (m : (ℓ : Loc Cert.InKrDxIdeal.nD Cert.InKrDxIdeal.τ Cert.InKrDxIdeal.sig) → Buf (Elt Ideal) ℓ) : Prop :=
  True

def Pre_InKrDxRefIdeal (m : (ℓ : Loc Cert.InKrDxRefIdeal.nD Cert.InKrDxRefIdeal.τ Cert.InKrDxRefIdeal.sig) → Buf (Elt Ideal) ℓ) : Prop :=
  True

def Pre_InKrDw (m : (ℓ : Loc Cert.InKrDw.nD Cert.InKrDw.τ Cert.InKrDw.sig) → Buf (Elt Bits) ℓ) : Prop :=
  True

def Pre_InKrDwIdeal (m : (ℓ : Loc Cert.InKrDwIdeal.nD Cert.InKrDwIdeal.τ Cert.InKrDwIdeal.sig) → Buf (Elt Ideal) ℓ) : Prop :=
  True

def Pre_InKrDwRefIdeal (m : (ℓ : Loc Cert.InKrDwRefIdeal.nD Cert.InKrDwRefIdeal.τ Cert.InKrDwRefIdeal.sig) → Buf (Elt Ideal) ℓ) : Prop :=
  True

def Pre_UqDx (m : (ℓ : Loc Cert.UqDx.nD Cert.UqDx.τ Cert.UqDx.sig) → Buf (Elt Bits) ℓ) : Prop :=
  True

def Pre_UqDxIdeal (m : (ℓ : Loc Cert.UqDxIdeal.nD Cert.UqDxIdeal.τ Cert.UqDxIdeal.sig) → Buf (Elt Ideal) ℓ) : Prop :=
  True

def Pre_UqDxRefIdeal (m : (ℓ : Loc Cert.UqDxRefIdeal.nD Cert.UqDxRefIdeal.τ Cert.UqDxRefIdeal.sig) → Buf (Elt Ideal) ℓ) : Prop :=
  True

def Pre_UqDw (m : (ℓ : Loc Cert.UqDw.nD Cert.UqDw.τ Cert.UqDw.sig) → Buf (Elt Bits) ℓ) : Prop :=
  True

def Pre_UqDwIdeal (m : (ℓ : Loc Cert.UqDwIdeal.nD Cert.UqDwIdeal.τ Cert.UqDwIdeal.sig) → Buf (Elt Ideal) ℓ) : Prop :=
  True

def Pre_UqDwRefIdeal (m : (ℓ : Loc Cert.UqDwRefIdeal.nD Cert.UqDwRefIdeal.τ Cert.UqDwRefIdeal.sig) → Buf (Elt Ideal) ℓ) : Prop :=
  True

def Pre_BranchAttnDx (m : (ℓ : Loc Cert.BranchAttnDx.nD Cert.BranchAttnDx.τ Cert.BranchAttnDx.sig) → Buf (Elt Bits) ℓ) : Prop :=
  True

def Pre_BranchAttnDxIdeal (m : (ℓ : Loc Cert.BranchAttnDxIdeal.nD Cert.BranchAttnDxIdeal.τ Cert.BranchAttnDxIdeal.sig) → Buf (Elt Ideal) ℓ) : Prop :=
  True

def Pre_BranchAttnDxRefIdeal (m : (ℓ : Loc Cert.BranchAttnDxRefIdeal.nD Cert.BranchAttnDxRefIdeal.τ Cert.BranchAttnDxRefIdeal.sig) → Buf (Elt Ideal) ℓ) : Prop :=
  True

def Pre_BranchAttnDw (m : (ℓ : Loc Cert.BranchAttnDw.nD Cert.BranchAttnDw.τ Cert.BranchAttnDw.sig) → Buf (Elt Bits) ℓ) : Prop :=
  True

def Pre_BranchAttnDwIdeal (m : (ℓ : Loc Cert.BranchAttnDwIdeal.nD Cert.BranchAttnDwIdeal.τ Cert.BranchAttnDwIdeal.sig) → Buf (Elt Ideal) ℓ) : Prop :=
  True

def Pre_BranchAttnDwRefIdeal (m : (ℓ : Loc Cert.BranchAttnDwRefIdeal.nD Cert.BranchAttnDwRefIdeal.τ Cert.BranchAttnDwRefIdeal.sig) → Buf (Elt Ideal) ℓ) : Prop :=
  True

def Pre_InQFw (m : (ℓ : Loc Cert.InQFw.nD Cert.InQFw.τ Cert.InQFw.sig) → Buf (Elt Bits) ℓ) : Prop :=
  True

def Pre_InQFwIdeal (m : (ℓ : Loc Cert.InQFwIdeal.nD Cert.InQFwIdeal.τ Cert.InQFwIdeal.sig) → Buf (Elt Ideal) ℓ) : Prop :=
  True

def Pre_InQFwRefIdeal (m : (ℓ : Loc Cert.InQFwRefIdeal.nD Cert.InQFwRefIdeal.τ Cert.InQFwRefIdeal.sig) → Buf (Elt Ideal) ℓ) : Prop :=
  True

def Pre_InCkvFw (m : (ℓ : Loc Cert.InCkvFw.nD Cert.InCkvFw.τ Cert.InCkvFw.sig) → Buf (Elt Bits) ℓ) : Prop :=
  True

def Pre_InCkvFwIdeal (m : (ℓ : Loc Cert.InCkvFwIdeal.nD Cert.InCkvFwIdeal.τ Cert.InCkvFwIdeal.sig) → Buf (Elt Ideal) ℓ) : Prop :=
  True

def Pre_InCkvFwRefIdeal (m : (ℓ : Loc Cert.InCkvFwRefIdeal.nD Cert.InCkvFwRefIdeal.τ Cert.InCkvFwRefIdeal.sig) → Buf (Elt Ideal) ℓ) : Prop :=
  True

def Pre_InKrFw (m : (ℓ : Loc Cert.InKrFw.nD Cert.InKrFw.τ Cert.InKrFw.sig) → Buf (Elt Bits) ℓ) : Prop :=
  True

def Pre_InKrFwIdeal (m : (ℓ : Loc Cert.InKrFwIdeal.nD Cert.InKrFwIdeal.τ Cert.InKrFwIdeal.sig) → Buf (Elt Ideal) ℓ) : Prop :=
  True

def Pre_InKrFwRefIdeal (m : (ℓ : Loc Cert.InKrFwRefIdeal.nD Cert.InKrFwRefIdeal.τ Cert.InKrFwRefIdeal.sig) → Buf (Elt Ideal) ℓ) : Prop :=
  True

def Pre_InSgFw (m : (ℓ : Loc Cert.InSgFw.nD Cert.InSgFw.τ Cert.InSgFw.sig) → Buf (Elt Bits) ℓ) : Prop :=
  True

def Pre_InSgFwIdeal (m : (ℓ : Loc Cert.InSgFwIdeal.nD Cert.InSgFwIdeal.τ Cert.InSgFwIdeal.sig) → Buf (Elt Ideal) ℓ) : Prop :=
  True

def Pre_InSgFwRefIdeal (m : (ℓ : Loc Cert.InSgFwRefIdeal.nD Cert.InSgFwRefIdeal.τ Cert.InSgFwRefIdeal.sig) → Buf (Elt Ideal) ℓ) : Prop :=
  True

def Pre_InRwFw (m : (ℓ : Loc Cert.InRwFw.nD Cert.InRwFw.τ Cert.InRwFw.sig) → Buf (Elt Bits) ℓ) : Prop :=
  True

def Pre_InRwFwIdeal (m : (ℓ : Loc Cert.InRwFwIdeal.nD Cert.InRwFwIdeal.τ Cert.InRwFwIdeal.sig) → Buf (Elt Ideal) ℓ) : Prop :=
  True

def Pre_InRwFwRefIdeal (m : (ℓ : Loc Cert.InRwFwRefIdeal.nD Cert.InRwFwRefIdeal.τ Cert.InRwFwRefIdeal.sig) → Buf (Elt Ideal) ℓ) : Prop :=
  True

def Pre_InGateFw (m : (ℓ : Loc Cert.InGateFw.nD Cert.InGateFw.τ Cert.InGateFw.sig) → Buf (Elt Bits) ℓ) : Prop :=
  True

def Pre_InGateFwIdeal (m : (ℓ : Loc Cert.InGateFwIdeal.nD Cert.InGateFwIdeal.τ Cert.InGateFwIdeal.sig) → Buf (Elt Ideal) ℓ) : Prop :=
  True

def Pre_InGateFwRefIdeal (m : (ℓ : Loc Cert.InGateFwRefIdeal.nD Cert.InGateFwRefIdeal.τ Cert.InGateFwRefIdeal.sig) → Buf (Elt Ideal) ℓ) : Prop :=
  True

def Pre_UqFw (m : (ℓ : Loc Cert.UqFw.nD Cert.UqFw.τ Cert.UqFw.sig) → Buf (Elt Bits) ℓ) : Prop :=
  True

def Pre_UqFwIdeal (m : (ℓ : Loc Cert.UqFwIdeal.nD Cert.UqFwIdeal.τ Cert.UqFwIdeal.sig) → Buf (Elt Ideal) ℓ) : Prop :=
  True

def Pre_UqFwRefIdeal (m : (ℓ : Loc Cert.UqFwRefIdeal.nD Cert.UqFwRefIdeal.τ Cert.UqFwRefIdeal.sig) → Buf (Elt Ideal) ℓ) : Prop :=
  True

def Pre_UkvFw (m : (ℓ : Loc Cert.UkvFw.nD Cert.UkvFw.τ Cert.UkvFw.sig) → Buf (Elt Bits) ℓ) : Prop :=
  True

def Pre_UkvFwIdeal (m : (ℓ : Loc Cert.UkvFwIdeal.nD Cert.UkvFwIdeal.τ Cert.UkvFwIdeal.sig) → Buf (Elt Ideal) ℓ) : Prop :=
  True

def Pre_UkvFwRefIdeal (m : (ℓ : Loc Cert.UkvFwRefIdeal.nD Cert.UkvFwRefIdeal.τ Cert.UkvFwRefIdeal.sig) → Buf (Elt Ideal) ℓ) : Prop :=
  True

def Pre_BranchAttnFw (m : (ℓ : Loc Cert.BranchAttnFw.nD Cert.BranchAttnFw.τ Cert.BranchAttnFw.sig) → Buf (Elt Bits) ℓ) : Prop :=
  True

def Pre_BranchAttnFwIdeal (m : (ℓ : Loc Cert.BranchAttnFwIdeal.nD Cert.BranchAttnFwIdeal.τ Cert.BranchAttnFwIdeal.sig) → Buf (Elt Ideal) ℓ) : Prop :=
  True

def Pre_BranchAttnFwRefIdeal (m : (ℓ : Loc Cert.BranchAttnFwRefIdeal.nD Cert.BranchAttnFwRefIdeal.τ Cert.BranchAttnFwRefIdeal.sig) → Buf (Elt Ideal) ℓ) : Prop :=
  True

def Pre_BranchFw (m : (ℓ : Loc Cert.BranchFw.nD Cert.BranchFw.τ Cert.BranchFw.sig) → Buf (Elt Bits) ℓ) : Prop :=
  True

def Pre_BranchFwIdeal (m : (ℓ : Loc Cert.BranchFwIdeal.nD Cert.BranchFwIdeal.τ Cert.BranchFwIdeal.sig) → Buf (Elt Ideal) ℓ) : Prop :=
  True

def Pre_BranchFwRefIdeal (m : (ℓ : Loc Cert.BranchFwRefIdeal.nD Cert.BranchFwRefIdeal.τ Cert.BranchFwRefIdeal.sig) → Buf (Elt Ideal) ℓ) : Prop :=
  True

def Pre_OutFw (m : (ℓ : Loc Cert.OutFw.nD Cert.OutFw.τ Cert.OutFw.sig) → Buf (Elt Bits) ℓ) : Prop :=
  True

def Pre_OutFwIdeal (m : (ℓ : Loc Cert.OutFwIdeal.nD Cert.OutFwIdeal.τ Cert.OutFwIdeal.sig) → Buf (Elt Ideal) ℓ) : Prop :=
  True

def Pre_OutFwRefIdeal (m : (ℓ : Loc Cert.OutFwRefIdeal.nD Cert.OutFwRefIdeal.τ Cert.OutFwRefIdeal.sig) → Buf (Elt Ideal) ℓ) : Prop :=
  True

def Pre_FfnInFw (m : (ℓ : Loc Cert.FfnInFw.nD Cert.FfnInFw.τ Cert.FfnInFw.sig) → Buf (Elt Bits) ℓ) : Prop :=
  True

def Pre_FfnInFwIdeal (m : (ℓ : Loc Cert.FfnInFwIdeal.nD Cert.FfnInFwIdeal.τ Cert.FfnInFwIdeal.sig) → Buf (Elt Ideal) ℓ) : Prop :=
  True

def Pre_FfnInFwRefIdeal (m : (ℓ : Loc Cert.FfnInFwRefIdeal.nD Cert.FfnInFwRefIdeal.τ Cert.FfnInFwRefIdeal.sig) → Buf (Elt Ideal) ℓ) : Prop :=
  True

def Pre_FfnOutFw (m : (ℓ : Loc Cert.FfnOutFw.nD Cert.FfnOutFw.τ Cert.FfnOutFw.sig) → Buf (Elt Bits) ℓ) : Prop :=
  True

def Pre_FfnOutFwIdeal (m : (ℓ : Loc Cert.FfnOutFwIdeal.nD Cert.FfnOutFwIdeal.τ Cert.FfnOutFwIdeal.sig) → Buf (Elt Ideal) ℓ) : Prop :=
  True

def Pre_FfnOutFwRefIdeal (m : (ℓ : Loc Cert.FfnOutFwRefIdeal.nD Cert.FfnOutFwRefIdeal.τ Cert.FfnOutFwRefIdeal.sig) → Buf (Elt Ideal) ℓ) : Prop :=
  True

def Pre_AdamWIn (m : (ℓ : Loc Cert.AdamWIn.nD Cert.AdamWIn.τ Cert.AdamWIn.sig) → Buf (Elt Bits) ℓ) : Prop :=
  True

def Pre_AdamWInIdeal (m : (ℓ : Loc Cert.AdamWInIdeal.nD Cert.AdamWInIdeal.τ Cert.AdamWInIdeal.sig) → Buf (Elt Ideal) ℓ) : Prop :=
  True

def Pre_AdamWInRefIdeal (m : (ℓ : Loc Cert.AdamWInRefIdeal.nD Cert.AdamWInRefIdeal.τ Cert.AdamWInRefIdeal.sig) → Buf (Elt Ideal) ℓ) : Prop :=
  True

def Pre_AdamWUq (m : (ℓ : Loc Cert.AdamWUq.nD Cert.AdamWUq.τ Cert.AdamWUq.sig) → Buf (Elt Bits) ℓ) : Prop :=
  True

def Pre_AdamWUqIdeal (m : (ℓ : Loc Cert.AdamWUqIdeal.nD Cert.AdamWUqIdeal.τ Cert.AdamWUqIdeal.sig) → Buf (Elt Ideal) ℓ) : Prop :=
  True

def Pre_AdamWUqRefIdeal (m : (ℓ : Loc Cert.AdamWUqRefIdeal.nD Cert.AdamWUqRefIdeal.τ Cert.AdamWUqRefIdeal.sig) → Buf (Elt Ideal) ℓ) : Prop :=
  True

def Pre_AdamWUkv (m : (ℓ : Loc Cert.AdamWUkv.nD Cert.AdamWUkv.τ Cert.AdamWUkv.sig) → Buf (Elt Bits) ℓ) : Prop :=
  True

def Pre_AdamWUkvIdeal (m : (ℓ : Loc Cert.AdamWUkvIdeal.nD Cert.AdamWUkvIdeal.τ Cert.AdamWUkvIdeal.sig) → Buf (Elt Ideal) ℓ) : Prop :=
  True

def Pre_AdamWUkvRefIdeal (m : (ℓ : Loc Cert.AdamWUkvRefIdeal.nD Cert.AdamWUkvRefIdeal.τ Cert.AdamWUkvRefIdeal.sig) → Buf (Elt Ideal) ℓ) : Prop :=
  True

def Pre_AdamRwW2 (m : (ℓ : Loc Cert.AdamRwW2.nD Cert.AdamRwW2.τ Cert.AdamRwW2.sig) → Buf (Elt Bits) ℓ) : Prop :=
  True

def Pre_AdamRwW2Ideal (m : (ℓ : Loc Cert.AdamRwW2Ideal.nD Cert.AdamRwW2Ideal.τ Cert.AdamRwW2Ideal.sig) → Buf (Elt Ideal) ℓ) : Prop :=
  True

def Pre_AdamRwW2RefIdeal (m : (ℓ : Loc Cert.AdamRwW2RefIdeal.nD Cert.AdamRwW2RefIdeal.τ Cert.AdamRwW2RefIdeal.sig) → Buf (Elt Ideal) ℓ) : Prop :=
  True

def Pre_AdamRwA2 (m : (ℓ : Loc Cert.AdamRwA2.nD Cert.AdamRwA2.τ Cert.AdamRwA2.sig) → Buf (Elt Bits) ℓ) : Prop :=
  True

def Pre_AdamRwA2Ideal (m : (ℓ : Loc Cert.AdamRwA2Ideal.nD Cert.AdamRwA2Ideal.τ Cert.AdamRwA2Ideal.sig) → Buf (Elt Ideal) ℓ) : Prop :=
  True

def Pre_AdamRwA2RefIdeal (m : (ℓ : Loc Cert.AdamRwA2RefIdeal.nD Cert.AdamRwA2RefIdeal.τ Cert.AdamRwA2RefIdeal.sig) → Buf (Elt Ideal) ℓ) : Prop :=
  True

def Pre_AdamRwG2 (m : (ℓ : Loc Cert.AdamRwG2.nD Cert.AdamRwG2.τ Cert.AdamRwG2.sig) → Buf (Elt Bits) ℓ) : Prop :=
  True

def Pre_AdamRwG2Ideal (m : (ℓ : Loc Cert.AdamRwG2Ideal.nD Cert.AdamRwG2Ideal.τ Cert.AdamRwG2Ideal.sig) → Buf (Elt Ideal) ℓ) : Prop :=
  True

def Pre_AdamRwG2RefIdeal (m : (ℓ : Loc Cert.AdamRwG2RefIdeal.nD Cert.AdamRwG2RefIdeal.τ Cert.AdamRwG2RefIdeal.sig) → Buf (Elt Ideal) ℓ) : Prop :=
  True

def Pre_AdamWBranch (m : (ℓ : Loc Cert.AdamWBranch.nD Cert.AdamWBranch.τ Cert.AdamWBranch.sig) → Buf (Elt Bits) ℓ) : Prop :=
  True

def Pre_AdamWBranchIdeal (m : (ℓ : Loc Cert.AdamWBranchIdeal.nD Cert.AdamWBranchIdeal.τ Cert.AdamWBranchIdeal.sig) → Buf (Elt Ideal) ℓ) : Prop :=
  True

def Pre_AdamWBranchRefIdeal (m : (ℓ : Loc Cert.AdamWBranchRefIdeal.nD Cert.AdamWBranchRefIdeal.τ Cert.AdamWBranchRefIdeal.sig) → Buf (Elt Ideal) ℓ) : Prop :=
  True

def Pre_AdamWOut (m : (ℓ : Loc Cert.AdamWOut.nD Cert.AdamWOut.τ Cert.AdamWOut.sig) → Buf (Elt Bits) ℓ) : Prop :=
  True

def Pre_AdamWOutIdeal (m : (ℓ : Loc Cert.AdamWOutIdeal.nD Cert.AdamWOutIdeal.τ Cert.AdamWOutIdeal.sig) → Buf (Elt Ideal) ℓ) : Prop :=
  True

def Pre_AdamWOutRefIdeal (m : (ℓ : Loc Cert.AdamWOutRefIdeal.nD Cert.AdamWOutRefIdeal.τ Cert.AdamWOutRefIdeal.sig) → Buf (Elt Ideal) ℓ) : Prop :=
  True

def Pre_AdamWFfnGate (m : (ℓ : Loc Cert.AdamWFfnGate.nD Cert.AdamWFfnGate.τ Cert.AdamWFfnGate.sig) → Buf (Elt Bits) ℓ) : Prop :=
  True

def Pre_AdamWFfnGateIdeal (m : (ℓ : Loc Cert.AdamWFfnGateIdeal.nD Cert.AdamWFfnGateIdeal.τ Cert.AdamWFfnGateIdeal.sig) → Buf (Elt Ideal) ℓ) : Prop :=
  True

def Pre_AdamWFfnGateRefIdeal (m : (ℓ : Loc Cert.AdamWFfnGateRefIdeal.nD Cert.AdamWFfnGateRefIdeal.τ Cert.AdamWFfnGateRefIdeal.sig) → Buf (Elt Ideal) ℓ) : Prop :=
  True

def Pre_AdamWFfnUp (m : (ℓ : Loc Cert.AdamWFfnUp.nD Cert.AdamWFfnUp.τ Cert.AdamWFfnUp.sig) → Buf (Elt Bits) ℓ) : Prop :=
  True

def Pre_AdamWFfnUpIdeal (m : (ℓ : Loc Cert.AdamWFfnUpIdeal.nD Cert.AdamWFfnUpIdeal.τ Cert.AdamWFfnUpIdeal.sig) → Buf (Elt Ideal) ℓ) : Prop :=
  True

def Pre_AdamWFfnUpRefIdeal (m : (ℓ : Loc Cert.AdamWFfnUpRefIdeal.nD Cert.AdamWFfnUpRefIdeal.τ Cert.AdamWFfnUpRefIdeal.sig) → Buf (Elt Ideal) ℓ) : Prop :=
  True

def Pre_AdamWFfnDown (m : (ℓ : Loc Cert.AdamWFfnDown.nD Cert.AdamWFfnDown.τ Cert.AdamWFfnDown.sig) → Buf (Elt Bits) ℓ) : Prop :=
  True

def Pre_AdamWFfnDownIdeal (m : (ℓ : Loc Cert.AdamWFfnDownIdeal.nD Cert.AdamWFfnDownIdeal.τ Cert.AdamWFfnDownIdeal.sig) → Buf (Elt Ideal) ℓ) : Prop :=
  True

def Pre_AdamWFfnDownRefIdeal (m : (ℓ : Loc Cert.AdamWFfnDownRefIdeal.nD Cert.AdamWFfnDownRefIdeal.τ Cert.AdamWFfnDownRefIdeal.sig) → Buf (Elt Ideal) ℓ) : Prop :=
  True

def Pre_AttnFw (m : (ℓ : Loc Cert.AttnFw.nD Cert.AttnFw.τ Cert.AttnFw.sig) → Buf (Elt Bits) ℓ) : Prop :=
  True

def Pre_AttnFwIdeal (m : (ℓ : Loc Cert.AttnFwIdeal.nD Cert.AttnFwIdeal.τ Cert.AttnFwIdeal.sig) → Buf (Elt Ideal) ℓ) : Prop :=
  True

def Pre_AttnFwIdeal_finite_scores [hPre_finite_scores : Cert.Pre_finite_scores.Facts] (m : (ℓ : Loc Cert.AttnFwIdeal.nD Cert.AttnFwIdeal.τ Cert.AttnFwIdeal.sig) → Buf (Elt Ideal) ℓ) : Prop :=
  ∀ c : Dev Cert.AttnFwIdeal.nD,
    (Cert.Pre_finite_scores.fn (F := Ideal) (m ((c.tc : Thread Cert.AttnFwIdeal.nD Cert.AttnFwIdeal.τ).loc Cert.AttnFwIdeal.main_arg0)) (m ((c.tc : Thread Cert.AttnFwIdeal.nD Cert.AttnFwIdeal.τ).loc Cert.AttnFwIdeal.main_arg1)) (m ((c.tc : Thread Cert.AttnFwIdeal.nD Cert.AttnFwIdeal.τ).loc Cert.AttnFwIdeal.main_arg2))) = (fun _ => 1#1)

def Pre_AttnFwRefIdeal (m : (ℓ : Loc Cert.AttnFwRefIdeal.nD Cert.AttnFwRefIdeal.τ Cert.AttnFwRefIdeal.sig) → Buf (Elt Ideal) ℓ) : Prop :=
  True

def Pre_AttnFwRefIdeal_finite_scores [hPre_finite_scores : Cert.Pre_finite_scores.Facts] (m : (ℓ : Loc Cert.AttnFwRefIdeal.nD Cert.AttnFwRefIdeal.τ Cert.AttnFwRefIdeal.sig) → Buf (Elt Ideal) ℓ) : Prop :=
  ∀ c : Dev Cert.AttnFwRefIdeal.nD,
    (Cert.Pre_finite_scores.fn (F := Ideal) (m ((c.tc : Thread Cert.AttnFwRefIdeal.nD Cert.AttnFwRefIdeal.τ).loc Cert.AttnFwRefIdeal.main_arg0)) (m ((c.tc : Thread Cert.AttnFwRefIdeal.nD Cert.AttnFwRefIdeal.τ).loc Cert.AttnFwRefIdeal.main_arg1)) (m ((c.tc : Thread Cert.AttnFwRefIdeal.nD Cert.AttnFwRefIdeal.τ).loc Cert.AttnFwRefIdeal.main_arg2))) = (fun _ => 1#1)

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_FfnOutDx [hFfnOutDx : Cert.FfnOutDx.Facts] : Prop :=
  ∀ (m : (ℓ : Loc Cert.FfnOutDx.nD Cert.FfnOutDx.τ Cert.FfnOutDx.sig) → Buf (Elt Bits) ℓ) (g : Dev Cert.FfnOutDx.nD → PrngReg), Pre_FfnOutDx m →
    θ_run (Cert.FfnOutDx.defs (F := Bits)) (onTc (τ := Cert.FfnOutDx.τ) (Cert.FfnOutDx.main (F := Bits))) ⟨m, fun _ => 0, g⟩ (fun r => (∀ c : Dev Cert.FfnOutDx.nD,
      r.2.mem ((c.tc : Thread Cert.FfnOutDx.nD Cert.FfnOutDx.τ).loc Cert.FfnOutDx.main_arg0) = m ((c.tc : Thread Cert.FfnOutDx.nD Cert.FfnOutDx.τ).loc Cert.FfnOutDx.main_arg0)
      ∧ r.2.mem ((c.tc : Thread Cert.FfnOutDx.nD Cert.FfnOutDx.τ).loc Cert.FfnOutDx.main_arg1) = m ((c.tc : Thread Cert.FfnOutDx.nD Cert.FfnOutDx.τ).loc Cert.FfnOutDx.main_arg1)
      ∧ r.2.mem ((c.tc : Thread Cert.FfnOutDx.nD Cert.FfnOutDx.τ).loc Cert.FfnOutDx.main_arg2) = m ((c.tc : Thread Cert.FfnOutDx.nD Cert.FfnOutDx.τ).loc Cert.FfnOutDx.main_arg2))
      ∧ r.2.sem = fun _ => 0)

def quiescent_FfnOutDxIdeal [hFfnOutDxIdeal : Cert.FfnOutDxIdeal.Facts] : Prop :=
  ∀ (m : (ℓ : Loc Cert.FfnOutDxIdeal.nD Cert.FfnOutDxIdeal.τ Cert.FfnOutDxIdeal.sig) → Buf (Elt Ideal) ℓ) (g : Dev Cert.FfnOutDxIdeal.nD → PrngReg), Pre_FfnOutDxIdeal m →
    θ_run (Cert.FfnOutDxIdeal.defs (F := Ideal)) (onTc (τ := Cert.FfnOutDxIdeal.τ) (Cert.FfnOutDxIdeal.main (F := Ideal))) ⟨m, fun _ => 0, g⟩ (fun r => (∀ c : Dev Cert.FfnOutDxIdeal.nD,
      r.2.mem ((c.tc : Thread Cert.FfnOutDxIdeal.nD Cert.FfnOutDxIdeal.τ).loc Cert.FfnOutDxIdeal.main_arg0) = m ((c.tc : Thread Cert.FfnOutDxIdeal.nD Cert.FfnOutDxIdeal.τ).loc Cert.FfnOutDxIdeal.main_arg0)
      ∧ r.2.mem ((c.tc : Thread Cert.FfnOutDxIdeal.nD Cert.FfnOutDxIdeal.τ).loc Cert.FfnOutDxIdeal.main_arg1) = m ((c.tc : Thread Cert.FfnOutDxIdeal.nD Cert.FfnOutDxIdeal.τ).loc Cert.FfnOutDxIdeal.main_arg1)
      ∧ r.2.mem ((c.tc : Thread Cert.FfnOutDxIdeal.nD Cert.FfnOutDxIdeal.τ).loc Cert.FfnOutDxIdeal.main_arg2) = m ((c.tc : Thread Cert.FfnOutDxIdeal.nD Cert.FfnOutDxIdeal.τ).loc Cert.FfnOutDxIdeal.main_arg2))
      ∧ r.2.sem = fun _ => 0)

def quiescent_FfnOutDxRefIdeal [hFfnOutDxRefIdeal : Cert.FfnOutDxRefIdeal.Facts] : Prop :=
  ∀ (m : (ℓ : Loc Cert.FfnOutDxRefIdeal.nD Cert.FfnOutDxRefIdeal.τ Cert.FfnOutDxRefIdeal.sig) → Buf (Elt Ideal) ℓ) (g : Dev Cert.FfnOutDxRefIdeal.nD → PrngReg), Pre_FfnOutDxRefIdeal m →
    θ_run (Cert.FfnOutDxRefIdeal.defs (F := Ideal)) (onTc (τ := Cert.FfnOutDxRefIdeal.τ) (Cert.FfnOutDxRefIdeal.main (F := Ideal))) ⟨m, fun _ => 0, g⟩ (fun r => (∀ c : Dev Cert.FfnOutDxRefIdeal.nD,
      r.2.mem ((c.tc : Thread Cert.FfnOutDxRefIdeal.nD Cert.FfnOutDxRefIdeal.τ).loc Cert.FfnOutDxRefIdeal.main_arg0) = m ((c.tc : Thread Cert.FfnOutDxRefIdeal.nD Cert.FfnOutDxRefIdeal.τ).loc Cert.FfnOutDxRefIdeal.main_arg0)
      ∧ r.2.mem ((c.tc : Thread Cert.FfnOutDxRefIdeal.nD Cert.FfnOutDxRefIdeal.τ).loc Cert.FfnOutDxRefIdeal.main_arg1) = m ((c.tc : Thread Cert.FfnOutDxRefIdeal.nD Cert.FfnOutDxRefIdeal.τ).loc Cert.FfnOutDxRefIdeal.main_arg1)
      ∧ r.2.mem ((c.tc : Thread Cert.FfnOutDxRefIdeal.nD Cert.FfnOutDxRefIdeal.τ).loc Cert.FfnOutDxRefIdeal.main_arg2) = m ((c.tc : Thread Cert.FfnOutDxRefIdeal.nD Cert.FfnOutDxRefIdeal.τ).loc Cert.FfnOutDxRefIdeal.main_arg2))
      ∧ r.2.sem = fun _ => 0)

def quiescent_FfnOutDw [hFfnOutDw : Cert.FfnOutDw.Facts] : Prop :=
  ∀ (m : (ℓ : Loc Cert.FfnOutDw.nD Cert.FfnOutDw.τ Cert.FfnOutDw.sig) → Buf (Elt Bits) ℓ) (g : Dev Cert.FfnOutDw.nD → PrngReg), Pre_FfnOutDw m →
    θ_run (Cert.FfnOutDw.defs (F := Bits)) (onTc (τ := Cert.FfnOutDw.τ) (Cert.FfnOutDw.main (F := Bits))) ⟨m, fun _ => 0, g⟩ (fun r => (∀ c : Dev Cert.FfnOutDw.nD,
      r.2.mem ((c.tc : Thread Cert.FfnOutDw.nD Cert.FfnOutDw.τ).loc Cert.FfnOutDw.main_arg0) = m ((c.tc : Thread Cert.FfnOutDw.nD Cert.FfnOutDw.τ).loc Cert.FfnOutDw.main_arg0)
      ∧ r.2.mem ((c.tc : Thread Cert.FfnOutDw.nD Cert.FfnOutDw.τ).loc Cert.FfnOutDw.main_arg1) = m ((c.tc : Thread Cert.FfnOutDw.nD Cert.FfnOutDw.τ).loc Cert.FfnOutDw.main_arg1)
      ∧ r.2.mem ((c.tc : Thread Cert.FfnOutDw.nD Cert.FfnOutDw.τ).loc Cert.FfnOutDw.main_arg2) = m ((c.tc : Thread Cert.FfnOutDw.nD Cert.FfnOutDw.τ).loc Cert.FfnOutDw.main_arg2))
      ∧ r.2.sem = fun _ => 0)

def quiescent_FfnOutDwIdeal [hFfnOutDwIdeal : Cert.FfnOutDwIdeal.Facts] : Prop :=
  ∀ (m : (ℓ : Loc Cert.FfnOutDwIdeal.nD Cert.FfnOutDwIdeal.τ Cert.FfnOutDwIdeal.sig) → Buf (Elt Ideal) ℓ) (g : Dev Cert.FfnOutDwIdeal.nD → PrngReg), Pre_FfnOutDwIdeal m →
    θ_run (Cert.FfnOutDwIdeal.defs (F := Ideal)) (onTc (τ := Cert.FfnOutDwIdeal.τ) (Cert.FfnOutDwIdeal.main (F := Ideal))) ⟨m, fun _ => 0, g⟩ (fun r => (∀ c : Dev Cert.FfnOutDwIdeal.nD,
      r.2.mem ((c.tc : Thread Cert.FfnOutDwIdeal.nD Cert.FfnOutDwIdeal.τ).loc Cert.FfnOutDwIdeal.main_arg0) = m ((c.tc : Thread Cert.FfnOutDwIdeal.nD Cert.FfnOutDwIdeal.τ).loc Cert.FfnOutDwIdeal.main_arg0)
      ∧ r.2.mem ((c.tc : Thread Cert.FfnOutDwIdeal.nD Cert.FfnOutDwIdeal.τ).loc Cert.FfnOutDwIdeal.main_arg1) = m ((c.tc : Thread Cert.FfnOutDwIdeal.nD Cert.FfnOutDwIdeal.τ).loc Cert.FfnOutDwIdeal.main_arg1)
      ∧ r.2.mem ((c.tc : Thread Cert.FfnOutDwIdeal.nD Cert.FfnOutDwIdeal.τ).loc Cert.FfnOutDwIdeal.main_arg2) = m ((c.tc : Thread Cert.FfnOutDwIdeal.nD Cert.FfnOutDwIdeal.τ).loc Cert.FfnOutDwIdeal.main_arg2))
      ∧ r.2.sem = fun _ => 0)

def quiescent_FfnOutDwRefIdeal [hFfnOutDwRefIdeal : Cert.FfnOutDwRefIdeal.Facts] : Prop :=
  ∀ (m : (ℓ : Loc Cert.FfnOutDwRefIdeal.nD Cert.FfnOutDwRefIdeal.τ Cert.FfnOutDwRefIdeal.sig) → Buf (Elt Ideal) ℓ) (g : Dev Cert.FfnOutDwRefIdeal.nD → PrngReg), Pre_FfnOutDwRefIdeal m →
    θ_run (Cert.FfnOutDwRefIdeal.defs (F := Ideal)) (onTc (τ := Cert.FfnOutDwRefIdeal.τ) (Cert.FfnOutDwRefIdeal.main (F := Ideal))) ⟨m, fun _ => 0, g⟩ (fun r => (∀ c : Dev Cert.FfnOutDwRefIdeal.nD,
      r.2.mem ((c.tc : Thread Cert.FfnOutDwRefIdeal.nD Cert.FfnOutDwRefIdeal.τ).loc Cert.FfnOutDwRefIdeal.main_arg0) = m ((c.tc : Thread Cert.FfnOutDwRefIdeal.nD Cert.FfnOutDwRefIdeal.τ).loc Cert.FfnOutDwRefIdeal.main_arg0)
      ∧ r.2.mem ((c.tc : Thread Cert.FfnOutDwRefIdeal.nD Cert.FfnOutDwRefIdeal.τ).loc Cert.FfnOutDwRefIdeal.main_arg1) = m ((c.tc : Thread Cert.FfnOutDwRefIdeal.nD Cert.FfnOutDwRefIdeal.τ).loc Cert.FfnOutDwRefIdeal.main_arg1)
      ∧ r.2.mem ((c.tc : Thread Cert.FfnOutDwRefIdeal.nD Cert.FfnOutDwRefIdeal.τ).loc Cert.FfnOutDwRefIdeal.main_arg2) = m ((c.tc : Thread Cert.FfnOutDwRefIdeal.nD Cert.FfnOutDwRefIdeal.τ).loc Cert.FfnOutDwRefIdeal.main_arg2))
      ∧ r.2.sem = fun _ => 0)

def quiescent_FfnInDx [hFfnInDx : Cert.FfnInDx.Facts] : Prop :=
  ∀ (m : (ℓ : Loc Cert.FfnInDx.nD Cert.FfnInDx.τ Cert.FfnInDx.sig) → Buf (Elt Bits) ℓ) (g : Dev Cert.FfnInDx.nD → PrngReg), Pre_FfnInDx m →
    θ_run (Cert.FfnInDx.defs (F := Bits)) (onTc (τ := Cert.FfnInDx.τ) (Cert.FfnInDx.main (F := Bits))) ⟨m, fun _ => 0, g⟩ (fun r => (∀ c : Dev Cert.FfnInDx.nD,
      r.2.mem ((c.tc : Thread Cert.FfnInDx.nD Cert.FfnInDx.τ).loc Cert.FfnInDx.main_arg0) = m ((c.tc : Thread Cert.FfnInDx.nD Cert.FfnInDx.τ).loc Cert.FfnInDx.main_arg0)
      ∧ r.2.mem ((c.tc : Thread Cert.FfnInDx.nD Cert.FfnInDx.τ).loc Cert.FfnInDx.main_arg1) = m ((c.tc : Thread Cert.FfnInDx.nD Cert.FfnInDx.τ).loc Cert.FfnInDx.main_arg1)
      ∧ r.2.mem ((c.tc : Thread Cert.FfnInDx.nD Cert.FfnInDx.τ).loc Cert.FfnInDx.main_arg2) = m ((c.tc : Thread Cert.FfnInDx.nD Cert.FfnInDx.τ).loc Cert.FfnInDx.main_arg2))
      ∧ r.2.sem = fun _ => 0)

def quiescent_FfnInDxIdeal [hFfnInDxIdeal : Cert.FfnInDxIdeal.Facts] : Prop :=
  ∀ (m : (ℓ : Loc Cert.FfnInDxIdeal.nD Cert.FfnInDxIdeal.τ Cert.FfnInDxIdeal.sig) → Buf (Elt Ideal) ℓ) (g : Dev Cert.FfnInDxIdeal.nD → PrngReg), Pre_FfnInDxIdeal m →
    θ_run (Cert.FfnInDxIdeal.defs (F := Ideal)) (onTc (τ := Cert.FfnInDxIdeal.τ) (Cert.FfnInDxIdeal.main (F := Ideal))) ⟨m, fun _ => 0, g⟩ (fun r => (∀ c : Dev Cert.FfnInDxIdeal.nD,
      r.2.mem ((c.tc : Thread Cert.FfnInDxIdeal.nD Cert.FfnInDxIdeal.τ).loc Cert.FfnInDxIdeal.main_arg0) = m ((c.tc : Thread Cert.FfnInDxIdeal.nD Cert.FfnInDxIdeal.τ).loc Cert.FfnInDxIdeal.main_arg0)
      ∧ r.2.mem ((c.tc : Thread Cert.FfnInDxIdeal.nD Cert.FfnInDxIdeal.τ).loc Cert.FfnInDxIdeal.main_arg1) = m ((c.tc : Thread Cert.FfnInDxIdeal.nD Cert.FfnInDxIdeal.τ).loc Cert.FfnInDxIdeal.main_arg1)
      ∧ r.2.mem ((c.tc : Thread Cert.FfnInDxIdeal.nD Cert.FfnInDxIdeal.τ).loc Cert.FfnInDxIdeal.main_arg2) = m ((c.tc : Thread Cert.FfnInDxIdeal.nD Cert.FfnInDxIdeal.τ).loc Cert.FfnInDxIdeal.main_arg2))
      ∧ r.2.sem = fun _ => 0)

def quiescent_FfnInDxRefIdeal [hFfnInDxRefIdeal : Cert.FfnInDxRefIdeal.Facts] : Prop :=
  ∀ (m : (ℓ : Loc Cert.FfnInDxRefIdeal.nD Cert.FfnInDxRefIdeal.τ Cert.FfnInDxRefIdeal.sig) → Buf (Elt Ideal) ℓ) (g : Dev Cert.FfnInDxRefIdeal.nD → PrngReg), Pre_FfnInDxRefIdeal m →
    θ_run (Cert.FfnInDxRefIdeal.defs (F := Ideal)) (onTc (τ := Cert.FfnInDxRefIdeal.τ) (Cert.FfnInDxRefIdeal.main (F := Ideal))) ⟨m, fun _ => 0, g⟩ (fun r => (∀ c : Dev Cert.FfnInDxRefIdeal.nD,
      r.2.mem ((c.tc : Thread Cert.FfnInDxRefIdeal.nD Cert.FfnInDxRefIdeal.τ).loc Cert.FfnInDxRefIdeal.main_arg0) = m ((c.tc : Thread Cert.FfnInDxRefIdeal.nD Cert.FfnInDxRefIdeal.τ).loc Cert.FfnInDxRefIdeal.main_arg0)
      ∧ r.2.mem ((c.tc : Thread Cert.FfnInDxRefIdeal.nD Cert.FfnInDxRefIdeal.τ).loc Cert.FfnInDxRefIdeal.main_arg1) = m ((c.tc : Thread Cert.FfnInDxRefIdeal.nD Cert.FfnInDxRefIdeal.τ).loc Cert.FfnInDxRefIdeal.main_arg1)
      ∧ r.2.mem ((c.tc : Thread Cert.FfnInDxRefIdeal.nD Cert.FfnInDxRefIdeal.τ).loc Cert.FfnInDxRefIdeal.main_arg2) = m ((c.tc : Thread Cert.FfnInDxRefIdeal.nD Cert.FfnInDxRefIdeal.τ).loc Cert.FfnInDxRefIdeal.main_arg2))
      ∧ r.2.sem = fun _ => 0)

def quiescent_FfnInDw [hFfnInDw : Cert.FfnInDw.Facts] : Prop :=
  ∀ (m : (ℓ : Loc Cert.FfnInDw.nD Cert.FfnInDw.τ Cert.FfnInDw.sig) → Buf (Elt Bits) ℓ) (g : Dev Cert.FfnInDw.nD → PrngReg), Pre_FfnInDw m →
    θ_run (Cert.FfnInDw.defs (F := Bits)) (onTc (τ := Cert.FfnInDw.τ) (Cert.FfnInDw.main (F := Bits))) ⟨m, fun _ => 0, g⟩ (fun r => (∀ c : Dev Cert.FfnInDw.nD,
      r.2.mem ((c.tc : Thread Cert.FfnInDw.nD Cert.FfnInDw.τ).loc Cert.FfnInDw.main_arg0) = m ((c.tc : Thread Cert.FfnInDw.nD Cert.FfnInDw.τ).loc Cert.FfnInDw.main_arg0)
      ∧ r.2.mem ((c.tc : Thread Cert.FfnInDw.nD Cert.FfnInDw.τ).loc Cert.FfnInDw.main_arg1) = m ((c.tc : Thread Cert.FfnInDw.nD Cert.FfnInDw.τ).loc Cert.FfnInDw.main_arg1)
      ∧ r.2.mem ((c.tc : Thread Cert.FfnInDw.nD Cert.FfnInDw.τ).loc Cert.FfnInDw.main_arg2) = m ((c.tc : Thread Cert.FfnInDw.nD Cert.FfnInDw.τ).loc Cert.FfnInDw.main_arg2))
      ∧ r.2.sem = fun _ => 0)

def quiescent_FfnInDwIdeal [hFfnInDwIdeal : Cert.FfnInDwIdeal.Facts] : Prop :=
  ∀ (m : (ℓ : Loc Cert.FfnInDwIdeal.nD Cert.FfnInDwIdeal.τ Cert.FfnInDwIdeal.sig) → Buf (Elt Ideal) ℓ) (g : Dev Cert.FfnInDwIdeal.nD → PrngReg), Pre_FfnInDwIdeal m →
    θ_run (Cert.FfnInDwIdeal.defs (F := Ideal)) (onTc (τ := Cert.FfnInDwIdeal.τ) (Cert.FfnInDwIdeal.main (F := Ideal))) ⟨m, fun _ => 0, g⟩ (fun r => (∀ c : Dev Cert.FfnInDwIdeal.nD,
      r.2.mem ((c.tc : Thread Cert.FfnInDwIdeal.nD Cert.FfnInDwIdeal.τ).loc Cert.FfnInDwIdeal.main_arg0) = m ((c.tc : Thread Cert.FfnInDwIdeal.nD Cert.FfnInDwIdeal.τ).loc Cert.FfnInDwIdeal.main_arg0)
      ∧ r.2.mem ((c.tc : Thread Cert.FfnInDwIdeal.nD Cert.FfnInDwIdeal.τ).loc Cert.FfnInDwIdeal.main_arg1) = m ((c.tc : Thread Cert.FfnInDwIdeal.nD Cert.FfnInDwIdeal.τ).loc Cert.FfnInDwIdeal.main_arg1)
      ∧ r.2.mem ((c.tc : Thread Cert.FfnInDwIdeal.nD Cert.FfnInDwIdeal.τ).loc Cert.FfnInDwIdeal.main_arg2) = m ((c.tc : Thread Cert.FfnInDwIdeal.nD Cert.FfnInDwIdeal.τ).loc Cert.FfnInDwIdeal.main_arg2))
      ∧ r.2.sem = fun _ => 0)

def quiescent_FfnInDwRefIdeal [hFfnInDwRefIdeal : Cert.FfnInDwRefIdeal.Facts] : Prop :=
  ∀ (m : (ℓ : Loc Cert.FfnInDwRefIdeal.nD Cert.FfnInDwRefIdeal.τ Cert.FfnInDwRefIdeal.sig) → Buf (Elt Ideal) ℓ) (g : Dev Cert.FfnInDwRefIdeal.nD → PrngReg), Pre_FfnInDwRefIdeal m →
    θ_run (Cert.FfnInDwRefIdeal.defs (F := Ideal)) (onTc (τ := Cert.FfnInDwRefIdeal.τ) (Cert.FfnInDwRefIdeal.main (F := Ideal))) ⟨m, fun _ => 0, g⟩ (fun r => (∀ c : Dev Cert.FfnInDwRefIdeal.nD,
      r.2.mem ((c.tc : Thread Cert.FfnInDwRefIdeal.nD Cert.FfnInDwRefIdeal.τ).loc Cert.FfnInDwRefIdeal.main_arg0) = m ((c.tc : Thread Cert.FfnInDwRefIdeal.nD Cert.FfnInDwRefIdeal.τ).loc Cert.FfnInDwRefIdeal.main_arg0)
      ∧ r.2.mem ((c.tc : Thread Cert.FfnInDwRefIdeal.nD Cert.FfnInDwRefIdeal.τ).loc Cert.FfnInDwRefIdeal.main_arg1) = m ((c.tc : Thread Cert.FfnInDwRefIdeal.nD Cert.FfnInDwRefIdeal.τ).loc Cert.FfnInDwRefIdeal.main_arg1)
      ∧ r.2.mem ((c.tc : Thread Cert.FfnInDwRefIdeal.nD Cert.FfnInDwRefIdeal.τ).loc Cert.FfnInDwRefIdeal.main_arg2) = m ((c.tc : Thread Cert.FfnInDwRefIdeal.nD Cert.FfnInDwRefIdeal.τ).loc Cert.FfnInDwRefIdeal.main_arg2))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1)
      ∧ r.2.mem ((c.tc : Thread Cert.OutDx.nD Cert.OutDx.τ).loc Cert.OutDx.main_arg2) = m ((c.tc : Thread Cert.OutDx.nD Cert.OutDx.τ).loc Cert.OutDx.main_arg2))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1)
      ∧ r.2.mem ((c.tc : Thread Cert.OutDxIdeal.nD Cert.OutDxIdeal.τ).loc Cert.OutDxIdeal.main_arg2) = m ((c.tc : Thread Cert.OutDxIdeal.nD Cert.OutDxIdeal.τ).loc Cert.OutDxIdeal.main_arg2))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1)
      ∧ r.2.mem ((c.tc : Thread Cert.OutDxRefIdeal.nD Cert.OutDxRefIdeal.τ).loc Cert.OutDxRefIdeal.main_arg2) = m ((c.tc : Thread Cert.OutDxRefIdeal.nD Cert.OutDxRefIdeal.τ).loc Cert.OutDxRefIdeal.main_arg2))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1)
      ∧ r.2.mem ((c.tc : Thread Cert.OutDw.nD Cert.OutDw.τ).loc Cert.OutDw.main_arg2) = m ((c.tc : Thread Cert.OutDw.nD Cert.OutDw.τ).loc Cert.OutDw.main_arg2))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
      ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1)
      ∧ r.2.mem ((c.tc : Thread Cert.OutDwRefIdeal.nD Cert.OutDwRefIdeal.τ).loc Cert.OutDwRefIdeal.main_arg2) = m ((c.tc : Thread Cert.OutDwRefIdeal.nD Cert.OutDwRefIdeal.τ).loc Cert.OutDwRefIdeal.main_arg2))
      ∧ r.2.sem = fun _ => 0)

def quiescent_BranchDx [hBranchDx : Cert.BranchDx.Facts] : Prop :=
  ∀ (m : (ℓ : Loc Cert.BranchDx.nD Cert.BranchDx.τ Cert.BranchDx.sig) → Buf (Elt Bits) ℓ) (g : Dev Cert.BranchDx.nD → PrngReg), Pre_BranchDx m →
    θ_run (Cert.BranchDx.defs (F := Bits)) (onTc (τ := Cert.BranchDx.τ) (Cert.BranchDx.main (F := Bits))) ⟨m, fun _ => 0, g⟩ (fun r => (∀ c : Dev Cert.BranchDx.nD,
      r.2.mem ((c.tc : Thread Cert.BranchDx.nD Cert.BranchDx.τ).loc Cert.BranchDx.main_arg0) = m ((c.tc : Thread Cert.BranchDx.nD Cert.BranchDx.τ).loc Cert.BranchDx.main_arg0)
      ∧ r.2.mem ((c.tc : Thread Cert.BranchDx.nD Cert.BranchDx.τ).loc Cert.BranchDx.main_arg1) = m ((c.tc : Thread Cert.BranchDx.nD Cert.BranchDx.τ).loc Cert.BranchDx.main_arg1)
      ∧ r.2.mem ((c.tc : Thread Cert.BranchDx.nD Cert.BranchDx.τ).loc Cert.BranchDx.main_arg2) = m ((c.tc : Thread Cert.BranchDx.nD Cert.BranchDx.τ).loc Cert.BranchDx.main_arg2))
      ∧ r.2.sem = fun _ => 0)

def quiescent_BranchDxIdeal [hBranchDxIdeal : Cert.BranchDxIdeal.Facts] : Prop :=
  ∀ (m : (ℓ : Loc Cert.BranchDxIdeal.nD Cert.BranchDxIdeal.τ Cert.BranchDxIdeal.sig) → Buf (Elt Ideal) ℓ) (g : Dev Cert.BranchDxIdeal.nD → PrngReg), Pre_BranchDxIdeal m →
    θ_run (Cert.BranchDxIdeal.defs (F := Ideal)) (onTc (τ := Cert.BranchDxIdeal.τ) (Cert.BranchDxIdeal.main (F := Ideal))) ⟨m, fun _ => 0, g⟩ (fun r => (∀ c : Dev Cert.BranchDxIdeal.nD,
      r.2.mem ((c.tc : Thread Cert.BranchDxIdeal.nD Cert.BranchDxIdeal.τ).loc Cert.BranchDxIdeal.main_arg0) = m ((c.tc : Thread Cert.BranchDxIdeal.nD Cert.BranchDxIdeal.τ).loc Cert.BranchDxIdeal.main_arg0)
      ∧ r.2.mem ((c.tc : Thread Cert.BranchDxIdeal.nD Cert.BranchDxIdeal.τ).loc Cert.BranchDxIdeal.main_arg1) = m ((c.tc : Thread Cert.BranchDxIdeal.nD Cert.BranchDxIdeal.τ).loc Cert.BranchDxIdeal.main_arg1)
      ∧ r.2.mem ((c.tc : Thread Cert.BranchDxIdeal.nD Cert.BranchDxIdeal.τ).loc Cert.BranchDxIdeal.main_arg2) = m ((c.tc : Thread Cert.BranchDxIdeal.nD Cert.BranchDxIdeal.τ).loc Cert.BranchDxIdeal.main_arg2))
      ∧ r.2.sem = fun _ => 0)

def quiescent_BranchDxRefIdeal [hBranchDxRefIdeal : Cert.BranchDxRefIdeal.Facts] : Prop :=
  ∀ (m : (ℓ : Loc Cert.BranchDxRefIdeal.nD Cert.BranchDxRefIdeal.τ Cert.BranchDxRefIdeal.sig) → Buf (Elt Ideal) ℓ) (g : Dev Cert.BranchDxRefIdeal.nD → PrngReg), Pre_BranchDxRefIdeal m →
    θ_run (Cert.BranchDxRefIdeal.defs (F := Ideal)) (onTc (τ := Cert.BranchDxRefIdeal.τ) (Cert.BranchDxRefIdeal.main (F := Ideal))) ⟨m, fun _ => 0, g⟩ (fun r => (∀ c : Dev Cert.BranchDxRefIdeal.nD,
      r.2.mem ((c.tc : Thread Cert.BranchDxRefIdeal.nD Cert.BranchDxRefIdeal.τ).loc Cert.BranchDxRefIdeal.main_arg0) = m ((c.tc : Thread Cert.BranchDxRefIdeal.nD Cert.BranchDxRefIdeal.τ).loc Cert.BranchDxRefIdeal.main_arg0)
      ∧ r.2.mem ((c.tc : Thread Cert.BranchDxRefIdeal.nD Cert.BranchDxRefIdeal.τ).loc Cert.BranchDxRefIdeal.main_arg1) = m ((c.tc : Thread Cert.BranchDxRefIdeal.nD Cert.BranchDxRefIdeal.τ).loc Cert.BranchDxRefIdeal.main_arg1)
      ∧ r.2.mem ((c.tc : Thread Cert.BranchDxRefIdeal.nD Cert.BranchDxRefIdeal.τ).loc Cert.BranchDxRefIdeal.main_arg2) = m ((c.tc : Thread Cert.BranchDxRefIdeal.nD Cert.BranchDxRefIdeal.τ).loc Cert.BranchDxRefIdeal.main_arg2))
      ∧ r.2.sem = fun _ => 0)

def quiescent_BranchDw [hBranchDw : Cert.BranchDw.Facts] : Prop :=
  ∀ (m : (ℓ : Loc Cert.BranchDw.nD Cert.BranchDw.τ Cert.BranchDw.sig) → Buf (Elt Bits) ℓ) (g : Dev Cert.BranchDw.nD → PrngReg), Pre_BranchDw m →
    θ_run (Cert.BranchDw.defs (F := Bits)) (onTc (τ := Cert.BranchDw.τ) (Cert.BranchDw.main (F := Bits))) ⟨m, fun _ => 0, g⟩ (fun r => (∀ c : Dev Cert.BranchDw.nD,
      r.2.mem ((c.tc : Thread Cert.BranchDw.nD Cert.BranchDw.τ).loc Cert.BranchDw.main_arg0) = m ((c.tc : Thread Cert.BranchDw.nD Cert.BranchDw.τ).loc Cert.BranchDw.main_arg0)
      ∧ r.2.mem ((c.tc : Thread Cert.BranchDw.nD Cert.BranchDw.τ).loc Cert.BranchDw.main_arg1) = m ((c.tc : Thread Cert.BranchDw.nD Cert.BranchDw.τ).loc Cert.BranchDw.main_arg1)
      ∧ r.2.mem ((c.tc : Thread Cert.BranchDw.nD Cert.BranchDw.τ).loc Cert.BranchDw.main_arg2) = m ((c.tc : Thread Cert.BranchDw.nD Cert.BranchDw.τ).loc Cert.BranchDw.main_arg2))
      ∧ r.2.sem = fun _ => 0)

def quiescent_BranchDwIdeal [hBranchDwIdeal : Cert.BranchDwIdeal.Facts] : Prop :=
  ∀ (m : (ℓ : Loc Cert.BranchDwIdeal.nD Cert.BranchDwIdeal.τ Cert.BranchDwIdeal.sig) → Buf (Elt Ideal) ℓ) (g : Dev Cert.BranchDwIdeal.nD → PrngReg), Pre_BranchDwIdeal m →
    θ_run (Cert.BranchDwIdeal.defs (F := Ideal)) (onTc (τ := Cert.BranchDwIdeal.τ) (Cert.BranchDwIdeal.main (F := Ideal))) ⟨m, fun _ => 0, g⟩ (fun r => (∀ c : Dev Cert.BranchDwIdeal.nD,
      r.2.mem ((c.tc : Thread Cert.BranchDwIdeal.nD Cert.BranchDwIdeal.τ).loc Cert.BranchDwIdeal.main_arg0) = m ((c.tc : Thread Cert.BranchDwIdeal.nD Cert.BranchDwIdeal.τ).loc Cert.BranchDwIdeal.main_arg0)
      ∧ r.2.mem ((c.tc : Thread Cert.BranchDwIdeal.nD Cert.BranchDwIdeal.τ).loc Cert.BranchDwIdeal.main_arg1) = m ((c.tc : Thread Cert.BranchDwIdeal.nD Cert.BranchDwIdeal.τ).loc Cert.BranchDwIdeal.main_arg1)
      ∧ r.2.mem ((c.tc : Thread Cert.BranchDwIdeal.nD Cert.BranchDwIdeal.τ).loc Cert.BranchDwIdeal.main_arg2) = m ((c.tc : Thread Cert.BranchDwIdeal.nD Cert.BranchDwIdeal.τ).loc Cert.BranchDwIdeal.main_arg2))
      ∧ r.2.sem = fun _ => 0)

def quiescent_BranchDwRefIdeal [hBranchDwRefIdeal : Cert.BranchDwRefIdeal.Facts] : Prop :=
  ∀ (m : (ℓ : Loc Cert.BranchDwRefIdeal.nD Cert.BranchDwRefIdeal.τ Cert.BranchDwRefIdeal.sig) → Buf (Elt Ideal) ℓ) (g : Dev Cert.BranchDwRefIdeal.nD → PrngReg), Pre_BranchDwRefIdeal m →
    θ_run (Cert.BranchDwRefIdeal.defs (F := Ideal)) (onTc (τ := Cert.BranchDwRefIdeal.τ) (Cert.BranchDwRefIdeal.main (F := Ideal))) ⟨m, fun _ => 0, g⟩ (fun r => (∀ c : Dev Cert.BranchDwRefIdeal.nD,
      r.2.mem ((c.tc : Thread Cert.BranchDwRefIdeal.nD Cert.BranchDwRefIdeal.τ).loc Cert.BranchDwRefIdeal.main_arg0) = m ((c.tc : Thread Cert.BranchDwRefIdeal.nD Cert.BranchDwRefIdeal.τ).loc Cert.BranchDwRefIdeal.main_arg0)
      ∧ r.2.mem ((c.tc : Thread Cert.BranchDwRefIdeal.nD Cert.BranchDwRefIdeal.τ).loc Cert.BranchDwRefIdeal.main_arg1) = m ((c.tc : Thread Cert.BranchDwRefIdeal.nD Cert.BranchDwRefIdeal.τ).loc Cert.BranchDwRefIdeal.main_arg1)
      ∧ r.2.mem ((c.tc : Thread Cert.BranchDwRefIdeal.nD Cert.BranchDwRefIdeal.τ).loc Cert.BranchDwRefIdeal.main_arg2) = m ((c.tc : Thread Cert.BranchDwRefIdeal.nD Cert.BranchDwRefIdeal.τ).loc Cert.BranchDwRefIdeal.main_arg2))
      ∧ r.2.sem = fun _ => 0)

def quiescent_UkvDx [hUkvDx : Cert.UkvDx.Facts] : Prop :=
  ∀ (m : (ℓ : Loc Cert.UkvDx.nD Cert.UkvDx.τ Cert.UkvDx.sig) → Buf (Elt Bits) ℓ) (g : Dev Cert.UkvDx.nD → PrngReg), Pre_UkvDx m →
    θ_run (Cert.UkvDx.defs (F := Bits)) (onTc (τ := Cert.UkvDx.τ) (Cert.UkvDx.main (F := Bits))) ⟨m, fun _ => 0, g⟩ (fun r => (∀ c : Dev Cert.UkvDx.nD,
      r.2.mem ((c.tc : Thread Cert.UkvDx.nD Cert.UkvDx.τ).loc Cert.UkvDx.main_arg0) = m ((c.tc : Thread Cert.UkvDx.nD Cert.UkvDx.τ).loc Cert.UkvDx.main_arg0)
      ∧ r.2.mem ((c.tc : Thread Cert.UkvDx.nD Cert.UkvDx.τ).loc Cert.UkvDx.main_arg1) = m ((c.tc : Thread Cert.UkvDx.nD Cert.UkvDx.τ).loc Cert.UkvDx.main_arg1)
      ∧ r.2.mem ((c.tc : Thread Cert.UkvDx.nD Cert.UkvDx.τ).loc Cert.UkvDx.main_arg2) = m ((c.tc : Thread Cert.UkvDx.nD Cert.UkvDx.τ).loc Cert.UkvDx.main_arg2))
      ∧ r.2.sem = fun _ => 0)

def quiescent_UkvDxIdeal [hUkvDxIdeal : Cert.UkvDxIdeal.Facts] : Prop :=
  ∀ (m : (ℓ : Loc Cert.UkvDxIdeal.nD Cert.UkvDxIdeal.τ Cert.UkvDxIdeal.sig) → Buf (Elt Ideal) ℓ) (g : Dev Cert.UkvDxIdeal.nD → PrngReg), Pre_UkvDxIdeal m →
    θ_run (Cert.UkvDxIdeal.defs (F := Ideal)) (onTc (τ := Cert.UkvDxIdeal.τ) (Cert.UkvDxIdeal.main (F := Ideal))) ⟨m, fun _ => 0, g⟩ (fun r => (∀ c : Dev Cert.UkvDxIdeal.nD,
      r.2.mem ((c.tc : Thread Cert.UkvDxIdeal.nD Cert.UkvDxIdeal.τ).loc Cert.UkvDxIdeal.main_arg0) = m ((c.tc : Thread Cert.UkvDxIdeal.nD Cert.UkvDxIdeal.τ).loc Cert.UkvDxIdeal.main_arg0)
      ∧ r.2.mem ((c.tc : Thread Cert.UkvDxIdeal.nD Cert.UkvDxIdeal.τ).loc Cert.UkvDxIdeal.main_arg1) = m ((c.tc : Thread Cert.UkvDxIdeal.nD Cert.UkvDxIdeal.τ).loc Cert.UkvDxIdeal.main_arg1)
      ∧ r.2.mem ((c.tc : Thread Cert.UkvDxIdeal.nD Cert.UkvDxIdeal.τ).loc Cert.UkvDxIdeal.main_arg2) = m ((c.tc : Thread Cert.UkvDxIdeal.nD Cert.UkvDxIdeal.τ).loc Cert.UkvDxIdeal.main_arg2))
      ∧ r.2.sem = fun _ => 0)

def quiescent_UkvDxRefIdeal [hUkvDxRefIdeal : Cert.UkvDxRefIdeal.Facts] : Prop :=
  ∀ (m : (ℓ : Loc Cert.UkvDxRefIdeal.nD Cert.UkvDxRefIdeal.τ Cert.UkvDxRefIdeal.sig) → Buf (Elt Ideal) ℓ) (g : Dev Cert.UkvDxRefIdeal.nD → PrngReg), Pre_UkvDxRefIdeal m →
    θ_run (Cert.UkvDxRefIdeal.defs (F := Ideal)) (onTc (τ := Cert.UkvDxRefIdeal.τ) (Cert.UkvDxRefIdeal.main (F := Ideal))) ⟨m, fun _ => 0, g⟩ (fun r => (∀ c : Dev Cert.UkvDxRefIdeal.nD,
      r.2.mem ((c.tc : Thread Cert.UkvDxRefIdeal.nD Cert.UkvDxRefIdeal.τ).loc Cert.UkvDxRefIdeal.main_arg0) = m ((c.tc : Thread Cert.UkvDxRefIdeal.nD Cert.UkvDxRefIdeal.τ).loc Cert.UkvDxRefIdeal.main_arg0)
      ∧ r.2.mem ((c.tc : Thread Cert.UkvDxRefIdeal.nD Cert.UkvDxRefIdeal.τ).loc Cert.UkvDxRefIdeal.main_arg1) = m ((c.tc : Thread Cert.UkvDxRefIdeal.nD Cert.UkvDxRefIdeal.τ).loc Cert.UkvDxRefIdeal.main_arg1)
      ∧ r.2.mem ((c.tc : Thread Cert.UkvDxRefIdeal.nD Cert.UkvDxRefIdeal.τ).loc Cert.UkvDxRefIdeal.main_arg2) = m ((c.tc : Thread Cert.UkvDxRefIdeal.nD Cert.UkvDxRefIdeal.τ).loc Cert.UkvDxRefIdeal.main_arg2))
      ∧ r.2.sem = fun _ => 0)

def quiescent_UkvDw [hUkvDw : Cert.UkvDw.Facts] : Prop :=
  ∀ (m : (ℓ : Loc Cert.UkvDw.nD Cert.UkvDw.τ Cert.UkvDw.sig) → Buf (Elt Bits) ℓ) (g : Dev Cert.UkvDw.nD → PrngReg), Pre_UkvDw m →
    θ_run (Cert.UkvDw.defs (F := Bits)) (onTc (τ := Cert.UkvDw.τ) (Cert.UkvDw.main (F := Bits))) ⟨m, fun _ => 0, g⟩ (fun r => (∀ c : Dev Cert.UkvDw.nD,
      r.2.mem ((c.tc : Thread Cert.UkvDw.nD Cert.UkvDw.τ).loc Cert.UkvDw.main_arg0) = m ((c.tc : Thread Cert.UkvDw.nD Cert.UkvDw.τ).loc Cert.UkvDw.main_arg0)
      ∧ r.2.mem ((c.tc : Thread Cert.UkvDw.nD Cert.UkvDw.τ).loc Cert.UkvDw.main_arg1) = m ((c.tc : Thread Cert.UkvDw.nD Cert.UkvDw.τ).loc Cert.UkvDw.main_arg1)
      ∧ r.2.mem ((c.tc : Thread Cert.UkvDw.nD Cert.UkvDw.τ).loc Cert.UkvDw.main_arg2) = m ((c.tc : Thread Cert.UkvDw.nD Cert.UkvDw.τ).loc Cert.UkvDw.main_arg2))
      ∧ r.2.sem = fun _ => 0)

def quiescent_UkvDwIdeal [hUkvDwIdeal : Cert.UkvDwIdeal.Facts] : Prop :=
  ∀ (m : (ℓ : Loc Cert.UkvDwIdeal.nD Cert.UkvDwIdeal.τ Cert.UkvDwIdeal.sig) → Buf (Elt Ideal) ℓ) (g : Dev Cert.UkvDwIdeal.nD → PrngReg), Pre_UkvDwIdeal m →
    θ_run (Cert.UkvDwIdeal.defs (F := Ideal)) (onTc (τ := Cert.UkvDwIdeal.τ) (Cert.UkvDwIdeal.main (F := Ideal))) ⟨m, fun _ => 0, g⟩ (fun r => (∀ c : Dev Cert.UkvDwIdeal.nD,
      r.2.mem ((c.tc : Thread Cert.UkvDwIdeal.nD Cert.UkvDwIdeal.τ).loc Cert.UkvDwIdeal.main_arg0) = m ((c.tc : Thread Cert.UkvDwIdeal.nD Cert.UkvDwIdeal.τ).loc Cert.UkvDwIdeal.main_arg0)
      ∧ r.2.mem ((c.tc : Thread Cert.UkvDwIdeal.nD Cert.UkvDwIdeal.τ).loc Cert.UkvDwIdeal.main_arg1) = m ((c.tc : Thread Cert.UkvDwIdeal.nD Cert.UkvDwIdeal.τ).loc Cert.UkvDwIdeal.main_arg1)
      ∧ r.2.mem ((c.tc : Thread Cert.UkvDwIdeal.nD Cert.UkvDwIdeal.τ).loc Cert.UkvDwIdeal.main_arg2) = m ((c.tc : Thread Cert.UkvDwIdeal.nD Cert.UkvDwIdeal.τ).loc Cert.UkvDwIdeal.main_arg2))
      ∧ r.2.sem = fun _ => 0)

def quiescent_UkvDwRefIdeal [hUkvDwRefIdeal : Cert.UkvDwRefIdeal.Facts] : Prop :=
  ∀ (m : (ℓ : Loc Cert.UkvDwRefIdeal.nD Cert.UkvDwRefIdeal.τ Cert.UkvDwRefIdeal.sig) → Buf (Elt Ideal) ℓ) (g : Dev Cert.UkvDwRefIdeal.nD → PrngReg), Pre_UkvDwRefIdeal m →
    θ_run (Cert.UkvDwRefIdeal.defs (F := Ideal)) (onTc (τ := Cert.UkvDwRefIdeal.τ) (Cert.UkvDwRefIdeal.main (F := Ideal))) ⟨m, fun _ => 0, g⟩ (fun r => (∀ c : Dev Cert.UkvDwRefIdeal.nD,
      r.2.mem ((c.tc : Thread Cert.UkvDwRefIdeal.nD Cert.UkvDwRefIdeal.τ).loc Cert.UkvDwRefIdeal.main_arg0) = m ((c.tc : Thread Cert.UkvDwRefIdeal.nD Cert.UkvDwRefIdeal.τ).loc Cert.UkvDwRefIdeal.main_arg0)
      ∧ r.2.mem ((c.tc : Thread Cert.UkvDwRefIdeal.nD Cert.UkvDwRefIdeal.τ).loc Cert.UkvDwRefIdeal.main_arg1) = m ((c.tc : Thread Cert.UkvDwRefIdeal.nD Cert.UkvDwRefIdeal.τ).loc Cert.UkvDwRefIdeal.main_arg1)
      ∧ r.2.mem ((c.tc : Thread Cert.UkvDwRefIdeal.nD Cert.UkvDwRefIdeal.τ).loc Cert.UkvDwRefIdeal.main_arg2) = m ((c.tc : Thread Cert.UkvDwRefIdeal.nD Cert.UkvDwRefIdeal.τ).loc Cert.UkvDwRefIdeal.main_arg2))
      ∧ r.2.sem = fun _ => 0)

def quiescent_InQDx [hInQDx : Cert.InQDx.Facts] : Prop :=
  ∀ (m : (ℓ : Loc Cert.InQDx.nD Cert.InQDx.τ Cert.InQDx.sig) → Buf (Elt Bits) ℓ) (g : Dev Cert.InQDx.nD → PrngReg), Pre_InQDx m →
    θ_run (Cert.InQDx.defs (F := Bits)) (onTc (τ := Cert.InQDx.τ) (Cert.InQDx.main (F := Bits))) ⟨m, fun _ => 0, g⟩ (fun r => (∀ c : Dev Cert.InQDx.nD,
      r.2.mem ((c.tc : Thread Cert.InQDx.nD Cert.InQDx.τ).loc Cert.InQDx.main_arg0) = m ((c.tc : Thread Cert.InQDx.nD Cert.InQDx.τ).loc Cert.InQDx.main_arg0)
      ∧ r.2.mem ((c.tc : Thread Cert.InQDx.nD Cert.InQDx.τ).loc Cert.InQDx.main_arg1) = m ((c.tc : Thread Cert.InQDx.nD Cert.InQDx.τ).loc Cert.InQDx.main_arg1)
      ∧ r.2.mem ((c.tc : Thread Cert.InQDx.nD Cert.InQDx.τ).loc Cert.InQDx.main_arg2) = m ((c.tc : Thread Cert.InQDx.nD Cert.InQDx.τ).loc Cert.InQDx.main_arg2))
      ∧ r.2.sem = fun _ => 0)

def quiescent_InQDxIdeal [hInQDxIdeal : Cert.InQDxIdeal.Facts] : Prop :=
  ∀ (m : (ℓ : Loc Cert.InQDxIdeal.nD Cert.InQDxIdeal.τ Cert.InQDxIdeal.sig) → Buf (Elt Ideal) ℓ) (g : Dev Cert.InQDxIdeal.nD → PrngReg), Pre_InQDxIdeal m →
    θ_run (Cert.InQDxIdeal.defs (F := Ideal)) (onTc (τ := Cert.InQDxIdeal.τ) (Cert.InQDxIdeal.main (F := Ideal))) ⟨m, fun _ => 0, g⟩ (fun r => (∀ c : Dev Cert.InQDxIdeal.nD,
      r.2.mem ((c.tc : Thread Cert.InQDxIdeal.nD Cert.InQDxIdeal.τ).loc Cert.InQDxIdeal.main_arg0) = m ((c.tc : Thread Cert.InQDxIdeal.nD Cert.InQDxIdeal.τ).loc Cert.InQDxIdeal.main_arg0)
      ∧ r.2.mem ((c.tc : Thread Cert.InQDxIdeal.nD Cert.InQDxIdeal.τ).loc Cert.InQDxIdeal.main_arg1) = m ((c.tc : Thread Cert.InQDxIdeal.nD Cert.InQDxIdeal.τ).loc Cert.InQDxIdeal.main_arg1)
      ∧ r.2.mem ((c.tc : Thread Cert.InQDxIdeal.nD Cert.InQDxIdeal.τ).loc Cert.InQDxIdeal.main_arg2) = m ((c.tc : Thread Cert.InQDxIdeal.nD Cert.InQDxIdeal.τ).loc Cert.InQDxIdeal.main_arg2))
      ∧ r.2.sem = fun _ => 0)

def quiescent_InQDxRefIdeal [hInQDxRefIdeal : Cert.InQDxRefIdeal.Facts] : Prop :=
  ∀ (m : (ℓ : Loc Cert.InQDxRefIdeal.nD Cert.InQDxRefIdeal.τ Cert.InQDxRefIdeal.sig) → Buf (Elt Ideal) ℓ) (g : Dev Cert.InQDxRefIdeal.nD → PrngReg), Pre_InQDxRefIdeal m →
    θ_run (Cert.InQDxRefIdeal.defs (F := Ideal)) (onTc (τ := Cert.InQDxRefIdeal.τ) (Cert.InQDxRefIdeal.main (F := Ideal))) ⟨m, fun _ => 0, g⟩ (fun r => (∀ c : Dev Cert.InQDxRefIdeal.nD,
      r.2.mem ((c.tc : Thread Cert.InQDxRefIdeal.nD Cert.InQDxRefIdeal.τ).loc Cert.InQDxRefIdeal.main_arg0) = m ((c.tc : Thread Cert.InQDxRefIdeal.nD Cert.InQDxRefIdeal.τ).loc Cert.InQDxRefIdeal.main_arg0)
      ∧ r.2.mem ((c.tc : Thread Cert.InQDxRefIdeal.nD Cert.InQDxRefIdeal.τ).loc Cert.InQDxRefIdeal.main_arg1) = m ((c.tc : Thread Cert.InQDxRefIdeal.nD Cert.InQDxRefIdeal.τ).loc Cert.InQDxRefIdeal.main_arg1)
      ∧ r.2.mem ((c.tc : Thread Cert.InQDxRefIdeal.nD Cert.InQDxRefIdeal.τ).loc Cert.InQDxRefIdeal.main_arg2) = m ((c.tc : Thread Cert.InQDxRefIdeal.nD Cert.InQDxRefIdeal.τ).loc Cert.InQDxRefIdeal.main_arg2))
      ∧ r.2.sem = fun _ => 0)

def quiescent_InQDw [hInQDw : Cert.InQDw.Facts] : Prop :=
  ∀ (m : (ℓ : Loc Cert.InQDw.nD Cert.InQDw.τ Cert.InQDw.sig) → Buf (Elt Bits) ℓ) (g : Dev Cert.InQDw.nD → PrngReg), Pre_InQDw m →
    θ_run (Cert.InQDw.defs (F := Bits)) (onTc (τ := Cert.InQDw.τ) (Cert.InQDw.main (F := Bits))) ⟨m, fun _ => 0, g⟩ (fun r => (∀ c : Dev Cert.InQDw.nD,
      r.2.mem ((c.tc : Thread Cert.InQDw.nD Cert.InQDw.τ).loc Cert.InQDw.main_arg0) = m ((c.tc : Thread Cert.InQDw.nD Cert.InQDw.τ).loc Cert.InQDw.main_arg0)
      ∧ r.2.mem ((c.tc : Thread Cert.InQDw.nD Cert.InQDw.τ).loc Cert.InQDw.main_arg1) = m ((c.tc : Thread Cert.InQDw.nD Cert.InQDw.τ).loc Cert.InQDw.main_arg1)
      ∧ r.2.mem ((c.tc : Thread Cert.InQDw.nD Cert.InQDw.τ).loc Cert.InQDw.main_arg2) = m ((c.tc : Thread Cert.InQDw.nD Cert.InQDw.τ).loc Cert.InQDw.main_arg2))
      ∧ r.2.sem = fun _ => 0)

def quiescent_InQDwIdeal [hInQDwIdeal : Cert.InQDwIdeal.Facts] : Prop :=
  ∀ (m : (ℓ : Loc Cert.InQDwIdeal.nD Cert.InQDwIdeal.τ Cert.InQDwIdeal.sig) → Buf (Elt Ideal) ℓ) (g : Dev Cert.InQDwIdeal.nD → PrngReg), Pre_InQDwIdeal m →
    θ_run (Cert.InQDwIdeal.defs (F := Ideal)) (onTc (τ := Cert.InQDwIdeal.τ) (Cert.InQDwIdeal.main (F := Ideal))) ⟨m, fun _ => 0, g⟩ (fun r => (∀ c : Dev Cert.InQDwIdeal.nD,
      r.2.mem ((c.tc : Thread Cert.InQDwIdeal.nD Cert.InQDwIdeal.τ).loc Cert.InQDwIdeal.main_arg0) = m ((c.tc : Thread Cert.InQDwIdeal.nD Cert.InQDwIdeal.τ).loc Cert.InQDwIdeal.main_arg0)
      ∧ r.2.mem ((c.tc : Thread Cert.InQDwIdeal.nD Cert.InQDwIdeal.τ).loc Cert.InQDwIdeal.main_arg1) = m ((c.tc : Thread Cert.InQDwIdeal.nD Cert.InQDwIdeal.τ).loc Cert.InQDwIdeal.main_arg1)
      ∧ r.2.mem ((c.tc : Thread Cert.InQDwIdeal.nD Cert.InQDwIdeal.τ).loc Cert.InQDwIdeal.main_arg2) = m ((c.tc : Thread Cert.InQDwIdeal.nD Cert.InQDwIdeal.τ).loc Cert.InQDwIdeal.main_arg2))
      ∧ r.2.sem = fun _ => 0)

def quiescent_InQDwRefIdeal [hInQDwRefIdeal : Cert.InQDwRefIdeal.Facts] : Prop :=
  ∀ (m : (ℓ : Loc Cert.InQDwRefIdeal.nD Cert.InQDwRefIdeal.τ Cert.InQDwRefIdeal.sig) → Buf (Elt Ideal) ℓ) (g : Dev Cert.InQDwRefIdeal.nD → PrngReg), Pre_InQDwRefIdeal m →
    θ_run (Cert.InQDwRefIdeal.defs (F := Ideal)) (onTc (τ := Cert.InQDwRefIdeal.τ) (Cert.InQDwRefIdeal.main (F := Ideal))) ⟨m, fun _ => 0, g⟩ (fun r => (∀ c : Dev Cert.InQDwRefIdeal.nD,
      r.2.mem ((c.tc : Thread Cert.InQDwRefIdeal.nD Cert.InQDwRefIdeal.τ).loc Cert.InQDwRefIdeal.main_arg0) = m ((c.tc : Thread Cert.InQDwRefIdeal.nD Cert.InQDwRefIdeal.τ).loc Cert.InQDwRefIdeal.main_arg0)
      ∧ r.2.mem ((c.tc : Thread Cert.InQDwRefIdeal.nD Cert.InQDwRefIdeal.τ).loc Cert.InQDwRefIdeal.main_arg1) = m ((c.tc : Thread Cert.InQDwRefIdeal.nD Cert.InQDwRefIdeal.τ).loc Cert.InQDwRefIdeal.main_arg1)
      ∧ r.2.mem ((c.tc : Thread Cert.InQDwRefIdeal.nD Cert.InQDwRefIdeal.τ).loc Cert.InQDwRefIdeal.main_arg2) = m ((c.tc : Thread Cert.InQDwRefIdeal.nD Cert.InQDwRefIdeal.τ).loc Cert.InQDwRefIdeal.main_arg2))
      ∧ r.2.sem = fun _ => 0)

def quiescent_InCkvDx [hInCkvDx : Cert.InCkvDx.Facts] : Prop :=
  ∀ (m : (ℓ : Loc Cert.InCkvDx.nD Cert.InCkvDx.τ Cert.InCkvDx.sig) → Buf (Elt Bits) ℓ) (g : Dev Cert.InCkvDx.nD → PrngReg), Pre_InCkvDx m →
    θ_run (Cert.InCkvDx.defs (F := Bits)) (onTc (τ := Cert.InCkvDx.τ) (Cert.InCkvDx.main (F := Bits))) ⟨m, fun _ => 0, g⟩ (fun r => (∀ c : Dev Cert.InCkvDx.nD,
      r.2.mem ((c.tc : Thread Cert.InCkvDx.nD Cert.InCkvDx.τ).loc Cert.InCkvDx.main_arg0) = m ((c.tc : Thread Cert.InCkvDx.nD Cert.InCkvDx.τ).loc Cert.InCkvDx.main_arg0)
      ∧ r.2.mem ((c.tc : Thread Cert.InCkvDx.nD Cert.InCkvDx.τ).loc Cert.InCkvDx.main_arg1) = m ((c.tc : Thread Cert.InCkvDx.nD Cert.InCkvDx.τ).loc Cert.InCkvDx.main_arg1)
      ∧ r.2.mem ((c.tc : Thread Cert.InCkvDx.nD Cert.InCkvDx.τ).loc Cert.InCkvDx.main_arg2) = m ((c.tc : Thread Cert.InCkvDx.nD Cert.InCkvDx.τ).loc Cert.InCkvDx.main_arg2)
      ∧ r.2.mem ((c.tc : Thread Cert.InCkvDx.nD Cert.InCkvDx.τ).loc Cert.InCkvDx.main_arg3) = m ((c.tc : Thread Cert.InCkvDx.nD Cert.InCkvDx.τ).loc Cert.InCkvDx.main_arg3))
      ∧ r.2.sem = fun _ => 0)

def quiescent_InCkvDxIdeal [hInCkvDxIdeal : Cert.InCkvDxIdeal.Facts] : Prop :=
  ∀ (m : (ℓ : Loc Cert.InCkvDxIdeal.nD Cert.InCkvDxIdeal.τ Cert.InCkvDxIdeal.sig) → Buf (Elt Ideal) ℓ) (g : Dev Cert.InCkvDxIdeal.nD → PrngReg), Pre_InCkvDxIdeal m →
    θ_run (Cert.InCkvDxIdeal.defs (F := Ideal)) (onTc (τ := Cert.InCkvDxIdeal.τ) (Cert.InCkvDxIdeal.main (F := Ideal))) ⟨m, fun _ => 0, g⟩ (fun r => (∀ c : Dev Cert.InCkvDxIdeal.nD,
      r.2.mem ((c.tc : Thread Cert.InCkvDxIdeal.nD Cert.InCkvDxIdeal.τ).loc Cert.InCkvDxIdeal.main_arg0) = m ((c.tc : Thread Cert.InCkvDxIdeal.nD Cert.InCkvDxIdeal.τ).loc Cert.InCkvDxIdeal.main_arg0)
      ∧ r.2.mem ((c.tc : Thread Cert.InCkvDxIdeal.nD Cert.InCkvDxIdeal.τ).loc Cert.InCkvDxIdeal.main_arg1) = m ((c.tc : Thread Cert.InCkvDxIdeal.nD Cert.InCkvDxIdeal.τ).loc Cert.InCkvDxIdeal.main_arg1)
      ∧ r.2.mem ((c.tc : Thread Cert.InCkvDxIdeal.nD Cert.InCkvDxIdeal.τ).loc Cert.InCkvDxIdeal.main_arg2) = m ((c.tc : Thread Cert.InCkvDxIdeal.nD Cert.InCkvDxIdeal.τ).loc Cert.InCkvDxIdeal.main_arg2)
      ∧ r.2.mem ((c.tc : Thread Cert.InCkvDxIdeal.nD Cert.InCkvDxIdeal.τ).loc Cert.InCkvDxIdeal.main_arg3) = m ((c.tc : Thread Cert.InCkvDxIdeal.nD Cert.InCkvDxIdeal.τ).loc Cert.InCkvDxIdeal.main_arg3))
      ∧ r.2.sem = fun _ => 0)

def quiescent_InCkvDxRefIdeal [hInCkvDxRefIdeal : Cert.InCkvDxRefIdeal.Facts] : Prop :=
  ∀ (m : (ℓ : Loc Cert.InCkvDxRefIdeal.nD Cert.InCkvDxRefIdeal.τ Cert.InCkvDxRefIdeal.sig) → Buf (Elt Ideal) ℓ) (g : Dev Cert.InCkvDxRefIdeal.nD → PrngReg), Pre_InCkvDxRefIdeal m →
    θ_run (Cert.InCkvDxRefIdeal.defs (F := Ideal)) (onTc (τ := Cert.InCkvDxRefIdeal.τ) (Cert.InCkvDxRefIdeal.main (F := Ideal))) ⟨m, fun _ => 0, g⟩ (fun r => (∀ c : Dev Cert.InCkvDxRefIdeal.nD,
      r.2.mem ((c.tc : Thread Cert.InCkvDxRefIdeal.nD Cert.InCkvDxRefIdeal.τ).loc Cert.InCkvDxRefIdeal.main_arg0) = m ((c.tc : Thread Cert.InCkvDxRefIdeal.nD Cert.InCkvDxRefIdeal.τ).loc Cert.InCkvDxRefIdeal.main_arg0)
      ∧ r.2.mem ((c.tc : Thread Cert.InCkvDxRefIdeal.nD Cert.InCkvDxRefIdeal.τ).loc Cert.InCkvDxRefIdeal.main_arg1) = m ((c.tc : Thread Cert.InCkvDxRefIdeal.nD Cert.InCkvDxRefIdeal.τ).loc Cert.InCkvDxRefIdeal.main_arg1)
      ∧ r.2.mem ((c.tc : Thread Cert.InCkvDxRefIdeal.nD Cert.InCkvDxRefIdeal.τ).loc Cert.InCkvDxRefIdeal.main_arg2) = m ((c.tc : Thread Cert.InCkvDxRefIdeal.nD Cert.InCkvDxRefIdeal.τ).loc Cert.InCkvDxRefIdeal.main_arg2)
      ∧ r.2.mem ((c.tc : Thread Cert.InCkvDxRefIdeal.nD Cert.InCkvDxRefIdeal.τ).loc Cert.InCkvDxRefIdeal.main_arg3) = m ((c.tc : Thread Cert.InCkvDxRefIdeal.nD Cert.InCkvDxRefIdeal.τ).loc Cert.InCkvDxRefIdeal.main_arg3))
      ∧ r.2.sem = fun _ => 0)

def quiescent_InCkvDw [hInCkvDw : Cert.InCkvDw.Facts] : Prop :=
  ∀ (m : (ℓ : Loc Cert.InCkvDw.nD Cert.InCkvDw.τ Cert.InCkvDw.sig) → Buf (Elt Bits) ℓ) (g : Dev Cert.InCkvDw.nD → PrngReg), Pre_InCkvDw m →
    θ_run (Cert.InCkvDw.defs (F := Bits)) (onTc (τ := Cert.InCkvDw.τ) (Cert.InCkvDw.main (F := Bits))) ⟨m, fun _ => 0, g⟩ (fun r => (∀ c : Dev Cert.InCkvDw.nD,
      r.2.mem ((c.tc : Thread Cert.InCkvDw.nD Cert.InCkvDw.τ).loc Cert.InCkvDw.main_arg0) = m ((c.tc : Thread Cert.InCkvDw.nD Cert.InCkvDw.τ).loc Cert.InCkvDw.main_arg0)
      ∧ r.2.mem ((c.tc : Thread Cert.InCkvDw.nD Cert.InCkvDw.τ).loc Cert.InCkvDw.main_arg1) = m ((c.tc : Thread Cert.InCkvDw.nD Cert.InCkvDw.τ).loc Cert.InCkvDw.main_arg1)
      ∧ r.2.mem ((c.tc : Thread Cert.InCkvDw.nD Cert.InCkvDw.τ).loc Cert.InCkvDw.main_arg2) = m ((c.tc : Thread Cert.InCkvDw.nD Cert.InCkvDw.τ).loc Cert.InCkvDw.main_arg2))
      ∧ r.2.sem = fun _ => 0)

def quiescent_InCkvDwIdeal [hInCkvDwIdeal : Cert.InCkvDwIdeal.Facts] : Prop :=
  ∀ (m : (ℓ : Loc Cert.InCkvDwIdeal.nD Cert.InCkvDwIdeal.τ Cert.InCkvDwIdeal.sig) → Buf (Elt Ideal) ℓ) (g : Dev Cert.InCkvDwIdeal.nD → PrngReg), Pre_InCkvDwIdeal m →
    θ_run (Cert.InCkvDwIdeal.defs (F := Ideal)) (onTc (τ := Cert.InCkvDwIdeal.τ) (Cert.InCkvDwIdeal.main (F := Ideal))) ⟨m, fun _ => 0, g⟩ (fun r => (∀ c : Dev Cert.InCkvDwIdeal.nD,
      r.2.mem ((c.tc : Thread Cert.InCkvDwIdeal.nD Cert.InCkvDwIdeal.τ).loc Cert.InCkvDwIdeal.main_arg0) = m ((c.tc : Thread Cert.InCkvDwIdeal.nD Cert.InCkvDwIdeal.τ).loc Cert.InCkvDwIdeal.main_arg0)
      ∧ r.2.mem ((c.tc : Thread Cert.InCkvDwIdeal.nD Cert.InCkvDwIdeal.τ).loc Cert.InCkvDwIdeal.main_arg1) = m ((c.tc : Thread Cert.InCkvDwIdeal.nD Cert.InCkvDwIdeal.τ).loc Cert.InCkvDwIdeal.main_arg1)
      ∧ r.2.mem ((c.tc : Thread Cert.InCkvDwIdeal.nD Cert.InCkvDwIdeal.τ).loc Cert.InCkvDwIdeal.main_arg2) = m ((c.tc : Thread Cert.InCkvDwIdeal.nD Cert.InCkvDwIdeal.τ).loc Cert.InCkvDwIdeal.main_arg2))
      ∧ r.2.sem = fun _ => 0)

def quiescent_InCkvDwRefIdeal [hInCkvDwRefIdeal : Cert.InCkvDwRefIdeal.Facts] : Prop :=
  ∀ (m : (ℓ : Loc Cert.InCkvDwRefIdeal.nD Cert.InCkvDwRefIdeal.τ Cert.InCkvDwRefIdeal.sig) → Buf (Elt Ideal) ℓ) (g : Dev Cert.InCkvDwRefIdeal.nD → PrngReg), Pre_InCkvDwRefIdeal m →
    θ_run (Cert.InCkvDwRefIdeal.defs (F := Ideal)) (onTc (τ := Cert.InCkvDwRefIdeal.τ) (Cert.InCkvDwRefIdeal.main (F := Ideal))) ⟨m, fun _ => 0, g⟩ (fun r => (∀ c : Dev Cert.InCkvDwRefIdeal.nD,
      r.2.mem ((c.tc : Thread Cert.InCkvDwRefIdeal.nD Cert.InCkvDwRefIdeal.τ).loc Cert.InCkvDwRefIdeal.main_arg0) = m ((c.tc : Thread Cert.InCkvDwRefIdeal.nD Cert.InCkvDwRefIdeal.τ).loc Cert.InCkvDwRefIdeal.main_arg0)
      ∧ r.2.mem ((c.tc : Thread Cert.InCkvDwRefIdeal.nD Cert.InCkvDwRefIdeal.τ).loc Cert.InCkvDwRefIdeal.main_arg1) = m ((c.tc : Thread Cert.InCkvDwRefIdeal.nD Cert.InCkvDwRefIdeal.τ).loc Cert.InCkvDwRefIdeal.main_arg1)
      ∧ r.2.mem ((c.tc : Thread Cert.InCkvDwRefIdeal.nD Cert.InCkvDwRefIdeal.τ).loc Cert.InCkvDwRefIdeal.main_arg2) = m ((c.tc : Thread Cert.InCkvDwRefIdeal.nD Cert.InCkvDwRefIdeal.τ).loc Cert.InCkvDwRefIdeal.main_arg2))
      ∧ r.2.sem = fun _ => 0)

def quiescent_InSgDx [hInSgDx : Cert.InSgDx.Facts] : Prop :=
  ∀ (m : (ℓ : Loc Cert.InSgDx.nD Cert.InSgDx.τ Cert.InSgDx.sig) → Buf (Elt Bits) ℓ) (g : Dev Cert.InSgDx.nD → PrngReg), Pre_InSgDx m →
    θ_run (Cert.InSgDx.defs (F := Bits)) (onTc (τ := Cert.InSgDx.τ) (Cert.InSgDx.main (F := Bits))) ⟨m, fun _ => 0, g⟩ (fun r => (∀ c : Dev Cert.InSgDx.nD,
      r.2.mem ((c.tc : Thread Cert.InSgDx.nD Cert.InSgDx.τ).loc Cert.InSgDx.main_arg0) = m ((c.tc : Thread Cert.InSgDx.nD Cert.InSgDx.τ).loc Cert.InSgDx.main_arg0)
      ∧ r.2.mem ((c.tc : Thread Cert.InSgDx.nD Cert.InSgDx.τ).loc Cert.InSgDx.main_arg1) = m ((c.tc : Thread Cert.InSgDx.nD Cert.InSgDx.τ).loc Cert.InSgDx.main_arg1)
      ∧ r.2.mem ((c.tc : Thread Cert.InSgDx.nD Cert.InSgDx.τ).loc Cert.InSgDx.main_arg2) = m ((c.tc : Thread Cert.InSgDx.nD Cert.InSgDx.τ).loc Cert.InSgDx.main_arg2)
      ∧ r.2.mem ((c.tc : Thread Cert.InSgDx.nD Cert.InSgDx.τ).loc Cert.InSgDx.main_arg3) = m ((c.tc : Thread Cert.InSgDx.nD Cert.InSgDx.τ).loc Cert.InSgDx.main_arg3))
      ∧ r.2.sem = fun _ => 0)

def quiescent_InSgDxIdeal [hInSgDxIdeal : Cert.InSgDxIdeal.Facts] : Prop :=
  ∀ (m : (ℓ : Loc Cert.InSgDxIdeal.nD Cert.InSgDxIdeal.τ Cert.InSgDxIdeal.sig) → Buf (Elt Ideal) ℓ) (g : Dev Cert.InSgDxIdeal.nD → PrngReg), Pre_InSgDxIdeal m →
    θ_run (Cert.InSgDxIdeal.defs (F := Ideal)) (onTc (τ := Cert.InSgDxIdeal.τ) (Cert.InSgDxIdeal.main (F := Ideal))) ⟨m, fun _ => 0, g⟩ (fun r => (∀ c : Dev Cert.InSgDxIdeal.nD,
      r.2.mem ((c.tc : Thread Cert.InSgDxIdeal.nD Cert.InSgDxIdeal.τ).loc Cert.InSgDxIdeal.main_arg0) = m ((c.tc : Thread Cert.InSgDxIdeal.nD Cert.InSgDxIdeal.τ).loc Cert.InSgDxIdeal.main_arg0)
      ∧ r.2.mem ((c.tc : Thread Cert.InSgDxIdeal.nD Cert.InSgDxIdeal.τ).loc Cert.InSgDxIdeal.main_arg1) = m ((c.tc : Thread Cert.InSgDxIdeal.nD Cert.InSgDxIdeal.τ).loc Cert.InSgDxIdeal.main_arg1)
      ∧ r.2.mem ((c.tc : Thread Cert.InSgDxIdeal.nD Cert.InSgDxIdeal.τ).loc Cert.InSgDxIdeal.main_arg2) = m ((c.tc : Thread Cert.InSgDxIdeal.nD Cert.InSgDxIdeal.τ).loc Cert.InSgDxIdeal.main_arg2)
      ∧ r.2.mem ((c.tc : Thread Cert.InSgDxIdeal.nD Cert.InSgDxIdeal.τ).loc Cert.InSgDxIdeal.main_arg3) = m ((c.tc : Thread Cert.InSgDxIdeal.nD Cert.InSgDxIdeal.τ).loc Cert.InSgDxIdeal.main_arg3))
      ∧ r.2.sem = fun _ => 0)

def quiescent_InSgDxRefIdeal [hInSgDxRefIdeal : Cert.InSgDxRefIdeal.Facts] : Prop :=
  ∀ (m : (ℓ : Loc Cert.InSgDxRefIdeal.nD Cert.InSgDxRefIdeal.τ Cert.InSgDxRefIdeal.sig) → Buf (Elt Ideal) ℓ) (g : Dev Cert.InSgDxRefIdeal.nD → PrngReg), Pre_InSgDxRefIdeal m →
    θ_run (Cert.InSgDxRefIdeal.defs (F := Ideal)) (onTc (τ := Cert.InSgDxRefIdeal.τ) (Cert.InSgDxRefIdeal.main (F := Ideal))) ⟨m, fun _ => 0, g⟩ (fun r => (∀ c : Dev Cert.InSgDxRefIdeal.nD,
      r.2.mem ((c.tc : Thread Cert.InSgDxRefIdeal.nD Cert.InSgDxRefIdeal.τ).loc Cert.InSgDxRefIdeal.main_arg0) = m ((c.tc : Thread Cert.InSgDxRefIdeal.nD Cert.InSgDxRefIdeal.τ).loc Cert.InSgDxRefIdeal.main_arg0)
      ∧ r.2.mem ((c.tc : Thread Cert.InSgDxRefIdeal.nD Cert.InSgDxRefIdeal.τ).loc Cert.InSgDxRefIdeal.main_arg1) = m ((c.tc : Thread Cert.InSgDxRefIdeal.nD Cert.InSgDxRefIdeal.τ).loc Cert.InSgDxRefIdeal.main_arg1)
      ∧ r.2.mem ((c.tc : Thread Cert.InSgDxRefIdeal.nD Cert.InSgDxRefIdeal.τ).loc Cert.InSgDxRefIdeal.main_arg2) = m ((c.tc : Thread Cert.InSgDxRefIdeal.nD Cert.InSgDxRefIdeal.τ).loc Cert.InSgDxRefIdeal.main_arg2)
      ∧ r.2.mem ((c.tc : Thread Cert.InSgDxRefIdeal.nD Cert.InSgDxRefIdeal.τ).loc Cert.InSgDxRefIdeal.main_arg3) = m ((c.tc : Thread Cert.InSgDxRefIdeal.nD Cert.InSgDxRefIdeal.τ).loc Cert.InSgDxRefIdeal.main_arg3))
      ∧ r.2.sem = fun _ => 0)

def quiescent_InSgDw [hInSgDw : Cert.InSgDw.Facts] : Prop :=
  ∀ (m : (ℓ : Loc Cert.InSgDw.nD Cert.InSgDw.τ Cert.InSgDw.sig) → Buf (Elt Bits) ℓ) (g : Dev Cert.InSgDw.nD → PrngReg), Pre_InSgDw m →
    θ_run (Cert.InSgDw.defs (F := Bits)) (onTc (τ := Cert.InSgDw.τ) (Cert.InSgDw.main (F := Bits))) ⟨m, fun _ => 0, g⟩ (fun r => (∀ c : Dev Cert.InSgDw.nD,
      r.2.mem ((c.tc : Thread Cert.InSgDw.nD Cert.InSgDw.τ).loc Cert.InSgDw.main_arg0) = m ((c.tc : Thread Cert.InSgDw.nD Cert.InSgDw.τ).loc Cert.InSgDw.main_arg0)
      ∧ r.2.mem ((c.tc : Thread Cert.InSgDw.nD Cert.InSgDw.τ).loc Cert.InSgDw.main_arg1) = m ((c.tc : Thread Cert.InSgDw.nD Cert.InSgDw.τ).loc Cert.InSgDw.main_arg1)
      ∧ r.2.mem ((c.tc : Thread Cert.InSgDw.nD Cert.InSgDw.τ).loc Cert.InSgDw.main_arg2) = m ((c.tc : Thread Cert.InSgDw.nD Cert.InSgDw.τ).loc Cert.InSgDw.main_arg2))
      ∧ r.2.sem = fun _ => 0)

def quiescent_InSgDwIdeal [hInSgDwIdeal : Cert.InSgDwIdeal.Facts] : Prop :=
  ∀ (m : (ℓ : Loc Cert.InSgDwIdeal.nD Cert.InSgDwIdeal.τ Cert.InSgDwIdeal.sig) → Buf (Elt Ideal) ℓ) (g : Dev Cert.InSgDwIdeal.nD → PrngReg), Pre_InSgDwIdeal m →
    θ_run (Cert.InSgDwIdeal.defs (F := Ideal)) (onTc (τ := Cert.InSgDwIdeal.τ) (Cert.InSgDwIdeal.main (F := Ideal))) ⟨m, fun _ => 0, g⟩ (fun r => (∀ c : Dev Cert.InSgDwIdeal.nD,
      r.2.mem ((c.tc : Thread Cert.InSgDwIdeal.nD Cert.InSgDwIdeal.τ).loc Cert.InSgDwIdeal.main_arg0) = m ((c.tc : Thread Cert.InSgDwIdeal.nD Cert.InSgDwIdeal.τ).loc Cert.InSgDwIdeal.main_arg0)
      ∧ r.2.mem ((c.tc : Thread Cert.InSgDwIdeal.nD Cert.InSgDwIdeal.τ).loc Cert.InSgDwIdeal.main_arg1) = m ((c.tc : Thread Cert.InSgDwIdeal.nD Cert.InSgDwIdeal.τ).loc Cert.InSgDwIdeal.main_arg1)
      ∧ r.2.mem ((c.tc : Thread Cert.InSgDwIdeal.nD Cert.InSgDwIdeal.τ).loc Cert.InSgDwIdeal.main_arg2) = m ((c.tc : Thread Cert.InSgDwIdeal.nD Cert.InSgDwIdeal.τ).loc Cert.InSgDwIdeal.main_arg2))
      ∧ r.2.sem = fun _ => 0)

def quiescent_InSgDwRefIdeal [hInSgDwRefIdeal : Cert.InSgDwRefIdeal.Facts] : Prop :=
  ∀ (m : (ℓ : Loc Cert.InSgDwRefIdeal.nD Cert.InSgDwRefIdeal.τ Cert.InSgDwRefIdeal.sig) → Buf (Elt Ideal) ℓ) (g : Dev Cert.InSgDwRefIdeal.nD → PrngReg), Pre_InSgDwRefIdeal m →
    θ_run (Cert.InSgDwRefIdeal.defs (F := Ideal)) (onTc (τ := Cert.InSgDwRefIdeal.τ) (Cert.InSgDwRefIdeal.main (F := Ideal))) ⟨m, fun _ => 0, g⟩ (fun r => (∀ c : Dev Cert.InSgDwRefIdeal.nD,
      r.2.mem ((c.tc : Thread Cert.InSgDwRefIdeal.nD Cert.InSgDwRefIdeal.τ).loc Cert.InSgDwRefIdeal.main_arg0) = m ((c.tc : Thread Cert.InSgDwRefIdeal.nD Cert.InSgDwRefIdeal.τ).loc Cert.InSgDwRefIdeal.main_arg0)
      ∧ r.2.mem ((c.tc : Thread Cert.InSgDwRefIdeal.nD Cert.InSgDwRefIdeal.τ).loc Cert.InSgDwRefIdeal.main_arg1) = m ((c.tc : Thread Cert.InSgDwRefIdeal.nD Cert.InSgDwRefIdeal.τ).loc Cert.InSgDwRefIdeal.main_arg1)
      ∧ r.2.mem ((c.tc : Thread Cert.InSgDwRefIdeal.nD Cert.InSgDwRefIdeal.τ).loc Cert.InSgDwRefIdeal.main_arg2) = m ((c.tc : Thread Cert.InSgDwRefIdeal.nD Cert.InSgDwRefIdeal.τ).loc Cert.InSgDwRefIdeal.main_arg2))
      ∧ r.2.sem = fun _ => 0)

def quiescent_InRwDx [hInRwDx : Cert.InRwDx.Facts] : Prop :=
  ∀ (m : (ℓ : Loc Cert.InRwDx.nD Cert.InRwDx.τ Cert.InRwDx.sig) → Buf (Elt Bits) ℓ) (g : Dev Cert.InRwDx.nD → PrngReg), Pre_InRwDx m →
    θ_run (Cert.InRwDx.defs (F := Bits)) (onTc (τ := Cert.InRwDx.τ) (Cert.InRwDx.main (F := Bits))) ⟨m, fun _ => 0, g⟩ (fun r => (∀ c : Dev Cert.InRwDx.nD,
      r.2.mem ((c.tc : Thread Cert.InRwDx.nD Cert.InRwDx.τ).loc Cert.InRwDx.main_arg0) = m ((c.tc : Thread Cert.InRwDx.nD Cert.InRwDx.τ).loc Cert.InRwDx.main_arg0)
      ∧ r.2.mem ((c.tc : Thread Cert.InRwDx.nD Cert.InRwDx.τ).loc Cert.InRwDx.main_arg1) = m ((c.tc : Thread Cert.InRwDx.nD Cert.InRwDx.τ).loc Cert.InRwDx.main_arg1)
      ∧ r.2.mem ((c.tc : Thread Cert.InRwDx.nD Cert.InRwDx.τ).loc Cert.InRwDx.main_arg2) = m ((c.tc : Thread Cert.InRwDx.nD Cert.InRwDx.τ).loc Cert.InRwDx.main_arg2)
      ∧ r.2.mem ((c.tc : Thread Cert.InRwDx.nD Cert.InRwDx.τ).loc Cert.InRwDx.main_arg3) = m ((c.tc : Thread Cert.InRwDx.nD Cert.InRwDx.τ).loc Cert.InRwDx.main_arg3))
      ∧ r.2.sem = fun _ => 0)

def quiescent_InRwDxIdeal [hInRwDxIdeal : Cert.InRwDxIdeal.Facts] : Prop :=
  ∀ (m : (ℓ : Loc Cert.InRwDxIdeal.nD Cert.InRwDxIdeal.τ Cert.InRwDxIdeal.sig) → Buf (Elt Ideal) ℓ) (g : Dev Cert.InRwDxIdeal.nD → PrngReg), Pre_InRwDxIdeal m →
    θ_run (Cert.InRwDxIdeal.defs (F := Ideal)) (onTc (τ := Cert.InRwDxIdeal.τ) (Cert.InRwDxIdeal.main (F := Ideal))) ⟨m, fun _ => 0, g⟩ (fun r => (∀ c : Dev Cert.InRwDxIdeal.nD,
      r.2.mem ((c.tc : Thread Cert.InRwDxIdeal.nD Cert.InRwDxIdeal.τ).loc Cert.InRwDxIdeal.main_arg0) = m ((c.tc : Thread Cert.InRwDxIdeal.nD Cert.InRwDxIdeal.τ).loc Cert.InRwDxIdeal.main_arg0)
      ∧ r.2.mem ((c.tc : Thread Cert.InRwDxIdeal.nD Cert.InRwDxIdeal.τ).loc Cert.InRwDxIdeal.main_arg1) = m ((c.tc : Thread Cert.InRwDxIdeal.nD Cert.InRwDxIdeal.τ).loc Cert.InRwDxIdeal.main_arg1)
      ∧ r.2.mem ((c.tc : Thread Cert.InRwDxIdeal.nD Cert.InRwDxIdeal.τ).loc Cert.InRwDxIdeal.main_arg2) = m ((c.tc : Thread Cert.InRwDxIdeal.nD Cert.InRwDxIdeal.τ).loc Cert.InRwDxIdeal.main_arg2)
      ∧ r.2.mem ((c.tc : Thread Cert.InRwDxIdeal.nD Cert.InRwDxIdeal.τ).loc Cert.InRwDxIdeal.main_arg3) = m ((c.tc : Thread Cert.InRwDxIdeal.nD Cert.InRwDxIdeal.τ).loc Cert.InRwDxIdeal.main_arg3))
      ∧ r.2.sem = fun _ => 0)

def quiescent_InRwDxRefIdeal [hInRwDxRefIdeal : Cert.InRwDxRefIdeal.Facts] : Prop :=
  ∀ (m : (ℓ : Loc Cert.InRwDxRefIdeal.nD Cert.InRwDxRefIdeal.τ Cert.InRwDxRefIdeal.sig) → Buf (Elt Ideal) ℓ) (g : Dev Cert.InRwDxRefIdeal.nD → PrngReg), Pre_InRwDxRefIdeal m →
    θ_run (Cert.InRwDxRefIdeal.defs (F := Ideal)) (onTc (τ := Cert.InRwDxRefIdeal.τ) (Cert.InRwDxRefIdeal.main (F := Ideal))) ⟨m, fun _ => 0, g⟩ (fun r => (∀ c : Dev Cert.InRwDxRefIdeal.nD,
      r.2.mem ((c.tc : Thread Cert.InRwDxRefIdeal.nD Cert.InRwDxRefIdeal.τ).loc Cert.InRwDxRefIdeal.main_arg0) = m ((c.tc : Thread Cert.InRwDxRefIdeal.nD Cert.InRwDxRefIdeal.τ).loc Cert.InRwDxRefIdeal.main_arg0)
      ∧ r.2.mem ((c.tc : Thread Cert.InRwDxRefIdeal.nD Cert.InRwDxRefIdeal.τ).loc Cert.InRwDxRefIdeal.main_arg1) = m ((c.tc : Thread Cert.InRwDxRefIdeal.nD Cert.InRwDxRefIdeal.τ).loc Cert.InRwDxRefIdeal.main_arg1)
      ∧ r.2.mem ((c.tc : Thread Cert.InRwDxRefIdeal.nD Cert.InRwDxRefIdeal.τ).loc Cert.InRwDxRefIdeal.main_arg2) = m ((c.tc : Thread Cert.InRwDxRefIdeal.nD Cert.InRwDxRefIdeal.τ).loc Cert.InRwDxRefIdeal.main_arg2)
      ∧ r.2.mem ((c.tc : Thread Cert.InRwDxRefIdeal.nD Cert.InRwDxRefIdeal.τ).loc Cert.InRwDxRefIdeal.main_arg3) = m ((c.tc : Thread Cert.InRwDxRefIdeal.nD Cert.InRwDxRefIdeal.τ).loc Cert.InRwDxRefIdeal.main_arg3))
      ∧ r.2.sem = fun _ => 0)

def quiescent_InRwDw [hInRwDw : Cert.InRwDw.Facts] : Prop :=
  ∀ (m : (ℓ : Loc Cert.InRwDw.nD Cert.InRwDw.τ Cert.InRwDw.sig) → Buf (Elt Bits) ℓ) (g : Dev Cert.InRwDw.nD → PrngReg), Pre_InRwDw m →
    θ_run (Cert.InRwDw.defs (F := Bits)) (onTc (τ := Cert.InRwDw.τ) (Cert.InRwDw.main (F := Bits))) ⟨m, fun _ => 0, g⟩ (fun r => (∀ c : Dev Cert.InRwDw.nD,
      r.2.mem ((c.tc : Thread Cert.InRwDw.nD Cert.InRwDw.τ).loc Cert.InRwDw.main_arg0) = m ((c.tc : Thread Cert.InRwDw.nD Cert.InRwDw.τ).loc Cert.InRwDw.main_arg0)
      ∧ r.2.mem ((c.tc : Thread Cert.InRwDw.nD Cert.InRwDw.τ).loc Cert.InRwDw.main_arg1) = m ((c.tc : Thread Cert.InRwDw.nD Cert.InRwDw.τ).loc Cert.InRwDw.main_arg1)
      ∧ r.2.mem ((c.tc : Thread Cert.InRwDw.nD Cert.InRwDw.τ).loc Cert.InRwDw.main_arg2) = m ((c.tc : Thread Cert.InRwDw.nD Cert.InRwDw.τ).loc Cert.InRwDw.main_arg2))
      ∧ r.2.sem = fun _ => 0)

def quiescent_InRwDwIdeal [hInRwDwIdeal : Cert.InRwDwIdeal.Facts] : Prop :=
  ∀ (m : (ℓ : Loc Cert.InRwDwIdeal.nD Cert.InRwDwIdeal.τ Cert.InRwDwIdeal.sig) → Buf (Elt Ideal) ℓ) (g : Dev Cert.InRwDwIdeal.nD → PrngReg), Pre_InRwDwIdeal m →
    θ_run (Cert.InRwDwIdeal.defs (F := Ideal)) (onTc (τ := Cert.InRwDwIdeal.τ) (Cert.InRwDwIdeal.main (F := Ideal))) ⟨m, fun _ => 0, g⟩ (fun r => (∀ c : Dev Cert.InRwDwIdeal.nD,
      r.2.mem ((c.tc : Thread Cert.InRwDwIdeal.nD Cert.InRwDwIdeal.τ).loc Cert.InRwDwIdeal.main_arg0) = m ((c.tc : Thread Cert.InRwDwIdeal.nD Cert.InRwDwIdeal.τ).loc Cert.InRwDwIdeal.main_arg0)
      ∧ r.2.mem ((c.tc : Thread Cert.InRwDwIdeal.nD Cert.InRwDwIdeal.τ).loc Cert.InRwDwIdeal.main_arg1) = m ((c.tc : Thread Cert.InRwDwIdeal.nD Cert.InRwDwIdeal.τ).loc Cert.InRwDwIdeal.main_arg1)
      ∧ r.2.mem ((c.tc : Thread Cert.InRwDwIdeal.nD Cert.InRwDwIdeal.τ).loc Cert.InRwDwIdeal.main_arg2) = m ((c.tc : Thread Cert.InRwDwIdeal.nD Cert.InRwDwIdeal.τ).loc Cert.InRwDwIdeal.main_arg2))
      ∧ r.2.sem = fun _ => 0)

def quiescent_InRwDwRefIdeal [hInRwDwRefIdeal : Cert.InRwDwRefIdeal.Facts] : Prop :=
  ∀ (m : (ℓ : Loc Cert.InRwDwRefIdeal.nD Cert.InRwDwRefIdeal.τ Cert.InRwDwRefIdeal.sig) → Buf (Elt Ideal) ℓ) (g : Dev Cert.InRwDwRefIdeal.nD → PrngReg), Pre_InRwDwRefIdeal m →
    θ_run (Cert.InRwDwRefIdeal.defs (F := Ideal)) (onTc (τ := Cert.InRwDwRefIdeal.τ) (Cert.InRwDwRefIdeal.main (F := Ideal))) ⟨m, fun _ => 0, g⟩ (fun r => (∀ c : Dev Cert.InRwDwRefIdeal.nD,
      r.2.mem ((c.tc : Thread Cert.InRwDwRefIdeal.nD Cert.InRwDwRefIdeal.τ).loc Cert.InRwDwRefIdeal.main_arg0) = m ((c.tc : Thread Cert.InRwDwRefIdeal.nD Cert.InRwDwRefIdeal.τ).loc Cert.InRwDwRefIdeal.main_arg0)
      ∧ r.2.mem ((c.tc : Thread Cert.InRwDwRefIdeal.nD Cert.InRwDwRefIdeal.τ).loc Cert.InRwDwRefIdeal.main_arg1) = m ((c.tc : Thread Cert.InRwDwRefIdeal.nD Cert.InRwDwRefIdeal.τ).loc Cert.InRwDwRefIdeal.main_arg1)
      ∧ r.2.mem ((c.tc : Thread Cert.InRwDwRefIdeal.nD Cert.InRwDwRefIdeal.τ).loc Cert.InRwDwRefIdeal.main_arg2) = m ((c.tc : Thread Cert.InRwDwRefIdeal.nD Cert.InRwDwRefIdeal.τ).loc Cert.InRwDwRefIdeal.main_arg2))
      ∧ r.2.sem = fun _ => 0)

def quiescent_InGateDx [hInGateDx : Cert.InGateDx.Facts] : Prop :=
  ∀ (m : (ℓ : Loc Cert.InGateDx.nD Cert.InGateDx.τ Cert.InGateDx.sig) → Buf (Elt Bits) ℓ) (g : Dev Cert.InGateDx.nD → PrngReg), Pre_InGateDx m →
    θ_run (Cert.InGateDx.defs (F := Bits)) (onTc (τ := Cert.InGateDx.τ) (Cert.InGateDx.main (F := Bits))) ⟨m, fun _ => 0, g⟩ (fun r => (∀ c : Dev Cert.InGateDx.nD,
      r.2.mem ((c.tc : Thread Cert.InGateDx.nD Cert.InGateDx.τ).loc Cert.InGateDx.main_arg0) = m ((c.tc : Thread Cert.InGateDx.nD Cert.InGateDx.τ).loc Cert.InGateDx.main_arg0)
      ∧ r.2.mem ((c.tc : Thread Cert.InGateDx.nD Cert.InGateDx.τ).loc Cert.InGateDx.main_arg1) = m ((c.tc : Thread Cert.InGateDx.nD Cert.InGateDx.τ).loc Cert.InGateDx.main_arg1)
      ∧ r.2.mem ((c.tc : Thread Cert.InGateDx.nD Cert.InGateDx.τ).loc Cert.InGateDx.main_arg2) = m ((c.tc : Thread Cert.InGateDx.nD Cert.InGateDx.τ).loc Cert.InGateDx.main_arg2)
      ∧ r.2.mem ((c.tc : Thread Cert.InGateDx.nD Cert.InGateDx.τ).loc Cert.InGateDx.main_arg3) = m ((c.tc : Thread Cert.InGateDx.nD Cert.InGateDx.τ).loc Cert.InGateDx.main_arg3))
      ∧ r.2.sem = fun _ => 0)

def quiescent_InGateDxIdeal [hInGateDxIdeal : Cert.InGateDxIdeal.Facts] : Prop :=
  ∀ (m : (ℓ : Loc Cert.InGateDxIdeal.nD Cert.InGateDxIdeal.τ Cert.InGateDxIdeal.sig) → Buf (Elt Ideal) ℓ) (g : Dev Cert.InGateDxIdeal.nD → PrngReg), Pre_InGateDxIdeal m →
    θ_run (Cert.InGateDxIdeal.defs (F := Ideal)) (onTc (τ := Cert.InGateDxIdeal.τ) (Cert.InGateDxIdeal.main (F := Ideal))) ⟨m, fun _ => 0, g⟩ (fun r => (∀ c : Dev Cert.InGateDxIdeal.nD,
      r.2.mem ((c.tc : Thread Cert.InGateDxIdeal.nD Cert.InGateDxIdeal.τ).loc Cert.InGateDxIdeal.main_arg0) = m ((c.tc : Thread Cert.InGateDxIdeal.nD Cert.InGateDxIdeal.τ).loc Cert.InGateDxIdeal.main_arg0)
      ∧ r.2.mem ((c.tc : Thread Cert.InGateDxIdeal.nD Cert.InGateDxIdeal.τ).loc Cert.InGateDxIdeal.main_arg1) = m ((c.tc : Thread Cert.InGateDxIdeal.nD Cert.InGateDxIdeal.τ).loc Cert.InGateDxIdeal.main_arg1)
      ∧ r.2.mem ((c.tc : Thread Cert.InGateDxIdeal.nD Cert.InGateDxIdeal.τ).loc Cert.InGateDxIdeal.main_arg2) = m ((c.tc : Thread Cert.InGateDxIdeal.nD Cert.InGateDxIdeal.τ).loc Cert.InGateDxIdeal.main_arg2)
      ∧ r.2.mem ((c.tc : Thread Cert.InGateDxIdeal.nD Cert.InGateDxIdeal.τ).loc Cert.InGateDxIdeal.main_arg3) = m ((c.tc : Thread Cert.InGateDxIdeal.nD Cert.InGateDxIdeal.τ).loc Cert.InGateDxIdeal.main_arg3))
      ∧ r.2.sem = fun _ => 0)

def quiescent_InGateDxRefIdeal [hInGateDxRefIdeal : Cert.InGateDxRefIdeal.Facts] : Prop :=
  ∀ (m : (ℓ : Loc Cert.InGateDxRefIdeal.nD Cert.InGateDxRefIdeal.τ Cert.InGateDxRefIdeal.sig) → Buf (Elt Ideal) ℓ) (g : Dev Cert.InGateDxRefIdeal.nD → PrngReg), Pre_InGateDxRefIdeal m →
    θ_run (Cert.InGateDxRefIdeal.defs (F := Ideal)) (onTc (τ := Cert.InGateDxRefIdeal.τ) (Cert.InGateDxRefIdeal.main (F := Ideal))) ⟨m, fun _ => 0, g⟩ (fun r => (∀ c : Dev Cert.InGateDxRefIdeal.nD,
      r.2.mem ((c.tc : Thread Cert.InGateDxRefIdeal.nD Cert.InGateDxRefIdeal.τ).loc Cert.InGateDxRefIdeal.main_arg0) = m ((c.tc : Thread Cert.InGateDxRefIdeal.nD Cert.InGateDxRefIdeal.τ).loc Cert.InGateDxRefIdeal.main_arg0)
      ∧ r.2.mem ((c.tc : Thread Cert.InGateDxRefIdeal.nD Cert.InGateDxRefIdeal.τ).loc Cert.InGateDxRefIdeal.main_arg1) = m ((c.tc : Thread Cert.InGateDxRefIdeal.nD Cert.InGateDxRefIdeal.τ).loc Cert.InGateDxRefIdeal.main_arg1)
      ∧ r.2.mem ((c.tc : Thread Cert.InGateDxRefIdeal.nD Cert.InGateDxRefIdeal.τ).loc Cert.InGateDxRefIdeal.main_arg2) = m ((c.tc : Thread Cert.InGateDxRefIdeal.nD Cert.InGateDxRefIdeal.τ).loc Cert.InGateDxRefIdeal.main_arg2)
      ∧ r.2.mem ((c.tc : Thread Cert.InGateDxRefIdeal.nD Cert.InGateDxRefIdeal.τ).loc Cert.InGateDxRefIdeal.main_arg3) = m ((c.tc : Thread Cert.InGateDxRefIdeal.nD Cert.InGateDxRefIdeal.τ).loc Cert.InGateDxRefIdeal.main_arg3))
      ∧ r.2.sem = fun _ => 0)

def quiescent_InGateDw [hInGateDw : Cert.InGateDw.Facts] : Prop :=
  ∀ (m : (ℓ : Loc Cert.InGateDw.nD Cert.InGateDw.τ Cert.InGateDw.sig) → Buf (Elt Bits) ℓ) (g : Dev Cert.InGateDw.nD → PrngReg), Pre_InGateDw m →
    θ_run (Cert.InGateDw.defs (F := Bits)) (onTc (τ := Cert.InGateDw.τ) (Cert.InGateDw.main (F := Bits))) ⟨m, fun _ => 0, g⟩ (fun r => (∀ c : Dev Cert.InGateDw.nD,
      r.2.mem ((c.tc : Thread Cert.InGateDw.nD Cert.InGateDw.τ).loc Cert.InGateDw.main_arg0) = m ((c.tc : Thread Cert.InGateDw.nD Cert.InGateDw.τ).loc Cert.InGateDw.main_arg0)
      ∧ r.2.mem ((c.tc : Thread Cert.InGateDw.nD Cert.InGateDw.τ).loc Cert.InGateDw.main_arg1) = m ((c.tc : Thread Cert.InGateDw.nD Cert.InGateDw.τ).loc Cert.InGateDw.main_arg1)
      ∧ r.2.mem ((c.tc : Thread Cert.InGateDw.nD Cert.InGateDw.τ).loc Cert.InGateDw.main_arg2) = m ((c.tc : Thread Cert.InGateDw.nD Cert.InGateDw.τ).loc Cert.InGateDw.main_arg2))
      ∧ r.2.sem = fun _ => 0)

def quiescent_InGateDwIdeal [hInGateDwIdeal : Cert.InGateDwIdeal.Facts] : Prop :=
  ∀ (m : (ℓ : Loc Cert.InGateDwIdeal.nD Cert.InGateDwIdeal.τ Cert.InGateDwIdeal.sig) → Buf (Elt Ideal) ℓ) (g : Dev Cert.InGateDwIdeal.nD → PrngReg), Pre_InGateDwIdeal m →
    θ_run (Cert.InGateDwIdeal.defs (F := Ideal)) (onTc (τ := Cert.InGateDwIdeal.τ) (Cert.InGateDwIdeal.main (F := Ideal))) ⟨m, fun _ => 0, g⟩ (fun r => (∀ c : Dev Cert.InGateDwIdeal.nD,
      r.2.mem ((c.tc : Thread Cert.InGateDwIdeal.nD Cert.InGateDwIdeal.τ).loc Cert.InGateDwIdeal.main_arg0) = m ((c.tc : Thread Cert.InGateDwIdeal.nD Cert.InGateDwIdeal.τ).loc Cert.InGateDwIdeal.main_arg0)
      ∧ r.2.mem ((c.tc : Thread Cert.InGateDwIdeal.nD Cert.InGateDwIdeal.τ).loc Cert.InGateDwIdeal.main_arg1) = m ((c.tc : Thread Cert.InGateDwIdeal.nD Cert.InGateDwIdeal.τ).loc Cert.InGateDwIdeal.main_arg1)
      ∧ r.2.mem ((c.tc : Thread Cert.InGateDwIdeal.nD Cert.InGateDwIdeal.τ).loc Cert.InGateDwIdeal.main_arg2) = m ((c.tc : Thread Cert.InGateDwIdeal.nD Cert.InGateDwIdeal.τ).loc Cert.InGateDwIdeal.main_arg2))
      ∧ r.2.sem = fun _ => 0)

def quiescent_InGateDwRefIdeal [hInGateDwRefIdeal : Cert.InGateDwRefIdeal.Facts] : Prop :=
  ∀ (m : (ℓ : Loc Cert.InGateDwRefIdeal.nD Cert.InGateDwRefIdeal.τ Cert.InGateDwRefIdeal.sig) → Buf (Elt Ideal) ℓ) (g : Dev Cert.InGateDwRefIdeal.nD → PrngReg), Pre_InGateDwRefIdeal m →
    θ_run (Cert.InGateDwRefIdeal.defs (F := Ideal)) (onTc (τ := Cert.InGateDwRefIdeal.τ) (Cert.InGateDwRefIdeal.main (F := Ideal))) ⟨m, fun _ => 0, g⟩ (fun r => (∀ c : Dev Cert.InGateDwRefIdeal.nD,
      r.2.mem ((c.tc : Thread Cert.InGateDwRefIdeal.nD Cert.InGateDwRefIdeal.τ).loc Cert.InGateDwRefIdeal.main_arg0) = m ((c.tc : Thread Cert.InGateDwRefIdeal.nD Cert.InGateDwRefIdeal.τ).loc Cert.InGateDwRefIdeal.main_arg0)
      ∧ r.2.mem ((c.tc : Thread Cert.InGateDwRefIdeal.nD Cert.InGateDwRefIdeal.τ).loc Cert.InGateDwRefIdeal.main_arg1) = m ((c.tc : Thread Cert.InGateDwRefIdeal.nD Cert.InGateDwRefIdeal.τ).loc Cert.InGateDwRefIdeal.main_arg1)
      ∧ r.2.mem ((c.tc : Thread Cert.InGateDwRefIdeal.nD Cert.InGateDwRefIdeal.τ).loc Cert.InGateDwRefIdeal.main_arg2) = m ((c.tc : Thread Cert.InGateDwRefIdeal.nD Cert.InGateDwRefIdeal.τ).loc Cert.InGateDwRefIdeal.main_arg2))
      ∧ r.2.sem = fun _ => 0)

def quiescent_InKrDx [hInKrDx : Cert.InKrDx.Facts] : Prop :=
  ∀ (m : (ℓ : Loc Cert.InKrDx.nD Cert.InKrDx.τ Cert.InKrDx.sig) → Buf (Elt Bits) ℓ) (g : Dev Cert.InKrDx.nD → PrngReg), Pre_InKrDx m →
    θ_run (Cert.InKrDx.defs (F := Bits)) (onTc (τ := Cert.InKrDx.τ) (Cert.InKrDx.main (F := Bits))) ⟨m, fun _ => 0, g⟩ (fun r => (∀ c : Dev Cert.InKrDx.nD,
      r.2.mem ((c.tc : Thread Cert.InKrDx.nD Cert.InKrDx.τ).loc Cert.InKrDx.main_arg0) = m ((c.tc : Thread Cert.InKrDx.nD Cert.InKrDx.τ).loc Cert.InKrDx.main_arg0)
      ∧ r.2.mem ((c.tc : Thread Cert.InKrDx.nD Cert.InKrDx.τ).loc Cert.InKrDx.main_arg1) = m ((c.tc : Thread Cert.InKrDx.nD Cert.InKrDx.τ).loc Cert.InKrDx.main_arg1)
      ∧ r.2.mem ((c.tc : Thread Cert.InKrDx.nD Cert.InKrDx.τ).loc Cert.InKrDx.main_arg2) = m ((c.tc : Thread Cert.InKrDx.nD Cert.InKrDx.τ).loc Cert.InKrDx.main_arg2)
      ∧ r.2.mem ((c.tc : Thread Cert.InKrDx.nD Cert.InKrDx.τ).loc Cert.InKrDx.main_arg3) = m ((c.tc : Thread Cert.InKrDx.nD Cert.InKrDx.τ).loc Cert.InKrDx.main_arg3))
      ∧ r.2.sem = fun _ => 0)

def quiescent_InKrDxIdeal [hInKrDxIdeal : Cert.InKrDxIdeal.Facts] : Prop :=
  ∀ (m : (ℓ : Loc Cert.InKrDxIdeal.nD Cert.InKrDxIdeal.τ Cert.InKrDxIdeal.sig) → Buf (Elt Ideal) ℓ) (g : Dev Cert.InKrDxIdeal.nD → PrngReg), Pre_InKrDxIdeal m →
    θ_run (Cert.InKrDxIdeal.defs (F := Ideal)) (onTc (τ := Cert.InKrDxIdeal.τ) (Cert.InKrDxIdeal.main (F := Ideal))) ⟨m, fun _ => 0, g⟩ (fun r => (∀ c : Dev Cert.InKrDxIdeal.nD,
      r.2.mem ((c.tc : Thread Cert.InKrDxIdeal.nD Cert.InKrDxIdeal.τ).loc Cert.InKrDxIdeal.main_arg0) = m ((c.tc : Thread Cert.InKrDxIdeal.nD Cert.InKrDxIdeal.τ).loc Cert.InKrDxIdeal.main_arg0)
      ∧ r.2.mem ((c.tc : Thread Cert.InKrDxIdeal.nD Cert.InKrDxIdeal.τ).loc Cert.InKrDxIdeal.main_arg1) = m ((c.tc : Thread Cert.InKrDxIdeal.nD Cert.InKrDxIdeal.τ).loc Cert.InKrDxIdeal.main_arg1)
      ∧ r.2.mem ((c.tc : Thread Cert.InKrDxIdeal.nD Cert.InKrDxIdeal.τ).loc Cert.InKrDxIdeal.main_arg2) = m ((c.tc : Thread Cert.InKrDxIdeal.nD Cert.InKrDxIdeal.τ).loc Cert.InKrDxIdeal.main_arg2)
      ∧ r.2.mem ((c.tc : Thread Cert.InKrDxIdeal.nD Cert.InKrDxIdeal.τ).loc Cert.InKrDxIdeal.main_arg3) = m ((c.tc : Thread Cert.InKrDxIdeal.nD Cert.InKrDxIdeal.τ).loc Cert.InKrDxIdeal.main_arg3))
      ∧ r.2.sem = fun _ => 0)

def quiescent_InKrDxRefIdeal [hInKrDxRefIdeal : Cert.InKrDxRefIdeal.Facts] : Prop :=
  ∀ (m : (ℓ : Loc Cert.InKrDxRefIdeal.nD Cert.InKrDxRefIdeal.τ Cert.InKrDxRefIdeal.sig) → Buf (Elt Ideal) ℓ) (g : Dev Cert.InKrDxRefIdeal.nD → PrngReg), Pre_InKrDxRefIdeal m →
    θ_run (Cert.InKrDxRefIdeal.defs (F := Ideal)) (onTc (τ := Cert.InKrDxRefIdeal.τ) (Cert.InKrDxRefIdeal.main (F := Ideal))) ⟨m, fun _ => 0, g⟩ (fun r => (∀ c : Dev Cert.InKrDxRefIdeal.nD,
      r.2.mem ((c.tc : Thread Cert.InKrDxRefIdeal.nD Cert.InKrDxRefIdeal.τ).loc Cert.InKrDxRefIdeal.main_arg0) = m ((c.tc : Thread Cert.InKrDxRefIdeal.nD Cert.InKrDxRefIdeal.τ).loc Cert.InKrDxRefIdeal.main_arg0)
      ∧ r.2.mem ((c.tc : Thread Cert.InKrDxRefIdeal.nD Cert.InKrDxRefIdeal.τ).loc Cert.InKrDxRefIdeal.main_arg1) = m ((c.tc : Thread Cert.InKrDxRefIdeal.nD Cert.InKrDxRefIdeal.τ).loc Cert.InKrDxRefIdeal.main_arg1)
      ∧ r.2.mem ((c.tc : Thread Cert.InKrDxRefIdeal.nD Cert.InKrDxRefIdeal.τ).loc Cert.InKrDxRefIdeal.main_arg2) = m ((c.tc : Thread Cert.InKrDxRefIdeal.nD Cert.InKrDxRefIdeal.τ).loc Cert.InKrDxRefIdeal.main_arg2)
      ∧ r.2.mem ((c.tc : Thread Cert.InKrDxRefIdeal.nD Cert.InKrDxRefIdeal.τ).loc Cert.InKrDxRefIdeal.main_arg3) = m ((c.tc : Thread Cert.InKrDxRefIdeal.nD Cert.InKrDxRefIdeal.τ).loc Cert.InKrDxRefIdeal.main_arg3))
      ∧ r.2.sem = fun _ => 0)

def quiescent_InKrDw [hInKrDw : Cert.InKrDw.Facts] : Prop :=
  ∀ (m : (ℓ : Loc Cert.InKrDw.nD Cert.InKrDw.τ Cert.InKrDw.sig) → Buf (Elt Bits) ℓ) (g : Dev Cert.InKrDw.nD → PrngReg), Pre_InKrDw m →
    θ_run (Cert.InKrDw.defs (F := Bits)) (onTc (τ := Cert.InKrDw.τ) (Cert.InKrDw.main (F := Bits))) ⟨m, fun _ => 0, g⟩ (fun r => (∀ c : Dev Cert.InKrDw.nD,
      r.2.mem ((c.tc : Thread Cert.InKrDw.nD Cert.InKrDw.τ).loc Cert.InKrDw.main_arg0) = m ((c.tc : Thread Cert.InKrDw.nD Cert.InKrDw.τ).loc Cert.InKrDw.main_arg0)
      ∧ r.2.mem ((c.tc : Thread Cert.InKrDw.nD Cert.InKrDw.τ).loc Cert.InKrDw.main_arg1) = m ((c.tc : Thread Cert.InKrDw.nD Cert.InKrDw.τ).loc Cert.InKrDw.main_arg1)
      ∧ r.2.mem ((c.tc : Thread Cert.InKrDw.nD Cert.InKrDw.τ).loc Cert.InKrDw.main_arg2) = m ((c.tc : Thread Cert.InKrDw.nD Cert.InKrDw.τ).loc Cert.InKrDw.main_arg2))
      ∧ r.2.sem = fun _ => 0)

def quiescent_InKrDwIdeal [hInKrDwIdeal : Cert.InKrDwIdeal.Facts] : Prop :=
  ∀ (m : (ℓ : Loc Cert.InKrDwIdeal.nD Cert.InKrDwIdeal.τ Cert.InKrDwIdeal.sig) → Buf (Elt Ideal) ℓ) (g : Dev Cert.InKrDwIdeal.nD → PrngReg), Pre_InKrDwIdeal m →
    θ_run (Cert.InKrDwIdeal.defs (F := Ideal)) (onTc (τ := Cert.InKrDwIdeal.τ) (Cert.InKrDwIdeal.main (F := Ideal))) ⟨m, fun _ => 0, g⟩ (fun r => (∀ c : Dev Cert.InKrDwIdeal.nD,
      r.2.mem ((c.tc : Thread Cert.InKrDwIdeal.nD Cert.InKrDwIdeal.τ).loc Cert.InKrDwIdeal.main_arg0) = m ((c.tc : Thread Cert.InKrDwIdeal.nD Cert.InKrDwIdeal.τ).loc Cert.InKrDwIdeal.main_arg0)
      ∧ r.2.mem ((c.tc : Thread Cert.InKrDwIdeal.nD Cert.InKrDwIdeal.τ).loc Cert.InKrDwIdeal.main_arg1) = m ((c.tc : Thread Cert.InKrDwIdeal.nD Cert.InKrDwIdeal.τ).loc Cert.InKrDwIdeal.main_arg1)
      ∧ r.2.mem ((c.tc : Thread Cert.InKrDwIdeal.nD Cert.InKrDwIdeal.τ).loc Cert.InKrDwIdeal.main_arg2) = m ((c.tc : Thread Cert.InKrDwIdeal.nD Cert.InKrDwIdeal.τ).loc Cert.InKrDwIdeal.main_arg2))
      ∧ r.2.sem = fun _ => 0)

def quiescent_InKrDwRefIdeal [hInKrDwRefIdeal : Cert.InKrDwRefIdeal.Facts] : Prop :=
  ∀ (m : (ℓ : Loc Cert.InKrDwRefIdeal.nD Cert.InKrDwRefIdeal.τ Cert.InKrDwRefIdeal.sig) → Buf (Elt Ideal) ℓ) (g : Dev Cert.InKrDwRefIdeal.nD → PrngReg), Pre_InKrDwRefIdeal m →
    θ_run (Cert.InKrDwRefIdeal.defs (F := Ideal)) (onTc (τ := Cert.InKrDwRefIdeal.τ) (Cert.InKrDwRefIdeal.main (F := Ideal))) ⟨m, fun _ => 0, g⟩ (fun r => (∀ c : Dev Cert.InKrDwRefIdeal.nD,
      r.2.mem ((c.tc : Thread Cert.InKrDwRefIdeal.nD Cert.InKrDwRefIdeal.τ).loc Cert.InKrDwRefIdeal.main_arg0) = m ((c.tc : Thread Cert.InKrDwRefIdeal.nD Cert.InKrDwRefIdeal.τ).loc Cert.InKrDwRefIdeal.main_arg0)
      ∧ r.2.mem ((c.tc : Thread Cert.InKrDwRefIdeal.nD Cert.InKrDwRefIdeal.τ).loc Cert.InKrDwRefIdeal.main_arg1) = m ((c.tc : Thread Cert.InKrDwRefIdeal.nD Cert.InKrDwRefIdeal.τ).loc Cert.InKrDwRefIdeal.main_arg1)
      ∧ r.2.mem ((c.tc : Thread Cert.InKrDwRefIdeal.nD Cert.InKrDwRefIdeal.τ).loc Cert.InKrDwRefIdeal.main_arg2) = m ((c.tc : Thread Cert.InKrDwRefIdeal.nD Cert.InKrDwRefIdeal.τ).loc Cert.InKrDwRefIdeal.main_arg2))
      ∧ r.2.sem = fun _ => 0)

def quiescent_UqDx [hUqDx : Cert.UqDx.Facts] : Prop :=
  ∀ (m : (ℓ : Loc Cert.UqDx.nD Cert.UqDx.τ Cert.UqDx.sig) → Buf (Elt Bits) ℓ) (g : Dev Cert.UqDx.nD → PrngReg), Pre_UqDx m →
    θ_run (Cert.UqDx.defs (F := Bits)) (onTc (τ := Cert.UqDx.τ) (Cert.UqDx.main (F := Bits))) ⟨m, fun _ => 0, g⟩ (fun r => (∀ c : Dev Cert.UqDx.nD,
      r.2.mem ((c.tc : Thread Cert.UqDx.nD Cert.UqDx.τ).loc Cert.UqDx.main_arg0) = m ((c.tc : Thread Cert.UqDx.nD Cert.UqDx.τ).loc Cert.UqDx.main_arg0)
      ∧ r.2.mem ((c.tc : Thread Cert.UqDx.nD Cert.UqDx.τ).loc Cert.UqDx.main_arg1) = m ((c.tc : Thread Cert.UqDx.nD Cert.UqDx.τ).loc Cert.UqDx.main_arg1)
      ∧ r.2.mem ((c.tc : Thread Cert.UqDx.nD Cert.UqDx.τ).loc Cert.UqDx.main_arg2) = m ((c.tc : Thread Cert.UqDx.nD Cert.UqDx.τ).loc Cert.UqDx.main_arg2))
      ∧ r.2.sem = fun _ => 0)

def quiescent_UqDxIdeal [hUqDxIdeal : Cert.UqDxIdeal.Facts] : Prop :=
  ∀ (m : (ℓ : Loc Cert.UqDxIdeal.nD Cert.UqDxIdeal.τ Cert.UqDxIdeal.sig) → Buf (Elt Ideal) ℓ) (g : Dev Cert.UqDxIdeal.nD → PrngReg), Pre_UqDxIdeal m →
    θ_run (Cert.UqDxIdeal.defs (F := Ideal)) (onTc (τ := Cert.UqDxIdeal.τ) (Cert.UqDxIdeal.main (F := Ideal))) ⟨m, fun _ => 0, g⟩ (fun r => (∀ c : Dev Cert.UqDxIdeal.nD,
      r.2.mem ((c.tc : Thread Cert.UqDxIdeal.nD Cert.UqDxIdeal.τ).loc Cert.UqDxIdeal.main_arg0) = m ((c.tc : Thread Cert.UqDxIdeal.nD Cert.UqDxIdeal.τ).loc Cert.UqDxIdeal.main_arg0)
      ∧ r.2.mem ((c.tc : Thread Cert.UqDxIdeal.nD Cert.UqDxIdeal.τ).loc Cert.UqDxIdeal.main_arg1) = m ((c.tc : Thread Cert.UqDxIdeal.nD Cert.UqDxIdeal.τ).loc Cert.UqDxIdeal.main_arg1)
      ∧ r.2.mem ((c.tc : Thread Cert.UqDxIdeal.nD Cert.UqDxIdeal.τ).loc Cert.UqDxIdeal.main_arg2) = m ((c.tc : Thread Cert.UqDxIdeal.nD Cert.UqDxIdeal.τ).loc Cert.UqDxIdeal.main_arg2))
      ∧ r.2.sem = fun _ => 0)

def quiescent_UqDxRefIdeal [hUqDxRefIdeal : Cert.UqDxRefIdeal.Facts] : Prop :=
  ∀ (m : (ℓ : Loc Cert.UqDxRefIdeal.nD Cert.UqDxRefIdeal.τ Cert.UqDxRefIdeal.sig) → Buf (Elt Ideal) ℓ) (g : Dev Cert.UqDxRefIdeal.nD → PrngReg), Pre_UqDxRefIdeal m →
    θ_run (Cert.UqDxRefIdeal.defs (F := Ideal)) (onTc (τ := Cert.UqDxRefIdeal.τ) (Cert.UqDxRefIdeal.main (F := Ideal))) ⟨m, fun _ => 0, g⟩ (fun r => (∀ c : Dev Cert.UqDxRefIdeal.nD,
      r.2.mem ((c.tc : Thread Cert.UqDxRefIdeal.nD Cert.UqDxRefIdeal.τ).loc Cert.UqDxRefIdeal.main_arg0) = m ((c.tc : Thread Cert.UqDxRefIdeal.nD Cert.UqDxRefIdeal.τ).loc Cert.UqDxRefIdeal.main_arg0)
      ∧ r.2.mem ((c.tc : Thread Cert.UqDxRefIdeal.nD Cert.UqDxRefIdeal.τ).loc Cert.UqDxRefIdeal.main_arg1) = m ((c.tc : Thread Cert.UqDxRefIdeal.nD Cert.UqDxRefIdeal.τ).loc Cert.UqDxRefIdeal.main_arg1)
      ∧ r.2.mem ((c.tc : Thread Cert.UqDxRefIdeal.nD Cert.UqDxRefIdeal.τ).loc Cert.UqDxRefIdeal.main_arg2) = m ((c.tc : Thread Cert.UqDxRefIdeal.nD Cert.UqDxRefIdeal.τ).loc Cert.UqDxRefIdeal.main_arg2))
      ∧ r.2.sem = fun _ => 0)

def quiescent_UqDw [hUqDw : Cert.UqDw.Facts] : Prop :=
  ∀ (m : (ℓ : Loc Cert.UqDw.nD Cert.UqDw.τ Cert.UqDw.sig) → Buf (Elt Bits) ℓ) (g : Dev Cert.UqDw.nD → PrngReg), Pre_UqDw m →
    θ_run (Cert.UqDw.defs (F := Bits)) (onTc (τ := Cert.UqDw.τ) (Cert.UqDw.main (F := Bits))) ⟨m, fun _ => 0, g⟩ (fun r => (∀ c : Dev Cert.UqDw.nD,
      r.2.mem ((c.tc : Thread Cert.UqDw.nD Cert.UqDw.τ).loc Cert.UqDw.main_arg0) = m ((c.tc : Thread Cert.UqDw.nD Cert.UqDw.τ).loc Cert.UqDw.main_arg0)
      ∧ r.2.mem ((c.tc : Thread Cert.UqDw.nD Cert.UqDw.τ).loc Cert.UqDw.main_arg1) = m ((c.tc : Thread Cert.UqDw.nD Cert.UqDw.τ).loc Cert.UqDw.main_arg1)
      ∧ r.2.mem ((c.tc : Thread Cert.UqDw.nD Cert.UqDw.τ).loc Cert.UqDw.main_arg2) = m ((c.tc : Thread Cert.UqDw.nD Cert.UqDw.τ).loc Cert.UqDw.main_arg2))
      ∧ r.2.sem = fun _ => 0)

def quiescent_UqDwIdeal [hUqDwIdeal : Cert.UqDwIdeal.Facts] : Prop :=
  ∀ (m : (ℓ : Loc Cert.UqDwIdeal.nD Cert.UqDwIdeal.τ Cert.UqDwIdeal.sig) → Buf (Elt Ideal) ℓ) (g : Dev Cert.UqDwIdeal.nD → PrngReg), Pre_UqDwIdeal m →
    θ_run (Cert.UqDwIdeal.defs (F := Ideal)) (onTc (τ := Cert.UqDwIdeal.τ) (Cert.UqDwIdeal.main (F := Ideal))) ⟨m, fun _ => 0, g⟩ (fun r => (∀ c : Dev Cert.UqDwIdeal.nD,
      r.2.mem ((c.tc : Thread Cert.UqDwIdeal.nD Cert.UqDwIdeal.τ).loc Cert.UqDwIdeal.main_arg0) = m ((c.tc : Thread Cert.UqDwIdeal.nD Cert.UqDwIdeal.τ).loc Cert.UqDwIdeal.main_arg0)
      ∧ r.2.mem ((c.tc : Thread Cert.UqDwIdeal.nD Cert.UqDwIdeal.τ).loc Cert.UqDwIdeal.main_arg1) = m ((c.tc : Thread Cert.UqDwIdeal.nD Cert.UqDwIdeal.τ).loc Cert.UqDwIdeal.main_arg1)
      ∧ r.2.mem ((c.tc : Thread Cert.UqDwIdeal.nD Cert.UqDwIdeal.τ).loc Cert.UqDwIdeal.main_arg2) = m ((c.tc : Thread Cert.UqDwIdeal.nD Cert.UqDwIdeal.τ).loc Cert.UqDwIdeal.main_arg2))
      ∧ r.2.sem = fun _ => 0)

def quiescent_UqDwRefIdeal [hUqDwRefIdeal : Cert.UqDwRefIdeal.Facts] : Prop :=
  ∀ (m : (ℓ : Loc Cert.UqDwRefIdeal.nD Cert.UqDwRefIdeal.τ Cert.UqDwRefIdeal.sig) → Buf (Elt Ideal) ℓ) (g : Dev Cert.UqDwRefIdeal.nD → PrngReg), Pre_UqDwRefIdeal m →
    θ_run (Cert.UqDwRefIdeal.defs (F := Ideal)) (onTc (τ := Cert.UqDwRefIdeal.τ) (Cert.UqDwRefIdeal.main (F := Ideal))) ⟨m, fun _ => 0, g⟩ (fun r => (∀ c : Dev Cert.UqDwRefIdeal.nD,
      r.2.mem ((c.tc : Thread Cert.UqDwRefIdeal.nD Cert.UqDwRefIdeal.τ).loc Cert.UqDwRefIdeal.main_arg0) = m ((c.tc : Thread Cert.UqDwRefIdeal.nD Cert.UqDwRefIdeal.τ).loc Cert.UqDwRefIdeal.main_arg0)
      ∧ r.2.mem ((c.tc : Thread Cert.UqDwRefIdeal.nD Cert.UqDwRefIdeal.τ).loc Cert.UqDwRefIdeal.main_arg1) = m ((c.tc : Thread Cert.UqDwRefIdeal.nD Cert.UqDwRefIdeal.τ).loc Cert.UqDwRefIdeal.main_arg1)
      ∧ r.2.mem ((c.tc : Thread Cert.UqDwRefIdeal.nD Cert.UqDwRefIdeal.τ).loc Cert.UqDwRefIdeal.main_arg2) = m ((c.tc : Thread Cert.UqDwRefIdeal.nD Cert.UqDwRefIdeal.τ).loc Cert.UqDwRefIdeal.main_arg2))
      ∧ r.2.sem = fun _ => 0)

def quiescent_BranchAttnDx [hBranchAttnDx : Cert.BranchAttnDx.Facts] : Prop :=
  ∀ (m : (ℓ : Loc Cert.BranchAttnDx.nD Cert.BranchAttnDx.τ Cert.BranchAttnDx.sig) → Buf (Elt Bits) ℓ) (g : Dev Cert.BranchAttnDx.nD → PrngReg), Pre_BranchAttnDx m →
    θ_run (Cert.BranchAttnDx.defs (F := Bits)) (onTc (τ := Cert.BranchAttnDx.τ) (Cert.BranchAttnDx.main (F := Bits))) ⟨m, fun _ => 0, g⟩ (fun r => (∀ c : Dev Cert.BranchAttnDx.nD,
      r.2.mem ((c.tc : Thread Cert.BranchAttnDx.nD Cert.BranchAttnDx.τ).loc Cert.BranchAttnDx.main_arg0) = m ((c.tc : Thread Cert.BranchAttnDx.nD Cert.BranchAttnDx.τ).loc Cert.BranchAttnDx.main_arg0)
      ∧ r.2.mem ((c.tc : Thread Cert.BranchAttnDx.nD Cert.BranchAttnDx.τ).loc Cert.BranchAttnDx.main_arg1) = m ((c.tc : Thread Cert.BranchAttnDx.nD Cert.BranchAttnDx.τ).loc Cert.BranchAttnDx.main_arg1)
      ∧ r.2.mem ((c.tc : Thread Cert.BranchAttnDx.nD Cert.BranchAttnDx.τ).loc Cert.BranchAttnDx.main_arg2) = m ((c.tc : Thread Cert.BranchAttnDx.nD Cert.BranchAttnDx.τ).loc Cert.BranchAttnDx.main_arg2))
      ∧ r.2.sem = fun _ => 0)

def quiescent_BranchAttnDxIdeal [hBranchAttnDxIdeal : Cert.BranchAttnDxIdeal.Facts] : Prop :=
  ∀ (m : (ℓ : Loc Cert.BranchAttnDxIdeal.nD Cert.BranchAttnDxIdeal.τ Cert.BranchAttnDxIdeal.sig) → Buf (Elt Ideal) ℓ) (g : Dev Cert.BranchAttnDxIdeal.nD → PrngReg), Pre_BranchAttnDxIdeal m →
    θ_run (Cert.BranchAttnDxIdeal.defs (F := Ideal)) (onTc (τ := Cert.BranchAttnDxIdeal.τ) (Cert.BranchAttnDxIdeal.main (F := Ideal))) ⟨m, fun _ => 0, g⟩ (fun r => (∀ c : Dev Cert.BranchAttnDxIdeal.nD,
      r.2.mem ((c.tc : Thread Cert.BranchAttnDxIdeal.nD Cert.BranchAttnDxIdeal.τ).loc Cert.BranchAttnDxIdeal.main_arg0) = m ((c.tc : Thread Cert.BranchAttnDxIdeal.nD Cert.BranchAttnDxIdeal.τ).loc Cert.BranchAttnDxIdeal.main_arg0)
      ∧ r.2.mem ((c.tc : Thread Cert.BranchAttnDxIdeal.nD Cert.BranchAttnDxIdeal.τ).loc Cert.BranchAttnDxIdeal.main_arg1) = m ((c.tc : Thread Cert.BranchAttnDxIdeal.nD Cert.BranchAttnDxIdeal.τ).loc Cert.BranchAttnDxIdeal.main_arg1)
      ∧ r.2.mem ((c.tc : Thread Cert.BranchAttnDxIdeal.nD Cert.BranchAttnDxIdeal.τ).loc Cert.BranchAttnDxIdeal.main_arg2) = m ((c.tc : Thread Cert.BranchAttnDxIdeal.nD Cert.BranchAttnDxIdeal.τ).loc Cert.BranchAttnDxIdeal.main_arg2))
      ∧ r.2.sem = fun _ => 0)

def quiescent_BranchAttnDxRefIdeal [hBranchAttnDxRefIdeal : Cert.BranchAttnDxRefIdeal.Facts] : Prop :=
  ∀ (m : (ℓ : Loc Cert.BranchAttnDxRefIdeal.nD Cert.BranchAttnDxRefIdeal.τ Cert.BranchAttnDxRefIdeal.sig) → Buf (Elt Ideal) ℓ) (g : Dev Cert.BranchAttnDxRefIdeal.nD → PrngReg), Pre_BranchAttnDxRefIdeal m →
    θ_run (Cert.BranchAttnDxRefIdeal.defs (F := Ideal)) (onTc (τ := Cert.BranchAttnDxRefIdeal.τ) (Cert.BranchAttnDxRefIdeal.main (F := Ideal))) ⟨m, fun _ => 0, g⟩ (fun r => (∀ c : Dev Cert.BranchAttnDxRefIdeal.nD,
      r.2.mem ((c.tc : Thread Cert.BranchAttnDxRefIdeal.nD Cert.BranchAttnDxRefIdeal.τ).loc Cert.BranchAttnDxRefIdeal.main_arg0) = m ((c.tc : Thread Cert.BranchAttnDxRefIdeal.nD Cert.BranchAttnDxRefIdeal.τ).loc Cert.BranchAttnDxRefIdeal.main_arg0)
      ∧ r.2.mem ((c.tc : Thread Cert.BranchAttnDxRefIdeal.nD Cert.BranchAttnDxRefIdeal.τ).loc Cert.BranchAttnDxRefIdeal.main_arg1) = m ((c.tc : Thread Cert.BranchAttnDxRefIdeal.nD Cert.BranchAttnDxRefIdeal.τ).loc Cert.BranchAttnDxRefIdeal.main_arg1)
      ∧ r.2.mem ((c.tc : Thread Cert.BranchAttnDxRefIdeal.nD Cert.BranchAttnDxRefIdeal.τ).loc Cert.BranchAttnDxRefIdeal.main_arg2) = m ((c.tc : Thread Cert.BranchAttnDxRefIdeal.nD Cert.BranchAttnDxRefIdeal.τ).loc Cert.BranchAttnDxRefIdeal.main_arg2))
      ∧ r.2.sem = fun _ => 0)

def quiescent_BranchAttnDw [hBranchAttnDw : Cert.BranchAttnDw.Facts] : Prop :=
  ∀ (m : (ℓ : Loc Cert.BranchAttnDw.nD Cert.BranchAttnDw.τ Cert.BranchAttnDw.sig) → Buf (Elt Bits) ℓ) (g : Dev Cert.BranchAttnDw.nD → PrngReg), Pre_BranchAttnDw m →
    θ_run (Cert.BranchAttnDw.defs (F := Bits)) (onTc (τ := Cert.BranchAttnDw.τ) (Cert.BranchAttnDw.main (F := Bits))) ⟨m, fun _ => 0, g⟩ (fun r => (∀ c : Dev Cert.BranchAttnDw.nD,
      r.2.mem ((c.tc : Thread Cert.BranchAttnDw.nD Cert.BranchAttnDw.τ).loc Cert.BranchAttnDw.main_arg0) = m ((c.tc : Thread Cert.BranchAttnDw.nD Cert.BranchAttnDw.τ).loc Cert.BranchAttnDw.main_arg0)
      ∧ r.2.mem ((c.tc : Thread Cert.BranchAttnDw.nD Cert.BranchAttnDw.τ).loc Cert.BranchAttnDw.main_arg1) = m ((c.tc : Thread Cert.BranchAttnDw.nD Cert.BranchAttnDw.τ).loc Cert.BranchAttnDw.main_arg1)
      ∧ r.2.mem ((c.tc : Thread Cert.BranchAttnDw.nD Cert.BranchAttnDw.τ).loc Cert.BranchAttnDw.main_arg2) = m ((c.tc : Thread Cert.BranchAttnDw.nD Cert.BranchAttnDw.τ).loc Cert.BranchAttnDw.main_arg2))
      ∧ r.2.sem = fun _ => 0)

def quiescent_BranchAttnDwIdeal [hBranchAttnDwIdeal : Cert.BranchAttnDwIdeal.Facts] : Prop :=
  ∀ (m : (ℓ : Loc Cert.BranchAttnDwIdeal.nD Cert.BranchAttnDwIdeal.τ Cert.BranchAttnDwIdeal.sig) → Buf (Elt Ideal) ℓ) (g : Dev Cert.BranchAttnDwIdeal.nD → PrngReg), Pre_BranchAttnDwIdeal m →
    θ_run (Cert.BranchAttnDwIdeal.defs (F := Ideal)) (onTc (τ := Cert.BranchAttnDwIdeal.τ) (Cert.BranchAttnDwIdeal.main (F := Ideal))) ⟨m, fun _ => 0, g⟩ (fun r => (∀ c : Dev Cert.BranchAttnDwIdeal.nD,
      r.2.mem ((c.tc : Thread Cert.BranchAttnDwIdeal.nD Cert.BranchAttnDwIdeal.τ).loc Cert.BranchAttnDwIdeal.main_arg0) = m ((c.tc : Thread Cert.BranchAttnDwIdeal.nD Cert.BranchAttnDwIdeal.τ).loc Cert.BranchAttnDwIdeal.main_arg0)
      ∧ r.2.mem ((c.tc : Thread Cert.BranchAttnDwIdeal.nD Cert.BranchAttnDwIdeal.τ).loc Cert.BranchAttnDwIdeal.main_arg1) = m ((c.tc : Thread Cert.BranchAttnDwIdeal.nD Cert.BranchAttnDwIdeal.τ).loc Cert.BranchAttnDwIdeal.main_arg1)
      ∧ r.2.mem ((c.tc : Thread Cert.BranchAttnDwIdeal.nD Cert.BranchAttnDwIdeal.τ).loc Cert.BranchAttnDwIdeal.main_arg2) = m ((c.tc : Thread Cert.BranchAttnDwIdeal.nD Cert.BranchAttnDwIdeal.τ).loc Cert.BranchAttnDwIdeal.main_arg2))
      ∧ r.2.sem = fun _ => 0)

def quiescent_BranchAttnDwRefIdeal [hBranchAttnDwRefIdeal : Cert.BranchAttnDwRefIdeal.Facts] : Prop :=
  ∀ (m : (ℓ : Loc Cert.BranchAttnDwRefIdeal.nD Cert.BranchAttnDwRefIdeal.τ Cert.BranchAttnDwRefIdeal.sig) → Buf (Elt Ideal) ℓ) (g : Dev Cert.BranchAttnDwRefIdeal.nD → PrngReg), Pre_BranchAttnDwRefIdeal m →
    θ_run (Cert.BranchAttnDwRefIdeal.defs (F := Ideal)) (onTc (τ := Cert.BranchAttnDwRefIdeal.τ) (Cert.BranchAttnDwRefIdeal.main (F := Ideal))) ⟨m, fun _ => 0, g⟩ (fun r => (∀ c : Dev Cert.BranchAttnDwRefIdeal.nD,
      r.2.mem ((c.tc : Thread Cert.BranchAttnDwRefIdeal.nD Cert.BranchAttnDwRefIdeal.τ).loc Cert.BranchAttnDwRefIdeal.main_arg0) = m ((c.tc : Thread Cert.BranchAttnDwRefIdeal.nD Cert.BranchAttnDwRefIdeal.τ).loc Cert.BranchAttnDwRefIdeal.main_arg0)
      ∧ r.2.mem ((c.tc : Thread Cert.BranchAttnDwRefIdeal.nD Cert.BranchAttnDwRefIdeal.τ).loc Cert.BranchAttnDwRefIdeal.main_arg1) = m ((c.tc : Thread Cert.BranchAttnDwRefIdeal.nD Cert.BranchAttnDwRefIdeal.τ).loc Cert.BranchAttnDwRefIdeal.main_arg1)
      ∧ r.2.mem ((c.tc : Thread Cert.BranchAttnDwRefIdeal.nD Cert.BranchAttnDwRefIdeal.τ).loc Cert.BranchAttnDwRefIdeal.main_arg2) = m ((c.tc : Thread Cert.BranchAttnDwRefIdeal.nD Cert.BranchAttnDwRefIdeal.τ).loc Cert.BranchAttnDwRefIdeal.main_arg2))
      ∧ r.2.sem = fun _ => 0)

def quiescent_InQFw [hInQFw : Cert.InQFw.Facts] : Prop :=
  ∀ (m : (ℓ : Loc Cert.InQFw.nD Cert.InQFw.τ Cert.InQFw.sig) → Buf (Elt Bits) ℓ) (g : Dev Cert.InQFw.nD → PrngReg), Pre_InQFw m →
    θ_run (Cert.InQFw.defs (F := Bits)) (onTc (τ := Cert.InQFw.τ) (Cert.InQFw.main (F := Bits))) ⟨m, fun _ => 0, g⟩ (fun r => (∀ c : Dev Cert.InQFw.nD,
      r.2.mem ((c.tc : Thread Cert.InQFw.nD Cert.InQFw.τ).loc Cert.InQFw.main_arg0) = m ((c.tc : Thread Cert.InQFw.nD Cert.InQFw.τ).loc Cert.InQFw.main_arg0)
      ∧ r.2.mem ((c.tc : Thread Cert.InQFw.nD Cert.InQFw.τ).loc Cert.InQFw.main_arg1) = m ((c.tc : Thread Cert.InQFw.nD Cert.InQFw.τ).loc Cert.InQFw.main_arg1))
      ∧ r.2.sem = fun _ => 0)

def quiescent_InQFwIdeal [hInQFwIdeal : Cert.InQFwIdeal.Facts] : Prop :=
  ∀ (m : (ℓ : Loc Cert.InQFwIdeal.nD Cert.InQFwIdeal.τ Cert.InQFwIdeal.sig) → Buf (Elt Ideal) ℓ) (g : Dev Cert.InQFwIdeal.nD → PrngReg), Pre_InQFwIdeal m →
    θ_run (Cert.InQFwIdeal.defs (F := Ideal)) (onTc (τ := Cert.InQFwIdeal.τ) (Cert.InQFwIdeal.main (F := Ideal))) ⟨m, fun _ => 0, g⟩ (fun r => (∀ c : Dev Cert.InQFwIdeal.nD,
      r.2.mem ((c.tc : Thread Cert.InQFwIdeal.nD Cert.InQFwIdeal.τ).loc Cert.InQFwIdeal.main_arg0) = m ((c.tc : Thread Cert.InQFwIdeal.nD Cert.InQFwIdeal.τ).loc Cert.InQFwIdeal.main_arg0)
      ∧ r.2.mem ((c.tc : Thread Cert.InQFwIdeal.nD Cert.InQFwIdeal.τ).loc Cert.InQFwIdeal.main_arg1) = m ((c.tc : Thread Cert.InQFwIdeal.nD Cert.InQFwIdeal.τ).loc Cert.InQFwIdeal.main_arg1))
      ∧ r.2.sem = fun _ => 0)

def quiescent_InQFwRefIdeal [hInQFwRefIdeal : Cert.InQFwRefIdeal.Facts] : Prop :=
  ∀ (m : (ℓ : Loc Cert.InQFwRefIdeal.nD Cert.InQFwRefIdeal.τ Cert.InQFwRefIdeal.sig) → Buf (Elt Ideal) ℓ) (g : Dev Cert.InQFwRefIdeal.nD → PrngReg), Pre_InQFwRefIdeal m →
    θ_run (Cert.InQFwRefIdeal.defs (F := Ideal)) (onTc (τ := Cert.InQFwRefIdeal.τ) (Cert.InQFwRefIdeal.main (F := Ideal))) ⟨m, fun _ => 0, g⟩ (fun r => (∀ c : Dev Cert.InQFwRefIdeal.nD,
      r.2.mem ((c.tc : Thread Cert.InQFwRefIdeal.nD Cert.InQFwRefIdeal.τ).loc Cert.InQFwRefIdeal.main_arg0) = m ((c.tc : Thread Cert.InQFwRefIdeal.nD Cert.InQFwRefIdeal.τ).loc Cert.InQFwRefIdeal.main_arg0)
      ∧ r.2.mem ((c.tc : Thread Cert.InQFwRefIdeal.nD Cert.InQFwRefIdeal.τ).loc Cert.InQFwRefIdeal.main_arg1) = m ((c.tc : Thread Cert.InQFwRefIdeal.nD Cert.InQFwRefIdeal.τ).loc Cert.InQFwRefIdeal.main_arg1))
      ∧ r.2.sem = fun _ => 0)

def quiescent_InCkvFw [hInCkvFw : Cert.InCkvFw.Facts] : Prop :=
  ∀ (m : (ℓ : Loc Cert.InCkvFw.nD Cert.InCkvFw.τ Cert.InCkvFw.sig) → Buf (Elt Bits) ℓ) (g : Dev Cert.InCkvFw.nD → PrngReg), Pre_InCkvFw m →
    θ_run (Cert.InCkvFw.defs (F := Bits)) (onTc (τ := Cert.InCkvFw.τ) (Cert.InCkvFw.main (F := Bits))) ⟨m, fun _ => 0, g⟩ (fun r => (∀ c : Dev Cert.InCkvFw.nD,
      r.2.mem ((c.tc : Thread Cert.InCkvFw.nD Cert.InCkvFw.τ).loc Cert.InCkvFw.main_arg0) = m ((c.tc : Thread Cert.InCkvFw.nD Cert.InCkvFw.τ).loc Cert.InCkvFw.main_arg0)
      ∧ r.2.mem ((c.tc : Thread Cert.InCkvFw.nD Cert.InCkvFw.τ).loc Cert.InCkvFw.main_arg1) = m ((c.tc : Thread Cert.InCkvFw.nD Cert.InCkvFw.τ).loc Cert.InCkvFw.main_arg1))
      ∧ r.2.sem = fun _ => 0)

def quiescent_InCkvFwIdeal [hInCkvFwIdeal : Cert.InCkvFwIdeal.Facts] : Prop :=
  ∀ (m : (ℓ : Loc Cert.InCkvFwIdeal.nD Cert.InCkvFwIdeal.τ Cert.InCkvFwIdeal.sig) → Buf (Elt Ideal) ℓ) (g : Dev Cert.InCkvFwIdeal.nD → PrngReg), Pre_InCkvFwIdeal m →
    θ_run (Cert.InCkvFwIdeal.defs (F := Ideal)) (onTc (τ := Cert.InCkvFwIdeal.τ) (Cert.InCkvFwIdeal.main (F := Ideal))) ⟨m, fun _ => 0, g⟩ (fun r => (∀ c : Dev Cert.InCkvFwIdeal.nD,
      r.2.mem ((c.tc : Thread Cert.InCkvFwIdeal.nD Cert.InCkvFwIdeal.τ).loc Cert.InCkvFwIdeal.main_arg0) = m ((c.tc : Thread Cert.InCkvFwIdeal.nD Cert.InCkvFwIdeal.τ).loc Cert.InCkvFwIdeal.main_arg0)
      ∧ r.2.mem ((c.tc : Thread Cert.InCkvFwIdeal.nD Cert.InCkvFwIdeal.τ).loc Cert.InCkvFwIdeal.main_arg1) = m ((c.tc : Thread Cert.InCkvFwIdeal.nD Cert.InCkvFwIdeal.τ).loc Cert.InCkvFwIdeal.main_arg1))
      ∧ r.2.sem = fun _ => 0)

def quiescent_InCkvFwRefIdeal [hInCkvFwRefIdeal : Cert.InCkvFwRefIdeal.Facts] : Prop :=
  ∀ (m : (ℓ : Loc Cert.InCkvFwRefIdeal.nD Cert.InCkvFwRefIdeal.τ Cert.InCkvFwRefIdeal.sig) → Buf (Elt Ideal) ℓ) (g : Dev Cert.InCkvFwRefIdeal.nD → PrngReg), Pre_InCkvFwRefIdeal m →
    θ_run (Cert.InCkvFwRefIdeal.defs (F := Ideal)) (onTc (τ := Cert.InCkvFwRefIdeal.τ) (Cert.InCkvFwRefIdeal.main (F := Ideal))) ⟨m, fun _ => 0, g⟩ (fun r => (∀ c : Dev Cert.InCkvFwRefIdeal.nD,
      r.2.mem ((c.tc : Thread Cert.InCkvFwRefIdeal.nD Cert.InCkvFwRefIdeal.τ).loc Cert.InCkvFwRefIdeal.main_arg0) = m ((c.tc : Thread Cert.InCkvFwRefIdeal.nD Cert.InCkvFwRefIdeal.τ).loc Cert.InCkvFwRefIdeal.main_arg0)
      ∧ r.2.mem ((c.tc : Thread Cert.InCkvFwRefIdeal.nD Cert.InCkvFwRefIdeal.τ).loc Cert.InCkvFwRefIdeal.main_arg1) = m ((c.tc : Thread Cert.InCkvFwRefIdeal.nD Cert.InCkvFwRefIdeal.τ).loc Cert.InCkvFwRefIdeal.main_arg1))
      ∧ r.2.sem = fun _ => 0)

def quiescent_InKrFw [hInKrFw : Cert.InKrFw.Facts] : Prop :=
  ∀ (m : (ℓ : Loc Cert.InKrFw.nD Cert.InKrFw.τ Cert.InKrFw.sig) → Buf (Elt Bits) ℓ) (g : Dev Cert.InKrFw.nD → PrngReg), Pre_InKrFw m →
    θ_run (Cert.InKrFw.defs (F := Bits)) (onTc (τ := Cert.InKrFw.τ) (Cert.InKrFw.main (F := Bits))) ⟨m, fun _ => 0, g⟩ (fun r => (∀ c : Dev Cert.InKrFw.nD,
      r.2.mem ((c.tc : Thread Cert.InKrFw.nD Cert.InKrFw.τ).loc Cert.InKrFw.main_arg0) = m ((c.tc : Thread Cert.InKrFw.nD Cert.InKrFw.τ).loc Cert.InKrFw.main_arg0)
      ∧ r.2.mem ((c.tc : Thread Cert.InKrFw.nD Cert.InKrFw.τ).loc Cert.InKrFw.main_arg1) = m ((c.tc : Thread Cert.InKrFw.nD Cert.InKrFw.τ).loc Cert.InKrFw.main_arg1))
      ∧ r.2.sem = fun _ => 0)

def quiescent_InKrFwIdeal [hInKrFwIdeal : Cert.InKrFwIdeal.Facts] : Prop :=
  ∀ (m : (ℓ : Loc Cert.InKrFwIdeal.nD Cert.InKrFwIdeal.τ Cert.InKrFwIdeal.sig) → Buf (Elt Ideal) ℓ) (g : Dev Cert.InKrFwIdeal.nD → PrngReg), Pre_InKrFwIdeal m →
    θ_run (Cert.InKrFwIdeal.defs (F := Ideal)) (onTc (τ := Cert.InKrFwIdeal.τ) (Cert.InKrFwIdeal.main (F := Ideal))) ⟨m, fun _ => 0, g⟩ (fun r => (∀ c : Dev Cert.InKrFwIdeal.nD,
      r.2.mem ((c.tc : Thread Cert.InKrFwIdeal.nD Cert.InKrFwIdeal.τ).loc Cert.InKrFwIdeal.main_arg0) = m ((c.tc : Thread Cert.InKrFwIdeal.nD Cert.InKrFwIdeal.τ).loc Cert.InKrFwIdeal.main_arg0)
      ∧ r.2.mem ((c.tc : Thread Cert.InKrFwIdeal.nD Cert.InKrFwIdeal.τ).loc Cert.InKrFwIdeal.main_arg1) = m ((c.tc : Thread Cert.InKrFwIdeal.nD Cert.InKrFwIdeal.τ).loc Cert.InKrFwIdeal.main_arg1))
      ∧ r.2.sem = fun _ => 0)

def quiescent_InKrFwRefIdeal [hInKrFwRefIdeal : Cert.InKrFwRefIdeal.Facts] : Prop :=
  ∀ (m : (ℓ : Loc Cert.InKrFwRefIdeal.nD Cert.InKrFwRefIdeal.τ Cert.InKrFwRefIdeal.sig) → Buf (Elt Ideal) ℓ) (g : Dev Cert.InKrFwRefIdeal.nD → PrngReg), Pre_InKrFwRefIdeal m →
    θ_run (Cert.InKrFwRefIdeal.defs (F := Ideal)) (onTc (τ := Cert.InKrFwRefIdeal.τ) (Cert.InKrFwRefIdeal.main (F := Ideal))) ⟨m, fun _ => 0, g⟩ (fun r => (∀ c : Dev Cert.InKrFwRefIdeal.nD,
      r.2.mem ((c.tc : Thread Cert.InKrFwRefIdeal.nD Cert.InKrFwRefIdeal.τ).loc Cert.InKrFwRefIdeal.main_arg0) = m ((c.tc : Thread Cert.InKrFwRefIdeal.nD Cert.InKrFwRefIdeal.τ).loc Cert.InKrFwRefIdeal.main_arg0)
      ∧ r.2.mem ((c.tc : Thread Cert.InKrFwRefIdeal.nD Cert.InKrFwRefIdeal.τ).loc Cert.InKrFwRefIdeal.main_arg1) = m ((c.tc : Thread Cert.InKrFwRefIdeal.nD Cert.InKrFwRefIdeal.τ).loc Cert.InKrFwRefIdeal.main_arg1))
      ∧ r.2.sem = fun _ => 0)

def quiescent_InSgFw [hInSgFw : Cert.InSgFw.Facts] : Prop :=
  ∀ (m : (ℓ : Loc Cert.InSgFw.nD Cert.InSgFw.τ Cert.InSgFw.sig) → Buf (Elt Bits) ℓ) (g : Dev Cert.InSgFw.nD → PrngReg), Pre_InSgFw m →
    θ_run (Cert.InSgFw.defs (F := Bits)) (onTc (τ := Cert.InSgFw.τ) (Cert.InSgFw.main (F := Bits))) ⟨m, fun _ => 0, g⟩ (fun r => (∀ c : Dev Cert.InSgFw.nD,
      r.2.mem ((c.tc : Thread Cert.InSgFw.nD Cert.InSgFw.τ).loc Cert.InSgFw.main_arg0) = m ((c.tc : Thread Cert.InSgFw.nD Cert.InSgFw.τ).loc Cert.InSgFw.main_arg0)
      ∧ r.2.mem ((c.tc : Thread Cert.InSgFw.nD Cert.InSgFw.τ).loc Cert.InSgFw.main_arg1) = m ((c.tc : Thread Cert.InSgFw.nD Cert.InSgFw.τ).loc Cert.InSgFw.main_arg1))
      ∧ r.2.sem = fun _ => 0)

def quiescent_InSgFwIdeal [hInSgFwIdeal : Cert.InSgFwIdeal.Facts] : Prop :=
  ∀ (m : (ℓ : Loc Cert.InSgFwIdeal.nD Cert.InSgFwIdeal.τ Cert.InSgFwIdeal.sig) → Buf (Elt Ideal) ℓ) (g : Dev Cert.InSgFwIdeal.nD → PrngReg), Pre_InSgFwIdeal m →
    θ_run (Cert.InSgFwIdeal.defs (F := Ideal)) (onTc (τ := Cert.InSgFwIdeal.τ) (Cert.InSgFwIdeal.main (F := Ideal))) ⟨m, fun _ => 0, g⟩ (fun r => (∀ c : Dev Cert.InSgFwIdeal.nD,
      r.2.mem ((c.tc : Thread Cert.InSgFwIdeal.nD Cert.InSgFwIdeal.τ).loc Cert.InSgFwIdeal.main_arg0) = m ((c.tc : Thread Cert.InSgFwIdeal.nD Cert.InSgFwIdeal.τ).loc Cert.InSgFwIdeal.main_arg0)
      ∧ r.2.mem ((c.tc : Thread Cert.InSgFwIdeal.nD Cert.InSgFwIdeal.τ).loc Cert.InSgFwIdeal.main_arg1) = m ((c.tc : Thread Cert.InSgFwIdeal.nD Cert.InSgFwIdeal.τ).loc Cert.InSgFwIdeal.main_arg1))
      ∧ r.2.sem = fun _ => 0)

def quiescent_InSgFwRefIdeal [hInSgFwRefIdeal : Cert.InSgFwRefIdeal.Facts] : Prop :=
  ∀ (m : (ℓ : Loc Cert.InSgFwRefIdeal.nD Cert.InSgFwRefIdeal.τ Cert.InSgFwRefIdeal.sig) → Buf (Elt Ideal) ℓ) (g : Dev Cert.InSgFwRefIdeal.nD → PrngReg), Pre_InSgFwRefIdeal m →
    θ_run (Cert.InSgFwRefIdeal.defs (F := Ideal)) (onTc (τ := Cert.InSgFwRefIdeal.τ) (Cert.InSgFwRefIdeal.main (F := Ideal))) ⟨m, fun _ => 0, g⟩ (fun r => (∀ c : Dev Cert.InSgFwRefIdeal.nD,
      r.2.mem ((c.tc : Thread Cert.InSgFwRefIdeal.nD Cert.InSgFwRefIdeal.τ).loc Cert.InSgFwRefIdeal.main_arg0) = m ((c.tc : Thread Cert.InSgFwRefIdeal.nD Cert.InSgFwRefIdeal.τ).loc Cert.InSgFwRefIdeal.main_arg0)
      ∧ r.2.mem ((c.tc : Thread Cert.InSgFwRefIdeal.nD Cert.InSgFwRefIdeal.τ).loc Cert.InSgFwRefIdeal.main_arg1) = m ((c.tc : Thread Cert.InSgFwRefIdeal.nD Cert.InSgFwRefIdeal.τ).loc Cert.InSgFwRefIdeal.main_arg1))
      ∧ r.2.sem = fun _ => 0)

def quiescent_InRwFw [hInRwFw : Cert.InRwFw.Facts] : Prop :=
  ∀ (m : (ℓ : Loc Cert.InRwFw.nD Cert.InRwFw.τ Cert.InRwFw.sig) → Buf (Elt Bits) ℓ) (g : Dev Cert.InRwFw.nD → PrngReg), Pre_InRwFw m →
    θ_run (Cert.InRwFw.defs (F := Bits)) (onTc (τ := Cert.InRwFw.τ) (Cert.InRwFw.main (F := Bits))) ⟨m, fun _ => 0, g⟩ (fun r => (∀ c : Dev Cert.InRwFw.nD,
      r.2.mem ((c.tc : Thread Cert.InRwFw.nD Cert.InRwFw.τ).loc Cert.InRwFw.main_arg0) = m ((c.tc : Thread Cert.InRwFw.nD Cert.InRwFw.τ).loc Cert.InRwFw.main_arg0)
      ∧ r.2.mem ((c.tc : Thread Cert.InRwFw.nD Cert.InRwFw.τ).loc Cert.InRwFw.main_arg1) = m ((c.tc : Thread Cert.InRwFw.nD Cert.InRwFw.τ).loc Cert.InRwFw.main_arg1))
      ∧ r.2.sem = fun _ => 0)

def quiescent_InRwFwIdeal [hInRwFwIdeal : Cert.InRwFwIdeal.Facts] : Prop :=
  ∀ (m : (ℓ : Loc Cert.InRwFwIdeal.nD Cert.InRwFwIdeal.τ Cert.InRwFwIdeal.sig) → Buf (Elt Ideal) ℓ) (g : Dev Cert.InRwFwIdeal.nD → PrngReg), Pre_InRwFwIdeal m →
    θ_run (Cert.InRwFwIdeal.defs (F := Ideal)) (onTc (τ := Cert.InRwFwIdeal.τ) (Cert.InRwFwIdeal.main (F := Ideal))) ⟨m, fun _ => 0, g⟩ (fun r => (∀ c : Dev Cert.InRwFwIdeal.nD,
      r.2.mem ((c.tc : Thread Cert.InRwFwIdeal.nD Cert.InRwFwIdeal.τ).loc Cert.InRwFwIdeal.main_arg0) = m ((c.tc : Thread Cert.InRwFwIdeal.nD Cert.InRwFwIdeal.τ).loc Cert.InRwFwIdeal.main_arg0)
      ∧ r.2.mem ((c.tc : Thread Cert.InRwFwIdeal.nD Cert.InRwFwIdeal.τ).loc Cert.InRwFwIdeal.main_arg1) = m ((c.tc : Thread Cert.InRwFwIdeal.nD Cert.InRwFwIdeal.τ).loc Cert.InRwFwIdeal.main_arg1))
      ∧ r.2.sem = fun _ => 0)

def quiescent_InRwFwRefIdeal [hInRwFwRefIdeal : Cert.InRwFwRefIdeal.Facts] : Prop :=
  ∀ (m : (ℓ : Loc Cert.InRwFwRefIdeal.nD Cert.InRwFwRefIdeal.τ Cert.InRwFwRefIdeal.sig) → Buf (Elt Ideal) ℓ) (g : Dev Cert.InRwFwRefIdeal.nD → PrngReg), Pre_InRwFwRefIdeal m →
    θ_run (Cert.InRwFwRefIdeal.defs (F := Ideal)) (onTc (τ := Cert.InRwFwRefIdeal.τ) (Cert.InRwFwRefIdeal.main (F := Ideal))) ⟨m, fun _ => 0, g⟩ (fun r => (∀ c : Dev Cert.InRwFwRefIdeal.nD,
      r.2.mem ((c.tc : Thread Cert.InRwFwRefIdeal.nD Cert.InRwFwRefIdeal.τ).loc Cert.InRwFwRefIdeal.main_arg0) = m ((c.tc : Thread Cert.InRwFwRefIdeal.nD Cert.InRwFwRefIdeal.τ).loc Cert.InRwFwRefIdeal.main_arg0)
      ∧ r.2.mem ((c.tc : Thread Cert.InRwFwRefIdeal.nD Cert.InRwFwRefIdeal.τ).loc Cert.InRwFwRefIdeal.main_arg1) = m ((c.tc : Thread Cert.InRwFwRefIdeal.nD Cert.InRwFwRefIdeal.τ).loc Cert.InRwFwRefIdeal.main_arg1))
      ∧ r.2.sem = fun _ => 0)

def quiescent_InGateFw [hInGateFw : Cert.InGateFw.Facts] : Prop :=
  ∀ (m : (ℓ : Loc Cert.InGateFw.nD Cert.InGateFw.τ Cert.InGateFw.sig) → Buf (Elt Bits) ℓ) (g : Dev Cert.InGateFw.nD → PrngReg), Pre_InGateFw m →
    θ_run (Cert.InGateFw.defs (F := Bits)) (onTc (τ := Cert.InGateFw.τ) (Cert.InGateFw.main (F := Bits))) ⟨m, fun _ => 0, g⟩ (fun r => (∀ c : Dev Cert.InGateFw.nD,
      r.2.mem ((c.tc : Thread Cert.InGateFw.nD Cert.InGateFw.τ).loc Cert.InGateFw.main_arg0) = m ((c.tc : Thread Cert.InGateFw.nD Cert.InGateFw.τ).loc Cert.InGateFw.main_arg0)
      ∧ r.2.mem ((c.tc : Thread Cert.InGateFw.nD Cert.InGateFw.τ).loc Cert.InGateFw.main_arg1) = m ((c.tc : Thread Cert.InGateFw.nD Cert.InGateFw.τ).loc Cert.InGateFw.main_arg1))
      ∧ r.2.sem = fun _ => 0)

def quiescent_InGateFwIdeal [hInGateFwIdeal : Cert.InGateFwIdeal.Facts] : Prop :=
  ∀ (m : (ℓ : Loc Cert.InGateFwIdeal.nD Cert.InGateFwIdeal.τ Cert.InGateFwIdeal.sig) → Buf (Elt Ideal) ℓ) (g : Dev Cert.InGateFwIdeal.nD → PrngReg), Pre_InGateFwIdeal m →
    θ_run (Cert.InGateFwIdeal.defs (F := Ideal)) (onTc (τ := Cert.InGateFwIdeal.τ) (Cert.InGateFwIdeal.main (F := Ideal))) ⟨m, fun _ => 0, g⟩ (fun r => (∀ c : Dev Cert.InGateFwIdeal.nD,
      r.2.mem ((c.tc : Thread Cert.InGateFwIdeal.nD Cert.InGateFwIdeal.τ).loc Cert.InGateFwIdeal.main_arg0) = m ((c.tc : Thread Cert.InGateFwIdeal.nD Cert.InGateFwIdeal.τ).loc Cert.InGateFwIdeal.main_arg0)
      ∧ r.2.mem ((c.tc : Thread Cert.InGateFwIdeal.nD Cert.InGateFwIdeal.τ).loc Cert.InGateFwIdeal.main_arg1) = m ((c.tc : Thread Cert.InGateFwIdeal.nD Cert.InGateFwIdeal.τ).loc Cert.InGateFwIdeal.main_arg1))
      ∧ r.2.sem = fun _ => 0)

def quiescent_InGateFwRefIdeal [hInGateFwRefIdeal : Cert.InGateFwRefIdeal.Facts] : Prop :=
  ∀ (m : (ℓ : Loc Cert.InGateFwRefIdeal.nD Cert.InGateFwRefIdeal.τ Cert.InGateFwRefIdeal.sig) → Buf (Elt Ideal) ℓ) (g : Dev Cert.InGateFwRefIdeal.nD → PrngReg), Pre_InGateFwRefIdeal m →
    θ_run (Cert.InGateFwRefIdeal.defs (F := Ideal)) (onTc (τ := Cert.InGateFwRefIdeal.τ) (Cert.InGateFwRefIdeal.main (F := Ideal))) ⟨m, fun _ => 0, g⟩ (fun r => (∀ c : Dev Cert.InGateFwRefIdeal.nD,
      r.2.mem ((c.tc : Thread Cert.InGateFwRefIdeal.nD Cert.InGateFwRefIdeal.τ).loc Cert.InGateFwRefIdeal.main_arg0) = m ((c.tc : Thread Cert.InGateFwRefIdeal.nD Cert.InGateFwRefIdeal.τ).loc Cert.InGateFwRefIdeal.main_arg0)
      ∧ r.2.mem ((c.tc : Thread Cert.InGateFwRefIdeal.nD Cert.InGateFwRefIdeal.τ).loc Cert.InGateFwRefIdeal.main_arg1) = m ((c.tc : Thread Cert.InGateFwRefIdeal.nD Cert.InGateFwRefIdeal.τ).loc Cert.InGateFwRefIdeal.main_arg1))
      ∧ r.2.sem = fun _ => 0)

def quiescent_UqFw [hUqFw : Cert.UqFw.Facts] : Prop :=
  ∀ (m : (ℓ : Loc Cert.UqFw.nD Cert.UqFw.τ Cert.UqFw.sig) → Buf (Elt Bits) ℓ) (g : Dev Cert.UqFw.nD → PrngReg), Pre_UqFw m →
    θ_run (Cert.UqFw.defs (F := Bits)) (onTc (τ := Cert.UqFw.τ) (Cert.UqFw.main (F := Bits))) ⟨m, fun _ => 0, g⟩ (fun r => (∀ c : Dev Cert.UqFw.nD,
      r.2.mem ((c.tc : Thread Cert.UqFw.nD Cert.UqFw.τ).loc Cert.UqFw.main_arg0) = m ((c.tc : Thread Cert.UqFw.nD Cert.UqFw.τ).loc Cert.UqFw.main_arg0)
      ∧ r.2.mem ((c.tc : Thread Cert.UqFw.nD Cert.UqFw.τ).loc Cert.UqFw.main_arg1) = m ((c.tc : Thread Cert.UqFw.nD Cert.UqFw.τ).loc Cert.UqFw.main_arg1))
      ∧ r.2.sem = fun _ => 0)

def quiescent_UqFwIdeal [hUqFwIdeal : Cert.UqFwIdeal.Facts] : Prop :=
  ∀ (m : (ℓ : Loc Cert.UqFwIdeal.nD Cert.UqFwIdeal.τ Cert.UqFwIdeal.sig) → Buf (Elt Ideal) ℓ) (g : Dev Cert.UqFwIdeal.nD → PrngReg), Pre_UqFwIdeal m →
    θ_run (Cert.UqFwIdeal.defs (F := Ideal)) (onTc (τ := Cert.UqFwIdeal.τ) (Cert.UqFwIdeal.main (F := Ideal))) ⟨m, fun _ => 0, g⟩ (fun r => (∀ c : Dev Cert.UqFwIdeal.nD,
      r.2.mem ((c.tc : Thread Cert.UqFwIdeal.nD Cert.UqFwIdeal.τ).loc Cert.UqFwIdeal.main_arg0) = m ((c.tc : Thread Cert.UqFwIdeal.nD Cert.UqFwIdeal.τ).loc Cert.UqFwIdeal.main_arg0)
      ∧ r.2.mem ((c.tc : Thread Cert.UqFwIdeal.nD Cert.UqFwIdeal.τ).loc Cert.UqFwIdeal.main_arg1) = m ((c.tc : Thread Cert.UqFwIdeal.nD Cert.UqFwIdeal.τ).loc Cert.UqFwIdeal.main_arg1))
      ∧ r.2.sem = fun _ => 0)

def quiescent_UqFwRefIdeal [hUqFwRefIdeal : Cert.UqFwRefIdeal.Facts] : Prop :=
  ∀ (m : (ℓ : Loc Cert.UqFwRefIdeal.nD Cert.UqFwRefIdeal.τ Cert.UqFwRefIdeal.sig) → Buf (Elt Ideal) ℓ) (g : Dev Cert.UqFwRefIdeal.nD → PrngReg), Pre_UqFwRefIdeal m →
    θ_run (Cert.UqFwRefIdeal.defs (F := Ideal)) (onTc (τ := Cert.UqFwRefIdeal.τ) (Cert.UqFwRefIdeal.main (F := Ideal))) ⟨m, fun _ => 0, g⟩ (fun r => (∀ c : Dev Cert.UqFwRefIdeal.nD,
      r.2.mem ((c.tc : Thread Cert.UqFwRefIdeal.nD Cert.UqFwRefIdeal.τ).loc Cert.UqFwRefIdeal.main_arg0) = m ((c.tc : Thread Cert.UqFwRefIdeal.nD Cert.UqFwRefIdeal.τ).loc Cert.UqFwRefIdeal.main_arg0)
      ∧ r.2.mem ((c.tc : Thread Cert.UqFwRefIdeal.nD Cert.UqFwRefIdeal.τ).loc Cert.UqFwRefIdeal.main_arg1) = m ((c.tc : Thread Cert.UqFwRefIdeal.nD Cert.UqFwRefIdeal.τ).loc Cert.UqFwRefIdeal.main_arg1))
      ∧ r.2.sem = fun _ => 0)

def quiescent_UkvFw [hUkvFw : Cert.UkvFw.Facts] : Prop :=
  ∀ (m : (ℓ : Loc Cert.UkvFw.nD Cert.UkvFw.τ Cert.UkvFw.sig) → Buf (Elt Bits) ℓ) (g : Dev Cert.UkvFw.nD → PrngReg), Pre_UkvFw m →
    θ_run (Cert.UkvFw.defs (F := Bits)) (onTc (τ := Cert.UkvFw.τ) (Cert.UkvFw.main (F := Bits))) ⟨m, fun _ => 0, g⟩ (fun r => (∀ c : Dev Cert.UkvFw.nD,
      r.2.mem ((c.tc : Thread Cert.UkvFw.nD Cert.UkvFw.τ).loc Cert.UkvFw.main_arg0) = m ((c.tc : Thread Cert.UkvFw.nD Cert.UkvFw.τ).loc Cert.UkvFw.main_arg0)
      ∧ r.2.mem ((c.tc : Thread Cert.UkvFw.nD Cert.UkvFw.τ).loc Cert.UkvFw.main_arg1) = m ((c.tc : Thread Cert.UkvFw.nD Cert.UkvFw.τ).loc Cert.UkvFw.main_arg1))
      ∧ r.2.sem = fun _ => 0)

def quiescent_UkvFwIdeal [hUkvFwIdeal : Cert.UkvFwIdeal.Facts] : Prop :=
  ∀ (m : (ℓ : Loc Cert.UkvFwIdeal.nD Cert.UkvFwIdeal.τ Cert.UkvFwIdeal.sig) → Buf (Elt Ideal) ℓ) (g : Dev Cert.UkvFwIdeal.nD → PrngReg), Pre_UkvFwIdeal m →
    θ_run (Cert.UkvFwIdeal.defs (F := Ideal)) (onTc (τ := Cert.UkvFwIdeal.τ) (Cert.UkvFwIdeal.main (F := Ideal))) ⟨m, fun _ => 0, g⟩ (fun r => (∀ c : Dev Cert.UkvFwIdeal.nD,
      r.2.mem ((c.tc : Thread Cert.UkvFwIdeal.nD Cert.UkvFwIdeal.τ).loc Cert.UkvFwIdeal.main_arg0) = m ((c.tc : Thread Cert.UkvFwIdeal.nD Cert.UkvFwIdeal.τ).loc Cert.UkvFwIdeal.main_arg0)
      ∧ r.2.mem ((c.tc : Thread Cert.UkvFwIdeal.nD Cert.UkvFwIdeal.τ).loc Cert.UkvFwIdeal.main_arg1) = m ((c.tc : Thread Cert.UkvFwIdeal.nD Cert.UkvFwIdeal.τ).loc Cert.UkvFwIdeal.main_arg1))
      ∧ r.2.sem = fun _ => 0)

def quiescent_UkvFwRefIdeal [hUkvFwRefIdeal : Cert.UkvFwRefIdeal.Facts] : Prop :=
  ∀ (m : (ℓ : Loc Cert.UkvFwRefIdeal.nD Cert.UkvFwRefIdeal.τ Cert.UkvFwRefIdeal.sig) → Buf (Elt Ideal) ℓ) (g : Dev Cert.UkvFwRefIdeal.nD → PrngReg), Pre_UkvFwRefIdeal m →
    θ_run (Cert.UkvFwRefIdeal.defs (F := Ideal)) (onTc (τ := Cert.UkvFwRefIdeal.τ) (Cert.UkvFwRefIdeal.main (F := Ideal))) ⟨m, fun _ => 0, g⟩ (fun r => (∀ c : Dev Cert.UkvFwRefIdeal.nD,
      r.2.mem ((c.tc : Thread Cert.UkvFwRefIdeal.nD Cert.UkvFwRefIdeal.τ).loc Cert.UkvFwRefIdeal.main_arg0) = m ((c.tc : Thread Cert.UkvFwRefIdeal.nD Cert.UkvFwRefIdeal.τ).loc Cert.UkvFwRefIdeal.main_arg0)
      ∧ r.2.mem ((c.tc : Thread Cert.UkvFwRefIdeal.nD Cert.UkvFwRefIdeal.τ).loc Cert.UkvFwRefIdeal.main_arg1) = m ((c.tc : Thread Cert.UkvFwRefIdeal.nD Cert.UkvFwRefIdeal.τ).loc Cert.UkvFwRefIdeal.main_arg1))
      ∧ r.2.sem = fun _ => 0)

def quiescent_BranchAttnFw [hBranchAttnFw : Cert.BranchAttnFw.Facts] : Prop :=
  ∀ (m : (ℓ : Loc Cert.BranchAttnFw.nD Cert.BranchAttnFw.τ Cert.BranchAttnFw.sig) → Buf (Elt Bits) ℓ) (g : Dev Cert.BranchAttnFw.nD → PrngReg), Pre_BranchAttnFw m →
    θ_run (Cert.BranchAttnFw.defs (F := Bits)) (onTc (τ := Cert.BranchAttnFw.τ) (Cert.BranchAttnFw.main (F := Bits))) ⟨m, fun _ => 0, g⟩ (fun r => (∀ c : Dev Cert.BranchAttnFw.nD,
      r.2.mem ((c.tc : Thread Cert.BranchAttnFw.nD Cert.BranchAttnFw.τ).loc Cert.BranchAttnFw.main_arg0) = m ((c.tc : Thread Cert.BranchAttnFw.nD Cert.BranchAttnFw.τ).loc Cert.BranchAttnFw.main_arg0)
      ∧ r.2.mem ((c.tc : Thread Cert.BranchAttnFw.nD Cert.BranchAttnFw.τ).loc Cert.BranchAttnFw.main_arg1) = m ((c.tc : Thread Cert.BranchAttnFw.nD Cert.BranchAttnFw.τ).loc Cert.BranchAttnFw.main_arg1))
      ∧ r.2.sem = fun _ => 0)

def quiescent_BranchAttnFwIdeal [hBranchAttnFwIdeal : Cert.BranchAttnFwIdeal.Facts] : Prop :=
  ∀ (m : (ℓ : Loc Cert.BranchAttnFwIdeal.nD Cert.BranchAttnFwIdeal.τ Cert.BranchAttnFwIdeal.sig) → Buf (Elt Ideal) ℓ) (g : Dev Cert.BranchAttnFwIdeal.nD → PrngReg), Pre_BranchAttnFwIdeal m →
    θ_run (Cert.BranchAttnFwIdeal.defs (F := Ideal)) (onTc (τ := Cert.BranchAttnFwIdeal.τ) (Cert.BranchAttnFwIdeal.main (F := Ideal))) ⟨m, fun _ => 0, g⟩ (fun r => (∀ c : Dev Cert.BranchAttnFwIdeal.nD,
      r.2.mem ((c.tc : Thread Cert.BranchAttnFwIdeal.nD Cert.BranchAttnFwIdeal.τ).loc Cert.BranchAttnFwIdeal.main_arg0) = m ((c.tc : Thread Cert.BranchAttnFwIdeal.nD Cert.BranchAttnFwIdeal.τ).loc Cert.BranchAttnFwIdeal.main_arg0)
      ∧ r.2.mem ((c.tc : Thread Cert.BranchAttnFwIdeal.nD Cert.BranchAttnFwIdeal.τ).loc Cert.BranchAttnFwIdeal.main_arg1) = m ((c.tc : Thread Cert.BranchAttnFwIdeal.nD Cert.BranchAttnFwIdeal.τ).loc Cert.BranchAttnFwIdeal.main_arg1))
      ∧ r.2.sem = fun _ => 0)

def quiescent_BranchAttnFwRefIdeal [hBranchAttnFwRefIdeal : Cert.BranchAttnFwRefIdeal.Facts] : Prop :=
  ∀ (m : (ℓ : Loc Cert.BranchAttnFwRefIdeal.nD Cert.BranchAttnFwRefIdeal.τ Cert.BranchAttnFwRefIdeal.sig) → Buf (Elt Ideal) ℓ) (g : Dev Cert.BranchAttnFwRefIdeal.nD → PrngReg), Pre_BranchAttnFwRefIdeal m →
    θ_run (Cert.BranchAttnFwRefIdeal.defs (F := Ideal)) (onTc (τ := Cert.BranchAttnFwRefIdeal.τ) (Cert.BranchAttnFwRefIdeal.main (F := Ideal))) ⟨m, fun _ => 0, g⟩ (fun r => (∀ c : Dev Cert.BranchAttnFwRefIdeal.nD,
      r.2.mem ((c.tc : Thread Cert.BranchAttnFwRefIdeal.nD Cert.BranchAttnFwRefIdeal.τ).loc Cert.BranchAttnFwRefIdeal.main_arg0) = m ((c.tc : Thread Cert.BranchAttnFwRefIdeal.nD Cert.BranchAttnFwRefIdeal.τ).loc Cert.BranchAttnFwRefIdeal.main_arg0)
      ∧ r.2.mem ((c.tc : Thread Cert.BranchAttnFwRefIdeal.nD Cert.BranchAttnFwRefIdeal.τ).loc Cert.BranchAttnFwRefIdeal.main_arg1) = m ((c.tc : Thread Cert.BranchAttnFwRefIdeal.nD Cert.BranchAttnFwRefIdeal.τ).loc Cert.BranchAttnFwRefIdeal.main_arg1))
      ∧ r.2.sem = fun _ => 0)

def quiescent_BranchFw [hBranchFw : Cert.BranchFw.Facts] : Prop :=
  ∀ (m : (ℓ : Loc Cert.BranchFw.nD Cert.BranchFw.τ Cert.BranchFw.sig) → Buf (Elt Bits) ℓ) (g : Dev Cert.BranchFw.nD → PrngReg), Pre_BranchFw m →
    θ_run (Cert.BranchFw.defs (F := Bits)) (onTc (τ := Cert.BranchFw.τ) (Cert.BranchFw.main (F := Bits))) ⟨m, fun _ => 0, g⟩ (fun r => (∀ c : Dev Cert.BranchFw.nD,
      r.2.mem ((c.tc : Thread Cert.BranchFw.nD Cert.BranchFw.τ).loc Cert.BranchFw.main_arg0) = m ((c.tc : Thread Cert.BranchFw.nD Cert.BranchFw.τ).loc Cert.BranchFw.main_arg0)
      ∧ r.2.mem ((c.tc : Thread Cert.BranchFw.nD Cert.BranchFw.τ).loc Cert.BranchFw.main_arg1) = m ((c.tc : Thread Cert.BranchFw.nD Cert.BranchFw.τ).loc Cert.BranchFw.main_arg1))
      ∧ r.2.sem = fun _ => 0)

def quiescent_BranchFwIdeal [hBranchFwIdeal : Cert.BranchFwIdeal.Facts] : Prop :=
  ∀ (m : (ℓ : Loc Cert.BranchFwIdeal.nD Cert.BranchFwIdeal.τ Cert.BranchFwIdeal.sig) → Buf (Elt Ideal) ℓ) (g : Dev Cert.BranchFwIdeal.nD → PrngReg), Pre_BranchFwIdeal m →
    θ_run (Cert.BranchFwIdeal.defs (F := Ideal)) (onTc (τ := Cert.BranchFwIdeal.τ) (Cert.BranchFwIdeal.main (F := Ideal))) ⟨m, fun _ => 0, g⟩ (fun r => (∀ c : Dev Cert.BranchFwIdeal.nD,
      r.2.mem ((c.tc : Thread Cert.BranchFwIdeal.nD Cert.BranchFwIdeal.τ).loc Cert.BranchFwIdeal.main_arg0) = m ((c.tc : Thread Cert.BranchFwIdeal.nD Cert.BranchFwIdeal.τ).loc Cert.BranchFwIdeal.main_arg0)
      ∧ r.2.mem ((c.tc : Thread Cert.BranchFwIdeal.nD Cert.BranchFwIdeal.τ).loc Cert.BranchFwIdeal.main_arg1) = m ((c.tc : Thread Cert.BranchFwIdeal.nD Cert.BranchFwIdeal.τ).loc Cert.BranchFwIdeal.main_arg1))
      ∧ r.2.sem = fun _ => 0)

def quiescent_BranchFwRefIdeal [hBranchFwRefIdeal : Cert.BranchFwRefIdeal.Facts] : Prop :=
  ∀ (m : (ℓ : Loc Cert.BranchFwRefIdeal.nD Cert.BranchFwRefIdeal.τ Cert.BranchFwRefIdeal.sig) → Buf (Elt Ideal) ℓ) (g : Dev Cert.BranchFwRefIdeal.nD → PrngReg), Pre_BranchFwRefIdeal m →
    θ_run (Cert.BranchFwRefIdeal.defs (F := Ideal)) (onTc (τ := Cert.BranchFwRefIdeal.τ) (Cert.BranchFwRefIdeal.main (F := Ideal))) ⟨m, fun _ => 0, g⟩ (fun r => (∀ c : Dev Cert.BranchFwRefIdeal.nD,
      r.2.mem ((c.tc : Thread Cert.BranchFwRefIdeal.nD Cert.BranchFwRefIdeal.τ).loc Cert.BranchFwRefIdeal.main_arg0) = m ((c.tc : Thread Cert.BranchFwRefIdeal.nD Cert.BranchFwRefIdeal.τ).loc Cert.BranchFwRefIdeal.main_arg0)
      ∧ r.2.mem ((c.tc : Thread Cert.BranchFwRefIdeal.nD Cert.BranchFwRefIdeal.τ).loc Cert.BranchFwRefIdeal.main_arg1) = m ((c.tc : Thread Cert.BranchFwRefIdeal.nD Cert.BranchFwRefIdeal.τ).loc Cert.BranchFwRefIdeal.main_arg1))
      ∧ r.2.sem = fun _ => 0)

def quiescent_OutFw [hOutFw : Cert.OutFw.Facts] : Prop :=
  ∀ (m : (ℓ : Loc Cert.OutFw.nD Cert.OutFw.τ Cert.OutFw.sig) → Buf (Elt Bits) ℓ) (g : Dev Cert.OutFw.nD → PrngReg), Pre_OutFw m →
    θ_run (Cert.OutFw.defs (F := Bits)) (onTc (τ := Cert.OutFw.τ) (Cert.OutFw.main (F := Bits))) ⟨m, fun _ => 0, g⟩ (fun r => (∀ c : Dev Cert.OutFw.nD,
      r.2.mem ((c.tc : Thread Cert.OutFw.nD Cert.OutFw.τ).loc Cert.OutFw.main_arg0) = m ((c.tc : Thread Cert.OutFw.nD Cert.OutFw.τ).loc Cert.OutFw.main_arg0)
      ∧ r.2.mem ((c.tc : Thread Cert.OutFw.nD Cert.OutFw.τ).loc Cert.OutFw.main_arg1) = m ((c.tc : Thread Cert.OutFw.nD Cert.OutFw.τ).loc Cert.OutFw.main_arg1)
      ∧ r.2.mem ((c.tc : Thread Cert.OutFw.nD Cert.OutFw.τ).loc Cert.OutFw.main_arg2) = m ((c.tc : Thread Cert.OutFw.nD Cert.OutFw.τ).loc Cert.OutFw.main_arg2))
      ∧ r.2.sem = fun _ => 0)

def quiescent_OutFwIdeal [hOutFwIdeal : Cert.OutFwIdeal.Facts] : Prop :=
  ∀ (m : (ℓ : Loc Cert.OutFwIdeal.nD Cert.OutFwIdeal.τ Cert.OutFwIdeal.sig) → Buf (Elt Ideal) ℓ) (g : Dev Cert.OutFwIdeal.nD → PrngReg), Pre_OutFwIdeal m →
    θ_run (Cert.OutFwIdeal.defs (F := Ideal)) (onTc (τ := Cert.OutFwIdeal.τ) (Cert.OutFwIdeal.main (F := Ideal))) ⟨m, fun _ => 0, g⟩ (fun r => (∀ c : Dev Cert.OutFwIdeal.nD,
      r.2.mem ((c.tc : Thread Cert.OutFwIdeal.nD Cert.OutFwIdeal.τ).loc Cert.OutFwIdeal.main_arg0) = m ((c.tc : Thread Cert.OutFwIdeal.nD Cert.OutFwIdeal.τ).loc Cert.OutFwIdeal.main_arg0)
      ∧ r.2.mem ((c.tc : Thread Cert.OutFwIdeal.nD Cert.OutFwIdeal.τ).loc Cert.OutFwIdeal.main_arg1) = m ((c.tc : Thread Cert.OutFwIdeal.nD Cert.OutFwIdeal.τ).loc Cert.OutFwIdeal.main_arg1)
      ∧ r.2.mem ((c.tc : Thread Cert.OutFwIdeal.nD Cert.OutFwIdeal.τ).loc Cert.OutFwIdeal.main_arg2) = m ((c.tc : Thread Cert.OutFwIdeal.nD Cert.OutFwIdeal.τ).loc Cert.OutFwIdeal.main_arg2))
      ∧ r.2.sem = fun _ => 0)

def quiescent_OutFwRefIdeal [hOutFwRefIdeal : Cert.OutFwRefIdeal.Facts] : Prop :=
  ∀ (m : (ℓ : Loc Cert.OutFwRefIdeal.nD Cert.OutFwRefIdeal.τ Cert.OutFwRefIdeal.sig) → Buf (Elt Ideal) ℓ) (g : Dev Cert.OutFwRefIdeal.nD → PrngReg), Pre_OutFwRefIdeal m →
    θ_run (Cert.OutFwRefIdeal.defs (F := Ideal)) (onTc (τ := Cert.OutFwRefIdeal.τ) (Cert.OutFwRefIdeal.main (F := Ideal))) ⟨m, fun _ => 0, g⟩ (fun r => (∀ c : Dev Cert.OutFwRefIdeal.nD,
      r.2.mem ((c.tc : Thread Cert.OutFwRefIdeal.nD Cert.OutFwRefIdeal.τ).loc Cert.OutFwRefIdeal.main_arg0) = m ((c.tc : Thread Cert.OutFwRefIdeal.nD Cert.OutFwRefIdeal.τ).loc Cert.OutFwRefIdeal.main_arg0)
      ∧ r.2.mem ((c.tc : Thread Cert.OutFwRefIdeal.nD Cert.OutFwRefIdeal.τ).loc Cert.OutFwRefIdeal.main_arg1) = m ((c.tc : Thread Cert.OutFwRefIdeal.nD Cert.OutFwRefIdeal.τ).loc Cert.OutFwRefIdeal.main_arg1)
      ∧ r.2.mem ((c.tc : Thread Cert.OutFwRefIdeal.nD Cert.OutFwRefIdeal.τ).loc Cert.OutFwRefIdeal.main_arg2) = m ((c.tc : Thread Cert.OutFwRefIdeal.nD Cert.OutFwRefIdeal.τ).loc Cert.OutFwRefIdeal.main_arg2))
      ∧ r.2.sem = fun _ => 0)

def quiescent_FfnInFw [hFfnInFw : Cert.FfnInFw.Facts] : Prop :=
  ∀ (m : (ℓ : Loc Cert.FfnInFw.nD Cert.FfnInFw.τ Cert.FfnInFw.sig) → Buf (Elt Bits) ℓ) (g : Dev Cert.FfnInFw.nD → PrngReg), Pre_FfnInFw m →
    θ_run (Cert.FfnInFw.defs (F := Bits)) (onTc (τ := Cert.FfnInFw.τ) (Cert.FfnInFw.main (F := Bits))) ⟨m, fun _ => 0, g⟩ (fun r => (∀ c : Dev Cert.FfnInFw.nD,
      r.2.mem ((c.tc : Thread Cert.FfnInFw.nD Cert.FfnInFw.τ).loc Cert.FfnInFw.main_arg0) = m ((c.tc : Thread Cert.FfnInFw.nD Cert.FfnInFw.τ).loc Cert.FfnInFw.main_arg0)
      ∧ r.2.mem ((c.tc : Thread Cert.FfnInFw.nD Cert.FfnInFw.τ).loc Cert.FfnInFw.main_arg1) = m ((c.tc : Thread Cert.FfnInFw.nD Cert.FfnInFw.τ).loc Cert.FfnInFw.main_arg1))
      ∧ r.2.sem = fun _ => 0)

def quiescent_FfnInFwIdeal [hFfnInFwIdeal : Cert.FfnInFwIdeal.Facts] : Prop :=
  ∀ (m : (ℓ : Loc Cert.FfnInFwIdeal.nD Cert.FfnInFwIdeal.τ Cert.FfnInFwIdeal.sig) → Buf (Elt Ideal) ℓ) (g : Dev Cert.FfnInFwIdeal.nD → PrngReg), Pre_FfnInFwIdeal m →
    θ_run (Cert.FfnInFwIdeal.defs (F := Ideal)) (onTc (τ := Cert.FfnInFwIdeal.τ) (Cert.FfnInFwIdeal.main (F := Ideal))) ⟨m, fun _ => 0, g⟩ (fun r => (∀ c : Dev Cert.FfnInFwIdeal.nD,
      r.2.mem ((c.tc : Thread Cert.FfnInFwIdeal.nD Cert.FfnInFwIdeal.τ).loc Cert.FfnInFwIdeal.main_arg0) = m ((c.tc : Thread Cert.FfnInFwIdeal.nD Cert.FfnInFwIdeal.τ).loc Cert.FfnInFwIdeal.main_arg0)
      ∧ r.2.mem ((c.tc : Thread Cert.FfnInFwIdeal.nD Cert.FfnInFwIdeal.τ).loc Cert.FfnInFwIdeal.main_arg1) = m ((c.tc : Thread Cert.FfnInFwIdeal.nD Cert.FfnInFwIdeal.τ).loc Cert.FfnInFwIdeal.main_arg1))
      ∧ r.2.sem = fun _ => 0)

def quiescent_FfnInFwRefIdeal [hFfnInFwRefIdeal : Cert.FfnInFwRefIdeal.Facts] : Prop :=
  ∀ (m : (ℓ : Loc Cert.FfnInFwRefIdeal.nD Cert.FfnInFwRefIdeal.τ Cert.FfnInFwRefIdeal.sig) → Buf (Elt Ideal) ℓ) (g : Dev Cert.FfnInFwRefIdeal.nD → PrngReg), Pre_FfnInFwRefIdeal m →
    θ_run (Cert.FfnInFwRefIdeal.defs (F := Ideal)) (onTc (τ := Cert.FfnInFwRefIdeal.τ) (Cert.FfnInFwRefIdeal.main (F := Ideal))) ⟨m, fun _ => 0, g⟩ (fun r => (∀ c : Dev Cert.FfnInFwRefIdeal.nD,
      r.2.mem ((c.tc : Thread Cert.FfnInFwRefIdeal.nD Cert.FfnInFwRefIdeal.τ).loc Cert.FfnInFwRefIdeal.main_arg0) = m ((c.tc : Thread Cert.FfnInFwRefIdeal.nD Cert.FfnInFwRefIdeal.τ).loc Cert.FfnInFwRefIdeal.main_arg0)
      ∧ r.2.mem ((c.tc : Thread Cert.FfnInFwRefIdeal.nD Cert.FfnInFwRefIdeal.τ).loc Cert.FfnInFwRefIdeal.main_arg1) = m ((c.tc : Thread Cert.FfnInFwRefIdeal.nD Cert.FfnInFwRefIdeal.τ).loc Cert.FfnInFwRefIdeal.main_arg1))
      ∧ r.2.sem = fun _ => 0)

def quiescent_FfnOutFw [hFfnOutFw : Cert.FfnOutFw.Facts] : Prop :=
  ∀ (m : (ℓ : Loc Cert.FfnOutFw.nD Cert.FfnOutFw.τ Cert.FfnOutFw.sig) → Buf (Elt Bits) ℓ) (g : Dev Cert.FfnOutFw.nD → PrngReg), Pre_FfnOutFw m →
    θ_run (Cert.FfnOutFw.defs (F := Bits)) (onTc (τ := Cert.FfnOutFw.τ) (Cert.FfnOutFw.main (F := Bits))) ⟨m, fun _ => 0, g⟩ (fun r => (∀ c : Dev Cert.FfnOutFw.nD,
      r.2.mem ((c.tc : Thread Cert.FfnOutFw.nD Cert.FfnOutFw.τ).loc Cert.FfnOutFw.main_arg0) = m ((c.tc : Thread Cert.FfnOutFw.nD Cert.FfnOutFw.τ).loc Cert.FfnOutFw.main_arg0)
      ∧ r.2.mem ((c.tc : Thread Cert.FfnOutFw.nD Cert.FfnOutFw.τ).loc Cert.FfnOutFw.main_arg1) = m ((c.tc : Thread Cert.FfnOutFw.nD Cert.FfnOutFw.τ).loc Cert.FfnOutFw.main_arg1)
      ∧ r.2.mem ((c.tc : Thread Cert.FfnOutFw.nD Cert.FfnOutFw.τ).loc Cert.FfnOutFw.main_arg2) = m ((c.tc : Thread Cert.FfnOutFw.nD Cert.FfnOutFw.τ).loc Cert.FfnOutFw.main_arg2))
      ∧ r.2.sem = fun _ => 0)

def quiescent_FfnOutFwIdeal [hFfnOutFwIdeal : Cert.FfnOutFwIdeal.Facts] : Prop :=
  ∀ (m : (ℓ : Loc Cert.FfnOutFwIdeal.nD Cert.FfnOutFwIdeal.τ Cert.FfnOutFwIdeal.sig) → Buf (Elt Ideal) ℓ) (g : Dev Cert.FfnOutFwIdeal.nD → PrngReg), Pre_FfnOutFwIdeal m →
    θ_run (Cert.FfnOutFwIdeal.defs (F := Ideal)) (onTc (τ := Cert.FfnOutFwIdeal.τ) (Cert.FfnOutFwIdeal.main (F := Ideal))) ⟨m, fun _ => 0, g⟩ (fun r => (∀ c : Dev Cert.FfnOutFwIdeal.nD,
      r.2.mem ((c.tc : Thread Cert.FfnOutFwIdeal.nD Cert.FfnOutFwIdeal.τ).loc Cert.FfnOutFwIdeal.main_arg0) = m ((c.tc : Thread Cert.FfnOutFwIdeal.nD Cert.FfnOutFwIdeal.τ).loc Cert.FfnOutFwIdeal.main_arg0)
      ∧ r.2.mem ((c.tc : Thread Cert.FfnOutFwIdeal.nD Cert.FfnOutFwIdeal.τ).loc Cert.FfnOutFwIdeal.main_arg1) = m ((c.tc : Thread Cert.FfnOutFwIdeal.nD Cert.FfnOutFwIdeal.τ).loc Cert.FfnOutFwIdeal.main_arg1)
      ∧ r.2.mem ((c.tc : Thread Cert.FfnOutFwIdeal.nD Cert.FfnOutFwIdeal.τ).loc Cert.FfnOutFwIdeal.main_arg2) = m ((c.tc : Thread Cert.FfnOutFwIdeal.nD Cert.FfnOutFwIdeal.τ).loc Cert.FfnOutFwIdeal.main_arg2))
      ∧ r.2.sem = fun _ => 0)

def quiescent_FfnOutFwRefIdeal [hFfnOutFwRefIdeal : Cert.FfnOutFwRefIdeal.Facts] : Prop :=
  ∀ (m : (ℓ : Loc Cert.FfnOutFwRefIdeal.nD Cert.FfnOutFwRefIdeal.τ Cert.FfnOutFwRefIdeal.sig) → Buf (Elt Ideal) ℓ) (g : Dev Cert.FfnOutFwRefIdeal.nD → PrngReg), Pre_FfnOutFwRefIdeal m →
    θ_run (Cert.FfnOutFwRefIdeal.defs (F := Ideal)) (onTc (τ := Cert.FfnOutFwRefIdeal.τ) (Cert.FfnOutFwRefIdeal.main (F := Ideal))) ⟨m, fun _ => 0, g⟩ (fun r => (∀ c : Dev Cert.FfnOutFwRefIdeal.nD,
      r.2.mem ((c.tc : Thread Cert.FfnOutFwRefIdeal.nD Cert.FfnOutFwRefIdeal.τ).loc Cert.FfnOutFwRefIdeal.main_arg0) = m ((c.tc : Thread Cert.FfnOutFwRefIdeal.nD Cert.FfnOutFwRefIdeal.τ).loc Cert.FfnOutFwRefIdeal.main_arg0)
      ∧ r.2.mem ((c.tc : Thread Cert.FfnOutFwRefIdeal.nD Cert.FfnOutFwRefIdeal.τ).loc Cert.FfnOutFwRefIdeal.main_arg1) = m ((c.tc : Thread Cert.FfnOutFwRefIdeal.nD Cert.FfnOutFwRefIdeal.τ).loc Cert.FfnOutFwRefIdeal.main_arg1)
      ∧ r.2.mem ((c.tc : Thread Cert.FfnOutFwRefIdeal.nD Cert.FfnOutFwRefIdeal.τ).loc Cert.FfnOutFwRefIdeal.main_arg2) = m ((c.tc : Thread Cert.FfnOutFwRefIdeal.nD Cert.FfnOutFwRefIdeal.τ).loc Cert.FfnOutFwRefIdeal.main_arg2))
      ∧ r.2.sem = fun _ => 0)

def quiescent_AdamWIn [hAdamWIn : Cert.AdamWIn.Facts] : Prop :=
  ∀ (m : (ℓ : Loc Cert.AdamWIn.nD Cert.AdamWIn.τ Cert.AdamWIn.sig) → Buf (Elt Bits) ℓ) (g : Dev Cert.AdamWIn.nD → PrngReg), Pre_AdamWIn m →
    θ_run (Cert.AdamWIn.defs (F := Bits)) (onTc (τ := Cert.AdamWIn.τ) (Cert.AdamWIn.main (F := Bits))) ⟨m, fun _ => 0, g⟩ (fun r => (∀ c : Dev Cert.AdamWIn.nD,
      r.2.mem ((c.tc : Thread Cert.AdamWIn.nD Cert.AdamWIn.τ).loc Cert.AdamWIn.main_arg0) = m ((c.tc : Thread Cert.AdamWIn.nD Cert.AdamWIn.τ).loc Cert.AdamWIn.main_arg0)
      ∧ r.2.mem ((c.tc : Thread Cert.AdamWIn.nD Cert.AdamWIn.τ).loc Cert.AdamWIn.main_arg1) = m ((c.tc : Thread Cert.AdamWIn.nD Cert.AdamWIn.τ).loc Cert.AdamWIn.main_arg1)
      ∧ r.2.mem ((c.tc : Thread Cert.AdamWIn.nD Cert.AdamWIn.τ).loc Cert.AdamWIn.main_arg2) = m ((c.tc : Thread Cert.AdamWIn.nD Cert.AdamWIn.τ).loc Cert.AdamWIn.main_arg2)
      ∧ r.2.mem ((c.tc : Thread Cert.AdamWIn.nD Cert.AdamWIn.τ).loc Cert.AdamWIn.main_arg3) = m ((c.tc : Thread Cert.AdamWIn.nD Cert.AdamWIn.τ).loc Cert.AdamWIn.main_arg3))
      ∧ r.2.sem = fun _ => 0)

def quiescent_AdamWInIdeal [hAdamWInIdeal : Cert.AdamWInIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg), Pre_AdamWInIdeal m →
    θ_run (Cert.AdamWInIdeal.defs (F := Ideal)) (onTc (τ := Cert.AdamWInIdeal.τ) (Cert.AdamWInIdeal.main (F := Ideal))) ⟨m, fun _ => 0, g⟩ (fun r => (∀ c : Dev Cert.AdamWInIdeal.nD,
      r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
      ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
      ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
      ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3))
      ∧ r.2.sem = fun _ => 0)

def quiescent_AdamWInRefIdeal [hAdamWInRefIdeal : Cert.AdamWInRefIdeal.Facts] : Prop :=
  ∀ (m : (ℓ : Loc Cert.AdamWInRefIdeal.nD Cert.AdamWInRefIdeal.τ Cert.AdamWInRefIdeal.sig) → Buf (Elt Ideal) ℓ) (g : Dev Cert.AdamWInRefIdeal.nD → PrngReg), Pre_AdamWInRefIdeal m →
    θ_run (Cert.AdamWInRefIdeal.defs (F := Ideal)) (onTc (τ := Cert.AdamWInRefIdeal.τ) (Cert.AdamWInRefIdeal.main (F := Ideal))) ⟨m, fun _ => 0, g⟩ (fun r => (∀ c : Dev Cert.AdamWInRefIdeal.nD,
      r.2.mem ((c.tc : Thread Cert.AdamWInRefIdeal.nD Cert.AdamWInRefIdeal.τ).loc Cert.AdamWInRefIdeal.main_arg0) = m ((c.tc : Thread Cert.AdamWInRefIdeal.nD Cert.AdamWInRefIdeal.τ).loc Cert.AdamWInRefIdeal.main_arg0)
      ∧ r.2.mem ((c.tc : Thread Cert.AdamWInRefIdeal.nD Cert.AdamWInRefIdeal.τ).loc Cert.AdamWInRefIdeal.main_arg1) = m ((c.tc : Thread Cert.AdamWInRefIdeal.nD Cert.AdamWInRefIdeal.τ).loc Cert.AdamWInRefIdeal.main_arg1)
      ∧ r.2.mem ((c.tc : Thread Cert.AdamWInRefIdeal.nD Cert.AdamWInRefIdeal.τ).loc Cert.AdamWInRefIdeal.main_arg2) = m ((c.tc : Thread Cert.AdamWInRefIdeal.nD Cert.AdamWInRefIdeal.τ).loc Cert.AdamWInRefIdeal.main_arg2)
      ∧ r.2.mem ((c.tc : Thread Cert.AdamWInRefIdeal.nD Cert.AdamWInRefIdeal.τ).loc Cert.AdamWInRefIdeal.main_arg3) = m ((c.tc : Thread Cert.AdamWInRefIdeal.nD Cert.AdamWInRefIdeal.τ).loc Cert.AdamWInRefIdeal.main_arg3))
      ∧ r.2.sem = fun _ => 0)

def quiescent_AdamWUq [hAdamWUq : Cert.AdamWUq.Facts] : Prop :=
  ∀ (m : (ℓ : Loc Cert.AdamWUq.nD Cert.AdamWUq.τ Cert.AdamWUq.sig) → Buf (Elt Bits) ℓ) (g : Dev Cert.AdamWUq.nD → PrngReg), Pre_AdamWUq m →
    θ_run (Cert.AdamWUq.defs (F := Bits)) (onTc (τ := Cert.AdamWUq.τ) (Cert.AdamWUq.main (F := Bits))) ⟨m, fun _ => 0, g⟩ (fun r => (∀ c : Dev Cert.AdamWUq.nD,
      r.2.mem ((c.tc : Thread Cert.AdamWUq.nD Cert.AdamWUq.τ).loc Cert.AdamWUq.main_arg0) = m ((c.tc : Thread Cert.AdamWUq.nD Cert.AdamWUq.τ).loc Cert.AdamWUq.main_arg0)
      ∧ r.2.mem ((c.tc : Thread Cert.AdamWUq.nD Cert.AdamWUq.τ).loc Cert.AdamWUq.main_arg1) = m ((c.tc : Thread Cert.AdamWUq.nD Cert.AdamWUq.τ).loc Cert.AdamWUq.main_arg1)
      ∧ r.2.mem ((c.tc : Thread Cert.AdamWUq.nD Cert.AdamWUq.τ).loc Cert.AdamWUq.main_arg2) = m ((c.tc : Thread Cert.AdamWUq.nD Cert.AdamWUq.τ).loc Cert.AdamWUq.main_arg2)
      ∧ r.2.mem ((c.tc : Thread Cert.AdamWUq.nD Cert.AdamWUq.τ).loc Cert.AdamWUq.main_arg3) = m ((c.tc : Thread Cert.AdamWUq.nD Cert.AdamWUq.τ).loc Cert.AdamWUq.main_arg3))
      ∧ r.2.sem = fun _ => 0)

def quiescent_AdamWUqIdeal [hAdamWUqIdeal : Cert.AdamWUqIdeal.Facts] : Prop :=
  ∀ (m : (ℓ : Loc Cert.AdamWUqIdeal.nD Cert.AdamWUqIdeal.τ Cert.AdamWUqIdeal.sig) → Buf (Elt Ideal) ℓ) (g : Dev Cert.AdamWUqIdeal.nD → PrngReg), Pre_AdamWUqIdeal m →
    θ_run (Cert.AdamWUqIdeal.defs (F := Ideal)) (onTc (τ := Cert.AdamWUqIdeal.τ) (Cert.AdamWUqIdeal.main (F := Ideal))) ⟨m, fun _ => 0, g⟩ (fun r => (∀ c : Dev Cert.AdamWUqIdeal.nD,
      r.2.mem ((c.tc : Thread Cert.AdamWUqIdeal.nD Cert.AdamWUqIdeal.τ).loc Cert.AdamWUqIdeal.main_arg0) = m ((c.tc : Thread Cert.AdamWUqIdeal.nD Cert.AdamWUqIdeal.τ).loc Cert.AdamWUqIdeal.main_arg0)
      ∧ r.2.mem ((c.tc : Thread Cert.AdamWUqIdeal.nD Cert.AdamWUqIdeal.τ).loc Cert.AdamWUqIdeal.main_arg1) = m ((c.tc : Thread Cert.AdamWUqIdeal.nD Cert.AdamWUqIdeal.τ).loc Cert.AdamWUqIdeal.main_arg1)
      ∧ r.2.mem ((c.tc : Thread Cert.AdamWUqIdeal.nD Cert.AdamWUqIdeal.τ).loc Cert.AdamWUqIdeal.main_arg2) = m ((c.tc : Thread Cert.AdamWUqIdeal.nD Cert.AdamWUqIdeal.τ).loc Cert.AdamWUqIdeal.main_arg2)
      ∧ r.2.mem ((c.tc : Thread Cert.AdamWUqIdeal.nD Cert.AdamWUqIdeal.τ).loc Cert.AdamWUqIdeal.main_arg3) = m ((c.tc : Thread Cert.AdamWUqIdeal.nD Cert.AdamWUqIdeal.τ).loc Cert.AdamWUqIdeal.main_arg3))
      ∧ r.2.sem = fun _ => 0)

def quiescent_AdamWUqRefIdeal [hAdamWUqRefIdeal : Cert.AdamWUqRefIdeal.Facts] : Prop :=
  ∀ (m : (ℓ : Loc Cert.AdamWUqRefIdeal.nD Cert.AdamWUqRefIdeal.τ Cert.AdamWUqRefIdeal.sig) → Buf (Elt Ideal) ℓ) (g : Dev Cert.AdamWUqRefIdeal.nD → PrngReg), Pre_AdamWUqRefIdeal m →
    θ_run (Cert.AdamWUqRefIdeal.defs (F := Ideal)) (onTc (τ := Cert.AdamWUqRefIdeal.τ) (Cert.AdamWUqRefIdeal.main (F := Ideal))) ⟨m, fun _ => 0, g⟩ (fun r => (∀ c : Dev Cert.AdamWUqRefIdeal.nD,
      r.2.mem ((c.tc : Thread Cert.AdamWUqRefIdeal.nD Cert.AdamWUqRefIdeal.τ).loc Cert.AdamWUqRefIdeal.main_arg0) = m ((c.tc : Thread Cert.AdamWUqRefIdeal.nD Cert.AdamWUqRefIdeal.τ).loc Cert.AdamWUqRefIdeal.main_arg0)
      ∧ r.2.mem ((c.tc : Thread Cert.AdamWUqRefIdeal.nD Cert.AdamWUqRefIdeal.τ).loc Cert.AdamWUqRefIdeal.main_arg1) = m ((c.tc : Thread Cert.AdamWUqRefIdeal.nD Cert.AdamWUqRefIdeal.τ).loc Cert.AdamWUqRefIdeal.main_arg1)
      ∧ r.2.mem ((c.tc : Thread Cert.AdamWUqRefIdeal.nD Cert.AdamWUqRefIdeal.τ).loc Cert.AdamWUqRefIdeal.main_arg2) = m ((c.tc : Thread Cert.AdamWUqRefIdeal.nD Cert.AdamWUqRefIdeal.τ).loc Cert.AdamWUqRefIdeal.main_arg2)
      ∧ r.2.mem ((c.tc : Thread Cert.AdamWUqRefIdeal.nD Cert.AdamWUqRefIdeal.τ).loc Cert.AdamWUqRefIdeal.main_arg3) = m ((c.tc : Thread Cert.AdamWUqRefIdeal.nD Cert.AdamWUqRefIdeal.τ).loc Cert.AdamWUqRefIdeal.main_arg3))
      ∧ r.2.sem = fun _ => 0)

def quiescent_AdamWUkv [hAdamWUkv : Cert.AdamWUkv.Facts] : Prop :=
  ∀ (m : (ℓ : Loc Cert.AdamWUkv.nD Cert.AdamWUkv.τ Cert.AdamWUkv.sig) → Buf (Elt Bits) ℓ) (g : Dev Cert.AdamWUkv.nD → PrngReg), Pre_AdamWUkv m →
    θ_run (Cert.AdamWUkv.defs (F := Bits)) (onTc (τ := Cert.AdamWUkv.τ) (Cert.AdamWUkv.main (F := Bits))) ⟨m, fun _ => 0, g⟩ (fun r => (∀ c : Dev Cert.AdamWUkv.nD,
      r.2.mem ((c.tc : Thread Cert.AdamWUkv.nD Cert.AdamWUkv.τ).loc Cert.AdamWUkv.main_arg0) = m ((c.tc : Thread Cert.AdamWUkv.nD Cert.AdamWUkv.τ).loc Cert.AdamWUkv.main_arg0)
      ∧ r.2.mem ((c.tc : Thread Cert.AdamWUkv.nD Cert.AdamWUkv.τ).loc Cert.AdamWUkv.main_arg1) = m ((c.tc : Thread Cert.AdamWUkv.nD Cert.AdamWUkv.τ).loc Cert.AdamWUkv.main_arg1)
      ∧ r.2.mem ((c.tc : Thread Cert.AdamWUkv.nD Cert.AdamWUkv.τ).loc Cert.AdamWUkv.main_arg2) = m ((c.tc : Thread Cert.AdamWUkv.nD Cert.AdamWUkv.τ).loc Cert.AdamWUkv.main_arg2)
      ∧ r.2.mem ((c.tc : Thread Cert.AdamWUkv.nD Cert.AdamWUkv.τ).loc Cert.AdamWUkv.main_arg3) = m ((c.tc : Thread Cert.AdamWUkv.nD Cert.AdamWUkv.τ).loc Cert.AdamWUkv.main_arg3))
      ∧ r.2.sem = fun _ => 0)

def quiescent_AdamWUkvIdeal [hAdamWUkvIdeal : Cert.AdamWUkvIdeal.Facts] : Prop :=
  ∀ (m : (ℓ : Loc Cert.AdamWUkvIdeal.nD Cert.AdamWUkvIdeal.τ Cert.AdamWUkvIdeal.sig) → Buf (Elt Ideal) ℓ) (g : Dev Cert.AdamWUkvIdeal.nD → PrngReg), Pre_AdamWUkvIdeal m →
    θ_run (Cert.AdamWUkvIdeal.defs (F := Ideal)) (onTc (τ := Cert.AdamWUkvIdeal.τ) (Cert.AdamWUkvIdeal.main (F := Ideal))) ⟨m, fun _ => 0, g⟩ (fun r => (∀ c : Dev Cert.AdamWUkvIdeal.nD,
      r.2.mem ((c.tc : Thread Cert.AdamWUkvIdeal.nD Cert.AdamWUkvIdeal.τ).loc Cert.AdamWUkvIdeal.main_arg0) = m ((c.tc : Thread Cert.AdamWUkvIdeal.nD Cert.AdamWUkvIdeal.τ).loc Cert.AdamWUkvIdeal.main_arg0)
      ∧ r.2.mem ((c.tc : Thread Cert.AdamWUkvIdeal.nD Cert.AdamWUkvIdeal.τ).loc Cert.AdamWUkvIdeal.main_arg1) = m ((c.tc : Thread Cert.AdamWUkvIdeal.nD Cert.AdamWUkvIdeal.τ).loc Cert.AdamWUkvIdeal.main_arg1)
      ∧ r.2.mem ((c.tc : Thread Cert.AdamWUkvIdeal.nD Cert.AdamWUkvIdeal.τ).loc Cert.AdamWUkvIdeal.main_arg2) = m ((c.tc : Thread Cert.AdamWUkvIdeal.nD Cert.AdamWUkvIdeal.τ).loc Cert.AdamWUkvIdeal.main_arg2)
      ∧ r.2.mem ((c.tc : Thread Cert.AdamWUkvIdeal.nD Cert.AdamWUkvIdeal.τ).loc Cert.AdamWUkvIdeal.main_arg3) = m ((c.tc : Thread Cert.AdamWUkvIdeal.nD Cert.AdamWUkvIdeal.τ).loc Cert.AdamWUkvIdeal.main_arg3))
      ∧ r.2.sem = fun _ => 0)

def quiescent_AdamWUkvRefIdeal [hAdamWUkvRefIdeal : Cert.AdamWUkvRefIdeal.Facts] : Prop :=
  ∀ (m : (ℓ : Loc Cert.AdamWUkvRefIdeal.nD Cert.AdamWUkvRefIdeal.τ Cert.AdamWUkvRefIdeal.sig) → Buf (Elt Ideal) ℓ) (g : Dev Cert.AdamWUkvRefIdeal.nD → PrngReg), Pre_AdamWUkvRefIdeal m →
    θ_run (Cert.AdamWUkvRefIdeal.defs (F := Ideal)) (onTc (τ := Cert.AdamWUkvRefIdeal.τ) (Cert.AdamWUkvRefIdeal.main (F := Ideal))) ⟨m, fun _ => 0, g⟩ (fun r => (∀ c : Dev Cert.AdamWUkvRefIdeal.nD,
      r.2.mem ((c.tc : Thread Cert.AdamWUkvRefIdeal.nD Cert.AdamWUkvRefIdeal.τ).loc Cert.AdamWUkvRefIdeal.main_arg0) = m ((c.tc : Thread Cert.AdamWUkvRefIdeal.nD Cert.AdamWUkvRefIdeal.τ).loc Cert.AdamWUkvRefIdeal.main_arg0)
      ∧ r.2.mem ((c.tc : Thread Cert.AdamWUkvRefIdeal.nD Cert.AdamWUkvRefIdeal.τ).loc Cert.AdamWUkvRefIdeal.main_arg1) = m ((c.tc : Thread Cert.AdamWUkvRefIdeal.nD Cert.AdamWUkvRefIdeal.τ).loc Cert.AdamWUkvRefIdeal.main_arg1)
      ∧ r.2.mem ((c.tc : Thread Cert.AdamWUkvRefIdeal.nD Cert.AdamWUkvRefIdeal.τ).loc Cert.AdamWUkvRefIdeal.main_arg2) = m ((c.tc : Thread Cert.AdamWUkvRefIdeal.nD Cert.AdamWUkvRefIdeal.τ).loc Cert.AdamWUkvRefIdeal.main_arg2)
      ∧ r.2.mem ((c.tc : Thread Cert.AdamWUkvRefIdeal.nD Cert.AdamWUkvRefIdeal.τ).loc Cert.AdamWUkvRefIdeal.main_arg3) = m ((c.tc : Thread Cert.AdamWUkvRefIdeal.nD Cert.AdamWUkvRefIdeal.τ).loc Cert.AdamWUkvRefIdeal.main_arg3))
      ∧ r.2.sem = fun _ => 0)

def quiescent_AdamRwW2 [hAdamRwW2 : Cert.AdamRwW2.Facts] : Prop :=
  ∀ (m : (ℓ : Loc Cert.AdamRwW2.nD Cert.AdamRwW2.τ Cert.AdamRwW2.sig) → Buf (Elt Bits) ℓ) (g : Dev Cert.AdamRwW2.nD → PrngReg), Pre_AdamRwW2 m →
    θ_run (Cert.AdamRwW2.defs (F := Bits)) (onTc (τ := Cert.AdamRwW2.τ) (Cert.AdamRwW2.main (F := Bits))) ⟨m, fun _ => 0, g⟩ (fun r => (∀ c : Dev Cert.AdamRwW2.nD,
      r.2.mem ((c.tc : Thread Cert.AdamRwW2.nD Cert.AdamRwW2.τ).loc Cert.AdamRwW2.main_arg0) = m ((c.tc : Thread Cert.AdamRwW2.nD Cert.AdamRwW2.τ).loc Cert.AdamRwW2.main_arg0)
      ∧ r.2.mem ((c.tc : Thread Cert.AdamRwW2.nD Cert.AdamRwW2.τ).loc Cert.AdamRwW2.main_arg1) = m ((c.tc : Thread Cert.AdamRwW2.nD Cert.AdamRwW2.τ).loc Cert.AdamRwW2.main_arg1)
      ∧ r.2.mem ((c.tc : Thread Cert.AdamRwW2.nD Cert.AdamRwW2.τ).loc Cert.AdamRwW2.main_arg2) = m ((c.tc : Thread Cert.AdamRwW2.nD Cert.AdamRwW2.τ).loc Cert.AdamRwW2.main_arg2)
      ∧ r.2.mem ((c.tc : Thread Cert.AdamRwW2.nD Cert.AdamRwW2.τ).loc Cert.AdamRwW2.main_arg3) = m ((c.tc : Thread Cert.AdamRwW2.nD Cert.AdamRwW2.τ).loc Cert.AdamRwW2.main_arg3))
      ∧ r.2.sem = fun _ => 0)

def quiescent_AdamRwW2Ideal [hAdamRwW2Ideal : Cert.AdamRwW2Ideal.Facts] : Prop :=
  ∀ (m : (ℓ : Loc Cert.AdamRwW2Ideal.nD Cert.AdamRwW2Ideal.τ Cert.AdamRwW2Ideal.sig) → Buf (Elt Ideal) ℓ) (g : Dev Cert.AdamRwW2Ideal.nD → PrngReg), Pre_AdamRwW2Ideal m →
    θ_run (Cert.AdamRwW2Ideal.defs (F := Ideal)) (onTc (τ := Cert.AdamRwW2Ideal.τ) (Cert.AdamRwW2Ideal.main (F := Ideal))) ⟨m, fun _ => 0, g⟩ (fun r => (∀ c : Dev Cert.AdamRwW2Ideal.nD,
      r.2.mem ((c.tc : Thread Cert.AdamRwW2Ideal.nD Cert.AdamRwW2Ideal.τ).loc Cert.AdamRwW2Ideal.main_arg0) = m ((c.tc : Thread Cert.AdamRwW2Ideal.nD Cert.AdamRwW2Ideal.τ).loc Cert.AdamRwW2Ideal.main_arg0)
      ∧ r.2.mem ((c.tc : Thread Cert.AdamRwW2Ideal.nD Cert.AdamRwW2Ideal.τ).loc Cert.AdamRwW2Ideal.main_arg1) = m ((c.tc : Thread Cert.AdamRwW2Ideal.nD Cert.AdamRwW2Ideal.τ).loc Cert.AdamRwW2Ideal.main_arg1)
      ∧ r.2.mem ((c.tc : Thread Cert.AdamRwW2Ideal.nD Cert.AdamRwW2Ideal.τ).loc Cert.AdamRwW2Ideal.main_arg2) = m ((c.tc : Thread Cert.AdamRwW2Ideal.nD Cert.AdamRwW2Ideal.τ).loc Cert.AdamRwW2Ideal.main_arg2)
      ∧ r.2.mem ((c.tc : Thread Cert.AdamRwW2Ideal.nD Cert.AdamRwW2Ideal.τ).loc Cert.AdamRwW2Ideal.main_arg3) = m ((c.tc : Thread Cert.AdamRwW2Ideal.nD Cert.AdamRwW2Ideal.τ).loc Cert.AdamRwW2Ideal.main_arg3))
      ∧ r.2.sem = fun _ => 0)

def quiescent_AdamRwW2RefIdeal [hAdamRwW2RefIdeal : Cert.AdamRwW2RefIdeal.Facts] : Prop :=
  ∀ (m : (ℓ : Loc Cert.AdamRwW2RefIdeal.nD Cert.AdamRwW2RefIdeal.τ Cert.AdamRwW2RefIdeal.sig) → Buf (Elt Ideal) ℓ) (g : Dev Cert.AdamRwW2RefIdeal.nD → PrngReg), Pre_AdamRwW2RefIdeal m →
    θ_run (Cert.AdamRwW2RefIdeal.defs (F := Ideal)) (onTc (τ := Cert.AdamRwW2RefIdeal.τ) (Cert.AdamRwW2RefIdeal.main (F := Ideal))) ⟨m, fun _ => 0, g⟩ (fun r => (∀ c : Dev Cert.AdamRwW2RefIdeal.nD,
      r.2.mem ((c.tc : Thread Cert.AdamRwW2RefIdeal.nD Cert.AdamRwW2RefIdeal.τ).loc Cert.AdamRwW2RefIdeal.main_arg0) = m ((c.tc : Thread Cert.AdamRwW2RefIdeal.nD Cert.AdamRwW2RefIdeal.τ).loc Cert.AdamRwW2RefIdeal.main_arg0)
      ∧ r.2.mem ((c.tc : Thread Cert.AdamRwW2RefIdeal.nD Cert.AdamRwW2RefIdeal.τ).loc Cert.AdamRwW2RefIdeal.main_arg1) = m ((c.tc : Thread Cert.AdamRwW2RefIdeal.nD Cert.AdamRwW2RefIdeal.τ).loc Cert.AdamRwW2RefIdeal.main_arg1)
      ∧ r.2.mem ((c.tc : Thread Cert.AdamRwW2RefIdeal.nD Cert.AdamRwW2RefIdeal.τ).loc Cert.AdamRwW2RefIdeal.main_arg2) = m ((c.tc : Thread Cert.AdamRwW2RefIdeal.nD Cert.AdamRwW2RefIdeal.τ).loc Cert.AdamRwW2RefIdeal.main_arg2)
      ∧ r.2.mem ((c.tc : Thread Cert.AdamRwW2RefIdeal.nD Cert.AdamRwW2RefIdeal.τ).loc Cert.AdamRwW2RefIdeal.main_arg3) = m ((c.tc : Thread Cert.AdamRwW2RefIdeal.nD Cert.AdamRwW2RefIdeal.τ).loc Cert.AdamRwW2RefIdeal.main_arg3))
      ∧ r.2.sem = fun _ => 0)

def quiescent_AdamRwA2 [hAdamRwA2 : Cert.AdamRwA2.Facts] : Prop :=
  ∀ (m : (ℓ : Loc Cert.AdamRwA2.nD Cert.AdamRwA2.τ Cert.AdamRwA2.sig) → Buf (Elt Bits) ℓ) (g : Dev Cert.AdamRwA2.nD → PrngReg), Pre_AdamRwA2 m →
    θ_run (Cert.AdamRwA2.defs (F := Bits)) (onTc (τ := Cert.AdamRwA2.τ) (Cert.AdamRwA2.main (F := Bits))) ⟨m, fun _ => 0, g⟩ (fun r => (∀ c : Dev Cert.AdamRwA2.nD,
      r.2.mem ((c.tc : Thread Cert.AdamRwA2.nD Cert.AdamRwA2.τ).loc Cert.AdamRwA2.main_arg0) = m ((c.tc : Thread Cert.AdamRwA2.nD Cert.AdamRwA2.τ).loc Cert.AdamRwA2.main_arg0)
      ∧ r.2.mem ((c.tc : Thread Cert.AdamRwA2.nD Cert.AdamRwA2.τ).loc Cert.AdamRwA2.main_arg1) = m ((c.tc : Thread Cert.AdamRwA2.nD Cert.AdamRwA2.τ).loc Cert.AdamRwA2.main_arg1)
      ∧ r.2.mem ((c.tc : Thread Cert.AdamRwA2.nD Cert.AdamRwA2.τ).loc Cert.AdamRwA2.main_arg2) = m ((c.tc : Thread Cert.AdamRwA2.nD Cert.AdamRwA2.τ).loc Cert.AdamRwA2.main_arg2)
      ∧ r.2.mem ((c.tc : Thread Cert.AdamRwA2.nD Cert.AdamRwA2.τ).loc Cert.AdamRwA2.main_arg3) = m ((c.tc : Thread Cert.AdamRwA2.nD Cert.AdamRwA2.τ).loc Cert.AdamRwA2.main_arg3))
      ∧ r.2.sem = fun _ => 0)

def quiescent_AdamRwA2Ideal [hAdamRwA2Ideal : Cert.AdamRwA2Ideal.Facts] : Prop :=
  ∀ (m : (ℓ : Loc Cert.AdamRwA2Ideal.nD Cert.AdamRwA2Ideal.τ Cert.AdamRwA2Ideal.sig) → Buf (Elt Ideal) ℓ) (g : Dev Cert.AdamRwA2Ideal.nD → PrngReg), Pre_AdamRwA2Ideal m →
    θ_run (Cert.AdamRwA2Ideal.defs (F := Ideal)) (onTc (τ := Cert.AdamRwA2Ideal.τ) (Cert.AdamRwA2Ideal.main (F := Ideal))) ⟨m, fun _ => 0, g⟩ (fun r => (∀ c : Dev Cert.AdamRwA2Ideal.nD,
      r.2.mem ((c.tc : Thread Cert.AdamRwA2Ideal.nD Cert.AdamRwA2Ideal.τ).loc Cert.AdamRwA2Ideal.main_arg0) = m ((c.tc : Thread Cert.AdamRwA2Ideal.nD Cert.AdamRwA2Ideal.τ).loc Cert.AdamRwA2Ideal.main_arg0)
      ∧ r.2.mem ((c.tc : Thread Cert.AdamRwA2Ideal.nD Cert.AdamRwA2Ideal.τ).loc Cert.AdamRwA2Ideal.main_arg1) = m ((c.tc : Thread Cert.AdamRwA2Ideal.nD Cert.AdamRwA2Ideal.τ).loc Cert.AdamRwA2Ideal.main_arg1)
      ∧ r.2.mem ((c.tc : Thread Cert.AdamRwA2Ideal.nD Cert.AdamRwA2Ideal.τ).loc Cert.AdamRwA2Ideal.main_arg2) = m ((c.tc : Thread Cert.AdamRwA2Ideal.nD Cert.AdamRwA2Ideal.τ).loc Cert.AdamRwA2Ideal.main_arg2)
      ∧ r.2.mem ((c.tc : Thread Cert.AdamRwA2Ideal.nD Cert.AdamRwA2Ideal.τ).loc Cert.AdamRwA2Ideal.main_arg3) = m ((c.tc : Thread Cert.AdamRwA2Ideal.nD Cert.AdamRwA2Ideal.τ).loc Cert.AdamRwA2Ideal.main_arg3))
      ∧ r.2.sem = fun _ => 0)

def quiescent_AdamRwA2RefIdeal [hAdamRwA2RefIdeal : Cert.AdamRwA2RefIdeal.Facts] : Prop :=
  ∀ (m : (ℓ : Loc Cert.AdamRwA2RefIdeal.nD Cert.AdamRwA2RefIdeal.τ Cert.AdamRwA2RefIdeal.sig) → Buf (Elt Ideal) ℓ) (g : Dev Cert.AdamRwA2RefIdeal.nD → PrngReg), Pre_AdamRwA2RefIdeal m →
    θ_run (Cert.AdamRwA2RefIdeal.defs (F := Ideal)) (onTc (τ := Cert.AdamRwA2RefIdeal.τ) (Cert.AdamRwA2RefIdeal.main (F := Ideal))) ⟨m, fun _ => 0, g⟩ (fun r => (∀ c : Dev Cert.AdamRwA2RefIdeal.nD,
      r.2.mem ((c.tc : Thread Cert.AdamRwA2RefIdeal.nD Cert.AdamRwA2RefIdeal.τ).loc Cert.AdamRwA2RefIdeal.main_arg0) = m ((c.tc : Thread Cert.AdamRwA2RefIdeal.nD Cert.AdamRwA2RefIdeal.τ).loc Cert.AdamRwA2RefIdeal.main_arg0)
      ∧ r.2.mem ((c.tc : Thread Cert.AdamRwA2RefIdeal.nD Cert.AdamRwA2RefIdeal.τ).loc Cert.AdamRwA2RefIdeal.main_arg1) = m ((c.tc : Thread Cert.AdamRwA2RefIdeal.nD Cert.AdamRwA2RefIdeal.τ).loc Cert.AdamRwA2RefIdeal.main_arg1)
      ∧ r.2.mem ((c.tc : Thread Cert.AdamRwA2RefIdeal.nD Cert.AdamRwA2RefIdeal.τ).loc Cert.AdamRwA2RefIdeal.main_arg2) = m ((c.tc : Thread Cert.AdamRwA2RefIdeal.nD Cert.AdamRwA2RefIdeal.τ).loc Cert.AdamRwA2RefIdeal.main_arg2)
      ∧ r.2.mem ((c.tc : Thread Cert.AdamRwA2RefIdeal.nD Cert.AdamRwA2RefIdeal.τ).loc Cert.AdamRwA2RefIdeal.main_arg3) = m ((c.tc : Thread Cert.AdamRwA2RefIdeal.nD Cert.AdamRwA2RefIdeal.τ).loc Cert.AdamRwA2RefIdeal.main_arg3))
      ∧ r.2.sem = fun _ => 0)

def quiescent_AdamRwG2 [hAdamRwG2 : Cert.AdamRwG2.Facts] : Prop :=
  ∀ (m : (ℓ : Loc Cert.AdamRwG2.nD Cert.AdamRwG2.τ Cert.AdamRwG2.sig) → Buf (Elt Bits) ℓ) (g : Dev Cert.AdamRwG2.nD → PrngReg), Pre_AdamRwG2 m →
    θ_run (Cert.AdamRwG2.defs (F := Bits)) (onTc (τ := Cert.AdamRwG2.τ) (Cert.AdamRwG2.main (F := Bits))) ⟨m, fun _ => 0, g⟩ (fun r => (∀ c : Dev Cert.AdamRwG2.nD,
      r.2.mem ((c.tc : Thread Cert.AdamRwG2.nD Cert.AdamRwG2.τ).loc Cert.AdamRwG2.main_arg0) = m ((c.tc : Thread Cert.AdamRwG2.nD Cert.AdamRwG2.τ).loc Cert.AdamRwG2.main_arg0)
      ∧ r.2.mem ((c.tc : Thread Cert.AdamRwG2.nD Cert.AdamRwG2.τ).loc Cert.AdamRwG2.main_arg1) = m ((c.tc : Thread Cert.AdamRwG2.nD Cert.AdamRwG2.τ).loc Cert.AdamRwG2.main_arg1)
      ∧ r.2.mem ((c.tc : Thread Cert.AdamRwG2.nD Cert.AdamRwG2.τ).loc Cert.AdamRwG2.main_arg2) = m ((c.tc : Thread Cert.AdamRwG2.nD Cert.AdamRwG2.τ).loc Cert.AdamRwG2.main_arg2)
      ∧ r.2.mem ((c.tc : Thread Cert.AdamRwG2.nD Cert.AdamRwG2.τ).loc Cert.AdamRwG2.main_arg3) = m ((c.tc : Thread Cert.AdamRwG2.nD Cert.AdamRwG2.τ).loc Cert.AdamRwG2.main_arg3))
      ∧ r.2.sem = fun _ => 0)

def quiescent_AdamRwG2Ideal [hAdamRwG2Ideal : Cert.AdamRwG2Ideal.Facts] : Prop :=
  ∀ (m : (ℓ : Loc Cert.AdamRwG2Ideal.nD Cert.AdamRwG2Ideal.τ Cert.AdamRwG2Ideal.sig) → Buf (Elt Ideal) ℓ) (g : Dev Cert.AdamRwG2Ideal.nD → PrngReg), Pre_AdamRwG2Ideal m →
    θ_run (Cert.AdamRwG2Ideal.defs (F := Ideal)) (onTc (τ := Cert.AdamRwG2Ideal.τ) (Cert.AdamRwG2Ideal.main (F := Ideal))) ⟨m, fun _ => 0, g⟩ (fun r => (∀ c : Dev Cert.AdamRwG2Ideal.nD,
      r.2.mem ((c.tc : Thread Cert.AdamRwG2Ideal.nD Cert.AdamRwG2Ideal.τ).loc Cert.AdamRwG2Ideal.main_arg0) = m ((c.tc : Thread Cert.AdamRwG2Ideal.nD Cert.AdamRwG2Ideal.τ).loc Cert.AdamRwG2Ideal.main_arg0)
      ∧ r.2.mem ((c.tc : Thread Cert.AdamRwG2Ideal.nD Cert.AdamRwG2Ideal.τ).loc Cert.AdamRwG2Ideal.main_arg1) = m ((c.tc : Thread Cert.AdamRwG2Ideal.nD Cert.AdamRwG2Ideal.τ).loc Cert.AdamRwG2Ideal.main_arg1)
      ∧ r.2.mem ((c.tc : Thread Cert.AdamRwG2Ideal.nD Cert.AdamRwG2Ideal.τ).loc Cert.AdamRwG2Ideal.main_arg2) = m ((c.tc : Thread Cert.AdamRwG2Ideal.nD Cert.AdamRwG2Ideal.τ).loc Cert.AdamRwG2Ideal.main_arg2)
      ∧ r.2.mem ((c.tc : Thread Cert.AdamRwG2Ideal.nD Cert.AdamRwG2Ideal.τ).loc Cert.AdamRwG2Ideal.main_arg3) = m ((c.tc : Thread Cert.AdamRwG2Ideal.nD Cert.AdamRwG2Ideal.τ).loc Cert.AdamRwG2Ideal.main_arg3))
      ∧ r.2.sem = fun _ => 0)

def quiescent_AdamRwG2RefIdeal [hAdamRwG2RefIdeal : Cert.AdamRwG2RefIdeal.Facts] : Prop :=
  ∀ (m : (ℓ : Loc Cert.AdamRwG2RefIdeal.nD Cert.AdamRwG2RefIdeal.τ Cert.AdamRwG2RefIdeal.sig) → Buf (Elt Ideal) ℓ) (g : Dev Cert.AdamRwG2RefIdeal.nD → PrngReg), Pre_AdamRwG2RefIdeal m →
    θ_run (Cert.AdamRwG2RefIdeal.defs (F := Ideal)) (onTc (τ := Cert.AdamRwG2RefIdeal.τ) (Cert.AdamRwG2RefIdeal.main (F := Ideal))) ⟨m, fun _ => 0, g⟩ (fun r => (∀ c : Dev Cert.AdamRwG2RefIdeal.nD,
      r.2.mem ((c.tc : Thread Cert.AdamRwG2RefIdeal.nD Cert.AdamRwG2RefIdeal.τ).loc Cert.AdamRwG2RefIdeal.main_arg0) = m ((c.tc : Thread Cert.AdamRwG2RefIdeal.nD Cert.AdamRwG2RefIdeal.τ).loc Cert.AdamRwG2RefIdeal.main_arg0)
      ∧ r.2.mem ((c.tc : Thread Cert.AdamRwG2RefIdeal.nD Cert.AdamRwG2RefIdeal.τ).loc Cert.AdamRwG2RefIdeal.main_arg1) = m ((c.tc : Thread Cert.AdamRwG2RefIdeal.nD Cert.AdamRwG2RefIdeal.τ).loc Cert.AdamRwG2RefIdeal.main_arg1)
      ∧ r.2.mem ((c.tc : Thread Cert.AdamRwG2RefIdeal.nD Cert.AdamRwG2RefIdeal.τ).loc Cert.AdamRwG2RefIdeal.main_arg2) = m ((c.tc : Thread Cert.AdamRwG2RefIdeal.nD Cert.AdamRwG2RefIdeal.τ).loc Cert.AdamRwG2RefIdeal.main_arg2)
      ∧ r.2.mem ((c.tc : Thread Cert.AdamRwG2RefIdeal.nD Cert.AdamRwG2RefIdeal.τ).loc Cert.AdamRwG2RefIdeal.main_arg3) = m ((c.tc : Thread Cert.AdamRwG2RefIdeal.nD Cert.AdamRwG2RefIdeal.τ).loc Cert.AdamRwG2RefIdeal.main_arg3))
      ∧ r.2.sem = fun _ => 0)

def quiescent_AdamWBranch [hAdamWBranch : Cert.AdamWBranch.Facts] : Prop :=
  ∀ (m : (ℓ : Loc Cert.AdamWBranch.nD Cert.AdamWBranch.τ Cert.AdamWBranch.sig) → Buf (Elt Bits) ℓ) (g : Dev Cert.AdamWBranch.nD → PrngReg), Pre_AdamWBranch m →
    θ_run (Cert.AdamWBranch.defs (F := Bits)) (onTc (τ := Cert.AdamWBranch.τ) (Cert.AdamWBranch.main (F := Bits))) ⟨m, fun _ => 0, g⟩ (fun r => (∀ c : Dev Cert.AdamWBranch.nD,
      r.2.mem ((c.tc : Thread Cert.AdamWBranch.nD Cert.AdamWBranch.τ).loc Cert.AdamWBranch.main_arg0) = m ((c.tc : Thread Cert.AdamWBranch.nD Cert.AdamWBranch.τ).loc Cert.AdamWBranch.main_arg0)
      ∧ r.2.mem ((c.tc : Thread Cert.AdamWBranch.nD Cert.AdamWBranch.τ).loc Cert.AdamWBranch.main_arg1) = m ((c.tc : Thread Cert.AdamWBranch.nD Cert.AdamWBranch.τ).loc Cert.AdamWBranch.main_arg1)
      ∧ r.2.mem ((c.tc : Thread Cert.AdamWBranch.nD Cert.AdamWBranch.τ).loc Cert.AdamWBranch.main_arg2) = m ((c.tc : Thread Cert.AdamWBranch.nD Cert.AdamWBranch.τ).loc Cert.AdamWBranch.main_arg2)
      ∧ r.2.mem ((c.tc : Thread Cert.AdamWBranch.nD Cert.AdamWBranch.τ).loc Cert.AdamWBranch.main_arg3) = m ((c.tc : Thread Cert.AdamWBranch.nD Cert.AdamWBranch.τ).loc Cert.AdamWBranch.main_arg3))
      ∧ r.2.sem = fun _ => 0)

def quiescent_AdamWBranchIdeal [hAdamWBranchIdeal : Cert.AdamWBranchIdeal.Facts] : Prop :=
  ∀ (m : (ℓ : Loc Cert.AdamWBranchIdeal.nD Cert.AdamWBranchIdeal.τ Cert.AdamWBranchIdeal.sig) → Buf (Elt Ideal) ℓ) (g : Dev Cert.AdamWBranchIdeal.nD → PrngReg), Pre_AdamWBranchIdeal m →
    θ_run (Cert.AdamWBranchIdeal.defs (F := Ideal)) (onTc (τ := Cert.AdamWBranchIdeal.τ) (Cert.AdamWBranchIdeal.main (F := Ideal))) ⟨m, fun _ => 0, g⟩ (fun r => (∀ c : Dev Cert.AdamWBranchIdeal.nD,
      r.2.mem ((c.tc : Thread Cert.AdamWBranchIdeal.nD Cert.AdamWBranchIdeal.τ).loc Cert.AdamWBranchIdeal.main_arg0) = m ((c.tc : Thread Cert.AdamWBranchIdeal.nD Cert.AdamWBranchIdeal.τ).loc Cert.AdamWBranchIdeal.main_arg0)
      ∧ r.2.mem ((c.tc : Thread Cert.AdamWBranchIdeal.nD Cert.AdamWBranchIdeal.τ).loc Cert.AdamWBranchIdeal.main_arg1) = m ((c.tc : Thread Cert.AdamWBranchIdeal.nD Cert.AdamWBranchIdeal.τ).loc Cert.AdamWBranchIdeal.main_arg1)
      ∧ r.2.mem ((c.tc : Thread Cert.AdamWBranchIdeal.nD Cert.AdamWBranchIdeal.τ).loc Cert.AdamWBranchIdeal.main_arg2) = m ((c.tc : Thread Cert.AdamWBranchIdeal.nD Cert.AdamWBranchIdeal.τ).loc Cert.AdamWBranchIdeal.main_arg2)
      ∧ r.2.mem ((c.tc : Thread Cert.AdamWBranchIdeal.nD Cert.AdamWBranchIdeal.τ).loc Cert.AdamWBranchIdeal.main_arg3) = m ((c.tc : Thread Cert.AdamWBranchIdeal.nD Cert.AdamWBranchIdeal.τ).loc Cert.AdamWBranchIdeal.main_arg3))
      ∧ r.2.sem = fun _ => 0)

def quiescent_AdamWBranchRefIdeal [hAdamWBranchRefIdeal : Cert.AdamWBranchRefIdeal.Facts] : Prop :=
  ∀ (m : (ℓ : Loc Cert.AdamWBranchRefIdeal.nD Cert.AdamWBranchRefIdeal.τ Cert.AdamWBranchRefIdeal.sig) → Buf (Elt Ideal) ℓ) (g : Dev Cert.AdamWBranchRefIdeal.nD → PrngReg), Pre_AdamWBranchRefIdeal m →
    θ_run (Cert.AdamWBranchRefIdeal.defs (F := Ideal)) (onTc (τ := Cert.AdamWBranchRefIdeal.τ) (Cert.AdamWBranchRefIdeal.main (F := Ideal))) ⟨m, fun _ => 0, g⟩ (fun r => (∀ c : Dev Cert.AdamWBranchRefIdeal.nD,
      r.2.mem ((c.tc : Thread Cert.AdamWBranchRefIdeal.nD Cert.AdamWBranchRefIdeal.τ).loc Cert.AdamWBranchRefIdeal.main_arg0) = m ((c.tc : Thread Cert.AdamWBranchRefIdeal.nD Cert.AdamWBranchRefIdeal.τ).loc Cert.AdamWBranchRefIdeal.main_arg0)
      ∧ r.2.mem ((c.tc : Thread Cert.AdamWBranchRefIdeal.nD Cert.AdamWBranchRefIdeal.τ).loc Cert.AdamWBranchRefIdeal.main_arg1) = m ((c.tc : Thread Cert.AdamWBranchRefIdeal.nD Cert.AdamWBranchRefIdeal.τ).loc Cert.AdamWBranchRefIdeal.main_arg1)
      ∧ r.2.mem ((c.tc : Thread Cert.AdamWBranchRefIdeal.nD Cert.AdamWBranchRefIdeal.τ).loc Cert.AdamWBranchRefIdeal.main_arg2) = m ((c.tc : Thread Cert.AdamWBranchRefIdeal.nD Cert.AdamWBranchRefIdeal.τ).loc Cert.AdamWBranchRefIdeal.main_arg2)
      ∧ r.2.mem ((c.tc : Thread Cert.AdamWBranchRefIdeal.nD Cert.AdamWBranchRefIdeal.τ).loc Cert.AdamWBranchRefIdeal.main_arg3) = m ((c.tc : Thread Cert.AdamWBranchRefIdeal.nD Cert.AdamWBranchRefIdeal.τ).loc Cert.AdamWBranchRefIdeal.main_arg3))
      ∧ r.2.sem = fun _ => 0)

def quiescent_AdamWOut [hAdamWOut : Cert.AdamWOut.Facts] : Prop :=
  ∀ (m : (ℓ : Loc Cert.AdamWOut.nD Cert.AdamWOut.τ Cert.AdamWOut.sig) → Buf (Elt Bits) ℓ) (g : Dev Cert.AdamWOut.nD → PrngReg), Pre_AdamWOut m →
    θ_run (Cert.AdamWOut.defs (F := Bits)) (onTc (τ := Cert.AdamWOut.τ) (Cert.AdamWOut.main (F := Bits))) ⟨m, fun _ => 0, g⟩ (fun r => (∀ c : Dev Cert.AdamWOut.nD,
      r.2.mem ((c.tc : Thread Cert.AdamWOut.nD Cert.AdamWOut.τ).loc Cert.AdamWOut.main_arg0) = m ((c.tc : Thread Cert.AdamWOut.nD Cert.AdamWOut.τ).loc Cert.AdamWOut.main_arg0)
      ∧ r.2.mem ((c.tc : Thread Cert.AdamWOut.nD Cert.AdamWOut.τ).loc Cert.AdamWOut.main_arg1) = m ((c.tc : Thread Cert.AdamWOut.nD Cert.AdamWOut.τ).loc Cert.AdamWOut.main_arg1)
      ∧ r.2.mem ((c.tc : Thread Cert.AdamWOut.nD Cert.AdamWOut.τ).loc Cert.AdamWOut.main_arg2) = m ((c.tc : Thread Cert.AdamWOut.nD Cert.AdamWOut.τ).loc Cert.AdamWOut.main_arg2)
      ∧ r.2.mem ((c.tc : Thread Cert.AdamWOut.nD Cert.AdamWOut.τ).loc Cert.AdamWOut.main_arg3) = m ((c.tc : Thread Cert.AdamWOut.nD Cert.AdamWOut.τ).loc Cert.AdamWOut.main_arg3))
      ∧ r.2.sem = fun _ => 0)

def quiescent_AdamWOutIdeal [hAdamWOutIdeal : Cert.AdamWOutIdeal.Facts] : Prop :=
  ∀ (m : (ℓ : Loc Cert.AdamWOutIdeal.nD Cert.AdamWOutIdeal.τ Cert.AdamWOutIdeal.sig) → Buf (Elt Ideal) ℓ) (g : Dev Cert.AdamWOutIdeal.nD → PrngReg), Pre_AdamWOutIdeal m →
    θ_run (Cert.AdamWOutIdeal.defs (F := Ideal)) (onTc (τ := Cert.AdamWOutIdeal.τ) (Cert.AdamWOutIdeal.main (F := Ideal))) ⟨m, fun _ => 0, g⟩ (fun r => (∀ c : Dev Cert.AdamWOutIdeal.nD,
      r.2.mem ((c.tc : Thread Cert.AdamWOutIdeal.nD Cert.AdamWOutIdeal.τ).loc Cert.AdamWOutIdeal.main_arg0) = m ((c.tc : Thread Cert.AdamWOutIdeal.nD Cert.AdamWOutIdeal.τ).loc Cert.AdamWOutIdeal.main_arg0)
      ∧ r.2.mem ((c.tc : Thread Cert.AdamWOutIdeal.nD Cert.AdamWOutIdeal.τ).loc Cert.AdamWOutIdeal.main_arg1) = m ((c.tc : Thread Cert.AdamWOutIdeal.nD Cert.AdamWOutIdeal.τ).loc Cert.AdamWOutIdeal.main_arg1)
      ∧ r.2.mem ((c.tc : Thread Cert.AdamWOutIdeal.nD Cert.AdamWOutIdeal.τ).loc Cert.AdamWOutIdeal.main_arg2) = m ((c.tc : Thread Cert.AdamWOutIdeal.nD Cert.AdamWOutIdeal.τ).loc Cert.AdamWOutIdeal.main_arg2)
      ∧ r.2.mem ((c.tc : Thread Cert.AdamWOutIdeal.nD Cert.AdamWOutIdeal.τ).loc Cert.AdamWOutIdeal.main_arg3) = m ((c.tc : Thread Cert.AdamWOutIdeal.nD Cert.AdamWOutIdeal.τ).loc Cert.AdamWOutIdeal.main_arg3))
      ∧ r.2.sem = fun _ => 0)

def quiescent_AdamWOutRefIdeal [hAdamWOutRefIdeal : Cert.AdamWOutRefIdeal.Facts] : Prop :=
  ∀ (m : (ℓ : Loc Cert.AdamWOutRefIdeal.nD Cert.AdamWOutRefIdeal.τ Cert.AdamWOutRefIdeal.sig) → Buf (Elt Ideal) ℓ) (g : Dev Cert.AdamWOutRefIdeal.nD → PrngReg), Pre_AdamWOutRefIdeal m →
    θ_run (Cert.AdamWOutRefIdeal.defs (F := Ideal)) (onTc (τ := Cert.AdamWOutRefIdeal.τ) (Cert.AdamWOutRefIdeal.main (F := Ideal))) ⟨m, fun _ => 0, g⟩ (fun r => (∀ c : Dev Cert.AdamWOutRefIdeal.nD,
      r.2.mem ((c.tc : Thread Cert.AdamWOutRefIdeal.nD Cert.AdamWOutRefIdeal.τ).loc Cert.AdamWOutRefIdeal.main_arg0) = m ((c.tc : Thread Cert.AdamWOutRefIdeal.nD Cert.AdamWOutRefIdeal.τ).loc Cert.AdamWOutRefIdeal.main_arg0)
      ∧ r.2.mem ((c.tc : Thread Cert.AdamWOutRefIdeal.nD Cert.AdamWOutRefIdeal.τ).loc Cert.AdamWOutRefIdeal.main_arg1) = m ((c.tc : Thread Cert.AdamWOutRefIdeal.nD Cert.AdamWOutRefIdeal.τ).loc Cert.AdamWOutRefIdeal.main_arg1)
      ∧ r.2.mem ((c.tc : Thread Cert.AdamWOutRefIdeal.nD Cert.AdamWOutRefIdeal.τ).loc Cert.AdamWOutRefIdeal.main_arg2) = m ((c.tc : Thread Cert.AdamWOutRefIdeal.nD Cert.AdamWOutRefIdeal.τ).loc Cert.AdamWOutRefIdeal.main_arg2)
      ∧ r.2.mem ((c.tc : Thread Cert.AdamWOutRefIdeal.nD Cert.AdamWOutRefIdeal.τ).loc Cert.AdamWOutRefIdeal.main_arg3) = m ((c.tc : Thread Cert.AdamWOutRefIdeal.nD Cert.AdamWOutRefIdeal.τ).loc Cert.AdamWOutRefIdeal.main_arg3))
      ∧ r.2.sem = fun _ => 0)

def quiescent_AdamWFfnGate [hAdamWFfnGate : Cert.AdamWFfnGate.Facts] : Prop :=
  ∀ (m : (ℓ : Loc Cert.AdamWFfnGate.nD Cert.AdamWFfnGate.τ Cert.AdamWFfnGate.sig) → Buf (Elt Bits) ℓ) (g : Dev Cert.AdamWFfnGate.nD → PrngReg), Pre_AdamWFfnGate m →
    θ_run (Cert.AdamWFfnGate.defs (F := Bits)) (onTc (τ := Cert.AdamWFfnGate.τ) (Cert.AdamWFfnGate.main (F := Bits))) ⟨m, fun _ => 0, g⟩ (fun r => (∀ c : Dev Cert.AdamWFfnGate.nD,
      r.2.mem ((c.tc : Thread Cert.AdamWFfnGate.nD Cert.AdamWFfnGate.τ).loc Cert.AdamWFfnGate.main_arg0) = m ((c.tc : Thread Cert.AdamWFfnGate.nD Cert.AdamWFfnGate.τ).loc Cert.AdamWFfnGate.main_arg0)
      ∧ r.2.mem ((c.tc : Thread Cert.AdamWFfnGate.nD Cert.AdamWFfnGate.τ).loc Cert.AdamWFfnGate.main_arg1) = m ((c.tc : Thread Cert.AdamWFfnGate.nD Cert.AdamWFfnGate.τ).loc Cert.AdamWFfnGate.main_arg1)
      ∧ r.2.mem ((c.tc : Thread Cert.AdamWFfnGate.nD Cert.AdamWFfnGate.τ).loc Cert.AdamWFfnGate.main_arg2) = m ((c.tc : Thread Cert.AdamWFfnGate.nD Cert.AdamWFfnGate.τ).loc Cert.AdamWFfnGate.main_arg2)
      ∧ r.2.mem ((c.tc : Thread Cert.AdamWFfnGate.nD Cert.AdamWFfnGate.τ).loc Cert.AdamWFfnGate.main_arg3) = m ((c.tc : Thread Cert.AdamWFfnGate.nD Cert.AdamWFfnGate.τ).loc Cert.AdamWFfnGate.main_arg3))
      ∧ r.2.sem = fun _ => 0)

def quiescent_AdamWFfnGateIdeal [hAdamWFfnGateIdeal : Cert.AdamWFfnGateIdeal.Facts] : Prop :=
  ∀ (m : (ℓ : Loc Cert.AdamWFfnGateIdeal.nD Cert.AdamWFfnGateIdeal.τ Cert.AdamWFfnGateIdeal.sig) → Buf (Elt Ideal) ℓ) (g : Dev Cert.AdamWFfnGateIdeal.nD → PrngReg), Pre_AdamWFfnGateIdeal m →
    θ_run (Cert.AdamWFfnGateIdeal.defs (F := Ideal)) (onTc (τ := Cert.AdamWFfnGateIdeal.τ) (Cert.AdamWFfnGateIdeal.main (F := Ideal))) ⟨m, fun _ => 0, g⟩ (fun r => (∀ c : Dev Cert.AdamWFfnGateIdeal.nD,
      r.2.mem ((c.tc : Thread Cert.AdamWFfnGateIdeal.nD Cert.AdamWFfnGateIdeal.τ).loc Cert.AdamWFfnGateIdeal.main_arg0) = m ((c.tc : Thread Cert.AdamWFfnGateIdeal.nD Cert.AdamWFfnGateIdeal.τ).loc Cert.AdamWFfnGateIdeal.main_arg0)
      ∧ r.2.mem ((c.tc : Thread Cert.AdamWFfnGateIdeal.nD Cert.AdamWFfnGateIdeal.τ).loc Cert.AdamWFfnGateIdeal.main_arg1) = m ((c.tc : Thread Cert.AdamWFfnGateIdeal.nD Cert.AdamWFfnGateIdeal.τ).loc Cert.AdamWFfnGateIdeal.main_arg1)
      ∧ r.2.mem ((c.tc : Thread Cert.AdamWFfnGateIdeal.nD Cert.AdamWFfnGateIdeal.τ).loc Cert.AdamWFfnGateIdeal.main_arg2) = m ((c.tc : Thread Cert.AdamWFfnGateIdeal.nD Cert.AdamWFfnGateIdeal.τ).loc Cert.AdamWFfnGateIdeal.main_arg2)
      ∧ r.2.mem ((c.tc : Thread Cert.AdamWFfnGateIdeal.nD Cert.AdamWFfnGateIdeal.τ).loc Cert.AdamWFfnGateIdeal.main_arg3) = m ((c.tc : Thread Cert.AdamWFfnGateIdeal.nD Cert.AdamWFfnGateIdeal.τ).loc Cert.AdamWFfnGateIdeal.main_arg3))
      ∧ r.2.sem = fun _ => 0)

def quiescent_AdamWFfnGateRefIdeal [hAdamWFfnGateRefIdeal : Cert.AdamWFfnGateRefIdeal.Facts] : Prop :=
  ∀ (m : (ℓ : Loc Cert.AdamWFfnGateRefIdeal.nD Cert.AdamWFfnGateRefIdeal.τ Cert.AdamWFfnGateRefIdeal.sig) → Buf (Elt Ideal) ℓ) (g : Dev Cert.AdamWFfnGateRefIdeal.nD → PrngReg), Pre_AdamWFfnGateRefIdeal m →
    θ_run (Cert.AdamWFfnGateRefIdeal.defs (F := Ideal)) (onTc (τ := Cert.AdamWFfnGateRefIdeal.τ) (Cert.AdamWFfnGateRefIdeal.main (F := Ideal))) ⟨m, fun _ => 0, g⟩ (fun r => (∀ c : Dev Cert.AdamWFfnGateRefIdeal.nD,
      r.2.mem ((c.tc : Thread Cert.AdamWFfnGateRefIdeal.nD Cert.AdamWFfnGateRefIdeal.τ).loc Cert.AdamWFfnGateRefIdeal.main_arg0) = m ((c.tc : Thread Cert.AdamWFfnGateRefIdeal.nD Cert.AdamWFfnGateRefIdeal.τ).loc Cert.AdamWFfnGateRefIdeal.main_arg0)
      ∧ r.2.mem ((c.tc : Thread Cert.AdamWFfnGateRefIdeal.nD Cert.AdamWFfnGateRefIdeal.τ).loc Cert.AdamWFfnGateRefIdeal.main_arg1) = m ((c.tc : Thread Cert.AdamWFfnGateRefIdeal.nD Cert.AdamWFfnGateRefIdeal.τ).loc Cert.AdamWFfnGateRefIdeal.main_arg1)
      ∧ r.2.mem ((c.tc : Thread Cert.AdamWFfnGateRefIdeal.nD Cert.AdamWFfnGateRefIdeal.τ).loc Cert.AdamWFfnGateRefIdeal.main_arg2) = m ((c.tc : Thread Cert.AdamWFfnGateRefIdeal.nD Cert.AdamWFfnGateRefIdeal.τ).loc Cert.AdamWFfnGateRefIdeal.main_arg2)
      ∧ r.2.mem ((c.tc : Thread Cert.AdamWFfnGateRefIdeal.nD Cert.AdamWFfnGateRefIdeal.τ).loc Cert.AdamWFfnGateRefIdeal.main_arg3) = m ((c.tc : Thread Cert.AdamWFfnGateRefIdeal.nD Cert.AdamWFfnGateRefIdeal.τ).loc Cert.AdamWFfnGateRefIdeal.main_arg3))
      ∧ r.2.sem = fun _ => 0)

def quiescent_AdamWFfnUp [hAdamWFfnUp : Cert.AdamWFfnUp.Facts] : Prop :=
  ∀ (m : (ℓ : Loc Cert.AdamWFfnUp.nD Cert.AdamWFfnUp.τ Cert.AdamWFfnUp.sig) → Buf (Elt Bits) ℓ) (g : Dev Cert.AdamWFfnUp.nD → PrngReg), Pre_AdamWFfnUp m →
    θ_run (Cert.AdamWFfnUp.defs (F := Bits)) (onTc (τ := Cert.AdamWFfnUp.τ) (Cert.AdamWFfnUp.main (F := Bits))) ⟨m, fun _ => 0, g⟩ (fun r => (∀ c : Dev Cert.AdamWFfnUp.nD,
      r.2.mem ((c.tc : Thread Cert.AdamWFfnUp.nD Cert.AdamWFfnUp.τ).loc Cert.AdamWFfnUp.main_arg0) = m ((c.tc : Thread Cert.AdamWFfnUp.nD Cert.AdamWFfnUp.τ).loc Cert.AdamWFfnUp.main_arg0)
      ∧ r.2.mem ((c.tc : Thread Cert.AdamWFfnUp.nD Cert.AdamWFfnUp.τ).loc Cert.AdamWFfnUp.main_arg1) = m ((c.tc : Thread Cert.AdamWFfnUp.nD Cert.AdamWFfnUp.τ).loc Cert.AdamWFfnUp.main_arg1)
      ∧ r.2.mem ((c.tc : Thread Cert.AdamWFfnUp.nD Cert.AdamWFfnUp.τ).loc Cert.AdamWFfnUp.main_arg2) = m ((c.tc : Thread Cert.AdamWFfnUp.nD Cert.AdamWFfnUp.τ).loc Cert.AdamWFfnUp.main_arg2)
      ∧ r.2.mem ((c.tc : Thread Cert.AdamWFfnUp.nD Cert.AdamWFfnUp.τ).loc Cert.AdamWFfnUp.main_arg3) = m ((c.tc : Thread Cert.AdamWFfnUp.nD Cert.AdamWFfnUp.τ).loc Cert.AdamWFfnUp.main_arg3))
      ∧ r.2.sem = fun _ => 0)

def quiescent_AdamWFfnUpIdeal [hAdamWFfnUpIdeal : Cert.AdamWFfnUpIdeal.Facts] : Prop :=
  ∀ (m : (ℓ : Loc Cert.AdamWFfnUpIdeal.nD Cert.AdamWFfnUpIdeal.τ Cert.AdamWFfnUpIdeal.sig) → Buf (Elt Ideal) ℓ) (g : Dev Cert.AdamWFfnUpIdeal.nD → PrngReg), Pre_AdamWFfnUpIdeal m →
    θ_run (Cert.AdamWFfnUpIdeal.defs (F := Ideal)) (onTc (τ := Cert.AdamWFfnUpIdeal.τ) (Cert.AdamWFfnUpIdeal.main (F := Ideal))) ⟨m, fun _ => 0, g⟩ (fun r => (∀ c : Dev Cert.AdamWFfnUpIdeal.nD,
      r.2.mem ((c.tc : Thread Cert.AdamWFfnUpIdeal.nD Cert.AdamWFfnUpIdeal.τ).loc Cert.AdamWFfnUpIdeal.main_arg0) = m ((c.tc : Thread Cert.AdamWFfnUpIdeal.nD Cert.AdamWFfnUpIdeal.τ).loc Cert.AdamWFfnUpIdeal.main_arg0)
      ∧ r.2.mem ((c.tc : Thread Cert.AdamWFfnUpIdeal.nD Cert.AdamWFfnUpIdeal.τ).loc Cert.AdamWFfnUpIdeal.main_arg1) = m ((c.tc : Thread Cert.AdamWFfnUpIdeal.nD Cert.AdamWFfnUpIdeal.τ).loc Cert.AdamWFfnUpIdeal.main_arg1)
      ∧ r.2.mem ((c.tc : Thread Cert.AdamWFfnUpIdeal.nD Cert.AdamWFfnUpIdeal.τ).loc Cert.AdamWFfnUpIdeal.main_arg2) = m ((c.tc : Thread Cert.AdamWFfnUpIdeal.nD Cert.AdamWFfnUpIdeal.τ).loc Cert.AdamWFfnUpIdeal.main_arg2)
      ∧ r.2.mem ((c.tc : Thread Cert.AdamWFfnUpIdeal.nD Cert.AdamWFfnUpIdeal.τ).loc Cert.AdamWFfnUpIdeal.main_arg3) = m ((c.tc : Thread Cert.AdamWFfnUpIdeal.nD Cert.AdamWFfnUpIdeal.τ).loc Cert.AdamWFfnUpIdeal.main_arg3))
      ∧ r.2.sem = fun _ => 0)

def quiescent_AdamWFfnUpRefIdeal [hAdamWFfnUpRefIdeal : Cert.AdamWFfnUpRefIdeal.Facts] : Prop :=
  ∀ (m : (ℓ : Loc Cert.AdamWFfnUpRefIdeal.nD Cert.AdamWFfnUpRefIdeal.τ Cert.AdamWFfnUpRefIdeal.sig) → Buf (Elt Ideal) ℓ) (g : Dev Cert.AdamWFfnUpRefIdeal.nD → PrngReg), Pre_AdamWFfnUpRefIdeal m →
    θ_run (Cert.AdamWFfnUpRefIdeal.defs (F := Ideal)) (onTc (τ := Cert.AdamWFfnUpRefIdeal.τ) (Cert.AdamWFfnUpRefIdeal.main (F := Ideal))) ⟨m, fun _ => 0, g⟩ (fun r => (∀ c : Dev Cert.AdamWFfnUpRefIdeal.nD,
      r.2.mem ((c.tc : Thread Cert.AdamWFfnUpRefIdeal.nD Cert.AdamWFfnUpRefIdeal.τ).loc Cert.AdamWFfnUpRefIdeal.main_arg0) = m ((c.tc : Thread Cert.AdamWFfnUpRefIdeal.nD Cert.AdamWFfnUpRefIdeal.τ).loc Cert.AdamWFfnUpRefIdeal.main_arg0)
      ∧ r.2.mem ((c.tc : Thread Cert.AdamWFfnUpRefIdeal.nD Cert.AdamWFfnUpRefIdeal.τ).loc Cert.AdamWFfnUpRefIdeal.main_arg1) = m ((c.tc : Thread Cert.AdamWFfnUpRefIdeal.nD Cert.AdamWFfnUpRefIdeal.τ).loc Cert.AdamWFfnUpRefIdeal.main_arg1)
      ∧ r.2.mem ((c.tc : Thread Cert.AdamWFfnUpRefIdeal.nD Cert.AdamWFfnUpRefIdeal.τ).loc Cert.AdamWFfnUpRefIdeal.main_arg2) = m ((c.tc : Thread Cert.AdamWFfnUpRefIdeal.nD Cert.AdamWFfnUpRefIdeal.τ).loc Cert.AdamWFfnUpRefIdeal.main_arg2)
      ∧ r.2.mem ((c.tc : Thread Cert.AdamWFfnUpRefIdeal.nD Cert.AdamWFfnUpRefIdeal.τ).loc Cert.AdamWFfnUpRefIdeal.main_arg3) = m ((c.tc : Thread Cert.AdamWFfnUpRefIdeal.nD Cert.AdamWFfnUpRefIdeal.τ).loc Cert.AdamWFfnUpRefIdeal.main_arg3))
      ∧ r.2.sem = fun _ => 0)

def quiescent_AdamWFfnDown [hAdamWFfnDown : Cert.AdamWFfnDown.Facts] : Prop :=
  ∀ (m : (ℓ : Loc Cert.AdamWFfnDown.nD Cert.AdamWFfnDown.τ Cert.AdamWFfnDown.sig) → Buf (Elt Bits) ℓ) (g : Dev Cert.AdamWFfnDown.nD → PrngReg), Pre_AdamWFfnDown m →
    θ_run (Cert.AdamWFfnDown.defs (F := Bits)) (onTc (τ := Cert.AdamWFfnDown.τ) (Cert.AdamWFfnDown.main (F := Bits))) ⟨m, fun _ => 0, g⟩ (fun r => (∀ c : Dev Cert.AdamWFfnDown.nD,
      r.2.mem ((c.tc : Thread Cert.AdamWFfnDown.nD Cert.AdamWFfnDown.τ).loc Cert.AdamWFfnDown.main_arg0) = m ((c.tc : Thread Cert.AdamWFfnDown.nD Cert.AdamWFfnDown.τ).loc Cert.AdamWFfnDown.main_arg0)
      ∧ r.2.mem ((c.tc : Thread Cert.AdamWFfnDown.nD Cert.AdamWFfnDown.τ).loc Cert.AdamWFfnDown.main_arg1) = m ((c.tc : Thread Cert.AdamWFfnDown.nD Cert.AdamWFfnDown.τ).loc Cert.AdamWFfnDown.main_arg1)
      ∧ r.2.mem ((c.tc : Thread Cert.AdamWFfnDown.nD Cert.AdamWFfnDown.τ).loc Cert.AdamWFfnDown.main_arg2) = m ((c.tc : Thread Cert.AdamWFfnDown.nD Cert.AdamWFfnDown.τ).loc Cert.AdamWFfnDown.main_arg2)
      ∧ r.2.mem ((c.tc : Thread Cert.AdamWFfnDown.nD Cert.AdamWFfnDown.τ).loc Cert.AdamWFfnDown.main_arg3) = m ((c.tc : Thread Cert.AdamWFfnDown.nD Cert.AdamWFfnDown.τ).loc Cert.AdamWFfnDown.main_arg3))
      ∧ r.2.sem = fun _ => 0)

def quiescent_AdamWFfnDownIdeal [hAdamWFfnDownIdeal : Cert.AdamWFfnDownIdeal.Facts] : Prop :=
  ∀ (m : (ℓ : Loc Cert.AdamWFfnDownIdeal.nD Cert.AdamWFfnDownIdeal.τ Cert.AdamWFfnDownIdeal.sig) → Buf (Elt Ideal) ℓ) (g : Dev Cert.AdamWFfnDownIdeal.nD → PrngReg), Pre_AdamWFfnDownIdeal m →
    θ_run (Cert.AdamWFfnDownIdeal.defs (F := Ideal)) (onTc (τ := Cert.AdamWFfnDownIdeal.τ) (Cert.AdamWFfnDownIdeal.main (F := Ideal))) ⟨m, fun _ => 0, g⟩ (fun r => (∀ c : Dev Cert.AdamWFfnDownIdeal.nD,
      r.2.mem ((c.tc : Thread Cert.AdamWFfnDownIdeal.nD Cert.AdamWFfnDownIdeal.τ).loc Cert.AdamWFfnDownIdeal.main_arg0) = m ((c.tc : Thread Cert.AdamWFfnDownIdeal.nD Cert.AdamWFfnDownIdeal.τ).loc Cert.AdamWFfnDownIdeal.main_arg0)
      ∧ r.2.mem ((c.tc : Thread Cert.AdamWFfnDownIdeal.nD Cert.AdamWFfnDownIdeal.τ).loc Cert.AdamWFfnDownIdeal.main_arg1) = m ((c.tc : Thread Cert.AdamWFfnDownIdeal.nD Cert.AdamWFfnDownIdeal.τ).loc Cert.AdamWFfnDownIdeal.main_arg1)
      ∧ r.2.mem ((c.tc : Thread Cert.AdamWFfnDownIdeal.nD Cert.AdamWFfnDownIdeal.τ).loc Cert.AdamWFfnDownIdeal.main_arg2) = m ((c.tc : Thread Cert.AdamWFfnDownIdeal.nD Cert.AdamWFfnDownIdeal.τ).loc Cert.AdamWFfnDownIdeal.main_arg2)
      ∧ r.2.mem ((c.tc : Thread Cert.AdamWFfnDownIdeal.nD Cert.AdamWFfnDownIdeal.τ).loc Cert.AdamWFfnDownIdeal.main_arg3) = m ((c.tc : Thread Cert.AdamWFfnDownIdeal.nD Cert.AdamWFfnDownIdeal.τ).loc Cert.AdamWFfnDownIdeal.main_arg3))
      ∧ r.2.sem = fun _ => 0)

def quiescent_AdamWFfnDownRefIdeal [hAdamWFfnDownRefIdeal : Cert.AdamWFfnDownRefIdeal.Facts] : Prop :=
  ∀ (m : (ℓ : Loc Cert.AdamWFfnDownRefIdeal.nD Cert.AdamWFfnDownRefIdeal.τ Cert.AdamWFfnDownRefIdeal.sig) → Buf (Elt Ideal) ℓ) (g : Dev Cert.AdamWFfnDownRefIdeal.nD → PrngReg), Pre_AdamWFfnDownRefIdeal m →
    θ_run (Cert.AdamWFfnDownRefIdeal.defs (F := Ideal)) (onTc (τ := Cert.AdamWFfnDownRefIdeal.τ) (Cert.AdamWFfnDownRefIdeal.main (F := Ideal))) ⟨m, fun _ => 0, g⟩ (fun r => (∀ c : Dev Cert.AdamWFfnDownRefIdeal.nD,
      r.2.mem ((c.tc : Thread Cert.AdamWFfnDownRefIdeal.nD Cert.AdamWFfnDownRefIdeal.τ).loc Cert.AdamWFfnDownRefIdeal.main_arg0) = m ((c.tc : Thread Cert.AdamWFfnDownRefIdeal.nD Cert.AdamWFfnDownRefIdeal.τ).loc Cert.AdamWFfnDownRefIdeal.main_arg0)
      ∧ r.2.mem ((c.tc : Thread Cert.AdamWFfnDownRefIdeal.nD Cert.AdamWFfnDownRefIdeal.τ).loc Cert.AdamWFfnDownRefIdeal.main_arg1) = m ((c.tc : Thread Cert.AdamWFfnDownRefIdeal.nD Cert.AdamWFfnDownRefIdeal.τ).loc Cert.AdamWFfnDownRefIdeal.main_arg1)
      ∧ r.2.mem ((c.tc : Thread Cert.AdamWFfnDownRefIdeal.nD Cert.AdamWFfnDownRefIdeal.τ).loc Cert.AdamWFfnDownRefIdeal.main_arg2) = m ((c.tc : Thread Cert.AdamWFfnDownRefIdeal.nD Cert.AdamWFfnDownRefIdeal.τ).loc Cert.AdamWFfnDownRefIdeal.main_arg2)
      ∧ r.2.mem ((c.tc : Thread Cert.AdamWFfnDownRefIdeal.nD Cert.AdamWFfnDownRefIdeal.τ).loc Cert.AdamWFfnDownRefIdeal.main_arg3) = m ((c.tc : Thread Cert.AdamWFfnDownRefIdeal.nD Cert.AdamWFfnDownRefIdeal.τ).loc Cert.AdamWFfnDownRefIdeal.main_arg3))
      ∧ r.2.sem = fun _ => 0)

def quiescent_AttnFw [hAttnFw : Cert.AttnFw.Facts] : Prop :=
  ∀ (m : (ℓ : Loc Cert.AttnFw.nD Cert.AttnFw.τ Cert.AttnFw.sig) → Buf (Elt Bits) ℓ) (g : Dev Cert.AttnFw.nD → PrngReg), Pre_AttnFw m →
    θ_run (Cert.AttnFw.defs (F := Bits)) (onTc (τ := Cert.AttnFw.τ) (Cert.AttnFw.main (F := Bits))) ⟨m, fun _ => 0, g⟩ (fun r => (∀ c : Dev Cert.AttnFw.nD,
      r.2.mem ((c.tc : Thread Cert.AttnFw.nD Cert.AttnFw.τ).loc Cert.AttnFw.main_arg0) = m ((c.tc : Thread Cert.AttnFw.nD Cert.AttnFw.τ).loc Cert.AttnFw.main_arg0)
      ∧ r.2.mem ((c.tc : Thread Cert.AttnFw.nD Cert.AttnFw.τ).loc Cert.AttnFw.main_arg1) = m ((c.tc : Thread Cert.AttnFw.nD Cert.AttnFw.τ).loc Cert.AttnFw.main_arg1)
      ∧ r.2.mem ((c.tc : Thread Cert.AttnFw.nD Cert.AttnFw.τ).loc Cert.AttnFw.main_arg2) = m ((c.tc : Thread Cert.AttnFw.nD Cert.AttnFw.τ).loc Cert.AttnFw.main_arg2))
      ∧ r.2.sem = fun _ => 0)

def quiescent_AttnFwIdeal [hAttnFwIdeal : Cert.AttnFwIdeal.Facts] : Prop :=
  ∀ (m : (ℓ : Loc Cert.AttnFwIdeal.nD Cert.AttnFwIdeal.τ Cert.AttnFwIdeal.sig) → Buf (Elt Ideal) ℓ) (g : Dev Cert.AttnFwIdeal.nD → PrngReg), Pre_AttnFwIdeal m →
    θ_run (Cert.AttnFwIdeal.defs (F := Ideal)) (onTc (τ := Cert.AttnFwIdeal.τ) (Cert.AttnFwIdeal.main (F := Ideal))) ⟨m, fun _ => 0, g⟩ (fun r => (∀ c : Dev Cert.AttnFwIdeal.nD,
      r.2.mem ((c.tc : Thread Cert.AttnFwIdeal.nD Cert.AttnFwIdeal.τ).loc Cert.AttnFwIdeal.main_arg0) = m ((c.tc : Thread Cert.AttnFwIdeal.nD Cert.AttnFwIdeal.τ).loc Cert.AttnFwIdeal.main_arg0)
      ∧ r.2.mem ((c.tc : Thread Cert.AttnFwIdeal.nD Cert.AttnFwIdeal.τ).loc Cert.AttnFwIdeal.main_arg1) = m ((c.tc : Thread Cert.AttnFwIdeal.nD Cert.AttnFwIdeal.τ).loc Cert.AttnFwIdeal.main_arg1)
      ∧ r.2.mem ((c.tc : Thread Cert.AttnFwIdeal.nD Cert.AttnFwIdeal.τ).loc Cert.AttnFwIdeal.main_arg2) = m ((c.tc : Thread Cert.AttnFwIdeal.nD Cert.AttnFwIdeal.τ).loc Cert.AttnFwIdeal.main_arg2))
      ∧ r.2.sem = fun _ => 0)

def quiescent_AttnFwIdeal_pre_finite_scores [hAttnFwIdeal : Cert.AttnFwIdeal.Facts] [hPre_finite_scores : Cert.Pre_finite_scores.Facts] : Prop :=
  ∀ (m : (ℓ : Loc Cert.AttnFwIdeal.nD Cert.AttnFwIdeal.τ Cert.AttnFwIdeal.sig) → Buf (Elt Ideal) ℓ) (g : Dev Cert.AttnFwIdeal.nD → PrngReg), Pre_AttnFwIdeal_finite_scores m →
    θ_run (Cert.AttnFwIdeal.defs (F := Ideal)) (onTc (τ := Cert.AttnFwIdeal.τ) (Cert.AttnFwIdeal.main (F := Ideal))) ⟨m, fun _ => 0, g⟩ (fun r => (∀ c : Dev Cert.AttnFwIdeal.nD,
      r.2.mem ((c.tc : Thread Cert.AttnFwIdeal.nD Cert.AttnFwIdeal.τ).loc Cert.AttnFwIdeal.main_arg0) = m ((c.tc : Thread Cert.AttnFwIdeal.nD Cert.AttnFwIdeal.τ).loc Cert.AttnFwIdeal.main_arg0)
      ∧ r.2.mem ((c.tc : Thread Cert.AttnFwIdeal.nD Cert.AttnFwIdeal.τ).loc Cert.AttnFwIdeal.main_arg1) = m ((c.tc : Thread Cert.AttnFwIdeal.nD Cert.AttnFwIdeal.τ).loc Cert.AttnFwIdeal.main_arg1)
      ∧ r.2.mem ((c.tc : Thread Cert.AttnFwIdeal.nD Cert.AttnFwIdeal.τ).loc Cert.AttnFwIdeal.main_arg2) = m ((c.tc : Thread Cert.AttnFwIdeal.nD Cert.AttnFwIdeal.τ).loc Cert.AttnFwIdeal.main_arg2))
      ∧ r.2.sem = fun _ => 0)

def quiescent_AttnFwRefIdeal [hAttnFwRefIdeal : Cert.AttnFwRefIdeal.Facts] : Prop :=
  ∀ (m : (ℓ : Loc Cert.AttnFwRefIdeal.nD Cert.AttnFwRefIdeal.τ Cert.AttnFwRefIdeal.sig) → Buf (Elt Ideal) ℓ) (g : Dev Cert.AttnFwRefIdeal.nD → PrngReg), Pre_AttnFwRefIdeal m →
    θ_run (Cert.AttnFwRefIdeal.defs (F := Ideal)) (onTc (τ := Cert.AttnFwRefIdeal.τ) (Cert.AttnFwRefIdeal.main (F := Ideal))) ⟨m, fun _ => 0, g⟩ (fun r => (∀ c : Dev Cert.AttnFwRefIdeal.nD,
      r.2.mem ((c.tc : Thread Cert.AttnFwRefIdeal.nD Cert.AttnFwRefIdeal.τ).loc Cert.AttnFwRefIdeal.main_arg0) = m ((c.tc : Thread Cert.AttnFwRefIdeal.nD Cert.AttnFwRefIdeal.τ).loc Cert.AttnFwRefIdeal.main_arg0)
      ∧ r.2.mem ((c.tc : Thread Cert.AttnFwRefIdeal.nD Cert.AttnFwRefIdeal.τ).loc Cert.AttnFwRefIdeal.main_arg1) = m ((c.tc : Thread Cert.AttnFwRefIdeal.nD Cert.AttnFwRefIdeal.τ).loc Cert.AttnFwRefIdeal.main_arg1)
      ∧ r.2.mem ((c.tc : Thread Cert.AttnFwRefIdeal.nD Cert.AttnFwRefIdeal.τ).loc Cert.AttnFwRefIdeal.main_arg2) = m ((c.tc : Thread Cert.AttnFwRefIdeal.nD Cert.AttnFwRefIdeal.τ).loc Cert.AttnFwRefIdeal.main_arg2))
      ∧ r.2.sem = fun _ => 0)

def quiescent_AttnFwRefIdeal_pre_finite_scores [hAttnFwRefIdeal : Cert.AttnFwRefIdeal.Facts] [hPre_finite_scores : Cert.Pre_finite_scores.Facts] : Prop :=
  ∀ (m : (ℓ : Loc Cert.AttnFwRefIdeal.nD Cert.AttnFwRefIdeal.τ Cert.AttnFwRefIdeal.sig) → Buf (Elt Ideal) ℓ) (g : Dev Cert.AttnFwRefIdeal.nD → PrngReg), Pre_AttnFwRefIdeal_finite_scores m →
    θ_run (Cert.AttnFwRefIdeal.defs (F := Ideal)) (onTc (τ := Cert.AttnFwRefIdeal.τ) (Cert.AttnFwRefIdeal.main (F := Ideal))) ⟨m, fun _ => 0, g⟩ (fun r => (∀ c : Dev Cert.AttnFwRefIdeal.nD,
      r.2.mem ((c.tc : Thread Cert.AttnFwRefIdeal.nD Cert.AttnFwRefIdeal.τ).loc Cert.AttnFwRefIdeal.main_arg0) = m ((c.tc : Thread Cert.AttnFwRefIdeal.nD Cert.AttnFwRefIdeal.τ).loc Cert.AttnFwRefIdeal.main_arg0)
      ∧ r.2.mem ((c.tc : Thread Cert.AttnFwRefIdeal.nD Cert.AttnFwRefIdeal.τ).loc Cert.AttnFwRefIdeal.main_arg1) = m ((c.tc : Thread Cert.AttnFwRefIdeal.nD Cert.AttnFwRefIdeal.τ).loc Cert.AttnFwRefIdeal.main_arg1)
      ∧ r.2.mem ((c.tc : Thread Cert.AttnFwRefIdeal.nD Cert.AttnFwRefIdeal.τ).loc Cert.AttnFwRefIdeal.main_arg2) = m ((c.tc : Thread Cert.AttnFwRefIdeal.nD Cert.AttnFwRefIdeal.τ).loc Cert.AttnFwRefIdeal.main_arg2))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3)
      ∧ r.2.mem ((c.tc : Thread Cert.AdamSmall.nD Cert.AdamSmall.τ).loc Cert.AdamSmall.main_arg4) = m ((c.tc : Thread Cert.AdamSmall.nD Cert.AdamSmall.τ).loc Cert.AdamSmall.main_arg4)
      ∧ r.2.mem ((c.tc : Thread Cert.AdamSmall.nD Cert.AdamSmall.τ).loc Cert.AdamSmall.main_arg5) = m ((c.tc : Thread Cert.AdamSmall.nD Cert.AdamSmall.τ).loc Cert.AdamSmall.main_arg5)
      ∧ r.2.mem ((c.tc : Thread Cert.AdamSmall.nD Cert.AdamSmall.τ).loc Cert.AdamSmall.main_arg6) = m ((c.tc : Thread Cert.AdamSmall.nD Cert.AdamSmall.τ).loc Cert.AdamSmall.main_arg6)
      ∧ r.2.mem ((c.tc : Thread Cert.AdamSmall.nD Cert.AdamSmall.τ).loc Cert.AdamSmall.main_arg7) = m ((c.tc : Thread Cert.AdamSmall.nD Cert.AdamSmall.τ).loc Cert.AdamSmall.main_arg7)
      ∧ r.2.mem ((c.tc : Thread Cert.AdamSmall.nD Cert.AdamSmall.τ).loc Cert.AdamSmall.main_arg8) = m ((c.tc : Thread Cert.AdamSmall.nD Cert.AdamSmall.τ).loc Cert.AdamSmall.main_arg8)
      ∧ r.2.mem ((c.tc : Thread Cert.AdamSmall.nD Cert.AdamSmall.τ).loc Cert.AdamSmall.main_arg9) = m ((c.tc : Thread Cert.AdamSmall.nD Cert.AdamSmall.τ).loc Cert.AdamSmall.main_arg9)
      ∧ r.2.mem ((c.tc : Thread Cert.AdamSmall.nD Cert.AdamSmall.τ).loc Cert.AdamSmall.main_arg10) = m ((c.tc : Thread Cert.AdamSmall.nD Cert.AdamSmall.τ).loc Cert.AdamSmall.main_arg10)
      ∧ r.2.mem ((c.tc : Thread Cert.AdamSmall.nD Cert.AdamSmall.τ).loc Cert.AdamSmall.main_arg11) = m ((c.tc : Thread Cert.AdamSmall.nD Cert.AdamSmall.τ).loc Cert.AdamSmall.main_arg11)
      ∧ r.2.mem ((c.tc : Thread Cert.AdamSmall.nD Cert.AdamSmall.τ).loc Cert.AdamSmall.main_arg12) = m ((c.tc : Thread Cert.AdamSmall.nD Cert.AdamSmall.τ).loc Cert.AdamSmall.main_arg12)
      ∧ r.2.mem ((c.tc : Thread Cert.AdamSmall.nD Cert.AdamSmall.τ).loc Cert.AdamSmall.main_arg13) = m ((c.tc : Thread Cert.AdamSmall.nD Cert.AdamSmall.τ).loc Cert.AdamSmall.main_arg13)
      ∧ r.2.mem ((c.tc : Thread Cert.AdamSmall.nD Cert.AdamSmall.τ).loc Cert.AdamSmall.main_arg14) = m ((c.tc : Thread Cert.AdamSmall.nD Cert.AdamSmall.τ).loc Cert.AdamSmall.main_arg14)
      ∧ r.2.mem ((c.tc : Thread Cert.AdamSmall.nD Cert.AdamSmall.τ).loc Cert.AdamSmall.main_arg15) = m ((c.tc : Thread Cert.AdamSmall.nD Cert.AdamSmall.τ).loc Cert.AdamSmall.main_arg15)
      ∧ r.2.mem ((c.tc : Thread Cert.AdamSmall.nD Cert.AdamSmall.τ).loc Cert.AdamSmall.main_arg16) = m ((c.tc : Thread Cert.AdamSmall.nD Cert.AdamSmall.τ).loc Cert.AdamSmall.main_arg16)
      ∧ r.2.mem ((c.tc : Thread Cert.AdamSmall.nD Cert.AdamSmall.τ).loc Cert.AdamSmall.main_arg17) = m ((c.tc : Thread Cert.AdamSmall.nD Cert.AdamSmall.τ).loc Cert.AdamSmall.main_arg17)
      ∧ r.2.mem ((c.tc : Thread Cert.AdamSmall.nD Cert.AdamSmall.τ).loc Cert.AdamSmall.main_arg18) = m ((c.tc : Thread Cert.AdamSmall.nD Cert.AdamSmall.τ).loc Cert.AdamSmall.main_arg18)
      ∧ r.2.mem ((c.tc : Thread Cert.AdamSmall.nD Cert.AdamSmall.τ).loc Cert.AdamSmall.main_arg19) = m ((c.tc : Thread Cert.AdamSmall.nD Cert.AdamSmall.τ).loc Cert.AdamSmall.main_arg19)
      ∧ r.2.mem ((c.tc : Thread Cert.AdamSmall.nD Cert.AdamSmall.τ).loc Cert.AdamSmall.main_arg20) = m ((c.tc : Thread Cert.AdamSmall.nD Cert.AdamSmall.τ).loc Cert.AdamSmall.main_arg20)
      ∧ r.2.mem ((c.tc : Thread Cert.AdamSmall.nD Cert.AdamSmall.τ).loc Cert.AdamSmall.main_arg21) = m ((c.tc : Thread Cert.AdamSmall.nD Cert.AdamSmall.τ).loc Cert.AdamSmall.main_arg21)
      ∧ r.2.mem ((c.tc : Thread Cert.AdamSmall.nD Cert.AdamSmall.τ).loc Cert.AdamSmall.main_arg22) = m ((c.tc : Thread Cert.AdamSmall.nD Cert.AdamSmall.τ).loc Cert.AdamSmall.main_arg22)
      ∧ r.2.mem ((c.tc : Thread Cert.AdamSmall.nD Cert.AdamSmall.τ).loc Cert.AdamSmall.main_arg23) = m ((c.tc : Thread Cert.AdamSmall.nD Cert.AdamSmall.τ).loc Cert.AdamSmall.main_arg23)
      ∧ r.2.mem ((c.tc : Thread Cert.AdamSmall.nD Cert.AdamSmall.τ).loc Cert.AdamSmall.main_arg24) = m ((c.tc : Thread Cert.AdamSmall.nD Cert.AdamSmall.τ).loc Cert.AdamSmall.main_arg24)
      ∧ r.2.mem ((c.tc : Thread Cert.AdamSmall.nD Cert.AdamSmall.τ).loc Cert.AdamSmall.main_arg25) = m ((c.tc : Thread Cert.AdamSmall.nD Cert.AdamSmall.τ).loc Cert.AdamSmall.main_arg25)
      ∧ r.2.mem ((c.tc : Thread Cert.AdamSmall.nD Cert.AdamSmall.τ).loc Cert.AdamSmall.main_arg26) = m ((c.tc : Thread Cert.AdamSmall.nD Cert.AdamSmall.τ).loc Cert.AdamSmall.main_arg26)
      ∧ r.2.mem ((c.tc : Thread Cert.AdamSmall.nD Cert.AdamSmall.τ).loc Cert.AdamSmall.main_arg27) = m ((c.tc : Thread Cert.AdamSmall.nD Cert.AdamSmall.τ).loc Cert.AdamSmall.main_arg27)
      ∧ r.2.mem ((c.tc : Thread Cert.AdamSmall.nD Cert.AdamSmall.τ).loc Cert.AdamSmall.main_arg28) = m ((c.tc : Thread Cert.AdamSmall.nD Cert.AdamSmall.τ).loc Cert.AdamSmall.main_arg28)
      ∧ r.2.mem ((c.tc : Thread Cert.AdamSmall.nD Cert.AdamSmall.τ).loc Cert.AdamSmall.main_arg29) = m ((c.tc : Thread Cert.AdamSmall.nD Cert.AdamSmall.τ).loc Cert.AdamSmall.main_arg29)
      ∧ r.2.mem ((c.tc : Thread Cert.AdamSmall.nD Cert.AdamSmall.τ).loc Cert.AdamSmall.main_arg30) = m ((c.tc : Thread Cert.AdamSmall.nD Cert.AdamSmall.τ).loc Cert.AdamSmall.main_arg30)
      ∧ r.2.mem ((c.tc : Thread Cert.AdamSmall.nD Cert.AdamSmall.τ).loc Cert.AdamSmall.main_arg31) = m ((c.tc : Thread Cert.AdamSmall.nD Cert.AdamSmall.τ).loc Cert.AdamSmall.main_arg31)
      ∧ r.2.mem ((c.tc : Thread Cert.AdamSmall.nD Cert.AdamSmall.τ).loc Cert.AdamSmall.main_arg32) = m ((c.tc : Thread Cert.AdamSmall.nD Cert.AdamSmall.τ).loc Cert.AdamSmall.main_arg32)
      ∧ r.2.mem ((c.tc : Thread Cert.AdamSmall.nD Cert.AdamSmall.τ).loc Cert.AdamSmall.main_arg33) = m ((c.tc : Thread Cert.AdamSmall.nD Cert.AdamSmall.τ).loc Cert.AdamSmall.main_arg33)
      ∧ r.2.mem ((c.tc : Thread Cert.AdamSmall.nD Cert.AdamSmall.τ).loc Cert.AdamSmall.main_arg34) = m ((c.tc : Thread Cert.AdamSmall.nD Cert.AdamSmall.τ).loc Cert.AdamSmall.main_arg34)
      ∧ r.2.mem ((c.tc : Thread Cert.AdamSmall.nD Cert.AdamSmall.τ).loc Cert.AdamSmall.main_arg35) = m ((c.tc : Thread Cert.AdamSmall.nD Cert.AdamSmall.τ).loc Cert.AdamSmall.main_arg35)
      ∧ r.2.mem ((c.tc : Thread Cert.AdamSmall.nD Cert.AdamSmall.τ).loc Cert.AdamSmall.main_arg36) = m ((c.tc : Thread Cert.AdamSmall.nD Cert.AdamSmall.τ).loc Cert.AdamSmall.main_arg36)
      ∧ r.2.mem ((c.tc : Thread Cert.AdamSmall.nD Cert.AdamSmall.τ).loc Cert.AdamSmall.main_arg37) = m ((c.tc : Thread Cert.AdamSmall.nD Cert.AdamSmall.τ).loc Cert.AdamSmall.main_arg37)
      ∧ r.2.mem ((c.tc : Thread Cert.AdamSmall.nD Cert.AdamSmall.τ).loc Cert.AdamSmall.main_arg38) = m ((c.tc : Thread Cert.AdamSmall.nD Cert.AdamSmall.τ).loc Cert.AdamSmall.main_arg38)
      ∧ r.2.mem ((c.tc : Thread Cert.AdamSmall.nD Cert.AdamSmall.τ).loc Cert.AdamSmall.main_arg39) = m ((c.tc : Thread Cert.AdamSmall.nD Cert.AdamSmall.τ).loc Cert.AdamSmall.main_arg39)
      ∧ r.2.mem ((c.tc : Thread Cert.AdamSmall.nD Cert.AdamSmall.τ).loc Cert.AdamSmall.main_arg40) = m ((c.tc : Thread Cert.AdamSmall.nD Cert.AdamSmall.τ).loc Cert.AdamSmall.main_arg40)
      ∧ r.2.mem ((c.tc : Thread Cert.AdamSmall.nD Cert.AdamSmall.τ).loc Cert.AdamSmall.main_arg41) = m ((c.tc : Thread Cert.AdamSmall.nD Cert.AdamSmall.τ).loc Cert.AdamSmall.main_arg41)
      ∧ r.2.mem ((c.tc : Thread Cert.AdamSmall.nD Cert.AdamSmall.τ).loc Cert.AdamSmall.main_arg42) = m ((c.tc : Thread Cert.AdamSmall.nD Cert.AdamSmall.τ).loc Cert.AdamSmall.main_arg42)
      ∧ r.2.mem ((c.tc : Thread Cert.AdamSmall.nD Cert.AdamSmall.τ).loc Cert.AdamSmall.main_arg43) = m ((c.tc : Thread Cert.AdamSmall.nD Cert.AdamSmall.τ).loc Cert.AdamSmall.main_arg43)
      ∧ r.2.mem ((c.tc : Thread Cert.AdamSmall.nD Cert.AdamSmall.τ).loc Cert.AdamSmall.main_arg44) = m ((c.tc : Thread Cert.AdamSmall.nD Cert.AdamSmall.τ).loc Cert.AdamSmall.main_arg44)
      ∧ r.2.mem ((c.tc : Thread Cert.AdamSmall.nD Cert.AdamSmall.τ).loc Cert.AdamSmall.main_arg45) = m ((c.tc : Thread Cert.AdamSmall.nD Cert.AdamSmall.τ).loc Cert.AdamSmall.main_arg45)
      ∧ r.2.mem ((c.tc : Thread Cert.AdamSmall.nD Cert.AdamSmall.τ).loc Cert.AdamSmall.main_arg46) = m ((c.tc : Thread Cert.AdamSmall.nD Cert.AdamSmall.τ).loc Cert.AdamSmall.main_arg46)
      ∧ r.2.mem ((c.tc : Thread Cert.AdamSmall.nD Cert.AdamSmall.τ).loc Cert.AdamSmall.main_arg47) = m ((c.tc : Thread Cert.AdamSmall.nD Cert.AdamSmall.τ).loc Cert.AdamSmall.main_arg47)
      ∧ r.2.mem ((c.tc : Thread Cert.AdamSmall.nD Cert.AdamSmall.τ).loc Cert.AdamSmall.main_arg48) = m ((c.tc : Thread Cert.AdamSmall.nD Cert.AdamSmall.τ).loc Cert.AdamSmall.main_arg48)
      ∧ r.2.mem ((c.tc : Thread Cert.AdamSmall.nD Cert.AdamSmall.τ).loc Cert.AdamSmall.main_arg49) = m ((c.tc : Thread Cert.AdamSmall.nD Cert.AdamSmall.τ).loc Cert.AdamSmall.main_arg49)
      ∧ r.2.mem ((c.tc : Thread Cert.AdamSmall.nD Cert.AdamSmall.τ).loc Cert.AdamSmall.main_arg50) = m ((c.tc : Thread Cert.AdamSmall.nD Cert.AdamSmall.τ).loc Cert.AdamSmall.main_arg50)
      ∧ r.2.mem ((c.tc : Thread Cert.AdamSmall.nD Cert.AdamSmall.τ).loc Cert.AdamSmall.main_arg51) = m ((c.tc : Thread Cert.AdamSmall.nD Cert.AdamSmall.τ).loc Cert.AdamSmall.main_arg51)
      ∧ r.2.mem ((c.tc : Thread Cert.AdamSmall.nD Cert.AdamSmall.τ).loc Cert.AdamSmall.main_arg52) = m ((c.tc : Thread Cert.AdamSmall.nD Cert.AdamSmall.τ).loc Cert.AdamSmall.main_arg52)
      ∧ r.2.mem ((c.tc : Thread Cert.AdamSmall.nD Cert.AdamSmall.τ).loc Cert.AdamSmall.main_arg53) = m ((c.tc : Thread Cert.AdamSmall.nD Cert.AdamSmall.τ).loc Cert.AdamSmall.main_arg53)
      ∧ r.2.mem ((c.tc : Thread Cert.AdamSmall.nD Cert.AdamSmall.τ).loc Cert.AdamSmall.main_arg54) = m ((c.tc : Thread Cert.AdamSmall.nD Cert.AdamSmall.τ).loc Cert.AdamSmall.main_arg54)
      ∧ r.2.mem ((c.tc : Thread Cert.AdamSmall.nD Cert.AdamSmall.τ).loc Cert.AdamSmall.main_arg55) = m ((c.tc : Thread Cert.AdamSmall.nD Cert.AdamSmall.τ).loc Cert.AdamSmall.main_arg55)
      ∧ r.2.mem ((c.tc : Thread Cert.AdamSmall.nD Cert.AdamSmall.τ).loc Cert.AdamSmall.main_arg56) = m ((c.tc : Thread Cert.AdamSmall.nD Cert.AdamSmall.τ).loc Cert.AdamSmall.main_arg56)
      ∧ r.2.mem ((c.tc : Thread Cert.AdamSmall.nD Cert.AdamSmall.τ).loc Cert.AdamSmall.main_arg57) = m ((c.tc : Thread Cert.AdamSmall.nD Cert.AdamSmall.τ).loc Cert.AdamSmall.main_arg57)
      ∧ r.2.mem ((c.tc : Thread Cert.AdamSmall.nD Cert.AdamSmall.τ).loc Cert.AdamSmall.main_arg58) = m ((c.tc : Thread Cert.AdamSmall.nD Cert.AdamSmall.τ).loc Cert.AdamSmall.main_arg58)
      ∧ r.2.mem ((c.tc : Thread Cert.AdamSmall.nD Cert.AdamSmall.τ).loc Cert.AdamSmall.main_arg59) = m ((c.tc : Thread Cert.AdamSmall.nD Cert.AdamSmall.τ).loc Cert.AdamSmall.main_arg59)
      ∧ r.2.mem ((c.tc : Thread Cert.AdamSmall.nD Cert.AdamSmall.τ).loc Cert.AdamSmall.main_arg60) = m ((c.tc : Thread Cert.AdamSmall.nD Cert.AdamSmall.τ).loc Cert.AdamSmall.main_arg60)
      ∧ r.2.mem ((c.tc : Thread Cert.AdamSmall.nD Cert.AdamSmall.τ).loc Cert.AdamSmall.main_arg61) = m ((c.tc : Thread Cert.AdamSmall.nD Cert.AdamSmall.τ).loc Cert.AdamSmall.main_arg61)
      ∧ r.2.mem ((c.tc : Thread Cert.AdamSmall.nD Cert.AdamSmall.τ).loc Cert.AdamSmall.main_arg62) = m ((c.tc : Thread Cert.AdamSmall.nD Cert.AdamSmall.τ).loc Cert.AdamSmall.main_arg62)
      ∧ r.2.mem ((c.tc : Thread Cert.AdamSmall.nD Cert.AdamSmall.τ).loc Cert.AdamSmall.main_arg63) = m ((c.tc : Thread Cert.AdamSmall.nD Cert.AdamSmall.τ).loc Cert.AdamSmall.main_arg63)
      ∧ r.2.mem ((c.tc : Thread Cert.AdamSmall.nD Cert.AdamSmall.τ).loc Cert.AdamSmall.main_arg64) = m ((c.tc : Thread Cert.AdamSmall.nD Cert.AdamSmall.τ).loc Cert.AdamSmall.main_arg64)
      ∧ r.2.mem ((c.tc : Thread Cert.AdamSmall.nD Cert.AdamSmall.τ).loc Cert.AdamSmall.main_arg65) = m ((c.tc : Thread Cert.AdamSmall.nD Cert.AdamSmall.τ).loc Cert.AdamSmall.main_arg65)
      ∧ r.2.mem ((c.tc : Thread Cert.AdamSmall.nD Cert.AdamSmall.τ).loc Cert.AdamSmall.main_arg66) = m ((c.tc : Thread Cert.AdamSmall.nD Cert.AdamSmall.τ).loc Cert.AdamSmall.main_arg66)
      ∧ r.2.mem ((c.tc : Thread Cert.AdamSmall.nD Cert.AdamSmall.τ).loc Cert.AdamSmall.main_arg67) = m ((c.tc : Thread Cert.AdamSmall.nD Cert.AdamSmall.τ).loc Cert.AdamSmall.main_arg67)
      ∧ r.2.mem ((c.tc : Thread Cert.AdamSmall.nD Cert.AdamSmall.τ).loc Cert.AdamSmall.main_arg68) = m ((c.tc : Thread Cert.AdamSmall.nD Cert.AdamSmall.τ).loc Cert.AdamSmall.main_arg68)
      ∧ r.2.mem ((c.tc : Thread Cert.AdamSmall.nD Cert.AdamSmall.τ).loc Cert.AdamSmall.main_arg69) = m ((c.tc : Thread Cert.AdamSmall.nD Cert.AdamSmall.τ).loc Cert.AdamSmall.main_arg69)
      ∧ r.2.mem ((c.tc : Thread Cert.AdamSmall.nD Cert.AdamSmall.τ).loc Cert.AdamSmall.main_arg70) = m ((c.tc : Thread Cert.AdamSmall.nD Cert.AdamSmall.τ).loc Cert.AdamSmall.main_arg70)
      ∧ r.2.mem ((c.tc : Thread Cert.AdamSmall.nD Cert.AdamSmall.τ).loc Cert.AdamSmall.main_arg71) = m ((c.tc : Thread Cert.AdamSmall.nD Cert.AdamSmall.τ).loc Cert.AdamSmall.main_arg71))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
      ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
      ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
      ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
      ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
      ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
      ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
      ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
      ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
      ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
      ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
      ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
      ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
      ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
      ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
      ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
      ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
      ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
      ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
      ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
      ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
      ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
      ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
      ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
      ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
      ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
      ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
      ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
      ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
      ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
      ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
      ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35)
      ∧ r.2.mem ((c.tc : Thread Cert.AdamSmallIdeal.nD Cert.AdamSmallIdeal.τ).loc Cert.AdamSmallIdeal.main_arg36) = m ((c.tc : Thread Cert.AdamSmallIdeal.nD Cert.AdamSmallIdeal.τ).loc Cert.AdamSmallIdeal.main_arg36)
      ∧ r.2.mem ((c.tc : Thread Cert.AdamSmallIdeal.nD Cert.AdamSmallIdeal.τ).loc Cert.AdamSmallIdeal.main_arg37) = m ((c.tc : Thread Cert.AdamSmallIdeal.nD Cert.AdamSmallIdeal.τ).loc Cert.AdamSmallIdeal.main_arg37)
      ∧ r.2.mem ((c.tc : Thread Cert.AdamSmallIdeal.nD Cert.AdamSmallIdeal.τ).loc Cert.AdamSmallIdeal.main_arg38) = m ((c.tc : Thread Cert.AdamSmallIdeal.nD Cert.AdamSmallIdeal.τ).loc Cert.AdamSmallIdeal.main_arg38)
      ∧ r.2.mem ((c.tc : Thread Cert.AdamSmallIdeal.nD Cert.AdamSmallIdeal.τ).loc Cert.AdamSmallIdeal.main_arg39) = m ((c.tc : Thread Cert.AdamSmallIdeal.nD Cert.AdamSmallIdeal.τ).loc Cert.AdamSmallIdeal.main_arg39)
      ∧ r.2.mem ((c.tc : Thread Cert.AdamSmallIdeal.nD Cert.AdamSmallIdeal.τ).loc Cert.AdamSmallIdeal.main_arg40) = m ((c.tc : Thread Cert.AdamSmallIdeal.nD Cert.AdamSmallIdeal.τ).loc Cert.AdamSmallIdeal.main_arg40)
      ∧ r.2.mem ((c.tc : Thread Cert.AdamSmallIdeal.nD Cert.AdamSmallIdeal.τ).loc Cert.AdamSmallIdeal.main_arg41) = m ((c.tc : Thread Cert.AdamSmallIdeal.nD Cert.AdamSmallIdeal.τ).loc Cert.AdamSmallIdeal.main_arg41)
      ∧ r.2.mem ((c.tc : Thread Cert.AdamSmallIdeal.nD Cert.AdamSmallIdeal.τ).loc Cert.AdamSmallIdeal.main_arg42) = m ((c.tc : Thread Cert.AdamSmallIdeal.nD Cert.AdamSmallIdeal.τ).loc Cert.AdamSmallIdeal.main_arg42)
      ∧ r.2.mem ((c.tc : Thread Cert.AdamSmallIdeal.nD Cert.AdamSmallIdeal.τ).loc Cert.AdamSmallIdeal.main_arg43) = m ((c.tc : Thread Cert.AdamSmallIdeal.nD Cert.AdamSmallIdeal.τ).loc Cert.AdamSmallIdeal.main_arg43)
      ∧ r.2.mem ((c.tc : Thread Cert.AdamSmallIdeal.nD Cert.AdamSmallIdeal.τ).loc Cert.AdamSmallIdeal.main_arg44) = m ((c.tc : Thread Cert.AdamSmallIdeal.nD Cert.AdamSmallIdeal.τ).loc Cert.AdamSmallIdeal.main_arg44)
      ∧ r.2.mem ((c.tc : Thread Cert.AdamSmallIdeal.nD Cert.AdamSmallIdeal.τ).loc Cert.AdamSmallIdeal.main_arg45) = m ((c.tc : Thread Cert.AdamSmallIdeal.nD Cert.AdamSmallIdeal.τ).loc Cert.AdamSmallIdeal.main_arg45)
      ∧ r.2.mem ((c.tc : Thread Cert.AdamSmallIdeal.nD Cert.AdamSmallIdeal.τ).loc Cert.AdamSmallIdeal.main_arg46) = m ((c.tc : Thread Cert.AdamSmallIdeal.nD Cert.AdamSmallIdeal.τ).loc Cert.AdamSmallIdeal.main_arg46)
      ∧ r.2.mem ((c.tc : Thread Cert.AdamSmallIdeal.nD Cert.AdamSmallIdeal.τ).loc Cert.AdamSmallIdeal.main_arg47) = m ((c.tc : Thread Cert.AdamSmallIdeal.nD Cert.AdamSmallIdeal.τ).loc Cert.AdamSmallIdeal.main_arg47)
      ∧ r.2.mem ((c.tc : Thread Cert.AdamSmallIdeal.nD Cert.AdamSmallIdeal.τ).loc Cert.AdamSmallIdeal.main_arg48) = m ((c.tc : Thread Cert.AdamSmallIdeal.nD Cert.AdamSmallIdeal.τ).loc Cert.AdamSmallIdeal.main_arg48)
      ∧ r.2.mem ((c.tc : Thread Cert.AdamSmallIdeal.nD Cert.AdamSmallIdeal.τ).loc Cert.AdamSmallIdeal.main_arg49) = m ((c.tc : Thread Cert.AdamSmallIdeal.nD Cert.AdamSmallIdeal.τ).loc Cert.AdamSmallIdeal.main_arg49)
      ∧ r.2.mem ((c.tc : Thread Cert.AdamSmallIdeal.nD Cert.AdamSmallIdeal.τ).loc Cert.AdamSmallIdeal.main_arg50) = m ((c.tc : Thread Cert.AdamSmallIdeal.nD Cert.AdamSmallIdeal.τ).loc Cert.AdamSmallIdeal.main_arg50)
      ∧ r.2.mem ((c.tc : Thread Cert.AdamSmallIdeal.nD Cert.AdamSmallIdeal.τ).loc Cert.AdamSmallIdeal.main_arg51) = m ((c.tc : Thread Cert.AdamSmallIdeal.nD Cert.AdamSmallIdeal.τ).loc Cert.AdamSmallIdeal.main_arg51)
      ∧ r.2.mem ((c.tc : Thread Cert.AdamSmallIdeal.nD Cert.AdamSmallIdeal.τ).loc Cert.AdamSmallIdeal.main_arg52) = m ((c.tc : Thread Cert.AdamSmallIdeal.nD Cert.AdamSmallIdeal.τ).loc Cert.AdamSmallIdeal.main_arg52)
      ∧ r.2.mem ((c.tc : Thread Cert.AdamSmallIdeal.nD Cert.AdamSmallIdeal.τ).loc Cert.AdamSmallIdeal.main_arg53) = m ((c.tc : Thread Cert.AdamSmallIdeal.nD Cert.AdamSmallIdeal.τ).loc Cert.AdamSmallIdeal.main_arg53)
      ∧ r.2.mem ((c.tc : Thread Cert.AdamSmallIdeal.nD Cert.AdamSmallIdeal.τ).loc Cert.AdamSmallIdeal.main_arg54) = m ((c.tc : Thread Cert.AdamSmallIdeal.nD Cert.AdamSmallIdeal.τ).loc Cert.AdamSmallIdeal.main_arg54)
      ∧ r.2.mem ((c.tc : Thread Cert.AdamSmallIdeal.nD Cert.AdamSmallIdeal.τ).loc Cert.AdamSmallIdeal.main_arg55) = m ((c.tc : Thread Cert.AdamSmallIdeal.nD Cert.AdamSmallIdeal.τ).loc Cert.AdamSmallIdeal.main_arg55)
      ∧ r.2.mem ((c.tc : Thread Cert.AdamSmallIdeal.nD Cert.AdamSmallIdeal.τ).loc Cert.AdamSmallIdeal.main_arg56) = m ((c.tc : Thread Cert.AdamSmallIdeal.nD Cert.AdamSmallIdeal.τ).loc Cert.AdamSmallIdeal.main_arg56)
      ∧ r.2.mem ((c.tc : Thread Cert.AdamSmallIdeal.nD Cert.AdamSmallIdeal.τ).loc Cert.AdamSmallIdeal.main_arg57) = m ((c.tc : Thread Cert.AdamSmallIdeal.nD Cert.AdamSmallIdeal.τ).loc Cert.AdamSmallIdeal.main_arg57)
      ∧ r.2.mem ((c.tc : Thread Cert.AdamSmallIdeal.nD Cert.AdamSmallIdeal.τ).loc Cert.AdamSmallIdeal.main_arg58) = m ((c.tc : Thread Cert.AdamSmallIdeal.nD Cert.AdamSmallIdeal.τ).loc Cert.AdamSmallIdeal.main_arg58)
      ∧ r.2.mem ((c.tc : Thread Cert.AdamSmallIdeal.nD Cert.AdamSmallIdeal.τ).loc Cert.AdamSmallIdeal.main_arg59) = m ((c.tc : Thread Cert.AdamSmallIdeal.nD Cert.AdamSmallIdeal.τ).loc Cert.AdamSmallIdeal.main_arg59)
      ∧ r.2.mem ((c.tc : Thread Cert.AdamSmallIdeal.nD Cert.AdamSmallIdeal.τ).loc Cert.AdamSmallIdeal.main_arg60) = m ((c.tc : Thread Cert.AdamSmallIdeal.nD Cert.AdamSmallIdeal.τ).loc Cert.AdamSmallIdeal.main_arg60)
      ∧ r.2.mem ((c.tc : Thread Cert.AdamSmallIdeal.nD Cert.AdamSmallIdeal.τ).loc Cert.AdamSmallIdeal.main_arg61) = m ((c.tc : Thread Cert.AdamSmallIdeal.nD Cert.AdamSmallIdeal.τ).loc Cert.AdamSmallIdeal.main_arg61)
      ∧ r.2.mem ((c.tc : Thread Cert.AdamSmallIdeal.nD Cert.AdamSmallIdeal.τ).loc Cert.AdamSmallIdeal.main_arg62) = m ((c.tc : Thread Cert.AdamSmallIdeal.nD Cert.AdamSmallIdeal.τ).loc Cert.AdamSmallIdeal.main_arg62)
      ∧ r.2.mem ((c.tc : Thread Cert.AdamSmallIdeal.nD Cert.AdamSmallIdeal.τ).loc Cert.AdamSmallIdeal.main_arg63) = m ((c.tc : Thread Cert.AdamSmallIdeal.nD Cert.AdamSmallIdeal.τ).loc Cert.AdamSmallIdeal.main_arg63)
      ∧ r.2.mem ((c.tc : Thread Cert.AdamSmallIdeal.nD Cert.AdamSmallIdeal.τ).loc Cert.AdamSmallIdeal.main_arg64) = m ((c.tc : Thread Cert.AdamSmallIdeal.nD Cert.AdamSmallIdeal.τ).loc Cert.AdamSmallIdeal.main_arg64)
      ∧ r.2.mem ((c.tc : Thread Cert.AdamSmallIdeal.nD Cert.AdamSmallIdeal.τ).loc Cert.AdamSmallIdeal.main_arg65) = m ((c.tc : Thread Cert.AdamSmallIdeal.nD Cert.AdamSmallIdeal.τ).loc Cert.AdamSmallIdeal.main_arg65)
      ∧ r.2.mem ((c.tc : Thread Cert.AdamSmallIdeal.nD Cert.AdamSmallIdeal.τ).loc Cert.AdamSmallIdeal.main_arg66) = m ((c.tc : Thread Cert.AdamSmallIdeal.nD Cert.AdamSmallIdeal.τ).loc Cert.AdamSmallIdeal.main_arg66)
      ∧ r.2.mem ((c.tc : Thread Cert.AdamSmallIdeal.nD Cert.AdamSmallIdeal.τ).loc Cert.AdamSmallIdeal.main_arg67) = m ((c.tc : Thread Cert.AdamSmallIdeal.nD Cert.AdamSmallIdeal.τ).loc Cert.AdamSmallIdeal.main_arg67)
      ∧ r.2.mem ((c.tc : Thread Cert.AdamSmallIdeal.nD Cert.AdamSmallIdeal.τ).loc Cert.AdamSmallIdeal.main_arg68) = m ((c.tc : Thread Cert.AdamSmallIdeal.nD Cert.AdamSmallIdeal.τ).loc Cert.AdamSmallIdeal.main_arg68)
      ∧ r.2.mem ((c.tc : Thread Cert.AdamSmallIdeal.nD Cert.AdamSmallIdeal.τ).loc Cert.AdamSmallIdeal.main_arg69) = m ((c.tc : Thread Cert.AdamSmallIdeal.nD Cert.AdamSmallIdeal.τ).loc Cert.AdamSmallIdeal.main_arg69)
      ∧ r.2.mem ((c.tc : Thread Cert.AdamSmallIdeal.nD Cert.AdamSmallIdeal.τ).loc Cert.AdamSmallIdeal.main_arg70) = m ((c.tc : Thread Cert.AdamSmallIdeal.nD Cert.AdamSmallIdeal.τ).loc Cert.AdamSmallIdeal.main_arg70)
      ∧ r.2.mem ((c.tc : Thread Cert.AdamSmallIdeal.nD Cert.AdamSmallIdeal.τ).loc Cert.AdamSmallIdeal.main_arg71) = m ((c.tc : Thread Cert.AdamSmallIdeal.nD Cert.AdamSmallIdeal.τ).loc Cert.AdamSmallIdeal.main_arg71))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3)
      ∧ r.2.mem ((c.tc : Thread Cert.AdamSmallRefIdeal.nD Cert.AdamSmallRefIdeal.τ).loc Cert.AdamSmallRefIdeal.main_arg4) = m ((c.tc : Thread Cert.AdamSmallRefIdeal.nD Cert.AdamSmallRefIdeal.τ).loc Cert.AdamSmallRefIdeal.main_arg4)
      ∧ r.2.mem ((c.tc : Thread Cert.AdamSmallRefIdeal.nD Cert.AdamSmallRefIdeal.τ).loc Cert.AdamSmallRefIdeal.main_arg5) = m ((c.tc : Thread Cert.AdamSmallRefIdeal.nD Cert.AdamSmallRefIdeal.τ).loc Cert.AdamSmallRefIdeal.main_arg5)
      ∧ r.2.mem ((c.tc : Thread Cert.AdamSmallRefIdeal.nD Cert.AdamSmallRefIdeal.τ).loc Cert.AdamSmallRefIdeal.main_arg6) = m ((c.tc : Thread Cert.AdamSmallRefIdeal.nD Cert.AdamSmallRefIdeal.τ).loc Cert.AdamSmallRefIdeal.main_arg6)
      ∧ r.2.mem ((c.tc : Thread Cert.AdamSmallRefIdeal.nD Cert.AdamSmallRefIdeal.τ).loc Cert.AdamSmallRefIdeal.main_arg7) = m ((c.tc : Thread Cert.AdamSmallRefIdeal.nD Cert.AdamSmallRefIdeal.τ).loc Cert.AdamSmallRefIdeal.main_arg7)
      ∧ r.2.mem ((c.tc : Thread Cert.AdamSmallRefIdeal.nD Cert.AdamSmallRefIdeal.τ).loc Cert.AdamSmallRefIdeal.main_arg8) = m ((c.tc : Thread Cert.AdamSmallRefIdeal.nD Cert.AdamSmallRefIdeal.τ).loc Cert.AdamSmallRefIdeal.main_arg8)
      ∧ r.2.mem ((c.tc : Thread Cert.AdamSmallRefIdeal.nD Cert.AdamSmallRefIdeal.τ).loc Cert.AdamSmallRefIdeal.main_arg9) = m ((c.tc : Thread Cert.AdamSmallRefIdeal.nD Cert.AdamSmallRefIdeal.τ).loc Cert.AdamSmallRefIdeal.main_arg9)
      ∧ r.2.mem ((c.tc : Thread Cert.AdamSmallRefIdeal.nD Cert.AdamSmallRefIdeal.τ).loc Cert.AdamSmallRefIdeal.main_arg10) = m ((c.tc : Thread Cert.AdamSmallRefIdeal.nD Cert.AdamSmallRefIdeal.τ).loc Cert.AdamSmallRefIdeal.main_arg10)
      ∧ r.2.mem ((c.tc : Thread Cert.AdamSmallRefIdeal.nD Cert.AdamSmallRefIdeal.τ).loc Cert.AdamSmallRefIdeal.main_arg11) = m ((c.tc : Thread Cert.AdamSmallRefIdeal.nD Cert.AdamSmallRefIdeal.τ).loc Cert.AdamSmallRefIdeal.main_arg11)
      ∧ r.2.mem ((c.tc : Thread Cert.AdamSmallRefIdeal.nD Cert.AdamSmallRefIdeal.τ).loc Cert.AdamSmallRefIdeal.main_arg12) = m ((c.tc : Thread Cert.AdamSmallRefIdeal.nD Cert.AdamSmallRefIdeal.τ).loc Cert.AdamSmallRefIdeal.main_arg12)
      ∧ r.2.mem ((c.tc : Thread Cert.AdamSmallRefIdeal.nD Cert.AdamSmallRefIdeal.τ).loc Cert.AdamSmallRefIdeal.main_arg13) = m ((c.tc : Thread Cert.AdamSmallRefIdeal.nD Cert.AdamSmallRefIdeal.τ).loc Cert.AdamSmallRefIdeal.main_arg13)
      ∧ r.2.mem ((c.tc : Thread Cert.AdamSmallRefIdeal.nD Cert.AdamSmallRefIdeal.τ).loc Cert.AdamSmallRefIdeal.main_arg14) = m ((c.tc : Thread Cert.AdamSmallRefIdeal.nD Cert.AdamSmallRefIdeal.τ).loc Cert.AdamSmallRefIdeal.main_arg14)
      ∧ r.2.mem ((c.tc : Thread Cert.AdamSmallRefIdeal.nD Cert.AdamSmallRefIdeal.τ).loc Cert.AdamSmallRefIdeal.main_arg15) = m ((c.tc : Thread Cert.AdamSmallRefIdeal.nD Cert.AdamSmallRefIdeal.τ).loc Cert.AdamSmallRefIdeal.main_arg15)
      ∧ r.2.mem ((c.tc : Thread Cert.AdamSmallRefIdeal.nD Cert.AdamSmallRefIdeal.τ).loc Cert.AdamSmallRefIdeal.main_arg16) = m ((c.tc : Thread Cert.AdamSmallRefIdeal.nD Cert.AdamSmallRefIdeal.τ).loc Cert.AdamSmallRefIdeal.main_arg16)
      ∧ r.2.mem ((c.tc : Thread Cert.AdamSmallRefIdeal.nD Cert.AdamSmallRefIdeal.τ).loc Cert.AdamSmallRefIdeal.main_arg17) = m ((c.tc : Thread Cert.AdamSmallRefIdeal.nD Cert.AdamSmallRefIdeal.τ).loc Cert.AdamSmallRefIdeal.main_arg17)
      ∧ r.2.mem ((c.tc : Thread Cert.AdamSmallRefIdeal.nD Cert.AdamSmallRefIdeal.τ).loc Cert.AdamSmallRefIdeal.main_arg18) = m ((c.tc : Thread Cert.AdamSmallRefIdeal.nD Cert.AdamSmallRefIdeal.τ).loc Cert.AdamSmallRefIdeal.main_arg18)
      ∧ r.2.mem ((c.tc : Thread Cert.AdamSmallRefIdeal.nD Cert.AdamSmallRefIdeal.τ).loc Cert.AdamSmallRefIdeal.main_arg19) = m ((c.tc : Thread Cert.AdamSmallRefIdeal.nD Cert.AdamSmallRefIdeal.τ).loc Cert.AdamSmallRefIdeal.main_arg19)
      ∧ r.2.mem ((c.tc : Thread Cert.AdamSmallRefIdeal.nD Cert.AdamSmallRefIdeal.τ).loc Cert.AdamSmallRefIdeal.main_arg20) = m ((c.tc : Thread Cert.AdamSmallRefIdeal.nD Cert.AdamSmallRefIdeal.τ).loc Cert.AdamSmallRefIdeal.main_arg20)
      ∧ r.2.mem ((c.tc : Thread Cert.AdamSmallRefIdeal.nD Cert.AdamSmallRefIdeal.τ).loc Cert.AdamSmallRefIdeal.main_arg21) = m ((c.tc : Thread Cert.AdamSmallRefIdeal.nD Cert.AdamSmallRefIdeal.τ).loc Cert.AdamSmallRefIdeal.main_arg21)
      ∧ r.2.mem ((c.tc : Thread Cert.AdamSmallRefIdeal.nD Cert.AdamSmallRefIdeal.τ).loc Cert.AdamSmallRefIdeal.main_arg22) = m ((c.tc : Thread Cert.AdamSmallRefIdeal.nD Cert.AdamSmallRefIdeal.τ).loc Cert.AdamSmallRefIdeal.main_arg22)
      ∧ r.2.mem ((c.tc : Thread Cert.AdamSmallRefIdeal.nD Cert.AdamSmallRefIdeal.τ).loc Cert.AdamSmallRefIdeal.main_arg23) = m ((c.tc : Thread Cert.AdamSmallRefIdeal.nD Cert.AdamSmallRefIdeal.τ).loc Cert.AdamSmallRefIdeal.main_arg23)
      ∧ r.2.mem ((c.tc : Thread Cert.AdamSmallRefIdeal.nD Cert.AdamSmallRefIdeal.τ).loc Cert.AdamSmallRefIdeal.main_arg24) = m ((c.tc : Thread Cert.AdamSmallRefIdeal.nD Cert.AdamSmallRefIdeal.τ).loc Cert.AdamSmallRefIdeal.main_arg24)
      ∧ r.2.mem ((c.tc : Thread Cert.AdamSmallRefIdeal.nD Cert.AdamSmallRefIdeal.τ).loc Cert.AdamSmallRefIdeal.main_arg25) = m ((c.tc : Thread Cert.AdamSmallRefIdeal.nD Cert.AdamSmallRefIdeal.τ).loc Cert.AdamSmallRefIdeal.main_arg25)
      ∧ r.2.mem ((c.tc : Thread Cert.AdamSmallRefIdeal.nD Cert.AdamSmallRefIdeal.τ).loc Cert.AdamSmallRefIdeal.main_arg26) = m ((c.tc : Thread Cert.AdamSmallRefIdeal.nD Cert.AdamSmallRefIdeal.τ).loc Cert.AdamSmallRefIdeal.main_arg26)
      ∧ r.2.mem ((c.tc : Thread Cert.AdamSmallRefIdeal.nD Cert.AdamSmallRefIdeal.τ).loc Cert.AdamSmallRefIdeal.main_arg27) = m ((c.tc : Thread Cert.AdamSmallRefIdeal.nD Cert.AdamSmallRefIdeal.τ).loc Cert.AdamSmallRefIdeal.main_arg27)
      ∧ r.2.mem ((c.tc : Thread Cert.AdamSmallRefIdeal.nD Cert.AdamSmallRefIdeal.τ).loc Cert.AdamSmallRefIdeal.main_arg28) = m ((c.tc : Thread Cert.AdamSmallRefIdeal.nD Cert.AdamSmallRefIdeal.τ).loc Cert.AdamSmallRefIdeal.main_arg28)
      ∧ r.2.mem ((c.tc : Thread Cert.AdamSmallRefIdeal.nD Cert.AdamSmallRefIdeal.τ).loc Cert.AdamSmallRefIdeal.main_arg29) = m ((c.tc : Thread Cert.AdamSmallRefIdeal.nD Cert.AdamSmallRefIdeal.τ).loc Cert.AdamSmallRefIdeal.main_arg29)
      ∧ r.2.mem ((c.tc : Thread Cert.AdamSmallRefIdeal.nD Cert.AdamSmallRefIdeal.τ).loc Cert.AdamSmallRefIdeal.main_arg30) = m ((c.tc : Thread Cert.AdamSmallRefIdeal.nD Cert.AdamSmallRefIdeal.τ).loc Cert.AdamSmallRefIdeal.main_arg30)
      ∧ r.2.mem ((c.tc : Thread Cert.AdamSmallRefIdeal.nD Cert.AdamSmallRefIdeal.τ).loc Cert.AdamSmallRefIdeal.main_arg31) = m ((c.tc : Thread Cert.AdamSmallRefIdeal.nD Cert.AdamSmallRefIdeal.τ).loc Cert.AdamSmallRefIdeal.main_arg31)
      ∧ r.2.mem ((c.tc : Thread Cert.AdamSmallRefIdeal.nD Cert.AdamSmallRefIdeal.τ).loc Cert.AdamSmallRefIdeal.main_arg32) = m ((c.tc : Thread Cert.AdamSmallRefIdeal.nD Cert.AdamSmallRefIdeal.τ).loc Cert.AdamSmallRefIdeal.main_arg32)
      ∧ r.2.mem ((c.tc : Thread Cert.AdamSmallRefIdeal.nD Cert.AdamSmallRefIdeal.τ).loc Cert.AdamSmallRefIdeal.main_arg33) = m ((c.tc : Thread Cert.AdamSmallRefIdeal.nD Cert.AdamSmallRefIdeal.τ).loc Cert.AdamSmallRefIdeal.main_arg33)
      ∧ r.2.mem ((c.tc : Thread Cert.AdamSmallRefIdeal.nD Cert.AdamSmallRefIdeal.τ).loc Cert.AdamSmallRefIdeal.main_arg34) = m ((c.tc : Thread Cert.AdamSmallRefIdeal.nD Cert.AdamSmallRefIdeal.τ).loc Cert.AdamSmallRefIdeal.main_arg34)
      ∧ r.2.mem ((c.tc : Thread Cert.AdamSmallRefIdeal.nD Cert.AdamSmallRefIdeal.τ).loc Cert.AdamSmallRefIdeal.main_arg35) = m ((c.tc : Thread Cert.AdamSmallRefIdeal.nD Cert.AdamSmallRefIdeal.τ).loc Cert.AdamSmallRefIdeal.main_arg35)
      ∧ r.2.mem ((c.tc : Thread Cert.AdamSmallRefIdeal.nD Cert.AdamSmallRefIdeal.τ).loc Cert.AdamSmallRefIdeal.main_arg36) = m ((c.tc : Thread Cert.AdamSmallRefIdeal.nD Cert.AdamSmallRefIdeal.τ).loc Cert.AdamSmallRefIdeal.main_arg36)
      ∧ r.2.mem ((c.tc : Thread Cert.AdamSmallRefIdeal.nD Cert.AdamSmallRefIdeal.τ).loc Cert.AdamSmallRefIdeal.main_arg37) = m ((c.tc : Thread Cert.AdamSmallRefIdeal.nD Cert.AdamSmallRefIdeal.τ).loc Cert.AdamSmallRefIdeal.main_arg37)
      ∧ r.2.mem ((c.tc : Thread Cert.AdamSmallRefIdeal.nD Cert.AdamSmallRefIdeal.τ).loc Cert.AdamSmallRefIdeal.main_arg38) = m ((c.tc : Thread Cert.AdamSmallRefIdeal.nD Cert.AdamSmallRefIdeal.τ).loc Cert.AdamSmallRefIdeal.main_arg38)
      ∧ r.2.mem ((c.tc : Thread Cert.AdamSmallRefIdeal.nD Cert.AdamSmallRefIdeal.τ).loc Cert.AdamSmallRefIdeal.main_arg39) = m ((c.tc : Thread Cert.AdamSmallRefIdeal.nD Cert.AdamSmallRefIdeal.τ).loc Cert.AdamSmallRefIdeal.main_arg39)
      ∧ r.2.mem ((c.tc : Thread Cert.AdamSmallRefIdeal.nD Cert.AdamSmallRefIdeal.τ).loc Cert.AdamSmallRefIdeal.main_arg40) = m ((c.tc : Thread Cert.AdamSmallRefIdeal.nD Cert.AdamSmallRefIdeal.τ).loc Cert.AdamSmallRefIdeal.main_arg40)
      ∧ r.2.mem ((c.tc : Thread Cert.AdamSmallRefIdeal.nD Cert.AdamSmallRefIdeal.τ).loc Cert.AdamSmallRefIdeal.main_arg41) = m ((c.tc : Thread Cert.AdamSmallRefIdeal.nD Cert.AdamSmallRefIdeal.τ).loc Cert.AdamSmallRefIdeal.main_arg41)
      ∧ r.2.mem ((c.tc : Thread Cert.AdamSmallRefIdeal.nD Cert.AdamSmallRefIdeal.τ).loc Cert.AdamSmallRefIdeal.main_arg42) = m ((c.tc : Thread Cert.AdamSmallRefIdeal.nD Cert.AdamSmallRefIdeal.τ).loc Cert.AdamSmallRefIdeal.main_arg42)
      ∧ r.2.mem ((c.tc : Thread Cert.AdamSmallRefIdeal.nD Cert.AdamSmallRefIdeal.τ).loc Cert.AdamSmallRefIdeal.main_arg43) = m ((c.tc : Thread Cert.AdamSmallRefIdeal.nD Cert.AdamSmallRefIdeal.τ).loc Cert.AdamSmallRefIdeal.main_arg43)
      ∧ r.2.mem ((c.tc : Thread Cert.AdamSmallRefIdeal.nD Cert.AdamSmallRefIdeal.τ).loc Cert.AdamSmallRefIdeal.main_arg44) = m ((c.tc : Thread Cert.AdamSmallRefIdeal.nD Cert.AdamSmallRefIdeal.τ).loc Cert.AdamSmallRefIdeal.main_arg44)
      ∧ r.2.mem ((c.tc : Thread Cert.AdamSmallRefIdeal.nD Cert.AdamSmallRefIdeal.τ).loc Cert.AdamSmallRefIdeal.main_arg45) = m ((c.tc : Thread Cert.AdamSmallRefIdeal.nD Cert.AdamSmallRefIdeal.τ).loc Cert.AdamSmallRefIdeal.main_arg45)
      ∧ r.2.mem ((c.tc : Thread Cert.AdamSmallRefIdeal.nD Cert.AdamSmallRefIdeal.τ).loc Cert.AdamSmallRefIdeal.main_arg46) = m ((c.tc : Thread Cert.AdamSmallRefIdeal.nD Cert.AdamSmallRefIdeal.τ).loc Cert.AdamSmallRefIdeal.main_arg46)
      ∧ r.2.mem ((c.tc : Thread Cert.AdamSmallRefIdeal.nD Cert.AdamSmallRefIdeal.τ).loc Cert.AdamSmallRefIdeal.main_arg47) = m ((c.tc : Thread Cert.AdamSmallRefIdeal.nD Cert.AdamSmallRefIdeal.τ).loc Cert.AdamSmallRefIdeal.main_arg47)
      ∧ r.2.mem ((c.tc : Thread Cert.AdamSmallRefIdeal.nD Cert.AdamSmallRefIdeal.τ).loc Cert.AdamSmallRefIdeal.main_arg48) = m ((c.tc : Thread Cert.AdamSmallRefIdeal.nD Cert.AdamSmallRefIdeal.τ).loc Cert.AdamSmallRefIdeal.main_arg48)
      ∧ r.2.mem ((c.tc : Thread Cert.AdamSmallRefIdeal.nD Cert.AdamSmallRefIdeal.τ).loc Cert.AdamSmallRefIdeal.main_arg49) = m ((c.tc : Thread Cert.AdamSmallRefIdeal.nD Cert.AdamSmallRefIdeal.τ).loc Cert.AdamSmallRefIdeal.main_arg49)
      ∧ r.2.mem ((c.tc : Thread Cert.AdamSmallRefIdeal.nD Cert.AdamSmallRefIdeal.τ).loc Cert.AdamSmallRefIdeal.main_arg50) = m ((c.tc : Thread Cert.AdamSmallRefIdeal.nD Cert.AdamSmallRefIdeal.τ).loc Cert.AdamSmallRefIdeal.main_arg50)
      ∧ r.2.mem ((c.tc : Thread Cert.AdamSmallRefIdeal.nD Cert.AdamSmallRefIdeal.τ).loc Cert.AdamSmallRefIdeal.main_arg51) = m ((c.tc : Thread Cert.AdamSmallRefIdeal.nD Cert.AdamSmallRefIdeal.τ).loc Cert.AdamSmallRefIdeal.main_arg51)
      ∧ r.2.mem ((c.tc : Thread Cert.AdamSmallRefIdeal.nD Cert.AdamSmallRefIdeal.τ).loc Cert.AdamSmallRefIdeal.main_arg52) = m ((c.tc : Thread Cert.AdamSmallRefIdeal.nD Cert.AdamSmallRefIdeal.τ).loc Cert.AdamSmallRefIdeal.main_arg52)
      ∧ r.2.mem ((c.tc : Thread Cert.AdamSmallRefIdeal.nD Cert.AdamSmallRefIdeal.τ).loc Cert.AdamSmallRefIdeal.main_arg53) = m ((c.tc : Thread Cert.AdamSmallRefIdeal.nD Cert.AdamSmallRefIdeal.τ).loc Cert.AdamSmallRefIdeal.main_arg53)
      ∧ r.2.mem ((c.tc : Thread Cert.AdamSmallRefIdeal.nD Cert.AdamSmallRefIdeal.τ).loc Cert.AdamSmallRefIdeal.main_arg54) = m ((c.tc : Thread Cert.AdamSmallRefIdeal.nD Cert.AdamSmallRefIdeal.τ).loc Cert.AdamSmallRefIdeal.main_arg54)
      ∧ r.2.mem ((c.tc : Thread Cert.AdamSmallRefIdeal.nD Cert.AdamSmallRefIdeal.τ).loc Cert.AdamSmallRefIdeal.main_arg55) = m ((c.tc : Thread Cert.AdamSmallRefIdeal.nD Cert.AdamSmallRefIdeal.τ).loc Cert.AdamSmallRefIdeal.main_arg55)
      ∧ r.2.mem ((c.tc : Thread Cert.AdamSmallRefIdeal.nD Cert.AdamSmallRefIdeal.τ).loc Cert.AdamSmallRefIdeal.main_arg56) = m ((c.tc : Thread Cert.AdamSmallRefIdeal.nD Cert.AdamSmallRefIdeal.τ).loc Cert.AdamSmallRefIdeal.main_arg56)
      ∧ r.2.mem ((c.tc : Thread Cert.AdamSmallRefIdeal.nD Cert.AdamSmallRefIdeal.τ).loc Cert.AdamSmallRefIdeal.main_arg57) = m ((c.tc : Thread Cert.AdamSmallRefIdeal.nD Cert.AdamSmallRefIdeal.τ).loc Cert.AdamSmallRefIdeal.main_arg57)
      ∧ r.2.mem ((c.tc : Thread Cert.AdamSmallRefIdeal.nD Cert.AdamSmallRefIdeal.τ).loc Cert.AdamSmallRefIdeal.main_arg58) = m ((c.tc : Thread Cert.AdamSmallRefIdeal.nD Cert.AdamSmallRefIdeal.τ).loc Cert.AdamSmallRefIdeal.main_arg58)
      ∧ r.2.mem ((c.tc : Thread Cert.AdamSmallRefIdeal.nD Cert.AdamSmallRefIdeal.τ).loc Cert.AdamSmallRefIdeal.main_arg59) = m ((c.tc : Thread Cert.AdamSmallRefIdeal.nD Cert.AdamSmallRefIdeal.τ).loc Cert.AdamSmallRefIdeal.main_arg59)
      ∧ r.2.mem ((c.tc : Thread Cert.AdamSmallRefIdeal.nD Cert.AdamSmallRefIdeal.τ).loc Cert.AdamSmallRefIdeal.main_arg60) = m ((c.tc : Thread Cert.AdamSmallRefIdeal.nD Cert.AdamSmallRefIdeal.τ).loc Cert.AdamSmallRefIdeal.main_arg60)
      ∧ r.2.mem ((c.tc : Thread Cert.AdamSmallRefIdeal.nD Cert.AdamSmallRefIdeal.τ).loc Cert.AdamSmallRefIdeal.main_arg61) = m ((c.tc : Thread Cert.AdamSmallRefIdeal.nD Cert.AdamSmallRefIdeal.τ).loc Cert.AdamSmallRefIdeal.main_arg61)
      ∧ r.2.mem ((c.tc : Thread Cert.AdamSmallRefIdeal.nD Cert.AdamSmallRefIdeal.τ).loc Cert.AdamSmallRefIdeal.main_arg62) = m ((c.tc : Thread Cert.AdamSmallRefIdeal.nD Cert.AdamSmallRefIdeal.τ).loc Cert.AdamSmallRefIdeal.main_arg62)
      ∧ r.2.mem ((c.tc : Thread Cert.AdamSmallRefIdeal.nD Cert.AdamSmallRefIdeal.τ).loc Cert.AdamSmallRefIdeal.main_arg63) = m ((c.tc : Thread Cert.AdamSmallRefIdeal.nD Cert.AdamSmallRefIdeal.τ).loc Cert.AdamSmallRefIdeal.main_arg63)
      ∧ r.2.mem ((c.tc : Thread Cert.AdamSmallRefIdeal.nD Cert.AdamSmallRefIdeal.τ).loc Cert.AdamSmallRefIdeal.main_arg64) = m ((c.tc : Thread Cert.AdamSmallRefIdeal.nD Cert.AdamSmallRefIdeal.τ).loc Cert.AdamSmallRefIdeal.main_arg64)
      ∧ r.2.mem ((c.tc : Thread Cert.AdamSmallRefIdeal.nD Cert.AdamSmallRefIdeal.τ).loc Cert.AdamSmallRefIdeal.main_arg65) = m ((c.tc : Thread Cert.AdamSmallRefIdeal.nD Cert.AdamSmallRefIdeal.τ).loc Cert.AdamSmallRefIdeal.main_arg65)
      ∧ r.2.mem ((c.tc : Thread Cert.AdamSmallRefIdeal.nD Cert.AdamSmallRefIdeal.τ).loc Cert.AdamSmallRefIdeal.main_arg66) = m ((c.tc : Thread Cert.AdamSmallRefIdeal.nD Cert.AdamSmallRefIdeal.τ).loc Cert.AdamSmallRefIdeal.main_arg66)
      ∧ r.2.mem ((c.tc : Thread Cert.AdamSmallRefIdeal.nD Cert.AdamSmallRefIdeal.τ).loc Cert.AdamSmallRefIdeal.main_arg67) = m ((c.tc : Thread Cert.AdamSmallRefIdeal.nD Cert.AdamSmallRefIdeal.τ).loc Cert.AdamSmallRefIdeal.main_arg67)
      ∧ r.2.mem ((c.tc : Thread Cert.AdamSmallRefIdeal.nD Cert.AdamSmallRefIdeal.τ).loc Cert.AdamSmallRefIdeal.main_arg68) = m ((c.tc : Thread Cert.AdamSmallRefIdeal.nD Cert.AdamSmallRefIdeal.τ).loc Cert.AdamSmallRefIdeal.main_arg68)
      ∧ r.2.mem ((c.tc : Thread Cert.AdamSmallRefIdeal.nD Cert.AdamSmallRefIdeal.τ).loc Cert.AdamSmallRefIdeal.main_arg69) = m ((c.tc : Thread Cert.AdamSmallRefIdeal.nD Cert.AdamSmallRefIdeal.τ).loc Cert.AdamSmallRefIdeal.main_arg69)
      ∧ r.2.mem ((c.tc : Thread Cert.AdamSmallRefIdeal.nD Cert.AdamSmallRefIdeal.τ).loc Cert.AdamSmallRefIdeal.main_arg70) = m ((c.tc : Thread Cert.AdamSmallRefIdeal.nD Cert.AdamSmallRefIdeal.τ).loc Cert.AdamSmallRefIdeal.main_arg70)
      ∧ r.2.mem ((c.tc : Thread Cert.AdamSmallRefIdeal.nD Cert.AdamSmallRefIdeal.τ).loc Cert.AdamSmallRefIdeal.main_arg71) = m ((c.tc : Thread Cert.AdamSmallRefIdeal.nD Cert.AdamSmallRefIdeal.τ).loc Cert.AdamSmallRefIdeal.main_arg71))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_v62) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_FfnOutDx_FfnOutDxIdeal : Prop :=
  True

def algebraic_FfnOutDxIdeal_FfnOutDxRefIdeal [hFfnOutDxIdeal : Cert.FfnOutDxIdeal.Facts] [hFfnOutDxRefIdeal : Cert.FfnOutDxRefIdeal.Facts] : Prop :=
  ∀ (m : (ℓ : Loc Cert.FfnOutDxIdeal.nD Cert.FfnOutDxIdeal.τ Cert.FfnOutDxIdeal.sig) → Buf (Elt Ideal) ℓ) (g : Dev Cert.FfnOutDxIdeal.nD → PrngReg)
    (m' : (ℓ : Loc Cert.FfnOutDxRefIdeal.nD Cert.FfnOutDxRefIdeal.τ Cert.FfnOutDxRefIdeal.sig) → Buf (Elt Ideal) ℓ) (g' : Dev Cert.FfnOutDxRefIdeal.nD → PrngReg), Pre_FfnOutDxIdeal m →
    (∀ c : Dev Cert.FfnOutDxIdeal.nD,
      m' ((c.tc : Thread Cert.FfnOutDxRefIdeal.nD Cert.FfnOutDxRefIdeal.τ).loc Cert.FfnOutDxRefIdeal.main_arg0) = m ((c.tc : Thread Cert.FfnOutDxIdeal.nD Cert.FfnOutDxIdeal.τ).loc Cert.FfnOutDxIdeal.main_arg0)
      ∧ m' ((c.tc : Thread Cert.FfnOutDxRefIdeal.nD Cert.FfnOutDxRefIdeal.τ).loc Cert.FfnOutDxRefIdeal.main_arg1) = m ((c.tc : Thread Cert.FfnOutDxIdeal.nD Cert.FfnOutDxIdeal.τ).loc Cert.FfnOutDxIdeal.main_arg1)
      ∧ m' ((c.tc : Thread Cert.FfnOutDxRefIdeal.nD Cert.FfnOutDxRefIdeal.τ).loc Cert.FfnOutDxRefIdeal.main_arg2) = m ((c.tc : Thread Cert.FfnOutDxIdeal.nD Cert.FfnOutDxIdeal.τ).loc Cert.FfnOutDxIdeal.main_arg2)) →
    ∃ (v0 : (c : Dev Cert.FfnOutDxIdeal.nD) → Buf (Elt Ideal) ((c.tc : Thread Cert.FfnOutDxIdeal.nD Cert.FfnOutDxIdeal.τ).loc Cert.FfnOutDxIdeal.main_v0)),
      θ_run (Cert.FfnOutDxIdeal.defs (F := Ideal)) (onTc (τ := Cert.FfnOutDxIdeal.τ) (Cert.FfnOutDxIdeal.main (F := Ideal))) ⟨m, fun _ => 0, g⟩ (fun r => ∀ c : Dev Cert.FfnOutDxIdeal.nD,
          r.2.mem ((c.tc : Thread Cert.FfnOutDxIdeal.nD Cert.FfnOutDxIdeal.τ).loc Cert.FfnOutDxIdeal.main_v0) = v0 c
          ∧ r.2.mem ((c.tc : Thread Cert.FfnOutDxIdeal.nD Cert.FfnOutDxIdeal.τ).loc Cert.FfnOutDxIdeal.main_arg0) = m ((c.tc : Thread Cert.FfnOutDxIdeal.nD Cert.FfnOutDxIdeal.τ).loc Cert.FfnOutDxIdeal.main_arg0)
          ∧ r.2.mem ((c.tc : Thread Cert.FfnOutDxIdeal.nD Cert.FfnOutDxIdeal.τ).loc Cert.FfnOutDxIdeal.main_arg1) = m ((c.tc : Thread Cert.FfnOutDxIdeal.nD Cert.FfnOutDxIdeal.τ).loc Cert.FfnOutDxIdeal.main_arg1)
          ∧ r.2.mem ((c.tc : Thread Cert.FfnOutDxIdeal.nD Cert.FfnOutDxIdeal.τ).loc Cert.FfnOutDxIdeal.main_arg2) = m ((c.tc : Thread Cert.FfnOutDxIdeal.nD Cert.FfnOutDxIdeal.τ).loc Cert.FfnOutDxIdeal.main_arg2))
      ∧ θ_run (Cert.FfnOutDxRefIdeal.defs (F := Ideal)) (onTc (τ := Cert.FfnOutDxRefIdeal.τ) (Cert.FfnOutDxRefIdeal.main (F := Ideal))) ⟨m', fun _ => 0, g'⟩ (fun r => ∀ c : Dev Cert.FfnOutDxRefIdeal.nD,
          r.2.mem ((c.tc : Thread Cert.FfnOutDxRefIdeal.nD Cert.FfnOutDxRefIdeal.τ).loc Cert.FfnOutDxRefIdeal.main_v3) = v0 c
          ∧ r.2.mem ((c.tc : Thread Cert.FfnOutDxRefIdeal.nD Cert.FfnOutDxRefIdeal.τ).loc Cert.FfnOutDxRefIdeal.main_arg0) = m' ((c.tc : Thread Cert.FfnOutDxRefIdeal.nD Cert.FfnOutDxRefIdeal.τ).loc Cert.FfnOutDxRefIdeal.main_arg0)
          ∧ r.2.mem ((c.tc : Thread Cert.FfnOutDxRefIdeal.nD Cert.FfnOutDxRefIdeal.τ).loc Cert.FfnOutDxRefIdeal.main_arg1) = m' ((c.tc : Thread Cert.FfnOutDxRefIdeal.nD Cert.FfnOutDxRefIdeal.τ).loc Cert.FfnOutDxRefIdeal.main_arg1)
          ∧ r.2.mem ((c.tc : Thread Cert.FfnOutDxRefIdeal.nD Cert.FfnOutDxRefIdeal.τ).loc Cert.FfnOutDxRefIdeal.main_arg2) = m' ((c.tc : Thread Cert.FfnOutDxRefIdeal.nD Cert.FfnOutDxRefIdeal.τ).loc Cert.FfnOutDxRefIdeal.main_arg2))

def preserves_FfnOutDw_FfnOutDwIdeal : Prop :=
  True

def algebraic_FfnOutDwIdeal_FfnOutDwRefIdeal [hFfnOutDwIdeal : Cert.FfnOutDwIdeal.Facts] [hFfnOutDwRefIdeal : Cert.FfnOutDwRefIdeal.Facts] : Prop :=
  ∀ (m : (ℓ : Loc Cert.FfnOutDwIdeal.nD Cert.FfnOutDwIdeal.τ Cert.FfnOutDwIdeal.sig) → Buf (Elt Ideal) ℓ) (g : Dev Cert.FfnOutDwIdeal.nD → PrngReg)
    (m' : (ℓ : Loc Cert.FfnOutDwRefIdeal.nD Cert.FfnOutDwRefIdeal.τ Cert.FfnOutDwRefIdeal.sig) → Buf (Elt Ideal) ℓ) (g' : Dev Cert.FfnOutDwRefIdeal.nD → PrngReg), Pre_FfnOutDwIdeal m →
    (∀ c : Dev Cert.FfnOutDwIdeal.nD,
      m' ((c.tc : Thread Cert.FfnOutDwRefIdeal.nD Cert.FfnOutDwRefIdeal.τ).loc Cert.FfnOutDwRefIdeal.main_arg0) = m ((c.tc : Thread Cert.FfnOutDwIdeal.nD Cert.FfnOutDwIdeal.τ).loc Cert.FfnOutDwIdeal.main_arg0)
      ∧ m' ((c.tc : Thread Cert.FfnOutDwRefIdeal.nD Cert.FfnOutDwRefIdeal.τ).loc Cert.FfnOutDwRefIdeal.main_arg1) = m ((c.tc : Thread Cert.FfnOutDwIdeal.nD Cert.FfnOutDwIdeal.τ).loc Cert.FfnOutDwIdeal.main_arg1)
      ∧ m' ((c.tc : Thread Cert.FfnOutDwRefIdeal.nD Cert.FfnOutDwRefIdeal.τ).loc Cert.FfnOutDwRefIdeal.main_arg2) = m ((c.tc : Thread Cert.FfnOutDwIdeal.nD Cert.FfnOutDwIdeal.τ).loc Cert.FfnOutDwIdeal.main_arg2)) →
    ∃ (v0 : (c : Dev Cert.FfnOutDwIdeal.nD) → Buf (Elt Ideal) ((c.tc : Thread Cert.FfnOutDwIdeal.nD Cert.FfnOutDwIdeal.τ).loc Cert.FfnOutDwIdeal.main_v0)),
      θ_run (Cert.FfnOutDwIdeal.defs (F := Ideal)) (onTc (τ := Cert.FfnOutDwIdeal.τ) (Cert.FfnOutDwIdeal.main (F := Ideal))) ⟨m, fun _ => 0, g⟩ (fun r => ∀ c : Dev Cert.FfnOutDwIdeal.nD,
          r.2.mem ((c.tc : Thread Cert.FfnOutDwIdeal.nD Cert.FfnOutDwIdeal.τ).loc Cert.FfnOutDwIdeal.main_v0) = v0 c
          ∧ r.2.mem ((c.tc : Thread Cert.FfnOutDwIdeal.nD Cert.FfnOutDwIdeal.τ).loc Cert.FfnOutDwIdeal.main_arg0) = m ((c.tc : Thread Cert.FfnOutDwIdeal.nD Cert.FfnOutDwIdeal.τ).loc Cert.FfnOutDwIdeal.main_arg0)
          ∧ r.2.mem ((c.tc : Thread Cert.FfnOutDwIdeal.nD Cert.FfnOutDwIdeal.τ).loc Cert.FfnOutDwIdeal.main_arg1) = m ((c.tc : Thread Cert.FfnOutDwIdeal.nD Cert.FfnOutDwIdeal.τ).loc Cert.FfnOutDwIdeal.main_arg1)
          ∧ r.2.mem ((c.tc : Thread Cert.FfnOutDwIdeal.nD Cert.FfnOutDwIdeal.τ).loc Cert.FfnOutDwIdeal.main_arg2) = m ((c.tc : Thread Cert.FfnOutDwIdeal.nD Cert.FfnOutDwIdeal.τ).loc Cert.FfnOutDwIdeal.main_arg2))
      ∧ θ_run (Cert.FfnOutDwRefIdeal.defs (F := Ideal)) (onTc (τ := Cert.FfnOutDwRefIdeal.τ) (Cert.FfnOutDwRefIdeal.main (F := Ideal))) ⟨m', fun _ => 0, g'⟩ (fun r => ∀ c : Dev Cert.FfnOutDwRefIdeal.nD,
          r.2.mem ((c.tc : Thread Cert.FfnOutDwRefIdeal.nD Cert.FfnOutDwRefIdeal.τ).loc Cert.FfnOutDwRefIdeal.main_v4) = v0 c
          ∧ r.2.mem ((c.tc : Thread Cert.FfnOutDwRefIdeal.nD Cert.FfnOutDwRefIdeal.τ).loc Cert.FfnOutDwRefIdeal.main_arg0) = m' ((c.tc : Thread Cert.FfnOutDwRefIdeal.nD Cert.FfnOutDwRefIdeal.τ).loc Cert.FfnOutDwRefIdeal.main_arg0)
          ∧ r.2.mem ((c.tc : Thread Cert.FfnOutDwRefIdeal.nD Cert.FfnOutDwRefIdeal.τ).loc Cert.FfnOutDwRefIdeal.main_arg1) = m' ((c.tc : Thread Cert.FfnOutDwRefIdeal.nD Cert.FfnOutDwRefIdeal.τ).loc Cert.FfnOutDwRefIdeal.main_arg1)
          ∧ r.2.mem ((c.tc : Thread Cert.FfnOutDwRefIdeal.nD Cert.FfnOutDwRefIdeal.τ).loc Cert.FfnOutDwRefIdeal.main_arg2) = m' ((c.tc : Thread Cert.FfnOutDwRefIdeal.nD Cert.FfnOutDwRefIdeal.τ).loc Cert.FfnOutDwRefIdeal.main_arg2))

def preserves_FfnInDx_FfnInDxIdeal : Prop :=
  True

def algebraic_FfnInDxIdeal_FfnInDxRefIdeal [hFfnInDxIdeal : Cert.FfnInDxIdeal.Facts] [hFfnInDxRefIdeal : Cert.FfnInDxRefIdeal.Facts] : Prop :=
  ∀ (m : (ℓ : Loc Cert.FfnInDxIdeal.nD Cert.FfnInDxIdeal.τ Cert.FfnInDxIdeal.sig) → Buf (Elt Ideal) ℓ) (g : Dev Cert.FfnInDxIdeal.nD → PrngReg)
    (m' : (ℓ : Loc Cert.FfnInDxRefIdeal.nD Cert.FfnInDxRefIdeal.τ Cert.FfnInDxRefIdeal.sig) → Buf (Elt Ideal) ℓ) (g' : Dev Cert.FfnInDxRefIdeal.nD → PrngReg), Pre_FfnInDxIdeal m →
    (∀ c : Dev Cert.FfnInDxIdeal.nD,
      m' ((c.tc : Thread Cert.FfnInDxRefIdeal.nD Cert.FfnInDxRefIdeal.τ).loc Cert.FfnInDxRefIdeal.main_arg0) = m ((c.tc : Thread Cert.FfnInDxIdeal.nD Cert.FfnInDxIdeal.τ).loc Cert.FfnInDxIdeal.main_arg0)
      ∧ m' ((c.tc : Thread Cert.FfnInDxRefIdeal.nD Cert.FfnInDxRefIdeal.τ).loc Cert.FfnInDxRefIdeal.main_arg1) = m ((c.tc : Thread Cert.FfnInDxIdeal.nD Cert.FfnInDxIdeal.τ).loc Cert.FfnInDxIdeal.main_arg1)
      ∧ m' ((c.tc : Thread Cert.FfnInDxRefIdeal.nD Cert.FfnInDxRefIdeal.τ).loc Cert.FfnInDxRefIdeal.main_arg2) = m ((c.tc : Thread Cert.FfnInDxIdeal.nD Cert.FfnInDxIdeal.τ).loc Cert.FfnInDxIdeal.main_arg2)) →
    ∃ (v0 : (c : Dev Cert.FfnInDxIdeal.nD) → Buf (Elt Ideal) ((c.tc : Thread Cert.FfnInDxIdeal.nD Cert.FfnInDxIdeal.τ).loc Cert.FfnInDxIdeal.main_v0)),
      θ_run (Cert.FfnInDxIdeal.defs (F := Ideal)) (onTc (τ := Cert.FfnInDxIdeal.τ) (Cert.FfnInDxIdeal.main (F := Ideal))) ⟨m, fun _ => 0, g⟩ (fun r => ∀ c : Dev Cert.FfnInDxIdeal.nD,
          r.2.mem ((c.tc : Thread Cert.FfnInDxIdeal.nD Cert.FfnInDxIdeal.τ).loc Cert.FfnInDxIdeal.main_v0) = v0 c
          ∧ r.2.mem ((c.tc : Thread Cert.FfnInDxIdeal.nD Cert.FfnInDxIdeal.τ).loc Cert.FfnInDxIdeal.main_arg0) = m ((c.tc : Thread Cert.FfnInDxIdeal.nD Cert.FfnInDxIdeal.τ).loc Cert.FfnInDxIdeal.main_arg0)
          ∧ r.2.mem ((c.tc : Thread Cert.FfnInDxIdeal.nD Cert.FfnInDxIdeal.τ).loc Cert.FfnInDxIdeal.main_arg1) = m ((c.tc : Thread Cert.FfnInDxIdeal.nD Cert.FfnInDxIdeal.τ).loc Cert.FfnInDxIdeal.main_arg1)
          ∧ r.2.mem ((c.tc : Thread Cert.FfnInDxIdeal.nD Cert.FfnInDxIdeal.τ).loc Cert.FfnInDxIdeal.main_arg2) = m ((c.tc : Thread Cert.FfnInDxIdeal.nD Cert.FfnInDxIdeal.τ).loc Cert.FfnInDxIdeal.main_arg2))
      ∧ θ_run (Cert.FfnInDxRefIdeal.defs (F := Ideal)) (onTc (τ := Cert.FfnInDxRefIdeal.τ) (Cert.FfnInDxRefIdeal.main (F := Ideal))) ⟨m', fun _ => 0, g'⟩ (fun r => ∀ c : Dev Cert.FfnInDxRefIdeal.nD,
          r.2.mem ((c.tc : Thread Cert.FfnInDxRefIdeal.nD Cert.FfnInDxRefIdeal.τ).loc Cert.FfnInDxRefIdeal.main_v4) = v0 c
          ∧ r.2.mem ((c.tc : Thread Cert.FfnInDxRefIdeal.nD Cert.FfnInDxRefIdeal.τ).loc Cert.FfnInDxRefIdeal.main_arg0) = m' ((c.tc : Thread Cert.FfnInDxRefIdeal.nD Cert.FfnInDxRefIdeal.τ).loc Cert.FfnInDxRefIdeal.main_arg0)
          ∧ r.2.mem ((c.tc : Thread Cert.FfnInDxRefIdeal.nD Cert.FfnInDxRefIdeal.τ).loc Cert.FfnInDxRefIdeal.main_arg1) = m' ((c.tc : Thread Cert.FfnInDxRefIdeal.nD Cert.FfnInDxRefIdeal.τ).loc Cert.FfnInDxRefIdeal.main_arg1)
          ∧ r.2.mem ((c.tc : Thread Cert.FfnInDxRefIdeal.nD Cert.FfnInDxRefIdeal.τ).loc Cert.FfnInDxRefIdeal.main_arg2) = m' ((c.tc : Thread Cert.FfnInDxRefIdeal.nD Cert.FfnInDxRefIdeal.τ).loc Cert.FfnInDxRefIdeal.main_arg2))

def preserves_FfnInDw_FfnInDwIdeal : Prop :=
  True

def algebraic_FfnInDwIdeal_FfnInDwRefIdeal [hFfnInDwIdeal : Cert.FfnInDwIdeal.Facts] [hFfnInDwRefIdeal : Cert.FfnInDwRefIdeal.Facts] : Prop :=
  ∀ (m : (ℓ : Loc Cert.FfnInDwIdeal.nD Cert.FfnInDwIdeal.τ Cert.FfnInDwIdeal.sig) → Buf (Elt Ideal) ℓ) (g : Dev Cert.FfnInDwIdeal.nD → PrngReg)
    (m' : (ℓ : Loc Cert.FfnInDwRefIdeal.nD Cert.FfnInDwRefIdeal.τ Cert.FfnInDwRefIdeal.sig) → Buf (Elt Ideal) ℓ) (g' : Dev Cert.FfnInDwRefIdeal.nD → PrngReg), Pre_FfnInDwIdeal m →
    (∀ c : Dev Cert.FfnInDwIdeal.nD,
      m' ((c.tc : Thread Cert.FfnInDwRefIdeal.nD Cert.FfnInDwRefIdeal.τ).loc Cert.FfnInDwRefIdeal.main_arg0) = m ((c.tc : Thread Cert.FfnInDwIdeal.nD Cert.FfnInDwIdeal.τ).loc Cert.FfnInDwIdeal.main_arg0)
      ∧ m' ((c.tc : Thread Cert.FfnInDwRefIdeal.nD Cert.FfnInDwRefIdeal.τ).loc Cert.FfnInDwRefIdeal.main_arg1) = m ((c.tc : Thread Cert.FfnInDwIdeal.nD Cert.FfnInDwIdeal.τ).loc Cert.FfnInDwIdeal.main_arg1)
      ∧ m' ((c.tc : Thread Cert.FfnInDwRefIdeal.nD Cert.FfnInDwRefIdeal.τ).loc Cert.FfnInDwRefIdeal.main_arg2) = m ((c.tc : Thread Cert.FfnInDwIdeal.nD Cert.FfnInDwIdeal.τ).loc Cert.FfnInDwIdeal.main_arg2)) →
    ∃ (v0 : (c : Dev Cert.FfnInDwIdeal.nD) → Buf (Elt Ideal) ((c.tc : Thread Cert.FfnInDwIdeal.nD Cert.FfnInDwIdeal.τ).loc Cert.FfnInDwIdeal.main_v0)),
      θ_run (Cert.FfnInDwIdeal.defs (F := Ideal)) (onTc (τ := Cert.FfnInDwIdeal.τ) (Cert.FfnInDwIdeal.main (F := Ideal))) ⟨m, fun _ => 0, g⟩ (fun r => ∀ c : Dev Cert.FfnInDwIdeal.nD,
          r.2.mem ((c.tc : Thread Cert.FfnInDwIdeal.nD Cert.FfnInDwIdeal.τ).loc Cert.FfnInDwIdeal.main_v0) = v0 c
          ∧ r.2.mem ((c.tc : Thread Cert.FfnInDwIdeal.nD Cert.FfnInDwIdeal.τ).loc Cert.FfnInDwIdeal.main_arg0) = m ((c.tc : Thread Cert.FfnInDwIdeal.nD Cert.FfnInDwIdeal.τ).loc Cert.FfnInDwIdeal.main_arg0)
          ∧ r.2.mem ((c.tc : Thread Cert.FfnInDwIdeal.nD Cert.FfnInDwIdeal.τ).loc Cert.FfnInDwIdeal.main_arg1) = m ((c.tc : Thread Cert.FfnInDwIdeal.nD Cert.FfnInDwIdeal.τ).loc Cert.FfnInDwIdeal.main_arg1)
          ∧ r.2.mem ((c.tc : Thread Cert.FfnInDwIdeal.nD Cert.FfnInDwIdeal.τ).loc Cert.FfnInDwIdeal.main_arg2) = m ((c.tc : Thread Cert.FfnInDwIdeal.nD Cert.FfnInDwIdeal.τ).loc Cert.FfnInDwIdeal.main_arg2))
      ∧ θ_run (Cert.FfnInDwRefIdeal.defs (F := Ideal)) (onTc (τ := Cert.FfnInDwRefIdeal.τ) (Cert.FfnInDwRefIdeal.main (F := Ideal))) ⟨m', fun _ => 0, g'⟩ (fun r => ∀ c : Dev Cert.FfnInDwRefIdeal.nD,
          r.2.mem ((c.tc : Thread Cert.FfnInDwRefIdeal.nD Cert.FfnInDwRefIdeal.τ).loc Cert.FfnInDwRefIdeal.main_v5) = v0 c
          ∧ r.2.mem ((c.tc : Thread Cert.FfnInDwRefIdeal.nD Cert.FfnInDwRefIdeal.τ).loc Cert.FfnInDwRefIdeal.main_arg0) = m' ((c.tc : Thread Cert.FfnInDwRefIdeal.nD Cert.FfnInDwRefIdeal.τ).loc Cert.FfnInDwRefIdeal.main_arg0)
          ∧ r.2.mem ((c.tc : Thread Cert.FfnInDwRefIdeal.nD Cert.FfnInDwRefIdeal.τ).loc Cert.FfnInDwRefIdeal.main_arg1) = m' ((c.tc : Thread Cert.FfnInDwRefIdeal.nD Cert.FfnInDwRefIdeal.τ).loc Cert.FfnInDwRefIdeal.main_arg1)
          ∧ r.2.mem ((c.tc : Thread Cert.FfnInDwRefIdeal.nD Cert.FfnInDwRefIdeal.τ).loc Cert.FfnInDwRefIdeal.main_arg2) = m' ((c.tc : Thread Cert.FfnInDwRefIdeal.nD Cert.FfnInDwRefIdeal.τ).loc Cert.FfnInDwRefIdeal.main_arg2))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)
      ∧ m' ((c.tc : Thread Cert.OutDxRefIdeal.nD Cert.OutDxRefIdeal.τ).loc Cert.OutDxRefIdeal.main_arg2) = m ((c.tc : Thread Cert.OutDxIdeal.nD Cert.OutDxIdeal.τ).loc Cert.OutDxIdeal.main_arg2)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1)
          ∧ r.2.mem ((c.tc : Thread Cert.OutDxIdeal.nD Cert.OutDxIdeal.τ).loc Cert.OutDxIdeal.main_arg2) = m ((c.tc : Thread Cert.OutDxIdeal.nD Cert.OutDxIdeal.τ).loc Cert.OutDxIdeal.main_arg2))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v3) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1)
          ∧ r.2.mem ((c.tc : Thread Cert.OutDxRefIdeal.nD Cert.OutDxRefIdeal.τ).loc Cert.OutDxRefIdeal.main_arg2) = m' ((c.tc : Thread Cert.OutDxRefIdeal.nD Cert.OutDxRefIdeal.τ).loc Cert.OutDxRefIdeal.main_arg2))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)
      ∧ m' ((c.tc : Thread Cert.OutDwRefIdeal.nD Cert.OutDwRefIdeal.τ).loc Cert.OutDwRefIdeal.main_arg2) = m ((c.tc : Thread Cert.OutDwIdeal.nD Cert.OutDwIdeal.τ).loc Cert.OutDwIdeal.main_arg2)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
          ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v4) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1)
          ∧ r.2.mem ((c.tc : Thread Cert.OutDwRefIdeal.nD Cert.OutDwRefIdeal.τ).loc Cert.OutDwRefIdeal.main_arg2) = m' ((c.tc : Thread Cert.OutDwRefIdeal.nD Cert.OutDwRefIdeal.τ).loc Cert.OutDwRefIdeal.main_arg2))

def preserves_BranchDx_BranchDxIdeal : Prop :=
  True

def algebraic_BranchDxIdeal_BranchDxRefIdeal [hBranchDxIdeal : Cert.BranchDxIdeal.Facts] [hBranchDxRefIdeal : Cert.BranchDxRefIdeal.Facts] : Prop :=
  ∀ (m : (ℓ : Loc Cert.BranchDxIdeal.nD Cert.BranchDxIdeal.τ Cert.BranchDxIdeal.sig) → Buf (Elt Ideal) ℓ) (g : Dev Cert.BranchDxIdeal.nD → PrngReg)
    (m' : (ℓ : Loc Cert.BranchDxRefIdeal.nD Cert.BranchDxRefIdeal.τ Cert.BranchDxRefIdeal.sig) → Buf (Elt Ideal) ℓ) (g' : Dev Cert.BranchDxRefIdeal.nD → PrngReg), Pre_BranchDxIdeal m →
    (∀ c : Dev Cert.BranchDxIdeal.nD,
      m' ((c.tc : Thread Cert.BranchDxRefIdeal.nD Cert.BranchDxRefIdeal.τ).loc Cert.BranchDxRefIdeal.main_arg0) = m ((c.tc : Thread Cert.BranchDxIdeal.nD Cert.BranchDxIdeal.τ).loc Cert.BranchDxIdeal.main_arg0)
      ∧ m' ((c.tc : Thread Cert.BranchDxRefIdeal.nD Cert.BranchDxRefIdeal.τ).loc Cert.BranchDxRefIdeal.main_arg1) = m ((c.tc : Thread Cert.BranchDxIdeal.nD Cert.BranchDxIdeal.τ).loc Cert.BranchDxIdeal.main_arg1)
      ∧ m' ((c.tc : Thread Cert.BranchDxRefIdeal.nD Cert.BranchDxRefIdeal.τ).loc Cert.BranchDxRefIdeal.main_arg2) = m ((c.tc : Thread Cert.BranchDxIdeal.nD Cert.BranchDxIdeal.τ).loc Cert.BranchDxIdeal.main_arg2)) →
    ∃ (v0 : (c : Dev Cert.BranchDxIdeal.nD) → Buf (Elt Ideal) ((c.tc : Thread Cert.BranchDxIdeal.nD Cert.BranchDxIdeal.τ).loc Cert.BranchDxIdeal.main_v0)),
      θ_run (Cert.BranchDxIdeal.defs (F := Ideal)) (onTc (τ := Cert.BranchDxIdeal.τ) (Cert.BranchDxIdeal.main (F := Ideal))) ⟨m, fun _ => 0, g⟩ (fun r => ∀ c : Dev Cert.BranchDxIdeal.nD,
          r.2.mem ((c.tc : Thread Cert.BranchDxIdeal.nD Cert.BranchDxIdeal.τ).loc Cert.BranchDxIdeal.main_v0) = v0 c
          ∧ r.2.mem ((c.tc : Thread Cert.BranchDxIdeal.nD Cert.BranchDxIdeal.τ).loc Cert.BranchDxIdeal.main_arg0) = m ((c.tc : Thread Cert.BranchDxIdeal.nD Cert.BranchDxIdeal.τ).loc Cert.BranchDxIdeal.main_arg0)
          ∧ r.2.mem ((c.tc : Thread Cert.BranchDxIdeal.nD Cert.BranchDxIdeal.τ).loc Cert.BranchDxIdeal.main_arg1) = m ((c.tc : Thread Cert.BranchDxIdeal.nD Cert.BranchDxIdeal.τ).loc Cert.BranchDxIdeal.main_arg1)
          ∧ r.2.mem ((c.tc : Thread Cert.BranchDxIdeal.nD Cert.BranchDxIdeal.τ).loc Cert.BranchDxIdeal.main_arg2) = m ((c.tc : Thread Cert.BranchDxIdeal.nD Cert.BranchDxIdeal.τ).loc Cert.BranchDxIdeal.main_arg2))
      ∧ θ_run (Cert.BranchDxRefIdeal.defs (F := Ideal)) (onTc (τ := Cert.BranchDxRefIdeal.τ) (Cert.BranchDxRefIdeal.main (F := Ideal))) ⟨m', fun _ => 0, g'⟩ (fun r => ∀ c : Dev Cert.BranchDxRefIdeal.nD,
          r.2.mem ((c.tc : Thread Cert.BranchDxRefIdeal.nD Cert.BranchDxRefIdeal.τ).loc Cert.BranchDxRefIdeal.main_v4) = v0 c
          ∧ r.2.mem ((c.tc : Thread Cert.BranchDxRefIdeal.nD Cert.BranchDxRefIdeal.τ).loc Cert.BranchDxRefIdeal.main_arg0) = m' ((c.tc : Thread Cert.BranchDxRefIdeal.nD Cert.BranchDxRefIdeal.τ).loc Cert.BranchDxRefIdeal.main_arg0)
          ∧ r.2.mem ((c.tc : Thread Cert.BranchDxRefIdeal.nD Cert.BranchDxRefIdeal.τ).loc Cert.BranchDxRefIdeal.main_arg1) = m' ((c.tc : Thread Cert.BranchDxRefIdeal.nD Cert.BranchDxRefIdeal.τ).loc Cert.BranchDxRefIdeal.main_arg1)
          ∧ r.2.mem ((c.tc : Thread Cert.BranchDxRefIdeal.nD Cert.BranchDxRefIdeal.τ).loc Cert.BranchDxRefIdeal.main_arg2) = m' ((c.tc : Thread Cert.BranchDxRefIdeal.nD Cert.BranchDxRefIdeal.τ).loc Cert.BranchDxRefIdeal.main_arg2))

def preserves_BranchDw_BranchDwIdeal : Prop :=
  True

def algebraic_BranchDwIdeal_BranchDwRefIdeal [hBranchDwIdeal : Cert.BranchDwIdeal.Facts] [hBranchDwRefIdeal : Cert.BranchDwRefIdeal.Facts] : Prop :=
  ∀ (m : (ℓ : Loc Cert.BranchDwIdeal.nD Cert.BranchDwIdeal.τ Cert.BranchDwIdeal.sig) → Buf (Elt Ideal) ℓ) (g : Dev Cert.BranchDwIdeal.nD → PrngReg)
    (m' : (ℓ : Loc Cert.BranchDwRefIdeal.nD Cert.BranchDwRefIdeal.τ Cert.BranchDwRefIdeal.sig) → Buf (Elt Ideal) ℓ) (g' : Dev Cert.BranchDwRefIdeal.nD → PrngReg), Pre_BranchDwIdeal m →
    (∀ c : Dev Cert.BranchDwIdeal.nD,
      m' ((c.tc : Thread Cert.BranchDwRefIdeal.nD Cert.BranchDwRefIdeal.τ).loc Cert.BranchDwRefIdeal.main_arg0) = m ((c.tc : Thread Cert.BranchDwIdeal.nD Cert.BranchDwIdeal.τ).loc Cert.BranchDwIdeal.main_arg0)
      ∧ m' ((c.tc : Thread Cert.BranchDwRefIdeal.nD Cert.BranchDwRefIdeal.τ).loc Cert.BranchDwRefIdeal.main_arg1) = m ((c.tc : Thread Cert.BranchDwIdeal.nD Cert.BranchDwIdeal.τ).loc Cert.BranchDwIdeal.main_arg1)
      ∧ m' ((c.tc : Thread Cert.BranchDwRefIdeal.nD Cert.BranchDwRefIdeal.τ).loc Cert.BranchDwRefIdeal.main_arg2) = m ((c.tc : Thread Cert.BranchDwIdeal.nD Cert.BranchDwIdeal.τ).loc Cert.BranchDwIdeal.main_arg2)) →
    ∃ (v0 : (c : Dev Cert.BranchDwIdeal.nD) → Buf (Elt Ideal) ((c.tc : Thread Cert.BranchDwIdeal.nD Cert.BranchDwIdeal.τ).loc Cert.BranchDwIdeal.main_v0)),
      θ_run (Cert.BranchDwIdeal.defs (F := Ideal)) (onTc (τ := Cert.BranchDwIdeal.τ) (Cert.BranchDwIdeal.main (F := Ideal))) ⟨m, fun _ => 0, g⟩ (fun r => ∀ c : Dev Cert.BranchDwIdeal.nD,
          r.2.mem ((c.tc : Thread Cert.BranchDwIdeal.nD Cert.BranchDwIdeal.τ).loc Cert.BranchDwIdeal.main_v0) = v0 c
          ∧ r.2.mem ((c.tc : Thread Cert.BranchDwIdeal.nD Cert.BranchDwIdeal.τ).loc Cert.BranchDwIdeal.main_arg0) = m ((c.tc : Thread Cert.BranchDwIdeal.nD Cert.BranchDwIdeal.τ).loc Cert.BranchDwIdeal.main_arg0)
          ∧ r.2.mem ((c.tc : Thread Cert.BranchDwIdeal.nD Cert.BranchDwIdeal.τ).loc Cert.BranchDwIdeal.main_arg1) = m ((c.tc : Thread Cert.BranchDwIdeal.nD Cert.BranchDwIdeal.τ).loc Cert.BranchDwIdeal.main_arg1)
          ∧ r.2.mem ((c.tc : Thread Cert.BranchDwIdeal.nD Cert.BranchDwIdeal.τ).loc Cert.BranchDwIdeal.main_arg2) = m ((c.tc : Thread Cert.BranchDwIdeal.nD Cert.BranchDwIdeal.τ).loc Cert.BranchDwIdeal.main_arg2))
      ∧ θ_run (Cert.BranchDwRefIdeal.defs (F := Ideal)) (onTc (τ := Cert.BranchDwRefIdeal.τ) (Cert.BranchDwRefIdeal.main (F := Ideal))) ⟨m', fun _ => 0, g'⟩ (fun r => ∀ c : Dev Cert.BranchDwRefIdeal.nD,
          r.2.mem ((c.tc : Thread Cert.BranchDwRefIdeal.nD Cert.BranchDwRefIdeal.τ).loc Cert.BranchDwRefIdeal.main_v5) = v0 c
          ∧ r.2.mem ((c.tc : Thread Cert.BranchDwRefIdeal.nD Cert.BranchDwRefIdeal.τ).loc Cert.BranchDwRefIdeal.main_arg0) = m' ((c.tc : Thread Cert.BranchDwRefIdeal.nD Cert.BranchDwRefIdeal.τ).loc Cert.BranchDwRefIdeal.main_arg0)
          ∧ r.2.mem ((c.tc : Thread Cert.BranchDwRefIdeal.nD Cert.BranchDwRefIdeal.τ).loc Cert.BranchDwRefIdeal.main_arg1) = m' ((c.tc : Thread Cert.BranchDwRefIdeal.nD Cert.BranchDwRefIdeal.τ).loc Cert.BranchDwRefIdeal.main_arg1)
          ∧ r.2.mem ((c.tc : Thread Cert.BranchDwRefIdeal.nD Cert.BranchDwRefIdeal.τ).loc Cert.BranchDwRefIdeal.main_arg2) = m' ((c.tc : Thread Cert.BranchDwRefIdeal.nD Cert.BranchDwRefIdeal.τ).loc Cert.BranchDwRefIdeal.main_arg2))

def preserves_UkvDx_UkvDxIdeal : Prop :=
  True

def algebraic_UkvDxIdeal_UkvDxRefIdeal [hUkvDxIdeal : Cert.UkvDxIdeal.Facts] [hUkvDxRefIdeal : Cert.UkvDxRefIdeal.Facts] : Prop :=
  ∀ (m : (ℓ : Loc Cert.UkvDxIdeal.nD Cert.UkvDxIdeal.τ Cert.UkvDxIdeal.sig) → Buf (Elt Ideal) ℓ) (g : Dev Cert.UkvDxIdeal.nD → PrngReg)
    (m' : (ℓ : Loc Cert.UkvDxRefIdeal.nD Cert.UkvDxRefIdeal.τ Cert.UkvDxRefIdeal.sig) → Buf (Elt Ideal) ℓ) (g' : Dev Cert.UkvDxRefIdeal.nD → PrngReg), Pre_UkvDxIdeal m →
    (∀ c : Dev Cert.UkvDxIdeal.nD,
      m' ((c.tc : Thread Cert.UkvDxRefIdeal.nD Cert.UkvDxRefIdeal.τ).loc Cert.UkvDxRefIdeal.main_arg0) = m ((c.tc : Thread Cert.UkvDxIdeal.nD Cert.UkvDxIdeal.τ).loc Cert.UkvDxIdeal.main_arg0)
      ∧ m' ((c.tc : Thread Cert.UkvDxRefIdeal.nD Cert.UkvDxRefIdeal.τ).loc Cert.UkvDxRefIdeal.main_arg1) = m ((c.tc : Thread Cert.UkvDxIdeal.nD Cert.UkvDxIdeal.τ).loc Cert.UkvDxIdeal.main_arg1)
      ∧ m' ((c.tc : Thread Cert.UkvDxRefIdeal.nD Cert.UkvDxRefIdeal.τ).loc Cert.UkvDxRefIdeal.main_arg2) = m ((c.tc : Thread Cert.UkvDxIdeal.nD Cert.UkvDxIdeal.τ).loc Cert.UkvDxIdeal.main_arg2)) →
    ∃ (v0 : (c : Dev Cert.UkvDxIdeal.nD) → Buf (Elt Ideal) ((c.tc : Thread Cert.UkvDxIdeal.nD Cert.UkvDxIdeal.τ).loc Cert.UkvDxIdeal.main_v0)),
      θ_run (Cert.UkvDxIdeal.defs (F := Ideal)) (onTc (τ := Cert.UkvDxIdeal.τ) (Cert.UkvDxIdeal.main (F := Ideal))) ⟨m, fun _ => 0, g⟩ (fun r => ∀ c : Dev Cert.UkvDxIdeal.nD,
          r.2.mem ((c.tc : Thread Cert.UkvDxIdeal.nD Cert.UkvDxIdeal.τ).loc Cert.UkvDxIdeal.main_v0) = v0 c
          ∧ r.2.mem ((c.tc : Thread Cert.UkvDxIdeal.nD Cert.UkvDxIdeal.τ).loc Cert.UkvDxIdeal.main_arg0) = m ((c.tc : Thread Cert.UkvDxIdeal.nD Cert.UkvDxIdeal.τ).loc Cert.UkvDxIdeal.main_arg0)
          ∧ r.2.mem ((c.tc : Thread Cert.UkvDxIdeal.nD Cert.UkvDxIdeal.τ).loc Cert.UkvDxIdeal.main_arg1) = m ((c.tc : Thread Cert.UkvDxIdeal.nD Cert.UkvDxIdeal.τ).loc Cert.UkvDxIdeal.main_arg1)
          ∧ r.2.mem ((c.tc : Thread Cert.UkvDxIdeal.nD Cert.UkvDxIdeal.τ).loc Cert.UkvDxIdeal.main_arg2) = m ((c.tc : Thread Cert.UkvDxIdeal.nD Cert.UkvDxIdeal.τ).loc Cert.UkvDxIdeal.main_arg2))
      ∧ θ_run (Cert.UkvDxRefIdeal.defs (F := Ideal)) (onTc (τ := Cert.UkvDxRefIdeal.τ) (Cert.UkvDxRefIdeal.main (F := Ideal))) ⟨m', fun _ => 0, g'⟩ (fun r => ∀ c : Dev Cert.UkvDxRefIdeal.nD,
          r.2.mem ((c.tc : Thread Cert.UkvDxRefIdeal.nD Cert.UkvDxRefIdeal.τ).loc Cert.UkvDxRefIdeal.main_v4) = v0 c
          ∧ r.2.mem ((c.tc : Thread Cert.UkvDxRefIdeal.nD Cert.UkvDxRefIdeal.τ).loc Cert.UkvDxRefIdeal.main_arg0) = m' ((c.tc : Thread Cert.UkvDxRefIdeal.nD Cert.UkvDxRefIdeal.τ).loc Cert.UkvDxRefIdeal.main_arg0)
          ∧ r.2.mem ((c.tc : Thread Cert.UkvDxRefIdeal.nD Cert.UkvDxRefIdeal.τ).loc Cert.UkvDxRefIdeal.main_arg1) = m' ((c.tc : Thread Cert.UkvDxRefIdeal.nD Cert.UkvDxRefIdeal.τ).loc Cert.UkvDxRefIdeal.main_arg1)
          ∧ r.2.mem ((c.tc : Thread Cert.UkvDxRefIdeal.nD Cert.UkvDxRefIdeal.τ).loc Cert.UkvDxRefIdeal.main_arg2) = m' ((c.tc : Thread Cert.UkvDxRefIdeal.nD Cert.UkvDxRefIdeal.τ).loc Cert.UkvDxRefIdeal.main_arg2))

def preserves_UkvDw_UkvDwIdeal : Prop :=
  True

def algebraic_UkvDwIdeal_UkvDwRefIdeal [hUkvDwIdeal : Cert.UkvDwIdeal.Facts] [hUkvDwRefIdeal : Cert.UkvDwRefIdeal.Facts] : Prop :=
  ∀ (m : (ℓ : Loc Cert.UkvDwIdeal.nD Cert.UkvDwIdeal.τ Cert.UkvDwIdeal.sig) → Buf (Elt Ideal) ℓ) (g : Dev Cert.UkvDwIdeal.nD → PrngReg)
    (m' : (ℓ : Loc Cert.UkvDwRefIdeal.nD Cert.UkvDwRefIdeal.τ Cert.UkvDwRefIdeal.sig) → Buf (Elt Ideal) ℓ) (g' : Dev Cert.UkvDwRefIdeal.nD → PrngReg), Pre_UkvDwIdeal m →
    (∀ c : Dev Cert.UkvDwIdeal.nD,
      m' ((c.tc : Thread Cert.UkvDwRefIdeal.nD Cert.UkvDwRefIdeal.τ).loc Cert.UkvDwRefIdeal.main_arg0) = m ((c.tc : Thread Cert.UkvDwIdeal.nD Cert.UkvDwIdeal.τ).loc Cert.UkvDwIdeal.main_arg0)
      ∧ m' ((c.tc : Thread Cert.UkvDwRefIdeal.nD Cert.UkvDwRefIdeal.τ).loc Cert.UkvDwRefIdeal.main_arg1) = m ((c.tc : Thread Cert.UkvDwIdeal.nD Cert.UkvDwIdeal.τ).loc Cert.UkvDwIdeal.main_arg1)
      ∧ m' ((c.tc : Thread Cert.UkvDwRefIdeal.nD Cert.UkvDwRefIdeal.τ).loc Cert.UkvDwRefIdeal.main_arg2) = m ((c.tc : Thread Cert.UkvDwIdeal.nD Cert.UkvDwIdeal.τ).loc Cert.UkvDwIdeal.main_arg2)) →
    ∃ (v0 : (c : Dev Cert.UkvDwIdeal.nD) → Buf (Elt Ideal) ((c.tc : Thread Cert.UkvDwIdeal.nD Cert.UkvDwIdeal.τ).loc Cert.UkvDwIdeal.main_v0)),
      θ_run (Cert.UkvDwIdeal.defs (F := Ideal)) (onTc (τ := Cert.UkvDwIdeal.τ) (Cert.UkvDwIdeal.main (F := Ideal))) ⟨m, fun _ => 0, g⟩ (fun r => ∀ c : Dev Cert.UkvDwIdeal.nD,
          r.2.mem ((c.tc : Thread Cert.UkvDwIdeal.nD Cert.UkvDwIdeal.τ).loc Cert.UkvDwIdeal.main_v0) = v0 c
          ∧ r.2.mem ((c.tc : Thread Cert.UkvDwIdeal.nD Cert.UkvDwIdeal.τ).loc Cert.UkvDwIdeal.main_arg0) = m ((c.tc : Thread Cert.UkvDwIdeal.nD Cert.UkvDwIdeal.τ).loc Cert.UkvDwIdeal.main_arg0)
          ∧ r.2.mem ((c.tc : Thread Cert.UkvDwIdeal.nD Cert.UkvDwIdeal.τ).loc Cert.UkvDwIdeal.main_arg1) = m ((c.tc : Thread Cert.UkvDwIdeal.nD Cert.UkvDwIdeal.τ).loc Cert.UkvDwIdeal.main_arg1)
          ∧ r.2.mem ((c.tc : Thread Cert.UkvDwIdeal.nD Cert.UkvDwIdeal.τ).loc Cert.UkvDwIdeal.main_arg2) = m ((c.tc : Thread Cert.UkvDwIdeal.nD Cert.UkvDwIdeal.τ).loc Cert.UkvDwIdeal.main_arg2))
      ∧ θ_run (Cert.UkvDwRefIdeal.defs (F := Ideal)) (onTc (τ := Cert.UkvDwRefIdeal.τ) (Cert.UkvDwRefIdeal.main (F := Ideal))) ⟨m', fun _ => 0, g'⟩ (fun r => ∀ c : Dev Cert.UkvDwRefIdeal.nD,
          r.2.mem ((c.tc : Thread Cert.UkvDwRefIdeal.nD Cert.UkvDwRefIdeal.τ).loc Cert.UkvDwRefIdeal.main_v5) = v0 c
          ∧ r.2.mem ((c.tc : Thread Cert.UkvDwRefIdeal.nD Cert.UkvDwRefIdeal.τ).loc Cert.UkvDwRefIdeal.main_arg0) = m' ((c.tc : Thread Cert.UkvDwRefIdeal.nD Cert.UkvDwRefIdeal.τ).loc Cert.UkvDwRefIdeal.main_arg0)
          ∧ r.2.mem ((c.tc : Thread Cert.UkvDwRefIdeal.nD Cert.UkvDwRefIdeal.τ).loc Cert.UkvDwRefIdeal.main_arg1) = m' ((c.tc : Thread Cert.UkvDwRefIdeal.nD Cert.UkvDwRefIdeal.τ).loc Cert.UkvDwRefIdeal.main_arg1)
          ∧ r.2.mem ((c.tc : Thread Cert.UkvDwRefIdeal.nD Cert.UkvDwRefIdeal.τ).loc Cert.UkvDwRefIdeal.main_arg2) = m' ((c.tc : Thread Cert.UkvDwRefIdeal.nD Cert.UkvDwRefIdeal.τ).loc Cert.UkvDwRefIdeal.main_arg2))

def preserves_InQDx_InQDxIdeal : Prop :=
  True

def algebraic_InQDxIdeal_InQDxRefIdeal [hInQDxIdeal : Cert.InQDxIdeal.Facts] [hInQDxRefIdeal : Cert.InQDxRefIdeal.Facts] : Prop :=
  ∀ (m : (ℓ : Loc Cert.InQDxIdeal.nD Cert.InQDxIdeal.τ Cert.InQDxIdeal.sig) → Buf (Elt Ideal) ℓ) (g : Dev Cert.InQDxIdeal.nD → PrngReg)
    (m' : (ℓ : Loc Cert.InQDxRefIdeal.nD Cert.InQDxRefIdeal.τ Cert.InQDxRefIdeal.sig) → Buf (Elt Ideal) ℓ) (g' : Dev Cert.InQDxRefIdeal.nD → PrngReg), Pre_InQDxIdeal m →
    (∀ c : Dev Cert.InQDxIdeal.nD,
      m' ((c.tc : Thread Cert.InQDxRefIdeal.nD Cert.InQDxRefIdeal.τ).loc Cert.InQDxRefIdeal.main_arg0) = m ((c.tc : Thread Cert.InQDxIdeal.nD Cert.InQDxIdeal.τ).loc Cert.InQDxIdeal.main_arg0)
      ∧ m' ((c.tc : Thread Cert.InQDxRefIdeal.nD Cert.InQDxRefIdeal.τ).loc Cert.InQDxRefIdeal.main_arg1) = m ((c.tc : Thread Cert.InQDxIdeal.nD Cert.InQDxIdeal.τ).loc Cert.InQDxIdeal.main_arg1)
      ∧ m' ((c.tc : Thread Cert.InQDxRefIdeal.nD Cert.InQDxRefIdeal.τ).loc Cert.InQDxRefIdeal.main_arg2) = m ((c.tc : Thread Cert.InQDxIdeal.nD Cert.InQDxIdeal.τ).loc Cert.InQDxIdeal.main_arg2)) →
    ∃ (v0 : (c : Dev Cert.InQDxIdeal.nD) → Buf (Elt Ideal) ((c.tc : Thread Cert.InQDxIdeal.nD Cert.InQDxIdeal.τ).loc Cert.InQDxIdeal.main_v0)),
      θ_run (Cert.InQDxIdeal.defs (F := Ideal)) (onTc (τ := Cert.InQDxIdeal.τ) (Cert.InQDxIdeal.main (F := Ideal))) ⟨m, fun _ => 0, g⟩ (fun r => ∀ c : Dev Cert.InQDxIdeal.nD,
          r.2.mem ((c.tc : Thread Cert.InQDxIdeal.nD Cert.InQDxIdeal.τ).loc Cert.InQDxIdeal.main_v0) = v0 c
          ∧ r.2.mem ((c.tc : Thread Cert.InQDxIdeal.nD Cert.InQDxIdeal.τ).loc Cert.InQDxIdeal.main_arg0) = m ((c.tc : Thread Cert.InQDxIdeal.nD Cert.InQDxIdeal.τ).loc Cert.InQDxIdeal.main_arg0)
          ∧ r.2.mem ((c.tc : Thread Cert.InQDxIdeal.nD Cert.InQDxIdeal.τ).loc Cert.InQDxIdeal.main_arg1) = m ((c.tc : Thread Cert.InQDxIdeal.nD Cert.InQDxIdeal.τ).loc Cert.InQDxIdeal.main_arg1)
          ∧ r.2.mem ((c.tc : Thread Cert.InQDxIdeal.nD Cert.InQDxIdeal.τ).loc Cert.InQDxIdeal.main_arg2) = m ((c.tc : Thread Cert.InQDxIdeal.nD Cert.InQDxIdeal.τ).loc Cert.InQDxIdeal.main_arg2))
      ∧ θ_run (Cert.InQDxRefIdeal.defs (F := Ideal)) (onTc (τ := Cert.InQDxRefIdeal.τ) (Cert.InQDxRefIdeal.main (F := Ideal))) ⟨m', fun _ => 0, g'⟩ (fun r => ∀ c : Dev Cert.InQDxRefIdeal.nD,
          r.2.mem ((c.tc : Thread Cert.InQDxRefIdeal.nD Cert.InQDxRefIdeal.τ).loc Cert.InQDxRefIdeal.main_v4) = v0 c
          ∧ r.2.mem ((c.tc : Thread Cert.InQDxRefIdeal.nD Cert.InQDxRefIdeal.τ).loc Cert.InQDxRefIdeal.main_arg0) = m' ((c.tc : Thread Cert.InQDxRefIdeal.nD Cert.InQDxRefIdeal.τ).loc Cert.InQDxRefIdeal.main_arg0)
          ∧ r.2.mem ((c.tc : Thread Cert.InQDxRefIdeal.nD Cert.InQDxRefIdeal.τ).loc Cert.InQDxRefIdeal.main_arg1) = m' ((c.tc : Thread Cert.InQDxRefIdeal.nD Cert.InQDxRefIdeal.τ).loc Cert.InQDxRefIdeal.main_arg1)
          ∧ r.2.mem ((c.tc : Thread Cert.InQDxRefIdeal.nD Cert.InQDxRefIdeal.τ).loc Cert.InQDxRefIdeal.main_arg2) = m' ((c.tc : Thread Cert.InQDxRefIdeal.nD Cert.InQDxRefIdeal.τ).loc Cert.InQDxRefIdeal.main_arg2))

def preserves_InQDw_InQDwIdeal : Prop :=
  True

def algebraic_InQDwIdeal_InQDwRefIdeal [hInQDwIdeal : Cert.InQDwIdeal.Facts] [hInQDwRefIdeal : Cert.InQDwRefIdeal.Facts] : Prop :=
  ∀ (m : (ℓ : Loc Cert.InQDwIdeal.nD Cert.InQDwIdeal.τ Cert.InQDwIdeal.sig) → Buf (Elt Ideal) ℓ) (g : Dev Cert.InQDwIdeal.nD → PrngReg)
    (m' : (ℓ : Loc Cert.InQDwRefIdeal.nD Cert.InQDwRefIdeal.τ Cert.InQDwRefIdeal.sig) → Buf (Elt Ideal) ℓ) (g' : Dev Cert.InQDwRefIdeal.nD → PrngReg), Pre_InQDwIdeal m →
    (∀ c : Dev Cert.InQDwIdeal.nD,
      m' ((c.tc : Thread Cert.InQDwRefIdeal.nD Cert.InQDwRefIdeal.τ).loc Cert.InQDwRefIdeal.main_arg0) = m ((c.tc : Thread Cert.InQDwIdeal.nD Cert.InQDwIdeal.τ).loc Cert.InQDwIdeal.main_arg0)
      ∧ m' ((c.tc : Thread Cert.InQDwRefIdeal.nD Cert.InQDwRefIdeal.τ).loc Cert.InQDwRefIdeal.main_arg1) = m ((c.tc : Thread Cert.InQDwIdeal.nD Cert.InQDwIdeal.τ).loc Cert.InQDwIdeal.main_arg1)
      ∧ m' ((c.tc : Thread Cert.InQDwRefIdeal.nD Cert.InQDwRefIdeal.τ).loc Cert.InQDwRefIdeal.main_arg2) = m ((c.tc : Thread Cert.InQDwIdeal.nD Cert.InQDwIdeal.τ).loc Cert.InQDwIdeal.main_arg2)) →
    ∃ (v0 : (c : Dev Cert.InQDwIdeal.nD) → Buf (Elt Ideal) ((c.tc : Thread Cert.InQDwIdeal.nD Cert.InQDwIdeal.τ).loc Cert.InQDwIdeal.main_v0)),
      θ_run (Cert.InQDwIdeal.defs (F := Ideal)) (onTc (τ := Cert.InQDwIdeal.τ) (Cert.InQDwIdeal.main (F := Ideal))) ⟨m, fun _ => 0, g⟩ (fun r => ∀ c : Dev Cert.InQDwIdeal.nD,
          r.2.mem ((c.tc : Thread Cert.InQDwIdeal.nD Cert.InQDwIdeal.τ).loc Cert.InQDwIdeal.main_v0) = v0 c
          ∧ r.2.mem ((c.tc : Thread Cert.InQDwIdeal.nD Cert.InQDwIdeal.τ).loc Cert.InQDwIdeal.main_arg0) = m ((c.tc : Thread Cert.InQDwIdeal.nD Cert.InQDwIdeal.τ).loc Cert.InQDwIdeal.main_arg0)
          ∧ r.2.mem ((c.tc : Thread Cert.InQDwIdeal.nD Cert.InQDwIdeal.τ).loc Cert.InQDwIdeal.main_arg1) = m ((c.tc : Thread Cert.InQDwIdeal.nD Cert.InQDwIdeal.τ).loc Cert.InQDwIdeal.main_arg1)
          ∧ r.2.mem ((c.tc : Thread Cert.InQDwIdeal.nD Cert.InQDwIdeal.τ).loc Cert.InQDwIdeal.main_arg2) = m ((c.tc : Thread Cert.InQDwIdeal.nD Cert.InQDwIdeal.τ).loc Cert.InQDwIdeal.main_arg2))
      ∧ θ_run (Cert.InQDwRefIdeal.defs (F := Ideal)) (onTc (τ := Cert.InQDwRefIdeal.τ) (Cert.InQDwRefIdeal.main (F := Ideal))) ⟨m', fun _ => 0, g'⟩ (fun r => ∀ c : Dev Cert.InQDwRefIdeal.nD,
          r.2.mem ((c.tc : Thread Cert.InQDwRefIdeal.nD Cert.InQDwRefIdeal.τ).loc Cert.InQDwRefIdeal.main_v5) = v0 c
          ∧ r.2.mem ((c.tc : Thread Cert.InQDwRefIdeal.nD Cert.InQDwRefIdeal.τ).loc Cert.InQDwRefIdeal.main_arg0) = m' ((c.tc : Thread Cert.InQDwRefIdeal.nD Cert.InQDwRefIdeal.τ).loc Cert.InQDwRefIdeal.main_arg0)
          ∧ r.2.mem ((c.tc : Thread Cert.InQDwRefIdeal.nD Cert.InQDwRefIdeal.τ).loc Cert.InQDwRefIdeal.main_arg1) = m' ((c.tc : Thread Cert.InQDwRefIdeal.nD Cert.InQDwRefIdeal.τ).loc Cert.InQDwRefIdeal.main_arg1)
          ∧ r.2.mem ((c.tc : Thread Cert.InQDwRefIdeal.nD Cert.InQDwRefIdeal.τ).loc Cert.InQDwRefIdeal.main_arg2) = m' ((c.tc : Thread Cert.InQDwRefIdeal.nD Cert.InQDwRefIdeal.τ).loc Cert.InQDwRefIdeal.main_arg2))

def preserves_InCkvDx_InCkvDxIdeal : Prop :=
  True

def algebraic_InCkvDxIdeal_InCkvDxRefIdeal [hInCkvDxIdeal : Cert.InCkvDxIdeal.Facts] [hInCkvDxRefIdeal : Cert.InCkvDxRefIdeal.Facts] : Prop :=
  ∀ (m : (ℓ : Loc Cert.InCkvDxIdeal.nD Cert.InCkvDxIdeal.τ Cert.InCkvDxIdeal.sig) → Buf (Elt Ideal) ℓ) (g : Dev Cert.InCkvDxIdeal.nD → PrngReg)
    (m' : (ℓ : Loc Cert.InCkvDxRefIdeal.nD Cert.InCkvDxRefIdeal.τ Cert.InCkvDxRefIdeal.sig) → Buf (Elt Ideal) ℓ) (g' : Dev Cert.InCkvDxRefIdeal.nD → PrngReg), Pre_InCkvDxIdeal m →
    (∀ c : Dev Cert.InCkvDxIdeal.nD,
      m' ((c.tc : Thread Cert.InCkvDxRefIdeal.nD Cert.InCkvDxRefIdeal.τ).loc Cert.InCkvDxRefIdeal.main_arg0) = m ((c.tc : Thread Cert.InCkvDxIdeal.nD Cert.InCkvDxIdeal.τ).loc Cert.InCkvDxIdeal.main_arg0)
      ∧ m' ((c.tc : Thread Cert.InCkvDxRefIdeal.nD Cert.InCkvDxRefIdeal.τ).loc Cert.InCkvDxRefIdeal.main_arg1) = m ((c.tc : Thread Cert.InCkvDxIdeal.nD Cert.InCkvDxIdeal.τ).loc Cert.InCkvDxIdeal.main_arg1)
      ∧ m' ((c.tc : Thread Cert.InCkvDxRefIdeal.nD Cert.InCkvDxRefIdeal.τ).loc Cert.InCkvDxRefIdeal.main_arg2) = m ((c.tc : Thread Cert.InCkvDxIdeal.nD Cert.InCkvDxIdeal.τ).loc Cert.InCkvDxIdeal.main_arg2)
      ∧ m' ((c.tc : Thread Cert.InCkvDxRefIdeal.nD Cert.InCkvDxRefIdeal.τ).loc Cert.InCkvDxRefIdeal.main_arg3) = m ((c.tc : Thread Cert.InCkvDxIdeal.nD Cert.InCkvDxIdeal.τ).loc Cert.InCkvDxIdeal.main_arg3)) →
    ∃ (v0 : (c : Dev Cert.InCkvDxIdeal.nD) → Buf (Elt Ideal) ((c.tc : Thread Cert.InCkvDxIdeal.nD Cert.InCkvDxIdeal.τ).loc Cert.InCkvDxIdeal.main_v0)),
      θ_run (Cert.InCkvDxIdeal.defs (F := Ideal)) (onTc (τ := Cert.InCkvDxIdeal.τ) (Cert.InCkvDxIdeal.main (F := Ideal))) ⟨m, fun _ => 0, g⟩ (fun r => ∀ c : Dev Cert.InCkvDxIdeal.nD,
          r.2.mem ((c.tc : Thread Cert.InCkvDxIdeal.nD Cert.InCkvDxIdeal.τ).loc Cert.InCkvDxIdeal.main_v0) = v0 c
          ∧ r.2.mem ((c.tc : Thread Cert.InCkvDxIdeal.nD Cert.InCkvDxIdeal.τ).loc Cert.InCkvDxIdeal.main_arg0) = m ((c.tc : Thread Cert.InCkvDxIdeal.nD Cert.InCkvDxIdeal.τ).loc Cert.InCkvDxIdeal.main_arg0)
          ∧ r.2.mem ((c.tc : Thread Cert.InCkvDxIdeal.nD Cert.InCkvDxIdeal.τ).loc Cert.InCkvDxIdeal.main_arg1) = m ((c.tc : Thread Cert.InCkvDxIdeal.nD Cert.InCkvDxIdeal.τ).loc Cert.InCkvDxIdeal.main_arg1)
          ∧ r.2.mem ((c.tc : Thread Cert.InCkvDxIdeal.nD Cert.InCkvDxIdeal.τ).loc Cert.InCkvDxIdeal.main_arg2) = m ((c.tc : Thread Cert.InCkvDxIdeal.nD Cert.InCkvDxIdeal.τ).loc Cert.InCkvDxIdeal.main_arg2)
          ∧ r.2.mem ((c.tc : Thread Cert.InCkvDxIdeal.nD Cert.InCkvDxIdeal.τ).loc Cert.InCkvDxIdeal.main_arg3) = m ((c.tc : Thread Cert.InCkvDxIdeal.nD Cert.InCkvDxIdeal.τ).loc Cert.InCkvDxIdeal.main_arg3))
      ∧ θ_run (Cert.InCkvDxRefIdeal.defs (F := Ideal)) (onTc (τ := Cert.InCkvDxRefIdeal.τ) (Cert.InCkvDxRefIdeal.main (F := Ideal))) ⟨m', fun _ => 0, g'⟩ (fun r => ∀ c : Dev Cert.InCkvDxRefIdeal.nD,
          r.2.mem ((c.tc : Thread Cert.InCkvDxRefIdeal.nD Cert.InCkvDxRefIdeal.τ).loc Cert.InCkvDxRefIdeal.main_v5) = v0 c
          ∧ r.2.mem ((c.tc : Thread Cert.InCkvDxRefIdeal.nD Cert.InCkvDxRefIdeal.τ).loc Cert.InCkvDxRefIdeal.main_arg0) = m' ((c.tc : Thread Cert.InCkvDxRefIdeal.nD Cert.InCkvDxRefIdeal.τ).loc Cert.InCkvDxRefIdeal.main_arg0)
          ∧ r.2.mem ((c.tc : Thread Cert.InCkvDxRefIdeal.nD Cert.InCkvDxRefIdeal.τ).loc Cert.InCkvDxRefIdeal.main_arg1) = m' ((c.tc : Thread Cert.InCkvDxRefIdeal.nD Cert.InCkvDxRefIdeal.τ).loc Cert.InCkvDxRefIdeal.main_arg1)
          ∧ r.2.mem ((c.tc : Thread Cert.InCkvDxRefIdeal.nD Cert.InCkvDxRefIdeal.τ).loc Cert.InCkvDxRefIdeal.main_arg2) = m' ((c.tc : Thread Cert.InCkvDxRefIdeal.nD Cert.InCkvDxRefIdeal.τ).loc Cert.InCkvDxRefIdeal.main_arg2)
          ∧ r.2.mem ((c.tc : Thread Cert.InCkvDxRefIdeal.nD Cert.InCkvDxRefIdeal.τ).loc Cert.InCkvDxRefIdeal.main_arg3) = m' ((c.tc : Thread Cert.InCkvDxRefIdeal.nD Cert.InCkvDxRefIdeal.τ).loc Cert.InCkvDxRefIdeal.main_arg3))

def preserves_InCkvDw_InCkvDwIdeal : Prop :=
  True

def algebraic_InCkvDwIdeal_InCkvDwRefIdeal [hInCkvDwIdeal : Cert.InCkvDwIdeal.Facts] [hInCkvDwRefIdeal : Cert.InCkvDwRefIdeal.Facts] : Prop :=
  ∀ (m : (ℓ : Loc Cert.InCkvDwIdeal.nD Cert.InCkvDwIdeal.τ Cert.InCkvDwIdeal.sig) → Buf (Elt Ideal) ℓ) (g : Dev Cert.InCkvDwIdeal.nD → PrngReg)
    (m' : (ℓ : Loc Cert.InCkvDwRefIdeal.nD Cert.InCkvDwRefIdeal.τ Cert.InCkvDwRefIdeal.sig) → Buf (Elt Ideal) ℓ) (g' : Dev Cert.InCkvDwRefIdeal.nD → PrngReg), Pre_InCkvDwIdeal m →
    (∀ c : Dev Cert.InCkvDwIdeal.nD,
      m' ((c.tc : Thread Cert.InCkvDwRefIdeal.nD Cert.InCkvDwRefIdeal.τ).loc Cert.InCkvDwRefIdeal.main_arg0) = m ((c.tc : Thread Cert.InCkvDwIdeal.nD Cert.InCkvDwIdeal.τ).loc Cert.InCkvDwIdeal.main_arg0)
      ∧ m' ((c.tc : Thread Cert.InCkvDwRefIdeal.nD Cert.InCkvDwRefIdeal.τ).loc Cert.InCkvDwRefIdeal.main_arg1) = m ((c.tc : Thread Cert.InCkvDwIdeal.nD Cert.InCkvDwIdeal.τ).loc Cert.InCkvDwIdeal.main_arg1)
      ∧ m' ((c.tc : Thread Cert.InCkvDwRefIdeal.nD Cert.InCkvDwRefIdeal.τ).loc Cert.InCkvDwRefIdeal.main_arg2) = m ((c.tc : Thread Cert.InCkvDwIdeal.nD Cert.InCkvDwIdeal.τ).loc Cert.InCkvDwIdeal.main_arg2)) →
    ∃ (v0 : (c : Dev Cert.InCkvDwIdeal.nD) → Buf (Elt Ideal) ((c.tc : Thread Cert.InCkvDwIdeal.nD Cert.InCkvDwIdeal.τ).loc Cert.InCkvDwIdeal.main_v0)),
      θ_run (Cert.InCkvDwIdeal.defs (F := Ideal)) (onTc (τ := Cert.InCkvDwIdeal.τ) (Cert.InCkvDwIdeal.main (F := Ideal))) ⟨m, fun _ => 0, g⟩ (fun r => ∀ c : Dev Cert.InCkvDwIdeal.nD,
          r.2.mem ((c.tc : Thread Cert.InCkvDwIdeal.nD Cert.InCkvDwIdeal.τ).loc Cert.InCkvDwIdeal.main_v0) = v0 c
          ∧ r.2.mem ((c.tc : Thread Cert.InCkvDwIdeal.nD Cert.InCkvDwIdeal.τ).loc Cert.InCkvDwIdeal.main_arg0) = m ((c.tc : Thread Cert.InCkvDwIdeal.nD Cert.InCkvDwIdeal.τ).loc Cert.InCkvDwIdeal.main_arg0)
          ∧ r.2.mem ((c.tc : Thread Cert.InCkvDwIdeal.nD Cert.InCkvDwIdeal.τ).loc Cert.InCkvDwIdeal.main_arg1) = m ((c.tc : Thread Cert.InCkvDwIdeal.nD Cert.InCkvDwIdeal.τ).loc Cert.InCkvDwIdeal.main_arg1)
          ∧ r.2.mem ((c.tc : Thread Cert.InCkvDwIdeal.nD Cert.InCkvDwIdeal.τ).loc Cert.InCkvDwIdeal.main_arg2) = m ((c.tc : Thread Cert.InCkvDwIdeal.nD Cert.InCkvDwIdeal.τ).loc Cert.InCkvDwIdeal.main_arg2))
      ∧ θ_run (Cert.InCkvDwRefIdeal.defs (F := Ideal)) (onTc (τ := Cert.InCkvDwRefIdeal.τ) (Cert.InCkvDwRefIdeal.main (F := Ideal))) ⟨m', fun _ => 0, g'⟩ (fun r => ∀ c : Dev Cert.InCkvDwRefIdeal.nD,
          r.2.mem ((c.tc : Thread Cert.InCkvDwRefIdeal.nD Cert.InCkvDwRefIdeal.τ).loc Cert.InCkvDwRefIdeal.main_v5) = v0 c
          ∧ r.2.mem ((c.tc : Thread Cert.InCkvDwRefIdeal.nD Cert.InCkvDwRefIdeal.τ).loc Cert.InCkvDwRefIdeal.main_arg0) = m' ((c.tc : Thread Cert.InCkvDwRefIdeal.nD Cert.InCkvDwRefIdeal.τ).loc Cert.InCkvDwRefIdeal.main_arg0)
          ∧ r.2.mem ((c.tc : Thread Cert.InCkvDwRefIdeal.nD Cert.InCkvDwRefIdeal.τ).loc Cert.InCkvDwRefIdeal.main_arg1) = m' ((c.tc : Thread Cert.InCkvDwRefIdeal.nD Cert.InCkvDwRefIdeal.τ).loc Cert.InCkvDwRefIdeal.main_arg1)
          ∧ r.2.mem ((c.tc : Thread Cert.InCkvDwRefIdeal.nD Cert.InCkvDwRefIdeal.τ).loc Cert.InCkvDwRefIdeal.main_arg2) = m' ((c.tc : Thread Cert.InCkvDwRefIdeal.nD Cert.InCkvDwRefIdeal.τ).loc Cert.InCkvDwRefIdeal.main_arg2))

def preserves_InSgDx_InSgDxIdeal : Prop :=
  True

def algebraic_InSgDxIdeal_InSgDxRefIdeal [hInSgDxIdeal : Cert.InSgDxIdeal.Facts] [hInSgDxRefIdeal : Cert.InSgDxRefIdeal.Facts] : Prop :=
  ∀ (m : (ℓ : Loc Cert.InSgDxIdeal.nD Cert.InSgDxIdeal.τ Cert.InSgDxIdeal.sig) → Buf (Elt Ideal) ℓ) (g : Dev Cert.InSgDxIdeal.nD → PrngReg)
    (m' : (ℓ : Loc Cert.InSgDxRefIdeal.nD Cert.InSgDxRefIdeal.τ Cert.InSgDxRefIdeal.sig) → Buf (Elt Ideal) ℓ) (g' : Dev Cert.InSgDxRefIdeal.nD → PrngReg), Pre_InSgDxIdeal m →
    (∀ c : Dev Cert.InSgDxIdeal.nD,
      m' ((c.tc : Thread Cert.InSgDxRefIdeal.nD Cert.InSgDxRefIdeal.τ).loc Cert.InSgDxRefIdeal.main_arg0) = m ((c.tc : Thread Cert.InSgDxIdeal.nD Cert.InSgDxIdeal.τ).loc Cert.InSgDxIdeal.main_arg0)
      ∧ m' ((c.tc : Thread Cert.InSgDxRefIdeal.nD Cert.InSgDxRefIdeal.τ).loc Cert.InSgDxRefIdeal.main_arg1) = m ((c.tc : Thread Cert.InSgDxIdeal.nD Cert.InSgDxIdeal.τ).loc Cert.InSgDxIdeal.main_arg1)
      ∧ m' ((c.tc : Thread Cert.InSgDxRefIdeal.nD Cert.InSgDxRefIdeal.τ).loc Cert.InSgDxRefIdeal.main_arg2) = m ((c.tc : Thread Cert.InSgDxIdeal.nD Cert.InSgDxIdeal.τ).loc Cert.InSgDxIdeal.main_arg2)
      ∧ m' ((c.tc : Thread Cert.InSgDxRefIdeal.nD Cert.InSgDxRefIdeal.τ).loc Cert.InSgDxRefIdeal.main_arg3) = m ((c.tc : Thread Cert.InSgDxIdeal.nD Cert.InSgDxIdeal.τ).loc Cert.InSgDxIdeal.main_arg3)) →
    ∃ (v0 : (c : Dev Cert.InSgDxIdeal.nD) → Buf (Elt Ideal) ((c.tc : Thread Cert.InSgDxIdeal.nD Cert.InSgDxIdeal.τ).loc Cert.InSgDxIdeal.main_v0)),
      θ_run (Cert.InSgDxIdeal.defs (F := Ideal)) (onTc (τ := Cert.InSgDxIdeal.τ) (Cert.InSgDxIdeal.main (F := Ideal))) ⟨m, fun _ => 0, g⟩ (fun r => ∀ c : Dev Cert.InSgDxIdeal.nD,
          r.2.mem ((c.tc : Thread Cert.InSgDxIdeal.nD Cert.InSgDxIdeal.τ).loc Cert.InSgDxIdeal.main_v0) = v0 c
          ∧ r.2.mem ((c.tc : Thread Cert.InSgDxIdeal.nD Cert.InSgDxIdeal.τ).loc Cert.InSgDxIdeal.main_arg0) = m ((c.tc : Thread Cert.InSgDxIdeal.nD Cert.InSgDxIdeal.τ).loc Cert.InSgDxIdeal.main_arg0)
          ∧ r.2.mem ((c.tc : Thread Cert.InSgDxIdeal.nD Cert.InSgDxIdeal.τ).loc Cert.InSgDxIdeal.main_arg1) = m ((c.tc : Thread Cert.InSgDxIdeal.nD Cert.InSgDxIdeal.τ).loc Cert.InSgDxIdeal.main_arg1)
          ∧ r.2.mem ((c.tc : Thread Cert.InSgDxIdeal.nD Cert.InSgDxIdeal.τ).loc Cert.InSgDxIdeal.main_arg2) = m ((c.tc : Thread Cert.InSgDxIdeal.nD Cert.InSgDxIdeal.τ).loc Cert.InSgDxIdeal.main_arg2)
          ∧ r.2.mem ((c.tc : Thread Cert.InSgDxIdeal.nD Cert.InSgDxIdeal.τ).loc Cert.InSgDxIdeal.main_arg3) = m ((c.tc : Thread Cert.InSgDxIdeal.nD Cert.InSgDxIdeal.τ).loc Cert.InSgDxIdeal.main_arg3))
      ∧ θ_run (Cert.InSgDxRefIdeal.defs (F := Ideal)) (onTc (τ := Cert.InSgDxRefIdeal.τ) (Cert.InSgDxRefIdeal.main (F := Ideal))) ⟨m', fun _ => 0, g'⟩ (fun r => ∀ c : Dev Cert.InSgDxRefIdeal.nD,
          r.2.mem ((c.tc : Thread Cert.InSgDxRefIdeal.nD Cert.InSgDxRefIdeal.τ).loc Cert.InSgDxRefIdeal.main_v5) = v0 c
          ∧ r.2.mem ((c.tc : Thread Cert.InSgDxRefIdeal.nD Cert.InSgDxRefIdeal.τ).loc Cert.InSgDxRefIdeal.main_arg0) = m' ((c.tc : Thread Cert.InSgDxRefIdeal.nD Cert.InSgDxRefIdeal.τ).loc Cert.InSgDxRefIdeal.main_arg0)
          ∧ r.2.mem ((c.tc : Thread Cert.InSgDxRefIdeal.nD Cert.InSgDxRefIdeal.τ).loc Cert.InSgDxRefIdeal.main_arg1) = m' ((c.tc : Thread Cert.InSgDxRefIdeal.nD Cert.InSgDxRefIdeal.τ).loc Cert.InSgDxRefIdeal.main_arg1)
          ∧ r.2.mem ((c.tc : Thread Cert.InSgDxRefIdeal.nD Cert.InSgDxRefIdeal.τ).loc Cert.InSgDxRefIdeal.main_arg2) = m' ((c.tc : Thread Cert.InSgDxRefIdeal.nD Cert.InSgDxRefIdeal.τ).loc Cert.InSgDxRefIdeal.main_arg2)
          ∧ r.2.mem ((c.tc : Thread Cert.InSgDxRefIdeal.nD Cert.InSgDxRefIdeal.τ).loc Cert.InSgDxRefIdeal.main_arg3) = m' ((c.tc : Thread Cert.InSgDxRefIdeal.nD Cert.InSgDxRefIdeal.τ).loc Cert.InSgDxRefIdeal.main_arg3))

def preserves_InSgDw_InSgDwIdeal : Prop :=
  True

def algebraic_InSgDwIdeal_InSgDwRefIdeal [hInSgDwIdeal : Cert.InSgDwIdeal.Facts] [hInSgDwRefIdeal : Cert.InSgDwRefIdeal.Facts] : Prop :=
  ∀ (m : (ℓ : Loc Cert.InSgDwIdeal.nD Cert.InSgDwIdeal.τ Cert.InSgDwIdeal.sig) → Buf (Elt Ideal) ℓ) (g : Dev Cert.InSgDwIdeal.nD → PrngReg)
    (m' : (ℓ : Loc Cert.InSgDwRefIdeal.nD Cert.InSgDwRefIdeal.τ Cert.InSgDwRefIdeal.sig) → Buf (Elt Ideal) ℓ) (g' : Dev Cert.InSgDwRefIdeal.nD → PrngReg), Pre_InSgDwIdeal m →
    (∀ c : Dev Cert.InSgDwIdeal.nD,
      m' ((c.tc : Thread Cert.InSgDwRefIdeal.nD Cert.InSgDwRefIdeal.τ).loc Cert.InSgDwRefIdeal.main_arg0) = m ((c.tc : Thread Cert.InSgDwIdeal.nD Cert.InSgDwIdeal.τ).loc Cert.InSgDwIdeal.main_arg0)
      ∧ m' ((c.tc : Thread Cert.InSgDwRefIdeal.nD Cert.InSgDwRefIdeal.τ).loc Cert.InSgDwRefIdeal.main_arg1) = m ((c.tc : Thread Cert.InSgDwIdeal.nD Cert.InSgDwIdeal.τ).loc Cert.InSgDwIdeal.main_arg1)
      ∧ m' ((c.tc : Thread Cert.InSgDwRefIdeal.nD Cert.InSgDwRefIdeal.τ).loc Cert.InSgDwRefIdeal.main_arg2) = m ((c.tc : Thread Cert.InSgDwIdeal.nD Cert.InSgDwIdeal.τ).loc Cert.InSgDwIdeal.main_arg2)) →
    ∃ (v0 : (c : Dev Cert.InSgDwIdeal.nD) → Buf (Elt Ideal) ((c.tc : Thread Cert.InSgDwIdeal.nD Cert.InSgDwIdeal.τ).loc Cert.InSgDwIdeal.main_v0)),
      θ_run (Cert.InSgDwIdeal.defs (F := Ideal)) (onTc (τ := Cert.InSgDwIdeal.τ) (Cert.InSgDwIdeal.main (F := Ideal))) ⟨m, fun _ => 0, g⟩ (fun r => ∀ c : Dev Cert.InSgDwIdeal.nD,
          r.2.mem ((c.tc : Thread Cert.InSgDwIdeal.nD Cert.InSgDwIdeal.τ).loc Cert.InSgDwIdeal.main_v0) = v0 c
          ∧ r.2.mem ((c.tc : Thread Cert.InSgDwIdeal.nD Cert.InSgDwIdeal.τ).loc Cert.InSgDwIdeal.main_arg0) = m ((c.tc : Thread Cert.InSgDwIdeal.nD Cert.InSgDwIdeal.τ).loc Cert.InSgDwIdeal.main_arg0)
          ∧ r.2.mem ((c.tc : Thread Cert.InSgDwIdeal.nD Cert.InSgDwIdeal.τ).loc Cert.InSgDwIdeal.main_arg1) = m ((c.tc : Thread Cert.InSgDwIdeal.nD Cert.InSgDwIdeal.τ).loc Cert.InSgDwIdeal.main_arg1)
          ∧ r.2.mem ((c.tc : Thread Cert.InSgDwIdeal.nD Cert.InSgDwIdeal.τ).loc Cert.InSgDwIdeal.main_arg2) = m ((c.tc : Thread Cert.InSgDwIdeal.nD Cert.InSgDwIdeal.τ).loc Cert.InSgDwIdeal.main_arg2))
      ∧ θ_run (Cert.InSgDwRefIdeal.defs (F := Ideal)) (onTc (τ := Cert.InSgDwRefIdeal.τ) (Cert.InSgDwRefIdeal.main (F := Ideal))) ⟨m', fun _ => 0, g'⟩ (fun r => ∀ c : Dev Cert.InSgDwRefIdeal.nD,
          r.2.mem ((c.tc : Thread Cert.InSgDwRefIdeal.nD Cert.InSgDwRefIdeal.τ).loc Cert.InSgDwRefIdeal.main_v5) = v0 c
          ∧ r.2.mem ((c.tc : Thread Cert.InSgDwRefIdeal.nD Cert.InSgDwRefIdeal.τ).loc Cert.InSgDwRefIdeal.main_arg0) = m' ((c.tc : Thread Cert.InSgDwRefIdeal.nD Cert.InSgDwRefIdeal.τ).loc Cert.InSgDwRefIdeal.main_arg0)
          ∧ r.2.mem ((c.tc : Thread Cert.InSgDwRefIdeal.nD Cert.InSgDwRefIdeal.τ).loc Cert.InSgDwRefIdeal.main_arg1) = m' ((c.tc : Thread Cert.InSgDwRefIdeal.nD Cert.InSgDwRefIdeal.τ).loc Cert.InSgDwRefIdeal.main_arg1)
          ∧ r.2.mem ((c.tc : Thread Cert.InSgDwRefIdeal.nD Cert.InSgDwRefIdeal.τ).loc Cert.InSgDwRefIdeal.main_arg2) = m' ((c.tc : Thread Cert.InSgDwRefIdeal.nD Cert.InSgDwRefIdeal.τ).loc Cert.InSgDwRefIdeal.main_arg2))

def preserves_InRwDx_InRwDxIdeal : Prop :=
  True

def algebraic_InRwDxIdeal_InRwDxRefIdeal [hInRwDxIdeal : Cert.InRwDxIdeal.Facts] [hInRwDxRefIdeal : Cert.InRwDxRefIdeal.Facts] : Prop :=
  ∀ (m : (ℓ : Loc Cert.InRwDxIdeal.nD Cert.InRwDxIdeal.τ Cert.InRwDxIdeal.sig) → Buf (Elt Ideal) ℓ) (g : Dev Cert.InRwDxIdeal.nD → PrngReg)
    (m' : (ℓ : Loc Cert.InRwDxRefIdeal.nD Cert.InRwDxRefIdeal.τ Cert.InRwDxRefIdeal.sig) → Buf (Elt Ideal) ℓ) (g' : Dev Cert.InRwDxRefIdeal.nD → PrngReg), Pre_InRwDxIdeal m →
    (∀ c : Dev Cert.InRwDxIdeal.nD,
      m' ((c.tc : Thread Cert.InRwDxRefIdeal.nD Cert.InRwDxRefIdeal.τ).loc Cert.InRwDxRefIdeal.main_arg0) = m ((c.tc : Thread Cert.InRwDxIdeal.nD Cert.InRwDxIdeal.τ).loc Cert.InRwDxIdeal.main_arg0)
      ∧ m' ((c.tc : Thread Cert.InRwDxRefIdeal.nD Cert.InRwDxRefIdeal.τ).loc Cert.InRwDxRefIdeal.main_arg1) = m ((c.tc : Thread Cert.InRwDxIdeal.nD Cert.InRwDxIdeal.τ).loc Cert.InRwDxIdeal.main_arg1)
      ∧ m' ((c.tc : Thread Cert.InRwDxRefIdeal.nD Cert.InRwDxRefIdeal.τ).loc Cert.InRwDxRefIdeal.main_arg2) = m ((c.tc : Thread Cert.InRwDxIdeal.nD Cert.InRwDxIdeal.τ).loc Cert.InRwDxIdeal.main_arg2)
      ∧ m' ((c.tc : Thread Cert.InRwDxRefIdeal.nD Cert.InRwDxRefIdeal.τ).loc Cert.InRwDxRefIdeal.main_arg3) = m ((c.tc : Thread Cert.InRwDxIdeal.nD Cert.InRwDxIdeal.τ).loc Cert.InRwDxIdeal.main_arg3)) →
    ∃ (v0 : (c : Dev Cert.InRwDxIdeal.nD) → Buf (Elt Ideal) ((c.tc : Thread Cert.InRwDxIdeal.nD Cert.InRwDxIdeal.τ).loc Cert.InRwDxIdeal.main_v0)),
      θ_run (Cert.InRwDxIdeal.defs (F := Ideal)) (onTc (τ := Cert.InRwDxIdeal.τ) (Cert.InRwDxIdeal.main (F := Ideal))) ⟨m, fun _ => 0, g⟩ (fun r => ∀ c : Dev Cert.InRwDxIdeal.nD,
          r.2.mem ((c.tc : Thread Cert.InRwDxIdeal.nD Cert.InRwDxIdeal.τ).loc Cert.InRwDxIdeal.main_v0) = v0 c
          ∧ r.2.mem ((c.tc : Thread Cert.InRwDxIdeal.nD Cert.InRwDxIdeal.τ).loc Cert.InRwDxIdeal.main_arg0) = m ((c.tc : Thread Cert.InRwDxIdeal.nD Cert.InRwDxIdeal.τ).loc Cert.InRwDxIdeal.main_arg0)
          ∧ r.2.mem ((c.tc : Thread Cert.InRwDxIdeal.nD Cert.InRwDxIdeal.τ).loc Cert.InRwDxIdeal.main_arg1) = m ((c.tc : Thread Cert.InRwDxIdeal.nD Cert.InRwDxIdeal.τ).loc Cert.InRwDxIdeal.main_arg1)
          ∧ r.2.mem ((c.tc : Thread Cert.InRwDxIdeal.nD Cert.InRwDxIdeal.τ).loc Cert.InRwDxIdeal.main_arg2) = m ((c.tc : Thread Cert.InRwDxIdeal.nD Cert.InRwDxIdeal.τ).loc Cert.InRwDxIdeal.main_arg2)
          ∧ r.2.mem ((c.tc : Thread Cert.InRwDxIdeal.nD Cert.InRwDxIdeal.τ).loc Cert.InRwDxIdeal.main_arg3) = m ((c.tc : Thread Cert.InRwDxIdeal.nD Cert.InRwDxIdeal.τ).loc Cert.InRwDxIdeal.main_arg3))
      ∧ θ_run (Cert.InRwDxRefIdeal.defs (F := Ideal)) (onTc (τ := Cert.InRwDxRefIdeal.τ) (Cert.InRwDxRefIdeal.main (F := Ideal))) ⟨m', fun _ => 0, g'⟩ (fun r => ∀ c : Dev Cert.InRwDxRefIdeal.nD,
          r.2.mem ((c.tc : Thread Cert.InRwDxRefIdeal.nD Cert.InRwDxRefIdeal.τ).loc Cert.InRwDxRefIdeal.main_v5) = v0 c
          ∧ r.2.mem ((c.tc : Thread Cert.InRwDxRefIdeal.nD Cert.InRwDxRefIdeal.τ).loc Cert.InRwDxRefIdeal.main_arg0) = m' ((c.tc : Thread Cert.InRwDxRefIdeal.nD Cert.InRwDxRefIdeal.τ).loc Cert.InRwDxRefIdeal.main_arg0)
          ∧ r.2.mem ((c.tc : Thread Cert.InRwDxRefIdeal.nD Cert.InRwDxRefIdeal.τ).loc Cert.InRwDxRefIdeal.main_arg1) = m' ((c.tc : Thread Cert.InRwDxRefIdeal.nD Cert.InRwDxRefIdeal.τ).loc Cert.InRwDxRefIdeal.main_arg1)
          ∧ r.2.mem ((c.tc : Thread Cert.InRwDxRefIdeal.nD Cert.InRwDxRefIdeal.τ).loc Cert.InRwDxRefIdeal.main_arg2) = m' ((c.tc : Thread Cert.InRwDxRefIdeal.nD Cert.InRwDxRefIdeal.τ).loc Cert.InRwDxRefIdeal.main_arg2)
          ∧ r.2.mem ((c.tc : Thread Cert.InRwDxRefIdeal.nD Cert.InRwDxRefIdeal.τ).loc Cert.InRwDxRefIdeal.main_arg3) = m' ((c.tc : Thread Cert.InRwDxRefIdeal.nD Cert.InRwDxRefIdeal.τ).loc Cert.InRwDxRefIdeal.main_arg3))

def preserves_InRwDw_InRwDwIdeal : Prop :=
  True

def algebraic_InRwDwIdeal_InRwDwRefIdeal [hInRwDwIdeal : Cert.InRwDwIdeal.Facts] [hInRwDwRefIdeal : Cert.InRwDwRefIdeal.Facts] : Prop :=
  ∀ (m : (ℓ : Loc Cert.InRwDwIdeal.nD Cert.InRwDwIdeal.τ Cert.InRwDwIdeal.sig) → Buf (Elt Ideal) ℓ) (g : Dev Cert.InRwDwIdeal.nD → PrngReg)
    (m' : (ℓ : Loc Cert.InRwDwRefIdeal.nD Cert.InRwDwRefIdeal.τ Cert.InRwDwRefIdeal.sig) → Buf (Elt Ideal) ℓ) (g' : Dev Cert.InRwDwRefIdeal.nD → PrngReg), Pre_InRwDwIdeal m →
    (∀ c : Dev Cert.InRwDwIdeal.nD,
      m' ((c.tc : Thread Cert.InRwDwRefIdeal.nD Cert.InRwDwRefIdeal.τ).loc Cert.InRwDwRefIdeal.main_arg0) = m ((c.tc : Thread Cert.InRwDwIdeal.nD Cert.InRwDwIdeal.τ).loc Cert.InRwDwIdeal.main_arg0)
      ∧ m' ((c.tc : Thread Cert.InRwDwRefIdeal.nD Cert.InRwDwRefIdeal.τ).loc Cert.InRwDwRefIdeal.main_arg1) = m ((c.tc : Thread Cert.InRwDwIdeal.nD Cert.InRwDwIdeal.τ).loc Cert.InRwDwIdeal.main_arg1)
      ∧ m' ((c.tc : Thread Cert.InRwDwRefIdeal.nD Cert.InRwDwRefIdeal.τ).loc Cert.InRwDwRefIdeal.main_arg2) = m ((c.tc : Thread Cert.InRwDwIdeal.nD Cert.InRwDwIdeal.τ).loc Cert.InRwDwIdeal.main_arg2)) →
    ∃ (v0 : (c : Dev Cert.InRwDwIdeal.nD) → Buf (Elt Ideal) ((c.tc : Thread Cert.InRwDwIdeal.nD Cert.InRwDwIdeal.τ).loc Cert.InRwDwIdeal.main_v0)),
      θ_run (Cert.InRwDwIdeal.defs (F := Ideal)) (onTc (τ := Cert.InRwDwIdeal.τ) (Cert.InRwDwIdeal.main (F := Ideal))) ⟨m, fun _ => 0, g⟩ (fun r => ∀ c : Dev Cert.InRwDwIdeal.nD,
          r.2.mem ((c.tc : Thread Cert.InRwDwIdeal.nD Cert.InRwDwIdeal.τ).loc Cert.InRwDwIdeal.main_v0) = v0 c
          ∧ r.2.mem ((c.tc : Thread Cert.InRwDwIdeal.nD Cert.InRwDwIdeal.τ).loc Cert.InRwDwIdeal.main_arg0) = m ((c.tc : Thread Cert.InRwDwIdeal.nD Cert.InRwDwIdeal.τ).loc Cert.InRwDwIdeal.main_arg0)
          ∧ r.2.mem ((c.tc : Thread Cert.InRwDwIdeal.nD Cert.InRwDwIdeal.τ).loc Cert.InRwDwIdeal.main_arg1) = m ((c.tc : Thread Cert.InRwDwIdeal.nD Cert.InRwDwIdeal.τ).loc Cert.InRwDwIdeal.main_arg1)
          ∧ r.2.mem ((c.tc : Thread Cert.InRwDwIdeal.nD Cert.InRwDwIdeal.τ).loc Cert.InRwDwIdeal.main_arg2) = m ((c.tc : Thread Cert.InRwDwIdeal.nD Cert.InRwDwIdeal.τ).loc Cert.InRwDwIdeal.main_arg2))
      ∧ θ_run (Cert.InRwDwRefIdeal.defs (F := Ideal)) (onTc (τ := Cert.InRwDwRefIdeal.τ) (Cert.InRwDwRefIdeal.main (F := Ideal))) ⟨m', fun _ => 0, g'⟩ (fun r => ∀ c : Dev Cert.InRwDwRefIdeal.nD,
          r.2.mem ((c.tc : Thread Cert.InRwDwRefIdeal.nD Cert.InRwDwRefIdeal.τ).loc Cert.InRwDwRefIdeal.main_v5) = v0 c
          ∧ r.2.mem ((c.tc : Thread Cert.InRwDwRefIdeal.nD Cert.InRwDwRefIdeal.τ).loc Cert.InRwDwRefIdeal.main_arg0) = m' ((c.tc : Thread Cert.InRwDwRefIdeal.nD Cert.InRwDwRefIdeal.τ).loc Cert.InRwDwRefIdeal.main_arg0)
          ∧ r.2.mem ((c.tc : Thread Cert.InRwDwRefIdeal.nD Cert.InRwDwRefIdeal.τ).loc Cert.InRwDwRefIdeal.main_arg1) = m' ((c.tc : Thread Cert.InRwDwRefIdeal.nD Cert.InRwDwRefIdeal.τ).loc Cert.InRwDwRefIdeal.main_arg1)
          ∧ r.2.mem ((c.tc : Thread Cert.InRwDwRefIdeal.nD Cert.InRwDwRefIdeal.τ).loc Cert.InRwDwRefIdeal.main_arg2) = m' ((c.tc : Thread Cert.InRwDwRefIdeal.nD Cert.InRwDwRefIdeal.τ).loc Cert.InRwDwRefIdeal.main_arg2))

def preserves_InGateDx_InGateDxIdeal : Prop :=
  True

def algebraic_InGateDxIdeal_InGateDxRefIdeal [hInGateDxIdeal : Cert.InGateDxIdeal.Facts] [hInGateDxRefIdeal : Cert.InGateDxRefIdeal.Facts] : Prop :=
  ∀ (m : (ℓ : Loc Cert.InGateDxIdeal.nD Cert.InGateDxIdeal.τ Cert.InGateDxIdeal.sig) → Buf (Elt Ideal) ℓ) (g : Dev Cert.InGateDxIdeal.nD → PrngReg)
    (m' : (ℓ : Loc Cert.InGateDxRefIdeal.nD Cert.InGateDxRefIdeal.τ Cert.InGateDxRefIdeal.sig) → Buf (Elt Ideal) ℓ) (g' : Dev Cert.InGateDxRefIdeal.nD → PrngReg), Pre_InGateDxIdeal m →
    (∀ c : Dev Cert.InGateDxIdeal.nD,
      m' ((c.tc : Thread Cert.InGateDxRefIdeal.nD Cert.InGateDxRefIdeal.τ).loc Cert.InGateDxRefIdeal.main_arg0) = m ((c.tc : Thread Cert.InGateDxIdeal.nD Cert.InGateDxIdeal.τ).loc Cert.InGateDxIdeal.main_arg0)
      ∧ m' ((c.tc : Thread Cert.InGateDxRefIdeal.nD Cert.InGateDxRefIdeal.τ).loc Cert.InGateDxRefIdeal.main_arg1) = m ((c.tc : Thread Cert.InGateDxIdeal.nD Cert.InGateDxIdeal.τ).loc Cert.InGateDxIdeal.main_arg1)
      ∧ m' ((c.tc : Thread Cert.InGateDxRefIdeal.nD Cert.InGateDxRefIdeal.τ).loc Cert.InGateDxRefIdeal.main_arg2) = m ((c.tc : Thread Cert.InGateDxIdeal.nD Cert.InGateDxIdeal.τ).loc Cert.InGateDxIdeal.main_arg2)
      ∧ m' ((c.tc : Thread Cert.InGateDxRefIdeal.nD Cert.InGateDxRefIdeal.τ).loc Cert.InGateDxRefIdeal.main_arg3) = m ((c.tc : Thread Cert.InGateDxIdeal.nD Cert.InGateDxIdeal.τ).loc Cert.InGateDxIdeal.main_arg3)) →
    ∃ (v0 : (c : Dev Cert.InGateDxIdeal.nD) → Buf (Elt Ideal) ((c.tc : Thread Cert.InGateDxIdeal.nD Cert.InGateDxIdeal.τ).loc Cert.InGateDxIdeal.main_v0)),
      θ_run (Cert.InGateDxIdeal.defs (F := Ideal)) (onTc (τ := Cert.InGateDxIdeal.τ) (Cert.InGateDxIdeal.main (F := Ideal))) ⟨m, fun _ => 0, g⟩ (fun r => ∀ c : Dev Cert.InGateDxIdeal.nD,
          r.2.mem ((c.tc : Thread Cert.InGateDxIdeal.nD Cert.InGateDxIdeal.τ).loc Cert.InGateDxIdeal.main_v0) = v0 c
          ∧ r.2.mem ((c.tc : Thread Cert.InGateDxIdeal.nD Cert.InGateDxIdeal.τ).loc Cert.InGateDxIdeal.main_arg0) = m ((c.tc : Thread Cert.InGateDxIdeal.nD Cert.InGateDxIdeal.τ).loc Cert.InGateDxIdeal.main_arg0)
          ∧ r.2.mem ((c.tc : Thread Cert.InGateDxIdeal.nD Cert.InGateDxIdeal.τ).loc Cert.InGateDxIdeal.main_arg1) = m ((c.tc : Thread Cert.InGateDxIdeal.nD Cert.InGateDxIdeal.τ).loc Cert.InGateDxIdeal.main_arg1)
          ∧ r.2.mem ((c.tc : Thread Cert.InGateDxIdeal.nD Cert.InGateDxIdeal.τ).loc Cert.InGateDxIdeal.main_arg2) = m ((c.tc : Thread Cert.InGateDxIdeal.nD Cert.InGateDxIdeal.τ).loc Cert.InGateDxIdeal.main_arg2)
          ∧ r.2.mem ((c.tc : Thread Cert.InGateDxIdeal.nD Cert.InGateDxIdeal.τ).loc Cert.InGateDxIdeal.main_arg3) = m ((c.tc : Thread Cert.InGateDxIdeal.nD Cert.InGateDxIdeal.τ).loc Cert.InGateDxIdeal.main_arg3))
      ∧ θ_run (Cert.InGateDxRefIdeal.defs (F := Ideal)) (onTc (τ := Cert.InGateDxRefIdeal.τ) (Cert.InGateDxRefIdeal.main (F := Ideal))) ⟨m', fun _ => 0, g'⟩ (fun r => ∀ c : Dev Cert.InGateDxRefIdeal.nD,
          r.2.mem ((c.tc : Thread Cert.InGateDxRefIdeal.nD Cert.InGateDxRefIdeal.τ).loc Cert.InGateDxRefIdeal.main_v5) = v0 c
          ∧ r.2.mem ((c.tc : Thread Cert.InGateDxRefIdeal.nD Cert.InGateDxRefIdeal.τ).loc Cert.InGateDxRefIdeal.main_arg0) = m' ((c.tc : Thread Cert.InGateDxRefIdeal.nD Cert.InGateDxRefIdeal.τ).loc Cert.InGateDxRefIdeal.main_arg0)
          ∧ r.2.mem ((c.tc : Thread Cert.InGateDxRefIdeal.nD Cert.InGateDxRefIdeal.τ).loc Cert.InGateDxRefIdeal.main_arg1) = m' ((c.tc : Thread Cert.InGateDxRefIdeal.nD Cert.InGateDxRefIdeal.τ).loc Cert.InGateDxRefIdeal.main_arg1)
          ∧ r.2.mem ((c.tc : Thread Cert.InGateDxRefIdeal.nD Cert.InGateDxRefIdeal.τ).loc Cert.InGateDxRefIdeal.main_arg2) = m' ((c.tc : Thread Cert.InGateDxRefIdeal.nD Cert.InGateDxRefIdeal.τ).loc Cert.InGateDxRefIdeal.main_arg2)
          ∧ r.2.mem ((c.tc : Thread Cert.InGateDxRefIdeal.nD Cert.InGateDxRefIdeal.τ).loc Cert.InGateDxRefIdeal.main_arg3) = m' ((c.tc : Thread Cert.InGateDxRefIdeal.nD Cert.InGateDxRefIdeal.τ).loc Cert.InGateDxRefIdeal.main_arg3))

def preserves_InGateDw_InGateDwIdeal : Prop :=
  True

def algebraic_InGateDwIdeal_InGateDwRefIdeal [hInGateDwIdeal : Cert.InGateDwIdeal.Facts] [hInGateDwRefIdeal : Cert.InGateDwRefIdeal.Facts] : Prop :=
  ∀ (m : (ℓ : Loc Cert.InGateDwIdeal.nD Cert.InGateDwIdeal.τ Cert.InGateDwIdeal.sig) → Buf (Elt Ideal) ℓ) (g : Dev Cert.InGateDwIdeal.nD → PrngReg)
    (m' : (ℓ : Loc Cert.InGateDwRefIdeal.nD Cert.InGateDwRefIdeal.τ Cert.InGateDwRefIdeal.sig) → Buf (Elt Ideal) ℓ) (g' : Dev Cert.InGateDwRefIdeal.nD → PrngReg), Pre_InGateDwIdeal m →
    (∀ c : Dev Cert.InGateDwIdeal.nD,
      m' ((c.tc : Thread Cert.InGateDwRefIdeal.nD Cert.InGateDwRefIdeal.τ).loc Cert.InGateDwRefIdeal.main_arg0) = m ((c.tc : Thread Cert.InGateDwIdeal.nD Cert.InGateDwIdeal.τ).loc Cert.InGateDwIdeal.main_arg0)
      ∧ m' ((c.tc : Thread Cert.InGateDwRefIdeal.nD Cert.InGateDwRefIdeal.τ).loc Cert.InGateDwRefIdeal.main_arg1) = m ((c.tc : Thread Cert.InGateDwIdeal.nD Cert.InGateDwIdeal.τ).loc Cert.InGateDwIdeal.main_arg1)
      ∧ m' ((c.tc : Thread Cert.InGateDwRefIdeal.nD Cert.InGateDwRefIdeal.τ).loc Cert.InGateDwRefIdeal.main_arg2) = m ((c.tc : Thread Cert.InGateDwIdeal.nD Cert.InGateDwIdeal.τ).loc Cert.InGateDwIdeal.main_arg2)) →
    ∃ (v0 : (c : Dev Cert.InGateDwIdeal.nD) → Buf (Elt Ideal) ((c.tc : Thread Cert.InGateDwIdeal.nD Cert.InGateDwIdeal.τ).loc Cert.InGateDwIdeal.main_v0)),
      θ_run (Cert.InGateDwIdeal.defs (F := Ideal)) (onTc (τ := Cert.InGateDwIdeal.τ) (Cert.InGateDwIdeal.main (F := Ideal))) ⟨m, fun _ => 0, g⟩ (fun r => ∀ c : Dev Cert.InGateDwIdeal.nD,
          r.2.mem ((c.tc : Thread Cert.InGateDwIdeal.nD Cert.InGateDwIdeal.τ).loc Cert.InGateDwIdeal.main_v0) = v0 c
          ∧ r.2.mem ((c.tc : Thread Cert.InGateDwIdeal.nD Cert.InGateDwIdeal.τ).loc Cert.InGateDwIdeal.main_arg0) = m ((c.tc : Thread Cert.InGateDwIdeal.nD Cert.InGateDwIdeal.τ).loc Cert.InGateDwIdeal.main_arg0)
          ∧ r.2.mem ((c.tc : Thread Cert.InGateDwIdeal.nD Cert.InGateDwIdeal.τ).loc Cert.InGateDwIdeal.main_arg1) = m ((c.tc : Thread Cert.InGateDwIdeal.nD Cert.InGateDwIdeal.τ).loc Cert.InGateDwIdeal.main_arg1)
          ∧ r.2.mem ((c.tc : Thread Cert.InGateDwIdeal.nD Cert.InGateDwIdeal.τ).loc Cert.InGateDwIdeal.main_arg2) = m ((c.tc : Thread Cert.InGateDwIdeal.nD Cert.InGateDwIdeal.τ).loc Cert.InGateDwIdeal.main_arg2))
      ∧ θ_run (Cert.InGateDwRefIdeal.defs (F := Ideal)) (onTc (τ := Cert.InGateDwRefIdeal.τ) (Cert.InGateDwRefIdeal.main (F := Ideal))) ⟨m', fun _ => 0, g'⟩ (fun r => ∀ c : Dev Cert.InGateDwRefIdeal.nD,
          r.2.mem ((c.tc : Thread Cert.InGateDwRefIdeal.nD Cert.InGateDwRefIdeal.τ).loc Cert.InGateDwRefIdeal.main_v5) = v0 c
          ∧ r.2.mem ((c.tc : Thread Cert.InGateDwRefIdeal.nD Cert.InGateDwRefIdeal.τ).loc Cert.InGateDwRefIdeal.main_arg0) = m' ((c.tc : Thread Cert.InGateDwRefIdeal.nD Cert.InGateDwRefIdeal.τ).loc Cert.InGateDwRefIdeal.main_arg0)
          ∧ r.2.mem ((c.tc : Thread Cert.InGateDwRefIdeal.nD Cert.InGateDwRefIdeal.τ).loc Cert.InGateDwRefIdeal.main_arg1) = m' ((c.tc : Thread Cert.InGateDwRefIdeal.nD Cert.InGateDwRefIdeal.τ).loc Cert.InGateDwRefIdeal.main_arg1)
          ∧ r.2.mem ((c.tc : Thread Cert.InGateDwRefIdeal.nD Cert.InGateDwRefIdeal.τ).loc Cert.InGateDwRefIdeal.main_arg2) = m' ((c.tc : Thread Cert.InGateDwRefIdeal.nD Cert.InGateDwRefIdeal.τ).loc Cert.InGateDwRefIdeal.main_arg2))

def preserves_InKrDx_InKrDxIdeal : Prop :=
  True

def algebraic_InKrDxIdeal_InKrDxRefIdeal [hInKrDxIdeal : Cert.InKrDxIdeal.Facts] [hInKrDxRefIdeal : Cert.InKrDxRefIdeal.Facts] : Prop :=
  ∀ (m : (ℓ : Loc Cert.InKrDxIdeal.nD Cert.InKrDxIdeal.τ Cert.InKrDxIdeal.sig) → Buf (Elt Ideal) ℓ) (g : Dev Cert.InKrDxIdeal.nD → PrngReg)
    (m' : (ℓ : Loc Cert.InKrDxRefIdeal.nD Cert.InKrDxRefIdeal.τ Cert.InKrDxRefIdeal.sig) → Buf (Elt Ideal) ℓ) (g' : Dev Cert.InKrDxRefIdeal.nD → PrngReg), Pre_InKrDxIdeal m →
    (∀ c : Dev Cert.InKrDxIdeal.nD,
      m' ((c.tc : Thread Cert.InKrDxRefIdeal.nD Cert.InKrDxRefIdeal.τ).loc Cert.InKrDxRefIdeal.main_arg0) = m ((c.tc : Thread Cert.InKrDxIdeal.nD Cert.InKrDxIdeal.τ).loc Cert.InKrDxIdeal.main_arg0)
      ∧ m' ((c.tc : Thread Cert.InKrDxRefIdeal.nD Cert.InKrDxRefIdeal.τ).loc Cert.InKrDxRefIdeal.main_arg1) = m ((c.tc : Thread Cert.InKrDxIdeal.nD Cert.InKrDxIdeal.τ).loc Cert.InKrDxIdeal.main_arg1)
      ∧ m' ((c.tc : Thread Cert.InKrDxRefIdeal.nD Cert.InKrDxRefIdeal.τ).loc Cert.InKrDxRefIdeal.main_arg2) = m ((c.tc : Thread Cert.InKrDxIdeal.nD Cert.InKrDxIdeal.τ).loc Cert.InKrDxIdeal.main_arg2)
      ∧ m' ((c.tc : Thread Cert.InKrDxRefIdeal.nD Cert.InKrDxRefIdeal.τ).loc Cert.InKrDxRefIdeal.main_arg3) = m ((c.tc : Thread Cert.InKrDxIdeal.nD Cert.InKrDxIdeal.τ).loc Cert.InKrDxIdeal.main_arg3)) →
    ∃ (v0 : (c : Dev Cert.InKrDxIdeal.nD) → Buf (Elt Ideal) ((c.tc : Thread Cert.InKrDxIdeal.nD Cert.InKrDxIdeal.τ).loc Cert.InKrDxIdeal.main_v0)),
      θ_run (Cert.InKrDxIdeal.defs (F := Ideal)) (onTc (τ := Cert.InKrDxIdeal.τ) (Cert.InKrDxIdeal.main (F := Ideal))) ⟨m, fun _ => 0, g⟩ (fun r => ∀ c : Dev Cert.InKrDxIdeal.nD,
          r.2.mem ((c.tc : Thread Cert.InKrDxIdeal.nD Cert.InKrDxIdeal.τ).loc Cert.InKrDxIdeal.main_v0) = v0 c
          ∧ r.2.mem ((c.tc : Thread Cert.InKrDxIdeal.nD Cert.InKrDxIdeal.τ).loc Cert.InKrDxIdeal.main_arg0) = m ((c.tc : Thread Cert.InKrDxIdeal.nD Cert.InKrDxIdeal.τ).loc Cert.InKrDxIdeal.main_arg0)
          ∧ r.2.mem ((c.tc : Thread Cert.InKrDxIdeal.nD Cert.InKrDxIdeal.τ).loc Cert.InKrDxIdeal.main_arg1) = m ((c.tc : Thread Cert.InKrDxIdeal.nD Cert.InKrDxIdeal.τ).loc Cert.InKrDxIdeal.main_arg1)
          ∧ r.2.mem ((c.tc : Thread Cert.InKrDxIdeal.nD Cert.InKrDxIdeal.τ).loc Cert.InKrDxIdeal.main_arg2) = m ((c.tc : Thread Cert.InKrDxIdeal.nD Cert.InKrDxIdeal.τ).loc Cert.InKrDxIdeal.main_arg2)
          ∧ r.2.mem ((c.tc : Thread Cert.InKrDxIdeal.nD Cert.InKrDxIdeal.τ).loc Cert.InKrDxIdeal.main_arg3) = m ((c.tc : Thread Cert.InKrDxIdeal.nD Cert.InKrDxIdeal.τ).loc Cert.InKrDxIdeal.main_arg3))
      ∧ θ_run (Cert.InKrDxRefIdeal.defs (F := Ideal)) (onTc (τ := Cert.InKrDxRefIdeal.τ) (Cert.InKrDxRefIdeal.main (F := Ideal))) ⟨m', fun _ => 0, g'⟩ (fun r => ∀ c : Dev Cert.InKrDxRefIdeal.nD,
          r.2.mem ((c.tc : Thread Cert.InKrDxRefIdeal.nD Cert.InKrDxRefIdeal.τ).loc Cert.InKrDxRefIdeal.main_v5) = v0 c
          ∧ r.2.mem ((c.tc : Thread Cert.InKrDxRefIdeal.nD Cert.InKrDxRefIdeal.τ).loc Cert.InKrDxRefIdeal.main_arg0) = m' ((c.tc : Thread Cert.InKrDxRefIdeal.nD Cert.InKrDxRefIdeal.τ).loc Cert.InKrDxRefIdeal.main_arg0)
          ∧ r.2.mem ((c.tc : Thread Cert.InKrDxRefIdeal.nD Cert.InKrDxRefIdeal.τ).loc Cert.InKrDxRefIdeal.main_arg1) = m' ((c.tc : Thread Cert.InKrDxRefIdeal.nD Cert.InKrDxRefIdeal.τ).loc Cert.InKrDxRefIdeal.main_arg1)
          ∧ r.2.mem ((c.tc : Thread Cert.InKrDxRefIdeal.nD Cert.InKrDxRefIdeal.τ).loc Cert.InKrDxRefIdeal.main_arg2) = m' ((c.tc : Thread Cert.InKrDxRefIdeal.nD Cert.InKrDxRefIdeal.τ).loc Cert.InKrDxRefIdeal.main_arg2)
          ∧ r.2.mem ((c.tc : Thread Cert.InKrDxRefIdeal.nD Cert.InKrDxRefIdeal.τ).loc Cert.InKrDxRefIdeal.main_arg3) = m' ((c.tc : Thread Cert.InKrDxRefIdeal.nD Cert.InKrDxRefIdeal.τ).loc Cert.InKrDxRefIdeal.main_arg3))

def preserves_InKrDw_InKrDwIdeal : Prop :=
  True

def algebraic_InKrDwIdeal_InKrDwRefIdeal [hInKrDwIdeal : Cert.InKrDwIdeal.Facts] [hInKrDwRefIdeal : Cert.InKrDwRefIdeal.Facts] : Prop :=
  ∀ (m : (ℓ : Loc Cert.InKrDwIdeal.nD Cert.InKrDwIdeal.τ Cert.InKrDwIdeal.sig) → Buf (Elt Ideal) ℓ) (g : Dev Cert.InKrDwIdeal.nD → PrngReg)
    (m' : (ℓ : Loc Cert.InKrDwRefIdeal.nD Cert.InKrDwRefIdeal.τ Cert.InKrDwRefIdeal.sig) → Buf (Elt Ideal) ℓ) (g' : Dev Cert.InKrDwRefIdeal.nD → PrngReg), Pre_InKrDwIdeal m →
    (∀ c : Dev Cert.InKrDwIdeal.nD,
      m' ((c.tc : Thread Cert.InKrDwRefIdeal.nD Cert.InKrDwRefIdeal.τ).loc Cert.InKrDwRefIdeal.main_arg0) = m ((c.tc : Thread Cert.InKrDwIdeal.nD Cert.InKrDwIdeal.τ).loc Cert.InKrDwIdeal.main_arg0)
      ∧ m' ((c.tc : Thread Cert.InKrDwRefIdeal.nD Cert.InKrDwRefIdeal.τ).loc Cert.InKrDwRefIdeal.main_arg1) = m ((c.tc : Thread Cert.InKrDwIdeal.nD Cert.InKrDwIdeal.τ).loc Cert.InKrDwIdeal.main_arg1)
      ∧ m' ((c.tc : Thread Cert.InKrDwRefIdeal.nD Cert.InKrDwRefIdeal.τ).loc Cert.InKrDwRefIdeal.main_arg2) = m ((c.tc : Thread Cert.InKrDwIdeal.nD Cert.InKrDwIdeal.τ).loc Cert.InKrDwIdeal.main_arg2)) →
    ∃ (v0 : (c : Dev Cert.InKrDwIdeal.nD) → Buf (Elt Ideal) ((c.tc : Thread Cert.InKrDwIdeal.nD Cert.InKrDwIdeal.τ).loc Cert.InKrDwIdeal.main_v0)),
      θ_run (Cert.InKrDwIdeal.defs (F := Ideal)) (onTc (τ := Cert.InKrDwIdeal.τ) (Cert.InKrDwIdeal.main (F := Ideal))) ⟨m, fun _ => 0, g⟩ (fun r => ∀ c : Dev Cert.InKrDwIdeal.nD,
          r.2.mem ((c.tc : Thread Cert.InKrDwIdeal.nD Cert.InKrDwIdeal.τ).loc Cert.InKrDwIdeal.main_v0) = v0 c
          ∧ r.2.mem ((c.tc : Thread Cert.InKrDwIdeal.nD Cert.InKrDwIdeal.τ).loc Cert.InKrDwIdeal.main_arg0) = m ((c.tc : Thread Cert.InKrDwIdeal.nD Cert.InKrDwIdeal.τ).loc Cert.InKrDwIdeal.main_arg0)
          ∧ r.2.mem ((c.tc : Thread Cert.InKrDwIdeal.nD Cert.InKrDwIdeal.τ).loc Cert.InKrDwIdeal.main_arg1) = m ((c.tc : Thread Cert.InKrDwIdeal.nD Cert.InKrDwIdeal.τ).loc Cert.InKrDwIdeal.main_arg1)
          ∧ r.2.mem ((c.tc : Thread Cert.InKrDwIdeal.nD Cert.InKrDwIdeal.τ).loc Cert.InKrDwIdeal.main_arg2) = m ((c.tc : Thread Cert.InKrDwIdeal.nD Cert.InKrDwIdeal.τ).loc Cert.InKrDwIdeal.main_arg2))
      ∧ θ_run (Cert.InKrDwRefIdeal.defs (F := Ideal)) (onTc (τ := Cert.InKrDwRefIdeal.τ) (Cert.InKrDwRefIdeal.main (F := Ideal))) ⟨m', fun _ => 0, g'⟩ (fun r => ∀ c : Dev Cert.InKrDwRefIdeal.nD,
          r.2.mem ((c.tc : Thread Cert.InKrDwRefIdeal.nD Cert.InKrDwRefIdeal.τ).loc Cert.InKrDwRefIdeal.main_v5) = v0 c
          ∧ r.2.mem ((c.tc : Thread Cert.InKrDwRefIdeal.nD Cert.InKrDwRefIdeal.τ).loc Cert.InKrDwRefIdeal.main_arg0) = m' ((c.tc : Thread Cert.InKrDwRefIdeal.nD Cert.InKrDwRefIdeal.τ).loc Cert.InKrDwRefIdeal.main_arg0)
          ∧ r.2.mem ((c.tc : Thread Cert.InKrDwRefIdeal.nD Cert.InKrDwRefIdeal.τ).loc Cert.InKrDwRefIdeal.main_arg1) = m' ((c.tc : Thread Cert.InKrDwRefIdeal.nD Cert.InKrDwRefIdeal.τ).loc Cert.InKrDwRefIdeal.main_arg1)
          ∧ r.2.mem ((c.tc : Thread Cert.InKrDwRefIdeal.nD Cert.InKrDwRefIdeal.τ).loc Cert.InKrDwRefIdeal.main_arg2) = m' ((c.tc : Thread Cert.InKrDwRefIdeal.nD Cert.InKrDwRefIdeal.τ).loc Cert.InKrDwRefIdeal.main_arg2))

def preserves_UqDx_UqDxIdeal : Prop :=
  True

def algebraic_UqDxIdeal_UqDxRefIdeal [hUqDxIdeal : Cert.UqDxIdeal.Facts] [hUqDxRefIdeal : Cert.UqDxRefIdeal.Facts] : Prop :=
  ∀ (m : (ℓ : Loc Cert.UqDxIdeal.nD Cert.UqDxIdeal.τ Cert.UqDxIdeal.sig) → Buf (Elt Ideal) ℓ) (g : Dev Cert.UqDxIdeal.nD → PrngReg)
    (m' : (ℓ : Loc Cert.UqDxRefIdeal.nD Cert.UqDxRefIdeal.τ Cert.UqDxRefIdeal.sig) → Buf (Elt Ideal) ℓ) (g' : Dev Cert.UqDxRefIdeal.nD → PrngReg), Pre_UqDxIdeal m →
    (∀ c : Dev Cert.UqDxIdeal.nD,
      m' ((c.tc : Thread Cert.UqDxRefIdeal.nD Cert.UqDxRefIdeal.τ).loc Cert.UqDxRefIdeal.main_arg0) = m ((c.tc : Thread Cert.UqDxIdeal.nD Cert.UqDxIdeal.τ).loc Cert.UqDxIdeal.main_arg0)
      ∧ m' ((c.tc : Thread Cert.UqDxRefIdeal.nD Cert.UqDxRefIdeal.τ).loc Cert.UqDxRefIdeal.main_arg1) = m ((c.tc : Thread Cert.UqDxIdeal.nD Cert.UqDxIdeal.τ).loc Cert.UqDxIdeal.main_arg1)
      ∧ m' ((c.tc : Thread Cert.UqDxRefIdeal.nD Cert.UqDxRefIdeal.τ).loc Cert.UqDxRefIdeal.main_arg2) = m ((c.tc : Thread Cert.UqDxIdeal.nD Cert.UqDxIdeal.τ).loc Cert.UqDxIdeal.main_arg2)) →
    ∃ (v0 : (c : Dev Cert.UqDxIdeal.nD) → Buf (Elt Ideal) ((c.tc : Thread Cert.UqDxIdeal.nD Cert.UqDxIdeal.τ).loc Cert.UqDxIdeal.main_v0)),
      θ_run (Cert.UqDxIdeal.defs (F := Ideal)) (onTc (τ := Cert.UqDxIdeal.τ) (Cert.UqDxIdeal.main (F := Ideal))) ⟨m, fun _ => 0, g⟩ (fun r => ∀ c : Dev Cert.UqDxIdeal.nD,
          r.2.mem ((c.tc : Thread Cert.UqDxIdeal.nD Cert.UqDxIdeal.τ).loc Cert.UqDxIdeal.main_v0) = v0 c
          ∧ r.2.mem ((c.tc : Thread Cert.UqDxIdeal.nD Cert.UqDxIdeal.τ).loc Cert.UqDxIdeal.main_arg0) = m ((c.tc : Thread Cert.UqDxIdeal.nD Cert.UqDxIdeal.τ).loc Cert.UqDxIdeal.main_arg0)
          ∧ r.2.mem ((c.tc : Thread Cert.UqDxIdeal.nD Cert.UqDxIdeal.τ).loc Cert.UqDxIdeal.main_arg1) = m ((c.tc : Thread Cert.UqDxIdeal.nD Cert.UqDxIdeal.τ).loc Cert.UqDxIdeal.main_arg1)
          ∧ r.2.mem ((c.tc : Thread Cert.UqDxIdeal.nD Cert.UqDxIdeal.τ).loc Cert.UqDxIdeal.main_arg2) = m ((c.tc : Thread Cert.UqDxIdeal.nD Cert.UqDxIdeal.τ).loc Cert.UqDxIdeal.main_arg2))
      ∧ θ_run (Cert.UqDxRefIdeal.defs (F := Ideal)) (onTc (τ := Cert.UqDxRefIdeal.τ) (Cert.UqDxRefIdeal.main (F := Ideal))) ⟨m', fun _ => 0, g'⟩ (fun r => ∀ c : Dev Cert.UqDxRefIdeal.nD,
          r.2.mem ((c.tc : Thread Cert.UqDxRefIdeal.nD Cert.UqDxRefIdeal.τ).loc Cert.UqDxRefIdeal.main_v4) = v0 c
          ∧ r.2.mem ((c.tc : Thread Cert.UqDxRefIdeal.nD Cert.UqDxRefIdeal.τ).loc Cert.UqDxRefIdeal.main_arg0) = m' ((c.tc : Thread Cert.UqDxRefIdeal.nD Cert.UqDxRefIdeal.τ).loc Cert.UqDxRefIdeal.main_arg0)
          ∧ r.2.mem ((c.tc : Thread Cert.UqDxRefIdeal.nD Cert.UqDxRefIdeal.τ).loc Cert.UqDxRefIdeal.main_arg1) = m' ((c.tc : Thread Cert.UqDxRefIdeal.nD Cert.UqDxRefIdeal.τ).loc Cert.UqDxRefIdeal.main_arg1)
          ∧ r.2.mem ((c.tc : Thread Cert.UqDxRefIdeal.nD Cert.UqDxRefIdeal.τ).loc Cert.UqDxRefIdeal.main_arg2) = m' ((c.tc : Thread Cert.UqDxRefIdeal.nD Cert.UqDxRefIdeal.τ).loc Cert.UqDxRefIdeal.main_arg2))

def preserves_UqDw_UqDwIdeal : Prop :=
  True

def algebraic_UqDwIdeal_UqDwRefIdeal [hUqDwIdeal : Cert.UqDwIdeal.Facts] [hUqDwRefIdeal : Cert.UqDwRefIdeal.Facts] : Prop :=
  ∀ (m : (ℓ : Loc Cert.UqDwIdeal.nD Cert.UqDwIdeal.τ Cert.UqDwIdeal.sig) → Buf (Elt Ideal) ℓ) (g : Dev Cert.UqDwIdeal.nD → PrngReg)
    (m' : (ℓ : Loc Cert.UqDwRefIdeal.nD Cert.UqDwRefIdeal.τ Cert.UqDwRefIdeal.sig) → Buf (Elt Ideal) ℓ) (g' : Dev Cert.UqDwRefIdeal.nD → PrngReg), Pre_UqDwIdeal m →
    (∀ c : Dev Cert.UqDwIdeal.nD,
      m' ((c.tc : Thread Cert.UqDwRefIdeal.nD Cert.UqDwRefIdeal.τ).loc Cert.UqDwRefIdeal.main_arg0) = m ((c.tc : Thread Cert.UqDwIdeal.nD Cert.UqDwIdeal.τ).loc Cert.UqDwIdeal.main_arg0)
      ∧ m' ((c.tc : Thread Cert.UqDwRefIdeal.nD Cert.UqDwRefIdeal.τ).loc Cert.UqDwRefIdeal.main_arg1) = m ((c.tc : Thread Cert.UqDwIdeal.nD Cert.UqDwIdeal.τ).loc Cert.UqDwIdeal.main_arg1)
      ∧ m' ((c.tc : Thread Cert.UqDwRefIdeal.nD Cert.UqDwRefIdeal.τ).loc Cert.UqDwRefIdeal.main_arg2) = m ((c.tc : Thread Cert.UqDwIdeal.nD Cert.UqDwIdeal.τ).loc Cert.UqDwIdeal.main_arg2)) →
    ∃ (v0 : (c : Dev Cert.UqDwIdeal.nD) → Buf (Elt Ideal) ((c.tc : Thread Cert.UqDwIdeal.nD Cert.UqDwIdeal.τ).loc Cert.UqDwIdeal.main_v0)),
      θ_run (Cert.UqDwIdeal.defs (F := Ideal)) (onTc (τ := Cert.UqDwIdeal.τ) (Cert.UqDwIdeal.main (F := Ideal))) ⟨m, fun _ => 0, g⟩ (fun r => ∀ c : Dev Cert.UqDwIdeal.nD,
          r.2.mem ((c.tc : Thread Cert.UqDwIdeal.nD Cert.UqDwIdeal.τ).loc Cert.UqDwIdeal.main_v0) = v0 c
          ∧ r.2.mem ((c.tc : Thread Cert.UqDwIdeal.nD Cert.UqDwIdeal.τ).loc Cert.UqDwIdeal.main_arg0) = m ((c.tc : Thread Cert.UqDwIdeal.nD Cert.UqDwIdeal.τ).loc Cert.UqDwIdeal.main_arg0)
          ∧ r.2.mem ((c.tc : Thread Cert.UqDwIdeal.nD Cert.UqDwIdeal.τ).loc Cert.UqDwIdeal.main_arg1) = m ((c.tc : Thread Cert.UqDwIdeal.nD Cert.UqDwIdeal.τ).loc Cert.UqDwIdeal.main_arg1)
          ∧ r.2.mem ((c.tc : Thread Cert.UqDwIdeal.nD Cert.UqDwIdeal.τ).loc Cert.UqDwIdeal.main_arg2) = m ((c.tc : Thread Cert.UqDwIdeal.nD Cert.UqDwIdeal.τ).loc Cert.UqDwIdeal.main_arg2))
      ∧ θ_run (Cert.UqDwRefIdeal.defs (F := Ideal)) (onTc (τ := Cert.UqDwRefIdeal.τ) (Cert.UqDwRefIdeal.main (F := Ideal))) ⟨m', fun _ => 0, g'⟩ (fun r => ∀ c : Dev Cert.UqDwRefIdeal.nD,
          r.2.mem ((c.tc : Thread Cert.UqDwRefIdeal.nD Cert.UqDwRefIdeal.τ).loc Cert.UqDwRefIdeal.main_v5) = v0 c
          ∧ r.2.mem ((c.tc : Thread Cert.UqDwRefIdeal.nD Cert.UqDwRefIdeal.τ).loc Cert.UqDwRefIdeal.main_arg0) = m' ((c.tc : Thread Cert.UqDwRefIdeal.nD Cert.UqDwRefIdeal.τ).loc Cert.UqDwRefIdeal.main_arg0)
          ∧ r.2.mem ((c.tc : Thread Cert.UqDwRefIdeal.nD Cert.UqDwRefIdeal.τ).loc Cert.UqDwRefIdeal.main_arg1) = m' ((c.tc : Thread Cert.UqDwRefIdeal.nD Cert.UqDwRefIdeal.τ).loc Cert.UqDwRefIdeal.main_arg1)
          ∧ r.2.mem ((c.tc : Thread Cert.UqDwRefIdeal.nD Cert.UqDwRefIdeal.τ).loc Cert.UqDwRefIdeal.main_arg2) = m' ((c.tc : Thread Cert.UqDwRefIdeal.nD Cert.UqDwRefIdeal.τ).loc Cert.UqDwRefIdeal.main_arg2))

def preserves_BranchAttnDx_BranchAttnDxIdeal : Prop :=
  True

def algebraic_BranchAttnDxIdeal_BranchAttnDxRefIdeal [hBranchAttnDxIdeal : Cert.BranchAttnDxIdeal.Facts] [hBranchAttnDxRefIdeal : Cert.BranchAttnDxRefIdeal.Facts] : Prop :=
  ∀ (m : (ℓ : Loc Cert.BranchAttnDxIdeal.nD Cert.BranchAttnDxIdeal.τ Cert.BranchAttnDxIdeal.sig) → Buf (Elt Ideal) ℓ) (g : Dev Cert.BranchAttnDxIdeal.nD → PrngReg)
    (m' : (ℓ : Loc Cert.BranchAttnDxRefIdeal.nD Cert.BranchAttnDxRefIdeal.τ Cert.BranchAttnDxRefIdeal.sig) → Buf (Elt Ideal) ℓ) (g' : Dev Cert.BranchAttnDxRefIdeal.nD → PrngReg), Pre_BranchAttnDxIdeal m →
    (∀ c : Dev Cert.BranchAttnDxIdeal.nD,
      m' ((c.tc : Thread Cert.BranchAttnDxRefIdeal.nD Cert.BranchAttnDxRefIdeal.τ).loc Cert.BranchAttnDxRefIdeal.main_arg0) = m ((c.tc : Thread Cert.BranchAttnDxIdeal.nD Cert.BranchAttnDxIdeal.τ).loc Cert.BranchAttnDxIdeal.main_arg0)
      ∧ m' ((c.tc : Thread Cert.BranchAttnDxRefIdeal.nD Cert.BranchAttnDxRefIdeal.τ).loc Cert.BranchAttnDxRefIdeal.main_arg1) = m ((c.tc : Thread Cert.BranchAttnDxIdeal.nD Cert.BranchAttnDxIdeal.τ).loc Cert.BranchAttnDxIdeal.main_arg1)
      ∧ m' ((c.tc : Thread Cert.BranchAttnDxRefIdeal.nD Cert.BranchAttnDxRefIdeal.τ).loc Cert.BranchAttnDxRefIdeal.main_arg2) = m ((c.tc : Thread Cert.BranchAttnDxIdeal.nD Cert.BranchAttnDxIdeal.τ).loc Cert.BranchAttnDxIdeal.main_arg2)) →
    ∃ (v0 : (c : Dev Cert.BranchAttnDxIdeal.nD) → Buf (Elt Ideal) ((c.tc : Thread Cert.BranchAttnDxIdeal.nD Cert.BranchAttnDxIdeal.τ).loc Cert.BranchAttnDxIdeal.main_v0)),
      θ_run (Cert.BranchAttnDxIdeal.defs (F := Ideal)) (onTc (τ := Cert.BranchAttnDxIdeal.τ) (Cert.BranchAttnDxIdeal.main (F := Ideal))) ⟨m, fun _ => 0, g⟩ (fun r => ∀ c : Dev Cert.BranchAttnDxIdeal.nD,
          r.2.mem ((c.tc : Thread Cert.BranchAttnDxIdeal.nD Cert.BranchAttnDxIdeal.τ).loc Cert.BranchAttnDxIdeal.main_v0) = v0 c
          ∧ r.2.mem ((c.tc : Thread Cert.BranchAttnDxIdeal.nD Cert.BranchAttnDxIdeal.τ).loc Cert.BranchAttnDxIdeal.main_arg0) = m ((c.tc : Thread Cert.BranchAttnDxIdeal.nD Cert.BranchAttnDxIdeal.τ).loc Cert.BranchAttnDxIdeal.main_arg0)
          ∧ r.2.mem ((c.tc : Thread Cert.BranchAttnDxIdeal.nD Cert.BranchAttnDxIdeal.τ).loc Cert.BranchAttnDxIdeal.main_arg1) = m ((c.tc : Thread Cert.BranchAttnDxIdeal.nD Cert.BranchAttnDxIdeal.τ).loc Cert.BranchAttnDxIdeal.main_arg1)
          ∧ r.2.mem ((c.tc : Thread Cert.BranchAttnDxIdeal.nD Cert.BranchAttnDxIdeal.τ).loc Cert.BranchAttnDxIdeal.main_arg2) = m ((c.tc : Thread Cert.BranchAttnDxIdeal.nD Cert.BranchAttnDxIdeal.τ).loc Cert.BranchAttnDxIdeal.main_arg2))
      ∧ θ_run (Cert.BranchAttnDxRefIdeal.defs (F := Ideal)) (onTc (τ := Cert.BranchAttnDxRefIdeal.τ) (Cert.BranchAttnDxRefIdeal.main (F := Ideal))) ⟨m', fun _ => 0, g'⟩ (fun r => ∀ c : Dev Cert.BranchAttnDxRefIdeal.nD,
          r.2.mem ((c.tc : Thread Cert.BranchAttnDxRefIdeal.nD Cert.BranchAttnDxRefIdeal.τ).loc Cert.BranchAttnDxRefIdeal.main_v4) = v0 c
          ∧ r.2.mem ((c.tc : Thread Cert.BranchAttnDxRefIdeal.nD Cert.BranchAttnDxRefIdeal.τ).loc Cert.BranchAttnDxRefIdeal.main_arg0) = m' ((c.tc : Thread Cert.BranchAttnDxRefIdeal.nD Cert.BranchAttnDxRefIdeal.τ).loc Cert.BranchAttnDxRefIdeal.main_arg0)
          ∧ r.2.mem ((c.tc : Thread Cert.BranchAttnDxRefIdeal.nD Cert.BranchAttnDxRefIdeal.τ).loc Cert.BranchAttnDxRefIdeal.main_arg1) = m' ((c.tc : Thread Cert.BranchAttnDxRefIdeal.nD Cert.BranchAttnDxRefIdeal.τ).loc Cert.BranchAttnDxRefIdeal.main_arg1)
          ∧ r.2.mem ((c.tc : Thread Cert.BranchAttnDxRefIdeal.nD Cert.BranchAttnDxRefIdeal.τ).loc Cert.BranchAttnDxRefIdeal.main_arg2) = m' ((c.tc : Thread Cert.BranchAttnDxRefIdeal.nD Cert.BranchAttnDxRefIdeal.τ).loc Cert.BranchAttnDxRefIdeal.main_arg2))

def preserves_BranchAttnDw_BranchAttnDwIdeal : Prop :=
  True

def algebraic_BranchAttnDwIdeal_BranchAttnDwRefIdeal [hBranchAttnDwIdeal : Cert.BranchAttnDwIdeal.Facts] [hBranchAttnDwRefIdeal : Cert.BranchAttnDwRefIdeal.Facts] : Prop :=
  ∀ (m : (ℓ : Loc Cert.BranchAttnDwIdeal.nD Cert.BranchAttnDwIdeal.τ Cert.BranchAttnDwIdeal.sig) → Buf (Elt Ideal) ℓ) (g : Dev Cert.BranchAttnDwIdeal.nD → PrngReg)
    (m' : (ℓ : Loc Cert.BranchAttnDwRefIdeal.nD Cert.BranchAttnDwRefIdeal.τ Cert.BranchAttnDwRefIdeal.sig) → Buf (Elt Ideal) ℓ) (g' : Dev Cert.BranchAttnDwRefIdeal.nD → PrngReg), Pre_BranchAttnDwIdeal m →
    (∀ c : Dev Cert.BranchAttnDwIdeal.nD,
      m' ((c.tc : Thread Cert.BranchAttnDwRefIdeal.nD Cert.BranchAttnDwRefIdeal.τ).loc Cert.BranchAttnDwRefIdeal.main_arg0) = m ((c.tc : Thread Cert.BranchAttnDwIdeal.nD Cert.BranchAttnDwIdeal.τ).loc Cert.BranchAttnDwIdeal.main_arg0)
      ∧ m' ((c.tc : Thread Cert.BranchAttnDwRefIdeal.nD Cert.BranchAttnDwRefIdeal.τ).loc Cert.BranchAttnDwRefIdeal.main_arg1) = m ((c.tc : Thread Cert.BranchAttnDwIdeal.nD Cert.BranchAttnDwIdeal.τ).loc Cert.BranchAttnDwIdeal.main_arg1)
      ∧ m' ((c.tc : Thread Cert.BranchAttnDwRefIdeal.nD Cert.BranchAttnDwRefIdeal.τ).loc Cert.BranchAttnDwRefIdeal.main_arg2) = m ((c.tc : Thread Cert.BranchAttnDwIdeal.nD Cert.BranchAttnDwIdeal.τ).loc Cert.BranchAttnDwIdeal.main_arg2)) →
    ∃ (v0 : (c : Dev Cert.BranchAttnDwIdeal.nD) → Buf (Elt Ideal) ((c.tc : Thread Cert.BranchAttnDwIdeal.nD Cert.BranchAttnDwIdeal.τ).loc Cert.BranchAttnDwIdeal.main_v0)),
      θ_run (Cert.BranchAttnDwIdeal.defs (F := Ideal)) (onTc (τ := Cert.BranchAttnDwIdeal.τ) (Cert.BranchAttnDwIdeal.main (F := Ideal))) ⟨m, fun _ => 0, g⟩ (fun r => ∀ c : Dev Cert.BranchAttnDwIdeal.nD,
          r.2.mem ((c.tc : Thread Cert.BranchAttnDwIdeal.nD Cert.BranchAttnDwIdeal.τ).loc Cert.BranchAttnDwIdeal.main_v0) = v0 c
          ∧ r.2.mem ((c.tc : Thread Cert.BranchAttnDwIdeal.nD Cert.BranchAttnDwIdeal.τ).loc Cert.BranchAttnDwIdeal.main_arg0) = m ((c.tc : Thread Cert.BranchAttnDwIdeal.nD Cert.BranchAttnDwIdeal.τ).loc Cert.BranchAttnDwIdeal.main_arg0)
          ∧ r.2.mem ((c.tc : Thread Cert.BranchAttnDwIdeal.nD Cert.BranchAttnDwIdeal.τ).loc Cert.BranchAttnDwIdeal.main_arg1) = m ((c.tc : Thread Cert.BranchAttnDwIdeal.nD Cert.BranchAttnDwIdeal.τ).loc Cert.BranchAttnDwIdeal.main_arg1)
          ∧ r.2.mem ((c.tc : Thread Cert.BranchAttnDwIdeal.nD Cert.BranchAttnDwIdeal.τ).loc Cert.BranchAttnDwIdeal.main_arg2) = m ((c.tc : Thread Cert.BranchAttnDwIdeal.nD Cert.BranchAttnDwIdeal.τ).loc Cert.BranchAttnDwIdeal.main_arg2))
      ∧ θ_run (Cert.BranchAttnDwRefIdeal.defs (F := Ideal)) (onTc (τ := Cert.BranchAttnDwRefIdeal.τ) (Cert.BranchAttnDwRefIdeal.main (F := Ideal))) ⟨m', fun _ => 0, g'⟩ (fun r => ∀ c : Dev Cert.BranchAttnDwRefIdeal.nD,
          r.2.mem ((c.tc : Thread Cert.BranchAttnDwRefIdeal.nD Cert.BranchAttnDwRefIdeal.τ).loc Cert.BranchAttnDwRefIdeal.main_v5) = v0 c
          ∧ r.2.mem ((c.tc : Thread Cert.BranchAttnDwRefIdeal.nD Cert.BranchAttnDwRefIdeal.τ).loc Cert.BranchAttnDwRefIdeal.main_arg0) = m' ((c.tc : Thread Cert.BranchAttnDwRefIdeal.nD Cert.BranchAttnDwRefIdeal.τ).loc Cert.BranchAttnDwRefIdeal.main_arg0)
          ∧ r.2.mem ((c.tc : Thread Cert.BranchAttnDwRefIdeal.nD Cert.BranchAttnDwRefIdeal.τ).loc Cert.BranchAttnDwRefIdeal.main_arg1) = m' ((c.tc : Thread Cert.BranchAttnDwRefIdeal.nD Cert.BranchAttnDwRefIdeal.τ).loc Cert.BranchAttnDwRefIdeal.main_arg1)
          ∧ r.2.mem ((c.tc : Thread Cert.BranchAttnDwRefIdeal.nD Cert.BranchAttnDwRefIdeal.τ).loc Cert.BranchAttnDwRefIdeal.main_arg2) = m' ((c.tc : Thread Cert.BranchAttnDwRefIdeal.nD Cert.BranchAttnDwRefIdeal.τ).loc Cert.BranchAttnDwRefIdeal.main_arg2))

def preserves_InQFw_InQFwIdeal : Prop :=
  True

def algebraic_InQFwIdeal_InQFwRefIdeal [hInQFwIdeal : Cert.InQFwIdeal.Facts] [hInQFwRefIdeal : Cert.InQFwRefIdeal.Facts] : Prop :=
  ∀ (m : (ℓ : Loc Cert.InQFwIdeal.nD Cert.InQFwIdeal.τ Cert.InQFwIdeal.sig) → Buf (Elt Ideal) ℓ) (g : Dev Cert.InQFwIdeal.nD → PrngReg)
    (m' : (ℓ : Loc Cert.InQFwRefIdeal.nD Cert.InQFwRefIdeal.τ Cert.InQFwRefIdeal.sig) → Buf (Elt Ideal) ℓ) (g' : Dev Cert.InQFwRefIdeal.nD → PrngReg), Pre_InQFwIdeal m →
    (∀ c : Dev Cert.InQFwIdeal.nD,
      m' ((c.tc : Thread Cert.InQFwRefIdeal.nD Cert.InQFwRefIdeal.τ).loc Cert.InQFwRefIdeal.main_arg0) = m ((c.tc : Thread Cert.InQFwIdeal.nD Cert.InQFwIdeal.τ).loc Cert.InQFwIdeal.main_arg0)
      ∧ m' ((c.tc : Thread Cert.InQFwRefIdeal.nD Cert.InQFwRefIdeal.τ).loc Cert.InQFwRefIdeal.main_arg1) = m ((c.tc : Thread Cert.InQFwIdeal.nD Cert.InQFwIdeal.τ).loc Cert.InQFwIdeal.main_arg1)) →
    ∃ (v0 : (c : Dev Cert.InQFwIdeal.nD) → Buf (Elt Ideal) ((c.tc : Thread Cert.InQFwIdeal.nD Cert.InQFwIdeal.τ).loc Cert.InQFwIdeal.main_v0)),
      θ_run (Cert.InQFwIdeal.defs (F := Ideal)) (onTc (τ := Cert.InQFwIdeal.τ) (Cert.InQFwIdeal.main (F := Ideal))) ⟨m, fun _ => 0, g⟩ (fun r => ∀ c : Dev Cert.InQFwIdeal.nD,
          r.2.mem ((c.tc : Thread Cert.InQFwIdeal.nD Cert.InQFwIdeal.τ).loc Cert.InQFwIdeal.main_v0) = v0 c
          ∧ r.2.mem ((c.tc : Thread Cert.InQFwIdeal.nD Cert.InQFwIdeal.τ).loc Cert.InQFwIdeal.main_arg0) = m ((c.tc : Thread Cert.InQFwIdeal.nD Cert.InQFwIdeal.τ).loc Cert.InQFwIdeal.main_arg0)
          ∧ r.2.mem ((c.tc : Thread Cert.InQFwIdeal.nD Cert.InQFwIdeal.τ).loc Cert.InQFwIdeal.main_arg1) = m ((c.tc : Thread Cert.InQFwIdeal.nD Cert.InQFwIdeal.τ).loc Cert.InQFwIdeal.main_arg1))
      ∧ θ_run (Cert.InQFwRefIdeal.defs (F := Ideal)) (onTc (τ := Cert.InQFwRefIdeal.τ) (Cert.InQFwRefIdeal.main (F := Ideal))) ⟨m', fun _ => 0, g'⟩ (fun r => ∀ c : Dev Cert.InQFwRefIdeal.nD,
          r.2.mem ((c.tc : Thread Cert.InQFwRefIdeal.nD Cert.InQFwRefIdeal.τ).loc Cert.InQFwRefIdeal.main_v2) = v0 c
          ∧ r.2.mem ((c.tc : Thread Cert.InQFwRefIdeal.nD Cert.InQFwRefIdeal.τ).loc Cert.InQFwRefIdeal.main_arg0) = m' ((c.tc : Thread Cert.InQFwRefIdeal.nD Cert.InQFwRefIdeal.τ).loc Cert.InQFwRefIdeal.main_arg0)
          ∧ r.2.mem ((c.tc : Thread Cert.InQFwRefIdeal.nD Cert.InQFwRefIdeal.τ).loc Cert.InQFwRefIdeal.main_arg1) = m' ((c.tc : Thread Cert.InQFwRefIdeal.nD Cert.InQFwRefIdeal.τ).loc Cert.InQFwRefIdeal.main_arg1))

def preserves_InCkvFw_InCkvFwIdeal : Prop :=
  True

def algebraic_InCkvFwIdeal_InCkvFwRefIdeal [hInCkvFwIdeal : Cert.InCkvFwIdeal.Facts] [hInCkvFwRefIdeal : Cert.InCkvFwRefIdeal.Facts] : Prop :=
  ∀ (m : (ℓ : Loc Cert.InCkvFwIdeal.nD Cert.InCkvFwIdeal.τ Cert.InCkvFwIdeal.sig) → Buf (Elt Ideal) ℓ) (g : Dev Cert.InCkvFwIdeal.nD → PrngReg)
    (m' : (ℓ : Loc Cert.InCkvFwRefIdeal.nD Cert.InCkvFwRefIdeal.τ Cert.InCkvFwRefIdeal.sig) → Buf (Elt Ideal) ℓ) (g' : Dev Cert.InCkvFwRefIdeal.nD → PrngReg), Pre_InCkvFwIdeal m →
    (∀ c : Dev Cert.InCkvFwIdeal.nD,
      m' ((c.tc : Thread Cert.InCkvFwRefIdeal.nD Cert.InCkvFwRefIdeal.τ).loc Cert.InCkvFwRefIdeal.main_arg0) = m ((c.tc : Thread Cert.InCkvFwIdeal.nD Cert.InCkvFwIdeal.τ).loc Cert.InCkvFwIdeal.main_arg0)
      ∧ m' ((c.tc : Thread Cert.InCkvFwRefIdeal.nD Cert.InCkvFwRefIdeal.τ).loc Cert.InCkvFwRefIdeal.main_arg1) = m ((c.tc : Thread Cert.InCkvFwIdeal.nD Cert.InCkvFwIdeal.τ).loc Cert.InCkvFwIdeal.main_arg1)) →
    ∃ (v0 : (c : Dev Cert.InCkvFwIdeal.nD) → Buf (Elt Ideal) ((c.tc : Thread Cert.InCkvFwIdeal.nD Cert.InCkvFwIdeal.τ).loc Cert.InCkvFwIdeal.main_v0)),
      θ_run (Cert.InCkvFwIdeal.defs (F := Ideal)) (onTc (τ := Cert.InCkvFwIdeal.τ) (Cert.InCkvFwIdeal.main (F := Ideal))) ⟨m, fun _ => 0, g⟩ (fun r => ∀ c : Dev Cert.InCkvFwIdeal.nD,
          r.2.mem ((c.tc : Thread Cert.InCkvFwIdeal.nD Cert.InCkvFwIdeal.τ).loc Cert.InCkvFwIdeal.main_v0) = v0 c
          ∧ r.2.mem ((c.tc : Thread Cert.InCkvFwIdeal.nD Cert.InCkvFwIdeal.τ).loc Cert.InCkvFwIdeal.main_arg0) = m ((c.tc : Thread Cert.InCkvFwIdeal.nD Cert.InCkvFwIdeal.τ).loc Cert.InCkvFwIdeal.main_arg0)
          ∧ r.2.mem ((c.tc : Thread Cert.InCkvFwIdeal.nD Cert.InCkvFwIdeal.τ).loc Cert.InCkvFwIdeal.main_arg1) = m ((c.tc : Thread Cert.InCkvFwIdeal.nD Cert.InCkvFwIdeal.τ).loc Cert.InCkvFwIdeal.main_arg1))
      ∧ θ_run (Cert.InCkvFwRefIdeal.defs (F := Ideal)) (onTc (τ := Cert.InCkvFwRefIdeal.τ) (Cert.InCkvFwRefIdeal.main (F := Ideal))) ⟨m', fun _ => 0, g'⟩ (fun r => ∀ c : Dev Cert.InCkvFwRefIdeal.nD,
          r.2.mem ((c.tc : Thread Cert.InCkvFwRefIdeal.nD Cert.InCkvFwRefIdeal.τ).loc Cert.InCkvFwRefIdeal.main_v2) = v0 c
          ∧ r.2.mem ((c.tc : Thread Cert.InCkvFwRefIdeal.nD Cert.InCkvFwRefIdeal.τ).loc Cert.InCkvFwRefIdeal.main_arg0) = m' ((c.tc : Thread Cert.InCkvFwRefIdeal.nD Cert.InCkvFwRefIdeal.τ).loc Cert.InCkvFwRefIdeal.main_arg0)
          ∧ r.2.mem ((c.tc : Thread Cert.InCkvFwRefIdeal.nD Cert.InCkvFwRefIdeal.τ).loc Cert.InCkvFwRefIdeal.main_arg1) = m' ((c.tc : Thread Cert.InCkvFwRefIdeal.nD Cert.InCkvFwRefIdeal.τ).loc Cert.InCkvFwRefIdeal.main_arg1))

def preserves_InKrFw_InKrFwIdeal : Prop :=
  True

def algebraic_InKrFwIdeal_InKrFwRefIdeal [hInKrFwIdeal : Cert.InKrFwIdeal.Facts] [hInKrFwRefIdeal : Cert.InKrFwRefIdeal.Facts] : Prop :=
  ∀ (m : (ℓ : Loc Cert.InKrFwIdeal.nD Cert.InKrFwIdeal.τ Cert.InKrFwIdeal.sig) → Buf (Elt Ideal) ℓ) (g : Dev Cert.InKrFwIdeal.nD → PrngReg)
    (m' : (ℓ : Loc Cert.InKrFwRefIdeal.nD Cert.InKrFwRefIdeal.τ Cert.InKrFwRefIdeal.sig) → Buf (Elt Ideal) ℓ) (g' : Dev Cert.InKrFwRefIdeal.nD → PrngReg), Pre_InKrFwIdeal m →
    (∀ c : Dev Cert.InKrFwIdeal.nD,
      m' ((c.tc : Thread Cert.InKrFwRefIdeal.nD Cert.InKrFwRefIdeal.τ).loc Cert.InKrFwRefIdeal.main_arg0) = m ((c.tc : Thread Cert.InKrFwIdeal.nD Cert.InKrFwIdeal.τ).loc Cert.InKrFwIdeal.main_arg0)
      ∧ m' ((c.tc : Thread Cert.InKrFwRefIdeal.nD Cert.InKrFwRefIdeal.τ).loc Cert.InKrFwRefIdeal.main_arg1) = m ((c.tc : Thread Cert.InKrFwIdeal.nD Cert.InKrFwIdeal.τ).loc Cert.InKrFwIdeal.main_arg1)) →
    ∃ (v0 : (c : Dev Cert.InKrFwIdeal.nD) → Buf (Elt Ideal) ((c.tc : Thread Cert.InKrFwIdeal.nD Cert.InKrFwIdeal.τ).loc Cert.InKrFwIdeal.main_v0)),
      θ_run (Cert.InKrFwIdeal.defs (F := Ideal)) (onTc (τ := Cert.InKrFwIdeal.τ) (Cert.InKrFwIdeal.main (F := Ideal))) ⟨m, fun _ => 0, g⟩ (fun r => ∀ c : Dev Cert.InKrFwIdeal.nD,
          r.2.mem ((c.tc : Thread Cert.InKrFwIdeal.nD Cert.InKrFwIdeal.τ).loc Cert.InKrFwIdeal.main_v0) = v0 c
          ∧ r.2.mem ((c.tc : Thread Cert.InKrFwIdeal.nD Cert.InKrFwIdeal.τ).loc Cert.InKrFwIdeal.main_arg0) = m ((c.tc : Thread Cert.InKrFwIdeal.nD Cert.InKrFwIdeal.τ).loc Cert.InKrFwIdeal.main_arg0)
          ∧ r.2.mem ((c.tc : Thread Cert.InKrFwIdeal.nD Cert.InKrFwIdeal.τ).loc Cert.InKrFwIdeal.main_arg1) = m ((c.tc : Thread Cert.InKrFwIdeal.nD Cert.InKrFwIdeal.τ).loc Cert.InKrFwIdeal.main_arg1))
      ∧ θ_run (Cert.InKrFwRefIdeal.defs (F := Ideal)) (onTc (τ := Cert.InKrFwRefIdeal.τ) (Cert.InKrFwRefIdeal.main (F := Ideal))) ⟨m', fun _ => 0, g'⟩ (fun r => ∀ c : Dev Cert.InKrFwRefIdeal.nD,
          r.2.mem ((c.tc : Thread Cert.InKrFwRefIdeal.nD Cert.InKrFwRefIdeal.τ).loc Cert.InKrFwRefIdeal.main_v2) = v0 c
          ∧ r.2.mem ((c.tc : Thread Cert.InKrFwRefIdeal.nD Cert.InKrFwRefIdeal.τ).loc Cert.InKrFwRefIdeal.main_arg0) = m' ((c.tc : Thread Cert.InKrFwRefIdeal.nD Cert.InKrFwRefIdeal.τ).loc Cert.InKrFwRefIdeal.main_arg0)
          ∧ r.2.mem ((c.tc : Thread Cert.InKrFwRefIdeal.nD Cert.InKrFwRefIdeal.τ).loc Cert.InKrFwRefIdeal.main_arg1) = m' ((c.tc : Thread Cert.InKrFwRefIdeal.nD Cert.InKrFwRefIdeal.τ).loc Cert.InKrFwRefIdeal.main_arg1))

def preserves_InSgFw_InSgFwIdeal : Prop :=
  True

def algebraic_InSgFwIdeal_InSgFwRefIdeal [hInSgFwIdeal : Cert.InSgFwIdeal.Facts] [hInSgFwRefIdeal : Cert.InSgFwRefIdeal.Facts] : Prop :=
  ∀ (m : (ℓ : Loc Cert.InSgFwIdeal.nD Cert.InSgFwIdeal.τ Cert.InSgFwIdeal.sig) → Buf (Elt Ideal) ℓ) (g : Dev Cert.InSgFwIdeal.nD → PrngReg)
    (m' : (ℓ : Loc Cert.InSgFwRefIdeal.nD Cert.InSgFwRefIdeal.τ Cert.InSgFwRefIdeal.sig) → Buf (Elt Ideal) ℓ) (g' : Dev Cert.InSgFwRefIdeal.nD → PrngReg), Pre_InSgFwIdeal m →
    (∀ c : Dev Cert.InSgFwIdeal.nD,
      m' ((c.tc : Thread Cert.InSgFwRefIdeal.nD Cert.InSgFwRefIdeal.τ).loc Cert.InSgFwRefIdeal.main_arg0) = m ((c.tc : Thread Cert.InSgFwIdeal.nD Cert.InSgFwIdeal.τ).loc Cert.InSgFwIdeal.main_arg0)
      ∧ m' ((c.tc : Thread Cert.InSgFwRefIdeal.nD Cert.InSgFwRefIdeal.τ).loc Cert.InSgFwRefIdeal.main_arg1) = m ((c.tc : Thread Cert.InSgFwIdeal.nD Cert.InSgFwIdeal.τ).loc Cert.InSgFwIdeal.main_arg1)) →
    ∃ (v0 : (c : Dev Cert.InSgFwIdeal.nD) → Buf (Elt Ideal) ((c.tc : Thread Cert.InSgFwIdeal.nD Cert.InSgFwIdeal.τ).loc Cert.InSgFwIdeal.main_v0)),
      θ_run (Cert.InSgFwIdeal.defs (F := Ideal)) (onTc (τ := Cert.InSgFwIdeal.τ) (Cert.InSgFwIdeal.main (F := Ideal))) ⟨m, fun _ => 0, g⟩ (fun r => ∀ c : Dev Cert.InSgFwIdeal.nD,
          r.2.mem ((c.tc : Thread Cert.InSgFwIdeal.nD Cert.InSgFwIdeal.τ).loc Cert.InSgFwIdeal.main_v0) = v0 c
          ∧ r.2.mem ((c.tc : Thread Cert.InSgFwIdeal.nD Cert.InSgFwIdeal.τ).loc Cert.InSgFwIdeal.main_arg0) = m ((c.tc : Thread Cert.InSgFwIdeal.nD Cert.InSgFwIdeal.τ).loc Cert.InSgFwIdeal.main_arg0)
          ∧ r.2.mem ((c.tc : Thread Cert.InSgFwIdeal.nD Cert.InSgFwIdeal.τ).loc Cert.InSgFwIdeal.main_arg1) = m ((c.tc : Thread Cert.InSgFwIdeal.nD Cert.InSgFwIdeal.τ).loc Cert.InSgFwIdeal.main_arg1))
      ∧ θ_run (Cert.InSgFwRefIdeal.defs (F := Ideal)) (onTc (τ := Cert.InSgFwRefIdeal.τ) (Cert.InSgFwRefIdeal.main (F := Ideal))) ⟨m', fun _ => 0, g'⟩ (fun r => ∀ c : Dev Cert.InSgFwRefIdeal.nD,
          r.2.mem ((c.tc : Thread Cert.InSgFwRefIdeal.nD Cert.InSgFwRefIdeal.τ).loc Cert.InSgFwRefIdeal.main_v2) = v0 c
          ∧ r.2.mem ((c.tc : Thread Cert.InSgFwRefIdeal.nD Cert.InSgFwRefIdeal.τ).loc Cert.InSgFwRefIdeal.main_arg0) = m' ((c.tc : Thread Cert.InSgFwRefIdeal.nD Cert.InSgFwRefIdeal.τ).loc Cert.InSgFwRefIdeal.main_arg0)
          ∧ r.2.mem ((c.tc : Thread Cert.InSgFwRefIdeal.nD Cert.InSgFwRefIdeal.τ).loc Cert.InSgFwRefIdeal.main_arg1) = m' ((c.tc : Thread Cert.InSgFwRefIdeal.nD Cert.InSgFwRefIdeal.τ).loc Cert.InSgFwRefIdeal.main_arg1))

def preserves_InRwFw_InRwFwIdeal : Prop :=
  True

def algebraic_InRwFwIdeal_InRwFwRefIdeal [hInRwFwIdeal : Cert.InRwFwIdeal.Facts] [hInRwFwRefIdeal : Cert.InRwFwRefIdeal.Facts] : Prop :=
  ∀ (m : (ℓ : Loc Cert.InRwFwIdeal.nD Cert.InRwFwIdeal.τ Cert.InRwFwIdeal.sig) → Buf (Elt Ideal) ℓ) (g : Dev Cert.InRwFwIdeal.nD → PrngReg)
    (m' : (ℓ : Loc Cert.InRwFwRefIdeal.nD Cert.InRwFwRefIdeal.τ Cert.InRwFwRefIdeal.sig) → Buf (Elt Ideal) ℓ) (g' : Dev Cert.InRwFwRefIdeal.nD → PrngReg), Pre_InRwFwIdeal m →
    (∀ c : Dev Cert.InRwFwIdeal.nD,
      m' ((c.tc : Thread Cert.InRwFwRefIdeal.nD Cert.InRwFwRefIdeal.τ).loc Cert.InRwFwRefIdeal.main_arg0) = m ((c.tc : Thread Cert.InRwFwIdeal.nD Cert.InRwFwIdeal.τ).loc Cert.InRwFwIdeal.main_arg0)
      ∧ m' ((c.tc : Thread Cert.InRwFwRefIdeal.nD Cert.InRwFwRefIdeal.τ).loc Cert.InRwFwRefIdeal.main_arg1) = m ((c.tc : Thread Cert.InRwFwIdeal.nD Cert.InRwFwIdeal.τ).loc Cert.InRwFwIdeal.main_arg1)) →
    ∃ (v0 : (c : Dev Cert.InRwFwIdeal.nD) → Buf (Elt Ideal) ((c.tc : Thread Cert.InRwFwIdeal.nD Cert.InRwFwIdeal.τ).loc Cert.InRwFwIdeal.main_v0)),
      θ_run (Cert.InRwFwIdeal.defs (F := Ideal)) (onTc (τ := Cert.InRwFwIdeal.τ) (Cert.InRwFwIdeal.main (F := Ideal))) ⟨m, fun _ => 0, g⟩ (fun r => ∀ c : Dev Cert.InRwFwIdeal.nD,
          r.2.mem ((c.tc : Thread Cert.InRwFwIdeal.nD Cert.InRwFwIdeal.τ).loc Cert.InRwFwIdeal.main_v0) = v0 c
          ∧ r.2.mem ((c.tc : Thread Cert.InRwFwIdeal.nD Cert.InRwFwIdeal.τ).loc Cert.InRwFwIdeal.main_arg0) = m ((c.tc : Thread Cert.InRwFwIdeal.nD Cert.InRwFwIdeal.τ).loc Cert.InRwFwIdeal.main_arg0)
          ∧ r.2.mem ((c.tc : Thread Cert.InRwFwIdeal.nD Cert.InRwFwIdeal.τ).loc Cert.InRwFwIdeal.main_arg1) = m ((c.tc : Thread Cert.InRwFwIdeal.nD Cert.InRwFwIdeal.τ).loc Cert.InRwFwIdeal.main_arg1))
      ∧ θ_run (Cert.InRwFwRefIdeal.defs (F := Ideal)) (onTc (τ := Cert.InRwFwRefIdeal.τ) (Cert.InRwFwRefIdeal.main (F := Ideal))) ⟨m', fun _ => 0, g'⟩ (fun r => ∀ c : Dev Cert.InRwFwRefIdeal.nD,
          r.2.mem ((c.tc : Thread Cert.InRwFwRefIdeal.nD Cert.InRwFwRefIdeal.τ).loc Cert.InRwFwRefIdeal.main_v2) = v0 c
          ∧ r.2.mem ((c.tc : Thread Cert.InRwFwRefIdeal.nD Cert.InRwFwRefIdeal.τ).loc Cert.InRwFwRefIdeal.main_arg0) = m' ((c.tc : Thread Cert.InRwFwRefIdeal.nD Cert.InRwFwRefIdeal.τ).loc Cert.InRwFwRefIdeal.main_arg0)
          ∧ r.2.mem ((c.tc : Thread Cert.InRwFwRefIdeal.nD Cert.InRwFwRefIdeal.τ).loc Cert.InRwFwRefIdeal.main_arg1) = m' ((c.tc : Thread Cert.InRwFwRefIdeal.nD Cert.InRwFwRefIdeal.τ).loc Cert.InRwFwRefIdeal.main_arg1))

def preserves_InGateFw_InGateFwIdeal : Prop :=
  True

def algebraic_InGateFwIdeal_InGateFwRefIdeal [hInGateFwIdeal : Cert.InGateFwIdeal.Facts] [hInGateFwRefIdeal : Cert.InGateFwRefIdeal.Facts] : Prop :=
  ∀ (m : (ℓ : Loc Cert.InGateFwIdeal.nD Cert.InGateFwIdeal.τ Cert.InGateFwIdeal.sig) → Buf (Elt Ideal) ℓ) (g : Dev Cert.InGateFwIdeal.nD → PrngReg)
    (m' : (ℓ : Loc Cert.InGateFwRefIdeal.nD Cert.InGateFwRefIdeal.τ Cert.InGateFwRefIdeal.sig) → Buf (Elt Ideal) ℓ) (g' : Dev Cert.InGateFwRefIdeal.nD → PrngReg), Pre_InGateFwIdeal m →
    (∀ c : Dev Cert.InGateFwIdeal.nD,
      m' ((c.tc : Thread Cert.InGateFwRefIdeal.nD Cert.InGateFwRefIdeal.τ).loc Cert.InGateFwRefIdeal.main_arg0) = m ((c.tc : Thread Cert.InGateFwIdeal.nD Cert.InGateFwIdeal.τ).loc Cert.InGateFwIdeal.main_arg0)
      ∧ m' ((c.tc : Thread Cert.InGateFwRefIdeal.nD Cert.InGateFwRefIdeal.τ).loc Cert.InGateFwRefIdeal.main_arg1) = m ((c.tc : Thread Cert.InGateFwIdeal.nD Cert.InGateFwIdeal.τ).loc Cert.InGateFwIdeal.main_arg1)) →
    ∃ (v0 : (c : Dev Cert.InGateFwIdeal.nD) → Buf (Elt Ideal) ((c.tc : Thread Cert.InGateFwIdeal.nD Cert.InGateFwIdeal.τ).loc Cert.InGateFwIdeal.main_v0)),
      θ_run (Cert.InGateFwIdeal.defs (F := Ideal)) (onTc (τ := Cert.InGateFwIdeal.τ) (Cert.InGateFwIdeal.main (F := Ideal))) ⟨m, fun _ => 0, g⟩ (fun r => ∀ c : Dev Cert.InGateFwIdeal.nD,
          r.2.mem ((c.tc : Thread Cert.InGateFwIdeal.nD Cert.InGateFwIdeal.τ).loc Cert.InGateFwIdeal.main_v0) = v0 c
          ∧ r.2.mem ((c.tc : Thread Cert.InGateFwIdeal.nD Cert.InGateFwIdeal.τ).loc Cert.InGateFwIdeal.main_arg0) = m ((c.tc : Thread Cert.InGateFwIdeal.nD Cert.InGateFwIdeal.τ).loc Cert.InGateFwIdeal.main_arg0)
          ∧ r.2.mem ((c.tc : Thread Cert.InGateFwIdeal.nD Cert.InGateFwIdeal.τ).loc Cert.InGateFwIdeal.main_arg1) = m ((c.tc : Thread Cert.InGateFwIdeal.nD Cert.InGateFwIdeal.τ).loc Cert.InGateFwIdeal.main_arg1))
      ∧ θ_run (Cert.InGateFwRefIdeal.defs (F := Ideal)) (onTc (τ := Cert.InGateFwRefIdeal.τ) (Cert.InGateFwRefIdeal.main (F := Ideal))) ⟨m', fun _ => 0, g'⟩ (fun r => ∀ c : Dev Cert.InGateFwRefIdeal.nD,
          r.2.mem ((c.tc : Thread Cert.InGateFwRefIdeal.nD Cert.InGateFwRefIdeal.τ).loc Cert.InGateFwRefIdeal.main_v2) = v0 c
          ∧ r.2.mem ((c.tc : Thread Cert.InGateFwRefIdeal.nD Cert.InGateFwRefIdeal.τ).loc Cert.InGateFwRefIdeal.main_arg0) = m' ((c.tc : Thread Cert.InGateFwRefIdeal.nD Cert.InGateFwRefIdeal.τ).loc Cert.InGateFwRefIdeal.main_arg0)
          ∧ r.2.mem ((c.tc : Thread Cert.InGateFwRefIdeal.nD Cert.InGateFwRefIdeal.τ).loc Cert.InGateFwRefIdeal.main_arg1) = m' ((c.tc : Thread Cert.InGateFwRefIdeal.nD Cert.InGateFwRefIdeal.τ).loc Cert.InGateFwRefIdeal.main_arg1))

def preserves_UqFw_UqFwIdeal : Prop :=
  True

def algebraic_UqFwIdeal_UqFwRefIdeal [hUqFwIdeal : Cert.UqFwIdeal.Facts] [hUqFwRefIdeal : Cert.UqFwRefIdeal.Facts] : Prop :=
  ∀ (m : (ℓ : Loc Cert.UqFwIdeal.nD Cert.UqFwIdeal.τ Cert.UqFwIdeal.sig) → Buf (Elt Ideal) ℓ) (g : Dev Cert.UqFwIdeal.nD → PrngReg)
    (m' : (ℓ : Loc Cert.UqFwRefIdeal.nD Cert.UqFwRefIdeal.τ Cert.UqFwRefIdeal.sig) → Buf (Elt Ideal) ℓ) (g' : Dev Cert.UqFwRefIdeal.nD → PrngReg), Pre_UqFwIdeal m →
    (∀ c : Dev Cert.UqFwIdeal.nD,
      m' ((c.tc : Thread Cert.UqFwRefIdeal.nD Cert.UqFwRefIdeal.τ).loc Cert.UqFwRefIdeal.main_arg0) = m ((c.tc : Thread Cert.UqFwIdeal.nD Cert.UqFwIdeal.τ).loc Cert.UqFwIdeal.main_arg0)
      ∧ m' ((c.tc : Thread Cert.UqFwRefIdeal.nD Cert.UqFwRefIdeal.τ).loc Cert.UqFwRefIdeal.main_arg1) = m ((c.tc : Thread Cert.UqFwIdeal.nD Cert.UqFwIdeal.τ).loc Cert.UqFwIdeal.main_arg1)) →
    ∃ (v0 : (c : Dev Cert.UqFwIdeal.nD) → Buf (Elt Ideal) ((c.tc : Thread Cert.UqFwIdeal.nD Cert.UqFwIdeal.τ).loc Cert.UqFwIdeal.main_v0)),
      θ_run (Cert.UqFwIdeal.defs (F := Ideal)) (onTc (τ := Cert.UqFwIdeal.τ) (Cert.UqFwIdeal.main (F := Ideal))) ⟨m, fun _ => 0, g⟩ (fun r => ∀ c : Dev Cert.UqFwIdeal.nD,
          r.2.mem ((c.tc : Thread Cert.UqFwIdeal.nD Cert.UqFwIdeal.τ).loc Cert.UqFwIdeal.main_v0) = v0 c
          ∧ r.2.mem ((c.tc : Thread Cert.UqFwIdeal.nD Cert.UqFwIdeal.τ).loc Cert.UqFwIdeal.main_arg0) = m ((c.tc : Thread Cert.UqFwIdeal.nD Cert.UqFwIdeal.τ).loc Cert.UqFwIdeal.main_arg0)
          ∧ r.2.mem ((c.tc : Thread Cert.UqFwIdeal.nD Cert.UqFwIdeal.τ).loc Cert.UqFwIdeal.main_arg1) = m ((c.tc : Thread Cert.UqFwIdeal.nD Cert.UqFwIdeal.τ).loc Cert.UqFwIdeal.main_arg1))
      ∧ θ_run (Cert.UqFwRefIdeal.defs (F := Ideal)) (onTc (τ := Cert.UqFwRefIdeal.τ) (Cert.UqFwRefIdeal.main (F := Ideal))) ⟨m', fun _ => 0, g'⟩ (fun r => ∀ c : Dev Cert.UqFwRefIdeal.nD,
          r.2.mem ((c.tc : Thread Cert.UqFwRefIdeal.nD Cert.UqFwRefIdeal.τ).loc Cert.UqFwRefIdeal.main_v2) = v0 c
          ∧ r.2.mem ((c.tc : Thread Cert.UqFwRefIdeal.nD Cert.UqFwRefIdeal.τ).loc Cert.UqFwRefIdeal.main_arg0) = m' ((c.tc : Thread Cert.UqFwRefIdeal.nD Cert.UqFwRefIdeal.τ).loc Cert.UqFwRefIdeal.main_arg0)
          ∧ r.2.mem ((c.tc : Thread Cert.UqFwRefIdeal.nD Cert.UqFwRefIdeal.τ).loc Cert.UqFwRefIdeal.main_arg1) = m' ((c.tc : Thread Cert.UqFwRefIdeal.nD Cert.UqFwRefIdeal.τ).loc Cert.UqFwRefIdeal.main_arg1))

def preserves_UkvFw_UkvFwIdeal : Prop :=
  True

def algebraic_UkvFwIdeal_UkvFwRefIdeal [hUkvFwIdeal : Cert.UkvFwIdeal.Facts] [hUkvFwRefIdeal : Cert.UkvFwRefIdeal.Facts] : Prop :=
  ∀ (m : (ℓ : Loc Cert.UkvFwIdeal.nD Cert.UkvFwIdeal.τ Cert.UkvFwIdeal.sig) → Buf (Elt Ideal) ℓ) (g : Dev Cert.UkvFwIdeal.nD → PrngReg)
    (m' : (ℓ : Loc Cert.UkvFwRefIdeal.nD Cert.UkvFwRefIdeal.τ Cert.UkvFwRefIdeal.sig) → Buf (Elt Ideal) ℓ) (g' : Dev Cert.UkvFwRefIdeal.nD → PrngReg), Pre_UkvFwIdeal m →
    (∀ c : Dev Cert.UkvFwIdeal.nD,
      m' ((c.tc : Thread Cert.UkvFwRefIdeal.nD Cert.UkvFwRefIdeal.τ).loc Cert.UkvFwRefIdeal.main_arg0) = m ((c.tc : Thread Cert.UkvFwIdeal.nD Cert.UkvFwIdeal.τ).loc Cert.UkvFwIdeal.main_arg0)
      ∧ m' ((c.tc : Thread Cert.UkvFwRefIdeal.nD Cert.UkvFwRefIdeal.τ).loc Cert.UkvFwRefIdeal.main_arg1) = m ((c.tc : Thread Cert.UkvFwIdeal.nD Cert.UkvFwIdeal.τ).loc Cert.UkvFwIdeal.main_arg1)) →
    ∃ (v0 : (c : Dev Cert.UkvFwIdeal.nD) → Buf (Elt Ideal) ((c.tc : Thread Cert.UkvFwIdeal.nD Cert.UkvFwIdeal.τ).loc Cert.UkvFwIdeal.main_v0)),
      θ_run (Cert.UkvFwIdeal.defs (F := Ideal)) (onTc (τ := Cert.UkvFwIdeal.τ) (Cert.UkvFwIdeal.main (F := Ideal))) ⟨m, fun _ => 0, g⟩ (fun r => ∀ c : Dev Cert.UkvFwIdeal.nD,
          r.2.mem ((c.tc : Thread Cert.UkvFwIdeal.nD Cert.UkvFwIdeal.τ).loc Cert.UkvFwIdeal.main_v0) = v0 c
          ∧ r.2.mem ((c.tc : Thread Cert.UkvFwIdeal.nD Cert.UkvFwIdeal.τ).loc Cert.UkvFwIdeal.main_arg0) = m ((c.tc : Thread Cert.UkvFwIdeal.nD Cert.UkvFwIdeal.τ).loc Cert.UkvFwIdeal.main_arg0)
          ∧ r.2.mem ((c.tc : Thread Cert.UkvFwIdeal.nD Cert.UkvFwIdeal.τ).loc Cert.UkvFwIdeal.main_arg1) = m ((c.tc : Thread Cert.UkvFwIdeal.nD Cert.UkvFwIdeal.τ).loc Cert.UkvFwIdeal.main_arg1))
      ∧ θ_run (Cert.UkvFwRefIdeal.defs (F := Ideal)) (onTc (τ := Cert.UkvFwRefIdeal.τ) (Cert.UkvFwRefIdeal.main (F := Ideal))) ⟨m', fun _ => 0, g'⟩ (fun r => ∀ c : Dev Cert.UkvFwRefIdeal.nD,
          r.2.mem ((c.tc : Thread Cert.UkvFwRefIdeal.nD Cert.UkvFwRefIdeal.τ).loc Cert.UkvFwRefIdeal.main_v2) = v0 c
          ∧ r.2.mem ((c.tc : Thread Cert.UkvFwRefIdeal.nD Cert.UkvFwRefIdeal.τ).loc Cert.UkvFwRefIdeal.main_arg0) = m' ((c.tc : Thread Cert.UkvFwRefIdeal.nD Cert.UkvFwRefIdeal.τ).loc Cert.UkvFwRefIdeal.main_arg0)
          ∧ r.2.mem ((c.tc : Thread Cert.UkvFwRefIdeal.nD Cert.UkvFwRefIdeal.τ).loc Cert.UkvFwRefIdeal.main_arg1) = m' ((c.tc : Thread Cert.UkvFwRefIdeal.nD Cert.UkvFwRefIdeal.τ).loc Cert.UkvFwRefIdeal.main_arg1))

def preserves_BranchAttnFw_BranchAttnFwIdeal : Prop :=
  True

def algebraic_BranchAttnFwIdeal_BranchAttnFwRefIdeal [hBranchAttnFwIdeal : Cert.BranchAttnFwIdeal.Facts] [hBranchAttnFwRefIdeal : Cert.BranchAttnFwRefIdeal.Facts] : Prop :=
  ∀ (m : (ℓ : Loc Cert.BranchAttnFwIdeal.nD Cert.BranchAttnFwIdeal.τ Cert.BranchAttnFwIdeal.sig) → Buf (Elt Ideal) ℓ) (g : Dev Cert.BranchAttnFwIdeal.nD → PrngReg)
    (m' : (ℓ : Loc Cert.BranchAttnFwRefIdeal.nD Cert.BranchAttnFwRefIdeal.τ Cert.BranchAttnFwRefIdeal.sig) → Buf (Elt Ideal) ℓ) (g' : Dev Cert.BranchAttnFwRefIdeal.nD → PrngReg), Pre_BranchAttnFwIdeal m →
    (∀ c : Dev Cert.BranchAttnFwIdeal.nD,
      m' ((c.tc : Thread Cert.BranchAttnFwRefIdeal.nD Cert.BranchAttnFwRefIdeal.τ).loc Cert.BranchAttnFwRefIdeal.main_arg0) = m ((c.tc : Thread Cert.BranchAttnFwIdeal.nD Cert.BranchAttnFwIdeal.τ).loc Cert.BranchAttnFwIdeal.main_arg0)
      ∧ m' ((c.tc : Thread Cert.BranchAttnFwRefIdeal.nD Cert.BranchAttnFwRefIdeal.τ).loc Cert.BranchAttnFwRefIdeal.main_arg1) = m ((c.tc : Thread Cert.BranchAttnFwIdeal.nD Cert.BranchAttnFwIdeal.τ).loc Cert.BranchAttnFwIdeal.main_arg1)) →
    ∃ (v0 : (c : Dev Cert.BranchAttnFwIdeal.nD) → Buf (Elt Ideal) ((c.tc : Thread Cert.BranchAttnFwIdeal.nD Cert.BranchAttnFwIdeal.τ).loc Cert.BranchAttnFwIdeal.main_v0)),
      θ_run (Cert.BranchAttnFwIdeal.defs (F := Ideal)) (onTc (τ := Cert.BranchAttnFwIdeal.τ) (Cert.BranchAttnFwIdeal.main (F := Ideal))) ⟨m, fun _ => 0, g⟩ (fun r => ∀ c : Dev Cert.BranchAttnFwIdeal.nD,
          r.2.mem ((c.tc : Thread Cert.BranchAttnFwIdeal.nD Cert.BranchAttnFwIdeal.τ).loc Cert.BranchAttnFwIdeal.main_v0) = v0 c
          ∧ r.2.mem ((c.tc : Thread Cert.BranchAttnFwIdeal.nD Cert.BranchAttnFwIdeal.τ).loc Cert.BranchAttnFwIdeal.main_arg0) = m ((c.tc : Thread Cert.BranchAttnFwIdeal.nD Cert.BranchAttnFwIdeal.τ).loc Cert.BranchAttnFwIdeal.main_arg0)
          ∧ r.2.mem ((c.tc : Thread Cert.BranchAttnFwIdeal.nD Cert.BranchAttnFwIdeal.τ).loc Cert.BranchAttnFwIdeal.main_arg1) = m ((c.tc : Thread Cert.BranchAttnFwIdeal.nD Cert.BranchAttnFwIdeal.τ).loc Cert.BranchAttnFwIdeal.main_arg1))
      ∧ θ_run (Cert.BranchAttnFwRefIdeal.defs (F := Ideal)) (onTc (τ := Cert.BranchAttnFwRefIdeal.τ) (Cert.BranchAttnFwRefIdeal.main (F := Ideal))) ⟨m', fun _ => 0, g'⟩ (fun r => ∀ c : Dev Cert.BranchAttnFwRefIdeal.nD,
          r.2.mem ((c.tc : Thread Cert.BranchAttnFwRefIdeal.nD Cert.BranchAttnFwRefIdeal.τ).loc Cert.BranchAttnFwRefIdeal.main_v2) = v0 c
          ∧ r.2.mem ((c.tc : Thread Cert.BranchAttnFwRefIdeal.nD Cert.BranchAttnFwRefIdeal.τ).loc Cert.BranchAttnFwRefIdeal.main_arg0) = m' ((c.tc : Thread Cert.BranchAttnFwRefIdeal.nD Cert.BranchAttnFwRefIdeal.τ).loc Cert.BranchAttnFwRefIdeal.main_arg0)
          ∧ r.2.mem ((c.tc : Thread Cert.BranchAttnFwRefIdeal.nD Cert.BranchAttnFwRefIdeal.τ).loc Cert.BranchAttnFwRefIdeal.main_arg1) = m' ((c.tc : Thread Cert.BranchAttnFwRefIdeal.nD Cert.BranchAttnFwRefIdeal.τ).loc Cert.BranchAttnFwRefIdeal.main_arg1))

def preserves_BranchFw_BranchFwIdeal : Prop :=
  True

def algebraic_BranchFwIdeal_BranchFwRefIdeal [hBranchFwIdeal : Cert.BranchFwIdeal.Facts] [hBranchFwRefIdeal : Cert.BranchFwRefIdeal.Facts] : Prop :=
  ∀ (m : (ℓ : Loc Cert.BranchFwIdeal.nD Cert.BranchFwIdeal.τ Cert.BranchFwIdeal.sig) → Buf (Elt Ideal) ℓ) (g : Dev Cert.BranchFwIdeal.nD → PrngReg)
    (m' : (ℓ : Loc Cert.BranchFwRefIdeal.nD Cert.BranchFwRefIdeal.τ Cert.BranchFwRefIdeal.sig) → Buf (Elt Ideal) ℓ) (g' : Dev Cert.BranchFwRefIdeal.nD → PrngReg), Pre_BranchFwIdeal m →
    (∀ c : Dev Cert.BranchFwIdeal.nD,
      m' ((c.tc : Thread Cert.BranchFwRefIdeal.nD Cert.BranchFwRefIdeal.τ).loc Cert.BranchFwRefIdeal.main_arg0) = m ((c.tc : Thread Cert.BranchFwIdeal.nD Cert.BranchFwIdeal.τ).loc Cert.BranchFwIdeal.main_arg0)
      ∧ m' ((c.tc : Thread Cert.BranchFwRefIdeal.nD Cert.BranchFwRefIdeal.τ).loc Cert.BranchFwRefIdeal.main_arg1) = m ((c.tc : Thread Cert.BranchFwIdeal.nD Cert.BranchFwIdeal.τ).loc Cert.BranchFwIdeal.main_arg1)) →
    ∃ (v0 : (c : Dev Cert.BranchFwIdeal.nD) → Buf (Elt Ideal) ((c.tc : Thread Cert.BranchFwIdeal.nD Cert.BranchFwIdeal.τ).loc Cert.BranchFwIdeal.main_v0)),
      θ_run (Cert.BranchFwIdeal.defs (F := Ideal)) (onTc (τ := Cert.BranchFwIdeal.τ) (Cert.BranchFwIdeal.main (F := Ideal))) ⟨m, fun _ => 0, g⟩ (fun r => ∀ c : Dev Cert.BranchFwIdeal.nD,
          r.2.mem ((c.tc : Thread Cert.BranchFwIdeal.nD Cert.BranchFwIdeal.τ).loc Cert.BranchFwIdeal.main_v0) = v0 c
          ∧ r.2.mem ((c.tc : Thread Cert.BranchFwIdeal.nD Cert.BranchFwIdeal.τ).loc Cert.BranchFwIdeal.main_arg0) = m ((c.tc : Thread Cert.BranchFwIdeal.nD Cert.BranchFwIdeal.τ).loc Cert.BranchFwIdeal.main_arg0)
          ∧ r.2.mem ((c.tc : Thread Cert.BranchFwIdeal.nD Cert.BranchFwIdeal.τ).loc Cert.BranchFwIdeal.main_arg1) = m ((c.tc : Thread Cert.BranchFwIdeal.nD Cert.BranchFwIdeal.τ).loc Cert.BranchFwIdeal.main_arg1))
      ∧ θ_run (Cert.BranchFwRefIdeal.defs (F := Ideal)) (onTc (τ := Cert.BranchFwRefIdeal.τ) (Cert.BranchFwRefIdeal.main (F := Ideal))) ⟨m', fun _ => 0, g'⟩ (fun r => ∀ c : Dev Cert.BranchFwRefIdeal.nD,
          r.2.mem ((c.tc : Thread Cert.BranchFwRefIdeal.nD Cert.BranchFwRefIdeal.τ).loc Cert.BranchFwRefIdeal.main_v2) = v0 c
          ∧ r.2.mem ((c.tc : Thread Cert.BranchFwRefIdeal.nD Cert.BranchFwRefIdeal.τ).loc Cert.BranchFwRefIdeal.main_arg0) = m' ((c.tc : Thread Cert.BranchFwRefIdeal.nD Cert.BranchFwRefIdeal.τ).loc Cert.BranchFwRefIdeal.main_arg0)
          ∧ r.2.mem ((c.tc : Thread Cert.BranchFwRefIdeal.nD Cert.BranchFwRefIdeal.τ).loc Cert.BranchFwRefIdeal.main_arg1) = m' ((c.tc : Thread Cert.BranchFwRefIdeal.nD Cert.BranchFwRefIdeal.τ).loc Cert.BranchFwRefIdeal.main_arg1))

def preserves_OutFw_OutFwIdeal : Prop :=
  True

def algebraic_OutFwIdeal_OutFwRefIdeal [hOutFwIdeal : Cert.OutFwIdeal.Facts] [hOutFwRefIdeal : Cert.OutFwRefIdeal.Facts] : Prop :=
  ∀ (m : (ℓ : Loc Cert.OutFwIdeal.nD Cert.OutFwIdeal.τ Cert.OutFwIdeal.sig) → Buf (Elt Ideal) ℓ) (g : Dev Cert.OutFwIdeal.nD → PrngReg)
    (m' : (ℓ : Loc Cert.OutFwRefIdeal.nD Cert.OutFwRefIdeal.τ Cert.OutFwRefIdeal.sig) → Buf (Elt Ideal) ℓ) (g' : Dev Cert.OutFwRefIdeal.nD → PrngReg), Pre_OutFwIdeal m →
    (∀ c : Dev Cert.OutFwIdeal.nD,
      m' ((c.tc : Thread Cert.OutFwRefIdeal.nD Cert.OutFwRefIdeal.τ).loc Cert.OutFwRefIdeal.main_arg0) = m ((c.tc : Thread Cert.OutFwIdeal.nD Cert.OutFwIdeal.τ).loc Cert.OutFwIdeal.main_arg0)
      ∧ m' ((c.tc : Thread Cert.OutFwRefIdeal.nD Cert.OutFwRefIdeal.τ).loc Cert.OutFwRefIdeal.main_arg1) = m ((c.tc : Thread Cert.OutFwIdeal.nD Cert.OutFwIdeal.τ).loc Cert.OutFwIdeal.main_arg1)
      ∧ m' ((c.tc : Thread Cert.OutFwRefIdeal.nD Cert.OutFwRefIdeal.τ).loc Cert.OutFwRefIdeal.main_arg2) = m ((c.tc : Thread Cert.OutFwIdeal.nD Cert.OutFwIdeal.τ).loc Cert.OutFwIdeal.main_arg2)) →
    ∃ (v0 : (c : Dev Cert.OutFwIdeal.nD) → Buf (Elt Ideal) ((c.tc : Thread Cert.OutFwIdeal.nD Cert.OutFwIdeal.τ).loc Cert.OutFwIdeal.main_v0)),
      θ_run (Cert.OutFwIdeal.defs (F := Ideal)) (onTc (τ := Cert.OutFwIdeal.τ) (Cert.OutFwIdeal.main (F := Ideal))) ⟨m, fun _ => 0, g⟩ (fun r => ∀ c : Dev Cert.OutFwIdeal.nD,
          r.2.mem ((c.tc : Thread Cert.OutFwIdeal.nD Cert.OutFwIdeal.τ).loc Cert.OutFwIdeal.main_v0) = v0 c
          ∧ r.2.mem ((c.tc : Thread Cert.OutFwIdeal.nD Cert.OutFwIdeal.τ).loc Cert.OutFwIdeal.main_arg0) = m ((c.tc : Thread Cert.OutFwIdeal.nD Cert.OutFwIdeal.τ).loc Cert.OutFwIdeal.main_arg0)
          ∧ r.2.mem ((c.tc : Thread Cert.OutFwIdeal.nD Cert.OutFwIdeal.τ).loc Cert.OutFwIdeal.main_arg1) = m ((c.tc : Thread Cert.OutFwIdeal.nD Cert.OutFwIdeal.τ).loc Cert.OutFwIdeal.main_arg1)
          ∧ r.2.mem ((c.tc : Thread Cert.OutFwIdeal.nD Cert.OutFwIdeal.τ).loc Cert.OutFwIdeal.main_arg2) = m ((c.tc : Thread Cert.OutFwIdeal.nD Cert.OutFwIdeal.τ).loc Cert.OutFwIdeal.main_arg2))
      ∧ θ_run (Cert.OutFwRefIdeal.defs (F := Ideal)) (onTc (τ := Cert.OutFwRefIdeal.τ) (Cert.OutFwRefIdeal.main (F := Ideal))) ⟨m', fun _ => 0, g'⟩ (fun r => ∀ c : Dev Cert.OutFwRefIdeal.nD,
          r.2.mem ((c.tc : Thread Cert.OutFwRefIdeal.nD Cert.OutFwRefIdeal.τ).loc Cert.OutFwRefIdeal.main_v3) = v0 c
          ∧ r.2.mem ((c.tc : Thread Cert.OutFwRefIdeal.nD Cert.OutFwRefIdeal.τ).loc Cert.OutFwRefIdeal.main_arg0) = m' ((c.tc : Thread Cert.OutFwRefIdeal.nD Cert.OutFwRefIdeal.τ).loc Cert.OutFwRefIdeal.main_arg0)
          ∧ r.2.mem ((c.tc : Thread Cert.OutFwRefIdeal.nD Cert.OutFwRefIdeal.τ).loc Cert.OutFwRefIdeal.main_arg1) = m' ((c.tc : Thread Cert.OutFwRefIdeal.nD Cert.OutFwRefIdeal.τ).loc Cert.OutFwRefIdeal.main_arg1)
          ∧ r.2.mem ((c.tc : Thread Cert.OutFwRefIdeal.nD Cert.OutFwRefIdeal.τ).loc Cert.OutFwRefIdeal.main_arg2) = m' ((c.tc : Thread Cert.OutFwRefIdeal.nD Cert.OutFwRefIdeal.τ).loc Cert.OutFwRefIdeal.main_arg2))

def preserves_FfnInFw_FfnInFwIdeal : Prop :=
  True

def algebraic_FfnInFwIdeal_FfnInFwRefIdeal [hFfnInFwIdeal : Cert.FfnInFwIdeal.Facts] [hFfnInFwRefIdeal : Cert.FfnInFwRefIdeal.Facts] : Prop :=
  ∀ (m : (ℓ : Loc Cert.FfnInFwIdeal.nD Cert.FfnInFwIdeal.τ Cert.FfnInFwIdeal.sig) → Buf (Elt Ideal) ℓ) (g : Dev Cert.FfnInFwIdeal.nD → PrngReg)
    (m' : (ℓ : Loc Cert.FfnInFwRefIdeal.nD Cert.FfnInFwRefIdeal.τ Cert.FfnInFwRefIdeal.sig) → Buf (Elt Ideal) ℓ) (g' : Dev Cert.FfnInFwRefIdeal.nD → PrngReg), Pre_FfnInFwIdeal m →
    (∀ c : Dev Cert.FfnInFwIdeal.nD,
      m' ((c.tc : Thread Cert.FfnInFwRefIdeal.nD Cert.FfnInFwRefIdeal.τ).loc Cert.FfnInFwRefIdeal.main_arg0) = m ((c.tc : Thread Cert.FfnInFwIdeal.nD Cert.FfnInFwIdeal.τ).loc Cert.FfnInFwIdeal.main_arg0)
      ∧ m' ((c.tc : Thread Cert.FfnInFwRefIdeal.nD Cert.FfnInFwRefIdeal.τ).loc Cert.FfnInFwRefIdeal.main_arg1) = m ((c.tc : Thread Cert.FfnInFwIdeal.nD Cert.FfnInFwIdeal.τ).loc Cert.FfnInFwIdeal.main_arg1)) →
    ∃ (v0 : (c : Dev Cert.FfnInFwIdeal.nD) → Buf (Elt Ideal) ((c.tc : Thread Cert.FfnInFwIdeal.nD Cert.FfnInFwIdeal.τ).loc Cert.FfnInFwIdeal.main_v0)),
      θ_run (Cert.FfnInFwIdeal.defs (F := Ideal)) (onTc (τ := Cert.FfnInFwIdeal.τ) (Cert.FfnInFwIdeal.main (F := Ideal))) ⟨m, fun _ => 0, g⟩ (fun r => ∀ c : Dev Cert.FfnInFwIdeal.nD,
          r.2.mem ((c.tc : Thread Cert.FfnInFwIdeal.nD Cert.FfnInFwIdeal.τ).loc Cert.FfnInFwIdeal.main_v0) = v0 c
          ∧ r.2.mem ((c.tc : Thread Cert.FfnInFwIdeal.nD Cert.FfnInFwIdeal.τ).loc Cert.FfnInFwIdeal.main_arg0) = m ((c.tc : Thread Cert.FfnInFwIdeal.nD Cert.FfnInFwIdeal.τ).loc Cert.FfnInFwIdeal.main_arg0)
          ∧ r.2.mem ((c.tc : Thread Cert.FfnInFwIdeal.nD Cert.FfnInFwIdeal.τ).loc Cert.FfnInFwIdeal.main_arg1) = m ((c.tc : Thread Cert.FfnInFwIdeal.nD Cert.FfnInFwIdeal.τ).loc Cert.FfnInFwIdeal.main_arg1))
      ∧ θ_run (Cert.FfnInFwRefIdeal.defs (F := Ideal)) (onTc (τ := Cert.FfnInFwRefIdeal.τ) (Cert.FfnInFwRefIdeal.main (F := Ideal))) ⟨m', fun _ => 0, g'⟩ (fun r => ∀ c : Dev Cert.FfnInFwRefIdeal.nD,
          r.2.mem ((c.tc : Thread Cert.FfnInFwRefIdeal.nD Cert.FfnInFwRefIdeal.τ).loc Cert.FfnInFwRefIdeal.main_v2) = v0 c
          ∧ r.2.mem ((c.tc : Thread Cert.FfnInFwRefIdeal.nD Cert.FfnInFwRefIdeal.τ).loc Cert.FfnInFwRefIdeal.main_arg0) = m' ((c.tc : Thread Cert.FfnInFwRefIdeal.nD Cert.FfnInFwRefIdeal.τ).loc Cert.FfnInFwRefIdeal.main_arg0)
          ∧ r.2.mem ((c.tc : Thread Cert.FfnInFwRefIdeal.nD Cert.FfnInFwRefIdeal.τ).loc Cert.FfnInFwRefIdeal.main_arg1) = m' ((c.tc : Thread Cert.FfnInFwRefIdeal.nD Cert.FfnInFwRefIdeal.τ).loc Cert.FfnInFwRefIdeal.main_arg1))

def preserves_FfnOutFw_FfnOutFwIdeal : Prop :=
  True

def algebraic_FfnOutFwIdeal_FfnOutFwRefIdeal [hFfnOutFwIdeal : Cert.FfnOutFwIdeal.Facts] [hFfnOutFwRefIdeal : Cert.FfnOutFwRefIdeal.Facts] : Prop :=
  ∀ (m : (ℓ : Loc Cert.FfnOutFwIdeal.nD Cert.FfnOutFwIdeal.τ Cert.FfnOutFwIdeal.sig) → Buf (Elt Ideal) ℓ) (g : Dev Cert.FfnOutFwIdeal.nD → PrngReg)
    (m' : (ℓ : Loc Cert.FfnOutFwRefIdeal.nD Cert.FfnOutFwRefIdeal.τ Cert.FfnOutFwRefIdeal.sig) → Buf (Elt Ideal) ℓ) (g' : Dev Cert.FfnOutFwRefIdeal.nD → PrngReg), Pre_FfnOutFwIdeal m →
    (∀ c : Dev Cert.FfnOutFwIdeal.nD,
      m' ((c.tc : Thread Cert.FfnOutFwRefIdeal.nD Cert.FfnOutFwRefIdeal.τ).loc Cert.FfnOutFwRefIdeal.main_arg0) = m ((c.tc : Thread Cert.FfnOutFwIdeal.nD Cert.FfnOutFwIdeal.τ).loc Cert.FfnOutFwIdeal.main_arg0)
      ∧ m' ((c.tc : Thread Cert.FfnOutFwRefIdeal.nD Cert.FfnOutFwRefIdeal.τ).loc Cert.FfnOutFwRefIdeal.main_arg1) = m ((c.tc : Thread Cert.FfnOutFwIdeal.nD Cert.FfnOutFwIdeal.τ).loc Cert.FfnOutFwIdeal.main_arg1)
      ∧ m' ((c.tc : Thread Cert.FfnOutFwRefIdeal.nD Cert.FfnOutFwRefIdeal.τ).loc Cert.FfnOutFwRefIdeal.main_arg2) = m ((c.tc : Thread Cert.FfnOutFwIdeal.nD Cert.FfnOutFwIdeal.τ).loc Cert.FfnOutFwIdeal.main_arg2)) →
    ∃ (v0 : (c : Dev Cert.FfnOutFwIdeal.nD) → Buf (Elt Ideal) ((c.tc : Thread Cert.FfnOutFwIdeal.nD Cert.FfnOutFwIdeal.τ).loc Cert.FfnOutFwIdeal.main_v0)),
      θ_run (Cert.FfnOutFwIdeal.defs (F := Ideal)) (onTc (τ := Cert.FfnOutFwIdeal.τ) (Cert.FfnOutFwIdeal.main (F := Ideal))) ⟨m, fun _ => 0, g⟩ (fun r => ∀ c : Dev Cert.FfnOutFwIdeal.nD,
          r.2.mem ((c.tc : Thread Cert.FfnOutFwIdeal.nD Cert.FfnOutFwIdeal.τ).loc Cert.FfnOutFwIdeal.main_v0) = v0 c
          ∧ r.2.mem ((c.tc : Thread Cert.FfnOutFwIdeal.nD Cert.FfnOutFwIdeal.τ).loc Cert.FfnOutFwIdeal.main_arg0) = m ((c.tc : Thread Cert.FfnOutFwIdeal.nD Cert.FfnOutFwIdeal.τ).loc Cert.FfnOutFwIdeal.main_arg0)
          ∧ r.2.mem ((c.tc : Thread Cert.FfnOutFwIdeal.nD Cert.FfnOutFwIdeal.τ).loc Cert.FfnOutFwIdeal.main_arg1) = m ((c.tc : Thread Cert.FfnOutFwIdeal.nD Cert.FfnOutFwIdeal.τ).loc Cert.FfnOutFwIdeal.main_arg1)
          ∧ r.2.mem ((c.tc : Thread Cert.FfnOutFwIdeal.nD Cert.FfnOutFwIdeal.τ).loc Cert.FfnOutFwIdeal.main_arg2) = m ((c.tc : Thread Cert.FfnOutFwIdeal.nD Cert.FfnOutFwIdeal.τ).loc Cert.FfnOutFwIdeal.main_arg2))
      ∧ θ_run (Cert.FfnOutFwRefIdeal.defs (F := Ideal)) (onTc (τ := Cert.FfnOutFwRefIdeal.τ) (Cert.FfnOutFwRefIdeal.main (F := Ideal))) ⟨m', fun _ => 0, g'⟩ (fun r => ∀ c : Dev Cert.FfnOutFwRefIdeal.nD,
          r.2.mem ((c.tc : Thread Cert.FfnOutFwRefIdeal.nD Cert.FfnOutFwRefIdeal.τ).loc Cert.FfnOutFwRefIdeal.main_v3) = v0 c
          ∧ r.2.mem ((c.tc : Thread Cert.FfnOutFwRefIdeal.nD Cert.FfnOutFwRefIdeal.τ).loc Cert.FfnOutFwRefIdeal.main_arg0) = m' ((c.tc : Thread Cert.FfnOutFwRefIdeal.nD Cert.FfnOutFwRefIdeal.τ).loc Cert.FfnOutFwRefIdeal.main_arg0)
          ∧ r.2.mem ((c.tc : Thread Cert.FfnOutFwRefIdeal.nD Cert.FfnOutFwRefIdeal.τ).loc Cert.FfnOutFwRefIdeal.main_arg1) = m' ((c.tc : Thread Cert.FfnOutFwRefIdeal.nD Cert.FfnOutFwRefIdeal.τ).loc Cert.FfnOutFwRefIdeal.main_arg1)
          ∧ r.2.mem ((c.tc : Thread Cert.FfnOutFwRefIdeal.nD Cert.FfnOutFwRefIdeal.τ).loc Cert.FfnOutFwRefIdeal.main_arg2) = m' ((c.tc : Thread Cert.FfnOutFwRefIdeal.nD Cert.FfnOutFwRefIdeal.τ).loc Cert.FfnOutFwRefIdeal.main_arg2))

def preserves_AdamWIn_AdamWInIdeal : Prop :=
  True

def algebraic_AdamWInIdeal_AdamWInRefIdeal [hAdamWInIdeal : Cert.AdamWInIdeal.Facts] [hAdamWInRefIdeal : Cert.AdamWInRefIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg)
    (m' : (ℓ : Loc Cert.AdamWInRefIdeal.nD Cert.AdamWInRefIdeal.τ Cert.AdamWInRefIdeal.sig) → Buf (Elt Ideal) ℓ) (g' : Dev Cert.AdamWInRefIdeal.nD → PrngReg), Pre_AdamWInIdeal m →
    (∀ c : Dev Cert.AdamWInIdeal.nD,
      m' ((c.tc : Thread Cert.AdamWInRefIdeal.nD Cert.AdamWInRefIdeal.τ).loc Cert.AdamWInRefIdeal.main_arg0) = m ((c.tc : Thread Cert.AdamWInIdeal.nD Cert.AdamWInIdeal.τ).loc Cert.AdamWInIdeal.main_arg0)
      ∧ m' ((c.tc : Thread Cert.AdamWInRefIdeal.nD Cert.AdamWInRefIdeal.τ).loc Cert.AdamWInRefIdeal.main_arg1) = m ((c.tc : Thread Cert.AdamWInIdeal.nD Cert.AdamWInIdeal.τ).loc Cert.AdamWInIdeal.main_arg1)
      ∧ m' ((c.tc : Thread Cert.AdamWInRefIdeal.nD Cert.AdamWInRefIdeal.τ).loc Cert.AdamWInRefIdeal.main_arg2) = m ((c.tc : Thread Cert.AdamWInIdeal.nD Cert.AdamWInIdeal.τ).loc Cert.AdamWInIdeal.main_arg2)
      ∧ m' ((c.tc : Thread Cert.AdamWInRefIdeal.nD Cert.AdamWInRefIdeal.τ).loc Cert.AdamWInRefIdeal.main_arg3) = m ((c.tc : Thread Cert.AdamWInIdeal.nD Cert.AdamWInIdeal.τ).loc Cert.AdamWInIdeal.main_arg3)) →
    ∃ (v0 : (c : Dev Cert.AdamWInIdeal.nD) → Buf (Elt Ideal) ((c.tc : Thread Cert.AdamWInIdeal.nD Cert.AdamWInIdeal.τ).loc Cert.AdamWInIdeal.main_v4_0)) (v1 : (c : Dev Cert.AdamWInIdeal.nD) → Buf (Elt Ideal) ((c.tc : Thread Cert.AdamWInIdeal.nD Cert.AdamWInIdeal.τ).loc Cert.AdamWInIdeal.main_v4_1)) (v2 : (c : Dev Cert.AdamWInIdeal.nD) → Buf (Elt Ideal) ((c.tc : Thread Cert.AdamWInIdeal.nD Cert.AdamWInIdeal.τ).loc Cert.AdamWInIdeal.main_v4_2)),
      θ_run (Cert.AdamWInIdeal.defs (F := Ideal)) (onTc (τ := Cert.AdamWInIdeal.τ) (Cert.AdamWInIdeal.main (F := Ideal))) ⟨m, fun _ => 0, g⟩ (fun r => ∀ c : Dev Cert.AdamWInIdeal.nD,
          r.2.mem ((c.tc : Thread Cert.AdamWInIdeal.nD Cert.AdamWInIdeal.τ).loc Cert.AdamWInIdeal.main_v4_0) = v0 c
          ∧ r.2.mem ((c.tc : Thread Cert.AdamWInIdeal.nD Cert.AdamWInIdeal.τ).loc Cert.AdamWInIdeal.main_v4_1) = v1 c
          ∧ r.2.mem ((c.tc : Thread Cert.AdamWInIdeal.nD Cert.AdamWInIdeal.τ).loc Cert.AdamWInIdeal.main_v4_2) = v2 c
          ∧ r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
          ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
          ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
          ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3))
      ∧ θ_run (Cert.AdamWInRefIdeal.defs (F := Ideal)) (onTc (τ := Cert.AdamWInRefIdeal.τ) (Cert.AdamWInRefIdeal.main (F := Ideal))) ⟨m', fun _ => 0, g'⟩ (fun r => ∀ c : Dev Cert.AdamWInRefIdeal.nD,
          r.2.mem ((c.tc : Thread Cert.AdamWInRefIdeal.nD Cert.AdamWInRefIdeal.τ).loc Cert.AdamWInRefIdeal.main_v24) = v0 c
          ∧ r.2.mem ((c.tc : Thread Cert.AdamWInRefIdeal.nD Cert.AdamWInRefIdeal.τ).loc Cert.AdamWInRefIdeal.main_v25) = v1 c
          ∧ r.2.mem ((c.tc : Thread Cert.AdamWInRefIdeal.nD Cert.AdamWInRefIdeal.τ).loc Cert.AdamWInRefIdeal.main_v26) = v2 c
          ∧ r.2.mem ((c.tc : Thread Cert.AdamWInRefIdeal.nD Cert.AdamWInRefIdeal.τ).loc Cert.AdamWInRefIdeal.main_arg0) = m' ((c.tc : Thread Cert.AdamWInRefIdeal.nD Cert.AdamWInRefIdeal.τ).loc Cert.AdamWInRefIdeal.main_arg0)
          ∧ r.2.mem ((c.tc : Thread Cert.AdamWInRefIdeal.nD Cert.AdamWInRefIdeal.τ).loc Cert.AdamWInRefIdeal.main_arg1) = m' ((c.tc : Thread Cert.AdamWInRefIdeal.nD Cert.AdamWInRefIdeal.τ).loc Cert.AdamWInRefIdeal.main_arg1)
          ∧ r.2.mem ((c.tc : Thread Cert.AdamWInRefIdeal.nD Cert.AdamWInRefIdeal.τ).loc Cert.AdamWInRefIdeal.main_arg2) = m' ((c.tc : Thread Cert.AdamWInRefIdeal.nD Cert.AdamWInRefIdeal.τ).loc Cert.AdamWInRefIdeal.main_arg2)
          ∧ r.2.mem ((c.tc : Thread Cert.AdamWInRefIdeal.nD Cert.AdamWInRefIdeal.τ).loc Cert.AdamWInRefIdeal.main_arg3) = m' ((c.tc : Thread Cert.AdamWInRefIdeal.nD Cert.AdamWInRefIdeal.τ).loc Cert.AdamWInRefIdeal.main_arg3))

def preserves_AdamWUq_AdamWUqIdeal : Prop :=
  True

def algebraic_AdamWUqIdeal_AdamWUqRefIdeal [hAdamWUqIdeal : Cert.AdamWUqIdeal.Facts] [hAdamWUqRefIdeal : Cert.AdamWUqRefIdeal.Facts] : Prop :=
  ∀ (m : (ℓ : Loc Cert.AdamWUqIdeal.nD Cert.AdamWUqIdeal.τ Cert.AdamWUqIdeal.sig) → Buf (Elt Ideal) ℓ) (g : Dev Cert.AdamWUqIdeal.nD → PrngReg)
    (m' : (ℓ : Loc Cert.AdamWUqRefIdeal.nD Cert.AdamWUqRefIdeal.τ Cert.AdamWUqRefIdeal.sig) → Buf (Elt Ideal) ℓ) (g' : Dev Cert.AdamWUqRefIdeal.nD → PrngReg), Pre_AdamWUqIdeal m →
    (∀ c : Dev Cert.AdamWUqIdeal.nD,
      m' ((c.tc : Thread Cert.AdamWUqRefIdeal.nD Cert.AdamWUqRefIdeal.τ).loc Cert.AdamWUqRefIdeal.main_arg0) = m ((c.tc : Thread Cert.AdamWUqIdeal.nD Cert.AdamWUqIdeal.τ).loc Cert.AdamWUqIdeal.main_arg0)
      ∧ m' ((c.tc : Thread Cert.AdamWUqRefIdeal.nD Cert.AdamWUqRefIdeal.τ).loc Cert.AdamWUqRefIdeal.main_arg1) = m ((c.tc : Thread Cert.AdamWUqIdeal.nD Cert.AdamWUqIdeal.τ).loc Cert.AdamWUqIdeal.main_arg1)
      ∧ m' ((c.tc : Thread Cert.AdamWUqRefIdeal.nD Cert.AdamWUqRefIdeal.τ).loc Cert.AdamWUqRefIdeal.main_arg2) = m ((c.tc : Thread Cert.AdamWUqIdeal.nD Cert.AdamWUqIdeal.τ).loc Cert.AdamWUqIdeal.main_arg2)
      ∧ m' ((c.tc : Thread Cert.AdamWUqRefIdeal.nD Cert.AdamWUqRefIdeal.τ).loc Cert.AdamWUqRefIdeal.main_arg3) = m ((c.tc : Thread Cert.AdamWUqIdeal.nD Cert.AdamWUqIdeal.τ).loc Cert.AdamWUqIdeal.main_arg3)) →
    ∃ (v0 : (c : Dev Cert.AdamWUqIdeal.nD) → Buf (Elt Ideal) ((c.tc : Thread Cert.AdamWUqIdeal.nD Cert.AdamWUqIdeal.τ).loc Cert.AdamWUqIdeal.main_v4_0)) (v1 : (c : Dev Cert.AdamWUqIdeal.nD) → Buf (Elt Ideal) ((c.tc : Thread Cert.AdamWUqIdeal.nD Cert.AdamWUqIdeal.τ).loc Cert.AdamWUqIdeal.main_v4_1)) (v2 : (c : Dev Cert.AdamWUqIdeal.nD) → Buf (Elt Ideal) ((c.tc : Thread Cert.AdamWUqIdeal.nD Cert.AdamWUqIdeal.τ).loc Cert.AdamWUqIdeal.main_v4_2)),
      θ_run (Cert.AdamWUqIdeal.defs (F := Ideal)) (onTc (τ := Cert.AdamWUqIdeal.τ) (Cert.AdamWUqIdeal.main (F := Ideal))) ⟨m, fun _ => 0, g⟩ (fun r => ∀ c : Dev Cert.AdamWUqIdeal.nD,
          r.2.mem ((c.tc : Thread Cert.AdamWUqIdeal.nD Cert.AdamWUqIdeal.τ).loc Cert.AdamWUqIdeal.main_v4_0) = v0 c
          ∧ r.2.mem ((c.tc : Thread Cert.AdamWUqIdeal.nD Cert.AdamWUqIdeal.τ).loc Cert.AdamWUqIdeal.main_v4_1) = v1 c
          ∧ r.2.mem ((c.tc : Thread Cert.AdamWUqIdeal.nD Cert.AdamWUqIdeal.τ).loc Cert.AdamWUqIdeal.main_v4_2) = v2 c
          ∧ r.2.mem ((c.tc : Thread Cert.AdamWUqIdeal.nD Cert.AdamWUqIdeal.τ).loc Cert.AdamWUqIdeal.main_arg0) = m ((c.tc : Thread Cert.AdamWUqIdeal.nD Cert.AdamWUqIdeal.τ).loc Cert.AdamWUqIdeal.main_arg0)
          ∧ r.2.mem ((c.tc : Thread Cert.AdamWUqIdeal.nD Cert.AdamWUqIdeal.τ).loc Cert.AdamWUqIdeal.main_arg1) = m ((c.tc : Thread Cert.AdamWUqIdeal.nD Cert.AdamWUqIdeal.τ).loc Cert.AdamWUqIdeal.main_arg1)
          ∧ r.2.mem ((c.tc : Thread Cert.AdamWUqIdeal.nD Cert.AdamWUqIdeal.τ).loc Cert.AdamWUqIdeal.main_arg2) = m ((c.tc : Thread Cert.AdamWUqIdeal.nD Cert.AdamWUqIdeal.τ).loc Cert.AdamWUqIdeal.main_arg2)
          ∧ r.2.mem ((c.tc : Thread Cert.AdamWUqIdeal.nD Cert.AdamWUqIdeal.τ).loc Cert.AdamWUqIdeal.main_arg3) = m ((c.tc : Thread Cert.AdamWUqIdeal.nD Cert.AdamWUqIdeal.τ).loc Cert.AdamWUqIdeal.main_arg3))
      ∧ θ_run (Cert.AdamWUqRefIdeal.defs (F := Ideal)) (onTc (τ := Cert.AdamWUqRefIdeal.τ) (Cert.AdamWUqRefIdeal.main (F := Ideal))) ⟨m', fun _ => 0, g'⟩ (fun r => ∀ c : Dev Cert.AdamWUqRefIdeal.nD,
          r.2.mem ((c.tc : Thread Cert.AdamWUqRefIdeal.nD Cert.AdamWUqRefIdeal.τ).loc Cert.AdamWUqRefIdeal.main_v24) = v0 c
          ∧ r.2.mem ((c.tc : Thread Cert.AdamWUqRefIdeal.nD Cert.AdamWUqRefIdeal.τ).loc Cert.AdamWUqRefIdeal.main_v25) = v1 c
          ∧ r.2.mem ((c.tc : Thread Cert.AdamWUqRefIdeal.nD Cert.AdamWUqRefIdeal.τ).loc Cert.AdamWUqRefIdeal.main_v26) = v2 c
          ∧ r.2.mem ((c.tc : Thread Cert.AdamWUqRefIdeal.nD Cert.AdamWUqRefIdeal.τ).loc Cert.AdamWUqRefIdeal.main_arg0) = m' ((c.tc : Thread Cert.AdamWUqRefIdeal.nD Cert.AdamWUqRefIdeal.τ).loc Cert.AdamWUqRefIdeal.main_arg0)
          ∧ r.2.mem ((c.tc : Thread Cert.AdamWUqRefIdeal.nD Cert.AdamWUqRefIdeal.τ).loc Cert.AdamWUqRefIdeal.main_arg1) = m' ((c.tc : Thread Cert.AdamWUqRefIdeal.nD Cert.AdamWUqRefIdeal.τ).loc Cert.AdamWUqRefIdeal.main_arg1)
          ∧ r.2.mem ((c.tc : Thread Cert.AdamWUqRefIdeal.nD Cert.AdamWUqRefIdeal.τ).loc Cert.AdamWUqRefIdeal.main_arg2) = m' ((c.tc : Thread Cert.AdamWUqRefIdeal.nD Cert.AdamWUqRefIdeal.τ).loc Cert.AdamWUqRefIdeal.main_arg2)
          ∧ r.2.mem ((c.tc : Thread Cert.AdamWUqRefIdeal.nD Cert.AdamWUqRefIdeal.τ).loc Cert.AdamWUqRefIdeal.main_arg3) = m' ((c.tc : Thread Cert.AdamWUqRefIdeal.nD Cert.AdamWUqRefIdeal.τ).loc Cert.AdamWUqRefIdeal.main_arg3))

def preserves_AdamWUkv_AdamWUkvIdeal : Prop :=
  True

def algebraic_AdamWUkvIdeal_AdamWUkvRefIdeal [hAdamWUkvIdeal : Cert.AdamWUkvIdeal.Facts] [hAdamWUkvRefIdeal : Cert.AdamWUkvRefIdeal.Facts] : Prop :=
  ∀ (m : (ℓ : Loc Cert.AdamWUkvIdeal.nD Cert.AdamWUkvIdeal.τ Cert.AdamWUkvIdeal.sig) → Buf (Elt Ideal) ℓ) (g : Dev Cert.AdamWUkvIdeal.nD → PrngReg)
    (m' : (ℓ : Loc Cert.AdamWUkvRefIdeal.nD Cert.AdamWUkvRefIdeal.τ Cert.AdamWUkvRefIdeal.sig) → Buf (Elt Ideal) ℓ) (g' : Dev Cert.AdamWUkvRefIdeal.nD → PrngReg), Pre_AdamWUkvIdeal m →
    (∀ c : Dev Cert.AdamWUkvIdeal.nD,
      m' ((c.tc : Thread Cert.AdamWUkvRefIdeal.nD Cert.AdamWUkvRefIdeal.τ).loc Cert.AdamWUkvRefIdeal.main_arg0) = m ((c.tc : Thread Cert.AdamWUkvIdeal.nD Cert.AdamWUkvIdeal.τ).loc Cert.AdamWUkvIdeal.main_arg0)
      ∧ m' ((c.tc : Thread Cert.AdamWUkvRefIdeal.nD Cert.AdamWUkvRefIdeal.τ).loc Cert.AdamWUkvRefIdeal.main_arg1) = m ((c.tc : Thread Cert.AdamWUkvIdeal.nD Cert.AdamWUkvIdeal.τ).loc Cert.AdamWUkvIdeal.main_arg1)
      ∧ m' ((c.tc : Thread Cert.AdamWUkvRefIdeal.nD Cert.AdamWUkvRefIdeal.τ).loc Cert.AdamWUkvRefIdeal.main_arg2) = m ((c.tc : Thread Cert.AdamWUkvIdeal.nD Cert.AdamWUkvIdeal.τ).loc Cert.AdamWUkvIdeal.main_arg2)
      ∧ m' ((c.tc : Thread Cert.AdamWUkvRefIdeal.nD Cert.AdamWUkvRefIdeal.τ).loc Cert.AdamWUkvRefIdeal.main_arg3) = m ((c.tc : Thread Cert.AdamWUkvIdeal.nD Cert.AdamWUkvIdeal.τ).loc Cert.AdamWUkvIdeal.main_arg3)) →
    ∃ (v0 : (c : Dev Cert.AdamWUkvIdeal.nD) → Buf (Elt Ideal) ((c.tc : Thread Cert.AdamWUkvIdeal.nD Cert.AdamWUkvIdeal.τ).loc Cert.AdamWUkvIdeal.main_v4_0)) (v1 : (c : Dev Cert.AdamWUkvIdeal.nD) → Buf (Elt Ideal) ((c.tc : Thread Cert.AdamWUkvIdeal.nD Cert.AdamWUkvIdeal.τ).loc Cert.AdamWUkvIdeal.main_v4_1)) (v2 : (c : Dev Cert.AdamWUkvIdeal.nD) → Buf (Elt Ideal) ((c.tc : Thread Cert.AdamWUkvIdeal.nD Cert.AdamWUkvIdeal.τ).loc Cert.AdamWUkvIdeal.main_v4_2)),
      θ_run (Cert.AdamWUkvIdeal.defs (F := Ideal)) (onTc (τ := Cert.AdamWUkvIdeal.τ) (Cert.AdamWUkvIdeal.main (F := Ideal))) ⟨m, fun _ => 0, g⟩ (fun r => ∀ c : Dev Cert.AdamWUkvIdeal.nD,
          r.2.mem ((c.tc : Thread Cert.AdamWUkvIdeal.nD Cert.AdamWUkvIdeal.τ).loc Cert.AdamWUkvIdeal.main_v4_0) = v0 c
          ∧ r.2.mem ((c.tc : Thread Cert.AdamWUkvIdeal.nD Cert.AdamWUkvIdeal.τ).loc Cert.AdamWUkvIdeal.main_v4_1) = v1 c
          ∧ r.2.mem ((c.tc : Thread Cert.AdamWUkvIdeal.nD Cert.AdamWUkvIdeal.τ).loc Cert.AdamWUkvIdeal.main_v4_2) = v2 c
          ∧ r.2.mem ((c.tc : Thread Cert.AdamWUkvIdeal.nD Cert.AdamWUkvIdeal.τ).loc Cert.AdamWUkvIdeal.main_arg0) = m ((c.tc : Thread Cert.AdamWUkvIdeal.nD Cert.AdamWUkvIdeal.τ).loc Cert.AdamWUkvIdeal.main_arg0)
          ∧ r.2.mem ((c.tc : Thread Cert.AdamWUkvIdeal.nD Cert.AdamWUkvIdeal.τ).loc Cert.AdamWUkvIdeal.main_arg1) = m ((c.tc : Thread Cert.AdamWUkvIdeal.nD Cert.AdamWUkvIdeal.τ).loc Cert.AdamWUkvIdeal.main_arg1)
          ∧ r.2.mem ((c.tc : Thread Cert.AdamWUkvIdeal.nD Cert.AdamWUkvIdeal.τ).loc Cert.AdamWUkvIdeal.main_arg2) = m ((c.tc : Thread Cert.AdamWUkvIdeal.nD Cert.AdamWUkvIdeal.τ).loc Cert.AdamWUkvIdeal.main_arg2)
          ∧ r.2.mem ((c.tc : Thread Cert.AdamWUkvIdeal.nD Cert.AdamWUkvIdeal.τ).loc Cert.AdamWUkvIdeal.main_arg3) = m ((c.tc : Thread Cert.AdamWUkvIdeal.nD Cert.AdamWUkvIdeal.τ).loc Cert.AdamWUkvIdeal.main_arg3))
      ∧ θ_run (Cert.AdamWUkvRefIdeal.defs (F := Ideal)) (onTc (τ := Cert.AdamWUkvRefIdeal.τ) (Cert.AdamWUkvRefIdeal.main (F := Ideal))) ⟨m', fun _ => 0, g'⟩ (fun r => ∀ c : Dev Cert.AdamWUkvRefIdeal.nD,
          r.2.mem ((c.tc : Thread Cert.AdamWUkvRefIdeal.nD Cert.AdamWUkvRefIdeal.τ).loc Cert.AdamWUkvRefIdeal.main_v24) = v0 c
          ∧ r.2.mem ((c.tc : Thread Cert.AdamWUkvRefIdeal.nD Cert.AdamWUkvRefIdeal.τ).loc Cert.AdamWUkvRefIdeal.main_v25) = v1 c
          ∧ r.2.mem ((c.tc : Thread Cert.AdamWUkvRefIdeal.nD Cert.AdamWUkvRefIdeal.τ).loc Cert.AdamWUkvRefIdeal.main_v26) = v2 c
          ∧ r.2.mem ((c.tc : Thread Cert.AdamWUkvRefIdeal.nD Cert.AdamWUkvRefIdeal.τ).loc Cert.AdamWUkvRefIdeal.main_arg0) = m' ((c.tc : Thread Cert.AdamWUkvRefIdeal.nD Cert.AdamWUkvRefIdeal.τ).loc Cert.AdamWUkvRefIdeal.main_arg0)
          ∧ r.2.mem ((c.tc : Thread Cert.AdamWUkvRefIdeal.nD Cert.AdamWUkvRefIdeal.τ).loc Cert.AdamWUkvRefIdeal.main_arg1) = m' ((c.tc : Thread Cert.AdamWUkvRefIdeal.nD Cert.AdamWUkvRefIdeal.τ).loc Cert.AdamWUkvRefIdeal.main_arg1)
          ∧ r.2.mem ((c.tc : Thread Cert.AdamWUkvRefIdeal.nD Cert.AdamWUkvRefIdeal.τ).loc Cert.AdamWUkvRefIdeal.main_arg2) = m' ((c.tc : Thread Cert.AdamWUkvRefIdeal.nD Cert.AdamWUkvRefIdeal.τ).loc Cert.AdamWUkvRefIdeal.main_arg2)
          ∧ r.2.mem ((c.tc : Thread Cert.AdamWUkvRefIdeal.nD Cert.AdamWUkvRefIdeal.τ).loc Cert.AdamWUkvRefIdeal.main_arg3) = m' ((c.tc : Thread Cert.AdamWUkvRefIdeal.nD Cert.AdamWUkvRefIdeal.τ).loc Cert.AdamWUkvRefIdeal.main_arg3))

def preserves_AdamRwW2_AdamRwW2Ideal : Prop :=
  True

def algebraic_AdamRwW2Ideal_AdamRwW2RefIdeal [hAdamRwW2Ideal : Cert.AdamRwW2Ideal.Facts] [hAdamRwW2RefIdeal : Cert.AdamRwW2RefIdeal.Facts] : Prop :=
  ∀ (m : (ℓ : Loc Cert.AdamRwW2Ideal.nD Cert.AdamRwW2Ideal.τ Cert.AdamRwW2Ideal.sig) → Buf (Elt Ideal) ℓ) (g : Dev Cert.AdamRwW2Ideal.nD → PrngReg)
    (m' : (ℓ : Loc Cert.AdamRwW2RefIdeal.nD Cert.AdamRwW2RefIdeal.τ Cert.AdamRwW2RefIdeal.sig) → Buf (Elt Ideal) ℓ) (g' : Dev Cert.AdamRwW2RefIdeal.nD → PrngReg), Pre_AdamRwW2Ideal m →
    (∀ c : Dev Cert.AdamRwW2Ideal.nD,
      m' ((c.tc : Thread Cert.AdamRwW2RefIdeal.nD Cert.AdamRwW2RefIdeal.τ).loc Cert.AdamRwW2RefIdeal.main_arg0) = m ((c.tc : Thread Cert.AdamRwW2Ideal.nD Cert.AdamRwW2Ideal.τ).loc Cert.AdamRwW2Ideal.main_arg0)
      ∧ m' ((c.tc : Thread Cert.AdamRwW2RefIdeal.nD Cert.AdamRwW2RefIdeal.τ).loc Cert.AdamRwW2RefIdeal.main_arg1) = m ((c.tc : Thread Cert.AdamRwW2Ideal.nD Cert.AdamRwW2Ideal.τ).loc Cert.AdamRwW2Ideal.main_arg1)
      ∧ m' ((c.tc : Thread Cert.AdamRwW2RefIdeal.nD Cert.AdamRwW2RefIdeal.τ).loc Cert.AdamRwW2RefIdeal.main_arg2) = m ((c.tc : Thread Cert.AdamRwW2Ideal.nD Cert.AdamRwW2Ideal.τ).loc Cert.AdamRwW2Ideal.main_arg2)
      ∧ m' ((c.tc : Thread Cert.AdamRwW2RefIdeal.nD Cert.AdamRwW2RefIdeal.τ).loc Cert.AdamRwW2RefIdeal.main_arg3) = m ((c.tc : Thread Cert.AdamRwW2Ideal.nD Cert.AdamRwW2Ideal.τ).loc Cert.AdamRwW2Ideal.main_arg3)) →
    ∃ (v0 : (c : Dev Cert.AdamRwW2Ideal.nD) → Buf (Elt Ideal) ((c.tc : Thread Cert.AdamRwW2Ideal.nD Cert.AdamRwW2Ideal.τ).loc Cert.AdamRwW2Ideal.main_v4_0)) (v1 : (c : Dev Cert.AdamRwW2Ideal.nD) → Buf (Elt Ideal) ((c.tc : Thread Cert.AdamRwW2Ideal.nD Cert.AdamRwW2Ideal.τ).loc Cert.AdamRwW2Ideal.main_v4_1)) (v2 : (c : Dev Cert.AdamRwW2Ideal.nD) → Buf (Elt Ideal) ((c.tc : Thread Cert.AdamRwW2Ideal.nD Cert.AdamRwW2Ideal.τ).loc Cert.AdamRwW2Ideal.main_v4_2)),
      θ_run (Cert.AdamRwW2Ideal.defs (F := Ideal)) (onTc (τ := Cert.AdamRwW2Ideal.τ) (Cert.AdamRwW2Ideal.main (F := Ideal))) ⟨m, fun _ => 0, g⟩ (fun r => ∀ c : Dev Cert.AdamRwW2Ideal.nD,
          r.2.mem ((c.tc : Thread Cert.AdamRwW2Ideal.nD Cert.AdamRwW2Ideal.τ).loc Cert.AdamRwW2Ideal.main_v4_0) = v0 c
          ∧ r.2.mem ((c.tc : Thread Cert.AdamRwW2Ideal.nD Cert.AdamRwW2Ideal.τ).loc Cert.AdamRwW2Ideal.main_v4_1) = v1 c
          ∧ r.2.mem ((c.tc : Thread Cert.AdamRwW2Ideal.nD Cert.AdamRwW2Ideal.τ).loc Cert.AdamRwW2Ideal.main_v4_2) = v2 c
          ∧ r.2.mem ((c.tc : Thread Cert.AdamRwW2Ideal.nD Cert.AdamRwW2Ideal.τ).loc Cert.AdamRwW2Ideal.main_arg0) = m ((c.tc : Thread Cert.AdamRwW2Ideal.nD Cert.AdamRwW2Ideal.τ).loc Cert.AdamRwW2Ideal.main_arg0)
          ∧ r.2.mem ((c.tc : Thread Cert.AdamRwW2Ideal.nD Cert.AdamRwW2Ideal.τ).loc Cert.AdamRwW2Ideal.main_arg1) = m ((c.tc : Thread Cert.AdamRwW2Ideal.nD Cert.AdamRwW2Ideal.τ).loc Cert.AdamRwW2Ideal.main_arg1)
          ∧ r.2.mem ((c.tc : Thread Cert.AdamRwW2Ideal.nD Cert.AdamRwW2Ideal.τ).loc Cert.AdamRwW2Ideal.main_arg2) = m ((c.tc : Thread Cert.AdamRwW2Ideal.nD Cert.AdamRwW2Ideal.τ).loc Cert.AdamRwW2Ideal.main_arg2)
          ∧ r.2.mem ((c.tc : Thread Cert.AdamRwW2Ideal.nD Cert.AdamRwW2Ideal.τ).loc Cert.AdamRwW2Ideal.main_arg3) = m ((c.tc : Thread Cert.AdamRwW2Ideal.nD Cert.AdamRwW2Ideal.τ).loc Cert.AdamRwW2Ideal.main_arg3))
      ∧ θ_run (Cert.AdamRwW2RefIdeal.defs (F := Ideal)) (onTc (τ := Cert.AdamRwW2RefIdeal.τ) (Cert.AdamRwW2RefIdeal.main (F := Ideal))) ⟨m', fun _ => 0, g'⟩ (fun r => ∀ c : Dev Cert.AdamRwW2RefIdeal.nD,
          r.2.mem ((c.tc : Thread Cert.AdamRwW2RefIdeal.nD Cert.AdamRwW2RefIdeal.τ).loc Cert.AdamRwW2RefIdeal.main_v24) = v0 c
          ∧ r.2.mem ((c.tc : Thread Cert.AdamRwW2RefIdeal.nD Cert.AdamRwW2RefIdeal.τ).loc Cert.AdamRwW2RefIdeal.main_v25) = v1 c
          ∧ r.2.mem ((c.tc : Thread Cert.AdamRwW2RefIdeal.nD Cert.AdamRwW2RefIdeal.τ).loc Cert.AdamRwW2RefIdeal.main_v26) = v2 c
          ∧ r.2.mem ((c.tc : Thread Cert.AdamRwW2RefIdeal.nD Cert.AdamRwW2RefIdeal.τ).loc Cert.AdamRwW2RefIdeal.main_arg0) = m' ((c.tc : Thread Cert.AdamRwW2RefIdeal.nD Cert.AdamRwW2RefIdeal.τ).loc Cert.AdamRwW2RefIdeal.main_arg0)
          ∧ r.2.mem ((c.tc : Thread Cert.AdamRwW2RefIdeal.nD Cert.AdamRwW2RefIdeal.τ).loc Cert.AdamRwW2RefIdeal.main_arg1) = m' ((c.tc : Thread Cert.AdamRwW2RefIdeal.nD Cert.AdamRwW2RefIdeal.τ).loc Cert.AdamRwW2RefIdeal.main_arg1)
          ∧ r.2.mem ((c.tc : Thread Cert.AdamRwW2RefIdeal.nD Cert.AdamRwW2RefIdeal.τ).loc Cert.AdamRwW2RefIdeal.main_arg2) = m' ((c.tc : Thread Cert.AdamRwW2RefIdeal.nD Cert.AdamRwW2RefIdeal.τ).loc Cert.AdamRwW2RefIdeal.main_arg2)
          ∧ r.2.mem ((c.tc : Thread Cert.AdamRwW2RefIdeal.nD Cert.AdamRwW2RefIdeal.τ).loc Cert.AdamRwW2RefIdeal.main_arg3) = m' ((c.tc : Thread Cert.AdamRwW2RefIdeal.nD Cert.AdamRwW2RefIdeal.τ).loc Cert.AdamRwW2RefIdeal.main_arg3))

def preserves_AdamRwA2_AdamRwA2Ideal : Prop :=
  True

def algebraic_AdamRwA2Ideal_AdamRwA2RefIdeal [hAdamRwA2Ideal : Cert.AdamRwA2Ideal.Facts] [hAdamRwA2RefIdeal : Cert.AdamRwA2RefIdeal.Facts] : Prop :=
  ∀ (m : (ℓ : Loc Cert.AdamRwA2Ideal.nD Cert.AdamRwA2Ideal.τ Cert.AdamRwA2Ideal.sig) → Buf (Elt Ideal) ℓ) (g : Dev Cert.AdamRwA2Ideal.nD → PrngReg)
    (m' : (ℓ : Loc Cert.AdamRwA2RefIdeal.nD Cert.AdamRwA2RefIdeal.τ Cert.AdamRwA2RefIdeal.sig) → Buf (Elt Ideal) ℓ) (g' : Dev Cert.AdamRwA2RefIdeal.nD → PrngReg), Pre_AdamRwA2Ideal m →
    (∀ c : Dev Cert.AdamRwA2Ideal.nD,
      m' ((c.tc : Thread Cert.AdamRwA2RefIdeal.nD Cert.AdamRwA2RefIdeal.τ).loc Cert.AdamRwA2RefIdeal.main_arg0) = m ((c.tc : Thread Cert.AdamRwA2Ideal.nD Cert.AdamRwA2Ideal.τ).loc Cert.AdamRwA2Ideal.main_arg0)
      ∧ m' ((c.tc : Thread Cert.AdamRwA2RefIdeal.nD Cert.AdamRwA2RefIdeal.τ).loc Cert.AdamRwA2RefIdeal.main_arg1) = m ((c.tc : Thread Cert.AdamRwA2Ideal.nD Cert.AdamRwA2Ideal.τ).loc Cert.AdamRwA2Ideal.main_arg1)
      ∧ m' ((c.tc : Thread Cert.AdamRwA2RefIdeal.nD Cert.AdamRwA2RefIdeal.τ).loc Cert.AdamRwA2RefIdeal.main_arg2) = m ((c.tc : Thread Cert.AdamRwA2Ideal.nD Cert.AdamRwA2Ideal.τ).loc Cert.AdamRwA2Ideal.main_arg2)
      ∧ m' ((c.tc : Thread Cert.AdamRwA2RefIdeal.nD Cert.AdamRwA2RefIdeal.τ).loc Cert.AdamRwA2RefIdeal.main_arg3) = m ((c.tc : Thread Cert.AdamRwA2Ideal.nD Cert.AdamRwA2Ideal.τ).loc Cert.AdamRwA2Ideal.main_arg3)) →
    ∃ (v0 : (c : Dev Cert.AdamRwA2Ideal.nD) → Buf (Elt Ideal) ((c.tc : Thread Cert.AdamRwA2Ideal.nD Cert.AdamRwA2Ideal.τ).loc Cert.AdamRwA2Ideal.main_v4_0)) (v1 : (c : Dev Cert.AdamRwA2Ideal.nD) → Buf (Elt Ideal) ((c.tc : Thread Cert.AdamRwA2Ideal.nD Cert.AdamRwA2Ideal.τ).loc Cert.AdamRwA2Ideal.main_v4_1)) (v2 : (c : Dev Cert.AdamRwA2Ideal.nD) → Buf (Elt Ideal) ((c.tc : Thread Cert.AdamRwA2Ideal.nD Cert.AdamRwA2Ideal.τ).loc Cert.AdamRwA2Ideal.main_v4_2)),
      θ_run (Cert.AdamRwA2Ideal.defs (F := Ideal)) (onTc (τ := Cert.AdamRwA2Ideal.τ) (Cert.AdamRwA2Ideal.main (F := Ideal))) ⟨m, fun _ => 0, g⟩ (fun r => ∀ c : Dev Cert.AdamRwA2Ideal.nD,
          r.2.mem ((c.tc : Thread Cert.AdamRwA2Ideal.nD Cert.AdamRwA2Ideal.τ).loc Cert.AdamRwA2Ideal.main_v4_0) = v0 c
          ∧ r.2.mem ((c.tc : Thread Cert.AdamRwA2Ideal.nD Cert.AdamRwA2Ideal.τ).loc Cert.AdamRwA2Ideal.main_v4_1) = v1 c
          ∧ r.2.mem ((c.tc : Thread Cert.AdamRwA2Ideal.nD Cert.AdamRwA2Ideal.τ).loc Cert.AdamRwA2Ideal.main_v4_2) = v2 c
          ∧ r.2.mem ((c.tc : Thread Cert.AdamRwA2Ideal.nD Cert.AdamRwA2Ideal.τ).loc Cert.AdamRwA2Ideal.main_arg0) = m ((c.tc : Thread Cert.AdamRwA2Ideal.nD Cert.AdamRwA2Ideal.τ).loc Cert.AdamRwA2Ideal.main_arg0)
          ∧ r.2.mem ((c.tc : Thread Cert.AdamRwA2Ideal.nD Cert.AdamRwA2Ideal.τ).loc Cert.AdamRwA2Ideal.main_arg1) = m ((c.tc : Thread Cert.AdamRwA2Ideal.nD Cert.AdamRwA2Ideal.τ).loc Cert.AdamRwA2Ideal.main_arg1)
          ∧ r.2.mem ((c.tc : Thread Cert.AdamRwA2Ideal.nD Cert.AdamRwA2Ideal.τ).loc Cert.AdamRwA2Ideal.main_arg2) = m ((c.tc : Thread Cert.AdamRwA2Ideal.nD Cert.AdamRwA2Ideal.τ).loc Cert.AdamRwA2Ideal.main_arg2)
          ∧ r.2.mem ((c.tc : Thread Cert.AdamRwA2Ideal.nD Cert.AdamRwA2Ideal.τ).loc Cert.AdamRwA2Ideal.main_arg3) = m ((c.tc : Thread Cert.AdamRwA2Ideal.nD Cert.AdamRwA2Ideal.τ).loc Cert.AdamRwA2Ideal.main_arg3))
      ∧ θ_run (Cert.AdamRwA2RefIdeal.defs (F := Ideal)) (onTc (τ := Cert.AdamRwA2RefIdeal.τ) (Cert.AdamRwA2RefIdeal.main (F := Ideal))) ⟨m', fun _ => 0, g'⟩ (fun r => ∀ c : Dev Cert.AdamRwA2RefIdeal.nD,
          r.2.mem ((c.tc : Thread Cert.AdamRwA2RefIdeal.nD Cert.AdamRwA2RefIdeal.τ).loc Cert.AdamRwA2RefIdeal.main_v24) = v0 c
          ∧ r.2.mem ((c.tc : Thread Cert.AdamRwA2RefIdeal.nD Cert.AdamRwA2RefIdeal.τ).loc Cert.AdamRwA2RefIdeal.main_v25) = v1 c
          ∧ r.2.mem ((c.tc : Thread Cert.AdamRwA2RefIdeal.nD Cert.AdamRwA2RefIdeal.τ).loc Cert.AdamRwA2RefIdeal.main_v26) = v2 c
          ∧ r.2.mem ((c.tc : Thread Cert.AdamRwA2RefIdeal.nD Cert.AdamRwA2RefIdeal.τ).loc Cert.AdamRwA2RefIdeal.main_arg0) = m' ((c.tc : Thread Cert.AdamRwA2RefIdeal.nD Cert.AdamRwA2RefIdeal.τ).loc Cert.AdamRwA2RefIdeal.main_arg0)
          ∧ r.2.mem ((c.tc : Thread Cert.AdamRwA2RefIdeal.nD Cert.AdamRwA2RefIdeal.τ).loc Cert.AdamRwA2RefIdeal.main_arg1) = m' ((c.tc : Thread Cert.AdamRwA2RefIdeal.nD Cert.AdamRwA2RefIdeal.τ).loc Cert.AdamRwA2RefIdeal.main_arg1)
          ∧ r.2.mem ((c.tc : Thread Cert.AdamRwA2RefIdeal.nD Cert.AdamRwA2RefIdeal.τ).loc Cert.AdamRwA2RefIdeal.main_arg2) = m' ((c.tc : Thread Cert.AdamRwA2RefIdeal.nD Cert.AdamRwA2RefIdeal.τ).loc Cert.AdamRwA2RefIdeal.main_arg2)
          ∧ r.2.mem ((c.tc : Thread Cert.AdamRwA2RefIdeal.nD Cert.AdamRwA2RefIdeal.τ).loc Cert.AdamRwA2RefIdeal.main_arg3) = m' ((c.tc : Thread Cert.AdamRwA2RefIdeal.nD Cert.AdamRwA2RefIdeal.τ).loc Cert.AdamRwA2RefIdeal.main_arg3))

def preserves_AdamRwG2_AdamRwG2Ideal : Prop :=
  True

def algebraic_AdamRwG2Ideal_AdamRwG2RefIdeal [hAdamRwG2Ideal : Cert.AdamRwG2Ideal.Facts] [hAdamRwG2RefIdeal : Cert.AdamRwG2RefIdeal.Facts] : Prop :=
  ∀ (m : (ℓ : Loc Cert.AdamRwG2Ideal.nD Cert.AdamRwG2Ideal.τ Cert.AdamRwG2Ideal.sig) → Buf (Elt Ideal) ℓ) (g : Dev Cert.AdamRwG2Ideal.nD → PrngReg)
    (m' : (ℓ : Loc Cert.AdamRwG2RefIdeal.nD Cert.AdamRwG2RefIdeal.τ Cert.AdamRwG2RefIdeal.sig) → Buf (Elt Ideal) ℓ) (g' : Dev Cert.AdamRwG2RefIdeal.nD → PrngReg), Pre_AdamRwG2Ideal m →
    (∀ c : Dev Cert.AdamRwG2Ideal.nD,
      m' ((c.tc : Thread Cert.AdamRwG2RefIdeal.nD Cert.AdamRwG2RefIdeal.τ).loc Cert.AdamRwG2RefIdeal.main_arg0) = m ((c.tc : Thread Cert.AdamRwG2Ideal.nD Cert.AdamRwG2Ideal.τ).loc Cert.AdamRwG2Ideal.main_arg0)
      ∧ m' ((c.tc : Thread Cert.AdamRwG2RefIdeal.nD Cert.AdamRwG2RefIdeal.τ).loc Cert.AdamRwG2RefIdeal.main_arg1) = m ((c.tc : Thread Cert.AdamRwG2Ideal.nD Cert.AdamRwG2Ideal.τ).loc Cert.AdamRwG2Ideal.main_arg1)
      ∧ m' ((c.tc : Thread Cert.AdamRwG2RefIdeal.nD Cert.AdamRwG2RefIdeal.τ).loc Cert.AdamRwG2RefIdeal.main_arg2) = m ((c.tc : Thread Cert.AdamRwG2Ideal.nD Cert.AdamRwG2Ideal.τ).loc Cert.AdamRwG2Ideal.main_arg2)
      ∧ m' ((c.tc : Thread Cert.AdamRwG2RefIdeal.nD Cert.AdamRwG2RefIdeal.τ).loc Cert.AdamRwG2RefIdeal.main_arg3) = m ((c.tc : Thread Cert.AdamRwG2Ideal.nD Cert.AdamRwG2Ideal.τ).loc Cert.AdamRwG2Ideal.main_arg3)) →
    ∃ (v0 : (c : Dev Cert.AdamRwG2Ideal.nD) → Buf (Elt Ideal) ((c.tc : Thread Cert.AdamRwG2Ideal.nD Cert.AdamRwG2Ideal.τ).loc Cert.AdamRwG2Ideal.main_v4_0)) (v1 : (c : Dev Cert.AdamRwG2Ideal.nD) → Buf (Elt Ideal) ((c.tc : Thread Cert.AdamRwG2Ideal.nD Cert.AdamRwG2Ideal.τ).loc Cert.AdamRwG2Ideal.main_v4_1)) (v2 : (c : Dev Cert.AdamRwG2Ideal.nD) → Buf (Elt Ideal) ((c.tc : Thread Cert.AdamRwG2Ideal.nD Cert.AdamRwG2Ideal.τ).loc Cert.AdamRwG2Ideal.main_v4_2)),
      θ_run (Cert.AdamRwG2Ideal.defs (F := Ideal)) (onTc (τ := Cert.AdamRwG2Ideal.τ) (Cert.AdamRwG2Ideal.main (F := Ideal))) ⟨m, fun _ => 0, g⟩ (fun r => ∀ c : Dev Cert.AdamRwG2Ideal.nD,
          r.2.mem ((c.tc : Thread Cert.AdamRwG2Ideal.nD Cert.AdamRwG2Ideal.τ).loc Cert.AdamRwG2Ideal.main_v4_0) = v0 c
          ∧ r.2.mem ((c.tc : Thread Cert.AdamRwG2Ideal.nD Cert.AdamRwG2Ideal.τ).loc Cert.AdamRwG2Ideal.main_v4_1) = v1 c
          ∧ r.2.mem ((c.tc : Thread Cert.AdamRwG2Ideal.nD Cert.AdamRwG2Ideal.τ).loc Cert.AdamRwG2Ideal.main_v4_2) = v2 c
          ∧ r.2.mem ((c.tc : Thread Cert.AdamRwG2Ideal.nD Cert.AdamRwG2Ideal.τ).loc Cert.AdamRwG2Ideal.main_arg0) = m ((c.tc : Thread Cert.AdamRwG2Ideal.nD Cert.AdamRwG2Ideal.τ).loc Cert.AdamRwG2Ideal.main_arg0)
          ∧ r.2.mem ((c.tc : Thread Cert.AdamRwG2Ideal.nD Cert.AdamRwG2Ideal.τ).loc Cert.AdamRwG2Ideal.main_arg1) = m ((c.tc : Thread Cert.AdamRwG2Ideal.nD Cert.AdamRwG2Ideal.τ).loc Cert.AdamRwG2Ideal.main_arg1)
          ∧ r.2.mem ((c.tc : Thread Cert.AdamRwG2Ideal.nD Cert.AdamRwG2Ideal.τ).loc Cert.AdamRwG2Ideal.main_arg2) = m ((c.tc : Thread Cert.AdamRwG2Ideal.nD Cert.AdamRwG2Ideal.τ).loc Cert.AdamRwG2Ideal.main_arg2)
          ∧ r.2.mem ((c.tc : Thread Cert.AdamRwG2Ideal.nD Cert.AdamRwG2Ideal.τ).loc Cert.AdamRwG2Ideal.main_arg3) = m ((c.tc : Thread Cert.AdamRwG2Ideal.nD Cert.AdamRwG2Ideal.τ).loc Cert.AdamRwG2Ideal.main_arg3))
      ∧ θ_run (Cert.AdamRwG2RefIdeal.defs (F := Ideal)) (onTc (τ := Cert.AdamRwG2RefIdeal.τ) (Cert.AdamRwG2RefIdeal.main (F := Ideal))) ⟨m', fun _ => 0, g'⟩ (fun r => ∀ c : Dev Cert.AdamRwG2RefIdeal.nD,
          r.2.mem ((c.tc : Thread Cert.AdamRwG2RefIdeal.nD Cert.AdamRwG2RefIdeal.τ).loc Cert.AdamRwG2RefIdeal.main_v24) = v0 c
          ∧ r.2.mem ((c.tc : Thread Cert.AdamRwG2RefIdeal.nD Cert.AdamRwG2RefIdeal.τ).loc Cert.AdamRwG2RefIdeal.main_v25) = v1 c
          ∧ r.2.mem ((c.tc : Thread Cert.AdamRwG2RefIdeal.nD Cert.AdamRwG2RefIdeal.τ).loc Cert.AdamRwG2RefIdeal.main_v26) = v2 c
          ∧ r.2.mem ((c.tc : Thread Cert.AdamRwG2RefIdeal.nD Cert.AdamRwG2RefIdeal.τ).loc Cert.AdamRwG2RefIdeal.main_arg0) = m' ((c.tc : Thread Cert.AdamRwG2RefIdeal.nD Cert.AdamRwG2RefIdeal.τ).loc Cert.AdamRwG2RefIdeal.main_arg0)
          ∧ r.2.mem ((c.tc : Thread Cert.AdamRwG2RefIdeal.nD Cert.AdamRwG2RefIdeal.τ).loc Cert.AdamRwG2RefIdeal.main_arg1) = m' ((c.tc : Thread Cert.AdamRwG2RefIdeal.nD Cert.AdamRwG2RefIdeal.τ).loc Cert.AdamRwG2RefIdeal.main_arg1)
          ∧ r.2.mem ((c.tc : Thread Cert.AdamRwG2RefIdeal.nD Cert.AdamRwG2RefIdeal.τ).loc Cert.AdamRwG2RefIdeal.main_arg2) = m' ((c.tc : Thread Cert.AdamRwG2RefIdeal.nD Cert.AdamRwG2RefIdeal.τ).loc Cert.AdamRwG2RefIdeal.main_arg2)
          ∧ r.2.mem ((c.tc : Thread Cert.AdamRwG2RefIdeal.nD Cert.AdamRwG2RefIdeal.τ).loc Cert.AdamRwG2RefIdeal.main_arg3) = m' ((c.tc : Thread Cert.AdamRwG2RefIdeal.nD Cert.AdamRwG2RefIdeal.τ).loc Cert.AdamRwG2RefIdeal.main_arg3))

def preserves_AdamWBranch_AdamWBranchIdeal : Prop :=
  True

def algebraic_AdamWBranchIdeal_AdamWBranchRefIdeal [hAdamWBranchIdeal : Cert.AdamWBranchIdeal.Facts] [hAdamWBranchRefIdeal : Cert.AdamWBranchRefIdeal.Facts] : Prop :=
  ∀ (m : (ℓ : Loc Cert.AdamWBranchIdeal.nD Cert.AdamWBranchIdeal.τ Cert.AdamWBranchIdeal.sig) → Buf (Elt Ideal) ℓ) (g : Dev Cert.AdamWBranchIdeal.nD → PrngReg)
    (m' : (ℓ : Loc Cert.AdamWBranchRefIdeal.nD Cert.AdamWBranchRefIdeal.τ Cert.AdamWBranchRefIdeal.sig) → Buf (Elt Ideal) ℓ) (g' : Dev Cert.AdamWBranchRefIdeal.nD → PrngReg), Pre_AdamWBranchIdeal m →
    (∀ c : Dev Cert.AdamWBranchIdeal.nD,
      m' ((c.tc : Thread Cert.AdamWBranchRefIdeal.nD Cert.AdamWBranchRefIdeal.τ).loc Cert.AdamWBranchRefIdeal.main_arg0) = m ((c.tc : Thread Cert.AdamWBranchIdeal.nD Cert.AdamWBranchIdeal.τ).loc Cert.AdamWBranchIdeal.main_arg0)
      ∧ m' ((c.tc : Thread Cert.AdamWBranchRefIdeal.nD Cert.AdamWBranchRefIdeal.τ).loc Cert.AdamWBranchRefIdeal.main_arg1) = m ((c.tc : Thread Cert.AdamWBranchIdeal.nD Cert.AdamWBranchIdeal.τ).loc Cert.AdamWBranchIdeal.main_arg1)
      ∧ m' ((c.tc : Thread Cert.AdamWBranchRefIdeal.nD Cert.AdamWBranchRefIdeal.τ).loc Cert.AdamWBranchRefIdeal.main_arg2) = m ((c.tc : Thread Cert.AdamWBranchIdeal.nD Cert.AdamWBranchIdeal.τ).loc Cert.AdamWBranchIdeal.main_arg2)
      ∧ m' ((c.tc : Thread Cert.AdamWBranchRefIdeal.nD Cert.AdamWBranchRefIdeal.τ).loc Cert.AdamWBranchRefIdeal.main_arg3) = m ((c.tc : Thread Cert.AdamWBranchIdeal.nD Cert.AdamWBranchIdeal.τ).loc Cert.AdamWBranchIdeal.main_arg3)) →
    ∃ (v0 : (c : Dev Cert.AdamWBranchIdeal.nD) → Buf (Elt Ideal) ((c.tc : Thread Cert.AdamWBranchIdeal.nD Cert.AdamWBranchIdeal.τ).loc Cert.AdamWBranchIdeal.main_v4_0)) (v1 : (c : Dev Cert.AdamWBranchIdeal.nD) → Buf (Elt Ideal) ((c.tc : Thread Cert.AdamWBranchIdeal.nD Cert.AdamWBranchIdeal.τ).loc Cert.AdamWBranchIdeal.main_v4_1)) (v2 : (c : Dev Cert.AdamWBranchIdeal.nD) → Buf (Elt Ideal) ((c.tc : Thread Cert.AdamWBranchIdeal.nD Cert.AdamWBranchIdeal.τ).loc Cert.AdamWBranchIdeal.main_v4_2)),
      θ_run (Cert.AdamWBranchIdeal.defs (F := Ideal)) (onTc (τ := Cert.AdamWBranchIdeal.τ) (Cert.AdamWBranchIdeal.main (F := Ideal))) ⟨m, fun _ => 0, g⟩ (fun r => ∀ c : Dev Cert.AdamWBranchIdeal.nD,
          r.2.mem ((c.tc : Thread Cert.AdamWBranchIdeal.nD Cert.AdamWBranchIdeal.τ).loc Cert.AdamWBranchIdeal.main_v4_0) = v0 c
          ∧ r.2.mem ((c.tc : Thread Cert.AdamWBranchIdeal.nD Cert.AdamWBranchIdeal.τ).loc Cert.AdamWBranchIdeal.main_v4_1) = v1 c
          ∧ r.2.mem ((c.tc : Thread Cert.AdamWBranchIdeal.nD Cert.AdamWBranchIdeal.τ).loc Cert.AdamWBranchIdeal.main_v4_2) = v2 c
          ∧ r.2.mem ((c.tc : Thread Cert.AdamWBranchIdeal.nD Cert.AdamWBranchIdeal.τ).loc Cert.AdamWBranchIdeal.main_arg0) = m ((c.tc : Thread Cert.AdamWBranchIdeal.nD Cert.AdamWBranchIdeal.τ).loc Cert.AdamWBranchIdeal.main_arg0)
          ∧ r.2.mem ((c.tc : Thread Cert.AdamWBranchIdeal.nD Cert.AdamWBranchIdeal.τ).loc Cert.AdamWBranchIdeal.main_arg1) = m ((c.tc : Thread Cert.AdamWBranchIdeal.nD Cert.AdamWBranchIdeal.τ).loc Cert.AdamWBranchIdeal.main_arg1)
          ∧ r.2.mem ((c.tc : Thread Cert.AdamWBranchIdeal.nD Cert.AdamWBranchIdeal.τ).loc Cert.AdamWBranchIdeal.main_arg2) = m ((c.tc : Thread Cert.AdamWBranchIdeal.nD Cert.AdamWBranchIdeal.τ).loc Cert.AdamWBranchIdeal.main_arg2)
          ∧ r.2.mem ((c.tc : Thread Cert.AdamWBranchIdeal.nD Cert.AdamWBranchIdeal.τ).loc Cert.AdamWBranchIdeal.main_arg3) = m ((c.tc : Thread Cert.AdamWBranchIdeal.nD Cert.AdamWBranchIdeal.τ).loc Cert.AdamWBranchIdeal.main_arg3))
      ∧ θ_run (Cert.AdamWBranchRefIdeal.defs (F := Ideal)) (onTc (τ := Cert.AdamWBranchRefIdeal.τ) (Cert.AdamWBranchRefIdeal.main (F := Ideal))) ⟨m', fun _ => 0, g'⟩ (fun r => ∀ c : Dev Cert.AdamWBranchRefIdeal.nD,
          r.2.mem ((c.tc : Thread Cert.AdamWBranchRefIdeal.nD Cert.AdamWBranchRefIdeal.τ).loc Cert.AdamWBranchRefIdeal.main_v24) = v0 c
          ∧ r.2.mem ((c.tc : Thread Cert.AdamWBranchRefIdeal.nD Cert.AdamWBranchRefIdeal.τ).loc Cert.AdamWBranchRefIdeal.main_v25) = v1 c
          ∧ r.2.mem ((c.tc : Thread Cert.AdamWBranchRefIdeal.nD Cert.AdamWBranchRefIdeal.τ).loc Cert.AdamWBranchRefIdeal.main_v26) = v2 c
          ∧ r.2.mem ((c.tc : Thread Cert.AdamWBranchRefIdeal.nD Cert.AdamWBranchRefIdeal.τ).loc Cert.AdamWBranchRefIdeal.main_arg0) = m' ((c.tc : Thread Cert.AdamWBranchRefIdeal.nD Cert.AdamWBranchRefIdeal.τ).loc Cert.AdamWBranchRefIdeal.main_arg0)
          ∧ r.2.mem ((c.tc : Thread Cert.AdamWBranchRefIdeal.nD Cert.AdamWBranchRefIdeal.τ).loc Cert.AdamWBranchRefIdeal.main_arg1) = m' ((c.tc : Thread Cert.AdamWBranchRefIdeal.nD Cert.AdamWBranchRefIdeal.τ).loc Cert.AdamWBranchRefIdeal.main_arg1)
          ∧ r.2.mem ((c.tc : Thread Cert.AdamWBranchRefIdeal.nD Cert.AdamWBranchRefIdeal.τ).loc Cert.AdamWBranchRefIdeal.main_arg2) = m' ((c.tc : Thread Cert.AdamWBranchRefIdeal.nD Cert.AdamWBranchRefIdeal.τ).loc Cert.AdamWBranchRefIdeal.main_arg2)
          ∧ r.2.mem ((c.tc : Thread Cert.AdamWBranchRefIdeal.nD Cert.AdamWBranchRefIdeal.τ).loc Cert.AdamWBranchRefIdeal.main_arg3) = m' ((c.tc : Thread Cert.AdamWBranchRefIdeal.nD Cert.AdamWBranchRefIdeal.τ).loc Cert.AdamWBranchRefIdeal.main_arg3))

def preserves_AdamWOut_AdamWOutIdeal : Prop :=
  True

def algebraic_AdamWOutIdeal_AdamWOutRefIdeal [hAdamWOutIdeal : Cert.AdamWOutIdeal.Facts] [hAdamWOutRefIdeal : Cert.AdamWOutRefIdeal.Facts] : Prop :=
  ∀ (m : (ℓ : Loc Cert.AdamWOutIdeal.nD Cert.AdamWOutIdeal.τ Cert.AdamWOutIdeal.sig) → Buf (Elt Ideal) ℓ) (g : Dev Cert.AdamWOutIdeal.nD → PrngReg)
    (m' : (ℓ : Loc Cert.AdamWOutRefIdeal.nD Cert.AdamWOutRefIdeal.τ Cert.AdamWOutRefIdeal.sig) → Buf (Elt Ideal) ℓ) (g' : Dev Cert.AdamWOutRefIdeal.nD → PrngReg), Pre_AdamWOutIdeal m →
    (∀ c : Dev Cert.AdamWOutIdeal.nD,
      m' ((c.tc : Thread Cert.AdamWOutRefIdeal.nD Cert.AdamWOutRefIdeal.τ).loc Cert.AdamWOutRefIdeal.main_arg0) = m ((c.tc : Thread Cert.AdamWOutIdeal.nD Cert.AdamWOutIdeal.τ).loc Cert.AdamWOutIdeal.main_arg0)
      ∧ m' ((c.tc : Thread Cert.AdamWOutRefIdeal.nD Cert.AdamWOutRefIdeal.τ).loc Cert.AdamWOutRefIdeal.main_arg1) = m ((c.tc : Thread Cert.AdamWOutIdeal.nD Cert.AdamWOutIdeal.τ).loc Cert.AdamWOutIdeal.main_arg1)
      ∧ m' ((c.tc : Thread Cert.AdamWOutRefIdeal.nD Cert.AdamWOutRefIdeal.τ).loc Cert.AdamWOutRefIdeal.main_arg2) = m ((c.tc : Thread Cert.AdamWOutIdeal.nD Cert.AdamWOutIdeal.τ).loc Cert.AdamWOutIdeal.main_arg2)
      ∧ m' ((c.tc : Thread Cert.AdamWOutRefIdeal.nD Cert.AdamWOutRefIdeal.τ).loc Cert.AdamWOutRefIdeal.main_arg3) = m ((c.tc : Thread Cert.AdamWOutIdeal.nD Cert.AdamWOutIdeal.τ).loc Cert.AdamWOutIdeal.main_arg3)) →
    ∃ (v0 : (c : Dev Cert.AdamWOutIdeal.nD) → Buf (Elt Ideal) ((c.tc : Thread Cert.AdamWOutIdeal.nD Cert.AdamWOutIdeal.τ).loc Cert.AdamWOutIdeal.main_v4_0)) (v1 : (c : Dev Cert.AdamWOutIdeal.nD) → Buf (Elt Ideal) ((c.tc : Thread Cert.AdamWOutIdeal.nD Cert.AdamWOutIdeal.τ).loc Cert.AdamWOutIdeal.main_v4_1)) (v2 : (c : Dev Cert.AdamWOutIdeal.nD) → Buf (Elt Ideal) ((c.tc : Thread Cert.AdamWOutIdeal.nD Cert.AdamWOutIdeal.τ).loc Cert.AdamWOutIdeal.main_v4_2)),
      θ_run (Cert.AdamWOutIdeal.defs (F := Ideal)) (onTc (τ := Cert.AdamWOutIdeal.τ) (Cert.AdamWOutIdeal.main (F := Ideal))) ⟨m, fun _ => 0, g⟩ (fun r => ∀ c : Dev Cert.AdamWOutIdeal.nD,
          r.2.mem ((c.tc : Thread Cert.AdamWOutIdeal.nD Cert.AdamWOutIdeal.τ).loc Cert.AdamWOutIdeal.main_v4_0) = v0 c
          ∧ r.2.mem ((c.tc : Thread Cert.AdamWOutIdeal.nD Cert.AdamWOutIdeal.τ).loc Cert.AdamWOutIdeal.main_v4_1) = v1 c
          ∧ r.2.mem ((c.tc : Thread Cert.AdamWOutIdeal.nD Cert.AdamWOutIdeal.τ).loc Cert.AdamWOutIdeal.main_v4_2) = v2 c
          ∧ r.2.mem ((c.tc : Thread Cert.AdamWOutIdeal.nD Cert.AdamWOutIdeal.τ).loc Cert.AdamWOutIdeal.main_arg0) = m ((c.tc : Thread Cert.AdamWOutIdeal.nD Cert.AdamWOutIdeal.τ).loc Cert.AdamWOutIdeal.main_arg0)
          ∧ r.2.mem ((c.tc : Thread Cert.AdamWOutIdeal.nD Cert.AdamWOutIdeal.τ).loc Cert.AdamWOutIdeal.main_arg1) = m ((c.tc : Thread Cert.AdamWOutIdeal.nD Cert.AdamWOutIdeal.τ).loc Cert.AdamWOutIdeal.main_arg1)
          ∧ r.2.mem ((c.tc : Thread Cert.AdamWOutIdeal.nD Cert.AdamWOutIdeal.τ).loc Cert.AdamWOutIdeal.main_arg2) = m ((c.tc : Thread Cert.AdamWOutIdeal.nD Cert.AdamWOutIdeal.τ).loc Cert.AdamWOutIdeal.main_arg2)
          ∧ r.2.mem ((c.tc : Thread Cert.AdamWOutIdeal.nD Cert.AdamWOutIdeal.τ).loc Cert.AdamWOutIdeal.main_arg3) = m ((c.tc : Thread Cert.AdamWOutIdeal.nD Cert.AdamWOutIdeal.τ).loc Cert.AdamWOutIdeal.main_arg3))
      ∧ θ_run (Cert.AdamWOutRefIdeal.defs (F := Ideal)) (onTc (τ := Cert.AdamWOutRefIdeal.τ) (Cert.AdamWOutRefIdeal.main (F := Ideal))) ⟨m', fun _ => 0, g'⟩ (fun r => ∀ c : Dev Cert.AdamWOutRefIdeal.nD,
          r.2.mem ((c.tc : Thread Cert.AdamWOutRefIdeal.nD Cert.AdamWOutRefIdeal.τ).loc Cert.AdamWOutRefIdeal.main_v24) = v0 c
          ∧ r.2.mem ((c.tc : Thread Cert.AdamWOutRefIdeal.nD Cert.AdamWOutRefIdeal.τ).loc Cert.AdamWOutRefIdeal.main_v25) = v1 c
          ∧ r.2.mem ((c.tc : Thread Cert.AdamWOutRefIdeal.nD Cert.AdamWOutRefIdeal.τ).loc Cert.AdamWOutRefIdeal.main_v26) = v2 c
          ∧ r.2.mem ((c.tc : Thread Cert.AdamWOutRefIdeal.nD Cert.AdamWOutRefIdeal.τ).loc Cert.AdamWOutRefIdeal.main_arg0) = m' ((c.tc : Thread Cert.AdamWOutRefIdeal.nD Cert.AdamWOutRefIdeal.τ).loc Cert.AdamWOutRefIdeal.main_arg0)
          ∧ r.2.mem ((c.tc : Thread Cert.AdamWOutRefIdeal.nD Cert.AdamWOutRefIdeal.τ).loc Cert.AdamWOutRefIdeal.main_arg1) = m' ((c.tc : Thread Cert.AdamWOutRefIdeal.nD Cert.AdamWOutRefIdeal.τ).loc Cert.AdamWOutRefIdeal.main_arg1)
          ∧ r.2.mem ((c.tc : Thread Cert.AdamWOutRefIdeal.nD Cert.AdamWOutRefIdeal.τ).loc Cert.AdamWOutRefIdeal.main_arg2) = m' ((c.tc : Thread Cert.AdamWOutRefIdeal.nD Cert.AdamWOutRefIdeal.τ).loc Cert.AdamWOutRefIdeal.main_arg2)
          ∧ r.2.mem ((c.tc : Thread Cert.AdamWOutRefIdeal.nD Cert.AdamWOutRefIdeal.τ).loc Cert.AdamWOutRefIdeal.main_arg3) = m' ((c.tc : Thread Cert.AdamWOutRefIdeal.nD Cert.AdamWOutRefIdeal.τ).loc Cert.AdamWOutRefIdeal.main_arg3))

def preserves_AdamWFfnGate_AdamWFfnGateIdeal : Prop :=
  True

def algebraic_AdamWFfnGateIdeal_AdamWFfnGateRefIdeal [hAdamWFfnGateIdeal : Cert.AdamWFfnGateIdeal.Facts] [hAdamWFfnGateRefIdeal : Cert.AdamWFfnGateRefIdeal.Facts] : Prop :=
  ∀ (m : (ℓ : Loc Cert.AdamWFfnGateIdeal.nD Cert.AdamWFfnGateIdeal.τ Cert.AdamWFfnGateIdeal.sig) → Buf (Elt Ideal) ℓ) (g : Dev Cert.AdamWFfnGateIdeal.nD → PrngReg)
    (m' : (ℓ : Loc Cert.AdamWFfnGateRefIdeal.nD Cert.AdamWFfnGateRefIdeal.τ Cert.AdamWFfnGateRefIdeal.sig) → Buf (Elt Ideal) ℓ) (g' : Dev Cert.AdamWFfnGateRefIdeal.nD → PrngReg), Pre_AdamWFfnGateIdeal m →
    (∀ c : Dev Cert.AdamWFfnGateIdeal.nD,
      m' ((c.tc : Thread Cert.AdamWFfnGateRefIdeal.nD Cert.AdamWFfnGateRefIdeal.τ).loc Cert.AdamWFfnGateRefIdeal.main_arg0) = m ((c.tc : Thread Cert.AdamWFfnGateIdeal.nD Cert.AdamWFfnGateIdeal.τ).loc Cert.AdamWFfnGateIdeal.main_arg0)
      ∧ m' ((c.tc : Thread Cert.AdamWFfnGateRefIdeal.nD Cert.AdamWFfnGateRefIdeal.τ).loc Cert.AdamWFfnGateRefIdeal.main_arg1) = m ((c.tc : Thread Cert.AdamWFfnGateIdeal.nD Cert.AdamWFfnGateIdeal.τ).loc Cert.AdamWFfnGateIdeal.main_arg1)
      ∧ m' ((c.tc : Thread Cert.AdamWFfnGateRefIdeal.nD Cert.AdamWFfnGateRefIdeal.τ).loc Cert.AdamWFfnGateRefIdeal.main_arg2) = m ((c.tc : Thread Cert.AdamWFfnGateIdeal.nD Cert.AdamWFfnGateIdeal.τ).loc Cert.AdamWFfnGateIdeal.main_arg2)
      ∧ m' ((c.tc : Thread Cert.AdamWFfnGateRefIdeal.nD Cert.AdamWFfnGateRefIdeal.τ).loc Cert.AdamWFfnGateRefIdeal.main_arg3) = m ((c.tc : Thread Cert.AdamWFfnGateIdeal.nD Cert.AdamWFfnGateIdeal.τ).loc Cert.AdamWFfnGateIdeal.main_arg3)) →
    ∃ (v0 : (c : Dev Cert.AdamWFfnGateIdeal.nD) → Buf (Elt Ideal) ((c.tc : Thread Cert.AdamWFfnGateIdeal.nD Cert.AdamWFfnGateIdeal.τ).loc Cert.AdamWFfnGateIdeal.main_v4_0)) (v1 : (c : Dev Cert.AdamWFfnGateIdeal.nD) → Buf (Elt Ideal) ((c.tc : Thread Cert.AdamWFfnGateIdeal.nD Cert.AdamWFfnGateIdeal.τ).loc Cert.AdamWFfnGateIdeal.main_v4_1)) (v2 : (c : Dev Cert.AdamWFfnGateIdeal.nD) → Buf (Elt Ideal) ((c.tc : Thread Cert.AdamWFfnGateIdeal.nD Cert.AdamWFfnGateIdeal.τ).loc Cert.AdamWFfnGateIdeal.main_v4_2)),
      θ_run (Cert.AdamWFfnGateIdeal.defs (F := Ideal)) (onTc (τ := Cert.AdamWFfnGateIdeal.τ) (Cert.AdamWFfnGateIdeal.main (F := Ideal))) ⟨m, fun _ => 0, g⟩ (fun r => ∀ c : Dev Cert.AdamWFfnGateIdeal.nD,
          r.2.mem ((c.tc : Thread Cert.AdamWFfnGateIdeal.nD Cert.AdamWFfnGateIdeal.τ).loc Cert.AdamWFfnGateIdeal.main_v4_0) = v0 c
          ∧ r.2.mem ((c.tc : Thread Cert.AdamWFfnGateIdeal.nD Cert.AdamWFfnGateIdeal.τ).loc Cert.AdamWFfnGateIdeal.main_v4_1) = v1 c
          ∧ r.2.mem ((c.tc : Thread Cert.AdamWFfnGateIdeal.nD Cert.AdamWFfnGateIdeal.τ).loc Cert.AdamWFfnGateIdeal.main_v4_2) = v2 c
          ∧ r.2.mem ((c.tc : Thread Cert.AdamWFfnGateIdeal.nD Cert.AdamWFfnGateIdeal.τ).loc Cert.AdamWFfnGateIdeal.main_arg0) = m ((c.tc : Thread Cert.AdamWFfnGateIdeal.nD Cert.AdamWFfnGateIdeal.τ).loc Cert.AdamWFfnGateIdeal.main_arg0)
          ∧ r.2.mem ((c.tc : Thread Cert.AdamWFfnGateIdeal.nD Cert.AdamWFfnGateIdeal.τ).loc Cert.AdamWFfnGateIdeal.main_arg1) = m ((c.tc : Thread Cert.AdamWFfnGateIdeal.nD Cert.AdamWFfnGateIdeal.τ).loc Cert.AdamWFfnGateIdeal.main_arg1)
          ∧ r.2.mem ((c.tc : Thread Cert.AdamWFfnGateIdeal.nD Cert.AdamWFfnGateIdeal.τ).loc Cert.AdamWFfnGateIdeal.main_arg2) = m ((c.tc : Thread Cert.AdamWFfnGateIdeal.nD Cert.AdamWFfnGateIdeal.τ).loc Cert.AdamWFfnGateIdeal.main_arg2)
          ∧ r.2.mem ((c.tc : Thread Cert.AdamWFfnGateIdeal.nD Cert.AdamWFfnGateIdeal.τ).loc Cert.AdamWFfnGateIdeal.main_arg3) = m ((c.tc : Thread Cert.AdamWFfnGateIdeal.nD Cert.AdamWFfnGateIdeal.τ).loc Cert.AdamWFfnGateIdeal.main_arg3))
      ∧ θ_run (Cert.AdamWFfnGateRefIdeal.defs (F := Ideal)) (onTc (τ := Cert.AdamWFfnGateRefIdeal.τ) (Cert.AdamWFfnGateRefIdeal.main (F := Ideal))) ⟨m', fun _ => 0, g'⟩ (fun r => ∀ c : Dev Cert.AdamWFfnGateRefIdeal.nD,
          r.2.mem ((c.tc : Thread Cert.AdamWFfnGateRefIdeal.nD Cert.AdamWFfnGateRefIdeal.τ).loc Cert.AdamWFfnGateRefIdeal.main_v24) = v0 c
          ∧ r.2.mem ((c.tc : Thread Cert.AdamWFfnGateRefIdeal.nD Cert.AdamWFfnGateRefIdeal.τ).loc Cert.AdamWFfnGateRefIdeal.main_v25) = v1 c
          ∧ r.2.mem ((c.tc : Thread Cert.AdamWFfnGateRefIdeal.nD Cert.AdamWFfnGateRefIdeal.τ).loc Cert.AdamWFfnGateRefIdeal.main_v26) = v2 c
          ∧ r.2.mem ((c.tc : Thread Cert.AdamWFfnGateRefIdeal.nD Cert.AdamWFfnGateRefIdeal.τ).loc Cert.AdamWFfnGateRefIdeal.main_arg0) = m' ((c.tc : Thread Cert.AdamWFfnGateRefIdeal.nD Cert.AdamWFfnGateRefIdeal.τ).loc Cert.AdamWFfnGateRefIdeal.main_arg0)
          ∧ r.2.mem ((c.tc : Thread Cert.AdamWFfnGateRefIdeal.nD Cert.AdamWFfnGateRefIdeal.τ).loc Cert.AdamWFfnGateRefIdeal.main_arg1) = m' ((c.tc : Thread Cert.AdamWFfnGateRefIdeal.nD Cert.AdamWFfnGateRefIdeal.τ).loc Cert.AdamWFfnGateRefIdeal.main_arg1)
          ∧ r.2.mem ((c.tc : Thread Cert.AdamWFfnGateRefIdeal.nD Cert.AdamWFfnGateRefIdeal.τ).loc Cert.AdamWFfnGateRefIdeal.main_arg2) = m' ((c.tc : Thread Cert.AdamWFfnGateRefIdeal.nD Cert.AdamWFfnGateRefIdeal.τ).loc Cert.AdamWFfnGateRefIdeal.main_arg2)
          ∧ r.2.mem ((c.tc : Thread Cert.AdamWFfnGateRefIdeal.nD Cert.AdamWFfnGateRefIdeal.τ).loc Cert.AdamWFfnGateRefIdeal.main_arg3) = m' ((c.tc : Thread Cert.AdamWFfnGateRefIdeal.nD Cert.AdamWFfnGateRefIdeal.τ).loc Cert.AdamWFfnGateRefIdeal.main_arg3))

def preserves_AdamWFfnUp_AdamWFfnUpIdeal : Prop :=
  True

def algebraic_AdamWFfnUpIdeal_AdamWFfnUpRefIdeal [hAdamWFfnUpIdeal : Cert.AdamWFfnUpIdeal.Facts] [hAdamWFfnUpRefIdeal : Cert.AdamWFfnUpRefIdeal.Facts] : Prop :=
  ∀ (m : (ℓ : Loc Cert.AdamWFfnUpIdeal.nD Cert.AdamWFfnUpIdeal.τ Cert.AdamWFfnUpIdeal.sig) → Buf (Elt Ideal) ℓ) (g : Dev Cert.AdamWFfnUpIdeal.nD → PrngReg)
    (m' : (ℓ : Loc Cert.AdamWFfnUpRefIdeal.nD Cert.AdamWFfnUpRefIdeal.τ Cert.AdamWFfnUpRefIdeal.sig) → Buf (Elt Ideal) ℓ) (g' : Dev Cert.AdamWFfnUpRefIdeal.nD → PrngReg), Pre_AdamWFfnUpIdeal m →
    (∀ c : Dev Cert.AdamWFfnUpIdeal.nD,
      m' ((c.tc : Thread Cert.AdamWFfnUpRefIdeal.nD Cert.AdamWFfnUpRefIdeal.τ).loc Cert.AdamWFfnUpRefIdeal.main_arg0) = m ((c.tc : Thread Cert.AdamWFfnUpIdeal.nD Cert.AdamWFfnUpIdeal.τ).loc Cert.AdamWFfnUpIdeal.main_arg0)
      ∧ m' ((c.tc : Thread Cert.AdamWFfnUpRefIdeal.nD Cert.AdamWFfnUpRefIdeal.τ).loc Cert.AdamWFfnUpRefIdeal.main_arg1) = m ((c.tc : Thread Cert.AdamWFfnUpIdeal.nD Cert.AdamWFfnUpIdeal.τ).loc Cert.AdamWFfnUpIdeal.main_arg1)
      ∧ m' ((c.tc : Thread Cert.AdamWFfnUpRefIdeal.nD Cert.AdamWFfnUpRefIdeal.τ).loc Cert.AdamWFfnUpRefIdeal.main_arg2) = m ((c.tc : Thread Cert.AdamWFfnUpIdeal.nD Cert.AdamWFfnUpIdeal.τ).loc Cert.AdamWFfnUpIdeal.main_arg2)
      ∧ m' ((c.tc : Thread Cert.AdamWFfnUpRefIdeal.nD Cert.AdamWFfnUpRefIdeal.τ).loc Cert.AdamWFfnUpRefIdeal.main_arg3) = m ((c.tc : Thread Cert.AdamWFfnUpIdeal.nD Cert.AdamWFfnUpIdeal.τ).loc Cert.AdamWFfnUpIdeal.main_arg3)) →
    ∃ (v0 : (c : Dev Cert.AdamWFfnUpIdeal.nD) → Buf (Elt Ideal) ((c.tc : Thread Cert.AdamWFfnUpIdeal.nD Cert.AdamWFfnUpIdeal.τ).loc Cert.AdamWFfnUpIdeal.main_v4_0)) (v1 : (c : Dev Cert.AdamWFfnUpIdeal.nD) → Buf (Elt Ideal) ((c.tc : Thread Cert.AdamWFfnUpIdeal.nD Cert.AdamWFfnUpIdeal.τ).loc Cert.AdamWFfnUpIdeal.main_v4_1)) (v2 : (c : Dev Cert.AdamWFfnUpIdeal.nD) → Buf (Elt Ideal) ((c.tc : Thread Cert.AdamWFfnUpIdeal.nD Cert.AdamWFfnUpIdeal.τ).loc Cert.AdamWFfnUpIdeal.main_v4_2)),
      θ_run (Cert.AdamWFfnUpIdeal.defs (F := Ideal)) (onTc (τ := Cert.AdamWFfnUpIdeal.τ) (Cert.AdamWFfnUpIdeal.main (F := Ideal))) ⟨m, fun _ => 0, g⟩ (fun r => ∀ c : Dev Cert.AdamWFfnUpIdeal.nD,
          r.2.mem ((c.tc : Thread Cert.AdamWFfnUpIdeal.nD Cert.AdamWFfnUpIdeal.τ).loc Cert.AdamWFfnUpIdeal.main_v4_0) = v0 c
          ∧ r.2.mem ((c.tc : Thread Cert.AdamWFfnUpIdeal.nD Cert.AdamWFfnUpIdeal.τ).loc Cert.AdamWFfnUpIdeal.main_v4_1) = v1 c
          ∧ r.2.mem ((c.tc : Thread Cert.AdamWFfnUpIdeal.nD Cert.AdamWFfnUpIdeal.τ).loc Cert.AdamWFfnUpIdeal.main_v4_2) = v2 c
          ∧ r.2.mem ((c.tc : Thread Cert.AdamWFfnUpIdeal.nD Cert.AdamWFfnUpIdeal.τ).loc Cert.AdamWFfnUpIdeal.main_arg0) = m ((c.tc : Thread Cert.AdamWFfnUpIdeal.nD Cert.AdamWFfnUpIdeal.τ).loc Cert.AdamWFfnUpIdeal.main_arg0)
          ∧ r.2.mem ((c.tc : Thread Cert.AdamWFfnUpIdeal.nD Cert.AdamWFfnUpIdeal.τ).loc Cert.AdamWFfnUpIdeal.main_arg1) = m ((c.tc : Thread Cert.AdamWFfnUpIdeal.nD Cert.AdamWFfnUpIdeal.τ).loc Cert.AdamWFfnUpIdeal.main_arg1)
          ∧ r.2.mem ((c.tc : Thread Cert.AdamWFfnUpIdeal.nD Cert.AdamWFfnUpIdeal.τ).loc Cert.AdamWFfnUpIdeal.main_arg2) = m ((c.tc : Thread Cert.AdamWFfnUpIdeal.nD Cert.AdamWFfnUpIdeal.τ).loc Cert.AdamWFfnUpIdeal.main_arg2)
          ∧ r.2.mem ((c.tc : Thread Cert.AdamWFfnUpIdeal.nD Cert.AdamWFfnUpIdeal.τ).loc Cert.AdamWFfnUpIdeal.main_arg3) = m ((c.tc : Thread Cert.AdamWFfnUpIdeal.nD Cert.AdamWFfnUpIdeal.τ).loc Cert.AdamWFfnUpIdeal.main_arg3))
      ∧ θ_run (Cert.AdamWFfnUpRefIdeal.defs (F := Ideal)) (onTc (τ := Cert.AdamWFfnUpRefIdeal.τ) (Cert.AdamWFfnUpRefIdeal.main (F := Ideal))) ⟨m', fun _ => 0, g'⟩ (fun r => ∀ c : Dev Cert.AdamWFfnUpRefIdeal.nD,
          r.2.mem ((c.tc : Thread Cert.AdamWFfnUpRefIdeal.nD Cert.AdamWFfnUpRefIdeal.τ).loc Cert.AdamWFfnUpRefIdeal.main_v24) = v0 c
          ∧ r.2.mem ((c.tc : Thread Cert.AdamWFfnUpRefIdeal.nD Cert.AdamWFfnUpRefIdeal.τ).loc Cert.AdamWFfnUpRefIdeal.main_v25) = v1 c
          ∧ r.2.mem ((c.tc : Thread Cert.AdamWFfnUpRefIdeal.nD Cert.AdamWFfnUpRefIdeal.τ).loc Cert.AdamWFfnUpRefIdeal.main_v26) = v2 c
          ∧ r.2.mem ((c.tc : Thread Cert.AdamWFfnUpRefIdeal.nD Cert.AdamWFfnUpRefIdeal.τ).loc Cert.AdamWFfnUpRefIdeal.main_arg0) = m' ((c.tc : Thread Cert.AdamWFfnUpRefIdeal.nD Cert.AdamWFfnUpRefIdeal.τ).loc Cert.AdamWFfnUpRefIdeal.main_arg0)
          ∧ r.2.mem ((c.tc : Thread Cert.AdamWFfnUpRefIdeal.nD Cert.AdamWFfnUpRefIdeal.τ).loc Cert.AdamWFfnUpRefIdeal.main_arg1) = m' ((c.tc : Thread Cert.AdamWFfnUpRefIdeal.nD Cert.AdamWFfnUpRefIdeal.τ).loc Cert.AdamWFfnUpRefIdeal.main_arg1)
          ∧ r.2.mem ((c.tc : Thread Cert.AdamWFfnUpRefIdeal.nD Cert.AdamWFfnUpRefIdeal.τ).loc Cert.AdamWFfnUpRefIdeal.main_arg2) = m' ((c.tc : Thread Cert.AdamWFfnUpRefIdeal.nD Cert.AdamWFfnUpRefIdeal.τ).loc Cert.AdamWFfnUpRefIdeal.main_arg2)
          ∧ r.2.mem ((c.tc : Thread Cert.AdamWFfnUpRefIdeal.nD Cert.AdamWFfnUpRefIdeal.τ).loc Cert.AdamWFfnUpRefIdeal.main_arg3) = m' ((c.tc : Thread Cert.AdamWFfnUpRefIdeal.nD Cert.AdamWFfnUpRefIdeal.τ).loc Cert.AdamWFfnUpRefIdeal.main_arg3))

def preserves_AdamWFfnDown_AdamWFfnDownIdeal : Prop :=
  True

def algebraic_AdamWFfnDownIdeal_AdamWFfnDownRefIdeal [hAdamWFfnDownIdeal : Cert.AdamWFfnDownIdeal.Facts] [hAdamWFfnDownRefIdeal : Cert.AdamWFfnDownRefIdeal.Facts] : Prop :=
  ∀ (m : (ℓ : Loc Cert.AdamWFfnDownIdeal.nD Cert.AdamWFfnDownIdeal.τ Cert.AdamWFfnDownIdeal.sig) → Buf (Elt Ideal) ℓ) (g : Dev Cert.AdamWFfnDownIdeal.nD → PrngReg)
    (m' : (ℓ : Loc Cert.AdamWFfnDownRefIdeal.nD Cert.AdamWFfnDownRefIdeal.τ Cert.AdamWFfnDownRefIdeal.sig) → Buf (Elt Ideal) ℓ) (g' : Dev Cert.AdamWFfnDownRefIdeal.nD → PrngReg), Pre_AdamWFfnDownIdeal m →
    (∀ c : Dev Cert.AdamWFfnDownIdeal.nD,
      m' ((c.tc : Thread Cert.AdamWFfnDownRefIdeal.nD Cert.AdamWFfnDownRefIdeal.τ).loc Cert.AdamWFfnDownRefIdeal.main_arg0) = m ((c.tc : Thread Cert.AdamWFfnDownIdeal.nD Cert.AdamWFfnDownIdeal.τ).loc Cert.AdamWFfnDownIdeal.main_arg0)
      ∧ m' ((c.tc : Thread Cert.AdamWFfnDownRefIdeal.nD Cert.AdamWFfnDownRefIdeal.τ).loc Cert.AdamWFfnDownRefIdeal.main_arg1) = m ((c.tc : Thread Cert.AdamWFfnDownIdeal.nD Cert.AdamWFfnDownIdeal.τ).loc Cert.AdamWFfnDownIdeal.main_arg1)
      ∧ m' ((c.tc : Thread Cert.AdamWFfnDownRefIdeal.nD Cert.AdamWFfnDownRefIdeal.τ).loc Cert.AdamWFfnDownRefIdeal.main_arg2) = m ((c.tc : Thread Cert.AdamWFfnDownIdeal.nD Cert.AdamWFfnDownIdeal.τ).loc Cert.AdamWFfnDownIdeal.main_arg2)
      ∧ m' ((c.tc : Thread Cert.AdamWFfnDownRefIdeal.nD Cert.AdamWFfnDownRefIdeal.τ).loc Cert.AdamWFfnDownRefIdeal.main_arg3) = m ((c.tc : Thread Cert.AdamWFfnDownIdeal.nD Cert.AdamWFfnDownIdeal.τ).loc Cert.AdamWFfnDownIdeal.main_arg3)) →
    ∃ (v0 : (c : Dev Cert.AdamWFfnDownIdeal.nD) → Buf (Elt Ideal) ((c.tc : Thread Cert.AdamWFfnDownIdeal.nD Cert.AdamWFfnDownIdeal.τ).loc Cert.AdamWFfnDownIdeal.main_v4_0)) (v1 : (c : Dev Cert.AdamWFfnDownIdeal.nD) → Buf (Elt Ideal) ((c.tc : Thread Cert.AdamWFfnDownIdeal.nD Cert.AdamWFfnDownIdeal.τ).loc Cert.AdamWFfnDownIdeal.main_v4_1)) (v2 : (c : Dev Cert.AdamWFfnDownIdeal.nD) → Buf (Elt Ideal) ((c.tc : Thread Cert.AdamWFfnDownIdeal.nD Cert.AdamWFfnDownIdeal.τ).loc Cert.AdamWFfnDownIdeal.main_v4_2)),
      θ_run (Cert.AdamWFfnDownIdeal.defs (F := Ideal)) (onTc (τ := Cert.AdamWFfnDownIdeal.τ) (Cert.AdamWFfnDownIdeal.main (F := Ideal))) ⟨m, fun _ => 0, g⟩ (fun r => ∀ c : Dev Cert.AdamWFfnDownIdeal.nD,
          r.2.mem ((c.tc : Thread Cert.AdamWFfnDownIdeal.nD Cert.AdamWFfnDownIdeal.τ).loc Cert.AdamWFfnDownIdeal.main_v4_0) = v0 c
          ∧ r.2.mem ((c.tc : Thread Cert.AdamWFfnDownIdeal.nD Cert.AdamWFfnDownIdeal.τ).loc Cert.AdamWFfnDownIdeal.main_v4_1) = v1 c
          ∧ r.2.mem ((c.tc : Thread Cert.AdamWFfnDownIdeal.nD Cert.AdamWFfnDownIdeal.τ).loc Cert.AdamWFfnDownIdeal.main_v4_2) = v2 c
          ∧ r.2.mem ((c.tc : Thread Cert.AdamWFfnDownIdeal.nD Cert.AdamWFfnDownIdeal.τ).loc Cert.AdamWFfnDownIdeal.main_arg0) = m ((c.tc : Thread Cert.AdamWFfnDownIdeal.nD Cert.AdamWFfnDownIdeal.τ).loc Cert.AdamWFfnDownIdeal.main_arg0)
          ∧ r.2.mem ((c.tc : Thread Cert.AdamWFfnDownIdeal.nD Cert.AdamWFfnDownIdeal.τ).loc Cert.AdamWFfnDownIdeal.main_arg1) = m ((c.tc : Thread Cert.AdamWFfnDownIdeal.nD Cert.AdamWFfnDownIdeal.τ).loc Cert.AdamWFfnDownIdeal.main_arg1)
          ∧ r.2.mem ((c.tc : Thread Cert.AdamWFfnDownIdeal.nD Cert.AdamWFfnDownIdeal.τ).loc Cert.AdamWFfnDownIdeal.main_arg2) = m ((c.tc : Thread Cert.AdamWFfnDownIdeal.nD Cert.AdamWFfnDownIdeal.τ).loc Cert.AdamWFfnDownIdeal.main_arg2)
          ∧ r.2.mem ((c.tc : Thread Cert.AdamWFfnDownIdeal.nD Cert.AdamWFfnDownIdeal.τ).loc Cert.AdamWFfnDownIdeal.main_arg3) = m ((c.tc : Thread Cert.AdamWFfnDownIdeal.nD Cert.AdamWFfnDownIdeal.τ).loc Cert.AdamWFfnDownIdeal.main_arg3))
      ∧ θ_run (Cert.AdamWFfnDownRefIdeal.defs (F := Ideal)) (onTc (τ := Cert.AdamWFfnDownRefIdeal.τ) (Cert.AdamWFfnDownRefIdeal.main (F := Ideal))) ⟨m', fun _ => 0, g'⟩ (fun r => ∀ c : Dev Cert.AdamWFfnDownRefIdeal.nD,
          r.2.mem ((c.tc : Thread Cert.AdamWFfnDownRefIdeal.nD Cert.AdamWFfnDownRefIdeal.τ).loc Cert.AdamWFfnDownRefIdeal.main_v24) = v0 c
          ∧ r.2.mem ((c.tc : Thread Cert.AdamWFfnDownRefIdeal.nD Cert.AdamWFfnDownRefIdeal.τ).loc Cert.AdamWFfnDownRefIdeal.main_v25) = v1 c
          ∧ r.2.mem ((c.tc : Thread Cert.AdamWFfnDownRefIdeal.nD Cert.AdamWFfnDownRefIdeal.τ).loc Cert.AdamWFfnDownRefIdeal.main_v26) = v2 c
          ∧ r.2.mem ((c.tc : Thread Cert.AdamWFfnDownRefIdeal.nD Cert.AdamWFfnDownRefIdeal.τ).loc Cert.AdamWFfnDownRefIdeal.main_arg0) = m' ((c.tc : Thread Cert.AdamWFfnDownRefIdeal.nD Cert.AdamWFfnDownRefIdeal.τ).loc Cert.AdamWFfnDownRefIdeal.main_arg0)
          ∧ r.2.mem ((c.tc : Thread Cert.AdamWFfnDownRefIdeal.nD Cert.AdamWFfnDownRefIdeal.τ).loc Cert.AdamWFfnDownRefIdeal.main_arg1) = m' ((c.tc : Thread Cert.AdamWFfnDownRefIdeal.nD Cert.AdamWFfnDownRefIdeal.τ).loc Cert.AdamWFfnDownRefIdeal.main_arg1)
          ∧ r.2.mem ((c.tc : Thread Cert.AdamWFfnDownRefIdeal.nD Cert.AdamWFfnDownRefIdeal.τ).loc Cert.AdamWFfnDownRefIdeal.main_arg2) = m' ((c.tc : Thread Cert.AdamWFfnDownRefIdeal.nD Cert.AdamWFfnDownRefIdeal.τ).loc Cert.AdamWFfnDownRefIdeal.main_arg2)
          ∧ r.2.mem ((c.tc : Thread Cert.AdamWFfnDownRefIdeal.nD Cert.AdamWFfnDownRefIdeal.τ).loc Cert.AdamWFfnDownRefIdeal.main_arg3) = m' ((c.tc : Thread Cert.AdamWFfnDownRefIdeal.nD Cert.AdamWFfnDownRefIdeal.τ).loc Cert.AdamWFfnDownRefIdeal.main_arg3))

def preserves_AttnFw_AttnFwIdeal : Prop :=
  True

def algebraic_AttnFwIdeal_AttnFwRefIdeal_pre_finite_scores [hAttnFwIdeal : Cert.AttnFwIdeal.Facts] [hAttnFwRefIdeal : Cert.AttnFwRefIdeal.Facts] [hPre_finite_scores : Cert.Pre_finite_scores.Facts] : Prop :=
  ∀ (m : (ℓ : Loc Cert.AttnFwIdeal.nD Cert.AttnFwIdeal.τ Cert.AttnFwIdeal.sig) → Buf (Elt Ideal) ℓ) (g : Dev Cert.AttnFwIdeal.nD → PrngReg)
    (m' : (ℓ : Loc Cert.AttnFwRefIdeal.nD Cert.AttnFwRefIdeal.τ Cert.AttnFwRefIdeal.sig) → Buf (Elt Ideal) ℓ) (g' : Dev Cert.AttnFwRefIdeal.nD → PrngReg), Pre_AttnFwIdeal_finite_scores m →
    (∀ c : Dev Cert.AttnFwIdeal.nD,
      m' ((c.tc : Thread Cert.AttnFwRefIdeal.nD Cert.AttnFwRefIdeal.τ).loc Cert.AttnFwRefIdeal.main_arg0) = m ((c.tc : Thread Cert.AttnFwIdeal.nD Cert.AttnFwIdeal.τ).loc Cert.AttnFwIdeal.main_arg0)
      ∧ m' ((c.tc : Thread Cert.AttnFwRefIdeal.nD Cert.AttnFwRefIdeal.τ).loc Cert.AttnFwRefIdeal.main_arg1) = m ((c.tc : Thread Cert.AttnFwIdeal.nD Cert.AttnFwIdeal.τ).loc Cert.AttnFwIdeal.main_arg1)
      ∧ m' ((c.tc : Thread Cert.AttnFwRefIdeal.nD Cert.AttnFwRefIdeal.τ).loc Cert.AttnFwRefIdeal.main_arg2) = m ((c.tc : Thread Cert.AttnFwIdeal.nD Cert.AttnFwIdeal.τ).loc Cert.AttnFwIdeal.main_arg2)) →
    ∃ (v0 : (c : Dev Cert.AttnFwIdeal.nD) → Buf (Elt Ideal) ((c.tc : Thread Cert.AttnFwIdeal.nD Cert.AttnFwIdeal.τ).loc Cert.AttnFwIdeal.main_v0)),
      θ_run (Cert.AttnFwIdeal.defs (F := Ideal)) (onTc (τ := Cert.AttnFwIdeal.τ) (Cert.AttnFwIdeal.main (F := Ideal))) ⟨m, fun _ => 0, g⟩ (fun r => ∀ c : Dev Cert.AttnFwIdeal.nD,
          r.2.mem ((c.tc : Thread Cert.AttnFwIdeal.nD Cert.AttnFwIdeal.τ).loc Cert.AttnFwIdeal.main_v0) = v0 c
          ∧ r.2.mem ((c.tc : Thread Cert.AttnFwIdeal.nD Cert.AttnFwIdeal.τ).loc Cert.AttnFwIdeal.main_arg0) = m ((c.tc : Thread Cert.AttnFwIdeal.nD Cert.AttnFwIdeal.τ).loc Cert.AttnFwIdeal.main_arg0)
          ∧ r.2.mem ((c.tc : Thread Cert.AttnFwIdeal.nD Cert.AttnFwIdeal.τ).loc Cert.AttnFwIdeal.main_arg1) = m ((c.tc : Thread Cert.AttnFwIdeal.nD Cert.AttnFwIdeal.τ).loc Cert.AttnFwIdeal.main_arg1)
          ∧ r.2.mem ((c.tc : Thread Cert.AttnFwIdeal.nD Cert.AttnFwIdeal.τ).loc Cert.AttnFwIdeal.main_arg2) = m ((c.tc : Thread Cert.AttnFwIdeal.nD Cert.AttnFwIdeal.τ).loc Cert.AttnFwIdeal.main_arg2))
      ∧ θ_run (Cert.AttnFwRefIdeal.defs (F := Ideal)) (onTc (τ := Cert.AttnFwRefIdeal.τ) (Cert.AttnFwRefIdeal.main (F := Ideal))) ⟨m', fun _ => 0, g'⟩ (fun r => ∀ c : Dev Cert.AttnFwRefIdeal.nD,
          r.2.mem ((c.tc : Thread Cert.AttnFwRefIdeal.nD Cert.AttnFwRefIdeal.τ).loc Cert.AttnFwRefIdeal.main_v22) = v0 c
          ∧ r.2.mem ((c.tc : Thread Cert.AttnFwRefIdeal.nD Cert.AttnFwRefIdeal.τ).loc Cert.AttnFwRefIdeal.main_arg0) = m' ((c.tc : Thread Cert.AttnFwRefIdeal.nD Cert.AttnFwRefIdeal.τ).loc Cert.AttnFwRefIdeal.main_arg0)
          ∧ r.2.mem ((c.tc : Thread Cert.AttnFwRefIdeal.nD Cert.AttnFwRefIdeal.τ).loc Cert.AttnFwRefIdeal.main_arg1) = m' ((c.tc : Thread Cert.AttnFwRefIdeal.nD Cert.AttnFwRefIdeal.τ).loc Cert.AttnFwRefIdeal.main_arg1)
          ∧ r.2.mem ((c.tc : Thread Cert.AttnFwRefIdeal.nD Cert.AttnFwRefIdeal.τ).loc Cert.AttnFwRefIdeal.main_arg2) = m' ((c.tc : Thread Cert.AttnFwRefIdeal.nD Cert.AttnFwRefIdeal.τ).loc Cert.AttnFwRefIdeal.main_arg2))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)
      ∧ m' ((c.tc : Thread Cert.AdamSmallRefIdeal.nD Cert.AdamSmallRefIdeal.τ).loc Cert.AdamSmallRefIdeal.main_arg4) = m ((c.tc : Thread Cert.AdamSmallIdeal.nD Cert.AdamSmallIdeal.τ).loc Cert.AdamSmallIdeal.main_arg4)
      ∧ m' ((c.tc : Thread Cert.AdamSmallRefIdeal.nD Cert.AdamSmallRefIdeal.τ).loc Cert.AdamSmallRefIdeal.main_arg5) = m ((c.tc : Thread Cert.AdamSmallIdeal.nD Cert.AdamSmallIdeal.τ).loc Cert.AdamSmallIdeal.main_arg5)
      ∧ m' ((c.tc : Thread Cert.AdamSmallRefIdeal.nD Cert.AdamSmallRefIdeal.τ).loc Cert.AdamSmallRefIdeal.main_arg6) = m ((c.tc : Thread Cert.AdamSmallIdeal.nD Cert.AdamSmallIdeal.τ).loc Cert.AdamSmallIdeal.main_arg6)
      ∧ m' ((c.tc : Thread Cert.AdamSmallRefIdeal.nD Cert.AdamSmallRefIdeal.τ).loc Cert.AdamSmallRefIdeal.main_arg7) = m ((c.tc : Thread Cert.AdamSmallIdeal.nD Cert.AdamSmallIdeal.τ).loc Cert.AdamSmallIdeal.main_arg7)
      ∧ m' ((c.tc : Thread Cert.AdamSmallRefIdeal.nD Cert.AdamSmallRefIdeal.τ).loc Cert.AdamSmallRefIdeal.main_arg8) = m ((c.tc : Thread Cert.AdamSmallIdeal.nD Cert.AdamSmallIdeal.τ).loc Cert.AdamSmallIdeal.main_arg8)
      ∧ m' ((c.tc : Thread Cert.AdamSmallRefIdeal.nD Cert.AdamSmallRefIdeal.τ).loc Cert.AdamSmallRefIdeal.main_arg9) = m ((c.tc : Thread Cert.AdamSmallIdeal.nD Cert.AdamSmallIdeal.τ).loc Cert.AdamSmallIdeal.main_arg9)
      ∧ m' ((c.tc : Thread Cert.AdamSmallRefIdeal.nD Cert.AdamSmallRefIdeal.τ).loc Cert.AdamSmallRefIdeal.main_arg10) = m ((c.tc : Thread Cert.AdamSmallIdeal.nD Cert.AdamSmallIdeal.τ).loc Cert.AdamSmallIdeal.main_arg10)
      ∧ m' ((c.tc : Thread Cert.AdamSmallRefIdeal.nD Cert.AdamSmallRefIdeal.τ).loc Cert.AdamSmallRefIdeal.main_arg11) = m ((c.tc : Thread Cert.AdamSmallIdeal.nD Cert.AdamSmallIdeal.τ).loc Cert.AdamSmallIdeal.main_arg11)
      ∧ m' ((c.tc : Thread Cert.AdamSmallRefIdeal.nD Cert.AdamSmallRefIdeal.τ).loc Cert.AdamSmallRefIdeal.main_arg12) = m ((c.tc : Thread Cert.AdamSmallIdeal.nD Cert.AdamSmallIdeal.τ).loc Cert.AdamSmallIdeal.main_arg12)
      ∧ m' ((c.tc : Thread Cert.AdamSmallRefIdeal.nD Cert.AdamSmallRefIdeal.τ).loc Cert.AdamSmallRefIdeal.main_arg13) = m ((c.tc : Thread Cert.AdamSmallIdeal.nD Cert.AdamSmallIdeal.τ).loc Cert.AdamSmallIdeal.main_arg13)
      ∧ m' ((c.tc : Thread Cert.AdamSmallRefIdeal.nD Cert.AdamSmallRefIdeal.τ).loc Cert.AdamSmallRefIdeal.main_arg14) = m ((c.tc : Thread Cert.AdamSmallIdeal.nD Cert.AdamSmallIdeal.τ).loc Cert.AdamSmallIdeal.main_arg14)
      ∧ m' ((c.tc : Thread Cert.AdamSmallRefIdeal.nD Cert.AdamSmallRefIdeal.τ).loc Cert.AdamSmallRefIdeal.main_arg15) = m ((c.tc : Thread Cert.AdamSmallIdeal.nD Cert.AdamSmallIdeal.τ).loc Cert.AdamSmallIdeal.main_arg15)
      ∧ m' ((c.tc : Thread Cert.AdamSmallRefIdeal.nD Cert.AdamSmallRefIdeal.τ).loc Cert.AdamSmallRefIdeal.main_arg16) = m ((c.tc : Thread Cert.AdamSmallIdeal.nD Cert.AdamSmallIdeal.τ).loc Cert.AdamSmallIdeal.main_arg16)
      ∧ m' ((c.tc : Thread Cert.AdamSmallRefIdeal.nD Cert.AdamSmallRefIdeal.τ).loc Cert.AdamSmallRefIdeal.main_arg17) = m ((c.tc : Thread Cert.AdamSmallIdeal.nD Cert.AdamSmallIdeal.τ).loc Cert.AdamSmallIdeal.main_arg17)
      ∧ m' ((c.tc : Thread Cert.AdamSmallRefIdeal.nD Cert.AdamSmallRefIdeal.τ).loc Cert.AdamSmallRefIdeal.main_arg18) = m ((c.tc : Thread Cert.AdamSmallIdeal.nD Cert.AdamSmallIdeal.τ).loc Cert.AdamSmallIdeal.main_arg18)
      ∧ m' ((c.tc : Thread Cert.AdamSmallRefIdeal.nD Cert.AdamSmallRefIdeal.τ).loc Cert.AdamSmallRefIdeal.main_arg19) = m ((c.tc : Thread Cert.AdamSmallIdeal.nD Cert.AdamSmallIdeal.τ).loc Cert.AdamSmallIdeal.main_arg19)
      ∧ m' ((c.tc : Thread Cert.AdamSmallRefIdeal.nD Cert.AdamSmallRefIdeal.τ).loc Cert.AdamSmallRefIdeal.main_arg20) = m ((c.tc : Thread Cert.AdamSmallIdeal.nD Cert.AdamSmallIdeal.τ).loc Cert.AdamSmallIdeal.main_arg20)
      ∧ m' ((c.tc : Thread Cert.AdamSmallRefIdeal.nD Cert.AdamSmallRefIdeal.τ).loc Cert.AdamSmallRefIdeal.main_arg21) = m ((c.tc : Thread Cert.AdamSmallIdeal.nD Cert.AdamSmallIdeal.τ).loc Cert.AdamSmallIdeal.main_arg21)
      ∧ m' ((c.tc : Thread Cert.AdamSmallRefIdeal.nD Cert.AdamSmallRefIdeal.τ).loc Cert.AdamSmallRefIdeal.main_arg22) = m ((c.tc : Thread Cert.AdamSmallIdeal.nD Cert.AdamSmallIdeal.τ).loc Cert.AdamSmallIdeal.main_arg22)
      ∧ m' ((c.tc : Thread Cert.AdamSmallRefIdeal.nD Cert.AdamSmallRefIdeal.τ).loc Cert.AdamSmallRefIdeal.main_arg23) = m ((c.tc : Thread Cert.AdamSmallIdeal.nD Cert.AdamSmallIdeal.τ).loc Cert.AdamSmallIdeal.main_arg23)
      ∧ m' ((c.tc : Thread Cert.AdamSmallRefIdeal.nD Cert.AdamSmallRefIdeal.τ).loc Cert.AdamSmallRefIdeal.main_arg24) = m ((c.tc : Thread Cert.AdamSmallIdeal.nD Cert.AdamSmallIdeal.τ).loc Cert.AdamSmallIdeal.main_arg24)
      ∧ m' ((c.tc : Thread Cert.AdamSmallRefIdeal.nD Cert.AdamSmallRefIdeal.τ).loc Cert.AdamSmallRefIdeal.main_arg25) = m ((c.tc : Thread Cert.AdamSmallIdeal.nD Cert.AdamSmallIdeal.τ).loc Cert.AdamSmallIdeal.main_arg25)
      ∧ m' ((c.tc : Thread Cert.AdamSmallRefIdeal.nD Cert.AdamSmallRefIdeal.τ).loc Cert.AdamSmallRefIdeal.main_arg26) = m ((c.tc : Thread Cert.AdamSmallIdeal.nD Cert.AdamSmallIdeal.τ).loc Cert.AdamSmallIdeal.main_arg26)
      ∧ m' ((c.tc : Thread Cert.AdamSmallRefIdeal.nD Cert.AdamSmallRefIdeal.τ).loc Cert.AdamSmallRefIdeal.main_arg27) = m ((c.tc : Thread Cert.AdamSmallIdeal.nD Cert.AdamSmallIdeal.τ).loc Cert.AdamSmallIdeal.main_arg27)
      ∧ m' ((c.tc : Thread Cert.AdamSmallRefIdeal.nD Cert.AdamSmallRefIdeal.τ).loc Cert.AdamSmallRefIdeal.main_arg28) = m ((c.tc : Thread Cert.AdamSmallIdeal.nD Cert.AdamSmallIdeal.τ).loc Cert.AdamSmallIdeal.main_arg28)
      ∧ m' ((c.tc : Thread Cert.AdamSmallRefIdeal.nD Cert.AdamSmallRefIdeal.τ).loc Cert.AdamSmallRefIdeal.main_arg29) = m ((c.tc : Thread Cert.AdamSmallIdeal.nD Cert.AdamSmallIdeal.τ).loc Cert.AdamSmallIdeal.main_arg29)
      ∧ m' ((c.tc : Thread Cert.AdamSmallRefIdeal.nD Cert.AdamSmallRefIdeal.τ).loc Cert.AdamSmallRefIdeal.main_arg30) = m ((c.tc : Thread Cert.AdamSmallIdeal.nD Cert.AdamSmallIdeal.τ).loc Cert.AdamSmallIdeal.main_arg30)
      ∧ m' ((c.tc : Thread Cert.AdamSmallRefIdeal.nD Cert.AdamSmallRefIdeal.τ).loc Cert.AdamSmallRefIdeal.main_arg31) = m ((c.tc : Thread Cert.AdamSmallIdeal.nD Cert.AdamSmallIdeal.τ).loc Cert.AdamSmallIdeal.main_arg31)
      ∧ m' ((c.tc : Thread Cert.AdamSmallRefIdeal.nD Cert.AdamSmallRefIdeal.τ).loc Cert.AdamSmallRefIdeal.main_arg32) = m ((c.tc : Thread Cert.AdamSmallIdeal.nD Cert.AdamSmallIdeal.τ).loc Cert.AdamSmallIdeal.main_arg32)
      ∧ m' ((c.tc : Thread Cert.AdamSmallRefIdeal.nD Cert.AdamSmallRefIdeal.τ).loc Cert.AdamSmallRefIdeal.main_arg33) = m ((c.tc : Thread Cert.AdamSmallIdeal.nD Cert.AdamSmallIdeal.τ).loc Cert.AdamSmallIdeal.main_arg33)
      ∧ m' ((c.tc : Thread Cert.AdamSmallRefIdeal.nD Cert.AdamSmallRefIdeal.τ).loc Cert.AdamSmallRefIdeal.main_arg34) = m ((c.tc : Thread Cert.AdamSmallIdeal.nD Cert.AdamSmallIdeal.τ).loc Cert.AdamSmallIdeal.main_arg34)
      ∧ m' ((c.tc : Thread Cert.AdamSmallRefIdeal.nD Cert.AdamSmallRefIdeal.τ).loc Cert.AdamSmallRefIdeal.main_arg35) = m ((c.tc : Thread Cert.AdamSmallIdeal.nD Cert.AdamSmallIdeal.τ).loc Cert.AdamSmallIdeal.main_arg35)
      ∧ m' ((c.tc : Thread Cert.AdamSmallRefIdeal.nD Cert.AdamSmallRefIdeal.τ).loc Cert.AdamSmallRefIdeal.main_arg36) = m ((c.tc : Thread Cert.AdamSmallIdeal.nD Cert.AdamSmallIdeal.τ).loc Cert.AdamSmallIdeal.main_arg36)
      ∧ m' ((c.tc : Thread Cert.AdamSmallRefIdeal.nD Cert.AdamSmallRefIdeal.τ).loc Cert.AdamSmallRefIdeal.main_arg37) = m ((c.tc : Thread Cert.AdamSmallIdeal.nD Cert.AdamSmallIdeal.τ).loc Cert.AdamSmallIdeal.main_arg37)
      ∧ m' ((c.tc : Thread Cert.AdamSmallRefIdeal.nD Cert.AdamSmallRefIdeal.τ).loc Cert.AdamSmallRefIdeal.main_arg38) = m ((c.tc : Thread Cert.AdamSmallIdeal.nD Cert.AdamSmallIdeal.τ).loc Cert.AdamSmallIdeal.main_arg38)
      ∧ m' ((c.tc : Thread Cert.AdamSmallRefIdeal.nD Cert.AdamSmallRefIdeal.τ).loc Cert.AdamSmallRefIdeal.main_arg39) = m ((c.tc : Thread Cert.AdamSmallIdeal.nD Cert.AdamSmallIdeal.τ).loc Cert.AdamSmallIdeal.main_arg39)
      ∧ m' ((c.tc : Thread Cert.AdamSmallRefIdeal.nD Cert.AdamSmallRefIdeal.τ).loc Cert.AdamSmallRefIdeal.main_arg40) = m ((c.tc : Thread Cert.AdamSmallIdeal.nD Cert.AdamSmallIdeal.τ).loc Cert.AdamSmallIdeal.main_arg40)
      ∧ m' ((c.tc : Thread Cert.AdamSmallRefIdeal.nD Cert.AdamSmallRefIdeal.τ).loc Cert.AdamSmallRefIdeal.main_arg41) = m ((c.tc : Thread Cert.AdamSmallIdeal.nD Cert.AdamSmallIdeal.τ).loc Cert.AdamSmallIdeal.main_arg41)
      ∧ m' ((c.tc : Thread Cert.AdamSmallRefIdeal.nD Cert.AdamSmallRefIdeal.τ).loc Cert.AdamSmallRefIdeal.main_arg42) = m ((c.tc : Thread Cert.AdamSmallIdeal.nD Cert.AdamSmallIdeal.τ).loc Cert.AdamSmallIdeal.main_arg42)
      ∧ m' ((c.tc : Thread Cert.AdamSmallRefIdeal.nD Cert.AdamSmallRefIdeal.τ).loc Cert.AdamSmallRefIdeal.main_arg43) = m ((c.tc : Thread Cert.AdamSmallIdeal.nD Cert.AdamSmallIdeal.τ).loc Cert.AdamSmallIdeal.main_arg43)
      ∧ m' ((c.tc : Thread Cert.AdamSmallRefIdeal.nD Cert.AdamSmallRefIdeal.τ).loc Cert.AdamSmallRefIdeal.main_arg44) = m ((c.tc : Thread Cert.AdamSmallIdeal.nD Cert.AdamSmallIdeal.τ).loc Cert.AdamSmallIdeal.main_arg44)
      ∧ m' ((c.tc : Thread Cert.AdamSmallRefIdeal.nD Cert.AdamSmallRefIdeal.τ).loc Cert.AdamSmallRefIdeal.main_arg45) = m ((c.tc : Thread Cert.AdamSmallIdeal.nD Cert.AdamSmallIdeal.τ).loc Cert.AdamSmallIdeal.main_arg45)
      ∧ m' ((c.tc : Thread Cert.AdamSmallRefIdeal.nD Cert.AdamSmallRefIdeal.τ).loc Cert.AdamSmallRefIdeal.main_arg46) = m ((c.tc : Thread Cert.AdamSmallIdeal.nD Cert.AdamSmallIdeal.τ).loc Cert.AdamSmallIdeal.main_arg46)
      ∧ m' ((c.tc : Thread Cert.AdamSmallRefIdeal.nD Cert.AdamSmallRefIdeal.τ).loc Cert.AdamSmallRefIdeal.main_arg47) = m ((c.tc : Thread Cert.AdamSmallIdeal.nD Cert.AdamSmallIdeal.τ).loc Cert.AdamSmallIdeal.main_arg47)
      ∧ m' ((c.tc : Thread Cert.AdamSmallRefIdeal.nD Cert.AdamSmallRefIdeal.τ).loc Cert.AdamSmallRefIdeal.main_arg48) = m ((c.tc : Thread Cert.AdamSmallIdeal.nD Cert.AdamSmallIdeal.τ).loc Cert.AdamSmallIdeal.main_arg48)
      ∧ m' ((c.tc : Thread Cert.AdamSmallRefIdeal.nD Cert.AdamSmallRefIdeal.τ).loc Cert.AdamSmallRefIdeal.main_arg49) = m ((c.tc : Thread Cert.AdamSmallIdeal.nD Cert.AdamSmallIdeal.τ).loc Cert.AdamSmallIdeal.main_arg49)
      ∧ m' ((c.tc : Thread Cert.AdamSmallRefIdeal.nD Cert.AdamSmallRefIdeal.τ).loc Cert.AdamSmallRefIdeal.main_arg50) = m ((c.tc : Thread Cert.AdamSmallIdeal.nD Cert.AdamSmallIdeal.τ).loc Cert.AdamSmallIdeal.main_arg50)
      ∧ m' ((c.tc : Thread Cert.AdamSmallRefIdeal.nD Cert.AdamSmallRefIdeal.τ).loc Cert.AdamSmallRefIdeal.main_arg51) = m ((c.tc : Thread Cert.AdamSmallIdeal.nD Cert.AdamSmallIdeal.τ).loc Cert.AdamSmallIdeal.main_arg51)
      ∧ m' ((c.tc : Thread Cert.AdamSmallRefIdeal.nD Cert.AdamSmallRefIdeal.τ).loc Cert.AdamSmallRefIdeal.main_arg52) = m ((c.tc : Thread Cert.AdamSmallIdeal.nD Cert.AdamSmallIdeal.τ).loc Cert.AdamSmallIdeal.main_arg52)
      ∧ m' ((c.tc : Thread Cert.AdamSmallRefIdeal.nD Cert.AdamSmallRefIdeal.τ).loc Cert.AdamSmallRefIdeal.main_arg53) = m ((c.tc : Thread Cert.AdamSmallIdeal.nD Cert.AdamSmallIdeal.τ).loc Cert.AdamSmallIdeal.main_arg53)
      ∧ m' ((c.tc : Thread Cert.AdamSmallRefIdeal.nD Cert.AdamSmallRefIdeal.τ).loc Cert.AdamSmallRefIdeal.main_arg54) = m ((c.tc : Thread Cert.AdamSmallIdeal.nD Cert.AdamSmallIdeal.τ).loc Cert.AdamSmallIdeal.main_arg54)
      ∧ m' ((c.tc : Thread Cert.AdamSmallRefIdeal.nD Cert.AdamSmallRefIdeal.τ).loc Cert.AdamSmallRefIdeal.main_arg55) = m ((c.tc : Thread Cert.AdamSmallIdeal.nD Cert.AdamSmallIdeal.τ).loc Cert.AdamSmallIdeal.main_arg55)
      ∧ m' ((c.tc : Thread Cert.AdamSmallRefIdeal.nD Cert.AdamSmallRefIdeal.τ).loc Cert.AdamSmallRefIdeal.main_arg56) = m ((c.tc : Thread Cert.AdamSmallIdeal.nD Cert.AdamSmallIdeal.τ).loc Cert.AdamSmallIdeal.main_arg56)
      ∧ m' ((c.tc : Thread Cert.AdamSmallRefIdeal.nD Cert.AdamSmallRefIdeal.τ).loc Cert.AdamSmallRefIdeal.main_arg57) = m ((c.tc : Thread Cert.AdamSmallIdeal.nD Cert.AdamSmallIdeal.τ).loc Cert.AdamSmallIdeal.main_arg57)
      ∧ m' ((c.tc : Thread Cert.AdamSmallRefIdeal.nD Cert.AdamSmallRefIdeal.τ).loc Cert.AdamSmallRefIdeal.main_arg58) = m ((c.tc : Thread Cert.AdamSmallIdeal.nD Cert.AdamSmallIdeal.τ).loc Cert.AdamSmallIdeal.main_arg58)
      ∧ m' ((c.tc : Thread Cert.AdamSmallRefIdeal.nD Cert.AdamSmallRefIdeal.τ).loc Cert.AdamSmallRefIdeal.main_arg59) = m ((c.tc : Thread Cert.AdamSmallIdeal.nD Cert.AdamSmallIdeal.τ).loc Cert.AdamSmallIdeal.main_arg59)
      ∧ m' ((c.tc : Thread Cert.AdamSmallRefIdeal.nD Cert.AdamSmallRefIdeal.τ).loc Cert.AdamSmallRefIdeal.main_arg60) = m ((c.tc : Thread Cert.AdamSmallIdeal.nD Cert.AdamSmallIdeal.τ).loc Cert.AdamSmallIdeal.main_arg60)
      ∧ m' ((c.tc : Thread Cert.AdamSmallRefIdeal.nD Cert.AdamSmallRefIdeal.τ).loc Cert.AdamSmallRefIdeal.main_arg61) = m ((c.tc : Thread Cert.AdamSmallIdeal.nD Cert.AdamSmallIdeal.τ).loc Cert.AdamSmallIdeal.main_arg61)
      ∧ m' ((c.tc : Thread Cert.AdamSmallRefIdeal.nD Cert.AdamSmallRefIdeal.τ).loc Cert.AdamSmallRefIdeal.main_arg62) = m ((c.tc : Thread Cert.AdamSmallIdeal.nD Cert.AdamSmallIdeal.τ).loc Cert.AdamSmallIdeal.main_arg62)
      ∧ m' ((c.tc : Thread Cert.AdamSmallRefIdeal.nD Cert.AdamSmallRefIdeal.τ).loc Cert.AdamSmallRefIdeal.main_arg63) = m ((c.tc : Thread Cert.AdamSmallIdeal.nD Cert.AdamSmallIdeal.τ).loc Cert.AdamSmallIdeal.main_arg63)
      ∧ m' ((c.tc : Thread Cert.AdamSmallRefIdeal.nD Cert.AdamSmallRefIdeal.τ).loc Cert.AdamSmallRefIdeal.main_arg64) = m ((c.tc : Thread Cert.AdamSmallIdeal.nD Cert.AdamSmallIdeal.τ).loc Cert.AdamSmallIdeal.main_arg64)
      ∧ m' ((c.tc : Thread Cert.AdamSmallRefIdeal.nD Cert.AdamSmallRefIdeal.τ).loc Cert.AdamSmallRefIdeal.main_arg65) = m ((c.tc : Thread Cert.AdamSmallIdeal.nD Cert.AdamSmallIdeal.τ).loc Cert.AdamSmallIdeal.main_arg65)
      ∧ m' ((c.tc : Thread Cert.AdamSmallRefIdeal.nD Cert.AdamSmallRefIdeal.τ).loc Cert.AdamSmallRefIdeal.main_arg66) = m ((c.tc : Thread Cert.AdamSmallIdeal.nD Cert.AdamSmallIdeal.τ).loc Cert.AdamSmallIdeal.main_arg66)
      ∧ m' ((c.tc : Thread Cert.AdamSmallRefIdeal.nD Cert.AdamSmallRefIdeal.τ).loc Cert.AdamSmallRefIdeal.main_arg67) = m ((c.tc : Thread Cert.AdamSmallIdeal.nD Cert.AdamSmallIdeal.τ).loc Cert.AdamSmallIdeal.main_arg67)
      ∧ m' ((c.tc : Thread Cert.AdamSmallRefIdeal.nD Cert.AdamSmallRefIdeal.τ).loc Cert.AdamSmallRefIdeal.main_arg68) = m ((c.tc : Thread Cert.AdamSmallIdeal.nD Cert.AdamSmallIdeal.τ).loc Cert.AdamSmallIdeal.main_arg68)
      ∧ m' ((c.tc : Thread Cert.AdamSmallRefIdeal.nD Cert.AdamSmallRefIdeal.τ).loc Cert.AdamSmallRefIdeal.main_arg69) = m ((c.tc : Thread Cert.AdamSmallIdeal.nD Cert.AdamSmallIdeal.τ).loc Cert.AdamSmallIdeal.main_arg69)
      ∧ m' ((c.tc : Thread Cert.AdamSmallRefIdeal.nD Cert.AdamSmallRefIdeal.τ).loc Cert.AdamSmallRefIdeal.main_arg70) = m ((c.tc : Thread Cert.AdamSmallIdeal.nD Cert.AdamSmallIdeal.τ).loc Cert.AdamSmallIdeal.main_arg70)
      ∧ m' ((c.tc : Thread Cert.AdamSmallRefIdeal.nD Cert.AdamSmallRefIdeal.τ).loc Cert.AdamSmallRefIdeal.main_arg71) = m ((c.tc : Thread Cert.AdamSmallIdeal.nD Cert.AdamSmallIdeal.τ).loc Cert.AdamSmallIdeal.main_arg71)) →
    ∃ (v0 : (c : Dev Cert.AdamSmallIdeal.nD) → Buf (Elt Ideal) ((c.tc : Thread Cert.AdamSmallIdeal.nD Cert.AdamSmallIdeal.τ).loc Cert.AdamSmallIdeal.main_v91)) (v1 : (c : Dev Cert.AdamSmallIdeal.nD) → Buf (Elt Ideal) ((c.tc : Thread Cert.AdamSmallIdeal.nD Cert.AdamSmallIdeal.τ).loc Cert.AdamSmallIdeal.main_v93)) (v2 : (c : Dev Cert.AdamSmallIdeal.nD) → Buf (Elt Ideal) ((c.tc : Thread Cert.AdamSmallIdeal.nD Cert.AdamSmallIdeal.τ).loc Cert.AdamSmallIdeal.main_v95)) (v3 : (c : Dev Cert.AdamSmallIdeal.nD) → Buf (Elt Ideal) ((c.tc : Thread Cert.AdamSmallIdeal.nD Cert.AdamSmallIdeal.τ).loc Cert.AdamSmallIdeal.main_v97)) (v4 : (c : Dev Cert.AdamSmallIdeal.nD) → Buf (Elt Ideal) ((c.tc : Thread Cert.AdamSmallIdeal.nD Cert.AdamSmallIdeal.τ).loc Cert.AdamSmallIdeal.main_v99)) (v5 : (c : Dev Cert.AdamSmallIdeal.nD) → Buf (Elt Ideal) ((c.tc : Thread Cert.AdamSmallIdeal.nD Cert.AdamSmallIdeal.τ).loc Cert.AdamSmallIdeal.main_v101)) (v6 : (c : Dev Cert.AdamSmallIdeal.nD) → Buf (Elt Ideal) ((c.tc : Thread Cert.AdamSmallIdeal.nD Cert.AdamSmallIdeal.τ).loc Cert.AdamSmallIdeal.main_v103)) (v7 : (c : Dev Cert.AdamSmallIdeal.nD) → Buf (Elt Ideal) ((c.tc : Thread Cert.AdamSmallIdeal.nD Cert.AdamSmallIdeal.τ).loc Cert.AdamSmallIdeal.main_v105)) (v8 : (c : Dev Cert.AdamSmallIdeal.nD) → Buf (Elt Ideal) ((c.tc : Thread Cert.AdamSmallIdeal.nD Cert.AdamSmallIdeal.τ).loc Cert.AdamSmallIdeal.main_v107)) (v9 : (c : Dev Cert.AdamSmallIdeal.nD) → Buf (Elt Ideal) ((c.tc : Thread Cert.AdamSmallIdeal.nD Cert.AdamSmallIdeal.τ).loc Cert.AdamSmallIdeal.main_v109)) (v10 : (c : Dev Cert.AdamSmallIdeal.nD) → Buf (Elt Ideal) ((c.tc : Thread Cert.AdamSmallIdeal.nD Cert.AdamSmallIdeal.τ).loc Cert.AdamSmallIdeal.main_v111)) (v11 : (c : Dev Cert.AdamSmallIdeal.nD) → Buf (Elt Ideal) ((c.tc : Thread Cert.AdamSmallIdeal.nD Cert.AdamSmallIdeal.τ).loc Cert.AdamSmallIdeal.main_v113)) (v12 : (c : Dev Cert.AdamSmallIdeal.nD) → Buf (Elt Ideal) ((c.tc : Thread Cert.AdamSmallIdeal.nD Cert.AdamSmallIdeal.τ).loc Cert.AdamSmallIdeal.main_v115)) (v13 : (c : Dev Cert.AdamSmallIdeal.nD) → Buf (Elt Ideal) ((c.tc : Thread Cert.AdamSmallIdeal.nD Cert.AdamSmallIdeal.τ).loc Cert.AdamSmallIdeal.main_v117)) (v14 : (c : Dev Cert.AdamSmallIdeal.nD) → Buf (Elt Ideal) ((c.tc : Thread Cert.AdamSmallIdeal.nD Cert.AdamSmallIdeal.τ).loc Cert.AdamSmallIdeal.main_v119)) (v15 : (c : Dev Cert.AdamSmallIdeal.nD) → Buf (Elt Ideal) ((c.tc : Thread Cert.AdamSmallIdeal.nD Cert.AdamSmallIdeal.τ).loc Cert.AdamSmallIdeal.main_v121)) (v16 : (c : Dev Cert.AdamSmallIdeal.nD) → Buf (Elt Ideal) ((c.tc : Thread Cert.AdamSmallIdeal.nD Cert.AdamSmallIdeal.τ).loc Cert.AdamSmallIdeal.main_v123)) (v17 : (c : Dev Cert.AdamSmallIdeal.nD) → Buf (Elt Ideal) ((c.tc : Thread Cert.AdamSmallIdeal.nD Cert.AdamSmallIdeal.τ).loc Cert.AdamSmallIdeal.main_v124)) (v18 : (c : Dev Cert.AdamSmallIdeal.nD) → Buf (Elt Ideal) ((c.tc : Thread Cert.AdamSmallIdeal.nD Cert.AdamSmallIdeal.τ).loc Cert.AdamSmallIdeal.main_v127)) (v19 : (c : Dev Cert.AdamSmallIdeal.nD) → Buf (Elt Ideal) ((c.tc : Thread Cert.AdamSmallIdeal.nD Cert.AdamSmallIdeal.τ).loc Cert.AdamSmallIdeal.main_v129)) (v20 : (c : Dev Cert.AdamSmallIdeal.nD) → Buf (Elt Ideal) ((c.tc : Thread Cert.AdamSmallIdeal.nD Cert.AdamSmallIdeal.τ).loc Cert.AdamSmallIdeal.main_v131)) (v21 : (c : Dev Cert.AdamSmallIdeal.nD) → Buf (Elt Ideal) ((c.tc : Thread Cert.AdamSmallIdeal.nD Cert.AdamSmallIdeal.τ).loc Cert.AdamSmallIdeal.main_v133)) (v22 : (c : Dev Cert.AdamSmallIdeal.nD) → Buf (Elt Ideal) ((c.tc : Thread Cert.AdamSmallIdeal.nD Cert.AdamSmallIdeal.τ).loc Cert.AdamSmallIdeal.main_v135)) (v23 : (c : Dev Cert.AdamSmallIdeal.nD) → Buf (Elt Ideal) ((c.tc : Thread Cert.AdamSmallIdeal.nD Cert.AdamSmallIdeal.τ).loc Cert.AdamSmallIdeal.main_v137)) (v24 : (c : Dev Cert.AdamSmallIdeal.nD) → Buf (Elt Ideal) ((c.tc : Thread Cert.AdamSmallIdeal.nD Cert.AdamSmallIdeal.τ).loc Cert.AdamSmallIdeal.main_v139)) (v25 : (c : Dev Cert.AdamSmallIdeal.nD) → Buf (Elt Ideal) ((c.tc : Thread Cert.AdamSmallIdeal.nD Cert.AdamSmallIdeal.τ).loc Cert.AdamSmallIdeal.main_v141)) (v26 : (c : Dev Cert.AdamSmallIdeal.nD) → Buf (Elt Ideal) ((c.tc : Thread Cert.AdamSmallIdeal.nD Cert.AdamSmallIdeal.τ).loc Cert.AdamSmallIdeal.main_v143)) (v27 : (c : Dev Cert.AdamSmallIdeal.nD) → Buf (Elt Ideal) ((c.tc : Thread Cert.AdamSmallIdeal.nD Cert.AdamSmallIdeal.τ).loc Cert.AdamSmallIdeal.main_v145)) (v28 : (c : Dev Cert.AdamSmallIdeal.nD) → Buf (Elt Ideal) ((c.tc : Thread Cert.AdamSmallIdeal.nD Cert.AdamSmallIdeal.τ).loc Cert.AdamSmallIdeal.main_v147)) (v29 : (c : Dev Cert.AdamSmallIdeal.nD) → Buf (Elt Ideal) ((c.tc : Thread Cert.AdamSmallIdeal.nD Cert.AdamSmallIdeal.τ).loc Cert.AdamSmallIdeal.main_v149)) (v30 : (c : Dev Cert.AdamSmallIdeal.nD) → Buf (Elt Ideal) ((c.tc : Thread Cert.AdamSmallIdeal.nD Cert.AdamSmallIdeal.τ).loc Cert.AdamSmallIdeal.main_v151)) (v31 : (c : Dev Cert.AdamSmallIdeal.nD) → Buf (Elt Ideal) ((c.tc : Thread Cert.AdamSmallIdeal.nD Cert.AdamSmallIdeal.τ).loc Cert.AdamSmallIdeal.main_v153)) (v32 : (c : Dev Cert.AdamSmallIdeal.nD) → Buf (Elt Ideal) ((c.tc : Thread Cert.AdamSmallIdeal.nD Cert.AdamSmallIdeal.τ).loc Cert.AdamSmallIdeal.main_v155)) (v33 : (c : Dev Cert.AdamSmallIdeal.nD) → Buf (Elt Ideal) ((c.tc : Thread Cert.AdamSmallIdeal.nD Cert.AdamSmallIdeal.τ).loc Cert.AdamSmallIdeal.main_v157)) (v34 : (c : Dev Cert.AdamSmallIdeal.nD) → Buf (Elt Ideal) ((c.tc : Thread Cert.AdamSmallIdeal.nD Cert.AdamSmallIdeal.τ).loc Cert.AdamSmallIdeal.main_v159)) (v35 : (c : Dev Cert.AdamSmallIdeal.nD) → Buf (Elt Ideal) ((c.tc : Thread Cert.AdamSmallIdeal.nD Cert.AdamSmallIdeal.τ).loc Cert.AdamSmallIdeal.main_v160)) (v36 : (c : Dev Cert.AdamSmallIdeal.nD) → Buf (Elt Ideal) ((c.tc : Thread Cert.AdamSmallIdeal.nD Cert.AdamSmallIdeal.τ).loc Cert.AdamSmallIdeal.main_v163)) (v37 : (c : Dev Cert.AdamSmallIdeal.nD) → Buf (Elt Ideal) ((c.tc : Thread Cert.AdamSmallIdeal.nD Cert.AdamSmallIdeal.τ).loc Cert.AdamSmallIdeal.main_v165)) (v38 : (c : Dev Cert.AdamSmallIdeal.nD) → Buf (Elt Ideal) ((c.tc : Thread Cert.AdamSmallIdeal.nD Cert.AdamSmallIdeal.τ).loc Cert.AdamSmallIdeal.main_v167)) (v39 : (c : Dev Cert.AdamSmallIdeal.nD) → Buf (Elt Ideal) ((c.tc : Thread Cert.AdamSmallIdeal.nD Cert.AdamSmallIdeal.τ).loc Cert.AdamSmallIdeal.main_v169)) (v40 : (c : Dev Cert.AdamSmallIdeal.nD) → Buf (Elt Ideal) ((c.tc : Thread Cert.AdamSmallIdeal.nD Cert.AdamSmallIdeal.τ).loc Cert.AdamSmallIdeal.main_v171)) (v41 : (c : Dev Cert.AdamSmallIdeal.nD) → Buf (Elt Ideal) ((c.tc : Thread Cert.AdamSmallIdeal.nD Cert.AdamSmallIdeal.τ).loc Cert.AdamSmallIdeal.main_v173)) (v42 : (c : Dev Cert.AdamSmallIdeal.nD) → Buf (Elt Ideal) ((c.tc : Thread Cert.AdamSmallIdeal.nD Cert.AdamSmallIdeal.τ).loc Cert.AdamSmallIdeal.main_v175)) (v43 : (c : Dev Cert.AdamSmallIdeal.nD) → Buf (Elt Ideal) ((c.tc : Thread Cert.AdamSmallIdeal.nD Cert.AdamSmallIdeal.τ).loc Cert.AdamSmallIdeal.main_v177)) (v44 : (c : Dev Cert.AdamSmallIdeal.nD) → Buf (Elt Ideal) ((c.tc : Thread Cert.AdamSmallIdeal.nD Cert.AdamSmallIdeal.τ).loc Cert.AdamSmallIdeal.main_v179)) (v45 : (c : Dev Cert.AdamSmallIdeal.nD) → Buf (Elt Ideal) ((c.tc : Thread Cert.AdamSmallIdeal.nD Cert.AdamSmallIdeal.τ).loc Cert.AdamSmallIdeal.main_v181)) (v46 : (c : Dev Cert.AdamSmallIdeal.nD) → Buf (Elt Ideal) ((c.tc : Thread Cert.AdamSmallIdeal.nD Cert.AdamSmallIdeal.τ).loc Cert.AdamSmallIdeal.main_v183)) (v47 : (c : Dev Cert.AdamSmallIdeal.nD) → Buf (Elt Ideal) ((c.tc : Thread Cert.AdamSmallIdeal.nD Cert.AdamSmallIdeal.τ).loc Cert.AdamSmallIdeal.main_v185)) (v48 : (c : Dev Cert.AdamSmallIdeal.nD) → Buf (Elt Ideal) ((c.tc : Thread Cert.AdamSmallIdeal.nD Cert.AdamSmallIdeal.τ).loc Cert.AdamSmallIdeal.main_v187)) (v49 : (c : Dev Cert.AdamSmallIdeal.nD) → Buf (Elt Ideal) ((c.tc : Thread Cert.AdamSmallIdeal.nD Cert.AdamSmallIdeal.τ).loc Cert.AdamSmallIdeal.main_v189)) (v50 : (c : Dev Cert.AdamSmallIdeal.nD) → Buf (Elt Ideal) ((c.tc : Thread Cert.AdamSmallIdeal.nD Cert.AdamSmallIdeal.τ).loc Cert.AdamSmallIdeal.main_v191)) (v51 : (c : Dev Cert.AdamSmallIdeal.nD) → Buf (Elt Ideal) ((c.tc : Thread Cert.AdamSmallIdeal.nD Cert.AdamSmallIdeal.τ).loc Cert.AdamSmallIdeal.main_v193)) (v52 : (c : Dev Cert.AdamSmallIdeal.nD) → Buf (Elt Ideal) ((c.tc : Thread Cert.AdamSmallIdeal.nD Cert.AdamSmallIdeal.τ).loc Cert.AdamSmallIdeal.main_v195)) (v53 : (c : Dev Cert.AdamSmallIdeal.nD) → Buf (Elt Ideal) ((c.tc : Thread Cert.AdamSmallIdeal.nD Cert.AdamSmallIdeal.τ).loc Cert.AdamSmallIdeal.main_v196)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v91) = v0 c
          ∧ r.2.mem ((c.tc : Thread Cert.AdamSmallIdeal.nD Cert.AdamSmallIdeal.τ).loc Cert.AdamSmallIdeal.main_v93) = v1 c
          ∧ r.2.mem ((c.tc : Thread Cert.AdamSmallIdeal.nD Cert.AdamSmallIdeal.τ).loc Cert.AdamSmallIdeal.main_v95) = v2 c
          ∧ r.2.mem ((c.tc : Thread Cert.AdamSmallIdeal.nD Cert.AdamSmallIdeal.τ).loc Cert.AdamSmallIdeal.main_v97) = v3 c
          ∧ r.2.mem ((c.tc : Thread Cert.AdamSmallIdeal.nD Cert.AdamSmallIdeal.τ).loc Cert.AdamSmallIdeal.main_v99) = v4 c
          ∧ r.2.mem ((c.tc : Thread Cert.AdamSmallIdeal.nD Cert.AdamSmallIdeal.τ).loc Cert.AdamSmallIdeal.main_v101) = v5 c
          ∧ r.2.mem ((c.tc : Thread Cert.AdamSmallIdeal.nD Cert.AdamSmallIdeal.τ).loc Cert.AdamSmallIdeal.main_v103) = v6 c
          ∧ r.2.mem ((c.tc : Thread Cert.AdamSmallIdeal.nD Cert.AdamSmallIdeal.τ).loc Cert.AdamSmallIdeal.main_v105) = v7 c
          ∧ r.2.mem ((c.tc : Thread Cert.AdamSmallIdeal.nD Cert.AdamSmallIdeal.τ).loc Cert.AdamSmallIdeal.main_v107) = v8 c
          ∧ r.2.mem ((c.tc : Thread Cert.AdamSmallIdeal.nD Cert.AdamSmallIdeal.τ).loc Cert.AdamSmallIdeal.main_v109) = v9 c
          ∧ r.2.mem ((c.tc : Thread Cert.AdamSmallIdeal.nD Cert.AdamSmallIdeal.τ).loc Cert.AdamSmallIdeal.main_v111) = v10 c
          ∧ r.2.mem ((c.tc : Thread Cert.AdamSmallIdeal.nD Cert.AdamSmallIdeal.τ).loc Cert.AdamSmallIdeal.main_v113) = v11 c
          ∧ r.2.mem ((c.tc : Thread Cert.AdamSmallIdeal.nD Cert.AdamSmallIdeal.τ).loc Cert.AdamSmallIdeal.main_v115) = v12 c
          ∧ r.2.mem ((c.tc : Thread Cert.AdamSmallIdeal.nD Cert.AdamSmallIdeal.τ).loc Cert.AdamSmallIdeal.main_v117) = v13 c
          ∧ r.2.mem ((c.tc : Thread Cert.AdamSmallIdeal.nD Cert.AdamSmallIdeal.τ).loc Cert.AdamSmallIdeal.main_v119) = v14 c
          ∧ r.2.mem ((c.tc : Thread Cert.AdamSmallIdeal.nD Cert.AdamSmallIdeal.τ).loc Cert.AdamSmallIdeal.main_v121) = v15 c
          ∧ r.2.mem ((c.tc : Thread Cert.AdamSmallIdeal.nD Cert.AdamSmallIdeal.τ).loc Cert.AdamSmallIdeal.main_v123) = v16 c
          ∧ r.2.mem ((c.tc : Thread Cert.AdamSmallIdeal.nD Cert.AdamSmallIdeal.τ).loc Cert.AdamSmallIdeal.main_v124) = v17 c
          ∧ r.2.mem ((c.tc : Thread Cert.AdamSmallIdeal.nD Cert.AdamSmallIdeal.τ).loc Cert.AdamSmallIdeal.main_v127) = v18 c
          ∧ r.2.mem ((c.tc : Thread Cert.AdamSmallIdeal.nD Cert.AdamSmallIdeal.τ).loc Cert.AdamSmallIdeal.main_v129) = v19 c
          ∧ r.2.mem ((c.tc : Thread Cert.AdamSmallIdeal.nD Cert.AdamSmallIdeal.τ).loc Cert.AdamSmallIdeal.main_v131) = v20 c
          ∧ r.2.mem ((c.tc : Thread Cert.AdamSmallIdeal.nD Cert.AdamSmallIdeal.τ).loc Cert.AdamSmallIdeal.main_v133) = v21 c
          ∧ r.2.mem ((c.tc : Thread Cert.AdamSmallIdeal.nD Cert.AdamSmallIdeal.τ).loc Cert.AdamSmallIdeal.main_v135) = v22 c
          ∧ r.2.mem ((c.tc : Thread Cert.AdamSmallIdeal.nD Cert.AdamSmallIdeal.τ).loc Cert.AdamSmallIdeal.main_v137) = v23 c
          ∧ r.2.mem ((c.tc : Thread Cert.AdamSmallIdeal.nD Cert.AdamSmallIdeal.τ).loc Cert.AdamSmallIdeal.main_v139) = v24 c
          ∧ r.2.mem ((c.tc : Thread Cert.AdamSmallIdeal.nD Cert.AdamSmallIdeal.τ).loc Cert.AdamSmallIdeal.main_v141) = v25 c
          ∧ r.2.mem ((c.tc : Thread Cert.AdamSmallIdeal.nD Cert.AdamSmallIdeal.τ).loc Cert.AdamSmallIdeal.main_v143) = v26 c
          ∧ r.2.mem ((c.tc : Thread Cert.AdamSmallIdeal.nD Cert.AdamSmallIdeal.τ).loc Cert.AdamSmallIdeal.main_v145) = v27 c
          ∧ r.2.mem ((c.tc : Thread Cert.AdamSmallIdeal.nD Cert.AdamSmallIdeal.τ).loc Cert.AdamSmallIdeal.main_v147) = v28 c
          ∧ r.2.mem ((c.tc : Thread Cert.AdamSmallIdeal.nD Cert.AdamSmallIdeal.τ).loc Cert.AdamSmallIdeal.main_v149) = v29 c
          ∧ r.2.mem ((c.tc : Thread Cert.AdamSmallIdeal.nD Cert.AdamSmallIdeal.τ).loc Cert.AdamSmallIdeal.main_v151) = v30 c
          ∧ r.2.mem ((c.tc : Thread Cert.AdamSmallIdeal.nD Cert.AdamSmallIdeal.τ).loc Cert.AdamSmallIdeal.main_v153) = v31 c
          ∧ r.2.mem ((c.tc : Thread Cert.AdamSmallIdeal.nD Cert.AdamSmallIdeal.τ).loc Cert.AdamSmallIdeal.main_v155) = v32 c
          ∧ r.2.mem ((c.tc : Thread Cert.AdamSmallIdeal.nD Cert.AdamSmallIdeal.τ).loc Cert.AdamSmallIdeal.main_v157) = v33 c
          ∧ r.2.mem ((c.tc : Thread Cert.AdamSmallIdeal.nD Cert.AdamSmallIdeal.τ).loc Cert.AdamSmallIdeal.main_v159) = v34 c
          ∧ r.2.mem ((c.tc : Thread Cert.AdamSmallIdeal.nD Cert.AdamSmallIdeal.τ).loc Cert.AdamSmallIdeal.main_v160) = v35 c
          ∧ r.2.mem ((c.tc : Thread Cert.AdamSmallIdeal.nD Cert.AdamSmallIdeal.τ).loc Cert.AdamSmallIdeal.main_v163) = v36 c
          ∧ r.2.mem ((c.tc : Thread Cert.AdamSmallIdeal.nD Cert.AdamSmallIdeal.τ).loc Cert.AdamSmallIdeal.main_v165) = v37 c
          ∧ r.2.mem ((c.tc : Thread Cert.AdamSmallIdeal.nD Cert.AdamSmallIdeal.τ).loc Cert.AdamSmallIdeal.main_v167) = v38 c
          ∧ r.2.mem ((c.tc : Thread Cert.AdamSmallIdeal.nD Cert.AdamSmallIdeal.τ).loc Cert.AdamSmallIdeal.main_v169) = v39 c
          ∧ r.2.mem ((c.tc : Thread Cert.AdamSmallIdeal.nD Cert.AdamSmallIdeal.τ).loc Cert.AdamSmallIdeal.main_v171) = v40 c
          ∧ r.2.mem ((c.tc : Thread Cert.AdamSmallIdeal.nD Cert.AdamSmallIdeal.τ).loc Cert.AdamSmallIdeal.main_v173) = v41 c
          ∧ r.2.mem ((c.tc : Thread Cert.AdamSmallIdeal.nD Cert.AdamSmallIdeal.τ).loc Cert.AdamSmallIdeal.main_v175) = v42 c
          ∧ r.2.mem ((c.tc : Thread Cert.AdamSmallIdeal.nD Cert.AdamSmallIdeal.τ).loc Cert.AdamSmallIdeal.main_v177) = v43 c
          ∧ r.2.mem ((c.tc : Thread Cert.AdamSmallIdeal.nD Cert.AdamSmallIdeal.τ).loc Cert.AdamSmallIdeal.main_v179) = v44 c
          ∧ r.2.mem ((c.tc : Thread Cert.AdamSmallIdeal.nD Cert.AdamSmallIdeal.τ).loc Cert.AdamSmallIdeal.main_v181) = v45 c
          ∧ r.2.mem ((c.tc : Thread Cert.AdamSmallIdeal.nD Cert.AdamSmallIdeal.τ).loc Cert.AdamSmallIdeal.main_v183) = v46 c
          ∧ r.2.mem ((c.tc : Thread Cert.AdamSmallIdeal.nD Cert.AdamSmallIdeal.τ).loc Cert.AdamSmallIdeal.main_v185) = v47 c
          ∧ r.2.mem ((c.tc : Thread Cert.AdamSmallIdeal.nD Cert.AdamSmallIdeal.τ).loc Cert.AdamSmallIdeal.main_v187) = v48 c
          ∧ r.2.mem ((c.tc : Thread Cert.AdamSmallIdeal.nD Cert.AdamSmallIdeal.τ).loc Cert.AdamSmallIdeal.main_v189) = v49 c
          ∧ r.2.mem ((c.tc : Thread Cert.AdamSmallIdeal.nD Cert.AdamSmallIdeal.τ).loc Cert.AdamSmallIdeal.main_v191) = v50 c
          ∧ r.2.mem ((c.tc : Thread Cert.AdamSmallIdeal.nD Cert.AdamSmallIdeal.τ).loc Cert.AdamSmallIdeal.main_v193) = v51 c
          ∧ r.2.mem ((c.tc : Thread Cert.AdamSmallIdeal.nD Cert.AdamSmallIdeal.τ).loc Cert.AdamSmallIdeal.main_v195) = v52 c
          ∧ r.2.mem ((c.tc : Thread Cert.AdamSmallIdeal.nD Cert.AdamSmallIdeal.τ).loc Cert.AdamSmallIdeal.main_v196) = v53 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
          ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
          ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
          ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
          ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
          ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
          ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
          ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
          ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
          ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
          ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
          ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
          ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
          ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
          ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
          ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
          ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
          ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
          ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
          ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
          ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
          ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
          ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
          ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
          ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
          ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
          ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
          ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
          ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
          ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
          ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
          ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
          ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35)
          ∧ r.2.mem ((c.tc : Thread Cert.AdamSmallIdeal.nD Cert.AdamSmallIdeal.τ).loc Cert.AdamSmallIdeal.main_arg36) = m ((c.tc : Thread Cert.AdamSmallIdeal.nD Cert.AdamSmallIdeal.τ).loc Cert.AdamSmallIdeal.main_arg36)
          ∧ r.2.mem ((c.tc : Thread Cert.AdamSmallIdeal.nD Cert.AdamSmallIdeal.τ).loc Cert.AdamSmallIdeal.main_arg37) = m ((c.tc : Thread Cert.AdamSmallIdeal.nD Cert.AdamSmallIdeal.τ).loc Cert.AdamSmallIdeal.main_arg37)
          ∧ r.2.mem ((c.tc : Thread Cert.AdamSmallIdeal.nD Cert.AdamSmallIdeal.τ).loc Cert.AdamSmallIdeal.main_arg38) = m ((c.tc : Thread Cert.AdamSmallIdeal.nD Cert.AdamSmallIdeal.τ).loc Cert.AdamSmallIdeal.main_arg38)
          ∧ r.2.mem ((c.tc : Thread Cert.AdamSmallIdeal.nD Cert.AdamSmallIdeal.τ).loc Cert.AdamSmallIdeal.main_arg39) = m ((c.tc : Thread Cert.AdamSmallIdeal.nD Cert.AdamSmallIdeal.τ).loc Cert.AdamSmallIdeal.main_arg39)
          ∧ r.2.mem ((c.tc : Thread Cert.AdamSmallIdeal.nD Cert.AdamSmallIdeal.τ).loc Cert.AdamSmallIdeal.main_arg40) = m ((c.tc : Thread Cert.AdamSmallIdeal.nD Cert.AdamSmallIdeal.τ).loc Cert.AdamSmallIdeal.main_arg40)
          ∧ r.2.mem ((c.tc : Thread Cert.AdamSmallIdeal.nD Cert.AdamSmallIdeal.τ).loc Cert.AdamSmallIdeal.main_arg41) = m ((c.tc : Thread Cert.AdamSmallIdeal.nD Cert.AdamSmallIdeal.τ).loc Cert.AdamSmallIdeal.main_arg41)
          ∧ r.2.mem ((c.tc : Thread Cert.AdamSmallIdeal.nD Cert.AdamSmallIdeal.τ).loc Cert.AdamSmallIdeal.main_arg42) = m ((c.tc : Thread Cert.AdamSmallIdeal.nD Cert.AdamSmallIdeal.τ).loc Cert.AdamSmallIdeal.main_arg42)
          ∧ r.2.mem ((c.tc : Thread Cert.AdamSmallIdeal.nD Cert.AdamSmallIdeal.τ).loc Cert.AdamSmallIdeal.main_arg43) = m ((c.tc : Thread Cert.AdamSmallIdeal.nD Cert.AdamSmallIdeal.τ).loc Cert.AdamSmallIdeal.main_arg43)
          ∧ r.2.mem ((c.tc : Thread Cert.AdamSmallIdeal.nD Cert.AdamSmallIdeal.τ).loc Cert.AdamSmallIdeal.main_arg44) = m ((c.tc : Thread Cert.AdamSmallIdeal.nD Cert.AdamSmallIdeal.τ).loc Cert.AdamSmallIdeal.main_arg44)
          ∧ r.2.mem ((c.tc : Thread Cert.AdamSmallIdeal.nD Cert.AdamSmallIdeal.τ).loc Cert.AdamSmallIdeal.main_arg45) = m ((c.tc : Thread Cert.AdamSmallIdeal.nD Cert.AdamSmallIdeal.τ).loc Cert.AdamSmallIdeal.main_arg45)
          ∧ r.2.mem ((c.tc : Thread Cert.AdamSmallIdeal.nD Cert.AdamSmallIdeal.τ).loc Cert.AdamSmallIdeal.main_arg46) = m ((c.tc : Thread Cert.AdamSmallIdeal.nD Cert.AdamSmallIdeal.τ).loc Cert.AdamSmallIdeal.main_arg46)
          ∧ r.2.mem ((c.tc : Thread Cert.AdamSmallIdeal.nD Cert.AdamSmallIdeal.τ).loc Cert.AdamSmallIdeal.main_arg47) = m ((c.tc : Thread Cert.AdamSmallIdeal.nD Cert.AdamSmallIdeal.τ).loc Cert.AdamSmallIdeal.main_arg47)
          ∧ r.2.mem ((c.tc : Thread Cert.AdamSmallIdeal.nD Cert.AdamSmallIdeal.τ).loc Cert.AdamSmallIdeal.main_arg48) = m ((c.tc : Thread Cert.AdamSmallIdeal.nD Cert.AdamSmallIdeal.τ).loc Cert.AdamSmallIdeal.main_arg48)
          ∧ r.2.mem ((c.tc : Thread Cert.AdamSmallIdeal.nD Cert.AdamSmallIdeal.τ).loc Cert.AdamSmallIdeal.main_arg49) = m ((c.tc : Thread Cert.AdamSmallIdeal.nD Cert.AdamSmallIdeal.τ).loc Cert.AdamSmallIdeal.main_arg49)
          ∧ r.2.mem ((c.tc : Thread Cert.AdamSmallIdeal.nD Cert.AdamSmallIdeal.τ).loc Cert.AdamSmallIdeal.main_arg50) = m ((c.tc : Thread Cert.AdamSmallIdeal.nD Cert.AdamSmallIdeal.τ).loc Cert.AdamSmallIdeal.main_arg50)
          ∧ r.2.mem ((c.tc : Thread Cert.AdamSmallIdeal.nD Cert.AdamSmallIdeal.τ).loc Cert.AdamSmallIdeal.main_arg51) = m ((c.tc : Thread Cert.AdamSmallIdeal.nD Cert.AdamSmallIdeal.τ).loc Cert.AdamSmallIdeal.main_arg51)
          ∧ r.2.mem ((c.tc : Thread Cert.AdamSmallIdeal.nD Cert.AdamSmallIdeal.τ).loc Cert.AdamSmallIdeal.main_arg52) = m ((c.tc : Thread Cert.AdamSmallIdeal.nD Cert.AdamSmallIdeal.τ).loc Cert.AdamSmallIdeal.main_arg52)
          ∧ r.2.mem ((c.tc : Thread Cert.AdamSmallIdeal.nD Cert.AdamSmallIdeal.τ).loc Cert.AdamSmallIdeal.main_arg53) = m ((c.tc : Thread Cert.AdamSmallIdeal.nD Cert.AdamSmallIdeal.τ).loc Cert.AdamSmallIdeal.main_arg53)
          ∧ r.2.mem ((c.tc : Thread Cert.AdamSmallIdeal.nD Cert.AdamSmallIdeal.τ).loc Cert.AdamSmallIdeal.main_arg54) = m ((c.tc : Thread Cert.AdamSmallIdeal.nD Cert.AdamSmallIdeal.τ).loc Cert.AdamSmallIdeal.main_arg54)
          ∧ r.2.mem ((c.tc : Thread Cert.AdamSmallIdeal.nD Cert.AdamSmallIdeal.τ).loc Cert.AdamSmallIdeal.main_arg55) = m ((c.tc : Thread Cert.AdamSmallIdeal.nD Cert.AdamSmallIdeal.τ).loc Cert.AdamSmallIdeal.main_arg55)
          ∧ r.2.mem ((c.tc : Thread Cert.AdamSmallIdeal.nD Cert.AdamSmallIdeal.τ).loc Cert.AdamSmallIdeal.main_arg56) = m ((c.tc : Thread Cert.AdamSmallIdeal.nD Cert.AdamSmallIdeal.τ).loc Cert.AdamSmallIdeal.main_arg56)
          ∧ r.2.mem ((c.tc : Thread Cert.AdamSmallIdeal.nD Cert.AdamSmallIdeal.τ).loc Cert.AdamSmallIdeal.main_arg57) = m ((c.tc : Thread Cert.AdamSmallIdeal.nD Cert.AdamSmallIdeal.τ).loc Cert.AdamSmallIdeal.main_arg57)
          ∧ r.2.mem ((c.tc : Thread Cert.AdamSmallIdeal.nD Cert.AdamSmallIdeal.τ).loc Cert.AdamSmallIdeal.main_arg58) = m ((c.tc : Thread Cert.AdamSmallIdeal.nD Cert.AdamSmallIdeal.τ).loc Cert.AdamSmallIdeal.main_arg58)
          ∧ r.2.mem ((c.tc : Thread Cert.AdamSmallIdeal.nD Cert.AdamSmallIdeal.τ).loc Cert.AdamSmallIdeal.main_arg59) = m ((c.tc : Thread Cert.AdamSmallIdeal.nD Cert.AdamSmallIdeal.τ).loc Cert.AdamSmallIdeal.main_arg59)
          ∧ r.2.mem ((c.tc : Thread Cert.AdamSmallIdeal.nD Cert.AdamSmallIdeal.τ).loc Cert.AdamSmallIdeal.main_arg60) = m ((c.tc : Thread Cert.AdamSmallIdeal.nD Cert.AdamSmallIdeal.τ).loc Cert.AdamSmallIdeal.main_arg60)
          ∧ r.2.mem ((c.tc : Thread Cert.AdamSmallIdeal.nD Cert.AdamSmallIdeal.τ).loc Cert.AdamSmallIdeal.main_arg61) = m ((c.tc : Thread Cert.AdamSmallIdeal.nD Cert.AdamSmallIdeal.τ).loc Cert.AdamSmallIdeal.main_arg61)
          ∧ r.2.mem ((c.tc : Thread Cert.AdamSmallIdeal.nD Cert.AdamSmallIdeal.τ).loc Cert.AdamSmallIdeal.main_arg62) = m ((c.tc : Thread Cert.AdamSmallIdeal.nD Cert.AdamSmallIdeal.τ).loc Cert.AdamSmallIdeal.main_arg62)
          ∧ r.2.mem ((c.tc : Thread Cert.AdamSmallIdeal.nD Cert.AdamSmallIdeal.τ).loc Cert.AdamSmallIdeal.main_arg63) = m ((c.tc : Thread Cert.AdamSmallIdeal.nD Cert.AdamSmallIdeal.τ).loc Cert.AdamSmallIdeal.main_arg63)
          ∧ r.2.mem ((c.tc : Thread Cert.AdamSmallIdeal.nD Cert.AdamSmallIdeal.τ).loc Cert.AdamSmallIdeal.main_arg64) = m ((c.tc : Thread Cert.AdamSmallIdeal.nD Cert.AdamSmallIdeal.τ).loc Cert.AdamSmallIdeal.main_arg64)
          ∧ r.2.mem ((c.tc : Thread Cert.AdamSmallIdeal.nD Cert.AdamSmallIdeal.τ).loc Cert.AdamSmallIdeal.main_arg65) = m ((c.tc : Thread Cert.AdamSmallIdeal.nD Cert.AdamSmallIdeal.τ).loc Cert.AdamSmallIdeal.main_arg65)
          ∧ r.2.mem ((c.tc : Thread Cert.AdamSmallIdeal.nD Cert.AdamSmallIdeal.τ).loc Cert.AdamSmallIdeal.main_arg66) = m ((c.tc : Thread Cert.AdamSmallIdeal.nD Cert.AdamSmallIdeal.τ).loc Cert.AdamSmallIdeal.main_arg66)
          ∧ r.2.mem ((c.tc : Thread Cert.AdamSmallIdeal.nD Cert.AdamSmallIdeal.τ).loc Cert.AdamSmallIdeal.main_arg67) = m ((c.tc : Thread Cert.AdamSmallIdeal.nD Cert.AdamSmallIdeal.τ).loc Cert.AdamSmallIdeal.main_arg67)
          ∧ r.2.mem ((c.tc : Thread Cert.AdamSmallIdeal.nD Cert.AdamSmallIdeal.τ).loc Cert.AdamSmallIdeal.main_arg68) = m ((c.tc : Thread Cert.AdamSmallIdeal.nD Cert.AdamSmallIdeal.τ).loc Cert.AdamSmallIdeal.main_arg68)
          ∧ r.2.mem ((c.tc : Thread Cert.AdamSmallIdeal.nD Cert.AdamSmallIdeal.τ).loc Cert.AdamSmallIdeal.main_arg69) = m ((c.tc : Thread Cert.AdamSmallIdeal.nD Cert.AdamSmallIdeal.τ).loc Cert.AdamSmallIdeal.main_arg69)
          ∧ r.2.mem ((c.tc : Thread Cert.AdamSmallIdeal.nD Cert.AdamSmallIdeal.τ).loc Cert.AdamSmallIdeal.main_arg70) = m ((c.tc : Thread Cert.AdamSmallIdeal.nD Cert.AdamSmallIdeal.τ).loc Cert.AdamSmallIdeal.main_arg70)
          ∧ r.2.mem ((c.tc : Thread Cert.AdamSmallIdeal.nD Cert.AdamSmallIdeal.τ).loc Cert.AdamSmallIdeal.main_arg71) = m ((c.tc : Thread Cert.AdamSmallIdeal.nD Cert.AdamSmallIdeal.τ).loc Cert.AdamSmallIdeal.main_arg71))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v47) = v1 c
          ∧ r.2.mem ((c.tc : Thread Cert.AdamSmallRefIdeal.nD Cert.AdamSmallRefIdeal.τ).loc Cert.AdamSmallRefIdeal.main_v71) = v2 c
          ∧ r.2.mem ((c.tc : Thread Cert.AdamSmallRefIdeal.nD Cert.AdamSmallRefIdeal.τ).loc Cert.AdamSmallRefIdeal.main_v95) = v3 c
          ∧ r.2.mem ((c.tc : Thread Cert.AdamSmallRefIdeal.nD Cert.AdamSmallRefIdeal.τ).loc Cert.AdamSmallRefIdeal.main_v119) = v4 c
          ∧ r.2.mem ((c.tc : Thread Cert.AdamSmallRefIdeal.nD Cert.AdamSmallRefIdeal.τ).loc Cert.AdamSmallRefIdeal.main_v143) = v5 c
          ∧ r.2.mem ((c.tc : Thread Cert.AdamSmallRefIdeal.nD Cert.AdamSmallRefIdeal.τ).loc Cert.AdamSmallRefIdeal.main_v167) = v6 c
          ∧ r.2.mem ((c.tc : Thread Cert.AdamSmallRefIdeal.nD Cert.AdamSmallRefIdeal.τ).loc Cert.AdamSmallRefIdeal.main_v191) = v7 c
          ∧ r.2.mem ((c.tc : Thread Cert.AdamSmallRefIdeal.nD Cert.AdamSmallRefIdeal.τ).loc Cert.AdamSmallRefIdeal.main_v215) = v8 c
          ∧ r.2.mem ((c.tc : Thread Cert.AdamSmallRefIdeal.nD Cert.AdamSmallRefIdeal.τ).loc Cert.AdamSmallRefIdeal.main_v239) = v9 c
          ∧ r.2.mem ((c.tc : Thread Cert.AdamSmallRefIdeal.nD Cert.AdamSmallRefIdeal.τ).loc Cert.AdamSmallRefIdeal.main_v263) = v10 c
          ∧ r.2.mem ((c.tc : Thread Cert.AdamSmallRefIdeal.nD Cert.AdamSmallRefIdeal.τ).loc Cert.AdamSmallRefIdeal.main_v287) = v11 c
          ∧ r.2.mem ((c.tc : Thread Cert.AdamSmallRefIdeal.nD Cert.AdamSmallRefIdeal.τ).loc Cert.AdamSmallRefIdeal.main_v311) = v12 c
          ∧ r.2.mem ((c.tc : Thread Cert.AdamSmallRefIdeal.nD Cert.AdamSmallRefIdeal.τ).loc Cert.AdamSmallRefIdeal.main_v335) = v13 c
          ∧ r.2.mem ((c.tc : Thread Cert.AdamSmallRefIdeal.nD Cert.AdamSmallRefIdeal.τ).loc Cert.AdamSmallRefIdeal.main_v359) = v14 c
          ∧ r.2.mem ((c.tc : Thread Cert.AdamSmallRefIdeal.nD Cert.AdamSmallRefIdeal.τ).loc Cert.AdamSmallRefIdeal.main_v383) = v15 c
          ∧ r.2.mem ((c.tc : Thread Cert.AdamSmallRefIdeal.nD Cert.AdamSmallRefIdeal.τ).loc Cert.AdamSmallRefIdeal.main_v407) = v16 c
          ∧ r.2.mem ((c.tc : Thread Cert.AdamSmallRefIdeal.nD Cert.AdamSmallRefIdeal.τ).loc Cert.AdamSmallRefIdeal.main_v431) = v17 c
          ∧ r.2.mem ((c.tc : Thread Cert.AdamSmallRefIdeal.nD Cert.AdamSmallRefIdeal.τ).loc Cert.AdamSmallRefIdeal.main_v4) = v18 c
          ∧ r.2.mem ((c.tc : Thread Cert.AdamSmallRefIdeal.nD Cert.AdamSmallRefIdeal.τ).loc Cert.AdamSmallRefIdeal.main_v28) = v19 c
          ∧ r.2.mem ((c.tc : Thread Cert.AdamSmallRefIdeal.nD Cert.AdamSmallRefIdeal.τ).loc Cert.AdamSmallRefIdeal.main_v52) = v20 c
          ∧ r.2.mem ((c.tc : Thread Cert.AdamSmallRefIdeal.nD Cert.AdamSmallRefIdeal.τ).loc Cert.AdamSmallRefIdeal.main_v76) = v21 c
          ∧ r.2.mem ((c.tc : Thread Cert.AdamSmallRefIdeal.nD Cert.AdamSmallRefIdeal.τ).loc Cert.AdamSmallRefIdeal.main_v100) = v22 c
          ∧ r.2.mem ((c.tc : Thread Cert.AdamSmallRefIdeal.nD Cert.AdamSmallRefIdeal.τ).loc Cert.AdamSmallRefIdeal.main_v124) = v23 c
          ∧ r.2.mem ((c.tc : Thread Cert.AdamSmallRefIdeal.nD Cert.AdamSmallRefIdeal.τ).loc Cert.AdamSmallRefIdeal.main_v148) = v24 c
          ∧ r.2.mem ((c.tc : Thread Cert.AdamSmallRefIdeal.nD Cert.AdamSmallRefIdeal.τ).loc Cert.AdamSmallRefIdeal.main_v172) = v25 c
          ∧ r.2.mem ((c.tc : Thread Cert.AdamSmallRefIdeal.nD Cert.AdamSmallRefIdeal.τ).loc Cert.AdamSmallRefIdeal.main_v196) = v26 c
          ∧ r.2.mem ((c.tc : Thread Cert.AdamSmallRefIdeal.nD Cert.AdamSmallRefIdeal.τ).loc Cert.AdamSmallRefIdeal.main_v220) = v27 c
          ∧ r.2.mem ((c.tc : Thread Cert.AdamSmallRefIdeal.nD Cert.AdamSmallRefIdeal.τ).loc Cert.AdamSmallRefIdeal.main_v244) = v28 c
          ∧ r.2.mem ((c.tc : Thread Cert.AdamSmallRefIdeal.nD Cert.AdamSmallRefIdeal.τ).loc Cert.AdamSmallRefIdeal.main_v268) = v29 c
          ∧ r.2.mem ((c.tc : Thread Cert.AdamSmallRefIdeal.nD Cert.AdamSmallRefIdeal.τ).loc Cert.AdamSmallRefIdeal.main_v292) = v30 c
          ∧ r.2.mem ((c.tc : Thread Cert.AdamSmallRefIdeal.nD Cert.AdamSmallRefIdeal.τ).loc Cert.AdamSmallRefIdeal.main_v316) = v31 c
          ∧ r.2.mem ((c.tc : Thread Cert.AdamSmallRefIdeal.nD Cert.AdamSmallRefIdeal.τ).loc Cert.AdamSmallRefIdeal.main_v340) = v32 c
          ∧ r.2.mem ((c.tc : Thread Cert.AdamSmallRefIdeal.nD Cert.AdamSmallRefIdeal.τ).loc Cert.AdamSmallRefIdeal.main_v364) = v33 c
          ∧ r.2.mem ((c.tc : Thread Cert.AdamSmallRefIdeal.nD Cert.AdamSmallRefIdeal.τ).loc Cert.AdamSmallRefIdeal.main_v388) = v34 c
          ∧ r.2.mem ((c.tc : Thread Cert.AdamSmallRefIdeal.nD Cert.AdamSmallRefIdeal.τ).loc Cert.AdamSmallRefIdeal.main_v412) = v35 c
          ∧ r.2.mem ((c.tc : Thread Cert.AdamSmallRefIdeal.nD Cert.AdamSmallRefIdeal.τ).loc Cert.AdamSmallRefIdeal.main_v10) = v36 c
          ∧ r.2.mem ((c.tc : Thread Cert.AdamSmallRefIdeal.nD Cert.AdamSmallRefIdeal.τ).loc Cert.AdamSmallRefIdeal.main_v34) = v37 c
          ∧ r.2.mem ((c.tc : Thread Cert.AdamSmallRefIdeal.nD Cert.AdamSmallRefIdeal.τ).loc Cert.AdamSmallRefIdeal.main_v58) = v38 c
          ∧ r.2.mem ((c.tc : Thread Cert.AdamSmallRefIdeal.nD Cert.AdamSmallRefIdeal.τ).loc Cert.AdamSmallRefIdeal.main_v82) = v39 c
          ∧ r.2.mem ((c.tc : Thread Cert.AdamSmallRefIdeal.nD Cert.AdamSmallRefIdeal.τ).loc Cert.AdamSmallRefIdeal.main_v106) = v40 c
          ∧ r.2.mem ((c.tc : Thread Cert.AdamSmallRefIdeal.nD Cert.AdamSmallRefIdeal.τ).loc Cert.AdamSmallRefIdeal.main_v130) = v41 c
          ∧ r.2.mem ((c.tc : Thread Cert.AdamSmallRefIdeal.nD Cert.AdamSmallRefIdeal.τ).loc Cert.AdamSmallRefIdeal.main_v154) = v42 c
          ∧ r.2.mem ((c.tc : Thread Cert.AdamSmallRefIdeal.nD Cert.AdamSmallRefIdeal.τ).loc Cert.AdamSmallRefIdeal.main_v178) = v43 c
          ∧ r.2.mem ((c.tc : Thread Cert.AdamSmallRefIdeal.nD Cert.AdamSmallRefIdeal.τ).loc Cert.AdamSmallRefIdeal.main_v202) = v44 c
          ∧ r.2.mem ((c.tc : Thread Cert.AdamSmallRefIdeal.nD Cert.AdamSmallRefIdeal.τ).loc Cert.AdamSmallRefIdeal.main_v226) = v45 c
          ∧ r.2.mem ((c.tc : Thread Cert.AdamSmallRefIdeal.nD Cert.AdamSmallRefIdeal.τ).loc Cert.AdamSmallRefIdeal.main_v250) = v46 c
          ∧ r.2.mem ((c.tc : Thread Cert.AdamSmallRefIdeal.nD Cert.AdamSmallRefIdeal.τ).loc Cert.AdamSmallRefIdeal.main_v274) = v47 c
          ∧ r.2.mem ((c.tc : Thread Cert.AdamSmallRefIdeal.nD Cert.AdamSmallRefIdeal.τ).loc Cert.AdamSmallRefIdeal.main_v298) = v48 c
          ∧ r.2.mem ((c.tc : Thread Cert.AdamSmallRefIdeal.nD Cert.AdamSmallRefIdeal.τ).loc Cert.AdamSmallRefIdeal.main_v322) = v49 c
          ∧ r.2.mem ((c.tc : Thread Cert.AdamSmallRefIdeal.nD Cert.AdamSmallRefIdeal.τ).loc Cert.AdamSmallRefIdeal.main_v346) = v50 c
          ∧ r.2.mem ((c.tc : Thread Cert.AdamSmallRefIdeal.nD Cert.AdamSmallRefIdeal.τ).loc Cert.AdamSmallRefIdeal.main_v370) = v51 c
          ∧ r.2.mem ((c.tc : Thread Cert.AdamSmallRefIdeal.nD Cert.AdamSmallRefIdeal.τ).loc Cert.AdamSmallRefIdeal.main_v394) = v52 c
          ∧ r.2.mem ((c.tc : Thread Cert.AdamSmallRefIdeal.nD Cert.AdamSmallRefIdeal.τ).loc Cert.AdamSmallRefIdeal.main_v418) = v53 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3)
          ∧ r.2.mem ((c.tc : Thread Cert.AdamSmallRefIdeal.nD Cert.AdamSmallRefIdeal.τ).loc Cert.AdamSmallRefIdeal.main_arg4) = m' ((c.tc : Thread Cert.AdamSmallRefIdeal.nD Cert.AdamSmallRefIdeal.τ).loc Cert.AdamSmallRefIdeal.main_arg4)
          ∧ r.2.mem ((c.tc : Thread Cert.AdamSmallRefIdeal.nD Cert.AdamSmallRefIdeal.τ).loc Cert.AdamSmallRefIdeal.main_arg5) = m' ((c.tc : Thread Cert.AdamSmallRefIdeal.nD Cert.AdamSmallRefIdeal.τ).loc Cert.AdamSmallRefIdeal.main_arg5)
          ∧ r.2.mem ((c.tc : Thread Cert.AdamSmallRefIdeal.nD Cert.AdamSmallRefIdeal.τ).loc Cert.AdamSmallRefIdeal.main_arg6) = m' ((c.tc : Thread Cert.AdamSmallRefIdeal.nD Cert.AdamSmallRefIdeal.τ).loc Cert.AdamSmallRefIdeal.main_arg6)
          ∧ r.2.mem ((c.tc : Thread Cert.AdamSmallRefIdeal.nD Cert.AdamSmallRefIdeal.τ).loc Cert.AdamSmallRefIdeal.main_arg7) = m' ((c.tc : Thread Cert.AdamSmallRefIdeal.nD Cert.AdamSmallRefIdeal.τ).loc Cert.AdamSmallRefIdeal.main_arg7)
          ∧ r.2.mem ((c.tc : Thread Cert.AdamSmallRefIdeal.nD Cert.AdamSmallRefIdeal.τ).loc Cert.AdamSmallRefIdeal.main_arg8) = m' ((c.tc : Thread Cert.AdamSmallRefIdeal.nD Cert.AdamSmallRefIdeal.τ).loc Cert.AdamSmallRefIdeal.main_arg8)
          ∧ r.2.mem ((c.tc : Thread Cert.AdamSmallRefIdeal.nD Cert.AdamSmallRefIdeal.τ).loc Cert.AdamSmallRefIdeal.main_arg9) = m' ((c.tc : Thread Cert.AdamSmallRefIdeal.nD Cert.AdamSmallRefIdeal.τ).loc Cert.AdamSmallRefIdeal.main_arg9)
          ∧ r.2.mem ((c.tc : Thread Cert.AdamSmallRefIdeal.nD Cert.AdamSmallRefIdeal.τ).loc Cert.AdamSmallRefIdeal.main_arg10) = m' ((c.tc : Thread Cert.AdamSmallRefIdeal.nD Cert.AdamSmallRefIdeal.τ).loc Cert.AdamSmallRefIdeal.main_arg10)
          ∧ r.2.mem ((c.tc : Thread Cert.AdamSmallRefIdeal.nD Cert.AdamSmallRefIdeal.τ).loc Cert.AdamSmallRefIdeal.main_arg11) = m' ((c.tc : Thread Cert.AdamSmallRefIdeal.nD Cert.AdamSmallRefIdeal.τ).loc Cert.AdamSmallRefIdeal.main_arg11)
          ∧ r.2.mem ((c.tc : Thread Cert.AdamSmallRefIdeal.nD Cert.AdamSmallRefIdeal.τ).loc Cert.AdamSmallRefIdeal.main_arg12) = m' ((c.tc : Thread Cert.AdamSmallRefIdeal.nD Cert.AdamSmallRefIdeal.τ).loc Cert.AdamSmallRefIdeal.main_arg12)
          ∧ r.2.mem ((c.tc : Thread Cert.AdamSmallRefIdeal.nD Cert.AdamSmallRefIdeal.τ).loc Cert.AdamSmallRefIdeal.main_arg13) = m' ((c.tc : Thread Cert.AdamSmallRefIdeal.nD Cert.AdamSmallRefIdeal.τ).loc Cert.AdamSmallRefIdeal.main_arg13)
          ∧ r.2.mem ((c.tc : Thread Cert.AdamSmallRefIdeal.nD Cert.AdamSmallRefIdeal.τ).loc Cert.AdamSmallRefIdeal.main_arg14) = m' ((c.tc : Thread Cert.AdamSmallRefIdeal.nD Cert.AdamSmallRefIdeal.τ).loc Cert.AdamSmallRefIdeal.main_arg14)
          ∧ r.2.mem ((c.tc : Thread Cert.AdamSmallRefIdeal.nD Cert.AdamSmallRefIdeal.τ).loc Cert.AdamSmallRefIdeal.main_arg15) = m' ((c.tc : Thread Cert.AdamSmallRefIdeal.nD Cert.AdamSmallRefIdeal.τ).loc Cert.AdamSmallRefIdeal.main_arg15)
          ∧ r.2.mem ((c.tc : Thread Cert.AdamSmallRefIdeal.nD Cert.AdamSmallRefIdeal.τ).loc Cert.AdamSmallRefIdeal.main_arg16) = m' ((c.tc : Thread Cert.AdamSmallRefIdeal.nD Cert.AdamSmallRefIdeal.τ).loc Cert.AdamSmallRefIdeal.main_arg16)
          ∧ r.2.mem ((c.tc : Thread Cert.AdamSmallRefIdeal.nD Cert.AdamSmallRefIdeal.τ).loc Cert.AdamSmallRefIdeal.main_arg17) = m' ((c.tc : Thread Cert.AdamSmallRefIdeal.nD Cert.AdamSmallRefIdeal.τ).loc Cert.AdamSmallRefIdeal.main_arg17)
          ∧ r.2.mem ((c.tc : Thread Cert.AdamSmallRefIdeal.nD Cert.AdamSmallRefIdeal.τ).loc Cert.AdamSmallRefIdeal.main_arg18) = m' ((c.tc : Thread Cert.AdamSmallRefIdeal.nD Cert.AdamSmallRefIdeal.τ).loc Cert.AdamSmallRefIdeal.main_arg18)
          ∧ r.2.mem ((c.tc : Thread Cert.AdamSmallRefIdeal.nD Cert.AdamSmallRefIdeal.τ).loc Cert.AdamSmallRefIdeal.main_arg19) = m' ((c.tc : Thread Cert.AdamSmallRefIdeal.nD Cert.AdamSmallRefIdeal.τ).loc Cert.AdamSmallRefIdeal.main_arg19)
          ∧ r.2.mem ((c.tc : Thread Cert.AdamSmallRefIdeal.nD Cert.AdamSmallRefIdeal.τ).loc Cert.AdamSmallRefIdeal.main_arg20) = m' ((c.tc : Thread Cert.AdamSmallRefIdeal.nD Cert.AdamSmallRefIdeal.τ).loc Cert.AdamSmallRefIdeal.main_arg20)
          ∧ r.2.mem ((c.tc : Thread Cert.AdamSmallRefIdeal.nD Cert.AdamSmallRefIdeal.τ).loc Cert.AdamSmallRefIdeal.main_arg21) = m' ((c.tc : Thread Cert.AdamSmallRefIdeal.nD Cert.AdamSmallRefIdeal.τ).loc Cert.AdamSmallRefIdeal.main_arg21)
          ∧ r.2.mem ((c.tc : Thread Cert.AdamSmallRefIdeal.nD Cert.AdamSmallRefIdeal.τ).loc Cert.AdamSmallRefIdeal.main_arg22) = m' ((c.tc : Thread Cert.AdamSmallRefIdeal.nD Cert.AdamSmallRefIdeal.τ).loc Cert.AdamSmallRefIdeal.main_arg22)
          ∧ r.2.mem ((c.tc : Thread Cert.AdamSmallRefIdeal.nD Cert.AdamSmallRefIdeal.τ).loc Cert.AdamSmallRefIdeal.main_arg23) = m' ((c.tc : Thread Cert.AdamSmallRefIdeal.nD Cert.AdamSmallRefIdeal.τ).loc Cert.AdamSmallRefIdeal.main_arg23)
          ∧ r.2.mem ((c.tc : Thread Cert.AdamSmallRefIdeal.nD Cert.AdamSmallRefIdeal.τ).loc Cert.AdamSmallRefIdeal.main_arg24) = m' ((c.tc : Thread Cert.AdamSmallRefIdeal.nD Cert.AdamSmallRefIdeal.τ).loc Cert.AdamSmallRefIdeal.main_arg24)
          ∧ r.2.mem ((c.tc : Thread Cert.AdamSmallRefIdeal.nD Cert.AdamSmallRefIdeal.τ).loc Cert.AdamSmallRefIdeal.main_arg25) = m' ((c.tc : Thread Cert.AdamSmallRefIdeal.nD Cert.AdamSmallRefIdeal.τ).loc Cert.AdamSmallRefIdeal.main_arg25)
          ∧ r.2.mem ((c.tc : Thread Cert.AdamSmallRefIdeal.nD Cert.AdamSmallRefIdeal.τ).loc Cert.AdamSmallRefIdeal.main_arg26) = m' ((c.tc : Thread Cert.AdamSmallRefIdeal.nD Cert.AdamSmallRefIdeal.τ).loc Cert.AdamSmallRefIdeal.main_arg26)
          ∧ r.2.mem ((c.tc : Thread Cert.AdamSmallRefIdeal.nD Cert.AdamSmallRefIdeal.τ).loc Cert.AdamSmallRefIdeal.main_arg27) = m' ((c.tc : Thread Cert.AdamSmallRefIdeal.nD Cert.AdamSmallRefIdeal.τ).loc Cert.AdamSmallRefIdeal.main_arg27)
          ∧ r.2.mem ((c.tc : Thread Cert.AdamSmallRefIdeal.nD Cert.AdamSmallRefIdeal.τ).loc Cert.AdamSmallRefIdeal.main_arg28) = m' ((c.tc : Thread Cert.AdamSmallRefIdeal.nD Cert.AdamSmallRefIdeal.τ).loc Cert.AdamSmallRefIdeal.main_arg28)
          ∧ r.2.mem ((c.tc : Thread Cert.AdamSmallRefIdeal.nD Cert.AdamSmallRefIdeal.τ).loc Cert.AdamSmallRefIdeal.main_arg29) = m' ((c.tc : Thread Cert.AdamSmallRefIdeal.nD Cert.AdamSmallRefIdeal.τ).loc Cert.AdamSmallRefIdeal.main_arg29)
          ∧ r.2.mem ((c.tc : Thread Cert.AdamSmallRefIdeal.nD Cert.AdamSmallRefIdeal.τ).loc Cert.AdamSmallRefIdeal.main_arg30) = m' ((c.tc : Thread Cert.AdamSmallRefIdeal.nD Cert.AdamSmallRefIdeal.τ).loc Cert.AdamSmallRefIdeal.main_arg30)
          ∧ r.2.mem ((c.tc : Thread Cert.AdamSmallRefIdeal.nD Cert.AdamSmallRefIdeal.τ).loc Cert.AdamSmallRefIdeal.main_arg31) = m' ((c.tc : Thread Cert.AdamSmallRefIdeal.nD Cert.AdamSmallRefIdeal.τ).loc Cert.AdamSmallRefIdeal.main_arg31)
          ∧ r.2.mem ((c.tc : Thread Cert.AdamSmallRefIdeal.nD Cert.AdamSmallRefIdeal.τ).loc Cert.AdamSmallRefIdeal.main_arg32) = m' ((c.tc : Thread Cert.AdamSmallRefIdeal.nD Cert.AdamSmallRefIdeal.τ).loc Cert.AdamSmallRefIdeal.main_arg32)
          ∧ r.2.mem ((c.tc : Thread Cert.AdamSmallRefIdeal.nD Cert.AdamSmallRefIdeal.τ).loc Cert.AdamSmallRefIdeal.main_arg33) = m' ((c.tc : Thread Cert.AdamSmallRefIdeal.nD Cert.AdamSmallRefIdeal.τ).loc Cert.AdamSmallRefIdeal.main_arg33)
          ∧ r.2.mem ((c.tc : Thread Cert.AdamSmallRefIdeal.nD Cert.AdamSmallRefIdeal.τ).loc Cert.AdamSmallRefIdeal.main_arg34) = m' ((c.tc : Thread Cert.AdamSmallRefIdeal.nD Cert.AdamSmallRefIdeal.τ).loc Cert.AdamSmallRefIdeal.main_arg34)
          ∧ r.2.mem ((c.tc : Thread Cert.AdamSmallRefIdeal.nD Cert.AdamSmallRefIdeal.τ).loc Cert.AdamSmallRefIdeal.main_arg35) = m' ((c.tc : Thread Cert.AdamSmallRefIdeal.nD Cert.AdamSmallRefIdeal.τ).loc Cert.AdamSmallRefIdeal.main_arg35)
          ∧ r.2.mem ((c.tc : Thread Cert.AdamSmallRefIdeal.nD Cert.AdamSmallRefIdeal.τ).loc Cert.AdamSmallRefIdeal.main_arg36) = m' ((c.tc : Thread Cert.AdamSmallRefIdeal.nD Cert.AdamSmallRefIdeal.τ).loc Cert.AdamSmallRefIdeal.main_arg36)
          ∧ r.2.mem ((c.tc : Thread Cert.AdamSmallRefIdeal.nD Cert.AdamSmallRefIdeal.τ).loc Cert.AdamSmallRefIdeal.main_arg37) = m' ((c.tc : Thread Cert.AdamSmallRefIdeal.nD Cert.AdamSmallRefIdeal.τ).loc Cert.AdamSmallRefIdeal.main_arg37)
          ∧ r.2.mem ((c.tc : Thread Cert.AdamSmallRefIdeal.nD Cert.AdamSmallRefIdeal.τ).loc Cert.AdamSmallRefIdeal.main_arg38) = m' ((c.tc : Thread Cert.AdamSmallRefIdeal.nD Cert.AdamSmallRefIdeal.τ).loc Cert.AdamSmallRefIdeal.main_arg38)
          ∧ r.2.mem ((c.tc : Thread Cert.AdamSmallRefIdeal.nD Cert.AdamSmallRefIdeal.τ).loc Cert.AdamSmallRefIdeal.main_arg39) = m' ((c.tc : Thread Cert.AdamSmallRefIdeal.nD Cert.AdamSmallRefIdeal.τ).loc Cert.AdamSmallRefIdeal.main_arg39)
          ∧ r.2.mem ((c.tc : Thread Cert.AdamSmallRefIdeal.nD Cert.AdamSmallRefIdeal.τ).loc Cert.AdamSmallRefIdeal.main_arg40) = m' ((c.tc : Thread Cert.AdamSmallRefIdeal.nD Cert.AdamSmallRefIdeal.τ).loc Cert.AdamSmallRefIdeal.main_arg40)
          ∧ r.2.mem ((c.tc : Thread Cert.AdamSmallRefIdeal.nD Cert.AdamSmallRefIdeal.τ).loc Cert.AdamSmallRefIdeal.main_arg41) = m' ((c.tc : Thread Cert.AdamSmallRefIdeal.nD Cert.AdamSmallRefIdeal.τ).loc Cert.AdamSmallRefIdeal.main_arg41)
          ∧ r.2.mem ((c.tc : Thread Cert.AdamSmallRefIdeal.nD Cert.AdamSmallRefIdeal.τ).loc Cert.AdamSmallRefIdeal.main_arg42) = m' ((c.tc : Thread Cert.AdamSmallRefIdeal.nD Cert.AdamSmallRefIdeal.τ).loc Cert.AdamSmallRefIdeal.main_arg42)
          ∧ r.2.mem ((c.tc : Thread Cert.AdamSmallRefIdeal.nD Cert.AdamSmallRefIdeal.τ).loc Cert.AdamSmallRefIdeal.main_arg43) = m' ((c.tc : Thread Cert.AdamSmallRefIdeal.nD Cert.AdamSmallRefIdeal.τ).loc Cert.AdamSmallRefIdeal.main_arg43)
          ∧ r.2.mem ((c.tc : Thread Cert.AdamSmallRefIdeal.nD Cert.AdamSmallRefIdeal.τ).loc Cert.AdamSmallRefIdeal.main_arg44) = m' ((c.tc : Thread Cert.AdamSmallRefIdeal.nD Cert.AdamSmallRefIdeal.τ).loc Cert.AdamSmallRefIdeal.main_arg44)
          ∧ r.2.mem ((c.tc : Thread Cert.AdamSmallRefIdeal.nD Cert.AdamSmallRefIdeal.τ).loc Cert.AdamSmallRefIdeal.main_arg45) = m' ((c.tc : Thread Cert.AdamSmallRefIdeal.nD Cert.AdamSmallRefIdeal.τ).loc Cert.AdamSmallRefIdeal.main_arg45)
          ∧ r.2.mem ((c.tc : Thread Cert.AdamSmallRefIdeal.nD Cert.AdamSmallRefIdeal.τ).loc Cert.AdamSmallRefIdeal.main_arg46) = m' ((c.tc : Thread Cert.AdamSmallRefIdeal.nD Cert.AdamSmallRefIdeal.τ).loc Cert.AdamSmallRefIdeal.main_arg46)
          ∧ r.2.mem ((c.tc : Thread Cert.AdamSmallRefIdeal.nD Cert.AdamSmallRefIdeal.τ).loc Cert.AdamSmallRefIdeal.main_arg47) = m' ((c.tc : Thread Cert.AdamSmallRefIdeal.nD Cert.AdamSmallRefIdeal.τ).loc Cert.AdamSmallRefIdeal.main_arg47)
          ∧ r.2.mem ((c.tc : Thread Cert.AdamSmallRefIdeal.nD Cert.AdamSmallRefIdeal.τ).loc Cert.AdamSmallRefIdeal.main_arg48) = m' ((c.tc : Thread Cert.AdamSmallRefIdeal.nD Cert.AdamSmallRefIdeal.τ).loc Cert.AdamSmallRefIdeal.main_arg48)
          ∧ r.2.mem ((c.tc : Thread Cert.AdamSmallRefIdeal.nD Cert.AdamSmallRefIdeal.τ).loc Cert.AdamSmallRefIdeal.main_arg49) = m' ((c.tc : Thread Cert.AdamSmallRefIdeal.nD Cert.AdamSmallRefIdeal.τ).loc Cert.AdamSmallRefIdeal.main_arg49)
          ∧ r.2.mem ((c.tc : Thread Cert.AdamSmallRefIdeal.nD Cert.AdamSmallRefIdeal.τ).loc Cert.AdamSmallRefIdeal.main_arg50) = m' ((c.tc : Thread Cert.AdamSmallRefIdeal.nD Cert.AdamSmallRefIdeal.τ).loc Cert.AdamSmallRefIdeal.main_arg50)
          ∧ r.2.mem ((c.tc : Thread Cert.AdamSmallRefIdeal.nD Cert.AdamSmallRefIdeal.τ).loc Cert.AdamSmallRefIdeal.main_arg51) = m' ((c.tc : Thread Cert.AdamSmallRefIdeal.nD Cert.AdamSmallRefIdeal.τ).loc Cert.AdamSmallRefIdeal.main_arg51)
          ∧ r.2.mem ((c.tc : Thread Cert.AdamSmallRefIdeal.nD Cert.AdamSmallRefIdeal.τ).loc Cert.AdamSmallRefIdeal.main_arg52) = m' ((c.tc : Thread Cert.AdamSmallRefIdeal.nD Cert.AdamSmallRefIdeal.τ).loc Cert.AdamSmallRefIdeal.main_arg52)
          ∧ r.2.mem ((c.tc : Thread Cert.AdamSmallRefIdeal.nD Cert.AdamSmallRefIdeal.τ).loc Cert.AdamSmallRefIdeal.main_arg53) = m' ((c.tc : Thread Cert.AdamSmallRefIdeal.nD Cert.AdamSmallRefIdeal.τ).loc Cert.AdamSmallRefIdeal.main_arg53)
          ∧ r.2.mem ((c.tc : Thread Cert.AdamSmallRefIdeal.nD Cert.AdamSmallRefIdeal.τ).loc Cert.AdamSmallRefIdeal.main_arg54) = m' ((c.tc : Thread Cert.AdamSmallRefIdeal.nD Cert.AdamSmallRefIdeal.τ).loc Cert.AdamSmallRefIdeal.main_arg54)
          ∧ r.2.mem ((c.tc : Thread Cert.AdamSmallRefIdeal.nD Cert.AdamSmallRefIdeal.τ).loc Cert.AdamSmallRefIdeal.main_arg55) = m' ((c.tc : Thread Cert.AdamSmallRefIdeal.nD Cert.AdamSmallRefIdeal.τ).loc Cert.AdamSmallRefIdeal.main_arg55)
          ∧ r.2.mem ((c.tc : Thread Cert.AdamSmallRefIdeal.nD Cert.AdamSmallRefIdeal.τ).loc Cert.AdamSmallRefIdeal.main_arg56) = m' ((c.tc : Thread Cert.AdamSmallRefIdeal.nD Cert.AdamSmallRefIdeal.τ).loc Cert.AdamSmallRefIdeal.main_arg56)
          ∧ r.2.mem ((c.tc : Thread Cert.AdamSmallRefIdeal.nD Cert.AdamSmallRefIdeal.τ).loc Cert.AdamSmallRefIdeal.main_arg57) = m' ((c.tc : Thread Cert.AdamSmallRefIdeal.nD Cert.AdamSmallRefIdeal.τ).loc Cert.AdamSmallRefIdeal.main_arg57)
          ∧ r.2.mem ((c.tc : Thread Cert.AdamSmallRefIdeal.nD Cert.AdamSmallRefIdeal.τ).loc Cert.AdamSmallRefIdeal.main_arg58) = m' ((c.tc : Thread Cert.AdamSmallRefIdeal.nD Cert.AdamSmallRefIdeal.τ).loc Cert.AdamSmallRefIdeal.main_arg58)
          ∧ r.2.mem ((c.tc : Thread Cert.AdamSmallRefIdeal.nD Cert.AdamSmallRefIdeal.τ).loc Cert.AdamSmallRefIdeal.main_arg59) = m' ((c.tc : Thread Cert.AdamSmallRefIdeal.nD Cert.AdamSmallRefIdeal.τ).loc Cert.AdamSmallRefIdeal.main_arg59)
          ∧ r.2.mem ((c.tc : Thread Cert.AdamSmallRefIdeal.nD Cert.AdamSmallRefIdeal.τ).loc Cert.AdamSmallRefIdeal.main_arg60) = m' ((c.tc : Thread Cert.AdamSmallRefIdeal.nD Cert.AdamSmallRefIdeal.τ).loc Cert.AdamSmallRefIdeal.main_arg60)
          ∧ r.2.mem ((c.tc : Thread Cert.AdamSmallRefIdeal.nD Cert.AdamSmallRefIdeal.τ).loc Cert.AdamSmallRefIdeal.main_arg61) = m' ((c.tc : Thread Cert.AdamSmallRefIdeal.nD Cert.AdamSmallRefIdeal.τ).loc Cert.AdamSmallRefIdeal.main_arg61)
          ∧ r.2.mem ((c.tc : Thread Cert.AdamSmallRefIdeal.nD Cert.AdamSmallRefIdeal.τ).loc Cert.AdamSmallRefIdeal.main_arg62) = m' ((c.tc : Thread Cert.AdamSmallRefIdeal.nD Cert.AdamSmallRefIdeal.τ).loc Cert.AdamSmallRefIdeal.main_arg62)
          ∧ r.2.mem ((c.tc : Thread Cert.AdamSmallRefIdeal.nD Cert.AdamSmallRefIdeal.τ).loc Cert.AdamSmallRefIdeal.main_arg63) = m' ((c.tc : Thread Cert.AdamSmallRefIdeal.nD Cert.AdamSmallRefIdeal.τ).loc Cert.AdamSmallRefIdeal.main_arg63)
          ∧ r.2.mem ((c.tc : Thread Cert.AdamSmallRefIdeal.nD Cert.AdamSmallRefIdeal.τ).loc Cert.AdamSmallRefIdeal.main_arg64) = m' ((c.tc : Thread Cert.AdamSmallRefIdeal.nD Cert.AdamSmallRefIdeal.τ).loc Cert.AdamSmallRefIdeal.main_arg64)
          ∧ r.2.mem ((c.tc : Thread Cert.AdamSmallRefIdeal.nD Cert.AdamSmallRefIdeal.τ).loc Cert.AdamSmallRefIdeal.main_arg65) = m' ((c.tc : Thread Cert.AdamSmallRefIdeal.nD Cert.AdamSmallRefIdeal.τ).loc Cert.AdamSmallRefIdeal.main_arg65)
          ∧ r.2.mem ((c.tc : Thread Cert.AdamSmallRefIdeal.nD Cert.AdamSmallRefIdeal.τ).loc Cert.AdamSmallRefIdeal.main_arg66) = m' ((c.tc : Thread Cert.AdamSmallRefIdeal.nD Cert.AdamSmallRefIdeal.τ).loc Cert.AdamSmallRefIdeal.main_arg66)
          ∧ r.2.mem ((c.tc : Thread Cert.AdamSmallRefIdeal.nD Cert.AdamSmallRefIdeal.τ).loc Cert.AdamSmallRefIdeal.main_arg67) = m' ((c.tc : Thread Cert.AdamSmallRefIdeal.nD Cert.AdamSmallRefIdeal.τ).loc Cert.AdamSmallRefIdeal.main_arg67)
          ∧ r.2.mem ((c.tc : Thread Cert.AdamSmallRefIdeal.nD Cert.AdamSmallRefIdeal.τ).loc Cert.AdamSmallRefIdeal.main_arg68) = m' ((c.tc : Thread Cert.AdamSmallRefIdeal.nD Cert.AdamSmallRefIdeal.τ).loc Cert.AdamSmallRefIdeal.main_arg68)
          ∧ r.2.mem ((c.tc : Thread Cert.AdamSmallRefIdeal.nD Cert.AdamSmallRefIdeal.τ).loc Cert.AdamSmallRefIdeal.main_arg69) = m' ((c.tc : Thread Cert.AdamSmallRefIdeal.nD Cert.AdamSmallRefIdeal.τ).loc Cert.AdamSmallRefIdeal.main_arg69)
          ∧ r.2.mem ((c.tc : Thread Cert.AdamSmallRefIdeal.nD Cert.AdamSmallRefIdeal.τ).loc Cert.AdamSmallRefIdeal.main_arg70) = m' ((c.tc : Thread Cert.AdamSmallRefIdeal.nD Cert.AdamSmallRefIdeal.τ).loc Cert.AdamSmallRefIdeal.main_arg70)
          ∧ r.2.mem ((c.tc : Thread Cert.AdamSmallRefIdeal.nD Cert.AdamSmallRefIdeal.τ).loc Cert.AdamSmallRefIdeal.main_arg71) = m' ((c.tc : Thread Cert.AdamSmallRefIdeal.nD Cert.AdamSmallRefIdeal.τ).loc Cert.AdamSmallRefIdeal.main_arg71))

def Claim : Prop :=
  ∃ (hKernel : Cert.Kernel.Facts) (hKernelIdeal : Cert.KernelIdeal.Facts) (hReferenceIdeal : Cert.ReferenceIdeal.Facts) (hFfnOutDx : Cert.FfnOutDx.Facts) (hFfnOutDxIdeal : Cert.FfnOutDxIdeal.Facts) (hFfnOutDxRefIdeal : Cert.FfnOutDxRefIdeal.Facts) (hFfnOutDw : Cert.FfnOutDw.Facts) (hFfnOutDwIdeal : Cert.FfnOutDwIdeal.Facts) (hFfnOutDwRefIdeal : Cert.FfnOutDwRefIdeal.Facts) (hFfnInDx : Cert.FfnInDx.Facts) (hFfnInDxIdeal : Cert.FfnInDxIdeal.Facts) (hFfnInDxRefIdeal : Cert.FfnInDxRefIdeal.Facts) (hFfnInDw : Cert.FfnInDw.Facts) (hFfnInDwIdeal : Cert.FfnInDwIdeal.Facts) (hFfnInDwRefIdeal : Cert.FfnInDwRefIdeal.Facts) (hOutDx : Cert.OutDx.Facts) (hOutDxIdeal : Cert.OutDxIdeal.Facts) (hOutDxRefIdeal : Cert.OutDxRefIdeal.Facts) (hOutDw : Cert.OutDw.Facts) (hOutDwIdeal : Cert.OutDwIdeal.Facts) (hOutDwRefIdeal : Cert.OutDwRefIdeal.Facts) (hBranchDx : Cert.BranchDx.Facts) (hBranchDxIdeal : Cert.BranchDxIdeal.Facts) (hBranchDxRefIdeal : Cert.BranchDxRefIdeal.Facts) (hBranchDw : Cert.BranchDw.Facts) (hBranchDwIdeal : Cert.BranchDwIdeal.Facts) (hBranchDwRefIdeal : Cert.BranchDwRefIdeal.Facts) (hUkvDx : Cert.UkvDx.Facts) (hUkvDxIdeal : Cert.UkvDxIdeal.Facts) (hUkvDxRefIdeal : Cert.UkvDxRefIdeal.Facts) (hUkvDw : Cert.UkvDw.Facts) (hUkvDwIdeal : Cert.UkvDwIdeal.Facts) (hUkvDwRefIdeal : Cert.UkvDwRefIdeal.Facts) (hInQDx : Cert.InQDx.Facts) (hInQDxIdeal : Cert.InQDxIdeal.Facts) (hInQDxRefIdeal : Cert.InQDxRefIdeal.Facts) (hInQDw : Cert.InQDw.Facts) (hInQDwIdeal : Cert.InQDwIdeal.Facts) (hInQDwRefIdeal : Cert.InQDwRefIdeal.Facts) (hInCkvDx : Cert.InCkvDx.Facts) (hInCkvDxIdeal : Cert.InCkvDxIdeal.Facts) (hInCkvDxRefIdeal : Cert.InCkvDxRefIdeal.Facts) (hInCkvDw : Cert.InCkvDw.Facts) (hInCkvDwIdeal : Cert.InCkvDwIdeal.Facts) (hInCkvDwRefIdeal : Cert.InCkvDwRefIdeal.Facts) (hInSgDx : Cert.InSgDx.Facts) (hInSgDxIdeal : Cert.InSgDxIdeal.Facts) (hInSgDxRefIdeal : Cert.InSgDxRefIdeal.Facts) (hInSgDw : Cert.InSgDw.Facts) (hInSgDwIdeal : Cert.InSgDwIdeal.Facts) (hInSgDwRefIdeal : Cert.InSgDwRefIdeal.Facts) (hInRwDx : Cert.InRwDx.Facts) (hInRwDxIdeal : Cert.InRwDxIdeal.Facts) (hInRwDxRefIdeal : Cert.InRwDxRefIdeal.Facts) (hInRwDw : Cert.InRwDw.Facts) (hInRwDwIdeal : Cert.InRwDwIdeal.Facts) (hInRwDwRefIdeal : Cert.InRwDwRefIdeal.Facts) (hInGateDx : Cert.InGateDx.Facts) (hInGateDxIdeal : Cert.InGateDxIdeal.Facts) (hInGateDxRefIdeal : Cert.InGateDxRefIdeal.Facts) (hInGateDw : Cert.InGateDw.Facts) (hInGateDwIdeal : Cert.InGateDwIdeal.Facts) (hInGateDwRefIdeal : Cert.InGateDwRefIdeal.Facts) (hInKrDx : Cert.InKrDx.Facts) (hInKrDxIdeal : Cert.InKrDxIdeal.Facts) (hInKrDxRefIdeal : Cert.InKrDxRefIdeal.Facts) (hInKrDw : Cert.InKrDw.Facts) (hInKrDwIdeal : Cert.InKrDwIdeal.Facts) (hInKrDwRefIdeal : Cert.InKrDwRefIdeal.Facts) (hUqDx : Cert.UqDx.Facts) (hUqDxIdeal : Cert.UqDxIdeal.Facts) (hUqDxRefIdeal : Cert.UqDxRefIdeal.Facts) (hUqDw : Cert.UqDw.Facts) (hUqDwIdeal : Cert.UqDwIdeal.Facts) (hUqDwRefIdeal : Cert.UqDwRefIdeal.Facts) (hBranchAttnDx : Cert.BranchAttnDx.Facts) (hBranchAttnDxIdeal : Cert.BranchAttnDxIdeal.Facts) (hBranchAttnDxRefIdeal : Cert.BranchAttnDxRefIdeal.Facts) (hBranchAttnDw : Cert.BranchAttnDw.Facts) (hBranchAttnDwIdeal : Cert.BranchAttnDwIdeal.Facts) (hBranchAttnDwRefIdeal : Cert.BranchAttnDwRefIdeal.Facts) (hInQFw : Cert.InQFw.Facts) (hInQFwIdeal : Cert.InQFwIdeal.Facts) (hInQFwRefIdeal : Cert.InQFwRefIdeal.Facts) (hInCkvFw : Cert.InCkvFw.Facts) (hInCkvFwIdeal : Cert.InCkvFwIdeal.Facts) (hInCkvFwRefIdeal : Cert.InCkvFwRefIdeal.Facts) (hInKrFw : Cert.InKrFw.Facts) (hInKrFwIdeal : Cert.InKrFwIdeal.Facts) (hInKrFwRefIdeal : Cert.InKrFwRefIdeal.Facts) (hInSgFw : Cert.InSgFw.Facts) (hInSgFwIdeal : Cert.InSgFwIdeal.Facts) (hInSgFwRefIdeal : Cert.InSgFwRefIdeal.Facts) (hInRwFw : Cert.InRwFw.Facts) (hInRwFwIdeal : Cert.InRwFwIdeal.Facts) (hInRwFwRefIdeal : Cert.InRwFwRefIdeal.Facts) (hInGateFw : Cert.InGateFw.Facts) (hInGateFwIdeal : Cert.InGateFwIdeal.Facts) (hInGateFwRefIdeal : Cert.InGateFwRefIdeal.Facts) (hUqFw : Cert.UqFw.Facts) (hUqFwIdeal : Cert.UqFwIdeal.Facts) (hUqFwRefIdeal : Cert.UqFwRefIdeal.Facts) (hUkvFw : Cert.UkvFw.Facts) (hUkvFwIdeal : Cert.UkvFwIdeal.Facts) (hUkvFwRefIdeal : Cert.UkvFwRefIdeal.Facts) (hBranchAttnFw : Cert.BranchAttnFw.Facts) (hBranchAttnFwIdeal : Cert.BranchAttnFwIdeal.Facts) (hBranchAttnFwRefIdeal : Cert.BranchAttnFwRefIdeal.Facts) (hBranchFw : Cert.BranchFw.Facts) (hBranchFwIdeal : Cert.BranchFwIdeal.Facts) (hBranchFwRefIdeal : Cert.BranchFwRefIdeal.Facts) (hOutFw : Cert.OutFw.Facts) (hOutFwIdeal : Cert.OutFwIdeal.Facts) (hOutFwRefIdeal : Cert.OutFwRefIdeal.Facts) (hFfnInFw : Cert.FfnInFw.Facts) (hFfnInFwIdeal : Cert.FfnInFwIdeal.Facts) (hFfnInFwRefIdeal : Cert.FfnInFwRefIdeal.Facts) (hFfnOutFw : Cert.FfnOutFw.Facts) (hFfnOutFwIdeal : Cert.FfnOutFwIdeal.Facts) (hFfnOutFwRefIdeal : Cert.FfnOutFwRefIdeal.Facts) (hAdamWIn : Cert.AdamWIn.Facts) (hAdamWInIdeal : Cert.AdamWInIdeal.Facts) (hAdamWInRefIdeal : Cert.AdamWInRefIdeal.Facts) (hAdamWUq : Cert.AdamWUq.Facts) (hAdamWUqIdeal : Cert.AdamWUqIdeal.Facts) (hAdamWUqRefIdeal : Cert.AdamWUqRefIdeal.Facts) (hAdamWUkv : Cert.AdamWUkv.Facts) (hAdamWUkvIdeal : Cert.AdamWUkvIdeal.Facts) (hAdamWUkvRefIdeal : Cert.AdamWUkvRefIdeal.Facts) (hAdamRwW2 : Cert.AdamRwW2.Facts) (hAdamRwW2Ideal : Cert.AdamRwW2Ideal.Facts) (hAdamRwW2RefIdeal : Cert.AdamRwW2RefIdeal.Facts) (hAdamRwA2 : Cert.AdamRwA2.Facts) (hAdamRwA2Ideal : Cert.AdamRwA2Ideal.Facts) (hAdamRwA2RefIdeal : Cert.AdamRwA2RefIdeal.Facts) (hAdamRwG2 : Cert.AdamRwG2.Facts) (hAdamRwG2Ideal : Cert.AdamRwG2Ideal.Facts) (hAdamRwG2RefIdeal : Cert.AdamRwG2RefIdeal.Facts) (hAdamWBranch : Cert.AdamWBranch.Facts) (hAdamWBranchIdeal : Cert.AdamWBranchIdeal.Facts) (hAdamWBranchRefIdeal : Cert.AdamWBranchRefIdeal.Facts) (hAdamWOut : Cert.AdamWOut.Facts) (hAdamWOutIdeal : Cert.AdamWOutIdeal.Facts) (hAdamWOutRefIdeal : Cert.AdamWOutRefIdeal.Facts) (hAdamWFfnGate : Cert.AdamWFfnGate.Facts) (hAdamWFfnGateIdeal : Cert.AdamWFfnGateIdeal.Facts) (hAdamWFfnGateRefIdeal : Cert.AdamWFfnGateRefIdeal.Facts) (hAdamWFfnUp : Cert.AdamWFfnUp.Facts) (hAdamWFfnUpIdeal : Cert.AdamWFfnUpIdeal.Facts) (hAdamWFfnUpRefIdeal : Cert.AdamWFfnUpRefIdeal.Facts) (hAdamWFfnDown : Cert.AdamWFfnDown.Facts) (hAdamWFfnDownIdeal : Cert.AdamWFfnDownIdeal.Facts) (hAdamWFfnDownRefIdeal : Cert.AdamWFfnDownRefIdeal.Facts) (hAttnFw : Cert.AttnFw.Facts) (hAttnFwIdeal : Cert.AttnFwIdeal.Facts) (hAttnFwRefIdeal : Cert.AttnFwRefIdeal.Facts) (hAdamSmall : Cert.AdamSmall.Facts) (hAdamSmallIdeal : Cert.AdamSmallIdeal.Facts) (hAdamSmallRefIdeal : Cert.AdamSmallRefIdeal.Facts) (hPre_finite : Cert.Pre_finite.Facts) (hPre_finite_scores : Cert.Pre_finite_scores.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FfnOutDx (hFfnOutDx := hFfnOutDx)
    ∧ quiescent_FfnOutDxIdeal (hFfnOutDxIdeal := hFfnOutDxIdeal)
    ∧ quiescent_FfnOutDxRefIdeal (hFfnOutDxRefIdeal := hFfnOutDxRefIdeal)
    ∧ quiescent_FfnOutDw (hFfnOutDw := hFfnOutDw)
    ∧ quiescent_FfnOutDwIdeal (hFfnOutDwIdeal := hFfnOutDwIdeal)
    ∧ quiescent_FfnOutDwRefIdeal (hFfnOutDwRefIdeal := hFfnOutDwRefIdeal)
    ∧ quiescent_FfnInDx (hFfnInDx := hFfnInDx)
    ∧ quiescent_FfnInDxIdeal (hFfnInDxIdeal := hFfnInDxIdeal)
    ∧ quiescent_FfnInDxRefIdeal (hFfnInDxRefIdeal := hFfnInDxRefIdeal)
    ∧ quiescent_FfnInDw (hFfnInDw := hFfnInDw)
    ∧ quiescent_FfnInDwIdeal (hFfnInDwIdeal := hFfnInDwIdeal)
    ∧ quiescent_FfnInDwRefIdeal (hFfnInDwRefIdeal := hFfnInDwRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_BranchDx (hBranchDx := hBranchDx)
    ∧ quiescent_BranchDxIdeal (hBranchDxIdeal := hBranchDxIdeal)
    ∧ quiescent_BranchDxRefIdeal (hBranchDxRefIdeal := hBranchDxRefIdeal)
    ∧ quiescent_BranchDw (hBranchDw := hBranchDw)
    ∧ quiescent_BranchDwIdeal (hBranchDwIdeal := hBranchDwIdeal)
    ∧ quiescent_BranchDwRefIdeal (hBranchDwRefIdeal := hBranchDwRefIdeal)
    ∧ quiescent_UkvDx (hUkvDx := hUkvDx)
    ∧ quiescent_UkvDxIdeal (hUkvDxIdeal := hUkvDxIdeal)
    ∧ quiescent_UkvDxRefIdeal (hUkvDxRefIdeal := hUkvDxRefIdeal)
    ∧ quiescent_UkvDw (hUkvDw := hUkvDw)
    ∧ quiescent_UkvDwIdeal (hUkvDwIdeal := hUkvDwIdeal)
    ∧ quiescent_UkvDwRefIdeal (hUkvDwRefIdeal := hUkvDwRefIdeal)
    ∧ quiescent_InQDx (hInQDx := hInQDx)
    ∧ quiescent_InQDxIdeal (hInQDxIdeal := hInQDxIdeal)
    ∧ quiescent_InQDxRefIdeal (hInQDxRefIdeal := hInQDxRefIdeal)
    ∧ quiescent_InQDw (hInQDw := hInQDw)
    ∧ quiescent_InQDwIdeal (hInQDwIdeal := hInQDwIdeal)
    ∧ quiescent_InQDwRefIdeal (hInQDwRefIdeal := hInQDwRefIdeal)
    ∧ quiescent_InCkvDx (hInCkvDx := hInCkvDx)
    ∧ quiescent_InCkvDxIdeal (hInCkvDxIdeal := hInCkvDxIdeal)
    ∧ quiescent_InCkvDxRefIdeal (hInCkvDxRefIdeal := hInCkvDxRefIdeal)
    ∧ quiescent_InCkvDw (hInCkvDw := hInCkvDw)
    ∧ quiescent_InCkvDwIdeal (hInCkvDwIdeal := hInCkvDwIdeal)
    ∧ quiescent_InCkvDwRefIdeal (hInCkvDwRefIdeal := hInCkvDwRefIdeal)
    ∧ quiescent_InSgDx (hInSgDx := hInSgDx)
    ∧ quiescent_InSgDxIdeal (hInSgDxIdeal := hInSgDxIdeal)
    ∧ quiescent_InSgDxRefIdeal (hInSgDxRefIdeal := hInSgDxRefIdeal)
    ∧ quiescent_InSgDw (hInSgDw := hInSgDw)
    ∧ quiescent_InSgDwIdeal (hInSgDwIdeal := hInSgDwIdeal)
    ∧ quiescent_InSgDwRefIdeal (hInSgDwRefIdeal := hInSgDwRefIdeal)
    ∧ quiescent_InRwDx (hInRwDx := hInRwDx)
    ∧ quiescent_InRwDxIdeal (hInRwDxIdeal := hInRwDxIdeal)
    ∧ quiescent_InRwDxRefIdeal (hInRwDxRefIdeal := hInRwDxRefIdeal)
    ∧ quiescent_InRwDw (hInRwDw := hInRwDw)
    ∧ quiescent_InRwDwIdeal (hInRwDwIdeal := hInRwDwIdeal)
    ∧ quiescent_InRwDwRefIdeal (hInRwDwRefIdeal := hInRwDwRefIdeal)
    ∧ quiescent_InGateDx (hInGateDx := hInGateDx)
    ∧ quiescent_InGateDxIdeal (hInGateDxIdeal := hInGateDxIdeal)
    ∧ quiescent_InGateDxRefIdeal (hInGateDxRefIdeal := hInGateDxRefIdeal)
    ∧ quiescent_InGateDw (hInGateDw := hInGateDw)
    ∧ quiescent_InGateDwIdeal (hInGateDwIdeal := hInGateDwIdeal)
    ∧ quiescent_InGateDwRefIdeal (hInGateDwRefIdeal := hInGateDwRefIdeal)
    ∧ quiescent_InKrDx (hInKrDx := hInKrDx)
    ∧ quiescent_InKrDxIdeal (hInKrDxIdeal := hInKrDxIdeal)
    ∧ quiescent_InKrDxRefIdeal (hInKrDxRefIdeal := hInKrDxRefIdeal)
    ∧ quiescent_InKrDw (hInKrDw := hInKrDw)
    ∧ quiescent_InKrDwIdeal (hInKrDwIdeal := hInKrDwIdeal)
    ∧ quiescent_InKrDwRefIdeal (hInKrDwRefIdeal := hInKrDwRefIdeal)
    ∧ quiescent_UqDx (hUqDx := hUqDx)
    ∧ quiescent_UqDxIdeal (hUqDxIdeal := hUqDxIdeal)
    ∧ quiescent_UqDxRefIdeal (hUqDxRefIdeal := hUqDxRefIdeal)
    ∧ quiescent_UqDw (hUqDw := hUqDw)
    ∧ quiescent_UqDwIdeal (hUqDwIdeal := hUqDwIdeal)
    ∧ quiescent_UqDwRefIdeal (hUqDwRefIdeal := hUqDwRefIdeal)
    ∧ quiescent_BranchAttnDx (hBranchAttnDx := hBranchAttnDx)
    ∧ quiescent_BranchAttnDxIdeal (hBranchAttnDxIdeal := hBranchAttnDxIdeal)
    ∧ quiescent_BranchAttnDxRefIdeal (hBranchAttnDxRefIdeal := hBranchAttnDxRefIdeal)
    ∧ quiescent_BranchAttnDw (hBranchAttnDw := hBranchAttnDw)
    ∧ quiescent_BranchAttnDwIdeal (hBranchAttnDwIdeal := hBranchAttnDwIdeal)
    ∧ quiescent_BranchAttnDwRefIdeal (hBranchAttnDwRefIdeal := hBranchAttnDwRefIdeal)
    ∧ quiescent_InQFw (hInQFw := hInQFw)
    ∧ quiescent_InQFwIdeal (hInQFwIdeal := hInQFwIdeal)
    ∧ quiescent_InQFwRefIdeal (hInQFwRefIdeal := hInQFwRefIdeal)
    ∧ quiescent_InCkvFw (hInCkvFw := hInCkvFw)
    ∧ quiescent_InCkvFwIdeal (hInCkvFwIdeal := hInCkvFwIdeal)
    ∧ quiescent_InCkvFwRefIdeal (hInCkvFwRefIdeal := hInCkvFwRefIdeal)
    ∧ quiescent_InKrFw (hInKrFw := hInKrFw)
    ∧ quiescent_InKrFwIdeal (hInKrFwIdeal := hInKrFwIdeal)
    ∧ quiescent_InKrFwRefIdeal (hInKrFwRefIdeal := hInKrFwRefIdeal)
    ∧ quiescent_InSgFw (hInSgFw := hInSgFw)
    ∧ quiescent_InSgFwIdeal (hInSgFwIdeal := hInSgFwIdeal)
    ∧ quiescent_InSgFwRefIdeal (hInSgFwRefIdeal := hInSgFwRefIdeal)
    ∧ quiescent_InRwFw (hInRwFw := hInRwFw)
    ∧ quiescent_InRwFwIdeal (hInRwFwIdeal := hInRwFwIdeal)
    ∧ quiescent_InRwFwRefIdeal (hInRwFwRefIdeal := hInRwFwRefIdeal)
    ∧ quiescent_InGateFw (hInGateFw := hInGateFw)
    ∧ quiescent_InGateFwIdeal (hInGateFwIdeal := hInGateFwIdeal)
    ∧ quiescent_InGateFwRefIdeal (hInGateFwRefIdeal := hInGateFwRefIdeal)
    ∧ quiescent_UqFw (hUqFw := hUqFw)
    ∧ quiescent_UqFwIdeal (hUqFwIdeal := hUqFwIdeal)
    ∧ quiescent_UqFwRefIdeal (hUqFwRefIdeal := hUqFwRefIdeal)
    ∧ quiescent_UkvFw (hUkvFw := hUkvFw)
    ∧ quiescent_UkvFwIdeal (hUkvFwIdeal := hUkvFwIdeal)
    ∧ quiescent_UkvFwRefIdeal (hUkvFwRefIdeal := hUkvFwRefIdeal)
    ∧ quiescent_BranchAttnFw (hBranchAttnFw := hBranchAttnFw)
    ∧ quiescent_BranchAttnFwIdeal (hBranchAttnFwIdeal := hBranchAttnFwIdeal)
    ∧ quiescent_BranchAttnFwRefIdeal (hBranchAttnFwRefIdeal := hBranchAttnFwRefIdeal)
    ∧ quiescent_BranchFw (hBranchFw := hBranchFw)
    ∧ quiescent_BranchFwIdeal (hBranchFwIdeal := hBranchFwIdeal)
    ∧ quiescent_BranchFwRefIdeal (hBranchFwRefIdeal := hBranchFwRefIdeal)
    ∧ quiescent_OutFw (hOutFw := hOutFw)
    ∧ quiescent_OutFwIdeal (hOutFwIdeal := hOutFwIdeal)
    ∧ quiescent_OutFwRefIdeal (hOutFwRefIdeal := hOutFwRefIdeal)
    ∧ quiescent_FfnInFw (hFfnInFw := hFfnInFw)
    ∧ quiescent_FfnInFwIdeal (hFfnInFwIdeal := hFfnInFwIdeal)
    ∧ quiescent_FfnInFwRefIdeal (hFfnInFwRefIdeal := hFfnInFwRefIdeal)
    ∧ quiescent_FfnOutFw (hFfnOutFw := hFfnOutFw)
    ∧ quiescent_FfnOutFwIdeal (hFfnOutFwIdeal := hFfnOutFwIdeal)
    ∧ quiescent_FfnOutFwRefIdeal (hFfnOutFwRefIdeal := hFfnOutFwRefIdeal)
    ∧ quiescent_AdamWIn (hAdamWIn := hAdamWIn)
    ∧ quiescent_AdamWInIdeal (hAdamWInIdeal := hAdamWInIdeal)
    ∧ quiescent_AdamWInRefIdeal (hAdamWInRefIdeal := hAdamWInRefIdeal)
    ∧ quiescent_AdamWUq (hAdamWUq := hAdamWUq)
    ∧ quiescent_AdamWUqIdeal (hAdamWUqIdeal := hAdamWUqIdeal)
    ∧ quiescent_AdamWUqRefIdeal (hAdamWUqRefIdeal := hAdamWUqRefIdeal)
    ∧ quiescent_AdamWUkv (hAdamWUkv := hAdamWUkv)
    ∧ quiescent_AdamWUkvIdeal (hAdamWUkvIdeal := hAdamWUkvIdeal)
    ∧ quiescent_AdamWUkvRefIdeal (hAdamWUkvRefIdeal := hAdamWUkvRefIdeal)
    ∧ quiescent_AdamRwW2 (hAdamRwW2 := hAdamRwW2)
    ∧ quiescent_AdamRwW2Ideal (hAdamRwW2Ideal := hAdamRwW2Ideal)
    ∧ quiescent_AdamRwW2RefIdeal (hAdamRwW2RefIdeal := hAdamRwW2RefIdeal)
    ∧ quiescent_AdamRwA2 (hAdamRwA2 := hAdamRwA2)
    ∧ quiescent_AdamRwA2Ideal (hAdamRwA2Ideal := hAdamRwA2Ideal)
    ∧ quiescent_AdamRwA2RefIdeal (hAdamRwA2RefIdeal := hAdamRwA2RefIdeal)
    ∧ quiescent_AdamRwG2 (hAdamRwG2 := hAdamRwG2)
    ∧ quiescent_AdamRwG2Ideal (hAdamRwG2Ideal := hAdamRwG2Ideal)
    ∧ quiescent_AdamRwG2RefIdeal (hAdamRwG2RefIdeal := hAdamRwG2RefIdeal)
    ∧ quiescent_AdamWBranch (hAdamWBranch := hAdamWBranch)
    ∧ quiescent_AdamWBranchIdeal (hAdamWBranchIdeal := hAdamWBranchIdeal)
    ∧ quiescent_AdamWBranchRefIdeal (hAdamWBranchRefIdeal := hAdamWBranchRefIdeal)
    ∧ quiescent_AdamWOut (hAdamWOut := hAdamWOut)
    ∧ quiescent_AdamWOutIdeal (hAdamWOutIdeal := hAdamWOutIdeal)
    ∧ quiescent_AdamWOutRefIdeal (hAdamWOutRefIdeal := hAdamWOutRefIdeal)
    ∧ quiescent_AdamWFfnGate (hAdamWFfnGate := hAdamWFfnGate)
    ∧ quiescent_AdamWFfnGateIdeal (hAdamWFfnGateIdeal := hAdamWFfnGateIdeal)
    ∧ quiescent_AdamWFfnGateRefIdeal (hAdamWFfnGateRefIdeal := hAdamWFfnGateRefIdeal)
    ∧ quiescent_AdamWFfnUp (hAdamWFfnUp := hAdamWFfnUp)
    ∧ quiescent_AdamWFfnUpIdeal (hAdamWFfnUpIdeal := hAdamWFfnUpIdeal)
    ∧ quiescent_AdamWFfnUpRefIdeal (hAdamWFfnUpRefIdeal := hAdamWFfnUpRefIdeal)
    ∧ quiescent_AdamWFfnDown (hAdamWFfnDown := hAdamWFfnDown)
    ∧ quiescent_AdamWFfnDownIdeal (hAdamWFfnDownIdeal := hAdamWFfnDownIdeal)
    ∧ quiescent_AdamWFfnDownRefIdeal (hAdamWFfnDownRefIdeal := hAdamWFfnDownRefIdeal)
    ∧ quiescent_AttnFw (hAttnFw := hAttnFw)
    ∧ quiescent_AttnFwIdeal (hAttnFwIdeal := hAttnFwIdeal)
    ∧ quiescent_AttnFwIdeal_pre_finite_scores (hAttnFwIdeal := hAttnFwIdeal) (hPre_finite_scores := hPre_finite_scores)
    ∧ quiescent_AttnFwRefIdeal (hAttnFwRefIdeal := hAttnFwRefIdeal)
    ∧ quiescent_AttnFwRefIdeal_pre_finite_scores (hAttnFwRefIdeal := hAttnFwRefIdeal) (hPre_finite_scores := hPre_finite_scores)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_FfnOutDx_FfnOutDxIdeal
    ∧ algebraic_FfnOutDxIdeal_FfnOutDxRefIdeal (hFfnOutDxIdeal := hFfnOutDxIdeal) (hFfnOutDxRefIdeal := hFfnOutDxRefIdeal)
    ∧ preserves_FfnOutDw_FfnOutDwIdeal
    ∧ algebraic_FfnOutDwIdeal_FfnOutDwRefIdeal (hFfnOutDwIdeal := hFfnOutDwIdeal) (hFfnOutDwRefIdeal := hFfnOutDwRefIdeal)
    ∧ preserves_FfnInDx_FfnInDxIdeal
    ∧ algebraic_FfnInDxIdeal_FfnInDxRefIdeal (hFfnInDxIdeal := hFfnInDxIdeal) (hFfnInDxRefIdeal := hFfnInDxRefIdeal)
    ∧ preserves_FfnInDw_FfnInDwIdeal
    ∧ algebraic_FfnInDwIdeal_FfnInDwRefIdeal (hFfnInDwIdeal := hFfnInDwIdeal) (hFfnInDwRefIdeal := hFfnInDwRefIdeal)
    ∧ preserves_OutDx_OutDxIdeal
    ∧ algebraic_OutDxIdeal_OutDxRefIdeal (hOutDxIdeal := hOutDxIdeal) (hOutDxRefIdeal := hOutDxRefIdeal)
    ∧ preserves_OutDw_OutDwIdeal
    ∧ algebraic_OutDwIdeal_OutDwRefIdeal (hOutDwIdeal := hOutDwIdeal) (hOutDwRefIdeal := hOutDwRefIdeal)
    ∧ preserves_BranchDx_BranchDxIdeal
    ∧ algebraic_BranchDxIdeal_BranchDxRefIdeal (hBranchDxIdeal := hBranchDxIdeal) (hBranchDxRefIdeal := hBranchDxRefIdeal)
    ∧ preserves_BranchDw_BranchDwIdeal
    ∧ algebraic_BranchDwIdeal_BranchDwRefIdeal (hBranchDwIdeal := hBranchDwIdeal) (hBranchDwRefIdeal := hBranchDwRefIdeal)
    ∧ preserves_UkvDx_UkvDxIdeal
    ∧ algebraic_UkvDxIdeal_UkvDxRefIdeal (hUkvDxIdeal := hUkvDxIdeal) (hUkvDxRefIdeal := hUkvDxRefIdeal)
    ∧ preserves_UkvDw_UkvDwIdeal
    ∧ algebraic_UkvDwIdeal_UkvDwRefIdeal (hUkvDwIdeal := hUkvDwIdeal) (hUkvDwRefIdeal := hUkvDwRefIdeal)
    ∧ preserves_InQDx_InQDxIdeal
    ∧ algebraic_InQDxIdeal_InQDxRefIdeal (hInQDxIdeal := hInQDxIdeal) (hInQDxRefIdeal := hInQDxRefIdeal)
    ∧ preserves_InQDw_InQDwIdeal
    ∧ algebraic_InQDwIdeal_InQDwRefIdeal (hInQDwIdeal := hInQDwIdeal) (hInQDwRefIdeal := hInQDwRefIdeal)
    ∧ preserves_InCkvDx_InCkvDxIdeal
    ∧ algebraic_InCkvDxIdeal_InCkvDxRefIdeal (hInCkvDxIdeal := hInCkvDxIdeal) (hInCkvDxRefIdeal := hInCkvDxRefIdeal)
    ∧ preserves_InCkvDw_InCkvDwIdeal
    ∧ algebraic_InCkvDwIdeal_InCkvDwRefIdeal (hInCkvDwIdeal := hInCkvDwIdeal) (hInCkvDwRefIdeal := hInCkvDwRefIdeal)
    ∧ preserves_InSgDx_InSgDxIdeal
    ∧ algebraic_InSgDxIdeal_InSgDxRefIdeal (hInSgDxIdeal := hInSgDxIdeal) (hInSgDxRefIdeal := hInSgDxRefIdeal)
    ∧ preserves_InSgDw_InSgDwIdeal
    ∧ algebraic_InSgDwIdeal_InSgDwRefIdeal (hInSgDwIdeal := hInSgDwIdeal) (hInSgDwRefIdeal := hInSgDwRefIdeal)
    ∧ preserves_InRwDx_InRwDxIdeal
    ∧ algebraic_InRwDxIdeal_InRwDxRefIdeal (hInRwDxIdeal := hInRwDxIdeal) (hInRwDxRefIdeal := hInRwDxRefIdeal)
    ∧ preserves_InRwDw_InRwDwIdeal
    ∧ algebraic_InRwDwIdeal_InRwDwRefIdeal (hInRwDwIdeal := hInRwDwIdeal) (hInRwDwRefIdeal := hInRwDwRefIdeal)
    ∧ preserves_InGateDx_InGateDxIdeal
    ∧ algebraic_InGateDxIdeal_InGateDxRefIdeal (hInGateDxIdeal := hInGateDxIdeal) (hInGateDxRefIdeal := hInGateDxRefIdeal)
    ∧ preserves_InGateDw_InGateDwIdeal
    ∧ algebraic_InGateDwIdeal_InGateDwRefIdeal (hInGateDwIdeal := hInGateDwIdeal) (hInGateDwRefIdeal := hInGateDwRefIdeal)
    ∧ preserves_InKrDx_InKrDxIdeal
    ∧ algebraic_InKrDxIdeal_InKrDxRefIdeal (hInKrDxIdeal := hInKrDxIdeal) (hInKrDxRefIdeal := hInKrDxRefIdeal)
    ∧ preserves_InKrDw_InKrDwIdeal
    ∧ algebraic_InKrDwIdeal_InKrDwRefIdeal (hInKrDwIdeal := hInKrDwIdeal) (hInKrDwRefIdeal := hInKrDwRefIdeal)
    ∧ preserves_UqDx_UqDxIdeal
    ∧ algebraic_UqDxIdeal_UqDxRefIdeal (hUqDxIdeal := hUqDxIdeal) (hUqDxRefIdeal := hUqDxRefIdeal)
    ∧ preserves_UqDw_UqDwIdeal
    ∧ algebraic_UqDwIdeal_UqDwRefIdeal (hUqDwIdeal := hUqDwIdeal) (hUqDwRefIdeal := hUqDwRefIdeal)
    ∧ preserves_BranchAttnDx_BranchAttnDxIdeal
    ∧ algebraic_BranchAttnDxIdeal_BranchAttnDxRefIdeal (hBranchAttnDxIdeal := hBranchAttnDxIdeal) (hBranchAttnDxRefIdeal := hBranchAttnDxRefIdeal)
    ∧ preserves_BranchAttnDw_BranchAttnDwIdeal
    ∧ algebraic_BranchAttnDwIdeal_BranchAttnDwRefIdeal (hBranchAttnDwIdeal := hBranchAttnDwIdeal) (hBranchAttnDwRefIdeal := hBranchAttnDwRefIdeal)
    ∧ preserves_InQFw_InQFwIdeal
    ∧ algebraic_InQFwIdeal_InQFwRefIdeal (hInQFwIdeal := hInQFwIdeal) (hInQFwRefIdeal := hInQFwRefIdeal)
    ∧ preserves_InCkvFw_InCkvFwIdeal
    ∧ algebraic_InCkvFwIdeal_InCkvFwRefIdeal (hInCkvFwIdeal := hInCkvFwIdeal) (hInCkvFwRefIdeal := hInCkvFwRefIdeal)
    ∧ preserves_InKrFw_InKrFwIdeal
    ∧ algebraic_InKrFwIdeal_InKrFwRefIdeal (hInKrFwIdeal := hInKrFwIdeal) (hInKrFwRefIdeal := hInKrFwRefIdeal)
    ∧ preserves_InSgFw_InSgFwIdeal
    ∧ algebraic_InSgFwIdeal_InSgFwRefIdeal (hInSgFwIdeal := hInSgFwIdeal) (hInSgFwRefIdeal := hInSgFwRefIdeal)
    ∧ preserves_InRwFw_InRwFwIdeal
    ∧ algebraic_InRwFwIdeal_InRwFwRefIdeal (hInRwFwIdeal := hInRwFwIdeal) (hInRwFwRefIdeal := hInRwFwRefIdeal)
    ∧ preserves_InGateFw_InGateFwIdeal
    ∧ algebraic_InGateFwIdeal_InGateFwRefIdeal (hInGateFwIdeal := hInGateFwIdeal) (hInGateFwRefIdeal := hInGateFwRefIdeal)
    ∧ preserves_UqFw_UqFwIdeal
    ∧ algebraic_UqFwIdeal_UqFwRefIdeal (hUqFwIdeal := hUqFwIdeal) (hUqFwRefIdeal := hUqFwRefIdeal)
    ∧ preserves_UkvFw_UkvFwIdeal
    ∧ algebraic_UkvFwIdeal_UkvFwRefIdeal (hUkvFwIdeal := hUkvFwIdeal) (hUkvFwRefIdeal := hUkvFwRefIdeal)
    ∧ preserves_BranchAttnFw_BranchAttnFwIdeal
    ∧ algebraic_BranchAttnFwIdeal_BranchAttnFwRefIdeal (hBranchAttnFwIdeal := hBranchAttnFwIdeal) (hBranchAttnFwRefIdeal := hBranchAttnFwRefIdeal)
    ∧ preserves_BranchFw_BranchFwIdeal
    ∧ algebraic_BranchFwIdeal_BranchFwRefIdeal (hBranchFwIdeal := hBranchFwIdeal) (hBranchFwRefIdeal := hBranchFwRefIdeal)
    ∧ preserves_OutFw_OutFwIdeal
    ∧ algebraic_OutFwIdeal_OutFwRefIdeal (hOutFwIdeal := hOutFwIdeal) (hOutFwRefIdeal := hOutFwRefIdeal)
    ∧ preserves_FfnInFw_FfnInFwIdeal
    ∧ algebraic_FfnInFwIdeal_FfnInFwRefIdeal (hFfnInFwIdeal := hFfnInFwIdeal) (hFfnInFwRefIdeal := hFfnInFwRefIdeal)
    ∧ preserves_FfnOutFw_FfnOutFwIdeal
    ∧ algebraic_FfnOutFwIdeal_FfnOutFwRefIdeal (hFfnOutFwIdeal := hFfnOutFwIdeal) (hFfnOutFwRefIdeal := hFfnOutFwRefIdeal)
    ∧ preserves_AdamWIn_AdamWInIdeal
    ∧ algebraic_AdamWInIdeal_AdamWInRefIdeal (hAdamWInIdeal := hAdamWInIdeal) (hAdamWInRefIdeal := hAdamWInRefIdeal)
    ∧ preserves_AdamWUq_AdamWUqIdeal
    ∧ algebraic_AdamWUqIdeal_AdamWUqRefIdeal (hAdamWUqIdeal := hAdamWUqIdeal) (hAdamWUqRefIdeal := hAdamWUqRefIdeal)
    ∧ preserves_AdamWUkv_AdamWUkvIdeal
    ∧ algebraic_AdamWUkvIdeal_AdamWUkvRefIdeal (hAdamWUkvIdeal := hAdamWUkvIdeal) (hAdamWUkvRefIdeal := hAdamWUkvRefIdeal)
    ∧ preserves_AdamRwW2_AdamRwW2Ideal
    ∧ algebraic_AdamRwW2Ideal_AdamRwW2RefIdeal (hAdamRwW2Ideal := hAdamRwW2Ideal) (hAdamRwW2RefIdeal := hAdamRwW2RefIdeal)
    ∧ preserves_AdamRwA2_AdamRwA2Ideal
    ∧ algebraic_AdamRwA2Ideal_AdamRwA2RefIdeal (hAdamRwA2Ideal := hAdamRwA2Ideal) (hAdamRwA2RefIdeal := hAdamRwA2RefIdeal)
    ∧ preserves_AdamRwG2_AdamRwG2Ideal
    ∧ algebraic_AdamRwG2Ideal_AdamRwG2RefIdeal (hAdamRwG2Ideal := hAdamRwG2Ideal) (hAdamRwG2RefIdeal := hAdamRwG2RefIdeal)
    ∧ preserves_AdamWBranch_AdamWBranchIdeal
    ∧ algebraic_AdamWBranchIdeal_AdamWBranchRefIdeal (hAdamWBranchIdeal := hAdamWBranchIdeal) (hAdamWBranchRefIdeal := hAdamWBranchRefIdeal)
    ∧ preserves_AdamWOut_AdamWOutIdeal
    ∧ algebraic_AdamWOutIdeal_AdamWOutRefIdeal (hAdamWOutIdeal := hAdamWOutIdeal) (hAdamWOutRefIdeal := hAdamWOutRefIdeal)
    ∧ preserves_AdamWFfnGate_AdamWFfnGateIdeal
    ∧ algebraic_AdamWFfnGateIdeal_AdamWFfnGateRefIdeal (hAdamWFfnGateIdeal := hAdamWFfnGateIdeal) (hAdamWFfnGateRefIdeal := hAdamWFfnGateRefIdeal)
    ∧ preserves_AdamWFfnUp_AdamWFfnUpIdeal
    ∧ algebraic_AdamWFfnUpIdeal_AdamWFfnUpRefIdeal (hAdamWFfnUpIdeal := hAdamWFfnUpIdeal) (hAdamWFfnUpRefIdeal := hAdamWFfnUpRefIdeal)
    ∧ preserves_AdamWFfnDown_AdamWFfnDownIdeal
    ∧ algebraic_AdamWFfnDownIdeal_AdamWFfnDownRefIdeal (hAdamWFfnDownIdeal := hAdamWFfnDownIdeal) (hAdamWFfnDownRefIdeal := hAdamWFfnDownRefIdeal)
    ∧ preserves_AttnFw_AttnFwIdeal
    ∧ algebraic_AttnFwIdeal_AttnFwRefIdeal_pre_finite_scores (hAttnFwIdeal := hAttnFwIdeal) (hAttnFwRefIdeal := hAttnFwRefIdeal) (hPre_finite_scores := hPre_finite_scores)
    ∧ preserves_AdamSmall_AdamSmallIdeal
    ∧ algebraic_AdamSmallIdeal_AdamSmallRefIdeal (hAdamSmallIdeal := hAdamSmallIdeal) (hAdamSmallRefIdeal := hAdamSmallRefIdeal)
-- ==== Pre_finite.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)

variable [Facts]

def fn {F : FTy → Type} [FloatOps F] (main_arg0 : FVec F S8192x1024 .bf16) (main_arg1 : FVec F S8192x1024 .bf16) (main_arg2 : FVec F S8192x1024 .f32) (main_arg3 : FVec F S8192x1024 .f32) : IVec S8192x1024 1 :=
  let main_v0 : FVec F S8192x1024 .bf16 := Host.absf main_arg0
  let main_cst : FVec F S_ .bf16 := constant S_ .bf16 0x7F80#16
  let main_v1 : FVec F S8192x1024 .bf16 := broadcastInDim S8192x1024 ![] bcast_S_S8192x1024 main_cst
  let main_v2 : IVec S8192x1024 1 := cmpf .olt main_v0 main_v1
  let main_v3 : FVec F S8192x1024 .bf16 := Host.absf main_arg1
  let main_cst_0 : FVec F S_ .bf16 := constant S_ .bf16 0x7F80#16
  let main_v4 : FVec F S8192x1024 .bf16 := broadcastInDim S8192x1024 ![] bcast_S_S8192x1024 main_cst_0
  let main_v5 : IVec S8192x1024 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_v12 : IVec S8192x1024 1 := andi main_v2 main_v5
  let main_v13 : IVec S8192x1024 1 := andi main_v12 main_v8
  let main_v14 : IVec S8192x1024 1 := andi main_v13 main_v11
  main_v14
-- ==== Pre_finite_scores.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)

variable [Facts]

def fn {F : FTy → Type} [FloatOps F] (main_arg0 : FVec F S8192x1024 .bf16) (main_arg1 : FVec F S8192x1024 .bf16) (main_arg2 : FVec F S8192x1024 .f32) : IVec S8192x1024 1 :=
  let main_v0 : FVec F S8192x1024 .bf16 := Host.absf main_arg0
  let main_cst : FVec F S_ .bf16 := constant S_ .bf16 0x7F80#16
  let main_v1 : FVec F S8192x1024 .bf16 := broadcastInDim S8192x1024 ![] bcast_S_S8192x1024 main_cst
  let main_v2 : IVec S8192x1024 1 := cmpf .olt main_v0 main_v1
  let main_v3 : FVec F S8192x1024 .bf16 := Host.absf main_arg1
  let main_cst_0 : FVec F S_ .bf16 := constant S_ .bf16 0x7F80#16
  let main_v4 : FVec F S8192x1024 .bf16 := broadcastInDim S8192x1024 ![] bcast_S_S8192x1024 main_cst_0
  let main_v5 : IVec S8192x1024 1 := cmpf .olt main_v3 main_v4
  let main_v6 : IVec S8192x1024 1 := andi main_v2 main_v5
  main_v6
-- ==== Kernel.lean ====
abbrev S8192x1024 : Shape := ⟨2, ![8192, 1024]⟩
abbrev S512x128 : Shape := ⟨2, ![512, 128]⟩
abbrev S2048x128 : Shape := ⟨2, ![2048, 128]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .local _ .vmem, ⟨0, _⟩ => ⟨S512x128, .bf16⟩
  | .local _ .vmem, ⟨1, _⟩ => ⟨S512x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .f32⟩
  | .local _ .vmem, ⟨5, _⟩ => ⟨S2048x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 8, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== ReferenceIdeal.lean ====
abbrev S8192x1024 : Shape := ⟨2, ![8192, 1024]⟩
abbrev S4x2048x8x128 : Shape := ⟨4, ![4, 2048, 8, 128]⟩
abbrev S4x8x2048x2048 : Shape := ⟨4, ![4, 8, 2048, 2048]⟩
abbrev S_ : Shape := ⟨0, ![]⟩
abbrev S4x8x2048 : Shape := ⟨3, ![4, 8, 2048]⟩
abbrev S4x8x2048x1 : Shape := ⟨4, ![4, 8, 2048, 1]⟩
abbrev S4x8x128x2048 : Shape := ⟨4, ![4, 8, 128, 2048]⟩
abbrev S4x8x2048x128 : Shape := ⟨4, ![4, 8, 2048, 128]⟩

abbrev nBuf : Space → Nat
  | .hbm => 83
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S4x2048x8x128, .f32⟩
  | .hbm, ⟨7, _⟩ => ⟨S4x2048x8x128, .f32⟩
  | .hbm, ⟨8, _⟩ => ⟨S4x2048x8x128, .f32⟩
  | .hbm, ⟨9, _⟩ => ⟨S4x8x2048x2048, .f32⟩
  | .hbm, ⟨10, _⟩ => ⟨S_, .f32⟩
  | .hbm, ⟨11, _⟩ => ⟨S4x8x2048x2048, .f32⟩
  | .hbm, ⟨12, _⟩ => ⟨S4x8x2048x2048, .f32⟩
  | .hbm, ⟨13, _⟩ => ⟨S_, .f32⟩
  | .hbm, ⟨14, _⟩ => ⟨S4x8x2048, .f32⟩
  | .hbm, ⟨15, _⟩ => ⟨S4x8x2048x1, .f32⟩
  | .hbm, ⟨16, _⟩ => ⟨S4x8x2048x2048, .f32⟩
  | .hbm, ⟨17, _⟩ => ⟨S4x8x2048x2048, .i1⟩
  | .hbm, ⟨18, _⟩ => ⟨S4x8x2048x2048, .f32⟩
  | .hbm, ⟨19, _⟩ => ⟨S_, .f32⟩
  | .hbm, ⟨20, _⟩ => ⟨S4x8x2048, .f32⟩
  | .hbm, ⟨21, _⟩ => ⟨S_, .f32⟩
  | .hbm, ⟨22, _⟩ => ⟨S4x8x2048, .f32⟩
  | .hbm, ⟨23, _⟩ => ⟨S4x8x2048, .f32⟩
  | .hbm, ⟨24, _⟩ => ⟨S_, .f32⟩
  | .hbm, ⟨25, _⟩ => ⟨S4x8x2048, .f32⟩
  | .hbm, ⟨26, _⟩ => ⟨S4x8x2048, .i1⟩
  | .hbm, ⟨27, _⟩ => ⟨S_, .f32⟩
  | .hbm, ⟨28, _⟩ => ⟨S4x8x2048, .f32⟩
  | .hbm, ⟨29, _⟩ => ⟨S4x8x2048, .i1⟩
  | .hbm, ⟨30, _⟩ => ⟨S_, .f32⟩
  | .hbm, ⟨31, _⟩ => ⟨S4x8x2048, .f32⟩
  | .hbm, ⟨32, _⟩ => ⟨S_, .f32⟩
  | .hbm, ⟨33, _⟩ => ⟨S4x8x2048, .f32⟩
  | .hbm, ⟨34, _⟩ => ⟨S_, .f32⟩
  | .hbm, ⟨35, _⟩ => ⟨S4x8x2048, .f32⟩
  | .hbm, ⟨36, _⟩ => ⟨S4x8x2048, .f32⟩
  | .hbm, ⟨37, _⟩ => ⟨S4x8x2048, .f32⟩
  | .hbm, ⟨38, _⟩ => ⟨S4x8x2048x1, .f32⟩
  | .hbm, ⟨39, _⟩ => ⟨S4x8x2048x2048, .f32⟩
  | .hbm, ⟨40, _⟩ => ⟨S4x8x2048x2048, .f32⟩
  | .hbm, ⟨41, _⟩ => ⟨S4x8x2048x2048, .f32⟩
  | .hbm, ⟨42, _⟩ => ⟨S_, .f32⟩
  | .hbm, ⟨43, _⟩ => ⟨S4x8x2048, .f32⟩
  | .hbm, ⟨44, _⟩ => ⟨S4x8x2048x1, .f32⟩
  | .hbm, ⟨45, _⟩ => ⟨S4x8x2048x2048, .f32⟩
  | .hbm, ⟨46, _⟩ => ⟨S4x8x2048x2048, .f32⟩
  | .hbm, ⟨47, _⟩ => ⟨S4x8x2048x1, .f32⟩
  | .hbm, ⟨48, _⟩ => ⟨S_, .f32⟩
  | .hbm, ⟨49, _⟩ => ⟨S4x8x2048x1, .f32⟩
  | .hbm, ⟨50, _⟩ => ⟨S4x8x2048x1, .f32⟩
  | .hbm, ⟨51, _⟩ => ⟨S4x8x128x2048, .f32⟩
  | .hbm, ⟨52, _⟩ => ⟨S4x2048x8x128, .f32⟩
  | .hbm, ⟨53, _⟩ => ⟨S8192x1024, .f32⟩
  | .hbm, ⟨54, _⟩ => ⟨S4x2048x8x128, .f32⟩
  | .hbm, ⟨55, _⟩ => ⟨S4x8x128x2048, .f32⟩
  | .hbm, ⟨56, _⟩ => ⟨S4x8x2048x2048, .f32⟩
  | .hbm, ⟨57, _⟩ => ⟨S4x8x128x2048, .f32⟩
  | .hbm, ⟨58, _⟩ => ⟨S4x2048x8x128, .f32⟩
  | .hbm, ⟨59, _⟩ => ⟨S4x8x2048x2048, .f32⟩
  | .hbm, ⟨60, _⟩ => ⟨S4x8x2048x2048, .f32⟩
  | .hbm, ⟨61, _⟩ => ⟨S4x8x2048x2048, .f32⟩
  | .hbm, ⟨62, _⟩ => ⟨S_, .f32⟩
  | .hbm, ⟨63, _⟩ => ⟨S4x8x2048, .f32⟩
  | .hbm, ⟨64, _⟩ => ⟨S4x8x2048x1, .f32⟩
  | .hbm, ⟨65, _⟩ => ⟨S4x8x2048x1, .f32⟩
  | .hbm, ⟨66, _⟩ => ⟨S4x8x2048x2048, .f32⟩
  | .hbm, ⟨67, _⟩ => ⟨S4x8x2048x2048, .f32⟩
  | .hbm, ⟨68, _⟩ => ⟨S_, .f32⟩
  | .hbm, ⟨69, _⟩ => ⟨S4x8x2048, .f32⟩
  | .hbm, ⟨70, _⟩ => ⟨S4x8x2048x2048, .f32⟩
  | .hbm, ⟨71, _⟩ => ⟨S4x8x2048x2048, .f32⟩
  | .hbm, ⟨72, _⟩ => ⟨S4x8x2048x2048, .f32⟩
  | .hbm, ⟨73, _⟩ => ⟨S_, .f32⟩
  | .hbm, ⟨74, _⟩ => ⟨S4x8x2048x2048, .f32⟩
  | .hbm, ⟨75, _⟩ => ⟨S4x8x2048x2048, .f32⟩
  | .hbm, ⟨76, _⟩ => ⟨S4x8x2048x128, .f32⟩
  | .hbm, ⟨77, _⟩ => ⟨S4x2048x8x128, .f32⟩
  | .hbm, ⟨78, _⟩ => ⟨S4x8x2048x128, .f32⟩
  | .hbm, ⟨79, _⟩ => ⟨S4x2048x8x128, .f32⟩
  | .hbm, ⟨80, _⟩ => ⟨S8192x1024, .f32⟩
  | .hbm, ⟨81, _⟩ => ⟨S8192x1024, .f32⟩
  | .hbm, ⟨82, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_8 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_9 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_10 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_11 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_12 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩

abbrev nD : Nat := 1
abbrev τ : Topo := Topo.v7x

variable {F : FTy → Type} [FloatOps F]
-- ==== FfnOutDx.lean ====
abbrev S8192x2816 : Shape := ⟨2, ![8192, 2816]⟩
abbrev S2816x1024 : Shape := ⟨2, ![2816, 1024]⟩
abbrev S8192x1024 : Shape := ⟨2, ![8192, 1024]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x2816, .f32⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutDxRefIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x2816, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfnOutDw.lean ====
abbrev S8192x2816 : Shape := ⟨2, ![8192, 2816]⟩
abbrev S2816x1024 : Shape := ⟨2, ![2816, 1024]⟩
abbrev S8192x1024 : Shape := ⟨2, ![8192, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutDwRefIdeal.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S1024x2816, .f32⟩
  | .hbm, ⟨7, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FfnInDx.lean ====
abbrev S8192x1024 : Shape := ⟨2, ![8192, 1024]⟩
abbrev S1024x5632 : Shape := ⟨2, ![1024, 5632]⟩
abbrev S8192x5632 : Shape := ⟨2, ![8192, 5632]⟩
abbrev S1024x512 : Shape := ⟨2, ![1024, 512]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x5632, .bf16⟩
  | .hbm, ⟨3, _⟩ => ⟨S8192x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 11], ![false, false, false]⟩

def k0_cond2 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInDxRefIdeal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x5632, .bf16⟩
  | .hbm, ⟨3, _⟩ => ⟨S8192x1024, .f32⟩
  | .hbm, ⟨4, _⟩ => ⟨S1024x5632, .f32⟩
  | .hbm, ⟨5, _⟩ => ⟨S8192x5632, .f32⟩
  | .hbm, ⟨6, _⟩ => ⟨S8192x5632, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FfnInDw.lean ====
abbrev S8192x1024 : Shape := ⟨2, ![8192, 1024]⟩
abbrev S1024x5632 : Shape := ⟨2, ![1024, 5632]⟩
abbrev S8192x5632 : Shape := ⟨2, ![8192, 5632]⟩
abbrev S1024x1024 : Shape := ⟨2, ![1024, 1024]⟩
abbrev S1024x1408 : Shape := ⟨2, ![1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x5632, .bf16⟩
  | .hbm, ⟨3, _⟩ => ⟨S1024x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInDwRefIdeal.lean ====
abbrev S8192x1024 : Shape := ⟨2, ![8192, 1024]⟩
abbrev S1024x5632 : Shape := ⟨2, ![1024, 5632]⟩
abbrev S8192x5632 : Shape := ⟨2, ![8192, 5632]⟩
abbrev S5632x1024 : Shape := ⟨2, ![5632, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x5632, .bf16⟩
  | .hbm, ⟨3, _⟩ => ⟨S1024x5632, .f32⟩
  | .hbm, ⟨4, _⟩ => ⟨S8192x1024, .f32⟩
  | .hbm, ⟨5, _⟩ => ⟨S8192x5632, .f32⟩
  | .hbm, ⟨6, _⟩ => ⟨S8192x5632, .f32⟩
  | .hbm, ⟨7, _⟩ => ⟨S5632x1024, .f32⟩
  | .hbm, ⟨8, _⟩ => ⟨S1024x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutDx.lean ====
abbrev S8192x1024 : Shape := ⟨2, ![8192, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutDw.lean ====
abbrev S8192x1024 : Shape := ⟨2, ![8192, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwRefIdeal.lean ====
abbrev S8192x1024 : Shape := ⟨2, ![8192, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== BranchDx.lean ====
abbrev S8192x512 : Shape := ⟨2, ![8192, 512]⟩
abbrev S512x1024 : Shape := ⟨2, ![512, 1024]⟩
abbrev S8192x1024 : Shape := ⟨2, ![8192, 1024]⟩
abbrev S1024x1024 : Shape := ⟨2, ![1024, 1024]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x1024, .bf16⟩
  | .hbm, ⟨3, _⟩ => ⟨S8192x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchDxRefIdeal.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x1024, .bf16⟩
  | .hbm, ⟨3, _⟩ => ⟨S8192x512, .f32⟩
  | .hbm, ⟨4, _⟩ => ⟨S512x1024, .f32⟩
  | .hbm, ⟨5, _⟩ => ⟨S8192x1024, .f32⟩
  | .hbm, ⟨6, _⟩ => ⟨S8192x1024, .f32⟩
  | .hbm, ⟨7, _⟩ => ⟨S8192x512, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== BranchDw.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x1024, .bf16⟩
  | .hbm, ⟨3, _⟩ => ⟨S512x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BranchDwRefIdeal.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x1024, .bf16⟩
  | .hbm, ⟨3, _⟩ => ⟨S512x1024, .f32⟩
  | .hbm, ⟨4, _⟩ => ⟨S8192x512, .f32⟩
  | .hbm, ⟨5, _⟩ => ⟨S8192x1024, .f32⟩
  | .hbm, ⟨6, _⟩ => ⟨S8192x1024, .f32⟩
  | .hbm, ⟨7, _⟩ => ⟨S1024x512, .f32⟩
  | .hbm, ⟨8, _⟩ => ⟨S512x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UkvDx.lean ====
abbrev S8192x256 : Shape := ⟨2, ![8192, 256]⟩
abbrev S256x1024 : Shape := ⟨2, ![256, 1024]⟩
abbrev S8192x1024 : Shape := ⟨2, ![8192, 1024]⟩
abbrev S1024x1024 : Shape := ⟨2, ![1024, 1024]⟩
abbrev S1024x256 : Shape := ⟨2, ![1024, 256]⟩

abbrev nBuf : Space → Nat
  | .hbm => 4
  | .vmem => 6
  | .smem => 0
  | _ => 0

abbrev bufTy : (tb : Table) → Fin (tcTables nBuf tb) → BufTy
  | .hbm, ⟨0, _⟩ => ⟨S8192x256, .bf16⟩
  | .hbm, ⟨1, _⟩ => ⟨S256x1024, .bf16⟩
  | .hbm, ⟨2, _⟩ => ⟨S8192x1024, .bf16⟩
  | .hbm, ⟨3, _⟩ => ⟨S8192x256, .f32⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UkvDxRefIdeal.lean ====
abbrev S8192x256 : Shape := ⟨2, ![8192, 256]⟩
abbrev S256x1024 : Shape := ⟨2, ![256, 1024]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S256x1024, .bf16⟩
  | .hbm, ⟨2, _⟩ => ⟨S8192x1024, .bf16⟩
  | .hbm, ⟨3, _⟩ => ⟨S8192x256, .f32⟩
  | .hbm, ⟨4, _⟩ => ⟨S256x1024, .f32⟩
  | .hbm, ⟨5, _⟩ => ⟨S8192x1024, .f32⟩
  | .hbm, ⟨6, _⟩ => ⟨S8192x1024, .f32⟩
  | .hbm, ⟨7, _⟩ => ⟨S8192x256, .f32⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UkvDw.lean ====
abbrev S8192x256 : Shape := ⟨2, ![8192, 256]⟩
abbrev S256x1024 : Shape := ⟨2, ![256, 1024]⟩
abbrev S8192x1024 : Shape := ⟨2, ![8192, 1024]⟩
abbrev S1024x256 : Shape := ⟨2, ![1024, 256]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x256, .bf16⟩
  | .hbm, ⟨1, _⟩ => ⟨S256x1024, .bf16⟩
  | .hbm, ⟨2, _⟩ => ⟨S8192x1024, .bf16⟩
  | .hbm, ⟨3, _⟩ => ⟨S256x1024, .f32⟩
  | .local _ .vmem, ⟨0, _⟩ => ⟨S1024x256, .bf16⟩
  | .local _ .vmem, ⟨1, _⟩ => ⟨S1024x256, .bf16⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | .local _ .vmem, ⟨5, _⟩ => ⟨S256x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== UkvDwRefIdeal.lean ====
abbrev S8192x256 : Shape := ⟨2, ![8192, 256]⟩
abbrev S256x1024 : Shape := ⟨2, ![256, 1024]⟩
abbrev S8192x1024 : Shape := ⟨2, ![8192, 1024]⟩
abbrev S1024x256 : Shape := ⟨2, ![1024, 256]⟩

abbrev nBuf : Space → Nat
  | .hbm => 9
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S256x1024, .bf16⟩
  | .hbm, ⟨2, _⟩ => ⟨S8192x1024, .bf16⟩
  | .hbm, ⟨3, _⟩ => ⟨S256x1024, .f32⟩
  | .hbm, ⟨4, _⟩ => ⟨S8192x256, .f32⟩
  | .hbm, ⟨5, _⟩ => ⟨S8192x1024, .f32⟩
  | .hbm, ⟨6, _⟩ => ⟨S8192x1024, .f32⟩
  | .hbm, ⟨7, _⟩ => ⟨S1024x256, .f32⟩
  | .hbm, ⟨8, _⟩ => ⟨S256x1024, .f32⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InQDx.lean ====
abbrev S8192x1024 : Shape := ⟨2, ![8192, 1024]⟩
abbrev S1024x384 : Shape := ⟨2, ![1024, 384]⟩
abbrev S8192x384 : Shape := ⟨2, ![8192, 384]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x384, .bf16⟩
  | .hbm, ⟨2, _⟩ => ⟨S8192x384, .bf16⟩
  | .hbm, ⟨3, _⟩ => ⟨S8192x1024, .f32⟩
  | .local _ .vmem, ⟨0, _⟩ => ⟨S1024x384, .bf16⟩
  | .local _ .vmem, ⟨1, _⟩ => ⟨S1024x384, .bf16⟩
  | .local _ .vmem, ⟨2, _⟩ => ⟨S1024x384, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InQDxRefIdeal.lean ====
abbrev S8192x1024 : Shape := ⟨2, ![8192, 1024]⟩
abbrev S1024x384 : Shape := ⟨2, ![1024, 384]⟩
abbrev S8192x384 : Shape := ⟨2, ![8192, 384]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x384, .bf16⟩
  | .hbm, ⟨2, _⟩ => ⟨S8192x384, .bf16⟩
  | .hbm, ⟨3, _⟩ => ⟨S8192x1024, .f32⟩
  | .hbm, ⟨4, _⟩ => ⟨S1024x384, .f32⟩
  | .hbm, ⟨5, _⟩ => ⟨S8192x384, .f32⟩
  | .hbm, ⟨6, _⟩ => ⟨S8192x384, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InQDw.lean ====
abbrev S8192x1024 : Shape := ⟨2, ![8192, 1024]⟩
abbrev S1024x384 : Shape := ⟨2, ![1024, 384]⟩
abbrev S8192x384 : Shape := ⟨2, ![8192, 384]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x384, .bf16⟩
  | .hbm, ⟨2, _⟩ => ⟨S8192x384, .bf16⟩
  | .hbm, ⟨3, _⟩ => ⟨S1024x384, .f32⟩
  | .local _ .vmem, ⟨0, _⟩ => ⟨S1024x1024, .bf16⟩
  | .local _ .vmem, ⟨1, _⟩ => ⟨S1024x1024, .bf16⟩
  | .local _ .vmem, ⟨2, _⟩ => ⟨S1024x384, .bf16⟩
  | .local _ .vmem, ⟨3, _⟩ => ⟨S1024x384, .bf16⟩
  | .local _ .vmem, ⟨4, _⟩ => ⟨S1024x384, .f32⟩
  | .local _ .vmem, ⟨5, _⟩ => ⟨S1024x384, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== InQDwRefIdeal.lean ====
abbrev S8192x1024 : Shape := ⟨2, ![8192, 1024]⟩
abbrev S1024x384 : Shape := ⟨2, ![1024, 384]⟩
abbrev S8192x384 : Shape := ⟨2, ![8192, 384]⟩
abbrev S384x1024 : Shape := ⟨2, ![384, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x384, .bf16⟩
  | .hbm, ⟨2, _⟩ => ⟨S8192x384, .bf16⟩
  | .hbm, ⟨3, _⟩ => ⟨S1024x384, .f32⟩
  | .hbm, ⟨4, _⟩ => ⟨S8192x1024, .f32⟩
  | .hbm, ⟨5, _⟩ => ⟨S8192x384, .f32⟩
  | .hbm, ⟨6, _⟩ => ⟨S8192x384, .f32⟩
  | .hbm, ⟨7, _⟩ => ⟨S384x1024, .f32⟩
  | .hbm, ⟨8, _⟩ => ⟨S1024x384, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InCkvDx.lean ====
abbrev S8192x1024 : Shape := ⟨2, ![8192, 1024]⟩
abbrev S1024x256 : Shape := ⟨2, ![1024, 256]⟩
abbrev S8192x256 : Shape := ⟨2, ![8192, 256]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x256, .bf16⟩
  | .hbm, ⟨2, _⟩ => ⟨S8192x256, .bf16⟩
  | .hbm, ⟨3, _⟩ => ⟨S8192x1024, .f32⟩
  | .hbm, ⟨4, _⟩ => ⟨S8192x1024, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InCkvDxRefIdeal.lean ====
abbrev S8192x1024 : Shape := ⟨2, ![8192, 1024]⟩
abbrev S1024x256 : Shape := ⟨2, ![1024, 256]⟩
abbrev S8192x256 : Shape := ⟨2, ![8192, 256]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x256, .bf16⟩
  | .hbm, ⟨2, _⟩ => ⟨S8192x256, .bf16⟩
  | .hbm, ⟨3, _⟩ => ⟨S8192x1024, .f32⟩
  | .hbm, ⟨4, _⟩ => ⟨S8192x1024, .f32⟩
  | .hbm, ⟨5, _⟩ => ⟨S1024x256, .f32⟩
  | .hbm, ⟨6, _⟩ => ⟨S8192x256, .f32⟩
  | .hbm, ⟨7, _⟩ => ⟨S8192x256, .f32⟩
  | .hbm, ⟨8, _⟩ => ⟨S8192x1024, .f32⟩
  | .hbm, ⟨9, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== InCkvDw.lean ====
abbrev S8192x1024 : Shape := ⟨2, ![8192, 1024]⟩
abbrev S1024x256 : Shape := ⟨2, ![1024, 256]⟩
abbrev S8192x256 : Shape := ⟨2, ![8192, 256]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x256, .bf16⟩
  | .hbm, ⟨2, _⟩ => ⟨S8192x256, .bf16⟩
  | .hbm, ⟨3, _⟩ => ⟨S1024x256, .f32⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .f32⟩
  | .local _ .vmem, ⟨5, _⟩ => ⟨S1024x256, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== InCkvDwRefIdeal.lean ====
abbrev S8192x1024 : Shape := ⟨2, ![8192, 1024]⟩
abbrev S1024x256 : Shape := ⟨2, ![1024, 256]⟩
abbrev S8192x256 : Shape := ⟨2, ![8192, 256]⟩
abbrev S256x1024 : Shape := ⟨2, ![256, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x256, .bf16⟩
  | .hbm, ⟨2, _⟩ => ⟨S8192x256, .bf16⟩
  | .hbm, ⟨3, _⟩ => ⟨S1024x256, .f32⟩
  | .hbm, ⟨4, _⟩ => ⟨S8192x1024, .f32⟩
  | .hbm, ⟨5, _⟩ => ⟨S8192x256, .f32⟩
  | .hbm, ⟨6, _⟩ => ⟨S8192x256, .f32⟩
  | .hbm, ⟨7, _⟩ => ⟨S256x1024, .f32⟩
  | .hbm, ⟨8, _⟩ => ⟨S1024x256, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InSgDx.lean ====
abbrev S8192x1024 : Shape := ⟨2, ![8192, 1024]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .hbm, ⟨3, _⟩ => ⟨S8192x1024, .f32⟩
  | .hbm, ⟨4, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InSgDxRefIdeal.lean ====
abbrev S8192x1024 : Shape := ⟨2, ![8192, 1024]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .hbm, ⟨3, _⟩ => ⟨S8192x1024, .f32⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== InSgDw.lean ====
abbrev S8192x1024 : Shape := ⟨2, ![8192, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .hbm, ⟨3, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== InSgDwRefIdeal.lean ====
abbrev S8192x1024 : Shape := ⟨2, ![8192, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InRwDx.lean ====
abbrev S8192x1024 : Shape := ⟨2, ![8192, 1024]⟩
abbrev S1024x1920 : Shape := ⟨2, ![1024, 1920]⟩
abbrev S8192x1920 : Shape := ⟨2, ![8192, 1920]⟩
abbrev S1024x384 : Shape := ⟨2, ![1024, 384]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S1024x1920, .bf16⟩
  | .hbm, ⟨2, _⟩ => ⟨S8192x1920, .bf16⟩
  | .hbm, ⟨3, _⟩ => ⟨S8192x1024, .f32⟩
  | .hbm, ⟨4, _⟩ => ⟨S8192x1024, .f32⟩
  | .local _ .vmem, ⟨0, _⟩ => ⟨S1024x384, .bf16⟩
  | .local _ .vmem, ⟨1, _⟩ => ⟨S1024x384, .bf16⟩
  | .local _ .vmem, ⟨2, _⟩ => ⟨S1024x384, .bf16⟩
  | .local _ .vmem, ⟨3, _⟩ => ⟨S1024x384, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 5], ![false, false, false]⟩

def k0_cond2 (i : grid0.Coords) : BitVec 1 :=
  let arg2 : BitVec 32 := BitVec.ofNat 32 (i 2).val
  let c4_i32 : BitVec 32 := 4#32
  let v11 : BitVec 1 := Scalar.cmpi .eq arg2 c4_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InRwDxRefIdeal.lean ====
abbrev S8192x1024 : Shape := ⟨2, ![8192, 1024]⟩
abbrev S1024x1920 : Shape := ⟨2, ![1024, 1920]⟩
abbrev S8192x1920 : Shape := ⟨2, ![8192, 1920]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1920, .bf16⟩
  | .hbm, ⟨2, _⟩ => ⟨S8192x1920, .bf16⟩
  | .hbm, ⟨3, _⟩ => ⟨S8192x1024, .f32⟩
  | .hbm, ⟨4, _⟩ => ⟨S8192x1024, .f32⟩
  | .hbm, ⟨5, _⟩ => ⟨S1024x1920, .f32⟩
  | .hbm, ⟨6, _⟩ => ⟨S8192x1920, .f32⟩
  | .hbm, ⟨7, _⟩ => ⟨S8192x1920, .f32⟩
  | .hbm, ⟨8, _⟩ => ⟨S8192x1024, .f32⟩
  | .hbm, ⟨9, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== InRwDw.lean ====
abbrev S8192x1024 : Shape := ⟨2, ![8192, 1024]⟩
abbrev S1024x1920 : Shape := ⟨2, ![1024, 1920]⟩
abbrev S8192x1920 : Shape := ⟨2, ![8192, 1920]⟩
abbrev S1024x1024 : Shape := ⟨2, ![1024, 1024]⟩
abbrev S1024x384 : Shape := ⟨2, ![1024, 384]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x1920, .bf16⟩
  | .hbm, ⟨2, _⟩ => ⟨S8192x1920, .bf16⟩
  | .hbm, ⟨3, _⟩ => ⟨S1024x1920, .f32⟩
  | .local _ .vmem, ⟨0, _⟩ => ⟨S1024x1024, .bf16⟩
  | .local _ .vmem, ⟨1, _⟩ => ⟨S1024x1024, .bf16⟩
  | .local _ .vmem, ⟨2, _⟩ => ⟨S1024x384, .bf16⟩
  | .local _ .vmem, ⟨3, _⟩ => ⟨S1024x384, .bf16⟩
  | .local _ .vmem, ⟨4, _⟩ => ⟨S1024x384, .f32⟩
  | .local _ .vmem, ⟨5, _⟩ => ⟨S1024x384, .f32⟩
  | .local _ .vmem, ⟨6, _⟩ => ⟨S1024x384, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 5, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InRwDwRefIdeal.lean ====
abbrev S8192x1024 : Shape := ⟨2, ![8192, 1024]⟩
abbrev S1024x1920 : Shape := ⟨2, ![1024, 1920]⟩
abbrev S8192x1920 : Shape := ⟨2, ![8192, 1920]⟩
abbrev S1920x1024 : Shape := ⟨2, ![1920, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1920, .bf16⟩
  | .hbm, ⟨2, _⟩ => ⟨S8192x1920, .bf16⟩
  | .hbm, ⟨3, _⟩ => ⟨S1024x1920, .f32⟩
  | .hbm, ⟨4, _⟩ => ⟨S8192x1024, .f32⟩
  | .hbm, ⟨5, _⟩ => ⟨S8192x1920, .f32⟩
  | .hbm, ⟨6, _⟩ => ⟨S8192x1920, .f32⟩
  | .hbm, ⟨7, _⟩ => ⟨S1920x1024, .f32⟩
  | .hbm, ⟨8, _⟩ => ⟨S1024x1920, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InGateDx.lean ====
abbrev S8192x1024 : Shape := ⟨2, ![8192, 1024]⟩
abbrev S1024x3072 : Shape := ⟨2, ![1024, 3072]⟩
abbrev S8192x3072 : Shape := ⟨2, ![8192, 3072]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x3072, .bf16⟩
  | .hbm, ⟨3, _⟩ => ⟨S8192x1024, .f32⟩
  | .hbm, ⟨4, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InGateDxRefIdeal.lean ====
abbrev S8192x1024 : Shape := ⟨2, ![8192, 1024]⟩
abbrev S1024x3072 : Shape := ⟨2, ![1024, 3072]⟩
abbrev S8192x3072 : Shape := ⟨2, ![8192, 3072]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x3072, .bf16⟩
  | .hbm, ⟨3, _⟩ => ⟨S8192x1024, .f32⟩
  | .hbm, ⟨4, _⟩ => ⟨S8192x1024, .f32⟩
  | .hbm, ⟨5, _⟩ => ⟨S1024x3072, .f32⟩
  | .hbm, ⟨6, _⟩ => ⟨S8192x3072, .f32⟩
  | .hbm, ⟨7, _⟩ => ⟨S8192x3072, .f32⟩
  | .hbm, ⟨8, _⟩ => ⟨S8192x1024, .f32⟩
  | .hbm, ⟨9, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== InGateDw.lean ====
abbrev S8192x1024 : Shape := ⟨2, ![8192, 1024]⟩
abbrev S1024x3072 : Shape := ⟨2, ![1024, 3072]⟩
abbrev S8192x3072 : Shape := ⟨2, ![8192, 3072]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x3072, .bf16⟩
  | .hbm, ⟨3, _⟩ => ⟨S1024x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InGateDwRefIdeal.lean ====
abbrev S8192x1024 : Shape := ⟨2, ![8192, 1024]⟩
abbrev S1024x3072 : Shape := ⟨2, ![1024, 3072]⟩
abbrev S8192x3072 : Shape := ⟨2, ![8192, 3072]⟩
abbrev S3072x1024 : Shape := ⟨2, ![3072, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x3072, .bf16⟩
  | .hbm, ⟨3, _⟩ => ⟨S1024x3072, .f32⟩
  | .hbm, ⟨4, _⟩ => ⟨S8192x1024, .f32⟩
  | .hbm, ⟨5, _⟩ => ⟨S8192x3072, .f32⟩
  | .hbm, ⟨6, _⟩ => ⟨S8192x3072, .f32⟩
  | .hbm, ⟨7, _⟩ => ⟨S3072x1024, .f32⟩
  | .hbm, ⟨8, _⟩ => ⟨S1024x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InKrDx.lean ====
abbrev S8192x1024 : Shape := ⟨2, ![8192, 1024]⟩
abbrev S1024x256 : Shape := ⟨2, ![1024, 256]⟩
abbrev S8192x256 : Shape := ⟨2, ![8192, 256]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x256, .bf16⟩
  | .hbm, ⟨2, _⟩ => ⟨S8192x256, .bf16⟩
  | .hbm, ⟨3, _⟩ => ⟨S8192x1024, .f32⟩
  | .hbm, ⟨4, _⟩ => ⟨S8192x1024, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InKrDxRefIdeal.lean ====
abbrev S8192x1024 : Shape := ⟨2, ![8192, 1024]⟩
abbrev S1024x256 : Shape := ⟨2, ![1024, 256]⟩
abbrev S8192x256 : Shape := ⟨2, ![8192, 256]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x256, .bf16⟩
  | .hbm, ⟨2, _⟩ => ⟨S8192x256, .bf16⟩
  | .hbm, ⟨3, _⟩ => ⟨S8192x1024, .f32⟩
  | .hbm, ⟨4, _⟩ => ⟨S8192x1024, .f32⟩
  | .hbm, ⟨5, _⟩ => ⟨S1024x256, .f32⟩
  | .hbm, ⟨6, _⟩ => ⟨S8192x256, .f32⟩
  | .hbm, ⟨7, _⟩ => ⟨S8192x256, .f32⟩
  | .hbm, ⟨8, _⟩ => ⟨S8192x1024, .f32⟩
  | .hbm, ⟨9, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== InKrDw.lean ====
abbrev S8192x1024 : Shape := ⟨2, ![8192, 1024]⟩
abbrev S1024x256 : Shape := ⟨2, ![1024, 256]⟩
abbrev S8192x256 : Shape := ⟨2, ![8192, 256]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x256, .bf16⟩
  | .hbm, ⟨2, _⟩ => ⟨S8192x256, .bf16⟩
  | .hbm, ⟨3, _⟩ => ⟨S1024x256, .f32⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .f32⟩
  | .local _ .vmem, ⟨5, _⟩ => ⟨S1024x256, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== InKrDwRefIdeal.lean ====
abbrev S8192x1024 : Shape := ⟨2, ![8192, 1024]⟩
abbrev S1024x256 : Shape := ⟨2, ![1024, 256]⟩
abbrev S8192x256 : Shape := ⟨2, ![8192, 256]⟩
abbrev S256x1024 : Shape := ⟨2, ![256, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x256, .bf16⟩
  | .hbm, ⟨2, _⟩ => ⟨S8192x256, .bf16⟩
  | .hbm, ⟨3, _⟩ => ⟨S1024x256, .f32⟩
  | .hbm, ⟨4, _⟩ => ⟨S8192x1024, .f32⟩
  | .hbm, ⟨5, _⟩ => ⟨S8192x256, .f32⟩
  | .hbm, ⟨6, _⟩ => ⟨S8192x256, .f32⟩
  | .hbm, ⟨7, _⟩ => ⟨S256x1024, .f32⟩
  | .hbm, ⟨8, _⟩ => ⟨S1024x256, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UqDx.lean ====
abbrev S8192x384 : Shape := ⟨2, ![8192, 384]⟩
abbrev S384x2048 : Shape := ⟨2, ![384, 2048]⟩
abbrev S8192x2048 : Shape := ⟨2, ![8192, 2048]⟩
abbrev S1024x1024 : Shape := ⟨2, ![1024, 1024]⟩
abbrev S384x1024 : Shape := ⟨2, ![384, 1024]⟩
abbrev S1024x384 : Shape := ⟨2, ![1024, 384]⟩

abbrev nBuf : Space → Nat
  | .hbm => 4
  | .vmem => 7
  | .smem => 0
  | _ => 0

abbrev bufTy : (tb : Table) → Fin (tcTables nBuf tb) → BufTy
  | .hbm, ⟨0, _⟩ => ⟨S8192x384, .bf16⟩
  | .hbm, ⟨1, _⟩ => ⟨S384x2048, .bf16⟩
  | .hbm, ⟨2, _⟩ => ⟨S8192x2048, .bf16⟩
  | .hbm, ⟨3, _⟩ => ⟨S8192x384, .f32⟩
  | .local _ .vmem, ⟨0, _⟩ => ⟨S1024x1024, .bf16⟩
  | .local _ .vmem, ⟨1, _⟩ => ⟨S1024x1024, .bf16⟩
  | .local _ .vmem, ⟨2, _⟩ => ⟨S384x1024, .bf16⟩
  | .local _ .vmem, ⟨3, _⟩ => ⟨S384x1024, .bf16⟩
  | .local _ .vmem, ⟨4, _⟩ => ⟨S1024x384, .f32⟩
  | .local _ .vmem, ⟨5, _⟩ => ⟨S1024x384, .f32⟩
  | .local _ .vmem, ⟨6, _⟩ => ⟨S1024x384, .f32⟩
  | _, _ => ⟨S8192x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S384x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UqDxRefIdeal.lean ====
abbrev S8192x384 : Shape := ⟨2, ![8192, 384]⟩
abbrev S384x2048 : Shape := ⟨2, ![384, 2048]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x384, .bf16⟩
  | .hbm, ⟨1, _⟩ => ⟨S384x2048, .bf16⟩
  | .hbm, ⟨2, _⟩ => ⟨S8192x2048, .bf16⟩
  | .hbm, ⟨3, _⟩ => ⟨S8192x384, .f32⟩
  | .hbm, ⟨4, _⟩ => ⟨S384x2048, .f32⟩
  | .hbm, ⟨5, _⟩ => ⟨S8192x2048, .f32⟩
  | .hbm, ⟨6, _⟩ => ⟨S8192x2048, .f32⟩
  | .hbm, ⟨7, _⟩ => ⟨S8192x384, .f32⟩
  | _, _ => ⟨S8192x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UqDw.lean ====
abbrev S8192x384 : Shape := ⟨2, ![8192, 384]⟩
abbrev S384x2048 : Shape := ⟨2, ![384, 2048]⟩
abbrev S8192x2048 : Shape := ⟨2, ![8192, 2048]⟩
abbrev S1024x384 : Shape := ⟨2, ![1024, 384]⟩
abbrev S1024x1024 : Shape := ⟨2, ![1024, 1024]⟩
abbrev S384x1024 : Shape := ⟨2, ![384, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x384, .bf16⟩
  | .hbm, ⟨1, _⟩ => ⟨S384x2048, .bf16⟩
  | .hbm, ⟨2, _⟩ => ⟨S8192x2048, .bf16⟩
  | .hbm, ⟨3, _⟩ => ⟨S384x2048, .f32⟩
  | .local _ .vmem, ⟨0, _⟩ => ⟨S1024x384, .bf16⟩
  | .local _ .vmem, ⟨1, _⟩ => ⟨S1024x384, .bf16⟩
  | .local _ .vmem, ⟨2, _⟩ => ⟨S1024x1024, .bf16⟩
  | .local _ .vmem, ⟨3, _⟩ => ⟨S1024x1024, .bf16⟩
  | .local _ .vmem, ⟨4, _⟩ => ⟨S384x1024, .f32⟩
  | .local _ .vmem, ⟨5, _⟩ => ⟨S384x1024, .f32⟩
  | .local _ .vmem, ⟨6, _⟩ => ⟨S384x1024, .f32⟩
  | _, _ => ⟨S8192x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UqDwRefIdeal.lean ====
abbrev S8192x384 : Shape := ⟨2, ![8192, 384]⟩
abbrev S384x2048 : Shape := ⟨2, ![384, 2048]⟩
abbrev S8192x2048 : Shape := ⟨2, ![8192, 2048]⟩
abbrev S2048x384 : Shape := ⟨2, ![2048, 384]⟩

abbrev nBuf : Space → Nat
  | .hbm => 9
  | .vmem => 0
  | .smem => 0
  | _ => 0

abbrev bufTy : (tb : Table) → Fin (tcTables nBuf tb) → BufTy
  | .hbm, ⟨0, _⟩ => ⟨S8192x384, .bf16⟩
  | .hbm, ⟨1, _⟩ => ⟨S384x2048, .bf16⟩
  | .hbm, ⟨2, _⟩ => ⟨S8192x2048, .bf16⟩
  | .hbm, ⟨3, _⟩ => ⟨S384x2048, .f32⟩
  | .hbm, ⟨4, _⟩ => ⟨S8192x384, .f32⟩
  | .hbm, ⟨5, _⟩ => ⟨S8192x2048, .f32⟩
  | .hbm, ⟨6, _⟩ => ⟨S8192x2048, .f32⟩
  | .hbm, ⟨7, _⟩ => ⟨S2048x384, .f32⟩
  | .hbm, ⟨8, _⟩ => ⟨S384x2048, .f32⟩
  | _, _ => ⟨S8192x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== BranchAttnDx.lean ====
abbrev S8192x1024 : Shape := ⟨2, ![8192, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchAttnDxRefIdeal.lean ====
abbrev S8192x1024 : Shape := ⟨2, ![8192, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== BranchAttnDw.lean ====
abbrev S8192x1024 : Shape := ⟨2, ![8192, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .hbm, ⟨3, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BranchAttnDwRefIdeal.lean ====
abbrev S8192x1024 : Shape := ⟨2, ![8192, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InQFw.lean ====
abbrev S8192x1024 : Shape := ⟨2, ![8192, 1024]⟩
abbrev S1024x384 : Shape := ⟨2, ![1024, 384]⟩
abbrev S8192x384 : Shape := ⟨2, ![8192, 384]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x384, .bf16⟩
  | .hbm, ⟨2, _⟩ => ⟨S8192x384, .f32⟩
  | .local _ .vmem, ⟨0, _⟩ => ⟨S1024x1024, .bf16⟩
  | .local _ .vmem, ⟨1, _⟩ => ⟨S1024x1024, .bf16⟩
  | .local _ .vmem, ⟨2, _⟩ => ⟨S1024x384, .bf16⟩
  | .local _ .vmem, ⟨3, _⟩ => ⟨S1024x384, .f32⟩
  | .local _ .vmem, ⟨4, _⟩ => ⟨S1024x384, .f32⟩
  | .local _ .vmem, ⟨5, _⟩ => ⟨S1024x384, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InQFwRefIdeal.lean ====
abbrev S8192x1024 : Shape := ⟨2, ![8192, 1024]⟩
abbrev S1024x384 : Shape := ⟨2, ![1024, 384]⟩
abbrev S8192x384 : Shape := ⟨2, ![8192, 384]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x384, .bf16⟩
  | .hbm, ⟨2, _⟩ => ⟨S8192x1024, .f32⟩
  | .hbm, ⟨3, _⟩ => ⟨S1024x384, .f32⟩
  | .hbm, ⟨4, _⟩ => ⟨S8192x384, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InCkvFw.lean ====
abbrev S8192x1024 : Shape := ⟨2, ![8192, 1024]⟩
abbrev S1024x256 : Shape := ⟨2, ![1024, 256]⟩
abbrev S8192x256 : Shape := ⟨2, ![8192, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x256, .bf16⟩
  | .hbm, ⟨2, _⟩ => ⟨S8192x256, .f32⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InCkvFwRefIdeal.lean ====
abbrev S8192x1024 : Shape := ⟨2, ![8192, 1024]⟩
abbrev S1024x256 : Shape := ⟨2, ![1024, 256]⟩
abbrev S8192x256 : Shape := ⟨2, ![8192, 256]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x256, .bf16⟩
  | .hbm, ⟨2, _⟩ => ⟨S8192x1024, .f32⟩
  | .hbm, ⟨3, _⟩ => ⟨S1024x256, .f32⟩
  | .hbm, ⟨4, _⟩ => ⟨S8192x256, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InKrFw.lean ====
abbrev S8192x1024 : Shape := ⟨2, ![8192, 1024]⟩
abbrev S1024x256 : Shape := ⟨2, ![1024, 256]⟩
abbrev S8192x256 : Shape := ⟨2, ![8192, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x256, .bf16⟩
  | .hbm, ⟨2, _⟩ => ⟨S8192x256, .f32⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InKrFwRefIdeal.lean ====
abbrev S8192x1024 : Shape := ⟨2, ![8192, 1024]⟩
abbrev S1024x256 : Shape := ⟨2, ![1024, 256]⟩
abbrev S8192x256 : Shape := ⟨2, ![8192, 256]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x256, .bf16⟩
  | .hbm, ⟨2, _⟩ => ⟨S8192x1024, .f32⟩
  | .hbm, ⟨3, _⟩ => ⟨S1024x256, .f32⟩
  | .hbm, ⟨4, _⟩ => ⟨S8192x256, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InSgFw.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InSgFwRefIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InRwFw.lean ====
abbrev S8192x1024 : Shape := ⟨2, ![8192, 1024]⟩
abbrev S1024x1920 : Shape := ⟨2, ![1024, 1920]⟩
abbrev S8192x1920 : Shape := ⟨2, ![8192, 1920]⟩
abbrev S1024x1024 : Shape := ⟨2, ![1024, 1024]⟩
abbrev S1024x384 : Shape := ⟨2, ![1024, 384]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x1920, .bf16⟩
  | .hbm, ⟨2, _⟩ => ⟨S8192x1920, .f32⟩
  | .local _ .vmem, ⟨0, _⟩ => ⟨S1024x1024, .bf16⟩
  | .local _ .vmem, ⟨1, _⟩ => ⟨S1024x1024, .bf16⟩
  | .local _ .vmem, ⟨2, _⟩ => ⟨S1024x384, .bf16⟩
  | .local _ .vmem, ⟨3, _⟩ => ⟨S1024x384, .bf16⟩
  | .local _ .vmem, ⟨4, _⟩ => ⟨S1024x384, .f32⟩
  | .local _ .vmem, ⟨5, _⟩ => ⟨S1024x384, .f32⟩
  | .local _ .vmem, ⟨6, _⟩ => ⟨S1024x384, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 5, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InRwFwRefIdeal.lean ====
abbrev S8192x1024 : Shape := ⟨2, ![8192, 1024]⟩
abbrev S1024x1920 : Shape := ⟨2, ![1024, 1920]⟩
abbrev S8192x1920 : Shape := ⟨2, ![8192, 1920]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1920, .bf16⟩
  | .hbm, ⟨2, _⟩ => ⟨S8192x1024, .f32⟩
  | .hbm, ⟨3, _⟩ => ⟨S1024x1920, .f32⟩
  | .hbm, ⟨4, _⟩ => ⟨S8192x1920, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InGateFw.lean ====
abbrev S8192x1024 : Shape := ⟨2, ![8192, 1024]⟩
abbrev S1024x3072 : Shape := ⟨2, ![1024, 3072]⟩
abbrev S8192x3072 : Shape := ⟨2, ![8192, 3072]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InGateFwRefIdeal.lean ====
abbrev S8192x1024 : Shape := ⟨2, ![8192, 1024]⟩
abbrev S1024x3072 : Shape := ⟨2, ![1024, 3072]⟩
abbrev S8192x3072 : Shape := ⟨2, ![8192, 3072]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x1024, .f32⟩
  | .hbm, ⟨3, _⟩ => ⟨S1024x3072, .f32⟩
  | .hbm, ⟨4, _⟩ => ⟨S8192x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== UqFw.lean ====
abbrev S8192x384 : Shape := ⟨2, ![8192, 384]⟩
abbrev S384x2048 : Shape := ⟨2, ![384, 2048]⟩
abbrev S8192x2048 : Shape := ⟨2, ![8192, 2048]⟩
abbrev S1024x384 : Shape := ⟨2, ![1024, 384]⟩
abbrev S384x1024 : Shape := ⟨2, ![384, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x384, .bf16⟩
  | .hbm, ⟨1, _⟩ => ⟨S384x2048, .bf16⟩
  | .hbm, ⟨2, _⟩ => ⟨S8192x2048, .f32⟩
  | .local _ .vmem, ⟨0, _⟩ => ⟨S1024x384, .bf16⟩
  | .local _ .vmem, ⟨1, _⟩ => ⟨S1024x384, .bf16⟩
  | .local _ .vmem, ⟨2, _⟩ => ⟨S384x1024, .bf16⟩
  | .local _ .vmem, ⟨3, _⟩ => ⟨S384x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S384x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UqFwRefIdeal.lean ====
abbrev S8192x384 : Shape := ⟨2, ![8192, 384]⟩
abbrev S384x2048 : Shape := ⟨2, ![384, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x384, .bf16⟩
  | .hbm, ⟨1, _⟩ => ⟨S384x2048, .bf16⟩
  | .hbm, ⟨2, _⟩ => ⟨S8192x384, .f32⟩
  | .hbm, ⟨3, _⟩ => ⟨S384x2048, .f32⟩
  | .hbm, ⟨4, _⟩ => ⟨S8192x2048, .f32⟩
  | _, _ => ⟨S8192x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== UkvFw.lean ====
abbrev S8192x256 : Shape := ⟨2, ![8192, 256]⟩
abbrev S256x1024 : Shape := ⟨2, ![256, 1024]⟩
abbrev S8192x1024 : Shape := ⟨2, ![8192, 1024]⟩
abbrev S1024x256 : Shape := ⟨2, ![1024, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .bf16⟩
  | .hbm, ⟨1, _⟩ => ⟨S256x1024, .bf16⟩
  | .hbm, ⟨2, _⟩ => ⟨S8192x1024, .f32⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UkvFwRefIdeal.lean ====
abbrev S8192x256 : Shape := ⟨2, ![8192, 256]⟩
abbrev S256x1024 : Shape := ⟨2, ![256, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S256x1024, .bf16⟩
  | .hbm, ⟨2, _⟩ => ⟨S8192x256, .f32⟩
  | .hbm, ⟨3, _⟩ => ⟨S256x1024, .f32⟩
  | .hbm, ⟨4, _⟩ => ⟨S8192x1024, .f32⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== BranchAttnFw.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchAttnFwRefIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== BranchFw.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x1024, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchFwRefIdeal.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x512, .f32⟩
  | .hbm, ⟨3, _⟩ => ⟨S512x1024, .f32⟩
  | .hbm, ⟨4, _⟩ => ⟨S8192x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutFw.lean ====
abbrev S8192x1024 : Shape := ⟨2, ![8192, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutFwRefIdeal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfnInFw.lean ====
abbrev S8192x1024 : Shape := ⟨2, ![8192, 1024]⟩
abbrev S1024x5632 : Shape := ⟨2, ![1024, 5632]⟩
abbrev S8192x5632 : Shape := ⟨2, ![8192, 5632]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInFwRefIdeal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x1024, .f32⟩
  | .hbm, ⟨3, _⟩ => ⟨S1024x5632, .f32⟩
  | .hbm, ⟨4, _⟩ => ⟨S8192x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FfnOutFw.lean ====
abbrev S8192x2816 : Shape := ⟨2, ![8192, 2816]⟩
abbrev S2816x1024 : Shape := ⟨2, ![2816, 1024]⟩
abbrev S8192x1024 : Shape := ⟨2, ![8192, 1024]⟩
abbrev S1024x256 : Shape := ⟨2, ![1024, 256]⟩
abbrev S256x1024 : Shape := ⟨2, ![256, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 11], ![false, false, false]⟩

def k0_cond2 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnOutFwRefIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== AdamWIn.lean ====
abbrev S2x1024x1672 : Shape := ⟨3, ![2, 1024, 1672]⟩
abbrev S2048x1672 : Shape := ⟨2, ![2048, 1672]⟩
abbrev S256x1672 : Shape := ⟨2, ![256, 1672]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x1672, .f32⟩
  | .hbm, ⟨1, _⟩ => ⟨S2x1024x1672, .f32⟩
  | .hbm, ⟨2, _⟩ => ⟨S2x1024x1672, .f32⟩
  | .hbm, ⟨3, _⟩ => ⟨S2x1024x1672, .f32⟩
  | .hbm, ⟨4, _⟩ => ⟨S2048x1672, .f32⟩
  | .hbm, ⟨5, _⟩ => ⟨S2048x1672, .f32⟩
  | .hbm, ⟨6, _⟩ => ⟨S2048x1672, .f32⟩
  | .hbm, ⟨7, _⟩ => ⟨S2048x1672, .f32⟩
  | .hbm, ⟨8, _⟩ => ⟨S2048x1672, .f32⟩
  | .hbm, ⟨9, _⟩ => ⟨S2048x1672, .f32⟩
  | .hbm, ⟨10, _⟩ => ⟨S2048x1672, .f32⟩
  | .local _ .vmem, ⟨0, _⟩ => ⟨S256x1672, .f32⟩
  | .local _ .vmem, ⟨1, _⟩ => ⟨S256x1672, .f32⟩
  | .local _ .vmem, ⟨2, _⟩ => ⟨S256x1672, .f32⟩
  | .local _ .vmem, ⟨3, _⟩ => ⟨S256x1672, .f32⟩
  | .local _ .vmem, ⟨4, _⟩ => ⟨S256x1672, .f32⟩
  | .local _ .vmem, ⟨5, _⟩ => ⟨S256x1672, .f32⟩
  | .local _ .vmem, ⟨6, _⟩ => ⟨S256x1672, .f32⟩
  | .local _ .vmem, ⟨7, _⟩ => ⟨S256x1672, .f32⟩
  | .local _ .vmem, ⟨8, _⟩ => ⟨S256x1672, .f32⟩
  | .local _ .vmem, ⟨9, _⟩ => ⟨S256x1672, .f32⟩
  | .local _ .vmem, ⟨10, _⟩ => ⟨S256x1672, .f32⟩
  | .local _ .vmem, ⟨11, _⟩ => ⟨S256x1672, .f32⟩
  | .local _ .vmem, ⟨12, _⟩ => ⟨S256x1672, .f32⟩
  | .local _ .vmem, ⟨13, _⟩ => ⟨S256x1672, .f32⟩
  | _, _ => ⟨S2x1024x1672, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1672 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1672 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1672 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1672 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1672 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1672 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1672 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWInRefIdeal.lean ====
abbrev S2x1024x1672 : Shape := ⟨3, ![2, 1024, 1672]⟩
abbrev S_ : Shape := ⟨0, ![]⟩
abbrev S2048x1672 : Shape := ⟨2, ![2048, 1672]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x1672, .f32⟩
  | .hbm, ⟨1, _⟩ => ⟨S2x1024x1672, .f32⟩
  | .hbm, ⟨2, _⟩ => ⟨S2x1024x1672, .f32⟩
  | .hbm, ⟨3, _⟩ => ⟨S2x1024x1672, .f32⟩
  | .hbm, ⟨4, _⟩ => ⟨S_, .f32⟩
  | .hbm, ⟨5, _⟩ => ⟨S2x1024x1672, .f32⟩
  | .hbm, ⟨6, _⟩ => ⟨S2x1024x1672, .f32⟩
  | .hbm, ⟨7, _⟩ => ⟨S_, .f32⟩
  | .hbm, ⟨8, _⟩ => ⟨S2x1024x1672, .f32⟩
  | .hbm, ⟨9, _⟩ => ⟨S2x1024x1672, .f32⟩
  | .hbm, ⟨10, _⟩ => ⟨S2x1024x1672, .f32⟩
  | .hbm, ⟨11, _⟩ => ⟨S_, .f32⟩
  | .hbm, ⟨12, _⟩ => ⟨S2x1024x1672, .f32⟩
  | .hbm, ⟨13, _⟩ => ⟨S2x1024x1672, .f32⟩
  | .hbm, ⟨14, _⟩ => ⟨S2x1024x1672, .f32⟩
  | .hbm, ⟨15, _⟩ => ⟨S_, .f32⟩
  | .hbm, ⟨16, _⟩ => ⟨S2x1024x1672, .f32⟩
  | .hbm, ⟨17, _⟩ => ⟨S2x1024x1672, .f32⟩
  | .hbm, ⟨18, _⟩ => ⟨S2x1024x1672, .f32⟩
  | .hbm, ⟨19, _⟩ => ⟨S_, .f32⟩
  | .hbm, ⟨20, _⟩ => ⟨S2x1024x1672, .f32⟩
  | .hbm, ⟨21, _⟩ => ⟨S2x1024x1672, .f32⟩
  | .hbm, ⟨22, _⟩ => ⟨S_, .f32⟩
  | .hbm, ⟨23, _⟩ => ⟨S2x1024x1672, .f32⟩
  | .hbm, ⟨24, _⟩ => ⟨S2x1024x1672, .f32⟩
  | .hbm, ⟨25, _⟩ => ⟨S2x1024x1672, .f32⟩
  | .hbm, ⟨26, _⟩ => ⟨S_, .f32⟩
  | .hbm, ⟨27, _⟩ => ⟨S2x1024x1672, .f32⟩
  | .hbm, ⟨28, _⟩ => ⟨S2x1024x1672, .f32⟩
  | .hbm, ⟨29, _⟩ => ⟨S2x1024x1672, .f32⟩
  | .hbm, ⟨30, _⟩ => ⟨S_, .f32⟩
  | .hbm, ⟨31, _⟩ => ⟨S2x1024x1672, .f32⟩
  | .hbm, ⟨32, _⟩ => ⟨S2x1024x1672, .f32⟩
  | .hbm, ⟨33, _⟩ => ⟨S2x1024x1672, .f32⟩
  | .hbm, ⟨34, _⟩ => ⟨S_, .f32⟩
  | .hbm, ⟨35, _⟩ => ⟨S2x1024x1672, .f32⟩
  | .hbm, ⟨36, _⟩ => ⟨S2x1024x1672, .f32⟩
  | .hbm, ⟨37, _⟩ => ⟨S2048x1672, .f32⟩
  | .hbm, ⟨38, _⟩ => ⟨S2048x1672, .f32⟩
  | .hbm, ⟨39, _⟩ => ⟨S2048x1672, .f32⟩
  | _, _ => ⟨S2x1024x1672, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamWUq.lean ====
abbrev S2x384x192 : Shape := ⟨3, ![2, 384, 192]⟩
abbrev S768x192 : Shape := ⟨2, ![768, 192]⟩
abbrev S256x192 : Shape := ⟨2, ![256, 192]⟩

abbrev nBuf : Space → Nat
  | .hbm => 11
  | .vmem => 14
  | .smem => 0
  | _ => 0

abbrev bufTy : (tb : Table) → Fin (tcTables nBuf tb) → BufTy
  | .hbm, ⟨0, _⟩ => ⟨S2x384x192, .f32⟩
  | .hbm, ⟨1, _⟩ => ⟨S2x384x192, .f32⟩
  | .hbm, ⟨2, _⟩ => ⟨S2x384x192, .f32⟩
  | .hbm, ⟨3, _⟩ => ⟨S2x384x192, .f32⟩
  | .hbm, ⟨4, _⟩ => ⟨S768x192, .f32⟩
  | .hbm, ⟨5, _⟩ => ⟨S768x192, .f32⟩
  | .hbm, ⟨6, _⟩ => ⟨S768x192, .f32⟩
  | .hbm, ⟨7, _⟩ => ⟨S768x192, .f32⟩
  | .hbm, ⟨8, _⟩ => ⟨S768x192, .f32⟩
  | .hbm, ⟨9, _⟩ => ⟨S768x192, .f32⟩
  | .hbm, ⟨10, _⟩ => ⟨S768x192, .f32⟩
  | .local _ .vmem, ⟨0, _⟩ => ⟨S256x192, .f32⟩
  | .local _ .vmem, ⟨1, _⟩ => ⟨S256x192, .f32⟩
  | .local _ .vmem, ⟨2, _⟩ => ⟨S256x192, .f32⟩
  | .local _ .vmem, ⟨3, _⟩ => ⟨S256x192, .f32⟩
  | .local _ .vmem, ⟨4, _⟩ => ⟨S256x192, .f32⟩
  | .local _ .vmem, ⟨5, _⟩ => ⟨S256x192, .f32⟩
  | .local _ .vmem, ⟨6, _⟩ => ⟨S256x192, .f32⟩
  | .local _ .vmem, ⟨7, _⟩ => ⟨S256x192, .f32⟩
  | .local _ .vmem, ⟨8, _⟩ => ⟨S256x192, .f32⟩
  | .local _ .vmem, ⟨9, _⟩ => ⟨S256x192, .f32⟩
  | .local _ .vmem, ⟨10, _⟩ => ⟨S256x192, .f32⟩
  | .local _ .vmem, ⟨11, _⟩ => ⟨S256x192, .f32⟩
  | .local _ .vmem, ⟨12, _⟩ => ⟨S256x192, .f32⟩
  | .local _ .vmem, ⟨13, _⟩ => ⟨S256x192, .f32⟩
  | _, _ => ⟨S2x384x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWUqRefIdeal.lean ====
abbrev S2x384x192 : Shape := ⟨3, ![2, 384, 192]⟩
abbrev S_ : Shape := ⟨0, ![]⟩
abbrev S768x192 : Shape := ⟨2, ![768, 192]⟩

abbrev nBuf : Space → Nat
  | .hbm => 40
  | .vmem => 0
  | .smem => 0
  | _ => 0

abbrev bufTy : (tb : Table) → Fin (tcTables nBuf tb) → BufTy
  | .hbm, ⟨0, _⟩ => ⟨S2x384x192, .f32⟩
  | .hbm, ⟨1, _⟩ => ⟨S2x384x192, .f32⟩
  | .hbm, ⟨2, _⟩ => ⟨S2x384x192, .f32⟩
  | .hbm, ⟨3, _⟩ => ⟨S2x384x192, .f32⟩
  | .hbm, ⟨4, _⟩ => ⟨S_, .f32⟩
  | .hbm, ⟨5, _⟩ => ⟨S2x384x192, .f32⟩
  | .hbm, ⟨6, _⟩ => ⟨S2x384x192, .f32⟩
  | .hbm, ⟨7, _⟩ => ⟨S_, .f32⟩
  | .hbm, ⟨8, _⟩ => ⟨S2x384x192, .f32⟩
  | .hbm, ⟨9, _⟩ => ⟨S2x384x192, .f32⟩
  | .hbm, ⟨10, _⟩ => ⟨S2x384x192, .f32⟩
  | .hbm, ⟨11, _⟩ => ⟨S_, .f32⟩
  | .hbm, ⟨12, _⟩ => ⟨S2x384x192, .f32⟩
  | .hbm, ⟨13, _⟩ => ⟨S2x384x192, .f32⟩
  | .hbm, ⟨14, _⟩ => ⟨S2x384x192, .f32⟩
  | .hbm, ⟨15, _⟩ => ⟨S_, .f32⟩
  | .hbm, ⟨16, _⟩ => ⟨S2x384x192, .f32⟩
  | .hbm, ⟨17, _⟩ => ⟨S2x384x192, .f32⟩
  | .hbm, ⟨18, _⟩ => ⟨S2x384x192, .f32⟩
  | .hbm, ⟨19, _⟩ => ⟨S_, .f32⟩
  | .hbm, ⟨20, _⟩ => ⟨S2x384x192, .f32⟩
  | .hbm, ⟨21, _⟩ => ⟨S2x384x192, .f32⟩
  | .hbm, ⟨22, _⟩ => ⟨S_, .f32⟩
  | .hbm, ⟨23, _⟩ => ⟨S2x384x192, .f32⟩
  | .hbm, ⟨24, _⟩ => ⟨S2x384x192, .f32⟩
  | .hbm, ⟨25, _⟩ => ⟨S2x384x192, .f32⟩
  | .hbm, ⟨26, _⟩ => ⟨S_, .f32⟩
  | .hbm, ⟨27, _⟩ => ⟨S2x384x192, .f32⟩
  | .hbm, ⟨28, _⟩ => ⟨S2x384x192, .f32⟩
  | .hbm, ⟨29, _⟩ => ⟨S2x384x192, .f32⟩
  | .hbm, ⟨30, _⟩ => ⟨S_, .f32⟩
  | .hbm, ⟨31, _⟩ => ⟨S2x384x192, .f32⟩
  | .hbm, ⟨32, _⟩ => ⟨S2x384x192, .f32⟩
  | .hbm, ⟨33, _⟩ => ⟨S2x384x192, .f32⟩
  | .hbm, ⟨34, _⟩ => ⟨S_, .f32⟩
  | .hbm, ⟨35, _⟩ => ⟨S2x384x192, .f32⟩
  | .hbm, ⟨36, _⟩ => ⟨S2x384x192, .f32⟩
  | .hbm, ⟨37, _⟩ => ⟨S768x192, .f32⟩
  | .hbm, ⟨38, _⟩ => ⟨S768x192, .f32⟩
  | .hbm, ⟨39, _⟩ => ⟨S768x192, .f32⟩
  | _, _ => ⟨S2x384x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamWUkv.lean ====
abbrev S2x256x256 : Shape := ⟨3, ![2, 256, 256]⟩
abbrev S512x256 : Shape := ⟨2, ![512, 256]⟩
abbrev S256x256 : Shape := ⟨2, ![256, 256]⟩

abbrev nBuf : Space → Nat
  | .hbm => 11
  | .vmem => 14
  | .smem => 0
  | _ => 0

abbrev bufTy : (tb : Table) → Fin (tcTables nBuf tb) → BufTy
  | .hbm, ⟨0, _⟩ => ⟨S2x256x256, .f32⟩
  | .hbm, ⟨1, _⟩ => ⟨S2x256x256, .f32⟩
  | .hbm, ⟨2, _⟩ => ⟨S2x256x256, .f32⟩
  | .hbm, ⟨3, _⟩ => ⟨S2x256x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .hbm, ⟨8, _⟩ => ⟨S512x256, .f32⟩
  | .hbm, ⟨9, _⟩ => ⟨S512x256, .f32⟩
  | .hbm, ⟨10, _⟩ => ⟨S512x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S2x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWUkvRefIdeal.lean ====
abbrev S2x256x256 : Shape := ⟨3, ![2, 256, 256]⟩
abbrev S_ : Shape := ⟨0, ![]⟩
abbrev S512x256 : Shape := ⟨2, ![512, 256]⟩

abbrev nBuf : Space → Nat
  | .hbm => 40
  | .vmem => 0
  | .smem => 0
  | _ => 0

abbrev bufTy : (tb : Table) → Fin (tcTables nBuf tb) → BufTy
  | .hbm, ⟨0, _⟩ => ⟨S2x256x256, .f32⟩
  | .hbm, ⟨1, _⟩ => ⟨S2x256x256, .f32⟩
  | .hbm, ⟨2, _⟩ => ⟨S2x256x256, .f32⟩
  | .hbm, ⟨3, _⟩ => ⟨S2x256x256, .f32⟩
  | .hbm, ⟨4, _⟩ => ⟨S_, .f32⟩
  | .hbm, ⟨5, _⟩ => ⟨S2x256x256, .f32⟩
  | .hbm, ⟨6, _⟩ => ⟨S2x256x256, .f32⟩
  | .hbm, ⟨7, _⟩ => ⟨S_, .f32⟩
  | .hbm, ⟨8, _⟩ => ⟨S2x256x256, .f32⟩
  | .hbm, ⟨9, _⟩ => ⟨S2x256x256, .f32⟩
  | .hbm, ⟨10, _⟩ => ⟨S2x256x256, .f32⟩
  | .hbm, ⟨11, _⟩ => ⟨S_, .f32⟩
  | .hbm, ⟨12, _⟩ => ⟨S2x256x256, .f32⟩
  | .hbm, ⟨13, _⟩ => ⟨S2x256x256, .f32⟩
  | .hbm, ⟨14, _⟩ => ⟨S2x256x256, .f32⟩
  | .hbm, ⟨15, _⟩ => ⟨S_, .f32⟩
  | .hbm, ⟨16, _⟩ => ⟨S2x256x256, .f32⟩
  | .hbm, ⟨17, _⟩ => ⟨S2x256x256, .f32⟩
  | .hbm, ⟨18, _⟩ => ⟨S2x256x256, .f32⟩
  | .hbm, ⟨19, _⟩ => ⟨S_, .f32⟩
  | .hbm, ⟨20, _⟩ => ⟨S2x256x256, .f32⟩
  | .hbm, ⟨21, _⟩ => ⟨S2x256x256, .f32⟩
  | .hbm, ⟨22, _⟩ => ⟨S_, .f32⟩
  | .hbm, ⟨23, _⟩ => ⟨S2x256x256, .f32⟩
  | .hbm, ⟨24, _⟩ => ⟨S2x256x256, .f32⟩
  | .hbm, ⟨25, _⟩ => ⟨S2x256x256, .f32⟩
  | .hbm, ⟨26, _⟩ => ⟨S_, .f32⟩
  | .hbm, ⟨27, _⟩ => ⟨S2x256x256, .f32⟩
  | .hbm, ⟨28, _⟩ => ⟨S2x256x256, .f32⟩
  | .hbm, ⟨29, _⟩ => ⟨S2x256x256, .f32⟩
  | .hbm, ⟨30, _⟩ => ⟨S_, .f32⟩
  | .hbm, ⟨31, _⟩ => ⟨S2x256x256, .f32⟩
  | .hbm, ⟨32, _⟩ => ⟨S2x256x256, .f32⟩
  | .hbm, ⟨33, _⟩ => ⟨S2x256x256, .f32⟩
  | .hbm, ⟨34, _⟩ => ⟨S_, .f32⟩
  | .hbm, ⟨35, _⟩ => ⟨S2x256x256, .f32⟩
  | .hbm, ⟨36, _⟩ => ⟨S2x256x256, .f32⟩
  | .hbm, ⟨37, _⟩ => ⟨S512x256, .f32⟩
  | .hbm, ⟨38, _⟩ => ⟨S512x256, .f32⟩
  | .hbm, ⟨39, _⟩ => ⟨S512x256, .f32⟩
  | _, _ => ⟨S2x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamRwW2.lean ====
abbrev S2x2x64x128 : Shape := ⟨4, ![2, 2, 64, 128]⟩
abbrev S256x128 : Shape := ⟨2, ![256, 128]⟩

abbrev nBuf : Space → Nat
  | .hbm => 11
  | .vmem => 7
  | .smem => 0
  | _ => 0

abbrev bufTy : (tb : Table) → Fin (tcTables nBuf tb) → BufTy
  | .hbm, ⟨0, _⟩ => ⟨S2x2x64x128, .f32⟩
  | .hbm, ⟨1, _⟩ => ⟨S2x2x64x128, .f32⟩
  | .hbm, ⟨2, _⟩ => ⟨S2x2x64x128, .f32⟩
  | .hbm, ⟨3, _⟩ => ⟨S2x2x64x128, .f32⟩
  | .hbm, ⟨4, _⟩ => ⟨S256x128, .f32⟩
  | .hbm, ⟨5, _⟩ => ⟨S256x128, .f32⟩
  | .hbm, ⟨6, _⟩ => ⟨S256x128, .f32⟩
  | .hbm, ⟨7, _⟩ => ⟨S256x128, .f32⟩
  | .hbm, ⟨8, _⟩ => ⟨S256x128, .f32⟩
  | .hbm, ⟨9, _⟩ => ⟨S256x128, .f32⟩
  | .hbm, ⟨10, _⟩ => ⟨S256x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | _, _ => ⟨S2x2x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamRwW2RefIdeal.lean ====
abbrev S2x2x64x128 : Shape := ⟨4, ![2, 2, 64, 128]⟩
abbrev S_ : Shape := ⟨0, ![]⟩
abbrev S256x128 : Shape := ⟨2, ![256, 128]⟩

abbrev nBuf : Space → Nat
  | .hbm => 40
  | .vmem => 0
  | .smem => 0
  | _ => 0

abbrev bufTy : (tb : Table) → Fin (tcTables nBuf tb) → BufTy
  | .hbm, ⟨0, _⟩ => ⟨S2x2x64x128, .f32⟩
  | .hbm, ⟨1, _⟩ => ⟨S2x2x64x128, .f32⟩
  | .hbm, ⟨2, _⟩ => ⟨S2x2x64x128, .f32⟩
  | .hbm, ⟨3, _⟩ => ⟨S2x2x64x128, .f32⟩
  | .hbm, ⟨4, _⟩ => ⟨S_, .f32⟩
  | .hbm, ⟨5, _⟩ => ⟨S2x2x64x128, .f32⟩
  | .hbm, ⟨6, _⟩ => ⟨S2x2x64x128, .f32⟩
  | .hbm, ⟨7, _⟩ => ⟨S_, .f32⟩
  | .hbm, ⟨8, _⟩ => ⟨S2x2x64x128, .f32⟩
  | .hbm, ⟨9, _⟩ => ⟨S2x2x64x128, .f32⟩
  | .hbm, ⟨10, _⟩ => ⟨S2x2x64x128, .f32⟩
  | .hbm, ⟨11, _⟩ => ⟨S_, .f32⟩
  | .hbm, ⟨12, _⟩ => ⟨S2x2x64x128, .f32⟩
  | .hbm, ⟨13, _⟩ => ⟨S2x2x64x128, .f32⟩
  | .hbm, ⟨14, _⟩ => ⟨S2x2x64x128, .f32⟩
  | .hbm, ⟨15, _⟩ => ⟨S_, .f32⟩
  | .hbm, ⟨16, _⟩ => ⟨S2x2x64x128, .f32⟩
  | .hbm, ⟨17, _⟩ => ⟨S2x2x64x128, .f32⟩
  | .hbm, ⟨18, _⟩ => ⟨S2x2x64x128, .f32⟩
  | .hbm, ⟨19, _⟩ => ⟨S_, .f32⟩
  | .hbm, ⟨20, _⟩ => ⟨S2x2x64x128, .f32⟩
  | .hbm, ⟨21, _⟩ => ⟨S2x2x64x128, .f32⟩
  | .hbm, ⟨22, _⟩ => ⟨S_, .f32⟩
  | .hbm, ⟨23, _⟩ => ⟨S2x2x64x128, .f32⟩
  | .hbm, ⟨24, _⟩ => ⟨S2x2x64x128, .f32⟩
  | .hbm, ⟨25, _⟩ => ⟨S2x2x64x128, .f32⟩
  | .hbm, ⟨26, _⟩ => ⟨S_, .f32⟩
  | .hbm, ⟨27, _⟩ => ⟨S2x2x64x128, .f32⟩
  | .hbm, ⟨28, _⟩ => ⟨S2x2x64x128, .f32⟩
  | .hbm, ⟨29, _⟩ => ⟨S2x2x64x128, .f32⟩
  | .hbm, ⟨30, _⟩ => ⟨S_, .f32⟩
  | .hbm, ⟨31, _⟩ => ⟨S2x2x64x128, .f32⟩
  | .hbm, ⟨32, _⟩ => ⟨S2x2x64x128, .f32⟩
  | .hbm, ⟨33, _⟩ => ⟨S2x2x64x128, .f32⟩
  | .hbm, ⟨34, _⟩ => ⟨S_, .f32⟩
  | .hbm, ⟨35, _⟩ => ⟨S2x2x64x128, .f32⟩
  | .hbm, ⟨36, _⟩ => ⟨S2x2x64x128, .f32⟩
  | .hbm, ⟨37, _⟩ => ⟨S256x128, .f32⟩
  | .hbm, ⟨38, _⟩ => ⟨S256x128, .f32⟩
  | .hbm, ⟨39, _⟩ => ⟨S256x128, .f32⟩
  | _, _ => ⟨S2x2x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamRwA2.lean ====
abbrev S2x2x64x128 : Shape := ⟨4, ![2, 2, 64, 128]⟩
abbrev S256x128 : Shape := ⟨2, ![256, 128]⟩

abbrev nBuf : Space → Nat
  | .hbm => 11
  | .vmem => 7
  | .smem => 0
  | _ => 0

abbrev bufTy : (tb : Table) → Fin (tcTables nBuf tb) → BufTy
  | .hbm, ⟨0, _⟩ => ⟨S2x2x64x128, .f32⟩
  | .hbm, ⟨1, _⟩ => ⟨S2x2x64x128, .f32⟩
  | .hbm, ⟨2, _⟩ => ⟨S2x2x64x128, .f32⟩
  | .hbm, ⟨3, _⟩ => ⟨S2x2x64x128, .f32⟩
  | .hbm, ⟨4, _⟩ => ⟨S256x128, .f32⟩
  | .hbm, ⟨5, _⟩ => ⟨S256x128, .f32⟩
  | .hbm, ⟨6, _⟩ => ⟨S256x128, .f32⟩
  | .hbm, ⟨7, _⟩ => ⟨S256x128, .f32⟩
  | .hbm, ⟨8, _⟩ => ⟨S256x128, .f32⟩
  | .hbm, ⟨9, _⟩ => ⟨S256x128, .f32⟩
  | .hbm, ⟨10, _⟩ => ⟨S256x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | _, _ => ⟨S2x2x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamRwA2RefIdeal.lean ====
abbrev S2x2x64x128 : Shape := ⟨4, ![2, 2, 64, 128]⟩
abbrev S_ : Shape := ⟨0, ![]⟩
abbrev S256x128 : Shape := ⟨2, ![256, 128]⟩

abbrev nBuf : Space → Nat
  | .hbm => 40
  | .vmem => 0
  | .smem => 0
  | _ => 0

abbrev bufTy : (tb : Table) → Fin (tcTables nBuf tb) → BufTy
  | .hbm, ⟨0, _⟩ => ⟨S2x2x64x128, .f32⟩
  | .hbm, ⟨1, _⟩ => ⟨S2x2x64x128, .f32⟩
  | .hbm, ⟨2, _⟩ => ⟨S2x2x64x128, .f32⟩
  | .hbm, ⟨3, _⟩ => ⟨S2x2x64x128, .f32⟩
  | .hbm, ⟨4, _⟩ => ⟨S_, .f32⟩
  | .hbm, ⟨5, _⟩ => ⟨S2x2x64x128, .f32⟩
  | .hbm, ⟨6, _⟩ => ⟨S2x2x64x128, .f32⟩
  | .hbm, ⟨7, _⟩ => ⟨S_, .f32⟩
  | .hbm, ⟨8, _⟩ => ⟨S2x2x64x128, .f32⟩
  | .hbm, ⟨9, _⟩ => ⟨S2x2x64x128, .f32⟩
  | .hbm, ⟨10, _⟩ => ⟨S2x2x64x128, .f32⟩
  | .hbm, ⟨11, _⟩ => ⟨S_, .f32⟩
  | .hbm, ⟨12, _⟩ => ⟨S2x2x64x128, .f32⟩
  | .hbm, ⟨13, _⟩ => ⟨S2x2x64x128, .f32⟩
  | .hbm, ⟨14, _⟩ => ⟨S2x2x64x128, .f32⟩
  | .hbm, ⟨15, _⟩ => ⟨S_, .f32⟩
  | .hbm, ⟨16, _⟩ => ⟨S2x2x64x128, .f32⟩
  | .hbm, ⟨17, _⟩ => ⟨S2x2x64x128, .f32⟩
  | .hbm, ⟨18, _⟩ => ⟨S2x2x64x128, .f32⟩
  | .hbm, ⟨19, _⟩ => ⟨S_, .f32⟩
  | .hbm, ⟨20, _⟩ => ⟨S2x2x64x128, .f32⟩
  | .hbm, ⟨21, _⟩ => ⟨S2x2x64x128, .f32⟩
  | .hbm, ⟨22, _⟩ => ⟨S_, .f32⟩
  | .hbm, ⟨23, _⟩ => ⟨S2x2x64x128, .f32⟩
  | .hbm, ⟨24, _⟩ => ⟨S2x2x64x128, .f32⟩
  | .hbm, ⟨25, _⟩ => ⟨S2x2x64x128, .f32⟩
  | .hbm, ⟨26, _⟩ => ⟨S_, .f32⟩
  | .hbm, ⟨27, _⟩ => ⟨S2x2x64x128, .f32⟩
  | .hbm, ⟨28, _⟩ => ⟨S2x2x64x128, .f32⟩
  | .hbm, ⟨29, _⟩ => ⟨S2x2x64x128, .f32⟩
  | .hbm, ⟨30, _⟩ => ⟨S_, .f32⟩
  | .hbm, ⟨31, _⟩ => ⟨S2x2x64x128, .f32⟩
  | .hbm, ⟨32, _⟩ => ⟨S2x2x64x128, .f32⟩
  | .hbm, ⟨33, _⟩ => ⟨S2x2x64x128, .f32⟩
  | .hbm, ⟨34, _⟩ => ⟨S_, .f32⟩
  | .hbm, ⟨35, _⟩ => ⟨S2x2x64x128, .f32⟩
  | .hbm, ⟨36, _⟩ => ⟨S2x2x64x128, .f32⟩
  | .hbm, ⟨37, _⟩ => ⟨S256x128, .f32⟩
  | .hbm, ⟨38, _⟩ => ⟨S256x128, .f32⟩
  | .hbm, ⟨39, _⟩ => ⟨S256x128, .f32⟩
  | _, _ => ⟨S2x2x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamRwG2.lean ====
abbrev S2x128x128 : Shape := ⟨3, ![2, 128, 128]⟩
abbrev S256x128 : Shape := ⟨2, ![256, 128]⟩

abbrev nBuf : Space → Nat
  | .hbm => 11
  | .vmem => 7
  | .smem => 0
  | _ => 0

abbrev bufTy : (tb : Table) → Fin (tcTables nBuf tb) → BufTy
  | .hbm, ⟨0, _⟩ => ⟨S2x128x128, .f32⟩
  | .hbm, ⟨1, _⟩ => ⟨S2x128x128, .f32⟩
  | .hbm, ⟨2, _⟩ => ⟨S2x128x128, .f32⟩
  | .hbm, ⟨3, _⟩ => ⟨S2x128x128, .f32⟩
  | .hbm, ⟨4, _⟩ => ⟨S256x128, .f32⟩
  | .hbm, ⟨5, _⟩ => ⟨S256x128, .f32⟩
  | .hbm, ⟨6, _⟩ => ⟨S256x128, .f32⟩
  | .hbm, ⟨7, _⟩ => ⟨S256x128, .f32⟩
  | .hbm, ⟨8, _⟩ => ⟨S256x128, .f32⟩
  | .hbm, ⟨9, _⟩ => ⟨S256x128, .f32⟩
  | .hbm, ⟨10, _⟩ => ⟨S256x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | _, _ => ⟨S2x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamRwG2RefIdeal.lean ====
abbrev S2x128x128 : Shape := ⟨3, ![2, 128, 128]⟩
abbrev S_ : Shape := ⟨0, ![]⟩
abbrev S256x128 : Shape := ⟨2, ![256, 128]⟩

abbrev nBuf : Space → Nat
  | .hbm => 40
  | .vmem => 0
  | .smem => 0
  | _ => 0

abbrev bufTy : (tb : Table) → Fin (tcTables nBuf tb) → BufTy
  | .hbm, ⟨0, _⟩ => ⟨S2x128x128, .f32⟩
  | .hbm, ⟨1, _⟩ => ⟨S2x128x128, .f32⟩
  | .hbm, ⟨2, _⟩ => ⟨S2x128x128, .f32⟩
  | .hbm, ⟨3, _⟩ => ⟨S2x128x128, .f32⟩
  | .hbm, ⟨4, _⟩ => ⟨S_, .f32⟩
  | .hbm, ⟨5, _⟩ => ⟨S2x128x128, .f32⟩
  | .hbm, ⟨6, _⟩ => ⟨S2x128x128, .f32⟩
  | .hbm, ⟨7, _⟩ => ⟨S_, .f32⟩
  | .hbm, ⟨8, _⟩ => ⟨S2x128x128, .f32⟩
  | .hbm, ⟨9, _⟩ => ⟨S2x128x128, .f32⟩
  | .hbm, ⟨10, _⟩ => ⟨S2x128x128, .f32⟩
  | .hbm, ⟨11, _⟩ => ⟨S_, .f32⟩
  | .hbm, ⟨12, _⟩ => ⟨S2x128x128, .f32⟩
  | .hbm, ⟨13, _⟩ => ⟨S2x128x128, .f32⟩
  | .hbm, ⟨14, _⟩ => ⟨S2x128x128, .f32⟩
  | .hbm, ⟨15, _⟩ => ⟨S_, .f32⟩
  | .hbm, ⟨16, _⟩ => ⟨S2x128x128, .f32⟩
  | .hbm, ⟨17, _⟩ => ⟨S2x128x128, .f32⟩
  | .hbm, ⟨18, _⟩ => ⟨S2x128x128, .f32⟩
  | .hbm, ⟨19, _⟩ => ⟨S_, .f32⟩
  | .hbm, ⟨20, _⟩ => ⟨S2x128x128, .f32⟩
  | .hbm, ⟨21, _⟩ => ⟨S2x128x128, .f32⟩
  | .hbm, ⟨22, _⟩ => ⟨S_, .f32⟩
  | .hbm, ⟨23, _⟩ => ⟨S2x128x128, .f32⟩
  | .hbm, ⟨24, _⟩ => ⟨S2x128x128, .f32⟩
  | .hbm, ⟨25, _⟩ => ⟨S2x128x128, .f32⟩
  | .hbm, ⟨26, _⟩ => ⟨S_, .f32⟩
  | .hbm, ⟨27, _⟩ => ⟨S2x128x128, .f32⟩
  | .hbm, ⟨28, _⟩ => ⟨S2x128x128, .f32⟩
  | .hbm, ⟨29, _⟩ => ⟨S2x128x128, .f32⟩
  | .hbm, ⟨30, _⟩ => ⟨S_, .f32⟩
  | .hbm, ⟨31, _⟩ => ⟨S2x128x128, .f32⟩
  | .hbm, ⟨32, _⟩ => ⟨S2x128x128, .f32⟩
  | .hbm, ⟨33, _⟩ => ⟨S2x128x128, .f32⟩
  | .hbm, ⟨34, _⟩ => ⟨S_, .f32⟩
  | .hbm, ⟨35, _⟩ => ⟨S2x128x128, .f32⟩
  | .hbm, ⟨36, _⟩ => ⟨S2x128x128, .f32⟩
  | .hbm, ⟨37, _⟩ => ⟨S256x128, .f32⟩
  | .hbm, ⟨38, _⟩ => ⟨S256x128, .f32⟩
  | .hbm, ⟨39, _⟩ => ⟨S256x128, .f32⟩
  | _, _ => ⟨S2x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamWBranch.lean ====
abbrev S2x3x512x256 : Shape := ⟨4, ![2, 3, 512, 256]⟩
abbrev S3072x256 : Shape := ⟨2, ![3072, 256]⟩
abbrev S256x256 : Shape := ⟨2, ![256, 256]⟩

abbrev nBuf : Space → Nat
  | .hbm => 11
  | .vmem => 14
  | .smem => 0
  | _ => 0

abbrev bufTy : (tb : Table) → Fin (tcTables nBuf tb) → BufTy
  | .hbm, ⟨0, _⟩ => ⟨S2x3x512x256, .f32⟩
  | .hbm, ⟨1, _⟩ => ⟨S2x3x512x256, .f32⟩
  | .hbm, ⟨2, _⟩ => ⟨S2x3x512x256, .f32⟩
  | .hbm, ⟨3, _⟩ => ⟨S2x3x512x256, .f32⟩
  | .hbm, ⟨4, _⟩ => ⟨S3072x256, .f32⟩
  | .hbm, ⟨5, _⟩ => ⟨S3072x256, .f32⟩
  | .hbm, ⟨6, _⟩ => ⟨S3072x256, .f32⟩
  | .hbm, ⟨7, _⟩ => ⟨S3072x256, .f32⟩
  | .hbm, ⟨8, _⟩ => ⟨S3072x256, .f32⟩
  | .hbm, ⟨9, _⟩ => ⟨S3072x256, .f32⟩
  | .hbm, ⟨10, _⟩ => ⟨S3072x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S2x3x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWBranchRefIdeal.lean ====
abbrev S2x3x512x256 : Shape := ⟨4, ![2, 3, 512, 256]⟩
abbrev S_ : Shape := ⟨0, ![]⟩
abbrev S3072x256 : Shape := ⟨2, ![3072, 256]⟩

abbrev nBuf : Space → Nat
  | .hbm => 40
  | .vmem => 0
  | .smem => 0
  | _ => 0

abbrev bufTy : (tb : Table) → Fin (tcTables nBuf tb) → BufTy
  | .hbm, ⟨0, _⟩ => ⟨S2x3x512x256, .f32⟩
  | .hbm, ⟨1, _⟩ => ⟨S2x3x512x256, .f32⟩
  | .hbm, ⟨2, _⟩ => ⟨S2x3x512x256, .f32⟩
  | .hbm, ⟨3, _⟩ => ⟨S2x3x512x256, .f32⟩
  | .hbm, ⟨4, _⟩ => ⟨S_, .f32⟩
  | .hbm, ⟨5, _⟩ => ⟨S2x3x512x256, .f32⟩
  | .hbm, ⟨6, _⟩ => ⟨S2x3x512x256, .f32⟩
  | .hbm, ⟨7, _⟩ => ⟨S_, .f32⟩
  | .hbm, ⟨8, _⟩ => ⟨S2x3x512x256, .f32⟩
  | .hbm, ⟨9, _⟩ => ⟨S2x3x512x256, .f32⟩
  | .hbm, ⟨10, _⟩ => ⟨S2x3x512x256, .f32⟩
  | .hbm, ⟨11, _⟩ => ⟨S_, .f32⟩
  | .hbm, ⟨12, _⟩ => ⟨S2x3x512x256, .f32⟩
  | .hbm, ⟨13, _⟩ => ⟨S2x3x512x256, .f32⟩
  | .hbm, ⟨14, _⟩ => ⟨S2x3x512x256, .f32⟩
  | .hbm, ⟨15, _⟩ => ⟨S_, .f32⟩
  | .hbm, ⟨16, _⟩ => ⟨S2x3x512x256, .f32⟩
  | .hbm, ⟨17, _⟩ => ⟨S2x3x512x256, .f32⟩
  | .hbm, ⟨18, _⟩ => ⟨S2x3x512x256, .f32⟩
  | .hbm, ⟨19, _⟩ => ⟨S_, .f32⟩
  | .hbm, ⟨20, _⟩ => ⟨S2x3x512x256, .f32⟩
  | .hbm, ⟨21, _⟩ => ⟨S2x3x512x256, .f32⟩
  | .hbm, ⟨22, _⟩ => ⟨S_, .f32⟩
  | .hbm, ⟨23, _⟩ => ⟨S2x3x512x256, .f32⟩
  | .hbm, ⟨24, _⟩ => ⟨S2x3x512x256, .f32⟩
  | .hbm, ⟨25, _⟩ => ⟨S2x3x512x256, .f32⟩
  | .hbm, ⟨26, _⟩ => ⟨S_, .f32⟩
  | .hbm, ⟨27, _⟩ => ⟨S2x3x512x256, .f32⟩
  | .hbm, ⟨28, _⟩ => ⟨S2x3x512x256, .f32⟩
  | .hbm, ⟨29, _⟩ => ⟨S2x3x512x256, .f32⟩
  | .hbm, ⟨30, _⟩ => ⟨S_, .f32⟩
  | .hbm, ⟨31, _⟩ => ⟨S2x3x512x256, .f32⟩
  | .hbm, ⟨32, _⟩ => ⟨S2x3x512x256, .f32⟩
  | .hbm, ⟨33, _⟩ => ⟨S2x3x512x256, .f32⟩
  | .hbm, ⟨34, _⟩ => ⟨S_, .f32⟩
  | .hbm, ⟨35, _⟩ => ⟨S2x3x512x256, .f32⟩
  | .hbm, ⟨36, _⟩ => ⟨S2x3x512x256, .f32⟩
  | .hbm, ⟨37, _⟩ => ⟨S3072x256, .f32⟩
  | .hbm, ⟨38, _⟩ => ⟨S3072x256, .f32⟩
  | .hbm, ⟨39, _⟩ => ⟨S3072x256, .f32⟩
  | _, _ => ⟨S2x3x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamWOut.lean ====
abbrev S2x256x1024 : Shape := ⟨3, ![2, 256, 1024]⟩
abbrev S512x1024 : Shape := ⟨2, ![512, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWOutRefIdeal.lean ====
abbrev S2x256x1024 : Shape := ⟨3, ![2, 256, 1024]⟩
abbrev S_ : Shape := ⟨0, ![]⟩
abbrev S512x1024 : Shape := ⟨2, ![512, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | .hbm, ⟨37, _⟩ => ⟨S512x1024, .f32⟩
  | .hbm, ⟨38, _⟩ => ⟨S512x1024, .f32⟩
  | .hbm, ⟨39, _⟩ => ⟨S512x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamWFfnGate.lean ====
abbrev S2x1024x704 : Shape := ⟨3, ![2, 1024, 704]⟩
abbrev S2048x704 : Shape := ⟨2, ![2048, 704]⟩
abbrev S256x704 : Shape := ⟨2, ![256, 704]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x704, .f32⟩
  | .hbm, ⟨1, _⟩ => ⟨S2x1024x704, .f32⟩
  | .hbm, ⟨2, _⟩ => ⟨S2x1024x704, .f32⟩
  | .hbm, ⟨3, _⟩ => ⟨S2x1024x704, .f32⟩
  | .hbm, ⟨4, _⟩ => ⟨S2048x704, .f32⟩
  | .hbm, ⟨5, _⟩ => ⟨S2048x704, .f32⟩
  | .hbm, ⟨6, _⟩ => ⟨S2048x704, .f32⟩
  | .hbm, ⟨7, _⟩ => ⟨S2048x704, .f32⟩
  | .hbm, ⟨8, _⟩ => ⟨S2048x704, .f32⟩
  | .hbm, ⟨9, _⟩ => ⟨S2048x704, .f32⟩
  | .hbm, ⟨10, _⟩ => ⟨S2048x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | _, _ => ⟨S2x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWFfnGateRefIdeal.lean ====
abbrev S2x1024x704 : Shape := ⟨3, ![2, 1024, 704]⟩
abbrev S_ : Shape := ⟨0, ![]⟩
abbrev S2048x704 : Shape := ⟨2, ![2048, 704]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x704, .f32⟩
  | .hbm, ⟨1, _⟩ => ⟨S2x1024x704, .f32⟩
  | .hbm, ⟨2, _⟩ => ⟨S2x1024x704, .f32⟩
  | .hbm, ⟨3, _⟩ => ⟨S2x1024x704, .f32⟩
  | .hbm, ⟨4, _⟩ => ⟨S_, .f32⟩
  | .hbm, ⟨5, _⟩ => ⟨S2x1024x704, .f32⟩
  | .hbm, ⟨6, _⟩ => ⟨S2x1024x704, .f32⟩
  | .hbm, ⟨7, _⟩ => ⟨S_, .f32⟩
  | .hbm, ⟨8, _⟩ => ⟨S2x1024x704, .f32⟩
  | .hbm, ⟨9, _⟩ => ⟨S2x1024x704, .f32⟩
  | .hbm, ⟨10, _⟩ => ⟨S2x1024x704, .f32⟩
  | .hbm, ⟨11, _⟩ => ⟨S_, .f32⟩
  | .hbm, ⟨12, _⟩ => ⟨S2x1024x704, .f32⟩
  | .hbm, ⟨13, _⟩ => ⟨S2x1024x704, .f32⟩
  | .hbm, ⟨14, _⟩ => ⟨S2x1024x704, .f32⟩
  | .hbm, ⟨15, _⟩ => ⟨S_, .f32⟩
  | .hbm, ⟨16, _⟩ => ⟨S2x1024x704, .f32⟩
  | .hbm, ⟨17, _⟩ => ⟨S2x1024x704, .f32⟩
  | .hbm, ⟨18, _⟩ => ⟨S2x1024x704, .f32⟩
  | .hbm, ⟨19, _⟩ => ⟨S_, .f32⟩
  | .hbm, ⟨20, _⟩ => ⟨S2x1024x704, .f32⟩
  | .hbm, ⟨21, _⟩ => ⟨S2x1024x704, .f32⟩
  | .hbm, ⟨22, _⟩ => ⟨S_, .f32⟩
  | .hbm, ⟨23, _⟩ => ⟨S2x1024x704, .f32⟩
  | .hbm, ⟨24, _⟩ => ⟨S2x1024x704, .f32⟩
  | .hbm, ⟨25, _⟩ => ⟨S2x1024x704, .f32⟩
  | .hbm, ⟨26, _⟩ => ⟨S_, .f32⟩
  | .hbm, ⟨27, _⟩ => ⟨S2x1024x704, .f32⟩
  | .hbm, ⟨28, _⟩ => ⟨S2x1024x704, .f32⟩
  | .hbm, ⟨29, _⟩ => ⟨S2x1024x704, .f32⟩
  | .hbm, ⟨30, _⟩ => ⟨S_, .f32⟩
  | .hbm, ⟨31, _⟩ => ⟨S2x1024x704, .f32⟩
  | .hbm, ⟨32, _⟩ => ⟨S2x1024x704, .f32⟩
  | .hbm, ⟨33, _⟩ => ⟨S2x1024x704, .f32⟩
  | .hbm, ⟨34, _⟩ => ⟨S_, .f32⟩
  | .hbm, ⟨35, _⟩ => ⟨S2x1024x704, .f32⟩
  | .hbm, ⟨36, _⟩ => ⟨S2x1024x704, .f32⟩
  | .hbm, ⟨37, _⟩ => ⟨S2048x704, .f32⟩
  | .hbm, ⟨38, _⟩ => ⟨S2048x704, .f32⟩
  | .hbm, ⟨39, _⟩ => ⟨S2048x704, .f32⟩
  | _, _ => ⟨S2x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamWFfnUp.lean ====
abbrev S2x1024x704 : Shape := ⟨3, ![2, 1024, 704]⟩
abbrev S2048x704 : Shape := ⟨2, ![2048, 704]⟩
abbrev S256x704 : Shape := ⟨2, ![256, 704]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x704, .f32⟩
  | .hbm, ⟨1, _⟩ => ⟨S2x1024x704, .f32⟩
  | .hbm, ⟨2, _⟩ => ⟨S2x1024x704, .f32⟩
  | .hbm, ⟨3, _⟩ => ⟨S2x1024x704, .f32⟩
  | .hbm, ⟨4, _⟩ => ⟨S2048x704, .f32⟩
  | .hbm, ⟨5, _⟩ => ⟨S2048x704, .f32⟩
  | .hbm, ⟨6, _⟩ => ⟨S2048x704, .f32⟩
  | .hbm, ⟨7, _⟩ => ⟨S2048x704, .f32⟩
  | .hbm, ⟨8, _⟩ => ⟨S2048x704, .f32⟩
  | .hbm, ⟨9, _⟩ => ⟨S2048x704, .f32⟩
  | .hbm, ⟨10, _⟩ => ⟨S2048x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | _, _ => ⟨S2x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWFfnUpRefIdeal.lean ====
abbrev S2x1024x704 : Shape := ⟨3, ![2, 1024, 704]⟩
abbrev S_ : Shape := ⟨0, ![]⟩
abbrev S2048x704 : Shape := ⟨2, ![2048, 704]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x704, .f32⟩
  | .hbm, ⟨1, _⟩ => ⟨S2x1024x704, .f32⟩
  | .hbm, ⟨2, _⟩ => ⟨S2x1024x704, .f32⟩
  | .hbm, ⟨3, _⟩ => ⟨S2x1024x704, .f32⟩
  | .hbm, ⟨4, _⟩ => ⟨S_, .f32⟩
  | .hbm, ⟨5, _⟩ => ⟨S2x1024x704, .f32⟩
  | .hbm, ⟨6, _⟩ => ⟨S2x1024x704, .f32⟩
  | .hbm, ⟨7, _⟩ => ⟨S_, .f32⟩
  | .hbm, ⟨8, _⟩ => ⟨S2x1024x704, .f32⟩
  | .hbm, ⟨9, _⟩ => ⟨S2x1024x704, .f32⟩
  | .hbm, ⟨10, _⟩ => ⟨S2x1024x704, .f32⟩
  | .hbm, ⟨11, _⟩ => ⟨S_, .f32⟩
  | .hbm, ⟨12, _⟩ => ⟨S2x1024x704, .f32⟩
  | .hbm, ⟨13, _⟩ => ⟨S2x1024x704, .f32⟩
  | .hbm, ⟨14, _⟩ => ⟨S2x1024x704, .f32⟩
  | .hbm, ⟨15, _⟩ => ⟨S_, .f32⟩
  | .hbm, ⟨16, _⟩ => ⟨S2x1024x704, .f32⟩
  | .hbm, ⟨17, _⟩ => ⟨S2x1024x704, .f32⟩
  | .hbm, ⟨18, _⟩ => ⟨S2x1024x704, .f32⟩
  | .hbm, ⟨19, _⟩ => ⟨S_, .f32⟩
  | .hbm, ⟨20, _⟩ => ⟨S2x1024x704, .f32⟩
  | .hbm, ⟨21, _⟩ => ⟨S2x1024x704, .f32⟩
  | .hbm, ⟨22, _⟩ => ⟨S_, .f32⟩
  | .hbm, ⟨23, _⟩ => ⟨S2x1024x704, .f32⟩
  | .hbm, ⟨24, _⟩ => ⟨S2x1024x704, .f32⟩
  | .hbm, ⟨25, _⟩ => ⟨S2x1024x704, .f32⟩
  | .hbm, ⟨26, _⟩ => ⟨S_, .f32⟩
  | .hbm, ⟨27, _⟩ => ⟨S2x1024x704, .f32⟩
  | .hbm, ⟨28, _⟩ => ⟨S2x1024x704, .f32⟩
  | .hbm, ⟨29, _⟩ => ⟨S2x1024x704, .f32⟩
  | .hbm, ⟨30, _⟩ => ⟨S_, .f32⟩
  | .hbm, ⟨31, _⟩ => ⟨S2x1024x704, .f32⟩
  | .hbm, ⟨32, _⟩ => ⟨S2x1024x704, .f32⟩
  | .hbm, ⟨33, _⟩ => ⟨S2x1024x704, .f32⟩
  | .hbm, ⟨34, _⟩ => ⟨S_, .f32⟩
  | .hbm, ⟨35, _⟩ => ⟨S2x1024x704, .f32⟩
  | .hbm, ⟨36, _⟩ => ⟨S2x1024x704, .f32⟩
  | .hbm, ⟨37, _⟩ => ⟨S2048x704, .f32⟩
  | .hbm, ⟨38, _⟩ => ⟨S2048x704, .f32⟩
  | .hbm, ⟨39, _⟩ => ⟨S2048x704, .f32⟩
  | _, _ => ⟨S2x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamWFfnDown.lean ====
abbrev S2x704x1024 : Shape := ⟨3, ![2, 704, 1024]⟩
abbrev S1408x1024 : Shape := ⟨2, ![1408, 1024]⟩
abbrev S128x1024 : Shape := ⟨2, ![128, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWFfnDownRefIdeal.lean ====
abbrev S2x704x1024 : Shape := ⟨3, ![2, 704, 1024]⟩
abbrev S_ : Shape := ⟨0, ![]⟩
abbrev S1408x1024 : Shape := ⟨2, ![1408, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S_, .f32⟩
  | .hbm, ⟨5, _⟩ => ⟨S2x704x1024, .f32⟩
  | .hbm, ⟨6, _⟩ => ⟨S2x704x1024, .f32⟩
  | .hbm, ⟨7, _⟩ => ⟨S_, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .hbm, ⟨11, _⟩ => ⟨S_, .f32⟩
  | .hbm, ⟨12, _⟩ => ⟨S2x704x1024, .f32⟩
  | .hbm, ⟨13, _⟩ => ⟨S2x704x1024, .f32⟩
  | .hbm, ⟨14, _⟩ => ⟨S2x704x1024, .f32⟩
  | .hbm, ⟨15, _⟩ => ⟨S_, .f32⟩
  | .hbm, ⟨16, _⟩ => ⟨S2x704x1024, .f32⟩
  | .hbm, ⟨17, _⟩ => ⟨S2x704x1024, .f32⟩
  | .hbm, ⟨18, _⟩ => ⟨S2x704x1024, .f32⟩
  | .hbm, ⟨19, _⟩ => ⟨S_, .f32⟩
  | .hbm, ⟨20, _⟩ => ⟨S2x704x1024, .f32⟩
  | .hbm, ⟨21, _⟩ => ⟨S2x704x1024, .f32⟩
  | .hbm, ⟨22, _⟩ => ⟨S_, .f32⟩
  | .hbm, ⟨23, _⟩ => ⟨S2x704x1024, .f32⟩
  | .hbm, ⟨24, _⟩ => ⟨S2x704x1024, .f32⟩
  | .hbm, ⟨25, _⟩ => ⟨S2x704x1024, .f32⟩
  | .hbm, ⟨26, _⟩ => ⟨S_, .f32⟩
  | .hbm, ⟨27, _⟩ => ⟨S2x704x1024, .f32⟩
  | .hbm, ⟨28, _⟩ => ⟨S2x704x1024, .f32⟩
  | .hbm, ⟨29, _⟩ => ⟨S2x704x1024, .f32⟩
  | .hbm, ⟨30, _⟩ => ⟨S_, .f32⟩
  | .hbm, ⟨31, _⟩ => ⟨S2x704x1024, .f32⟩
  | .hbm, ⟨32, _⟩ => ⟨S2x704x1024, .f32⟩
  | .hbm, ⟨33, _⟩ => ⟨S2x704x1024, .f32⟩
  | .hbm, ⟨34, _⟩ => ⟨S_, .f32⟩
  | .hbm, ⟨35, _⟩ => ⟨S2x704x1024, .f32⟩
  | .hbm, ⟨36, _⟩ => ⟨S2x704x1024, .f32⟩
  | .hbm, ⟨37, _⟩ => ⟨S1408x1024, .f32⟩
  | .hbm, ⟨38, _⟩ => ⟨S1408x1024, .f32⟩
  | .hbm, ⟨39, _⟩ => ⟨S1408x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AttnFw.lean ====
abbrev S8192x1024 : Shape := ⟨2, ![8192, 1024]⟩
abbrev S512x128 : Shape := ⟨2, ![512, 128]⟩
abbrev S2048x128 : Shape := ⟨2, ![2048, 128]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .bf16⟩
  | .local _ .vmem, ⟨0, _⟩ => ⟨S512x128, .bf16⟩
  | .local _ .vmem, ⟨1, _⟩ => ⟨S512x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .f32⟩
  | .local _ .vmem, ⟨5, _⟩ => ⟨S2048x128, .f32⟩
  | .local _ .vmem, ⟨6, _⟩ => ⟨S512x128, .bf16⟩
  | .local _ .vmem, ⟨7, _⟩ => ⟨S512x128, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttnFwRefIdeal.lean ====
abbrev S8192x1024 : Shape := ⟨2, ![8192, 1024]⟩
abbrev S4x2048x8x128 : Shape := ⟨4, ![4, 2048, 8, 128]⟩
abbrev S4x8x2048x2048 : Shape := ⟨4, ![4, 8, 2048, 2048]⟩
abbrev S_ : Shape := ⟨0, ![]⟩
abbrev S4x8x2048 : Shape := ⟨3, ![4, 8, 2048]⟩
abbrev S4x8x2048x1 : Shape := ⟨4, ![4, 8, 2048, 1]⟩
abbrev S4x8x128x2048 : Shape := ⟨4, ![4, 8, 128, 2048]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S4x2048x8x128, .f32⟩
  | .hbm, ⟨5, _⟩ => ⟨S8192x1024, .f32⟩
  | .hbm, ⟨6, _⟩ => ⟨S4x2048x8x128, .f32⟩
  | .hbm, ⟨7, _⟩ => ⟨S4x2048x8x128, .f32⟩
  | .hbm, ⟨8, _⟩ => ⟨S4x8x2048x2048, .f32⟩
  | .hbm, ⟨9, _⟩ => ⟨S_, .f32⟩
  | .hbm, ⟨10, _⟩ => ⟨S4x8x2048x2048, .f32⟩
  | .hbm, ⟨11, _⟩ => ⟨S4x8x2048x2048, .f32⟩
  | .hbm, ⟨12, _⟩ => ⟨S_, .f32⟩
  | .hbm, ⟨13, _⟩ => ⟨S4x8x2048, .f32⟩
  | .hbm, ⟨14, _⟩ => ⟨S_, .f32⟩
  | .hbm, ⟨15, _⟩ => ⟨S4x8x2048, .f32⟩
  | .hbm, ⟨16, _⟩ => ⟨S4x8x2048, .f32⟩
  | .hbm, ⟨17, _⟩ => ⟨S4x8x2048x1, .f32⟩
  | .hbm, ⟨18, _⟩ => ⟨S4x8x2048x2048, .f32⟩
  | .hbm, ⟨19, _⟩ => ⟨S4x8x2048x2048, .f32⟩
  | .hbm, ⟨20, _⟩ => ⟨S4x8x2048x2048, .f32⟩
  | .hbm, ⟨21, _⟩ => ⟨S_, .f32⟩
  | .hbm, ⟨22, _⟩ => ⟨S4x8x2048, .f32⟩
  | .hbm, ⟨23, _⟩ => ⟨S4x8x2048x1, .f32⟩
  | .hbm, ⟨24, _⟩ => ⟨S4x8x2048x2048, .f32⟩
  | .hbm, ⟨25, _⟩ => ⟨S4x8x2048x2048, .f32⟩
  | .hbm, ⟨26, _⟩ => ⟨S4x8x128x2048, .f32⟩
  | .hbm, ⟨27, _⟩ => ⟨S4x2048x8x128, .f32⟩
  | .hbm, ⟨28, _⟩ => ⟨S8192x1024, .f32⟩
  | .hbm, ⟨29, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== AdamSmall.lean ====
abbrev S2x3x256 : Shape := ⟨3, ![2, 3, 256]⟩
abbrev S2x2x128 : Shape := ⟨3, ![2, 2, 128]⟩
abbrev S2x1024 : Shape := ⟨2, ![2, 1024]⟩
abbrev S2x384 : Shape := ⟨2, ![2, 384]⟩
abbrev S2x256 : Shape := ⟨2, ![2, 256]⟩
abbrev S2x512 : Shape := ⟨2, ![2, 512]⟩
abbrev S2x8x128x128 : Shape := ⟨4, ![2, 8, 128, 128]⟩
abbrev S2x8x128 : Shape := ⟨3, ![2, 8, 128]⟩
abbrev S2x1920 : Shape := ⟨2, ![2, 1920]⟩
abbrev S2x8x64 : Shape := ⟨3, ![2, 8, 64]⟩
abbrev S1024 : Shape := ⟨1, ![1024]⟩
abbrev S1536 : Shape := ⟨1, ![1536]⟩
abbrev S512 : Shape := ⟨1, ![512]⟩
abbrev S2048 : Shape := ⟨1, ![2048]⟩
abbrev S768 : Shape := ⟨1, ![768]⟩
abbrev S262144 : Shape := ⟨1, ![262144]⟩
abbrev S3840 : Shape := ⟨1, ![3840]⟩
abbrev S281088 : Shape := ⟨1, ![281088]⟩
abbrev S3072 : Shape := ⟨1, ![3072]⟩
abbrev S284160 : Shape := ⟨1, ![284160]⟩
abbrev S_ : Shape := ⟨0, ![]⟩
abbrev S286720 : Shape := ⟨1, ![286720]⟩
abbrev S280x1024 : Shape := ⟨2, ![280, 1024]⟩
abbrev S8x1024 : Shape := ⟨2, ![8, 1024]⟩

abbrev nBuf : Space → Nat
  | .hbm => 279
  | .vmem => 14
  | .smem => 0
  | _ => 0

abbrev hbmTy0_0 (i : Nat) : BufTy := match i % 128 with
  | 0 => ⟨S2x3x256, .f32⟩
  | 1 => ⟨S2x2x128, .f32⟩
  | 2 => ⟨S2x2x128, .f32⟩
  | 3 => ⟨S2x1024, .f32⟩
  | 4 => ⟨S2x384, .f32⟩
  | 5 => ⟨S2x256, .f32⟩
  | 6 => ⟨S2x512, .f32⟩
  | 7 => ⟨S2x512, .f32⟩
  | 8 => ⟨S2x8x128x128, .f32⟩
  | 9 => ⟨S2x8x128, .f32⟩
  | 10 => ⟨S2x1920, .f32⟩
  | 11 => ⟨S2x512, .f32⟩
  | 12 => ⟨S2x512, .f32⟩
  | 13 => ⟨S2x8x64, .f32⟩
  | 14 => ⟨S2x512, .f32⟩
  | 15 => ⟨S2x512, .f32⟩
  | 16 => ⟨S2x1024, .f32⟩
  | 17 => ⟨S1024, .f32⟩
  | 18 => ⟨S2x3x256, .f32⟩
  | 19 => ⟨S2x2x128, .f32⟩
  | 20 => ⟨S2x2x128, .f32⟩
  | 21 => ⟨S2x1024, .f32⟩
  | 22 => ⟨S2x384, .f32⟩
  | 23 => ⟨S2x256, .f32⟩
  | 24 => ⟨S2x512, .f32⟩
  | 25 => ⟨S2x512, .f32⟩
  | 26 => ⟨S2x8x128x128, .f32⟩
  | 27 => ⟨S2x8x128, .f32⟩
  | 28 => ⟨S2x1920, .f32⟩
  | 29 => ⟨S2x512, .f32⟩
  | 30 => ⟨S2x512, .f32⟩
  | 31 => ⟨S2x8x64, .f32⟩
  | 32 => ⟨S2x512, .f32⟩
  | 33 => ⟨S2x512, .f32⟩
  | 34 => ⟨S2x1024, .f32⟩
  | 35 => ⟨S1024, .f32⟩
  | 36 => ⟨S2x3x256, .f32⟩
  | 37 => ⟨S2x2x128, .f32⟩
  | 38 => ⟨S2x2x128, .f32⟩
  | 39 => ⟨S2x1024, .f32⟩
  | 40 => ⟨S2x384, .f32⟩
  | 41 => ⟨S2x256, .f32⟩
  | 42 => ⟨S2x512, .f32⟩
  | 43 => ⟨S2x512, .f32⟩
  | 44 => ⟨S2x8x128x128, .f32⟩
  | 45 => ⟨S2x8x128, .f32⟩
  | 46 => ⟨S2x1920, .f32⟩
  | 47 => ⟨S2x512, .f32⟩
  | 48 => ⟨S2x512, .f32⟩
  | 49 => ⟨S2x8x64, .f32⟩
  | 50 => ⟨S2x512, .f32⟩
  | 51 => ⟨S2x512, .f32⟩
  | 52 => ⟨S2x1024, .f32⟩
  | 53 => ⟨S1024, .f32⟩
  | 54 => ⟨S2x3x256, .f32⟩
  | 55 => ⟨S2x2x128, .f32⟩
  | 56 => ⟨S2x2x128, .f32⟩
  | 57 => ⟨S2x1024, .f32⟩
  | 58 => ⟨S2x384, .f32⟩
  | 59 => ⟨S2x256, .f32⟩
  | 60 => ⟨S2x512, .f32⟩
  | 61 => ⟨S2x512, .f32⟩
  | 62 => ⟨S2x8x128x128, .f32⟩
  | 63 => ⟨S2x8x128, .f32⟩
  | 64 => ⟨S2x1920, .f32⟩
  | 65 => ⟨S2x512, .f32⟩
  | 66 => ⟨S2x512, .f32⟩
  | 67 => ⟨S2x8x64, .f32⟩
  | 68 => ⟨S2x512, .f32⟩
  | 69 => ⟨S2x512, .f32⟩
  | 70 => ⟨S2x1024, .f32⟩
  | 71 => ⟨S1024, .f32⟩
  | 72 => ⟨S1536, .f32⟩
  | 73 => ⟨S512, .f32⟩
  | 74 => ⟨S512, .f32⟩
  | 75 => ⟨S2048, .f32⟩
  | 76 => ⟨S768, .f32⟩
  | 77 => ⟨S512, .f32⟩
  | 78 => ⟨S1024, .f32⟩
  | 79 => ⟨S1024, .f32⟩
  | 80 => ⟨S262144, .f32⟩
  | 81 => ⟨S2048, .f32⟩
  | 82 => ⟨S3840, .f32⟩
  | 83 => ⟨S1024, .f32⟩
  | 84 => ⟨S1024, .f32⟩
  | 85 => ⟨S1024, .f32⟩
  | 86 => ⟨S1024, .f32⟩
  | 87 => ⟨S1024, .f32⟩
  | 88 => ⟨S2048, .f32⟩
  | 89 => ⟨S281088, .f32⟩
  | 90 => ⟨S3072, .f32⟩
  | 91 => ⟨S284160, .f32⟩
  | 92 => ⟨S_, .i32⟩
  | 93 => ⟨S_, .f32⟩
  | 94 => ⟨S286720, .f32⟩
  | 95 => ⟨S280x1024, .f32⟩
  | 96 => ⟨S1536, .f32⟩
  | 97 => ⟨S512, .f32⟩
  | 98 => ⟨S512, .f32⟩
  | 99 => ⟨S2048, .f32⟩
  | 100 => ⟨S768, .f32⟩
  | 101 => ⟨S512, .f32⟩
  | 102 => ⟨S1024, .f32⟩
  | 103 => ⟨S1024, .f32⟩
  | 104 => ⟨S262144, .f32⟩
  | 105 => ⟨S2048, .f32⟩
  | 106 => ⟨S3840, .f32⟩
  | 107 => ⟨S1024, .f32⟩
  | 108 => ⟨S1024, .f32⟩
  | 109 => ⟨S1024, .f32⟩
  | 110 => ⟨S1024, .f32⟩
  | 111 => ⟨S1024, .f32⟩
  | 112 => ⟨S2048, .f32⟩
  | 113 => ⟨S281088, .f32⟩
  | 114 => ⟨S3072, .f32⟩
  | 115 => ⟨S284160, .f32⟩
  | 116 => ⟨S_, .i32⟩
  | 117 => ⟨S_, .f32⟩
  | 118 => ⟨S286720, .f32⟩
  | 119 => ⟨S280x1024, .f32⟩
  | 120 => ⟨S1536, .f32⟩
  | 121 => ⟨S512, .f32⟩
  | 122 => ⟨S512, .f32⟩
  | 123 => ⟨S2048, .f32⟩
  | 124 => ⟨S768, .f32⟩
  | 125 => ⟨S512, .f32⟩
  | 126 => ⟨S1024, .f32⟩
  | 127 => ⟨S1024, .f32⟩
  | _ => ⟨S2x3x256, .f32⟩

abbrev hbmTy0_1 (i : Nat) : BufTy := match i % 128 with
  | 0 => ⟨S262144, .f32⟩
  | 1 => ⟨S2048, .f32⟩
  | 2 => ⟨S3840, .f32⟩
  | 3 => ⟨S1024, .f32⟩
  | 4 => ⟨S1024, .f32⟩
  | 5 => ⟨S1024, .f32⟩
  | 6 => ⟨S1024, .f32⟩
  | 7 => ⟨S1024, .f32⟩
  | 8 => ⟨S2048, .f32⟩
  | 9 => ⟨S281088, .f32⟩
  | 10 => ⟨S3072, .f32⟩
  | 11 => ⟨S284160, .f32⟩
  | 12 => ⟨S_, .i32⟩
  | 13 => ⟨S_, .f32⟩
  | 14 => ⟨S286720, .f32⟩
  | 15 => ⟨S280x1024, .f32⟩
  | 16 => ⟨S1536, .f32⟩
  | 17 => ⟨S512, .f32⟩
  | 18 => ⟨S512, .f32⟩
  | 19 => ⟨S2048, .f32⟩
  | 20 => ⟨S768, .f32⟩
  | 21 => ⟨S512, .f32⟩
  | 22 => ⟨S1024, .f32⟩
  | 23 => ⟨S1024, .f32⟩
  | 24 => ⟨S262144, .f32⟩
  | 25 => ⟨S2048, .f32⟩
  | 26 => ⟨S3840, .f32⟩
  | 27 => ⟨S1024, .f32⟩
  | 28 => ⟨S1024, .f32⟩
  | 29 => ⟨S1024, .f32⟩
  | 30 => ⟨S1024, .f32⟩
  | 31 => ⟨S1024, .f32⟩
  | 32 => ⟨S2048, .f32⟩
  | 33 => ⟨S281088, .f32⟩
  | 34 => ⟨S3072, .f32⟩
  | 35 => ⟨S284160, .f32⟩
  | 36 => ⟨S_, .i32⟩
  | 37 => ⟨S_, .f32⟩
  | 38 => ⟨S286720, .f32⟩
  | 39 => ⟨S280x1024, .f32⟩
  | 40 => ⟨S280x1024, .f32⟩
  | 41 => ⟨S280x1024, .f32⟩
  | 42 => ⟨S280x1024, .f32⟩
  | 43 => ⟨S286720, .f32⟩
  | 44 => ⟨S1536, .f32⟩
  | 45 => ⟨S2x3x256, .f32⟩
  | 46 => ⟨S512, .f32⟩
  | 47 => ⟨S2x2x128, .f32⟩
  | 48 => ⟨S512, .f32⟩
  | 49 => ⟨S2x2x128, .f32⟩
  | 50 => ⟨S2048, .f32⟩
  | 51 => ⟨S2x1024, .f32⟩
  | 52 => ⟨S768, .f32⟩
  | 53 => ⟨S2x384, .f32⟩
  | 54 => ⟨S512, .f32⟩
  | 55 => ⟨S2x256, .f32⟩
  | 56 => ⟨S1024, .f32⟩
  | 57 => ⟨S2x512, .f32⟩
  | 58 => ⟨S1024, .f32⟩
  | 59 => ⟨S2x512, .f32⟩
  | 60 => ⟨S262144, .f32⟩
  | 61 => ⟨S2x8x128x128, .f32⟩
  | 62 => ⟨S2048, .f32⟩
  | 63 => ⟨S2x8x128, .f32⟩
  | 64 => ⟨S3840, .f32⟩
  | 65 => ⟨S2x1920, .f32⟩
  | 66 => ⟨S1024, .f32⟩
  | 67 => ⟨S2x512, .f32⟩
  | 68 => ⟨S1024, .f32⟩
  | 69 => ⟨S2x512, .f32⟩
  | 70 => ⟨S1024, .f32⟩
  | 71 => ⟨S2x8x64, .f32⟩
  | 72 => ⟨S1024, .f32⟩
  | 73 => ⟨S2x512, .f32⟩
  | 74 => ⟨S1024, .f32⟩
  | 75 => ⟨S2x512, .f32⟩
  | 76 => ⟨S2048, .f32⟩
  | 77 => ⟨S2x1024, .f32⟩
  | 78 => ⟨S1024, .f32⟩
  | 79 => ⟨S286720, .f32⟩
  | 80 => ⟨S1536, .f32⟩
  | 81 => ⟨S2x3x256, .f32⟩
  | 82 => ⟨S512, .f32⟩
  | 83 => ⟨S2x2x128, .f32⟩
  | 84 => ⟨S512, .f32⟩
  | 85 => ⟨S2x2x128, .f32⟩
  | 86 => ⟨S2048, .f32⟩
  | 87 => ⟨S2x1024, .f32⟩
  | 88 => ⟨S768, .f32⟩
  | 89 => ⟨S2x384, .f32⟩
  | 90 => ⟨S512, .f32⟩
  | 91 => ⟨S2x256, .f32⟩
  | 92 => ⟨S1024, .f32⟩
  | 93 => ⟨S2x512, .f32⟩
  | 94 => ⟨S1024, .f32⟩
  | 95 => ⟨S2x512, .f32⟩
  | 96 => ⟨S262144, .f32⟩
  | 97 => ⟨S2x8x128x128, .f32⟩
  | 98 => ⟨S2048, .f32⟩
  | 99 => ⟨S2x8x128, .f32⟩
  | 100 => ⟨S3840, .f32⟩
  | 101 => ⟨S2x1920, .f32⟩
  | 102 => ⟨S1024, .f32⟩
  | 103 => ⟨S2x512, .f32⟩
  | 104 => ⟨S1024, .f32⟩
  | 105 => ⟨S2x512, .f32⟩
  | 106 => ⟨S1024, .f32⟩
  | 107 => ⟨S2x8x64, .f32⟩
  | 108 => ⟨S1024, .f32⟩
  | 109 => ⟨S2x512, .f32⟩
  | 110 => ⟨S1024, .f32⟩
  | 111 => ⟨S2x512, .f32⟩
  | 112 => ⟨S2048, .f32⟩
  | 113 => ⟨S2x1024, .f32⟩
  | 114 => ⟨S1024, .f32⟩
  | 115 => ⟨S286720, .f32⟩
  | 116 => ⟨S1536, .f32⟩
  | 117 => ⟨S2x3x256, .f32⟩
  | 118 => ⟨S512, .f32⟩
  | 119 => ⟨S2x2x128, .f32⟩
  | 120 => ⟨S512, .f32⟩
  | 121 => ⟨S2x2x128, .f32⟩
  | 122 => ⟨S2048, .f32⟩
  | 123 => ⟨S2x1024, .f32⟩
  | 124 => ⟨S768, .f32⟩
  | 125 => ⟨S2x384, .f32⟩
  | 126 => ⟨S512, .f32⟩
  | 127 => ⟨S2x256, .f32⟩
  | _ => ⟨S2x3x256, .f32⟩

abbrev hbmTy0_2 (i : Nat) : BufTy := match i % 128 with
  | 0 => ⟨S1024, .f32⟩
  | 1 => ⟨S2x512, .f32⟩
  | 2 => ⟨S1024, .f32⟩
  | 3 => ⟨S2x512, .f32⟩
  | 4 => ⟨S262144, .f32⟩
  | 5 => ⟨S2x8x128x128, .f32⟩
  | 6 => ⟨S2048, .f32⟩
  | 7 => ⟨S2x8x128, .f32⟩
  | 8 => ⟨S3840, .f32⟩
  | 9 => ⟨S2x1920, .f32⟩
  | 10 => ⟨S1024, .f32⟩
  | 11 => ⟨S2x512, .f32⟩
  | 12 => ⟨S1024, .f32⟩
  | 13 => ⟨S2x512, .f32⟩
  | 14 => ⟨S1024, .f32⟩
  | 15 => ⟨S2x8x64, .f32⟩
  | 16 => ⟨S1024, .f32⟩
  | 17 => ⟨S2x512, .f32⟩
  | 18 => ⟨S1024, .f32⟩
  | 19 => ⟨S2x512, .f32⟩
  | 20 => ⟨S2048, .f32⟩
  | 21 => ⟨S2x1024, .f32⟩
  | 22 => ⟨S1024, .f32⟩
  | _ => ⟨S2x3x256, .f32⟩

abbrev hbmTy (i : Nat) : BufTy := match i / 128 with
  | 0 => hbmTy0_0 i
  | 1 => hbmTy0_1 i
  | 2 => hbmTy0_2 i
  | _ => ⟨S2x3x256, .f32⟩

abbrev bufTy : (tb : Table) → Fin (tcTables nBuf tb) → BufTy
  | .hbm, ⟨i, _⟩ => hbmTy i
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S8x1024, .f32⟩
  | .local _ .vmem, ⟨9, _⟩ => ⟨S8x1024, .f32⟩
  | .local _ .vmem, ⟨10, _⟩ => ⟨S8x1024, .f32⟩
  | .local _ .vmem, ⟨11, _⟩ => ⟨S8x1024, .f32⟩
  | .local _ .vmem, ⟨12, _⟩ => ⟨S8x1024, .f32⟩
  | .local _ .vmem, ⟨13, _⟩ => ⟨S8x1024, .f32⟩
  | _, _ => ⟨S2x3x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_arg56 : Ref sig .tc := ⟨.hbm, 56, rfl⟩
abbrev main_arg57 : Ref sig .tc := ⟨.hbm, 57, rfl⟩
abbrev main_arg58 : Ref sig .tc := ⟨.hbm, 58, rfl⟩
abbrev main_arg59 : Ref sig .tc := ⟨.hbm, 59, rfl⟩
abbrev main_arg60 : Ref sig .tc := ⟨.hbm, 60, rfl⟩
abbrev main_arg61 : Ref sig .tc := ⟨.hbm, 61, rfl⟩
abbrev main_arg62 : Ref sig .tc := ⟨.hbm, 62, rfl⟩
abbrev main_arg63 : Ref sig .tc := ⟨.hbm, 63, rfl⟩
abbrev main_arg64 : Ref sig .tc := ⟨.hbm, 64, rfl⟩
abbrev main_arg65 : Ref sig .tc := ⟨.hbm, 65, rfl⟩
abbrev main_arg66 : Ref sig .tc := ⟨.hbm, 66, rfl⟩
abbrev main_arg67 : Ref sig .tc := ⟨.hbm, 67, rfl⟩
abbrev main_arg68 : Ref sig .tc := ⟨.hbm, 68, rfl⟩
abbrev main_arg69 : Ref sig .tc := ⟨.hbm, 69, rfl⟩
abbrev main_arg70 : Ref sig .tc := ⟨.hbm, 70, rfl⟩
abbrev main_arg71 : Ref sig .tc := ⟨.hbm, 71, rfl⟩
abbrev main_v0 : Ref sig .tc := ⟨.hbm, 72, rfl⟩
abbrev main_v1 : Ref sig .tc := ⟨.hbm, 73, rfl⟩
abbrev main_v2 : Ref sig .tc := ⟨.hbm, 74, rfl⟩
abbrev main_v3 : Ref sig .tc := ⟨.hbm, 75, rfl⟩
abbrev main_v4 : Ref sig .tc := ⟨.hbm, 76, rfl⟩
abbrev main_v5 : Ref sig .tc := ⟨.hbm, 77, rfl⟩
abbrev main_v6 : Ref sig .tc := ⟨.hbm, 78, rfl⟩
abbrev main_v7 : Ref sig .tc := ⟨.hbm, 79, rfl⟩
abbrev main_v8 : Ref sig .tc := ⟨.hbm, 80, rfl⟩
abbrev main_v9 : Ref sig .tc := ⟨.hbm, 81, rfl⟩
abbrev main_v10 : Ref sig .tc := ⟨.hbm, 82, rfl⟩
abbrev main_v11 : Ref sig .tc := ⟨.hbm, 83, rfl⟩
abbrev main_v12 : Ref sig .tc := ⟨.hbm, 84, rfl⟩
abbrev main_v13 : Ref sig .tc := ⟨.hbm, 85, rfl⟩
abbrev main_v14 : Ref sig .tc := ⟨.hbm, 86, rfl⟩
abbrev main_v15 : Ref sig .tc := ⟨.hbm, 87, rfl⟩
abbrev main_v16 : Ref sig .tc := ⟨.hbm, 88, rfl⟩
abbrev main_v17 : Ref sig .tc := ⟨.hbm, 89, rfl⟩
abbrev main_v18 : Ref sig .tc := ⟨.hbm, 90, rfl⟩
abbrev main_v19 : Ref sig .tc := ⟨.hbm, 91, rfl⟩
abbrev main_c : Ref sig .tc := ⟨.hbm, 92, rfl⟩
abbrev main_call0_v0 : Ref sig .tc := ⟨.hbm, 93, rfl⟩
abbrev main_v20 : Ref sig .tc := ⟨.hbm, 94, rfl⟩
abbrev main_v21 : Ref sig .tc := ⟨.hbm, 95, rfl⟩
abbrev main_v22 : Ref sig .tc := ⟨.hbm, 96, rfl⟩
abbrev main_v23 : Ref sig .tc := ⟨.hbm, 97, rfl⟩
abbrev main_v24 : Ref sig .tc := ⟨.hbm, 98, rfl⟩
abbrev main_v25 : Ref sig .tc := ⟨.hbm, 99, rfl⟩
abbrev main_v26 : Ref sig .tc := ⟨.hbm, 100, rfl⟩
abbrev main_v27 : Ref sig .tc := ⟨.hbm, 101, rfl⟩
abbrev main_v28 : Ref sig .tc := ⟨.hbm, 102, rfl⟩
abbrev main_v29 : Ref sig .tc := ⟨.hbm, 103, rfl⟩
abbrev main_v30 : Ref sig .tc := ⟨.hbm, 104, rfl⟩
abbrev main_v31 : Ref sig .tc := ⟨.hbm, 105, rfl⟩
abbrev main_v32 : Ref sig .tc := ⟨.hbm, 106, rfl⟩
abbrev main_v33 : Ref sig .tc := ⟨.hbm, 107, rfl⟩
abbrev main_v34 : Ref sig .tc := ⟨.hbm, 108, rfl⟩
abbrev main_v35 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_v40 : Ref sig .tc := ⟨.hbm, 114, rfl⟩
abbrev main_v41 : Ref sig .tc := ⟨.hbm, 115, rfl⟩
abbrev main_c_0 : Ref sig .tc := ⟨.hbm, 116, rfl⟩
abbrev main_call1_v0 : Ref sig .tc := ⟨.hbm, 117, rfl⟩
abbrev main_v42 : Ref sig .tc := ⟨.hbm, 118, rfl⟩
abbrev main_v43 : Ref sig .tc := ⟨.hbm, 119, rfl⟩
abbrev main_v44 : Ref sig .tc := ⟨.hbm, 120, rfl⟩
abbrev main_v45 : Ref sig .tc := ⟨.hbm, 121, rfl⟩
abbrev main_v46 : Ref sig .tc := ⟨.hbm, 122, rfl⟩
abbrev main_v47 : Ref sig .tc := ⟨.hbm, 123, rfl⟩
abbrev main_v48 : Ref sig .tc := ⟨.hbm, 124, rfl⟩
abbrev main_v49 : Ref sig .tc := ⟨.hbm, 125, rfl⟩
abbrev main_v50 : Ref sig .tc := ⟨.hbm, 126, rfl⟩
abbrev main_v51 : Ref sig .tc := ⟨.hbm, 127, rfl⟩
abbrev main_v52 : Ref sig .tc := ⟨.hbm, 128, rfl⟩
abbrev main_v53 : Ref sig .tc := ⟨.hbm, 129, rfl⟩
abbrev main_v54 : Ref sig .tc := ⟨.hbm, 130, rfl⟩
abbrev main_v55 : Ref sig .tc := ⟨.hbm, 131, rfl⟩
abbrev main_v56 : Ref sig .tc := ⟨.hbm, 132, rfl⟩
abbrev main_v57 : Ref sig .tc := ⟨.hbm, 133, rfl⟩
abbrev main_v58 : Ref sig .tc := ⟨.hbm, 134, rfl⟩
abbrev main_v59 : Ref sig .tc := ⟨.hbm, 135, rfl⟩
abbrev main_v60 : Ref sig .tc := ⟨.hbm, 136, rfl⟩
abbrev main_v61 : Ref sig .tc := ⟨.hbm, 137, rfl⟩
abbrev main_v62 : Ref sig .tc := ⟨.hbm, 138, rfl⟩
abbrev main_v63 : Ref sig .tc := ⟨.hbm, 139, rfl⟩
abbrev main_c_1 : Ref sig .tc := ⟨.hbm, 140, rfl⟩
abbrev main_call2_v0 : Ref sig .tc := ⟨.hbm, 141, rfl⟩
abbrev main_v64 : Ref sig .tc := ⟨.hbm, 142, rfl⟩
abbrev main_v65 : Ref sig .tc := ⟨.hbm, 143, rfl⟩
abbrev main_v66 : Ref sig .tc := ⟨.hbm, 144, rfl⟩
abbrev main_v67 : Ref sig .tc := ⟨.hbm, 145, rfl⟩
abbrev main_v68 : Ref sig .tc := ⟨.hbm, 146, rfl⟩
abbrev main_v69 : Ref sig .tc := ⟨.hbm, 147, rfl⟩
abbrev main_v70 : Ref sig .tc := ⟨.hbm, 148, rfl⟩
abbrev main_v71 : Ref sig .tc := ⟨.hbm, 149, rfl⟩
abbrev main_v72 : Ref sig .tc := ⟨.hbm, 150, rfl⟩
abbrev main_v73 : Ref sig .tc := ⟨.hbm, 151, rfl⟩
abbrev main_v74 : Ref sig .tc := ⟨.hbm, 152, rfl⟩
abbrev main_v75 : Ref sig .tc := ⟨.hbm, 153, rfl⟩
abbrev main_v76 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_v81 : Ref sig .tc := ⟨.hbm, 159, rfl⟩
abbrev main_v82 : Ref sig .tc := ⟨.hbm, 160, rfl⟩
abbrev main_v83 : Ref sig .tc := ⟨.hbm, 161, rfl⟩
abbrev main_v84 : Ref sig .tc := ⟨.hbm, 162, rfl⟩
abbrev main_v85 : Ref sig .tc := ⟨.hbm, 163, rfl⟩
abbrev main_c_2 : Ref sig .tc := ⟨.hbm, 164, rfl⟩
abbrev main_call3_v0 : Ref sig .tc := ⟨.hbm, 165, rfl⟩
abbrev main_v86 : Ref sig .tc := ⟨.hbm, 166, rfl⟩
abbrev main_v87 : Ref sig .tc := ⟨.hbm, 167, rfl⟩
abbrev main_v88_0 : Ref sig .tc := ⟨.hbm, 168, rfl⟩
abbrev main_v88_1 : Ref sig .tc := ⟨.hbm, 169, rfl⟩
abbrev main_v88_2 : Ref sig .tc := ⟨.hbm, 170, rfl⟩
abbrev main_v89 : Ref sig .tc := ⟨.hbm, 171, rfl⟩
abbrev main_v90 : Ref sig .tc := ⟨.hbm, 172, rfl⟩
abbrev main_v91 : Ref sig .tc := ⟨.hbm, 173, rfl⟩
abbrev main_v92 : Ref sig .tc := ⟨.hbm, 174, rfl⟩
abbrev main_v93 : Ref sig .tc := ⟨.hbm, 175, rfl⟩
abbrev main_v94 : Ref sig .tc := ⟨.hbm, 176, rfl⟩
abbrev main_v95 : Ref sig .tc := ⟨.hbm, 177, rfl⟩
abbrev main_v96 : Ref sig .tc := ⟨.hbm, 178, rfl⟩
abbrev main_v97 : Ref sig .tc := ⟨.hbm, 179, rfl⟩
abbrev main_v98 : Ref sig .tc := ⟨.hbm, 180, rfl⟩
abbrev main_v99 : Ref sig .tc := ⟨.hbm, 181, rfl⟩
abbrev main_v100 : Ref sig .tc := ⟨.hbm, 182, rfl⟩
abbrev main_v101 : Ref sig .tc := ⟨.hbm, 183, rfl⟩
abbrev main_v102 : Ref sig .tc := ⟨.hbm, 184, rfl⟩
abbrev main_v103 : Ref sig .tc := ⟨.hbm, 185, rfl⟩
abbrev main_v104 : Ref sig .tc := ⟨.hbm, 186, rfl⟩
abbrev main_v105 : Ref sig .tc := ⟨.hbm, 187, rfl⟩
abbrev main_v106 : Ref sig .tc := ⟨.hbm, 188, rfl⟩
abbrev main_v107 : Ref sig .tc := ⟨.hbm, 189, rfl⟩
abbrev main_v108 : Ref sig .tc := ⟨.hbm, 190, rfl⟩
abbrev main_v109 : Ref sig .tc := ⟨.hbm, 191, rfl⟩
abbrev main_v110 : Ref sig .tc := ⟨.hbm, 192, rfl⟩
abbrev main_v111 : Ref sig .tc := ⟨.hbm, 193, rfl⟩
abbrev main_v112 : Ref sig .tc := ⟨.hbm, 194, rfl⟩
abbrev main_v113 : Ref sig .tc := ⟨.hbm, 195, rfl⟩
abbrev main_v114 : Ref sig .tc := ⟨.hbm, 196, rfl⟩
abbrev main_v115 : Ref sig .tc := ⟨.hbm, 197, rfl⟩
abbrev main_v116 : Ref sig .tc := ⟨.hbm, 198, rfl⟩
abbrev main_v117 : Ref sig .tc := ⟨.hbm, 199, rfl⟩
abbrev main_v118 : Ref sig .tc := ⟨.hbm, 200, rfl⟩
abbrev main_v119 : Ref sig .tc := ⟨.hbm, 201, rfl⟩
abbrev main_v120 : Ref sig .tc := ⟨.hbm, 202, rfl⟩
abbrev main_v121 : Ref sig .tc := ⟨.hbm, 203, rfl⟩
abbrev main_v122 : Ref sig .tc := ⟨.hbm, 204, rfl⟩
abbrev main_v123 : Ref sig .tc := ⟨.hbm, 205, rfl⟩
abbrev main_v124 : Ref sig .tc := ⟨.hbm, 206, rfl⟩
abbrev main_v125 : Ref sig .tc := ⟨.hbm, 207, rfl⟩
abbrev main_v126 : Ref sig .tc := ⟨.hbm, 208, rfl⟩
abbrev main_v127 : Ref sig .tc := ⟨.hbm, 209, rfl⟩
abbrev main_v128 : Ref sig .tc := ⟨.hbm, 210, rfl⟩
abbrev main_v129 : Ref sig .tc := ⟨.hbm, 211, rfl⟩
abbrev main_v130 : Ref sig .tc := ⟨.hbm, 212, rfl⟩
abbrev main_v131 : Ref sig .tc := ⟨.hbm, 213, rfl⟩
abbrev main_v132 : Ref sig .tc := ⟨.hbm, 214, rfl⟩
abbrev main_v133 : Ref sig .tc := ⟨.hbm, 215, rfl⟩
abbrev main_v134 : Ref sig .tc := ⟨.hbm, 216, rfl⟩
abbrev main_v135 : Ref sig .tc := ⟨.hbm, 217, rfl⟩
abbrev main_v136 : Ref sig .tc := ⟨.hbm, 218, rfl⟩
abbrev main_v137 : Ref sig .tc := ⟨.hbm, 219, rfl⟩
abbrev main_v138 : Ref sig .tc := ⟨.hbm, 220, rfl⟩
abbrev main_v139 : Ref sig .tc := ⟨.hbm, 221, rfl⟩
abbrev main_v140 : Ref sig .tc := ⟨.hbm, 222, rfl⟩
abbrev main_v141 : Ref sig .tc := ⟨.hbm, 223, rfl⟩
abbrev main_v142 : Ref sig .tc := ⟨.hbm, 224, rfl⟩
abbrev main_v143 : Ref sig .tc := ⟨.hbm, 225, rfl⟩
abbrev main_v144 : Ref sig .tc := ⟨.hbm, 226, rfl⟩
abbrev main_v145 : Ref sig .tc := ⟨.hbm, 227, rfl⟩
abbrev main_v146 : Ref sig .tc := ⟨.hbm, 228, rfl⟩
abbrev main_v147 : Ref sig .tc := ⟨.hbm, 229, rfl⟩
abbrev main_v148 : Ref sig .tc := ⟨.hbm, 230, rfl⟩
abbrev main_v149 : Ref sig .tc := ⟨.hbm, 231, rfl⟩
abbrev main_v150 : Ref sig .tc := ⟨.hbm, 232, rfl⟩
abbrev main_v151 : Ref sig .tc := ⟨.hbm, 233, rfl⟩
abbrev main_v152 : Ref sig .tc := ⟨.hbm, 234, rfl⟩
abbrev main_v153 : Ref sig .tc := ⟨.hbm, 235, rfl⟩
abbrev main_v154 : Ref sig .tc := ⟨.hbm, 236, rfl⟩
abbrev main_v155 : Ref sig .tc := ⟨.hbm, 237, rfl⟩
abbrev main_v156 : Ref sig .tc := ⟨.hbm, 238, rfl⟩
abbrev main_v157 : Ref sig .tc := ⟨.hbm, 239, rfl⟩
abbrev main_v158 : Ref sig .tc := ⟨.hbm, 240, rfl⟩
abbrev main_v159 : Ref sig .tc := ⟨.hbm, 241, rfl⟩
abbrev main_v160 : Ref sig .tc := ⟨.hbm, 242, rfl⟩
abbrev main_v161 : Ref sig .tc := ⟨.hbm, 243, rfl⟩
abbrev main_v162 : Ref sig .tc := ⟨.hbm, 244, rfl⟩
abbrev main_v163 : Ref sig .tc := ⟨.hbm, 245, rfl⟩
abbrev main_v164 : Ref sig .tc := ⟨.hbm, 246, rfl⟩
abbrev main_v165 : Ref sig .tc := ⟨.hbm, 247, rfl⟩
abbrev main_v166 : Ref sig .tc := ⟨.hbm, 248, rfl⟩
abbrev main_v167 : Ref sig .tc := ⟨.hbm, 249, rfl⟩
abbrev main_v168 : Ref sig .tc := ⟨.hbm, 250, rfl⟩
abbrev main_v169 : Ref sig .tc := ⟨.hbm, 251, rfl⟩
abbrev main_v170 : Ref sig .tc := ⟨.hbm, 252, rfl⟩
abbrev main_v171 : Ref sig .tc := ⟨.hbm, 253, rfl⟩
abbrev main_v172 : Ref sig .tc := ⟨.hbm, 254, rfl⟩
abbrev main_v173 : Ref sig .tc := ⟨.hbm, 255, rfl⟩
abbrev main_v174 : Ref sig .tc := ⟨.hbm, 256, rfl⟩
abbrev main_v175 : Ref sig .tc := ⟨.hbm, 257, rfl⟩
abbrev main_v176 : Ref sig .tc := ⟨.hbm, 258, rfl⟩
abbrev main_v177 : Ref sig .tc := ⟨.hbm, 259, rfl⟩
abbrev main_v178 : Ref sig .tc := ⟨.hbm, 260, rfl⟩
abbrev main_v179 : Ref sig .tc := ⟨.hbm, 261, rfl⟩
abbrev main_v180 : Ref sig .tc := ⟨.hbm, 262, rfl⟩
abbrev main_v181 : Ref sig .tc := ⟨.hbm, 263, rfl⟩
abbrev main_v182 : Ref sig .tc := ⟨.hbm, 264, rfl⟩
abbrev main_v183 : Ref sig .tc := ⟨.hbm, 265, rfl⟩
abbrev main_v184 : Ref sig .tc := ⟨.hbm, 266, rfl⟩
abbrev main_v185 : Ref sig .tc := ⟨.hbm, 267, rfl⟩
abbrev main_v186 : Ref sig .tc := ⟨.hbm, 268, rfl⟩
abbrev main_v187 : Ref sig .tc := ⟨.hbm, 269, rfl⟩
abbrev main_v188 : Ref sig .tc := ⟨.hbm, 270, rfl⟩
abbrev main_v189 : Ref sig .tc := ⟨.hbm, 271, rfl⟩
abbrev main_v190 : Ref sig .tc := ⟨.hbm, 272, rfl⟩
abbrev main_v191 : Ref sig .tc := ⟨.hbm, 273, rfl⟩
abbrev main_v192 : Ref sig .tc := ⟨.hbm, 274, rfl⟩
abbrev main_v193 : Ref sig .tc := ⟨.hbm, 275, rfl⟩
abbrev main_v194 : Ref sig .tc := ⟨.hbm, 276, rfl⟩
abbrev main_v195 : Ref sig .tc := ⟨.hbm, 277, rfl⟩
abbrev main_v196 : Ref sig .tc := ⟨.hbm, 278, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![35], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSmallRefIdeal.lean ====
abbrev S2x3x256 : Shape := ⟨3, ![2, 3, 256]⟩
abbrev S2x2x128 : Shape := ⟨3, ![2, 2, 128]⟩
abbrev S2x1024 : Shape := ⟨2, ![2, 1024]⟩
abbrev S2x384 : Shape := ⟨2, ![2, 384]⟩
abbrev S2x256 : Shape := ⟨2, ![2, 256]⟩
abbrev S2x512 : Shape := ⟨2, ![2, 512]⟩
abbrev S2x8x128x128 : Shape := ⟨4, ![2, 8, 128, 128]⟩
abbrev S2x8x128 : Shape := ⟨3, ![2, 8, 128]⟩
abbrev S2x1920 : Shape := ⟨2, ![2, 1920]⟩
abbrev S2x8x64 : Shape := ⟨3, ![2, 8, 64]⟩
abbrev S1024 : Shape := ⟨1, ![1024]⟩
abbrev S_ : Shape := ⟨0, ![]⟩

abbrev nBuf : Space → Nat
  | .hbm => 666
  | .vmem => 0
  | .smem => 0
  | _ => 0

abbrev hbmTy0_0 (i : Nat) : BufTy := match i % 128 with
  | 0 => ⟨S2x3x256, .f32⟩
  | 1 => ⟨S2x2x128, .f32⟩
  | 2 => ⟨S2x2x128, .f32⟩
  | 3 => ⟨S2x1024, .f32⟩
  | 4 => ⟨S2x384, .f32⟩
  | 5 => ⟨S2x256, .f32⟩
  | 6 => ⟨S2x512, .f32⟩
  | 7 => ⟨S2x512, .f32⟩
  | 8 => ⟨S2x8x128x128, .f32⟩
  | 9 => ⟨S2x8x128, .f32⟩
  | 10 => ⟨S2x1920, .f32⟩
  | 11 => ⟨S2x512, .f32⟩
  | 12 => ⟨S2x512, .f32⟩
  | 13 => ⟨S2x8x64, .f32⟩
  | 14 => ⟨S2x512, .f32⟩
  | 15 => ⟨S2x512, .f32⟩
  | 16 => ⟨S2x1024, .f32⟩
  | 17 => ⟨S1024, .f32⟩
  | 18 => ⟨S2x3x256, .f32⟩
  | 19 => ⟨S2x2x128, .f32⟩
  | 20 => ⟨S2x2x128, .f32⟩
  | 21 => ⟨S2x1024, .f32⟩
  | 22 => ⟨S2x384, .f32⟩
  | 23 => ⟨S2x256, .f32⟩
  | 24 => ⟨S2x512, .f32⟩
  | 25 => ⟨S2x512, .f32⟩
  | 26 => ⟨S2x8x128x128, .f32⟩
  | 27 => ⟨S2x8x128, .f32⟩
  | 28 => ⟨S2x1920, .f32⟩
  | 29 => ⟨S2x512, .f32⟩
  | 30 => ⟨S2x512, .f32⟩
  | 31 => ⟨S2x8x64, .f32⟩
  | 32 => ⟨S2x512, .f32⟩
  | 33 => ⟨S2x512, .f32⟩
  | 34 => ⟨S2x1024, .f32⟩
  | 35 => ⟨S1024, .f32⟩
  | 36 => ⟨S2x3x256, .f32⟩
  | 37 => ⟨S2x2x128, .f32⟩
  | 38 => ⟨S2x2x128, .f32⟩
  | 39 => ⟨S2x1024, .f32⟩
  | 40 => ⟨S2x384, .f32⟩
  | 41 => ⟨S2x256, .f32⟩
  | 42 => ⟨S2x512, .f32⟩
  | 43 => ⟨S2x512, .f32⟩
  | 44 => ⟨S2x8x128x128, .f32⟩
  | 45 => ⟨S2x8x128, .f32⟩
  | 46 => ⟨S2x1920, .f32⟩
  | 47 => ⟨S2x512, .f32⟩
  | 48 => ⟨S2x512, .f32⟩
  | 49 => ⟨S2x8x64, .f32⟩
  | 50 => ⟨S2x512, .f32⟩
  | 51 => ⟨S2x512, .f32⟩
  | 52 => ⟨S2x1024, .f32⟩
  | 53 => ⟨S1024, .f32⟩
  | 54 => ⟨S2x3x256, .f32⟩
  | 55 => ⟨S2x2x128, .f32⟩
  | 56 => ⟨S2x2x128, .f32⟩
  | 57 => ⟨S2x1024, .f32⟩
  | 58 => ⟨S2x384, .f32⟩
  | 59 => ⟨S2x256, .f32⟩
  | 60 => ⟨S2x512, .f32⟩
  | 61 => ⟨S2x512, .f32⟩
  | 62 => ⟨S2x8x128x128, .f32⟩
  | 63 => ⟨S2x8x128, .f32⟩
  | 64 => ⟨S2x1920, .f32⟩
  | 65 => ⟨S2x512, .f32⟩
  | 66 => ⟨S2x512, .f32⟩
  | 67 => ⟨S2x8x64, .f32⟩
  | 68 => ⟨S2x512, .f32⟩
  | 69 => ⟨S2x512, .f32⟩
  | 70 => ⟨S2x1024, .f32⟩
  | 71 => ⟨S1024, .f32⟩
  | 72 => ⟨S_, .f32⟩
  | 73 => ⟨S2x3x256, .f32⟩
  | 74 => ⟨S2x3x256, .f32⟩
  | 75 => ⟨S_, .f32⟩
  | 76 => ⟨S2x3x256, .f32⟩
  | 77 => ⟨S2x3x256, .f32⟩
  | 78 => ⟨S2x3x256, .f32⟩
  | 79 => ⟨S_, .f32⟩
  | 80 => ⟨S2x3x256, .f32⟩
  | 81 => ⟨S2x3x256, .f32⟩
  | 82 => ⟨S2x3x256, .f32⟩
  | 83 => ⟨S_, .f32⟩
  | 84 => ⟨S2x3x256, .f32⟩
  | 85 => ⟨S2x3x256, .f32⟩
  | 86 => ⟨S2x3x256, .f32⟩
  | 87 => ⟨S_, .f32⟩
  | 88 => ⟨S2x3x256, .f32⟩
  | 89 => ⟨S2x3x256, .f32⟩
  | 90 => ⟨S_, .f32⟩
  | 91 => ⟨S2x3x256, .f32⟩
  | 92 => ⟨S2x3x256, .f32⟩
  | 93 => ⟨S2x3x256, .f32⟩
  | 94 => ⟨S_, .f32⟩
  | 95 => ⟨S2x3x256, .f32⟩
  | 96 => ⟨S2x3x256, .f32⟩
  | 97 => ⟨S2x3x256, .f32⟩
  | 98 => ⟨S_, .f32⟩
  | 99 => ⟨S2x3x256, .f32⟩
  | 100 => ⟨S2x3x256, .f32⟩
  | 101 => ⟨S2x3x256, .f32⟩
  | 102 => ⟨S_, .f32⟩
  | 103 => ⟨S2x3x256, .f32⟩
  | 104 => ⟨S2x3x256, .f32⟩
  | 105 => ⟨S_, .f32⟩
  | 106 => ⟨S2x2x128, .f32⟩
  | 107 => ⟨S2x2x128, .f32⟩
  | 108 => ⟨S_, .f32⟩
  | 109 => ⟨S2x2x128, .f32⟩
  | 110 => ⟨S2x2x128, .f32⟩
  | 111 => ⟨S2x2x128, .f32⟩
  | 112 => ⟨S_, .f32⟩
  | 113 => ⟨S2x2x128, .f32⟩
  | 114 => ⟨S2x2x128, .f32⟩
  | 115 => ⟨S2x2x128, .f32⟩
  | 116 => ⟨S_, .f32⟩
  | 117 => ⟨S2x2x128, .f32⟩
  | 118 => ⟨S2x2x128, .f32⟩
  | 119 => ⟨S2x2x128, .f32⟩
  | 120 => ⟨S_, .f32⟩
  | 121 => ⟨S2x2x128, .f32⟩
  | 122 => ⟨S2x2x128, .f32⟩
  | 123 => ⟨S_, .f32⟩
  | 124 => ⟨S2x2x128, .f32⟩
  | 125 => ⟨S2x2x128, .f32⟩
  | 126 => ⟨S2x2x128, .f32⟩
  | 127 => ⟨S_, .f32⟩
  | _ => ⟨S2x3x256, .f32⟩

abbrev hbmTy0_1 (i : Nat) : BufTy := match i % 128 with
  | 0 => ⟨S2x2x128, .f32⟩
  | 1 => ⟨S2x2x128, .f32⟩
  | 2 => ⟨S2x2x128, .f32⟩
  | 3 => ⟨S_, .f32⟩
  | 4 => ⟨S2x2x128, .f32⟩
  | 5 => ⟨S2x2x128, .f32⟩
  | 6 => ⟨S2x2x128, .f32⟩
  | 7 => ⟨S_, .f32⟩
  | 8 => ⟨S2x2x128, .f32⟩
  | 9 => ⟨S2x2x128, .f32⟩
  | 10 => ⟨S_, .f32⟩
  | 11 => ⟨S2x2x128, .f32⟩
  | 12 => ⟨S2x2x128, .f32⟩
  | 13 => ⟨S_, .f32⟩
  | 14 => ⟨S2x2x128, .f32⟩
  | 15 => ⟨S2x2x128, .f32⟩
  | 16 => ⟨S2x2x128, .f32⟩
  | 17 => ⟨S_, .f32⟩
  | 18 => ⟨S2x2x128, .f32⟩
  | 19 => ⟨S2x2x128, .f32⟩
  | 20 => ⟨S2x2x128, .f32⟩
  | 21 => ⟨S_, .f32⟩
  | 22 => ⟨S2x2x128, .f32⟩
  | 23 => ⟨S2x2x128, .f32⟩
  | 24 => ⟨S2x2x128, .f32⟩
  | 25 => ⟨S_, .f32⟩
  | 26 => ⟨S2x2x128, .f32⟩
  | 27 => ⟨S2x2x128, .f32⟩
  | 28 => ⟨S_, .f32⟩
  | 29 => ⟨S2x2x128, .f32⟩
  | 30 => ⟨S2x2x128, .f32⟩
  | 31 => ⟨S2x2x128, .f32⟩
  | 32 => ⟨S_, .f32⟩
  | 33 => ⟨S2x2x128, .f32⟩
  | 34 => ⟨S2x2x128, .f32⟩
  | 35 => ⟨S2x2x128, .f32⟩
  | 36 => ⟨S_, .f32⟩
  | 37 => ⟨S2x2x128, .f32⟩
  | 38 => ⟨S2x2x128, .f32⟩
  | 39 => ⟨S2x2x128, .f32⟩
  | 40 => ⟨S_, .f32⟩
  | 41 => ⟨S2x2x128, .f32⟩
  | 42 => ⟨S2x2x128, .f32⟩
  | 43 => ⟨S_, .f32⟩
  | 44 => ⟨S2x1024, .f32⟩
  | 45 => ⟨S2x1024, .f32⟩
  | 46 => ⟨S_, .f32⟩
  | 47 => ⟨S2x1024, .f32⟩
  | 48 => ⟨S2x1024, .f32⟩
  | 49 => ⟨S2x1024, .f32⟩
  | 50 => ⟨S_, .f32⟩
  | 51 => ⟨S2x1024, .f32⟩
  | 52 => ⟨S2x1024, .f32⟩
  | 53 => ⟨S2x1024, .f32⟩
  | 54 => ⟨S_, .f32⟩
  | 55 => ⟨S2x1024, .f32⟩
  | 56 => ⟨S2x1024, .f32⟩
  | 57 => ⟨S2x1024, .f32⟩
  | 58 => ⟨S_, .f32⟩
  | 59 => ⟨S2x1024, .f32⟩
  | 60 => ⟨S2x1024, .f32⟩
  | 61 => ⟨S_, .f32⟩
  | 62 => ⟨S2x1024, .f32⟩
  | 63 => ⟨S2x1024, .f32⟩
  | 64 => ⟨S2x1024, .f32⟩
  | 65 => ⟨S_, .f32⟩
  | 66 => ⟨S2x1024, .f32⟩
  | 67 => ⟨S2x1024, .f32⟩
  | 68 => ⟨S2x1024, .f32⟩
  | 69 => ⟨S_, .f32⟩
  | 70 => ⟨S2x1024, .f32⟩
  | 71 => ⟨S2x1024, .f32⟩
  | 72 => ⟨S2x1024, .f32⟩
  | 73 => ⟨S_, .f32⟩
  | 74 => ⟨S2x1024, .f32⟩
  | 75 => ⟨S2x1024, .f32⟩
  | 76 => ⟨S_, .f32⟩
  | 77 => ⟨S2x384, .f32⟩
  | 78 => ⟨S2x384, .f32⟩
  | 79 => ⟨S_, .f32⟩
  | 80 => ⟨S2x384, .f32⟩
  | 81 => ⟨S2x384, .f32⟩
  | 82 => ⟨S2x384, .f32⟩
  | 83 => ⟨S_, .f32⟩
  | 84 => ⟨S2x384, .f32⟩
  | 85 => ⟨S2x384, .f32⟩
  | 86 => ⟨S2x384, .f32⟩
  | 87 => ⟨S_, .f32⟩
  | 88 => ⟨S2x384, .f32⟩
  | 89 => ⟨S2x384, .f32⟩
  | 90 => ⟨S2x384, .f32⟩
  | 91 => ⟨S_, .f32⟩
  | 92 => ⟨S2x384, .f32⟩
  | 93 => ⟨S2x384, .f32⟩
  | 94 => ⟨S_, .f32⟩
  | 95 => ⟨S2x384, .f32⟩
  | 96 => ⟨S2x384, .f32⟩
  | 97 => ⟨S2x384, .f32⟩
  | 98 => ⟨S_, .f32⟩
  | 99 => ⟨S2x384, .f32⟩
  | 100 => ⟨S2x384, .f32⟩
  | 101 => ⟨S2x384, .f32⟩
  | 102 => ⟨S_, .f32⟩
  | 103 => ⟨S2x384, .f32⟩
  | 104 => ⟨S2x384, .f32⟩
  | 105 => ⟨S2x384, .f32⟩
  | 106 => ⟨S_, .f32⟩
  | 107 => ⟨S2x384, .f32⟩
  | 108 => ⟨S2x384, .f32⟩
  | 109 => ⟨S_, .f32⟩
  | 110 => ⟨S2x256, .f32⟩
  | 111 => ⟨S2x256, .f32⟩
  | 112 => ⟨S_, .f32⟩
  | 113 => ⟨S2x256, .f32⟩
  | 114 => ⟨S2x256, .f32⟩
  | 115 => ⟨S2x256, .f32⟩
  | 116 => ⟨S_, .f32⟩
  | 117 => ⟨S2x256, .f32⟩
  | 118 => ⟨S2x256, .f32⟩
  | 119 => ⟨S2x256, .f32⟩
  | 120 => ⟨S_, .f32⟩
  | 121 => ⟨S2x256, .f32⟩
  | 122 => ⟨S2x256, .f32⟩
  | 123 => ⟨S2x256, .f32⟩
  | 124 => ⟨S_, .f32⟩
  | 125 => ⟨S2x256, .f32⟩
  | 126 => ⟨S2x256, .f32⟩
  | 127 => ⟨S_, .f32⟩
  | _ => ⟨S2x3x256, .f32⟩

abbrev hbmTy0_2 (i : Nat) : BufTy := match i % 128 with
  | 0 => ⟨S2x256, .f32⟩
  | 1 => ⟨S2x256, .f32⟩
  | 2 => ⟨S2x256, .f32⟩
  | 3 => ⟨S_, .f32⟩
  | 4 => ⟨S2x256, .f32⟩
  | 5 => ⟨S2x256, .f32⟩
  | 6 => ⟨S2x256, .f32⟩
  | 7 => ⟨S_, .f32⟩
  | 8 => ⟨S2x256, .f32⟩
  | 9 => ⟨S2x256, .f32⟩
  | 10 => ⟨S2x256, .f32⟩
  | 11 => ⟨S_, .f32⟩
  | 12 => ⟨S2x256, .f32⟩
  | 13 => ⟨S2x256, .f32⟩
  | 14 => ⟨S_, .f32⟩
  | 15 => ⟨S2x512, .f32⟩
  | 16 => ⟨S2x512, .f32⟩
  | 17 => ⟨S_, .f32⟩
  | 18 => ⟨S2x512, .f32⟩
  | 19 => ⟨S2x512, .f32⟩
  | 20 => ⟨S2x512, .f32⟩
  | 21 => ⟨S_, .f32⟩
  | 22 => ⟨S2x512, .f32⟩
  | 23 => ⟨S2x512, .f32⟩
  | 24 => ⟨S2x512, .f32⟩
  | 25 => ⟨S_, .f32⟩
  | 26 => ⟨S2x512, .f32⟩
  | 27 => ⟨S2x512, .f32⟩
  | 28 => ⟨S2x512, .f32⟩
  | 29 => ⟨S_, .f32⟩
  | 30 => ⟨S2x512, .f32⟩
  | 31 => ⟨S2x512, .f32⟩
  | 32 => ⟨S_, .f32⟩
  | 33 => ⟨S2x512, .f32⟩
  | 34 => ⟨S2x512, .f32⟩
  | 35 => ⟨S2x512, .f32⟩
  | 36 => ⟨S_, .f32⟩
  | 37 => ⟨S2x512, .f32⟩
  | 38 => ⟨S2x512, .f32⟩
  | 39 => ⟨S2x512, .f32⟩
  | 40 => ⟨S_, .f32⟩
  | 41 => ⟨S2x512, .f32⟩
  | 42 => ⟨S2x512, .f32⟩
  | 43 => ⟨S2x512, .f32⟩
  | 44 => ⟨S_, .f32⟩
  | 45 => ⟨S2x512, .f32⟩
  | 46 => ⟨S2x512, .f32⟩
  | 47 => ⟨S_, .f32⟩
  | 48 => ⟨S2x512, .f32⟩
  | 49 => ⟨S2x512, .f32⟩
  | 50 => ⟨S_, .f32⟩
  | 51 => ⟨S2x512, .f32⟩
  | 52 => ⟨S2x512, .f32⟩
  | 53 => ⟨S2x512, .f32⟩
  | 54 => ⟨S_, .f32⟩
  | 55 => ⟨S2x512, .f32⟩
  | 56 => ⟨S2x512, .f32⟩
  | 57 => ⟨S2x512, .f32⟩
  | 58 => ⟨S_, .f32⟩
  | 59 => ⟨S2x512, .f32⟩
  | 60 => ⟨S2x512, .f32⟩
  | 61 => ⟨S2x512, .f32⟩
  | 62 => ⟨S_, .f32⟩
  | 63 => ⟨S2x512, .f32⟩
  | 64 => ⟨S2x512, .f32⟩
  | 65 => ⟨S_, .f32⟩
  | 66 => ⟨S2x512, .f32⟩
  | 67 => ⟨S2x512, .f32⟩
  | 68 => ⟨S2x512, .f32⟩
  | 69 => ⟨S_, .f32⟩
  | 70 => ⟨S2x512, .f32⟩
  | 71 => ⟨S2x512, .f32⟩
  | 72 => ⟨S2x512, .f32⟩
  | 73 => ⟨S_, .f32⟩
  | 74 => ⟨S2x512, .f32⟩
  | 75 => ⟨S2x512, .f32⟩
  | 76 => ⟨S2x512, .f32⟩
  | 77 => ⟨S_, .f32⟩
  | 78 => ⟨S2x512, .f32⟩
  | 79 => ⟨S2x512, .f32⟩
  | 80 => ⟨S_, .f32⟩
  | 81 => ⟨S2x8x128x128, .f32⟩
  | 82 => ⟨S2x8x128x128, .f32⟩
  | 83 => ⟨S_, .f32⟩
  | 84 => ⟨S2x8x128x128, .f32⟩
  | 85 => ⟨S2x8x128x128, .f32⟩
  | 86 => ⟨S2x8x128x128, .f32⟩
  | 87 => ⟨S_, .f32⟩
  | 88 => ⟨S2x8x128x128, .f32⟩
  | 89 => ⟨S2x8x128x128, .f32⟩
  | 90 => ⟨S2x8x128x128, .f32⟩
  | 91 => ⟨S_, .f32⟩
  | 92 => ⟨S2x8x128x128, .f32⟩
  | 93 => ⟨S2x8x128x128, .f32⟩
  | 94 => ⟨S2x8x128x128, .f32⟩
  | 95 => ⟨S_, .f32⟩
  | 96 => ⟨S2x8x128x128, .f32⟩
  | 97 => ⟨S2x8x128x128, .f32⟩
  | 98 => ⟨S_, .f32⟩
  | 99 => ⟨S2x8x128x128, .f32⟩
  | 100 => ⟨S2x8x128x128, .f32⟩
  | 101 => ⟨S2x8x128x128, .f32⟩
  | 102 => ⟨S_, .f32⟩
  | 103 => ⟨S2x8x128x128, .f32⟩
  | 104 => ⟨S2x8x128x128, .f32⟩
  | 105 => ⟨S2x8x128x128, .f32⟩
  | 106 => ⟨S_, .f32⟩
  | 107 => ⟨S2x8x128x128, .f32⟩
  | 108 => ⟨S2x8x128x128, .f32⟩
  | 109 => ⟨S2x8x128x128, .f32⟩
  | 110 => ⟨S_, .f32⟩
  | 111 => ⟨S2x8x128x128, .f32⟩
  | 112 => ⟨S2x8x128x128, .f32⟩
  | 113 => ⟨S_, .f32⟩
  | 114 => ⟨S2x8x128, .f32⟩
  | 115 => ⟨S2x8x128, .f32⟩
  | 116 => ⟨S_, .f32⟩
  | 117 => ⟨S2x8x128, .f32⟩
  | 118 => ⟨S2x8x128, .f32⟩
  | 119 => ⟨S2x8x128, .f32⟩
  | 120 => ⟨S_, .f32⟩
  | 121 => ⟨S2x8x128, .f32⟩
  | 122 => ⟨S2x8x128, .f32⟩
  | 123 => ⟨S2x8x128, .f32⟩
  | 124 => ⟨S_, .f32⟩
  | 125 => ⟨S2x8x128, .f32⟩
  | 126 => ⟨S2x8x128, .f32⟩
  | 127 => ⟨S2x8x128, .f32⟩
  | _ => ⟨S2x3x256, .f32⟩

abbrev hbmTy0_3 (i : Nat) : BufTy := match i % 128 with
  | 0 => ⟨S_, .f32⟩
  | 1 => ⟨S2x8x128, .f32⟩
  | 2 => ⟨S2x8x128, .f32⟩
  | 3 => ⟨S_, .f32⟩
  | 4 => ⟨S2x8x128, .f32⟩
  | 5 => ⟨S2x8x128, .f32⟩
  | 6 => ⟨S2x8x128, .f32⟩
  | 7 => ⟨S_, .f32⟩
  | 8 => ⟨S2x8x128, .f32⟩
  | 9 => ⟨S2x8x128, .f32⟩
  | 10 => ⟨S2x8x128, .f32⟩
  | 11 => ⟨S_, .f32⟩
  | 12 => ⟨S2x8x128, .f32⟩
  | 13 => ⟨S2x8x128, .f32⟩
  | 14 => ⟨S2x8x128, .f32⟩
  | 15 => ⟨S_, .f32⟩
  | 16 => ⟨S2x8x128, .f32⟩
  | 17 => ⟨S2x8x128, .f32⟩
  | 18 => ⟨S_, .f32⟩
  | 19 => ⟨S2x1920, .f32⟩
  | 20 => ⟨S2x1920, .f32⟩
  | 21 => ⟨S_, .f32⟩
  | 22 => ⟨S2x1920, .f32⟩
  | 23 => ⟨S2x1920, .f32⟩
  | 24 => ⟨S2x1920, .f32⟩
  | 25 => ⟨S_, .f32⟩
  | 26 => ⟨S2x1920, .f32⟩
  | 27 => ⟨S2x1920, .f32⟩
  | 28 => ⟨S2x1920, .f32⟩
  | 29 => ⟨S_, .f32⟩
  | 30 => ⟨S2x1920, .f32⟩
  | 31 => ⟨S2x1920, .f32⟩
  | 32 => ⟨S2x1920, .f32⟩
  | 33 => ⟨S_, .f32⟩
  | 34 => ⟨S2x1920, .f32⟩
  | 35 => ⟨S2x1920, .f32⟩
  | 36 => ⟨S_, .f32⟩
  | 37 => ⟨S2x1920, .f32⟩
  | 38 => ⟨S2x1920, .f32⟩
  | 39 => ⟨S2x1920, .f32⟩
  | 40 => ⟨S_, .f32⟩
  | 41 => ⟨S2x1920, .f32⟩
  | 42 => ⟨S2x1920, .f32⟩
  | 43 => ⟨S2x1920, .f32⟩
  | 44 => ⟨S_, .f32⟩
  | 45 => ⟨S2x1920, .f32⟩
  | 46 => ⟨S2x1920, .f32⟩
  | 47 => ⟨S2x1920, .f32⟩
  | 48 => ⟨S_, .f32⟩
  | 49 => ⟨S2x1920, .f32⟩
  | 50 => ⟨S2x1920, .f32⟩
  | 51 => ⟨S_, .f32⟩
  | 52 => ⟨S2x512, .f32⟩
  | 53 => ⟨S2x512, .f32⟩
  | 54 => ⟨S_, .f32⟩
  | 55 => ⟨S2x512, .f32⟩
  | 56 => ⟨S2x512, .f32⟩
  | 57 => ⟨S2x512, .f32⟩
  | 58 => ⟨S_, .f32⟩
  | 59 => ⟨S2x512, .f32⟩
  | 60 => ⟨S2x512, .f32⟩
  | 61 => ⟨S2x512, .f32⟩
  | 62 => ⟨S_, .f32⟩
  | 63 => ⟨S2x512, .f32⟩
  | 64 => ⟨S2x512, .f32⟩
  | 65 => ⟨S2x512, .f32⟩
  | 66 => ⟨S_, .f32⟩
  | 67 => ⟨S2x512, .f32⟩
  | 68 => ⟨S2x512, .f32⟩
  | 69 => ⟨S_, .f32⟩
  | 70 => ⟨S2x512, .f32⟩
  | 71 => ⟨S2x512, .f32⟩
  | 72 => ⟨S2x512, .f32⟩
  | 73 => ⟨S_, .f32⟩
  | 74 => ⟨S2x512, .f32⟩
  | 75 => ⟨S2x512, .f32⟩
  | 76 => ⟨S2x512, .f32⟩
  | 77 => ⟨S_, .f32⟩
  | 78 => ⟨S2x512, .f32⟩
  | 79 => ⟨S2x512, .f32⟩
  | 80 => ⟨S2x512, .f32⟩
  | 81 => ⟨S_, .f32⟩
  | 82 => ⟨S2x512, .f32⟩
  | 83 => ⟨S2x512, .f32⟩
  | 84 => ⟨S_, .f32⟩
  | 85 => ⟨S2x512, .f32⟩
  | 86 => ⟨S2x512, .f32⟩
  | 87 => ⟨S_, .f32⟩
  | 88 => ⟨S2x512, .f32⟩
  | 89 => ⟨S2x512, .f32⟩
  | 90 => ⟨S2x512, .f32⟩
  | 91 => ⟨S_, .f32⟩
  | 92 => ⟨S2x512, .f32⟩
  | 93 => ⟨S2x512, .f32⟩
  | 94 => ⟨S2x512, .f32⟩
  | 95 => ⟨S_, .f32⟩
  | 96 => ⟨S2x512, .f32⟩
  | 97 => ⟨S2x512, .f32⟩
  | 98 => ⟨S2x512, .f32⟩
  | 99 => ⟨S_, .f32⟩
  | 100 => ⟨S2x512, .f32⟩
  | 101 => ⟨S2x512, .f32⟩
  | 102 => ⟨S_, .f32⟩
  | 103 => ⟨S2x512, .f32⟩
  | 104 => ⟨S2x512, .f32⟩
  | 105 => ⟨S2x512, .f32⟩
  | 106 => ⟨S_, .f32⟩
  | 107 => ⟨S2x512, .f32⟩
  | 108 => ⟨S2x512, .f32⟩
  | 109 => ⟨S2x512, .f32⟩
  | 110 => ⟨S_, .f32⟩
  | 111 => ⟨S2x512, .f32⟩
  | 112 => ⟨S2x512, .f32⟩
  | 113 => ⟨S2x512, .f32⟩
  | 114 => ⟨S_, .f32⟩
  | 115 => ⟨S2x512, .f32⟩
  | 116 => ⟨S2x512, .f32⟩
  | 117 => ⟨S_, .f32⟩
  | 118 => ⟨S2x8x64, .f32⟩
  | 119 => ⟨S2x8x64, .f32⟩
  | 120 => ⟨S_, .f32⟩
  | 121 => ⟨S2x8x64, .f32⟩
  | 122 => ⟨S2x8x64, .f32⟩
  | 123 => ⟨S2x8x64, .f32⟩
  | 124 => ⟨S_, .f32⟩
  | 125 => ⟨S2x8x64, .f32⟩
  | 126 => ⟨S2x8x64, .f32⟩
  | 127 => ⟨S2x8x64, .f32⟩
  | _ => ⟨S2x3x256, .f32⟩

abbrev hbmTy0_4 (i : Nat) : BufTy := match i % 128 with
  | 0 => ⟨S_, .f32⟩
  | 1 => ⟨S2x8x64, .f32⟩
  | 2 => ⟨S2x8x64, .f32⟩
  | 3 => ⟨S2x8x64, .f32⟩
  | 4 => ⟨S_, .f32⟩
  | 5 => ⟨S2x8x64, .f32⟩
  | 6 => ⟨S2x8x64, .f32⟩
  | 7 => ⟨S_, .f32⟩
  | 8 => ⟨S2x8x64, .f32⟩
  | 9 => ⟨S2x8x64, .f32⟩
  | 10 => ⟨S2x8x64, .f32⟩
  | 11 => ⟨S_, .f32⟩
  | 12 => ⟨S2x8x64, .f32⟩
  | 13 => ⟨S2x8x64, .f32⟩
  | 14 => ⟨S2x8x64, .f32⟩
  | 15 => ⟨S_, .f32⟩
  | 16 => ⟨S2x8x64, .f32⟩
  | 17 => ⟨S2x8x64, .f32⟩
  | 18 => ⟨S2x8x64, .f32⟩
  | 19 => ⟨S_, .f32⟩
  | 20 => ⟨S2x8x64, .f32⟩
  | 21 => ⟨S2x8x64, .f32⟩
  | 22 => ⟨S_, .f32⟩
  | 23 => ⟨S2x512, .f32⟩
  | 24 => ⟨S2x512, .f32⟩
  | 25 => ⟨S_, .f32⟩
  | 26 => ⟨S2x512, .f32⟩
  | 27 => ⟨S2x512, .f32⟩
  | 28 => ⟨S2x512, .f32⟩
  | 29 => ⟨S_, .f32⟩
  | 30 => ⟨S2x512, .f32⟩
  | 31 => ⟨S2x512, .f32⟩
  | 32 => ⟨S2x512, .f32⟩
  | 33 => ⟨S_, .f32⟩
  | 34 => ⟨S2x512, .f32⟩
  | 35 => ⟨S2x512, .f32⟩
  | 36 => ⟨S2x512, .f32⟩
  | 37 => ⟨S_, .f32⟩
  | 38 => ⟨S2x512, .f32⟩
  | 39 => ⟨S2x512, .f32⟩
  | 40 => ⟨S_, .f32⟩
  | 41 => ⟨S2x512, .f32⟩
  | 42 => ⟨S2x512, .f32⟩
  | 43 => ⟨S2x512, .f32⟩
  | 44 => ⟨S_, .f32⟩
  | 45 => ⟨S2x512, .f32⟩
  | 46 => ⟨S2x512, .f32⟩
  | 47 => ⟨S2x512, .f32⟩
  | 48 => ⟨S_, .f32⟩
  | 49 => ⟨S2x512, .f32⟩
  | 50 => ⟨S2x512, .f32⟩
  | 51 => ⟨S2x512, .f32⟩
  | 52 => ⟨S_, .f32⟩
  | 53 => ⟨S2x512, .f32⟩
  | 54 => ⟨S2x512, .f32⟩
  | 55 => ⟨S_, .f32⟩
  | 56 => ⟨S2x512, .f32⟩
  | 57 => ⟨S2x512, .f32⟩
  | 58 => ⟨S_, .f32⟩
  | 59 => ⟨S2x512, .f32⟩
  | 60 => ⟨S2x512, .f32⟩
  | 61 => ⟨S2x512, .f32⟩
  | 62 => ⟨S_, .f32⟩
  | 63 => ⟨S2x512, .f32⟩
  | 64 => ⟨S2x512, .f32⟩
  | 65 => ⟨S2x512, .f32⟩
  | 66 => ⟨S_, .f32⟩
  | 67 => ⟨S2x512, .f32⟩
  | 68 => ⟨S2x512, .f32⟩
  | 69 => ⟨S2x512, .f32⟩
  | 70 => ⟨S_, .f32⟩
  | 71 => ⟨S2x512, .f32⟩
  | 72 => ⟨S2x512, .f32⟩
  | 73 => ⟨S_, .f32⟩
  | 74 => ⟨S2x512, .f32⟩
  | 75 => ⟨S2x512, .f32⟩
  | 76 => ⟨S2x512, .f32⟩
  | 77 => ⟨S_, .f32⟩
  | 78 => ⟨S2x512, .f32⟩
  | 79 => ⟨S2x512, .f32⟩
  | 80 => ⟨S2x512, .f32⟩
  | 81 => ⟨S_, .f32⟩
  | 82 => ⟨S2x512, .f32⟩
  | 83 => ⟨S2x512, .f32⟩
  | 84 => ⟨S2x512, .f32⟩
  | 85 => ⟨S_, .f32⟩
  | 86 => ⟨S2x512, .f32⟩
  | 87 => ⟨S2x512, .f32⟩
  | 88 => ⟨S_, .f32⟩
  | 89 => ⟨S2x1024, .f32⟩
  | 90 => ⟨S2x1024, .f32⟩
  | 91 => ⟨S_, .f32⟩
  | 92 => ⟨S2x1024, .f32⟩
  | 93 => ⟨S2x1024, .f32⟩
  | 94 => ⟨S2x1024, .f32⟩
  | 95 => ⟨S_, .f32⟩
  | 96 => ⟨S2x1024, .f32⟩
  | 97 => ⟨S2x1024, .f32⟩
  | 98 => ⟨S2x1024, .f32⟩
  | 99 => ⟨S_, .f32⟩
  | 100 => ⟨S2x1024, .f32⟩
  | 101 => ⟨S2x1024, .f32⟩
  | 102 => ⟨S2x1024, .f32⟩
  | 103 => ⟨S_, .f32⟩
  | 104 => ⟨S2x1024, .f32⟩
  | 105 => ⟨S2x1024, .f32⟩
  | 106 => ⟨S_, .f32⟩
  | 107 => ⟨S2x1024, .f32⟩
  | 108 => ⟨S2x1024, .f32⟩
  | 109 => ⟨S2x1024, .f32⟩
  | 110 => ⟨S_, .f32⟩
  | 111 => ⟨S2x1024, .f32⟩
  | 112 => ⟨S2x1024, .f32⟩
  | 113 => ⟨S2x1024, .f32⟩
  | 114 => ⟨S_, .f32⟩
  | 115 => ⟨S2x1024, .f32⟩
  | 116 => ⟨S2x1024, .f32⟩
  | 117 => ⟨S2x1024, .f32⟩
  | 118 => ⟨S_, .f32⟩
  | 119 => ⟨S2x1024, .f32⟩
  | 120 => ⟨S2x1024, .f32⟩
  | 121 => ⟨S_, .f32⟩
  | 122 => ⟨S1024, .f32⟩
  | 123 => ⟨S1024, .f32⟩
  | 124 => ⟨S_, .f32⟩
  | 125 => ⟨S1024, .f32⟩
  | 126 => ⟨S1024, .f32⟩
  | 127 => ⟨S1024, .f32⟩
  | _ => ⟨S2x3x256, .f32⟩

abbrev hbmTy0_5 (i : Nat) : BufTy := match i % 128 with
  | 0 => ⟨S_, .f32⟩
  | 1 => ⟨S1024, .f32⟩
  | 2 => ⟨S1024, .f32⟩
  | 3 => ⟨S1024, .f32⟩
  | 4 => ⟨S_, .f32⟩
  | 5 => ⟨S1024, .f32⟩
  | 6 => ⟨S1024, .f32⟩
  | 7 => ⟨S1024, .f32⟩
  | 8 => ⟨S_, .f32⟩
  | 9 => ⟨S1024, .f32⟩
  | 10 => ⟨S1024, .f32⟩
  | 11 => ⟨S_, .f32⟩
  | 12 => ⟨S1024, .f32⟩
  | 13 => ⟨S1024, .f32⟩
  | 14 => ⟨S1024, .f32⟩
  | 15 => ⟨S_, .f32⟩
  | 16 => ⟨S1024, .f32⟩
  | 17 => ⟨S1024, .f32⟩
  | 18 => ⟨S1024, .f32⟩
  | 19 => ⟨S_, .f32⟩
  | 20 => ⟨S1024, .f32⟩
  | 21 => ⟨S1024, .f32⟩
  | 22 => ⟨S1024, .f32⟩
  | 23 => ⟨S_, .f32⟩
  | 24 => ⟨S1024, .f32⟩
  | 25 => ⟨S1024, .f32⟩
  | _ => ⟨S2x3x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S2x3x256, .f32⟩

abbrev bufTy : (tb : Table) → Fin (tcTables nBuf tb) → BufTy
  | .hbm, ⟨i, _⟩ => hbmTy i
  | _, _ => ⟨S2x3x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_arg56 : Ref sig .tc := ⟨.hbm, 56, rfl⟩
abbrev main_arg57 : Ref sig .tc := ⟨.hbm, 57, rfl⟩
abbrev main_arg58 : Ref sig .tc := ⟨.hbm, 58, rfl⟩
abbrev main_arg59 : Ref sig .tc := ⟨.hbm, 59, rfl⟩
abbrev main_arg60 : Ref sig .tc := ⟨.hbm, 60, rfl⟩
abbrev main_arg61 : Ref sig .tc := ⟨.hbm, 61, rfl⟩
abbrev main_arg62 : Ref sig .tc := ⟨.hbm, 62, rfl⟩
abbrev main_arg63 : Ref sig .tc := ⟨.hbm, 63, rfl⟩
abbrev main_arg64 : Ref sig .tc := ⟨.hbm, 64, rfl⟩
abbrev main_arg65 : Ref sig .tc := ⟨.hbm, 65, rfl⟩
abbrev main_arg66 : Ref sig .tc := ⟨.hbm, 66, rfl⟩
abbrev main_arg67 : Ref sig .tc := ⟨.hbm, 67, rfl⟩
abbrev main_arg68 : Ref sig .tc := ⟨.hbm, 68, rfl⟩
abbrev main_arg69 : Ref sig .tc := ⟨.hbm, 69, rfl⟩
abbrev main_arg70 : Ref sig .tc := ⟨.hbm, 70, rfl⟩
abbrev main_arg71 : Ref sig .tc := ⟨.hbm, 71, rfl⟩
abbrev main_cst : Ref sig .tc := ⟨.hbm, 72, rfl⟩
abbrev main_v0 : Ref sig .tc := ⟨.hbm, 73, rfl⟩
abbrev main_v1 : Ref sig .tc := ⟨.hbm, 74, rfl⟩
abbrev main_cst_0 : Ref sig .tc := ⟨.hbm, 75, rfl⟩
abbrev main_v2 : Ref sig .tc := ⟨.hbm, 76, rfl⟩
abbrev main_v3 : Ref sig .tc := ⟨.hbm, 77, rfl⟩
abbrev main_v4 : Ref sig .tc := ⟨.hbm, 78, rfl⟩
abbrev main_cst_1 : Ref sig .tc := ⟨.hbm, 79, rfl⟩
abbrev main_v5 : Ref sig .tc := ⟨.hbm, 80, rfl⟩
abbrev main_v6 : Ref sig .tc := ⟨.hbm, 81, rfl⟩
abbrev main_v7 : Ref sig .tc := ⟨.hbm, 82, rfl⟩
abbrev main_cst_2 : Ref sig .tc := ⟨.hbm, 83, rfl⟩
abbrev main_v8 : Ref sig .tc := ⟨.hbm, 84, rfl⟩
abbrev main_v9 : Ref sig .tc := ⟨.hbm, 85, rfl⟩
abbrev main_v10 : Ref sig .tc := ⟨.hbm, 86, rfl⟩
abbrev main_cst_3 : Ref sig .tc := ⟨.hbm, 87, rfl⟩
abbrev main_v11 : Ref sig .tc := ⟨.hbm, 88, rfl⟩
abbrev main_v12 : Ref sig .tc := ⟨.hbm, 89, rfl⟩
abbrev main_cst_4 : Ref sig .tc := ⟨.hbm, 90, rfl⟩
abbrev main_v13 : Ref sig .tc := ⟨.hbm, 91, rfl⟩
abbrev main_v14 : Ref sig .tc := ⟨.hbm, 92, rfl⟩
abbrev main_v15 : Ref sig .tc := ⟨.hbm, 93, rfl⟩
abbrev main_cst_5 : Ref sig .tc := ⟨.hbm, 94, rfl⟩
abbrev main_v16 : Ref sig .tc := ⟨.hbm, 95, rfl⟩
abbrev main_v17 : Ref sig .tc := ⟨.hbm, 96, rfl⟩
abbrev main_v18 : Ref sig .tc := ⟨.hbm, 97, rfl⟩
abbrev main_cst_6 : Ref sig .tc := ⟨.hbm, 98, rfl⟩
abbrev main_v19 : Ref sig .tc := ⟨.hbm, 99, rfl⟩
abbrev main_v20 : Ref sig .tc := ⟨.hbm, 100, rfl⟩
abbrev main_v21 : Ref sig .tc := ⟨.hbm, 101, rfl⟩
abbrev main_cst_7 : Ref sig .tc := ⟨.hbm, 102, rfl⟩
abbrev main_v22 : Ref sig .tc := ⟨.hbm, 103, rfl⟩
abbrev main_v23 : Ref sig .tc := ⟨.hbm, 104, rfl⟩
abbrev main_cst_8 : Ref sig .tc := ⟨.hbm, 105, rfl⟩
abbrev main_v24 : Ref sig .tc := ⟨.hbm, 106, rfl⟩
abbrev main_v25 : Ref sig .tc := ⟨.hbm, 107, rfl⟩
abbrev main_cst_9 : Ref sig .tc := ⟨.hbm, 108, rfl⟩
abbrev main_v26 : Ref sig .tc := ⟨.hbm, 109, rfl⟩
abbrev main_v27 : Ref sig .tc := ⟨.hbm, 110, rfl⟩
abbrev main_v28 : Ref sig .tc := ⟨.hbm, 111, rfl⟩
abbrev main_cst_10 : Ref sig .tc := ⟨.hbm, 112, rfl⟩
abbrev main_v29 : Ref sig .tc := ⟨.hbm, 113, rfl⟩
abbrev main_v30 : Ref sig .tc := ⟨.hbm, 114, rfl⟩
abbrev main_v31 : Ref sig .tc := ⟨.hbm, 115, rfl⟩
abbrev main_cst_11 : Ref sig .tc := ⟨.hbm, 116, rfl⟩
abbrev main_v32 : Ref sig .tc := ⟨.hbm, 117, rfl⟩
abbrev main_v33 : Ref sig .tc := ⟨.hbm, 118, rfl⟩
abbrev main_v34 : Ref sig .tc := ⟨.hbm, 119, rfl⟩
abbrev main_cst_12 : Ref sig .tc := ⟨.hbm, 120, rfl⟩
abbrev main_v35 : Ref sig .tc := ⟨.hbm, 121, rfl⟩
abbrev main_v36 : Ref sig .tc := ⟨.hbm, 122, rfl⟩
abbrev main_cst_13 : Ref sig .tc := ⟨.hbm, 123, rfl⟩
abbrev main_v37 : Ref sig .tc := ⟨.hbm, 124, rfl⟩
abbrev main_v38 : Ref sig .tc := ⟨.hbm, 125, rfl⟩
abbrev main_v39 : Ref sig .tc := ⟨.hbm, 126, rfl⟩
abbrev main_cst_14 : Ref sig .tc := ⟨.hbm, 127, rfl⟩
abbrev main_v40 : Ref sig .tc := ⟨.hbm, 128, rfl⟩
abbrev main_v41 : Ref sig .tc := ⟨.hbm, 129, rfl⟩
abbrev main_v42 : Ref sig .tc := ⟨.hbm, 130, rfl⟩
abbrev main_cst_15 : Ref sig .tc := ⟨.hbm, 131, rfl⟩
abbrev main_v43 : Ref sig .tc := ⟨.hbm, 132, rfl⟩
abbrev main_v44 : Ref sig .tc := ⟨.hbm, 133, rfl⟩
abbrev main_v45 : Ref sig .tc := ⟨.hbm, 134, rfl⟩
abbrev main_cst_16 : Ref sig .tc := ⟨.hbm, 135, rfl⟩
abbrev main_v46 : Ref sig .tc := ⟨.hbm, 136, rfl⟩
abbrev main_v47 : Ref sig .tc := ⟨.hbm, 137, rfl⟩
abbrev main_cst_17 : Ref sig .tc := ⟨.hbm, 138, rfl⟩
abbrev main_v48 : Ref sig .tc := ⟨.hbm, 139, rfl⟩
abbrev main_v49 : Ref sig .tc := ⟨.hbm, 140, rfl⟩
abbrev main_cst_18 : Ref sig .tc := ⟨.hbm, 141, rfl⟩
abbrev main_v50 : Ref sig .tc := ⟨.hbm, 142, rfl⟩
abbrev main_v51 : Ref sig .tc := ⟨.hbm, 143, rfl⟩
abbrev main_v52 : Ref sig .tc := ⟨.hbm, 144, rfl⟩
abbrev main_cst_19 : Ref sig .tc := ⟨.hbm, 145, rfl⟩
abbrev main_v53 : Ref sig .tc := ⟨.hbm, 146, rfl⟩
abbrev main_v54 : Ref sig .tc := ⟨.hbm, 147, rfl⟩
abbrev main_v55 : Ref sig .tc := ⟨.hbm, 148, rfl⟩
abbrev main_cst_20 : Ref sig .tc := ⟨.hbm, 149, rfl⟩
abbrev main_v56 : Ref sig .tc := ⟨.hbm, 150, rfl⟩
abbrev main_v57 : Ref sig .tc := ⟨.hbm, 151, rfl⟩
abbrev main_v58 : Ref sig .tc := ⟨.hbm, 152, rfl⟩
abbrev main_cst_21 : Ref sig .tc := ⟨.hbm, 153, rfl⟩
abbrev main_v59 : Ref sig .tc := ⟨.hbm, 154, rfl⟩
abbrev main_v60 : Ref sig .tc := ⟨.hbm, 155, rfl⟩
abbrev main_cst_22 : Ref sig .tc := ⟨.hbm, 156, rfl⟩
abbrev main_v61 : Ref sig .tc := ⟨.hbm, 157, rfl⟩
abbrev main_v62 : Ref sig .tc := ⟨.hbm, 158, rfl⟩
abbrev main_v63 : Ref sig .tc := ⟨.hbm, 159, rfl⟩
abbrev main_cst_23 : Ref sig .tc := ⟨.hbm, 160, rfl⟩
abbrev main_v64 : Ref sig .tc := ⟨.hbm, 161, rfl⟩
abbrev main_v65 : Ref sig .tc := ⟨.hbm, 162, rfl⟩
abbrev main_v66 : Ref sig .tc := ⟨.hbm, 163, rfl⟩
abbrev main_cst_24 : Ref sig .tc := ⟨.hbm, 164, rfl⟩
abbrev main_v67 : Ref sig .tc := ⟨.hbm, 165, rfl⟩
abbrev main_v68 : Ref sig .tc := ⟨.hbm, 166, rfl⟩
abbrev main_v69 : Ref sig .tc := ⟨.hbm, 167, rfl⟩
abbrev main_cst_25 : Ref sig .tc := ⟨.hbm, 168, rfl⟩
abbrev main_v70 : Ref sig .tc := ⟨.hbm, 169, rfl⟩
abbrev main_v71 : Ref sig .tc := ⟨.hbm, 170, rfl⟩
abbrev main_cst_26 : Ref sig .tc := ⟨.hbm, 171, rfl⟩
abbrev main_v72 : Ref sig .tc := ⟨.hbm, 172, rfl⟩
abbrev main_v73 : Ref sig .tc := ⟨.hbm, 173, rfl⟩
abbrev main_cst_27 : Ref sig .tc := ⟨.hbm, 174, rfl⟩
abbrev main_v74 : Ref sig .tc := ⟨.hbm, 175, rfl⟩
abbrev main_v75 : Ref sig .tc := ⟨.hbm, 176, rfl⟩
abbrev main_v76 : Ref sig .tc := ⟨.hbm, 177, rfl⟩
abbrev main_cst_28 : Ref sig .tc := ⟨.hbm, 178, rfl⟩
abbrev main_v77 : Ref sig .tc := ⟨.hbm, 179, rfl⟩
abbrev main_v78 : Ref sig .tc := ⟨.hbm, 180, rfl⟩
abbrev main_v79 : Ref sig .tc := ⟨.hbm, 181, rfl⟩
abbrev main_cst_29 : Ref sig .tc := ⟨.hbm, 182, rfl⟩
abbrev main_v80 : Ref sig .tc := ⟨.hbm, 183, rfl⟩
abbrev main_v81 : Ref sig .tc := ⟨.hbm, 184, rfl⟩
abbrev main_v82 : Ref sig .tc := ⟨.hbm, 185, rfl⟩
abbrev main_cst_30 : Ref sig .tc := ⟨.hbm, 186, rfl⟩
abbrev main_v83 : Ref sig .tc := ⟨.hbm, 187, rfl⟩
abbrev main_v84 : Ref sig .tc := ⟨.hbm, 188, rfl⟩
abbrev main_cst_31 : Ref sig .tc := ⟨.hbm, 189, rfl⟩
abbrev main_v85 : Ref sig .tc := ⟨.hbm, 190, rfl⟩
abbrev main_v86 : Ref sig .tc := ⟨.hbm, 191, rfl⟩
abbrev main_v87 : Ref sig .tc := ⟨.hbm, 192, rfl⟩
abbrev main_cst_32 : Ref sig .tc := ⟨.hbm, 193, rfl⟩
abbrev main_v88 : Ref sig .tc := ⟨.hbm, 194, rfl⟩
abbrev main_v89 : Ref sig .tc := ⟨.hbm, 195, rfl⟩
abbrev main_v90 : Ref sig .tc := ⟨.hbm, 196, rfl⟩
abbrev main_cst_33 : Ref sig .tc := ⟨.hbm, 197, rfl⟩
abbrev main_v91 : Ref sig .tc := ⟨.hbm, 198, rfl⟩
abbrev main_v92 : Ref sig .tc := ⟨.hbm, 199, rfl⟩
abbrev main_v93 : Ref sig .tc := ⟨.hbm, 200, rfl⟩
abbrev main_cst_34 : Ref sig .tc := ⟨.hbm, 201, rfl⟩
abbrev main_v94 : Ref sig .tc := ⟨.hbm, 202, rfl⟩
abbrev main_v95 : Ref sig .tc := ⟨.hbm, 203, rfl⟩
abbrev main_cst_35 : Ref sig .tc := ⟨.hbm, 204, rfl⟩
abbrev main_v96 : Ref sig .tc := ⟨.hbm, 205, rfl⟩
abbrev main_v97 : Ref sig .tc := ⟨.hbm, 206, rfl⟩
abbrev main_cst_36 : Ref sig .tc := ⟨.hbm, 207, rfl⟩
abbrev main_v98 : Ref sig .tc := ⟨.hbm, 208, rfl⟩
abbrev main_v99 : Ref sig .tc := ⟨.hbm, 209, rfl⟩
abbrev main_v100 : Ref sig .tc := ⟨.hbm, 210, rfl⟩
abbrev main_cst_37 : Ref sig .tc := ⟨.hbm, 211, rfl⟩
abbrev main_v101 : Ref sig .tc := ⟨.hbm, 212, rfl⟩
abbrev main_v102 : Ref sig .tc := ⟨.hbm, 213, rfl⟩
abbrev main_v103 : Ref sig .tc := ⟨.hbm, 214, rfl⟩
abbrev main_cst_38 : Ref sig .tc := ⟨.hbm, 215, rfl⟩
abbrev main_v104 : Ref sig .tc := ⟨.hbm, 216, rfl⟩
abbrev main_v105 : Ref sig .tc := ⟨.hbm, 217, rfl⟩
abbrev main_v106 : Ref sig .tc := ⟨.hbm, 218, rfl⟩
abbrev main_cst_39 : Ref sig .tc := ⟨.hbm, 219, rfl⟩
abbrev main_v107 : Ref sig .tc := ⟨.hbm, 220, rfl⟩
abbrev main_v108 : Ref sig .tc := ⟨.hbm, 221, rfl⟩
abbrev main_cst_40 : Ref sig .tc := ⟨.hbm, 222, rfl⟩
abbrev main_v109 : Ref sig .tc := ⟨.hbm, 223, rfl⟩
abbrev main_v110 : Ref sig .tc := ⟨.hbm, 224, rfl⟩
abbrev main_v111 : Ref sig .tc := ⟨.hbm, 225, rfl⟩
abbrev main_cst_41 : Ref sig .tc := ⟨.hbm, 226, rfl⟩
abbrev main_v112 : Ref sig .tc := ⟨.hbm, 227, rfl⟩
abbrev main_v113 : Ref sig .tc := ⟨.hbm, 228, rfl⟩
abbrev main_v114 : Ref sig .tc := ⟨.hbm, 229, rfl⟩
abbrev main_cst_42 : Ref sig .tc := ⟨.hbm, 230, rfl⟩
abbrev main_v115 : Ref sig .tc := ⟨.hbm, 231, rfl⟩
abbrev main_v116 : Ref sig .tc := ⟨.hbm, 232, rfl⟩
abbrev main_v117 : Ref sig .tc := ⟨.hbm, 233, rfl⟩
abbrev main_cst_43 : Ref sig .tc := ⟨.hbm, 234, rfl⟩
abbrev main_v118 : Ref sig .tc := ⟨.hbm, 235, rfl⟩
abbrev main_v119 : Ref sig .tc := ⟨.hbm, 236, rfl⟩
abbrev main_cst_44 : Ref sig .tc := ⟨.hbm, 237, rfl⟩
abbrev main_v120 : Ref sig .tc := ⟨.hbm, 238, rfl⟩
abbrev main_v121 : Ref sig .tc := ⟨.hbm, 239, rfl⟩
abbrev main_cst_45 : Ref sig .tc := ⟨.hbm, 240, rfl⟩
abbrev main_v122 : Ref sig .tc := ⟨.hbm, 241, rfl⟩
abbrev main_v123 : Ref sig .tc := ⟨.hbm, 242, rfl⟩
abbrev main_v124 : Ref sig .tc := ⟨.hbm, 243, rfl⟩
abbrev main_cst_46 : Ref sig .tc := ⟨.hbm, 244, rfl⟩
abbrev main_v125 : Ref sig .tc := ⟨.hbm, 245, rfl⟩
abbrev main_v126 : Ref sig .tc := ⟨.hbm, 246, rfl⟩
abbrev main_v127 : Ref sig .tc := ⟨.hbm, 247, rfl⟩
abbrev main_cst_47 : Ref sig .tc := ⟨.hbm, 248, rfl⟩
abbrev main_v128 : Ref sig .tc := ⟨.hbm, 249, rfl⟩
abbrev main_v129 : Ref sig .tc := ⟨.hbm, 250, rfl⟩
abbrev main_v130 : Ref sig .tc := ⟨.hbm, 251, rfl⟩
abbrev main_cst_48 : Ref sig .tc := ⟨.hbm, 252, rfl⟩
abbrev main_v131 : Ref sig .tc := ⟨.hbm, 253, rfl⟩
abbrev main_v132 : Ref sig .tc := ⟨.hbm, 254, rfl⟩
abbrev main_cst_49 : Ref sig .tc := ⟨.hbm, 255, rfl⟩
abbrev main_v133 : Ref sig .tc := ⟨.hbm, 256, rfl⟩
abbrev main_v134 : Ref sig .tc := ⟨.hbm, 257, rfl⟩
abbrev main_v135 : Ref sig .tc := ⟨.hbm, 258, rfl⟩
abbrev main_cst_50 : Ref sig .tc := ⟨.hbm, 259, rfl⟩
abbrev main_v136 : Ref sig .tc := ⟨.hbm, 260, rfl⟩
abbrev main_v137 : Ref sig .tc := ⟨.hbm, 261, rfl⟩
abbrev main_v138 : Ref sig .tc := ⟨.hbm, 262, rfl⟩
abbrev main_cst_51 : Ref sig .tc := ⟨.hbm, 263, rfl⟩
abbrev main_v139 : Ref sig .tc := ⟨.hbm, 264, rfl⟩
abbrev main_v140 : Ref sig .tc := ⟨.hbm, 265, rfl⟩
abbrev main_v141 : Ref sig .tc := ⟨.hbm, 266, rfl⟩
abbrev main_cst_52 : Ref sig .tc := ⟨.hbm, 267, rfl⟩
abbrev main_v142 : Ref sig .tc := ⟨.hbm, 268, rfl⟩
abbrev main_v143 : Ref sig .tc := ⟨.hbm, 269, rfl⟩
abbrev main_cst_53 : Ref sig .tc := ⟨.hbm, 270, rfl⟩
abbrev main_v144 : Ref sig .tc := ⟨.hbm, 271, rfl⟩
abbrev main_v145 : Ref sig .tc := ⟨.hbm, 272, rfl⟩
abbrev main_cst_54 : Ref sig .tc := ⟨.hbm, 273, rfl⟩
abbrev main_v146 : Ref sig .tc := ⟨.hbm, 274, rfl⟩
abbrev main_v147 : Ref sig .tc := ⟨.hbm, 275, rfl⟩
abbrev main_v148 : Ref sig .tc := ⟨.hbm, 276, rfl⟩
abbrev main_cst_55 : Ref sig .tc := ⟨.hbm, 277, rfl⟩
abbrev main_v149 : Ref sig .tc := ⟨.hbm, 278, rfl⟩
abbrev main_v150 : Ref sig .tc := ⟨.hbm, 279, rfl⟩
abbrev main_v151 : Ref sig .tc := ⟨.hbm, 280, rfl⟩
abbrev main_cst_56 : Ref sig .tc := ⟨.hbm, 281, rfl⟩
abbrev main_v152 : Ref sig .tc := ⟨.hbm, 282, rfl⟩
abbrev main_v153 : Ref sig .tc := ⟨.hbm, 283, rfl⟩
abbrev main_v154 : Ref sig .tc := ⟨.hbm, 284, rfl⟩
abbrev main_cst_57 : Ref sig .tc := ⟨.hbm, 285, rfl⟩
abbrev main_v155 : Ref sig .tc := ⟨.hbm, 286, rfl⟩
abbrev main_v156 : Ref sig .tc := ⟨.hbm, 287, rfl⟩
abbrev main_cst_58 : Ref sig .tc := ⟨.hbm, 288, rfl⟩
abbrev main_v157 : Ref sig .tc := ⟨.hbm, 289, rfl⟩
abbrev main_v158 : Ref sig .tc := ⟨.hbm, 290, rfl⟩
abbrev main_v159 : Ref sig .tc := ⟨.hbm, 291, rfl⟩
abbrev main_cst_59 : Ref sig .tc := ⟨.hbm, 292, rfl⟩
abbrev main_v160 : Ref sig .tc := ⟨.hbm, 293, rfl⟩
abbrev main_v161 : Ref sig .tc := ⟨.hbm, 294, rfl⟩
abbrev main_v162 : Ref sig .tc := ⟨.hbm, 295, rfl⟩
abbrev main_cst_60 : Ref sig .tc := ⟨.hbm, 296, rfl⟩
abbrev main_v163 : Ref sig .tc := ⟨.hbm, 297, rfl⟩
abbrev main_v164 : Ref sig .tc := ⟨.hbm, 298, rfl⟩
abbrev main_v165 : Ref sig .tc := ⟨.hbm, 299, rfl⟩
abbrev main_cst_61 : Ref sig .tc := ⟨.hbm, 300, rfl⟩
abbrev main_v166 : Ref sig .tc := ⟨.hbm, 301, rfl⟩
abbrev main_v167 : Ref sig .tc := ⟨.hbm, 302, rfl⟩
abbrev main_cst_62 : Ref sig .tc := ⟨.hbm, 303, rfl⟩
abbrev main_v168 : Ref sig .tc := ⟨.hbm, 304, rfl⟩
abbrev main_v169 : Ref sig .tc := ⟨.hbm, 305, rfl⟩
abbrev main_cst_63 : Ref sig .tc := ⟨.hbm, 306, rfl⟩
abbrev main_v170 : Ref sig .tc := ⟨.hbm, 307, rfl⟩
abbrev main_v171 : Ref sig .tc := ⟨.hbm, 308, rfl⟩
abbrev main_v172 : Ref sig .tc := ⟨.hbm, 309, rfl⟩
abbrev main_cst_64 : Ref sig .tc := ⟨.hbm, 310, rfl⟩
abbrev main_v173 : Ref sig .tc := ⟨.hbm, 311, rfl⟩
abbrev main_v174 : Ref sig .tc := ⟨.hbm, 312, rfl⟩
abbrev main_v175 : Ref sig .tc := ⟨.hbm, 313, rfl⟩
abbrev main_cst_65 : Ref sig .tc := ⟨.hbm, 314, rfl⟩
abbrev main_v176 : Ref sig .tc := ⟨.hbm, 315, rfl⟩
abbrev main_v177 : Ref sig .tc := ⟨.hbm, 316, rfl⟩
abbrev main_v178 : Ref sig .tc := ⟨.hbm, 317, rfl⟩
abbrev main_cst_66 : Ref sig .tc := ⟨.hbm, 318, rfl⟩
abbrev main_v179 : Ref sig .tc := ⟨.hbm, 319, rfl⟩
abbrev main_v180 : Ref sig .tc := ⟨.hbm, 320, rfl⟩
abbrev main_cst_67 : Ref sig .tc := ⟨.hbm, 321, rfl⟩
abbrev main_v181 : Ref sig .tc := ⟨.hbm, 322, rfl⟩
abbrev main_v182 : Ref sig .tc := ⟨.hbm, 323, rfl⟩
abbrev main_v183 : Ref sig .tc := ⟨.hbm, 324, rfl⟩
abbrev main_cst_68 : Ref sig .tc := ⟨.hbm, 325, rfl⟩
abbrev main_v184 : Ref sig .tc := ⟨.hbm, 326, rfl⟩
abbrev main_v185 : Ref sig .tc := ⟨.hbm, 327, rfl⟩
abbrev main_v186 : Ref sig .tc := ⟨.hbm, 328, rfl⟩
abbrev main_cst_69 : Ref sig .tc := ⟨.hbm, 329, rfl⟩
abbrev main_v187 : Ref sig .tc := ⟨.hbm, 330, rfl⟩
abbrev main_v188 : Ref sig .tc := ⟨.hbm, 331, rfl⟩
abbrev main_v189 : Ref sig .tc := ⟨.hbm, 332, rfl⟩
abbrev main_cst_70 : Ref sig .tc := ⟨.hbm, 333, rfl⟩
abbrev main_v190 : Ref sig .tc := ⟨.hbm, 334, rfl⟩
abbrev main_v191 : Ref sig .tc := ⟨.hbm, 335, rfl⟩
abbrev main_cst_71 : Ref sig .tc := ⟨.hbm, 336, rfl⟩
abbrev main_v192 : Ref sig .tc := ⟨.hbm, 337, rfl⟩
abbrev main_v193 : Ref sig .tc := ⟨.hbm, 338, rfl⟩
abbrev main_cst_72 : Ref sig .tc := ⟨.hbm, 339, rfl⟩
abbrev main_v194 : Ref sig .tc := ⟨.hbm, 340, rfl⟩
abbrev main_v195 : Ref sig .tc := ⟨.hbm, 341, rfl⟩
abbrev main_v196 : Ref sig .tc := ⟨.hbm, 342, rfl⟩
abbrev main_cst_73 : Ref sig .tc := ⟨.hbm, 343, rfl⟩
abbrev main_v197 : Ref sig .tc := ⟨.hbm, 344, rfl⟩
abbrev main_v198 : Ref sig .tc := ⟨.hbm, 345, rfl⟩
abbrev main_v199 : Ref sig .tc := ⟨.hbm, 346, rfl⟩
abbrev main_cst_74 : Ref sig .tc := ⟨.hbm, 347, rfl⟩
abbrev main_v200 : Ref sig .tc := ⟨.hbm, 348, rfl⟩
abbrev main_v201 : Ref sig .tc := ⟨.hbm, 349, rfl⟩
abbrev main_v202 : Ref sig .tc := ⟨.hbm, 350, rfl⟩
abbrev main_cst_75 : Ref sig .tc := ⟨.hbm, 351, rfl⟩
abbrev main_v203 : Ref sig .tc := ⟨.hbm, 352, rfl⟩
abbrev main_v204 : Ref sig .tc := ⟨.hbm, 353, rfl⟩
abbrev main_cst_76 : Ref sig .tc := ⟨.hbm, 354, rfl⟩
abbrev main_v205 : Ref sig .tc := ⟨.hbm, 355, rfl⟩
abbrev main_v206 : Ref sig .tc := ⟨.hbm, 356, rfl⟩
abbrev main_v207 : Ref sig .tc := ⟨.hbm, 357, rfl⟩
abbrev main_cst_77 : Ref sig .tc := ⟨.hbm, 358, rfl⟩
abbrev main_v208 : Ref sig .tc := ⟨.hbm, 359, rfl⟩
abbrev main_v209 : Ref sig .tc := ⟨.hbm, 360, rfl⟩
abbrev main_v210 : Ref sig .tc := ⟨.hbm, 361, rfl⟩
abbrev main_cst_78 : Ref sig .tc := ⟨.hbm, 362, rfl⟩
abbrev main_v211 : Ref sig .tc := ⟨.hbm, 363, rfl⟩
abbrev main_v212 : Ref sig .tc := ⟨.hbm, 364, rfl⟩
abbrev main_v213 : Ref sig .tc := ⟨.hbm, 365, rfl⟩
abbrev main_cst_79 : Ref sig .tc := ⟨.hbm, 366, rfl⟩
abbrev main_v214 : Ref sig .tc := ⟨.hbm, 367, rfl⟩
abbrev main_v215 : Ref sig .tc := ⟨.hbm, 368, rfl⟩
abbrev main_cst_80 : Ref sig .tc := ⟨.hbm, 369, rfl⟩
abbrev main_v216 : Ref sig .tc := ⟨.hbm, 370, rfl⟩
abbrev main_v217 : Ref sig .tc := ⟨.hbm, 371, rfl⟩
abbrev main_cst_81 : Ref sig .tc := ⟨.hbm, 372, rfl⟩
abbrev main_v218 : Ref sig .tc := ⟨.hbm, 373, rfl⟩
abbrev main_v219 : Ref sig .tc := ⟨.hbm, 374, rfl⟩
abbrev main_v220 : Ref sig .tc := ⟨.hbm, 375, rfl⟩
abbrev main_cst_82 : Ref sig .tc := ⟨.hbm, 376, rfl⟩
abbrev main_v221 : Ref sig .tc := ⟨.hbm, 377, rfl⟩
abbrev main_v222 : Ref sig .tc := ⟨.hbm, 378, rfl⟩
abbrev main_v223 : Ref sig .tc := ⟨.hbm, 379, rfl⟩
abbrev main_cst_83 : Ref sig .tc := ⟨.hbm, 380, rfl⟩
abbrev main_v224 : Ref sig .tc := ⟨.hbm, 381, rfl⟩
abbrev main_v225 : Ref sig .tc := ⟨.hbm, 382, rfl⟩
abbrev main_v226 : Ref sig .tc := ⟨.hbm, 383, rfl⟩
abbrev main_cst_84 : Ref sig .tc := ⟨.hbm, 384, rfl⟩
abbrev main_v227 : Ref sig .tc := ⟨.hbm, 385, rfl⟩
abbrev main_v228 : Ref sig .tc := ⟨.hbm, 386, rfl⟩
abbrev main_cst_85 : Ref sig .tc := ⟨.hbm, 387, rfl⟩
abbrev main_v229 : Ref sig .tc := ⟨.hbm, 388, rfl⟩
abbrev main_v230 : Ref sig .tc := ⟨.hbm, 389, rfl⟩
abbrev main_v231 : Ref sig .tc := ⟨.hbm, 390, rfl⟩
abbrev main_cst_86 : Ref sig .tc := ⟨.hbm, 391, rfl⟩
abbrev main_v232 : Ref sig .tc := ⟨.hbm, 392, rfl⟩
abbrev main_v233 : Ref sig .tc := ⟨.hbm, 393, rfl⟩
abbrev main_v234 : Ref sig .tc := ⟨.hbm, 394, rfl⟩
abbrev main_cst_87 : Ref sig .tc := ⟨.hbm, 395, rfl⟩
abbrev main_v235 : Ref sig .tc := ⟨.hbm, 396, rfl⟩
abbrev main_v236 : Ref sig .tc := ⟨.hbm, 397, rfl⟩
abbrev main_v237 : Ref sig .tc := ⟨.hbm, 398, rfl⟩
abbrev main_cst_88 : Ref sig .tc := ⟨.hbm, 399, rfl⟩
abbrev main_v238 : Ref sig .tc := ⟨.hbm, 400, rfl⟩
abbrev main_v239 : Ref sig .tc := ⟨.hbm, 401, rfl⟩
abbrev main_cst_89 : Ref sig .tc := ⟨.hbm, 402, rfl⟩
abbrev main_v240 : Ref sig .tc := ⟨.hbm, 403, rfl⟩
abbrev main_v241 : Ref sig .tc := ⟨.hbm, 404, rfl⟩
abbrev main_cst_90 : Ref sig .tc := ⟨.hbm, 405, rfl⟩
abbrev main_v242 : Ref sig .tc := ⟨.hbm, 406, rfl⟩
abbrev main_v243 : Ref sig .tc := ⟨.hbm, 407, rfl⟩
abbrev main_v244 : Ref sig .tc := ⟨.hbm, 408, rfl⟩
abbrev main_cst_91 : Ref sig .tc := ⟨.hbm, 409, rfl⟩
abbrev main_v245 : Ref sig .tc := ⟨.hbm, 410, rfl⟩
abbrev main_v246 : Ref sig .tc := ⟨.hbm, 411, rfl⟩
abbrev main_v247 : Ref sig .tc := ⟨.hbm, 412, rfl⟩
abbrev main_cst_92 : Ref sig .tc := ⟨.hbm, 413, rfl⟩
abbrev main_v248 : Ref sig .tc := ⟨.hbm, 414, rfl⟩
abbrev main_v249 : Ref sig .tc := ⟨.hbm, 415, rfl⟩
abbrev main_v250 : Ref sig .tc := ⟨.hbm, 416, rfl⟩
abbrev main_cst_93 : Ref sig .tc := ⟨.hbm, 417, rfl⟩
abbrev main_v251 : Ref sig .tc := ⟨.hbm, 418, rfl⟩
abbrev main_v252 : Ref sig .tc := ⟨.hbm, 419, rfl⟩
abbrev main_cst_94 : Ref sig .tc := ⟨.hbm, 420, rfl⟩
abbrev main_v253 : Ref sig .tc := ⟨.hbm, 421, rfl⟩
abbrev main_v254 : Ref sig .tc := ⟨.hbm, 422, rfl⟩
abbrev main_v255 : Ref sig .tc := ⟨.hbm, 423, rfl⟩
abbrev main_cst_95 : Ref sig .tc := ⟨.hbm, 424, rfl⟩
abbrev main_v256 : Ref sig .tc := ⟨.hbm, 425, rfl⟩
abbrev main_v257 : Ref sig .tc := ⟨.hbm, 426, rfl⟩
abbrev main_v258 : Ref sig .tc := ⟨.hbm, 427, rfl⟩
abbrev main_cst_96 : Ref sig .tc := ⟨.hbm, 428, rfl⟩
abbrev main_v259 : Ref sig .tc := ⟨.hbm, 429, rfl⟩
abbrev main_v260 : Ref sig .tc := ⟨.hbm, 430, rfl⟩
abbrev main_v261 : Ref sig .tc := ⟨.hbm, 431, rfl⟩
abbrev main_cst_97 : Ref sig .tc := ⟨.hbm, 432, rfl⟩
abbrev main_v262 : Ref sig .tc := ⟨.hbm, 433, rfl⟩
abbrev main_v263 : Ref sig .tc := ⟨.hbm, 434, rfl⟩
abbrev main_cst_98 : Ref sig .tc := ⟨.hbm, 435, rfl⟩
abbrev main_v264 : Ref sig .tc := ⟨.hbm, 436, rfl⟩
abbrev main_v265 : Ref sig .tc := ⟨.hbm, 437, rfl⟩
abbrev main_cst_99 : Ref sig .tc := ⟨.hbm, 438, rfl⟩
abbrev main_v266 : Ref sig .tc := ⟨.hbm, 439, rfl⟩
abbrev main_v267 : Ref sig .tc := ⟨.hbm, 440, rfl⟩
abbrev main_v268 : Ref sig .tc := ⟨.hbm, 441, rfl⟩
abbrev main_cst_100 : Ref sig .tc := ⟨.hbm, 442, rfl⟩
abbrev main_v269 : Ref sig .tc := ⟨.hbm, 443, rfl⟩
abbrev main_v270 : Ref sig .tc := ⟨.hbm, 444, rfl⟩
abbrev main_v271 : Ref sig .tc := ⟨.hbm, 445, rfl⟩
abbrev main_cst_101 : Ref sig .tc := ⟨.hbm, 446, rfl⟩
abbrev main_v272 : Ref sig .tc := ⟨.hbm, 447, rfl⟩
abbrev main_v273 : Ref sig .tc := ⟨.hbm, 448, rfl⟩
abbrev main_v274 : Ref sig .tc := ⟨.hbm, 449, rfl⟩
abbrev main_cst_102 : Ref sig .tc := ⟨.hbm, 450, rfl⟩
abbrev main_v275 : Ref sig .tc := ⟨.hbm, 451, rfl⟩
abbrev main_v276 : Ref sig .tc := ⟨.hbm, 452, rfl⟩
abbrev main_cst_103 : Ref sig .tc := ⟨.hbm, 453, rfl⟩
abbrev main_v277 : Ref sig .tc := ⟨.hbm, 454, rfl⟩
abbrev main_v278 : Ref sig .tc := ⟨.hbm, 455, rfl⟩
abbrev main_v279 : Ref sig .tc := ⟨.hbm, 456, rfl⟩
abbrev main_cst_104 : Ref sig .tc := ⟨.hbm, 457, rfl⟩
abbrev main_v280 : Ref sig .tc := ⟨.hbm, 458, rfl⟩
abbrev main_v281 : Ref sig .tc := ⟨.hbm, 459, rfl⟩
abbrev main_v282 : Ref sig .tc := ⟨.hbm, 460, rfl⟩
abbrev main_cst_105 : Ref sig .tc := ⟨.hbm, 461, rfl⟩
abbrev main_v283 : Ref sig .tc := ⟨.hbm, 462, rfl⟩
abbrev main_v284 : Ref sig .tc := ⟨.hbm, 463, rfl⟩
abbrev main_v285 : Ref sig .tc := ⟨.hbm, 464, rfl⟩
abbrev main_cst_106 : Ref sig .tc := ⟨.hbm, 465, rfl⟩
abbrev main_v286 : Ref sig .tc := ⟨.hbm, 466, rfl⟩
abbrev main_v287 : Ref sig .tc := ⟨.hbm, 467, rfl⟩
abbrev main_cst_107 : Ref sig .tc := ⟨.hbm, 468, rfl⟩
abbrev main_v288 : Ref sig .tc := ⟨.hbm, 469, rfl⟩
abbrev main_v289 : Ref sig .tc := ⟨.hbm, 470, rfl⟩
abbrev main_cst_108 : Ref sig .tc := ⟨.hbm, 471, rfl⟩
abbrev main_v290 : Ref sig .tc := ⟨.hbm, 472, rfl⟩
abbrev main_v291 : Ref sig .tc := ⟨.hbm, 473, rfl⟩
abbrev main_v292 : Ref sig .tc := ⟨.hbm, 474, rfl⟩
abbrev main_cst_109 : Ref sig .tc := ⟨.hbm, 475, rfl⟩
abbrev main_v293 : Ref sig .tc := ⟨.hbm, 476, rfl⟩
abbrev main_v294 : Ref sig .tc := ⟨.hbm, 477, rfl⟩
abbrev main_v295 : Ref sig .tc := ⟨.hbm, 478, rfl⟩
abbrev main_cst_110 : Ref sig .tc := ⟨.hbm, 479, rfl⟩
abbrev main_v296 : Ref sig .tc := ⟨.hbm, 480, rfl⟩
abbrev main_v297 : Ref sig .tc := ⟨.hbm, 481, rfl⟩
abbrev main_v298 : Ref sig .tc := ⟨.hbm, 482, rfl⟩
abbrev main_cst_111 : Ref sig .tc := ⟨.hbm, 483, rfl⟩
abbrev main_v299 : Ref sig .tc := ⟨.hbm, 484, rfl⟩
abbrev main_v300 : Ref sig .tc := ⟨.hbm, 485, rfl⟩
abbrev main_cst_112 : Ref sig .tc := ⟨.hbm, 486, rfl⟩
abbrev main_v301 : Ref sig .tc := ⟨.hbm, 487, rfl⟩
abbrev main_v302 : Ref sig .tc := ⟨.hbm, 488, rfl⟩
abbrev main_v303 : Ref sig .tc := ⟨.hbm, 489, rfl⟩
abbrev main_cst_113 : Ref sig .tc := ⟨.hbm, 490, rfl⟩
abbrev main_v304 : Ref sig .tc := ⟨.hbm, 491, rfl⟩
abbrev main_v305 : Ref sig .tc := ⟨.hbm, 492, rfl⟩
abbrev main_v306 : Ref sig .tc := ⟨.hbm, 493, rfl⟩
abbrev main_cst_114 : Ref sig .tc := ⟨.hbm, 494, rfl⟩
abbrev main_v307 : Ref sig .tc := ⟨.hbm, 495, rfl⟩
abbrev main_v308 : Ref sig .tc := ⟨.hbm, 496, rfl⟩
abbrev main_v309 : Ref sig .tc := ⟨.hbm, 497, rfl⟩
abbrev main_cst_115 : Ref sig .tc := ⟨.hbm, 498, rfl⟩
abbrev main_v310 : Ref sig .tc := ⟨.hbm, 499, rfl⟩
abbrev main_v311 : Ref sig .tc := ⟨.hbm, 500, rfl⟩
abbrev main_cst_116 : Ref sig .tc := ⟨.hbm, 501, rfl⟩
abbrev main_v312 : Ref sig .tc := ⟨.hbm, 502, rfl⟩
abbrev main_v313 : Ref sig .tc := ⟨.hbm, 503, rfl⟩
abbrev main_cst_117 : Ref sig .tc := ⟨.hbm, 504, rfl⟩
abbrev main_v314 : Ref sig .tc := ⟨.hbm, 505, rfl⟩
abbrev main_v315 : Ref sig .tc := ⟨.hbm, 506, rfl⟩
abbrev main_v316 : Ref sig .tc := ⟨.hbm, 507, rfl⟩
abbrev main_cst_118 : Ref sig .tc := ⟨.hbm, 508, rfl⟩
abbrev main_v317 : Ref sig .tc := ⟨.hbm, 509, rfl⟩
abbrev main_v318 : Ref sig .tc := ⟨.hbm, 510, rfl⟩
abbrev main_v319 : Ref sig .tc := ⟨.hbm, 511, rfl⟩
abbrev main_cst_119 : Ref sig .tc := ⟨.hbm, 512, rfl⟩
abbrev main_v320 : Ref sig .tc := ⟨.hbm, 513, rfl⟩
abbrev main_v321 : Ref sig .tc := ⟨.hbm, 514, rfl⟩
abbrev main_v322 : Ref sig .tc := ⟨.hbm, 515, rfl⟩
abbrev main_cst_120 : Ref sig .tc := ⟨.hbm, 516, rfl⟩
abbrev main_v323 : Ref sig .tc := ⟨.hbm, 517, rfl⟩
abbrev main_v324 : Ref sig .tc := ⟨.hbm, 518, rfl⟩
abbrev main_cst_121 : Ref sig .tc := ⟨.hbm, 519, rfl⟩
abbrev main_v325 : Ref sig .tc := ⟨.hbm, 520, rfl⟩
abbrev main_v326 : Ref sig .tc := ⟨.hbm, 521, rfl⟩
abbrev main_v327 : Ref sig .tc := ⟨.hbm, 522, rfl⟩
abbrev main_cst_122 : Ref sig .tc := ⟨.hbm, 523, rfl⟩
abbrev main_v328 : Ref sig .tc := ⟨.hbm, 524, rfl⟩
abbrev main_v329 : Ref sig .tc := ⟨.hbm, 525, rfl⟩
abbrev main_v330 : Ref sig .tc := ⟨.hbm, 526, rfl⟩
abbrev main_cst_123 : Ref sig .tc := ⟨.hbm, 527, rfl⟩
abbrev main_v331 : Ref sig .tc := ⟨.hbm, 528, rfl⟩
abbrev main_v332 : Ref sig .tc := ⟨.hbm, 529, rfl⟩
abbrev main_v333 : Ref sig .tc := ⟨.hbm, 530, rfl⟩
abbrev main_cst_124 : Ref sig .tc := ⟨.hbm, 531, rfl⟩
abbrev main_v334 : Ref sig .tc := ⟨.hbm, 532, rfl⟩
abbrev main_v335 : Ref sig .tc := ⟨.hbm, 533, rfl⟩
abbrev main_cst_125 : Ref sig .tc := ⟨.hbm, 534, rfl⟩
abbrev main_v336 : Ref sig .tc := ⟨.hbm, 535, rfl⟩
abbrev main_v337 : Ref sig .tc := ⟨.hbm, 536, rfl⟩
abbrev main_cst_126 : Ref sig .tc := ⟨.hbm, 537, rfl⟩
abbrev main_v338 : Ref sig .tc := ⟨.hbm, 538, rfl⟩
abbrev main_v339 : Ref sig .tc := ⟨.hbm, 539, rfl⟩
abbrev main_v340 : Ref sig .tc := ⟨.hbm, 540, rfl⟩
abbrev main_cst_127 : Ref sig .tc := ⟨.hbm, 541, rfl⟩
abbrev main_v341 : Ref sig .tc := ⟨.hbm, 542, rfl⟩
abbrev main_v342 : Ref sig .tc := ⟨.hbm, 543, rfl⟩
abbrev main_v343 : Ref sig .tc := ⟨.hbm, 544, rfl⟩
abbrev main_cst_128 : Ref sig .tc := ⟨.hbm, 545, rfl⟩
abbrev main_v344 : Ref sig .tc := ⟨.hbm, 546, rfl⟩
abbrev main_v345 : Ref sig .tc := ⟨.hbm, 547, rfl⟩
abbrev main_v346 : Ref sig .tc := ⟨.hbm, 548, rfl⟩
abbrev main_cst_129 : Ref sig .tc := ⟨.hbm, 549, rfl⟩
abbrev main_v347 : Ref sig .tc := ⟨.hbm, 550, rfl⟩
abbrev main_v348 : Ref sig .tc := ⟨.hbm, 551, rfl⟩
abbrev main_cst_130 : Ref sig .tc := ⟨.hbm, 552, rfl⟩
abbrev main_v349 : Ref sig .tc := ⟨.hbm, 553, rfl⟩
abbrev main_v350 : Ref sig .tc := ⟨.hbm, 554, rfl⟩
abbrev main_v351 : Ref sig .tc := ⟨.hbm, 555, rfl⟩
abbrev main_cst_131 : Ref sig .tc := ⟨.hbm, 556, rfl⟩
abbrev main_v352 : Ref sig .tc := ⟨.hbm, 557, rfl⟩
abbrev main_v353 : Ref sig .tc := ⟨.hbm, 558, rfl⟩
abbrev main_v354 : Ref sig .tc := ⟨.hbm, 559, rfl⟩
abbrev main_cst_132 : Ref sig .tc := ⟨.hbm, 560, rfl⟩
abbrev main_v355 : Ref sig .tc := ⟨.hbm, 561, rfl⟩
abbrev main_v356 : Ref sig .tc := ⟨.hbm, 562, rfl⟩
abbrev main_v357 : Ref sig .tc := ⟨.hbm, 563, rfl⟩
abbrev main_cst_133 : Ref sig .tc := ⟨.hbm, 564, rfl⟩
abbrev main_v358 : Ref sig .tc := ⟨.hbm, 565, rfl⟩
abbrev main_v359 : Ref sig .tc := ⟨.hbm, 566, rfl⟩
abbrev main_cst_134 : Ref sig .tc := ⟨.hbm, 567, rfl⟩
abbrev main_v360 : Ref sig .tc := ⟨.hbm, 568, rfl⟩
abbrev main_v361 : Ref sig .tc := ⟨.hbm, 569, rfl⟩
abbrev main_cst_135 : Ref sig .tc := ⟨.hbm, 570, rfl⟩
abbrev main_v362 : Ref sig .tc := ⟨.hbm, 571, rfl⟩
abbrev main_v363 : Ref sig .tc := ⟨.hbm, 572, rfl⟩
abbrev main_v364 : Ref sig .tc := ⟨.hbm, 573, rfl⟩
abbrev main_cst_136 : Ref sig .tc := ⟨.hbm, 574, rfl⟩
abbrev main_v365 : Ref sig .tc := ⟨.hbm, 575, rfl⟩
abbrev main_v366 : Ref sig .tc := ⟨.hbm, 576, rfl⟩
abbrev main_v367 : Ref sig .tc := ⟨.hbm, 577, rfl⟩
abbrev main_cst_137 : Ref sig .tc := ⟨.hbm, 578, rfl⟩
abbrev main_v368 : Ref sig .tc := ⟨.hbm, 579, rfl⟩
abbrev main_v369 : Ref sig .tc := ⟨.hbm, 580, rfl⟩
abbrev main_v370 : Ref sig .tc := ⟨.hbm, 581, rfl⟩
abbrev main_cst_138 : Ref sig .tc := ⟨.hbm, 582, rfl⟩
abbrev main_v371 : Ref sig .tc := ⟨.hbm, 583, rfl⟩
abbrev main_v372 : Ref sig .tc := ⟨.hbm, 584, rfl⟩
abbrev main_cst_139 : Ref sig .tc := ⟨.hbm, 585, rfl⟩
abbrev main_v373 : Ref sig .tc := ⟨.hbm, 586, rfl⟩
abbrev main_v374 : Ref sig .tc := ⟨.hbm, 587, rfl⟩
abbrev main_v375 : Ref sig .tc := ⟨.hbm, 588, rfl⟩
abbrev main_cst_140 : Ref sig .tc := ⟨.hbm, 589, rfl⟩
abbrev main_v376 : Ref sig .tc := ⟨.hbm, 590, rfl⟩
abbrev main_v377 : Ref sig .tc := ⟨.hbm, 591, rfl⟩
abbrev main_v378 : Ref sig .tc := ⟨.hbm, 592, rfl⟩
abbrev main_cst_141 : Ref sig .tc := ⟨.hbm, 593, rfl⟩
abbrev main_v379 : Ref sig .tc := ⟨.hbm, 594, rfl⟩
abbrev main_v380 : Ref sig .tc := ⟨.hbm, 595, rfl⟩
abbrev main_v381 : Ref sig .tc := ⟨.hbm, 596, rfl⟩
abbrev main_cst_142 : Ref sig .tc := ⟨.hbm, 597, rfl⟩
abbrev main_v382 : Ref sig .tc := ⟨.hbm, 598, rfl⟩
abbrev main_v383 : Ref sig .tc := ⟨.hbm, 599, rfl⟩
abbrev main_cst_143 : Ref sig .tc := ⟨.hbm, 600, rfl⟩
abbrev main_v384 : Ref sig .tc := ⟨.hbm, 601, rfl⟩
abbrev main_v385 : Ref sig .tc := ⟨.hbm, 602, rfl⟩
abbrev main_cst_144 : Ref sig .tc := ⟨.hbm, 603, rfl⟩
abbrev main_v386 : Ref sig .tc := ⟨.hbm, 604, rfl⟩
abbrev main_v387 : Ref sig .tc := ⟨.hbm, 605, rfl⟩
abbrev main_v388 : Ref sig .tc := ⟨.hbm, 606, rfl⟩
abbrev main_cst_145 : Ref sig .tc := ⟨.hbm, 607, rfl⟩
abbrev main_v389 : Ref sig .tc := ⟨.hbm, 608, rfl⟩
abbrev main_v390 : Ref sig .tc := ⟨.hbm, 609, rfl⟩
abbrev main_v391 : Ref sig .tc := ⟨.hbm, 610, rfl⟩
abbrev main_cst_146 : Ref sig .tc := ⟨.hbm, 611, rfl⟩
abbrev main_v392 : Ref sig .tc := ⟨.hbm, 612, rfl⟩
abbrev main_v393 : Ref sig .tc := ⟨.hbm, 613, rfl⟩
abbrev main_v394 : Ref sig .tc := ⟨.hbm, 614, rfl⟩
abbrev main_cst_147 : Ref sig .tc := ⟨.hbm, 615, rfl⟩
abbrev main_v395 : Ref sig .tc := ⟨.hbm, 616, rfl⟩
abbrev main_v396 : Ref sig .tc := ⟨.hbm, 617, rfl⟩
abbrev main_cst_148 : Ref sig .tc := ⟨.hbm, 618, rfl⟩
abbrev main_v397 : Ref sig .tc := ⟨.hbm, 619, rfl⟩
abbrev main_v398 : Ref sig .tc := ⟨.hbm, 620, rfl⟩
abbrev main_v399 : Ref sig .tc := ⟨.hbm, 621, rfl⟩
abbrev main_cst_149 : Ref sig .tc := ⟨.hbm, 622, rfl⟩
abbrev main_v400 : Ref sig .tc := ⟨.hbm, 623, rfl⟩
abbrev main_v401 : Ref sig .tc := ⟨.hbm, 624, rfl⟩
abbrev main_v402 : Ref sig .tc := ⟨.hbm, 625, rfl⟩
abbrev main_cst_150 : Ref sig .tc := ⟨.hbm, 626, rfl⟩
abbrev main_v403 : Ref sig .tc := ⟨.hbm, 627, rfl⟩
abbrev main_v404 : Ref sig .tc := ⟨.hbm, 628, rfl⟩
abbrev main_v405 : Ref sig .tc := ⟨.hbm, 629, rfl⟩
abbrev main_cst_151 : Ref sig .tc := ⟨.hbm, 630, rfl⟩
abbrev main_v406 : Ref sig .tc := ⟨.hbm, 631, rfl⟩
abbrev main_v407 : Ref sig .tc := ⟨.hbm, 632, rfl⟩
abbrev main_cst_152 : Ref sig .tc := ⟨.hbm, 633, rfl⟩
abbrev main_v408 : Ref sig .tc := ⟨.hbm, 634, rfl⟩
abbrev main_v409 : Ref sig .tc := ⟨.hbm, 635, rfl⟩
abbrev main_cst_153 : Ref sig .tc := ⟨.hbm, 636, rfl⟩
abbrev main_v410 : Ref sig .tc := ⟨.hbm, 637, rfl⟩
abbrev main_v411 : Ref sig .tc := ⟨.hbm, 638, rfl⟩
abbrev main_v412 : Ref sig .tc := ⟨.hbm, 639, rfl⟩
abbrev main_cst_154 : Ref sig .tc := ⟨.hbm, 640, rfl⟩
abbrev main_v413 : Ref sig .tc := ⟨.hbm, 641, rfl⟩
abbrev main_v414 : Ref sig .tc := ⟨.hbm, 642, rfl⟩
abbrev main_v415 : Ref sig .tc := ⟨.hbm, 643, rfl⟩
abbrev main_cst_155 : Ref sig .tc := ⟨.hbm, 644, rfl⟩
abbrev main_v416 : Ref sig .tc := ⟨.hbm, 645, rfl⟩
abbrev main_v417 : Ref sig .tc := ⟨.hbm, 646, rfl⟩
abbrev main_v418 : Ref sig .tc := ⟨.hbm, 647, rfl⟩
abbrev main_cst_156 : Ref sig .tc := ⟨.hbm, 648, rfl⟩
abbrev main_v419 : Ref sig .tc := ⟨.hbm, 649, rfl⟩
abbrev main_v420 : Ref sig .tc := ⟨.hbm, 650, rfl⟩
abbrev main_cst_157 : Ref sig .tc := ⟨.hbm, 651, rfl⟩
abbrev main_v421 : Ref sig .tc := ⟨.hbm, 652, rfl⟩
abbrev main_v422 : Ref sig .tc := ⟨.hbm, 653, rfl⟩
abbrev main_v423 : Ref sig .tc := ⟨.hbm, 654, rfl⟩
abbrev main_cst_158 : Ref sig .tc := ⟨.hbm, 655, rfl⟩
abbrev main_v424 : Ref sig .tc := ⟨.hbm, 656, rfl⟩
abbrev main_v425 : Ref sig .tc := ⟨.hbm, 657, rfl⟩
abbrev main_v426 : Ref sig .tc := ⟨.hbm, 658, rfl⟩
abbrev main_cst_159 : Ref sig .tc := ⟨.hbm, 659, rfl⟩
abbrev main_v427 : Ref sig .tc := ⟨.hbm, 660, rfl⟩
abbrev main_v428 : Ref sig .tc := ⟨.hbm, 661, rfl⟩
abbrev main_v429 : Ref sig .tc := ⟨.hbm, 662, rfl⟩
abbrev main_cst_160 : Ref sig .tc := ⟨.hbm, 663, rfl⟩
abbrev main_v430 : Ref sig .tc := ⟨.hbm, 664, rfl⟩
abbrev main_v431 : Ref sig .tc := ⟨.hbm, 665, rfl⟩

abbrev nD : Nat := 1
abbrev τ : Topo := Topo.v7x

variable {F : FTy → Type} [FloatOps F]
-- ==== Proof.AttnRow.lean ====
/- One query row of the attention's gradient: what the kernel and the reference compute of it, over the extended reals,
   and that they agree when the arguments are finite. -/
module

public import Idealize.ShloMosaic.PureOps.Ideal
public import Idealize.ShloMosaic.Lib.IdealHost
public import Mathlib.Tactic.FieldSimp
public import Mathlib.Tactic.Ring

@[expose] public section

noncomputable section

namespace Cert.Attn

open Idealize.ShloMosaic

variable {n w : ℕ}

/-- A row of `w` lanes, and `n` of them. -/
abbrev Row (w : ℕ) := Fin w → EReal
abbrev Mat (n w : ℕ) := Fin n → Fin w → EReal

/-- The scores' scale, as both programs print it. -/
def scale : EReal := Ideal.ofBits .f32 0x3DD105EC#32

/-- The scaled scores of the query row `x` against the keys `K`. -/
def sc (x : Row w) (K : Mat n w) (j : Fin n) : EReal := (∑ d, x d * K j d) * scale
/-- Their maximum. -/
def mx (x : Row w) (K : Mat n w) : EReal := Finset.univ.fold max ⊥ (sc x K)
/-- The exponentials, the maximum subtracted. -/
def ex (x : Row w) (K : Mat n w) (j : Fin n) : EReal := Ideal.exp (sc x K j - mx x K)
/-- Their sum. -/
def ln (x : Row w) (K : Mat n w) : EReal := ∑ j, ex x K j

/-- The kernel's cotangent of the unnormalised product. -/
def gK (x : Row w) (K : Mat n w) (y : Row w) (d : Fin w) : EReal := y d * Ideal.div 1 (ln x K)
/-- The kernel's cotangent of the sum. -/
def dlK (x : Row w) (K V : Mat n w) (y : Row w) : EReal :=
  0 - (∑ d, (∑ j, ex x K j * V j d) * y d) * Ideal.div 1 (ln x K * ln x K)
/-- The kernel's cotangent of the scores before the scale. -/
def dsK (x : Row w) (K V : Mat n w) (y : Row w) (j : Fin n) : EReal :=
  (dlK x K V y + ∑ d, gK x K y d * V j d) * ex x K j * scale

/-- The reference's cotangent of the probabilities. -/
def dpR (V : Mat n w) (y : Row w) (j : Fin n) : EReal := ∑ d, y d * V j d
/-- The reference's cotangent of the scores before the scale. -/
def dsR (x : Row w) (K V : Mat n w) (y : Row w) (j : Fin n) : EReal :=
  (Ideal.div (dpR V y j) (ln x K) + -(∑ i, dpR V y i * Ideal.div 1 (ln x K * ln x K) * ex x K i)) * ex x K j * scale

/-- An extended real that is neither infinity. -/
def Fin' (x : EReal) : Prop := x ≠ ⊤ ∧ x ≠ ⊥

theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem scale_real : ∃ r : ℝ, scale = (r : EReal) := by
  unfold scale Ideal.ofBits Ideal.ieee
  dsimp only
  rw [if_neg (by decide), if_neg (by decide)]
  exact ⟨_, rfl⟩

theorem fold_max_real [NeZero n] (f : Fin n → ℝ) : ∃ r : ℝ, Finset.univ.fold max ⊥ (fun j => (f j : EReal)) = (r : EReal) := by
  have h1 : Finset.univ.fold max ⊥ (fun j => (f j : EReal)) < ⊤ :=
    (Finset.fold_max_lt _).mpr ⟨bot_lt_top, fun j _ => EReal.coe_lt_top _⟩
  have h2 : (f 0 : EReal) ≤ Finset.univ.fold max ⊥ (fun j => (f j : EReal)) :=
    (Finset.le_fold_max _).mpr (.inr ⟨0, Finset.mem_univ _, le_rfl⟩)
  exact ⟨_, (EReal.coe_toReal h1.ne (fun h => by rw [h] at h2; exact EReal.coe_ne_bot _ (le_bot_iff.mp h2))).symm⟩

theorem div_real (a b : ℝ) (h : b ≠ 0) : Ideal.div (a : EReal) (b : EReal) = ((a * b⁻¹ : ℝ) : EReal) := by
  unfold Ideal.div
  rw [if_neg (by exact_mod_cast h), ← EReal.coe_inv, ← EReal.coe_mul]

/-- On finite rows the exponentials are positive reals. -/
theorem ex_real [NeZero n] (x : Fin w → ℝ) (K : Fin n → Fin w → ℝ) : ∃ e : Fin n → ℝ, (∀ j, 0 < e j) ∧
    ∀ j, ex (fun d => (x d : EReal)) (fun j d => (K j d : EReal)) j = (e j : EReal) := by
  obtain ⟨c, hc⟩ := scale_real
  have hs : sc (fun d => (x d : EReal)) (fun j d => (K j d : EReal)) = fun j => (((∑ d, x d * K j d) * c : ℝ) : EReal) := by
    funext j
    unfold sc
    rw [hc, EReal.coe_mul, coe_sum]
    simp only [EReal.coe_mul]
  obtain ⟨M, hM⟩ := fold_max_real fun j => (∑ d, x d * K j d) * c
  refine ⟨fun j => Real.exp ((∑ d, x d * K j d) * c - M), fun j => Real.exp_pos _, fun j => ?_⟩
  unfold ex mx
  rw [hs, hM, ← EReal.coe_sub]
  rfl

theorem ln_real {x : Row w} {K : Mat n w} {e : Fin n → ℝ} (he : ∀ j, ex x K j = (e j : EReal)) :
    ln x K = ((∑ j, e j : ℝ) : EReal) := by
  unfold ln
  rw [coe_sum]
  exact Finset.sum_congr rfl fun j _ => he j

/-- The two cotangents of the scores agree on finite arguments. -/
theorem dsK_eq_dsR [NeZero n] (x y : Row w) (K V : Mat n w) (hx : ∀ d, Fin' (x d)) (hy : ∀ d, Fin' (y d)) (hK : ∀ j d, Fin' (K j d))
    (hV : ∀ j d, Fin' (V j d)) (j : Fin n) : dsK x K V y j = dsR x K V y j := by
  lift x to Fin w → ℝ using hx
  lift y to Fin w → ℝ using hy
  lift K to Fin n → Fin w → ℝ using hK
  lift V to Fin n → Fin w → ℝ using hV
  obtain ⟨e, hp, he⟩ := ex_real x K
  have hL := ln_real he
  have hL0 : (∑ j, e j) ≠ 0 := (Finset.sum_pos (fun j _ => hp j) ⟨0, Finset.mem_univ _⟩).ne'
  generalize (∑ j, e j) = L at hL hL0
  obtain ⟨c, hc⟩ := scale_real
  unfold dsK dsR dlK gK dpR
  rw [hL, hc]
  simp only [he]
  rw [← EReal.coe_one, ← EReal.coe_mul L L, div_real _ _ (mul_ne_zero hL0 hL0), div_real _ _ hL0]
  simp only [← EReal.coe_mul, ← coe_sum]
  rw [div_real _ _ hL0, ← EReal.coe_zero, ← EReal.coe_sub, ← EReal.coe_neg, ← EReal.coe_add, ← EReal.coe_add, ← EReal.coe_mul,
    ← EReal.coe_mul, ← EReal.coe_mul, ← EReal.coe_mul]
  congr 3
  have h1 : ∑ d, y d * (1 * L⁻¹) * V j d = (∑ d, y d * V j d) * L⁻¹ := by
    rw [Finset.sum_mul]; exact Finset.sum_congr rfl fun d _ => by ring
  have h2 : (∑ d, (∑ j, e j * V j d) * y d) * (1 * (L * L)⁻¹) = ∑ i, (∑ d, y d * V i d) * (1 * (L * L)⁻¹) * e i := by
    simp only [Finset.sum_mul]
    rw [Finset.sum_comm]
    exact Finset.sum_congr rfl fun i _ => Finset.sum_congr rfl fun d _ => by ring
  rw [h1, h2]
  ring

/-- The two terms of the values' gradient agree on finite arguments. -/
theorem dv_eq [NeZero n] (x y : Row w) (K : Mat n w) (hx : ∀ d, Fin' (x d)) (hy : ∀ d, Fin' (y d)) (hK : ∀ j d, Fin' (K j d))
    (j : Fin n) (d : Fin w) : ex x K j * gK x K y d = y d * Ideal.div (ex x K j) (ln x K) := by
  lift x to Fin w → ℝ using hx
  lift y to Fin w → ℝ using hy
  lift K to Fin n → Fin w → ℝ using hK
  obtain ⟨e, hp, he⟩ := ex_real x K
  have hL := ln_real he
  have hL0 : (∑ j, e j) ≠ 0 := (Finset.sum_pos (fun j _ => hp j) ⟨0, Finset.mem_univ _⟩).ne'
  unfold gK
  rw [hL, he, ← EReal.coe_one, div_real _ _ hL0, div_real _ _ hL0, ← EReal.coe_mul, ← EReal.coe_mul, ← EReal.coe_mul]
  congr 1
  ring

end Cert.Attn

end
-- ==== Proof.AttnBlock.lean ====
/- What the attention kernel's body computes of one tile of query rows, read at an index. -/
module

public import proofs.«01_k».proof.Proof.Gen.KernelIdeal.Frame
public import proofs.«01_k».proof.Proof.AttnRow
public import Idealize.ShloMosaic.Lib.Pipeline.Value
public import Idealize.ShloMosaic.Lib.Pointwise

@[expose] public section

set_option maxRecDepth 16384

noncomputable section

namespace Cert.Attn

open Idealize.ShloMosaic Cert.KernelIdeal Cert.KernelIdeal.Gen

/-- Row `r` of a block, and the block's rows. -/
abbrev row {n : ℕ} (v : (⟨2, ![n, 128]⟩ : Shape).Idx → EReal) (r : Fin n) : Row 128 := fun d => v (ix2 r d)
abbrev mat {n : ℕ} (v : (⟨2, ![n, 128]⟩ : Shape).Idx → EReal) : Mat n 128 := fun r d => v (ix2 r d)

theorem neg_infinity : Ideal.ofBits .f32 0xFF800000#32 = ⊥ := by
  unfold Ideal.ofBits Ideal.ieee
  dsimp only
  rw [if_pos (by decide), if_pos (by decide), if_pos (by decide)]

variable (v0 : Vec Ideal S512x128 .bf16) (v2 : Vec Ideal S2048x128 .bf16) (v4 : Vec Ideal S2048x128 .f32)
  (v25 : Vec Ideal S512x128 .f32)

theorem pay_ex (r : Fin 512) (j : Fin 2048) : k0_pay9 (F := Ideal) v0 v2 (ix2 r j) = ex (row v0 r) (mat v2) j := by
  pointwise [k0_pay9, k0_pay7, k0_pay8]
  rw [neg_infinity]
  rfl

theorem pay_ln (r : Fin 512) (u : Fin 1) : k0_pay10 (F := Ideal) v0 v2 (ix2 r u) = ln (row v0 r) (mat v2) := by
  pointwise [k0_pay10]
  simp only [pay_ex]
  rfl

theorem pay_g (r : Fin 512) (d : Fin 128) :
    k0_pay11 (F := Ideal) v0 v2 v25 (ix2 r d) = gK (row v0 r) (mat v2) (row v25 r) d := by
  pointwise [k0_pay11]
  rw [pay_ln]
  rfl

theorem pay_dl (r : Fin 512) (u : Fin 1) :
    k0_pay12 (F := Ideal) v0 v2 v4 v25 (ix2 r u) = dlK (row v0 r) (mat v2) (mat v4) (row v25 r) := by
  pointwise [k0_pay12]
  simp only [pay_ln, pay_ex, Fin.sum_univ_one]
  rfl

theorem pay_ds (r : Fin 512) (j : Fin 2048) :
    k0_pay1 (F := Ideal) v4 (k0_pay9 v0 v2) (k0_pay11 v0 v2 v25) (k0_pay12 v0 v2 v4 v25) (ix2 r j)
      = dsK (row v0 r) (mat v2) (mat v4) (row v25 r) j := by
  pointwise [k0_pay1]
  simp only [pay_dl, pay_g, pay_ex]
  rfl

/-- The tile's part of the queries' gradient. -/
theorem pay_dq (r : Fin 512) (d : Fin 128) :
    k0_pay2 (F := Ideal) (k0_pay8 v2) v4 (k0_pay9 v0 v2) (k0_pay11 v0 v2 v25) (k0_pay12 v0 v2 v4 v25) (ix2 r d)
      = ∑ j, dsK (row v0 r) (mat v2) (mat v4) (row v25 r) j * mat v2 j d := by
  pointwise [k0_pay2, k0_pay8]
  simp only [pay_ds]

/-- The tile's part of the keys' gradient, added to what the block held. -/
theorem pay_dk (acc : Vec Ideal S2048x128 .f32) (j : Fin 2048) (d : Fin 128) :
    k0_pay5 (F := Ideal) (k0_pay7 v0) v4 (k0_pay9 v0 v2) (k0_pay11 v0 v2 v25) (k0_pay12 v0 v2 v4 v25) acc (ix2 j d)
      = acc (ix2 j d) + ∑ r, dsK (row v0 r) (mat v2) (mat v4) (row v25 r) j * row v0 r d := by
  pointwise [k0_pay5, k0_pay7]
  simp only [pay_ds]

/-- The tile's part of the values' gradient, added to what the block held. -/
theorem pay_dv (acc : Vec Ideal S2048x128 .f32) (j : Fin 2048) (d : Fin 128) :
    k0_pay6 (F := Ideal) (k0_pay9 v0 v2) (k0_pay11 v0 v2 v25) acc (ix2 j d)
      = acc (ix2 j d) + ∑ r, ex (row v0 r) (mat v2) j * gK (row v0 r) (mat v2) (row v25 r) d := by
  pointwise [k0_pay6]
  simp only [pay_ex, pay_g]

theorem pay_zero_dk (j : Fin 2048) (d : Fin 128) : k0_pay3 (F := Ideal) (ix2 j d) = 0 := by pointwise [k0_pay3]

theorem pay_zero_dv (j : Fin 2048) (d : Fin 128) : k0_pay4 (F := Ideal) (ix2 j d) = 0 := by pointwise [k0_pay4]

/-! ## The contents a point leaves, at its input blocks -/

theorem hz : (![0, 0] : Fin 2 → Nat) = fun _ => 0 := funext fun a => by fin_cases a <;> rfl

section Out
variable {F : FTy → Type} [FloatOps F]
variable (c : Dev nD) (i : grid0.Coords) (a3 : Memref sig .tc .vmem S512x128 .bf16) (h3 : a3.IsWhole)
  (a4 : Memref sig .tc .vmem S2048x128 .bf16) (h4 : a4.IsWhole) (a5 : Memref sig .tc .vmem S2048x128 .f32) (h5 : a5.IsWhole)
  (a6 : Memref sig .tc .vmem S512x128 .f32) (h6 : a6.IsWhole) (a7 : Memref sig .tc .vmem S512x128 .f32) (h7 : a7.IsWhole)
  (a8 : Memref sig .tc .vmem S2048x128 .f32) (h8 : a8.IsWhole) (a9 : Memref sig .tc .vmem S2048x128 .f32) (h9 : a9.IsWhole)
  (x0 : Vec F S512x128 .bf16) (x1 : Vec F S2048x128 .bf16) (x2 : Vec F S2048x128 .f32) (x3 : Vec F S512x128 .f32)

theorem out_A_dq (hc : cond0_0 i) : out0_A_4 c i a3 h3 a4 h4 a5 h5 a6 h6 a7 h7 a8 h8 a9 h9 hc x0 x1 x2 x3
    = k0_pay2 (k0_pay8 x1) x2 (k0_pay9 x0 x1) (k0_pay11 x0 x1 x3) (k0_pay12 x0 x1 x2 x3) := by
  unfold out0_A_4
  rw [View.read_writes_eq_canon _ _ _ (cover0_A_4 c i a3 h3 a4 h4 a5 h5 a6 h6 a7 h7 a8 h8 a9 h9 hc x0 x1 x2 x3)]
  unfold kernelRun0_A
  dsimp only
  sl_unfold_words
  rw [View.canon_unit_zero (S := S512x128) hz]
  simp only [View.readAt_eq_ld, h3.read_unread, h4.read_unread, h5.read_unread, h6.read_unread,
    View.ld_unit_zero (S := S512x128) hz, View.ld_unit_zero (S := S2048x128) hz]

theorem out_A_dk (hc : cond0_0 i) : out0_A_5 c i a3 h3 a4 h4 a5 h5 a6 h6 a7 h7 a8 h8 a9 h9 hc x0 x1 x2 x3
    = k0_pay5 (k0_pay7 x0) x2 (k0_pay9 x0 x1) (k0_pay11 x0 x1 x3) (k0_pay12 x0 x1 x2 x3) k0_pay3 := by
  unfold out0_A_5
  rw [View.read_writes_eq_canon _ _ _ (cover0_A_5 c i a3 h3 a4 h4 a5 h5 a6 h6 a7 h7 a8 h8 a9 h9 hc x0 x1 x2 x3)]
  unfold kernelRun0_A
  dsimp only
  sl_unfold_words
  rw [View.canon_cons_unit_zero (S := S2048x128) hz, View.readCov_unit_zero (S := S2048x128) _ hz]
  simp only [View.readAt_eq_ld, h3.read_unread, h4.read_unread, h5.read_unread, h6.read_unread,
    View.ld_unit_zero (S := S512x128) hz, View.ld_unit_zero (S := S2048x128) hz]

theorem out_A_dv (hc : cond0_0 i) : out0_A_6 c i a3 h3 a4 h4 a5 h5 a6 h6 a7 h7 a8 h8 a9 h9 hc x0 x1 x2 x3
    = k0_pay6 (k0_pay9 x0 x1) (k0_pay11 x0 x1 x3) k0_pay4 := by
  unfold out0_A_6
  rw [View.read_writes_eq_canon _ _ _ (cover0_A_6 c i a3 h3 a4 h4 a5 h5 a6 h6 a7 h7 a8 h8 a9 h9 hc x0 x1 x2 x3)]
  unfold kernelRun0_A
  dsimp only
  sl_unfold_words
  rw [View.canon_cons_unit_zero (S := S2048x128) hz, View.readCov_unit_zero (S := S2048x128) _ hz]
  simp only [View.readAt_eq_ld, h3.read_unread, h4.read_unread, h5.read_unread, h6.read_unread,
    View.ld_unit_zero (S := S512x128) hz, View.ld_unit_zero (S := S2048x128) hz]

variable (o5 o6 : Vec F S2048x128 .f32)

theorem out_B_dq (hc : ¬cond0_0 i) : out0_B_4 c i a3 h3 a4 h4 a5 h5 a6 h6 a7 h7 a8 h8 a9 h9 hc x0 x1 x2 x3 o5 o6
    = k0_pay2 (k0_pay8 x1) x2 (k0_pay9 x0 x1) (k0_pay11 x0 x1 x3) (k0_pay12 x0 x1 x2 x3) := by
  unfold out0_B_4
  rw [View.read_writes_eq_canon _ _ _ (cover0_B_4 c i a3 h3 a4 h4 a5 h5 a6 h6 a7 h7 a8 h8 a9 h9 hc x0 x1 x2 x3 o5 o6)]
  unfold kernelRun0_B
  dsimp only
  sl_unfold_words
  rw [View.canon_unit_zero (S := S512x128) hz]
  simp only [View.readAt_eq_ld, h3.read_unread, h4.read_unread, h5.read_unread, h6.read_unread,
    View.ld_unit_zero (S := S512x128) hz, View.ld_unit_zero (S := S2048x128) hz]

theorem out_B_dk (hc : ¬cond0_0 i) : out0_B_5 c i a3 h3 a4 h4 a5 h5 a6 h6 a7 h7 a8 h8 a9 h9 hc x0 x1 x2 x3 o5 o6
    = k0_pay5 (k0_pay7 x0) x2 (k0_pay9 x0 x1) (k0_pay11 x0 x1 x3) (k0_pay12 x0 x1 x2 x3) o5 := by
  unfold out0_B_5
  rw [View.read_writes_eq_canon _ _ _ (cover0_B_5 c i a3 h3 a4 h4 a5 h5 a6 h6 a7 h7 a8 h8 a9 h9 hc x0 x1 x2 x3 o5 o6)]
  unfold kernelRun0_B
  dsimp only
  sl_unfold_words
  rw [View.canon_unit_zero (S := S2048x128) hz]
  simp only [View.readAt_eq_ld, h3.read_unread, h4.read_unread, h5.read_unread, h6.read_unread, h8.read_unread,
    View.ld_unit_zero (S := S512x128) hz, View.ld_unit_zero (S := S2048x128) hz]

theorem out_B_dv (hc : ¬cond0_0 i) : out0_B_6 c i a3 h3 a4 h4 a5 h5 a6 h6 a7 h7 a8 h8 a9 h9 hc x0 x1 x2 x3 o5 o6
    = k0_pay6 (k0_pay9 x0 x1) (k0_pay11 x0 x1 x3) o6 := by
  unfold out0_B_6
  rw [View.read_writes_eq_canon _ _ _ (cover0_B_6 c i a3 h3 a4 h4 a5 h5 a6 h6 a7 h7 a8 h8 a9 h9 hc x0 x1 x2 x3 o5 o6)]
  unfold kernelRun0_B
  dsimp only
  sl_unfold_words
  rw [View.canon_unit_zero (S := S2048x128) hz]
  simp only [View.readAt_eq_ld, h3.read_unread, h4.read_unread, h5.read_unread, h6.read_unread, h9.read_unread,
    View.ld_unit_zero (S := S512x128) hz, View.ld_unit_zero (S := S2048x128) hz]

end Out

end Cert.Attn

end
-- ==== Proof.AttnArray.lean ====
/- What the attention kernel's result arrays hold after the run, as functions of the argument arrays. -/
module

public import proofs.«01_k».proof.Proof.Gen.KernelIdeal.Value
public import proofs.«01_k».proof.Proof.AttnBlock
public import Idealize.ShloMosaic.Lib.Pipeline.ValueKit

@[expose] public section

set_option maxRecDepth 16384

noncomputable section

namespace Cert.Attn

open Idealize.ShloMosaic Idealize.ShloMosaic.TcCoe Idealize.SL.Sem
open Idealize.ShloMosaic.Pipeline (Dat)

/-- An array of all the heads' rows: 4 sequences of 2048 rows, 8 heads of 128 lanes. -/
abbrev Arr := (⟨2, ![8192, 1024]⟩ : Shape).Idx → EReal

/-- The rows of head `h` of sequence `b`. -/
def hd (a : Arr) (b : Fin 4) (h : Fin 8) : Mat 2048 128 :=
  fun s d => a (ix2 ⟨b.val * 2048 + s.val, by omega⟩ ⟨h.val * 128 + d.val, by omega⟩)

def bI (i : (⟨2, ![8192, 1024]⟩ : Shape).Idx) : Fin 4 := ⟨(i 0 : ℕ) / 2048, by have : (i 0 : ℕ) < 8192 := (i 0).isLt; omega⟩
def sI (i : (⟨2, ![8192, 1024]⟩ : Shape).Idx) : Fin 2048 := ⟨(i 0 : ℕ) % 2048, by omega⟩
def hI (i : (⟨2, ![8192, 1024]⟩ : Shape).Idx) : Fin 8 := ⟨(i 1 : ℕ) / 128, by have : (i 1 : ℕ) < 1024 := (i 1).isLt; omega⟩
def dI (i : (⟨2, ![8192, 1024]⟩ : Shape).Idx) : Fin 128 := ⟨(i 1 : ℕ) % 128, by omega⟩

/-- The gradient of the scores of row `s` of a head, as the kernel orders it. -/
def dsAt (a0 a1 a2 a3 : Arr) (b : Fin 4) (h : Fin 8) (s j : Fin 2048) : EReal :=
  dsK (hd a0 b h s) (hd a1 b h) (hd a2 b h) (hd a3 b h s) j

def GQ (a0 a1 a2 a3 : Arr) : Arr := fun i =>
  ∑ j, dsAt a0 a1 a2 a3 (bI i) (hI i) (sI i) j * hd a1 (bI i) (hI i) j (dI i)

def GK (a0 a1 a2 a3 : Arr) : Arr := fun i =>
  ∑ s, dsAt a0 a1 a2 a3 (bI i) (hI i) s (sI i) * hd a0 (bI i) (hI i) s (dI i)

def GV (a0 a1 a3 : Arr) : Arr := fun i =>
  ∑ s, ex (hd a0 (bI i) (hI i) s) (hd a1 (bI i) (hI i)) (sI i) * gK (hd a0 (bI i) (hI i) s) (hd a1 (bI i) (hI i)) (hd a3 (bI i) (hI i) s) (dI i)

open Cert.KernelIdeal Cert.KernelIdeal.Gen

variable (m : (ℓ : Loc nD τ sig) → Buf (Elt Ideal) ℓ) (ρ : Dev nD → PrngReg)

theorem idx : ∀ t : Fin cfg0.N, win0_0.index t = ![t.val / 32 * 4 + t.val % 4, t.val / 4 % 8]
    ∧ win0_1.index t = ![t.val / 32, t.val / 4 % 8] ∧ win0_2.index t = ![t.val / 32, t.val / 4 % 8]
    ∧ win0_3.index t = ![t.val / 32 * 4 + t.val % 4, t.val / 4 % 8] ∧ win0_4.index t = ![t.val / 32 * 4 + t.val % 4, t.val / 4 % 8]
    ∧ win0_5.index t = ![t.val / 32, t.val / 4 % 8] ∧ win0_6.index t = ![t.val / 32, t.val / 4 % 8] ∧ t.val < 128 :=
  (by decide +kernel : ∀ t : Fin grid0.N, _)

def tb (t : Fin cfg0.N) : Fin 4 := ⟨t.val / 32, by have := (idx t).2.2.2.2.2.2.2; omega⟩
def th (t : Fin cfg0.N) : Fin 8 := ⟨t.val / 4 % 8, by omega⟩
def ts (t : Fin cfg0.N) (r : Fin 512) : Fin 2048 := ⟨t.val % 4 * 512 + r.val, by omega⟩

abbrev A0 (c : Dev nD) : Arr := m ((c : Thread nD τ).loc main_arg0)
abbrev A1 (c : Dev nD) : Arr := m ((c : Thread nD τ).loc main_arg1)
abbrev A2 (c : Dev nD) : Arr := m ((c : Thread nD τ).loc main_arg2)
abbrev A3 (c : Dev nD) : Arr := m ((c : Thread nD τ).loc main_arg3)

theorem row_q (c : Dev nD) (t : Fin cfg0.N) (r : Fin 512) : row (iblk m c 0 t) r = hd (A0 m c) (tb t) (th t) (ts t r) := by
  funext d
  show (show Vec Ideal S512x128 .bf16 from iblk m c 0 t) (ix2 r d) = _
  unfold hd tb th ts A0
  blk_point [iblk, V, idx t]

theorem row_do (c : Dev nD) (t : Fin cfg0.N) (r : Fin 512) : row (iblk m c 3 t) r = hd (A3 m c) (tb t) (th t) (ts t r) := by
  funext d
  show (show Vec Ideal S512x128 .f32 from iblk m c 3 t) (ix2 r d) = _
  unfold hd tb th ts A3
  blk_point [iblk, V, idx t]

theorem mat_k (c : Dev nD) (t : Fin cfg0.N) : mat (iblk m c 1 t) = hd (A1 m c) (tb t) (th t) := by
  funext r d
  show (show Vec Ideal S2048x128 .bf16 from iblk m c 1 t) (ix2 r d) = _
  unfold hd tb th A1
  blk_point [iblk, V, idx t]

theorem mat_v (c : Dev nD) (t : Fin cfg0.N) : mat (iblk m c 2 t) = hd (A2 m c) (tb t) (th t) := by
  funext r d
  show (show Vec Ideal S2048x128 .f32 from iblk m c 2 t) (ix2 r d) = _
  unfold hd tb th A2
  blk_point [iblk, V, idx t]

/-- What every point leaves in the queries' block. -/
theorem leaves_dq (c : Dev nD) (t : Fin cfg0.N) (r : Fin 512) (d : Fin 128) :
    (outsAt0 m c t.val t.isLt).1 (ix2 r d)
      = ∑ j, dsAt (A0 m c) (A1 m c) (A2 m c) (A3 m c) (tb t) (th t) (ts t r) j * hd (A1 m c) (tb t) (th t) j d := by
  unfold dsAt
  rw [← row_q, ← row_do, ← mat_k, ← mat_v]
  by_cases h : t.val % 4 = 0
  · rw [outsAt0_A m c t h]
    dsimp only
    rw [out_A_dq]
    exact pay_dq _ _ _ _ r d
  · rw [outsAt0_B m c t h]
    dsimp only
    rw [out_B_dq]
    exact pay_dq _ _ _ _ r d

/-- The part of the keys' gradient that point `t` adds. -/
def partK (c : Dev nD) (t : Fin cfg0.N) (y : S2048x128.Idx) : EReal :=
  ∑ r, dsAt (A0 m c) (A1 m c) (A2 m c) (A3 m c) (tb t) (th t) (ts t r) (y 0) * hd (A0 m c) (tb t) (th t) (ts t r) (y 1)

/-- The part of the values' gradient that point `t` adds. -/
def partV (c : Dev nD) (t : Fin cfg0.N) (y : S2048x128.Idx) : EReal :=
  ∑ r, ex (hd (A0 m c) (tb t) (th t) (ts t r)) (hd (A1 m c) (tb t) (th t)) (y 0)
    * gK (hd (A0 m c) (tb t) (th t) (ts t r)) (hd (A1 m c) (tb t) (th t)) (hd (A3 m c) (tb t) (th t) (ts t r)) (y 1)

theorem reset_dk (c : Dev nD) (t : Fin cfg0.N) (h : t.val % 4 = 0) (y : S2048x128.Idx) :
    (outsAt0 m c t.val t.isLt).2.1 y = 0 + partK m c t y := by
  obtain ⟨j, d, rfl⟩ : ∃ j d, y = ix2 j d := ⟨y 0, y 1, eq_ix2 y⟩
  unfold partK dsAt
  simp only [← row_q, ← row_do, ← mat_k, ← mat_v]
  rw [outsAt0_A m c t h]
  dsimp only
  rw [out_A_dk]
  refine (pay_dk _ _ _ _ _ j d).trans ?_
  rw [pay_zero_dk]
  rfl

theorem step_dk (c : Dev nD) (t : Fin cfg0.N) (h : ¬t.val % 4 = 0) (y : S2048x128.Idx) :
    (outsAt0 m c t.val t.isLt).2.1 y
      = (outsAt0 m c (t.val - 1) (Nat.lt_of_le_of_lt (Nat.sub_le _ _) t.isLt)).2.1 y + partK m c t y := by
  obtain ⟨j, d, rfl⟩ : ∃ j d, y = ix2 j d := ⟨y 0, y 1, eq_ix2 y⟩
  unfold partK dsAt
  simp only [← row_q, ← row_do, ← mat_k, ← mat_v]
  rw [outsAt0_B m c t h]
  dsimp only
  rw [out_B_dk]
  exact pay_dk _ _ _ _ _ j d

theorem reset_dv (c : Dev nD) (t : Fin cfg0.N) (h : t.val % 4 = 0) (y : S2048x128.Idx) :
    (outsAt0 m c t.val t.isLt).2.2 y = 0 + partV m c t y := by
  obtain ⟨j, d, rfl⟩ : ∃ j d, y = ix2 j d := ⟨y 0, y 1, eq_ix2 y⟩
  unfold partV
  simp only [← row_q, ← row_do, ← mat_k]
  rw [outsAt0_A m c t h]
  dsimp only
  rw [out_A_dv]
  refine (pay_dv _ _ _ _ j d).trans ?_
  rw [pay_zero_dv]
  rfl

theorem step_dv (c : Dev nD) (t : Fin cfg0.N) (h : ¬t.val % 4 = 0) (y : S2048x128.Idx) :
    (outsAt0 m c t.val t.isLt).2.2 y
      = (outsAt0 m c (t.val - 1) (Nat.lt_of_le_of_lt (Nat.sub_le _ _) t.isLt)).2.2 y + partV m c t y := by
  obtain ⟨j, d, rfl⟩ : ∃ j d, y = ix2 j d := ⟨y 0, y 1, eq_ix2 y⟩
  unfold partV
  simp only [← row_q, ← row_do, ← mat_k]
  rw [outsAt0_B m c t h]
  dsimp only
  rw [out_B_dv]
  exact pay_dv _ _ _ _ j d

theorem run_point (t : Fin cfg0.N) (hf : t.val % 4 = 3) (s : Fin 4) : 4 * (t.val / 4) + s.val < cfg0.N := by
  have := (idx t).2.2.2.2.2.2.2
  have hN : cfg0.N = 128 := N_0
  omega

/-- At a run's points the sequence and the head are the flushing point's, and the rows run through the sequence. -/
theorem tb_run (t : Fin cfg0.N) (s : Fin 4) (h) : tb ⟨4 * (t.val / 4) + s.val, h⟩ = tb t := by
  unfold tb; apply Fin.ext; dsimp only; omega

theorem th_run (t : Fin cfg0.N) (s : Fin 4) (h) : th ⟨4 * (t.val / 4) + s.val, h⟩ = th t := by
  unfold th; apply Fin.ext; dsimp only; omega

theorem ts_run (t : Fin cfg0.N) (s : Fin 4) (h) (r : Fin 512) :
    ts ⟨4 * (t.val / 4) + s.val, h⟩ r = ⟨s.val * 512 + r.val, by omega⟩ := by
  unfold ts; apply Fin.ext; dsimp only; omega

theorem final_q (c : Dev nD) : (dats m 0 c).arrAt 4 cfg0.N = GQ (A0 m c) (A1 m c) (A2 m c) (A3 m c) := by
  refine (dats m 0 c).arrAt_eq_of_covers 4 _ (by decide +kernel) fun t hf y => ?_
  blk_simp
  rw [after0_4]
  obtain ⟨r, d, rfl⟩ : ∃ (r : Fin 512) (d : Fin 128), y = ix2 r d := ⟨y 0, y 1, eq_ix2 y⟩
  refine (leaves_dq m c t r d).trans ?_
  have e1 : bI ((win0_4.blk t).view.emb (ix2 r d)) = tb t := by
    have := (idx t).2.2.2.2.2.2.2
    unfold bI tb; apply Fin.ext; dsimp only; blk_simp [idx t]; omega
  have e2 : hI ((win0_4.blk t).view.emb (ix2 r d)) = th t := by
    unfold hI th; apply Fin.ext; dsimp only; blk_simp [idx t]; omega
  have e3 : sI ((win0_4.blk t).view.emb (ix2 r d)) = ts t r := by
    unfold sI ts; apply Fin.ext; dsimp only; blk_simp [idx t]; omega
  have e4 : dI ((win0_4.blk t).view.emb (ix2 r d)) = d := by
    unfold dI; apply Fin.ext; dsimp only; blk_simp [idx t]; omega
  unfold GQ
  rw [e1, e2, e3, e4]

theorem final_k (c : Dev nD) : (dats m 0 c).arrAt 5 cfg0.N = GK (A0 m c) (A1 m c) (A2 m c) (A3 m c) := by
  refine (dats m 0 c).arrAt_eq_of_covers 5 _ (by decide +kernel) fun t hf y => ?_
  blk_simp
  rw [after0_5]
  obtain ⟨j, d, rfl⟩ : ∃ (r : Fin 2048) (d : Fin 128), y = ix2 r d := ⟨y 0, y 1, eq_ix2 y⟩
  rw [Pipeline.eq_sum_fin_of_reset_step_apply_of_flush (fun n h => (outsAt0 m c n h).2.1) 4 (fun _ => 0) (partK m c)
    (reset_dk m c) (step_dk m c) t ((flush0_5 t).mp hf) _, zero_add]
  have e1 : bI ((win0_5.blk t).view.emb (ix2 j d)) = tb t := by
    unfold bI tb; apply Fin.ext; dsimp only; blk_simp [idx t]; omega
  have e2 : hI ((win0_5.blk t).view.emb (ix2 j d)) = th t := by
    unfold hI th; apply Fin.ext; dsimp only; blk_simp [idx t]; omega
  have e3 : sI ((win0_5.blk t).view.emb (ix2 j d)) = j := by
    unfold sI; apply Fin.ext; dsimp only; blk_simp [idx t]; omega
  have e4 : dI ((win0_5.blk t).view.emb (ix2 j d)) = d := by
    unfold dI; apply Fin.ext; dsimp only; blk_simp [idx t]; omega
  unfold GK
  rw [e1, e2, e3, e4]
  unfold partK
  refine Fin.sum_mul_add_congr fun s k hl => ?_
  rw [tb_run, th_run, ts_run]
  rfl

theorem final_v (c : Dev nD) : (dats m 0 c).arrAt 6 cfg0.N = GV (A0 m c) (A1 m c) (A3 m c) := by
  refine (dats m 0 c).arrAt_eq_of_covers 6 _ (by decide +kernel) fun t hf y => ?_
  blk_simp
  rw [after0_6]
  obtain ⟨j, d, rfl⟩ : ∃ (r : Fin 2048) (d : Fin 128), y = ix2 r d := ⟨y 0, y 1, eq_ix2 y⟩
  rw [Pipeline.eq_sum_fin_of_reset_step_apply_of_flush (fun n h => (outsAt0 m c n h).2.2) 4 (fun _ => 0) (partV m c)
    (reset_dv m c) (step_dv m c) t ((flush0_6 t).mp hf) _, zero_add]
  have e1 : bI ((win0_6.blk t).view.emb (ix2 j d)) = tb t := by
    unfold bI tb; apply Fin.ext; dsimp only; blk_simp [idx t]; omega
  have e2 : hI ((win0_6.blk t).view.emb (ix2 j d)) = th t := by
    unfold hI th; apply Fin.ext; dsimp only; blk_simp [idx t]; omega
  have e3 : sI ((win0_6.blk t).view.emb (ix2 j d)) = j := by
    unfold sI; apply Fin.ext; dsimp only; blk_simp [idx t]; omega
  have e4 : dI ((win0_6.blk t).view.emb (ix2 j d)) = d := by
    unfold dI; apply Fin.ext; dsimp only; blk_simp [idx t]; omega
  unfold GV
  rw [e1, e2, e3, e4]
  unfold partV
  refine Fin.sum_mul_add_congr fun s k hl => ?_
  rw [tb_run, th_run, ts_run]
  rfl

end Cert.Attn

end
-- ==== Proof.AttnRef.lean ====
/- What the attention's reference computes, stage by stage, read at an index. -/
module

public import proofs.«01_k».proof.Proof.Gen.ReferenceIdeal.Run
public import proofs.«01_k».proof.Proof.AttnArray

@[expose] public section

set_option maxRecDepth 16384

noncomputable section

namespace Cert.AttnRef

open Idealize.ShloMosaic Idealize.ShloMosaic.TcCoe Idealize.SL.Sem Cert.ReferenceIdeal Cert.ReferenceIdeal.Gen
open Cert.Attn (Arr hd bI sI hI dI)

variable (a0 a1 : FVec Ideal S8192x1024 .bf16) (a2 a3 : FVec Ideal S8192x1024 .f32)

/-- An argument's rows by sequence, position, head and lane. -/
def rH (a : FVec Ideal S8192x1024 .f32) : FVec Ideal S4x2048x8x128 .f32 := shapeCast _ a shapeCasts_S8192x1024_S4x2048x8x128

def rS : FVec Ideal S4x8x2048x2048 .f32 :=
  mulf (Host.dotGeneral dot_S4x2048x8x128_S4x2048x8x128_S4x8x2048x2048_3_3_1_1_02_02 none (rH (extf .f32 a0 bitsLt_bf16_f32)) (rH (extf .f32 a1 bitsLt_bf16_f32))) (broadcastInDim S4x8x2048x2048 ![] bcast_S_S4x8x2048x2048 (constant S_ .f32 0x3DD105EC#32))

def rM (x : FVec Ideal S4x8x2048x2048 .f32) : FVec Ideal S4x8x2048 .f32 :=
  maximumf (broadcastInDim S4x8x2048 ![] bcast_S_S4x8x2048 (constant S_ .f32 0xFF800000#32)) (Host.reduce FloatOps.maximumf x (constant S_ .f32 0xFF800000#32) reducesTo_S4x8x2048x2048_S4x8x2048_d3 h_S_)

def rE : FVec Ideal S4x8x2048x2048 .f32 :=
  Host.exp (subf (rS a0 a1) (broadcastInDim S4x8x2048x2048 ![0, 1, 2, 3] bcast_S4x8x2048x1_S4x8x2048x2048_0_1_2_3 (broadcastInDim S4x8x2048x1 ![0, 1, 2] bcast_S4x8x2048_S4x8x2048x1_0_1_2 (rM (rS a0 a1)))))

def rL : FVec Ideal S4x8x2048x1 .f32 :=
  broadcastInDim S4x8x2048x1 ![0, 1, 2] bcast_S4x8x2048_S4x8x2048x1_0_1_2 (Host.reduceAdd (rE a0 a1) (constant S_ .f32 0x00000000#32) reducesTo_S4x8x2048x2048_S4x8x2048_d3 h_S_)

def rT : FVec Ideal S4x8x128x2048 .f32 :=
  transpose S4x8x128x2048 [0, 2, 3, 1] (rH a3) transposes_S4x2048x8x128_S4x8x128x2048_0_2_3_1

def rD : FVec Ideal S4x8x2048x2048 .f32 :=
  Host.dotGeneral dot_S4x8x128x2048_S4x2048x8x128_S4x8x2048x2048_2_3_3_1_01_02 none (rT a3) (rH a2)

def rW : FVec Ideal S4x8x2048 .f32 :=
  Host.reduceAdd (mulf (mulf (rD a2 a3) (broadcastInDim S4x8x2048x2048 ![0, 1, 2, 3] bcast_S4x8x2048x1_S4x8x2048x2048_0_1_2_3 (Host.divf (broadcastInDim S4x8x2048x1 ![] bcast_S_S4x8x2048x1 (constant S_ .f32 0x3F800000#32)) (mulf (rL a0 a1) (rL a0 a1))))) (rE a0 a1)) (constant S_ .f32 0x00000000#32) reducesTo_S4x8x2048x2048_S4x8x2048_d3 h_S_

def rN : FVec Ideal S4x8x2048 .f32 :=
  Host.reduceAdd (Host.negf (shapeCast _ (rW a0 a1 a2 a3) shapeCasts_S4x8x2048_S4x8x2048x1)) (constant S_ .f32 0x00000000#32) reducesTo_S4x8x2048x1_S4x8x2048_d3 h_S_

def rG : FVec Ideal S4x8x2048x2048 .f32 :=
  mulf (mulf (addf (Host.divf (rD a2 a3) (broadcastInDim S4x8x2048x2048 ![0, 1, 2, 3] bcast_S4x8x2048x1_S4x8x2048x2048_0_1_2_3 (rL a0 a1))) (broadcastInDim S4x8x2048x2048 ![0, 1, 2] bcast_S4x8x2048_S4x8x2048x2048_0_1_2 (rN a0 a1 a2 a3))) (rE a0 a1)) (broadcastInDim S4x8x2048x2048 ![] bcast_S_S4x8x2048x2048 (constant S_ .f32 0x3DD105EC#32))

def rQ : FVec Ideal S8192x1024 .f32 :=
  shapeCast _ (transpose S4x2048x8x128 [0, 2, 1, 3] (Host.dotGeneral dot_S4x8x2048x2048_S4x2048x8x128_S4x8x2048x128_3_1_2_3_01_02 none (rG a0 a1 a2 a3) (rH (extf .f32 a1 bitsLt_bf16_f32))) transposes_S4x8x2048x128_S4x2048x8x128_0_2_1_3) shapeCasts_S4x2048x8x128_S8192x1024

def rK : FVec Ideal S8192x1024 .f32 :=
  shapeCast _ (transpose S4x2048x8x128 [0, 2, 1, 3] (Host.dotGeneral dot_S4x8x2048x2048_S4x2048x8x128_S4x8x2048x128_2_1_3_3_01_02 none (rG a0 a1 a2 a3) (rH (extf .f32 a0 bitsLt_bf16_f32))) transposes_S4x8x2048x128_S4x2048x8x128_0_2_1_3) shapeCasts_S4x2048x8x128_S8192x1024

def rV : FVec Ideal S8192x1024 .f32 :=
  shapeCast _ (transpose S4x2048x8x128 [0, 3, 1, 2] (Host.dotGeneral dot_S4x8x128x2048_S4x8x2048x2048_S4x8x128x2048_3_2_2_3_01_01 none (rT a3) (Host.divf (rE a0 a1) (broadcastInDim S4x8x2048x2048 ![0, 1, 2, 3] bcast_S4x8x2048x1_S4x8x2048x2048_0_1_2_3 (rL a0 a1)))) transposes_S4x8x128x2048_S4x2048x8x128_0_3_1_2) shapeCasts_S4x2048x8x128_S8192x1024

section Run
variable (m : (ℓ : Loc nD τ sig) → Buf (Elt Ideal) ℓ) (c : Dev nD)

theorem out0_eq : Cert.ReferenceIdeal.Value.res_main_v64 m c
    = rQ (m ((c.tc : Thread nD τ).loc main_arg0)) (m ((c.tc : Thread nD τ).loc main_arg1)) (m ((c.tc : Thread nD τ).loc main_arg2)) (m ((c.tc : Thread nD τ).loc main_arg3)) := rfl

theorem out1_eq : Cert.ReferenceIdeal.Value.res_main_v63 m c
    = rK (m ((c.tc : Thread nD τ).loc main_arg0)) (m ((c.tc : Thread nD τ).loc main_arg1)) (m ((c.tc : Thread nD τ).loc main_arg2)) (m ((c.tc : Thread nD τ).loc main_arg3)) := rfl

end Run

theorem rH_at (a : FVec Ideal S8192x1024 .f32) (b : Fin 4) (s : Fin 2048) (h : Fin 8) (d : Fin 128) :
    rH a (ix4 b s h d) = hd a b h s d := by
  unfold hd
  pointwise [rH]

theorem rS_at (b : Fin 4) (h : Fin 8) (s j : Fin 2048) :
    rS a0 a1 (ix4 b h s j) = Attn.sc (hd a0 b h s) (hd a1 b h) j := by
  pointwise [rS]
  simp only [rH_at]
  rfl

theorem bot_max (x : EReal) : max ⊥ x = x := max_eq_right bot_le

theorem hmax (x : FVec Ideal S4x8x2048x2048 .f32) (b : Fin 4) (h : Fin 8) (s : Fin 2048) :
    Host.reduce FloatOps.maximumf x (constant S_ .f32 0xFF800000#32) reducesTo_S4x8x2048x2048_S4x8x2048_d3 h_S_ (ix3 b h s)
      = Finset.fold max ⊥ (fun k => x (ix4 b h s k)) Finset.univ := by
  pointwise
  rw [Attn.neg_infinity]

theorem max_splat (y : FVec Ideal S4x8x2048 .f32) (i : S4x8x2048.Idx) :
    maximumf (broadcastInDim S4x8x2048 ![] bcast_S_S4x8x2048 (constant S_ .f32 0xFF800000#32)) y i = y i := by
  pointwise
  rw [Attn.neg_infinity]
  exact bot_max _

theorem rM_of (x : FVec Ideal S4x8x2048x2048 .f32) (b : Fin 4) (h : Fin 8) (s : Fin 2048) :
    rM x (ix3 b h s) = Finset.fold max ⊥ (fun k => x (ix4 b h s k)) Finset.univ := by
  unfold rM
  rw [max_splat, hmax]

theorem rM_at (b : Fin 4) (h : Fin 8) (s : Fin 2048) :
    rM (rS a0 a1) (ix3 b h s) = Attn.mx (hd a0 b h s) (hd a1 b h) := by
  rw [rM_of]
  simp only [rS_at]
  rfl

theorem rE_at (b : Fin 4) (h : Fin 8) (s j : Fin 2048) :
    rE a0 a1 (ix4 b h s j) = Attn.ex (hd a0 b h s) (hd a1 b h) j := by
  pointwise [rE]
  simp only [rS_at, rM_at]
  rfl

theorem rL_at (b : Fin 4) (h : Fin 8) (s : Fin 2048) (u : Fin 1) :
    rL a0 a1 (ix4 b h s u) = Attn.ln (hd a0 b h s) (hd a1 b h) := by
  pointwise [rL]
  simp only [rE_at]
  rfl

theorem rT_at (b : Fin 4) (h : Fin 8) (d : Fin 128) (s : Fin 2048) : rT a3 (ix4 b h d s) = hd a3 b h s d := by
  pointwise [rT]
  exact rH_at _ _ _ _ _

theorem rD_at (b : Fin 4) (h : Fin 8) (s j : Fin 2048) :
    rD a2 a3 (ix4 b h s j) = Attn.dpR (hd a2 b h) (hd a3 b h s) j := by
  pointwise [rD]
  simp only [rT_at, rH_at]
  rfl

theorem rW_at (b : Fin 4) (h : Fin 8) (s : Fin 2048) : rW a0 a1 a2 a3 (ix3 b h s)
    = ∑ i, Attn.dpR (hd a2 b h) (hd a3 b h s) i * Ideal.div 1 (Attn.ln (hd a0 b h s) (hd a1 b h) * Attn.ln (hd a0 b h s) (hd a1 b h))
        * Attn.ex (hd a0 b h s) (hd a1 b h) i := by
  pointwise [rW]
  simp only [rD_at, rL_at, rE_at]

theorem rN_at (b : Fin 4) (h : Fin 8) (s : Fin 2048) : rN a0 a1 a2 a3 (ix3 b h s) = -(rW a0 a1 a2 a3 (ix3 b h s)) := by
  pointwise [rN]
  simp

theorem rG_at (b : Fin 4) (h : Fin 8) (s j : Fin 2048) :
    rG a0 a1 a2 a3 (ix4 b h s j) = Attn.dsR (hd a0 b h s) (hd a1 b h) (hd a2 b h) (hd a3 b h s) j := by
  pointwise [rG]
  simp only [rD_at, rL_at, rE_at, rN_at, rW_at]
  rfl

theorem rQ_at (i : S8192x1024.Idx) : rQ a0 a1 a2 a3 i
    = ∑ j, Attn.dsR (hd a0 (bI i) (hI i) (sI i)) (hd a1 (bI i) (hI i)) (hd a2 (bI i) (hI i)) (hd a3 (bI i) (hI i) (sI i)) j
        * hd a1 (bI i) (hI i) j (dI i) := by
  simp only [← rG_at, ← rH_at]
  unfold bI sI hI dI
  pointwise [rQ]
  blk_point []

theorem rK_at (i : S8192x1024.Idx) : rK a0 a1 a2 a3 i
    = ∑ s, Attn.dsR (hd a0 (bI i) (hI i) s) (hd a1 (bI i) (hI i)) (hd a2 (bI i) (hI i)) (hd a3 (bI i) (hI i) s) (sI i)
        * hd a0 (bI i) (hI i) s (dI i) := by
  simp only [← rG_at, ← rH_at]
  unfold bI sI hI dI
  pointwise [rK]
  blk_point []

theorem rV_at (i : S8192x1024.Idx) : rV a0 a1 a3 i
    = ∑ s, hd a3 (bI i) (hI i) s (dI i)
        * Ideal.div (Attn.ex (hd a0 (bI i) (hI i) s) (hd a1 (bI i) (hI i)) (sI i)) (Attn.ln (hd a0 (bI i) (hI i) s) (hd a1 (bI i) (hI i))) := by
  simp only [← rE_at, ← rL_at _ _ _ _ _ 0, ← rT_at]
  unfold bI sI hI dI
  pointwise [rV]

end Cert.AttnRef

end
-- ==== Proof.AttnClaim.lean ====
/- The attention kernel's results are the reference's, of finite arguments. -/
module

public import proofs.«01_k».proof.Defs
public import proofs.«01_k».proof.Proof.AttnArray
public import proofs.«01_k».proof.Proof.AttnRef
public import Idealize.ShloMosaic.Lib.Claim

@[expose] public section

set_option maxRecDepth 16384

noncomputable section

namespace Cert.AttnClaim

open Idealize.ShloMosaic Idealize.ShloMosaic.TcCoe Idealize.SL.Sem
open Cert.Attn (Arr hd bI sI hI dI Fin')

theorem infinity_f32 : Ideal.ofBits .f32 0x7F800000#32 = ⊤ := by
  unfold Ideal.ofBits Ideal.ieee
  dsimp only
  rw [if_pos (by decide), if_pos (by decide), if_neg (by decide)]

theorem infinity_bf16 : Ideal.ofBits .bf16 0x7F80#16 = ⊤ := by
  unfold Ideal.ofBits Ideal.ieee
  dsimp only
  rw [if_pos (by decide), if_pos (by decide), if_neg (by decide)]

instance preFacts : Cert.Pre_finite.Facts where
  bcast_S_S8192x1024 := by decide

/-- An element the precondition admits is a real number. -/
theorem fin_of_abs (x : EReal) (h : max x (-x) < ⊤) : Fin' x := by
  constructor
  · rintro rfl; simp at h
  · rintro rfl; simp at h

theorem and_four : ∀ p q r s : Bool, IntOp.andi (IntOp.andi (IntOp.andi (BitVec.ofBool p) (BitVec.ofBool q)) (BitVec.ofBool r)) (BitVec.ofBool s) = 1#1 →
    p = true ∧ q = true ∧ r = true ∧ s = true := by decide

theorem finite_of_pre (a0 a1 : FVec Ideal Cert.Pre_finite.S8192x1024 .bf16) (a2 a3 : FVec Ideal Cert.Pre_finite.S8192x1024 .f32)
    (h : Cert.Pre_finite.fn (F := Ideal) a0 a1 a2 a3 = fun _ => 1#1) (i : Cert.Pre_finite.S8192x1024.Idx) :
    Fin' (a0 i) ∧ Fin' (a1 i) ∧ Fin' (a2 i) ∧ Fin' (a3 i) := by
  have e := congrFun h i
  revert e
  pointwise [Cert.Pre_finite.fn]
  intro e
  obtain ⟨p, q, r, s⟩ := and_four _ _ _ _ e
  rw [infinity_bf16] at p q
  rw [infinity_f32] at r s
  exact ⟨fin_of_abs _ (of_decide_eq_true p), fin_of_abs _ (of_decide_eq_true q), fin_of_abs _ (of_decide_eq_true r), fin_of_abs _ (of_decide_eq_true s)⟩

theorem hd_fin (a : Arr) (h : ∀ i, Fin' (a i)) (b : Fin 4) (e : Fin 8) (s : Fin 2048) (d : Fin 128) : Fin' (hd a b e s d) := h _

section Eq
variable (a0 a1 a2 a3 : Arr) (h0 : ∀ i, Fin' (a0 i)) (h1 : ∀ i, Fin' (a1 i)) (h2 : ∀ i, Fin' (a2 i)) (h3 : ∀ i, Fin' (a3 i))
include h0 h1 h2 h3

theorem eq_q : Cert.AttnRef.rQ a0 a1 a2 a3 = Cert.Attn.GQ a0 a1 a2 a3 := by
  funext i
  refine (Cert.AttnRef.rQ_at a0 a1 a2 a3 i).trans ?_
  unfold Cert.Attn.GQ Cert.Attn.dsAt
  refine Finset.sum_congr rfl fun j _ => ?_
  rw [Cert.Attn.dsK_eq_dsR _ _ _ _ (hd_fin a0 h0 _ _ _) (hd_fin a3 h3 _ _ _) (hd_fin a1 h1 _ _) (hd_fin a2 h2 _ _)]

theorem eq_k : Cert.AttnRef.rK a0 a1 a2 a3 = Cert.Attn.GK a0 a1 a2 a3 := by
  funext i
  refine (Cert.AttnRef.rK_at a0 a1 a2 a3 i).trans ?_
  unfold Cert.Attn.GK Cert.Attn.dsAt
  refine Finset.sum_congr rfl fun j _ => ?_
  rw [Cert.Attn.dsK_eq_dsR _ _ _ _ (hd_fin a0 h0 _ _ _) (hd_fin a3 h3 _ _ _) (hd_fin a1 h1 _ _) (hd_fin a2 h2 _ _)]

omit h2 in
theorem eq_v : Cert.AttnRef.rV a0 a1 a3 = Cert.Attn.GV a0 a1 a3 := by
  funext i
  refine (Cert.AttnRef.rV_at a0 a1 a3 i).trans ?_
  unfold Cert.Attn.GV
  refine Finset.sum_congr rfl fun j _ => ?_
  rw [Cert.Attn.dv_eq _ _ _ (hd_fin a0 h0 _ _ _) (hd_fin a3 h3 _ _ _) (hd_fin a1 h1 _ _)]

end Eq

theorem algebraic : Cert.algebraic_KernelIdeal_ReferenceIdeal_pre_finite
    (hKernelIdeal := Cert.KernelIdeal.Gen.facts) (hReferenceIdeal := Cert.ReferenceIdeal.Gen.facts) := by
  intro m g m' g' hpre hag
  have hf := fun c => finite_of_pre _ _ _ _ (hpre c)
  refine ⟨fun c => Cert.Attn.GQ (Cert.Attn.A0 m c) (Cert.Attn.A1 m c) (Cert.Attn.A2 m c) (Cert.Attn.A3 m c),
    fun c => Cert.Attn.GK (Cert.Attn.A0 m c) (Cert.Attn.A1 m c) (Cert.Attn.A2 m c) (Cert.Attn.A3 m c),
    fun c => Cert.Attn.GV (Cert.Attn.A0 m c) (Cert.Attn.A1 m c) (Cert.Attn.A3 m c), ?_, ?_⟩
  · refine (θ_run _ _ _).mono (fun r h c => ?_) (Cert.KernelIdeal.Value.run_blocks m g)
    obtain ⟨q, k, v, rest⟩ := h c
    exact ⟨q.trans (Cert.Attn.final_q m c), k.trans (Cert.Attn.final_k m c), v.trans (Cert.Attn.final_v m c), rest⟩
  · refine (θ_run _ _ _).mono (fun r h c => ?_) (Cert.ReferenceIdeal.Value.run m' g')
    obtain ⟨q, k, v, rest⟩ := h c
    obtain ⟨e0, e1, e2, e3⟩ := hag c
    refine ⟨q.trans ?_, k.trans ?_, v.trans ?_, rest⟩
    · rw [Cert.AttnRef.out0_eq, e0, e1, e2, e3]
      exact eq_q _ _ _ _ (fun i => (hf c i).1) (fun i => (hf c i).2.1) (fun i => (hf c i).2.2.1) (fun i => (hf c i).2.2.2)
    · rw [Cert.AttnRef.out1_eq, e0, e1, e2, e3]
      exact eq_k _ _ _ _ (fun i => (hf c i).1) (fun i => (hf c i).2.1) (fun i => (hf c i).2.2.1) (fun i => (hf c i).2.2.2)
    · rw [e0, e1, e3]
      exact eq_v _ _ _ (fun i => (hf c i).1) (fun i => (hf c i).2.1) (fun i => (hf c i).2.2.2)

end Cert.AttnClaim

end
-- ==== Proof.Product.lean ====
/- Products of two arrays over a shared axis, as sums read at an index. -/
module

public import Idealize.ShloMosaic.Lib.Pipeline.Value
public import Idealize.ShloMosaic.Lib.Pointwise

@[expose] public section

noncomputable section

namespace Cert.Product

open Idealize.ShloMosaic

/-- A matrix of extended reals. -/
abbrev Arr (n k : ℕ) := (⟨2, ![n, k]⟩ : Shape).Idx → EReal

/-- The two coordinates of an index. -/
def at0 {n k : ℕ} (i : (⟨2, ![n, k]⟩ : Shape).Idx) : Fin n := ⟨(i 0 : ℕ), (i 0).isLt⟩
def at1 {n k : ℕ} (i : (⟨2, ![n, k]⟩ : Shape).Idx) : Fin k := ⟨(i 1 : ℕ), (i 1).isLt⟩

/-- The product of `a` with the transpose of `b`: rows against rows. -/
def rows {n k l : ℕ} (a : Arr n l) (b : Arr k l) : Arr n k := fun i => ∑ d, a (ix2 (at0 i) d) * b (ix2 (at1 i) d)

/-- The product of the transpose of `a` with `b`: columns against columns. -/
def cols {n k l : ℕ} (a : Arr l n) (b : Arr l k) : Arr n k := fun i => ∑ s, a (ix2 s (at0 i)) * b (ix2 s (at1 i))

/-- The product of `a` with `b`: rows against columns. -/
def mul {n k l : ℕ} (a : Arr n l) (b : Arr l k) : Arr n k := fun i => ∑ d, a (ix2 (at0 i) d) * b (ix2 d (at1 i))

theorem rows_ix2 {n k l : ℕ} (a : Arr n l) (b : Arr k l) (r : Fin n) (s : Fin k) :
    rows a b (ix2 r s) = ∑ d, a (ix2 r d) * b (ix2 s d) := rfl

theorem cols_ix2 {n k l : ℕ} (a : Arr l n) (b : Arr l k) (r : Fin n) (s : Fin k) :
    cols a b (ix2 r s) = ∑ d, a (ix2 d r) * b (ix2 d s) := rfl

theorem hz : (![0, 0] : Fin 2 → Nat) = fun _ => 0 := funext fun a => by fin_cases a <;> rfl

end Cert.Product

end
-- ==== Proof.FfnOutDxValue.lean ====
/- The kernel FfnOutDx: a product in tiles, its result array as the whole product, and the reference's result. -/
module

public import proofs.«01_k».proof.Defs
public import proofs.«01_k».proof.Proof.Gen.FfnOutDxIdeal.Value
public import proofs.«01_k».proof.Proof.Gen.FfnOutDxRefIdeal.Run
public import proofs.«01_k».proof.Proof.Product
public import Idealize.ShloMosaic.Lib.Pipeline.ValueKit
public import Idealize.ShloMosaic.Lib.Claim

@[expose] public section

set_option maxRecDepth 16384

noncomputable section

namespace Cert.FfnOutDxProof

open Idealize.ShloMosaic Idealize.ShloMosaic.TcCoe Idealize.SL.Sem Cert.Product

/-! ## The reference's result -/

open Cert.FfnOutDxRefIdeal Cert.FfnOutDxRefIdeal.Gen in
theorem ref_eq (a1 : FVec Ideal Cert.FfnOutDxRefIdeal.S2816x1024 .bf16) (a2 : FVec Ideal Cert.FfnOutDxRefIdeal.S8192x1024 .f32) :
    Host.dotGeneral dot_S8192x1024_S2816x1024_S8192x2816_1_1_0_0_n_n none a2 (extf .f32 a1 bitsLt_bf16_f32)
      = rows a2 a1 := by
  funext i
  obtain ⟨r, s, rfl⟩ : ∃ r s, i = ix2 r s := ⟨i 0, i 1, eq_ix2 i⟩
  pointwise
  first
    | rfl
    | exact Finset.sum_congr rfl fun d _ => mul_comm _ _
    | exact congrArg (_ + ·) (Finset.sum_congr rfl fun d _ => mul_comm _ _)

open Cert.FfnOutDxIdeal Cert.FfnOutDxIdeal.Gen

/-! ## What the body computes of one tile -/

theorem pay (v3 : Vec Ideal S1024x1408 .f32) (v4 : Vec Ideal S1024x1024 .f32) (v5 : Vec Ideal S1408x1024 .bf16) (r : Fin 1024) (s : Fin 1408) :
    k0_pay2 (F := Ideal) v3 v4 v5 (ix2 r s) = v3 (ix2 r s) + ∑ d : Fin 1024, v4 (ix2 r d) * v5 (ix2 s d) := by
  pointwise [k0_pay2]

theorem pay_zero (r : Fin 1024) (s : Fin 1408) : k0_pay1 (F := Ideal) (ix2 r s) = 0 := by pointwise [k0_pay1]

section Out
variable {F : FTy → Type} [FloatOps F]
variable (c : Dev nD) (i : grid0.Coords) (a3 : Memref sig .tc .vmem S1024x1024 .f32) (h3 : a3.IsWhole) (a4 : Memref sig .tc .vmem S1408x1024 .bf16) (h4 : a4.IsWhole) (a5 : Memref sig .tc .vmem S1024x1408 .f32) (h5 : a5.IsWhole) (a6 : Memref sig .tc .vmem S1024x1408 .f32) (h6 : a6.IsWhole)
  (x0 : Vec F S1024x1024 .f32) (x1 : Vec F S1408x1024 .bf16)

theorem out_A (hc : cond0_0 i) (hd : cond0_1 i) : out0_A_2 c i a3 h3 a4 h4 a5 h5 a6 h6 hc hd x0 x1
    = k0_pay2 k0_pay1 x0 x1 := by
  unfold out0_A_2
  rw [View.read_writes_eq_canon _ _ _ (cover0_A_2 c i a3 h3 a4 h4 a5 h5 a6 h6 hc hd x0 x1)]
  unfold kernelRun0_A
  dsimp only
  sl_unfold_words
  rw [View.canon_unit_zero (S := S1024x1408) hz, View.readCov_cons_toLoadRect, View.readCov_unit_zero (S := S1024x1408) _ hz]
  simp only [View.readAt_eq_ld, h3.read_unread, h4.read_unread, View.ld_unit_zero (S := S1024x1024) hz, View.ld_unit_zero (S := S1024x1408) hz, View.ld_unit_zero (S := S1408x1024) hz]

end Out

/-! ## The result array -/

variable (m : (ℓ : Loc nD τ sig) → Buf (Elt Ideal) ℓ) (ρ : Dev nD → PrngReg)

theorem idx : ∀ t : Fin cfg0.N, win0_0.index t = ![t.val / 2, t.val % 1] ∧ win0_1.index t = ![t.val / 1 % 2, t.val % 1]
    ∧ win0_2.index t = ![t.val / 2, t.val / 1 % 2] ∧ t.val < 16 :=
  (by decide +kernel : ∀ t : Fin grid0.N, _)

/-- The row, the column and the position on the shared axis of tile `t`'s entries. -/
def ti (t : Fin cfg0.N) (r : Fin 1024) : Fin 8192 := ⟨t.val / 2 * 1024 + r.val, by have := (idx t).2.2.2; omega⟩
def tj (t : Fin cfg0.N) (s : Fin 1408) : Fin 2816 := ⟨t.val / 1 % 2 * 1408 + s.val, by omega⟩
def tk (t : Fin cfg0.N) (d : Fin 1024) : Fin 1024 := ⟨t.val % 1 * 1024 + d.val, by omega⟩

abbrev A (c : Dev nD) : Arr 8192 1024 := m ((c : Thread nD τ).loc main_arg2)
abbrev B (c : Dev nD) : Arr 2816 1024 := m ((c : Thread nD τ).loc main_arg1)

theorem blk_a (c : Dev nD) (t : Fin cfg0.N) (r : Fin 1024) (d : Fin 1024) :
    (show Vec Ideal S1024x1024 .f32 from iblk m c 0 t) (ix2 r d) = A m c (ix2 (ti t r) (tk t d)) := by
  unfold ti tk A
  blk_point [iblk, V, idx t]

theorem blk_b (c : Dev nD) (t : Fin cfg0.N) (s : Fin 1408) (d : Fin 1024) :
    (show Vec Ideal S1408x1024 .bf16 from iblk m c 1 t) (ix2 s d) = B m c (ix2 (tj t s) (tk t d)) := by
  unfold tj tk B
  blk_point [iblk, V, idx t]

/-- What tile `t` adds to its block. -/
def part (c : Dev nD) (t : Fin cfg0.N) (y : S1024x1408.Idx) : EReal :=
  ∑ d, A m c (ix2 (ti t (at0 y)) (tk t d)) * B m c (ix2 (tj t (at1 y)) (tk t d))

theorem part_ix2 (c : Dev nD) (t : Fin cfg0.N) (r : Fin 1024) (s : Fin 1408) :
    part m c t (ix2 r s) = ∑ d, A m c (ix2 (ti t r) (tk t d)) * B m c (ix2 (tj t s) (tk t d)) := rfl

theorem pay_part (c : Dev nD) (t : Fin cfg0.N) (v : Vec Ideal S1024x1408 .f32) (r : Fin 1024) (s : Fin 1408) :
    k0_pay2 (F := Ideal) v (iblk m c 0 t) (iblk m c 1 t) (ix2 r s) = v (ix2 r s) + part m c t (ix2 r s) := by
  refine (pay _ _ _ r s).trans ?_
  refine congrArg (v (ix2 r s) + ·) (Finset.sum_congr rfl fun d _ => ?_)
  exact congrArg₂ (· * ·) (blk_a m c t r d) (blk_b m c t s d)

theorem final (c : Dev nD) : (dats m 0 c).arrAt 2 cfg0.N = rows (A m c) (B m c) := by
  refine (dats m 0 c).arrAt_eq_of_covers 2 _ (by decide +kernel) fun t hf y => ?_
  blk_simp
  rw [after0_2]
  obtain ⟨r, s, rfl⟩ : ∃ (r : Fin 1024) (s : Fin 1408), y = ix2 r s := ⟨y 0, y 1, eq_ix2 y⟩
  have e0 : at0 ((win0_2.blk t).view.emb (ix2 r s)) = ti t r := by
    unfold at0 ti; apply Fin.ext; dsimp only; blk_simp [idx t]
  have e1 : at1 ((win0_2.blk t).view.emb (ix2 r s)) = tj t s := by
    unfold at1 tj; apply Fin.ext; dsimp only; blk_simp [idx t]
  unfold outsAt0
  rw [out_A]
  refine (pay_part m c t _ r s).trans ?_
  rw [pay_zero, zero_add]
  unfold rows
  rw [e0, e1]
  simp only [part_ix2]
  refine Finset.sum_congr rfl fun d _ => ?_
  rw [show tk t d = d from by unfold tk; apply Fin.ext; dsimp only; omega]

/-! ## The claims -/

theorem frame_ref : Cert.quiescent_FfnOutDxRefIdeal (hFfnOutDxRefIdeal := Cert.FfnOutDxRefIdeal.Gen.facts) := fun m ρ _ =>
  (θ_run _ _ _).mono (fun r h => ⟨fun c => ((h c).2 : _), sem_eq_zero_of_no_sems (by decide) r.2⟩)
    (Cert.FfnOutDxRefIdeal.Value.run m ρ)

theorem algebraic : Cert.algebraic_FfnOutDxIdeal_FfnOutDxRefIdeal
    (hFfnOutDxIdeal := Cert.FfnOutDxIdeal.Gen.facts) (hFfnOutDxRefIdeal := Cert.FfnOutDxRefIdeal.Gen.facts) := by
  intro m g m' g' _ hag
  refine ⟨fun c => rows (A m c) (B m c), ?_, ?_⟩
  · refine (θ_run _ _ _).mono (fun r h c => ?_) (Cert.FfnOutDxIdeal.Value.run_blocks m g)
    exact ⟨(h c).1.trans (final m c), (h c).2⟩
  · refine (θ_run _ _ _).mono (fun r h c => ?_) (Cert.FfnOutDxRefIdeal.Value.run m' g')
    refine ⟨(h c).1.trans ?_, (h c).2⟩
    obtain ⟨e0, e1, e2⟩ := hag c
    rw [e1, e2]
    exact ref_eq _ _

end Cert.FfnOutDxProof

end
-- ==== Proof.FfnOutDwValue.lean ====
/- The kernel FfnOutDw: a product in tiles, its result array as the whole product, and the reference's result. -/
module

public import proofs.«01_k».proof.Defs
public import proofs.«01_k».proof.Proof.Gen.FfnOutDwIdeal.Value
public import proofs.«01_k».proof.Proof.Gen.FfnOutDwRefIdeal.Run
public import proofs.«01_k».proof.Proof.Product
public import Idealize.ShloMosaic.Lib.Pipeline.ValueKit
public import Idealize.ShloMosaic.Lib.Claim

@[expose] public section

set_option maxRecDepth 16384

noncomputable section

namespace Cert.FfnOutDwProof

open Idealize.ShloMosaic Idealize.ShloMosaic.TcCoe Idealize.SL.Sem Cert.Product

/-! ## The reference's result -/

open Cert.FfnOutDwRefIdeal Cert.FfnOutDwRefIdeal.Gen in
theorem ref_eq (a0 : FVec Ideal Cert.FfnOutDwRefIdeal.S8192x2816 .bf16) (a2 : FVec Ideal Cert.FfnOutDwRefIdeal.S8192x1024 .f32) :
    transpose S2816x1024 [1, 0] (Host.dotGeneral dot_S8192x1024_S8192x2816_S1024x2816_0_0_1_1_n_n none a2 (extf .f32 a0 bitsLt_bf16_f32)) transposes_S1024x2816_S2816x1024_1_0
      = cols a0 a2 := by
  funext i
  obtain ⟨r, s, rfl⟩ : ∃ r s, i = ix2 r s := ⟨i 0, i 1, eq_ix2 i⟩
  pointwise
  first
    | rfl
    | exact Finset.sum_congr rfl fun d _ => mul_comm _ _
    | exact congrArg (_ + ·) (Finset.sum_congr rfl fun d _ => mul_comm _ _)

open Cert.FfnOutDwIdeal Cert.FfnOutDwIdeal.Gen

/-! ## What the body computes of one tile -/

theorem pay (v3 : Vec Ideal S1408x1024 .f32) (v4 : Vec Ideal S1024x1408 .bf16) (v5 : Vec Ideal S1024x1024 .f32) (r : Fin 1408) (s : Fin 1024) :
    k0_pay2 (F := Ideal) v3 v4 v5 (ix2 r s) = v3 (ix2 r s) + ∑ d : Fin 1024, v4 (ix2 d r) * v5 (ix2 d s) := by
  pointwise [k0_pay2]

theorem pay_zero (r : Fin 1408) (s : Fin 1024) : k0_pay1 (F := Ideal) (ix2 r s) = 0 := by pointwise [k0_pay1]

section Out
variable {F : FTy → Type} [FloatOps F]
variable (c : Dev nD) (i : grid0.Coords) (a3 : Memref sig .tc .vmem S1024x1408 .bf16) (h3 : a3.IsWhole) (a4 : Memref sig .tc .vmem S1024x1024 .f32) (h4 : a4.IsWhole) (a5 : Memref sig .tc .vmem S1408x1024 .f32) (h5 : a5.IsWhole) (a6 : Memref sig .tc .vmem S1408x1024 .f32) (h6 : a6.IsWhole)
  (x0 : Vec F S1024x1408 .bf16) (x1 : Vec F S1024x1024 .f32)

variable (y : Vec F S1408x1024 .f32)

theorem held_A (hc : cond0_0 i) (hd : ¬cond0_1 i) : sout0_A_0 c i a3 h3 a4 h4 a5 h5 a6 h6 hc hd x0 x1
    = k0_pay2 k0_pay1 x0 x1 := by
  unfold sout0_A_0
  rw [View.read_writes_eq_canon _ _ _ (scover0_A_0 c i a3 h3 a4 h4 a5 h5 a6 h6 hc hd x0 x1)]
  unfold kernelRun0_A
  dsimp only
  sl_unfold_words
  rw [View.canon_cons_unit_zero (S := S1408x1024) hz, View.readCov_unit_zero (S := S1408x1024) _ hz]
  simp only [View.readAt_eq_ld, h3.read_unread, h4.read_unread, View.ld_unit_zero (S := S1024x1024) hz, View.ld_unit_zero (S := S1024x1408) hz, View.ld_unit_zero (S := S1408x1024) hz]

theorem held_B (hc : ¬cond0_0 i) (hd : ¬cond0_1 i) : sout0_B_0 c i a3 h3 a4 h4 a5 h5 a6 h6 hc hd x0 x1 y
    = k0_pay2 y x0 x1 := by
  unfold sout0_B_0
  rw [View.read_writes_eq_canon _ _ _ (scover0_B_0 c i a3 h3 a4 h4 a5 h5 a6 h6 hc hd x0 x1 y)]
  unfold kernelRun0_B
  dsimp only
  sl_unfold_words
  rw [View.canon_unit_zero (S := S1408x1024) hz]
  simp only [View.readAt_eq_ld, h3.read_unread, h4.read_unread, h6.read_unread, View.ld_unit_zero (S := S1024x1024) hz, View.ld_unit_zero (S := S1024x1408) hz, View.ld_unit_zero (S := S1408x1024) hz]

theorem held_C (hc : ¬cond0_0 i) (hd : cond0_1 i) : sout0_C_0 c i a3 h3 a4 h4 a5 h5 a6 h6 hc hd x0 x1 y
    = k0_pay2 y x0 x1 := by
  unfold sout0_C_0
  rw [View.read_writes_eq_canon _ _ _ (scover0_C_0 c i a3 h3 a4 h4 a5 h5 a6 h6 hc hd x0 x1 y)]
  unfold kernelRun0_C
  dsimp only
  sl_unfold_words
  rw [View.canon_unit_zero (S := S1408x1024) hz]
  simp only [View.readAt_eq_ld, h3.read_unread, h4.read_unread, h6.read_unread, View.ld_unit_zero (S := S1024x1024) hz, View.ld_unit_zero (S := S1024x1408) hz, View.ld_unit_zero (S := S1408x1024) hz]

theorem out_C (hc : ¬cond0_0 i) (hd : cond0_1 i) : out0_C_2 c i a3 h3 a4 h4 a5 h5 a6 h6 hc hd x0 x1 y
    = k0_pay2 y x0 x1 := by
  unfold out0_C_2
  rw [View.read_writes_eq_canon _ _ _ (cover0_C_2 c i a3 h3 a4 h4 a5 h5 a6 h6 hc hd x0 x1 y)]
  unfold kernelRun0_C
  dsimp only
  sl_unfold_words
  rw [View.canon_unit_zero (S := S1408x1024) hz, View.readCov_unit_zero (S := S1408x1024) _ hz]
  simp only [View.readAt_eq_ld, h3.read_unread, h4.read_unread, h6.read_unread, View.ld_unit_zero (S := S1024x1024) hz, View.ld_unit_zero (S := S1024x1408) hz, View.ld_unit_zero (S := S1408x1024) hz]

end Out

/-! ## The result array -/

variable (m : (ℓ : Loc nD τ sig) → Buf (Elt Ideal) ℓ) (ρ : Dev nD → PrngReg)

theorem idx : ∀ t : Fin cfg0.N, win0_0.index t = ![t.val % 8, t.val / 8] ∧ win0_1.index t = ![t.val % 8, t.val / 8 % 1]
    ∧ win0_2.index t = ![t.val / 8, t.val / 8 % 1] ∧ t.val < 16 :=
  (by decide +kernel : ∀ t : Fin grid0.N, _)

/-- The row, the column and the position on the shared axis of tile `t`'s entries. -/
def ti (t : Fin cfg0.N) (r : Fin 1408) : Fin 2816 := ⟨t.val / 8 * 1408 + r.val, by have := (idx t).2.2.2; omega⟩
def tj (t : Fin cfg0.N) (s : Fin 1024) : Fin 1024 := ⟨t.val / 8 % 1 * 1024 + s.val, by omega⟩
def tk (t : Fin cfg0.N) (d : Fin 1024) : Fin 8192 := ⟨t.val % 8 * 1024 + d.val, by omega⟩

abbrev A (c : Dev nD) : Arr 8192 2816 := m ((c : Thread nD τ).loc main_arg0)
abbrev B (c : Dev nD) : Arr 8192 1024 := m ((c : Thread nD τ).loc main_arg2)

theorem blk_a (c : Dev nD) (t : Fin cfg0.N) (r : Fin 1408) (d : Fin 1024) :
    (show Vec Ideal S1024x1408 .bf16 from iblk m c 0 t) (ix2 d r) = A m c (ix2 (tk t d) (ti t r)) := by
  unfold ti tk A
  blk_point [iblk, V, idx t]

theorem blk_b (c : Dev nD) (t : Fin cfg0.N) (s : Fin 1024) (d : Fin 1024) :
    (show Vec Ideal S1024x1024 .f32 from iblk m c 1 t) (ix2 d s) = B m c (ix2 (tk t d) (tj t s)) := by
  unfold tj tk B
  blk_point [iblk, V, idx t]

/-- What tile `t` adds to its block. -/
def part (c : Dev nD) (t : Fin cfg0.N) (y : S1408x1024.Idx) : EReal :=
  ∑ d, A m c (ix2 (tk t d) (ti t (at0 y))) * B m c (ix2 (tk t d) (tj t (at1 y)))

theorem part_ix2 (c : Dev nD) (t : Fin cfg0.N) (r : Fin 1408) (s : Fin 1024) :
    part m c t (ix2 r s) = ∑ d, A m c (ix2 (tk t d) (ti t r)) * B m c (ix2 (tk t d) (tj t s)) := rfl

theorem pay_part (c : Dev nD) (t : Fin cfg0.N) (v : Vec Ideal S1408x1024 .f32) (r : Fin 1408) (s : Fin 1024) :
    k0_pay2 (F := Ideal) v (iblk m c 0 t) (iblk m c 1 t) (ix2 r s) = v (ix2 r s) + part m c t (ix2 r s) := by
  refine (pay _ _ _ r s).trans ?_
  refine congrArg (v (ix2 r s) + ·) (Finset.sum_congr rfl fun d _ => ?_)
  exact congrArg₂ (· * ·) (blk_a m c t r d) (blk_b m c t s d)

theorem reset (c : Dev nD) (t : Fin cfg0.N) (h : t.val % 8 = 0) (y : S1408x1024.Idx) :
    (outsAt0 m c t.val t.isLt).2 y = 0 + part m c t y := by
  obtain ⟨r, s, rfl⟩ : ∃ r s, y = ix2 r s := ⟨y 0, y 1, eq_ix2 y⟩
  rw [outsAt0_A m c t h (by omega)]
  dsimp only
  rw [held_A]
  refine (pay_part m c t _ r s).trans ?_
  rw [pay_zero]

theorem step (c : Dev nD) (t : Fin cfg0.N) (h : ¬t.val % 8 = 0) (y : S1408x1024.Idx) :
    (outsAt0 m c t.val t.isLt).2 y = (outsAt0 m c (t.val - 1) (Nat.lt_of_le_of_lt (Nat.sub_le _ _) t.isLt)).2 y + part m c t y := by
  obtain ⟨r, s, rfl⟩ : ∃ r s, y = ix2 r s := ⟨y 0, y 1, eq_ix2 y⟩
  by_cases h1 : t.val % 8 = 7
  · rw [outsAt0_C m c t h h1]
    dsimp only
    rw [held_C]
    exact pay_part m c t _ r s
  · rw [outsAt0_B m c t h h1]
    dsimp only
    rw [held_B]
    exact pay_part m c t _ r s

theorem leaves (c : Dev nD) (t : Fin cfg0.N) (h : t.val % 8 = 7) (r : Fin 1408) (s : Fin 1024) :
    (outsAt0 m c t.val t.isLt).1 (ix2 r s) = (outsAt0 m c t.val t.isLt).2 (ix2 r s) := by
  rw [outsAt0_C m c t (by omega) h]
  dsimp only
  rw [out_C, held_C]

theorem ti_run (t : Fin cfg0.N) (s : Fin 8) (h) (r : Fin 1408) : ti ⟨8 * (t.val / 8) + s.val, h⟩ r = ti t r := by
  unfold ti; apply Fin.ext; dsimp only; omega

theorem tj_run (t : Fin cfg0.N) (s : Fin 8) (h) (r : Fin 1024) : tj ⟨8 * (t.val / 8) + s.val, h⟩ r = tj t r := by
  unfold tj; apply Fin.ext; dsimp only; omega

theorem tk_run (t : Fin cfg0.N) (s : Fin 8) (h) (d : Fin 1024) :
    tk ⟨8 * (t.val / 8) + s.val, h⟩ d = ⟨s.val * 1024 + d.val, by omega⟩ := by
  unfold tk; apply Fin.ext; dsimp only; omega

theorem final (c : Dev nD) : (dats m 0 c).arrAt 2 cfg0.N = cols (A m c) (B m c) := by
  refine (dats m 0 c).arrAt_eq_of_covers 2 _ (by decide +kernel) fun t hf y => ?_
  blk_simp
  rw [after0_2]
  obtain ⟨r, s, rfl⟩ : ∃ (r : Fin 1408) (s : Fin 1024), y = ix2 r s := ⟨y 0, y 1, eq_ix2 y⟩
  have e0 : at0 ((win0_2.blk t).view.emb (ix2 r s)) = ti t r := by
    unfold at0 ti; apply Fin.ext; dsimp only; blk_simp [idx t]
  have e1 : at1 ((win0_2.blk t).view.emb (ix2 r s)) = tj t s := by
    unfold at1 tj; apply Fin.ext; dsimp only; blk_simp [idx t]
  have hl : t.val % 8 = 7 := (flush0_2 t).mp hf
  rw [leaves m c t hl,
    Pipeline.eq_sum_fin_of_reset_step_apply_of_flush (fun n h => (outsAt0 m c n h).2) 8 (fun _ => 0) (part m c)
      (reset m c) (step m c) t hl _, zero_add]
  unfold cols
  rw [e0, e1]
  simp only [part_ix2]
  refine Fin.sum_mul_add_congr fun k d hl => ?_
  rw [ti_run, tj_run, tk_run]

/-! ## The claims -/

theorem frame_ref : Cert.quiescent_FfnOutDwRefIdeal (hFfnOutDwRefIdeal := Cert.FfnOutDwRefIdeal.Gen.facts) := fun m ρ _ =>
  (θ_run _ _ _).mono (fun r h => ⟨fun c => ((h c).2 : _), sem_eq_zero_of_no_sems (by decide) r.2⟩)
    (Cert.FfnOutDwRefIdeal.Value.run m ρ)

theorem algebraic : Cert.algebraic_FfnOutDwIdeal_FfnOutDwRefIdeal
    (hFfnOutDwIdeal := Cert.FfnOutDwIdeal.Gen.facts) (hFfnOutDwRefIdeal := Cert.FfnOutDwRefIdeal.Gen.facts) := by
  intro m g m' g' _ hag
  refine ⟨fun c => cols (A m c) (B m c), ?_, ?_⟩
  · refine (θ_run _ _ _).mono (fun r h c => ?_) (Cert.FfnOutDwIdeal.Value.run_blocks m g)
    exact ⟨(h c).1.trans (final m c), (h c).2⟩
  · refine (θ_run _ _ _).mono (fun r h c => ?_) (Cert.FfnOutDwRefIdeal.Value.run m' g')
    refine ⟨(h c).1.trans ?_, (h c).2⟩
    obtain ⟨e0, e1, e2⟩ := hag c
    rw [e0, e2]
    exact ref_eq _ _

end Cert.FfnOutDwProof

end
-- ==== Proof.FfnInDxValue.lean ====
/- The kernel FfnInDx: a product in tiles, its result array as the whole product, and the reference's result. -/
module

public import proofs.«01_k».proof.Defs
public import proofs.«01_k».proof.Proof.Gen.FfnInDxIdeal.Value
public import proofs.«01_k».proof.Proof.Gen.FfnInDxRefIdeal.Run
public import proofs.«01_k».proof.Proof.Product
public import Idealize.ShloMosaic.Lib.Pipeline.ValueKit
public import Idealize.ShloMosaic.Lib.Claim

@[expose] public section

set_option maxRecDepth 16384

noncomputable section

namespace Cert.FfnInDxProof

open Idealize.ShloMosaic Idealize.ShloMosaic.TcCoe Idealize.SL.Sem Cert.Product

/-! ## The reference's result -/

open Cert.FfnInDxRefIdeal Cert.FfnInDxRefIdeal.Gen in
theorem ref_eq (a1 : FVec Ideal Cert.FfnInDxRefIdeal.S1024x5632 .bf16) (a2 : FVec Ideal Cert.FfnInDxRefIdeal.S8192x5632 .bf16) :
    Host.dotGeneral dot_S8192x5632_S1024x5632_S8192x1024_1_1_0_0_n_n none (extf .f32 a2 bitsLt_bf16_f32) (extf .f32 a1 bitsLt_bf16_f32)
      = rows a2 a1 := by
  funext i
  obtain ⟨r, s, rfl⟩ : ∃ r s, i = ix2 r s := ⟨i 0, i 1, eq_ix2 i⟩
  pointwise
  first
    | rfl
    | exact Finset.sum_congr rfl fun d _ => mul_comm _ _
    | exact congrArg (_ + ·) (Finset.sum_congr rfl fun d _ => mul_comm _ _)

open Cert.FfnInDxIdeal Cert.FfnInDxIdeal.Gen

/-! ## What the body computes of one tile -/

theorem pay (v3 : Vec Ideal S1024x1024 .f32) (v4 : Vec Ideal S1024x512 .bf16) (v5 : Vec Ideal S1024x512 .bf16) (r : Fin 1024) (s : Fin 1024) :
    k0_pay2 (F := Ideal) v3 v4 v5 (ix2 r s) = v3 (ix2 r s) + ∑ d : Fin 512, v4 (ix2 r d) * v5 (ix2 s d) := by
  pointwise [k0_pay2]

theorem pay_zero (r : Fin 1024) (s : Fin 1024) : k0_pay1 (F := Ideal) (ix2 r s) = 0 := by pointwise [k0_pay1]

section Out
variable {F : FTy → Type} [FloatOps F]
variable (c : Dev nD) (i : grid0.Coords) (a3 : Memref sig .tc .vmem S1024x512 .bf16) (h3 : a3.IsWhole) (a4 : Memref sig .tc .vmem S1024x512 .bf16) (h4 : a4.IsWhole) (a5 : Memref sig .tc .vmem S1024x1024 .f32) (h5 : a5.IsWhole) (a6 : Memref sig .tc .vmem S1024x1024 .f32) (h6 : a6.IsWhole)
  (x0 : Vec F S1024x512 .bf16) (x1 : Vec F S1024x512 .bf16)

variable (y : Vec F S1024x1024 .f32)

theorem held_A (hc : cond0_0 i) (hd : ¬cond0_1 i) : sout0_A_0 c i a3 h3 a4 h4 a5 h5 a6 h6 hc hd x0 x1
    = k0_pay2 k0_pay1 x0 x1 := by
  unfold sout0_A_0
  rw [View.read_writes_eq_canon _ _ _ (scover0_A_0 c i a3 h3 a4 h4 a5 h5 a6 h6 hc hd x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz, View.ld_unit_zero (S := S1024x512) hz]

theorem held_B (hc : ¬cond0_0 i) (hd : ¬cond0_1 i) : sout0_B_0 c i a3 h3 a4 h4 a5 h5 a6 h6 hc hd x0 x1 y
    = k0_pay2 y x0 x1 := by
  unfold sout0_B_0
  rw [View.read_writes_eq_canon _ _ _ (scover0_B_0 c i a3 h3 a4 h4 a5 h5 a6 h6 hc hd x0 x1 y)]
  unfold kernelRun0_B
  dsimp only
  sl_unfold_words
  rw [View.canon_unit_zero (S := S1024x1024) hz]
  simp only [View.readAt_eq_ld, h3.read_unread, h4.read_unread, h6.read_unread, View.ld_unit_zero (S := S1024x1024) hz, View.ld_unit_zero (S := S1024x512) hz]

theorem held_C (hc : ¬cond0_0 i) (hd : cond0_1 i) : sout0_C_0 c i a3 h3 a4 h4 a5 h5 a6 h6 hc hd x0 x1 y
    = k0_pay2 y x0 x1 := by
  unfold sout0_C_0
  rw [View.read_writes_eq_canon _ _ _ (scover0_C_0 c i a3 h3 a4 h4 a5 h5 a6 h6 hc hd x0 x1 y)]
  unfold kernelRun0_C
  dsimp only
  sl_unfold_words
  rw [View.canon_unit_zero (S := S1024x1024) hz]
  simp only [View.readAt_eq_ld, h3.read_unread, h4.read_unread, h6.read_unread, View.ld_unit_zero (S := S1024x1024) hz, View.ld_unit_zero (S := S1024x512) hz]

theorem out_C (hc : ¬cond0_0 i) (hd : cond0_1 i) : out0_C_2 c i a3 h3 a4 h4 a5 h5 a6 h6 hc hd x0 x1 y
    = k0_pay2 y x0 x1 := by
  unfold out0_C_2
  rw [View.read_writes_eq_canon _ _ _ (cover0_C_2 c i a3 h3 a4 h4 a5 h5 a6 h6 hc hd x0 x1 y)]
  unfold kernelRun0_C
  dsimp only
  sl_unfold_words
  rw [View.canon_unit_zero (S := S1024x1024) hz, View.readCov_unit_zero (S := S1024x1024) _ hz]
  simp only [View.readAt_eq_ld, h3.read_unread, h4.read_unread, h6.read_unread, View.ld_unit_zero (S := S1024x1024) hz, View.ld_unit_zero (S := S1024x512) hz]

end Out

/-! ## The result array -/

variable (m : (ℓ : Loc nD τ sig) → Buf (Elt Ideal) ℓ) (ρ : Dev nD → PrngReg)

theorem idx : ∀ t : Fin cfg0.N, win0_0.index t = ![t.val / 11, t.val % 11] ∧ win0_1.index t = ![t.val / 11 % 1, t.val % 11]
    ∧ win0_2.index t = ![t.val / 11, t.val / 11 % 1] ∧ t.val < 88 :=
  (by decide +kernel : ∀ t : Fin grid0.N, _)

/-- The row, the column and the position on the shared axis of tile `t`'s entries. -/
def ti (t : Fin cfg0.N) (r : Fin 1024) : Fin 8192 := ⟨t.val / 11 * 1024 + r.val, by have := (idx t).2.2.2; omega⟩
def tj (t : Fin cfg0.N) (s : Fin 1024) : Fin 1024 := ⟨t.val / 11 % 1 * 1024 + s.val, by omega⟩
def tk (t : Fin cfg0.N) (d : Fin 512) : Fin 5632 := ⟨t.val % 11 * 512 + d.val, by omega⟩

abbrev A (c : Dev nD) : Arr 8192 5632 := m ((c : Thread nD τ).loc main_arg2)
abbrev B (c : Dev nD) : Arr 1024 5632 := m ((c : Thread nD τ).loc main_arg1)

theorem blk_a (c : Dev nD) (t : Fin cfg0.N) (r : Fin 1024) (d : Fin 512) :
    (show Vec Ideal S1024x512 .bf16 from iblk m c 0 t) (ix2 r d) = A m c (ix2 (ti t r) (tk t d)) := by
  unfold ti tk A
  blk_point [iblk, V, idx t]

theorem blk_b (c : Dev nD) (t : Fin cfg0.N) (s : Fin 1024) (d : Fin 512) :
    (show Vec Ideal S1024x512 .bf16 from iblk m c 1 t) (ix2 s d) = B m c (ix2 (tj t s) (tk t d)) := by
  unfold tj tk B
  blk_point [iblk, V, idx t]

/-- What tile `t` adds to its block. -/
def part (c : Dev nD) (t : Fin cfg0.N) (y : S1024x1024.Idx) : EReal :=
  ∑ d, A m c (ix2 (ti t (at0 y)) (tk t d)) * B m c (ix2 (tj t (at1 y)) (tk t d))

theorem part_ix2 (c : Dev nD) (t : Fin cfg0.N) (r : Fin 1024) (s : Fin 1024) :
    part m c t (ix2 r s) = ∑ d, A m c (ix2 (ti t r) (tk t d)) * B m c (ix2 (tj t s) (tk t d)) := rfl

theorem pay_part (c : Dev nD) (t : Fin cfg0.N) (v : Vec Ideal S1024x1024 .f32) (r : Fin 1024) (s : Fin 1024) :
    k0_pay2 (F := Ideal) v (iblk m c 0 t) (iblk m c 1 t) (ix2 r s) = v (ix2 r s) + part m c t (ix2 r s) := by
  refine (pay _ _ _ r s).trans ?_
  refine congrArg (v (ix2 r s) + ·) (Finset.sum_congr rfl fun d _ => ?_)
  exact congrArg₂ (· * ·) (blk_a m c t r d) (blk_b m c t s d)

theorem reset (c : Dev nD) (t : Fin cfg0.N) (h : t.val % 11 = 0) (y : S1024x1024.Idx) :
    (outsAt0 m c t.val t.isLt).2 y = 0 + part m c t y := by
  obtain ⟨r, s, rfl⟩ : ∃ r s, y = ix2 r s := ⟨y 0, y 1, eq_ix2 y⟩
  rw [outsAt0_A m c t h (by omega)]
  dsimp only
  rw [held_A]
  refine (pay_part m c t _ r s).trans ?_
  rw [pay_zero]

theorem step (c : Dev nD) (t : Fin cfg0.N) (h : ¬t.val % 11 = 0) (y : S1024x1024.Idx) :
    (outsAt0 m c t.val t.isLt).2 y = (outsAt0 m c (t.val - 1) (Nat.lt_of_le_of_lt (Nat.sub_le _ _) t.isLt)).2 y + part m c t y := by
  obtain ⟨r, s, rfl⟩ : ∃ r s, y = ix2 r s := ⟨y 0, y 1, eq_ix2 y⟩
  by_cases h1 : t.val % 11 = 10
  · rw [outsAt0_C m c t h h1]
    dsimp only
    rw [held_C]
    exact pay_part m c t _ r s
  · rw [outsAt0_B m c t h h1]
    dsimp only
    rw [held_B]
    exact pay_part m c t _ r s

theorem leaves (c : Dev nD) (t : Fin cfg0.N) (h : t.val % 11 = 10) (r : Fin 1024) (s : Fin 1024) :
    (outsAt0 m c t.val t.isLt).1 (ix2 r s) = (outsAt0 m c t.val t.isLt).2 (ix2 r s) := by
  rw [outsAt0_C m c t (by omega) h]
  dsimp only
  rw [out_C, held_C]

theorem ti_run (t : Fin cfg0.N) (s : Fin 11) (h) (r : Fin 1024) : ti ⟨11 * (t.val / 11) + s.val, h⟩ r = ti t r := by
  unfold ti; apply Fin.ext; dsimp only; omega

theorem tj_run (t : Fin cfg0.N) (s : Fin 11) (h) (r : Fin 1024) : tj ⟨11 * (t.val / 11) + s.val, h⟩ r = tj t r := by
  unfold tj; apply Fin.ext; dsimp only; omega

theorem tk_run (t : Fin cfg0.N) (s : Fin 11) (h) (d : Fin 512) :
    tk ⟨11 * (t.val / 11) + s.val, h⟩ d = ⟨s.val * 512 + d.val, by omega⟩ := by
  unfold tk; apply Fin.ext; dsimp only; omega

theorem final (c : Dev nD) : (dats m 0 c).arrAt 2 cfg0.N = rows (A m c) (B m c) := by
  refine (dats m 0 c).arrAt_eq_of_covers 2 _ (by decide +kernel) fun t hf y => ?_
  blk_simp
  rw [after0_2]
  obtain ⟨r, s, rfl⟩ : ∃ (r : Fin 1024) (s : Fin 1024), y = ix2 r s := ⟨y 0, y 1, eq_ix2 y⟩
  have e0 : at0 ((win0_2.blk t).view.emb (ix2 r s)) = ti t r := by
    unfold at0 ti; apply Fin.ext; dsimp only; blk_simp [idx t]
  have e1 : at1 ((win0_2.blk t).view.emb (ix2 r s)) = tj t s := by
    unfold at1 tj; apply Fin.ext; dsimp only; blk_simp [idx t]
  have hl : t.val % 11 = 10 := (flush0_2 t).mp hf
  rw [leaves m c t hl,
    Pipeline.eq_sum_fin_of_reset_step_apply_of_flush (fun n h => (outsAt0 m c n h).2) 11 (fun _ => 0) (part m c)
      (reset m c) (step m c) t hl _, zero_add]
  unfold rows
  rw [e0, e1]
  simp only [part_ix2]
  refine Fin.sum_mul_add_congr fun k d hl => ?_
  rw [ti_run, tj_run, tk_run]

/-! ## The claims -/

theorem frame_ref : Cert.quiescent_FfnInDxRefIdeal (hFfnInDxRefIdeal := Cert.FfnInDxRefIdeal.Gen.facts) := fun m ρ _ =>
  (θ_run _ _ _).mono (fun r h => ⟨fun c => ((h c).2 : _), sem_eq_zero_of_no_sems (by decide) r.2⟩)
    (Cert.FfnInDxRefIdeal.Value.run m ρ)

theorem algebraic : Cert.algebraic_FfnInDxIdeal_FfnInDxRefIdeal
    (hFfnInDxIdeal := Cert.FfnInDxIdeal.Gen.facts) (hFfnInDxRefIdeal := Cert.FfnInDxRefIdeal.Gen.facts) := by
  intro m g m' g' _ hag
  refine ⟨fun c => rows (A m c) (B m c), ?_, ?_⟩
  · refine (θ_run _ _ _).mono (fun r h c => ?_) (Cert.FfnInDxIdeal.Value.run_blocks m g)
    exact ⟨(h c).1.trans (final m c), (h c).2⟩
  · refine (θ_run _ _ _).mono (fun r h c => ?_) (Cert.FfnInDxRefIdeal.Value.run m' g')
    refine ⟨(h c).1.trans ?_, (h c).2⟩
    obtain ⟨e0, e1, e2⟩ := hag c
    rw [e1, e2]
    exact ref_eq _ _

end Cert.FfnInDxProof

end
-- ==== Proof.FfnInDwValue.lean ====
/- The kernel FfnInDw: a product in tiles, its result array as the whole product, and the reference's result. -/
module

public import proofs.«01_k».proof.Defs
public import proofs.«01_k».proof.Proof.Gen.FfnInDwIdeal.Value
public import proofs.«01_k».proof.Proof.Gen.FfnInDwRefIdeal.Run
public import proofs.«01_k».proof.Proof.Product
public import Idealize.ShloMosaic.Lib.Pipeline.ValueKit
public import Idealize.ShloMosaic.Lib.Claim

@[expose] public section

set_option maxRecDepth 16384

noncomputable section

namespace Cert.FfnInDwProof

open Idealize.ShloMosaic Idealize.ShloMosaic.TcCoe Idealize.SL.Sem Cert.Product

/-! ## The reference's result -/

open Cert.FfnInDwRefIdeal Cert.FfnInDwRefIdeal.Gen in
theorem ref_eq (a0 : FVec Ideal Cert.FfnInDwRefIdeal.S8192x1024 .bf16) (a2 : FVec Ideal Cert.FfnInDwRefIdeal.S8192x5632 .bf16) :
    transpose S1024x5632 [1, 0] (Host.dotGeneral dot_S8192x5632_S8192x1024_S5632x1024_0_0_1_1_n_n none (extf .f32 a2 bitsLt_bf16_f32) (extf .f32 a0 bitsLt_bf16_f32)) transposes_S5632x1024_S1024x5632_1_0
      = cols a0 a2 := by
  funext i
  obtain ⟨r, s, rfl⟩ : ∃ r s, i = ix2 r s := ⟨i 0, i 1, eq_ix2 i⟩
  pointwise
  first
    | rfl
    | exact Finset.sum_congr rfl fun d _ => mul_comm _ _
    | exact congrArg (_ + ·) (Finset.sum_congr rfl fun d _ => mul_comm _ _)

open Cert.FfnInDwIdeal Cert.FfnInDwIdeal.Gen

/-! ## What the body computes of one tile -/

theorem pay (v3 : Vec Ideal S1024x1408 .f32) (v4 : Vec Ideal S1024x1024 .bf16) (v5 : Vec Ideal S1024x1408 .bf16) (r : Fin 1024) (s : Fin 1408) :
    k0_pay2 (F := Ideal) v3 v4 v5 (ix2 r s) = v3 (ix2 r s) + ∑ d : Fin 1024, v4 (ix2 d r) * v5 (ix2 d s) := by
  pointwise [k0_pay2]

theorem pay_zero (r : Fin 1024) (s : Fin 1408) : k0_pay1 (F := Ideal) (ix2 r s) = 0 := by pointwise [k0_pay1]

section Out
variable {F : FTy → Type} [FloatOps F]
variable (c : Dev nD) (i : grid0.Coords) (a3 : Memref sig .tc .vmem S1024x1024 .bf16) (h3 : a3.IsWhole) (a4 : Memref sig .tc .vmem S1024x1408 .bf16) (h4 : a4.IsWhole) (a5 : Memref sig .tc .vmem S1024x1408 .f32) (h5 : a5.IsWhole) (a6 : Memref sig .tc .vmem S1024x1408 .f32) (h6 : a6.IsWhole)
  (x0 : Vec F S1024x1024 .bf16) (x1 : Vec F S1024x1408 .bf16)

variable (y : Vec F S1024x1408 .f32)

theorem held_A (hc : cond0_0 i) (hd : ¬cond0_1 i) : sout0_A_0 c i a3 h3 a4 h4 a5 h5 a6 h6 hc hd x0 x1
    = k0_pay2 k0_pay1 x0 x1 := by
  unfold sout0_A_0
  rw [View.read_writes_eq_canon _ _ _ (scover0_A_0 c i a3 h3 a4 h4 a5 h5 a6 h6 hc hd x0 x1)]
  unfold kernelRun0_A
  dsimp only
  sl_unfold_words
  rw [View.canon_cons_unit_zero (S := S1024x1408) hz, View.readCov_unit_zero (S := S1024x1408) _ hz]
  simp only [View.readAt_eq_ld, h3.read_unread, h4.read_unread, View.ld_unit_zero (S := S1024x1024) hz, View.ld_unit_zero (S := S1024x1408) hz]

theorem held_B (hc : ¬cond0_0 i) (hd : ¬cond0_1 i) : sout0_B_0 c i a3 h3 a4 h4 a5 h5 a6 h6 hc hd x0 x1 y
    = k0_pay2 y x0 x1 := by
  unfold sout0_B_0
  rw [View.read_writes_eq_canon _ _ _ (scover0_B_0 c i a3 h3 a4 h4 a5 h5 a6 h6 hc hd x0 x1 y)]
  unfold kernelRun0_B
  dsimp only
  sl_unfold_words
  rw [View.canon_unit_zero (S := S1024x1408) hz]
  simp only [View.readAt_eq_ld, h3.read_unread, h4.read_unread, h6.read_unread, View.ld_unit_zero (S := S1024x1024) hz, View.ld_unit_zero (S := S1024x1408) hz]

theorem held_C (hc : ¬cond0_0 i) (hd : cond0_1 i) : sout0_C_0 c i a3 h3 a4 h4 a5 h5 a6 h6 hc hd x0 x1 y
    = k0_pay2 y x0 x1 := by
  unfold sout0_C_0
  rw [View.read_writes_eq_canon _ _ _ (scover0_C_0 c i a3 h3 a4 h4 a5 h5 a6 h6 hc hd x0 x1 y)]
  unfold kernelRun0_C
  dsimp only
  sl_unfold_words
  rw [View.canon_unit_zero (S := S1024x1408) hz]
  simp only [View.readAt_eq_ld, h3.read_unread, h4.read_unread, h6.read_unread, View.ld_unit_zero (S := S1024x1024) hz, View.ld_unit_zero (S := S1024x1408) hz]

theorem out_C (hc : ¬cond0_0 i) (hd : cond0_1 i) : out0_C_2 c i a3 h3 a4 h4 a5 h5 a6 h6 hc hd x0 x1 y
    = k0_pay2 y x0 x1 := by
  unfold out0_C_2
  rw [View.read_writes_eq_canon _ _ _ (cover0_C_2 c i a3 h3 a4 h4 a5 h5 a6 h6 hc hd x0 x1 y)]
  unfold kernelRun0_C
  dsimp only
  sl_unfold_words
  rw [View.canon_unit_zero (S := S1024x1408) hz, View.readCov_unit_zero (S := S1024x1408) _ hz]
  simp only [View.readAt_eq_ld, h3.read_unread, h4.read_unread, h6.read_unread, View.ld_unit_zero (S := S1024x1024) hz, View.ld_unit_zero (S := S1024x1408) hz]

end Out

/-! ## The result array -/

variable (m : (ℓ : Loc nD τ sig) → Buf (Elt Ideal) ℓ) (ρ : Dev nD → PrngReg)

theorem idx : ∀ t : Fin cfg0.N, win0_0.index t = ![t.val % 8, t.val / 32] ∧ win0_1.index t = ![t.val % 8, t.val / 8 % 4]
    ∧ win0_2.index t = ![t.val / 32, t.val / 8 % 4] ∧ t.val < 32 :=
  (by decide +kernel : ∀ t : Fin grid0.N, _)

/-- The row, the column and the position on the shared axis of tile `t`'s entries. -/
def ti (t : Fin cfg0.N) (r : Fin 1024) : Fin 1024 := ⟨t.val / 32 * 1024 + r.val, by have := (idx t).2.2.2; omega⟩
def tj (t : Fin cfg0.N) (s : Fin 1408) : Fin 5632 := ⟨t.val / 8 % 4 * 1408 + s.val, by omega⟩
def tk (t : Fin cfg0.N) (d : Fin 1024) : Fin 8192 := ⟨t.val % 8 * 1024 + d.val, by omega⟩

abbrev A (c : Dev nD) : Arr 8192 1024 := m ((c : Thread nD τ).loc main_arg0)
abbrev B (c : Dev nD) : Arr 8192 5632 := m ((c : Thread nD τ).loc main_arg2)

theorem blk_a (c : Dev nD) (t : Fin cfg0.N) (r : Fin 1024) (d : Fin 1024) :
    (show Vec Ideal S1024x1024 .bf16 from iblk m c 0 t) (ix2 d r) = A m c (ix2 (tk t d) (ti t r)) := by
  unfold ti tk A
  blk_point [iblk, V, idx t]

theorem blk_b (c : Dev nD) (t : Fin cfg0.N) (s : Fin 1408) (d : Fin 1024) :
    (show Vec Ideal S1024x1408 .bf16 from iblk m c 1 t) (ix2 d s) = B m c (ix2 (tk t d) (tj t s)) := by
  unfold tj tk B
  blk_point [iblk, V, idx t]

/-- What tile `t` adds to its block. -/
def part (c : Dev nD) (t : Fin cfg0.N) (y : S1024x1408.Idx) : EReal :=
  ∑ d, A m c (ix2 (tk t d) (ti t (at0 y))) * B m c (ix2 (tk t d) (tj t (at1 y)))

theorem part_ix2 (c : Dev nD) (t : Fin cfg0.N) (r : Fin 1024) (s : Fin 1408) :
    part m c t (ix2 r s) = ∑ d, A m c (ix2 (tk t d) (ti t r)) * B m c (ix2 (tk t d) (tj t s)) := rfl

theorem pay_part (c : Dev nD) (t : Fin cfg0.N) (v : Vec Ideal S1024x1408 .f32) (r : Fin 1024) (s : Fin 1408) :
    k0_pay2 (F := Ideal) v (iblk m c 0 t) (iblk m c 1 t) (ix2 r s) = v (ix2 r s) + part m c t (ix2 r s) := by
  refine (pay _ _ _ r s).trans ?_
  refine congrArg (v (ix2 r s) + ·) (Finset.sum_congr rfl fun d _ => ?_)
  exact congrArg₂ (· * ·) (blk_a m c t r d) (blk_b m c t s d)

theorem reset (c : Dev nD) (t : Fin cfg0.N) (h : t.val % 8 = 0) (y : S1024x1408.Idx) :
    (outsAt0 m c t.val t.isLt).2 y = 0 + part m c t y := by
  obtain ⟨r, s, rfl⟩ : ∃ r s, y = ix2 r s := ⟨y 0, y 1, eq_ix2 y⟩
  rw [outsAt0_A m c t h (by omega)]
  dsimp only
  rw [held_A]
  refine (pay_part m c t _ r s).trans ?_
  rw [pay_zero]

theorem step (c : Dev nD) (t : Fin cfg0.N) (h : ¬t.val % 8 = 0) (y : S1024x1408.Idx) :
    (outsAt0 m c t.val t.isLt).2 y = (outsAt0 m c (t.val - 1) (Nat.lt_of_le_of_lt (Nat.sub_le _ _) t.isLt)).2 y + part m c t y := by
  obtain ⟨r, s, rfl⟩ : ∃ r s, y = ix2 r s := ⟨y 0, y 1, eq_ix2 y⟩
  by_cases h1 : t.val % 8 = 7
  · rw [outsAt0_C m c t h h1]
    dsimp only
    rw [held_C]
    exact pay_part m c t _ r s
  · rw [outsAt0_B m c t h h1]
    dsimp only
    rw [held_B]
    exact pay_part m c t _ r s

theorem leaves (c : Dev nD) (t : Fin cfg0.N) (h : t.val % 8 = 7) (r : Fin 1024) (s : Fin 1408) :
    (outsAt0 m c t.val t.isLt).1 (ix2 r s) = (outsAt0 m c t.val t.isLt).2 (ix2 r s) := by
  rw [outsAt0_C m c t (by omega) h]
  dsimp only
  rw [out_C, held_C]

theorem ti_run (t : Fin cfg0.N) (s : Fin 8) (h) (r : Fin 1024) : ti ⟨8 * (t.val / 8) + s.val, h⟩ r = ti t r := by
  unfold ti; apply Fin.ext; dsimp only; omega

theorem tj_run (t : Fin cfg0.N) (s : Fin 8) (h) (r : Fin 1408) : tj ⟨8 * (t.val / 8) + s.val, h⟩ r = tj t r := by
  unfold tj; apply Fin.ext; dsimp only; omega

theorem tk_run (t : Fin cfg0.N) (s : Fin 8) (h) (d : Fin 1024) :
    tk ⟨8 * (t.val / 8) + s.val, h⟩ d = ⟨s.val * 1024 + d.val, by omega⟩ := by
  unfold tk; apply Fin.ext; dsimp only; omega

theorem final (c : Dev nD) : (dats m 0 c).arrAt 2 cfg0.N = cols (A m c) (B m c) := by
  refine (dats m 0 c).arrAt_eq_of_covers 2 _ (by decide +kernel) fun t hf y => ?_
  blk_simp
  rw [after0_2]
  obtain ⟨r, s, rfl⟩ : ∃ (r : Fin 1024) (s : Fin 1408), y = ix2 r s := ⟨y 0, y 1, eq_ix2 y⟩
  have e0 : at0 ((win0_2.blk t).view.emb (ix2 r s)) = ti t r := by
    unfold at0 ti; apply Fin.ext; dsimp only; blk_simp [idx t]
  have e1 : at1 ((win0_2.blk t).view.emb (ix2 r s)) = tj t s := by
    unfold at1 tj; apply Fin.ext; dsimp only; blk_simp [idx t]
  have hl : t.val % 8 = 7 := (flush0_2 t).mp hf
  rw [leaves m c t hl,
    Pipeline.eq_sum_fin_of_reset_step_apply_of_flush (fun n h => (outsAt0 m c n h).2) 8 (fun _ => 0) (part m c)
      (reset m c) (step m c) t hl _, zero_add]
  unfold cols
  rw [e0, e1]
  simp only [part_ix2]
  refine Fin.sum_mul_add_congr fun k d hl => ?_
  rw [ti_run, tj_run, tk_run]

/-! ## The claims -/

theorem frame_ref : Cert.quiescent_FfnInDwRefIdeal (hFfnInDwRefIdeal := Cert.FfnInDwRefIdeal.Gen.facts) := fun m ρ _ =>
  (θ_run _ _ _).mono (fun r h => ⟨fun c => ((h c).2 : _), sem_eq_zero_of_no_sems (by decide) r.2⟩)
    (Cert.FfnInDwRefIdeal.Value.run m ρ)

theorem algebraic : Cert.algebraic_FfnInDwIdeal_FfnInDwRefIdeal
    (hFfnInDwIdeal := Cert.FfnInDwIdeal.Gen.facts) (hFfnInDwRefIdeal := Cert.FfnInDwRefIdeal.Gen.facts) := by
  intro m g m' g' _ hag
  refine ⟨fun c => cols (A m c) (B m c), ?_, ?_⟩
  · refine (θ_run _ _ _).mono (fun r h c => ?_) (Cert.FfnInDwIdeal.Value.run_blocks m g)
    exact ⟨(h c).1.trans (final m c), (h c).2⟩
  · refine (θ_run _ _ _).mono (fun r h c => ?_) (Cert.FfnInDwRefIdeal.Value.run m' g')
    refine ⟨(h c).1.trans ?_, (h c).2⟩
    obtain ⟨e0, e1, e2⟩ := hag c
    rw [e0, e2]
    exact ref_eq _ _

end Cert.FfnInDwProof

end
-- ==== Proof.OutDxValue.lean ====
/- The kernel OutDx: a product in tiles, its result array as the whole product, and the reference's result. -/
module

public import proofs.«01_k».proof.Defs
public import proofs.«01_k».proof.Proof.Gen.OutDxIdeal.Value
public import proofs.«01_k».proof.Proof.Gen.OutDxRefIdeal.Run
public import proofs.«01_k».proof.Proof.Product
public import Idealize.ShloMosaic.Lib.Pipeline.ValueKit
public import Idealize.ShloMosaic.Lib.Claim

@[expose] public section

set_option maxRecDepth 16384

noncomputable section

namespace Cert.OutDxProof

open Idealize.ShloMosaic Idealize.ShloMosaic.TcCoe Idealize.SL.Sem Cert.Product

/-! ## The reference's result -/

open Cert.OutDxRefIdeal Cert.OutDxRefIdeal.Gen in
theorem ref_eq (a1 : FVec Ideal Cert.OutDxRefIdeal.S1024x1024 .bf16) (a2 : FVec Ideal Cert.OutDxRefIdeal.S8192x1024 .f32) :
    Host.dotGeneral dot_S8192x1024_S1024x1024_S8192x1024_1_1_0_0_n_n none a2 (extf .f32 a1 bitsLt_bf16_f32)
      = rows a2 a1 := by
  funext i
  obtain ⟨r, s, rfl⟩ : ∃ r s, i = ix2 r s := ⟨i 0, i 1, eq_ix2 i⟩
  pointwise
  first
    | rfl
    | exact Finset.sum_congr rfl fun d _ => mul_comm _ _
    | exact congrArg (_ + ·) (Finset.sum_congr rfl fun d _ => mul_comm _ _)

open Cert.OutDxIdeal Cert.OutDxIdeal.Gen

/-! ## What the body computes of one tile -/

theorem pay (v3 : Vec Ideal S1024x1024 .f32) (v4 : Vec Ideal S1024x1024 .f32) (v5 : Vec Ideal S1024x1024 .bf16) (r : Fin 1024) (s : Fin 1024) :
    k0_pay2 (F := Ideal) v3 v4 v5 (ix2 r s) = v3 (ix2 r s) + ∑ d : Fin 1024, v4 (ix2 r d) * v5 (ix2 s d) := by
  pointwise [k0_pay2]

theorem pay_zero (r : Fin 1024) (s : Fin 1024) : k0_pay1 (F := Ideal) (ix2 r s) = 0 := by pointwise [k0_pay1]

section Out
variable {F : FTy → Type} [FloatOps F]
variable (c : Dev nD) (i : grid0.Coords) (a3 : Memref sig .tc .vmem S1024x1024 .f32) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole)
  (x0 : Vec F S1024x1024 .f32) (x1 : Vec F S1024x1024 .bf16)

theorem out_A (hc : cond0_0 i) (hd : cond0_1 i) : out0_A_2 c i a3 h3 a4 h4 a5 h5 a6 h6 hc hd x0 x1
    = k0_pay2 k0_pay1 x0 x1 := by
  unfold out0_A_2
  rw [View.read_writes_eq_canon _ _ _ (cover0_A_2 c i a3 h3 a4 h4 a5 h5 a6 h6 hc hd x0 x1)]
  unfold kernelRun0_A
  dsimp only
  sl_unfold_words
  rw [View.canon_unit_zero (S := S1024x1024) hz, View.readCov_cons_toLoadRect, View.readCov_unit_zero (S := S1024x1024) _ hz]
  simp only [View.readAt_eq_ld, h3.read_unread, h4.read_unread, View.ld_unit_zero (S := S1024x1024) hz]

end Out

/-! ## The result array -/

variable (m : (ℓ : Loc nD τ sig) → Buf (Elt Ideal) ℓ) (ρ : Dev nD → PrngReg)

theorem idx : ∀ t : Fin cfg0.N, win0_0.index t = ![t.val / 1, t.val % 1] ∧ win0_1.index t = ![t.val / 1 % 1, t.val % 1]
    ∧ win0_2.index t = ![t.val / 1, t.val / 1 % 1] ∧ t.val < 8 :=
  (by decide +kernel : ∀ t : Fin grid0.N, _)

/-- The row, the column and the position on the shared axis of tile `t`'s entries. -/
def ti (t : Fin cfg0.N) (r : Fin 1024) : Fin 8192 := ⟨t.val / 1 * 1024 + r.val, by have := (idx t).2.2.2; omega⟩
def tj (t : Fin cfg0.N) (s : Fin 1024) : Fin 1024 := ⟨t.val / 1 % 1 * 1024 + s.val, by omega⟩
def tk (t : Fin cfg0.N) (d : Fin 1024) : Fin 1024 := ⟨t.val % 1 * 1024 + d.val, by omega⟩

abbrev A (c : Dev nD) : Arr 8192 1024 := m ((c : Thread nD τ).loc main_arg2)
abbrev B (c : Dev nD) : Arr 1024 1024 := m ((c : Thread nD τ).loc main_arg1)

theorem blk_a (c : Dev nD) (t : Fin cfg0.N) (r : Fin 1024) (d : Fin 1024) :
    (show Vec Ideal S1024x1024 .f32 from iblk m c 0 t) (ix2 r d) = A m c (ix2 (ti t r) (tk t d)) := by
  unfold ti tk A
  blk_point [iblk, V, idx t]

theorem blk_b (c : Dev nD) (t : Fin cfg0.N) (s : Fin 1024) (d : Fin 1024) :
    (show Vec Ideal S1024x1024 .bf16 from iblk m c 1 t) (ix2 s d) = B m c (ix2 (tj t s) (tk t d)) := by
  unfold tj tk B
  blk_point [iblk, V, idx t]

/-- What tile `t` adds to its block. -/
def part (c : Dev nD) (t : Fin cfg0.N) (y : S1024x1024.Idx) : EReal :=
  ∑ d, A m c (ix2 (ti t (at0 y)) (tk t d)) * B m c (ix2 (tj t (at1 y)) (tk t d))

theorem part_ix2 (c : Dev nD) (t : Fin cfg0.N) (r : Fin 1024) (s : Fin 1024) :
    part m c t (ix2 r s) = ∑ d, A m c (ix2 (ti t r) (tk t d)) * B m c (ix2 (tj t s) (tk t d)) := rfl

theorem pay_part (c : Dev nD) (t : Fin cfg0.N) (v : Vec Ideal S1024x1024 .f32) (r : Fin 1024) (s : Fin 1024) :
    k0_pay2 (F := Ideal) v (iblk m c 0 t) (iblk m c 1 t) (ix2 r s) = v (ix2 r s) + part m c t (ix2 r s) := by
  refine (pay _ _ _ r s).trans ?_
  refine congrArg (v (ix2 r s) + ·) (Finset.sum_congr rfl fun d _ => ?_)
  exact congrArg₂ (· * ·) (blk_a m c t r d) (blk_b m c t s d)

theorem final (c : Dev nD) : (dats m 0 c).arrAt 2 cfg0.N = rows (A m c) (B m c) := by
  refine (dats m 0 c).arrAt_eq_of_covers 2 _ (by decide +kernel) fun t hf y => ?_
  blk_simp
  rw [after0_2]
  obtain ⟨r, s, rfl⟩ : ∃ (r : Fin 1024) (s : Fin 1024), y = ix2 r s := ⟨y 0, y 1, eq_ix2 y⟩
  have e0 : at0 ((win0_2.blk t).view.emb (ix2 r s)) = ti t r := by
    unfold at0 ti; apply Fin.ext; dsimp only; blk_simp [idx t]
  have e1 : at1 ((win0_2.blk t).view.emb (ix2 r s)) = tj t s := by
    unfold at1 tj; apply Fin.ext; dsimp only; blk_simp [idx t]
  unfold outsAt0
  rw [out_A]
  refine (pay_part m c t _ r s).trans ?_
  rw [pay_zero, zero_add]
  unfold rows
  rw [e0, e1]
  simp only [part_ix2]
  refine Finset.sum_congr rfl fun d _ => ?_
  rw [show tk t d = d from by unfold tk; apply Fin.ext; dsimp only; omega]

/-! ## The claims -/

theorem frame_ref : Cert.quiescent_OutDxRefIdeal (hOutDxRefIdeal := Cert.OutDxRefIdeal.Gen.facts) := fun m ρ _ =>
  (θ_run _ _ _).mono (fun r h => ⟨fun c => ((h c).2 : _), sem_eq_zero_of_no_sems (by decide) r.2⟩)
    (Cert.OutDxRefIdeal.Value.run m ρ)

theorem algebraic : Cert.algebraic_OutDxIdeal_OutDxRefIdeal
    (hOutDxIdeal := Cert.OutDxIdeal.Gen.facts) (hOutDxRefIdeal := Cert.OutDxRefIdeal.Gen.facts) := by
  intro m g m' g' _ hag
  refine ⟨fun c => rows (A m c) (B m c), ?_, ?_⟩
  · refine (θ_run _ _ _).mono (fun r h c => ?_) (Cert.OutDxIdeal.Value.run_blocks m g)
    exact ⟨(h c).1.trans (final m c), (h c).2⟩
  · refine (θ_run _ _ _).mono (fun r h c => ?_) (Cert.OutDxRefIdeal.Value.run m' g')
    refine ⟨(h c).1.trans ?_, (h c).2⟩
    obtain ⟨e0, e1, e2⟩ := hag c
    rw [e1, e2]
    exact ref_eq _ _

end Cert.OutDxProof

end
-- ==== Proof.OutDwValue.lean ====
/- The kernel OutDw: a product in tiles, its result array as the whole product, and the reference's result. -/
module

public import proofs.«01_k».proof.Defs
public import proofs.«01_k».proof.Proof.Gen.OutDwIdeal.Value
public import proofs.«01_k».proof.Proof.Gen.OutDwRefIdeal.Run
public import proofs.«01_k».proof.Proof.Product
public import Idealize.ShloMosaic.Lib.Pipeline.ValueKit
public import Idealize.ShloMosaic.Lib.Claim

@[expose] public section

set_option maxRecDepth 16384

noncomputable section

namespace Cert.OutDwProof

open Idealize.ShloMosaic Idealize.ShloMosaic.TcCoe Idealize.SL.Sem Cert.Product

/-! ## The reference's result -/

open Cert.OutDwRefIdeal Cert.OutDwRefIdeal.Gen in
theorem ref_eq (a0 : FVec Ideal Cert.OutDwRefIdeal.S8192x1024 .bf16) (a2 : FVec Ideal Cert.OutDwRefIdeal.S8192x1024 .f32) :
    transpose S1024x1024 [1, 0] (Host.dotGeneral dot_S8192x1024_S8192x1024_S1024x1024_0_0_1_1_n_n none a2 (extf .f32 a0 bitsLt_bf16_f32)) transposes_S1024x1024_S1024x1024_1_0
      = cols a0 a2 := by
  funext i
  obtain ⟨r, s, rfl⟩ : ∃ r s, i = ix2 r s := ⟨i 0, i 1, eq_ix2 i⟩
  pointwise
  first
    | rfl
    | exact Finset.sum_congr rfl fun d _ => mul_comm _ _
    | exact congrArg (_ + ·) (Finset.sum_congr rfl fun d _ => mul_comm _ _)

open Cert.OutDwIdeal Cert.OutDwIdeal.Gen

/-! ## What the body computes of one tile -/

theorem pay (v3 : Vec Ideal S1024x1024 .f32) (v4 : Vec Ideal S1024x1024 .bf16) (v5 : Vec Ideal S1024x1024 .f32) (r : Fin 1024) (s : Fin 1024) :
    k0_pay2 (F := Ideal) v3 v4 v5 (ix2 r s) = v3 (ix2 r s) + ∑ d : Fin 1024, v4 (ix2 d r) * v5 (ix2 d s) := by
  pointwise [k0_pay2]

theorem pay_zero (r : Fin 1024) (s : Fin 1024) : k0_pay1 (F := Ideal) (ix2 r s) = 0 := by pointwise [k0_pay1]

section Out
variable {F : FTy → Type} [FloatOps F]
variable (c : Dev nD) (i : grid0.Coords) (a3 : Memref sig .tc .vmem S1024x1024 .bf16) (h3 : a3.IsWhole) (a4 : Memref sig .tc .vmem S1024x1024 .f32) (h4 : a4.IsWhole) (a5 : Memref sig .tc .vmem S1024x1024 .f32) (h5 : a5.IsWhole) (a6 : Memref sig .tc .vmem S1024x1024 .f32) (h6 : a6.IsWhole)
  (x0 : Vec F S1024x1024 .bf16) (x1 : Vec F S1024x1024 .f32)

variable (y : Vec F S1024x1024 .f32)

theorem held_A (hc : cond0_0 i) (hd : ¬cond0_1 i) : sout0_A_0 c i a3 h3 a4 h4 a5 h5 a6 h6 hc hd x0 x1
    = k0_pay2 k0_pay1 x0 x1 := by
  unfold sout0_A_0
  rw [View.read_writes_eq_canon _ _ _ (scover0_A_0 c i a3 h3 a4 h4 a5 h5 a6 h6 hc hd x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

theorem held_B (hc : ¬cond0_0 i) (hd : ¬cond0_1 i) : sout0_B_0 c i a3 h3 a4 h4 a5 h5 a6 h6 hc hd x0 x1 y
    = k0_pay2 y x0 x1 := by
  unfold sout0_B_0
  rw [View.read_writes_eq_canon _ _ _ (scover0_B_0 c i a3 h3 a4 h4 a5 h5 a6 h6 hc hd x0 x1 y)]
  unfold kernelRun0_B
  dsimp only
  sl_unfold_words
  rw [View.canon_unit_zero (S := S1024x1024) hz]
  simp only [View.readAt_eq_ld, h3.read_unread, h4.read_unread, h6.read_unread, View.ld_unit_zero (S := S1024x1024) hz]

theorem held_C (hc : ¬cond0_0 i) (hd : cond0_1 i) : sout0_C_0 c i a3 h3 a4 h4 a5 h5 a6 h6 hc hd x0 x1 y
    = k0_pay2 y x0 x1 := by
  unfold sout0_C_0
  rw [View.read_writes_eq_canon _ _ _ (scover0_C_0 c i a3 h3 a4 h4 a5 h5 a6 h6 hc hd x0 x1 y)]
  unfold kernelRun0_C
  dsimp only
  sl_unfold_words
  rw [View.canon_unit_zero (S := S1024x1024) hz]
  simp only [View.readAt_eq_ld, h3.read_unread, h4.read_unread, h6.read_unread, View.ld_unit_zero (S := S1024x1024) hz]

theorem out_C (hc : ¬cond0_0 i) (hd : cond0_1 i) : out0_C_2 c i a3 h3 a4 h4 a5 h5 a6 h6 hc hd x0 x1 y
    = k0_pay2 y x0 x1 := by
  unfold out0_C_2
  rw [View.read_writes_eq_canon _ _ _ (cover0_C_2 c i a3 h3 a4 h4 a5 h5 a6 h6 hc hd x0 x1 y)]
  unfold kernelRun0_C
  dsimp only
  sl_unfold_words
  rw [View.canon_unit_zero (S := S1024x1024) hz, View.readCov_unit_zero (S := S1024x1024) _ hz]
  simp only [View.readAt_eq_ld, h3.read_unread, h4.read_unread, h6.read_unread, View.ld_unit_zero (S := S1024x1024) hz]

end Out

/-! ## The result array -/

variable (m : (ℓ : Loc nD τ sig) → Buf (Elt Ideal) ℓ) (ρ : Dev nD → PrngReg)

theorem idx : ∀ t : Fin cfg0.N, win0_0.index t = ![t.val % 8, t.val / 8] ∧ win0_1.index t = ![t.val % 8, t.val / 8 % 1]
    ∧ win0_2.index t = ![t.val / 8, t.val / 8 % 1] ∧ t.val < 8 :=
  (by decide +kernel : ∀ t : Fin grid0.N, _)

/-- The row, the column and the position on the shared axis of tile `t`'s entries. -/
def ti (t : Fin cfg0.N) (r : Fin 1024) : Fin 1024 := ⟨t.val / 8 * 1024 + r.val, by have := (idx t).2.2.2; omega⟩
def tj (t : Fin cfg0.N) (s : Fin 1024) : Fin 1024 := ⟨t.val / 8 % 1 * 1024 + s.val, by omega⟩
def tk (t : Fin cfg0.N) (d : Fin 1024) : Fin 8192 := ⟨t.val % 8 * 1024 + d.val, by omega⟩

abbrev A (c : Dev nD) : Arr 8192 1024 := m ((c : Thread nD τ).loc main_arg0)
abbrev B (c : Dev nD) : Arr 8192 1024 := m ((c : Thread nD τ).loc main_arg2)

theorem blk_a (c : Dev nD) (t : Fin cfg0.N) (r : Fin 1024) (d : Fin 1024) :
    (show Vec Ideal S1024x1024 .bf16 from iblk m c 0 t) (ix2 d r) = A m c (ix2 (tk t d) (ti t r)) := by
  unfold ti tk A
  blk_point [iblk, V, idx t]

theorem blk_b (c : Dev nD) (t : Fin cfg0.N) (s : Fin 1024) (d : Fin 1024) :
    (show Vec Ideal S1024x1024 .f32 from iblk m c 1 t) (ix2 d s) = B m c (ix2 (tk t d) (tj t s)) := by
  unfold tj tk B
  blk_point [iblk, V, idx t]

/-- What tile `t` adds to its block. -/
def part (c : Dev nD) (t : Fin cfg0.N) (y : S1024x1024.Idx) : EReal :=
  ∑ d, A m c (ix2 (tk t d) (ti t (at0 y))) * B m c (ix2 (tk t d) (tj t (at1 y)))

theorem part_ix2 (c : Dev nD) (t : Fin cfg0.N) (r : Fin 1024) (s : Fin 1024) :
    part m c t (ix2 r s) = ∑ d, A m c (ix2 (tk t d) (ti t r)) * B m c (ix2 (tk t d) (tj t s)) := rfl

theorem pay_part (c : Dev nD) (t : Fin cfg0.N) (v : Vec Ideal S1024x1024 .f32) (r : Fin 1024) (s : Fin 1024) :
    k0_pay2 (F := Ideal) v (iblk m c 0 t) (iblk m c 1 t) (ix2 r s) = v (ix2 r s) + part m c t (ix2 r s) := by
  refine (pay _ _ _ r s).trans ?_
  refine congrArg (v (ix2 r s) + ·) (Finset.sum_congr rfl fun d _ => ?_)
  exact congrArg₂ (· * ·) (blk_a m c t r d) (blk_b m c t s d)

theorem reset (c : Dev nD) (t : Fin cfg0.N) (h : t.val % 8 = 0) (y : S1024x1024.Idx) :
    (outsAt0 m c t.val t.isLt).2 y = 0 + part m c t y := by
  obtain ⟨r, s, rfl⟩ : ∃ r s, y = ix2 r s := ⟨y 0, y 1, eq_ix2 y⟩
  rw [outsAt0_A m c t h (by omega)]
  dsimp only
  rw [held_A]
  refine (pay_part m c t _ r s).trans ?_
  rw [pay_zero]

theorem step (c : Dev nD) (t : Fin cfg0.N) (h : ¬t.val % 8 = 0) (y : S1024x1024.Idx) :
    (outsAt0 m c t.val t.isLt).2 y = (outsAt0 m c (t.val - 1) (Nat.lt_of_le_of_lt (Nat.sub_le _ _) t.isLt)).2 y + part m c t y := by
  obtain ⟨r, s, rfl⟩ : ∃ r s, y = ix2 r s := ⟨y 0, y 1, eq_ix2 y⟩
  by_cases h1 : t.val % 8 = 7
  · rw [outsAt0_C m c t h h1]
    dsimp only
    rw [held_C]
    exact pay_part m c t _ r s
  · rw [outsAt0_B m c t h h1]
    dsimp only
    rw [held_B]
    exact pay_part m c t _ r s

theorem leaves (c : Dev nD) (t : Fin cfg0.N) (h : t.val % 8 = 7) (r : Fin 1024) (s : Fin 1024) :
    (outsAt0 m c t.val t.isLt).1 (ix2 r s) = (outsAt0 m c t.val t.isLt).2 (ix2 r s) := by
  rw [outsAt0_C m c t (by omega) h]
  dsimp only
  rw [out_C, held_C]

theorem ti_run (t : Fin cfg0.N) (s : Fin 8) (h) (r : Fin 1024) : ti ⟨8 * (t.val / 8) + s.val, h⟩ r = ti t r := by
  unfold ti; apply Fin.ext; dsimp only; omega

theorem tj_run (t : Fin cfg0.N) (s : Fin 8) (h) (r : Fin 1024) : tj ⟨8 * (t.val / 8) + s.val, h⟩ r = tj t r := by
  unfold tj; apply Fin.ext; dsimp only; omega

theorem tk_run (t : Fin cfg0.N) (s : Fin 8) (h) (d : Fin 1024) :
    tk ⟨8 * (t.val / 8) + s.val, h⟩ d = ⟨s.val * 1024 + d.val, by omega⟩ := by
  unfold tk; apply Fin.ext; dsimp only; omega

theorem final (c : Dev nD) : (dats m 0 c).arrAt 2 cfg0.N = cols (A m c) (B m c) := by
  refine (dats m 0 c).arrAt_eq_of_covers 2 _ (by decide +kernel) fun t hf y => ?_
  blk_simp
  rw [after0_2]
  obtain ⟨r, s, rfl⟩ : ∃ (r : Fin 1024) (s : Fin 1024), y = ix2 r s := ⟨y 0, y 1, eq_ix2 y⟩
  have e0 : at0 ((win0_2.blk t).view.emb (ix2 r s)) = ti t r := by
    unfold at0 ti; apply Fin.ext; dsimp only; blk_simp [idx t]
  have e1 : at1 ((win0_2.blk t).view.emb (ix2 r s)) = tj t s := by
    unfold at1 tj; apply Fin.ext; dsimp only; blk_simp [idx t]
  have hl : t.val % 8 = 7 := (flush0_2 t).mp hf
  rw [leaves m c t hl,
    Pipeline.eq_sum_fin_of_reset_step_apply_of_flush (fun n h => (outsAt0 m c n h).2) 8 (fun _ => 0) (part m c)
      (reset m c) (step m c) t hl _, zero_add]
  unfold cols
  rw [e0, e1]
  simp only [part_ix2]
  refine Fin.sum_mul_add_congr fun k d hl => ?_
  rw [ti_run, tj_run, tk_run]

/-! ## The claims -/

theorem frame_ref : Cert.quiescent_OutDwRefIdeal (hOutDwRefIdeal := Cert.OutDwRefIdeal.Gen.facts) := fun m ρ _ =>
  (θ_run _ _ _).mono (fun r h => ⟨fun c => ((h c).2 : _), sem_eq_zero_of_no_sems (by decide) r.2⟩)
    (Cert.OutDwRefIdeal.Value.run m ρ)

theorem algebraic : Cert.algebraic_OutDwIdeal_OutDwRefIdeal
    (hOutDwIdeal := Cert.OutDwIdeal.Gen.facts) (hOutDwRefIdeal := Cert.OutDwRefIdeal.Gen.facts) := by
  intro m g m' g' _ hag
  refine ⟨fun c => cols (A m c) (B m c), ?_, ?_⟩
  · refine (θ_run _ _ _).mono (fun r h c => ?_) (Cert.OutDwIdeal.Value.run_blocks m g)
    exact ⟨(h c).1.trans (final m c), (h c).2⟩
  · refine (θ_run _ _ _).mono (fun r h c => ?_) (Cert.OutDwRefIdeal.Value.run m' g')
    refine ⟨(h c).1.trans ?_, (h c).2⟩
    obtain ⟨e0, e1, e2⟩ := hag c
    rw [e0, e2]
    exact ref_eq _ _

end Cert.OutDwProof

end
-- ==== Proof.BranchDxValue.lean ====
/- The kernel BranchDx: a product in tiles, its result array as the whole product, and the reference's result. -/
module

public import proofs.«01_k».proof.Defs
public import proofs.«01_k».proof.Proof.Gen.BranchDxIdeal.Value
public import proofs.«01_k».proof.Proof.Gen.BranchDxRefIdeal.Run
public import proofs.«01_k».proof.Proof.Product
public import Idealize.ShloMosaic.Lib.Pipeline.ValueKit
public import Idealize.ShloMosaic.Lib.Claim

@[expose] public section

set_option maxRecDepth 16384

noncomputable section

namespace Cert.BranchDxProof

open Idealize.ShloMosaic Idealize.ShloMosaic.TcCoe Idealize.SL.Sem Cert.Product

/-! ## The reference's result -/

open Cert.BranchDxRefIdeal Cert.BranchDxRefIdeal.Gen in
theorem ref_eq (a1 : FVec Ideal Cert.BranchDxRefIdeal.S512x1024 .bf16) (a2 : FVec Ideal Cert.BranchDxRefIdeal.S8192x1024 .bf16) :
    Host.dotGeneral dot_S8192x1024_S512x1024_S8192x512_1_1_0_0_n_n none (extf .f32 a2 bitsLt_bf16_f32) (extf .f32 a1 bitsLt_bf16_f32)
      = rows a2 a1 := by
  funext i
  obtain ⟨r, s, rfl⟩ : ∃ r s, i = ix2 r s := ⟨i 0, i 1, eq_ix2 i⟩
  pointwise
  first
    | rfl
    | exact Finset.sum_congr rfl fun d _ => mul_comm _ _
    | exact congrArg (_ + ·) (Finset.sum_congr rfl fun d _ => mul_comm _ _)

open Cert.BranchDxIdeal Cert.BranchDxIdeal.Gen

/-! ## What the body computes of one tile -/

theorem pay (v3 : Vec Ideal S1024x512 .f32) (v4 : Vec Ideal S1024x1024 .bf16) (v5 : Vec Ideal S512x1024 .bf16) (r : Fin 1024) (s : Fin 512) :
    k0_pay2 (F := Ideal) v3 v4 v5 (ix2 r s) = v3 (ix2 r s) + ∑ d : Fin 1024, v4 (ix2 r d) * v5 (ix2 s d) := by
  pointwise [k0_pay2]

theorem pay_zero (r : Fin 1024) (s : Fin 512) : k0_pay1 (F := Ideal) (ix2 r s) = 0 := by pointwise [k0_pay1]

section Out
variable {F : FTy → Type} [FloatOps F]
variable (c : Dev nD) (i : grid0.Coords) (a3 : Memref sig .tc .vmem S1024x1024 .bf16) (h3 : a3.IsWhole) (a4 : Memref sig .tc .vmem S512x1024 .bf16) (h4 : a4.IsWhole) (a5 : Memref sig .tc .vmem S1024x512 .f32) (h5 : a5.IsWhole) (a6 : Memref sig .tc .vmem S1024x512 .f32) (h6 : a6.IsWhole)
  (x0 : Vec F S1024x1024 .bf16) (x1 : Vec F S512x1024 .bf16)

theorem out_A (hc : cond0_0 i) (hd : cond0_1 i) : out0_A_2 c i a3 h3 a4 h4 a5 h5 a6 h6 hc hd x0 x1
    = k0_pay2 k0_pay1 x0 x1 := by
  unfold out0_A_2
  rw [View.read_writes_eq_canon _ _ _ (cover0_A_2 c i a3 h3 a4 h4 a5 h5 a6 h6 hc hd x0 x1)]
  unfold kernelRun0_A
  dsimp only
  sl_unfold_words
  rw [View.canon_unit_zero (S := S1024x512) hz, View.readCov_cons_toLoadRect, View.readCov_unit_zero (S := S1024x512) _ hz]
  simp only [View.readAt_eq_ld, h3.read_unread, h4.read_unread, View.ld_unit_zero (S := S1024x1024) hz, View.ld_unit_zero (S := S1024x512) hz, View.ld_unit_zero (S := S512x1024) hz]

end Out

/-! ## The result array -/

variable (m : (ℓ : Loc nD τ sig) → Buf (Elt Ideal) ℓ) (ρ : Dev nD → PrngReg)

theorem idx : ∀ t : Fin cfg0.N, win0_0.index t = ![t.val / 1, t.val % 1] ∧ win0_1.index t = ![t.val / 1 % 1, t.val % 1]
    ∧ win0_2.index t = ![t.val / 1, t.val / 1 % 1] ∧ t.val < 8 :=
  (by decide +kernel : ∀ t : Fin grid0.N, _)

/-- The row, the column and the position on the shared axis of tile `t`'s entries. -/
def ti (t : Fin cfg0.N) (r : Fin 1024) : Fin 8192 := ⟨t.val / 1 * 1024 + r.val, by have := (idx t).2.2.2; omega⟩
def tj (t : Fin cfg0.N) (s : Fin 512) : Fin 512 := ⟨t.val / 1 % 1 * 512 + s.val, by omega⟩
def tk (t : Fin cfg0.N) (d : Fin 1024) : Fin 1024 := ⟨t.val % 1 * 1024 + d.val, by omega⟩

abbrev A (c : Dev nD) : Arr 8192 1024 := m ((c : Thread nD τ).loc main_arg2)
abbrev B (c : Dev nD) : Arr 512 1024 := m ((c : Thread nD τ).loc main_arg1)

theorem blk_a (c : Dev nD) (t : Fin cfg0.N) (r : Fin 1024) (d : Fin 1024) :
    (show Vec Ideal S1024x1024 .bf16 from iblk m c 0 t) (ix2 r d) = A m c (ix2 (ti t r) (tk t d)) := by
  unfold ti tk A
  blk_point [iblk, V, idx t]

theorem blk_b (c : Dev nD) (t : Fin cfg0.N) (s : Fin 512) (d : Fin 1024) :
    (show Vec Ideal S512x1024 .bf16 from iblk m c 1 t) (ix2 s d) = B m c (ix2 (tj t s) (tk t d)) := by
  unfold tj tk B
  blk_point [iblk, V, idx t]

/-- What tile `t` adds to its block. -/
def part (c : Dev nD) (t : Fin cfg0.N) (y : S1024x512.Idx) : EReal :=
  ∑ d, A m c (ix2 (ti t (at0 y)) (tk t d)) * B m c (ix2 (tj t (at1 y)) (tk t d))

theorem part_ix2 (c : Dev nD) (t : Fin cfg0.N) (r : Fin 1024) (s : Fin 512) :
    part m c t (ix2 r s) = ∑ d, A m c (ix2 (ti t r) (tk t d)) * B m c (ix2 (tj t s) (tk t d)) := rfl

theorem pay_part (c : Dev nD) (t : Fin cfg0.N) (v : Vec Ideal S1024x512 .f32) (r : Fin 1024) (s : Fin 512) :
    k0_pay2 (F := Ideal) v (iblk m c 0 t) (iblk m c 1 t) (ix2 r s) = v (ix2 r s) + part m c t (ix2 r s) := by
  refine (pay _ _ _ r s).trans ?_
  refine congrArg (v (ix2 r s) + ·) (Finset.sum_congr rfl fun d _ => ?_)
  exact congrArg₂ (· * ·) (blk_a m c t r d) (blk_b m c t s d)

theorem final (c : Dev nD) : (dats m 0 c).arrAt 2 cfg0.N = rows (A m c) (B m c) := by
  refine (dats m 0 c).arrAt_eq_of_covers 2 _ (by decide +kernel) fun t hf y => ?_
  blk_simp
  rw [after0_2]
  obtain ⟨r, s, rfl⟩ : ∃ (r : Fin 1024) (s : Fin 512), y = ix2 r s := ⟨y 0, y 1, eq_ix2 y⟩
  have e0 : at0 ((win0_2.blk t).view.emb (ix2 r s)) = ti t r := by
    unfold at0 ti; apply Fin.ext; dsimp only; blk_simp [idx t]
  have e1 : at1 ((win0_2.blk t).view.emb (ix2 r s)) = tj t s := by
    unfold at1 tj; apply Fin.ext; dsimp only; blk_simp [idx t]
  unfold outsAt0
  rw [out_A]
  refine (pay_part m c t _ r s).trans ?_
  rw [pay_zero, zero_add]
  unfold rows
  rw [e0, e1]
  simp only [part_ix2]
  refine Finset.sum_congr rfl fun d _ => ?_
  rw [show tk t d = d from by unfold tk; apply Fin.ext; dsimp only; omega]

/-! ## The claims -/

theorem frame_ref : Cert.quiescent_BranchDxRefIdeal (hBranchDxRefIdeal := Cert.BranchDxRefIdeal.Gen.facts) := fun m ρ _ =>
  (θ_run _ _ _).mono (fun r h => ⟨fun c => ((h c).2 : _), sem_eq_zero_of_no_sems (by decide) r.2⟩)
    (Cert.BranchDxRefIdeal.Value.run m ρ)

theorem algebraic : Cert.algebraic_BranchDxIdeal_BranchDxRefIdeal
    (hBranchDxIdeal := Cert.BranchDxIdeal.Gen.facts) (hBranchDxRefIdeal := Cert.BranchDxRefIdeal.Gen.facts) := by
  intro m g m' g' _ hag
  refine ⟨fun c => rows (A m c) (B m c), ?_, ?_⟩
  · refine (θ_run _ _ _).mono (fun r h c => ?_) (Cert.BranchDxIdeal.Value.run_blocks m g)
    exact ⟨(h c).1.trans (final m c), (h c).2⟩
  · refine (θ_run _ _ _).mono (fun r h c => ?_) (Cert.BranchDxRefIdeal.Value.run m' g')
    refine ⟨(h c).1.trans ?_, (h c).2⟩
    obtain ⟨e0, e1, e2⟩ := hag c
    rw [e1, e2]
    exact ref_eq _ _

end Cert.BranchDxProof

end
-- ==== Proof.BranchDwValue.lean ====
/- The kernel BranchDw: a product in tiles, its result array as the whole product, and the reference's result. -/
module

public import proofs.«01_k».proof.Defs
public import proofs.«01_k».proof.Proof.Gen.BranchDwIdeal.Value
public import proofs.«01_k».proof.Proof.Gen.BranchDwRefIdeal.Run
public import proofs.«01_k».proof.Proof.Product
public import Idealize.ShloMosaic.Lib.Pipeline.ValueKit
public import Idealize.ShloMosaic.Lib.Claim

@[expose] public section

set_option maxRecDepth 16384

noncomputable section

namespace Cert.BranchDwProof

open Idealize.ShloMosaic Idealize.ShloMosaic.TcCoe Idealize.SL.Sem Cert.Product

/-! ## The reference's result -/

open Cert.BranchDwRefIdeal Cert.BranchDwRefIdeal.Gen in
theorem ref_eq (a0 : FVec Ideal Cert.BranchDwRefIdeal.S8192x512 .bf16) (a2 : FVec Ideal Cert.BranchDwRefIdeal.S8192x1024 .bf16) :
    transpose S512x1024 [1, 0] (Host.dotGeneral dot_S8192x1024_S8192x512_S1024x512_0_0_1_1_n_n none (extf .f32 a2 bitsLt_bf16_f32) (extf .f32 a0 bitsLt_bf16_f32)) transposes_S1024x512_S512x1024_1_0
      = cols a0 a2 := by
  funext i
  obtain ⟨r, s, rfl⟩ : ∃ r s, i = ix2 r s := ⟨i 0, i 1, eq_ix2 i⟩
  pointwise
  first
    | rfl
    | exact Finset.sum_congr rfl fun d _ => mul_comm _ _
    | exact congrArg (_ + ·) (Finset.sum_congr rfl fun d _ => mul_comm _ _)

open Cert.BranchDwIdeal Cert.BranchDwIdeal.Gen

/-! ## What the body computes of one tile -/

theorem pay (v3 : Vec Ideal S512x1024 .f32) (v4 : Vec Ideal S1024x512 .bf16) (v5 : Vec Ideal S1024x1024 .bf16) (r : Fin 512) (s : Fin 1024) :
    k0_pay2 (F := Ideal) v3 v4 v5 (ix2 r s) = v3 (ix2 r s) + ∑ d : Fin 1024, v4 (ix2 d r) * v5 (ix2 d s) := by
  pointwise [k0_pay2]

theorem pay_zero (r : Fin 512) (s : Fin 1024) : k0_pay1 (F := Ideal) (ix2 r s) = 0 := by pointwise [k0_pay1]

section Out
variable {F : FTy → Type} [FloatOps F]
variable (c : Dev nD) (i : grid0.Coords) (a3 : Memref sig .tc .vmem S1024x512 .bf16) (h3 : a3.IsWhole) (a4 : Memref sig .tc .vmem S1024x1024 .bf16) (h4 : a4.IsWhole) (a5 : Memref sig .tc .vmem S512x1024 .f32) (h5 : a5.IsWhole) (a6 : Memref sig .tc .vmem S512x1024 .f32) (h6 : a6.IsWhole)
  (x0 : Vec F S1024x512 .bf16) (x1 : Vec F S1024x1024 .bf16)

variable (y : Vec F S512x1024 .f32)

theorem held_A (hc : cond0_0 i) (hd : ¬cond0_1 i) : sout0_A_0 c i a3 h3 a4 h4 a5 h5 a6 h6 hc hd x0 x1
    = k0_pay2 k0_pay1 x0 x1 := by
  unfold sout0_A_0
  rw [View.read_writes_eq_canon _ _ _ (scover0_A_0 c i a3 h3 a4 h4 a5 h5 a6 h6 hc hd x0 x1)]
  unfold kernelRun0_A
  dsimp only
  sl_unfold_words
  rw [View.canon_cons_unit_zero (S := S512x1024) hz, View.readCov_unit_zero (S := S512x1024) _ hz]
  simp only [View.readAt_eq_ld, h3.read_unread, h4.read_unread, View.ld_unit_zero (S := S1024x1024) hz, View.ld_unit_zero (S := S1024x512) hz, View.ld_unit_zero (S := S512x1024) hz]

theorem held_B (hc : ¬cond0_0 i) (hd : ¬cond0_1 i) : sout0_B_0 c i a3 h3 a4 h4 a5 h5 a6 h6 hc hd x0 x1 y
    = k0_pay2 y x0 x1 := by
  unfold sout0_B_0
  rw [View.read_writes_eq_canon _ _ _ (scover0_B_0 c i a3 h3 a4 h4 a5 h5 a6 h6 hc hd x0 x1 y)]
  unfold kernelRun0_B
  dsimp only
  sl_unfold_words
  rw [View.canon_unit_zero (S := S512x1024) hz]
  simp only [View.readAt_eq_ld, h3.read_unread, h4.read_unread, h6.read_unread, View.ld_unit_zero (S := S1024x1024) hz, View.ld_unit_zero (S := S1024x512) hz, View.ld_unit_zero (S := S512x1024) hz]

theorem held_C (hc : ¬cond0_0 i) (hd : cond0_1 i) : sout0_C_0 c i a3 h3 a4 h4 a5 h5 a6 h6 hc hd x0 x1 y
    = k0_pay2 y x0 x1 := by
  unfold sout0_C_0
  rw [View.read_writes_eq_canon _ _ _ (scover0_C_0 c i a3 h3 a4 h4 a5 h5 a6 h6 hc hd x0 x1 y)]
  unfold kernelRun0_C
  dsimp only
  sl_unfold_words
  rw [View.canon_unit_zero (S := S512x1024) hz]
  simp only [View.readAt_eq_ld, h3.read_unread, h4.read_unread, h6.read_unread, View.ld_unit_zero (S := S1024x1024) hz, View.ld_unit_zero (S := S1024x512) hz, View.ld_unit_zero (S := S512x1024) hz]

theorem out_C (hc : ¬cond0_0 i) (hd : cond0_1 i) : out0_C_2 c i a3 h3 a4 h4 a5 h5 a6 h6 hc hd x0 x1 y
    = k0_pay2 y x0 x1 := by
  unfold out0_C_2
  rw [View.read_writes_eq_canon _ _ _ (cover0_C_2 c i a3 h3 a4 h4 a5 h5 a6 h6 hc hd x0 x1 y)]
  unfold kernelRun0_C
  dsimp only
  sl_unfold_words
  rw [View.canon_unit_zero (S := S512x1024) hz, View.readCov_unit_zero (S := S512x1024) _ hz]
  simp only [View.readAt_eq_ld, h3.read_unread, h4.read_unread, h6.read_unread, View.ld_unit_zero (S := S1024x1024) hz, View.ld_unit_zero (S := S1024x512) hz, View.ld_unit_zero (S := S512x1024) hz]

end Out

/-! ## The result array -/

variable (m : (ℓ : Loc nD τ sig) → Buf (Elt Ideal) ℓ) (ρ : Dev nD → PrngReg)

theorem idx : ∀ t : Fin cfg0.N, win0_0.index t = ![t.val % 8, t.val / 8] ∧ win0_1.index t = ![t.val % 8, t.val / 8 % 1]
    ∧ win0_2.index t = ![t.val / 8, t.val / 8 % 1] ∧ t.val < 8 :=
  (by decide +kernel : ∀ t : Fin grid0.N, _)

/-- The row, the column and the position on the shared axis of tile `t`'s entries. -/
def ti (t : Fin cfg0.N) (r : Fin 512) : Fin 512 := ⟨t.val / 8 * 512 + r.val, by have := (idx t).2.2.2; omega⟩
def tj (t : Fin cfg0.N) (s : Fin 1024) : Fin 1024 := ⟨t.val / 8 % 1 * 1024 + s.val, by omega⟩
def tk (t : Fin cfg0.N) (d : Fin 1024) : Fin 8192 := ⟨t.val % 8 * 1024 + d.val, by omega⟩

abbrev A (c : Dev nD) : Arr 8192 512 := m ((c : Thread nD τ).loc main_arg0)
abbrev B (c : Dev nD) : Arr 8192 1024 := m ((c : Thread nD τ).loc main_arg2)

theorem blk_a (c : Dev nD) (t : Fin cfg0.N) (r : Fin 512) (d : Fin 1024) :
    (show Vec Ideal S1024x512 .bf16 from iblk m c 0 t) (ix2 d r) = A m c (ix2 (tk t d) (ti t r)) := by
  unfold ti tk A
  blk_point [iblk, V, idx t]

theorem blk_b (c : Dev nD) (t : Fin cfg0.N) (s : Fin 1024) (d : Fin 1024) :
    (show Vec Ideal S1024x1024 .bf16 from iblk m c 1 t) (ix2 d s) = B m c (ix2 (tk t d) (tj t s)) := by
  unfold tj tk B
  blk_point [iblk, V, idx t]

/-- What tile `t` adds to its block. -/
def part (c : Dev nD) (t : Fin cfg0.N) (y : S512x1024.Idx) : EReal :=
  ∑ d, A m c (ix2 (tk t d) (ti t (at0 y))) * B m c (ix2 (tk t d) (tj t (at1 y)))

theorem part_ix2 (c : Dev nD) (t : Fin cfg0.N) (r : Fin 512) (s : Fin 1024) :
    part m c t (ix2 r s) = ∑ d, A m c (ix2 (tk t d) (ti t r)) * B m c (ix2 (tk t d) (tj t s)) := rfl

theorem pay_part (c : Dev nD) (t : Fin cfg0.N) (v : Vec Ideal S512x1024 .f32) (r : Fin 512) (s : Fin 1024) :
    k0_pay2 (F := Ideal) v (iblk m c 0 t) (iblk m c 1 t) (ix2 r s) = v (ix2 r s) + part m c t (ix2 r s) := by
  refine (pay _ _ _ r s).trans ?_
  refine congrArg (v (ix2 r s) + ·) (Finset.sum_congr rfl fun d _ => ?_)
  exact congrArg₂ (· * ·) (blk_a m c t r d) (blk_b m c t s d)

theorem reset (c : Dev nD) (t : Fin cfg0.N) (h : t.val % 8 = 0) (y : S512x1024.Idx) :
    (outsAt0 m c t.val t.isLt).2 y = 0 + part m c t y := by
  obtain ⟨r, s, rfl⟩ : ∃ r s, y = ix2 r s := ⟨y 0, y 1, eq_ix2 y⟩
  rw [outsAt0_A m c t h (by omega)]
  dsimp only
  rw [held_A]
  refine (pay_part m c t _ r s).trans ?_
  rw [pay_zero]

theorem step (c : Dev nD) (t : Fin cfg0.N) (h : ¬t.val % 8 = 0) (y : S512x1024.Idx) :
    (outsAt0 m c t.val t.isLt).2 y = (outsAt0 m c (t.val - 1) (Nat.lt_of_le_of_lt (Nat.sub_le _ _) t.isLt)).2 y + part m c t y := by
  obtain ⟨r, s, rfl⟩ : ∃ r s, y = ix2 r s := ⟨y 0, y 1, eq_ix2 y⟩
  by_cases h1 : t.val % 8 = 7
  · rw [outsAt0_C m c t h h1]
    dsimp only
    rw [held_C]
    exact pay_part m c t _ r s
  · rw [outsAt0_B m c t h h1]
    dsimp only
    rw [held_B]
    exact pay_part m c t _ r s

theorem leaves (c : Dev nD) (t : Fin cfg0.N) (h : t.val % 8 = 7) (r : Fin 512) (s : Fin 1024) :
    (outsAt0 m c t.val t.isLt).1 (ix2 r s) = (outsAt0 m c t.val t.isLt).2 (ix2 r s) := by
  rw [outsAt0_C m c t (by omega) h]
  dsimp only
  rw [out_C, held_C]

theorem ti_run (t : Fin cfg0.N) (s : Fin 8) (h) (r : Fin 512) : ti ⟨8 * (t.val / 8) + s.val, h⟩ r = ti t r := by
  unfold ti; apply Fin.ext; dsimp only; omega

theorem tj_run (t : Fin cfg0.N) (s : Fin 8) (h) (r : Fin 1024) : tj ⟨8 * (t.val / 8) + s.val, h⟩ r = tj t r := by
  unfold tj; apply Fin.ext; dsimp only; omega

theorem tk_run (t : Fin cfg0.N) (s : Fin 8) (h) (d : Fin 1024) :
    tk ⟨8 * (t.val / 8) + s.val, h⟩ d = ⟨s.val * 1024 + d.val, by omega⟩ := by
  unfold tk; apply Fin.ext; dsimp only; omega

theorem final (c : Dev nD) : (dats m 0 c).arrAt 2 cfg0.N = cols (A m c) (B m c) := by
  refine (dats m 0 c).arrAt_eq_of_covers 2 _ (by decide +kernel) fun t hf y => ?_
  blk_simp
  rw [after0_2]
  obtain ⟨r, s, rfl⟩ : ∃ (r : Fin 512) (s : Fin 1024), y = ix2 r s := ⟨y 0, y 1, eq_ix2 y⟩
  have e0 : at0 ((win0_2.blk t).view.emb (ix2 r s)) = ti t r := by
    unfold at0 ti; apply Fin.ext; dsimp only; blk_simp [idx t]
  have e1 : at1 ((win0_2.blk t).view.emb (ix2 r s)) = tj t s := by
    unfold at1 tj; apply Fin.ext; dsimp only; blk_simp [idx t]
  have hl : t.val % 8 = 7 := (flush0_2 t).mp hf
  rw [leaves m c t hl,
    Pipeline.eq_sum_fin_of_reset_step_apply_of_flush (fun n h => (outsAt0 m c n h).2) 8 (fun _ => 0) (part m c)
      (reset m c) (step m c) t hl _, zero_add]
  unfold cols
  rw [e0, e1]
  simp only [part_ix2]
  refine Fin.sum_mul_add_congr fun k d hl => ?_
  rw [ti_run, tj_run, tk_run]

/-! ## The claims -/

theorem frame_ref : Cert.quiescent_BranchDwRefIdeal (hBranchDwRefIdeal := Cert.BranchDwRefIdeal.Gen.facts) := fun m ρ _ =>
  (θ_run _ _ _).mono (fun r h => ⟨fun c => ((h c).2 : _), sem_eq_zero_of_no_sems (by decide) r.2⟩)
    (Cert.BranchDwRefIdeal.Value.run m ρ)

theorem algebraic : Cert.algebraic_BranchDwIdeal_BranchDwRefIdeal
    (hBranchDwIdeal := Cert.BranchDwIdeal.Gen.facts) (hBranchDwRefIdeal := Cert.BranchDwRefIdeal.Gen.facts) := by
  intro m g m' g' _ hag
  refine ⟨fun c => cols (A m c) (B m c), ?_, ?_⟩
  · refine (θ_run _ _ _).mono (fun r h c => ?_) (Cert.BranchDwIdeal.Value.run_blocks m g)
    exact ⟨(h c).1.trans (final m c), (h c).2⟩
  · refine (θ_run _ _ _).mono (fun r h c => ?_) (Cert.BranchDwRefIdeal.Value.run m' g')
    refine ⟨(h c).1.trans ?_, (h c).2⟩
    obtain ⟨e0, e1, e2⟩ := hag c
    rw [e0, e2]
    exact ref_eq _ _

end Cert.BranchDwProof

end
-- ==== Proof.UkvDxValue.lean ====
/- The kernel UkvDx: a product in tiles, its result array as the whole product, and the reference's result. -/
module

public import proofs.«01_k».proof.Defs
public import proofs.«01_k».proof.Proof.Gen.UkvDxIdeal.Value
public import proofs.«01_k».proof.Proof.Gen.UkvDxRefIdeal.Run
public import proofs.«01_k».proof.Proof.Product
public import Idealize.ShloMosaic.Lib.Pipeline.ValueKit
public import Idealize.ShloMosaic.Lib.Claim

@[expose] public section

set_option maxRecDepth 16384

noncomputable section

namespace Cert.UkvDxProof

open Idealize.ShloMosaic Idealize.ShloMosaic.TcCoe Idealize.SL.Sem Cert.Product

/-! ## The reference's result -/

open Cert.UkvDxRefIdeal Cert.UkvDxRefIdeal.Gen in
theorem ref_eq (a1 : FVec Ideal Cert.UkvDxRefIdeal.S256x1024 .bf16) (a2 : FVec Ideal Cert.UkvDxRefIdeal.S8192x1024 .bf16) :
    Host.dotGeneral dot_S8192x1024_S256x1024_S8192x256_1_1_0_0_n_n none (extf .f32 a2 bitsLt_bf16_f32) (extf .f32 a1 bitsLt_bf16_f32)
      = rows a2 a1 := by
  funext i
  obtain ⟨r, s, rfl⟩ : ∃ r s, i = ix2 r s := ⟨i 0, i 1, eq_ix2 i⟩
  pointwise
  first
    | rfl
    | exact Finset.sum_congr rfl fun d _ => mul_comm _ _
    | exact congrArg (_ + ·) (Finset.sum_congr rfl fun d _ => mul_comm _ _)

open Cert.UkvDxIdeal Cert.UkvDxIdeal.Gen

/-! ## What the body computes of one tile -/

theorem pay (v3 : Vec Ideal S1024x256 .f32) (v4 : Vec Ideal S1024x1024 .bf16) (v5 : Vec Ideal S256x1024 .bf16) (r : Fin 1024) (s : Fin 256) :
    k0_pay2 (F := Ideal) v3 v4 v5 (ix2 r s) = v3 (ix2 r s) + ∑ d : Fin 1024, v4 (ix2 r d) * v5 (ix2 s d) := by
  pointwise [k0_pay2]

theorem pay_zero (r : Fin 1024) (s : Fin 256) : k0_pay1 (F := Ideal) (ix2 r s) = 0 := by pointwise [k0_pay1]

section Out
variable {F : FTy → Type} [FloatOps F]
variable (c : Dev nD) (i : grid0.Coords) (a3 : Memref sig .tc .vmem S1024x1024 .bf16) (h3 : a3.IsWhole) (a4 : Memref sig .tc .vmem S256x1024 .bf16) (h4 : a4.IsWhole) (a5 : Memref sig .tc .vmem S1024x256 .f32) (h5 : a5.IsWhole) (a6 : Memref sig .tc .vmem S1024x256 .f32) (h6 : a6.IsWhole)
  (x0 : Vec F S1024x1024 .bf16) (x1 : Vec F S256x1024 .bf16)

theorem out_A (hc : cond0_0 i) (hd : cond0_1 i) : out0_A_2 c i a3 h3 a4 h4 a5 h5 a6 h6 hc hd x0 x1
    = k0_pay2 k0_pay1 x0 x1 := by
  unfold out0_A_2
  rw [View.read_writes_eq_canon _ _ _ (cover0_A_2 c i a3 h3 a4 h4 a5 h5 a6 h6 hc hd x0 x1)]
  unfold kernelRun0_A
  dsimp only
  sl_unfold_words
  rw [View.canon_unit_zero (S := S1024x256) hz, View.readCov_cons_toLoadRect, View.readCov_unit_zero (S := S1024x256) _ hz]
  simp only [View.readAt_eq_ld, h3.read_unread, h4.read_unread, View.ld_unit_zero (S := S1024x1024) hz, View.ld_unit_zero (S := S1024x256) hz, View.ld_unit_zero (S := S256x1024) hz]

end Out

/-! ## The result array -/

variable (m : (ℓ : Loc nD τ sig) → Buf (Elt Ideal) ℓ) (ρ : Dev nD → PrngReg)

theorem idx : ∀ t : Fin cfg0.N, win0_0.index t = ![t.val / 1, t.val % 1] ∧ win0_1.index t = ![t.val / 1 % 1, t.val % 1]
    ∧ win0_2.index t = ![t.val / 1, t.val / 1 % 1] ∧ t.val < 8 :=
  (by decide +kernel : ∀ t : Fin grid0.N, _)

/-- The row, the column and the position on the shared axis of tile `t`'s entries. -/
def ti (t : Fin cfg0.N) (r : Fin 1024) : Fin 8192 := ⟨t.val / 1 * 1024 + r.val, by have := (idx t).2.2.2; omega⟩
def tj (t : Fin cfg0.N) (s : Fin 256) : Fin 256 := ⟨t.val / 1 % 1 * 256 + s.val, by omega⟩
def tk (t : Fin cfg0.N) (d : Fin 1024) : Fin 1024 := ⟨t.val % 1 * 1024 + d.val, by omega⟩

abbrev A (c : Dev nD) : Arr 8192 1024 := m ((c : Thread nD τ).loc main_arg2)
abbrev B (c : Dev nD) : Arr 256 1024 := m ((c : Thread nD τ).loc main_arg1)

theorem blk_a (c : Dev nD) (t : Fin cfg0.N) (r : Fin 1024) (d : Fin 1024) :
    (show Vec Ideal S1024x1024 .bf16 from iblk m c 0 t) (ix2 r d) = A m c (ix2 (ti t r) (tk t d)) := by
  unfold ti tk A
  blk_point [iblk, V, idx t]

theorem blk_b (c : Dev nD) (t : Fin cfg0.N) (s : Fin 256) (d : Fin 1024) :
    (show Vec Ideal S256x1024 .bf16 from iblk m c 1 t) (ix2 s d) = B m c (ix2 (tj t s) (tk t d)) := by
  unfold tj tk B
  blk_point [iblk, V, idx t]

/-- What tile `t` adds to its block. -/
def part (c : Dev nD) (t : Fin cfg0.N) (y : S1024x256.Idx) : EReal :=
  ∑ d, A m c (ix2 (ti t (at0 y)) (tk t d)) * B m c (ix2 (tj t (at1 y)) (tk t d))

theorem part_ix2 (c : Dev nD) (t : Fin cfg0.N) (r : Fin 1024) (s : Fin 256) :
    part m c t (ix2 r s) = ∑ d, A m c (ix2 (ti t r) (tk t d)) * B m c (ix2 (tj t s) (tk t d)) := rfl

theorem pay_part (c : Dev nD) (t : Fin cfg0.N) (v : Vec Ideal S1024x256 .f32) (r : Fin 1024) (s : Fin 256) :
    k0_pay2 (F := Ideal) v (iblk m c 0 t) (iblk m c 1 t) (ix2 r s) = v (ix2 r s) + part m c t (ix2 r s) := by
  refine (pay _ _ _ r s).trans ?_
  refine congrArg (v (ix2 r s) + ·) (Finset.sum_congr rfl fun d _ => ?_)
  exact congrArg₂ (· * ·) (blk_a m c t r d) (blk_b m c t s d)

theorem final (c : Dev nD) : (dats m 0 c).arrAt 2 cfg0.N = rows (A m c) (B m c) := by
  refine (dats m 0 c).arrAt_eq_of_covers 2 _ (by decide +kernel) fun t hf y => ?_
  blk_simp
  rw [after0_2]
  obtain ⟨r, s, rfl⟩ : ∃ (r : Fin 1024) (s : Fin 256), y = ix2 r s := ⟨y 0, y 1, eq_ix2 y⟩
  have e0 : at0 ((win0_2.blk t).view.emb (ix2 r s)) = ti t r := by
    unfold at0 ti; apply Fin.ext; dsimp only; blk_simp [idx t]
  have e1 : at1 ((win0_2.blk t).view.emb (ix2 r s)) = tj t s := by
    unfold at1 tj; apply Fin.ext; dsimp only; blk_simp [idx t]
  unfold outsAt0
  rw [out_A]
  refine (pay_part m c t _ r s).trans ?_
  rw [pay_zero, zero_add]
  unfold rows
  rw [e0, e1]
  simp only [part_ix2]
  refine Finset.sum_congr rfl fun d _ => ?_
  rw [show tk t d = d from by unfold tk; apply Fin.ext; dsimp only; omega]

/-! ## The claims -/

theorem frame_ref : Cert.quiescent_UkvDxRefIdeal (hUkvDxRefIdeal := Cert.UkvDxRefIdeal.Gen.facts) := fun m ρ _ =>
  (θ_run _ _ _).mono (fun r h => ⟨fun c => ((h c).2 : _), sem_eq_zero_of_no_sems (by decide) r.2⟩)
    (Cert.UkvDxRefIdeal.Value.run m ρ)

theorem algebraic : Cert.algebraic_UkvDxIdeal_UkvDxRefIdeal
    (hUkvDxIdeal := Cert.UkvDxIdeal.Gen.facts) (hUkvDxRefIdeal := Cert.UkvDxRefIdeal.Gen.facts) := by
  intro m g m' g' _ hag
  refine ⟨fun c => rows (A m c) (B m c), ?_, ?_⟩
  · refine (θ_run _ _ _).mono (fun r h c => ?_) (Cert.UkvDxIdeal.Value.run_blocks m g)
    exact ⟨(h c).1.trans (final m c), (h c).2⟩
  · refine (θ_run _ _ _).mono (fun r h c => ?_) (Cert.UkvDxRefIdeal.Value.run m' g')
    refine ⟨(h c).1.trans ?_, (h c).2⟩
    obtain ⟨e0, e1, e2⟩ := hag c
    rw [e1, e2]
    exact ref_eq _ _

end Cert.UkvDxProof

end
-- ==== Proof.UkvDwValue.lean ====
/- The kernel UkvDw: a product in tiles, its result array as the whole product, and the reference's result. -/
module

public import proofs.«01_k».proof.Defs
public import proofs.«01_k».proof.Proof.Gen.UkvDwIdeal.Value
public import proofs.«01_k».proof.Proof.Gen.UkvDwRefIdeal.Run
public import proofs.«01_k».proof.Proof.Product
public import Idealize.ShloMosaic.Lib.Pipeline.ValueKit
public import Idealize.ShloMosaic.Lib.Claim

@[expose] public section

set_option maxRecDepth 16384

noncomputable section

namespace Cert.UkvDwProof

open Idealize.ShloMosaic Idealize.ShloMosaic.TcCoe Idealize.SL.Sem Cert.Product

/-! ## The reference's result -/

open Cert.UkvDwRefIdeal Cert.UkvDwRefIdeal.Gen in
theorem ref_eq (a0 : FVec Ideal Cert.UkvDwRefIdeal.S8192x256 .bf16) (a2 : FVec Ideal Cert.UkvDwRefIdeal.S8192x1024 .bf16) :
    transpose S256x1024 [1, 0] (Host.dotGeneral dot_S8192x1024_S8192x256_S1024x256_0_0_1_1_n_n none (extf .f32 a2 bitsLt_bf16_f32) (extf .f32 a0 bitsLt_bf16_f32)) transposes_S1024x256_S256x1024_1_0
      = cols a0 a2 := by
  funext i
  obtain ⟨r, s, rfl⟩ : ∃ r s, i = ix2 r s := ⟨i 0, i 1, eq_ix2 i⟩
  pointwise
  first
    | rfl
    | exact Finset.sum_congr rfl fun d _ => mul_comm _ _
    | exact congrArg (_ + ·) (Finset.sum_congr rfl fun d _ => mul_comm _ _)

open Cert.UkvDwIdeal Cert.UkvDwIdeal.Gen

/-! ## What the body computes of one tile -/

theorem pay (v3 : Vec Ideal S256x1024 .f32) (v4 : Vec Ideal S1024x256 .bf16) (v5 : Vec Ideal S1024x1024 .bf16) (r : Fin 256) (s : Fin 1024) :
    k0_pay2 (F := Ideal) v3 v4 v5 (ix2 r s) = v3 (ix2 r s) + ∑ d : Fin 1024, v4 (ix2 d r) * v5 (ix2 d s) := by
  pointwise [k0_pay2]

theorem pay_zero (r : Fin 256) (s : Fin 1024) : k0_pay1 (F := Ideal) (ix2 r s) = 0 := by pointwise [k0_pay1]

section Out
variable {F : FTy → Type} [FloatOps F]
variable (c : Dev nD) (i : grid0.Coords) (a3 : Memref sig .tc .vmem S1024x256 .bf16) (h3 : a3.IsWhole) (a4 : Memref sig .tc .vmem S1024x1024 .bf16) (h4 : a4.IsWhole) (a5 : Memref sig .tc .vmem S256x1024 .f32) (h5 : a5.IsWhole) (a6 : Memref sig .tc .vmem S256x1024 .f32) (h6 : a6.IsWhole)
  (x0 : Vec F S1024x256 .bf16) (x1 : Vec F S1024x1024 .bf16)

variable (y : Vec F S256x1024 .f32)

theorem held_A (hc : cond0_0 i) (hd : ¬cond0_1 i) : sout0_A_0 c i a3 h3 a4 h4 a5 h5 a6 h6 hc hd x0 x1
    = k0_pay2 k0_pay1 x0 x1 := by
  unfold sout0_A_0
  rw [View.read_writes_eq_canon _ _ _ (scover0_A_0 c i a3 h3 a4 h4 a5 h5 a6 h6 hc hd x0 x1)]
  unfold kernelRun0_A
  dsimp only
  sl_unfold_words
  rw [View.canon_cons_unit_zero (S := S256x1024) hz, View.readCov_unit_zero (S := S256x1024) _ hz]
  simp only [View.readAt_eq_ld, h3.read_unread, h4.read_unread, View.ld_unit_zero (S := S1024x1024) hz, View.ld_unit_zero (S := S1024x256) hz, View.ld_unit_zero (S := S256x1024) hz]

theorem held_B (hc : ¬cond0_0 i) (hd : ¬cond0_1 i) : sout0_B_0 c i a3 h3 a4 h4 a5 h5 a6 h6 hc hd x0 x1 y
    = k0_pay2 y x0 x1 := by
  unfold sout0_B_0
  rw [View.read_writes_eq_canon _ _ _ (scover0_B_0 c i a3 h3 a4 h4 a5 h5 a6 h6 hc hd x0 x1 y)]
  unfold kernelRun0_B
  dsimp only
  sl_unfold_words
  rw [View.canon_unit_zero (S := S256x1024) hz]
  simp only [View.readAt_eq_ld, h3.read_unread, h4.read_unread, h6.read_unread, View.ld_unit_zero (S := S1024x1024) hz, View.ld_unit_zero (S := S1024x256) hz, View.ld_unit_zero (S := S256x1024) hz]

theorem held_C (hc : ¬cond0_0 i) (hd : cond0_1 i) : sout0_C_0 c i a3 h3 a4 h4 a5 h5 a6 h6 hc hd x0 x1 y
    = k0_pay2 y x0 x1 := by
  unfold sout0_C_0
  rw [View.read_writes_eq_canon _ _ _ (scover0_C_0 c i a3 h3 a4 h4 a5 h5 a6 h6 hc hd x0 x1 y)]
  unfold kernelRun0_C
  dsimp only
  sl_unfold_words
  rw [View.canon_unit_zero (S := S256x1024) hz]
  simp only [View.readAt_eq_ld, h3.read_unread, h4.read_unread, h6.read_unread, View.ld_unit_zero (S := S1024x1024) hz, View.ld_unit_zero (S := S1024x256) hz, View.ld_unit_zero (S := S256x1024) hz]

theorem out_C (hc : ¬cond0_0 i) (hd : cond0_1 i) : out0_C_2 c i a3 h3 a4 h4 a5 h5 a6 h6 hc hd x0 x1 y
    = k0_pay2 y x0 x1 := by
  unfold out0_C_2
  rw [View.read_writes_eq_canon _ _ _ (cover0_C_2 c i a3 h3 a4 h4 a5 h5 a6 h6 hc hd x0 x1 y)]
  unfold kernelRun0_C
  dsimp only
  sl_unfold_words
  rw [View.canon_unit_zero (S := S256x1024) hz, View.readCov_unit_zero (S := S256x1024) _ hz]
  simp only [View.readAt_eq_ld, h3.read_unread, h4.read_unread, h6.read_unread, View.ld_unit_zero (S := S1024x1024) hz, View.ld_unit_zero (S := S1024x256) hz, View.ld_unit_zero (S := S256x1024) hz]

end Out

/-! ## The result array -/

variable (m : (ℓ : Loc nD τ sig) → Buf (Elt Ideal) ℓ) (ρ : Dev nD → PrngReg)

theorem idx : ∀ t : Fin cfg0.N, win0_0.index t = ![t.val % 8, t.val / 8] ∧ win0_1.index t = ![t.val % 8, t.val / 8 % 1]
    ∧ win0_2.index t = ![t.val / 8, t.val / 8 % 1] ∧ t.val < 8 :=
  (by decide +kernel : ∀ t : Fin grid0.N, _)

/-- The row, the column and the position on the shared axis of tile `t`'s entries. -/
def ti (t : Fin cfg0.N) (r : Fin 256) : Fin 256 := ⟨t.val / 8 * 256 + r.val, by have := (idx t).2.2.2; omega⟩
def tj (t : Fin cfg0.N) (s : Fin 1024) : Fin 1024 := ⟨t.val / 8 % 1 * 1024 + s.val, by omega⟩
def tk (t : Fin cfg0.N) (d : Fin 1024) : Fin 8192 := ⟨t.val % 8 * 1024 + d.val, by omega⟩

abbrev A (c : Dev nD) : Arr 8192 256 := m ((c : Thread nD τ).loc main_arg0)
abbrev B (c : Dev nD) : Arr 8192 1024 := m ((c : Thread nD τ).loc main_arg2)

theorem blk_a (c : Dev nD) (t : Fin cfg0.N) (r : Fin 256) (d : Fin 1024) :
    (show Vec Ideal S1024x256 .bf16 from iblk m c 0 t) (ix2 d r) = A m c (ix2 (tk t d) (ti t r)) := by
  unfold ti tk A
  blk_point [iblk, V, idx t]

theorem blk_b (c : Dev nD) (t : Fin cfg0.N) (s : Fin 1024) (d : Fin 1024) :
    (show Vec Ideal S1024x1024 .bf16 from iblk m c 1 t) (ix2 d s) = B m c (ix2 (tk t d) (tj t s)) := by
  unfold tj tk B
  blk_point [iblk, V, idx t]

/-- What tile `t` adds to its block. -/
def part (c : Dev nD) (t : Fin cfg0.N) (y : S256x1024.Idx) : EReal :=
  ∑ d, A m c (ix2 (tk t d) (ti t (at0 y))) * B m c (ix2 (tk t d) (tj t (at1 y)))

theorem part_ix2 (c : Dev nD) (t : Fin cfg0.N) (r : Fin 256) (s : Fin 1024) :
    part m c t (ix2 r s) = ∑ d, A m c (ix2 (tk t d) (ti t r)) * B m c (ix2 (tk t d) (tj t s)) := rfl

theorem pay_part (c : Dev nD) (t : Fin cfg0.N) (v : Vec Ideal S256x1024 .f32) (r : Fin 256) (s : Fin 1024) :
    k0_pay2 (F := Ideal) v (iblk m c 0 t) (iblk m c 1 t) (ix2 r s) = v (ix2 r s) + part m c t (ix2 r s) := by
  refine (pay _ _ _ r s).trans ?_
  refine congrArg (v (ix2 r s) + ·) (Finset.sum_congr rfl fun d _ => ?_)
  exact congrArg₂ (· * ·) (blk_a m c t r d) (blk_b m c t s d)

theorem reset (c : Dev nD) (t : Fin cfg0.N) (h : t.val % 8 = 0) (y : S256x1024.Idx) :
    (outsAt0 m c t.val t.isLt).2 y = 0 + part m c t y := by
  obtain ⟨r, s, rfl⟩ : ∃ r s, y = ix2 r s := ⟨y 0, y 1, eq_ix2 y⟩
  rw [outsAt0_A m c t h (by omega)]
  dsimp only
  rw [held_A]
  refine (pay_part m c t _ r s).trans ?_
  rw [pay_zero]

theorem step (c : Dev nD) (t : Fin cfg0.N) (h : ¬t.val % 8 = 0) (y : S256x1024.Idx) :
    (outsAt0 m c t.val t.isLt).2 y = (outsAt0 m c (t.val - 1) (Nat.lt_of_le_of_lt (Nat.sub_le _ _) t.isLt)).2 y + part m c t y := by
  obtain ⟨r, s, rfl⟩ : ∃ r s, y = ix2 r s := ⟨y 0, y 1, eq_ix2 y⟩
  by_cases h1 : t.val % 8 = 7
  · rw [outsAt0_C m c t h h1]
    dsimp only
    rw [held_C]
    exact pay_part m c t _ r s
  · rw [outsAt0_B m c t h h1]
    dsimp only
    rw [held_B]
    exact pay_part m c t _ r s

theorem leaves (c : Dev nD) (t : Fin cfg0.N) (h : t.val % 8 = 7) (r : Fin 256) (s : Fin 1024) :
    (outsAt0 m c t.val t.isLt).1 (ix2 r s) = (outsAt0 m c t.val t.isLt).2 (ix2 r s) := by
  rw [outsAt0_C m c t (by omega) h]
  dsimp only
  rw [out_C, held_C]

theorem ti_run (t : Fin cfg0.N) (s : Fin 8) (h) (r : Fin 256) : ti ⟨8 * (t.val / 8) + s.val, h⟩ r = ti t r := by
  unfold ti; apply Fin.ext; dsimp only; omega

theorem tj_run (t : Fin cfg0.N) (s : Fin 8) (h) (r : Fin 1024) : tj ⟨8 * (t.val / 8) + s.val, h⟩ r = tj t r := by
  unfold tj; apply Fin.ext; dsimp only; omega

theorem tk_run (t : Fin cfg0.N) (s : Fin 8) (h) (d : Fin 1024) :
    tk ⟨8 * (t.val / 8) + s.val, h⟩ d = ⟨s.val * 1024 + d.val, by omega⟩ := by
  unfold tk; apply Fin.ext; dsimp only; omega

theorem final (c : Dev nD) : (dats m 0 c).arrAt 2 cfg0.N = cols (A m c) (B m c) := by
  refine (dats m 0 c).arrAt_eq_of_covers 2 _ (by decide +kernel) fun t hf y => ?_
  blk_simp
  rw [after0_2]
  obtain ⟨r, s, rfl⟩ : ∃ (r : Fin 256) (s : Fin 1024), y = ix2 r s := ⟨y 0, y 1, eq_ix2 y⟩
  have e0 : at0 ((win0_2.blk t).view.emb (ix2 r s)) = ti t r := by
    unfold at0 ti; apply Fin.ext; dsimp only; blk_simp [idx t]
  have e1 : at1 ((win0_2.blk t).view.emb (ix2 r s)) = tj t s := by
    unfold at1 tj; apply Fin.ext; dsimp only; blk_simp [idx t]
  have hl : t.val % 8 = 7 := (flush0_2 t).mp hf
  rw [leaves m c t hl,
    Pipeline.eq_sum_fin_of_reset_step_apply_of_flush (fun n h => (outsAt0 m c n h).2) 8 (fun _ => 0) (part m c)
      (reset m c) (step m c) t hl _, zero_add]
  unfold cols
  rw [e0, e1]
  simp only [part_ix2]
  refine Fin.sum_mul_add_congr fun k d hl => ?_
  rw [ti_run, tj_run, tk_run]

/-! ## The claims -/

theorem frame_ref : Cert.quiescent_UkvDwRefIdeal (hUkvDwRefIdeal := Cert.UkvDwRefIdeal.Gen.facts) := fun m ρ _ =>
  (θ_run _ _ _).mono (fun r h => ⟨fun c => ((h c).2 : _), sem_eq_zero_of_no_sems (by decide) r.2⟩)
    (Cert.UkvDwRefIdeal.Value.run m ρ)

theorem algebraic : Cert.algebraic_UkvDwIdeal_UkvDwRefIdeal
    (hUkvDwIdeal := Cert.UkvDwIdeal.Gen.facts) (hUkvDwRefIdeal := Cert.UkvDwRefIdeal.Gen.facts) := by
  intro m g m' g' _ hag
  refine ⟨fun c => cols (A m c) (B m c), ?_, ?_⟩
  · refine (θ_run _ _ _).mono (fun r h c => ?_) (Cert.UkvDwIdeal.Value.run_blocks m g)
    exact ⟨(h c).1.trans (final m c), (h c).2⟩
  · refine (θ_run _ _ _).mono (fun r h c => ?_) (Cert.UkvDwRefIdeal.Value.run m' g')
    refine ⟨(h c).1.trans ?_, (h c).2⟩
    obtain ⟨e0, e1, e2⟩ := hag c
    rw [e0, e2]
    exact ref_eq _ _

end Cert.UkvDwProof

end
-- ==== Proof.InQDxValue.lean ====
/- The kernel InQDx: a product in tiles, its result array as the whole product, and the reference's result. -/
module

public import proofs.«01_k».proof.Defs
public import proofs.«01_k».proof.Proof.Gen.InQDxIdeal.Value
public import proofs.«01_k».proof.Proof.Gen.InQDxRefIdeal.Run
public import proofs.«01_k».proof.Proof.Product
public import Idealize.ShloMosaic.Lib.Pipeline.ValueKit
public import Idealize.ShloMosaic.Lib.Claim

@[expose] public section

set_option maxRecDepth 16384

noncomputable section

namespace Cert.InQDxProof

open Idealize.ShloMosaic Idealize.ShloMosaic.TcCoe Idealize.SL.Sem Cert.Product

/-! ## The reference's result -/

open Cert.InQDxRefIdeal Cert.InQDxRefIdeal.Gen in
theorem ref_eq (a1 : FVec Ideal Cert.InQDxRefIdeal.S1024x384 .bf16) (a2 : FVec Ideal Cert.InQDxRefIdeal.S8192x384 .bf16) :
    Host.dotGeneral dot_S8192x384_S1024x384_S8192x1024_1_1_0_0_n_n none (extf .f32 a2 bitsLt_bf16_f32) (extf .f32 a1 bitsLt_bf16_f32)
      = rows a2 a1 := by
  funext i
  obtain ⟨r, s, rfl⟩ : ∃ r s, i = ix2 r s := ⟨i 0, i 1, eq_ix2 i⟩
  pointwise
  first
    | rfl
    | exact Finset.sum_congr rfl fun d _ => mul_comm _ _
    | exact congrArg (_ + ·) (Finset.sum_congr rfl fun d _ => mul_comm _ _)

open Cert.InQDxIdeal Cert.InQDxIdeal.Gen

/-! ## What the body computes of one tile -/

theorem pay (v3 : Vec Ideal S1024x1024 .f32) (v4 : Vec Ideal S1024x384 .bf16) (v5 : Vec Ideal S1024x384 .bf16) (r : Fin 1024) (s : Fin 1024) :
    k0_pay2 (F := Ideal) v3 v4 v5 (ix2 r s) = v3 (ix2 r s) + ∑ d : Fin 384, v4 (ix2 r d) * v5 (ix2 s d) := by
  pointwise [k0_pay2]

theorem pay_zero (r : Fin 1024) (s : Fin 1024) : k0_pay1 (F := Ideal) (ix2 r s) = 0 := by pointwise [k0_pay1]

section Out
variable {F : FTy → Type} [FloatOps F]
variable (c : Dev nD) (i : grid0.Coords) (a3 : Memref sig .tc .vmem S1024x384 .bf16) (h3 : a3.IsWhole) (a4 : Memref sig .tc .vmem S1024x384 .bf16) (h4 : a4.IsWhole) (a5 : Memref sig .tc .vmem S1024x1024 .f32) (h5 : a5.IsWhole) (a6 : Memref sig .tc .vmem S1024x1024 .f32) (h6 : a6.IsWhole)
  (x0 : Vec F S1024x384 .bf16) (x1 : Vec F S1024x384 .bf16)

theorem out_A (hc : cond0_0 i) (hd : cond0_1 i) : out0_A_2 c i a3 h3 a4 h4 a5 h5 a6 h6 hc hd x0 x1
    = k0_pay2 k0_pay1 x0 x1 := by
  unfold out0_A_2
  rw [View.read_writes_eq_canon _ _ _ (cover0_A_2 c i a3 h3 a4 h4 a5 h5 a6 h6 hc hd x0 x1)]
  unfold kernelRun0_A
  dsimp only
  sl_unfold_words
  rw [View.canon_unit_zero (S := S1024x1024) hz, View.readCov_cons_toLoadRect, View.readCov_unit_zero (S := S1024x1024) _ hz]
  simp only [View.readAt_eq_ld, h3.read_unread, h4.read_unread, View.ld_unit_zero (S := S1024x1024) hz, View.ld_unit_zero (S := S1024x384) hz]

end Out

/-! ## The result array -/

variable (m : (ℓ : Loc nD τ sig) → Buf (Elt Ideal) ℓ) (ρ : Dev nD → PrngReg)

theorem idx : ∀ t : Fin cfg0.N, win0_0.index t = ![t.val / 1, t.val % 1] ∧ win0_1.index t = ![t.val / 1 % 1, t.val % 1]
    ∧ win0_2.index t = ![t.val / 1, t.val / 1 % 1] ∧ t.val < 8 :=
  (by decide +kernel : ∀ t : Fin grid0.N, _)

/-- The row, the column and the position on the shared axis of tile `t`'s entries. -/
def ti (t : Fin cfg0.N) (r : Fin 1024) : Fin 8192 := ⟨t.val / 1 * 1024 + r.val, by have := (idx t).2.2.2; omega⟩
def tj (t : Fin cfg0.N) (s : Fin 1024) : Fin 1024 := ⟨t.val / 1 % 1 * 1024 + s.val, by omega⟩
def tk (t : Fin cfg0.N) (d : Fin 384) : Fin 384 := ⟨t.val % 1 * 384 + d.val, by omega⟩

abbrev A (c : Dev nD) : Arr 8192 384 := m ((c : Thread nD τ).loc main_arg2)
abbrev B (c : Dev nD) : Arr 1024 384 := m ((c : Thread nD τ).loc main_arg1)

theorem blk_a (c : Dev nD) (t : Fin cfg0.N) (r : Fin 1024) (d : Fin 384) :
    (show Vec Ideal S1024x384 .bf16 from iblk m c 0 t) (ix2 r d) = A m c (ix2 (ti t r) (tk t d)) := by
  unfold ti tk A
  blk_point [iblk, V, idx t]

theorem blk_b (c : Dev nD) (t : Fin cfg0.N) (s : Fin 1024) (d : Fin 384) :
    (show Vec Ideal S1024x384 .bf16 from iblk m c 1 t) (ix2 s d) = B m c (ix2 (tj t s) (tk t d)) := by
  unfold tj tk B
  blk_point [iblk, V, idx t]

/-- What tile `t` adds to its block. -/
def part (c : Dev nD) (t : Fin cfg0.N) (y : S1024x1024.Idx) : EReal :=
  ∑ d, A m c (ix2 (ti t (at0 y)) (tk t d)) * B m c (ix2 (tj t (at1 y)) (tk t d))

theorem part_ix2 (c : Dev nD) (t : Fin cfg0.N) (r : Fin 1024) (s : Fin 1024) :
    part m c t (ix2 r s) = ∑ d, A m c (ix2 (ti t r) (tk t d)) * B m c (ix2 (tj t s) (tk t d)) := rfl

theorem pay_part (c : Dev nD) (t : Fin cfg0.N) (v : Vec Ideal S1024x1024 .f32) (r : Fin 1024) (s : Fin 1024) :
    k0_pay2 (F := Ideal) v (iblk m c 0 t) (iblk m c 1 t) (ix2 r s) = v (ix2 r s) + part m c t (ix2 r s) := by
  refine (pay _ _ _ r s).trans ?_
  refine congrArg (v (ix2 r s) + ·) (Finset.sum_congr rfl fun d _ => ?_)
  exact congrArg₂ (· * ·) (blk_a m c t r d) (blk_b m c t s d)

theorem final (c : Dev nD) : (dats m 0 c).arrAt 2 cfg0.N = rows (A m c) (B m c) := by
  refine (dats m 0 c).arrAt_eq_of_covers 2 _ (by decide +kernel) fun t hf y => ?_
  blk_simp
  rw [after0_2]
  obtain ⟨r, s, rfl⟩ : ∃ (r : Fin 1024) (s : Fin 1024), y = ix2 r s := ⟨y 0, y 1, eq_ix2 y⟩
  have e0 : at0 ((win0_2.blk t).view.emb (ix2 r s)) = ti t r := by
    unfold at0 ti; apply Fin.ext; dsimp only; blk_simp [idx t]
  have e1 : at1 ((win0_2.blk t).view.emb (ix2 r s)) = tj t s := by
    unfold at1 tj; apply Fin.ext; dsimp only; blk_simp [idx t]
  unfold outsAt0
  rw [out_A]
  refine (pay_part m c t _ r s).trans ?_
  rw [pay_zero, zero_add]
  unfold rows
  rw [e0, e1]
  simp only [part_ix2]
  refine Finset.sum_congr rfl fun d _ => ?_
  rw [show tk t d = d from by unfold tk; apply Fin.ext; dsimp only; omega]

/-! ## The claims -/

theorem frame_ref : Cert.quiescent_InQDxRefIdeal (hInQDxRefIdeal := Cert.InQDxRefIdeal.Gen.facts) := fun m ρ _ =>
  (θ_run _ _ _).mono (fun r h => ⟨fun c => ((h c).2 : _), sem_eq_zero_of_no_sems (by decide) r.2⟩)
    (Cert.InQDxRefIdeal.Value.run m ρ)

theorem algebraic : Cert.algebraic_InQDxIdeal_InQDxRefIdeal
    (hInQDxIdeal := Cert.InQDxIdeal.Gen.facts) (hInQDxRefIdeal := Cert.InQDxRefIdeal.Gen.facts) := by
  intro m g m' g' _ hag
  refine ⟨fun c => rows (A m c) (B m c), ?_, ?_⟩
  · refine (θ_run _ _ _).mono (fun r h c => ?_) (Cert.InQDxIdeal.Value.run_blocks m g)
    exact ⟨(h c).1.trans (final m c), (h c).2⟩
  · refine (θ_run _ _ _).mono (fun r h c => ?_) (Cert.InQDxRefIdeal.Value.run m' g')
    refine ⟨(h c).1.trans ?_, (h c).2⟩
    obtain ⟨e0, e1, e2⟩ := hag c
    rw [e1, e2]
    exact ref_eq _ _

end Cert.InQDxProof

end
-- ==== Proof.InQDwValue.lean ====
/- The kernel InQDw: a product in tiles, its result array as the whole product, and the reference's result. -/
module

public import proofs.«01_k».proof.Defs
public import proofs.«01_k».proof.Proof.Gen.InQDwIdeal.Value
public import proofs.«01_k».proof.Proof.Gen.InQDwRefIdeal.Run
public import proofs.«01_k».proof.Proof.Product
public import Idealize.ShloMosaic.Lib.Pipeline.ValueKit
public import Idealize.ShloMosaic.Lib.Claim

@[expose] public section

set_option maxRecDepth 16384

noncomputable section

namespace Cert.InQDwProof

open Idealize.ShloMosaic Idealize.ShloMosaic.TcCoe Idealize.SL.Sem Cert.Product

/-! ## The reference's result -/

open Cert.InQDwRefIdeal Cert.InQDwRefIdeal.Gen in
theorem ref_eq (a0 : FVec Ideal Cert.InQDwRefIdeal.S8192x1024 .bf16) (a2 : FVec Ideal Cert.InQDwRefIdeal.S8192x384 .bf16) :
    transpose S1024x384 [1, 0] (Host.dotGeneral dot_S8192x384_S8192x1024_S384x1024_0_0_1_1_n_n none (extf .f32 a2 bitsLt_bf16_f32) (extf .f32 a0 bitsLt_bf16_f32)) transposes_S384x1024_S1024x384_1_0
      = cols a0 a2 := by
  funext i
  obtain ⟨r, s, rfl⟩ : ∃ r s, i = ix2 r s := ⟨i 0, i 1, eq_ix2 i⟩
  pointwise
  first
    | rfl
    | exact Finset.sum_congr rfl fun d _ => mul_comm _ _
    | exact congrArg (_ + ·) (Finset.sum_congr rfl fun d _ => mul_comm _ _)

open Cert.InQDwIdeal Cert.InQDwIdeal.Gen

/-! ## What the body computes of one tile -/

theorem pay (v3 : Vec Ideal S1024x384 .f32) (v4 : Vec Ideal S1024x1024 .bf16) (v5 : Vec Ideal S1024x384 .bf16) (r : Fin 1024) (s : Fin 384) :
    k0_pay2 (F := Ideal) v3 v4 v5 (ix2 r s) = v3 (ix2 r s) + ∑ d : Fin 1024, v4 (ix2 d r) * v5 (ix2 d s) := by
  pointwise [k0_pay2]

theorem pay_zero (r : Fin 1024) (s : Fin 384) : k0_pay1 (F := Ideal) (ix2 r s) = 0 := by pointwise [k0_pay1]

section Out
variable {F : FTy → Type} [FloatOps F]
variable (c : Dev nD) (i : grid0.Coords) (a3 : Memref sig .tc .vmem S1024x1024 .bf16) (h3 : a3.IsWhole) (a4 : Memref sig .tc .vmem S1024x384 .bf16) (h4 : a4.IsWhole) (a5 : Memref sig .tc .vmem S1024x384 .f32) (h5 : a5.IsWhole) (a6 : Memref sig .tc .vmem S1024x384 .f32) (h6 : a6.IsWhole)
  (x0 : Vec F S1024x1024 .bf16) (x1 : Vec F S1024x384 .bf16)

variable (y : Vec F S1024x384 .f32)

theorem held_A (hc : cond0_0 i) (hd : ¬cond0_1 i) : sout0_A_0 c i a3 h3 a4 h4 a5 h5 a6 h6 hc hd x0 x1
    = k0_pay2 k0_pay1 x0 x1 := by
  unfold sout0_A_0
  rw [View.read_writes_eq_canon _ _ _ (scover0_A_0 c i a3 h3 a4 h4 a5 h5 a6 h6 hc hd x0 x1)]
  unfold kernelRun0_A
  dsimp only
  sl_unfold_words
  rw [View.canon_cons_unit_zero (S := S1024x384) hz, View.readCov_unit_zero (S := S1024x384) _ hz]
  simp only [View.readAt_eq_ld, h3.read_unread, h4.read_unread, View.ld_unit_zero (S := S1024x1024) hz, View.ld_unit_zero (S := S1024x384) hz]

theorem held_B (hc : ¬cond0_0 i) (hd : ¬cond0_1 i) : sout0_B_0 c i a3 h3 a4 h4 a5 h5 a6 h6 hc hd x0 x1 y
    = k0_pay2 y x0 x1 := by
  unfold sout0_B_0
  rw [View.read_writes_eq_canon _ _ _ (scover0_B_0 c i a3 h3 a4 h4 a5 h5 a6 h6 hc hd x0 x1 y)]
  unfold kernelRun0_B
  dsimp only
  sl_unfold_words
  rw [View.canon_unit_zero (S := S1024x384) hz]
  simp only [View.readAt_eq_ld, h3.read_unread, h4.read_unread, h6.read_unread, View.ld_unit_zero (S := S1024x1024) hz, View.ld_unit_zero (S := S1024x384) hz]

theorem held_C (hc : ¬cond0_0 i) (hd : cond0_1 i) : sout0_C_0 c i a3 h3 a4 h4 a5 h5 a6 h6 hc hd x0 x1 y
    = k0_pay2 y x0 x1 := by
  unfold sout0_C_0
  rw [View.read_writes_eq_canon _ _ _ (scover0_C_0 c i a3 h3 a4 h4 a5 h5 a6 h6 hc hd x0 x1 y)]
  unfold kernelRun0_C
  dsimp only
  sl_unfold_words
  rw [View.canon_unit_zero (S := S1024x384) hz]
  simp only [View.readAt_eq_ld, h3.read_unread, h4.read_unread, h6.read_unread, View.ld_unit_zero (S := S1024x1024) hz, View.ld_unit_zero (S := S1024x384) hz]

theorem out_C (hc : ¬cond0_0 i) (hd : cond0_1 i) : out0_C_2 c i a3 h3 a4 h4 a5 h5 a6 h6 hc hd x0 x1 y
    = k0_pay2 y x0 x1 := by
  unfold out0_C_2
  rw [View.read_writes_eq_canon _ _ _ (cover0_C_2 c i a3 h3 a4 h4 a5 h5 a6 h6 hc hd x0 x1 y)]
  unfold kernelRun0_C
  dsimp only
  sl_unfold_words
  rw [View.canon_unit_zero (S := S1024x384) hz, View.readCov_unit_zero (S := S1024x384) _ hz]
  simp only [View.readAt_eq_ld, h3.read_unread, h4.read_unread, h6.read_unread, View.ld_unit_zero (S := S1024x1024) hz, View.ld_unit_zero (S := S1024x384) hz]

end Out

/-! ## The result array -/

variable (m : (ℓ : Loc nD τ sig) → Buf (Elt Ideal) ℓ) (ρ : Dev nD → PrngReg)

theorem idx : ∀ t : Fin cfg0.N, win0_0.index t = ![t.val % 8, t.val / 8] ∧ win0_1.index t = ![t.val % 8, t.val / 8 % 1]
    ∧ win0_2.index t = ![t.val / 8, t.val / 8 % 1] ∧ t.val < 8 :=
  (by decide +kernel : ∀ t : Fin grid0.N, _)

/-- The row, the column and the position on the shared axis of tile `t`'s entries. -/
def ti (t : Fin cfg0.N) (r : Fin 1024) : Fin 1024 := ⟨t.val / 8 * 1024 + r.val, by have := (idx t).2.2.2; omega⟩
def tj (t : Fin cfg0.N) (s : Fin 384) : Fin 384 := ⟨t.val / 8 % 1 * 384 + s.val, by omega⟩
def tk (t : Fin cfg0.N) (d : Fin 1024) : Fin 8192 := ⟨t.val % 8 * 1024 + d.val, by omega⟩

abbrev A (c : Dev nD) : Arr 8192 1024 := m ((c : Thread nD τ).loc main_arg0)
abbrev B (c : Dev nD) : Arr 8192 384 := m ((c : Thread nD τ).loc main_arg2)

theorem blk_a (c : Dev nD) (t : Fin cfg0.N) (r : Fin 1024) (d : Fin 1024) :
    (show Vec Ideal S1024x1024 .bf16 from iblk m c 0 t) (ix2 d r) = A m c (ix2 (tk t d) (ti t r)) := by
  unfold ti tk A
  blk_point [iblk, V, idx t]

theorem blk_b (c : Dev nD) (t : Fin cfg0.N) (s : Fin 384) (d : Fin 1024) :
    (show Vec Ideal S1024x384 .bf16 from iblk m c 1 t) (ix2 d s) = B m c (ix2 (tk t d) (tj t s)) := by
  unfold tj tk B
  blk_point [iblk, V, idx t]

/-- What tile `t` adds to its block. -/
def part (c : Dev nD) (t : Fin cfg0.N) (y : S1024x384.Idx) : EReal :=
  ∑ d, A m c (ix2 (tk t d) (ti t (at0 y))) * B m c (ix2 (tk t d) (tj t (at1 y)))

theorem part_ix2 (c : Dev nD) (t : Fin cfg0.N) (r : Fin 1024) (s : Fin 384) :
    part m c t (ix2 r s) = ∑ d, A m c (ix2 (tk t d) (ti t r)) * B m c (ix2 (tk t d) (tj t s)) := rfl

theorem pay_part (c : Dev nD) (t : Fin cfg0.N) (v : Vec Ideal S1024x384 .f32) (r : Fin 1024) (s : Fin 384) :
    k0_pay2 (F := Ideal) v (iblk m c 0 t) (iblk m c 1 t) (ix2 r s) = v (ix2 r s) + part m c t (ix2 r s) := by
  refine (pay _ _ _ r s).trans ?_
  refine congrArg (v (ix2 r s) + ·) (Finset.sum_congr rfl fun d _ => ?_)
  exact congrArg₂ (· * ·) (blk_a m c t r d) (blk_b m c t s d)

theorem reset (c : Dev nD) (t : Fin cfg0.N) (h : t.val % 8 = 0) (y : S1024x384.Idx) :
    (outsAt0 m c t.val t.isLt).2 y = 0 + part m c t y := by
  obtain ⟨r, s, rfl⟩ : ∃ r s, y = ix2 r s := ⟨y 0, y 1, eq_ix2 y⟩
  rw [outsAt0_A m c t h (by omega)]
  dsimp only
  rw [held_A]
  refine (pay_part m c t _ r s).trans ?_
  rw [pay_zero]

theorem step (c : Dev nD) (t : Fin cfg0.N) (h : ¬t.val % 8 = 0) (y : S1024x384.Idx) :
    (outsAt0 m c t.val t.isLt).2 y = (outsAt0 m c (t.val - 1) (Nat.lt_of_le_of_lt (Nat.sub_le _ _) t.isLt)).2 y + part m c t y := by
  obtain ⟨r, s, rfl⟩ : ∃ r s, y = ix2 r s := ⟨y 0, y 1, eq_ix2 y⟩
  by_cases h1 : t.val % 8 = 7
  · rw [outsAt0_C m c t h h1]
    dsimp only
    rw [held_C]
    exact pay_part m c t _ r s
  · rw [outsAt0_B m c t h h1]
    dsimp only
    rw [held_B]
    exact pay_part m c t _ r s

theorem leaves (c : Dev nD) (t : Fin cfg0.N) (h : t.val % 8 = 7) (r : Fin 1024) (s : Fin 384) :
    (outsAt0 m c t.val t.isLt).1 (ix2 r s) = (outsAt0 m c t.val t.isLt).2 (ix2 r s) := by
  rw [outsAt0_C m c t (by omega) h]
  dsimp only
  rw [out_C, held_C]

theorem ti_run (t : Fin cfg0.N) (s : Fin 8) (h) (r : Fin 1024) : ti ⟨8 * (t.val / 8) + s.val, h⟩ r = ti t r := by
  unfold ti; apply Fin.ext; dsimp only; omega

theorem tj_run (t : Fin cfg0.N) (s : Fin 8) (h) (r : Fin 384) : tj ⟨8 * (t.val / 8) + s.val, h⟩ r = tj t r := by
  unfold tj; apply Fin.ext; dsimp only; omega

theorem tk_run (t : Fin cfg0.N) (s : Fin 8) (h) (d : Fin 1024) :
    tk ⟨8 * (t.val / 8) + s.val, h⟩ d = ⟨s.val * 1024 + d.val, by omega⟩ := by
  unfold tk; apply Fin.ext; dsimp only; omega

theorem final (c : Dev nD) : (dats m 0 c).arrAt 2 cfg0.N = cols (A m c) (B m c) := by
  refine (dats m 0 c).arrAt_eq_of_covers 2 _ (by decide +kernel) fun t hf y => ?_
  blk_simp
  rw [after0_2]
  obtain ⟨r, s, rfl⟩ : ∃ (r : Fin 1024) (s : Fin 384), y = ix2 r s := ⟨y 0, y 1, eq_ix2 y⟩
  have e0 : at0 ((win0_2.blk t).view.emb (ix2 r s)) = ti t r := by
    unfold at0 ti; apply Fin.ext; dsimp only; blk_simp [idx t]
  have e1 : at1 ((win0_2.blk t).view.emb (ix2 r s)) = tj t s := by
    unfold at1 tj; apply Fin.ext; dsimp only; blk_simp [idx t]
  have hl : t.val % 8 = 7 := (flush0_2 t).mp hf
  rw [leaves m c t hl,
    Pipeline.eq_sum_fin_of_reset_step_apply_of_flush (fun n h => (outsAt0 m c n h).2) 8 (fun _ => 0) (part m c)
      (reset m c) (step m c) t hl _, zero_add]
  unfold cols
  rw [e0, e1]
  simp only [part_ix2]
  refine Fin.sum_mul_add_congr fun k d hl => ?_
  rw [ti_run, tj_run, tk_run]

/-! ## The claims -/

theorem frame_ref : Cert.quiescent_InQDwRefIdeal (hInQDwRefIdeal := Cert.InQDwRefIdeal.Gen.facts) := fun m ρ _ =>
  (θ_run _ _ _).mono (fun r h => ⟨fun c => ((h c).2 : _), sem_eq_zero_of_no_sems (by decide) r.2⟩)
    (Cert.InQDwRefIdeal.Value.run m ρ)

theorem algebraic : Cert.algebraic_InQDwIdeal_InQDwRefIdeal
    (hInQDwIdeal := Cert.InQDwIdeal.Gen.facts) (hInQDwRefIdeal := Cert.InQDwRefIdeal.Gen.facts) := by
  intro m g m' g' _ hag
  refine ⟨fun c => cols (A m c) (B m c), ?_, ?_⟩
  · refine (θ_run _ _ _).mono (fun r h c => ?_) (Cert.InQDwIdeal.Value.run_blocks m g)
    exact ⟨(h c).1.trans (final m c), (h c).2⟩
  · refine (θ_run _ _ _).mono (fun r h c => ?_) (Cert.InQDwRefIdeal.Value.run m' g')
    refine ⟨(h c).1.trans ?_, (h c).2⟩
    obtain ⟨e0, e1, e2⟩ := hag c
    rw [e0, e2]
    exact ref_eq _ _

end Cert.InQDwProof

end
-- ==== Proof.InCkvDxValue.lean ====
/- The kernel InCkvDx: a product in tiles, its result array as the whole product, and the reference's result. -/
module

public import proofs.«01_k».proof.Defs
public import proofs.«01_k».proof.Proof.Gen.InCkvDxIdeal.Value
public import proofs.«01_k».proof.Proof.Gen.InCkvDxRefIdeal.Run
public import proofs.«01_k».proof.Proof.Product
public import Idealize.ShloMosaic.Lib.Pipeline.ValueKit
public import Idealize.ShloMosaic.Lib.Claim

@[expose] public section

set_option maxRecDepth 16384

noncomputable section

namespace Cert.InCkvDxProof

open Idealize.ShloMosaic Idealize.ShloMosaic.TcCoe Idealize.SL.Sem Cert.Product

/-! ## The reference's result -/

open Cert.InCkvDxRefIdeal Cert.InCkvDxRefIdeal.Gen in
theorem ref_eq (a1 : FVec Ideal Cert.InCkvDxRefIdeal.S1024x256 .bf16) (a2 : FVec Ideal Cert.InCkvDxRefIdeal.S8192x256 .bf16) (a3 : FVec Ideal Cert.InCkvDxRefIdeal.S8192x1024 .f32) :
    addf a3 (Host.dotGeneral dot_S8192x256_S1024x256_S8192x1024_1_1_0_0_n_n none (extf .f32 a2 bitsLt_bf16_f32) (extf .f32 a1 bitsLt_bf16_f32))
      = fun i => a3 i + rows a2 a1 i := by
  funext i
  obtain ⟨r, s, rfl⟩ : ∃ r s, i = ix2 r s := ⟨i 0, i 1, eq_ix2 i⟩
  pointwise
  first
    | rfl
    | exact Finset.sum_congr rfl fun d _ => mul_comm _ _
    | exact congrArg (_ + ·) (Finset.sum_congr rfl fun d _ => mul_comm _ _)

open Cert.InCkvDxIdeal Cert.InCkvDxIdeal.Gen

/-! ## What the body computes of one tile -/

theorem pay (v3 : Vec Ideal S1024x1024 .f32) (v4 : Vec Ideal S1024x256 .bf16) (v5 : Vec Ideal S1024x256 .bf16) (r : Fin 1024) (s : Fin 1024) :
    k0_pay2 (F := Ideal) v3 v4 v5 (ix2 r s) = v3 (ix2 r s) + ∑ d : Fin 256, v4 (ix2 r d) * v5 (ix2 s d) := by
  pointwise [k0_pay2]

theorem pay_zero (r : Fin 1024) (s : Fin 1024) : k0_pay1 (F := Ideal) (ix2 r s) = 0 := by pointwise [k0_pay1]

theorem pay_add (v u : Vec Ideal S1024x1024 .f32) (r : Fin 1024) (s : Fin 1024) :
    k0_pay3 (F := Ideal) v u (ix2 r s) = v (ix2 r s) + u (ix2 r s) := by pointwise [k0_pay3]

section Out
variable {F : FTy → Type} [FloatOps F]
variable (c : Dev nD) (i : grid0.Coords) (a3 : Memref sig .tc .vmem S1024x256 .bf16) (h3 : a3.IsWhole) (a4 : Memref sig .tc .vmem S1024x256 .bf16) (h4 : a4.IsWhole) (a5 : Memref sig .tc .vmem S1024x1024 .f32) (h5 : a5.IsWhole) (a6 : Memref sig .tc .vmem S1024x1024 .f32) (h6 : a6.IsWhole) (a7 : Memref sig .tc .vmem S1024x1024 .f32) (h7 : a7.IsWhole)
  (x0 : Vec F S1024x256 .bf16) (x1 : Vec F S1024x256 .bf16) (x2 : Vec F S1024x1024 .f32)

theorem out_A (hc : cond0_0 i) (hd : cond0_1 i) : out0_A_3 c i a3 h3 a4 h4 a5 h5 a6 h6 a7 h7 hc hd x0 x1 x2
    = k0_pay3 (k0_pay2 k0_pay1 x0 x1) x2 := by
  unfold out0_A_3
  rw [View.read_writes_eq_canon _ _ _ (cover0_A_3 c i a3 h3 a4 h4 a5 h5 a6 h6 a7 h7 hc hd x0 x1 x2)]
  unfold kernelRun0_A
  dsimp only
  sl_unfold_words
  rw [View.canon_unit_zero (S := S1024x1024) hz, View.readCov_cons_toLoadRect, View.readCov_unit_zero (S := S1024x1024) _ hz]
  simp only [View.readAt_eq_ld, h3.read_unread, h4.read_unread, h5.read_unread, View.ld_unit_zero (S := S1024x1024) hz, View.ld_unit_zero (S := S1024x256) hz]

end Out

/-! ## The result array -/

variable (m : (ℓ : Loc nD τ sig) → Buf (Elt Ideal) ℓ) (ρ : Dev nD → PrngReg)

theorem idx : ∀ t : Fin cfg0.N, win0_0.index t = ![t.val / 1, t.val % 1] ∧ win0_1.index t = ![t.val / 1 % 1, t.val % 1]
    ∧ win0_2.index t = ![t.val / 1, t.val / 1 % 1] ∧ win0_3.index t = ![t.val / 1, t.val / 1 % 1] ∧ t.val < 8 :=
  (by decide +kernel : ∀ t : Fin grid0.N, _)

/-- The row, the column and the position on the shared axis of tile `t`'s entries. -/
def ti (t : Fin cfg0.N) (r : Fin 1024) : Fin 8192 := ⟨t.val / 1 * 1024 + r.val, by have := (idx t).2.2.2.2; omega⟩
def tj (t : Fin cfg0.N) (s : Fin 1024) : Fin 1024 := ⟨t.val / 1 % 1 * 1024 + s.val, by omega⟩
def tk (t : Fin cfg0.N) (d : Fin 256) : Fin 256 := ⟨t.val % 1 * 256 + d.val, by omega⟩

abbrev A (c : Dev nD) : Arr 8192 256 := m ((c : Thread nD τ).loc main_arg2)
abbrev B (c : Dev nD) : Arr 1024 256 := m ((c : Thread nD τ).loc main_arg1)
abbrev D (c : Dev nD) : Arr 8192 1024 := m ((c : Thread nD τ).loc main_arg3)

theorem blk_a (c : Dev nD) (t : Fin cfg0.N) (r : Fin 1024) (d : Fin 256) :
    (show Vec Ideal S1024x256 .bf16 from iblk m c 0 t) (ix2 r d) = A m c (ix2 (ti t r) (tk t d)) := by
  unfold ti tk A
  blk_point [iblk, V, idx t]

theorem blk_b (c : Dev nD) (t : Fin cfg0.N) (s : Fin 1024) (d : Fin 256) :
    (show Vec Ideal S1024x256 .bf16 from iblk m c 1 t) (ix2 s d) = B m c (ix2 (tj t s) (tk t d)) := by
  unfold tj tk B
  blk_point [iblk, V, idx t]

theorem blk_d (c : Dev nD) (t : Fin cfg0.N) (r : Fin 1024) (s : Fin 1024) :
    (show Vec Ideal S1024x1024 .f32 from iblk m c 2 t) (ix2 r s) = D m c (ix2 (ti t r) (tj t s)) := by
  unfold ti tj D
  blk_point [iblk, V, idx t]

/-- What tile `t` adds to its block. -/
def part (c : Dev nD) (t : Fin cfg0.N) (y : S1024x1024.Idx) : EReal :=
  ∑ d, A m c (ix2 (ti t (at0 y)) (tk t d)) * B m c (ix2 (tj t (at1 y)) (tk t d))

theorem part_ix2 (c : Dev nD) (t : Fin cfg0.N) (r : Fin 1024) (s : Fin 1024) :
    part m c t (ix2 r s) = ∑ d, A m c (ix2 (ti t r) (tk t d)) * B m c (ix2 (tj t s) (tk t d)) := rfl

theorem pay_part (c : Dev nD) (t : Fin cfg0.N) (v : Vec Ideal S1024x1024 .f32) (r : Fin 1024) (s : Fin 1024) :
    k0_pay2 (F := Ideal) v (iblk m c 0 t) (iblk m c 1 t) (ix2 r s) = v (ix2 r s) + part m c t (ix2 r s) := by
  refine (pay _ _ _ r s).trans ?_
  refine congrArg (v (ix2 r s) + ·) (Finset.sum_congr rfl fun d _ => ?_)
  exact congrArg₂ (· * ·) (blk_a m c t r d) (blk_b m c t s d)

theorem final (c : Dev nD) : (dats m 0 c).arrAt 3 cfg0.N = fun i => D m c i + rows (A m c) (B m c) i := by
  refine (dats m 0 c).arrAt_eq_of_covers 3 _ (by decide +kernel) fun t hf y => ?_
  blk_simp
  rw [after0_3]
  obtain ⟨r, s, rfl⟩ : ∃ (r : Fin 1024) (s : Fin 1024), y = ix2 r s := ⟨y 0, y 1, eq_ix2 y⟩
  have e0 : at0 ((win0_3.blk t).view.emb (ix2 r s)) = ti t r := by
    unfold at0 ti; apply Fin.ext; dsimp only; blk_simp [idx t]
  have e1 : at1 ((win0_3.blk t).view.emb (ix2 r s)) = tj t s := by
    unfold at1 tj; apply Fin.ext; dsimp only; blk_simp [idx t]
  unfold outsAt0
  rw [out_A]
  refine (pay_add _ _ r s).trans ?_
  rw [pay_part m c t _ r s, pay_zero, zero_add]
  have e : D m c ((win0_3.blk t).view.emb (ix2 r s)) = D m c (ix2 (ti t r) (tj t s)) := by
    refine congrArg (D m c) ((eq_ix2 _).trans ?_)
    exact congrArg₂ ix2 e0 e1
  rw [e, add_comm]
  refine congrArg₂ (· + ·) (blk_d m c t r s) ?_
  unfold rows
  rw [e0, e1]
  simp only [part_ix2]
  refine Finset.sum_congr rfl fun d _ => ?_
  rw [show tk t d = d from by unfold tk; apply Fin.ext; dsimp only; omega]

/-! ## The claims -/

theorem frame_ref : Cert.quiescent_InCkvDxRefIdeal (hInCkvDxRefIdeal := Cert.InCkvDxRefIdeal.Gen.facts) := fun m ρ _ =>
  (θ_run _ _ _).mono (fun r h => ⟨fun c => ((h c).2 : _), sem_eq_zero_of_no_sems (by decide) r.2⟩)
    (Cert.InCkvDxRefIdeal.Value.run m ρ)

theorem algebraic : Cert.algebraic_InCkvDxIdeal_InCkvDxRefIdeal
    (hInCkvDxIdeal := Cert.InCkvDxIdeal.Gen.facts) (hInCkvDxRefIdeal := Cert.InCkvDxRefIdeal.Gen.facts) := by
  intro m g m' g' _ hag
  refine ⟨fun c => fun i => D m c i + rows (A m c) (B m c) i, ?_, ?_⟩
  · refine (θ_run _ _ _).mono (fun r h c => ?_) (Cert.InCkvDxIdeal.Value.run_blocks m g)
    exact ⟨(h c).1.trans (final m c), (h c).2⟩
  · refine (θ_run _ _ _).mono (fun r h c => ?_) (Cert.InCkvDxRefIdeal.Value.run m' g')
    refine ⟨(h c).1.trans ?_, (h c).2⟩
    obtain ⟨e0, e1, e2, e3⟩ := hag c
    rw [e1, e2, e3]
    exact ref_eq _ _ _

end Cert.InCkvDxProof

end
-- ==== Proof.InCkvDwValue.lean ====
/- The kernel InCkvDw: a product in tiles, its result array as the whole product, and the reference's result. -/
module

public import proofs.«01_k».proof.Defs
public import proofs.«01_k».proof.Proof.Gen.InCkvDwIdeal.Value
public import proofs.«01_k».proof.Proof.Gen.InCkvDwRefIdeal.Run
public import proofs.«01_k».proof.Proof.Product
public import Idealize.ShloMosaic.Lib.Pipeline.ValueKit
public import Idealize.ShloMosaic.Lib.Claim

@[expose] public section

set_option maxRecDepth 16384

noncomputable section

namespace Cert.InCkvDwProof

open Idealize.ShloMosaic Idealize.ShloMosaic.TcCoe Idealize.SL.Sem Cert.Product

/-! ## The reference's result -/

open Cert.InCkvDwRefIdeal Cert.InCkvDwRefIdeal.Gen in
theorem ref_eq (a0 : FVec Ideal Cert.InCkvDwRefIdeal.S8192x1024 .bf16) (a2 : FVec Ideal Cert.InCkvDwRefIdeal.S8192x256 .bf16) :
    transpose S1024x256 [1, 0] (Host.dotGeneral dot_S8192x256_S8192x1024_S256x1024_0_0_1_1_n_n none (extf .f32 a2 bitsLt_bf16_f32) (extf .f32 a0 bitsLt_bf16_f32)) transposes_S256x1024_S1024x256_1_0
      = cols a0 a2 := by
  funext i
  obtain ⟨r, s, rfl⟩ : ∃ r s, i = ix2 r s := ⟨i 0, i 1, eq_ix2 i⟩
  pointwise
  first
    | rfl
    | exact Finset.sum_congr rfl fun d _ => mul_comm _ _
    | exact congrArg (_ + ·) (Finset.sum_congr rfl fun d _ => mul_comm _ _)

open Cert.InCkvDwIdeal Cert.InCkvDwIdeal.Gen

/-! ## What the body computes of one tile -/

theorem pay (v3 : Vec Ideal S1024x256 .f32) (v4 : Vec Ideal S1024x1024 .bf16) (v5 : Vec Ideal S1024x256 .bf16) (r : Fin 1024) (s : Fin 256) :
    k0_pay2 (F := Ideal) v3 v4 v5 (ix2 r s) = v3 (ix2 r s) + ∑ d : Fin 1024, v4 (ix2 d r) * v5 (ix2 d s) := by
  pointwise [k0_pay2]

theorem pay_zero (r : Fin 1024) (s : Fin 256) : k0_pay1 (F := Ideal) (ix2 r s) = 0 := by pointwise [k0_pay1]

section Out
variable {F : FTy → Type} [FloatOps F]
variable (c : Dev nD) (i : grid0.Coords) (a3 : Memref sig .tc .vmem S1024x1024 .bf16) (h3 : a3.IsWhole) (a4 : Memref sig .tc .vmem S1024x256 .bf16) (h4 : a4.IsWhole) (a5 : Memref sig .tc .vmem S1024x256 .f32) (h5 : a5.IsWhole) (a6 : Memref sig .tc .vmem S1024x256 .f32) (h6 : a6.IsWhole)
  (x0 : Vec F S1024x1024 .bf16) (x1 : Vec F S1024x256 .bf16)

variable (y : Vec F S1024x256 .f32)

theorem held_A (hc : cond0_0 i) (hd : ¬cond0_1 i) : sout0_A_0 c i a3 h3 a4 h4 a5 h5 a6 h6 hc hd x0 x1
    = k0_pay2 k0_pay1 x0 x1 := by
  unfold sout0_A_0
  rw [View.read_writes_eq_canon _ _ _ (scover0_A_0 c i a3 h3 a4 h4 a5 h5 a6 h6 hc hd x0 x1)]
  unfold kernelRun0_A
  dsimp only
  sl_unfold_words
  rw [View.canon_cons_unit_zero (S := S1024x256) hz, View.readCov_unit_zero (S := S1024x256) _ hz]
  simp only [View.readAt_eq_ld, h3.read_unread, h4.read_unread, View.ld_unit_zero (S := S1024x1024) hz, View.ld_unit_zero (S := S1024x256) hz]

theorem held_B (hc : ¬cond0_0 i) (hd : ¬cond0_1 i) : sout0_B_0 c i a3 h3 a4 h4 a5 h5 a6 h6 hc hd x0 x1 y
    = k0_pay2 y x0 x1 := by
  unfold sout0_B_0
  rw [View.read_writes_eq_canon _ _ _ (scover0_B_0 c i a3 h3 a4 h4 a5 h5 a6 h6 hc hd x0 x1 y)]
  unfold kernelRun0_B
  dsimp only
  sl_unfold_words
  rw [View.canon_unit_zero (S := S1024x256) hz]
  simp only [View.readAt_eq_ld, h3.read_unread, h4.read_unread, h6.read_unread, View.ld_unit_zero (S := S1024x1024) hz, View.ld_unit_zero (S := S1024x256) hz]

theorem held_C (hc : ¬cond0_0 i) (hd : cond0_1 i) : sout0_C_0 c i a3 h3 a4 h4 a5 h5 a6 h6 hc hd x0 x1 y
    = k0_pay2 y x0 x1 := by
  unfold sout0_C_0
  rw [View.read_writes_eq_canon _ _ _ (scover0_C_0 c i a3 h3 a4 h4 a5 h5 a6 h6 hc hd x0 x1 y)]
  unfold kernelRun0_C
  dsimp only
  sl_unfold_words
  rw [View.canon_unit_zero (S := S1024x256) hz]
  simp only [View.readAt_eq_ld, h3.read_unread, h4.read_unread, h6.read_unread, View.ld_unit_zero (S := S1024x1024) hz, View.ld_unit_zero (S := S1024x256) hz]

theorem out_C (hc : ¬cond0_0 i) (hd : cond0_1 i) : out0_C_2 c i a3 h3 a4 h4 a5 h5 a6 h6 hc hd x0 x1 y
    = k0_pay2 y x0 x1 := by
  unfold out0_C_2
  rw [View.read_writes_eq_canon _ _ _ (cover0_C_2 c i a3 h3 a4 h4 a5 h5 a6 h6 hc hd x0 x1 y)]
  unfold kernelRun0_C
  dsimp only
  sl_unfold_words
  rw [View.canon_unit_zero (S := S1024x256) hz, View.readCov_unit_zero (S := S1024x256) _ hz]
  simp only [View.readAt_eq_ld, h3.read_unread, h4.read_unread, h6.read_unread, View.ld_unit_zero (S := S1024x1024) hz, View.ld_unit_zero (S := S1024x256) hz]

end Out

/-! ## The result array -/

variable (m : (ℓ : Loc nD τ sig) → Buf (Elt Ideal) ℓ) (ρ : Dev nD → PrngReg)

theorem idx : ∀ t : Fin cfg0.N, win0_0.index t = ![t.val % 8, t.val / 8] ∧ win0_1.index t = ![t.val % 8, t.val / 8 % 1]
    ∧ win0_2.index t = ![t.val / 8, t.val / 8 % 1] ∧ t.val < 8 :=
  (by decide +kernel : ∀ t : Fin grid0.N, _)

/-- The row, the column and the position on the shared axis of tile `t`'s entries. -/
def ti (t : Fin cfg0.N) (r : Fin 1024) : Fin 1024 := ⟨t.val / 8 * 1024 + r.val, by have := (idx t).2.2.2; omega⟩
def tj (t : Fin cfg0.N) (s : Fin 256) : Fin 256 := ⟨t.val / 8 % 1 * 256 + s.val, by omega⟩
def tk (t : Fin cfg0.N) (d : Fin 1024) : Fin 8192 := ⟨t.val % 8 * 1024 + d.val, by omega⟩

abbrev A (c : Dev nD) : Arr 8192 1024 := m ((c : Thread nD τ).loc main_arg0)
abbrev B (c : Dev nD) : Arr 8192 256 := m ((c : Thread nD τ).loc main_arg2)

theorem blk_a (c : Dev nD) (t : Fin cfg0.N) (r : Fin 1024) (d : Fin 1024) :
    (show Vec Ideal S1024x1024 .bf16 from iblk m c 0 t) (ix2 d r) = A m c (ix2 (tk t d) (ti t r)) := by
  unfold ti tk A
  blk_point [iblk, V, idx t]

theorem blk_b (c : Dev nD) (t : Fin cfg0.N) (s : Fin 256) (d : Fin 1024) :
    (show Vec Ideal S1024x256 .bf16 from iblk m c 1 t) (ix2 d s) = B m c (ix2 (tk t d) (tj t s)) := by
  unfold tj tk B
  blk_point [iblk, V, idx t]

/-- What tile `t` adds to its block. -/
def part (c : Dev nD) (t : Fin cfg0.N) (y : S1024x256.Idx) : EReal :=
  ∑ d, A m c (ix2 (tk t d) (ti t (at0 y))) * B m c (ix2 (tk t d) (tj t (at1 y)))

theorem part_ix2 (c : Dev nD) (t : Fin cfg0.N) (r : Fin 1024) (s : Fin 256) :
    part m c t (ix2 r s) = ∑ d, A m c (ix2 (tk t d) (ti t r)) * B m c (ix2 (tk t d) (tj t s)) := rfl

theorem pay_part (c : Dev nD) (t : Fin cfg0.N) (v : Vec Ideal S1024x256 .f32) (r : Fin 1024) (s : Fin 256) :
    k0_pay2 (F := Ideal) v (iblk m c 0 t) (iblk m c 1 t) (ix2 r s) = v (ix2 r s) + part m c t (ix2 r s) := by
  refine (pay _ _ _ r s).trans ?_
  refine congrArg (v (ix2 r s) + ·) (Finset.sum_congr rfl fun d _ => ?_)
  exact congrArg₂ (· * ·) (blk_a m c t r d) (blk_b m c t s d)

theorem reset (c : Dev nD) (t : Fin cfg0.N) (h : t.val % 8 = 0) (y : S1024x256.Idx) :
    (outsAt0 m c t.val t.isLt).2 y = 0 + part m c t y := by
  obtain ⟨r, s, rfl⟩ : ∃ r s, y = ix2 r s := ⟨y 0, y 1, eq_ix2 y⟩
  rw [outsAt0_A m c t h (by omega)]
  dsimp only
  rw [held_A]
  refine (pay_part m c t _ r s).trans ?_
  rw [pay_zero]

theorem step (c : Dev nD) (t : Fin cfg0.N) (h : ¬t.val % 8 = 0) (y : S1024x256.Idx) :
    (outsAt0 m c t.val t.isLt).2 y = (outsAt0 m c (t.val - 1) (Nat.lt_of_le_of_lt (Nat.sub_le _ _) t.isLt)).2 y + part m c t y := by
  obtain ⟨r, s, rfl⟩ : ∃ r s, y = ix2 r s := ⟨y 0, y 1, eq_ix2 y⟩
  by_cases h1 : t.val % 8 = 7
  · rw [outsAt0_C m c t h h1]
    dsimp only
    rw [held_C]
    exact pay_part m c t _ r s
  · rw [outsAt0_B m c t h h1]
    dsimp only
    rw [held_B]
    exact pay_part m c t _ r s

theorem leaves (c : Dev nD) (t : Fin cfg0.N) (h : t.val % 8 = 7) (r : Fin 1024) (s : Fin 256) :
    (outsAt0 m c t.val t.isLt).1 (ix2 r s) = (outsAt0 m c t.val t.isLt).2 (ix2 r s) := by
  rw [outsAt0_C m c t (by omega) h]
  dsimp only
  rw [out_C, held_C]

theorem ti_run (t : Fin cfg0.N) (s : Fin 8) (h) (r : Fin 1024) : ti ⟨8 * (t.val / 8) + s.val, h⟩ r = ti t r := by
  unfold ti; apply Fin.ext; dsimp only; omega

theorem tj_run (t : Fin cfg0.N) (s : Fin 8) (h) (r : Fin 256) : tj ⟨8 * (t.val / 8) + s.val, h⟩ r = tj t r := by
  unfold tj; apply Fin.ext; dsimp only; omega

theorem tk_run (t : Fin cfg0.N) (s : Fin 8) (h) (d : Fin 1024) :
    tk ⟨8 * (t.val / 8) + s.val, h⟩ d = ⟨s.val * 1024 + d.val, by omega⟩ := by
  unfold tk; apply Fin.ext; dsimp only; omega

theorem final (c : Dev nD) : (dats m 0 c).arrAt 2 cfg0.N = cols (A m c) (B m c) := by
  refine (dats m 0 c).arrAt_eq_of_covers 2 _ (by decide +kernel) fun t hf y => ?_
  blk_simp
  rw [after0_2]
  obtain ⟨r, s, rfl⟩ : ∃ (r : Fin 1024) (s : Fin 256), y = ix2 r s := ⟨y 0, y 1, eq_ix2 y⟩
  have e0 : at0 ((win0_2.blk t).view.emb (ix2 r s)) = ti t r := by
    unfold at0 ti; apply Fin.ext; dsimp only; blk_simp [idx t]
  have e1 : at1 ((win0_2.blk t).view.emb (ix2 r s)) = tj t s := by
    unfold at1 tj; apply Fin.ext; dsimp only; blk_simp [idx t]
  have hl : t.val % 8 = 7 := (flush0_2 t).mp hf
  rw [leaves m c t hl,
    Pipeline.eq_sum_fin_of_reset_step_apply_of_flush (fun n h => (outsAt0 m c n h).2) 8 (fun _ => 0) (part m c)
      (reset m c) (step m c) t hl _, zero_add]
  unfold cols
  rw [e0, e1]
  simp only [part_ix2]
  refine Fin.sum_mul_add_congr fun k d hl => ?_
  rw [ti_run, tj_run, tk_run]

/-! ## The claims -/

theorem frame_ref : Cert.quiescent_InCkvDwRefIdeal (hInCkvDwRefIdeal := Cert.InCkvDwRefIdeal.Gen.facts) := fun m ρ _ =>
  (θ_run _ _ _).mono (fun r h => ⟨fun c => ((h c).2 : _), sem_eq_zero_of_no_sems (by decide) r.2⟩)
    (Cert.InCkvDwRefIdeal.Value.run m ρ)

theorem algebraic : Cert.algebraic_InCkvDwIdeal_InCkvDwRefIdeal
    (hInCkvDwIdeal := Cert.InCkvDwIdeal.Gen.facts) (hInCkvDwRefIdeal := Cert.InCkvDwRefIdeal.Gen.facts) := by
  intro m g m' g' _ hag
  refine ⟨fun c => cols (A m c) (B m c), ?_, ?_⟩
  · refine (θ_run _ _ _).mono (fun r h c => ?_) (Cert.InCkvDwIdeal.Value.run_blocks m g)
    exact ⟨(h c).1.trans (final m c), (h c).2⟩
  · refine (θ_run _ _ _).mono (fun r h c => ?_) (Cert.InCkvDwRefIdeal.Value.run m' g')
    refine ⟨(h c).1.trans ?_, (h c).2⟩
    obtain ⟨e0, e1, e2⟩ := hag c
    rw [e0, e2]
    exact ref_eq _ _

end Cert.InCkvDwProof

end
-- ==== Proof.InSgDxValue.lean ====
/- The kernel InSgDx: a product in tiles, its result array as the whole product, and the reference's result. -/
module

public import proofs.«01_k».proof.Defs
public import proofs.«01_k».proof.Proof.Gen.InSgDxIdeal.Value
public import proofs.«01_k».proof.Proof.Gen.InSgDxRefIdeal.Run
public import proofs.«01_k».proof.Proof.Product
public import Idealize.ShloMosaic.Lib.Pipeline.ValueKit
public import Idealize.ShloMosaic.Lib.Claim

@[expose] public section

set_option maxRecDepth 16384

noncomputable section

namespace Cert.InSgDxProof

open Idealize.ShloMosaic Idealize.ShloMosaic.TcCoe Idealize.SL.Sem Cert.Product

/-! ## The reference's result -/

open Cert.InSgDxRefIdeal Cert.InSgDxRefIdeal.Gen in
theorem ref_eq (a1 : FVec Ideal Cert.InSgDxRefIdeal.S1024x1024 .bf16) (a2 : FVec Ideal Cert.InSgDxRefIdeal.S8192x1024 .bf16) (a3 : FVec Ideal Cert.InSgDxRefIdeal.S8192x1024 .f32) :
    addf a3 (Host.dotGeneral dot_S8192x1024_S1024x1024_S8192x1024_1_1_0_0_n_n none (extf .f32 a2 bitsLt_bf16_f32) (extf .f32 a1 bitsLt_bf16_f32))
      = fun i => a3 i + rows a2 a1 i := by
  funext i
  obtain ⟨r, s, rfl⟩ : ∃ r s, i = ix2 r s := ⟨i 0, i 1, eq_ix2 i⟩
  pointwise
  first
    | rfl
    | exact Finset.sum_congr rfl fun d _ => mul_comm _ _
    | exact congrArg (_ + ·) (Finset.sum_congr rfl fun d _ => mul_comm _ _)

open Cert.InSgDxIdeal Cert.InSgDxIdeal.Gen

/-! ## What the body computes of one tile -/

theorem pay (v3 : Vec Ideal S1024x1024 .f32) (v4 : Vec Ideal S1024x1024 .bf16) (v5 : Vec Ideal S1024x1024 .bf16) (r : Fin 1024) (s : Fin 1024) :
    k0_pay2 (F := Ideal) v3 v4 v5 (ix2 r s) = v3 (ix2 r s) + ∑ d : Fin 1024, v4 (ix2 r d) * v5 (ix2 s d) := by
  pointwise [k0_pay2]

theorem pay_zero (r : Fin 1024) (s : Fin 1024) : k0_pay1 (F := Ideal) (ix2 r s) = 0 := by pointwise [k0_pay1]

theorem pay_add (v u : Vec Ideal S1024x1024 .f32) (r : Fin 1024) (s : Fin 1024) :
    k0_pay3 (F := Ideal) v u (ix2 r s) = v (ix2 r s) + u (ix2 r s) := by pointwise [k0_pay3]

section Out
variable {F : FTy → Type} [FloatOps F]
variable (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole) (a7 : Memref sig .tc .vmem S1024x1024 .f32) (h7 : a7.IsWhole)
  (x0 : Vec F S1024x1024 .bf16) (x1 : Vec F S1024x1024 .bf16) (x2 : Vec F S1024x1024 .f32)

theorem out_A (hc : cond0_0 i) (hd : cond0_1 i) : out0_A_3 c i a3 h3 a4 h4 a5 h5 a6 h6 a7 h7 hc hd x0 x1 x2
    = k0_pay3 (k0_pay2 k0_pay1 x0 x1) x2 := by
  unfold out0_A_3
  rw [View.read_writes_eq_canon _ _ _ (cover0_A_3 c i a3 h3 a4 h4 a5 h5 a6 h6 a7 h7 hc hd x0 x1 x2)]
  unfold kernelRun0_A
  dsimp only
  sl_unfold_words
  rw [View.canon_unit_zero (S := S1024x1024) hz, View.readCov_cons_toLoadRect, View.readCov_unit_zero (S := S1024x1024) _ hz]
  simp only [View.readAt_eq_ld, h3.read_unread, h4.read_unread, h5.read_unread, View.ld_unit_zero (S := S1024x1024) hz]

end Out

/-! ## The result array -/

variable (m : (ℓ : Loc nD τ sig) → Buf (Elt Ideal) ℓ) (ρ : Dev nD → PrngReg)

theorem idx : ∀ t : Fin cfg0.N, win0_0.index t = ![t.val / 1, t.val % 1] ∧ win0_1.index t = ![t.val / 1 % 1, t.val % 1]
    ∧ win0_2.index t = ![t.val / 1, t.val / 1 % 1] ∧ win0_3.index t = ![t.val / 1, t.val / 1 % 1] ∧ t.val < 8 :=
  (by decide +kernel : ∀ t : Fin grid0.N, _)

/-- The row, the column and the position on the shared axis of tile `t`'s entries. -/
def ti (t : Fin cfg0.N) (r : Fin 1024) : Fin 8192 := ⟨t.val / 1 * 1024 + r.val, by have := (idx t).2.2.2.2; omega⟩
def tj (t : Fin cfg0.N) (s : Fin 1024) : Fin 1024 := ⟨t.val / 1 % 1 * 1024 + s.val, by omega⟩
def tk (t : Fin cfg0.N) (d : Fin 1024) : Fin 1024 := ⟨t.val % 1 * 1024 + d.val, by omega⟩

abbrev A (c : Dev nD) : Arr 8192 1024 := m ((c : Thread nD τ).loc main_arg2)
abbrev B (c : Dev nD) : Arr 1024 1024 := m ((c : Thread nD τ).loc main_arg1)
abbrev D (c : Dev nD) : Arr 8192 1024 := m ((c : Thread nD τ).loc main_arg3)

theorem blk_a (c : Dev nD) (t : Fin cfg0.N) (r : Fin 1024) (d : Fin 1024) :
    (show Vec Ideal S1024x1024 .bf16 from iblk m c 0 t) (ix2 r d) = A m c (ix2 (ti t r) (tk t d)) := by
  unfold ti tk A
  blk_point [iblk, V, idx t]

theorem blk_b (c : Dev nD) (t : Fin cfg0.N) (s : Fin 1024) (d : Fin 1024) :
    (show Vec Ideal S1024x1024 .bf16 from iblk m c 1 t) (ix2 s d) = B m c (ix2 (tj t s) (tk t d)) := by
  unfold tj tk B
  blk_point [iblk, V, idx t]

theorem blk_d (c : Dev nD) (t : Fin cfg0.N) (r : Fin 1024) (s : Fin 1024) :
    (show Vec Ideal S1024x1024 .f32 from iblk m c 2 t) (ix2 r s) = D m c (ix2 (ti t r) (tj t s)) := by
  unfold ti tj D
  blk_point [iblk, V, idx t]

/-- What tile `t` adds to its block. -/
def part (c : Dev nD) (t : Fin cfg0.N) (y : S1024x1024.Idx) : EReal :=
  ∑ d, A m c (ix2 (ti t (at0 y)) (tk t d)) * B m c (ix2 (tj t (at1 y)) (tk t d))

theorem part_ix2 (c : Dev nD) (t : Fin cfg0.N) (r : Fin 1024) (s : Fin 1024) :
    part m c t (ix2 r s) = ∑ d, A m c (ix2 (ti t r) (tk t d)) * B m c (ix2 (tj t s) (tk t d)) := rfl

theorem pay_part (c : Dev nD) (t : Fin cfg0.N) (v : Vec Ideal S1024x1024 .f32) (r : Fin 1024) (s : Fin 1024) :
    k0_pay2 (F := Ideal) v (iblk m c 0 t) (iblk m c 1 t) (ix2 r s) = v (ix2 r s) + part m c t (ix2 r s) := by
  refine (pay _ _ _ r s).trans ?_
  refine congrArg (v (ix2 r s) + ·) (Finset.sum_congr rfl fun d _ => ?_)
  exact congrArg₂ (· * ·) (blk_a m c t r d) (blk_b m c t s d)

theorem final (c : Dev nD) : (dats m 0 c).arrAt 3 cfg0.N = fun i => D m c i + rows (A m c) (B m c) i := by
  refine (dats m 0 c).arrAt_eq_of_covers 3 _ (by decide +kernel) fun t hf y => ?_
  blk_simp
  rw [after0_3]
  obtain ⟨r, s, rfl⟩ : ∃ (r : Fin 1024) (s : Fin 1024), y = ix2 r s := ⟨y 0, y 1, eq_ix2 y⟩
  have e0 : at0 ((win0_3.blk t).view.emb (ix2 r s)) = ti t r := by
    unfold at0 ti; apply Fin.ext; dsimp only; blk_simp [idx t]
  have e1 : at1 ((win0_3.blk t).view.emb (ix2 r s)) = tj t s := by
    unfold at1 tj; apply Fin.ext; dsimp only; blk_simp [idx t]
  unfold outsAt0
  rw [out_A]
  refine (pay_add _ _ r s).trans ?_
  rw [pay_part m c t _ r s, pay_zero, zero_add]
  have e : D m c ((win0_3.blk t).view.emb (ix2 r s)) = D m c (ix2 (ti t r) (tj t s)) := by
    refine congrArg (D m c) ((eq_ix2 _).trans ?_)
    exact congrArg₂ ix2 e0 e1
  rw [e, add_comm]
  refine congrArg₂ (· + ·) (blk_d m c t r s) ?_
  unfold rows
  rw [e0, e1]
  simp only [part_ix2]
  refine Finset.sum_congr rfl fun d _ => ?_
  rw [show tk t d = d from by unfold tk; apply Fin.ext; dsimp only; omega]

/-! ## The claims -/

theorem frame_ref : Cert.quiescent_InSgDxRefIdeal (hInSgDxRefIdeal := Cert.InSgDxRefIdeal.Gen.facts) := fun m ρ _ =>
  (θ_run _ _ _).mono (fun r h => ⟨fun c => ((h c).2 : _), sem_eq_zero_of_no_sems (by decide) r.2⟩)
    (Cert.InSgDxRefIdeal.Value.run m ρ)

theorem algebraic : Cert.algebraic_InSgDxIdeal_InSgDxRefIdeal
    (hInSgDxIdeal := Cert.InSgDxIdeal.Gen.facts) (hInSgDxRefIdeal := Cert.InSgDxRefIdeal.Gen.facts) := by
  intro m g m' g' _ hag
  refine ⟨fun c => fun i => D m c i + rows (A m c) (B m c) i, ?_, ?_⟩
  · refine (θ_run _ _ _).mono (fun r h c => ?_) (Cert.InSgDxIdeal.Value.run_blocks m g)
    exact ⟨(h c).1.trans (final m c), (h c).2⟩
  · refine (θ_run _ _ _).mono (fun r h c => ?_) (Cert.InSgDxRefIdeal.Value.run m' g')
    refine ⟨(h c).1.trans ?_, (h c).2⟩
    obtain ⟨e0, e1, e2, e3⟩ := hag c
    rw [e1, e2, e3]
    exact ref_eq _ _ _

end Cert.InSgDxProof

end
-- ==== Proof.InSgDwValue.lean ====
/- The kernel InSgDw: a product in tiles, its result array as the whole product, and the reference's result. -/
module

public import proofs.«01_k».proof.Defs
public import proofs.«01_k».proof.Proof.Gen.InSgDwIdeal.Value
public import proofs.«01_k».proof.Proof.Gen.InSgDwRefIdeal.Run
public import proofs.«01_k».proof.Proof.Product
public import Idealize.ShloMosaic.Lib.Pipeline.ValueKit
public import Idealize.ShloMosaic.Lib.Claim

@[expose] public section

set_option maxRecDepth 16384

noncomputable section

namespace Cert.InSgDwProof

open Idealize.ShloMosaic Idealize.ShloMosaic.TcCoe Idealize.SL.Sem Cert.Product

/-! ## The reference's result -/

open Cert.InSgDwRefIdeal Cert.InSgDwRefIdeal.Gen in
theorem ref_eq (a0 : FVec Ideal Cert.InSgDwRefIdeal.S8192x1024 .bf16) (a2 : FVec Ideal Cert.InSgDwRefIdeal.S8192x1024 .bf16) :
    transpose S1024x1024 [1, 0] (Host.dotGeneral dot_S8192x1024_S8192x1024_S1024x1024_0_0_1_1_n_n none (extf .f32 a2 bitsLt_bf16_f32) (extf .f32 a0 bitsLt_bf16_f32)) transposes_S1024x1024_S1024x1024_1_0
      = cols a0 a2 := by
  funext i
  obtain ⟨r, s, rfl⟩ : ∃ r s, i = ix2 r s := ⟨i 0, i 1, eq_ix2 i⟩
  pointwise
  first
    | rfl
    | exact Finset.sum_congr rfl fun d _ => mul_comm _ _
    | exact congrArg (_ + ·) (Finset.sum_congr rfl fun d _ => mul_comm _ _)

open Cert.InSgDwIdeal Cert.InSgDwIdeal.Gen

/-! ## What the body computes of one tile -/

theorem pay (v3 : Vec Ideal S1024x1024 .f32) (v4 : Vec Ideal S1024x1024 .bf16) (v5 : Vec Ideal S1024x1024 .bf16) (r : Fin 1024) (s : Fin 1024) :
    k0_pay2 (F := Ideal) v3 v4 v5 (ix2 r s) = v3 (ix2 r s) + ∑ d : Fin 1024, v4 (ix2 d r) * v5 (ix2 d s) := by
  pointwise [k0_pay2]

theorem pay_zero (r : Fin 1024) (s : Fin 1024) : k0_pay1 (F := Ideal) (ix2 r s) = 0 := by pointwise [k0_pay1]

section Out
variable {F : FTy → Type} [FloatOps F]
variable (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole)
  (x0 : Vec F S1024x1024 .bf16) (x1 : Vec F S1024x1024 .bf16)

variable (y : Vec F S1024x1024 .f32)

theorem held_A (hc : cond0_0 i) (hd : ¬cond0_1 i) : sout0_A_0 c i a3 h3 a4 h4 a5 h5 a6 h6 hc hd x0 x1
    = k0_pay2 k0_pay1 x0 x1 := by
  unfold sout0_A_0
  rw [View.read_writes_eq_canon _ _ _ (scover0_A_0 c i a3 h3 a4 h4 a5 h5 a6 h6 hc hd x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

theorem held_B (hc : ¬cond0_0 i) (hd : ¬cond0_1 i) : sout0_B_0 c i a3 h3 a4 h4 a5 h5 a6 h6 hc hd x0 x1 y
    = k0_pay2 y x0 x1 := by
  unfold sout0_B_0
  rw [View.read_writes_eq_canon _ _ _ (scover0_B_0 c i a3 h3 a4 h4 a5 h5 a6 h6 hc hd x0 x1 y)]
  unfold kernelRun0_B
  dsimp only
  sl_unfold_words
  rw [View.canon_unit_zero (S := S1024x1024) hz]
  simp only [View.readAt_eq_ld, h3.read_unread, h4.read_unread, h6.read_unread, View.ld_unit_zero (S := S1024x1024) hz]

theorem held_C (hc : ¬cond0_0 i) (hd : cond0_1 i) : sout0_C_0 c i a3 h3 a4 h4 a5 h5 a6 h6 hc hd x0 x1 y
    = k0_pay2 y x0 x1 := by
  unfold sout0_C_0
  rw [View.read_writes_eq_canon _ _ _ (scover0_C_0 c i a3 h3 a4 h4 a5 h5 a6 h6 hc hd x0 x1 y)]
  unfold kernelRun0_C
  dsimp only
  sl_unfold_words
  rw [View.canon_unit_zero (S := S1024x1024) hz]
  simp only [View.readAt_eq_ld, h3.read_unread, h4.read_unread, h6.read_unread, View.ld_unit_zero (S := S1024x1024) hz]

theorem out_C (hc : ¬cond0_0 i) (hd : cond0_1 i) : out0_C_2 c i a3 h3 a4 h4 a5 h5 a6 h6 hc hd x0 x1 y
    = k0_pay2 y x0 x1 := by
  unfold out0_C_2
  rw [View.read_writes_eq_canon _ _ _ (cover0_C_2 c i a3 h3 a4 h4 a5 h5 a6 h6 hc hd x0 x1 y)]
  unfold kernelRun0_C
  dsimp only
  sl_unfold_words
  rw [View.canon_unit_zero (S := S1024x1024) hz, View.readCov_unit_zero (S := S1024x1024) _ hz]
  simp only [View.readAt_eq_ld, h3.read_unread, h4.read_unread, h6.read_unread, View.ld_unit_zero (S := S1024x1024) hz]

end Out

/-! ## The result array -/

variable (m : (ℓ : Loc nD τ sig) → Buf (Elt Ideal) ℓ) (ρ : Dev nD → PrngReg)

theorem idx : ∀ t : Fin cfg0.N, win0_0.index t = ![t.val % 8, t.val / 8] ∧ win0_1.index t = ![t.val % 8, t.val / 8 % 1]
    ∧ win0_2.index t = ![t.val / 8, t.val / 8 % 1] ∧ t.val < 8 :=
  (by decide +kernel : ∀ t : Fin grid0.N, _)

/-- The row, the column and the position on the shared axis of tile `t`'s entries. -/
def ti (t : Fin cfg0.N) (r : Fin 1024) : Fin 1024 := ⟨t.val / 8 * 1024 + r.val, by have := (idx t).2.2.2; omega⟩
def tj (t : Fin cfg0.N) (s : Fin 1024) : Fin 1024 := ⟨t.val / 8 % 1 * 1024 + s.val, by omega⟩
def tk (t : Fin cfg0.N) (d : Fin 1024) : Fin 8192 := ⟨t.val % 8 * 1024 + d.val, by omega⟩

abbrev A (c : Dev nD) : Arr 8192 1024 := m ((c : Thread nD τ).loc main_arg0)
abbrev B (c : Dev nD) : Arr 8192 1024 := m ((c : Thread nD τ).loc main_arg2)

theorem blk_a (c : Dev nD) (t : Fin cfg0.N) (r : Fin 1024) (d : Fin 1024) :
    (show Vec Ideal S1024x1024 .bf16 from iblk m c 0 t) (ix2 d r) = A m c (ix2 (tk t d) (ti t r)) := by
  unfold ti tk A
  blk_point [iblk, V, idx t]

theorem blk_b (c : Dev nD) (t : Fin cfg0.N) (s : Fin 1024) (d : Fin 1024) :
    (show Vec Ideal S1024x1024 .bf16 from iblk m c 1 t) (ix2 d s) = B m c (ix2 (tk t d) (tj t s)) := by
  unfold tj tk B
  blk_point [iblk, V, idx t]

/-- What tile `t` adds to its block. -/
def part (c : Dev nD) (t : Fin cfg0.N) (y : S1024x1024.Idx) : EReal :=
  ∑ d, A m c (ix2 (tk t d) (ti t (at0 y))) * B m c (ix2 (tk t d) (tj t (at1 y)))

theorem part_ix2 (c : Dev nD) (t : Fin cfg0.N) (r : Fin 1024) (s : Fin 1024) :
    part m c t (ix2 r s) = ∑ d, A m c (ix2 (tk t d) (ti t r)) * B m c (ix2 (tk t d) (tj t s)) := rfl

theorem pay_part (c : Dev nD) (t : Fin cfg0.N) (v : Vec Ideal S1024x1024 .f32) (r : Fin 1024) (s : Fin 1024) :
    k0_pay2 (F := Ideal) v (iblk m c 0 t) (iblk m c 1 t) (ix2 r s) = v (ix2 r s) + part m c t (ix2 r s) := by
  refine (pay _ _ _ r s).trans ?_
  refine congrArg (v (ix2 r s) + ·) (Finset.sum_congr rfl fun d _ => ?_)
  exact congrArg₂ (· * ·) (blk_a m c t r d) (blk_b m c t s d)

theorem reset (c : Dev nD) (t : Fin cfg0.N) (h : t.val % 8 = 0) (y : S1024x1024.Idx) :
    (outsAt0 m c t.val t.isLt).2 y = 0 + part m c t y := by
  obtain ⟨r, s, rfl⟩ : ∃ r s, y = ix2 r s := ⟨y 0, y 1, eq_ix2 y⟩
  rw [outsAt0_A m c t h (by omega)]
  dsimp only
  rw [held_A]
  refine (pay_part m c t _ r s).trans ?_
  rw [pay_zero]

theorem step (c : Dev nD) (t : Fin cfg0.N) (h : ¬t.val % 8 = 0) (y : S1024x1024.Idx) :
    (outsAt0 m c t.val t.isLt).2 y = (outsAt0 m c (t.val - 1) (Nat.lt_of_le_of_lt (Nat.sub_le _ _) t.isLt)).2 y + part m c t y := by
  obtain ⟨r, s, rfl⟩ : ∃ r s, y = ix2 r s := ⟨y 0, y 1, eq_ix2 y⟩
  by_cases h1 : t.val % 8 = 7
  · rw [outsAt0_C m c t h h1]
    dsimp only
    rw [held_C]
    exact pay_part m c t _ r s
  · rw [outsAt0_B m c t h h1]
    dsimp only
    rw [held_B]
    exact pay_part m c t _ r s

theorem leaves (c : Dev nD) (t : Fin cfg0.N) (h : t.val % 8 = 7) (r : Fin 1024) (s : Fin 1024) :
    (outsAt0 m c t.val t.isLt).1 (ix2 r s) = (outsAt0 m c t.val t.isLt).2 (ix2 r s) := by
  rw [outsAt0_C m c t (by omega) h]
  dsimp only
  rw [out_C, held_C]

theorem ti_run (t : Fin cfg0.N) (s : Fin 8) (h) (r : Fin 1024) : ti ⟨8 * (t.val / 8) + s.val, h⟩ r = ti t r := by
  unfold ti; apply Fin.ext; dsimp only; omega

theorem tj_run (t : Fin cfg0.N) (s : Fin 8) (h) (r : Fin 1024) : tj ⟨8 * (t.val / 8) + s.val, h⟩ r = tj t r := by
  unfold tj; apply Fin.ext; dsimp only; omega

theorem tk_run (t : Fin cfg0.N) (s : Fin 8) (h) (d : Fin 1024) :
    tk ⟨8 * (t.val / 8) + s.val, h⟩ d = ⟨s.val * 1024 + d.val, by omega⟩ := by
  unfold tk; apply Fin.ext; dsimp only; omega

theorem final (c : Dev nD) : (dats m 0 c).arrAt 2 cfg0.N = cols (A m c) (B m c) := by
  refine (dats m 0 c).arrAt_eq_of_covers 2 _ (by decide +kernel) fun t hf y => ?_
  blk_simp
  rw [after0_2]
  obtain ⟨r, s, rfl⟩ : ∃ (r : Fin 1024) (s : Fin 1024), y = ix2 r s := ⟨y 0, y 1, eq_ix2 y⟩
  have e0 : at0 ((win0_2.blk t).view.emb (ix2 r s)) = ti t r := by
    unfold at0 ti; apply Fin.ext; dsimp only; blk_simp [idx t]
  have e1 : at1 ((win0_2.blk t).view.emb (ix2 r s)) = tj t s := by
    unfold at1 tj; apply Fin.ext; dsimp only; blk_simp [idx t]
  have hl : t.val % 8 = 7 := (flush0_2 t).mp hf
  rw [leaves m c t hl,
    Pipeline.eq_sum_fin_of_reset_step_apply_of_flush (fun n h => (outsAt0 m c n h).2) 8 (fun _ => 0) (part m c)
      (reset m c) (step m c) t hl _, zero_add]
  unfold cols
  rw [e0, e1]
  simp only [part_ix2]
  refine Fin.sum_mul_add_congr fun k d hl => ?_
  rw [ti_run, tj_run, tk_run]

/-! ## The claims -/

theorem frame_ref : Cert.quiescent_InSgDwRefIdeal (hInSgDwRefIdeal := Cert.InSgDwRefIdeal.Gen.facts) := fun m ρ _ =>
  (θ_run _ _ _).mono (fun r h => ⟨fun c => ((h c).2 : _), sem_eq_zero_of_no_sems (by decide) r.2⟩)
    (Cert.InSgDwRefIdeal.Value.run m ρ)

theorem algebraic : Cert.algebraic_InSgDwIdeal_InSgDwRefIdeal
    (hInSgDwIdeal := Cert.InSgDwIdeal.Gen.facts) (hInSgDwRefIdeal := Cert.InSgDwRefIdeal.Gen.facts) := by
  intro m g m' g' _ hag
  refine ⟨fun c => cols (A m c) (B m c), ?_, ?_⟩
  · refine (θ_run _ _ _).mono (fun r h c => ?_) (Cert.InSgDwIdeal.Value.run_blocks m g)
    exact ⟨(h c).1.trans (final m c), (h c).2⟩
  · refine (θ_run _ _ _).mono (fun r h c => ?_) (Cert.InSgDwRefIdeal.Value.run m' g')
    refine ⟨(h c).1.trans ?_, (h c).2⟩
    obtain ⟨e0, e1, e2⟩ := hag c
    rw [e0, e2]
    exact ref_eq _ _

end Cert.InSgDwProof

end
-- ==== Proof.InRwDxValue.lean ====
/- The kernel InRwDx: a product in tiles, its result array as the whole product, and the reference's result. -/
module

public import proofs.«01_k».proof.Defs
public import proofs.«01_k».proof.Proof.Gen.InRwDxIdeal.Value
public import proofs.«01_k».proof.Proof.Gen.InRwDxRefIdeal.Run
public import proofs.«01_k».proof.Proof.Product
public import Idealize.ShloMosaic.Lib.Pipeline.ValueKit
public import Idealize.ShloMosaic.Lib.Claim

@[expose] public section

set_option maxRecDepth 16384

noncomputable section

namespace Cert.InRwDxProof

open Idealize.ShloMosaic Idealize.ShloMosaic.TcCoe Idealize.SL.Sem Cert.Product

/-! ## The reference's result -/

open Cert.InRwDxRefIdeal Cert.InRwDxRefIdeal.Gen in
theorem ref_eq (a1 : FVec Ideal Cert.InRwDxRefIdeal.S1024x1920 .bf16) (a2 : FVec Ideal Cert.InRwDxRefIdeal.S8192x1920 .bf16) (a3 : FVec Ideal Cert.InRwDxRefIdeal.S8192x1024 .f32) :
    addf a3 (Host.dotGeneral dot_S8192x1920_S1024x1920_S8192x1024_1_1_0_0_n_n none (extf .f32 a2 bitsLt_bf16_f32) (extf .f32 a1 bitsLt_bf16_f32))
      = fun i => a3 i + rows a2 a1 i := by
  funext i
  obtain ⟨r, s, rfl⟩ : ∃ r s, i = ix2 r s := ⟨i 0, i 1, eq_ix2 i⟩
  pointwise
  first
    | rfl
    | exact Finset.sum_congr rfl fun d _ => mul_comm _ _
    | exact congrArg (_ + ·) (Finset.sum_congr rfl fun d _ => mul_comm _ _)

open Cert.InRwDxIdeal Cert.InRwDxIdeal.Gen

/-! ## What the body computes of one tile -/

theorem pay (v3 : Vec Ideal S1024x1024 .f32) (v4 : Vec Ideal S1024x384 .bf16) (v5 : Vec Ideal S1024x384 .bf16) (r : Fin 1024) (s : Fin 1024) :
    k0_pay2 (F := Ideal) v3 v4 v5 (ix2 r s) = v3 (ix2 r s) + ∑ d : Fin 384, v4 (ix2 r d) * v5 (ix2 s d) := by
  pointwise [k0_pay2]

theorem pay_zero (r : Fin 1024) (s : Fin 1024) : k0_pay1 (F := Ideal) (ix2 r s) = 0 := by pointwise [k0_pay1]

theorem pay_add (v u : Vec Ideal S1024x1024 .f32) (r : Fin 1024) (s : Fin 1024) :
    k0_pay3 (F := Ideal) v u (ix2 r s) = v (ix2 r s) + u (ix2 r s) := by pointwise [k0_pay3]

section Out
variable {F : FTy → Type} [FloatOps F]
variable (c : Dev nD) (i : grid0.Coords) (a3 : Memref sig .tc .vmem S1024x384 .bf16) (h3 : a3.IsWhole) (a4 : Memref sig .tc .vmem S1024x384 .bf16) (h4 : a4.IsWhole) (a5 : Memref sig .tc .vmem S1024x1024 .f32) (h5 : a5.IsWhole) (a6 : Memref sig .tc .vmem S1024x1024 .f32) (h6 : a6.IsWhole) (a7 : Memref sig .tc .vmem S1024x1024 .f32) (h7 : a7.IsWhole)
  (x0 : Vec F S1024x384 .bf16) (x1 : Vec F S1024x384 .bf16) (x2 : Vec F S1024x1024 .f32)

variable (y : Vec F S1024x1024 .f32)

theorem held_A (hc : cond0_0 i) (hd : ¬cond0_1 i) : sout0_A_0 c i a3 h3 a4 h4 a5 h5 a6 h6 a7 h7 hc hd x0 x1 x2
    = k0_pay2 k0_pay1 x0 x1 := by
  unfold sout0_A_0
  rw [View.read_writes_eq_canon _ _ _ (scover0_A_0 c i a3 h3 a4 h4 a5 h5 a6 h6 a7 h7 hc hd x0 x1 x2)]
  unfold kernelRun0_A
  dsimp only
  sl_unfold_words
  rw [View.canon_cons_unit_zero (S := S1024x1024) hz, View.readCov_unit_zero (S := S1024x1024) _ hz]
  simp only [View.readAt_eq_ld, h3.read_unread, h4.read_unread, h5.read_unread, View.ld_unit_zero (S := S1024x1024) hz, View.ld_unit_zero (S := S1024x384) hz]

theorem held_B (hc : ¬cond0_0 i) (hd : ¬cond0_1 i) : sout0_B_0 c i a3 h3 a4 h4 a5 h5 a6 h6 a7 h7 hc hd x0 x1 x2 y
    = k0_pay2 y x0 x1 := by
  unfold sout0_B_0
  rw [View.read_writes_eq_canon _ _ _ (scover0_B_0 c i a3 h3 a4 h4 a5 h5 a6 h6 a7 h7 hc hd x0 x1 x2 y)]
  unfold kernelRun0_B
  dsimp only
  sl_unfold_words
  rw [View.canon_unit_zero (S := S1024x1024) hz]
  simp only [View.readAt_eq_ld, h3.read_unread, h4.read_unread, h5.read_unread, h7.read_unread, View.ld_unit_zero (S := S1024x1024) hz, View.ld_unit_zero (S := S1024x384) hz]

theorem held_C (hc : ¬cond0_0 i) (hd : cond0_1 i) : sout0_C_0 c i a3 h3 a4 h4 a5 h5 a6 h6 a7 h7 hc hd x0 x1 x2 y
    = k0_pay2 y x0 x1 := by
  unfold sout0_C_0
  rw [View.read_writes_eq_canon _ _ _ (scover0_C_0 c i a3 h3 a4 h4 a5 h5 a6 h6 a7 h7 hc hd x0 x1 x2 y)]
  unfold kernelRun0_C
  dsimp only
  sl_unfold_words
  rw [View.canon_unit_zero (S := S1024x1024) hz]
  simp only [View.readAt_eq_ld, h3.read_unread, h4.read_unread, h5.read_unread, h7.read_unread, View.ld_unit_zero (S := S1024x1024) hz, View.ld_unit_zero (S := S1024x384) hz]

theorem out_C (hc : ¬cond0_0 i) (hd : cond0_1 i) : out0_C_3 c i a3 h3 a4 h4 a5 h5 a6 h6 a7 h7 hc hd x0 x1 x2 y
    = k0_pay3 (k0_pay2 y x0 x1) x2 := by
  unfold out0_C_3
  rw [View.read_writes_eq_canon _ _ _ (cover0_C_3 c i a3 h3 a4 h4 a5 h5 a6 h6 a7 h7 hc hd x0 x1 x2 y)]
  unfold kernelRun0_C
  dsimp only
  sl_unfold_words
  rw [View.canon_unit_zero (S := S1024x1024) hz, View.readCov_unit_zero (S := S1024x1024) _ hz]
  simp only [View.readAt_eq_ld, h3.read_unread, h4.read_unread, h5.read_unread, h7.read_unread, View.ld_unit_zero (S := S1024x1024) hz, View.ld_unit_zero (S := S1024x384) hz]

end Out

/-! ## The result array -/

variable (m : (ℓ : Loc nD τ sig) → Buf (Elt Ideal) ℓ) (ρ : Dev nD → PrngReg)

theorem idx : ∀ t : Fin cfg0.N, win0_0.index t = ![t.val / 5, t.val % 5] ∧ win0_1.index t = ![t.val / 5 % 1, t.val % 5]
    ∧ win0_2.index t = ![t.val / 5, t.val / 5 % 1] ∧ win0_3.index t = ![t.val / 5, t.val / 5 % 1] ∧ t.val < 40 :=
  (by decide +kernel : ∀ t : Fin grid0.N, _)

/-- The row, the column and the position on the shared axis of tile `t`'s entries. -/
def ti (t : Fin cfg0.N) (r : Fin 1024) : Fin 8192 := ⟨t.val / 5 * 1024 + r.val, by have := (idx t).2.2.2.2; omega⟩
def tj (t : Fin cfg0.N) (s : Fin 1024) : Fin 1024 := ⟨t.val / 5 % 1 * 1024 + s.val, by omega⟩
def tk (t : Fin cfg0.N) (d : Fin 384) : Fin 1920 := ⟨t.val % 5 * 384 + d.val, by omega⟩

abbrev A (c : Dev nD) : Arr 8192 1920 := m ((c : Thread nD τ).loc main_arg2)
abbrev B (c : Dev nD) : Arr 1024 1920 := m ((c : Thread nD τ).loc main_arg1)
abbrev D (c : Dev nD) : Arr 8192 1024 := m ((c : Thread nD τ).loc main_arg3)

theorem blk_a (c : Dev nD) (t : Fin cfg0.N) (r : Fin 1024) (d : Fin 384) :
    (show Vec Ideal S1024x384 .bf16 from iblk m c 0 t) (ix2 r d) = A m c (ix2 (ti t r) (tk t d)) := by
  unfold ti tk A
  blk_point [iblk, V, idx t]

theorem blk_b (c : Dev nD) (t : Fin cfg0.N) (s : Fin 1024) (d : Fin 384) :
    (show Vec Ideal S1024x384 .bf16 from iblk m c 1 t) (ix2 s d) = B m c (ix2 (tj t s) (tk t d)) := by
  unfold tj tk B
  blk_point [iblk, V, idx t]

theorem blk_d (c : Dev nD) (t : Fin cfg0.N) (r : Fin 1024) (s : Fin 1024) :
    (show Vec Ideal S1024x1024 .f32 from iblk m c 2 t) (ix2 r s) = D m c (ix2 (ti t r) (tj t s)) := by
  unfold ti tj D
  blk_point [iblk, V, idx t]

/-- What tile `t` adds to its block. -/
def part (c : Dev nD) (t : Fin cfg0.N) (y : S1024x1024.Idx) : EReal :=
  ∑ d, A m c (ix2 (ti t (at0 y)) (tk t d)) * B m c (ix2 (tj t (at1 y)) (tk t d))

theorem part_ix2 (c : Dev nD) (t : Fin cfg0.N) (r : Fin 1024) (s : Fin 1024) :
    part m c t (ix2 r s) = ∑ d, A m c (ix2 (ti t r) (tk t d)) * B m c (ix2 (tj t s) (tk t d)) := rfl

theorem pay_part (c : Dev nD) (t : Fin cfg0.N) (v : Vec Ideal S1024x1024 .f32) (r : Fin 1024) (s : Fin 1024) :
    k0_pay2 (F := Ideal) v (iblk m c 0 t) (iblk m c 1 t) (ix2 r s) = v (ix2 r s) + part m c t (ix2 r s) := by
  refine (pay _ _ _ r s).trans ?_
  refine congrArg (v (ix2 r s) + ·) (Finset.sum_congr rfl fun d _ => ?_)
  exact congrArg₂ (· * ·) (blk_a m c t r d) (blk_b m c t s d)

theorem reset (c : Dev nD) (t : Fin cfg0.N) (h : t.val % 5 = 0) (y : S1024x1024.Idx) :
    (outsAt0 m c t.val t.isLt).2 y = 0 + part m c t y := by
  obtain ⟨r, s, rfl⟩ : ∃ r s, y = ix2 r s := ⟨y 0, y 1, eq_ix2 y⟩
  rw [outsAt0_A m c t h (by omega)]
  dsimp only
  rw [held_A]
  refine (pay_part m c t _ r s).trans ?_
  rw [pay_zero]

theorem step (c : Dev nD) (t : Fin cfg0.N) (h : ¬t.val % 5 = 0) (y : S1024x1024.Idx) :
    (outsAt0 m c t.val t.isLt).2 y = (outsAt0 m c (t.val - 1) (Nat.lt_of_le_of_lt (Nat.sub_le _ _) t.isLt)).2 y + part m c t y := by
  obtain ⟨r, s, rfl⟩ : ∃ r s, y = ix2 r s := ⟨y 0, y 1, eq_ix2 y⟩
  by_cases h1 : t.val % 5 = 4
  · rw [outsAt0_C m c t h h1]
    dsimp only
    rw [held_C]
    exact pay_part m c t _ r s
  · rw [outsAt0_B m c t h h1]
    dsimp only
    rw [held_B]
    exact pay_part m c t _ r s

theorem leaves (c : Dev nD) (t : Fin cfg0.N) (h : t.val % 5 = 4) (r : Fin 1024) (s : Fin 1024) :
    (outsAt0 m c t.val t.isLt).1 (ix2 r s) = (outsAt0 m c t.val t.isLt).2 (ix2 r s) + D m c (ix2 (ti t r) (tj t s)) := by
  rw [outsAt0_C m c t (by omega) h]
  dsimp only
  rw [out_C, held_C]
  refine (pay_add _ _ r s).trans ?_
  exact congrArg (_ + ·) (blk_d m c t r s)

theorem ti_run (t : Fin cfg0.N) (s : Fin 5) (h) (r : Fin 1024) : ti ⟨5 * (t.val / 5) + s.val, h⟩ r = ti t r := by
  unfold ti; apply Fin.ext; dsimp only; omega

theorem tj_run (t : Fin cfg0.N) (s : Fin 5) (h) (r : Fin 1024) : tj ⟨5 * (t.val / 5) + s.val, h⟩ r = tj t r := by
  unfold tj; apply Fin.ext; dsimp only; omega

theorem tk_run (t : Fin cfg0.N) (s : Fin 5) (h) (d : Fin 384) :
    tk ⟨5 * (t.val / 5) + s.val, h⟩ d = ⟨s.val * 384 + d.val, by omega⟩ := by
  unfold tk; apply Fin.ext; dsimp only; omega

theorem final (c : Dev nD) : (dats m 0 c).arrAt 3 cfg0.N = fun i => D m c i + rows (A m c) (B m c) i := by
  refine (dats m 0 c).arrAt_eq_of_covers 3 _ (by decide +kernel) fun t hf y => ?_
  blk_simp
  rw [after0_3]
  obtain ⟨r, s, rfl⟩ : ∃ (r : Fin 1024) (s : Fin 1024), y = ix2 r s := ⟨y 0, y 1, eq_ix2 y⟩
  have e0 : at0 ((win0_3.blk t).view.emb (ix2 r s)) = ti t r := by
    unfold at0 ti; apply Fin.ext; dsimp only; blk_simp [idx t]
  have e1 : at1 ((win0_3.blk t).view.emb (ix2 r s)) = tj t s := by
    unfold at1 tj; apply Fin.ext; dsimp only; blk_simp [idx t]
  have hl : t.val % 5 = 4 := (flush0_3 t).mp hf
  rw [leaves m c t hl,
    Pipeline.eq_sum_fin_of_reset_step_apply_of_flush (fun n h => (outsAt0 m c n h).2) 5 (fun _ => 0) (part m c)
      (reset m c) (step m c) t hl _, zero_add]
  have e : D m c ((win0_3.blk t).view.emb (ix2 r s)) = D m c (ix2 (ti t r) (tj t s)) := by
    refine congrArg (D m c) ((eq_ix2 _).trans ?_)
    exact congrArg₂ ix2 e0 e1
  rw [e, add_comm]
  refine congrArg₂ (· + ·) rfl ?_
  unfold rows
  rw [e0, e1]
  simp only [part_ix2]
  refine Fin.sum_mul_add_congr fun k d hl => ?_
  rw [ti_run, tj_run, tk_run]

/-! ## The claims -/

theorem frame_ref : Cert.quiescent_InRwDxRefIdeal (hInRwDxRefIdeal := Cert.InRwDxRefIdeal.Gen.facts) := fun m ρ _ =>
  (θ_run _ _ _).mono (fun r h => ⟨fun c => ((h c).2 : _), sem_eq_zero_of_no_sems (by decide) r.2⟩)
    (Cert.InRwDxRefIdeal.Value.run m ρ)

theorem algebraic : Cert.algebraic_InRwDxIdeal_InRwDxRefIdeal
    (hInRwDxIdeal := Cert.InRwDxIdeal.Gen.facts) (hInRwDxRefIdeal := Cert.InRwDxRefIdeal.Gen.facts) := by
  intro m g m' g' _ hag
  refine ⟨fun c => fun i => D m c i + rows (A m c) (B m c) i, ?_, ?_⟩
  · refine (θ_run _ _ _).mono (fun r h c => ?_) (Cert.InRwDxIdeal.Value.run_blocks m g)
    exact ⟨(h c).1.trans (final m c), (h c).2⟩
  · refine (θ_run _ _ _).mono (fun r h c => ?_) (Cert.InRwDxRefIdeal.Value.run m' g')
    refine ⟨(h c).1.trans ?_, (h c).2⟩
    obtain ⟨e0, e1, e2, e3⟩ := hag c
    rw [e1, e2, e3]
    exact ref_eq _ _ _

end Cert.InRwDxProof

end
-- ==== Proof.InRwDwValue.lean ====
/- The kernel InRwDw: a product in tiles, its result array as the whole product, and the reference's result. -/
module

public import proofs.«01_k».proof.Defs
public import proofs.«01_k».proof.Proof.Gen.InRwDwIdeal.Value
public import proofs.«01_k».proof.Proof.Gen.InRwDwRefIdeal.Run
public import proofs.«01_k».proof.Proof.Product
public import Idealize.ShloMosaic.Lib.Pipeline.ValueKit
public import Idealize.ShloMosaic.Lib.Claim

@[expose] public section

set_option maxRecDepth 16384

noncomputable section

namespace Cert.InRwDwProof

open Idealize.ShloMosaic Idealize.ShloMosaic.TcCoe Idealize.SL.Sem Cert.Product

/-! ## The reference's result -/

open Cert.InRwDwRefIdeal Cert.InRwDwRefIdeal.Gen in
theorem ref_eq (a0 : FVec Ideal Cert.InRwDwRefIdeal.S8192x1024 .bf16) (a2 : FVec Ideal Cert.InRwDwRefIdeal.S8192x1920 .bf16) :
    transpose S1024x1920 [1, 0] (Host.dotGeneral dot_S8192x1920_S8192x1024_S1920x1024_0_0_1_1_n_n none (extf .f32 a2 bitsLt_bf16_f32) (extf .f32 a0 bitsLt_bf16_f32)) transposes_S1920x1024_S1024x1920_1_0
      = cols a0 a2 := by
  funext i
  obtain ⟨r, s, rfl⟩ : ∃ r s, i = ix2 r s := ⟨i 0, i 1, eq_ix2 i⟩
  pointwise
  first
    | rfl
    | exact Finset.sum_congr rfl fun d _ => mul_comm _ _
    | exact congrArg (_ + ·) (Finset.sum_congr rfl fun d _ => mul_comm _ _)

open Cert.InRwDwIdeal Cert.InRwDwIdeal.Gen

/-! ## What the body computes of one tile -/

theorem pay (v3 : Vec Ideal S1024x384 .f32) (v4 : Vec Ideal S1024x1024 .bf16) (v5 : Vec Ideal S1024x384 .bf16) (r : Fin 1024) (s : Fin 384) :
    k0_pay2 (F := Ideal) v3 v4 v5 (ix2 r s) = v3 (ix2 r s) + ∑ d : Fin 1024, v4 (ix2 d r) * v5 (ix2 d s) := by
  pointwise [k0_pay2]

theorem pay_zero (r : Fin 1024) (s : Fin 384) : k0_pay1 (F := Ideal) (ix2 r s) = 0 := by pointwise [k0_pay1]

section Out
variable {F : FTy → Type} [FloatOps F]
variable (c : Dev nD) (i : grid0.Coords) (a3 : Memref sig .tc .vmem S1024x1024 .bf16) (h3 : a3.IsWhole) (a4 : Memref sig .tc .vmem S1024x384 .bf16) (h4 : a4.IsWhole) (a5 : Memref sig .tc .vmem S1024x384 .f32) (h5 : a5.IsWhole) (a6 : Memref sig .tc .vmem S1024x384 .f32) (h6 : a6.IsWhole)
  (x0 : Vec F S1024x1024 .bf16) (x1 : Vec F S1024x384 .bf16)

variable (y : Vec F S1024x384 .f32)

theorem held_A (hc : cond0_0 i) (hd : ¬cond0_1 i) : sout0_A_0 c i a3 h3 a4 h4 a5 h5 a6 h6 hc hd x0 x1
    = k0_pay2 k0_pay1 x0 x1 := by
  unfold sout0_A_0
  rw [View.read_writes_eq_canon _ _ _ (scover0_A_0 c i a3 h3 a4 h4 a5 h5 a6 h6 hc hd x0 x1)]
  unfold kernelRun0_A
  dsimp only
  sl_unfold_words
  rw [View.canon_cons_unit_zero (S := S1024x384) hz, View.readCov_unit_zero (S := S1024x384) _ hz]
  simp only [View.readAt_eq_ld, h3.read_unread, h4.read_unread, View.ld_unit_zero (S := S1024x1024) hz, View.ld_unit_zero (S := S1024x384) hz]

theorem held_B (hc : ¬cond0_0 i) (hd : ¬cond0_1 i) : sout0_B_0 c i a3 h3 a4 h4 a5 h5 a6 h6 hc hd x0 x1 y
    = k0_pay2 y x0 x1 := by
  unfold sout0_B_0
  rw [View.read_writes_eq_canon _ _ _ (scover0_B_0 c i a3 h3 a4 h4 a5 h5 a6 h6 hc hd x0 x1 y)]
  unfold kernelRun0_B
  dsimp only
  sl_unfold_words
  rw [View.canon_unit_zero (S := S1024x384) hz]
  simp only [View.readAt_eq_ld, h3.read_unread, h4.read_unread, h6.read_unread, View.ld_unit_zero (S := S1024x1024) hz, View.ld_unit_zero (S := S1024x384) hz]

theorem held_C (hc : ¬cond0_0 i) (hd : cond0_1 i) : sout0_C_0 c i a3 h3 a4 h4 a5 h5 a6 h6 hc hd x0 x1 y
    = k0_pay2 y x0 x1 := by
  unfold sout0_C_0
  rw [View.read_writes_eq_canon _ _ _ (scover0_C_0 c i a3 h3 a4 h4 a5 h5 a6 h6 hc hd x0 x1 y)]
  unfold kernelRun0_C
  dsimp only
  sl_unfold_words
  rw [View.canon_unit_zero (S := S1024x384) hz]
  simp only [View.readAt_eq_ld, h3.read_unread, h4.read_unread, h6.read_unread, View.ld_unit_zero (S := S1024x1024) hz, View.ld_unit_zero (S := S1024x384) hz]

theorem out_C (hc : ¬cond0_0 i) (hd : cond0_1 i) : out0_C_2 c i a3 h3 a4 h4 a5 h5 a6 h6 hc hd x0 x1 y
    = k0_pay2 y x0 x1 := by
  unfold out0_C_2
  rw [View.read_writes_eq_canon _ _ _ (cover0_C_2 c i a3 h3 a4 h4 a5 h5 a6 h6 hc hd x0 x1 y)]
  unfold kernelRun0_C
  dsimp only
  sl_unfold_words
  rw [View.canon_unit_zero (S := S1024x384) hz, View.readCov_unit_zero (S := S1024x384) _ hz]
  simp only [View.readAt_eq_ld, h3.read_unread, h4.read_unread, h6.read_unread, View.ld_unit_zero (S := S1024x1024) hz, View.ld_unit_zero (S := S1024x384) hz]

end Out

/-! ## The result array -/

variable (m : (ℓ : Loc nD τ sig) → Buf (Elt Ideal) ℓ) (ρ : Dev nD → PrngReg)

theorem idx : ∀ t : Fin cfg0.N, win0_0.index t = ![t.val % 8, t.val / 40] ∧ win0_1.index t = ![t.val % 8, t.val / 8 % 5]
    ∧ win0_2.index t = ![t.val / 40, t.val / 8 % 5] ∧ t.val < 40 :=
  (by decide +kernel : ∀ t : Fin grid0.N, _)

/-- The row, the column and the position on the shared axis of tile `t`'s entries. -/
def ti (t : Fin cfg0.N) (r : Fin 1024) : Fin 1024 := ⟨t.val / 40 * 1024 + r.val, by have := (idx t).2.2.2; omega⟩
def tj (t : Fin cfg0.N) (s : Fin 384) : Fin 1920 := ⟨t.val / 8 % 5 * 384 + s.val, by omega⟩
def tk (t : Fin cfg0.N) (d : Fin 1024) : Fin 8192 := ⟨t.val % 8 * 1024 + d.val, by omega⟩

abbrev A (c : Dev nD) : Arr 8192 1024 := m ((c : Thread nD τ).loc main_arg0)
abbrev B (c : Dev nD) : Arr 8192 1920 := m ((c : Thread nD τ).loc main_arg2)

theorem blk_a (c : Dev nD) (t : Fin cfg0.N) (r : Fin 1024) (d : Fin 1024) :
    (show Vec Ideal S1024x1024 .bf16 from iblk m c 0 t) (ix2 d r) = A m c (ix2 (tk t d) (ti t r)) := by
  unfold ti tk A
  blk_point [iblk, V, idx t]

theorem blk_b (c : Dev nD) (t : Fin cfg0.N) (s : Fin 384) (d : Fin 1024) :
    (show Vec Ideal S1024x384 .bf16 from iblk m c 1 t) (ix2 d s) = B m c (ix2 (tk t d) (tj t s)) := by
  unfold tj tk B
  blk_point [iblk, V, idx t]

/-- What tile `t` adds to its block. -/
def part (c : Dev nD) (t : Fin cfg0.N) (y : S1024x384.Idx) : EReal :=
  ∑ d, A m c (ix2 (tk t d) (ti t (at0 y))) * B m c (ix2 (tk t d) (tj t (at1 y)))

theorem part_ix2 (c : Dev nD) (t : Fin cfg0.N) (r : Fin 1024) (s : Fin 384) :
    part m c t (ix2 r s) = ∑ d, A m c (ix2 (tk t d) (ti t r)) * B m c (ix2 (tk t d) (tj t s)) := rfl

theorem pay_part (c : Dev nD) (t : Fin cfg0.N) (v : Vec Ideal S1024x384 .f32) (r : Fin 1024) (s : Fin 384) :
    k0_pay2 (F := Ideal) v (iblk m c 0 t) (iblk m c 1 t) (ix2 r s) = v (ix2 r s) + part m c t (ix2 r s) := by
  refine (pay _ _ _ r s).trans ?_
  refine congrArg (v (ix2 r s) + ·) (Finset.sum_congr rfl fun d _ => ?_)
  exact congrArg₂ (· * ·) (blk_a m c t r d) (blk_b m c t s d)

theorem reset (c : Dev nD) (t : Fin cfg0.N) (h : t.val % 8 = 0) (y : S1024x384.Idx) :
    (outsAt0 m c t.val t.isLt).2 y = 0 + part m c t y := by
  obtain ⟨r, s, rfl⟩ : ∃ r s, y = ix2 r s := ⟨y 0, y 1, eq_ix2 y⟩
  rw [outsAt0_A m c t h (by omega)]
  dsimp only
  rw [held_A]
  refine (pay_part m c t _ r s).trans ?_
  rw [pay_zero]

theorem step (c : Dev nD) (t : Fin cfg0.N) (h : ¬t.val % 8 = 0) (y : S1024x384.Idx) :
    (outsAt0 m c t.val t.isLt).2 y = (outsAt0 m c (t.val - 1) (Nat.lt_of_le_of_lt (Nat.sub_le _ _) t.isLt)).2 y + part m c t y := by
  obtain ⟨r, s, rfl⟩ : ∃ r s, y = ix2 r s := ⟨y 0, y 1, eq_ix2 y⟩
  by_cases h1 : t.val % 8 = 7
  · rw [outsAt0_C m c t h h1]
    dsimp only
    rw [held_C]
    exact pay_part m c t _ r s
  · rw [outsAt0_B m c t h h1]
    dsimp only
    rw [held_B]
    exact pay_part m c t _ r s

theorem leaves (c : Dev nD) (t : Fin cfg0.N) (h : t.val % 8 = 7) (r : Fin 1024) (s : Fin 384) :
    (outsAt0 m c t.val t.isLt).1 (ix2 r s) = (outsAt0 m c t.val t.isLt).2 (ix2 r s) := by
  rw [outsAt0_C m c t (by omega) h]
  dsimp only
  rw [out_C, held_C]

theorem ti_run (t : Fin cfg0.N) (s : Fin 8) (h) (r : Fin 1024) : ti ⟨8 * (t.val / 8) + s.val, h⟩ r = ti t r := by
  unfold ti; apply Fin.ext; dsimp only; omega

theorem tj_run (t : Fin cfg0.N) (s : Fin 8) (h) (r : Fin 384) : tj ⟨8 * (t.val / 8) + s.val, h⟩ r = tj t r := by
  unfold tj; apply Fin.ext; dsimp only; omega

theorem tk_run (t : Fin cfg0.N) (s : Fin 8) (h) (d : Fin 1024) :
    tk ⟨8 * (t.val / 8) + s.val, h⟩ d = ⟨s.val * 1024 + d.val, by omega⟩ := by
  unfold tk; apply Fin.ext; dsimp only; omega

theorem final (c : Dev nD) : (dats m 0 c).arrAt 2 cfg0.N = cols (A m c) (B m c) := by
  refine (dats m 0 c).arrAt_eq_of_covers 2 _ (by decide +kernel) fun t hf y => ?_
  blk_simp
  rw [after0_2]
  obtain ⟨r, s, rfl⟩ : ∃ (r : Fin 1024) (s : Fin 384), y = ix2 r s := ⟨y 0, y 1, eq_ix2 y⟩
  have e0 : at0 ((win0_2.blk t).view.emb (ix2 r s)) = ti t r := by
    unfold at0 ti; apply Fin.ext; dsimp only; blk_simp [idx t]
  have e1 : at1 ((win0_2.blk t).view.emb (ix2 r s)) = tj t s := by
    unfold at1 tj; apply Fin.ext; dsimp only; blk_simp [idx t]
  have hl : t.val % 8 = 7 := (flush0_2 t).mp hf
  rw [leaves m c t hl,
    Pipeline.eq_sum_fin_of_reset_step_apply_of_flush (fun n h => (outsAt0 m c n h).2) 8 (fun _ => 0) (part m c)
      (reset m c) (step m c) t hl _, zero_add]
  unfold cols
  rw [e0, e1]
  simp only [part_ix2]
  refine Fin.sum_mul_add_congr fun k d hl => ?_
  rw [ti_run, tj_run, tk_run]

/-! ## The claims -/

theorem frame_ref : Cert.quiescent_InRwDwRefIdeal (hInRwDwRefIdeal := Cert.InRwDwRefIdeal.Gen.facts) := fun m ρ _ =>
  (θ_run _ _ _).mono (fun r h => ⟨fun c => ((h c).2 : _), sem_eq_zero_of_no_sems (by decide) r.2⟩)
    (Cert.InRwDwRefIdeal.Value.run m ρ)

theorem algebraic : Cert.algebraic_InRwDwIdeal_InRwDwRefIdeal
    (hInRwDwIdeal := Cert.InRwDwIdeal.Gen.facts) (hInRwDwRefIdeal := Cert.InRwDwRefIdeal.Gen.facts) := by
  intro m g m' g' _ hag
  refine ⟨fun c => cols (A m c) (B m c), ?_, ?_⟩
  · refine (θ_run _ _ _).mono (fun r h c => ?_) (Cert.InRwDwIdeal.Value.run_blocks m g)
    exact ⟨(h c).1.trans (final m c), (h c).2⟩
  · refine (θ_run _ _ _).mono (fun r h c => ?_) (Cert.InRwDwRefIdeal.Value.run m' g')
    refine ⟨(h c).1.trans ?_, (h c).2⟩
    obtain ⟨e0, e1, e2⟩ := hag c
    rw [e0, e2]
    exact ref_eq _ _

end Cert.InRwDwProof

end
-- ==== Proof.InGateDxValue.lean ====
/- The kernel InGateDx: a product in tiles, its result array as the whole product, and the reference's result. -/
module

public import proofs.«01_k».proof.Defs
public import proofs.«01_k».proof.Proof.Gen.InGateDxIdeal.Value
public import proofs.«01_k».proof.Proof.Gen.InGateDxRefIdeal.Run
public import proofs.«01_k».proof.Proof.Product
public import Idealize.ShloMosaic.Lib.Pipeline.ValueKit
public import Idealize.ShloMosaic.Lib.Claim

@[expose] public section

set_option maxRecDepth 16384

noncomputable section

namespace Cert.InGateDxProof

open Idealize.ShloMosaic Idealize.ShloMosaic.TcCoe Idealize.SL.Sem Cert.Product

/-! ## The reference's result -/

open Cert.InGateDxRefIdeal Cert.InGateDxRefIdeal.Gen in
theorem ref_eq (a1 : FVec Ideal Cert.InGateDxRefIdeal.S1024x3072 .bf16) (a2 : FVec Ideal Cert.InGateDxRefIdeal.S8192x3072 .bf16) (a3 : FVec Ideal Cert.InGateDxRefIdeal.S8192x1024 .f32) :
    addf a3 (Host.dotGeneral dot_S8192x3072_S1024x3072_S8192x1024_1_1_0_0_n_n none (extf .f32 a2 bitsLt_bf16_f32) (extf .f32 a1 bitsLt_bf16_f32))
      = fun i => a3 i + rows a2 a1 i := by
  funext i
  obtain ⟨r, s, rfl⟩ : ∃ r s, i = ix2 r s := ⟨i 0, i 1, eq_ix2 i⟩
  pointwise
  first
    | rfl
    | exact Finset.sum_congr rfl fun d _ => mul_comm _ _
    | exact congrArg (_ + ·) (Finset.sum_congr rfl fun d _ => mul_comm _ _)

open Cert.InGateDxIdeal Cert.InGateDxIdeal.Gen

/-! ## What the body computes of one tile -/

theorem pay (v3 : Vec Ideal S1024x1024 .f32) (v4 : Vec Ideal S1024x1024 .bf16) (v5 : Vec Ideal S1024x1024 .bf16) (r : Fin 1024) (s : Fin 1024) :
    k0_pay2 (F := Ideal) v3 v4 v5 (ix2 r s) = v3 (ix2 r s) + ∑ d : Fin 1024, v4 (ix2 r d) * v5 (ix2 s d) := by
  pointwise [k0_pay2]

theorem pay_zero (r : Fin 1024) (s : Fin 1024) : k0_pay1 (F := Ideal) (ix2 r s) = 0 := by pointwise [k0_pay1]

theorem pay_add (v u : Vec Ideal S1024x1024 .f32) (r : Fin 1024) (s : Fin 1024) :
    k0_pay3 (F := Ideal) v u (ix2 r s) = v (ix2 r s) + u (ix2 r s) := by pointwise [k0_pay3]

section Out
variable {F : FTy → Type} [FloatOps F]
variable (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole) (a7 : Memref sig .tc .vmem S1024x1024 .f32) (h7 : a7.IsWhole)
  (x0 : Vec F S1024x1024 .bf16) (x1 : Vec F S1024x1024 .bf16) (x2 : Vec F S1024x1024 .f32)

variable (y : Vec F S1024x1024 .f32)

theorem held_A (hc : cond0_0 i) (hd : ¬cond0_1 i) : sout0_A_0 c i a3 h3 a4 h4 a5 h5 a6 h6 a7 h7 hc hd x0 x1 x2
    = k0_pay2 k0_pay1 x0 x1 := by
  unfold sout0_A_0
  rw [View.read_writes_eq_canon _ _ _ (scover0_A_0 c i a3 h3 a4 h4 a5 h5 a6 h6 a7 h7 hc hd x0 x1 x2)]
  unfold kernelRun0_A
  dsimp only
  sl_unfold_words
  rw [View.canon_cons_unit_zero (S := S1024x1024) hz, View.readCov_unit_zero (S := S1024x1024) _ hz]
  simp only [View.readAt_eq_ld, h3.read_unread, h4.read_unread, h5.read_unread, View.ld_unit_zero (S := S1024x1024) hz]

theorem held_B (hc : ¬cond0_0 i) (hd : ¬cond0_1 i) : sout0_B_0 c i a3 h3 a4 h4 a5 h5 a6 h6 a7 h7 hc hd x0 x1 x2 y
    = k0_pay2 y x0 x1 := by
  unfold sout0_B_0
  rw [View.read_writes_eq_canon _ _ _ (scover0_B_0 c i a3 h3 a4 h4 a5 h5 a6 h6 a7 h7 hc hd x0 x1 x2 y)]
  unfold kernelRun0_B
  dsimp only
  sl_unfold_words
  rw [View.canon_unit_zero (S := S1024x1024) hz]
  simp only [View.readAt_eq_ld, h3.read_unread, h4.read_unread, h5.read_unread, h7.read_unread, View.ld_unit_zero (S := S1024x1024) hz]

theorem held_C (hc : ¬cond0_0 i) (hd : cond0_1 i) : sout0_C_0 c i a3 h3 a4 h4 a5 h5 a6 h6 a7 h7 hc hd x0 x1 x2 y
    = k0_pay2 y x0 x1 := by
  unfold sout0_C_0
  rw [View.read_writes_eq_canon _ _ _ (scover0_C_0 c i a3 h3 a4 h4 a5 h5 a6 h6 a7 h7 hc hd x0 x1 x2 y)]
  unfold kernelRun0_C
  dsimp only
  sl_unfold_words
  rw [View.canon_unit_zero (S := S1024x1024) hz]
  simp only [View.readAt_eq_ld, h3.read_unread, h4.read_unread, h5.read_unread, h7.read_unread, View.ld_unit_zero (S := S1024x1024) hz]

theorem out_C (hc : ¬cond0_0 i) (hd : cond0_1 i) : out0_C_3 c i a3 h3 a4 h4 a5 h5 a6 h6 a7 h7 hc hd x0 x1 x2 y
    = k0_pay3 (k0_pay2 y x0 x1) x2 := by
  unfold out0_C_3
  rw [View.read_writes_eq_canon _ _ _ (cover0_C_3 c i a3 h3 a4 h4 a5 h5 a6 h6 a7 h7 hc hd x0 x1 x2 y)]
  unfold kernelRun0_C
  dsimp only
  sl_unfold_words
  rw [View.canon_unit_zero (S := S1024x1024) hz, View.readCov_unit_zero (S := S1024x1024) _ hz]
  simp only [View.readAt_eq_ld, h3.read_unread, h4.read_unread, h5.read_unread, h7.read_unread, View.ld_unit_zero (S := S1024x1024) hz]

end Out

/-! ## The result array -/

variable (m : (ℓ : Loc nD τ sig) → Buf (Elt Ideal) ℓ) (ρ : Dev nD → PrngReg)

theorem idx : ∀ t : Fin cfg0.N, win0_0.index t = ![t.val / 3, t.val % 3] ∧ win0_1.index t = ![t.val / 3 % 1, t.val % 3]
    ∧ win0_2.index t = ![t.val / 3, t.val / 3 % 1] ∧ win0_3.index t = ![t.val / 3, t.val / 3 % 1] ∧ t.val < 24 :=
  (by decide +kernel : ∀ t : Fin grid0.N, _)

/-- The row, the column and the position on the shared axis of tile `t`'s entries. -/
def ti (t : Fin cfg0.N) (r : Fin 1024) : Fin 8192 := ⟨t.val / 3 * 1024 + r.val, by have := (idx t).2.2.2.2; omega⟩
def tj (t : Fin cfg0.N) (s : Fin 1024) : Fin 1024 := ⟨t.val / 3 % 1 * 1024 + s.val, by omega⟩
def tk (t : Fin cfg0.N) (d : Fin 1024) : Fin 3072 := ⟨t.val % 3 * 1024 + d.val, by omega⟩

abbrev A (c : Dev nD) : Arr 8192 3072 := m ((c : Thread nD τ).loc main_arg2)
abbrev B (c : Dev nD) : Arr 1024 3072 := m ((c : Thread nD τ).loc main_arg1)
abbrev D (c : Dev nD) : Arr 8192 1024 := m ((c : Thread nD τ).loc main_arg3)

theorem blk_a (c : Dev nD) (t : Fin cfg0.N) (r : Fin 1024) (d : Fin 1024) :
    (show Vec Ideal S1024x1024 .bf16 from iblk m c 0 t) (ix2 r d) = A m c (ix2 (ti t r) (tk t d)) := by
  unfold ti tk A
  blk_point [iblk, V, idx t]

theorem blk_b (c : Dev nD) (t : Fin cfg0.N) (s : Fin 1024) (d : Fin 1024) :
    (show Vec Ideal S1024x1024 .bf16 from iblk m c 1 t) (ix2 s d) = B m c (ix2 (tj t s) (tk t d)) := by
  unfold tj tk B
  blk_point [iblk, V, idx t]

theorem blk_d (c : Dev nD) (t : Fin cfg0.N) (r : Fin 1024) (s : Fin 1024) :
    (show Vec Ideal S1024x1024 .f32 from iblk m c 2 t) (ix2 r s) = D m c (ix2 (ti t r) (tj t s)) := by
  unfold ti tj D
  blk_point [iblk, V, idx t]

/-- What tile `t` adds to its block. -/
def part (c : Dev nD) (t : Fin cfg0.N) (y : S1024x1024.Idx) : EReal :=
  ∑ d, A m c (ix2 (ti t (at0 y)) (tk t d)) * B m c (ix2 (tj t (at1 y)) (tk t d))

theorem part_ix2 (c : Dev nD) (t : Fin cfg0.N) (r : Fin 1024) (s : Fin 1024) :
    part m c t (ix2 r s) = ∑ d, A m c (ix2 (ti t r) (tk t d)) * B m c (ix2 (tj t s) (tk t d)) := rfl

theorem pay_part (c : Dev nD) (t : Fin cfg0.N) (v : Vec Ideal S1024x1024 .f32) (r : Fin 1024) (s : Fin 1024) :
    k0_pay2 (F := Ideal) v (iblk m c 0 t) (iblk m c 1 t) (ix2 r s) = v (ix2 r s) + part m c t (ix2 r s) := by
  refine (pay _ _ _ r s).trans ?_
  refine congrArg (v (ix2 r s) + ·) (Finset.sum_congr rfl fun d _ => ?_)
  exact congrArg₂ (· * ·) (blk_a m c t r d) (blk_b m c t s d)

theorem reset (c : Dev nD) (t : Fin cfg0.N) (h : t.val % 3 = 0) (y : S1024x1024.Idx) :
    (outsAt0 m c t.val t.isLt).2 y = 0 + part m c t y := by
  obtain ⟨r, s, rfl⟩ : ∃ r s, y = ix2 r s := ⟨y 0, y 1, eq_ix2 y⟩
  rw [outsAt0_A m c t h (by omega)]
  dsimp only
  rw [held_A]
  refine (pay_part m c t _ r s).trans ?_
  rw [pay_zero]

theorem step (c : Dev nD) (t : Fin cfg0.N) (h : ¬t.val % 3 = 0) (y : S1024x1024.Idx) :
    (outsAt0 m c t.val t.isLt).2 y = (outsAt0 m c (t.val - 1) (Nat.lt_of_le_of_lt (Nat.sub_le _ _) t.isLt)).2 y + part m c t y := by
  obtain ⟨r, s, rfl⟩ : ∃ r s, y = ix2 r s := ⟨y 0, y 1, eq_ix2 y⟩
  by_cases h1 : t.val % 3 = 2
  · rw [outsAt0_C m c t h h1]
    dsimp only
    rw [held_C]
    exact pay_part m c t _ r s
  · rw [outsAt0_B m c t h h1]
    dsimp only
    rw [held_B]
    exact pay_part m c t _ r s

theorem leaves (c : Dev nD) (t : Fin cfg0.N) (h : t.val % 3 = 2) (r : Fin 1024) (s : Fin 1024) :
    (outsAt0 m c t.val t.isLt).1 (ix2 r s) = (outsAt0 m c t.val t.isLt).2 (ix2 r s) + D m c (ix2 (ti t r) (tj t s)) := by
  rw [outsAt0_C m c t (by omega) h]
  dsimp only
  rw [out_C, held_C]
  refine (pay_add _ _ r s).trans ?_
  exact congrArg (_ + ·) (blk_d m c t r s)

theorem ti_run (t : Fin cfg0.N) (s : Fin 3) (h) (r : Fin 1024) : ti ⟨3 * (t.val / 3) + s.val, h⟩ r = ti t r := by
  unfold ti; apply Fin.ext; dsimp only; omega

theorem tj_run (t : Fin cfg0.N) (s : Fin 3) (h) (r : Fin 1024) : tj ⟨3 * (t.val / 3) + s.val, h⟩ r = tj t r := by
  unfold tj; apply Fin.ext; dsimp only; omega

theorem tk_run (t : Fin cfg0.N) (s : Fin 3) (h) (d : Fin 1024) :
    tk ⟨3 * (t.val / 3) + s.val, h⟩ d = ⟨s.val * 1024 + d.val, by omega⟩ := by
  unfold tk; apply Fin.ext; dsimp only; omega

theorem final (c : Dev nD) : (dats m 0 c).arrAt 3 cfg0.N = fun i => D m c i + rows (A m c) (B m c) i := by
  refine (dats m 0 c).arrAt_eq_of_covers 3 _ (by decide +kernel) fun t hf y => ?_
  blk_simp
  rw [after0_3]
  obtain ⟨r, s, rfl⟩ : ∃ (r : Fin 1024) (s : Fin 1024), y = ix2 r s := ⟨y 0, y 1, eq_ix2 y⟩
  have e0 : at0 ((win0_3.blk t).view.emb (ix2 r s)) = ti t r := by
    unfold at0 ti; apply Fin.ext; dsimp only; blk_simp [idx t]
  have e1 : at1 ((win0_3.blk t).view.emb (ix2 r s)) = tj t s := by
    unfold at1 tj; apply Fin.ext; dsimp only; blk_simp [idx t]
  have hl : t.val % 3 = 2 := (flush0_3 t).mp hf
  rw [leaves m c t hl,
    Pipeline.eq_sum_fin_of_reset_step_apply_of_flush (fun n h => (outsAt0 m c n h).2) 3 (fun _ => 0) (part m c)
      (reset m c) (step m c) t hl _, zero_add]
  have e : D m c ((win0_3.blk t).view.emb (ix2 r s)) = D m c (ix2 (ti t r) (tj t s)) := by
    refine congrArg (D m c) ((eq_ix2 _).trans ?_)
    exact congrArg₂ ix2 e0 e1
  rw [e, add_comm]
  refine congrArg₂ (· + ·) rfl ?_
  unfold rows
  rw [e0, e1]
  simp only [part_ix2]
  refine Fin.sum_mul_add_congr fun k d hl => ?_
  rw [ti_run, tj_run, tk_run]

/-! ## The claims -/

theorem frame_ref : Cert.quiescent_InGateDxRefIdeal (hInGateDxRefIdeal := Cert.InGateDxRefIdeal.Gen.facts) := fun m ρ _ =>
  (θ_run _ _ _).mono (fun r h => ⟨fun c => ((h c).2 : _), sem_eq_zero_of_no_sems (by decide) r.2⟩)
    (Cert.InGateDxRefIdeal.Value.run m ρ)

theorem algebraic : Cert.algebraic_InGateDxIdeal_InGateDxRefIdeal
    (hInGateDxIdeal := Cert.InGateDxIdeal.Gen.facts) (hInGateDxRefIdeal := Cert.InGateDxRefIdeal.Gen.facts) := by
  intro m g m' g' _ hag
  refine ⟨fun c => fun i => D m c i + rows (A m c) (B m c) i, ?_, ?_⟩
  · refine (θ_run _ _ _).mono (fun r h c => ?_) (Cert.InGateDxIdeal.Value.run_blocks m g)
    exact ⟨(h c).1.trans (final m c), (h c).2⟩
  · refine (θ_run _ _ _).mono (fun r h c => ?_) (Cert.InGateDxRefIdeal.Value.run m' g')
    refine ⟨(h c).1.trans ?_, (h c).2⟩
    obtain ⟨e0, e1, e2, e3⟩ := hag c
    rw [e1, e2, e3]
    exact ref_eq _ _ _

end Cert.InGateDxProof

end
-- ==== Proof.InGateDwValue.lean ====
/- The kernel InGateDw: a product in tiles, its result array as the whole product, and the reference's result. -/
module

public import proofs.«01_k».proof.Defs
public import proofs.«01_k».proof.Proof.Gen.InGateDwIdeal.Value
public import proofs.«01_k».proof.Proof.Gen.InGateDwRefIdeal.Run
public import proofs.«01_k».proof.Proof.Product
public import Idealize.ShloMosaic.Lib.Pipeline.ValueKit
public import Idealize.ShloMosaic.Lib.Claim

@[expose] public section

set_option maxRecDepth 16384

noncomputable section

namespace Cert.InGateDwProof

open Idealize.ShloMosaic Idealize.ShloMosaic.TcCoe Idealize.SL.Sem Cert.Product

/-! ## The reference's result -/

open Cert.InGateDwRefIdeal Cert.InGateDwRefIdeal.Gen in
theorem ref_eq (a0 : FVec Ideal Cert.InGateDwRefIdeal.S8192x1024 .bf16) (a2 : FVec Ideal Cert.InGateDwRefIdeal.S8192x3072 .bf16) :
    transpose S1024x3072 [1, 0] (Host.dotGeneral dot_S8192x3072_S8192x1024_S3072x1024_0_0_1_1_n_n none (extf .f32 a2 bitsLt_bf16_f32) (extf .f32 a0 bitsLt_bf16_f32)) transposes_S3072x1024_S1024x3072_1_0
      = cols a0 a2 := by
  funext i
  obtain ⟨r, s, rfl⟩ : ∃ r s, i = ix2 r s := ⟨i 0, i 1, eq_ix2 i⟩
  pointwise
  first
    | rfl
    | exact Finset.sum_congr rfl fun d _ => mul_comm _ _
    | exact congrArg (_ + ·) (Finset.sum_congr rfl fun d _ => mul_comm _ _)

open Cert.InGateDwIdeal Cert.InGateDwIdeal.Gen

/-! ## What the body computes of one tile -/

theorem pay (v3 : Vec Ideal S1024x1024 .f32) (v4 : Vec Ideal S1024x1024 .bf16) (v5 : Vec Ideal S1024x1024 .bf16) (r : Fin 1024) (s : Fin 1024) :
    k0_pay2 (F := Ideal) v3 v4 v5 (ix2 r s) = v3 (ix2 r s) + ∑ d : Fin 1024, v4 (ix2 d r) * v5 (ix2 d s) := by
  pointwise [k0_pay2]

theorem pay_zero (r : Fin 1024) (s : Fin 1024) : k0_pay1 (F := Ideal) (ix2 r s) = 0 := by pointwise [k0_pay1]

section Out
variable {F : FTy → Type} [FloatOps F]
variable (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole)
  (x0 : Vec F S1024x1024 .bf16) (x1 : Vec F S1024x1024 .bf16)

variable (y : Vec F S1024x1024 .f32)

theorem held_A (hc : cond0_0 i) (hd : ¬cond0_1 i) : sout0_A_0 c i a3 h3 a4 h4 a5 h5 a6 h6 hc hd x0 x1
    = k0_pay2 k0_pay1 x0 x1 := by
  unfold sout0_A_0
  rw [View.read_writes_eq_canon _ _ _ (scover0_A_0 c i a3 h3 a4 h4 a5 h5 a6 h6 hc hd x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

theorem held_B (hc : ¬cond0_0 i) (hd : ¬cond0_1 i) : sout0_B_0 c i a3 h3 a4 h4 a5 h5 a6 h6 hc hd x0 x1 y
    = k0_pay2 y x0 x1 := by
  unfold sout0_B_0
  rw [View.read_writes_eq_canon _ _ _ (scover0_B_0 c i a3 h3 a4 h4 a5 h5 a6 h6 hc hd x0 x1 y)]
  unfold kernelRun0_B
  dsimp only
  sl_unfold_words
  rw [View.canon_unit_zero (S := S1024x1024) hz]
  simp only [View.readAt_eq_ld, h3.read_unread, h4.read_unread, h6.read_unread, View.ld_unit_zero (S := S1024x1024) hz]

theorem held_C (hc : ¬cond0_0 i) (hd : cond0_1 i) : sout0_C_0 c i a3 h3 a4 h4 a5 h5 a6 h6 hc hd x0 x1 y
    = k0_pay2 y x0 x1 := by
  unfold sout0_C_0
  rw [View.read_writes_eq_canon _ _ _ (scover0_C_0 c i a3 h3 a4 h4 a5 h5 a6 h6 hc hd x0 x1 y)]
  unfold kernelRun0_C
  dsimp only
  sl_unfold_words
  rw [View.canon_unit_zero (S := S1024x1024) hz]
  simp only [View.readAt_eq_ld, h3.read_unread, h4.read_unread, h6.read_unread, View.ld_unit_zero (S := S1024x1024) hz]

theorem out_C (hc : ¬cond0_0 i) (hd : cond0_1 i) : out0_C_2 c i a3 h3 a4 h4 a5 h5 a6 h6 hc hd x0 x1 y
    = k0_pay2 y x0 x1 := by
  unfold out0_C_2
  rw [View.read_writes_eq_canon _ _ _ (cover0_C_2 c i a3 h3 a4 h4 a5 h5 a6 h6 hc hd x0 x1 y)]
  unfold kernelRun0_C
  dsimp only
  sl_unfold_words
  rw [View.canon_unit_zero (S := S1024x1024) hz, View.readCov_unit_zero (S := S1024x1024) _ hz]
  simp only [View.readAt_eq_ld, h3.read_unread, h4.read_unread, h6.read_unread, View.ld_unit_zero (S := S1024x1024) hz]

end Out

/-! ## The result array -/

variable (m : (ℓ : Loc nD τ sig) → Buf (Elt Ideal) ℓ) (ρ : Dev nD → PrngReg)

theorem idx : ∀ t : Fin cfg0.N, win0_0.index t = ![t.val % 8, t.val / 24] ∧ win0_1.index t = ![t.val % 8, t.val / 8 % 3]
    ∧ win0_2.index t = ![t.val / 24, t.val / 8 % 3] ∧ t.val < 24 :=
  (by decide +kernel : ∀ t : Fin grid0.N, _)

/-- The row, the column and the position on the shared axis of tile `t`'s entries. -/
def ti (t : Fin cfg0.N) (r : Fin 1024) : Fin 1024 := ⟨t.val / 24 * 1024 + r.val, by have := (idx t).2.2.2; omega⟩
def tj (t : Fin cfg0.N) (s : Fin 1024) : Fin 3072 := ⟨t.val / 8 % 3 * 1024 + s.val, by omega⟩
def tk (t : Fin cfg0.N) (d : Fin 1024) : Fin 8192 := ⟨t.val % 8 * 1024 + d.val, by omega⟩

abbrev A (c : Dev nD) : Arr 8192 1024 := m ((c : Thread nD τ).loc main_arg0)
abbrev B (c : Dev nD) : Arr 8192 3072 := m ((c : Thread nD τ).loc main_arg2)

theorem blk_a (c : Dev nD) (t : Fin cfg0.N) (r : Fin 1024) (d : Fin 1024) :
    (show Vec Ideal S1024x1024 .bf16 from iblk m c 0 t) (ix2 d r) = A m c (ix2 (tk t d) (ti t r)) := by
  unfold ti tk A
  blk_point [iblk, V, idx t]

theorem blk_b (c : Dev nD) (t : Fin cfg0.N) (s : Fin 1024) (d : Fin 1024) :
    (show Vec Ideal S1024x1024 .bf16 from iblk m c 1 t) (ix2 d s) = B m c (ix2 (tk t d) (tj t s)) := by
  unfold tj tk B
  blk_point [iblk, V, idx t]

/-- What tile `t` adds to its block. -/
def part (c : Dev nD) (t : Fin cfg0.N) (y : S1024x1024.Idx) : EReal :=
  ∑ d, A m c (ix2 (tk t d) (ti t (at0 y))) * B m c (ix2 (tk t d) (tj t (at1 y)))

theorem part_ix2 (c : Dev nD) (t : Fin cfg0.N) (r : Fin 1024) (s : Fin 1024) :
    part m c t (ix2 r s) = ∑ d, A m c (ix2 (tk t d) (ti t r)) * B m c (ix2 (tk t d) (tj t s)) := rfl

theorem pay_part (c : Dev nD) (t : Fin cfg0.N) (v : Vec Ideal S1024x1024 .f32) (r : Fin 1024) (s : Fin 1024) :
    k0_pay2 (F := Ideal) v (iblk m c 0 t) (iblk m c 1 t) (ix2 r s) = v (ix2 r s) + part m c t (ix2 r s) := by
  refine (pay _ _ _ r s).trans ?_
  refine congrArg (v (ix2 r s) + ·) (Finset.sum_congr rfl fun d _ => ?_)
  exact congrArg₂ (· * ·) (blk_a m c t r d) (blk_b m c t s d)

theorem reset (c : Dev nD) (t : Fin cfg0.N) (h : t.val % 8 = 0) (y : S1024x1024.Idx) :
    (outsAt0 m c t.val t.isLt).2 y = 0 + part m c t y := by
  obtain ⟨r, s, rfl⟩ : ∃ r s, y = ix2 r s := ⟨y 0, y 1, eq_ix2 y⟩
  rw [outsAt0_A m c t h (by omega)]
  dsimp only
  rw [held_A]
  refine (pay_part m c t _ r s).trans ?_
  rw [pay_zero]

theorem step (c : Dev nD) (t : Fin cfg0.N) (h : ¬t.val % 8 = 0) (y : S1024x1024.Idx) :
    (outsAt0 m c t.val t.isLt).2 y = (outsAt0 m c (t.val - 1) (Nat.lt_of_le_of_lt (Nat.sub_le _ _) t.isLt)).2 y + part m c t y := by
  obtain ⟨r, s, rfl⟩ : ∃ r s, y = ix2 r s := ⟨y 0, y 1, eq_ix2 y⟩
  by_cases h1 : t.val % 8 = 7
  · rw [outsAt0_C m c t h h1]
    dsimp only
    rw [held_C]
    exact pay_part m c t _ r s
  · rw [outsAt0_B m c t h h1]
    dsimp only
    rw [held_B]
    exact pay_part m c t _ r s

theorem leaves (c : Dev nD) (t : Fin cfg0.N) (h : t.val % 8 = 7) (r : Fin 1024) (s : Fin 1024) :
    (outsAt0 m c t.val t.isLt).1 (ix2 r s) = (outsAt0 m c t.val t.isLt).2 (ix2 r s) := by
  rw [outsAt0_C m c t (by omega) h]
  dsimp only
  rw [out_C, held_C]

theorem ti_run (t : Fin cfg0.N) (s : Fin 8) (h) (r : Fin 1024) : ti ⟨8 * (t.val / 8) + s.val, h⟩ r = ti t r := by
  unfold ti; apply Fin.ext; dsimp only; omega

theorem tj_run (t : Fin cfg0.N) (s : Fin 8) (h) (r : Fin 1024) : tj ⟨8 * (t.val / 8) + s.val, h⟩ r = tj t r := by
  unfold tj; apply Fin.ext; dsimp only; omega

theorem tk_run (t : Fin cfg0.N) (s : Fin 8) (h) (d : Fin 1024) :
    tk ⟨8 * (t.val / 8) + s.val, h⟩ d = ⟨s.val * 1024 + d.val, by omega⟩ := by
  unfold tk; apply Fin.ext; dsimp only; omega

theorem final (c : Dev nD) : (dats m 0 c).arrAt 2 cfg0.N = cols (A m c) (B m c) := by
  refine (dats m 0 c).arrAt_eq_of_covers 2 _ (by decide +kernel) fun t hf y => ?_
  blk_simp
  rw [after0_2]
  obtain ⟨r, s, rfl⟩ : ∃ (r : Fin 1024) (s : Fin 1024), y = ix2 r s := ⟨y 0, y 1, eq_ix2 y⟩
  have e0 : at0 ((win0_2.blk t).view.emb (ix2 r s)) = ti t r := by
    unfold at0 ti; apply Fin.ext; dsimp only; blk_simp [idx t]
  have e1 : at1 ((win0_2.blk t).view.emb (ix2 r s)) = tj t s := by
    unfold at1 tj; apply Fin.ext; dsimp only; blk_simp [idx t]
  have hl : t.val % 8 = 7 := (flush0_2 t).mp hf
  rw [leaves m c t hl,
    Pipeline.eq_sum_fin_of_reset_step_apply_of_flush (fun n h => (outsAt0 m c n h).2) 8 (fun _ => 0) (part m c)
      (reset m c) (step m c) t hl _, zero_add]
  unfold cols
  rw [e0, e1]
  simp only [part_ix2]
  refine Fin.sum_mul_add_congr fun k d hl => ?_
  rw [ti_run, tj_run, tk_run]

/-! ## The claims -/

theorem frame_ref : Cert.quiescent_InGateDwRefIdeal (hInGateDwRefIdeal := Cert.InGateDwRefIdeal.Gen.facts) := fun m ρ _ =>
  (θ_run _ _ _).mono (fun r h => ⟨fun c => ((h c).2 : _), sem_eq_zero_of_no_sems (by decide) r.2⟩)
    (Cert.InGateDwRefIdeal.Value.run m ρ)

theorem algebraic : Cert.algebraic_InGateDwIdeal_InGateDwRefIdeal
    (hInGateDwIdeal := Cert.InGateDwIdeal.Gen.facts) (hInGateDwRefIdeal := Cert.InGateDwRefIdeal.Gen.facts) := by
  intro m g m' g' _ hag
  refine ⟨fun c => cols (A m c) (B m c), ?_, ?_⟩
  · refine (θ_run _ _ _).mono (fun r h c => ?_) (Cert.InGateDwIdeal.Value.run_blocks m g)
    exact ⟨(h c).1.trans (final m c), (h c).2⟩
  · refine (θ_run _ _ _).mono (fun r h c => ?_) (Cert.InGateDwRefIdeal.Value.run m' g')
    refine ⟨(h c).1.trans ?_, (h c).2⟩
    obtain ⟨e0, e1, e2⟩ := hag c
    rw [e0, e2]
    exact ref_eq _ _

end Cert.InGateDwProof

end
-- ==== Proof.InKrDxValue.lean ====
/- The kernel InKrDx: a product in tiles, its result array as the whole product, and the reference's result. -/
module

public import proofs.«01_k».proof.Defs
public import proofs.«01_k».proof.Proof.Gen.InKrDxIdeal.Value
public import proofs.«01_k».proof.Proof.Gen.InKrDxRefIdeal.Run
public import proofs.«01_k».proof.Proof.Product
public import Idealize.ShloMosaic.Lib.Pipeline.ValueKit
public import Idealize.ShloMosaic.Lib.Claim

@[expose] public section

set_option maxRecDepth 16384

noncomputable section

namespace Cert.InKrDxProof

open Idealize.ShloMosaic Idealize.ShloMosaic.TcCoe Idealize.SL.Sem Cert.Product

/-! ## The reference's result -/

open Cert.InKrDxRefIdeal Cert.InKrDxRefIdeal.Gen in
theorem ref_eq (a1 : FVec Ideal Cert.InKrDxRefIdeal.S1024x256 .bf16) (a2 : FVec Ideal Cert.InKrDxRefIdeal.S8192x256 .bf16) (a3 : FVec Ideal Cert.InKrDxRefIdeal.S8192x1024 .f32) :
    addf a3 (Host.dotGeneral dot_S8192x256_S1024x256_S8192x1024_1_1_0_0_n_n none (extf .f32 a2 bitsLt_bf16_f32) (extf .f32 a1 bitsLt_bf16_f32))
      = fun i => a3 i + rows a2 a1 i := by
  funext i
  obtain ⟨r, s, rfl⟩ : ∃ r s, i = ix2 r s := ⟨i 0, i 1, eq_ix2 i⟩
  pointwise
  first
    | rfl
    | exact Finset.sum_congr rfl fun d _ => mul_comm _ _
    | exact congrArg (_ + ·) (Finset.sum_congr rfl fun d _ => mul_comm _ _)

open Cert.InKrDxIdeal Cert.InKrDxIdeal.Gen

/-! ## What the body computes of one tile -/

theorem pay (v3 : Vec Ideal S1024x1024 .f32) (v4 : Vec Ideal S1024x256 .bf16) (v5 : Vec Ideal S1024x256 .bf16) (r : Fin 1024) (s : Fin 1024) :
    k0_pay2 (F := Ideal) v3 v4 v5 (ix2 r s) = v3 (ix2 r s) + ∑ d : Fin 256, v4 (ix2 r d) * v5 (ix2 s d) := by
  pointwise [k0_pay2]

theorem pay_zero (r : Fin 1024) (s : Fin 1024) : k0_pay1 (F := Ideal) (ix2 r s) = 0 := by pointwise [k0_pay1]

theorem pay_add (v u : Vec Ideal S1024x1024 .f32) (r : Fin 1024) (s : Fin 1024) :
    k0_pay3 (F := Ideal) v u (ix2 r s) = v (ix2 r s) + u (ix2 r s) := by pointwise [k0_pay3]

section Out
variable {F : FTy → Type} [FloatOps F]
variable (c : Dev nD) (i : grid0.Coords) (a3 : Memref sig .tc .vmem S1024x256 .bf16) (h3 : a3.IsWhole) (a4 : Memref sig .tc .vmem S1024x256 .bf16) (h4 : a4.IsWhole) (a5 : Memref sig .tc .vmem S1024x1024 .f32) (h5 : a5.IsWhole) (a6 : Memref sig .tc .vmem S1024x1024 .f32) (h6 : a6.IsWhole) (a7 : Memref sig .tc .vmem S1024x1024 .f32) (h7 : a7.IsWhole)
  (x0 : Vec F S1024x256 .bf16) (x1 : Vec F S1024x256 .bf16) (x2 : Vec F S1024x1024 .f32)

theorem out_A (hc : cond0_0 i) (hd : cond0_1 i) : out0_A_3 c i a3 h3 a4 h4 a5 h5 a6 h6 a7 h7 hc hd x0 x1 x2
    = k0_pay3 (k0_pay2 k0_pay1 x0 x1) x2 := by
  unfold out0_A_3
  rw [View.read_writes_eq_canon _ _ _ (cover0_A_3 c i a3 h3 a4 h4 a5 h5 a6 h6 a7 h7 hc hd x0 x1 x2)]
  unfold kernelRun0_A
  dsimp only
  sl_unfold_words
  rw [View.canon_unit_zero (S := S1024x1024) hz, View.readCov_cons_toLoadRect, View.readCov_unit_zero (S := S1024x1024) _ hz]
  simp only [View.readAt_eq_ld, h3.read_unread, h4.read_unread, h5.read_unread, View.ld_unit_zero (S := S1024x1024) hz, View.ld_unit_zero (S := S1024x256) hz]

end Out

/-! ## The result array -/

variable (m : (ℓ : Loc nD τ sig) → Buf (Elt Ideal) ℓ) (ρ : Dev nD → PrngReg)

theorem idx : ∀ t : Fin cfg0.N, win0_0.index t = ![t.val / 1, t.val % 1] ∧ win0_1.index t = ![t.val / 1 % 1, t.val % 1]
    ∧ win0_2.index t = ![t.val / 1, t.val / 1 % 1] ∧ win0_3.index t = ![t.val / 1, t.val / 1 % 1] ∧ t.val < 8 :=
  (by decide +kernel : ∀ t : Fin grid0.N, _)

/-- The row, the column and the position on the shared axis of tile `t`'s entries. -/
def ti (t : Fin cfg0.N) (r : Fin 1024) : Fin 8192 := ⟨t.val / 1 * 1024 + r.val, by have := (idx t).2.2.2.2; omega⟩
def tj (t : Fin cfg0.N) (s : Fin 1024) : Fin 1024 := ⟨t.val / 1 % 1 * 1024 + s.val, by omega⟩
def tk (t : Fin cfg0.N) (d : Fin 256) : Fin 256 := ⟨t.val % 1 * 256 + d.val, by omega⟩

abbrev A (c : Dev nD) : Arr 8192 256 := m ((c : Thread nD τ).loc main_arg2)
abbrev B (c : Dev nD) : Arr 1024 256 := m ((c : Thread nD τ).loc main_arg1)
abbrev D (c : Dev nD) : Arr 8192 1024 := m ((c : Thread nD τ).loc main_arg3)

theorem blk_a (c : Dev nD) (t : Fin cfg0.N) (r : Fin 1024) (d : Fin 256) :
    (show Vec Ideal S1024x256 .bf16 from iblk m c 0 t) (ix2 r d) = A m c (ix2 (ti t r) (tk t d)) := by
  unfold ti tk A
  blk_point [iblk, V, idx t]

theorem blk_b (c : Dev nD) (t : Fin cfg0.N) (s : Fin 1024) (d : Fin 256) :
    (show Vec Ideal S1024x256 .bf16 from iblk m c 1 t) (ix2 s d) = B m c (ix2 (tj t s) (tk t d)) := by
  unfold tj tk B
  blk_point [iblk, V, idx t]

theorem blk_d (c : Dev nD) (t : Fin cfg0.N) (r : Fin 1024) (s : Fin 1024) :
    (show Vec Ideal S1024x1024 .f32 from iblk m c 2 t) (ix2 r s) = D m c (ix2 (ti t r) (tj t s)) := by
  unfold ti tj D
  blk_point [iblk, V, idx t]

/-- What tile `t` adds to its block. -/
def part (c : Dev nD) (t : Fin cfg0.N) (y : S1024x1024.Idx) : EReal :=
  ∑ d, A m c (ix2 (ti t (at0 y)) (tk t d)) * B m c (ix2 (tj t (at1 y)) (tk t d))

theorem part_ix2 (c : Dev nD) (t : Fin cfg0.N) (r : Fin 1024) (s : Fin 1024) :
    part m c t (ix2 r s) = ∑ d, A m c (ix2 (ti t r) (tk t d)) * B m c (ix2 (tj t s) (tk t d)) := rfl

theorem pay_part (c : Dev nD) (t : Fin cfg0.N) (v : Vec Ideal S1024x1024 .f32) (r : Fin 1024) (s : Fin 1024) :
    k0_pay2 (F := Ideal) v (iblk m c 0 t) (iblk m c 1 t) (ix2 r s) = v (ix2 r s) + part m c t (ix2 r s) := by
  refine (pay _ _ _ r s).trans ?_
  refine congrArg (v (ix2 r s) + ·) (Finset.sum_congr rfl fun d _ => ?_)
  exact congrArg₂ (· * ·) (blk_a m c t r d) (blk_b m c t s d)

theorem final (c : Dev nD) : (dats m 0 c).arrAt 3 cfg0.N = fun i => D m c i + rows (A m c) (B m c) i := by
  refine (dats m 0 c).arrAt_eq_of_covers 3 _ (by decide +kernel) fun t hf y => ?_
  blk_simp
  rw [after0_3]
  obtain ⟨r, s, rfl⟩ : ∃ (r : Fin 1024) (s : Fin 1024), y = ix2 r s := ⟨y 0, y 1, eq_ix2 y⟩
  have e0 : at0 ((win0_3.blk t).view.emb (ix2 r s)) = ti t r := by
    unfold at0 ti; apply Fin.ext; dsimp only; blk_simp [idx t]
  have e1 : at1 ((win0_3.blk t).view.emb (ix2 r s)) = tj t s := by
    unfold at1 tj; apply Fin.ext; dsimp only; blk_simp [idx t]
  unfold outsAt0
  rw [out_A]
  refine (pay_add _ _ r s).trans ?_
  rw [pay_part m c t _ r s, pay_zero, zero_add]
  have e : D m c ((win0_3.blk t).view.emb (ix2 r s)) = D m c (ix2 (ti t r) (tj t s)) := by
    refine congrArg (D m c) ((eq_ix2 _).trans ?_)
    exact congrArg₂ ix2 e0 e1
  rw [e, add_comm]
  refine congrArg₂ (· + ·) (blk_d m c t r s) ?_
  unfold rows
  rw [e0, e1]
  simp only [part_ix2]
  refine Finset.sum_congr rfl fun d _ => ?_
  rw [show tk t d = d from by unfold tk; apply Fin.ext; dsimp only; omega]

/-! ## The claims -/

theorem frame_ref : Cert.quiescent_InKrDxRefIdeal (hInKrDxRefIdeal := Cert.InKrDxRefIdeal.Gen.facts) := fun m ρ _ =>
  (θ_run _ _ _).mono (fun r h => ⟨fun c => ((h c).2 : _), sem_eq_zero_of_no_sems (by decide) r.2⟩)
    (Cert.InKrDxRefIdeal.Value.run m ρ)

theorem algebraic : Cert.algebraic_InKrDxIdeal_InKrDxRefIdeal
    (hInKrDxIdeal := Cert.InKrDxIdeal.Gen.facts) (hInKrDxRefIdeal := Cert.InKrDxRefIdeal.Gen.facts) := by
  intro m g m' g' _ hag
  refine ⟨fun c => fun i => D m c i + rows (A m c) (B m c) i, ?_, ?_⟩
  · refine (θ_run _ _ _).mono (fun r h c => ?_) (Cert.InKrDxIdeal.Value.run_blocks m g)
    exact ⟨(h c).1.trans (final m c), (h c).2⟩
  · refine (θ_run _ _ _).mono (fun r h c => ?_) (Cert.InKrDxRefIdeal.Value.run m' g')
    refine ⟨(h c).1.trans ?_, (h c).2⟩
    obtain ⟨e0, e1, e2, e3⟩ := hag c
    rw [e1, e2, e3]
    exact ref_eq _ _ _

end Cert.InKrDxProof

end
-- ==== Proof.InKrDwValue.lean ====
/- The kernel InKrDw: a product in tiles, its result array as the whole product, and the reference's result. -/
module

public import proofs.«01_k».proof.Defs
public import proofs.«01_k».proof.Proof.Gen.InKrDwIdeal.Value
public import proofs.«01_k».proof.Proof.Gen.InKrDwRefIdeal.Run
public import proofs.«01_k».proof.Proof.Product
public import Idealize.ShloMosaic.Lib.Pipeline.ValueKit
public import Idealize.ShloMosaic.Lib.Claim

@[expose] public section

set_option maxRecDepth 16384

noncomputable section

namespace Cert.InKrDwProof

open Idealize.ShloMosaic Idealize.ShloMosaic.TcCoe Idealize.SL.Sem Cert.Product

/-! ## The reference's result -/

open Cert.InKrDwRefIdeal Cert.InKrDwRefIdeal.Gen in
theorem ref_eq (a0 : FVec Ideal Cert.InKrDwRefIdeal.S8192x1024 .bf16) (a2 : FVec Ideal Cert.InKrDwRefIdeal.S8192x256 .bf16) :
    transpose S1024x256 [1, 0] (Host.dotGeneral dot_S8192x256_S8192x1024_S256x1024_0_0_1_1_n_n none (extf .f32 a2 bitsLt_bf16_f32) (extf .f32 a0 bitsLt_bf16_f32)) transposes_S256x1024_S1024x256_1_0
      = cols a0 a2 := by
  funext i
  obtain ⟨r, s, rfl⟩ : ∃ r s, i = ix2 r s := ⟨i 0, i 1, eq_ix2 i⟩
  pointwise
  first
    | rfl
    | exact Finset.sum_congr rfl fun d _ => mul_comm _ _
    | exact congrArg (_ + ·) (Finset.sum_congr rfl fun d _ => mul_comm _ _)

open Cert.InKrDwIdeal Cert.InKrDwIdeal.Gen

/-! ## What the body computes of one tile -/

theorem pay (v3 : Vec Ideal S1024x256 .f32) (v4 : Vec Ideal S1024x1024 .bf16) (v5 : Vec Ideal S1024x256 .bf16) (r : Fin 1024) (s : Fin 256) :
    k0_pay2 (F := Ideal) v3 v4 v5 (ix2 r s) = v3 (ix2 r s) + ∑ d : Fin 1024, v4 (ix2 d r) * v5 (ix2 d s) := by
  pointwise [k0_pay2]

theorem pay_zero (r : Fin 1024) (s : Fin 256) : k0_pay1 (F := Ideal) (ix2 r s) = 0 := by pointwise [k0_pay1]

section Out
variable {F : FTy → Type} [FloatOps F]
variable (c : Dev nD) (i : grid0.Coords) (a3 : Memref sig .tc .vmem S1024x1024 .bf16) (h3 : a3.IsWhole) (a4 : Memref sig .tc .vmem S1024x256 .bf16) (h4 : a4.IsWhole) (a5 : Memref sig .tc .vmem S1024x256 .f32) (h5 : a5.IsWhole) (a6 : Memref sig .tc .vmem S1024x256 .f32) (h6 : a6.IsWhole)
  (x0 : Vec F S1024x1024 .bf16) (x1 : Vec F S1024x256 .bf16)

variable (y : Vec F S1024x256 .f32)

theorem held_A (hc : cond0_0 i) (hd : ¬cond0_1 i) : sout0_A_0 c i a3 h3 a4 h4 a5 h5 a6 h6 hc hd x0 x1
    = k0_pay2 k0_pay1 x0 x1 := by
  unfold sout0_A_0
  rw [View.read_writes_eq_canon _ _ _ (scover0_A_0 c i a3 h3 a4 h4 a5 h5 a6 h6 hc hd x0 x1)]
  unfold kernelRun0_A
  dsimp only
  sl_unfold_words
  rw [View.canon_cons_unit_zero (S := S1024x256) hz, View.readCov_unit_zero (S := S1024x256) _ hz]
  simp only [View.readAt_eq_ld, h3.read_unread, h4.read_unread, View.ld_unit_zero (S := S1024x1024) hz, View.ld_unit_zero (S := S1024x256) hz]

theorem held_B (hc : ¬cond0_0 i) (hd : ¬cond0_1 i) : sout0_B_0 c i a3 h3 a4 h4 a5 h5 a6 h6 hc hd x0 x1 y
    = k0_pay2 y x0 x1 := by
  unfold sout0_B_0
  rw [View.read_writes_eq_canon _ _ _ (scover0_B_0 c i a3 h3 a4 h4 a5 h5 a6 h6 hc hd x0 x1 y)]
  unfold kernelRun0_B
  dsimp only
  sl_unfold_words
  rw [View.canon_unit_zero (S := S1024x256) hz]
  simp only [View.readAt_eq_ld, h3.read_unread, h4.read_unread, h6.read_unread, View.ld_unit_zero (S := S1024x1024) hz, View.ld_unit_zero (S := S1024x256) hz]

theorem held_C (hc : ¬cond0_0 i) (hd : cond0_1 i) : sout0_C_0 c i a3 h3 a4 h4 a5 h5 a6 h6 hc hd x0 x1 y
    = k0_pay2 y x0 x1 := by
  unfold sout0_C_0
  rw [View.read_writes_eq_canon _ _ _ (scover0_C_0 c i a3 h3 a4 h4 a5 h5 a6 h6 hc hd x0 x1 y)]
  unfold kernelRun0_C
  dsimp only
  sl_unfold_words
  rw [View.canon_unit_zero (S := S1024x256) hz]
  simp only [View.readAt_eq_ld, h3.read_unread, h4.read_unread, h6.read_unread, View.ld_unit_zero (S := S1024x1024) hz, View.ld_unit_zero (S := S1024x256) hz]

theorem out_C (hc : ¬cond0_0 i) (hd : cond0_1 i) : out0_C_2 c i a3 h3 a4 h4 a5 h5 a6 h6 hc hd x0 x1 y
    = k0_pay2 y x0 x1 := by
  unfold out0_C_2
  rw [View.read_writes_eq_canon _ _ _ (cover0_C_2 c i a3 h3 a4 h4 a5 h5 a6 h6 hc hd x0 x1 y)]
  unfold kernelRun0_C
  dsimp only
  sl_unfold_words
  rw [View.canon_unit_zero (S := S1024x256) hz, View.readCov_unit_zero (S := S1024x256) _ hz]
  simp only [View.readAt_eq_ld, h3.read_unread, h4.read_unread, h6.read_unread, View.ld_unit_zero (S := S1024x1024) hz, View.ld_unit_zero (S := S1024x256) hz]

end Out

/-! ## The result array -/

variable (m : (ℓ : Loc nD τ sig) → Buf (Elt Ideal) ℓ) (ρ : Dev nD → PrngReg)

theorem idx : ∀ t : Fin cfg0.N, win0_0.index t = ![t.val % 8, t.val / 8] ∧ win0_1.index t = ![t.val % 8, t.val / 8 % 1]
    ∧ win0_2.index t = ![t.val / 8, t.val / 8 % 1] ∧ t.val < 8 :=
  (by decide +kernel : ∀ t : Fin grid0.N, _)

/-- The row, the column and the position on the shared axis of tile `t`'s entries. -/
def ti (t : Fin cfg0.N) (r : Fin 1024) : Fin 1024 := ⟨t.val / 8 * 1024 + r.val, by have := (idx t).2.2.2; omega⟩
def tj (t : Fin cfg0.N) (s : Fin 256) : Fin 256 := ⟨t.val / 8 % 1 * 256 + s.val, by omega⟩
def tk (t : Fin cfg0.N) (d : Fin 1024) : Fin 8192 := ⟨t.val % 8 * 1024 + d.val, by omega⟩

abbrev A (c : Dev nD) : Arr 8192 1024 := m ((c : Thread nD τ).loc main_arg0)
abbrev B (c : Dev nD) : Arr 8192 256 := m ((c : Thread nD τ).loc main_arg2)

theorem blk_a (c : Dev nD) (t : Fin cfg0.N) (r : Fin 1024) (d : Fin 1024) :
    (show Vec Ideal S1024x1024 .bf16 from iblk m c 0 t) (ix2 d r) = A m c (ix2 (tk t d) (ti t r)) := by
  unfold ti tk A
  blk_point [iblk, V, idx t]

theorem blk_b (c : Dev nD) (t : Fin cfg0.N) (s : Fin 256) (d : Fin 1024) :
    (show Vec Ideal S1024x256 .bf16 from iblk m c 1 t) (ix2 d s) = B m c (ix2 (tk t d) (tj t s)) := by
  unfold tj tk B
  blk_point [iblk, V, idx t]

/-- What tile `t` adds to its block. -/
def part (c : Dev nD) (t : Fin cfg0.N) (y : S1024x256.Idx) : EReal :=
  ∑ d, A m c (ix2 (tk t d) (ti t (at0 y))) * B m c (ix2 (tk t d) (tj t (at1 y)))

theorem part_ix2 (c : Dev nD) (t : Fin cfg0.N) (r : Fin 1024) (s : Fin 256) :
    part m c t (ix2 r s) = ∑ d, A m c (ix2 (tk t d) (ti t r)) * B m c (ix2 (tk t d) (tj t s)) := rfl

theorem pay_part (c : Dev nD) (t : Fin cfg0.N) (v : Vec Ideal S1024x256 .f32) (r : Fin 1024) (s : Fin 256) :
    k0_pay2 (F := Ideal) v (iblk m c 0 t) (iblk m c 1 t) (ix2 r s) = v (ix2 r s) + part m c t (ix2 r s) := by
  refine (pay _ _ _ r s).trans ?_
  refine congrArg (v (ix2 r s) + ·) (Finset.sum_congr rfl fun d _ => ?_)
  exact congrArg₂ (· * ·) (blk_a m c t r d) (blk_b m c t s d)

theorem reset (c : Dev nD) (t : Fin cfg0.N) (h : t.val % 8 = 0) (y : S1024x256.Idx) :
    (outsAt0 m c t.val t.isLt).2 y = 0 + part m c t y := by
  obtain ⟨r, s, rfl⟩ : ∃ r s, y = ix2 r s := ⟨y 0, y 1, eq_ix2 y⟩
  rw [outsAt0_A m c t h (by omega)]
  dsimp only
  rw [held_A]
  refine (pay_part m c t _ r s).trans ?_
  rw [pay_zero]

theorem step (c : Dev nD) (t : Fin cfg0.N) (h : ¬t.val % 8 = 0) (y : S1024x256.Idx) :
    (outsAt0 m c t.val t.isLt).2 y = (outsAt0 m c (t.val - 1) (Nat.lt_of_le_of_lt (Nat.sub_le _ _) t.isLt)).2 y + part m c t y := by
  obtain ⟨r, s, rfl⟩ : ∃ r s, y = ix2 r s := ⟨y 0, y 1, eq_ix2 y⟩
  by_cases h1 : t.val % 8 = 7
  · rw [outsAt0_C m c t h h1]
    dsimp only
    rw [held_C]
    exact pay_part m c t _ r s
  · rw [outsAt0_B m c t h h1]
    dsimp only
    rw [held_B]
    exact pay_part m c t _ r s

theorem leaves (c : Dev nD) (t : Fin cfg0.N) (h : t.val % 8 = 7) (r : Fin 1024) (s : Fin 256) :
    (outsAt0 m c t.val t.isLt).1 (ix2 r s) = (outsAt0 m c t.val t.isLt).2 (ix2 r s) := by
  rw [outsAt0_C m c t (by omega) h]
  dsimp only
  rw [out_C, held_C]

theorem ti_run (t : Fin cfg0.N) (s : Fin 8) (h) (r : Fin 1024) : ti ⟨8 * (t.val / 8) + s.val, h⟩ r = ti t r := by
  unfold ti; apply Fin.ext; dsimp only; omega

theorem tj_run (t : Fin cfg0.N) (s : Fin 8) (h) (r : Fin 256) : tj ⟨8 * (t.val / 8) + s.val, h⟩ r = tj t r := by
  unfold tj; apply Fin.ext; dsimp only; omega

theorem tk_run (t : Fin cfg0.N) (s : Fin 8) (h) (d : Fin 1024) :
    tk ⟨8 * (t.val / 8) + s.val, h⟩ d = ⟨s.val * 1024 + d.val, by omega⟩ := by
  unfold tk; apply Fin.ext; dsimp only; omega

theorem final (c : Dev nD) : (dats m 0 c).arrAt 2 cfg0.N = cols (A m c) (B m c) := by
  refine (dats m 0 c).arrAt_eq_of_covers 2 _ (by decide +kernel) fun t hf y => ?_
  blk_simp
  rw [after0_2]
  obtain ⟨r, s, rfl⟩ : ∃ (r : Fin 1024) (s : Fin 256), y = ix2 r s := ⟨y 0, y 1, eq_ix2 y⟩
  have e0 : at0 ((win0_2.blk t).view.emb (ix2 r s)) = ti t r := by
    unfold at0 ti; apply Fin.ext; dsimp only; blk_simp [idx t]
  have e1 : at1 ((win0_2.blk t).view.emb (ix2 r s)) = tj t s := by
    unfold at1 tj; apply Fin.ext; dsimp only; blk_simp [idx t]
  have hl : t.val % 8 = 7 := (flush0_2 t).mp hf
  rw [leaves m c t hl,
    Pipeline.eq_sum_fin_of_reset_step_apply_of_flush (fun n h => (outsAt0 m c n h).2) 8 (fun _ => 0) (part m c)
      (reset m c) (step m c) t hl _, zero_add]
  unfold cols
  rw [e0, e1]
  simp only [part_ix2]
  refine Fin.sum_mul_add_congr fun k d hl => ?_
  rw [ti_run, tj_run, tk_run]

/-! ## The claims -/

theorem frame_ref : Cert.quiescent_InKrDwRefIdeal (hInKrDwRefIdeal := Cert.InKrDwRefIdeal.Gen.facts) := fun m ρ _ =>
  (θ_run _ _ _).mono (fun r h => ⟨fun c => ((h c).2 : _), sem_eq_zero_of_no_sems (by decide) r.2⟩)
    (Cert.InKrDwRefIdeal.Value.run m ρ)

theorem algebraic : Cert.algebraic_InKrDwIdeal_InKrDwRefIdeal
    (hInKrDwIdeal := Cert.InKrDwIdeal.Gen.facts) (hInKrDwRefIdeal := Cert.InKrDwRefIdeal.Gen.facts) := by
  intro m g m' g' _ hag
  refine ⟨fun c => cols (A m c) (B m c), ?_, ?_⟩
  · refine (θ_run _ _ _).mono (fun r h c => ?_) (Cert.InKrDwIdeal.Value.run_blocks m g)
    exact ⟨(h c).1.trans (final m c), (h c).2⟩
  · refine (θ_run _ _ _).mono (fun r h c => ?_) (Cert.InKrDwRefIdeal.Value.run m' g')
    refine ⟨(h c).1.trans ?_, (h c).2⟩
    obtain ⟨e0, e1, e2⟩ := hag c
    rw [e0, e2]
    exact ref_eq _ _

end Cert.InKrDwProof

end
-- ==== Proof.UqDxValue.lean ====
/- The kernel UqDx: a product in tiles, its result array as the whole product, and the reference's result. -/
module

public import proofs.«01_k».proof.Defs
public import proofs.«01_k».proof.Proof.Gen.UqDxIdeal.Value
public import proofs.«01_k».proof.Proof.Gen.UqDxRefIdeal.Run
public import proofs.«01_k».proof.Proof.Product
public import Idealize.ShloMosaic.Lib.Pipeline.ValueKit
public import Idealize.ShloMosaic.Lib.Claim

@[expose] public section

set_option maxRecDepth 16384

noncomputable section

namespace Cert.UqDxProof

open Idealize.ShloMosaic Idealize.ShloMosaic.TcCoe Idealize.SL.Sem Cert.Product

/-! ## The reference's result -/

open Cert.UqDxRefIdeal Cert.UqDxRefIdeal.Gen in
theorem ref_eq (a1 : FVec Ideal Cert.UqDxRefIdeal.S384x2048 .bf16) (a2 : FVec Ideal Cert.UqDxRefIdeal.S8192x2048 .bf16) :
    Host.dotGeneral dot_S8192x2048_S384x2048_S8192x384_1_1_0_0_n_n none (extf .f32 a2 bitsLt_bf16_f32) (extf .f32 a1 bitsLt_bf16_f32)
      = rows a2 a1 := by
  funext i
  obtain ⟨r, s, rfl⟩ : ∃ r s, i = ix2 r s := ⟨i 0, i 1, eq_ix2 i⟩
  pointwise
  first
    | rfl
    | exact Finset.sum_congr rfl fun d _ => mul_comm _ _
    | exact congrArg (_ + ·) (Finset.sum_congr rfl fun d _ => mul_comm _ _)

open Cert.UqDxIdeal Cert.UqDxIdeal.Gen

/-! ## What the body computes of one tile -/

theorem pay (v3 : Vec Ideal S1024x384 .f32) (v4 : Vec Ideal S1024x1024 .bf16) (v5 : Vec Ideal S384x1024 .bf16) (r : Fin 1024) (s : Fin 384) :
    k0_pay2 (F := Ideal) v3 v4 v5 (ix2 r s) = v3 (ix2 r s) + ∑ d : Fin 1024, v4 (ix2 r d) * v5 (ix2 s d) := by
  pointwise [k0_pay2]

theorem pay_zero (r : Fin 1024) (s : Fin 384) : k0_pay1 (F := Ideal) (ix2 r s) = 0 := by pointwise [k0_pay1]

section Out
variable {F : FTy → Type} [FloatOps F]
variable (c : Dev nD) (i : grid0.Coords) (a3 : Memref sig .tc .vmem S1024x1024 .bf16) (h3 : a3.IsWhole) (a4 : Memref sig .tc .vmem S384x1024 .bf16) (h4 : a4.IsWhole) (a5 : Memref sig .tc .vmem S1024x384 .f32) (h5 : a5.IsWhole) (a6 : Memref sig .tc .vmem S1024x384 .f32) (h6 : a6.IsWhole)
  (x0 : Vec F S1024x1024 .bf16) (x1 : Vec F S384x1024 .bf16)

variable (y : Vec F S1024x384 .f32)

theorem held_A (hc : cond0_0 i) (hd : ¬cond0_1 i) : sout0_A_0 c i a3 h3 a4 h4 a5 h5 a6 h6 hc hd x0 x1
    = k0_pay2 k0_pay1 x0 x1 := by
  unfold sout0_A_0
  rw [View.read_writes_eq_canon _ _ _ (scover0_A_0 c i a3 h3 a4 h4 a5 h5 a6 h6 hc hd x0 x1)]
  unfold kernelRun0_A
  dsimp only
  sl_unfold_words
  rw [View.canon_cons_unit_zero (S := S1024x384) hz, View.readCov_unit_zero (S := S1024x384) _ hz]
  simp only [View.readAt_eq_ld, h3.read_unread, h4.read_unread, View.ld_unit_zero (S := S1024x1024) hz, View.ld_unit_zero (S := S1024x384) hz, View.ld_unit_zero (S := S384x1024) hz]

theorem held_B (hc : ¬cond0_0 i) (hd : cond0_1 i) : sout0_B_0 c i a3 h3 a4 h4 a5 h5 a6 h6 hc hd x0 x1 y
    = k0_pay2 y x0 x1 := by
  unfold sout0_B_0
  rw [View.read_writes_eq_canon _ _ _ (scover0_B_0 c i a3 h3 a4 h4 a5 h5 a6 h6 hc hd x0 x1 y)]
  unfold kernelRun0_B
  dsimp only
  sl_unfold_words
  rw [View.canon_unit_zero (S := S1024x384) hz]
  simp only [View.readAt_eq_ld, h3.read_unread, h4.read_unread, h6.read_unread, View.ld_unit_zero (S := S1024x1024) hz, View.ld_unit_zero (S := S1024x384) hz, View.ld_unit_zero (S := S384x1024) hz]

theorem out_B (hc : ¬cond0_0 i) (hd : cond0_1 i) : out0_B_2 c i a3 h3 a4 h4 a5 h5 a6 h6 hc hd x0 x1 y
    = k0_pay2 y x0 x1 := by
  unfold out0_B_2
  rw [View.read_writes_eq_canon _ _ _ (cover0_B_2 c i a3 h3 a4 h4 a5 h5 a6 h6 hc hd x0 x1 y)]
  unfold kernelRun0_B
  dsimp only
  sl_unfold_words
  rw [View.canon_unit_zero (S := S1024x384) hz, View.readCov_unit_zero (S := S1024x384) _ hz]
  simp only [View.readAt_eq_ld, h3.read_unread, h4.read_unread, h6.read_unread, View.ld_unit_zero (S := S1024x1024) hz, View.ld_unit_zero (S := S1024x384) hz, View.ld_unit_zero (S := S384x1024) hz]

end Out

/-! ## The result array -/

variable (m : (ℓ : Loc nD τ sig) → Buf (Elt Ideal) ℓ) (ρ : Dev nD → PrngReg)

theorem idx : ∀ t : Fin cfg0.N, win0_0.index t = ![t.val / 2, t.val % 2] ∧ win0_1.index t = ![t.val / 2 % 1, t.val % 2]
    ∧ win0_2.index t = ![t.val / 2, t.val / 2 % 1] ∧ t.val < 16 :=
  (by decide +kernel : ∀ t : Fin grid0.N, _)

/-- The row, the column and the position on the shared axis of tile `t`'s entries. -/
def ti (t : Fin cfg0.N) (r : Fin 1024) : Fin 8192 := ⟨t.val / 2 * 1024 + r.val, by have := (idx t).2.2.2; omega⟩
def tj (t : Fin cfg0.N) (s : Fin 384) : Fin 384 := ⟨t.val / 2 % 1 * 384 + s.val, by omega⟩
def tk (t : Fin cfg0.N) (d : Fin 1024) : Fin 2048 := ⟨t.val % 2 * 1024 + d.val, by omega⟩

abbrev A (c : Dev nD) : Arr 8192 2048 := m ((c : Thread nD τ).loc main_arg2)
abbrev B (c : Dev nD) : Arr 384 2048 := m ((c : Thread nD τ).loc main_arg1)

theorem blk_a (c : Dev nD) (t : Fin cfg0.N) (r : Fin 1024) (d : Fin 1024) :
    (show Vec Ideal S1024x1024 .bf16 from iblk m c 0 t) (ix2 r d) = A m c (ix2 (ti t r) (tk t d)) := by
  unfold ti tk A
  blk_point [iblk, V, idx t]

theorem blk_b (c : Dev nD) (t : Fin cfg0.N) (s : Fin 384) (d : Fin 1024) :
    (show Vec Ideal S384x1024 .bf16 from iblk m c 1 t) (ix2 s d) = B m c (ix2 (tj t s) (tk t d)) := by
  unfold tj tk B
  blk_point [iblk, V, idx t]

/-- What tile `t` adds to its block. -/
def part (c : Dev nD) (t : Fin cfg0.N) (y : S1024x384.Idx) : EReal :=
  ∑ d, A m c (ix2 (ti t (at0 y)) (tk t d)) * B m c (ix2 (tj t (at1 y)) (tk t d))

theorem part_ix2 (c : Dev nD) (t : Fin cfg0.N) (r : Fin 1024) (s : Fin 384) :
    part m c t (ix2 r s) = ∑ d, A m c (ix2 (ti t r) (tk t d)) * B m c (ix2 (tj t s) (tk t d)) := rfl

theorem pay_part (c : Dev nD) (t : Fin cfg0.N) (v : Vec Ideal S1024x384 .f32) (r : Fin 1024) (s : Fin 384) :
    k0_pay2 (F := Ideal) v (iblk m c 0 t) (iblk m c 1 t) (ix2 r s) = v (ix2 r s) + part m c t (ix2 r s) := by
  refine (pay _ _ _ r s).trans ?_
  refine congrArg (v (ix2 r s) + ·) (Finset.sum_congr rfl fun d _ => ?_)
  exact congrArg₂ (· * ·) (blk_a m c t r d) (blk_b m c t s d)

theorem reset (c : Dev nD) (t : Fin cfg0.N) (h : t.val % 2 = 0) (y : S1024x384.Idx) :
    (outsAt0 m c t.val t.isLt).2 y = 0 + part m c t y := by
  obtain ⟨r, s, rfl⟩ : ∃ r s, y = ix2 r s := ⟨y 0, y 1, eq_ix2 y⟩
  rw [outsAt0_A m c t h (by omega)]
  dsimp only
  rw [held_A]
  refine (pay_part m c t _ r s).trans ?_
  rw [pay_zero]

theorem step (c : Dev nD) (t : Fin cfg0.N) (h : ¬t.val % 2 = 0) (y : S1024x384.Idx) :
    (outsAt0 m c t.val t.isLt).2 y = (outsAt0 m c (t.val - 1) (Nat.lt_of_le_of_lt (Nat.sub_le _ _) t.isLt)).2 y + part m c t y := by
  obtain ⟨r, s, rfl⟩ : ∃ r s, y = ix2 r s := ⟨y 0, y 1, eq_ix2 y⟩
  rw [outsAt0_B m c t h (by omega)]
  dsimp only
  rw [held_B]
  exact pay_part m c t _ r s

theorem leaves (c : Dev nD) (t : Fin cfg0.N) (h : t.val % 2 = 1) (r : Fin 1024) (s : Fin 384) :
    (outsAt0 m c t.val t.isLt).1 (ix2 r s) = (outsAt0 m c t.val t.isLt).2 (ix2 r s) := by
  rw [outsAt0_B m c t (by omega) h]
  dsimp only
  rw [out_B, held_B]

theorem ti_run (t : Fin cfg0.N) (s : Fin 2) (h) (r : Fin 1024) : ti ⟨2 * (t.val / 2) + s.val, h⟩ r = ti t r := by
  unfold ti; apply Fin.ext; dsimp only; omega

theorem tj_run (t : Fin cfg0.N) (s : Fin 2) (h) (r : Fin 384) : tj ⟨2 * (t.val / 2) + s.val, h⟩ r = tj t r := by
  unfold tj; apply Fin.ext; dsimp only; omega

theorem tk_run (t : Fin cfg0.N) (s : Fin 2) (h) (d : Fin 1024) :
    tk ⟨2 * (t.val / 2) + s.val, h⟩ d = ⟨s.val * 1024 + d.val, by omega⟩ := by
  unfold tk; apply Fin.ext; dsimp only; omega

theorem final (c : Dev nD) : (dats m 0 c).arrAt 2 cfg0.N = rows (A m c) (B m c) := by
  refine (dats m 0 c).arrAt_eq_of_covers 2 _ (by decide +kernel) fun t hf y => ?_
  blk_simp
  rw [after0_2]
  obtain ⟨r, s, rfl⟩ : ∃ (r : Fin 1024) (s : Fin 384), y = ix2 r s := ⟨y 0, y 1, eq_ix2 y⟩
  have e0 : at0 ((win0_2.blk t).view.emb (ix2 r s)) = ti t r := by
    unfold at0 ti; apply Fin.ext; dsimp only; blk_simp [idx t]
  have e1 : at1 ((win0_2.blk t).view.emb (ix2 r s)) = tj t s := by
    unfold at1 tj; apply Fin.ext; dsimp only; blk_simp [idx t]
  have hl : t.val % 2 = 1 := (flush0_2 t).mp hf
  rw [leaves m c t hl,
    Pipeline.eq_sum_fin_of_reset_step_apply_of_flush (fun n h => (outsAt0 m c n h).2) 2 (fun _ => 0) (part m c)
      (reset m c) (step m c) t hl _, zero_add]
  unfold rows
  rw [e0, e1]
  simp only [part_ix2]
  refine Fin.sum_mul_add_congr fun k d hl => ?_
  rw [ti_run, tj_run, tk_run]

/-! ## The claims -/

theorem frame_ref : Cert.quiescent_UqDxRefIdeal (hUqDxRefIdeal := Cert.UqDxRefIdeal.Gen.facts) := fun m ρ _ =>
  (θ_run _ _ _).mono (fun r h => ⟨fun c => ((h c).2 : _), sem_eq_zero_of_no_sems (by decide) r.2⟩)
    (Cert.UqDxRefIdeal.Value.run m ρ)

theorem algebraic : Cert.algebraic_UqDxIdeal_UqDxRefIdeal
    (hUqDxIdeal := Cert.UqDxIdeal.Gen.facts) (hUqDxRefIdeal := Cert.UqDxRefIdeal.Gen.facts) := by
  intro m g m' g' _ hag
  refine ⟨fun c => rows (A m c) (B m c), ?_, ?_⟩
  · refine (θ_run _ _ _).mono (fun r h c => ?_) (Cert.UqDxIdeal.Value.run_blocks m g)
    exact ⟨(h c).1.trans (final m c), (h c).2⟩
  · refine (θ_run _ _ _).mono (fun r h c => ?_) (Cert.UqDxRefIdeal.Value.run m' g')
    refine ⟨(h c).1.trans ?_, (h c).2⟩
    obtain ⟨e0, e1, e2⟩ := hag c
    rw [e1, e2]
    exact ref_eq _ _

end Cert.UqDxProof

end
-- ==== Proof.UqDwValue.lean ====
/- The kernel UqDw: a product in tiles, its result array as the whole product, and the reference's result. -/
module

public import proofs.«01_k».proof.Defs
public import proofs.«01_k».proof.Proof.Gen.UqDwIdeal.Value
public import proofs.«01_k».proof.Proof.Gen.UqDwRefIdeal.Run
public import proofs.«01_k».proof.Proof.Product
public import Idealize.ShloMosaic.Lib.Pipeline.ValueKit
public import Idealize.ShloMosaic.Lib.Claim

@[expose] public section

set_option maxRecDepth 16384

noncomputable section

namespace Cert.UqDwProof

open Idealize.ShloMosaic Idealize.ShloMosaic.TcCoe Idealize.SL.Sem Cert.Product

/-! ## The reference's result -/

open Cert.UqDwRefIdeal Cert.UqDwRefIdeal.Gen in
theorem ref_eq (a0 : FVec Ideal Cert.UqDwRefIdeal.S8192x384 .bf16) (a2 : FVec Ideal Cert.UqDwRefIdeal.S8192x2048 .bf16) :
    transpose S384x2048 [1, 0] (Host.dotGeneral dot_S8192x2048_S8192x384_S2048x384_0_0_1_1_n_n none (extf .f32 a2 bitsLt_bf16_f32) (extf .f32 a0 bitsLt_bf16_f32)) transposes_S2048x384_S384x2048_1_0
      = cols a0 a2 := by
  funext i
  obtain ⟨r, s, rfl⟩ : ∃ r s, i = ix2 r s := ⟨i 0, i 1, eq_ix2 i⟩
  pointwise
  first
    | rfl
    | exact Finset.sum_congr rfl fun d _ => mul_comm _ _
    | exact congrArg (_ + ·) (Finset.sum_congr rfl fun d _ => mul_comm _ _)

open Cert.UqDwIdeal Cert.UqDwIdeal.Gen

/-! ## What the body computes of one tile -/

theorem pay (v3 : Vec Ideal S384x1024 .f32) (v4 : Vec Ideal S1024x384 .bf16) (v5 : Vec Ideal S1024x1024 .bf16) (r : Fin 384) (s : Fin 1024) :
    k0_pay2 (F := Ideal) v3 v4 v5 (ix2 r s) = v3 (ix2 r s) + ∑ d : Fin 1024, v4 (ix2 d r) * v5 (ix2 d s) := by
  pointwise [k0_pay2]

theorem pay_zero (r : Fin 384) (s : Fin 1024) : k0_pay1 (F := Ideal) (ix2 r s) = 0 := by pointwise [k0_pay1]

section Out
variable {F : FTy → Type} [FloatOps F]
variable (c : Dev nD) (i : grid0.Coords) (a3 : Memref sig .tc .vmem S1024x384 .bf16) (h3 : a3.IsWhole) (a4 : Memref sig .tc .vmem S1024x1024 .bf16) (h4 : a4.IsWhole) (a5 : Memref sig .tc .vmem S384x1024 .f32) (h5 : a5.IsWhole) (a6 : Memref sig .tc .vmem S384x1024 .f32) (h6 : a6.IsWhole)
  (x0 : Vec F S1024x384 .bf16) (x1 : Vec F S1024x1024 .bf16)

variable (y : Vec F S384x1024 .f32)

theorem held_A (hc : cond0_0 i) (hd : ¬cond0_1 i) : sout0_A_0 c i a3 h3 a4 h4 a5 h5 a6 h6 hc hd x0 x1
    = k0_pay2 k0_pay1 x0 x1 := by
  unfold sout0_A_0
  rw [View.read_writes_eq_canon _ _ _ (scover0_A_0 c i a3 h3 a4 h4 a5 h5 a6 h6 hc hd x0 x1)]
  unfold kernelRun0_A
  dsimp only
  sl_unfold_words
  rw [View.canon_cons_unit_zero (S := S384x1024) hz, View.readCov_unit_zero (S := S384x1024) _ hz]
  simp only [View.readAt_eq_ld, h3.read_unread, h4.read_unread, View.ld_unit_zero (S := S1024x1024) hz, View.ld_unit_zero (S := S1024x384) hz, View.ld_unit_zero (S := S384x1024) hz]

theorem held_B (hc : ¬cond0_0 i) (hd : ¬cond0_1 i) : sout0_B_0 c i a3 h3 a4 h4 a5 h5 a6 h6 hc hd x0 x1 y
    = k0_pay2 y x0 x1 := by
  unfold sout0_B_0
  rw [View.read_writes_eq_canon _ _ _ (scover0_B_0 c i a3 h3 a4 h4 a5 h5 a6 h6 hc hd x0 x1 y)]
  unfold kernelRun0_B
  dsimp only
  sl_unfold_words
  rw [View.canon_unit_zero (S := S384x1024) hz]
  simp only [View.readAt_eq_ld, h3.read_unread, h4.read_unread, h6.read_unread, View.ld_unit_zero (S := S1024x1024) hz, View.ld_unit_zero (S := S1024x384) hz, View.ld_unit_zero (S := S384x1024) hz]

theorem held_C (hc : ¬cond0_0 i) (hd : cond0_1 i) : sout0_C_0 c i a3 h3 a4 h4 a5 h5 a6 h6 hc hd x0 x1 y
    = k0_pay2 y x0 x1 := by
  unfold sout0_C_0
  rw [View.read_writes_eq_canon _ _ _ (scover0_C_0 c i a3 h3 a4 h4 a5 h5 a6 h6 hc hd x0 x1 y)]
  unfold kernelRun0_C
  dsimp only
  sl_unfold_words
  rw [View.canon_unit_zero (S := S384x1024) hz]
  simp only [View.readAt_eq_ld, h3.read_unread, h4.read_unread, h6.read_unread, View.ld_unit_zero (S := S1024x1024) hz, View.ld_unit_zero (S := S1024x384) hz, View.ld_unit_zero (S := S384x1024) hz]

theorem out_C (hc : ¬cond0_0 i) (hd : cond0_1 i) : out0_C_2 c i a3 h3 a4 h4 a5 h5 a6 h6 hc hd x0 x1 y
    = k0_pay2 y x0 x1 := by
  unfold out0_C_2
  rw [View.read_writes_eq_canon _ _ _ (cover0_C_2 c i a3 h3 a4 h4 a5 h5 a6 h6 hc hd x0 x1 y)]
  unfold kernelRun0_C
  dsimp only
  sl_unfold_words
  rw [View.canon_unit_zero (S := S384x1024) hz, View.readCov_unit_zero (S := S384x1024) _ hz]
  simp only [View.readAt_eq_ld, h3.read_unread, h4.read_unread, h6.read_unread, View.ld_unit_zero (S := S1024x1024) hz, View.ld_unit_zero (S := S1024x384) hz, View.ld_unit_zero (S := S384x1024) hz]

end Out

/-! ## The result array -/

variable (m : (ℓ : Loc nD τ sig) → Buf (Elt Ideal) ℓ) (ρ : Dev nD → PrngReg)

theorem idx : ∀ t : Fin cfg0.N, win0_0.index t = ![t.val % 8, t.val / 16] ∧ win0_1.index t = ![t.val % 8, t.val / 8 % 2]
    ∧ win0_2.index t = ![t.val / 16, t.val / 8 % 2] ∧ t.val < 16 :=
  (by decide +kernel : ∀ t : Fin grid0.N, _)

/-- The row, the column and the position on the shared axis of tile `t`'s entries. -/
def ti (t : Fin cfg0.N) (r : Fin 384) : Fin 384 := ⟨t.val / 16 * 384 + r.val, by have := (idx t).2.2.2; omega⟩
def tj (t : Fin cfg0.N) (s : Fin 1024) : Fin 2048 := ⟨t.val / 8 % 2 * 1024 + s.val, by omega⟩
def tk (t : Fin cfg0.N) (d : Fin 1024) : Fin 8192 := ⟨t.val % 8 * 1024 + d.val, by omega⟩

abbrev A (c : Dev nD) : Arr 8192 384 := m ((c : Thread nD τ).loc main_arg0)
abbrev B (c : Dev nD) : Arr 8192 2048 := m ((c : Thread nD τ).loc main_arg2)

theorem blk_a (c : Dev nD) (t : Fin cfg0.N) (r : Fin 384) (d : Fin 1024) :
    (show Vec Ideal S1024x384 .bf16 from iblk m c 0 t) (ix2 d r) = A m c (ix2 (tk t d) (ti t r)) := by
  unfold ti tk A
  blk_point [iblk, V, idx t]

theorem blk_b (c : Dev nD) (t : Fin cfg0.N) (s : Fin 1024) (d : Fin 1024) :
    (show Vec Ideal S1024x1024 .bf16 from iblk m c 1 t) (ix2 d s) = B m c (ix2 (tk t d) (tj t s)) := by
  unfold tj tk B
  blk_point [iblk, V, idx t]

/-- What tile `t` adds to its block. -/
def part (c : Dev nD) (t : Fin cfg0.N) (y : S384x1024.Idx) : EReal :=
  ∑ d, A m c (ix2 (tk t d) (ti t (at0 y))) * B m c (ix2 (tk t d) (tj t (at1 y)))

theorem part_ix2 (c : Dev nD) (t : Fin cfg0.N) (r : Fin 384) (s : Fin 1024) :
    part m c t (ix2 r s) = ∑ d, A m c (ix2 (tk t d) (ti t r)) * B m c (ix2 (tk t d) (tj t s)) := rfl

theorem pay_part (c : Dev nD) (t : Fin cfg0.N) (v : Vec Ideal S384x1024 .f32) (r : Fin 384) (s : Fin 1024) :
    k0_pay2 (F := Ideal) v (iblk m c 0 t) (iblk m c 1 t) (ix2 r s) = v (ix2 r s) + part m c t (ix2 r s) := by
  refine (pay _ _ _ r s).trans ?_
  refine congrArg (v (ix2 r s) + ·) (Finset.sum_congr rfl fun d _ => ?_)
  exact congrArg₂ (· * ·) (blk_a m c t r d) (blk_b m c t s d)

theorem reset (c : Dev nD) (t : Fin cfg0.N) (h : t.val % 8 = 0) (y : S384x1024.Idx) :
    (outsAt0 m c t.val t.isLt).2 y = 0 + part m c t y := by
  obtain ⟨r, s, rfl⟩ : ∃ r s, y = ix2 r s := ⟨y 0, y 1, eq_ix2 y⟩
  rw [outsAt0_A m c t h (by omega)]
  dsimp only
  rw [held_A]
  refine (pay_part m c t _ r s).trans ?_
  rw [pay_zero]

theorem step (c : Dev nD) (t : Fin cfg0.N) (h : ¬t.val % 8 = 0) (y : S384x1024.Idx) :
    (outsAt0 m c t.val t.isLt).2 y = (outsAt0 m c (t.val - 1) (Nat.lt_of_le_of_lt (Nat.sub_le _ _) t.isLt)).2 y + part m c t y := by
  obtain ⟨r, s, rfl⟩ : ∃ r s, y = ix2 r s := ⟨y 0, y 1, eq_ix2 y⟩
  by_cases h1 : t.val % 8 = 7
  · rw [outsAt0_C m c t h h1]
    dsimp only
    rw [held_C]
    exact pay_part m c t _ r s
  · rw [outsAt0_B m c t h h1]
    dsimp only
    rw [held_B]
    exact pay_part m c t _ r s

theorem leaves (c : Dev nD) (t : Fin cfg0.N) (h : t.val % 8 = 7) (r : Fin 384) (s : Fin 1024) :
    (outsAt0 m c t.val t.isLt).1 (ix2 r s) = (outsAt0 m c t.val t.isLt).2 (ix2 r s) := by
  rw [outsAt0_C m c t (by omega) h]
  dsimp only
  rw [out_C, held_C]

theorem ti_run (t : Fin cfg0.N) (s : Fin 8) (h) (r : Fin 384) : ti ⟨8 * (t.val / 8) + s.val, h⟩ r = ti t r := by
  unfold ti; apply Fin.ext; dsimp only; omega

theorem tj_run (t : Fin cfg0.N) (s : Fin 8) (h) (r : Fin 1024) : tj ⟨8 * (t.val / 8) + s.val, h⟩ r = tj t r := by
  unfold tj; apply Fin.ext; dsimp only; omega

theorem tk_run (t : Fin cfg0.N) (s : Fin 8) (h) (d : Fin 1024) :
    tk ⟨8 * (t.val / 8) + s.val, h⟩ d = ⟨s.val * 1024 + d.val, by omega⟩ := by
  unfold tk; apply Fin.ext; dsimp only; omega

theorem final (c : Dev nD) : (dats m 0 c).arrAt 2 cfg0.N = cols (A m c) (B m c) := by
  refine (dats m 0 c).arrAt_eq_of_covers 2 _ (by decide +kernel) fun t hf y => ?_
  blk_simp
  rw [after0_2]
  obtain ⟨r, s, rfl⟩ : ∃ (r : Fin 384) (s : Fin 1024), y = ix2 r s := ⟨y 0, y 1, eq_ix2 y⟩
  have e0 : at0 ((win0_2.blk t).view.emb (ix2 r s)) = ti t r := by
    unfold at0 ti; apply Fin.ext; dsimp only; blk_simp [idx t]
  have e1 : at1 ((win0_2.blk t).view.emb (ix2 r s)) = tj t s := by
    unfold at1 tj; apply Fin.ext; dsimp only; blk_simp [idx t]
  have hl : t.val % 8 = 7 := (flush0_2 t).mp hf
  rw [leaves m c t hl,
    Pipeline.eq_sum_fin_of_reset_step_apply_of_flush (fun n h => (outsAt0 m c n h).2) 8 (fun _ => 0) (part m c)
      (reset m c) (step m c) t hl _, zero_add]
  unfold cols
  rw [e0, e1]
  simp only [part_ix2]
  refine Fin.sum_mul_add_congr fun k d hl => ?_
  rw [ti_run, tj_run, tk_run]

/-! ## The claims -/

theorem frame_ref : Cert.quiescent_UqDwRefIdeal (hUqDwRefIdeal := Cert.UqDwRefIdeal.Gen.facts) := fun m ρ _ =>
  (θ_run _ _ _).mono (fun r h => ⟨fun c => ((h c).2 : _), sem_eq_zero_of_no_sems (by decide) r.2⟩)
    (Cert.UqDwRefIdeal.Value.run m ρ)

theorem algebraic : Cert.algebraic_UqDwIdeal_UqDwRefIdeal
    (hUqDwIdeal := Cert.UqDwIdeal.Gen.facts) (hUqDwRefIdeal := Cert.UqDwRefIdeal.Gen.facts) := by
  intro m g m' g' _ hag
  refine ⟨fun c => cols (A m c) (B m c), ?_, ?_⟩
  · refine (θ_run _ _ _).mono (fun r h c => ?_) (Cert.UqDwIdeal.Value.run_blocks m g)
    exact ⟨(h c).1.trans (final m c), (h c).2⟩
  · refine (θ_run _ _ _).mono (fun r h c => ?_) (Cert.UqDwRefIdeal.Value.run m' g')
    refine ⟨(h c).1.trans ?_, (h c).2⟩
    obtain ⟨e0, e1, e2⟩ := hag c
    rw [e0, e2]
    exact ref_eq _ _

end Cert.UqDwProof

end
-- ==== Proof.BranchAttnDxValue.lean ====
/- The kernel BranchAttnDx: a product in tiles, its result array as the whole product, and the reference's result. -/
module

public import proofs.«01_k».proof.Defs
public import proofs.«01_k».proof.Proof.Gen.BranchAttnDxIdeal.Value
public import proofs.«01_k».proof.Proof.Gen.BranchAttnDxRefIdeal.Run
public import proofs.«01_k».proof.Proof.Product
public import Idealize.ShloMosaic.Lib.Pipeline.ValueKit
public import Idealize.ShloMosaic.Lib.Claim

@[expose] public section

set_option maxRecDepth 16384

noncomputable section

namespace Cert.BranchAttnDxProof

open Idealize.ShloMosaic Idealize.ShloMosaic.TcCoe Idealize.SL.Sem Cert.Product

/-! ## The reference's result -/

open Cert.BranchAttnDxRefIdeal Cert.BranchAttnDxRefIdeal.Gen in
theorem ref_eq (a1 : FVec Ideal Cert.BranchAttnDxRefIdeal.S1024x1024 .bf16) (a2 : FVec Ideal Cert.BranchAttnDxRefIdeal.S8192x1024 .bf16) :
    Host.dotGeneral dot_S8192x1024_S1024x1024_S8192x1024_1_1_0_0_n_n none (extf .f32 a2 bitsLt_bf16_f32) (extf .f32 a1 bitsLt_bf16_f32)
      = rows a2 a1 := by
  funext i
  obtain ⟨r, s, rfl⟩ : ∃ r s, i = ix2 r s := ⟨i 0, i 1, eq_ix2 i⟩
  pointwise
  first
    | rfl
    | exact Finset.sum_congr rfl fun d _ => mul_comm _ _
    | exact congrArg (_ + ·) (Finset.sum_congr rfl fun d _ => mul_comm _ _)

open Cert.BranchAttnDxIdeal Cert.BranchAttnDxIdeal.Gen

/-! ## What the body computes of one tile -/

theorem pay (v3 : Vec Ideal S1024x1024 .f32) (v4 : Vec Ideal S1024x1024 .bf16) (v5 : Vec Ideal S1024x1024 .bf16) (r : Fin 1024) (s : Fin 1024) :
    k0_pay2 (F := Ideal) v3 v4 v5 (ix2 r s) = v3 (ix2 r s) + ∑ d : Fin 1024, v4 (ix2 r d) * v5 (ix2 s d) := by
  pointwise [k0_pay2]

theorem pay_zero (r : Fin 1024) (s : Fin 1024) : k0_pay1 (F := Ideal) (ix2 r s) = 0 := by pointwise [k0_pay1]

section Out
variable {F : FTy → Type} [FloatOps F]
variable (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole)
  (x0 : Vec F S1024x1024 .bf16) (x1 : Vec F S1024x1024 .bf16)

theorem out_A (hc : cond0_0 i) (hd : cond0_1 i) : out0_A_2 c i a3 h3 a4 h4 a5 h5 a6 h6 hc hd x0 x1
    = k0_pay2 k0_pay1 x0 x1 := by
  unfold out0_A_2
  rw [View.read_writes_eq_canon _ _ _ (cover0_A_2 c i a3 h3 a4 h4 a5 h5 a6 h6 hc hd x0 x1)]
  unfold kernelRun0_A
  dsimp only
  sl_unfold_words
  rw [View.canon_unit_zero (S := S1024x1024) hz, View.readCov_cons_toLoadRect, View.readCov_unit_zero (S := S1024x1024) _ hz]
  simp only [View.readAt_eq_ld, h3.read_unread, h4.read_unread, View.ld_unit_zero (S := S1024x1024) hz]

end Out

/-! ## The result array -/

variable (m : (ℓ : Loc nD τ sig) → Buf (Elt Ideal) ℓ) (ρ : Dev nD → PrngReg)

theorem idx : ∀ t : Fin cfg0.N, win0_0.index t = ![t.val / 1, t.val % 1] ∧ win0_1.index t = ![t.val / 1 % 1, t.val % 1]
    ∧ win0_2.index t = ![t.val / 1, t.val / 1 % 1] ∧ t.val < 8 :=
  (by decide +kernel : ∀ t : Fin grid0.N, _)

/-- The row, the column and the position on the shared axis of tile `t`'s entries. -/
def ti (t : Fin cfg0.N) (r : Fin 1024) : Fin 8192 := ⟨t.val / 1 * 1024 + r.val, by have := (idx t).2.2.2; omega⟩
def tj (t : Fin cfg0.N) (s : Fin 1024) : Fin 1024 := ⟨t.val / 1 % 1 * 1024 + s.val, by omega⟩
def tk (t : Fin cfg0.N) (d : Fin 1024) : Fin 1024 := ⟨t.val % 1 * 1024 + d.val, by omega⟩

abbrev A (c : Dev nD) : Arr 8192 1024 := m ((c : Thread nD τ).loc main_arg2)
abbrev B (c : Dev nD) : Arr 1024 1024 := m ((c : Thread nD τ).loc main_arg1)

theorem blk_a (c : Dev nD) (t : Fin cfg0.N) (r : Fin 1024) (d : Fin 1024) :
    (show Vec Ideal S1024x1024 .bf16 from iblk m c 0 t) (ix2 r d) = A m c (ix2 (ti t r) (tk t d)) := by
  unfold ti tk A
  blk_point [iblk, V, idx t]

theorem blk_b (c : Dev nD) (t : Fin cfg0.N) (s : Fin 1024) (d : Fin 1024) :
    (show Vec Ideal S1024x1024 .bf16 from iblk m c 1 t) (ix2 s d) = B m c (ix2 (tj t s) (tk t d)) := by
  unfold tj tk B
  blk_point [iblk, V, idx t]

/-- What tile `t` adds to its block. -/
def part (c : Dev nD) (t : Fin cfg0.N) (y : S1024x1024.Idx) : EReal :=
  ∑ d, A m c (ix2 (ti t (at0 y)) (tk t d)) * B m c (ix2 (tj t (at1 y)) (tk t d))

theorem part_ix2 (c : Dev nD) (t : Fin cfg0.N) (r : Fin 1024) (s : Fin 1024) :
    part m c t (ix2 r s) = ∑ d, A m c (ix2 (ti t r) (tk t d)) * B m c (ix2 (tj t s) (tk t d)) := rfl

theorem pay_part (c : Dev nD) (t : Fin cfg0.N) (v : Vec Ideal S1024x1024 .f32) (r : Fin 1024) (s : Fin 1024) :
    k0_pay2 (F := Ideal) v (iblk m c 0 t) (iblk m c 1 t) (ix2 r s) = v (ix2 r s) + part m c t (ix2 r s) := by
  refine (pay _ _ _ r s).trans ?_
  refine congrArg (v (ix2 r s) + ·) (Finset.sum_congr rfl fun d _ => ?_)
  exact congrArg₂ (· * ·) (blk_a m c t r d) (blk_b m c t s d)

theorem final (c : Dev nD) : (dats m 0 c).arrAt 2 cfg0.N = rows (A m c) (B m c) := by
  refine (dats m 0 c).arrAt_eq_of_covers 2 _ (by decide +kernel) fun t hf y => ?_
  blk_simp
  rw [after0_2]
  obtain ⟨r, s, rfl⟩ : ∃ (r : Fin 1024) (s : Fin 1024), y = ix2 r s := ⟨y 0, y 1, eq_ix2 y⟩
  have e0 : at0 ((win0_2.blk t).view.emb (ix2 r s)) = ti t r := by
    unfold at0 ti; apply Fin.ext; dsimp only; blk_simp [idx t]
  have e1 : at1 ((win0_2.blk t).view.emb (ix2 r s)) = tj t s := by
    unfold at1 tj; apply Fin.ext; dsimp only; blk_simp [idx t]
  unfold outsAt0
  rw [out_A]
  refine (pay_part m c t _ r s).trans ?_
  rw [pay_zero, zero_add]
  unfold rows
  rw [e0, e1]
  simp only [part_ix2]
  refine Finset.sum_congr rfl fun d _ => ?_
  rw [show tk t d = d from by unfold tk; apply Fin.ext; dsimp only; omega]

/-! ## The claims -/

theorem frame_ref : Cert.quiescent_BranchAttnDxRefIdeal (hBranchAttnDxRefIdeal := Cert.BranchAttnDxRefIdeal.Gen.facts) := fun m ρ _ =>
  (θ_run _ _ _).mono (fun r h => ⟨fun c => ((h c).2 : _), sem_eq_zero_of_no_sems (by decide) r.2⟩)
    (Cert.BranchAttnDxRefIdeal.Value.run m ρ)

theorem algebraic : Cert.algebraic_BranchAttnDxIdeal_BranchAttnDxRefIdeal
    (hBranchAttnDxIdeal := Cert.BranchAttnDxIdeal.Gen.facts) (hBranchAttnDxRefIdeal := Cert.BranchAttnDxRefIdeal.Gen.facts) := by
  intro m g m' g' _ hag
  refine ⟨fun c => rows (A m c) (B m c), ?_, ?_⟩
  · refine (θ_run _ _ _).mono (fun r h c => ?_) (Cert.BranchAttnDxIdeal.Value.run_blocks m g)
    exact ⟨(h c).1.trans (final m c), (h c).2⟩
  · refine (θ_run _ _ _).mono (fun r h c => ?_) (Cert.BranchAttnDxRefIdeal.Value.run m' g')
    refine ⟨(h c).1.trans ?_, (h c).2⟩
    obtain ⟨e0, e1, e2⟩ := hag c
    rw [e1, e2]
    exact ref_eq _ _

end Cert.BranchAttnDxProof

end
-- ==== Proof.BranchAttnDwValue.lean ====
/- The kernel BranchAttnDw: a product in tiles, its result array as the whole product, and the reference's result. -/
module

public import proofs.«01_k».proof.Defs
public import proofs.«01_k».proof.Proof.Gen.BranchAttnDwIdeal.Value
public import proofs.«01_k».proof.Proof.Gen.BranchAttnDwRefIdeal.Run
public import proofs.«01_k».proof.Proof.Product
public import Idealize.ShloMosaic.Lib.Pipeline.ValueKit
public import Idealize.ShloMosaic.Lib.Claim

@[expose] public section

set_option maxRecDepth 16384

noncomputable section

namespace Cert.BranchAttnDwProof

open Idealize.ShloMosaic Idealize.ShloMosaic.TcCoe Idealize.SL.Sem Cert.Product

/-! ## The reference's result -/

open Cert.BranchAttnDwRefIdeal Cert.BranchAttnDwRefIdeal.Gen in
theorem ref_eq (a0 : FVec Ideal Cert.BranchAttnDwRefIdeal.S8192x1024 .bf16) (a2 : FVec Ideal Cert.BranchAttnDwRefIdeal.S8192x1024 .bf16) :
    transpose S1024x1024 [1, 0] (Host.dotGeneral dot_S8192x1024_S8192x1024_S1024x1024_0_0_1_1_n_n none (extf .f32 a2 bitsLt_bf16_f32) (extf .f32 a0 bitsLt_bf16_f32)) transposes_S1024x1024_S1024x1024_1_0
      = cols a0 a2 := by
  funext i
  obtain ⟨r, s, rfl⟩ : ∃ r s, i = ix2 r s := ⟨i 0, i 1, eq_ix2 i⟩
  pointwise
  first
    | rfl
    | exact Finset.sum_congr rfl fun d _ => mul_comm _ _
    | exact congrArg (_ + ·) (Finset.sum_congr rfl fun d _ => mul_comm _ _)

open Cert.BranchAttnDwIdeal Cert.BranchAttnDwIdeal.Gen

/-! ## What the body computes of one tile -/

theorem pay (v3 : Vec Ideal S1024x1024 .f32) (v4 : Vec Ideal S1024x1024 .bf16) (v5 : Vec Ideal S1024x1024 .bf16) (r : Fin 1024) (s : Fin 1024) :
    k0_pay2 (F := Ideal) v3 v4 v5 (ix2 r s) = v3 (ix2 r s) + ∑ d : Fin 1024, v4 (ix2 d r) * v5 (ix2 d s) := by
  pointwise [k0_pay2]

theorem pay_zero (r : Fin 1024) (s : Fin 1024) : k0_pay1 (F := Ideal) (ix2 r s) = 0 := by pointwise [k0_pay1]

section Out
variable {F : FTy → Type} [FloatOps F]
variable (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole)
  (x0 : Vec F S1024x1024 .bf16) (x1 : Vec F S1024x1024 .bf16)

variable (y : Vec F S1024x1024 .f32)

theorem held_A (hc : cond0_0 i) (hd : ¬cond0_1 i) : sout0_A_0 c i a3 h3 a4 h4 a5 h5 a6 h6 hc hd x0 x1
    = k0_pay2 k0_pay1 x0 x1 := by
  unfold sout0_A_0
  rw [View.read_writes_eq_canon _ _ _ (scover0_A_0 c i a3 h3 a4 h4 a5 h5 a6 h6 hc hd x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

theorem held_B (hc : ¬cond0_0 i) (hd : ¬cond0_1 i) : sout0_B_0 c i a3 h3 a4 h4 a5 h5 a6 h6 hc hd x0 x1 y
    = k0_pay2 y x0 x1 := by
  unfold sout0_B_0
  rw [View.read_writes_eq_canon _ _ _ (scover0_B_0 c i a3 h3 a4 h4 a5 h5 a6 h6 hc hd x0 x1 y)]
  unfold kernelRun0_B
  dsimp only
  sl_unfold_words
  rw [View.canon_unit_zero (S := S1024x1024) hz]
  simp only [View.readAt_eq_ld, h3.read_unread, h4.read_unread, h6.read_unread, View.ld_unit_zero (S := S1024x1024) hz]

theorem held_C (hc : ¬cond0_0 i) (hd : cond0_1 i) : sout0_C_0 c i a3 h3 a4 h4 a5 h5 a6 h6 hc hd x0 x1 y
    = k0_pay2 y x0 x1 := by
  unfold sout0_C_0
  rw [View.read_writes_eq_canon _ _ _ (scover0_C_0 c i a3 h3 a4 h4 a5 h5 a6 h6 hc hd x0 x1 y)]
  unfold kernelRun0_C
  dsimp only
  sl_unfold_words
  rw [View.canon_unit_zero (S := S1024x1024) hz]
  simp only [View.readAt_eq_ld, h3.read_unread, h4.read_unread, h6.read_unread, View.ld_unit_zero (S := S1024x1024) hz]

theorem out_C (hc : ¬cond0_0 i) (hd : cond0_1 i) : out0_C_2 c i a3 h3 a4 h4 a5 h5 a6 h6 hc hd x0 x1 y
    = k0_pay2 y x0 x1 := by
  unfold out0_C_2
  rw [View.read_writes_eq_canon _ _ _ (cover0_C_2 c i a3 h3 a4 h4 a5 h5 a6 h6 hc hd x0 x1 y)]
  unfold kernelRun0_C
  dsimp only
  sl_unfold_words
  rw [View.canon_unit_zero (S := S1024x1024) hz, View.readCov_unit_zero (S := S1024x1024) _ hz]
  simp only [View.readAt_eq_ld, h3.read_unread, h4.read_unread, h6.read_unread, View.ld_unit_zero (S := S1024x1024) hz]

end Out

/-! ## The result array -/

variable (m : (ℓ : Loc nD τ sig) → Buf (Elt Ideal) ℓ) (ρ : Dev nD → PrngReg)

theorem idx : ∀ t : Fin cfg0.N, win0_0.index t = ![t.val % 8, t.val / 8] ∧ win0_1.index t = ![t.val % 8, t.val / 8 % 1]
    ∧ win0_2.index t = ![t.val / 8, t.val / 8 % 1] ∧ t.val < 8 :=
  (by decide +kernel : ∀ t : Fin grid0.N, _)

/-- The row, the column and the position on the shared axis of tile `t`'s entries. -/
def ti (t : Fin cfg0.N) (r : Fin 1024) : Fin 1024 := ⟨t.val / 8 * 1024 + r.val, by have := (idx t).2.2.2; omega⟩
def tj (t : Fin cfg0.N) (s : Fin 1024) : Fin 1024 := ⟨t.val / 8 % 1 * 1024 + s.val, by omega⟩
def tk (t : Fin cfg0.N) (d : Fin 1024) : Fin 8192 := ⟨t.val % 8 * 1024 + d.val, by omega⟩

abbrev A (c : Dev nD) : Arr 8192 1024 := m ((c : Thread nD τ).loc main_arg0)
abbrev B (c : Dev nD) : Arr 8192 1024 := m ((c : Thread nD τ).loc main_arg2)

theorem blk_a (c : Dev nD) (t : Fin cfg0.N) (r : Fin 1024) (d : Fin 1024) :
    (show Vec Ideal S1024x1024 .bf16 from iblk m c 0 t) (ix2 d r) = A m c (ix2 (tk t d) (ti t r)) := by
  unfold ti tk A
  blk_point [iblk, V, idx t]

theorem blk_b (c : Dev nD) (t : Fin cfg0.N) (s : Fin 1024) (d : Fin 1024) :
    (show Vec Ideal S1024x1024 .bf16 from iblk m c 1 t) (ix2 d s) = B m c (ix2 (tk t d) (tj t s)) := by
  unfold tj tk B
  blk_point [iblk, V, idx t]

/-- What tile `t` adds to its block. -/
def part (c : Dev nD) (t : Fin cfg0.N) (y : S1024x1024.Idx) : EReal :=
  ∑ d, A m c (ix2 (tk t d) (ti t (at0 y))) * B m c (ix2 (tk t d) (tj t (at1 y)))

theorem part_ix2 (c : Dev nD) (t : Fin cfg0.N) (r : Fin 1024) (s : Fin 1024) :
    part m c t (ix2 r s) = ∑ d, A m c (ix2 (tk t d) (ti t r)) * B m c (ix2 (tk t d) (tj t s)) := rfl

theorem pay_part (c : Dev nD) (t : Fin cfg0.N) (v : Vec Ideal S1024x1024 .f32) (r : Fin 1024) (s : Fin 1024) :
    k0_pay2 (F := Ideal) v (iblk m c 0 t) (iblk m c 1 t) (ix2 r s) = v (ix2 r s) + part m c t (ix2 r s) := by
  refine (pay _ _ _ r s).trans ?_
  refine congrArg (v (ix2 r s) + ·) (Finset.sum_congr rfl fun d _ => ?_)
  exact congrArg₂ (· * ·) (blk_a m c t r d) (blk_b m c t s d)

theorem reset (c : Dev nD) (t : Fin cfg0.N) (h : t.val % 8 = 0) (y : S1024x1024.Idx) :
    (outsAt0 m c t.val t.isLt).2 y = 0 + part m c t y := by
  obtain ⟨r, s, rfl⟩ : ∃ r s, y = ix2 r s := ⟨y 0, y 1, eq_ix2 y⟩
  rw [outsAt0_A m c t h (by omega)]
  dsimp only
  rw [held_A]
  refine (pay_part m c t _ r s).trans ?_
  rw [pay_zero]

theorem step (c : Dev nD) (t : Fin cfg0.N) (h : ¬t.val % 8 = 0) (y : S1024x1024.Idx) :
    (outsAt0 m c t.val t.isLt).2 y = (outsAt0 m c (t.val - 1) (Nat.lt_of_le_of_lt (Nat.sub_le _ _) t.isLt)).2 y + part m c t y := by
  obtain ⟨r, s, rfl⟩ : ∃ r s, y = ix2 r s := ⟨y 0, y 1, eq_ix2 y⟩
  by_cases h1 : t.val % 8 = 7
  · rw [outsAt0_C m c t h h1]
    dsimp only
    rw [held_C]
    exact pay_part m c t _ r s
  · rw [outsAt0_B m c t h h1]
    dsimp only
    rw [held_B]
    exact pay_part m c t _ r s

theorem leaves (c : Dev nD) (t : Fin cfg0.N) (h : t.val % 8 = 7) (r : Fin 1024) (s : Fin 1024) :
    (outsAt0 m c t.val t.isLt).1 (ix2 r s) = (outsAt0 m c t.val t.isLt).2 (ix2 r s) := by
  rw [outsAt0_C m c t (by omega) h]
  dsimp only
  rw [out_C, held_C]

theorem ti_run (t : Fin cfg0.N) (s : Fin 8) (h) (r : Fin 1024) : ti ⟨8 * (t.val / 8) + s.val, h⟩ r = ti t r := by
  unfold ti; apply Fin.ext; dsimp only; omega

theorem tj_run (t : Fin cfg0.N) (s : Fin 8) (h) (r : Fin 1024) : tj ⟨8 * (t.val / 8) + s.val, h⟩ r = tj t r := by
  unfold tj; apply Fin.ext; dsimp only; omega

theorem tk_run (t : Fin cfg0.N) (s : Fin 8) (h) (d : Fin 1024) :
    tk ⟨8 * (t.val / 8) + s.val, h⟩ d = ⟨s.val * 1024 + d.val, by omega⟩ := by
  unfold tk; apply Fin.ext; dsimp only; omega

theorem final (c : Dev nD) : (dats m 0 c).arrAt 2 cfg0.N = cols (A m c) (B m c) := by
  refine (dats m 0 c).arrAt_eq_of_covers 2 _ (by decide +kernel) fun t hf y => ?_
  blk_simp
  rw [after0_2]
  obtain ⟨r, s, rfl⟩ : ∃ (r : Fin 1024) (s : Fin 1024), y = ix2 r s := ⟨y 0, y 1, eq_ix2 y⟩
  have e0 : at0 ((win0_2.blk t).view.emb (ix2 r s)) = ti t r := by
    unfold at0 ti; apply Fin.ext; dsimp only; blk_simp [idx t]
  have e1 : at1 ((win0_2.blk t).view.emb (ix2 r s)) = tj t s := by
    unfold at1 tj; apply Fin.ext; dsimp only; blk_simp [idx t]
  have hl : t.val % 8 = 7 := (flush0_2 t).mp hf
  rw [leaves m c t hl,
    Pipeline.eq_sum_fin_of_reset_step_apply_of_flush (fun n h => (outsAt0 m c n h).2) 8 (fun _ => 0) (part m c)
      (reset m c) (step m c) t hl _, zero_add]
  unfold cols
  rw [e0, e1]
  simp only [part_ix2]
  refine Fin.sum_mul_add_congr fun k d hl => ?_
  rw [ti_run, tj_run, tk_run]

/-! ## The claims -/

theorem frame_ref : Cert.quiescent_BranchAttnDwRefIdeal (hBranchAttnDwRefIdeal := Cert.BranchAttnDwRefIdeal.Gen.facts) := fun m ρ _ =>
  (θ_run _ _ _).mono (fun r h => ⟨fun c => ((h c).2 : _), sem_eq_zero_of_no_sems (by decide) r.2⟩)
    (Cert.BranchAttnDwRefIdeal.Value.run m ρ)

theorem algebraic : Cert.algebraic_BranchAttnDwIdeal_BranchAttnDwRefIdeal
    (hBranchAttnDwIdeal := Cert.BranchAttnDwIdeal.Gen.facts) (hBranchAttnDwRefIdeal := Cert.BranchAttnDwRefIdeal.Gen.facts) := by
  intro m g m' g' _ hag
  refine ⟨fun c => cols (A m c) (B m c), ?_, ?_⟩
  · refine (θ_run _ _ _).mono (fun r h c => ?_) (Cert.BranchAttnDwIdeal.Value.run_blocks m g)
    exact ⟨(h c).1.trans (final m c), (h c).2⟩
  · refine (θ_run _ _ _).mono (fun r h c => ?_) (Cert.BranchAttnDwRefIdeal.Value.run m' g')
    refine ⟨(h c).1.trans ?_, (h c).2⟩
    obtain ⟨e0, e1, e2⟩ := hag c
    rw [e0, e2]
    exact ref_eq _ _

end Cert.BranchAttnDwProof

end
-- ==== Proof.InQFwValue.lean ====
/- The kernel InQFw: a product in tiles, its result array as the whole product, and the reference's result. -/
module

public import proofs.«01_k».proof.Defs
public import proofs.«01_k».proof.Proof.Gen.InQFwIdeal.Value
public import proofs.«01_k».proof.Proof.Gen.InQFwRefIdeal.Run
public import proofs.«01_k».proof.Proof.Product
public import Idealize.ShloMosaic.Lib.Pipeline.ValueKit
public import Idealize.ShloMosaic.Lib.Claim

@[expose] public section

set_option maxRecDepth 16384

noncomputable section

namespace Cert.InQFwProof

open Idealize.ShloMosaic Idealize.ShloMosaic.TcCoe Idealize.SL.Sem Cert.Product

/-! ## The reference's result -/

open Cert.InQFwRefIdeal Cert.InQFwRefIdeal.Gen in
theorem ref_eq (a0 : FVec Ideal Cert.InQFwRefIdeal.S8192x1024 .bf16) (a1 : FVec Ideal Cert.InQFwRefIdeal.S1024x384 .bf16) :
    Host.dotGeneral dot_S8192x1024_S1024x384_S8192x384_1_0_0_1_n_n none (extf .f32 a0 bitsLt_bf16_f32) (extf .f32 a1 bitsLt_bf16_f32)
      = mul a0 a1 := by
  funext i
  obtain ⟨r, s, rfl⟩ : ∃ r s, i = ix2 r s := ⟨i 0, i 1, eq_ix2 i⟩
  pointwise
  first
    | rfl
    | exact Finset.sum_congr rfl fun d _ => mul_comm _ _
    | exact congrArg (_ + ·) (Finset.sum_congr rfl fun d _ => mul_comm _ _)

open Cert.InQFwIdeal Cert.InQFwIdeal.Gen

/-! ## What the body computes of one tile -/

theorem pay (v3 : Vec Ideal S1024x384 .f32) (v4 : Vec Ideal S1024x1024 .bf16) (v5 : Vec Ideal S1024x384 .bf16) (r : Fin 1024) (s : Fin 384) :
    k0_pay2 (F := Ideal) v3 v4 v5 (ix2 r s) = v3 (ix2 r s) + ∑ d : Fin 1024, v4 (ix2 r d) * v5 (ix2 d s) := by
  pointwise [k0_pay2]

theorem pay_zero (r : Fin 1024) (s : Fin 384) : k0_pay1 (F := Ideal) (ix2 r s) = 0 := by pointwise [k0_pay1]

section Out
variable {F : FTy → Type} [FloatOps F]
variable (c : Dev nD) (i : grid0.Coords) (a3 : Memref sig .tc .vmem S1024x1024 .bf16) (h3 : a3.IsWhole) (a4 : Memref sig .tc .vmem S1024x384 .bf16) (h4 : a4.IsWhole) (a5 : Memref sig .tc .vmem S1024x384 .f32) (h5 : a5.IsWhole) (a6 : Memref sig .tc .vmem S1024x384 .f32) (h6 : a6.IsWhole)
  (x0 : Vec F S1024x1024 .bf16) (x1 : Vec F S1024x384 .bf16)

theorem out_A (hc : cond0_0 i) (hd : cond0_1 i) : out0_A_2 c i a3 h3 a4 h4 a5 h5 a6 h6 hc hd x0 x1
    = k0_pay2 k0_pay1 x0 x1 := by
  unfold out0_A_2
  rw [View.read_writes_eq_canon _ _ _ (cover0_A_2 c i a3 h3 a4 h4 a5 h5 a6 h6 hc hd x0 x1)]
  unfold kernelRun0_A
  dsimp only
  sl_unfold_words
  rw [View.canon_unit_zero (S := S1024x384) hz, View.readCov_cons_toLoadRect, View.readCov_unit_zero (S := S1024x384) _ hz]
  simp only [View.readAt_eq_ld, h3.read_unread, h4.read_unread, View.ld_unit_zero (S := S1024x1024) hz, View.ld_unit_zero (S := S1024x384) hz]

end Out

/-! ## The result array -/

variable (m : (ℓ : Loc nD τ sig) → Buf (Elt Ideal) ℓ) (ρ : Dev nD → PrngReg)

theorem idx : ∀ t : Fin cfg0.N, win0_0.index t = ![t.val / 1, t.val % 1] ∧ win0_1.index t = ![t.val % 1, t.val / 1 % 1]
    ∧ win0_2.index t = ![t.val / 1, t.val / 1 % 1] ∧ t.val < 8 :=
  (by decide +kernel : ∀ t : Fin grid0.N, _)

/-- The row, the column and the position on the shared axis of tile `t`'s entries. -/
def ti (t : Fin cfg0.N) (r : Fin 1024) : Fin 8192 := ⟨t.val / 1 * 1024 + r.val, by have := (idx t).2.2.2; omega⟩
def tj (t : Fin cfg0.N) (s : Fin 384) : Fin 384 := ⟨t.val / 1 % 1 * 384 + s.val, by omega⟩
def tk (t : Fin cfg0.N) (d : Fin 1024) : Fin 1024 := ⟨t.val % 1 * 1024 + d.val, by omega⟩

abbrev A (c : Dev nD) : Arr 8192 1024 := m ((c : Thread nD τ).loc main_arg0)
abbrev B (c : Dev nD) : Arr 1024 384 := m ((c : Thread nD τ).loc main_arg1)

theorem blk_a (c : Dev nD) (t : Fin cfg0.N) (r : Fin 1024) (d : Fin 1024) :
    (show Vec Ideal S1024x1024 .bf16 from iblk m c 0 t) (ix2 r d) = A m c (ix2 (ti t r) (tk t d)) := by
  unfold ti tk A
  blk_point [iblk, V, idx t]

theorem blk_b (c : Dev nD) (t : Fin cfg0.N) (s : Fin 384) (d : Fin 1024) :
    (show Vec Ideal S1024x384 .bf16 from iblk m c 1 t) (ix2 d s) = B m c (ix2 (tk t d) (tj t s)) := by
  unfold tj tk B
  blk_point [iblk, V, idx t]

/-- What tile `t` adds to its block. -/
def part (c : Dev nD) (t : Fin cfg0.N) (y : S1024x384.Idx) : EReal :=
  ∑ d, A m c (ix2 (ti t (at0 y)) (tk t d)) * B m c (ix2 (tk t d) (tj t (at1 y)))

theorem part_ix2 (c : Dev nD) (t : Fin cfg0.N) (r : Fin 1024) (s : Fin 384) :
    part m c t (ix2 r s) = ∑ d, A m c (ix2 (ti t r) (tk t d)) * B m c (ix2 (tk t d) (tj t s)) := rfl

theorem pay_part (c : Dev nD) (t : Fin cfg0.N) (v : Vec Ideal S1024x384 .f32) (r : Fin 1024) (s : Fin 384) :
    k0_pay2 (F := Ideal) v (iblk m c 0 t) (iblk m c 1 t) (ix2 r s) = v (ix2 r s) + part m c t (ix2 r s) := by
  refine (pay _ _ _ r s).trans ?_
  refine congrArg (v (ix2 r s) + ·) (Finset.sum_congr rfl fun d _ => ?_)
  exact congrArg₂ (· * ·) (blk_a m c t r d) (blk_b m c t s d)

theorem final (c : Dev nD) : (dats m 0 c).arrAt 2 cfg0.N = mul (A m c) (B m c) := by
  refine (dats m 0 c).arrAt_eq_of_covers 2 _ (by decide +kernel) fun t hf y => ?_
  blk_simp
  rw [after0_2]
  obtain ⟨r, s, rfl⟩ : ∃ (r : Fin 1024) (s : Fin 384), y = ix2 r s := ⟨y 0, y 1, eq_ix2 y⟩
  have e0 : at0 ((win0_2.blk t).view.emb (ix2 r s)) = ti t r := by
    unfold at0 ti; apply Fin.ext; dsimp only; blk_simp [idx t]
  have e1 : at1 ((win0_2.blk t).view.emb (ix2 r s)) = tj t s := by
    unfold at1 tj; apply Fin.ext; dsimp only; blk_simp [idx t]
  unfold outsAt0
  rw [out_A]
  refine (pay_part m c t _ r s).trans ?_
  rw [pay_zero, zero_add]
  unfold mul
  rw [e0, e1]
  simp only [part_ix2]
  refine Finset.sum_congr rfl fun d _ => ?_
  rw [show tk t d = d from by unfold tk; apply Fin.ext; dsimp only; omega]

/-! ## The claims -/

theorem frame_ref : Cert.quiescent_InQFwRefIdeal (hInQFwRefIdeal := Cert.InQFwRefIdeal.Gen.facts) := fun m ρ _ =>
  (θ_run _ _ _).mono (fun r h => ⟨fun c => ((h c).2 : _), sem_eq_zero_of_no_sems (by decide) r.2⟩)
    (Cert.InQFwRefIdeal.Value.run m ρ)

theorem algebraic : Cert.algebraic_InQFwIdeal_InQFwRefIdeal
    (hInQFwIdeal := Cert.InQFwIdeal.Gen.facts) (hInQFwRefIdeal := Cert.InQFwRefIdeal.Gen.facts) := by
  intro m g m' g' _ hag
  refine ⟨fun c => mul (A m c) (B m c), ?_, ?_⟩
  · refine (θ_run _ _ _).mono (fun r h c => ?_) (Cert.InQFwIdeal.Value.run_blocks m g)
    exact ⟨(h c).1.trans (final m c), (h c).2⟩
  · refine (θ_run _ _ _).mono (fun r h c => ?_) (Cert.InQFwRefIdeal.Value.run m' g')
    refine ⟨(h c).1.trans ?_, (h c).2⟩
    obtain ⟨e0, e1⟩ := hag c
    rw [e0, e1]
    exact ref_eq _ _

end Cert.InQFwProof

end
-- ==== Proof.InCkvFwValue.lean ====
/- The kernel InCkvFw: a product in tiles, its result array as the whole product, and the reference's result. -/
module

public import proofs.«01_k».proof.Defs
public import proofs.«01_k».proof.Proof.Gen.InCkvFwIdeal.Value
public import proofs.«01_k».proof.Proof.Gen.InCkvFwRefIdeal.Run
public import proofs.«01_k».proof.Proof.Product
public import Idealize.ShloMosaic.Lib.Pipeline.ValueKit
public import Idealize.ShloMosaic.Lib.Claim

@[expose] public section

set_option maxRecDepth 16384

noncomputable section

namespace Cert.InCkvFwProof

open Idealize.ShloMosaic Idealize.ShloMosaic.TcCoe Idealize.SL.Sem Cert.Product

/-! ## The reference's result -/

open Cert.InCkvFwRefIdeal Cert.InCkvFwRefIdeal.Gen in
theorem ref_eq (a0 : FVec Ideal Cert.InCkvFwRefIdeal.S8192x1024 .bf16) (a1 : FVec Ideal Cert.InCkvFwRefIdeal.S1024x256 .bf16) :
    Host.dotGeneral dot_S8192x1024_S1024x256_S8192x256_1_0_0_1_n_n none (extf .f32 a0 bitsLt_bf16_f32) (extf .f32 a1 bitsLt_bf16_f32)
      = mul a0 a1 := by
  funext i
  obtain ⟨r, s, rfl⟩ : ∃ r s, i = ix2 r s := ⟨i 0, i 1, eq_ix2 i⟩
  pointwise
  first
    | rfl
    | exact Finset.sum_congr rfl fun d _ => mul_comm _ _
    | exact congrArg (_ + ·) (Finset.sum_congr rfl fun d _ => mul_comm _ _)

open Cert.InCkvFwIdeal Cert.InCkvFwIdeal.Gen

/-! ## What the body computes of one tile -/

theorem pay (v3 : Vec Ideal S1024x256 .f32) (v4 : Vec Ideal S1024x1024 .bf16) (v5 : Vec Ideal S1024x256 .bf16) (r : Fin 1024) (s : Fin 256) :
    k0_pay2 (F := Ideal) v3 v4 v5 (ix2 r s) = v3 (ix2 r s) + ∑ d : Fin 1024, v4 (ix2 r d) * v5 (ix2 d s) := by
  pointwise [k0_pay2]

theorem pay_zero (r : Fin 1024) (s : Fin 256) : k0_pay1 (F := Ideal) (ix2 r s) = 0 := by pointwise [k0_pay1]

section Out
variable {F : FTy → Type} [FloatOps F]
variable (c : Dev nD) (i : grid0.Coords) (a3 : Memref sig .tc .vmem S1024x1024 .bf16) (h3 : a3.IsWhole) (a4 : Memref sig .tc .vmem S1024x256 .bf16) (h4 : a4.IsWhole) (a5 : Memref sig .tc .vmem S1024x256 .f32) (h5 : a5.IsWhole) (a6 : Memref sig .tc .vmem S1024x256 .f32) (h6 : a6.IsWhole)
  (x0 : Vec F S1024x1024 .bf16) (x1 : Vec F S1024x256 .bf16)

theorem out_A (hc : cond0_0 i) (hd : cond0_1 i) : out0_A_2 c i a3 h3 a4 h4 a5 h5 a6 h6 hc hd x0 x1
    = k0_pay2 k0_pay1 x0 x1 := by
  unfold out0_A_2
  rw [View.read_writes_eq_canon _ _ _ (cover0_A_2 c i a3 h3 a4 h4 a5 h5 a6 h6 hc hd x0 x1)]
  unfold kernelRun0_A
  dsimp only
  sl_unfold_words
  rw [View.canon_unit_zero (S := S1024x256) hz, View.readCov_cons_toLoadRect, View.readCov_unit_zero (S := S1024x256) _ hz]
  simp only [View.readAt_eq_ld, h3.read_unread, h4.read_unread, View.ld_unit_zero (S := S1024x1024) hz, View.ld_unit_zero (S := S1024x256) hz]

end Out

/-! ## The result array -/

variable (m : (ℓ : Loc nD τ sig) → Buf (Elt Ideal) ℓ) (ρ : Dev nD → PrngReg)

theorem idx : ∀ t : Fin cfg0.N, win0_0.index t = ![t.val / 1, t.val % 1] ∧ win0_1.index t = ![t.val % 1, t.val / 1 % 1]
    ∧ win0_2.index t = ![t.val / 1, t.val / 1 % 1] ∧ t.val < 8 :=
  (by decide +kernel : ∀ t : Fin grid0.N, _)

/-- The row, the column and the position on the shared axis of tile `t`'s entries. -/
def ti (t : Fin cfg0.N) (r : Fin 1024) : Fin 8192 := ⟨t.val / 1 * 1024 + r.val, by have := (idx t).2.2.2; omega⟩
def tj (t : Fin cfg0.N) (s : Fin 256) : Fin 256 := ⟨t.val / 1 % 1 * 256 + s.val, by omega⟩
def tk (t : Fin cfg0.N) (d : Fin 1024) : Fin 1024 := ⟨t.val % 1 * 1024 + d.val, by omega⟩

abbrev A (c : Dev nD) : Arr 8192 1024 := m ((c : Thread nD τ).loc main_arg0)
abbrev B (c : Dev nD) : Arr 1024 256 := m ((c : Thread nD τ).loc main_arg1)

theorem blk_a (c : Dev nD) (t : Fin cfg0.N) (r : Fin 1024) (d : Fin 1024) :
    (show Vec Ideal S1024x1024 .bf16 from iblk m c 0 t) (ix2 r d) = A m c (ix2 (ti t r) (tk t d)) := by
  unfold ti tk A
  blk_point [iblk, V, idx t]

theorem blk_b (c : Dev nD) (t : Fin cfg0.N) (s : Fin 256) (d : Fin 1024) :
    (show Vec Ideal S1024x256 .bf16 from iblk m c 1 t) (ix2 d s) = B m c (ix2 (tk t d) (tj t s)) := by
  unfold tj tk B
  blk_point [iblk, V, idx t]

/-- What tile `t` adds to its block. -/
def part (c : Dev nD) (t : Fin cfg0.N) (y : S1024x256.Idx) : EReal :=
  ∑ d, A m c (ix2 (ti t (at0 y)) (tk t d)) * B m c (ix2 (tk t d) (tj t (at1 y)))

theorem part_ix2 (c : Dev nD) (t : Fin cfg0.N) (r : Fin 1024) (s : Fin 256) :
    part m c t (ix2 r s) = ∑ d, A m c (ix2 (ti t r) (tk t d)) * B m c (ix2 (tk t d) (tj t s)) := rfl

theorem pay_part (c : Dev nD) (t : Fin cfg0.N) (v : Vec Ideal S1024x256 .f32) (r : Fin 1024) (s : Fin 256) :
    k0_pay2 (F := Ideal) v (iblk m c 0 t) (iblk m c 1 t) (ix2 r s) = v (ix2 r s) + part m c t (ix2 r s) := by
  refine (pay _ _ _ r s).trans ?_
  refine congrArg (v (ix2 r s) + ·) (Finset.sum_congr rfl fun d _ => ?_)
  exact congrArg₂ (· * ·) (blk_a m c t r d) (blk_b m c t s d)

theorem final (c : Dev nD) : (dats m 0 c).arrAt 2 cfg0.N = mul (A m c) (B m c) := by
  refine (dats m 0 c).arrAt_eq_of_covers 2 _ (by decide +kernel) fun t hf y => ?_
  blk_simp
  rw [after0_2]
  obtain ⟨r, s, rfl⟩ : ∃ (r : Fin 1024) (s : Fin 256), y = ix2 r s := ⟨y 0, y 1, eq_ix2 y⟩
  have e0 : at0 ((win0_2.blk t).view.emb (ix2 r s)) = ti t r := by
    unfold at0 ti; apply Fin.ext; dsimp only; blk_simp [idx t]
  have e1 : at1 ((win0_2.blk t).view.emb (ix2 r s)) = tj t s := by
    unfold at1 tj; apply Fin.ext; dsimp only; blk_simp [idx t]
  unfold outsAt0
  rw [out_A]
  refine (pay_part m c t _ r s).trans ?_
  rw [pay_zero, zero_add]
  unfold mul
  rw [e0, e1]
  simp only [part_ix2]
  refine Finset.sum_congr rfl fun d _ => ?_
  rw [show tk t d = d from by unfold tk; apply Fin.ext; dsimp only; omega]

/-! ## The claims -/

theorem frame_ref : Cert.quiescent_InCkvFwRefIdeal (hInCkvFwRefIdeal := Cert.InCkvFwRefIdeal.Gen.facts) := fun m ρ _ =>
  (θ_run _ _ _).mono (fun r h => ⟨fun c => ((h c).2 : _), sem_eq_zero_of_no_sems (by decide) r.2⟩)
    (Cert.InCkvFwRefIdeal.Value.run m ρ)

theorem algebraic : Cert.algebraic_InCkvFwIdeal_InCkvFwRefIdeal
    (hInCkvFwIdeal := Cert.InCkvFwIdeal.Gen.facts) (hInCkvFwRefIdeal := Cert.InCkvFwRefIdeal.Gen.facts) := by
  intro m g m' g' _ hag
  refine ⟨fun c => mul (A m c) (B m c), ?_, ?_⟩
  · refine (θ_run _ _ _).mono (fun r h c => ?_) (Cert.InCkvFwIdeal.Value.run_blocks m g)
    exact ⟨(h c).1.trans (final m c), (h c).2⟩
  · refine (θ_run _ _ _).mono (fun r h c => ?_) (Cert.InCkvFwRefIdeal.Value.run m' g')
    refine ⟨(h c).1.trans ?_, (h c).2⟩
    obtain ⟨e0, e1⟩ := hag c
    rw [e0, e1]
    exact ref_eq _ _

end Cert.InCkvFwProof

end
-- ==== Proof.InKrFwValue.lean ====
/- The kernel InKrFw: a product in tiles, its result array as the whole product, and the reference's result. -/
module

public import proofs.«01_k».proof.Defs
public import proofs.«01_k».proof.Proof.Gen.InKrFwIdeal.Value
public import proofs.«01_k».proof.Proof.Gen.InKrFwRefIdeal.Run
public import proofs.«01_k».proof.Proof.Product
public import Idealize.ShloMosaic.Lib.Pipeline.ValueKit
public import Idealize.ShloMosaic.Lib.Claim

@[expose] public section

set_option maxRecDepth 16384

noncomputable section

namespace Cert.InKrFwProof

open Idealize.ShloMosaic Idealize.ShloMosaic.TcCoe Idealize.SL.Sem Cert.Product

/-! ## The reference's result -/

open Cert.InKrFwRefIdeal Cert.InKrFwRefIdeal.Gen in
theorem ref_eq (a0 : FVec Ideal Cert.InKrFwRefIdeal.S8192x1024 .bf16) (a1 : FVec Ideal Cert.InKrFwRefIdeal.S1024x256 .bf16) :
    Host.dotGeneral dot_S8192x1024_S1024x256_S8192x256_1_0_0_1_n_n none (extf .f32 a0 bitsLt_bf16_f32) (extf .f32 a1 bitsLt_bf16_f32)
      = mul a0 a1 := by
  funext i
  obtain ⟨r, s, rfl⟩ : ∃ r s, i = ix2 r s := ⟨i 0, i 1, eq_ix2 i⟩
  pointwise
  first
    | rfl
    | exact Finset.sum_congr rfl fun d _ => mul_comm _ _
    | exact congrArg (_ + ·) (Finset.sum_congr rfl fun d _ => mul_comm _ _)

open Cert.InKrFwIdeal Cert.InKrFwIdeal.Gen

/-! ## What the body computes of one tile -/

theorem pay (v3 : Vec Ideal S1024x256 .f32) (v4 : Vec Ideal S1024x1024 .bf16) (v5 : Vec Ideal S1024x256 .bf16) (r : Fin 1024) (s : Fin 256) :
    k0_pay2 (F := Ideal) v3 v4 v5 (ix2 r s) = v3 (ix2 r s) + ∑ d : Fin 1024, v4 (ix2 r d) * v5 (ix2 d s) := by
  pointwise [k0_pay2]

theorem pay_zero (r : Fin 1024) (s : Fin 256) : k0_pay1 (F := Ideal) (ix2 r s) = 0 := by pointwise [k0_pay1]

section Out
variable {F : FTy → Type} [FloatOps F]
variable (c : Dev nD) (i : grid0.Coords) (a3 : Memref sig .tc .vmem S1024x1024 .bf16) (h3 : a3.IsWhole) (a4 : Memref sig .tc .vmem S1024x256 .bf16) (h4 : a4.IsWhole) (a5 : Memref sig .tc .vmem S1024x256 .f32) (h5 : a5.IsWhole) (a6 : Memref sig .tc .vmem S1024x256 .f32) (h6 : a6.IsWhole)
  (x0 : Vec F S1024x1024 .bf16) (x1 : Vec F S1024x256 .bf16)

theorem out_A (hc : cond0_0 i) (hd : cond0_1 i) : out0_A_2 c i a3 h3 a4 h4 a5 h5 a6 h6 hc hd x0 x1
    = k0_pay2 k0_pay1 x0 x1 := by
  unfold out0_A_2
  rw [View.read_writes_eq_canon _ _ _ (cover0_A_2 c i a3 h3 a4 h4 a5 h5 a6 h6 hc hd x0 x1)]
  unfold kernelRun0_A
  dsimp only
  sl_unfold_words
  rw [View.canon_unit_zero (S := S1024x256) hz, View.readCov_cons_toLoadRect, View.readCov_unit_zero (S := S1024x256) _ hz]
  simp only [View.readAt_eq_ld, h3.read_unread, h4.read_unread, View.ld_unit_zero (S := S1024x1024) hz, View.ld_unit_zero (S := S1024x256) hz]

end Out

/-! ## The result array -/

variable (m : (ℓ : Loc nD τ sig) → Buf (Elt Ideal) ℓ) (ρ : Dev nD → PrngReg)

theorem idx : ∀ t : Fin cfg0.N, win0_0.index t = ![t.val / 1, t.val % 1] ∧ win0_1.index t = ![t.val % 1, t.val / 1 % 1]
    ∧ win0_2.index t = ![t.val / 1, t.val / 1 % 1] ∧ t.val < 8 :=
  (by decide +kernel : ∀ t : Fin grid0.N, _)

/-- The row, the column and the position on the shared axis of tile `t`'s entries. -/
def ti (t : Fin cfg0.N) (r : Fin 1024) : Fin 8192 := ⟨t.val / 1 * 1024 + r.val, by have := (idx t).2.2.2; omega⟩
def tj (t : Fin cfg0.N) (s : Fin 256) : Fin 256 := ⟨t.val / 1 % 1 * 256 + s.val, by omega⟩
def tk (t : Fin cfg0.N) (d : Fin 1024) : Fin 1024 := ⟨t.val % 1 * 1024 + d.val, by omega⟩

abbrev A (c : Dev nD) : Arr 8192 1024 := m ((c : Thread nD τ).loc main_arg0)
abbrev B (c : Dev nD) : Arr 1024 256 := m ((c : Thread nD τ).loc main_arg1)

theorem blk_a (c : Dev nD) (t : Fin cfg0.N) (r : Fin 1024) (d : Fin 1024) :
    (show Vec Ideal S1024x1024 .bf16 from iblk m c 0 t) (ix2 r d) = A m c (ix2 (ti t r) (tk t d)) := by
  unfold ti tk A
  blk_point [iblk, V, idx t]

theorem blk_b (c : Dev nD) (t : Fin cfg0.N) (s : Fin 256) (d : Fin 1024) :
    (show Vec Ideal S1024x256 .bf16 from iblk m c 1 t) (ix2 d s) = B m c (ix2 (tk t d) (tj t s)) := by
  unfold tj tk B
  blk_point [iblk, V, idx t]

/-- What tile `t` adds to its block. -/
def part (c : Dev nD) (t : Fin cfg0.N) (y : S1024x256.Idx) : EReal :=
  ∑ d, A m c (ix2 (ti t (at0 y)) (tk t d)) * B m c (ix2 (tk t d) (tj t (at1 y)))

theorem part_ix2 (c : Dev nD) (t : Fin cfg0.N) (r : Fin 1024) (s : Fin 256) :
    part m c t (ix2 r s) = ∑ d, A m c (ix2 (ti t r) (tk t d)) * B m c (ix2 (tk t d) (tj t s)) := rfl

theorem pay_part (c : Dev nD) (t : Fin cfg0.N) (v : Vec Ideal S1024x256 .f32) (r : Fin 1024) (s : Fin 256) :
    k0_pay2 (F := Ideal) v (iblk m c 0 t) (iblk m c 1 t) (ix2 r s) = v (ix2 r s) + part m c t (ix2 r s) := by
  refine (pay _ _ _ r s).trans ?_
  refine congrArg (v (ix2 r s) + ·) (Finset.sum_congr rfl fun d _ => ?_)
  exact congrArg₂ (· * ·) (blk_a m c t r d) (blk_b m c t s d)

theorem final (c : Dev nD) : (dats m 0 c).arrAt 2 cfg0.N = mul (A m c) (B m c) := by
  refine (dats m 0 c).arrAt_eq_of_covers 2 _ (by decide +kernel) fun t hf y => ?_
  blk_simp
  rw [after0_2]
  obtain ⟨r, s, rfl⟩ : ∃ (r : Fin 1024) (s : Fin 256), y = ix2 r s := ⟨y 0, y 1, eq_ix2 y⟩
  have e0 : at0 ((win0_2.blk t).view.emb (ix2 r s)) = ti t r := by
    unfold at0 ti; apply Fin.ext; dsimp only; blk_simp [idx t]
  have e1 : at1 ((win0_2.blk t).view.emb (ix2 r s)) = tj t s := by
    unfold at1 tj; apply Fin.ext; dsimp only; blk_simp [idx t]
  unfold outsAt0
  rw [out_A]
  refine (pay_part m c t _ r s).trans ?_
  rw [pay_zero, zero_add]
  unfold mul
  rw [e0, e1]
  simp only [part_ix2]
  refine Finset.sum_congr rfl fun d _ => ?_
  rw [show tk t d = d from by unfold tk; apply Fin.ext; dsimp only; omega]

/-! ## The claims -/

theorem frame_ref : Cert.quiescent_InKrFwRefIdeal (hInKrFwRefIdeal := Cert.InKrFwRefIdeal.Gen.facts) := fun m ρ _ =>
  (θ_run _ _ _).mono (fun r h => ⟨fun c => ((h c).2 : _), sem_eq_zero_of_no_sems (by decide) r.2⟩)
    (Cert.InKrFwRefIdeal.Value.run m ρ)

theorem algebraic : Cert.algebraic_InKrFwIdeal_InKrFwRefIdeal
    (hInKrFwIdeal := Cert.InKrFwIdeal.Gen.facts) (hInKrFwRefIdeal := Cert.InKrFwRefIdeal.Gen.facts) := by
  intro m g m' g' _ hag
  refine ⟨fun c => mul (A m c) (B m c), ?_, ?_⟩
  · refine (θ_run _ _ _).mono (fun r h c => ?_) (Cert.InKrFwIdeal.Value.run_blocks m g)
    exact ⟨(h c).1.trans (final m c), (h c).2⟩
  · refine (θ_run _ _ _).mono (fun r h c => ?_) (Cert.InKrFwRefIdeal.Value.run m' g')
    refine ⟨(h c).1.trans ?_, (h c).2⟩
    obtain ⟨e0, e1⟩ := hag c
    rw [e0, e1]
    exact ref_eq _ _

end Cert.InKrFwProof

end
-- ==== Proof.InSgFwValue.lean ====
/- The kernel InSgFw: a product in tiles, its result array as the whole product, and the reference's result. -/
module

public import proofs.«01_k».proof.Defs
public import proofs.«01_k».proof.Proof.Gen.InSgFwIdeal.Value
public import proofs.«01_k».proof.Proof.Gen.InSgFwRefIdeal.Run
public import proofs.«01_k».proof.Proof.Product
public import Idealize.ShloMosaic.Lib.Pipeline.ValueKit
public import Idealize.ShloMosaic.Lib.Claim

@[expose] public section

set_option maxRecDepth 16384

noncomputable section

namespace Cert.InSgFwProof

open Idealize.ShloMosaic Idealize.ShloMosaic.TcCoe Idealize.SL.Sem Cert.Product

/-! ## The reference's result -/

open Cert.InSgFwRefIdeal Cert.InSgFwRefIdeal.Gen in
theorem ref_eq (a0 : FVec Ideal Cert.InSgFwRefIdeal.S8192x1024 .bf16) (a1 : FVec Ideal Cert.InSgFwRefIdeal.S1024x1024 .bf16) :
    Host.dotGeneral dot_S8192x1024_S1024x1024_S8192x1024_1_0_0_1_n_n none (extf .f32 a0 bitsLt_bf16_f32) (extf .f32 a1 bitsLt_bf16_f32)
      = mul a0 a1 := by
  funext i
  obtain ⟨r, s, rfl⟩ : ∃ r s, i = ix2 r s := ⟨i 0, i 1, eq_ix2 i⟩
  pointwise
  first
    | rfl
    | exact Finset.sum_congr rfl fun d _ => mul_comm _ _
    | exact congrArg (_ + ·) (Finset.sum_congr rfl fun d _ => mul_comm _ _)

open Cert.InSgFwIdeal Cert.InSgFwIdeal.Gen

/-! ## What the body computes of one tile -/

theorem pay (v3 : Vec Ideal S1024x1024 .f32) (v4 : Vec Ideal S1024x1024 .bf16) (v5 : Vec Ideal S1024x1024 .bf16) (r : Fin 1024) (s : Fin 1024) :
    k0_pay2 (F := Ideal) v3 v4 v5 (ix2 r s) = v3 (ix2 r s) + ∑ d : Fin 1024, v4 (ix2 r d) * v5 (ix2 d s) := by
  pointwise [k0_pay2]

theorem pay_zero (r : Fin 1024) (s : Fin 1024) : k0_pay1 (F := Ideal) (ix2 r s) = 0 := by pointwise [k0_pay1]

section Out
variable {F : FTy → Type} [FloatOps F]
variable (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole)
  (x0 : Vec F S1024x1024 .bf16) (x1 : Vec F S1024x1024 .bf16)

theorem out_A (hc : cond0_0 i) (hd : cond0_1 i) : out0_A_2 c i a3 h3 a4 h4 a5 h5 a6 h6 hc hd x0 x1
    = k0_pay2 k0_pay1 x0 x1 := by
  unfold out0_A_2
  rw [View.read_writes_eq_canon _ _ _ (cover0_A_2 c i a3 h3 a4 h4 a5 h5 a6 h6 hc hd x0 x1)]
  unfold kernelRun0_A
  dsimp only
  sl_unfold_words
  rw [View.canon_unit_zero (S := S1024x1024) hz, View.readCov_cons_toLoadRect, View.readCov_unit_zero (S := S1024x1024) _ hz]
  simp only [View.readAt_eq_ld, h3.read_unread, h4.read_unread, View.ld_unit_zero (S := S1024x1024) hz]

end Out

/-! ## The result array -/

variable (m : (ℓ : Loc nD τ sig) → Buf (Elt Ideal) ℓ) (ρ : Dev nD → PrngReg)

theorem idx : ∀ t : Fin cfg0.N, win0_0.index t = ![t.val / 1, t.val % 1] ∧ win0_1.index t = ![t.val % 1, t.val / 1 % 1]
    ∧ win0_2.index t = ![t.val / 1, t.val / 1 % 1] ∧ t.val < 8 :=
  (by decide +kernel : ∀ t : Fin grid0.N, _)

/-- The row, the column and the position on the shared axis of tile `t`'s entries. -/
def ti (t : Fin cfg0.N) (r : Fin 1024) : Fin 8192 := ⟨t.val / 1 * 1024 + r.val, by have := (idx t).2.2.2; omega⟩
def tj (t : Fin cfg0.N) (s : Fin 1024) : Fin 1024 := ⟨t.val / 1 % 1 * 1024 + s.val, by omega⟩
def tk (t : Fin cfg0.N) (d : Fin 1024) : Fin 1024 := ⟨t.val % 1 * 1024 + d.val, by omega⟩

abbrev A (c : Dev nD) : Arr 8192 1024 := m ((c : Thread nD τ).loc main_arg0)
abbrev B (c : Dev nD) : Arr 1024 1024 := m ((c : Thread nD τ).loc main_arg1)

theorem blk_a (c : Dev nD) (t : Fin cfg0.N) (r : Fin 1024) (d : Fin 1024) :
    (show Vec Ideal S1024x1024 .bf16 from iblk m c 0 t) (ix2 r d) = A m c (ix2 (ti t r) (tk t d)) := by
  unfold ti tk A
  blk_point [iblk, V, idx t]

theorem blk_b (c : Dev nD) (t : Fin cfg0.N) (s : Fin 1024) (d : Fin 1024) :
    (show Vec Ideal S1024x1024 .bf16 from iblk m c 1 t) (ix2 d s) = B m c (ix2 (tk t d) (tj t s)) := by
  unfold tj tk B
  blk_point [iblk, V, idx t]

/-- What tile `t` adds to its block. -/
def part (c : Dev nD) (t : Fin cfg0.N) (y : S1024x1024.Idx) : EReal :=
  ∑ d, A m c (ix2 (ti t (at0 y)) (tk t d)) * B m c (ix2 (tk t d) (tj t (at1 y)))

theorem part_ix2 (c : Dev nD) (t : Fin cfg0.N) (r : Fin 1024) (s : Fin 1024) :
    part m c t (ix2 r s) = ∑ d, A m c (ix2 (ti t r) (tk t d)) * B m c (ix2 (tk t d) (tj t s)) := rfl

theorem pay_part (c : Dev nD) (t : Fin cfg0.N) (v : Vec Ideal S1024x1024 .f32) (r : Fin 1024) (s : Fin 1024) :
    k0_pay2 (F := Ideal) v (iblk m c 0 t) (iblk m c 1 t) (ix2 r s) = v (ix2 r s) + part m c t (ix2 r s) := by
  refine (pay _ _ _ r s).trans ?_
  refine congrArg (v (ix2 r s) + ·) (Finset.sum_congr rfl fun d _ => ?_)
  exact congrArg₂ (· * ·) (blk_a m c t r d) (blk_b m c t s d)

theorem final (c : Dev nD) : (dats m 0 c).arrAt 2 cfg0.N = mul (A m c) (B m c) := by
  refine (dats m 0 c).arrAt_eq_of_covers 2 _ (by decide +kernel) fun t hf y => ?_
  blk_simp
  rw [after0_2]
  obtain ⟨r, s, rfl⟩ : ∃ (r : Fin 1024) (s : Fin 1024), y = ix2 r s := ⟨y 0, y 1, eq_ix2 y⟩
  have e0 : at0 ((win0_2.blk t).view.emb (ix2 r s)) = ti t r := by
    unfold at0 ti; apply Fin.ext; dsimp only; blk_simp [idx t]
  have e1 : at1 ((win0_2.blk t).view.emb (ix2 r s)) = tj t s := by
    unfold at1 tj; apply Fin.ext; dsimp only; blk_simp [idx t]
  unfold outsAt0
  rw [out_A]
  refine (pay_part m c t _ r s).trans ?_
  rw [pay_zero, zero_add]
  unfold mul
  rw [e0, e1]
  simp only [part_ix2]
  refine Finset.sum_congr rfl fun d _ => ?_
  rw [show tk t d = d from by unfold tk; apply Fin.ext; dsimp only; omega]

/-! ## The claims -/

theorem frame_ref : Cert.quiescent_InSgFwRefIdeal (hInSgFwRefIdeal := Cert.InSgFwRefIdeal.Gen.facts) := fun m ρ _ =>
  (θ_run _ _ _).mono (fun r h => ⟨fun c => ((h c).2 : _), sem_eq_zero_of_no_sems (by decide) r.2⟩)
    (Cert.InSgFwRefIdeal.Value.run m ρ)

theorem algebraic : Cert.algebraic_InSgFwIdeal_InSgFwRefIdeal
    (hInSgFwIdeal := Cert.InSgFwIdeal.Gen.facts) (hInSgFwRefIdeal := Cert.InSgFwRefIdeal.Gen.facts) := by
  intro m g m' g' _ hag
  refine ⟨fun c => mul (A m c) (B m c), ?_, ?_⟩
  · refine (θ_run _ _ _).mono (fun r h c => ?_) (Cert.InSgFwIdeal.Value.run_blocks m g)
    exact ⟨(h c).1.trans (final m c), (h c).2⟩
  · refine (θ_run _ _ _).mono (fun r h c => ?_) (Cert.InSgFwRefIdeal.Value.run m' g')
    refine ⟨(h c).1.trans ?_, (h c).2⟩
    obtain ⟨e0, e1⟩ := hag c
    rw [e0, e1]
    exact ref_eq _ _

end Cert.InSgFwProof

end
-- ==== Proof.InRwFwValue.lean ====
/- The kernel InRwFw: a product in tiles, its result array as the whole product, and the reference's result. -/
module

public import proofs.«01_k».proof.Defs
public import proofs.«01_k».proof.Proof.Gen.InRwFwIdeal.Value
public import proofs.«01_k».proof.Proof.Gen.InRwFwRefIdeal.Run
public import proofs.«01_k».proof.Proof.Product
public import Idealize.ShloMosaic.Lib.Pipeline.ValueKit
public import Idealize.ShloMosaic.Lib.Claim

@[expose] public section

set_option maxRecDepth 16384

noncomputable section

namespace Cert.InRwFwProof

open Idealize.ShloMosaic Idealize.ShloMosaic.TcCoe Idealize.SL.Sem Cert.Product

/-! ## The reference's result -/

open Cert.InRwFwRefIdeal Cert.InRwFwRefIdeal.Gen in
theorem ref_eq (a0 : FVec Ideal Cert.InRwFwRefIdeal.S8192x1024 .bf16) (a1 : FVec Ideal Cert.InRwFwRefIdeal.S1024x1920 .bf16) :
    Host.dotGeneral dot_S8192x1024_S1024x1920_S8192x1920_1_0_0_1_n_n none (extf .f32 a0 bitsLt_bf16_f32) (extf .f32 a1 bitsLt_bf16_f32)
      = mul a0 a1 := by
  funext i
  obtain ⟨r, s, rfl⟩ : ∃ r s, i = ix2 r s := ⟨i 0, i 1, eq_ix2 i⟩
  pointwise
  first
    | rfl
    | exact Finset.sum_congr rfl fun d _ => mul_comm _ _
    | exact congrArg (_ + ·) (Finset.sum_congr rfl fun d _ => mul_comm _ _)

open Cert.InRwFwIdeal Cert.InRwFwIdeal.Gen

/-! ## What the body computes of one tile -/

theorem pay (v3 : Vec Ideal S1024x384 .f32) (v4 : Vec Ideal S1024x1024 .bf16) (v5 : Vec Ideal S1024x384 .bf16) (r : Fin 1024) (s : Fin 384) :
    k0_pay2 (F := Ideal) v3 v4 v5 (ix2 r s) = v3 (ix2 r s) + ∑ d : Fin 1024, v4 (ix2 r d) * v5 (ix2 d s) := by
  pointwise [k0_pay2]

theorem pay_zero (r : Fin 1024) (s : Fin 384) : k0_pay1 (F := Ideal) (ix2 r s) = 0 := by pointwise [k0_pay1]

section Out
variable {F : FTy → Type} [FloatOps F]
variable (c : Dev nD) (i : grid0.Coords) (a3 : Memref sig .tc .vmem S1024x1024 .bf16) (h3 : a3.IsWhole) (a4 : Memref sig .tc .vmem S1024x384 .bf16) (h4 : a4.IsWhole) (a5 : Memref sig .tc .vmem S1024x384 .f32) (h5 : a5.IsWhole) (a6 : Memref sig .tc .vmem S1024x384 .f32) (h6 : a6.IsWhole)
  (x0 : Vec F S1024x1024 .bf16) (x1 : Vec F S1024x384 .bf16)

theorem out_A (hc : cond0_0 i) (hd : cond0_1 i) : out0_A_2 c i a3 h3 a4 h4 a5 h5 a6 h6 hc hd x0 x1
    = k0_pay2 k0_pay1 x0 x1 := by
  unfold out0_A_2
  rw [View.read_writes_eq_canon _ _ _ (cover0_A_2 c i a3 h3 a4 h4 a5 h5 a6 h6 hc hd x0 x1)]
  unfold kernelRun0_A
  dsimp only
  sl_unfold_words
  rw [View.canon_unit_zero (S := S1024x384) hz, View.readCov_cons_toLoadRect, View.readCov_unit_zero (S := S1024x384) _ hz]
  simp only [View.readAt_eq_ld, h3.read_unread, h4.read_unread, View.ld_unit_zero (S := S1024x1024) hz, View.ld_unit_zero (S := S1024x384) hz]

end Out

/-! ## The result array -/

variable (m : (ℓ : Loc nD τ sig) → Buf (Elt Ideal) ℓ) (ρ : Dev nD → PrngReg)

theorem idx : ∀ t : Fin cfg0.N, win0_0.index t = ![t.val / 5, t.val % 1] ∧ win0_1.index t = ![t.val % 1, t.val / 1 % 5]
    ∧ win0_2.index t = ![t.val / 5, t.val / 1 % 5] ∧ t.val < 40 :=
  (by decide +kernel : ∀ t : Fin grid0.N, _)

/-- The row, the column and the position on the shared axis of tile `t`'s entries. -/
def ti (t : Fin cfg0.N) (r : Fin 1024) : Fin 8192 := ⟨t.val / 5 * 1024 + r.val, by have := (idx t).2.2.2; omega⟩
def tj (t : Fin cfg0.N) (s : Fin 384) : Fin 1920 := ⟨t.val / 1 % 5 * 384 + s.val, by omega⟩
def tk (t : Fin cfg0.N) (d : Fin 1024) : Fin 1024 := ⟨t.val % 1 * 1024 + d.val, by omega⟩

abbrev A (c : Dev nD) : Arr 8192 1024 := m ((c : Thread nD τ).loc main_arg0)
abbrev B (c : Dev nD) : Arr 1024 1920 := m ((c : Thread nD τ).loc main_arg1)

theorem blk_a (c : Dev nD) (t : Fin cfg0.N) (r : Fin 1024) (d : Fin 1024) :
    (show Vec Ideal S1024x1024 .bf16 from iblk m c 0 t) (ix2 r d) = A m c (ix2 (ti t r) (tk t d)) := by
  unfold ti tk A
  blk_point [iblk, V, idx t]

theorem blk_b (c : Dev nD) (t : Fin cfg0.N) (s : Fin 384) (d : Fin 1024) :
    (show Vec Ideal S1024x384 .bf16 from iblk m c 1 t) (ix2 d s) = B m c (ix2 (tk t d) (tj t s)) := by
  unfold tj tk B
  blk_point [iblk, V, idx t]

/-- What tile `t` adds to its block. -/
def part (c : Dev nD) (t : Fin cfg0.N) (y : S1024x384.Idx) : EReal :=
  ∑ d, A m c (ix2 (ti t (at0 y)) (tk t d)) * B m c (ix2 (tk t d) (tj t (at1 y)))

theorem part_ix2 (c : Dev nD) (t : Fin cfg0.N) (r : Fin 1024) (s : Fin 384) :
    part m c t (ix2 r s) = ∑ d, A m c (ix2 (ti t r) (tk t d)) * B m c (ix2 (tk t d) (tj t s)) := rfl

theorem pay_part (c : Dev nD) (t : Fin cfg0.N) (v : Vec Ideal S1024x384 .f32) (r : Fin 1024) (s : Fin 384) :
    k0_pay2 (F := Ideal) v (iblk m c 0 t) (iblk m c 1 t) (ix2 r s) = v (ix2 r s) + part m c t (ix2 r s) := by
  refine (pay _ _ _ r s).trans ?_
  refine congrArg (v (ix2 r s) + ·) (Finset.sum_congr rfl fun d _ => ?_)
  exact congrArg₂ (· * ·) (blk_a m c t r d) (blk_b m c t s d)

theorem final (c : Dev nD) : (dats m 0 c).arrAt 2 cfg0.N = mul (A m c) (B m c) := by
  refine (dats m 0 c).arrAt_eq_of_covers 2 _ (by decide +kernel) fun t hf y => ?_
  blk_simp
  rw [after0_2]
  obtain ⟨r, s, rfl⟩ : ∃ (r : Fin 1024) (s : Fin 384), y = ix2 r s := ⟨y 0, y 1, eq_ix2 y⟩
  have e0 : at0 ((win0_2.blk t).view.emb (ix2 r s)) = ti t r := by
    unfold at0 ti; apply Fin.ext; dsimp only; blk_simp [idx t]
  have e1 : at1 ((win0_2.blk t).view.emb (ix2 r s)) = tj t s := by
    unfold at1 tj; apply Fin.ext; dsimp only; blk_simp [idx t]
  unfold outsAt0
  rw [out_A]
  refine (pay_part m c t _ r s).trans ?_
  rw [pay_zero, zero_add]
  unfold mul
  rw [e0, e1]
  simp only [part_ix2]
  refine Finset.sum_congr rfl fun d _ => ?_
  rw [show tk t d = d from by unfold tk; apply Fin.ext; dsimp only; omega]

/-! ## The claims -/

theorem frame_ref : Cert.quiescent_InRwFwRefIdeal (hInRwFwRefIdeal := Cert.InRwFwRefIdeal.Gen.facts) := fun m ρ _ =>
  (θ_run _ _ _).mono (fun r h => ⟨fun c => ((h c).2 : _), sem_eq_zero_of_no_sems (by decide) r.2⟩)
    (Cert.InRwFwRefIdeal.Value.run m ρ)

theorem algebraic : Cert.algebraic_InRwFwIdeal_InRwFwRefIdeal
    (hInRwFwIdeal := Cert.InRwFwIdeal.Gen.facts) (hInRwFwRefIdeal := Cert.InRwFwRefIdeal.Gen.facts) := by
  intro m g m' g' _ hag
  refine ⟨fun c => mul (A m c) (B m c), ?_, ?_⟩
  · refine (θ_run _ _ _).mono (fun r h c => ?_) (Cert.InRwFwIdeal.Value.run_blocks m g)
    exact ⟨(h c).1.trans (final m c), (h c).2⟩
  · refine (θ_run _ _ _).mono (fun r h c => ?_) (Cert.InRwFwRefIdeal.Value.run m' g')
    refine ⟨(h c).1.trans ?_, (h c).2⟩
    obtain ⟨e0, e1⟩ := hag c
    rw [e0, e1]
    exact ref_eq _ _

end Cert.InRwFwProof

end
-- ==== Proof.InGateFwValue.lean ====
/- The kernel InGateFw: a product in tiles, its result array as the whole product, and the reference's result. -/
module

public import proofs.«01_k».proof.Defs
public import proofs.«01_k».proof.Proof.Gen.InGateFwIdeal.Value
public import proofs.«01_k».proof.Proof.Gen.InGateFwRefIdeal.Run
public import proofs.«01_k».proof.Proof.Product
public import Idealize.ShloMosaic.Lib.Pipeline.ValueKit
public import Idealize.ShloMosaic.Lib.Claim

@[expose] public section

set_option maxRecDepth 16384

noncomputable section

namespace Cert.InGateFwProof

open Idealize.ShloMosaic Idealize.ShloMosaic.TcCoe Idealize.SL.Sem Cert.Product

/-! ## The reference's result -/

open Cert.InGateFwRefIdeal Cert.InGateFwRefIdeal.Gen in
theorem ref_eq (a0 : FVec Ideal Cert.InGateFwRefIdeal.S8192x1024 .bf16) (a1 : FVec Ideal Cert.InGateFwRefIdeal.S1024x3072 .bf16) :
    Host.dotGeneral dot_S8192x1024_S1024x3072_S8192x3072_1_0_0_1_n_n none (extf .f32 a0 bitsLt_bf16_f32) (extf .f32 a1 bitsLt_bf16_f32)
      = mul a0 a1 := by
  funext i
  obtain ⟨r, s, rfl⟩ : ∃ r s, i = ix2 r s := ⟨i 0, i 1, eq_ix2 i⟩
  pointwise
  first
    | rfl
    | exact Finset.sum_congr rfl fun d _ => mul_comm _ _
    | exact congrArg (_ + ·) (Finset.sum_congr rfl fun d _ => mul_comm _ _)

open Cert.InGateFwIdeal Cert.InGateFwIdeal.Gen

/-! ## What the body computes of one tile -/

theorem pay (v3 : Vec Ideal S1024x1024 .f32) (v4 : Vec Ideal S1024x1024 .bf16) (v5 : Vec Ideal S1024x1024 .bf16) (r : Fin 1024) (s : Fin 1024) :
    k0_pay2 (F := Ideal) v3 v4 v5 (ix2 r s) = v3 (ix2 r s) + ∑ d : Fin 1024, v4 (ix2 r d) * v5 (ix2 d s) := by
  pointwise [k0_pay2]

theorem pay_zero (r : Fin 1024) (s : Fin 1024) : k0_pay1 (F := Ideal) (ix2 r s) = 0 := by pointwise [k0_pay1]

section Out
variable {F : FTy → Type} [FloatOps F]
variable (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole)
  (x0 : Vec F S1024x1024 .bf16) (x1 : Vec F S1024x1024 .bf16)

theorem out_A (hc : cond0_0 i) (hd : cond0_1 i) : out0_A_2 c i a3 h3 a4 h4 a5 h5 a6 h6 hc hd x0 x1
    = k0_pay2 k0_pay1 x0 x1 := by
  unfold out0_A_2
  rw [View.read_writes_eq_canon _ _ _ (cover0_A_2 c i a3 h3 a4 h4 a5 h5 a6 h6 hc hd x0 x1)]
  unfold kernelRun0_A
  dsimp only
  sl_unfold_words
  rw [View.canon_unit_zero (S := S1024x1024) hz, View.readCov_cons_toLoadRect, View.readCov_unit_zero (S := S1024x1024) _ hz]
  simp only [View.readAt_eq_ld, h3.read_unread, h4.read_unread, View.ld_unit_zero (S := S1024x1024) hz]

end Out

/-! ## The result array -/

variable (m : (ℓ : Loc nD τ sig) → Buf (Elt Ideal) ℓ) (ρ : Dev nD → PrngReg)

theorem idx : ∀ t : Fin cfg0.N, win0_0.index t = ![t.val / 3, t.val % 1] ∧ win0_1.index t = ![t.val % 1, t.val / 1 % 3]
    ∧ win0_2.index t = ![t.val / 3, t.val / 1 % 3] ∧ t.val < 24 :=
  (by decide +kernel : ∀ t : Fin grid0.N, _)

/-- The row, the column and the position on the shared axis of tile `t`'s entries. -/
def ti (t : Fin cfg0.N) (r : Fin 1024) : Fin 8192 := ⟨t.val / 3 * 1024 + r.val, by have := (idx t).2.2.2; omega⟩
def tj (t : Fin cfg0.N) (s : Fin 1024) : Fin 3072 := ⟨t.val / 1 % 3 * 1024 + s.val, by omega⟩
def tk (t : Fin cfg0.N) (d : Fin 1024) : Fin 1024 := ⟨t.val % 1 * 1024 + d.val, by omega⟩

abbrev A (c : Dev nD) : Arr 8192 1024 := m ((c : Thread nD τ).loc main_arg0)
abbrev B (c : Dev nD) : Arr 1024 3072 := m ((c : Thread nD τ).loc main_arg1)

theorem blk_a (c : Dev nD) (t : Fin cfg0.N) (r : Fin 1024) (d : Fin 1024) :
    (show Vec Ideal S1024x1024 .bf16 from iblk m c 0 t) (ix2 r d) = A m c (ix2 (ti t r) (tk t d)) := by
  unfold ti tk A
  blk_point [iblk, V, idx t]

theorem blk_b (c : Dev nD) (t : Fin cfg0.N) (s : Fin 1024) (d : Fin 1024) :
    (show Vec Ideal S1024x1024 .bf16 from iblk m c 1 t) (ix2 d s) = B m c (ix2 (tk t d) (tj t s)) := by
  unfold tj tk B
  blk_point [iblk, V, idx t]

/-- What tile `t` adds to its block. -/
def part (c : Dev nD) (t : Fin cfg0.N) (y : S1024x1024.Idx) : EReal :=
  ∑ d, A m c (ix2 (ti t (at0 y)) (tk t d)) * B m c (ix2 (tk t d) (tj t (at1 y)))

theorem part_ix2 (c : Dev nD) (t : Fin cfg0.N) (r : Fin 1024) (s : Fin 1024) :
    part m c t (ix2 r s) = ∑ d, A m c (ix2 (ti t r) (tk t d)) * B m c (ix2 (tk t d) (tj t s)) := rfl

theorem pay_part (c : Dev nD) (t : Fin cfg0.N) (v : Vec Ideal S1024x1024 .f32) (r : Fin 1024) (s : Fin 1024) :
    k0_pay2 (F := Ideal) v (iblk m c 0 t) (iblk m c 1 t) (ix2 r s) = v (ix2 r s) + part m c t (ix2 r s) := by
  refine (pay _ _ _ r s).trans ?_
  refine congrArg (v (ix2 r s) + ·) (Finset.sum_congr rfl fun d _ => ?_)
  exact congrArg₂ (· * ·) (blk_a m c t r d) (blk_b m c t s d)

theorem final (c : Dev nD) : (dats m 0 c).arrAt 2 cfg0.N = mul (A m c) (B m c) := by
  refine (dats m 0 c).arrAt_eq_of_covers 2 _ (by decide +kernel) fun t hf y => ?_
  blk_simp
  rw [after0_2]
  obtain ⟨r, s, rfl⟩ : ∃ (r : Fin 1024) (s : Fin 1024), y = ix2 r s := ⟨y 0, y 1, eq_ix2 y⟩
  have e0 : at0 ((win0_2.blk t).view.emb (ix2 r s)) = ti t r := by
    unfold at0 ti; apply Fin.ext; dsimp only; blk_simp [idx t]
  have e1 : at1 ((win0_2.blk t).view.emb (ix2 r s)) = tj t s := by
    unfold at1 tj; apply Fin.ext; dsimp only; blk_simp [idx t]
  unfold outsAt0
  rw [out_A]
  refine (pay_part m c t _ r s).trans ?_
  rw [pay_zero, zero_add]
  unfold mul
  rw [e0, e1]
  simp only [part_ix2]
  refine Finset.sum_congr rfl fun d _ => ?_
  rw [show tk t d = d from by unfold tk; apply Fin.ext; dsimp only; omega]

/-! ## The claims -/

theorem frame_ref : Cert.quiescent_InGateFwRefIdeal (hInGateFwRefIdeal := Cert.InGateFwRefIdeal.Gen.facts) := fun m ρ _ =>
  (θ_run _ _ _).mono (fun r h => ⟨fun c => ((h c).2 : _), sem_eq_zero_of_no_sems (by decide) r.2⟩)
    (Cert.InGateFwRefIdeal.Value.run m ρ)

theorem algebraic : Cert.algebraic_InGateFwIdeal_InGateFwRefIdeal
    (hInGateFwIdeal := Cert.InGateFwIdeal.Gen.facts) (hInGateFwRefIdeal := Cert.InGateFwRefIdeal.Gen.facts) := by
  intro m g m' g' _ hag
  refine ⟨fun c => mul (A m c) (B m c), ?_, ?_⟩
  · refine (θ_run _ _ _).mono (fun r h c => ?_) (Cert.InGateFwIdeal.Value.run_blocks m g)
    exact ⟨(h c).1.trans (final m c), (h c).2⟩
  · refine (θ_run _ _ _).mono (fun r h c => ?_) (Cert.InGateFwRefIdeal.Value.run m' g')
    refine ⟨(h c).1.trans ?_, (h c).2⟩
    obtain ⟨e0, e1⟩ := hag c
    rw [e0, e1]
    exact ref_eq _ _

end Cert.InGateFwProof

end
-- ==== Proof.UqFwValue.lean ====
/- The kernel UqFw: a product in tiles, its result array as the whole product, and the reference's result. -/
module

public import proofs.«01_k».proof.Defs
public import proofs.«01_k».proof.Proof.Gen.UqFwIdeal.Value
public import proofs.«01_k».proof.Proof.Gen.UqFwRefIdeal.Run
public import proofs.«01_k».proof.Proof.Product
public import Idealize.ShloMosaic.Lib.Pipeline.ValueKit
public import Idealize.ShloMosaic.Lib.Claim

@[expose] public section

set_option maxRecDepth 16384

noncomputable section

namespace Cert.UqFwProof

open Idealize.ShloMosaic Idealize.ShloMosaic.TcCoe Idealize.SL.Sem Cert.Product

/-! ## The reference's result -/

open Cert.UqFwRefIdeal Cert.UqFwRefIdeal.Gen in
theorem ref_eq (a0 : FVec Ideal Cert.UqFwRefIdeal.S8192x384 .bf16) (a1 : FVec Ideal Cert.UqFwRefIdeal.S384x2048 .bf16) :
    Host.dotGeneral dot_S8192x384_S384x2048_S8192x2048_1_0_0_1_n_n none (extf .f32 a0 bitsLt_bf16_f32) (extf .f32 a1 bitsLt_bf16_f32)
      = mul a0 a1 := by
  funext i
  obtain ⟨r, s, rfl⟩ : ∃ r s, i = ix2 r s := ⟨i 0, i 1, eq_ix2 i⟩
  pointwise
  first
    | rfl
    | exact Finset.sum_congr rfl fun d _ => mul_comm _ _
    | exact congrArg (_ + ·) (Finset.sum_congr rfl fun d _ => mul_comm _ _)

open Cert.UqFwIdeal Cert.UqFwIdeal.Gen

/-! ## What the body computes of one tile -/

theorem pay (v3 : Vec Ideal S1024x1024 .f32) (v4 : Vec Ideal S1024x384 .bf16) (v5 : Vec Ideal S384x1024 .bf16) (r : Fin 1024) (s : Fin 1024) :
    k0_pay2 (F := Ideal) v3 v4 v5 (ix2 r s) = v3 (ix2 r s) + ∑ d : Fin 384, v4 (ix2 r d) * v5 (ix2 d s) := by
  pointwise [k0_pay2]

theorem pay_zero (r : Fin 1024) (s : Fin 1024) : k0_pay1 (F := Ideal) (ix2 r s) = 0 := by pointwise [k0_pay1]

section Out
variable {F : FTy → Type} [FloatOps F]
variable (c : Dev nD) (i : grid0.Coords) (a3 : Memref sig .tc .vmem S1024x384 .bf16) (h3 : a3.IsWhole) (a4 : Memref sig .tc .vmem S384x1024 .bf16) (h4 : a4.IsWhole) (a5 : Memref sig .tc .vmem S1024x1024 .f32) (h5 : a5.IsWhole) (a6 : Memref sig .tc .vmem S1024x1024 .f32) (h6 : a6.IsWhole)
  (x0 : Vec F S1024x384 .bf16) (x1 : Vec F S384x1024 .bf16)

theorem out_A (hc : cond0_0 i) (hd : cond0_1 i) : out0_A_2 c i a3 h3 a4 h4 a5 h5 a6 h6 hc hd x0 x1
    = k0_pay2 k0_pay1 x0 x1 := by
  unfold out0_A_2
  rw [View.read_writes_eq_canon _ _ _ (cover0_A_2 c i a3 h3 a4 h4 a5 h5 a6 h6 hc hd x0 x1)]
  unfold kernelRun0_A
  dsimp only
  sl_unfold_words
  rw [View.canon_unit_zero (S := S1024x1024) hz, View.readCov_cons_toLoadRect, View.readCov_unit_zero (S := S1024x1024) _ hz]
  simp only [View.readAt_eq_ld, h3.read_unread, h4.read_unread, View.ld_unit_zero (S := S1024x1024) hz, View.ld_unit_zero (S := S1024x384) hz, View.ld_unit_zero (S := S384x1024) hz]

end Out

/-! ## The result array -/

variable (m : (ℓ : Loc nD τ sig) → Buf (Elt Ideal) ℓ) (ρ : Dev nD → PrngReg)

theorem idx : ∀ t : Fin cfg0.N, win0_0.index t = ![t.val / 2, t.val % 1] ∧ win0_1.index t = ![t.val % 1, t.val / 1 % 2]
    ∧ win0_2.index t = ![t.val / 2, t.val / 1 % 2] ∧ t.val < 16 :=
  (by decide +kernel : ∀ t : Fin grid0.N, _)

/-- The row, the column and the position on the shared axis of tile `t`'s entries. -/
def ti (t : Fin cfg0.N) (r : Fin 1024) : Fin 8192 := ⟨t.val / 2 * 1024 + r.val, by have := (idx t).2.2.2; omega⟩
def tj (t : Fin cfg0.N) (s : Fin 1024) : Fin 2048 := ⟨t.val / 1 % 2 * 1024 + s.val, by omega⟩
def tk (t : Fin cfg0.N) (d : Fin 384) : Fin 384 := ⟨t.val % 1 * 384 + d.val, by omega⟩

abbrev A (c : Dev nD) : Arr 8192 384 := m ((c : Thread nD τ).loc main_arg0)
abbrev B (c : Dev nD) : Arr 384 2048 := m ((c : Thread nD τ).loc main_arg1)

theorem blk_a (c : Dev nD) (t : Fin cfg0.N) (r : Fin 1024) (d : Fin 384) :
    (show Vec Ideal S1024x384 .bf16 from iblk m c 0 t) (ix2 r d) = A m c (ix2 (ti t r) (tk t d)) := by
  unfold ti tk A
  blk_point [iblk, V, idx t]

theorem blk_b (c : Dev nD) (t : Fin cfg0.N) (s : Fin 1024) (d : Fin 384) :
    (show Vec Ideal S384x1024 .bf16 from iblk m c 1 t) (ix2 d s) = B m c (ix2 (tk t d) (tj t s)) := by
  unfold tj tk B
  blk_point [iblk, V, idx t]

/-- What tile `t` adds to its block. -/
def part (c : Dev nD) (t : Fin cfg0.N) (y : S1024x1024.Idx) : EReal :=
  ∑ d, A m c (ix2 (ti t (at0 y)) (tk t d)) * B m c (ix2 (tk t d) (tj t (at1 y)))

theorem part_ix2 (c : Dev nD) (t : Fin cfg0.N) (r : Fin 1024) (s : Fin 1024) :
    part m c t (ix2 r s) = ∑ d, A m c (ix2 (ti t r) (tk t d)) * B m c (ix2 (tk t d) (tj t s)) := rfl

theorem pay_part (c : Dev nD) (t : Fin cfg0.N) (v : Vec Ideal S1024x1024 .f32) (r : Fin 1024) (s : Fin 1024) :
    k0_pay2 (F := Ideal) v (iblk m c 0 t) (iblk m c 1 t) (ix2 r s) = v (ix2 r s) + part m c t (ix2 r s) := by
  refine (pay _ _ _ r s).trans ?_
  refine congrArg (v (ix2 r s) + ·) (Finset.sum_congr rfl fun d _ => ?_)
  exact congrArg₂ (· * ·) (blk_a m c t r d) (blk_b m c t s d)

theorem final (c : Dev nD) : (dats m 0 c).arrAt 2 cfg0.N = mul (A m c) (B m c) := by
  refine (dats m 0 c).arrAt_eq_of_covers 2 _ (by decide +kernel) fun t hf y => ?_
  blk_simp
  rw [after0_2]
  obtain ⟨r, s, rfl⟩ : ∃ (r : Fin 1024) (s : Fin 1024), y = ix2 r s := ⟨y 0, y 1, eq_ix2 y⟩
  have e0 : at0 ((win0_2.blk t).view.emb (ix2 r s)) = ti t r := by
    unfold at0 ti; apply Fin.ext; dsimp only; blk_simp [idx t]
  have e1 : at1 ((win0_2.blk t).view.emb (ix2 r s)) = tj t s := by
    unfold at1 tj; apply Fin.ext; dsimp only; blk_simp [idx t]
  unfold outsAt0
  rw [out_A]
  refine (pay_part m c t _ r s).trans ?_
  rw [pay_zero, zero_add]
  unfold mul
  rw [e0, e1]
  simp only [part_ix2]
  refine Finset.sum_congr rfl fun d _ => ?_
  rw [show tk t d = d from by unfold tk; apply Fin.ext; dsimp only; omega]

/-! ## The claims -/

theorem frame_ref : Cert.quiescent_UqFwRefIdeal (hUqFwRefIdeal := Cert.UqFwRefIdeal.Gen.facts) := fun m ρ _ =>
  (θ_run _ _ _).mono (fun r h => ⟨fun c => ((h c).2 : _), sem_eq_zero_of_no_sems (by decide) r.2⟩)
    (Cert.UqFwRefIdeal.Value.run m ρ)

theorem algebraic : Cert.algebraic_UqFwIdeal_UqFwRefIdeal
    (hUqFwIdeal := Cert.UqFwIdeal.Gen.facts) (hUqFwRefIdeal := Cert.UqFwRefIdeal.Gen.facts) := by
  intro m g m' g' _ hag
  refine ⟨fun c => mul (A m c) (B m c), ?_, ?_⟩
  · refine (θ_run _ _ _).mono (fun r h c => ?_) (Cert.UqFwIdeal.Value.run_blocks m g)
    exact ⟨(h c).1.trans (final m c), (h c).2⟩
  · refine (θ_run _ _ _).mono (fun r h c => ?_) (Cert.UqFwRefIdeal.Value.run m' g')
    refine ⟨(h c).1.trans ?_, (h c).2⟩
    obtain ⟨e0, e1⟩ := hag c
    rw [e0, e1]
    exact ref_eq _ _

end Cert.UqFwProof

end
-- ==== Proof.UkvFwValue.lean ====
/- The kernel UkvFw: a product in tiles, its result array as the whole product, and the reference's result. -/
module

public import proofs.«01_k».proof.Defs
public import proofs.«01_k».proof.Proof.Gen.UkvFwIdeal.Value
public import proofs.«01_k».proof.Proof.Gen.UkvFwRefIdeal.Run
public import proofs.«01_k».proof.Proof.Product
public import Idealize.ShloMosaic.Lib.Pipeline.ValueKit
public import Idealize.ShloMosaic.Lib.Claim

@[expose] public section

set_option maxRecDepth 16384

noncomputable section

namespace Cert.UkvFwProof

open Idealize.ShloMosaic Idealize.ShloMosaic.TcCoe Idealize.SL.Sem Cert.Product

/-! ## The reference's result -/

open Cert.UkvFwRefIdeal Cert.UkvFwRefIdeal.Gen in
theorem ref_eq (a0 : FVec Ideal Cert.UkvFwRefIdeal.S8192x256 .bf16) (a1 : FVec Ideal Cert.UkvFwRefIdeal.S256x1024 .bf16) :
    Host.dotGeneral dot_S8192x256_S256x1024_S8192x1024_1_0_0_1_n_n none (extf .f32 a0 bitsLt_bf16_f32) (extf .f32 a1 bitsLt_bf16_f32)
      = mul a0 a1 := by
  funext i
  obtain ⟨r, s, rfl⟩ : ∃ r s, i = ix2 r s := ⟨i 0, i 1, eq_ix2 i⟩
  pointwise
  first
    | rfl
    | exact Finset.sum_congr rfl fun d _ => mul_comm _ _
    | exact congrArg (_ + ·) (Finset.sum_congr rfl fun d _ => mul_comm _ _)

open Cert.UkvFwIdeal Cert.UkvFwIdeal.Gen

/-! ## What the body computes of one tile -/

theorem pay (v3 : Vec Ideal S1024x1024 .f32) (v4 : Vec Ideal S1024x256 .bf16) (v5 : Vec Ideal S256x1024 .bf16) (r : Fin 1024) (s : Fin 1024) :
    k0_pay2 (F := Ideal) v3 v4 v5 (ix2 r s) = v3 (ix2 r s) + ∑ d : Fin 256, v4 (ix2 r d) * v5 (ix2 d s) := by
  pointwise [k0_pay2]

theorem pay_zero (r : Fin 1024) (s : Fin 1024) : k0_pay1 (F := Ideal) (ix2 r s) = 0 := by pointwise [k0_pay1]

section Out
variable {F : FTy → Type} [FloatOps F]
variable (c : Dev nD) (i : grid0.Coords) (a3 : Memref sig .tc .vmem S1024x256 .bf16) (h3 : a3.IsWhole) (a4 : Memref sig .tc .vmem S256x1024 .bf16) (h4 : a4.IsWhole) (a5 : Memref sig .tc .vmem S1024x1024 .f32) (h5 : a5.IsWhole) (a6 : Memref sig .tc .vmem S1024x1024 .f32) (h6 : a6.IsWhole)
  (x0 : Vec F S1024x256 .bf16) (x1 : Vec F S256x1024 .bf16)

theorem out_A (hc : cond0_0 i) (hd : cond0_1 i) : out0_A_2 c i a3 h3 a4 h4 a5 h5 a6 h6 hc hd x0 x1
    = k0_pay2 k0_pay1 x0 x1 := by
  unfold out0_A_2
  rw [View.read_writes_eq_canon _ _ _ (cover0_A_2 c i a3 h3 a4 h4 a5 h5 a6 h6 hc hd x0 x1)]
  unfold kernelRun0_A
  dsimp only
  sl_unfold_words
  rw [View.canon_unit_zero (S := S1024x1024) hz, View.readCov_cons_toLoadRect, View.readCov_unit_zero (S := S1024x1024) _ hz]
  simp only [View.readAt_eq_ld, h3.read_unread, h4.read_unread, View.ld_unit_zero (S := S1024x1024) hz, View.ld_unit_zero (S := S1024x256) hz, View.ld_unit_zero (S := S256x1024) hz]

end Out

/-! ## The result array -/

variable (m : (ℓ : Loc nD τ sig) → Buf (Elt Ideal) ℓ) (ρ : Dev nD → PrngReg)

theorem idx : ∀ t : Fin cfg0.N, win0_0.index t = ![t.val / 1, t.val % 1] ∧ win0_1.index t = ![t.val % 1, t.val / 1 % 1]
    ∧ win0_2.index t = ![t.val / 1, t.val / 1 % 1] ∧ t.val < 8 :=
  (by decide +kernel : ∀ t : Fin grid0.N, _)

/-- The row, the column and the position on the shared axis of tile `t`'s entries. -/
def ti (t : Fin cfg0.N) (r : Fin 1024) : Fin 8192 := ⟨t.val / 1 * 1024 + r.val, by have := (idx t).2.2.2; omega⟩
def tj (t : Fin cfg0.N) (s : Fin 1024) : Fin 1024 := ⟨t.val / 1 % 1 * 1024 + s.val, by omega⟩
def tk (t : Fin cfg0.N) (d : Fin 256) : Fin 256 := ⟨t.val % 1 * 256 + d.val, by omega⟩

abbrev A (c : Dev nD) : Arr 8192 256 := m ((c : Thread nD τ).loc main_arg0)
abbrev B (c : Dev nD) : Arr 256 1024 := m ((c : Thread nD τ).loc main_arg1)

theorem blk_a (c : Dev nD) (t : Fin cfg0.N) (r : Fin 1024) (d : Fin 256) :
    (show Vec Ideal S1024x256 .bf16 from iblk m c 0 t) (ix2 r d) = A m c (ix2 (ti t r) (tk t d)) := by
  unfold ti tk A
  blk_point [iblk, V, idx t]

theorem blk_b (c : Dev nD) (t : Fin cfg0.N) (s : Fin 1024) (d : Fin 256) :
    (show Vec Ideal S256x1024 .bf16 from iblk m c 1 t) (ix2 d s) = B m c (ix2 (tk t d) (tj t s)) := by
  unfold tj tk B
  blk_point [iblk, V, idx t]

/-- What tile `t` adds to its block. -/
def part (c : Dev nD) (t : Fin cfg0.N) (y : S1024x1024.Idx) : EReal :=
  ∑ d, A m c (ix2 (ti t (at0 y)) (tk t d)) * B m c (ix2 (tk t d) (tj t (at1 y)))

theorem part_ix2 (c : Dev nD) (t : Fin cfg0.N) (r : Fin 1024) (s : Fin 1024) :
    part m c t (ix2 r s) = ∑ d, A m c (ix2 (ti t r) (tk t d)) * B m c (ix2 (tk t d) (tj t s)) := rfl

theorem pay_part (c : Dev nD) (t : Fin cfg0.N) (v : Vec Ideal S1024x1024 .f32) (r : Fin 1024) (s : Fin 1024) :
    k0_pay2 (F := Ideal) v (iblk m c 0 t) (iblk m c 1 t) (ix2 r s) = v (ix2 r s) + part m c t (ix2 r s) := by
  refine (pay _ _ _ r s).trans ?_
  refine congrArg (v (ix2 r s) + ·) (Finset.sum_congr rfl fun d _ => ?_)
  exact congrArg₂ (· * ·) (blk_a m c t r d) (blk_b m c t s d)

theorem final (c : Dev nD) : (dats m 0 c).arrAt 2 cfg0.N = mul (A m c) (B m c) := by
  refine (dats m 0 c).arrAt_eq_of_covers 2 _ (by decide +kernel) fun t hf y => ?_
  blk_simp
  rw [after0_2]
  obtain ⟨r, s, rfl⟩ : ∃ (r : Fin 1024) (s : Fin 1024), y = ix2 r s := ⟨y 0, y 1, eq_ix2 y⟩
  have e0 : at0 ((win0_2.blk t).view.emb (ix2 r s)) = ti t r := by
    unfold at0 ti; apply Fin.ext; dsimp only; blk_simp [idx t]
  have e1 : at1 ((win0_2.blk t).view.emb (ix2 r s)) = tj t s := by
    unfold at1 tj; apply Fin.ext; dsimp only; blk_simp [idx t]
  unfold outsAt0
  rw [out_A]
  refine (pay_part m c t _ r s).trans ?_
  rw [pay_zero, zero_add]
  unfold mul
  rw [e0, e1]
  simp only [part_ix2]
  refine Finset.sum_congr rfl fun d _ => ?_
  rw [show tk t d = d from by unfold tk; apply Fin.ext; dsimp only; omega]

/-! ## The claims -/

theorem frame_ref : Cert.quiescent_UkvFwRefIdeal (hUkvFwRefIdeal := Cert.UkvFwRefIdeal.Gen.facts) := fun m ρ _ =>
  (θ_run _ _ _).mono (fun r h => ⟨fun c => ((h c).2 : _), sem_eq_zero_of_no_sems (by decide) r.2⟩)
    (Cert.UkvFwRefIdeal.Value.run m ρ)

theorem algebraic : Cert.algebraic_UkvFwIdeal_UkvFwRefIdeal
    (hUkvFwIdeal := Cert.UkvFwIdeal.Gen.facts) (hUkvFwRefIdeal := Cert.UkvFwRefIdeal.Gen.facts) := by
  intro m g m' g' _ hag
  refine ⟨fun c => mul (A m c) (B m c), ?_, ?_⟩
  · refine (θ_run _ _ _).mono (fun r h c => ?_) (Cert.UkvFwIdeal.Value.run_blocks m g)
    exact ⟨(h c).1.trans (final m c), (h c).2⟩
  · refine (θ_run _ _ _).mono (fun r h c => ?_) (Cert.UkvFwRefIdeal.Value.run m' g')
    refine ⟨(h c).1.trans ?_, (h c).2⟩
    obtain ⟨e0, e1⟩ := hag c
    rw [e0, e1]
    exact ref_eq _ _

end Cert.UkvFwProof

end
-- ==== Proof.BranchAttnFwValue.lean ====
/- The kernel BranchAttnFw: a product in tiles, its result array as the whole product, and the reference's result. -/
module

public import proofs.«01_k».proof.Defs
public import proofs.«01_k».proof.Proof.Gen.BranchAttnFwIdeal.Value
public import proofs.«01_k».proof.Proof.Gen.BranchAttnFwRefIdeal.Run
public import proofs.«01_k».proof.Proof.Product
public import Idealize.ShloMosaic.Lib.Pipeline.ValueKit
public import Idealize.ShloMosaic.Lib.Claim

@[expose] public section

set_option maxRecDepth 16384

noncomputable section

namespace Cert.BranchAttnFwProof

open Idealize.ShloMosaic Idealize.ShloMosaic.TcCoe Idealize.SL.Sem Cert.Product

/-! ## The reference's result -/

open Cert.BranchAttnFwRefIdeal Cert.BranchAttnFwRefIdeal.Gen in
theorem ref_eq (a0 : FVec Ideal Cert.BranchAttnFwRefIdeal.S8192x1024 .bf16) (a1 : FVec Ideal Cert.BranchAttnFwRefIdeal.S1024x1024 .bf16) :
    Host.dotGeneral dot_S8192x1024_S1024x1024_S8192x1024_1_0_0_1_n_n none (extf .f32 a0 bitsLt_bf16_f32) (extf .f32 a1 bitsLt_bf16_f32)
      = mul a0 a1 := by
  funext i
  obtain ⟨r, s, rfl⟩ : ∃ r s, i = ix2 r s := ⟨i 0, i 1, eq_ix2 i⟩
  pointwise
  first
    | rfl
    | exact Finset.sum_congr rfl fun d _ => mul_comm _ _
    | exact congrArg (_ + ·) (Finset.sum_congr rfl fun d _ => mul_comm _ _)

open Cert.BranchAttnFwIdeal Cert.BranchAttnFwIdeal.Gen

/-! ## What the body computes of one tile -/

theorem pay (v3 : Vec Ideal S1024x1024 .f32) (v4 : Vec Ideal S1024x1024 .bf16) (v5 : Vec Ideal S1024x1024 .bf16) (r : Fin 1024) (s : Fin 1024) :
    k0_pay2 (F := Ideal) v3 v4 v5 (ix2 r s) = v3 (ix2 r s) + ∑ d : Fin 1024, v4 (ix2 r d) * v5 (ix2 d s) := by
  pointwise [k0_pay2]

theorem pay_zero (r : Fin 1024) (s : Fin 1024) : k0_pay1 (F := Ideal) (ix2 r s) = 0 := by pointwise [k0_pay1]

section Out
variable {F : FTy → Type} [FloatOps F]
variable (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole)
  (x0 : Vec F S1024x1024 .bf16) (x1 : Vec F S1024x1024 .bf16)

theorem out_A (hc : cond0_0 i) (hd : cond0_1 i) : out0_A_2 c i a3 h3 a4 h4 a5 h5 a6 h6 hc hd x0 x1
    = k0_pay2 k0_pay1 x0 x1 := by
  unfold out0_A_2
  rw [View.read_writes_eq_canon _ _ _ (cover0_A_2 c i a3 h3 a4 h4 a5 h5 a6 h6 hc hd x0 x1)]
  unfold kernelRun0_A
  dsimp only
  sl_unfold_words
  rw [View.canon_unit_zero (S := S1024x1024) hz, View.readCov_cons_toLoadRect, View.readCov_unit_zero (S := S1024x1024) _ hz]
  simp only [View.readAt_eq_ld, h3.read_unread, h4.read_unread, View.ld_unit_zero (S := S1024x1024) hz]

end Out

/-! ## The result array -/

variable (m : (ℓ : Loc nD τ sig) → Buf (Elt Ideal) ℓ) (ρ : Dev nD → PrngReg)

theorem idx : ∀ t : Fin cfg0.N, win0_0.index t = ![t.val / 1, t.val % 1] ∧ win0_1.index t = ![t.val % 1, t.val / 1 % 1]
    ∧ win0_2.index t = ![t.val / 1, t.val / 1 % 1] ∧ t.val < 8 :=
  (by decide +kernel : ∀ t : Fin grid0.N, _)

/-- The row, the column and the position on the shared axis of tile `t`'s entries. -/
def ti (t : Fin cfg0.N) (r : Fin 1024) : Fin 8192 := ⟨t.val / 1 * 1024 + r.val, by have := (idx t).2.2.2; omega⟩
def tj (t : Fin cfg0.N) (s : Fin 1024) : Fin 1024 := ⟨t.val / 1 % 1 * 1024 + s.val, by omega⟩
def tk (t : Fin cfg0.N) (d : Fin 1024) : Fin 1024 := ⟨t.val % 1 * 1024 + d.val, by omega⟩

abbrev A (c : Dev nD) : Arr 8192 1024 := m ((c : Thread nD τ).loc main_arg0)
abbrev B (c : Dev nD) : Arr 1024 1024 := m ((c : Thread nD τ).loc main_arg1)

theorem blk_a (c : Dev nD) (t : Fin cfg0.N) (r : Fin 1024) (d : Fin 1024) :
    (show Vec Ideal S1024x1024 .bf16 from iblk m c 0 t) (ix2 r d) = A m c (ix2 (ti t r) (tk t d)) := by
  unfold ti tk A
  blk_point [iblk, V, idx t]

theorem blk_b (c : Dev nD) (t : Fin cfg0.N) (s : Fin 1024) (d : Fin 1024) :
    (show Vec Ideal S1024x1024 .bf16 from iblk m c 1 t) (ix2 d s) = B m c (ix2 (tk t d) (tj t s)) := by
  unfold tj tk B
  blk_point [iblk, V, idx t]

/-- What tile `t` adds to its block. -/
def part (c : Dev nD) (t : Fin cfg0.N) (y : S1024x1024.Idx) : EReal :=
  ∑ d, A m c (ix2 (ti t (at0 y)) (tk t d)) * B m c (ix2 (tk t d) (tj t (at1 y)))

theorem part_ix2 (c : Dev nD) (t : Fin cfg0.N) (r : Fin 1024) (s : Fin 1024) :
    part m c t (ix2 r s) = ∑ d, A m c (ix2 (ti t r) (tk t d)) * B m c (ix2 (tk t d) (tj t s)) := rfl

theorem pay_part (c : Dev nD) (t : Fin cfg0.N) (v : Vec Ideal S1024x1024 .f32) (r : Fin 1024) (s : Fin 1024) :
    k0_pay2 (F := Ideal) v (iblk m c 0 t) (iblk m c 1 t) (ix2 r s) = v (ix2 r s) + part m c t (ix2 r s) := by
  refine (pay _ _ _ r s).trans ?_
  refine congrArg (v (ix2 r s) + ·) (Finset.sum_congr rfl fun d _ => ?_)
  exact congrArg₂ (· * ·) (blk_a m c t r d) (blk_b m c t s d)

theorem final (c : Dev nD) : (dats m 0 c).arrAt 2 cfg0.N = mul (A m c) (B m c) := by
  refine (dats m 0 c).arrAt_eq_of_covers 2 _ (by decide +kernel) fun t hf y => ?_
  blk_simp
  rw [after0_2]
  obtain ⟨r, s, rfl⟩ : ∃ (r : Fin 1024) (s : Fin 1024), y = ix2 r s := ⟨y 0, y 1, eq_ix2 y⟩
  have e0 : at0 ((win0_2.blk t).view.emb (ix2 r s)) = ti t r := by
    unfold at0 ti; apply Fin.ext; dsimp only; blk_simp [idx t]
  have e1 : at1 ((win0_2.blk t).view.emb (ix2 r s)) = tj t s := by
    unfold at1 tj; apply Fin.ext; dsimp only; blk_simp [idx t]
  unfold outsAt0
  rw [out_A]
  refine (pay_part m c t _ r s).trans ?_
  rw [pay_zero, zero_add]
  unfold mul
  rw [e0, e1]
  simp only [part_ix2]
  refine Finset.sum_congr rfl fun d _ => ?_
  rw [show tk t d = d from by unfold tk; apply Fin.ext; dsimp only; omega]

/-! ## The claims -/

theorem frame_ref : Cert.quiescent_BranchAttnFwRefIdeal (hBranchAttnFwRefIdeal := Cert.BranchAttnFwRefIdeal.Gen.facts) := fun m ρ _ =>
  (θ_run _ _ _).mono (fun r h => ⟨fun c => ((h c).2 : _), sem_eq_zero_of_no_sems (by decide) r.2⟩)
    (Cert.BranchAttnFwRefIdeal.Value.run m ρ)

theorem algebraic : Cert.algebraic_BranchAttnFwIdeal_BranchAttnFwRefIdeal
    (hBranchAttnFwIdeal := Cert.BranchAttnFwIdeal.Gen.facts) (hBranchAttnFwRefIdeal := Cert.BranchAttnFwRefIdeal.Gen.facts) := by
  intro m g m' g' _ hag
  refine ⟨fun c => mul (A m c) (B m c), ?_, ?_⟩
  · refine (θ_run _ _ _).mono (fun r h c => ?_) (Cert.BranchAttnFwIdeal.Value.run_blocks m g)
    exact ⟨(h c).1.trans (final m c), (h c).2⟩
  · refine (θ_run _ _ _).mono (fun r h c => ?_) (Cert.BranchAttnFwRefIdeal.Value.run m' g')
    refine ⟨(h c).1.trans ?_, (h c).2⟩
    obtain ⟨e0, e1⟩ := hag c
    rw [e0, e1]
    exact ref_eq _ _

end Cert.BranchAttnFwProof

end
-- ==== Proof.BranchFwValue.lean ====
/- The kernel BranchFw: a product in tiles, its result array as the whole product, and the reference's result. -/
module

public import proofs.«01_k».proof.Defs
public import proofs.«01_k».proof.Proof.Gen.BranchFwIdeal.Value
public import proofs.«01_k».proof.Proof.Gen.BranchFwRefIdeal.Run
public import proofs.«01_k».proof.Proof.Product
public import Idealize.ShloMosaic.Lib.Pipeline.ValueKit
public import Idealize.ShloMosaic.Lib.Claim

@[expose] public section

set_option maxRecDepth 16384

noncomputable section

namespace Cert.BranchFwProof

open Idealize.ShloMosaic Idealize.ShloMosaic.TcCoe Idealize.SL.Sem Cert.Product

/-! ## The reference's result -/

open Cert.BranchFwRefIdeal Cert.BranchFwRefIdeal.Gen in
theorem ref_eq (a0 : FVec Ideal Cert.BranchFwRefIdeal.S8192x512 .bf16) (a1 : FVec Ideal Cert.BranchFwRefIdeal.S512x1024 .bf16) :
    Host.dotGeneral dot_S8192x512_S512x1024_S8192x1024_1_0_0_1_n_n none (extf .f32 a0 bitsLt_bf16_f32) (extf .f32 a1 bitsLt_bf16_f32)
      = mul a0 a1 := by
  funext i
  obtain ⟨r, s, rfl⟩ : ∃ r s, i = ix2 r s := ⟨i 0, i 1, eq_ix2 i⟩
  pointwise
  first
    | rfl
    | exact Finset.sum_congr rfl fun d _ => mul_comm _ _
    | exact congrArg (_ + ·) (Finset.sum_congr rfl fun d _ => mul_comm _ _)

open Cert.BranchFwIdeal Cert.BranchFwIdeal.Gen

/-! ## What the body computes of one tile -/

theorem pay (v3 : Vec Ideal S1024x1024 .f32) (v4 : Vec Ideal S1024x512 .bf16) (v5 : Vec Ideal S512x1024 .bf16) (r : Fin 1024) (s : Fin 1024) :
    k0_pay2 (F := Ideal) v3 v4 v5 (ix2 r s) = v3 (ix2 r s) + ∑ d : Fin 512, v4 (ix2 r d) * v5 (ix2 d s) := by
  pointwise [k0_pay2]

theorem pay_zero (r : Fin 1024) (s : Fin 1024) : k0_pay1 (F := Ideal) (ix2 r s) = 0 := by pointwise [k0_pay1]

section Out
variable {F : FTy → Type} [FloatOps F]
variable (c : Dev nD) (i : grid0.Coords) (a3 : Memref sig .tc .vmem S1024x512 .bf16) (h3 : a3.IsWhole) (a4 : Memref sig .tc .vmem S512x1024 .bf16) (h4 : a4.IsWhole) (a5 : Memref sig .tc .vmem S1024x1024 .f32) (h5 : a5.IsWhole) (a6 : Memref sig .tc .vmem S1024x1024 .f32) (h6 : a6.IsWhole)
  (x0 : Vec F S1024x512 .bf16) (x1 : Vec F S512x1024 .bf16)

theorem out_A (hc : cond0_0 i) (hd : cond0_1 i) : out0_A_2 c i a3 h3 a4 h4 a5 h5 a6 h6 hc hd x0 x1
    = k0_pay2 k0_pay1 x0 x1 := by
  unfold out0_A_2
  rw [View.read_writes_eq_canon _ _ _ (cover0_A_2 c i a3 h3 a4 h4 a5 h5 a6 h6 hc hd x0 x1)]
  unfold kernelRun0_A
  dsimp only
  sl_unfold_words
  rw [View.canon_unit_zero (S := S1024x1024) hz, View.readCov_cons_toLoadRect, View.readCov_unit_zero (S := S1024x1024) _ hz]
  simp only [View.readAt_eq_ld, h3.read_unread, h4.read_unread, View.ld_unit_zero (S := S1024x1024) hz, View.ld_unit_zero (S := S1024x512) hz, View.ld_unit_zero (S := S512x1024) hz]

end Out

/-! ## The result array -/

variable (m : (ℓ : Loc nD τ sig) → Buf (Elt Ideal) ℓ) (ρ : Dev nD → PrngReg)

theorem idx : ∀ t : Fin cfg0.N, win0_0.index t = ![t.val / 1, t.val % 1] ∧ win0_1.index t = ![t.val % 1, t.val / 1 % 1]
    ∧ win0_2.index t = ![t.val / 1, t.val / 1 % 1] ∧ t.val < 8 :=
  (by decide +kernel : ∀ t : Fin grid0.N, _)

/-- The row, the column and the position on the shared axis of tile `t`'s entries. -/
def ti (t : Fin cfg0.N) (r : Fin 1024) : Fin 8192 := ⟨t.val / 1 * 1024 + r.val, by have := (idx t).2.2.2; omega⟩
def tj (t : Fin cfg0.N) (s : Fin 1024) : Fin 1024 := ⟨t.val / 1 % 1 * 1024 + s.val, by omega⟩
def tk (t : Fin cfg0.N) (d : Fin 512) : Fin 512 := ⟨t.val % 1 * 512 + d.val, by omega⟩

abbrev A (c : Dev nD) : Arr 8192 512 := m ((c : Thread nD τ).loc main_arg0)
abbrev B (c : Dev nD) : Arr 512 1024 := m ((c : Thread nD τ).loc main_arg1)

theorem blk_a (c : Dev nD) (t : Fin cfg0.N) (r : Fin 1024) (d : Fin 512) :
    (show Vec Ideal S1024x512 .bf16 from iblk m c 0 t) (ix2 r d) = A m c (ix2 (ti t r) (tk t d)) := by
  unfold ti tk A
  blk_point [iblk, V, idx t]

theorem blk_b (c : Dev nD) (t : Fin cfg0.N) (s : Fin 1024) (d : Fin 512) :
    (show Vec Ideal S512x1024 .bf16 from iblk m c 1 t) (ix2 d s) = B m c (ix2 (tk t d) (tj t s)) := by
  unfold tj tk B
  blk_point [iblk, V, idx t]

/-- What tile `t` adds to its block. -/
def part (c : Dev nD) (t : Fin cfg0.N) (y : S1024x1024.Idx) : EReal :=
  ∑ d, A m c (ix2 (ti t (at0 y)) (tk t d)) * B m c (ix2 (tk t d) (tj t (at1 y)))

theorem part_ix2 (c : Dev nD) (t : Fin cfg0.N) (r : Fin 1024) (s : Fin 1024) :
    part m c t (ix2 r s) = ∑ d, A m c (ix2 (ti t r) (tk t d)) * B m c (ix2 (tk t d) (tj t s)) := rfl

theorem pay_part (c : Dev nD) (t : Fin cfg0.N) (v : Vec Ideal S1024x1024 .f32) (r : Fin 1024) (s : Fin 1024) :
    k0_pay2 (F := Ideal) v (iblk m c 0 t) (iblk m c 1 t) (ix2 r s) = v (ix2 r s) + part m c t (ix2 r s) := by
  refine (pay _ _ _ r s).trans ?_
  refine congrArg (v (ix2 r s) + ·) (Finset.sum_congr rfl fun d _ => ?_)
  exact congrArg₂ (· * ·) (blk_a m c t r d) (blk_b m c t s d)

theorem final (c : Dev nD) : (dats m 0 c).arrAt 2 cfg0.N = mul (A m c) (B m c) := by
  refine (dats m 0 c).arrAt_eq_of_covers 2 _ (by decide +kernel) fun t hf y => ?_
  blk_simp
  rw [after0_2]
  obtain ⟨r, s, rfl⟩ : ∃ (r : Fin 1024) (s : Fin 1024), y = ix2 r s := ⟨y 0, y 1, eq_ix2 y⟩
  have e0 : at0 ((win0_2.blk t).view.emb (ix2 r s)) = ti t r := by
    unfold at0 ti; apply Fin.ext; dsimp only; blk_simp [idx t]
  have e1 : at1 ((win0_2.blk t).view.emb (ix2 r s)) = tj t s := by
    unfold at1 tj; apply Fin.ext; dsimp only; blk_simp [idx t]
  unfold outsAt0
  rw [out_A]
  refine (pay_part m c t _ r s).trans ?_
  rw [pay_zero, zero_add]
  unfold mul
  rw [e0, e1]
  simp only [part_ix2]
  refine Finset.sum_congr rfl fun d _ => ?_
  rw [show tk t d = d from by unfold tk; apply Fin.ext; dsimp only; omega]

/-! ## The claims -/

theorem frame_ref : Cert.quiescent_BranchFwRefIdeal (hBranchFwRefIdeal := Cert.BranchFwRefIdeal.Gen.facts) := fun m ρ _ =>
  (θ_run _ _ _).mono (fun r h => ⟨fun c => ((h c).2 : _), sem_eq_zero_of_no_sems (by decide) r.2⟩)
    (Cert.BranchFwRefIdeal.Value.run m ρ)

theorem algebraic : Cert.algebraic_BranchFwIdeal_BranchFwRefIdeal
    (hBranchFwIdeal := Cert.BranchFwIdeal.Gen.facts) (hBranchFwRefIdeal := Cert.BranchFwRefIdeal.Gen.facts) := by
  intro m g m' g' _ hag
  refine ⟨fun c => mul (A m c) (B m c), ?_, ?_⟩
  · refine (θ_run _ _ _).mono (fun r h c => ?_) (Cert.BranchFwIdeal.Value.run_blocks m g)
    exact ⟨(h c).1.trans (final m c), (h c).2⟩
  · refine (θ_run _ _ _).mono (fun r h c => ?_) (Cert.BranchFwRefIdeal.Value.run m' g')
    refine ⟨(h c).1.trans ?_, (h c).2⟩
    obtain ⟨e0, e1⟩ := hag c
    rw [e0, e1]
    exact ref_eq _ _

end Cert.BranchFwProof

end
-- ==== Proof.OutFwValue.lean ====
/- The kernel OutFw: a product in tiles, its result array as the whole product, and the reference's result. -/
module

public import proofs.«01_k».proof.Defs
public import proofs.«01_k».proof.Proof.Gen.OutFwIdeal.Value
public import proofs.«01_k».proof.Proof.Gen.OutFwRefIdeal.Run
public import proofs.«01_k».proof.Proof.Product
public import Idealize.ShloMosaic.Lib.Pipeline.ValueKit
public import Idealize.ShloMosaic.Lib.Claim

@[expose] public section

set_option maxRecDepth 16384

noncomputable section

namespace Cert.OutFwProof

open Idealize.ShloMosaic Idealize.ShloMosaic.TcCoe Idealize.SL.Sem Cert.Product

/-! ## The reference's result -/

open Cert.OutFwRefIdeal Cert.OutFwRefIdeal.Gen in
theorem ref_eq (a0 : FVec Ideal Cert.OutFwRefIdeal.S8192x1024 .bf16) (a1 : FVec Ideal Cert.OutFwRefIdeal.S1024x1024 .bf16) (a2 : FVec Ideal Cert.OutFwRefIdeal.S8192x1024 .f32) :
    addf a2 (Host.dotGeneral dot_S8192x1024_S1024x1024_S8192x1024_1_0_0_1_n_n none (extf .f32 a0 bitsLt_bf16_f32) (extf .f32 a1 bitsLt_bf16_f32))
      = fun i => a2 i + mul a0 a1 i := by
  funext i
  obtain ⟨r, s, rfl⟩ : ∃ r s, i = ix2 r s := ⟨i 0, i 1, eq_ix2 i⟩
  pointwise
  first
    | rfl
    | exact Finset.sum_congr rfl fun d _ => mul_comm _ _
    | exact congrArg (_ + ·) (Finset.sum_congr rfl fun d _ => mul_comm _ _)

open Cert.OutFwIdeal Cert.OutFwIdeal.Gen

/-! ## What the body computes of one tile -/

theorem pay (v3 : Vec Ideal S1024x1024 .f32) (v4 : Vec Ideal S1024x1024 .bf16) (v5 : Vec Ideal S1024x1024 .bf16) (r : Fin 1024) (s : Fin 1024) :
    k0_pay2 (F := Ideal) v3 v4 v5 (ix2 r s) = v3 (ix2 r s) + ∑ d : Fin 1024, v4 (ix2 r d) * v5 (ix2 d s) := by
  pointwise [k0_pay2]

theorem pay_zero (r : Fin 1024) (s : Fin 1024) : k0_pay1 (F := Ideal) (ix2 r s) = 0 := by pointwise [k0_pay1]

theorem pay_add (v u : Vec Ideal S1024x1024 .f32) (r : Fin 1024) (s : Fin 1024) :
    k0_pay3 (F := Ideal) v u (ix2 r s) = v (ix2 r s) + u (ix2 r s) := by pointwise [k0_pay3]

section Out
variable {F : FTy → Type} [FloatOps F]
variable (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole) (a7 : Memref sig .tc .vmem S1024x1024 .f32) (h7 : a7.IsWhole)
  (x0 : Vec F S1024x1024 .bf16) (x1 : Vec F S1024x1024 .bf16) (x2 : Vec F S1024x1024 .f32)

theorem out_A (hc : cond0_0 i) (hd : cond0_1 i) : out0_A_3 c i a3 h3 a4 h4 a5 h5 a6 h6 a7 h7 hc hd x0 x1 x2
    = k0_pay3 (k0_pay2 k0_pay1 x0 x1) x2 := by
  unfold out0_A_3
  rw [View.read_writes_eq_canon _ _ _ (cover0_A_3 c i a3 h3 a4 h4 a5 h5 a6 h6 a7 h7 hc hd x0 x1 x2)]
  unfold kernelRun0_A
  dsimp only
  sl_unfold_words
  rw [View.canon_unit_zero (S := S1024x1024) hz, View.readCov_cons_toLoadRect, View.readCov_unit_zero (S := S1024x1024) _ hz]
  simp only [View.readAt_eq_ld, h3.read_unread, h4.read_unread, h5.read_unread, View.ld_unit_zero (S := S1024x1024) hz]

end Out

/-! ## The result array -/

variable (m : (ℓ : Loc nD τ sig) → Buf (Elt Ideal) ℓ) (ρ : Dev nD → PrngReg)

theorem idx : ∀ t : Fin cfg0.N, win0_0.index t = ![t.val / 1, t.val % 1] ∧ win0_1.index t = ![t.val % 1, t.val / 1 % 1]
    ∧ win0_2.index t = ![t.val / 1, t.val / 1 % 1] ∧ win0_3.index t = ![t.val / 1, t.val / 1 % 1] ∧ t.val < 8 :=
  (by decide +kernel : ∀ t : Fin grid0.N, _)

/-- The row, the column and the position on the shared axis of tile `t`'s entries. -/
def ti (t : Fin cfg0.N) (r : Fin 1024) : Fin 8192 := ⟨t.val / 1 * 1024 + r.val, by have := (idx t).2.2.2.2; omega⟩
def tj (t : Fin cfg0.N) (s : Fin 1024) : Fin 1024 := ⟨t.val / 1 % 1 * 1024 + s.val, by omega⟩
def tk (t : Fin cfg0.N) (d : Fin 1024) : Fin 1024 := ⟨t.val % 1 * 1024 + d.val, by omega⟩

abbrev A (c : Dev nD) : Arr 8192 1024 := m ((c : Thread nD τ).loc main_arg0)
abbrev B (c : Dev nD) : Arr 1024 1024 := m ((c : Thread nD τ).loc main_arg1)
abbrev D (c : Dev nD) : Arr 8192 1024 := m ((c : Thread nD τ).loc main_arg2)

theorem blk_a (c : Dev nD) (t : Fin cfg0.N) (r : Fin 1024) (d : Fin 1024) :
    (show Vec Ideal S1024x1024 .bf16 from iblk m c 0 t) (ix2 r d) = A m c (ix2 (ti t r) (tk t d)) := by
  unfold ti tk A
  blk_point [iblk, V, idx t]

theorem blk_b (c : Dev nD) (t : Fin cfg0.N) (s : Fin 1024) (d : Fin 1024) :
    (show Vec Ideal S1024x1024 .bf16 from iblk m c 1 t) (ix2 d s) = B m c (ix2 (tk t d) (tj t s)) := by
  unfold tj tk B
  blk_point [iblk, V, idx t]

theorem blk_d (c : Dev nD) (t : Fin cfg0.N) (r : Fin 1024) (s : Fin 1024) :
    (show Vec Ideal S1024x1024 .f32 from iblk m c 2 t) (ix2 r s) = D m c (ix2 (ti t r) (tj t s)) := by
  unfold ti tj D
  blk_point [iblk, V, idx t]

/-- What tile `t` adds to its block. -/
def part (c : Dev nD) (t : Fin cfg0.N) (y : S1024x1024.Idx) : EReal :=
  ∑ d, A m c (ix2 (ti t (at0 y)) (tk t d)) * B m c (ix2 (tk t d) (tj t (at1 y)))

theorem part_ix2 (c : Dev nD) (t : Fin cfg0.N) (r : Fin 1024) (s : Fin 1024) :
    part m c t (ix2 r s) = ∑ d, A m c (ix2 (ti t r) (tk t d)) * B m c (ix2 (tk t d) (tj t s)) := rfl

theorem pay_part (c : Dev nD) (t : Fin cfg0.N) (v : Vec Ideal S1024x1024 .f32) (r : Fin 1024) (s : Fin 1024) :
    k0_pay2 (F := Ideal) v (iblk m c 0 t) (iblk m c 1 t) (ix2 r s) = v (ix2 r s) + part m c t (ix2 r s) := by
  refine (pay _ _ _ r s).trans ?_
  refine congrArg (v (ix2 r s) + ·) (Finset.sum_congr rfl fun d _ => ?_)
  exact congrArg₂ (· * ·) (blk_a m c t r d) (blk_b m c t s d)

theorem final (c : Dev nD) : (dats m 0 c).arrAt 3 cfg0.N = fun i => D m c i + mul (A m c) (B m c) i := by
  refine (dats m 0 c).arrAt_eq_of_covers 3 _ (by decide +kernel) fun t hf y => ?_
  blk_simp
  rw [after0_3]
  obtain ⟨r, s, rfl⟩ : ∃ (r : Fin 1024) (s : Fin 1024), y = ix2 r s := ⟨y 0, y 1, eq_ix2 y⟩
  have e0 : at0 ((win0_3.blk t).view.emb (ix2 r s)) = ti t r := by
    unfold at0 ti; apply Fin.ext; dsimp only; blk_simp [idx t]
  have e1 : at1 ((win0_3.blk t).view.emb (ix2 r s)) = tj t s := by
    unfold at1 tj; apply Fin.ext; dsimp only; blk_simp [idx t]
  unfold outsAt0
  rw [out_A]
  refine (pay_add _ _ r s).trans ?_
  rw [pay_part m c t _ r s, pay_zero, zero_add]
  have e : D m c ((win0_3.blk t).view.emb (ix2 r s)) = D m c (ix2 (ti t r) (tj t s)) := by
    refine congrArg (D m c) ((eq_ix2 _).trans ?_)
    exact congrArg₂ ix2 e0 e1
  rw [e, add_comm]
  refine congrArg₂ (· + ·) (blk_d m c t r s) ?_
  unfold mul
  rw [e0, e1]
  simp only [part_ix2]
  refine Finset.sum_congr rfl fun d _ => ?_
  rw [show tk t d = d from by unfold tk; apply Fin.ext; dsimp only; omega]

/-! ## The claims -/

theorem frame_ref : Cert.quiescent_OutFwRefIdeal (hOutFwRefIdeal := Cert.OutFwRefIdeal.Gen.facts) := fun m ρ _ =>
  (θ_run _ _ _).mono (fun r h => ⟨fun c => ((h c).2 : _), sem_eq_zero_of_no_sems (by decide) r.2⟩)
    (Cert.OutFwRefIdeal.Value.run m ρ)

theorem algebraic : Cert.algebraic_OutFwIdeal_OutFwRefIdeal
    (hOutFwIdeal := Cert.OutFwIdeal.Gen.facts) (hOutFwRefIdeal := Cert.OutFwRefIdeal.Gen.facts) := by
  intro m g m' g' _ hag
  refine ⟨fun c => fun i => D m c i + mul (A m c) (B m c) i, ?_, ?_⟩
  · refine (θ_run _ _ _).mono (fun r h c => ?_) (Cert.OutFwIdeal.Value.run_blocks m g)
    exact ⟨(h c).1.trans (final m c), (h c).2⟩
  · refine (θ_run _ _ _).mono (fun r h c => ?_) (Cert.OutFwRefIdeal.Value.run m' g')
    refine ⟨(h c).1.trans ?_, (h c).2⟩
    obtain ⟨e0, e1, e2⟩ := hag c
    rw [e0, e1, e2]
    exact ref_eq _ _ _

end Cert.OutFwProof

end
-- ==== Proof.FfnInFwValue.lean ====
/- The kernel FfnInFw: a product in tiles, its result array as the whole product, and the reference's result. -/
module

public import proofs.«01_k».proof.Defs
public import proofs.«01_k».proof.Proof.Gen.FfnInFwIdeal.Value
public import proofs.«01_k».proof.Proof.Gen.FfnInFwRefIdeal.Run
public import proofs.«01_k».proof.Proof.Product
public import Idealize.ShloMosaic.Lib.Pipeline.ValueKit
public import Idealize.ShloMosaic.Lib.Claim

@[expose] public section

set_option maxRecDepth 16384

noncomputable section

namespace Cert.FfnInFwProof

open Idealize.ShloMosaic Idealize.ShloMosaic.TcCoe Idealize.SL.Sem Cert.Product

/-! ## The reference's result -/

open Cert.FfnInFwRefIdeal Cert.FfnInFwRefIdeal.Gen in
theorem ref_eq (a0 : FVec Ideal Cert.FfnInFwRefIdeal.S8192x1024 .bf16) (a1 : FVec Ideal Cert.FfnInFwRefIdeal.S1024x5632 .bf16) :
    Host.dotGeneral dot_S8192x1024_S1024x5632_S8192x5632_1_0_0_1_n_n none (extf .f32 a0 bitsLt_bf16_f32) (extf .f32 a1 bitsLt_bf16_f32)
      = mul a0 a1 := by
  funext i
  obtain ⟨r, s, rfl⟩ : ∃ r s, i = ix2 r s := ⟨i 0, i 1, eq_ix2 i⟩
  pointwise
  first
    | rfl
    | exact Finset.sum_congr rfl fun d _ => mul_comm _ _
    | exact congrArg (_ + ·) (Finset.sum_congr rfl fun d _ => mul_comm _ _)

open Cert.FfnInFwIdeal Cert.FfnInFwIdeal.Gen

/-! ## What the body computes of one tile -/

theorem pay (v3 : Vec Ideal S1024x1408 .f32) (v4 : Vec Ideal S1024x1024 .bf16) (v5 : Vec Ideal S1024x1408 .bf16) (r : Fin 1024) (s : Fin 1408) :
    k0_pay2 (F := Ideal) v3 v4 v5 (ix2 r s) = v3 (ix2 r s) + ∑ d : Fin 1024, v4 (ix2 r d) * v5 (ix2 d s) := by
  pointwise [k0_pay2]

theorem pay_zero (r : Fin 1024) (s : Fin 1408) : k0_pay1 (F := Ideal) (ix2 r s) = 0 := by pointwise [k0_pay1]

section Out
variable {F : FTy → Type} [FloatOps F]
variable (c : Dev nD) (i : grid0.Coords) (a3 : Memref sig .tc .vmem S1024x1024 .bf16) (h3 : a3.IsWhole) (a4 : Memref sig .tc .vmem S1024x1408 .bf16) (h4 : a4.IsWhole) (a5 : Memref sig .tc .vmem S1024x1408 .f32) (h5 : a5.IsWhole) (a6 : Memref sig .tc .vmem S1024x1408 .f32) (h6 : a6.IsWhole)
  (x0 : Vec F S1024x1024 .bf16) (x1 : Vec F S1024x1408 .bf16)

theorem out_A (hc : cond0_0 i) (hd : cond0_1 i) : out0_A_2 c i a3 h3 a4 h4 a5 h5 a6 h6 hc hd x0 x1
    = k0_pay2 k0_pay1 x0 x1 := by
  unfold out0_A_2
  rw [View.read_writes_eq_canon _ _ _ (cover0_A_2 c i a3 h3 a4 h4 a5 h5 a6 h6 hc hd x0 x1)]
  unfold kernelRun0_A
  dsimp only
  sl_unfold_words
  rw [View.canon_unit_zero (S := S1024x1408) hz, View.readCov_cons_toLoadRect, View.readCov_unit_zero (S := S1024x1408) _ hz]
  simp only [View.readAt_eq_ld, h3.read_unread, h4.read_unread, View.ld_unit_zero (S := S1024x1024) hz, View.ld_unit_zero (S := S1024x1408) hz]

end Out

/-! ## The result array -/

variable (m : (ℓ : Loc nD τ sig) → Buf (Elt Ideal) ℓ) (ρ : Dev nD → PrngReg)

theorem idx : ∀ t : Fin cfg0.N, win0_0.index t = ![t.val / 4, t.val % 1] ∧ win0_1.index t = ![t.val % 1, t.val / 1 % 4]
    ∧ win0_2.index t = ![t.val / 4, t.val / 1 % 4] ∧ t.val < 32 :=
  (by decide +kernel : ∀ t : Fin grid0.N, _)

/-- The row, the column and the position on the shared axis of tile `t`'s entries. -/
def ti (t : Fin cfg0.N) (r : Fin 1024) : Fin 8192 := ⟨t.val / 4 * 1024 + r.val, by have := (idx t).2.2.2; omega⟩
def tj (t : Fin cfg0.N) (s : Fin 1408) : Fin 5632 := ⟨t.val / 1 % 4 * 1408 + s.val, by omega⟩
def tk (t : Fin cfg0.N) (d : Fin 1024) : Fin 1024 := ⟨t.val % 1 * 1024 + d.val, by omega⟩

abbrev A (c : Dev nD) : Arr 8192 1024 := m ((c : Thread nD τ).loc main_arg0)
abbrev B (c : Dev nD) : Arr 1024 5632 := m ((c : Thread nD τ).loc main_arg1)

theorem blk_a (c : Dev nD) (t : Fin cfg0.N) (r : Fin 1024) (d : Fin 1024) :
    (show Vec Ideal S1024x1024 .bf16 from iblk m c 0 t) (ix2 r d) = A m c (ix2 (ti t r) (tk t d)) := by
  unfold ti tk A
  blk_point [iblk, V, idx t]

theorem blk_b (c : Dev nD) (t : Fin cfg0.N) (s : Fin 1408) (d : Fin 1024) :
    (show Vec Ideal S1024x1408 .bf16 from iblk m c 1 t) (ix2 d s) = B m c (ix2 (tk t d) (tj t s)) := by
  unfold tj tk B
  blk_point [iblk, V, idx t]

/-- What tile `t` adds to its block. -/
def part (c : Dev nD) (t : Fin cfg0.N) (y : S1024x1408.Idx) : EReal :=
  ∑ d, A m c (ix2 (ti t (at0 y)) (tk t d)) * B m c (ix2 (tk t d) (tj t (at1 y)))

theorem part_ix2 (c : Dev nD) (t : Fin cfg0.N) (r : Fin 1024) (s : Fin 1408) :
    part m c t (ix2 r s) = ∑ d, A m c (ix2 (ti t r) (tk t d)) * B m c (ix2 (tk t d) (tj t s)) := rfl

theorem pay_part (c : Dev nD) (t : Fin cfg0.N) (v : Vec Ideal S1024x1408 .f32) (r : Fin 1024) (s : Fin 1408) :
    k0_pay2 (F := Ideal) v (iblk m c 0 t) (iblk m c 1 t) (ix2 r s) = v (ix2 r s) + part m c t (ix2 r s) := by
  refine (pay _ _ _ r s).trans ?_
  refine congrArg (v (ix2 r s) + ·) (Finset.sum_congr rfl fun d _ => ?_)
  exact congrArg₂ (· * ·) (blk_a m c t r d) (blk_b m c t s d)

theorem final (c : Dev nD) : (dats m 0 c).arrAt 2 cfg0.N = mul (A m c) (B m c) := by
  refine (dats m 0 c).arrAt_eq_of_covers 2 _ (by decide +kernel) fun t hf y => ?_
  blk_simp
  rw [after0_2]
  obtain ⟨r, s, rfl⟩ : ∃ (r : Fin 1024) (s : Fin 1408), y = ix2 r s := ⟨y 0, y 1, eq_ix2 y⟩
  have e0 : at0 ((win0_2.blk t).view.emb (ix2 r s)) = ti t r := by
    unfold at0 ti; apply Fin.ext; dsimp only; blk_simp [idx t]
  have e1 : at1 ((win0_2.blk t).view.emb (ix2 r s)) = tj t s := by
    unfold at1 tj; apply Fin.ext; dsimp only; blk_simp [idx t]
  unfold outsAt0
  rw [out_A]
  refine (pay_part m c t _ r s).trans ?_
  rw [pay_zero, zero_add]
  unfold mul
  rw [e0, e1]
  simp only [part_ix2]
  refine Finset.sum_congr rfl fun d _ => ?_
  rw [show tk t d = d from by unfold tk; apply Fin.ext; dsimp only; omega]

/-! ## The claims -/

theorem frame_ref : Cert.quiescent_FfnInFwRefIdeal (hFfnInFwRefIdeal := Cert.FfnInFwRefIdeal.Gen.facts) := fun m ρ _ =>
  (θ_run _ _ _).mono (fun r h => ⟨fun c => ((h c).2 : _), sem_eq_zero_of_no_sems (by decide) r.2⟩)
    (Cert.FfnInFwRefIdeal.Value.run m ρ)

theorem algebraic : Cert.algebraic_FfnInFwIdeal_FfnInFwRefIdeal
    (hFfnInFwIdeal := Cert.FfnInFwIdeal.Gen.facts) (hFfnInFwRefIdeal := Cert.FfnInFwRefIdeal.Gen.facts) := by
  intro m g m' g' _ hag
  refine ⟨fun c => mul (A m c) (B m c), ?_, ?_⟩
  · refine (θ_run _ _ _).mono (fun r h c => ?_) (Cert.FfnInFwIdeal.Value.run_blocks m g)
    exact ⟨(h c).1.trans (final m c), (h c).2⟩
  · refine (θ_run _ _ _).mono (fun r h c => ?_) (Cert.FfnInFwRefIdeal.Value.run m' g')
    refine ⟨(h c).1.trans ?_, (h c).2⟩
    obtain ⟨e0, e1⟩ := hag c
    rw [e0, e1]
    exact ref_eq _ _

end Cert.FfnInFwProof

end
-- ==== Proof.FfnOutFwValue.lean ====
/- The kernel FfnOutFw: a product in tiles, its result array as the whole product, and the reference's result. -/
module

public import proofs.«01_k».proof.Defs
public import proofs.«01_k».proof.Proof.Gen.FfnOutFwIdeal.Value
public import proofs.«01_k».proof.Proof.Gen.FfnOutFwRefIdeal.Run
public import proofs.«01_k».proof.Proof.Product
public import Idealize.ShloMosaic.Lib.Pipeline.ValueKit
public import Idealize.ShloMosaic.Lib.Claim

@[expose] public section

set_option maxRecDepth 16384

noncomputable section

namespace Cert.FfnOutFwProof

open Idealize.ShloMosaic Idealize.ShloMosaic.TcCoe Idealize.SL.Sem Cert.Product

/-! ## The reference's result -/

open Cert.FfnOutFwRefIdeal Cert.FfnOutFwRefIdeal.Gen in
theorem ref_eq (a0 : FVec Ideal Cert.FfnOutFwRefIdeal.S8192x2816 .bf16) (a1 : FVec Ideal Cert.FfnOutFwRefIdeal.S2816x1024 .bf16) (a2 : FVec Ideal Cert.FfnOutFwRefIdeal.S8192x1024 .f32) :
    addf a2 (Host.dotGeneral dot_S8192x2816_S2816x1024_S8192x1024_1_0_0_1_n_n none (extf .f32 a0 bitsLt_bf16_f32) (extf .f32 a1 bitsLt_bf16_f32))
      = fun i => a2 i + mul a0 a1 i := by
  funext i
  obtain ⟨r, s, rfl⟩ : ∃ r s, i = ix2 r s := ⟨i 0, i 1, eq_ix2 i⟩
  pointwise
  first
    | rfl
    | exact Finset.sum_congr rfl fun d _ => mul_comm _ _
    | exact congrArg (_ + ·) (Finset.sum_congr rfl fun d _ => mul_comm _ _)

open Cert.FfnOutFwIdeal Cert.FfnOutFwIdeal.Gen

/-! ## What the body computes of one tile -/

theorem pay (v3 : Vec Ideal S1024x1024 .f32) (v4 : Vec Ideal S1024x256 .bf16) (v5 : Vec Ideal S256x1024 .bf16) (r : Fin 1024) (s : Fin 1024) :
    k0_pay2 (F := Ideal) v3 v4 v5 (ix2 r s) = v3 (ix2 r s) + ∑ d : Fin 256, v4 (ix2 r d) * v5 (ix2 d s) := by
  pointwise [k0_pay2]

theorem pay_zero (r : Fin 1024) (s : Fin 1024) : k0_pay1 (F := Ideal) (ix2 r s) = 0 := by pointwise [k0_pay1]

theorem pay_add (v u : Vec Ideal S1024x1024 .f32) (r : Fin 1024) (s : Fin 1024) :
    k0_pay3 (F := Ideal) v u (ix2 r s) = v (ix2 r s) + u (ix2 r s) := by pointwise [k0_pay3]

section Out
variable {F : FTy → Type} [FloatOps F]
variable (c : Dev nD) (i : grid0.Coords) (a3 : Memref sig .tc .vmem S1024x256 .bf16) (h3 : a3.IsWhole) (a4 : Memref sig .tc .vmem S256x1024 .bf16) (h4 : a4.IsWhole) (a5 : Memref sig .tc .vmem S1024x1024 .f32) (h5 : a5.IsWhole) (a6 : Memref sig .tc .vmem S1024x1024 .f32) (h6 : a6.IsWhole) (a7 : Memref sig .tc .vmem S1024x1024 .f32) (h7 : a7.IsWhole)
  (x0 : Vec F S1024x256 .bf16) (x1 : Vec F S256x1024 .bf16) (x2 : Vec F S1024x1024 .f32)

variable (y : Vec F S1024x1024 .f32)

theorem held_A (hc : cond0_0 i) (hd : ¬cond0_1 i) : sout0_A_0 c i a3 h3 a4 h4 a5 h5 a6 h6 a7 h7 hc hd x0 x1 x2
    = k0_pay2 k0_pay1 x0 x1 := by
  unfold sout0_A_0
  rw [View.read_writes_eq_canon _ _ _ (scover0_A_0 c i a3 h3 a4 h4 a5 h5 a6 h6 a7 h7 hc hd x0 x1 x2)]
  unfold kernelRun0_A
  dsimp only
  sl_unfold_words
  rw [View.canon_cons_unit_zero (S := S1024x1024) hz, View.readCov_unit_zero (S := S1024x1024) _ hz]
  simp only [View.readAt_eq_ld, h3.read_unread, h4.read_unread, h5.read_unread, View.ld_unit_zero (S := S1024x1024) hz, View.ld_unit_zero (S := S1024x256) hz, View.ld_unit_zero (S := S256x1024) hz]

theorem held_B (hc : ¬cond0_0 i) (hd : ¬cond0_1 i) : sout0_B_0 c i a3 h3 a4 h4 a5 h5 a6 h6 a7 h7 hc hd x0 x1 x2 y
    = k0_pay2 y x0 x1 := by
  unfold sout0_B_0
  rw [View.read_writes_eq_canon _ _ _ (scover0_B_0 c i a3 h3 a4 h4 a5 h5 a6 h6 a7 h7 hc hd x0 x1 x2 y)]
  unfold kernelRun0_B
  dsimp only
  sl_unfold_words
  rw [View.canon_unit_zero (S := S1024x1024) hz]
  simp only [View.readAt_eq_ld, h3.read_unread, h4.read_unread, h5.read_unread, h7.read_unread, View.ld_unit_zero (S := S1024x1024) hz, View.ld_unit_zero (S := S1024x256) hz, View.ld_unit_zero (S := S256x1024) hz]

theorem held_C (hc : ¬cond0_0 i) (hd : cond0_1 i) : sout0_C_0 c i a3 h3 a4 h4 a5 h5 a6 h6 a7 h7 hc hd x0 x1 x2 y
    = k0_pay2 y x0 x1 := by
  unfold sout0_C_0
  rw [View.read_writes_eq_canon _ _ _ (scover0_C_0 c i a3 h3 a4 h4 a5 h5 a6 h6 a7 h7 hc hd x0 x1 x2 y)]
  unfold kernelRun0_C
  dsimp only
  sl_unfold_words
  rw [View.canon_unit_zero (S := S1024x1024) hz]
  simp only [View.readAt_eq_ld, h3.read_unread, h4.read_unread, h5.read_unread, h7.read_unread, View.ld_unit_zero (S := S1024x1024) hz, View.ld_unit_zero (S := S1024x256) hz, View.ld_unit_zero (S := S256x1024) hz]

theorem out_C (hc : ¬cond0_0 i) (hd : cond0_1 i) : out0_C_3 c i a3 h3 a4 h4 a5 h5 a6 h6 a7 h7 hc hd x0 x1 x2 y
    = k0_pay3 (k0_pay2 y x0 x1) x2 := by
  unfold out0_C_3
  rw [View.read_writes_eq_canon _ _ _ (cover0_C_3 c i a3 h3 a4 h4 a5 h5 a6 h6 a7 h7 hc hd x0 x1 x2 y)]
  unfold kernelRun0_C
  dsimp only
  sl_unfold_words
  rw [View.canon_unit_zero (S := S1024x1024) hz, View.readCov_unit_zero (S := S1024x1024) _ hz]
  simp only [View.readAt_eq_ld, h3.read_unread, h4.read_unread, h5.read_unread, h7.read_unread, View.ld_unit_zero (S := S1024x1024) hz, View.ld_unit_zero (S := S1024x256) hz, View.ld_unit_zero (S := S256x1024) hz]

end Out

/-! ## The result array -/

variable (m : (ℓ : Loc nD τ sig) → Buf (Elt Ideal) ℓ) (ρ : Dev nD → PrngReg)

theorem idx : ∀ t : Fin cfg0.N, win0_0.index t = ![t.val / 11, t.val % 11] ∧ win0_1.index t = ![t.val % 11, t.val / 11 % 1]
    ∧ win0_2.index t = ![t.val / 11, t.val / 11 % 1] ∧ win0_3.index t = ![t.val / 11, t.val / 11 % 1] ∧ t.val < 88 :=
  (by decide +kernel : ∀ t : Fin grid0.N, _)

/-- The row, the column and the position on the shared axis of tile `t`'s entries. -/
def ti (t : Fin cfg0.N) (r : Fin 1024) : Fin 8192 := ⟨t.val / 11 * 1024 + r.val, by have := (idx t).2.2.2.2; omega⟩
def tj (t : Fin cfg0.N) (s : Fin 1024) : Fin 1024 := ⟨t.val / 11 % 1 * 1024 + s.val, by omega⟩
def tk (t : Fin cfg0.N) (d : Fin 256) : Fin 2816 := ⟨t.val % 11 * 256 + d.val, by omega⟩

abbrev A (c : Dev nD) : Arr 8192 2816 := m ((c : Thread nD τ).loc main_arg0)
abbrev B (c : Dev nD) : Arr 2816 1024 := m ((c : Thread nD τ).loc main_arg1)
abbrev D (c : Dev nD) : Arr 8192 1024 := m ((c : Thread nD τ).loc main_arg2)

theorem blk_a (c : Dev nD) (t : Fin cfg0.N) (r : Fin 1024) (d : Fin 256) :
    (show Vec Ideal S1024x256 .bf16 from iblk m c 0 t) (ix2 r d) = A m c (ix2 (ti t r) (tk t d)) := by
  unfold ti tk A
  blk_point [iblk, V, idx t]

theorem blk_b (c : Dev nD) (t : Fin cfg0.N) (s : Fin 1024) (d : Fin 256) :
    (show Vec Ideal S256x1024 .bf16 from iblk m c 1 t) (ix2 d s) = B m c (ix2 (tk t d) (tj t s)) := by
  unfold tj tk B
  blk_point [iblk, V, idx t]

theorem blk_d (c : Dev nD) (t : Fin cfg0.N) (r : Fin 1024) (s : Fin 1024) :
    (show Vec Ideal S1024x1024 .f32 from iblk m c 2 t) (ix2 r s) = D m c (ix2 (ti t r) (tj t s)) := by
  unfold ti tj D
  blk_point [iblk, V, idx t]

/-- What tile `t` adds to its block. -/
def part (c : Dev nD) (t : Fin cfg0.N) (y : S1024x1024.Idx) : EReal :=
  ∑ d, A m c (ix2 (ti t (at0 y)) (tk t d)) * B m c (ix2 (tk t d) (tj t (at1 y)))

theorem part_ix2 (c : Dev nD) (t : Fin cfg0.N) (r : Fin 1024) (s : Fin 1024) :
    part m c t (ix2 r s) = ∑ d, A m c (ix2 (ti t r) (tk t d)) * B m c (ix2 (tk t d) (tj t s)) := rfl

theorem pay_part (c : Dev nD) (t : Fin cfg0.N) (v : Vec Ideal S1024x1024 .f32) (r : Fin 1024) (s : Fin 1024) :
    k0_pay2 (F := Ideal) v (iblk m c 0 t) (iblk m c 1 t) (ix2 r s) = v (ix2 r s) + part m c t (ix2 r s) := by
  refine (pay _ _ _ r s).trans ?_
  refine congrArg (v (ix2 r s) + ·) (Finset.sum_congr rfl fun d _ => ?_)
  exact congrArg₂ (· * ·) (blk_a m c t r d) (blk_b m c t s d)

theorem reset (c : Dev nD) (t : Fin cfg0.N) (h : t.val % 11 = 0) (y : S1024x1024.Idx) :
    (outsAt0 m c t.val t.isLt).2 y = 0 + part m c t y := by
  obtain ⟨r, s, rfl⟩ : ∃ r s, y = ix2 r s := ⟨y 0, y 1, eq_ix2 y⟩
  rw [outsAt0_A m c t h (by omega)]
  dsimp only
  rw [held_A]
  refine (pay_part m c t _ r s).trans ?_
  rw [pay_zero]

theorem step (c : Dev nD) (t : Fin cfg0.N) (h : ¬t.val % 11 = 0) (y : S1024x1024.Idx) :
    (outsAt0 m c t.val t.isLt).2 y = (outsAt0 m c (t.val - 1) (Nat.lt_of_le_of_lt (Nat.sub_le _ _) t.isLt)).2 y + part m c t y := by
  obtain ⟨r, s, rfl⟩ : ∃ r s, y = ix2 r s := ⟨y 0, y 1, eq_ix2 y⟩
  by_cases h1 : t.val % 11 = 10
  · rw [outsAt0_C m c t h h1]
    dsimp only
    rw [held_C]
    exact pay_part m c t _ r s
  · rw [outsAt0_B m c t h h1]
    dsimp only
    rw [held_B]
    exact pay_part m c t _ r s

theorem leaves (c : Dev nD) (t : Fin cfg0.N) (h : t.val % 11 = 10) (r : Fin 1024) (s : Fin 1024) :
    (outsAt0 m c t.val t.isLt).1 (ix2 r s) = (outsAt0 m c t.val t.isLt).2 (ix2 r s) + D m c (ix2 (ti t r) (tj t s)) := by
  rw [outsAt0_C m c t (by omega) h]
  dsimp only
  rw [out_C, held_C]
  refine (pay_add _ _ r s).trans ?_
  exact congrArg (_ + ·) (blk_d m c t r s)

theorem ti_run (t : Fin cfg0.N) (s : Fin 11) (h) (r : Fin 1024) : ti ⟨11 * (t.val / 11) + s.val, h⟩ r = ti t r := by
  unfold ti; apply Fin.ext; dsimp only; omega

theorem tj_run (t : Fin cfg0.N) (s : Fin 11) (h) (r : Fin 1024) : tj ⟨11 * (t.val / 11) + s.val, h⟩ r = tj t r := by
  unfold tj; apply Fin.ext; dsimp only; omega

theorem tk_run (t : Fin cfg0.N) (s : Fin 11) (h) (d : Fin 256) :
    tk ⟨11 * (t.val / 11) + s.val, h⟩ d = ⟨s.val * 256 + d.val, by omega⟩ := by
  unfold tk; apply Fin.ext; dsimp only; omega

theorem final (c : Dev nD) : (dats m 0 c).arrAt 3 cfg0.N = fun i => D m c i + mul (A m c) (B m c) i := by
  refine (dats m 0 c).arrAt_eq_of_covers 3 _ (by decide +kernel) fun t hf y => ?_
  blk_simp
  rw [after0_3]
  obtain ⟨r, s, rfl⟩ : ∃ (r : Fin 1024) (s : Fin 1024), y = ix2 r s := ⟨y 0, y 1, eq_ix2 y⟩
  have e0 : at0 ((win0_3.blk t).view.emb (ix2 r s)) = ti t r := by
    unfold at0 ti; apply Fin.ext; dsimp only; blk_simp [idx t]
  have e1 : at1 ((win0_3.blk t).view.emb (ix2 r s)) = tj t s := by
    unfold at1 tj; apply Fin.ext; dsimp only; blk_simp [idx t]
  have hl : t.val % 11 = 10 := (flush0_3 t).mp hf
  rw [leaves m c t hl,
    Pipeline.eq_sum_fin_of_reset_step_apply_of_flush (fun n h => (outsAt0 m c n h).2) 11 (fun _ => 0) (part m c)
      (reset m c) (step m c) t hl _, zero_add]
  have e : D m c ((win0_3.blk t).view.emb (ix2 r s)) = D m c (ix2 (ti t r) (tj t s)) := by
    refine congrArg (D m c) ((eq_ix2 _).trans ?_)
    exact congrArg₂ ix2 e0 e1
  rw [e, add_comm]
  refine congrArg₂ (· + ·) rfl ?_
  unfold mul
  rw [e0, e1]
  simp only [part_ix2]
  refine Fin.sum_mul_add_congr fun k d hl => ?_
  rw [ti_run, tj_run, tk_run]

/-! ## The claims -/

theorem frame_ref : Cert.quiescent_FfnOutFwRefIdeal (hFfnOutFwRefIdeal := Cert.FfnOutFwRefIdeal.Gen.facts) := fun m ρ _ =>
  (θ_run _ _ _).mono (fun r h => ⟨fun c => ((h c).2 : _), sem_eq_zero_of_no_sems (by decide) r.2⟩)
    (Cert.FfnOutFwRefIdeal.Value.run m ρ)

theorem algebraic : Cert.algebraic_FfnOutFwIdeal_FfnOutFwRefIdeal
    (hFfnOutFwIdeal := Cert.FfnOutFwIdeal.Gen.facts) (hFfnOutFwRefIdeal := Cert.FfnOutFwRefIdeal.Gen.facts) := by
  intro m g m' g' _ hag
  refine ⟨fun c => fun i => D m c i + mul (A m c) (B m c) i, ?_, ?_⟩
  · refine (θ_run _ _ _).mono (fun r h c => ?_) (Cert.FfnOutFwIdeal.Value.run_blocks m g)
    exact ⟨(h c).1.trans (final m c), (h c).2⟩
  · refine (θ_run _ _ _).mono (fun r h c => ?_) (Cert.FfnOutFwRefIdeal.Value.run m' g')
    refine ⟨(h c).1.trans ?_, (h c).2⟩
    obtain ⟨e0, e1, e2⟩ := hag c
    rw [e0, e1, e2]
    exact ref_eq _ _ _

end Cert.FfnOutFwProof

end
-- ==== Proof.Adam.lean ====
/- One AdamW step of one entry. -/
module

public import Idealize.ShloMosaic.Lib.Pipeline.Value
public import Idealize.ShloMosaic.Lib.Pointwise

@[expose] public section

noncomputable section

namespace Cert.Adam

open Idealize.ShloMosaic

/-- The new first moment of a gradient `g` and the moment `m`. -/
def newM (g m : EReal) : EReal := Ideal.ofBits .f32 0x3F666666#32 * m + Ideal.ofBits .f32 0x3DCCCCCD#32 * g

/-- The new second moment of a gradient `g` and the moment `v`. -/
def newV (g v : EReal) : EReal := Ideal.ofBits .f32 0x3F7FBE77#32 * v + Ideal.ofBits .f32 0x3A83126F#32 * (g * g)

/-- The step of the weight `w`. -/
def delta (w g m v : EReal) : EReal :=
  Ideal.ofBits .f32 0xBA83126F#32 * (Ideal.div (Ideal.div (newM g m) (Ideal.ofBits .f32 0x3F26BD02#32))
    (Ideal.sqrt (Ideal.div (newV g v) (Ideal.ofBits .f32 0x3C231ACC#32)) + Ideal.ofBits .f32 0x322BCC77#32)
      + Ideal.ofBits .f32 0x3C23D70A#32 * w)

end Cert.Adam

end
-- ==== Proof.AdamWInValue.lean ====
/- The kernel AdamWIn: one AdamW step in blocks of rows, its result arrays and the reference's. -/
module

public import proofs.«01_k».proof.Defs
public import proofs.«01_k».proof.Proof.Gen.AdamWInIdeal.Value
public import proofs.«01_k».proof.Proof.Gen.AdamWInRefIdeal.Run
public import proofs.«01_k».proof.Proof.Adam
public import proofs.«01_k».proof.Proof.Product
public import Idealize.ShloMosaic.Lib.Pipeline.ValueKit
public import Idealize.ShloMosaic.Lib.Claim

@[expose] public section

set_option maxRecDepth 16384

noncomputable section

namespace Cert.AdamWInProof

open Idealize.ShloMosaic Idealize.ShloMosaic.TcCoe Idealize.SL.Sem Cert.Adam

/-! ## The reference's results -/

section Ref
open Cert.AdamWInRefIdeal Cert.AdamWInRefIdeal.Gen

variable (a0 a1 a2 a3 : FVec Ideal S2x1024x1672 .f32)

abbrev flat (a : FVec Ideal S2x1024x1672 .f32) : FVec Ideal S2048x1672 .f32 := shapeCast S2048x1672 a shapeCasts_S2x1024x1672_S2048x1672

theorem ref_delta :
    shapeCast S2048x1672 (mulf (broadcastInDim S2x1024x1672 ![] bcast_S_S2x1024x1672 (constant S_ .f32 0xBA83126F#32)) (addf (Host.divf (Host.divf (addf (mulf (broadcastInDim S2x1024x1672 ![] bcast_S_S2x1024x1672 (constant S_ .f32 0x3F666666#32)) a2) (mulf (broadcastInDim S2x1024x1672 ![] bcast_S_S2x1024x1672 (constant S_ .f32 0x3DCCCCCD#32)) a1)) (broadcastInDim S2x1024x1672 ![] bcast_S_S2x1024x1672 (constant S_ .f32 0x3F26BD02#32))) (addf (Host.sqrt (Host.divf (addf (mulf (broadcastInDim S2x1024x1672 ![] bcast_S_S2x1024x1672 (constant S_ .f32 0x3F7FBE77#32)) a3) (mulf (broadcastInDim S2x1024x1672 ![] bcast_S_S2x1024x1672 (constant S_ .f32 0x3A83126F#32)) (mulf a1 a1))) (broadcastInDim S2x1024x1672 ![] bcast_S_S2x1024x1672 (constant S_ .f32 0x3C231ACC#32)))) (broadcastInDim S2x1024x1672 ![] bcast_S_S2x1024x1672 (constant S_ .f32 0x322BCC77#32)))) (mulf (broadcastInDim S2x1024x1672 ![] bcast_S_S2x1024x1672 (constant S_ .f32 0x3C23D70A#32)) a0))) shapeCasts_S2x1024x1672_S2048x1672
      = fun i => delta (flat a0 i) (flat a1 i) (flat a2 i) (flat a3 i) := by
  funext i
  pointwise
  rfl

theorem ref_newM :
    shapeCast S2048x1672 (addf (mulf (broadcastInDim S2x1024x1672 ![] bcast_S_S2x1024x1672 (constant S_ .f32 0x3F666666#32)) a2) (mulf (broadcastInDim S2x1024x1672 ![] bcast_S_S2x1024x1672 (constant S_ .f32 0x3DCCCCCD#32)) a1)) shapeCasts_S2x1024x1672_S2048x1672
      = fun i => newM (flat a1 i) (flat a2 i) := by
  funext i
  pointwise
  rfl

theorem ref_newV :
    shapeCast S2048x1672 (addf (mulf (broadcastInDim S2x1024x1672 ![] bcast_S_S2x1024x1672 (constant S_ .f32 0x3F7FBE77#32)) a3) (mulf (broadcastInDim S2x1024x1672 ![] bcast_S_S2x1024x1672 (constant S_ .f32 0x3A83126F#32)) (mulf a1 a1))) shapeCasts_S2x1024x1672_S2048x1672
      = fun i => newV (flat a1 i) (flat a3 i) := by
  funext i
  pointwise
  rfl

end Ref

open Cert.AdamWInIdeal Cert.AdamWInIdeal.Gen

/-! ## The kernel's results -/

variable (m : (ℓ : Loc nD τ sig) → Buf (Elt Ideal) ℓ) (ρ : Dev nD → PrngReg)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ t.val < 8 :=
  (by decide +kernel : ∀ t : Fin grid0.N, _)

abbrev W (c : Dev nD) (k : Fin 4) : FVec Ideal S2048x1672 .f32 :=
  flat (match k with
    | 0 => m ((c : Thread nD τ).loc main_arg0) | 1 => m ((c : Thread nD τ).loc main_arg1)
    | 2 => m ((c : Thread nD τ).loc main_arg2) | 3 => m ((c : Thread nD τ).loc main_arg3))

def ti (t : Fin cfg0.N) (r : Fin 256) : Fin 2048 := ⟨t.val * 256 + r.val, by have := (idx t).2.2.2.2.2.2.2; omega⟩

theorem blk_0 (c : Dev nD) (t : Fin cfg0.N) (r : Fin 256) (s : Fin 1672) :
    (show Vec Ideal S256x1672 .f32 from iblk m c 0 t) (ix2 r s) = W m c 0 (ix2 (ti t r) s) := by
  unfold ti
  blk_point [iblk, V, idx t]

theorem blk_1 (c : Dev nD) (t : Fin cfg0.N) (r : Fin 256) (s : Fin 1672) :
    (show Vec Ideal S256x1672 .f32 from iblk m c 1 t) (ix2 r s) = W m c 1 (ix2 (ti t r) s) := by
  unfold ti
  blk_point [iblk, V, idx t]

theorem blk_2 (c : Dev nD) (t : Fin cfg0.N) (r : Fin 256) (s : Fin 1672) :
    (show Vec Ideal S256x1672 .f32 from iblk m c 2 t) (ix2 r s) = W m c 2 (ix2 (ti t r) s) := by
  unfold ti
  blk_point [iblk, V, idx t]

theorem blk_3 (c : Dev nD) (t : Fin cfg0.N) (r : Fin 256) (s : Fin 1672) :
    (show Vec Ideal S256x1672 .f32 from iblk m c 3 t) (ix2 r s) = W m c 3 (ix2 (ti t r) s) := by
  unfold ti
  blk_point [iblk, V, idx t]

theorem final_delta (c : Dev nD) : (dats m 0 c).arrAt 4 cfg0.N = fun i => delta (W m c 0 i) (W m c 1 i) (W m c 2 i) (W m c 3 i) := by
  refine (dats m 0 c).arrAt_eq_of_covers 4 _ (by decide +kernel) fun t hf y => ?_
  blk_simp
  rw [after0_4]
  obtain ⟨r, s, rfl⟩ : ∃ (r : Fin 256) (s : Fin 1672), y = ix2 r s := ⟨y 0, y 1, eq_ix2 y⟩
  have e : (win0_4.blk t).view.emb (ix2 r s) = ix2 (ti t r) s := by
    unfold ti; blk_ext [idx t]
  rw [e]
  unfold out0_4
  refine (Cert.AdamWInIdeal.Value.canon4_eq _ _ _ _ _).trans ?_
  simp only [View.ld_unit_zero (S := S256x1672) Cert.Product.hz]
  show delta ((show Vec Ideal S256x1672 .f32 from iblk m c 0 t) (ix2 r s)) ((show Vec Ideal S256x1672 .f32 from iblk m c 1 t) (ix2 r s)) ((show Vec Ideal S256x1672 .f32 from iblk m c 2 t) (ix2 r s)) ((show Vec Ideal S256x1672 .f32 from iblk m c 3 t) (ix2 r s)) = _
  rw [blk_0, blk_1, blk_2, blk_3]

theorem final_newM (c : Dev nD) : (dats m 0 c).arrAt 5 cfg0.N = fun i => newM (W m c 1 i) (W m c 2 i) := by
  refine (dats m 0 c).arrAt_eq_of_covers 5 _ (by decide +kernel) fun t hf y => ?_
  blk_simp
  rw [after0_5]
  obtain ⟨r, s, rfl⟩ : ∃ (r : Fin 256) (s : Fin 1672), y = ix2 r s := ⟨y 0, y 1, eq_ix2 y⟩
  have e : (win0_5.blk t).view.emb (ix2 r s) = ix2 (ti t r) s := by
    unfold ti; blk_ext [idx t]
  rw [e]
  unfold out0_5
  refine (Cert.AdamWInIdeal.Value.canon5_eq _ _  _).trans ?_
  simp only [View.ld_unit_zero (S := S256x1672) Cert.Product.hz]
  show newM ((show Vec Ideal S256x1672 .f32 from iblk m c 1 t) (ix2 r s)) ((show Vec Ideal S256x1672 .f32 from iblk m c 2 t) (ix2 r s)) = _
  rw [blk_1, blk_2]

theorem final_newV (c : Dev nD) : (dats m 0 c).arrAt 6 cfg0.N = fun i => newV (W m c 1 i) (W m c 3 i) := by
  refine (dats m 0 c).arrAt_eq_of_covers 6 _ (by decide +kernel) fun t hf y => ?_
  blk_simp
  rw [after0_6]
  obtain ⟨r, s, rfl⟩ : ∃ (r : Fin 256) (s : Fin 1672), y = ix2 r s := ⟨y 0, y 1, eq_ix2 y⟩
  have e : (win0_6.blk t).view.emb (ix2 r s) = ix2 (ti t r) s := by
    unfold ti; blk_ext [idx t]
  rw [e]
  unfold out0_6
  refine (Cert.AdamWInIdeal.Value.canon6_eq _ _  _).trans ?_
  simp only [View.ld_unit_zero (S := S256x1672) Cert.Product.hz]
  show newV ((show Vec Ideal S256x1672 .f32 from iblk m c 1 t) (ix2 r s)) ((show Vec Ideal S256x1672 .f32 from iblk m c 3 t) (ix2 r s)) = _
  rw [blk_1, blk_3]

/-! ## The claims -/

theorem frame_ref : Cert.quiescent_AdamWInRefIdeal (hAdamWInRefIdeal := Cert.AdamWInRefIdeal.Gen.facts) := fun m ρ _ =>
  (θ_run _ _ _).mono (fun r h => ⟨fun c => ((h c).2.2.2 : _), sem_eq_zero_of_no_sems (by decide) r.2⟩)
    (Cert.AdamWInRefIdeal.Value.run m ρ)

theorem algebraic : Cert.algebraic_AdamWInIdeal_AdamWInRefIdeal
    (hAdamWInIdeal := Cert.AdamWInIdeal.Gen.facts) (hAdamWInRefIdeal := Cert.AdamWInRefIdeal.Gen.facts) := by
  intro m g m' g' _ hag
  refine ⟨fun c i => delta (W m c 0 i) (W m c 1 i) (W m c 2 i) (W m c 3 i), fun c i => newM (W m c 1 i) (W m c 2 i),
    fun c i => newV (W m c 1 i) (W m c 3 i), ?_, ?_⟩
  · refine (θ_run _ _ _).mono (fun r h c => ?_) (Cert.AdamWInIdeal.Value.run_blocks m g)
    exact ⟨(h c).1.trans (final_delta m c), (h c).2.1.trans (final_newM m c), (h c).2.2.1.trans (final_newV m c), (h c).2.2.2⟩
  · refine (θ_run _ _ _).mono (fun r h c => ?_) (Cert.AdamWInRefIdeal.Value.run m' g')
    obtain ⟨e0, e1, e2, e3⟩ := hag c
    refine ⟨(h c).1.trans ?_, (h c).2.1.trans ?_, (h c).2.2.1.trans ?_, (h c).2.2.2⟩
    · rw [e0, e1, e2, e3]
      exact ref_delta _ _ _ _
    · rw [e1, e2]
      exact ref_newM _ _
    · rw [e1, e3]
      exact ref_newV _ _

end Cert.AdamWInProof

end
-- ==== Proof.AdamWUqValue.lean ====
/- The kernel AdamWUq: one AdamW step in blocks of rows, its result arrays and the reference's. -/
module

public import proofs.«01_k».proof.Defs
public import proofs.«01_k».proof.Proof.Gen.AdamWUqIdeal.Value
public import proofs.«01_k».proof.Proof.Gen.AdamWUqRefIdeal.Run
public import proofs.«01_k».proof.Proof.Adam
public import proofs.«01_k».proof.Proof.Product
public import Idealize.ShloMosaic.Lib.Pipeline.ValueKit
public import Idealize.ShloMosaic.Lib.Claim

@[expose] public section

set_option maxRecDepth 16384

noncomputable section

namespace Cert.AdamWUqProof

open Idealize.ShloMosaic Idealize.ShloMosaic.TcCoe Idealize.SL.Sem Cert.Adam

/-! ## The reference's results -/

section Ref
open Cert.AdamWUqRefIdeal Cert.AdamWUqRefIdeal.Gen

variable (a0 a1 a2 a3 : FVec Ideal S2x384x192 .f32)

abbrev flat (a : FVec Ideal S2x384x192 .f32) : FVec Ideal S768x192 .f32 := shapeCast S768x192 a shapeCasts_S2x384x192_S768x192

theorem ref_delta :
    shapeCast S768x192 (mulf (broadcastInDim S2x384x192 ![] bcast_S_S2x384x192 (constant S_ .f32 0xBA83126F#32)) (addf (Host.divf (Host.divf (addf (mulf (broadcastInDim S2x384x192 ![] bcast_S_S2x384x192 (constant S_ .f32 0x3F666666#32)) a2) (mulf (broadcastInDim S2x384x192 ![] bcast_S_S2x384x192 (constant S_ .f32 0x3DCCCCCD#32)) a1)) (broadcastInDim S2x384x192 ![] bcast_S_S2x384x192 (constant S_ .f32 0x3F26BD02#32))) (addf (Host.sqrt (Host.divf (addf (mulf (broadcastInDim S2x384x192 ![] bcast_S_S2x384x192 (constant S_ .f32 0x3F7FBE77#32)) a3) (mulf (broadcastInDim S2x384x192 ![] bcast_S_S2x384x192 (constant S_ .f32 0x3A83126F#32)) (mulf a1 a1))) (broadcastInDim S2x384x192 ![] bcast_S_S2x384x192 (constant S_ .f32 0x3C231ACC#32)))) (broadcastInDim S2x384x192 ![] bcast_S_S2x384x192 (constant S_ .f32 0x322BCC77#32)))) (mulf (broadcastInDim S2x384x192 ![] bcast_S_S2x384x192 (constant S_ .f32 0x3C23D70A#32)) a0))) shapeCasts_S2x384x192_S768x192
      = fun i => delta (flat a0 i) (flat a1 i) (flat a2 i) (flat a3 i) := by
  funext i
  pointwise
  rfl

theorem ref_newM :
    shapeCast S768x192 (addf (mulf (broadcastInDim S2x384x192 ![] bcast_S_S2x384x192 (constant S_ .f32 0x3F666666#32)) a2) (mulf (broadcastInDim S2x384x192 ![] bcast_S_S2x384x192 (constant S_ .f32 0x3DCCCCCD#32)) a1)) shapeCasts_S2x384x192_S768x192
      = fun i => newM (flat a1 i) (flat a2 i) := by
  funext i
  pointwise
  rfl

theorem ref_newV :
    shapeCast S768x192 (addf (mulf (broadcastInDim S2x384x192 ![] bcast_S_S2x384x192 (constant S_ .f32 0x3F7FBE77#32)) a3) (mulf (broadcastInDim S2x384x192 ![] bcast_S_S2x384x192 (constant S_ .f32 0x3A83126F#32)) (mulf a1 a1))) shapeCasts_S2x384x192_S768x192
      = fun i => newV (flat a1 i) (flat a3 i) := by
  funext i
  pointwise
  rfl

end Ref

open Cert.AdamWUqIdeal Cert.AdamWUqIdeal.Gen

/-! ## The kernel's results -/

variable (m : (ℓ : Loc nD τ sig) → Buf (Elt Ideal) ℓ) (ρ : Dev nD → PrngReg)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ t.val < 3 :=
  (by decide +kernel : ∀ t : Fin grid0.N, _)

abbrev W (c : Dev nD) (k : Fin 4) : FVec Ideal S768x192 .f32 :=
  flat (match k with
    | 0 => m ((c : Thread nD τ).loc main_arg0) | 1 => m ((c : Thread nD τ).loc main_arg1)
    | 2 => m ((c : Thread nD τ).loc main_arg2) | 3 => m ((c : Thread nD τ).loc main_arg3))

def ti (t : Fin cfg0.N) (r : Fin 256) : Fin 768 := ⟨t.val * 256 + r.val, by have := (idx t).2.2.2.2.2.2.2; omega⟩

theorem blk_0 (c : Dev nD) (t : Fin cfg0.N) (r : Fin 256) (s : Fin 192) :
    (show Vec Ideal S256x192 .f32 from iblk m c 0 t) (ix2 r s) = W m c 0 (ix2 (ti t r) s) := by
  unfold ti
  blk_point [iblk, V, idx t]

theorem blk_1 (c : Dev nD) (t : Fin cfg0.N) (r : Fin 256) (s : Fin 192) :
    (show Vec Ideal S256x192 .f32 from iblk m c 1 t) (ix2 r s) = W m c 1 (ix2 (ti t r) s) := by
  unfold ti
  blk_point [iblk, V, idx t]

theorem blk_2 (c : Dev nD) (t : Fin cfg0.N) (r : Fin 256) (s : Fin 192) :
    (show Vec Ideal S256x192 .f32 from iblk m c 2 t) (ix2 r s) = W m c 2 (ix2 (ti t r) s) := by
  unfold ti
  blk_point [iblk, V, idx t]

theorem blk_3 (c : Dev nD) (t : Fin cfg0.N) (r : Fin 256) (s : Fin 192) :
    (show Vec Ideal S256x192 .f32 from iblk m c 3 t) (ix2 r s) = W m c 3 (ix2 (ti t r) s) := by
  unfold ti
  blk_point [iblk, V, idx t]

theorem final_delta (c : Dev nD) : (dats m 0 c).arrAt 4 cfg0.N = fun i => delta (W m c 0 i) (W m c 1 i) (W m c 2 i) (W m c 3 i) := by
  refine (dats m 0 c).arrAt_eq_of_covers 4 _ (by decide +kernel) fun t hf y => ?_
  blk_simp
  rw [after0_4]
  obtain ⟨r, s, rfl⟩ : ∃ (r : Fin 256) (s : Fin 192), y = ix2 r s := ⟨y 0, y 1, eq_ix2 y⟩
  have e : (win0_4.blk t).view.emb (ix2 r s) = ix2 (ti t r) s := by
    unfold ti; blk_ext [idx t]
  rw [e]
  unfold out0_4
  refine (Cert.AdamWUqIdeal.Value.canon4_eq _ _ _ _ _).trans ?_
  simp only [View.ld_unit_zero (S := S256x192) Cert.Product.hz]
  show delta ((show Vec Ideal S256x192 .f32 from iblk m c 0 t) (ix2 r s)) ((show Vec Ideal S256x192 .f32 from iblk m c 1 t) (ix2 r s)) ((show Vec Ideal S256x192 .f32 from iblk m c 2 t) (ix2 r s)) ((show Vec Ideal S256x192 .f32 from iblk m c 3 t) (ix2 r s)) = _
  rw [blk_0, blk_1, blk_2, blk_3]

theorem final_newM (c : Dev nD) : (dats m 0 c).arrAt 5 cfg0.N = fun i => newM (W m c 1 i) (W m c 2 i) := by
  refine (dats m 0 c).arrAt_eq_of_covers 5 _ (by decide +kernel) fun t hf y => ?_
  blk_simp
  rw [after0_5]
  obtain ⟨r, s, rfl⟩ : ∃ (r : Fin 256) (s : Fin 192), y = ix2 r s := ⟨y 0, y 1, eq_ix2 y⟩
  have e : (win0_5.blk t).view.emb (ix2 r s) = ix2 (ti t r) s := by
    unfold ti; blk_ext [idx t]
  rw [e]
  unfold out0_5
  refine (Cert.AdamWUqIdeal.Value.canon5_eq _ _  _).trans ?_
  simp only [View.ld_unit_zero (S := S256x192) Cert.Product.hz]
  show newM ((show Vec Ideal S256x192 .f32 from iblk m c 1 t) (ix2 r s)) ((show Vec Ideal S256x192 .f32 from iblk m c 2 t) (ix2 r s)) = _
  rw [blk_1, blk_2]

theorem final_newV (c : Dev nD) : (dats m 0 c).arrAt 6 cfg0.N = fun i => newV (W m c 1 i) (W m c 3 i) := by
  refine (dats m 0 c).arrAt_eq_of_covers 6 _ (by decide +kernel) fun t hf y => ?_
  blk_simp
  rw [after0_6]
  obtain ⟨r, s, rfl⟩ : ∃ (r : Fin 256) (s : Fin 192), y = ix2 r s := ⟨y 0, y 1, eq_ix2 y⟩
  have e : (win0_6.blk t).view.emb (ix2 r s) = ix2 (ti t r) s := by
    unfold ti; blk_ext [idx t]
  rw [e]
  unfold out0_6
  refine (Cert.AdamWUqIdeal.Value.canon6_eq _ _  _).trans ?_
  simp only [View.ld_unit_zero (S := S256x192) Cert.Product.hz]
  show newV ((show Vec Ideal S256x192 .f32 from iblk m c 1 t) (ix2 r s)) ((show Vec Ideal S256x192 .f32 from iblk m c 3 t) (ix2 r s)) = _
  rw [blk_1, blk_3]

/-! ## The claims -/

theorem frame_ref : Cert.quiescent_AdamWUqRefIdeal (hAdamWUqRefIdeal := Cert.AdamWUqRefIdeal.Gen.facts) := fun m ρ _ =>
  (θ_run _ _ _).mono (fun r h => ⟨fun c => ((h c).2.2.2 : _), sem_eq_zero_of_no_sems (by decide) r.2⟩)
    (Cert.AdamWUqRefIdeal.Value.run m ρ)

theorem algebraic : Cert.algebraic_AdamWUqIdeal_AdamWUqRefIdeal
    (hAdamWUqIdeal := Cert.AdamWUqIdeal.Gen.facts) (hAdamWUqRefIdeal := Cert.AdamWUqRefIdeal.Gen.facts) := by
  intro m g m' g' _ hag
  refine ⟨fun c i => delta (W m c 0 i) (W m c 1 i) (W m c 2 i) (W m c 3 i), fun c i => newM (W m c 1 i) (W m c 2 i),
    fun c i => newV (W m c 1 i) (W m c 3 i), ?_, ?_⟩
  · refine (θ_run _ _ _).mono (fun r h c => ?_) (Cert.AdamWUqIdeal.Value.run_blocks m g)
    exact ⟨(h c).1.trans (final_delta m c), (h c).2.1.trans (final_newM m c), (h c).2.2.1.trans (final_newV m c), (h c).2.2.2⟩
  · refine (θ_run _ _ _).mono (fun r h c => ?_) (Cert.AdamWUqRefIdeal.Value.run m' g')
    obtain ⟨e0, e1, e2, e3⟩ := hag c
    refine ⟨(h c).1.trans ?_, (h c).2.1.trans ?_, (h c).2.2.1.trans ?_, (h c).2.2.2⟩
    · rw [e0, e1, e2, e3]
      exact ref_delta _ _ _ _
    · rw [e1, e2]
      exact ref_newM _ _
    · rw [e1, e3]
      exact ref_newV _ _

end Cert.AdamWUqProof

end
-- ==== Proof.AdamWUkvValue.lean ====
/- The kernel AdamWUkv: one AdamW step in blocks of rows, its result arrays and the reference's. -/
module

public import proofs.«01_k».proof.Defs
public import proofs.«01_k».proof.Proof.Gen.AdamWUkvIdeal.Value
public import proofs.«01_k».proof.Proof.Gen.AdamWUkvRefIdeal.Run
public import proofs.«01_k».proof.Proof.Adam
public import proofs.«01_k».proof.Proof.Product
public import Idealize.ShloMosaic.Lib.Pipeline.ValueKit
public import Idealize.ShloMosaic.Lib.Claim

@[expose] public section

set_option maxRecDepth 16384

noncomputable section

namespace Cert.AdamWUkvProof

open Idealize.ShloMosaic Idealize.ShloMosaic.TcCoe Idealize.SL.Sem Cert.Adam

/-! ## The reference's results -/

section Ref
open Cert.AdamWUkvRefIdeal Cert.AdamWUkvRefIdeal.Gen

variable (a0 a1 a2 a3 : FVec Ideal S2x256x256 .f32)

abbrev flat (a : FVec Ideal S2x256x256 .f32) : FVec Ideal S512x256 .f32 := shapeCast S512x256 a shapeCasts_S2x256x256_S512x256

theorem ref_delta :
    shapeCast S512x256 (mulf (broadcastInDim S2x256x256 ![] bcast_S_S2x256x256 (constant S_ .f32 0xBA83126F#32)) (addf (Host.divf (Host.divf (addf (mulf (broadcastInDim S2x256x256 ![] bcast_S_S2x256x256 (constant S_ .f32 0x3F666666#32)) a2) (mulf (broadcastInDim S2x256x256 ![] bcast_S_S2x256x256 (constant S_ .f32 0x3DCCCCCD#32)) a1)) (broadcastInDim S2x256x256 ![] bcast_S_S2x256x256 (constant S_ .f32 0x3F26BD02#32))) (addf (Host.sqrt (Host.divf (addf (mulf (broadcastInDim S2x256x256 ![] bcast_S_S2x256x256 (constant S_ .f32 0x3F7FBE77#32)) a3) (mulf (broadcastInDim S2x256x256 ![] bcast_S_S2x256x256 (constant S_ .f32 0x3A83126F#32)) (mulf a1 a1))) (broadcastInDim S2x256x256 ![] bcast_S_S2x256x256 (constant S_ .f32 0x3C231ACC#32)))) (broadcastInDim S2x256x256 ![] bcast_S_S2x256x256 (constant S_ .f32 0x322BCC77#32)))) (mulf (broadcastInDim S2x256x256 ![] bcast_S_S2x256x256 (constant S_ .f32 0x3C23D70A#32)) a0))) shapeCasts_S2x256x256_S512x256
      = fun i => delta (flat a0 i) (flat a1 i) (flat a2 i) (flat a3 i) := by
  funext i
  pointwise
  rfl

theorem ref_newM :
    shapeCast S512x256 (addf (mulf (broadcastInDim S2x256x256 ![] bcast_S_S2x256x256 (constant S_ .f32 0x3F666666#32)) a2) (mulf (broadcastInDim S2x256x256 ![] bcast_S_S2x256x256 (constant S_ .f32 0x3DCCCCCD#32)) a1)) shapeCasts_S2x256x256_S512x256
      = fun i => newM (flat a1 i) (flat a2 i) := by
  funext i
  pointwise
  rfl

theorem ref_newV :
    shapeCast S512x256 (addf (mulf (broadcastInDim S2x256x256 ![] bcast_S_S2x256x256 (constant S_ .f32 0x3F7FBE77#32)) a3) (mulf (broadcastInDim S2x256x256 ![] bcast_S_S2x256x256 (constant S_ .f32 0x3A83126F#32)) (mulf a1 a1))) shapeCasts_S2x256x256_S512x256
      = fun i => newV (flat a1 i) (flat a3 i) := by
  funext i
  pointwise
  rfl

end Ref

open Cert.AdamWUkvIdeal Cert.AdamWUkvIdeal.Gen

/-! ## The kernel's results -/

variable (m : (ℓ : Loc nD τ sig) → Buf (Elt Ideal) ℓ) (ρ : Dev nD → PrngReg)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ t.val < 2 :=
  (by decide +kernel : ∀ t : Fin grid0.N, _)

abbrev W (c : Dev nD) (k : Fin 4) : FVec Ideal S512x256 .f32 :=
  flat (match k with
    | 0 => m ((c : Thread nD τ).loc main_arg0) | 1 => m ((c : Thread nD τ).loc main_arg1)
    | 2 => m ((c : Thread nD τ).loc main_arg2) | 3 => m ((c : Thread nD τ).loc main_arg3))

def ti (t : Fin cfg0.N) (r : Fin 256) : Fin 512 := ⟨t.val * 256 + r.val, by have := (idx t).2.2.2.2.2.2.2; omega⟩

theorem blk_0 (c : Dev nD) (t : Fin cfg0.N) (r : Fin 256) (s : Fin 256) :
    (show Vec Ideal S256x256 .f32 from iblk m c 0 t) (ix2 r s) = W m c 0 (ix2 (ti t r) s) := by
  unfold ti
  blk_point [iblk, V, idx t]

theorem blk_1 (c : Dev nD) (t : Fin cfg0.N) (r : Fin 256) (s : Fin 256) :
    (show Vec Ideal S256x256 .f32 from iblk m c 1 t) (ix2 r s) = W m c 1 (ix2 (ti t r) s) := by
  unfold ti
  blk_point [iblk, V, idx t]

theorem blk_2 (c : Dev nD) (t : Fin cfg0.N) (r : Fin 256) (s : Fin 256) :
    (show Vec Ideal S256x256 .f32 from iblk m c 2 t) (ix2 r s) = W m c 2 (ix2 (ti t r) s) := by
  unfold ti
  blk_point [iblk, V, idx t]

theorem blk_3 (c : Dev nD) (t : Fin cfg0.N) (r : Fin 256) (s : Fin 256) :
    (show Vec Ideal S256x256 .f32 from iblk m c 3 t) (ix2 r s) = W m c 3 (ix2 (ti t r) s) := by
  unfold ti
  blk_point [iblk, V, idx t]

theorem final_delta (c : Dev nD) : (dats m 0 c).arrAt 4 cfg0.N = fun i => delta (W m c 0 i) (W m c 1 i) (W m c 2 i) (W m c 3 i) := by
  refine (dats m 0 c).arrAt_eq_of_covers 4 _ (by decide +kernel) fun t hf y => ?_
  blk_simp
  rw [after0_4]
  obtain ⟨r, s, rfl⟩ : ∃ (r : Fin 256) (s : Fin 256), y = ix2 r s := ⟨y 0, y 1, eq_ix2 y⟩
  have e : (win0_4.blk t).view.emb (ix2 r s) = ix2 (ti t r) s := by
    unfold ti; blk_ext [idx t]
  rw [e]
  unfold out0_4
  refine (Cert.AdamWUkvIdeal.Value.canon4_eq _ _ _ _ _).trans ?_
  simp only [View.ld_unit_zero (S := S256x256) Cert.Product.hz]
  show delta ((show Vec Ideal S256x256 .f32 from iblk m c 0 t) (ix2 r s)) ((show Vec Ideal S256x256 .f32 from iblk m c 1 t) (ix2 r s)) ((show Vec Ideal S256x256 .f32 from iblk m c 2 t) (ix2 r s)) ((show Vec Ideal S256x256 .f32 from iblk m c 3 t) (ix2 r s)) = _
  rw [blk_0, blk_1, blk_2, blk_3]

theorem final_newM (c : Dev nD) : (dats m 0 c).arrAt 5 cfg0.N = fun i => newM (W m c 1 i) (W m c 2 i) := by
  refine (dats m 0 c).arrAt_eq_of_covers 5 _ (by decide +kernel) fun t hf y => ?_
  blk_simp
  rw [after0_5]
  obtain ⟨r, s, rfl⟩ : ∃ (r : Fin 256) (s : Fin 256), y = ix2 r s := ⟨y 0, y 1, eq_ix2 y⟩
  have e : (win0_5.blk t).view.emb (ix2 r s) = ix2 (ti t r) s := by
    unfold ti; blk_ext [idx t]
  rw [e]
  unfold out0_5
  refine (Cert.AdamWUkvIdeal.Value.canon5_eq _ _  _).trans ?_
  simp only [View.ld_unit_zero (S := S256x256) Cert.Product.hz]
  show newM ((show Vec Ideal S256x256 .f32 from iblk m c 1 t) (ix2 r s)) ((show Vec Ideal S256x256 .f32 from iblk m c 2 t) (ix2 r s)) = _
  rw [blk_1, blk_2]

theorem final_newV (c : Dev nD) : (dats m 0 c).arrAt 6 cfg0.N = fun i => newV (W m c 1 i) (W m c 3 i) := by
  refine (dats m 0 c).arrAt_eq_of_covers 6 _ (by decide +kernel) fun t hf y => ?_
  blk_simp
  rw [after0_6]
  obtain ⟨r, s, rfl⟩ : ∃ (r : Fin 256) (s : Fin 256), y = ix2 r s := ⟨y 0, y 1, eq_ix2 y⟩
  have e : (win0_6.blk t).view.emb (ix2 r s) = ix2 (ti t r) s := by
    unfold ti; blk_ext [idx t]
  rw [e]
  unfold out0_6
  refine (Cert.AdamWUkvIdeal.Value.canon6_eq _ _  _).trans ?_
  simp only [View.ld_unit_zero (S := S256x256) Cert.Product.hz]
  show newV ((show Vec Ideal S256x256 .f32 from iblk m c 1 t) (ix2 r s)) ((show Vec Ideal S256x256 .f32 from iblk m c 3 t) (ix2 r s)) = _
  rw [blk_1, blk_3]

/-! ## The claims -/

theorem frame_ref : Cert.quiescent_AdamWUkvRefIdeal (hAdamWUkvRefIdeal := Cert.AdamWUkvRefIdeal.Gen.facts) := fun m ρ _ =>
  (θ_run _ _ _).mono (fun r h => ⟨fun c => ((h c).2.2.2 : _), sem_eq_zero_of_no_sems (by decide) r.2⟩)
    (Cert.AdamWUkvRefIdeal.Value.run m ρ)

theorem algebraic : Cert.algebraic_AdamWUkvIdeal_AdamWUkvRefIdeal
    (hAdamWUkvIdeal := Cert.AdamWUkvIdeal.Gen.facts) (hAdamWUkvRefIdeal := Cert.AdamWUkvRefIdeal.Gen.facts) := by
  intro m g m' g' _ hag
  refine ⟨fun c i => delta (W m c 0 i) (W m c 1 i) (W m c 2 i) (W m c 3 i), fun c i => newM (W m c 1 i) (W m c 2 i),
    fun c i => newV (W m c 1 i) (W m c 3 i), ?_, ?_⟩
  · refine (θ_run _ _ _).mono (fun r h c => ?_) (Cert.AdamWUkvIdeal.Value.run_blocks m g)
    exact ⟨(h c).1.trans (final_delta m c), (h c).2.1.trans (final_newM m c), (h c).2.2.1.trans (final_newV m c), (h c).2.2.2⟩
  · refine (θ_run _ _ _).mono (fun r h c => ?_) (Cert.AdamWUkvRefIdeal.Value.run m' g')
    obtain ⟨e0, e1, e2, e3⟩ := hag c
    refine ⟨(h c).1.trans ?_, (h c).2.1.trans ?_, (h c).2.2.1.trans ?_, (h c).2.2.2⟩
    · rw [e0, e1, e2, e3]
      exact ref_delta _ _ _ _
    · rw [e1, e2]
      exact ref_newM _ _
    · rw [e1, e3]
      exact ref_newV _ _

end Cert.AdamWUkvProof

end
-- ==== Proof.AdamRwW2Value.lean ====
/- The kernel AdamRwW2: one AdamW step in blocks of rows, its result arrays and the reference's. -/
module

public import proofs.«01_k».proof.Defs
public import proofs.«01_k».proof.Proof.Gen.AdamRwW2Ideal.Value
public import proofs.«01_k».proof.Proof.Gen.AdamRwW2RefIdeal.Run
public import proofs.«01_k».proof.Proof.Adam
public import proofs.«01_k».proof.Proof.Product
public import Idealize.ShloMosaic.Lib.Pipeline.ValueKit
public import Idealize.ShloMosaic.Lib.Claim

@[expose] public section

set_option maxRecDepth 16384

noncomputable section

namespace Cert.AdamRwW2Proof

open Idealize.ShloMosaic Idealize.ShloMosaic.TcCoe Idealize.SL.Sem Cert.Adam

/-! ## The reference's results -/

section Ref
open Cert.AdamRwW2RefIdeal Cert.AdamRwW2RefIdeal.Gen

variable (a0 a1 a2 a3 : FVec Ideal S2x2x64x128 .f32)

abbrev flat (a : FVec Ideal S2x2x64x128 .f32) : FVec Ideal S256x128 .f32 := shapeCast S256x128 a shapeCasts_S2x2x64x128_S256x128

theorem ref_delta :
    shapeCast S256x128 (mulf (broadcastInDim S2x2x64x128 ![] bcast_S_S2x2x64x128 (constant S_ .f32 0xBA83126F#32)) (addf (Host.divf (Host.divf (addf (mulf (broadcastInDim S2x2x64x128 ![] bcast_S_S2x2x64x128 (constant S_ .f32 0x3F666666#32)) a2) (mulf (broadcastInDim S2x2x64x128 ![] bcast_S_S2x2x64x128 (constant S_ .f32 0x3DCCCCCD#32)) a1)) (broadcastInDim S2x2x64x128 ![] bcast_S_S2x2x64x128 (constant S_ .f32 0x3F26BD02#32))) (addf (Host.sqrt (Host.divf (addf (mulf (broadcastInDim S2x2x64x128 ![] bcast_S_S2x2x64x128 (constant S_ .f32 0x3F7FBE77#32)) a3) (mulf (broadcastInDim S2x2x64x128 ![] bcast_S_S2x2x64x128 (constant S_ .f32 0x3A83126F#32)) (mulf a1 a1))) (broadcastInDim S2x2x64x128 ![] bcast_S_S2x2x64x128 (constant S_ .f32 0x3C231ACC#32)))) (broadcastInDim S2x2x64x128 ![] bcast_S_S2x2x64x128 (constant S_ .f32 0x322BCC77#32)))) (mulf (broadcastInDim S2x2x64x128 ![] bcast_S_S2x2x64x128 (constant S_ .f32 0x3C23D70A#32)) a0))) shapeCasts_S2x2x64x128_S256x128
      = fun i => delta (flat a0 i) (flat a1 i) (flat a2 i) (flat a3 i) := by
  funext i
  pointwise
  rfl

theorem ref_newM :
    shapeCast S256x128 (addf (mulf (broadcastInDim S2x2x64x128 ![] bcast_S_S2x2x64x128 (constant S_ .f32 0x3F666666#32)) a2) (mulf (broadcastInDim S2x2x64x128 ![] bcast_S_S2x2x64x128 (constant S_ .f32 0x3DCCCCCD#32)) a1)) shapeCasts_S2x2x64x128_S256x128
      = fun i => newM (flat a1 i) (flat a2 i) := by
  funext i
  pointwise
  rfl

theorem ref_newV :
    shapeCast S256x128 (addf (mulf (broadcastInDim S2x2x64x128 ![] bcast_S_S2x2x64x128 (constant S_ .f32 0x3F7FBE77#32)) a3) (mulf (broadcastInDim S2x2x64x128 ![] bcast_S_S2x2x64x128 (constant S_ .f32 0x3A83126F#32)) (mulf a1 a1))) shapeCasts_S2x2x64x128_S256x128
      = fun i => newV (flat a1 i) (flat a3 i) := by
  funext i
  pointwise
  rfl

end Ref

open Cert.AdamRwW2Ideal Cert.AdamRwW2Ideal.Gen

/-! ## The kernel's results -/

variable (m : (ℓ : Loc nD τ sig) → Buf (Elt Ideal) ℓ) (ρ : Dev nD → PrngReg)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ t.val < 1 :=
  (by decide +kernel : ∀ t : Fin grid0.N, _)

abbrev W (c : Dev nD) (k : Fin 4) : FVec Ideal S256x128 .f32 :=
  flat (match k with
    | 0 => m ((c : Thread nD τ).loc main_arg0) | 1 => m ((c : Thread nD τ).loc main_arg1)
    | 2 => m ((c : Thread nD τ).loc main_arg2) | 3 => m ((c : Thread nD τ).loc main_arg3))

def ti (t : Fin cfg0.N) (r : Fin 256) : Fin 256 := ⟨t.val * 256 + r.val, by have := (idx t).2.2.2.2.2.2.2; omega⟩

theorem blk_0 (c : Dev nD) (t : Fin cfg0.N) (r : Fin 256) (s : Fin 128) :
    (show Vec Ideal S256x128 .f32 from iblk m c 0 t) (ix2 r s) = W m c 0 (ix2 (ti t r) s) := by
  unfold ti
  blk_point [iblk, V, idx t]

theorem blk_1 (c : Dev nD) (t : Fin cfg0.N) (r : Fin 256) (s : Fin 128) :
    (show Vec Ideal S256x128 .f32 from iblk m c 1 t) (ix2 r s) = W m c 1 (ix2 (ti t r) s) := by
  unfold ti
  blk_point [iblk, V, idx t]

theorem blk_2 (c : Dev nD) (t : Fin cfg0.N) (r : Fin 256) (s : Fin 128) :
    (show Vec Ideal S256x128 .f32 from iblk m c 2 t) (ix2 r s) = W m c 2 (ix2 (ti t r) s) := by
  unfold ti
  blk_point [iblk, V, idx t]

theorem blk_3 (c : Dev nD) (t : Fin cfg0.N) (r : Fin 256) (s : Fin 128) :
    (show Vec Ideal S256x128 .f32 from iblk m c 3 t) (ix2 r s) = W m c 3 (ix2 (ti t r) s) := by
  unfold ti
  blk_point [iblk, V, idx t]

theorem final_delta (c : Dev nD) : (dats m 0 c).arrAt 4 cfg0.N = fun i => delta (W m c 0 i) (W m c 1 i) (W m c 2 i) (W m c 3 i) := by
  refine (dats m 0 c).arrAt_eq_of_covers 4 _ (by decide +kernel) fun t hf y => ?_
  blk_simp
  rw [after0_4]
  obtain ⟨r, s, rfl⟩ : ∃ (r : Fin 256) (s : Fin 128), y = ix2 r s := ⟨y 0, y 1, eq_ix2 y⟩
  have e : (win0_4.blk t).view.emb (ix2 r s) = ix2 (ti t r) s := by
    unfold ti; blk_ext [idx t]
  rw [e]
  unfold out0_4
  refine (Cert.AdamRwW2Ideal.Value.canon4_eq _ _ _ _ _).trans ?_
  simp only [View.ld_unit_zero (S := S256x128) Cert.Product.hz]
  show delta ((show Vec Ideal S256x128 .f32 from iblk m c 0 t) (ix2 r s)) ((show Vec Ideal S256x128 .f32 from iblk m c 1 t) (ix2 r s)) ((show Vec Ideal S256x128 .f32 from iblk m c 2 t) (ix2 r s)) ((show Vec Ideal S256x128 .f32 from iblk m c 3 t) (ix2 r s)) = _
  rw [blk_0, blk_1, blk_2, blk_3]

theorem final_newM (c : Dev nD) : (dats m 0 c).arrAt 5 cfg0.N = fun i => newM (W m c 1 i) (W m c 2 i) := by
  refine (dats m 0 c).arrAt_eq_of_covers 5 _ (by decide +kernel) fun t hf y => ?_
  blk_simp
  rw [after0_5]
  obtain ⟨r, s, rfl⟩ : ∃ (r : Fin 256) (s : Fin 128), y = ix2 r s := ⟨y 0, y 1, eq_ix2 y⟩
  have e : (win0_5.blk t).view.emb (ix2 r s) = ix2 (ti t r) s := by
    unfold ti; blk_ext [idx t]
  rw [e]
  unfold out0_5
  refine (Cert.AdamRwW2Ideal.Value.canon5_eq _ _  _).trans ?_
  simp only [View.ld_unit_zero (S := S256x128) Cert.Product.hz]
  show newM ((show Vec Ideal S256x128 .f32 from iblk m c 1 t) (ix2 r s)) ((show Vec Ideal S256x128 .f32 from iblk m c 2 t) (ix2 r s)) = _
  rw [blk_1, blk_2]

theorem final_newV (c : Dev nD) : (dats m 0 c).arrAt 6 cfg0.N = fun i => newV (W m c 1 i) (W m c 3 i) := by
  refine (dats m 0 c).arrAt_eq_of_covers 6 _ (by decide +kernel) fun t hf y => ?_
  blk_simp
  rw [after0_6]
  obtain ⟨r, s, rfl⟩ : ∃ (r : Fin 256) (s : Fin 128), y = ix2 r s := ⟨y 0, y 1, eq_ix2 y⟩
  have e : (win0_6.blk t).view.emb (ix2 r s) = ix2 (ti t r) s := by
    unfold ti; blk_ext [idx t]
  rw [e]
  unfold out0_6
  refine (Cert.AdamRwW2Ideal.Value.canon6_eq _ _  _).trans ?_
  simp only [View.ld_unit_zero (S := S256x128) Cert.Product.hz]
  show newV ((show Vec Ideal S256x128 .f32 from iblk m c 1 t) (ix2 r s)) ((show Vec Ideal S256x128 .f32 from iblk m c 3 t) (ix2 r s)) = _
  rw [blk_1, blk_3]

/-! ## The claims -/

theorem frame_ref : Cert.quiescent_AdamRwW2RefIdeal (hAdamRwW2RefIdeal := Cert.AdamRwW2RefIdeal.Gen.facts) := fun m ρ _ =>
  (θ_run _ _ _).mono (fun r h => ⟨fun c => ((h c).2.2.2 : _), sem_eq_zero_of_no_sems (by decide) r.2⟩)
    (Cert.AdamRwW2RefIdeal.Value.run m ρ)

theorem algebraic : Cert.algebraic_AdamRwW2Ideal_AdamRwW2RefIdeal
    (hAdamRwW2Ideal := Cert.AdamRwW2Ideal.Gen.facts) (hAdamRwW2RefIdeal := Cert.AdamRwW2RefIdeal.Gen.facts) := by
  intro m g m' g' _ hag
  refine ⟨fun c i => delta (W m c 0 i) (W m c 1 i) (W m c 2 i) (W m c 3 i), fun c i => newM (W m c 1 i) (W m c 2 i),
    fun c i => newV (W m c 1 i) (W m c 3 i), ?_, ?_⟩
  · refine (θ_run _ _ _).mono (fun r h c => ?_) (Cert.AdamRwW2Ideal.Value.run_blocks m g)
    exact ⟨(h c).1.trans (final_delta m c), (h c).2.1.trans (final_newM m c), (h c).2.2.1.trans (final_newV m c), (h c).2.2.2⟩
  · refine (θ_run _ _ _).mono (fun r h c => ?_) (Cert.AdamRwW2RefIdeal.Value.run m' g')
    obtain ⟨e0, e1, e2, e3⟩ := hag c
    refine ⟨(h c).1.trans ?_, (h c).2.1.trans ?_, (h c).2.2.1.trans ?_, (h c).2.2.2⟩
    · rw [e0, e1, e2, e3]
      exact ref_delta _ _ _ _
    · rw [e1, e2]
      exact ref_newM _ _
    · rw [e1, e3]
      exact ref_newV _ _

end Cert.AdamRwW2Proof

end
-- ==== Proof.AdamRwA2Value.lean ====
/- The kernel AdamRwA2: one AdamW step in blocks of rows, its result arrays and the reference's. -/
module

public import proofs.«01_k».proof.Defs
public import proofs.«01_k».proof.Proof.Gen.AdamRwA2Ideal.Value
public import proofs.«01_k».proof.Proof.Gen.AdamRwA2RefIdeal.Run
public import proofs.«01_k».proof.Proof.Adam
public import proofs.«01_k».proof.Proof.Product
public import Idealize.ShloMosaic.Lib.Pipeline.ValueKit
public import Idealize.ShloMosaic.Lib.Claim

@[expose] public section

set_option maxRecDepth 16384

noncomputable section

namespace Cert.AdamRwA2Proof

open Idealize.ShloMosaic Idealize.ShloMosaic.TcCoe Idealize.SL.Sem Cert.Adam

/-! ## The reference's results -/

section Ref
open Cert.AdamRwA2RefIdeal Cert.AdamRwA2RefIdeal.Gen

variable (a0 a1 a2 a3 : FVec Ideal S2x2x64x128 .f32)

abbrev flat (a : FVec Ideal S2x2x64x128 .f32) : FVec Ideal S256x128 .f32 := shapeCast S256x128 a shapeCasts_S2x2x64x128_S256x128

theorem ref_delta :
    shapeCast S256x128 (mulf (broadcastInDim S2x2x64x128 ![] bcast_S_S2x2x64x128 (constant S_ .f32 0xBA83126F#32)) (addf (Host.divf (Host.divf (addf (mulf (broadcastInDim S2x2x64x128 ![] bcast_S_S2x2x64x128 (constant S_ .f32 0x3F666666#32)) a2) (mulf (broadcastInDim S2x2x64x128 ![] bcast_S_S2x2x64x128 (constant S_ .f32 0x3DCCCCCD#32)) a1)) (broadcastInDim S2x2x64x128 ![] bcast_S_S2x2x64x128 (constant S_ .f32 0x3F26BD02#32))) (addf (Host.sqrt (Host.divf (addf (mulf (broadcastInDim S2x2x64x128 ![] bcast_S_S2x2x64x128 (constant S_ .f32 0x3F7FBE77#32)) a3) (mulf (broadcastInDim S2x2x64x128 ![] bcast_S_S2x2x64x128 (constant S_ .f32 0x3A83126F#32)) (mulf a1 a1))) (broadcastInDim S2x2x64x128 ![] bcast_S_S2x2x64x128 (constant S_ .f32 0x3C231ACC#32)))) (broadcastInDim S2x2x64x128 ![] bcast_S_S2x2x64x128 (constant S_ .f32 0x322BCC77#32)))) (mulf (broadcastInDim S2x2x64x128 ![] bcast_S_S2x2x64x128 (constant S_ .f32 0x3C23D70A#32)) a0))) shapeCasts_S2x2x64x128_S256x128
      = fun i => delta (flat a0 i) (flat a1 i) (flat a2 i) (flat a3 i) := by
  funext i
  pointwise
  rfl

theorem ref_newM :
    shapeCast S256x128 (addf (mulf (broadcastInDim S2x2x64x128 ![] bcast_S_S2x2x64x128 (constant S_ .f32 0x3F666666#32)) a2) (mulf (broadcastInDim S2x2x64x128 ![] bcast_S_S2x2x64x128 (constant S_ .f32 0x3DCCCCCD#32)) a1)) shapeCasts_S2x2x64x128_S256x128
      = fun i => newM (flat a1 i) (flat a2 i) := by
  funext i
  pointwise
  rfl

theorem ref_newV :
    shapeCast S256x128 (addf (mulf (broadcastInDim S2x2x64x128 ![] bcast_S_S2x2x64x128 (constant S_ .f32 0x3F7FBE77#32)) a3) (mulf (broadcastInDim S2x2x64x128 ![] bcast_S_S2x2x64x128 (constant S_ .f32 0x3A83126F#32)) (mulf a1 a1))) shapeCasts_S2x2x64x128_S256x128
      = fun i => newV (flat a1 i) (flat a3 i) := by
  funext i
  pointwise
  rfl

end Ref

open Cert.AdamRwA2Ideal Cert.AdamRwA2Ideal.Gen

/-! ## The kernel's results -/

variable (m : (ℓ : Loc nD τ sig) → Buf (Elt Ideal) ℓ) (ρ : Dev nD → PrngReg)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ t.val < 1 :=
  (by decide +kernel : ∀ t : Fin grid0.N, _)

abbrev W (c : Dev nD) (k : Fin 4) : FVec Ideal S256x128 .f32 :=
  flat (match k with
    | 0 => m ((c : Thread nD τ).loc main_arg0) | 1 => m ((c : Thread nD τ).loc main_arg1)
    | 2 => m ((c : Thread nD τ).loc main_arg2) | 3 => m ((c : Thread nD τ).loc main_arg3))

def ti (t : Fin cfg0.N) (r : Fin 256) : Fin 256 := ⟨t.val * 256 + r.val, by have := (idx t).2.2.2.2.2.2.2; omega⟩

theorem blk_0 (c : Dev nD) (t : Fin cfg0.N) (r : Fin 256) (s : Fin 128) :
    (show Vec Ideal S256x128 .f32 from iblk m c 0 t) (ix2 r s) = W m c 0 (ix2 (ti t r) s) := by
  unfold ti
  blk_point [iblk, V, idx t]

theorem blk_1 (c : Dev nD) (t : Fin cfg0.N) (r : Fin 256) (s : Fin 128) :
    (show Vec Ideal S256x128 .f32 from iblk m c 1 t) (ix2 r s) = W m c 1 (ix2 (ti t r) s) := by
  unfold ti
  blk_point [iblk, V, idx t]

theorem blk_2 (c : Dev nD) (t : Fin cfg0.N) (r : Fin 256) (s : Fin 128) :
    (show Vec Ideal S256x128 .f32 from iblk m c 2 t) (ix2 r s) = W m c 2 (ix2 (ti t r) s) := by
  unfold ti
  blk_point [iblk, V, idx t]

theorem blk_3 (c : Dev nD) (t : Fin cfg0.N) (r : Fin 256) (s : Fin 128) :
    (show Vec Ideal S256x128 .f32 from iblk m c 3 t) (ix2 r s) = W m c 3 (ix2 (ti t r) s) := by
  unfold ti
  blk_point [iblk, V, idx t]

theorem final_delta (c : Dev nD) : (dats m 0 c).arrAt 4 cfg0.N = fun i => delta (W m c 0 i) (W m c 1 i) (W m c 2 i) (W m c 3 i) := by
  refine (dats m 0 c).arrAt_eq_of_covers 4 _ (by decide +kernel) fun t hf y => ?_
  blk_simp
  rw [after0_4]
  obtain ⟨r, s, rfl⟩ : ∃ (r : Fin 256) (s : Fin 128), y = ix2 r s := ⟨y 0, y 1, eq_ix2 y⟩
  have e : (win0_4.blk t).view.emb (ix2 r s) = ix2 (ti t r) s := by
    unfold ti; blk_ext [idx t]
  rw [e]
  unfold out0_4
  refine (Cert.AdamRwA2Ideal.Value.canon4_eq _ _ _ _ _).trans ?_
  simp only [View.ld_unit_zero (S := S256x128) Cert.Product.hz]
  show delta ((show Vec Ideal S256x128 .f32 from iblk m c 0 t) (ix2 r s)) ((show Vec Ideal S256x128 .f32 from iblk m c 1 t) (ix2 r s)) ((show Vec Ideal S256x128 .f32 from iblk m c 2 t) (ix2 r s)) ((show Vec Ideal S256x128 .f32 from iblk m c 3 t) (ix2 r s)) = _
  rw [blk_0, blk_1, blk_2, blk_3]

theorem final_newM (c : Dev nD) : (dats m 0 c).arrAt 5 cfg0.N = fun i => newM (W m c 1 i) (W m c 2 i) := by
  refine (dats m 0 c).arrAt_eq_of_covers 5 _ (by decide +kernel) fun t hf y => ?_
  blk_simp
  rw [after0_5]
  obtain ⟨r, s, rfl⟩ : ∃ (r : Fin 256) (s : Fin 128), y = ix2 r s := ⟨y 0, y 1, eq_ix2 y⟩
  have e : (win0_5.blk t).view.emb (ix2 r s) = ix2 (ti t r) s := by
    unfold ti; blk_ext [idx t]
  rw [e]
  unfold out0_5
  refine (Cert.AdamRwA2Ideal.Value.canon5_eq _ _  _).trans ?_
  simp only [View.ld_unit_zero (S := S256x128) Cert.Product.hz]
  show newM ((show Vec Ideal S256x128 .f32 from iblk m c 1 t) (ix2 r s)) ((show Vec Ideal S256x128 .f32 from iblk m c 2 t) (ix2 r s)) = _
  rw [blk_1, blk_2]

theorem final_newV (c : Dev nD) : (dats m 0 c).arrAt 6 cfg0.N = fun i => newV (W m c 1 i) (W m c 3 i) := by
  refine (dats m 0 c).arrAt_eq_of_covers 6 _ (by decide +kernel) fun t hf y => ?_
  blk_simp
  rw [after0_6]
  obtain ⟨r, s, rfl⟩ : ∃ (r : Fin 256) (s : Fin 128), y = ix2 r s := ⟨y 0, y 1, eq_ix2 y⟩
  have e : (win0_6.blk t).view.emb (ix2 r s) = ix2 (ti t r) s := by
    unfold ti; blk_ext [idx t]
  rw [e]
  unfold out0_6
  refine (Cert.AdamRwA2Ideal.Value.canon6_eq _ _  _).trans ?_
  simp only [View.ld_unit_zero (S := S256x128) Cert.Product.hz]
  show newV ((show Vec Ideal S256x128 .f32 from iblk m c 1 t) (ix2 r s)) ((show Vec Ideal S256x128 .f32 from iblk m c 3 t) (ix2 r s)) = _
  rw [blk_1, blk_3]

/-! ## The claims -/

theorem frame_ref : Cert.quiescent_AdamRwA2RefIdeal (hAdamRwA2RefIdeal := Cert.AdamRwA2RefIdeal.Gen.facts) := fun m ρ _ =>
  (θ_run _ _ _).mono (fun r h => ⟨fun c => ((h c).2.2.2 : _), sem_eq_zero_of_no_sems (by decide) r.2⟩)
    (Cert.AdamRwA2RefIdeal.Value.run m ρ)

theorem algebraic : Cert.algebraic_AdamRwA2Ideal_AdamRwA2RefIdeal
    (hAdamRwA2Ideal := Cert.AdamRwA2Ideal.Gen.facts) (hAdamRwA2RefIdeal := Cert.AdamRwA2RefIdeal.Gen.facts) := by
  intro m g m' g' _ hag
  refine ⟨fun c i => delta (W m c 0 i) (W m c 1 i) (W m c 2 i) (W m c 3 i), fun c i => newM (W m c 1 i) (W m c 2 i),
    fun c i => newV (W m c 1 i) (W m c 3 i), ?_, ?_⟩
  · refine (θ_run _ _ _).mono (fun r h c => ?_) (Cert.AdamRwA2Ideal.Value.run_blocks m g)
    exact ⟨(h c).1.trans (final_delta m c), (h c).2.1.trans (final_newM m c), (h c).2.2.1.trans (final_newV m c), (h c).2.2.2⟩
  · refine (θ_run _ _ _).mono (fun r h c => ?_) (Cert.AdamRwA2RefIdeal.Value.run m' g')
    obtain ⟨e0, e1, e2, e3⟩ := hag c
    refine ⟨(h c).1.trans ?_, (h c).2.1.trans ?_, (h c).2.2.1.trans ?_, (h c).2.2.2⟩
    · rw [e0, e1, e2, e3]
      exact ref_delta _ _ _ _
    · rw [e1, e2]
      exact ref_newM _ _
    · rw [e1, e3]
      exact ref_newV _ _

end Cert.AdamRwA2Proof

end
-- ==== Proof.AdamRwG2Value.lean ====
/- The kernel AdamRwG2: one AdamW step in blocks of rows, its result arrays and the reference's. -/
module

public import proofs.«01_k».proof.Defs
public import proofs.«01_k».proof.Proof.Gen.AdamRwG2Ideal.Value
public import proofs.«01_k».proof.Proof.Gen.AdamRwG2RefIdeal.Run
public import proofs.«01_k».proof.Proof.Adam
public import proofs.«01_k».proof.Proof.Product
public import Idealize.ShloMosaic.Lib.Pipeline.ValueKit
public import Idealize.ShloMosaic.Lib.Claim

@[expose] public section

set_option maxRecDepth 16384

noncomputable section

namespace Cert.AdamRwG2Proof

open Idealize.ShloMosaic Idealize.ShloMosaic.TcCoe Idealize.SL.Sem Cert.Adam

/-! ## The reference's results -/

section Ref
open Cert.AdamRwG2RefIdeal Cert.AdamRwG2RefIdeal.Gen

variable (a0 a1 a2 a3 : FVec Ideal S2x128x128 .f32)

abbrev flat (a : FVec Ideal S2x128x128 .f32) : FVec Ideal S256x128 .f32 := shapeCast S256x128 a shapeCasts_S2x128x128_S256x128

theorem ref_delta :
    shapeCast S256x128 (mulf (broadcastInDim S2x128x128 ![] bcast_S_S2x128x128 (constant S_ .f32 0xBA83126F#32)) (addf (Host.divf (Host.divf (addf (mulf (broadcastInDim S2x128x128 ![] bcast_S_S2x128x128 (constant S_ .f32 0x3F666666#32)) a2) (mulf (broadcastInDim S2x128x128 ![] bcast_S_S2x128x128 (constant S_ .f32 0x3DCCCCCD#32)) a1)) (broadcastInDim S2x128x128 ![] bcast_S_S2x128x128 (constant S_ .f32 0x3F26BD02#32))) (addf (Host.sqrt (Host.divf (addf (mulf (broadcastInDim S2x128x128 ![] bcast_S_S2x128x128 (constant S_ .f32 0x3F7FBE77#32)) a3) (mulf (broadcastInDim S2x128x128 ![] bcast_S_S2x128x128 (constant S_ .f32 0x3A83126F#32)) (mulf a1 a1))) (broadcastInDim S2x128x128 ![] bcast_S_S2x128x128 (constant S_ .f32 0x3C231ACC#32)))) (broadcastInDim S2x128x128 ![] bcast_S_S2x128x128 (constant S_ .f32 0x322BCC77#32)))) (mulf (broadcastInDim S2x128x128 ![] bcast_S_S2x128x128 (constant S_ .f32 0x3C23D70A#32)) a0))) shapeCasts_S2x128x128_S256x128
      = fun i => delta (flat a0 i) (flat a1 i) (flat a2 i) (flat a3 i) := by
  funext i
  pointwise
  rfl

theorem ref_newM :
    shapeCast S256x128 (addf (mulf (broadcastInDim S2x128x128 ![] bcast_S_S2x128x128 (constant S_ .f32 0x3F666666#32)) a2) (mulf (broadcastInDim S2x128x128 ![] bcast_S_S2x128x128 (constant S_ .f32 0x3DCCCCCD#32)) a1)) shapeCasts_S2x128x128_S256x128
      = fun i => newM (flat a1 i) (flat a2 i) := by
  funext i
  pointwise
  rfl

theorem ref_newV :
    shapeCast S256x128 (addf (mulf (broadcastInDim S2x128x128 ![] bcast_S_S2x128x128 (constant S_ .f32 0x3F7FBE77#32)) a3) (mulf (broadcastInDim S2x128x128 ![] bcast_S_S2x128x128 (constant S_ .f32 0x3A83126F#32)) (mulf a1 a1))) shapeCasts_S2x128x128_S256x128
      = fun i => newV (flat a1 i) (flat a3 i) := by
  funext i
  pointwise
  rfl

end Ref

open Cert.AdamRwG2Ideal Cert.AdamRwG2Ideal.Gen

/-! ## The kernel's results -/

variable (m : (ℓ : Loc nD τ sig) → Buf (Elt Ideal) ℓ) (ρ : Dev nD → PrngReg)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ t.val < 1 :=
  (by decide +kernel : ∀ t : Fin grid0.N, _)

abbrev W (c : Dev nD) (k : Fin 4) : FVec Ideal S256x128 .f32 :=
  flat (match k with
    | 0 => m ((c : Thread nD τ).loc main_arg0) | 1 => m ((c : Thread nD τ).loc main_arg1)
    | 2 => m ((c : Thread nD τ).loc main_arg2) | 3 => m ((c : Thread nD τ).loc main_arg3))

def ti (t : Fin cfg0.N) (r : Fin 256) : Fin 256 := ⟨t.val * 256 + r.val, by have := (idx t).2.2.2.2.2.2.2; omega⟩

theorem blk_0 (c : Dev nD) (t : Fin cfg0.N) (r : Fin 256) (s : Fin 128) :
    (show Vec Ideal S256x128 .f32 from iblk m c 0 t) (ix2 r s) = W m c 0 (ix2 (ti t r) s) := by
  unfold ti
  blk_point [iblk, V, idx t]

theorem blk_1 (c : Dev nD) (t : Fin cfg0.N) (r : Fin 256) (s : Fin 128) :
    (show Vec Ideal S256x128 .f32 from iblk m c 1 t) (ix2 r s) = W m c 1 (ix2 (ti t r) s) := by
  unfold ti
  blk_point [iblk, V, idx t]

theorem blk_2 (c : Dev nD) (t : Fin cfg0.N) (r : Fin 256) (s : Fin 128) :
    (show Vec Ideal S256x128 .f32 from iblk m c 2 t) (ix2 r s) = W m c 2 (ix2 (ti t r) s) := by
  unfold ti
  blk_point [iblk, V, idx t]

theorem blk_3 (c : Dev nD) (t : Fin cfg0.N) (r : Fin 256) (s : Fin 128) :
    (show Vec Ideal S256x128 .f32 from iblk m c 3 t) (ix2 r s) = W m c 3 (ix2 (ti t r) s) := by
  unfold ti
  blk_point [iblk, V, idx t]

theorem final_delta (c : Dev nD) : (dats m 0 c).arrAt 4 cfg0.N = fun i => delta (W m c 0 i) (W m c 1 i) (W m c 2 i) (W m c 3 i) := by
  refine (dats m 0 c).arrAt_eq_of_covers 4 _ (by decide +kernel) fun t hf y => ?_
  blk_simp
  rw [after0_4]
  obtain ⟨r, s, rfl⟩ : ∃ (r : Fin 256) (s : Fin 128), y = ix2 r s := ⟨y 0, y 1, eq_ix2 y⟩
  have e : (win0_4.blk t).view.emb (ix2 r s) = ix2 (ti t r) s := by
    unfold ti; blk_ext [idx t]
  rw [e]
  unfold out0_4
  refine (Cert.AdamRwG2Ideal.Value.canon4_eq _ _ _ _ _).trans ?_
  simp only [View.ld_unit_zero (S := S256x128) Cert.Product.hz]
  show delta ((show Vec Ideal S256x128 .f32 from iblk m c 0 t) (ix2 r s)) ((show Vec Ideal S256x128 .f32 from iblk m c 1 t) (ix2 r s)) ((show Vec Ideal S256x128 .f32 from iblk m c 2 t) (ix2 r s)) ((show Vec Ideal S256x128 .f32 from iblk m c 3 t) (ix2 r s)) = _
  rw [blk_0, blk_1, blk_2, blk_3]

theorem final_newM (c : Dev nD) : (dats m 0 c).arrAt 5 cfg0.N = fun i => newM (W m c 1 i) (W m c 2 i) := by
  refine (dats m 0 c).arrAt_eq_of_covers 5 _ (by decide +kernel) fun t hf y => ?_
  blk_simp
  rw [after0_5]
  obtain ⟨r, s, rfl⟩ : ∃ (r : Fin 256) (s : Fin 128), y = ix2 r s := ⟨y 0, y 1, eq_ix2 y⟩
  have e : (win0_5.blk t).view.emb (ix2 r s) = ix2 (ti t r) s := by
    unfold ti; blk_ext [idx t]
  rw [e]
  unfold out0_5
  refine (Cert.AdamRwG2Ideal.Value.canon5_eq _ _  _).trans ?_
  simp only [View.ld_unit_zero (S := S256x128) Cert.Product.hz]
  show newM ((show Vec Ideal S256x128 .f32 from iblk m c 1 t) (ix2 r s)) ((show Vec Ideal S256x128 .f32 from iblk m c 2 t) (ix2 r s)) = _
  rw [blk_1, blk_2]

theorem final_newV (c : Dev nD) : (dats m 0 c).arrAt 6 cfg0.N = fun i => newV (W m c 1 i) (W m c 3 i) := by
  refine (dats m 0 c).arrAt_eq_of_covers 6 _ (by decide +kernel) fun t hf y => ?_
  blk_simp
  rw [after0_6]
  obtain ⟨r, s, rfl⟩ : ∃ (r : Fin 256) (s : Fin 128), y = ix2 r s := ⟨y 0, y 1, eq_ix2 y⟩
  have e : (win0_6.blk t).view.emb (ix2 r s) = ix2 (ti t r) s := by
    unfold ti; blk_ext [idx t]
  rw [e]
  unfold out0_6
  refine (Cert.AdamRwG2Ideal.Value.canon6_eq _ _  _).trans ?_
  simp only [View.ld_unit_zero (S := S256x128) Cert.Product.hz]
  show newV ((show Vec Ideal S256x128 .f32 from iblk m c 1 t) (ix2 r s)) ((show Vec Ideal S256x128 .f32 from iblk m c 3 t) (ix2 r s)) = _
  rw [blk_1, blk_3]

/-! ## The claims -/

theorem frame_ref : Cert.quiescent_AdamRwG2RefIdeal (hAdamRwG2RefIdeal := Cert.AdamRwG2RefIdeal.Gen.facts) := fun m ρ _ =>
  (θ_run _ _ _).mono (fun r h => ⟨fun c => ((h c).2.2.2 : _), sem_eq_zero_of_no_sems (by decide) r.2⟩)
    (Cert.AdamRwG2RefIdeal.Value.run m ρ)

theorem algebraic : Cert.algebraic_AdamRwG2Ideal_AdamRwG2RefIdeal
    (hAdamRwG2Ideal := Cert.AdamRwG2Ideal.Gen.facts) (hAdamRwG2RefIdeal := Cert.AdamRwG2RefIdeal.Gen.facts) := by
  intro m g m' g' _ hag
  refine ⟨fun c i => delta (W m c 0 i) (W m c 1 i) (W m c 2 i) (W m c 3 i), fun c i => newM (W m c 1 i) (W m c 2 i),
    fun c i => newV (W m c 1 i) (W m c 3 i), ?_, ?_⟩
  · refine (θ_run _ _ _).mono (fun r h c => ?_) (Cert.AdamRwG2Ideal.Value.run_blocks m g)
    exact ⟨(h c).1.trans (final_delta m c), (h c).2.1.trans (final_newM m c), (h c).2.2.1.trans (final_newV m c), (h c).2.2.2⟩
  · refine (θ_run _ _ _).mono (fun r h c => ?_) (Cert.AdamRwG2RefIdeal.Value.run m' g')
    obtain ⟨e0, e1, e2, e3⟩ := hag c
    refine ⟨(h c).1.trans ?_, (h c).2.1.trans ?_, (h c).2.2.1.trans ?_, (h c).2.2.2⟩
    · rw [e0, e1, e2, e3]
      exact ref_delta _ _ _ _
    · rw [e1, e2]
      exact ref_newM _ _
    · rw [e1, e3]
      exact ref_newV _ _

end Cert.AdamRwG2Proof

end
-- ==== Proof.AdamWBranchValue.lean ====
/- The kernel AdamWBranch: one AdamW step in blocks of rows, its result arrays and the reference's. -/
module

public import proofs.«01_k».proof.Defs
public import proofs.«01_k».proof.Proof.Gen.AdamWBranchIdeal.Value
public import proofs.«01_k».proof.Proof.Gen.AdamWBranchRefIdeal.Run
public import proofs.«01_k».proof.Proof.Adam
public import proofs.«01_k».proof.Proof.Product
public import Idealize.ShloMosaic.Lib.Pipeline.ValueKit
public import Idealize.ShloMosaic.Lib.Claim

@[expose] public section

set_option maxRecDepth 16384

noncomputable section

namespace Cert.AdamWBranchProof

open Idealize.ShloMosaic Idealize.ShloMosaic.TcCoe Idealize.SL.Sem Cert.Adam

/-! ## The reference's results -/

section Ref
open Cert.AdamWBranchRefIdeal Cert.AdamWBranchRefIdeal.Gen

variable (a0 a1 a2 a3 : FVec Ideal S2x3x512x256 .f32)

abbrev flat (a : FVec Ideal S2x3x512x256 .f32) : FVec Ideal S3072x256 .f32 := shapeCast S3072x256 a shapeCasts_S2x3x512x256_S3072x256

theorem ref_delta :
    shapeCast S3072x256 (mulf (broadcastInDim S2x3x512x256 ![] bcast_S_S2x3x512x256 (constant S_ .f32 0xBA83126F#32)) (addf (Host.divf (Host.divf (addf (mulf (broadcastInDim S2x3x512x256 ![] bcast_S_S2x3x512x256 (constant S_ .f32 0x3F666666#32)) a2) (mulf (broadcastInDim S2x3x512x256 ![] bcast_S_S2x3x512x256 (constant S_ .f32 0x3DCCCCCD#32)) a1)) (broadcastInDim S2x3x512x256 ![] bcast_S_S2x3x512x256 (constant S_ .f32 0x3F26BD02#32))) (addf (Host.sqrt (Host.divf (addf (mulf (broadcastInDim S2x3x512x256 ![] bcast_S_S2x3x512x256 (constant S_ .f32 0x3F7FBE77#32)) a3) (mulf (broadcastInDim S2x3x512x256 ![] bcast_S_S2x3x512x256 (constant S_ .f32 0x3A83126F#32)) (mulf a1 a1))) (broadcastInDim S2x3x512x256 ![] bcast_S_S2x3x512x256 (constant S_ .f32 0x3C231ACC#32)))) (broadcastInDim S2x3x512x256 ![] bcast_S_S2x3x512x256 (constant S_ .f32 0x322BCC77#32)))) (mulf (broadcastInDim S2x3x512x256 ![] bcast_S_S2x3x512x256 (constant S_ .f32 0x3C23D70A#32)) a0))) shapeCasts_S2x3x512x256_S3072x256
      = fun i => delta (flat a0 i) (flat a1 i) (flat a2 i) (flat a3 i) := by
  funext i
  pointwise
  rfl

theorem ref_newM :
    shapeCast S3072x256 (addf (mulf (broadcastInDim S2x3x512x256 ![] bcast_S_S2x3x512x256 (constant S_ .f32 0x3F666666#32)) a2) (mulf (broadcastInDim S2x3x512x256 ![] bcast_S_S2x3x512x256 (constant S_ .f32 0x3DCCCCCD#32)) a1)) shapeCasts_S2x3x512x256_S3072x256
      = fun i => newM (flat a1 i) (flat a2 i) := by
  funext i
  pointwise
  rfl

theorem ref_newV :
    shapeCast S3072x256 (addf (mulf (broadcastInDim S2x3x512x256 ![] bcast_S_S2x3x512x256 (constant S_ .f32 0x3F7FBE77#32)) a3) (mulf (broadcastInDim S2x3x512x256 ![] bcast_S_S2x3x512x256 (constant S_ .f32 0x3A83126F#32)) (mulf a1 a1))) shapeCasts_S2x3x512x256_S3072x256
      = fun i => newV (flat a1 i) (flat a3 i) := by
  funext i
  pointwise
  rfl

end Ref

open Cert.AdamWBranchIdeal Cert.AdamWBranchIdeal.Gen

/-! ## The kernel's results -/

variable (m : (ℓ : Loc nD τ sig) → Buf (Elt Ideal) ℓ) (ρ : Dev nD → PrngReg)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ t.val < 12 :=
  (by decide +kernel : ∀ t : Fin grid0.N, _)

abbrev W (c : Dev nD) (k : Fin 4) : FVec Ideal S3072x256 .f32 :=
  flat (match k with
    | 0 => m ((c : Thread nD τ).loc main_arg0) | 1 => m ((c : Thread nD τ).loc main_arg1)
    | 2 => m ((c : Thread nD τ).loc main_arg2) | 3 => m ((c : Thread nD τ).loc main_arg3))

def ti (t : Fin cfg0.N) (r : Fin 256) : Fin 3072 := ⟨t.val * 256 + r.val, by have := (idx t).2.2.2.2.2.2.2; omega⟩

theorem blk_0 (c : Dev nD) (t : Fin cfg0.N) (r : Fin 256) (s : Fin 256) :
    (show Vec Ideal S256x256 .f32 from iblk m c 0 t) (ix2 r s) = W m c 0 (ix2 (ti t r) s) := by
  unfold ti
  blk_point [iblk, V, idx t]

theorem blk_1 (c : Dev nD) (t : Fin cfg0.N) (r : Fin 256) (s : Fin 256) :
    (show Vec Ideal S256x256 .f32 from iblk m c 1 t) (ix2 r s) = W m c 1 (ix2 (ti t r) s) := by
  unfold ti
  blk_point [iblk, V, idx t]

theorem blk_2 (c : Dev nD) (t : Fin cfg0.N) (r : Fin 256) (s : Fin 256) :
    (show Vec Ideal S256x256 .f32 from iblk m c 2 t) (ix2 r s) = W m c 2 (ix2 (ti t r) s) := by
  unfold ti
  blk_point [iblk, V, idx t]

theorem blk_3 (c : Dev nD) (t : Fin cfg0.N) (r : Fin 256) (s : Fin 256) :
    (show Vec Ideal S256x256 .f32 from iblk m c 3 t) (ix2 r s) = W m c 3 (ix2 (ti t r) s) := by
  unfold ti
  blk_point [iblk, V, idx t]

theorem final_delta (c : Dev nD) : (dats m 0 c).arrAt 4 cfg0.N = fun i => delta (W m c 0 i) (W m c 1 i) (W m c 2 i) (W m c 3 i) := by
  refine (dats m 0 c).arrAt_eq_of_covers 4 _ (by decide +kernel) fun t hf y => ?_
  blk_simp
  rw [after0_4]
  obtain ⟨r, s, rfl⟩ : ∃ (r : Fin 256) (s : Fin 256), y = ix2 r s := ⟨y 0, y 1, eq_ix2 y⟩
  have e : (win0_4.blk t).view.emb (ix2 r s) = ix2 (ti t r) s := by
    unfold ti; blk_ext [idx t]
  rw [e]
  unfold out0_4
  refine (Cert.AdamWBranchIdeal.Value.canon4_eq _ _ _ _ _).trans ?_
  simp only [View.ld_unit_zero (S := S256x256) Cert.Product.hz]
  show delta ((show Vec Ideal S256x256 .f32 from iblk m c 0 t) (ix2 r s)) ((show Vec Ideal S256x256 .f32 from iblk m c 1 t) (ix2 r s)) ((show Vec Ideal S256x256 .f32 from iblk m c 2 t) (ix2 r s)) ((show Vec Ideal S256x256 .f32 from iblk m c 3 t) (ix2 r s)) = _
  rw [blk_0, blk_1, blk_2, blk_3]

theorem final_newM (c : Dev nD) : (dats m 0 c).arrAt 5 cfg0.N = fun i => newM (W m c 1 i) (W m c 2 i) := by
  refine (dats m 0 c).arrAt_eq_of_covers 5 _ (by decide +kernel) fun t hf y => ?_
  blk_simp
  rw [after0_5]
  obtain ⟨r, s, rfl⟩ : ∃ (r : Fin 256) (s : Fin 256), y = ix2 r s := ⟨y 0, y 1, eq_ix2 y⟩
  have e : (win0_5.blk t).view.emb (ix2 r s) = ix2 (ti t r) s := by
    unfold ti; blk_ext [idx t]
  rw [e]
  unfold out0_5
  refine (Cert.AdamWBranchIdeal.Value.canon5_eq _ _  _).trans ?_
  simp only [View.ld_unit_zero (S := S256x256) Cert.Product.hz]
  show newM ((show Vec Ideal S256x256 .f32 from iblk m c 1 t) (ix2 r s)) ((show Vec Ideal S256x256 .f32 from iblk m c 2 t) (ix2 r s)) = _
  rw [blk_1, blk_2]

theorem final_newV (c : Dev nD) : (dats m 0 c).arrAt 6 cfg0.N = fun i => newV (W m c 1 i) (W m c 3 i) := by
  refine (dats m 0 c).arrAt_eq_of_covers 6 _ (by decide +kernel) fun t hf y => ?_
  blk_simp
  rw [after0_6]
  obtain ⟨r, s, rfl⟩ : ∃ (r : Fin 256) (s : Fin 256), y = ix2 r s := ⟨y 0, y 1, eq_ix2 y⟩
  have e : (win0_6.blk t).view.emb (ix2 r s) = ix2 (ti t r) s := by
    unfold ti; blk_ext [idx t]
  rw [e]
  unfold out0_6
  refine (Cert.AdamWBranchIdeal.Value.canon6_eq _ _  _).trans ?_
  simp only [View.ld_unit_zero (S := S256x256) Cert.Product.hz]
  show newV ((show Vec Ideal S256x256 .f32 from iblk m c 1 t) (ix2 r s)) ((show Vec Ideal S256x256 .f32 from iblk m c 3 t) (ix2 r s)) = _
  rw [blk_1, blk_3]

/-! ## The claims -/

theorem frame_ref : Cert.quiescent_AdamWBranchRefIdeal (hAdamWBranchRefIdeal := Cert.AdamWBranchRefIdeal.Gen.facts) := fun m ρ _ =>
  (θ_run _ _ _).mono (fun r h => ⟨fun c => ((h c).2.2.2 : _), sem_eq_zero_of_no_sems (by decide) r.2⟩)
    (Cert.AdamWBranchRefIdeal.Value.run m ρ)

theorem algebraic : Cert.algebraic_AdamWBranchIdeal_AdamWBranchRefIdeal
    (hAdamWBranchIdeal := Cert.AdamWBranchIdeal.Gen.facts) (hAdamWBranchRefIdeal := Cert.AdamWBranchRefIdeal.Gen.facts) := by
  intro m g m' g' _ hag
  refine ⟨fun c i => delta (W m c 0 i) (W m c 1 i) (W m c 2 i) (W m c 3 i), fun c i => newM (W m c 1 i) (W m c 2 i),
    fun c i => newV (W m c 1 i) (W m c 3 i), ?_, ?_⟩
  · refine (θ_run _ _ _).mono (fun r h c => ?_) (Cert.AdamWBranchIdeal.Value.run_blocks m g)
    exact ⟨(h c).1.trans (final_delta m c), (h c).2.1.trans (final_newM m c), (h c).2.2.1.trans (final_newV m c), (h c).2.2.2⟩
  · refine (θ_run _ _ _).mono (fun r h c => ?_) (Cert.AdamWBranchRefIdeal.Value.run m' g')
    obtain ⟨e0, e1, e2, e3⟩ := hag c
    refine ⟨(h c).1.trans ?_, (h c).2.1.trans ?_, (h c).2.2.1.trans ?_, (h c).2.2.2⟩
    · rw [e0, e1, e2, e3]
      exact ref_delta _ _ _ _
    · rw [e1, e2]
      exact ref_newM _ _
    · rw [e1, e3]
      exact ref_newV _ _

end Cert.AdamWBranchProof

end
-- ==== Proof.AdamWOutValue.lean ====
/- The kernel AdamWOut: one AdamW step in blocks of rows, its result arrays and the reference's. -/
module

public import proofs.«01_k».proof.Defs
public import proofs.«01_k».proof.Proof.Gen.AdamWOutIdeal.Value
public import proofs.«01_k».proof.Proof.Gen.AdamWOutRefIdeal.Run
public import proofs.«01_k».proof.Proof.Adam
public import proofs.«01_k».proof.Proof.Product
public import Idealize.ShloMosaic.Lib.Pipeline.ValueKit
public import Idealize.ShloMosaic.Lib.Claim

@[expose] public section

set_option maxRecDepth 16384

noncomputable section

namespace Cert.AdamWOutProof

open Idealize.ShloMosaic Idealize.ShloMosaic.TcCoe Idealize.SL.Sem Cert.Adam

/-! ## The reference's results -/

section Ref
open Cert.AdamWOutRefIdeal Cert.AdamWOutRefIdeal.Gen

variable (a0 a1 a2 a3 : FVec Ideal S2x256x1024 .f32)

abbrev flat (a : FVec Ideal S2x256x1024 .f32) : FVec Ideal S512x1024 .f32 := shapeCast S512x1024 a shapeCasts_S2x256x1024_S512x1024

theorem ref_delta :
    shapeCast S512x1024 (mulf (broadcastInDim S2x256x1024 ![] bcast_S_S2x256x1024 (constant S_ .f32 0xBA83126F#32)) (addf (Host.divf (Host.divf (addf (mulf (broadcastInDim S2x256x1024 ![] bcast_S_S2x256x1024 (constant S_ .f32 0x3F666666#32)) a2) (mulf (broadcastInDim S2x256x1024 ![] bcast_S_S2x256x1024 (constant S_ .f32 0x3DCCCCCD#32)) a1)) (broadcastInDim S2x256x1024 ![] bcast_S_S2x256x1024 (constant S_ .f32 0x3F26BD02#32))) (addf (Host.sqrt (Host.divf (addf (mulf (broadcastInDim S2x256x1024 ![] bcast_S_S2x256x1024 (constant S_ .f32 0x3F7FBE77#32)) a3) (mulf (broadcastInDim S2x256x1024 ![] bcast_S_S2x256x1024 (constant S_ .f32 0x3A83126F#32)) (mulf a1 a1))) (broadcastInDim S2x256x1024 ![] bcast_S_S2x256x1024 (constant S_ .f32 0x3C231ACC#32)))) (broadcastInDim S2x256x1024 ![] bcast_S_S2x256x1024 (constant S_ .f32 0x322BCC77#32)))) (mulf (broadcastInDim S2x256x1024 ![] bcast_S_S2x256x1024 (constant S_ .f32 0x3C23D70A#32)) a0))) shapeCasts_S2x256x1024_S512x1024
      = fun i => delta (flat a0 i) (flat a1 i) (flat a2 i) (flat a3 i) := by
  funext i
  pointwise
  rfl

theorem ref_newM :
    shapeCast S512x1024 (addf (mulf (broadcastInDim S2x256x1024 ![] bcast_S_S2x256x1024 (constant S_ .f32 0x3F666666#32)) a2) (mulf (broadcastInDim S2x256x1024 ![] bcast_S_S2x256x1024 (constant S_ .f32 0x3DCCCCCD#32)) a1)) shapeCasts_S2x256x1024_S512x1024
      = fun i => newM (flat a1 i) (flat a2 i) := by
  funext i
  pointwise
  rfl

theorem ref_newV :
    shapeCast S512x1024 (addf (mulf (broadcastInDim S2x256x1024 ![] bcast_S_S2x256x1024 (constant S_ .f32 0x3F7FBE77#32)) a3) (mulf (broadcastInDim S2x256x1024 ![] bcast_S_S2x256x1024 (constant S_ .f32 0x3A83126F#32)) (mulf a1 a1))) shapeCasts_S2x256x1024_S512x1024
      = fun i => newV (flat a1 i) (flat a3 i) := by
  funext i
  pointwise
  rfl

end Ref

open Cert.AdamWOutIdeal Cert.AdamWOutIdeal.Gen

/-! ## The kernel's results -/

variable (m : (ℓ : Loc nD τ sig) → Buf (Elt Ideal) ℓ) (ρ : Dev nD → PrngReg)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ t.val < 2 :=
  (by decide +kernel : ∀ t : Fin grid0.N, _)

abbrev W (c : Dev nD) (k : Fin 4) : FVec Ideal S512x1024 .f32 :=
  flat (match k with
    | 0 => m ((c : Thread nD τ).loc main_arg0) | 1 => m ((c : Thread nD τ).loc main_arg1)
    | 2 => m ((c : Thread nD τ).loc main_arg2) | 3 => m ((c : Thread nD τ).loc main_arg3))

def ti (t : Fin cfg0.N) (r : Fin 256) : Fin 512 := ⟨t.val * 256 + r.val, by have := (idx t).2.2.2.2.2.2.2; omega⟩

theorem blk_0 (c : Dev nD) (t : Fin cfg0.N) (r : Fin 256) (s : Fin 1024) :
    (show Vec Ideal S256x1024 .f32 from iblk m c 0 t) (ix2 r s) = W m c 0 (ix2 (ti t r) s) := by
  unfold ti
  blk_point [iblk, V, idx t]

theorem blk_1 (c : Dev nD) (t : Fin cfg0.N) (r : Fin 256) (s : Fin 1024) :
    (show Vec Ideal S256x1024 .f32 from iblk m c 1 t) (ix2 r s) = W m c 1 (ix2 (ti t r) s) := by
  unfold ti
  blk_point [iblk, V, idx t]

theorem blk_2 (c : Dev nD) (t : Fin cfg0.N) (r : Fin 256) (s : Fin 1024) :
    (show Vec Ideal S256x1024 .f32 from iblk m c 2 t) (ix2 r s) = W m c 2 (ix2 (ti t r) s) := by
  unfold ti
  blk_point [iblk, V, idx t]

theorem blk_3 (c : Dev nD) (t : Fin cfg0.N) (r : Fin 256) (s : Fin 1024) :
    (show Vec Ideal S256x1024 .f32 from iblk m c 3 t) (ix2 r s) = W m c 3 (ix2 (ti t r) s) := by
  unfold ti
  blk_point [iblk, V, idx t]

theorem final_delta (c : Dev nD) : (dats m 0 c).arrAt 4 cfg0.N = fun i => delta (W m c 0 i) (W m c 1 i) (W m c 2 i) (W m c 3 i) := by
  refine (dats m 0 c).arrAt_eq_of_covers 4 _ (by decide +kernel) fun t hf y => ?_
  blk_simp
  rw [after0_4]
  obtain ⟨r, s, rfl⟩ : ∃ (r : Fin 256) (s : Fin 1024), y = ix2 r s := ⟨y 0, y 1, eq_ix2 y⟩
  have e : (win0_4.blk t).view.emb (ix2 r s) = ix2 (ti t r) s := by
    unfold ti; blk_ext [idx t]
  rw [e]
  unfold out0_4
  refine (Cert.AdamWOutIdeal.Value.canon4_eq _ _ _ _ _).trans ?_
  simp only [View.ld_unit_zero (S := S256x1024) Cert.Product.hz]
  show delta ((show Vec Ideal S256x1024 .f32 from iblk m c 0 t) (ix2 r s)) ((show Vec Ideal S256x1024 .f32 from iblk m c 1 t) (ix2 r s)) ((show Vec Ideal S256x1024 .f32 from iblk m c 2 t) (ix2 r s)) ((show Vec Ideal S256x1024 .f32 from iblk m c 3 t) (ix2 r s)) = _
  rw [blk_0, blk_1, blk_2, blk_3]

theorem final_newM (c : Dev nD) : (dats m 0 c).arrAt 5 cfg0.N = fun i => newM (W m c 1 i) (W m c 2 i) := by
  refine (dats m 0 c).arrAt_eq_of_covers 5 _ (by decide +kernel) fun t hf y => ?_
  blk_simp
  rw [after0_5]
  obtain ⟨r, s, rfl⟩ : ∃ (r : Fin 256) (s : Fin 1024), y = ix2 r s := ⟨y 0, y 1, eq_ix2 y⟩
  have e : (win0_5.blk t).view.emb (ix2 r s) = ix2 (ti t r) s := by
    unfold ti; blk_ext [idx t]
  rw [e]
  unfold out0_5
  refine (Cert.AdamWOutIdeal.Value.canon5_eq _ _  _).trans ?_
  simp only [View.ld_unit_zero (S := S256x1024) Cert.Product.hz]
  show newM ((show Vec Ideal S256x1024 .f32 from iblk m c 1 t) (ix2 r s)) ((show Vec Ideal S256x1024 .f32 from iblk m c 2 t) (ix2 r s)) = _
  rw [blk_1, blk_2]

theorem final_newV (c : Dev nD) : (dats m 0 c).arrAt 6 cfg0.N = fun i => newV (W m c 1 i) (W m c 3 i) := by
  refine (dats m 0 c).arrAt_eq_of_covers 6 _ (by decide +kernel) fun t hf y => ?_
  blk_simp
  rw [after0_6]
  obtain ⟨r, s, rfl⟩ : ∃ (r : Fin 256) (s : Fin 1024), y = ix2 r s := ⟨y 0, y 1, eq_ix2 y⟩
  have e : (win0_6.blk t).view.emb (ix2 r s) = ix2 (ti t r) s := by
    unfold ti; blk_ext [idx t]
  rw [e]
  unfold out0_6
  refine (Cert.AdamWOutIdeal.Value.canon6_eq _ _  _).trans ?_
  simp only [View.ld_unit_zero (S := S256x1024) Cert.Product.hz]
  show newV ((show Vec Ideal S256x1024 .f32 from iblk m c 1 t) (ix2 r s)) ((show Vec Ideal S256x1024 .f32 from iblk m c 3 t) (ix2 r s)) = _
  rw [blk_1, blk_3]

/-! ## The claims -/

theorem frame_ref : Cert.quiescent_AdamWOutRefIdeal (hAdamWOutRefIdeal := Cert.AdamWOutRefIdeal.Gen.facts) := fun m ρ _ =>
  (θ_run _ _ _).mono (fun r h => ⟨fun c => ((h c).2.2.2 : _), sem_eq_zero_of_no_sems (by decide) r.2⟩)
    (Cert.AdamWOutRefIdeal.Value.run m ρ)

theorem algebraic : Cert.algebraic_AdamWOutIdeal_AdamWOutRefIdeal
    (hAdamWOutIdeal := Cert.AdamWOutIdeal.Gen.facts) (hAdamWOutRefIdeal := Cert.AdamWOutRefIdeal.Gen.facts) := by
  intro m g m' g' _ hag
  refine ⟨fun c i => delta (W m c 0 i) (W m c 1 i) (W m c 2 i) (W m c 3 i), fun c i => newM (W m c 1 i) (W m c 2 i),
    fun c i => newV (W m c 1 i) (W m c 3 i), ?_, ?_⟩
  · refine (θ_run _ _ _).mono (fun r h c => ?_) (Cert.AdamWOutIdeal.Value.run_blocks m g)
    exact ⟨(h c).1.trans (final_delta m c), (h c).2.1.trans (final_newM m c), (h c).2.2.1.trans (final_newV m c), (h c).2.2.2⟩
  · refine (θ_run _ _ _).mono (fun r h c => ?_) (Cert.AdamWOutRefIdeal.Value.run m' g')
    obtain ⟨e0, e1, e2, e3⟩ := hag c
    refine ⟨(h c).1.trans ?_, (h c).2.1.trans ?_, (h c).2.2.1.trans ?_, (h c).2.2.2⟩
    · rw [e0, e1, e2, e3]
      exact ref_delta _ _ _ _
    · rw [e1, e2]
      exact ref_newM _ _
    · rw [e1, e3]
      exact ref_newV _ _

end Cert.AdamWOutProof

end
-- ==== Proof.AdamWFfnGateValue.lean ====
/- The kernel AdamWFfnGate: one AdamW step in blocks of rows, its result arrays and the reference's. -/
module

public import proofs.«01_k».proof.Defs
public import proofs.«01_k».proof.Proof.Gen.AdamWFfnGateIdeal.Value
public import proofs.«01_k».proof.Proof.Gen.AdamWFfnGateRefIdeal.Run
public import proofs.«01_k».proof.Proof.Adam
public import proofs.«01_k».proof.Proof.Product
public import Idealize.ShloMosaic.Lib.Pipeline.ValueKit
public import Idealize.ShloMosaic.Lib.Claim

@[expose] public section

set_option maxRecDepth 16384

noncomputable section

namespace Cert.AdamWFfnGateProof

open Idealize.ShloMosaic Idealize.ShloMosaic.TcCoe Idealize.SL.Sem Cert.Adam

/-! ## The reference's results -/

section Ref
open Cert.AdamWFfnGateRefIdeal Cert.AdamWFfnGateRefIdeal.Gen

variable (a0 a1 a2 a3 : FVec Ideal S2x1024x704 .f32)

abbrev flat (a : FVec Ideal S2x1024x704 .f32) : FVec Ideal S2048x704 .f32 := shapeCast S2048x704 a shapeCasts_S2x1024x704_S2048x704

theorem ref_delta :
    shapeCast S2048x704 (mulf (broadcastInDim S2x1024x704 ![] bcast_S_S2x1024x704 (constant S_ .f32 0xBA83126F#32)) (addf (Host.divf (Host.divf (addf (mulf (broadcastInDim S2x1024x704 ![] bcast_S_S2x1024x704 (constant S_ .f32 0x3F666666#32)) a2) (mulf (broadcastInDim S2x1024x704 ![] bcast_S_S2x1024x704 (constant S_ .f32 0x3DCCCCCD#32)) a1)) (broadcastInDim S2x1024x704 ![] bcast_S_S2x1024x704 (constant S_ .f32 0x3F26BD02#32))) (addf (Host.sqrt (Host.divf (addf (mulf (broadcastInDim S2x1024x704 ![] bcast_S_S2x1024x704 (constant S_ .f32 0x3F7FBE77#32)) a3) (mulf (broadcastInDim S2x1024x704 ![] bcast_S_S2x1024x704 (constant S_ .f32 0x3A83126F#32)) (mulf a1 a1))) (broadcastInDim S2x1024x704 ![] bcast_S_S2x1024x704 (constant S_ .f32 0x3C231ACC#32)))) (broadcastInDim S2x1024x704 ![] bcast_S_S2x1024x704 (constant S_ .f32 0x322BCC77#32)))) (mulf (broadcastInDim S2x1024x704 ![] bcast_S_S2x1024x704 (constant S_ .f32 0x3C23D70A#32)) a0))) shapeCasts_S2x1024x704_S2048x704
      = fun i => delta (flat a0 i) (flat a1 i) (flat a2 i) (flat a3 i) := by
  funext i
  pointwise
  rfl

theorem ref_newM :
    shapeCast S2048x704 (addf (mulf (broadcastInDim S2x1024x704 ![] bcast_S_S2x1024x704 (constant S_ .f32 0x3F666666#32)) a2) (mulf (broadcastInDim S2x1024x704 ![] bcast_S_S2x1024x704 (constant S_ .f32 0x3DCCCCCD#32)) a1)) shapeCasts_S2x1024x704_S2048x704
      = fun i => newM (flat a1 i) (flat a2 i) := by
  funext i
  pointwise
  rfl

theorem ref_newV :
    shapeCast S2048x704 (addf (mulf (broadcastInDim S2x1024x704 ![] bcast_S_S2x1024x704 (constant S_ .f32 0x3F7FBE77#32)) a3) (mulf (broadcastInDim S2x1024x704 ![] bcast_S_S2x1024x704 (constant S_ .f32 0x3A83126F#32)) (mulf a1 a1))) shapeCasts_S2x1024x704_S2048x704
      = fun i => newV (flat a1 i) (flat a3 i) := by
  funext i
  pointwise
  rfl

end Ref

open Cert.AdamWFfnGateIdeal Cert.AdamWFfnGateIdeal.Gen

/-! ## The kernel's results -/

variable (m : (ℓ : Loc nD τ sig) → Buf (Elt Ideal) ℓ) (ρ : Dev nD → PrngReg)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ t.val < 8 :=
  (by decide +kernel : ∀ t : Fin grid0.N, _)

abbrev W (c : Dev nD) (k : Fin 4) : FVec Ideal S2048x704 .f32 :=
  flat (match k with
    | 0 => m ((c : Thread nD τ).loc main_arg0) | 1 => m ((c : Thread nD τ).loc main_arg1)
    | 2 => m ((c : Thread nD τ).loc main_arg2) | 3 => m ((c : Thread nD τ).loc main_arg3))

def ti (t : Fin cfg0.N) (r : Fin 256) : Fin 2048 := ⟨t.val * 256 + r.val, by have := (idx t).2.2.2.2.2.2.2; omega⟩

theorem blk_0 (c : Dev nD) (t : Fin cfg0.N) (r : Fin 256) (s : Fin 704) :
    (show Vec Ideal S256x704 .f32 from iblk m c 0 t) (ix2 r s) = W m c 0 (ix2 (ti t r) s) := by
  unfold ti
  blk_point [iblk, V, idx t]

theorem blk_1 (c : Dev nD) (t : Fin cfg0.N) (r : Fin 256) (s : Fin 704) :
    (show Vec Ideal S256x704 .f32 from iblk m c 1 t) (ix2 r s) = W m c 1 (ix2 (ti t r) s) := by
  unfold ti
  blk_point [iblk, V, idx t]

theorem blk_2 (c : Dev nD) (t : Fin cfg0.N) (r : Fin 256) (s : Fin 704) :
    (show Vec Ideal S256x704 .f32 from iblk m c 2 t) (ix2 r s) = W m c 2 (ix2 (ti t r) s) := by
  unfold ti
  blk_point [iblk, V, idx t]

theorem blk_3 (c : Dev nD) (t : Fin cfg0.N) (r : Fin 256) (s : Fin 704) :
    (show Vec Ideal S256x704 .f32 from iblk m c 3 t) (ix2 r s) = W m c 3 (ix2 (ti t r) s) := by
  unfold ti
  blk_point [iblk, V, idx t]

theorem final_delta (c : Dev nD) : (dats m 0 c).arrAt 4 cfg0.N = fun i => delta (W m c 0 i) (W m c 1 i) (W m c 2 i) (W m c 3 i) := by
  refine (dats m 0 c).arrAt_eq_of_covers 4 _ (by decide +kernel) fun t hf y => ?_
  blk_simp
  rw [after0_4]
  obtain ⟨r, s, rfl⟩ : ∃ (r : Fin 256) (s : Fin 704), y = ix2 r s := ⟨y 0, y 1, eq_ix2 y⟩
  have e : (win0_4.blk t).view.emb (ix2 r s) = ix2 (ti t r) s := by
    unfold ti; blk_ext [idx t]
  rw [e]
  unfold out0_4
  refine (Cert.AdamWFfnGateIdeal.Value.canon4_eq _ _ _ _ _).trans ?_
  simp only [View.ld_unit_zero (S := S256x704) Cert.Product.hz]
  show delta ((show Vec Ideal S256x704 .f32 from iblk m c 0 t) (ix2 r s)) ((show Vec Ideal S256x704 .f32 from iblk m c 1 t) (ix2 r s)) ((show Vec Ideal S256x704 .f32 from iblk m c 2 t) (ix2 r s)) ((show Vec Ideal S256x704 .f32 from iblk m c 3 t) (ix2 r s)) = _
  rw [blk_0, blk_1, blk_2, blk_3]

theorem final_newM (c : Dev nD) : (dats m 0 c).arrAt 5 cfg0.N = fun i => newM (W m c 1 i) (W m c 2 i) := by
  refine (dats m 0 c).arrAt_eq_of_covers 5 _ (by decide +kernel) fun t hf y => ?_
  blk_simp
  rw [after0_5]
  obtain ⟨r, s, rfl⟩ : ∃ (r : Fin 256) (s : Fin 704), y = ix2 r s := ⟨y 0, y 1, eq_ix2 y⟩
  have e : (win0_5.blk t).view.emb (ix2 r s) = ix2 (ti t r) s := by
    unfold ti; blk_ext [idx t]
  rw [e]
  unfold out0_5
  refine (Cert.AdamWFfnGateIdeal.Value.canon5_eq _ _  _).trans ?_
  simp only [View.ld_unit_zero (S := S256x704) Cert.Product.hz]
  show newM ((show Vec Ideal S256x704 .f32 from iblk m c 1 t) (ix2 r s)) ((show Vec Ideal S256x704 .f32 from iblk m c 2 t) (ix2 r s)) = _
  rw [blk_1, blk_2]

theorem final_newV (c : Dev nD) : (dats m 0 c).arrAt 6 cfg0.N = fun i => newV (W m c 1 i) (W m c 3 i) := by
  refine (dats m 0 c).arrAt_eq_of_covers 6 _ (by decide +kernel) fun t hf y => ?_
  blk_simp
  rw [after0_6]
  obtain ⟨r, s, rfl⟩ : ∃ (r : Fin 256) (s : Fin 704), y = ix2 r s := ⟨y 0, y 1, eq_ix2 y⟩
  have e : (win0_6.blk t).view.emb (ix2 r s) = ix2 (ti t r) s := by
    unfold ti; blk_ext [idx t]
  rw [e]
  unfold out0_6
  refine (Cert.AdamWFfnGateIdeal.Value.canon6_eq _ _  _).trans ?_
  simp only [View.ld_unit_zero (S := S256x704) Cert.Product.hz]
  show newV ((show Vec Ideal S256x704 .f32 from iblk m c 1 t) (ix2 r s)) ((show Vec Ideal S256x704 .f32 from iblk m c 3 t) (ix2 r s)) = _
  rw [blk_1, blk_3]

/-! ## The claims -/

theorem frame_ref : Cert.quiescent_AdamWFfnGateRefIdeal (hAdamWFfnGateRefIdeal := Cert.AdamWFfnGateRefIdeal.Gen.facts) := fun m ρ _ =>
  (θ_run _ _ _).mono (fun r h => ⟨fun c => ((h c).2.2.2 : _), sem_eq_zero_of_no_sems (by decide) r.2⟩)
    (Cert.AdamWFfnGateRefIdeal.Value.run m ρ)

theorem algebraic : Cert.algebraic_AdamWFfnGateIdeal_AdamWFfnGateRefIdeal
    (hAdamWFfnGateIdeal := Cert.AdamWFfnGateIdeal.Gen.facts) (hAdamWFfnGateRefIdeal := Cert.AdamWFfnGateRefIdeal.Gen.facts) := by
  intro m g m' g' _ hag
  refine ⟨fun c i => delta (W m c 0 i) (W m c 1 i) (W m c 2 i) (W m c 3 i), fun c i => newM (W m c 1 i) (W m c 2 i),
    fun c i => newV (W m c 1 i) (W m c 3 i), ?_, ?_⟩
  · refine (θ_run _ _ _).mono (fun r h c => ?_) (Cert.AdamWFfnGateIdeal.Value.run_blocks m g)
    exact ⟨(h c).1.trans (final_delta m c), (h c).2.1.trans (final_newM m c), (h c).2.2.1.trans (final_newV m c), (h c).2.2.2⟩
  · refine (θ_run _ _ _).mono (fun r h c => ?_) (Cert.AdamWFfnGateRefIdeal.Value.run m' g')
    obtain ⟨e0, e1, e2, e3⟩ := hag c
    refine ⟨(h c).1.trans ?_, (h c).2.1.trans ?_, (h c).2.2.1.trans ?_, (h c).2.2.2⟩
    · rw [e0, e1, e2, e3]
      exact ref_delta _ _ _ _
    · rw [e1, e2]
      exact ref_newM _ _
    · rw [e1, e3]
      exact ref_newV _ _

end Cert.AdamWFfnGateProof

end
-- ==== Proof.AdamWFfnUpValue.lean ====
/- The kernel AdamWFfnUp: one AdamW step in blocks of rows, its result arrays and the reference's. -/
module

public import proofs.«01_k».proof.Defs
public import proofs.«01_k».proof.Proof.Gen.AdamWFfnUpIdeal.Value
public import proofs.«01_k».proof.Proof.Gen.AdamWFfnUpRefIdeal.Run
public import proofs.«01_k».proof.Proof.Adam
public import proofs.«01_k».proof.Proof.Product
public import Idealize.ShloMosaic.Lib.Pipeline.ValueKit
public import Idealize.ShloMosaic.Lib.Claim

@[expose] public section

set_option maxRecDepth 16384

noncomputable section

namespace Cert.AdamWFfnUpProof

open Idealize.ShloMosaic Idealize.ShloMosaic.TcCoe Idealize.SL.Sem Cert.Adam

/-! ## The reference's results -/

section Ref
open Cert.AdamWFfnUpRefIdeal Cert.AdamWFfnUpRefIdeal.Gen

variable (a0 a1 a2 a3 : FVec Ideal S2x1024x704 .f32)

abbrev flat (a : FVec Ideal S2x1024x704 .f32) : FVec Ideal S2048x704 .f32 := shapeCast S2048x704 a shapeCasts_S2x1024x704_S2048x704

theorem ref_delta :
    shapeCast S2048x704 (mulf (broadcastInDim S2x1024x704 ![] bcast_S_S2x1024x704 (constant S_ .f32 0xBA83126F#32)) (addf (Host.divf (Host.divf (addf (mulf (broadcastInDim S2x1024x704 ![] bcast_S_S2x1024x704 (constant S_ .f32 0x3F666666#32)) a2) (mulf (broadcastInDim S2x1024x704 ![] bcast_S_S2x1024x704 (constant S_ .f32 0x3DCCCCCD#32)) a1)) (broadcastInDim S2x1024x704 ![] bcast_S_S2x1024x704 (constant S_ .f32 0x3F26BD02#32))) (addf (Host.sqrt (Host.divf (addf (mulf (broadcastInDim S2x1024x704 ![] bcast_S_S2x1024x704 (constant S_ .f32 0x3F7FBE77#32)) a3) (mulf (broadcastInDim S2x1024x704 ![] bcast_S_S2x1024x704 (constant S_ .f32 0x3A83126F#32)) (mulf a1 a1))) (broadcastInDim S2x1024x704 ![] bcast_S_S2x1024x704 (constant S_ .f32 0x3C231ACC#32)))) (broadcastInDim S2x1024x704 ![] bcast_S_S2x1024x704 (constant S_ .f32 0x322BCC77#32)))) (mulf (broadcastInDim S2x1024x704 ![] bcast_S_S2x1024x704 (constant S_ .f32 0x3C23D70A#32)) a0))) shapeCasts_S2x1024x704_S2048x704
      = fun i => delta (flat a0 i) (flat a1 i) (flat a2 i) (flat a3 i) := by
  funext i
  pointwise
  rfl

theorem ref_newM :
    shapeCast S2048x704 (addf (mulf (broadcastInDim S2x1024x704 ![] bcast_S_S2x1024x704 (constant S_ .f32 0x3F666666#32)) a2) (mulf (broadcastInDim S2x1024x704 ![] bcast_S_S2x1024x704 (constant S_ .f32 0x3DCCCCCD#32)) a1)) shapeCasts_S2x1024x704_S2048x704
      = fun i => newM (flat a1 i) (flat a2 i) := by
  funext i
  pointwise
  rfl

theorem ref_newV :
    shapeCast S2048x704 (addf (mulf (broadcastInDim S2x1024x704 ![] bcast_S_S2x1024x704 (constant S_ .f32 0x3F7FBE77#32)) a3) (mulf (broadcastInDim S2x1024x704 ![] bcast_S_S2x1024x704 (constant S_ .f32 0x3A83126F#32)) (mulf a1 a1))) shapeCasts_S2x1024x704_S2048x704
      = fun i => newV (flat a1 i) (flat a3 i) := by
  funext i
  pointwise
  rfl

end Ref

open Cert.AdamWFfnUpIdeal Cert.AdamWFfnUpIdeal.Gen

/-! ## The kernel's results -/

variable (m : (ℓ : Loc nD τ sig) → Buf (Elt Ideal) ℓ) (ρ : Dev nD → PrngReg)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ t.val < 8 :=
  (by decide +kernel : ∀ t : Fin grid0.N, _)

abbrev W (c : Dev nD) (k : Fin 4) : FVec Ideal S2048x704 .f32 :=
  flat (match k with
    | 0 => m ((c : Thread nD τ).loc main_arg0) | 1 => m ((c : Thread nD τ).loc main_arg1)
    | 2 => m ((c : Thread nD τ).loc main_arg2) | 3 => m ((c : Thread nD τ).loc main_arg3))

def ti (t : Fin cfg0.N) (r : Fin 256) : Fin 2048 := ⟨t.val * 256 + r.val, by have := (idx t).2.2.2.2.2.2.2; omega⟩

theorem blk_0 (c : Dev nD) (t : Fin cfg0.N) (r : Fin 256) (s : Fin 704) :
    (show Vec Ideal S256x704 .f32 from iblk m c 0 t) (ix2 r s) = W m c 0 (ix2 (ti t r) s) := by
  unfold ti
  blk_point [iblk, V, idx t]

theorem blk_1 (c : Dev nD) (t : Fin cfg0.N) (r : Fin 256) (s : Fin 704) :
    (show Vec Ideal S256x704 .f32 from iblk m c 1 t) (ix2 r s) = W m c 1 (ix2 (ti t r) s) := by
  unfold ti
  blk_point [iblk, V, idx t]

theorem blk_2 (c : Dev nD) (t : Fin cfg0.N) (r : Fin 256) (s : Fin 704) :
    (show Vec Ideal S256x704 .f32 from iblk m c 2 t) (ix2 r s) = W m c 2 (ix2 (ti t r) s) := by
  unfold ti
  blk_point [iblk, V, idx t]

theorem blk_3 (c : Dev nD) (t : Fin cfg0.N) (r : Fin 256) (s : Fin 704) :
    (show Vec Ideal S256x704 .f32 from iblk m c 3 t) (ix2 r s) = W m c 3 (ix2 (ti t r) s) := by
  unfold ti
  blk_point [iblk, V, idx t]

theorem final_delta (c : Dev nD) : (dats m 0 c).arrAt 4 cfg0.N = fun i => delta (W m c 0 i) (W m c 1 i) (W m c 2 i) (W m c 3 i) := by
  refine (dats m 0 c).arrAt_eq_of_covers 4 _ (by decide +kernel) fun t hf y => ?_
  blk_simp
  rw [after0_4]
  obtain ⟨r, s, rfl⟩ : ∃ (r : Fin 256) (s : Fin 704), y = ix2 r s := ⟨y 0, y 1, eq_ix2 y⟩
  have e : (win0_4.blk t).view.emb (ix2 r s) = ix2 (ti t r) s := by
    unfold ti; blk_ext [idx t]
  rw [e]
  unfold out0_4
  refine (Cert.AdamWFfnUpIdeal.Value.canon4_eq _ _ _ _ _).trans ?_
  simp only [View.ld_unit_zero (S := S256x704) Cert.Product.hz]
  show delta ((show Vec Ideal S256x704 .f32 from iblk m c 0 t) (ix2 r s)) ((show Vec Ideal S256x704 .f32 from iblk m c 1 t) (ix2 r s)) ((show Vec Ideal S256x704 .f32 from iblk m c 2 t) (ix2 r s)) ((show Vec Ideal S256x704 .f32 from iblk m c 3 t) (ix2 r s)) = _
  rw [blk_0, blk_1, blk_2, blk_3]

theorem final_newM (c : Dev nD) : (dats m 0 c).arrAt 5 cfg0.N = fun i => newM (W m c 1 i) (W m c 2 i) := by
  refine (dats m 0 c).arrAt_eq_of_covers 5 _ (by decide +kernel) fun t hf y => ?_
  blk_simp
  rw [after0_5]
  obtain ⟨r, s, rfl⟩ : ∃ (r : Fin 256) (s : Fin 704), y = ix2 r s := ⟨y 0, y 1, eq_ix2 y⟩
  have e : (win0_5.blk t).view.emb (ix2 r s) = ix2 (ti t r) s := by
    unfold ti; blk_ext [idx t]
  rw [e]
  unfold out0_5
  refine (Cert.AdamWFfnUpIdeal.Value.canon5_eq _ _  _).trans ?_
  simp only [View.ld_unit_zero (S := S256x704) Cert.Product.hz]
  show newM ((show Vec Ideal S256x704 .f32 from iblk m c 1 t) (ix2 r s)) ((show Vec Ideal S256x704 .f32 from iblk m c 2 t) (ix2 r s)) = _
  rw [blk_1, blk_2]

theorem final_newV (c : Dev nD) : (dats m 0 c).arrAt 6 cfg0.N = fun i => newV (W m c 1 i) (W m c 3 i) := by
  refine (dats m 0 c).arrAt_eq_of_covers 6 _ (by decide +kernel) fun t hf y => ?_
  blk_simp
  rw [after0_6]
  obtain ⟨r, s, rfl⟩ : ∃ (r : Fin 256) (s : Fin 704), y = ix2 r s := ⟨y 0, y 1, eq_ix2 y⟩
  have e : (win0_6.blk t).view.emb (ix2 r s) = ix2 (ti t r) s := by
    unfold ti; blk_ext [idx t]
  rw [e]
  unfold out0_6
  refine (Cert.AdamWFfnUpIdeal.Value.canon6_eq _ _  _).trans ?_
  simp only [View.ld_unit_zero (S := S256x704) Cert.Product.hz]
  show newV ((show Vec Ideal S256x704 .f32 from iblk m c 1 t) (ix2 r s)) ((show Vec Ideal S256x704 .f32 from iblk m c 3 t) (ix2 r s)) = _
  rw [blk_1, blk_3]

/-! ## The claims -/

theorem frame_ref : Cert.quiescent_AdamWFfnUpRefIdeal (hAdamWFfnUpRefIdeal := Cert.AdamWFfnUpRefIdeal.Gen.facts) := fun m ρ _ =>
  (θ_run _ _ _).mono (fun r h => ⟨fun c => ((h c).2.2.2 : _), sem_eq_zero_of_no_sems (by decide) r.2⟩)
    (Cert.AdamWFfnUpRefIdeal.Value.run m ρ)

theorem algebraic : Cert.algebraic_AdamWFfnUpIdeal_AdamWFfnUpRefIdeal
    (hAdamWFfnUpIdeal := Cert.AdamWFfnUpIdeal.Gen.facts) (hAdamWFfnUpRefIdeal := Cert.AdamWFfnUpRefIdeal.Gen.facts) := by
  intro m g m' g' _ hag
  refine ⟨fun c i => delta (W m c 0 i) (W m c 1 i) (W m c 2 i) (W m c 3 i), fun c i => newM (W m c 1 i) (W m c 2 i),
    fun c i => newV (W m c 1 i) (W m c 3 i), ?_, ?_⟩
  · refine (θ_run _ _ _).mono (fun r h c => ?_) (Cert.AdamWFfnUpIdeal.Value.run_blocks m g)
    exact ⟨(h c).1.trans (final_delta m c), (h c).2.1.trans (final_newM m c), (h c).2.2.1.trans (final_newV m c), (h c).2.2.2⟩
  · refine (θ_run _ _ _).mono (fun r h c => ?_) (Cert.AdamWFfnUpRefIdeal.Value.run m' g')
    obtain ⟨e0, e1, e2, e3⟩ := hag c
    refine ⟨(h c).1.trans ?_, (h c).2.1.trans ?_, (h c).2.2.1.trans ?_, (h c).2.2.2⟩
    · rw [e0, e1, e2, e3]
      exact ref_delta _ _ _ _
    · rw [e1, e2]
      exact ref_newM _ _
    · rw [e1, e3]
      exact ref_newV _ _

end Cert.AdamWFfnUpProof

end
-- ==== Proof.AdamWFfnDownValue.lean ====
/- The kernel AdamWFfnDown: one AdamW step in blocks of rows, its result arrays and the reference's. -/
module

public import proofs.«01_k».proof.Defs
public import proofs.«01_k».proof.Proof.Gen.AdamWFfnDownIdeal.Value
public import proofs.«01_k».proof.Proof.Gen.AdamWFfnDownRefIdeal.Run
public import proofs.«01_k».proof.Proof.Adam
public import proofs.«01_k».proof.Proof.Product
public import Idealize.ShloMosaic.Lib.Pipeline.ValueKit
public import Idealize.ShloMosaic.Lib.Claim

@[expose] public section

set_option maxRecDepth 16384

noncomputable section

namespace Cert.AdamWFfnDownProof

open Idealize.ShloMosaic Idealize.ShloMosaic.TcCoe Idealize.SL.Sem Cert.Adam

/-! ## The reference's results -/

section Ref
open Cert.AdamWFfnDownRefIdeal Cert.AdamWFfnDownRefIdeal.Gen

variable (a0 a1 a2 a3 : FVec Ideal S2x704x1024 .f32)

abbrev flat (a : FVec Ideal S2x704x1024 .f32) : FVec Ideal S1408x1024 .f32 := shapeCast S1408x1024 a shapeCasts_S2x704x1024_S1408x1024

theorem ref_delta :
    shapeCast S1408x1024 (mulf (broadcastInDim S2x704x1024 ![] bcast_S_S2x704x1024 (constant S_ .f32 0xBA83126F#32)) (addf (Host.divf (Host.divf (addf (mulf (broadcastInDim S2x704x1024 ![] bcast_S_S2x704x1024 (constant S_ .f32 0x3F666666#32)) a2) (mulf (broadcastInDim S2x704x1024 ![] bcast_S_S2x704x1024 (constant S_ .f32 0x3DCCCCCD#32)) a1)) (broadcastInDim S2x704x1024 ![] bcast_S_S2x704x1024 (constant S_ .f32 0x3F26BD02#32))) (addf (Host.sqrt (Host.divf (addf (mulf (broadcastInDim S2x704x1024 ![] bcast_S_S2x704x1024 (constant S_ .f32 0x3F7FBE77#32)) a3) (mulf (broadcastInDim S2x704x1024 ![] bcast_S_S2x704x1024 (constant S_ .f32 0x3A83126F#32)) (mulf a1 a1))) (broadcastInDim S2x704x1024 ![] bcast_S_S2x704x1024 (constant S_ .f32 0x3C231ACC#32)))) (broadcastInDim S2x704x1024 ![] bcast_S_S2x704x1024 (constant S_ .f32 0x322BCC77#32)))) (mulf (broadcastInDim S2x704x1024 ![] bcast_S_S2x704x1024 (constant S_ .f32 0x3C23D70A#32)) a0))) shapeCasts_S2x704x1024_S1408x1024
      = fun i => delta (flat a0 i) (flat a1 i) (flat a2 i) (flat a3 i) := by
  funext i
  pointwise
  rfl

theorem ref_newM :
    shapeCast S1408x1024 (addf (mulf (broadcastInDim S2x704x1024 ![] bcast_S_S2x704x1024 (constant S_ .f32 0x3F666666#32)) a2) (mulf (broadcastInDim S2x704x1024 ![] bcast_S_S2x704x1024 (constant S_ .f32 0x3DCCCCCD#32)) a1)) shapeCasts_S2x704x1024_S1408x1024
      = fun i => newM (flat a1 i) (flat a2 i) := by
  funext i
  pointwise
  rfl

theorem ref_newV :
    shapeCast S1408x1024 (addf (mulf (broadcastInDim S2x704x1024 ![] bcast_S_S2x704x1024 (constant S_ .f32 0x3F7FBE77#32)) a3) (mulf (broadcastInDim S2x704x1024 ![] bcast_S_S2x704x1024 (constant S_ .f32 0x3A83126F#32)) (mulf a1 a1))) shapeCasts_S2x704x1024_S1408x1024
      = fun i => newV (flat a1 i) (flat a3 i) := by
  funext i
  pointwise
  rfl

end Ref

open Cert.AdamWFfnDownIdeal Cert.AdamWFfnDownIdeal.Gen

/-! ## The kernel's results -/

variable (m : (ℓ : Loc nD τ sig) → Buf (Elt Ideal) ℓ) (ρ : Dev nD → PrngReg)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ t.val < 11 :=
  (by decide +kernel : ∀ t : Fin grid0.N, _)

abbrev W (c : Dev nD) (k : Fin 4) : FVec Ideal S1408x1024 .f32 :=
  flat (match k with
    | 0 => m ((c : Thread nD τ).loc main_arg0) | 1 => m ((c : Thread nD τ).loc main_arg1)
    | 2 => m ((c : Thread nD τ).loc main_arg2) | 3 => m ((c : Thread nD τ).loc main_arg3))

def ti (t : Fin cfg0.N) (r : Fin 128) : Fin 1408 := ⟨t.val * 128 + r.val, by have := (idx t).2.2.2.2.2.2.2; omega⟩

theorem blk_0 (c : Dev nD) (t : Fin cfg0.N) (r : Fin 128) (s : Fin 1024) :
    (show Vec Ideal S128x1024 .f32 from iblk m c 0 t) (ix2 r s) = W m c 0 (ix2 (ti t r) s) := by
  unfold ti
  blk_point [iblk, V, idx t]

theorem blk_1 (c : Dev nD) (t : Fin cfg0.N) (r : Fin 128) (s : Fin 1024) :
    (show Vec Ideal S128x1024 .f32 from iblk m c 1 t) (ix2 r s) = W m c 1 (ix2 (ti t r) s) := by
  unfold ti
  blk_point [iblk, V, idx t]

theorem blk_2 (c : Dev nD) (t : Fin cfg0.N) (r : Fin 128) (s : Fin 1024) :
    (show Vec Ideal S128x1024 .f32 from iblk m c 2 t) (ix2 r s) = W m c 2 (ix2 (ti t r) s) := by
  unfold ti
  blk_point [iblk, V, idx t]

theorem blk_3 (c : Dev nD) (t : Fin cfg0.N) (r : Fin 128) (s : Fin 1024) :
    (show Vec Ideal S128x1024 .f32 from iblk m c 3 t) (ix2 r s) = W m c 3 (ix2 (ti t r) s) := by
  unfold ti
  blk_point [iblk, V, idx t]

theorem final_delta (c : Dev nD) : (dats m 0 c).arrAt 4 cfg0.N = fun i => delta (W m c 0 i) (W m c 1 i) (W m c 2 i) (W m c 3 i) := by
  refine (dats m 0 c).arrAt_eq_of_covers 4 _ (by decide +kernel) fun t hf y => ?_
  blk_simp
  rw [after0_4]
  obtain ⟨r, s, rfl⟩ : ∃ (r : Fin 128) (s : Fin 1024), y = ix2 r s := ⟨y 0, y 1, eq_ix2 y⟩
  have e : (win0_4.blk t).view.emb (ix2 r s) = ix2 (ti t r) s := by
    unfold ti; blk_ext [idx t]
  rw [e]
  unfold out0_4
  refine (Cert.AdamWFfnDownIdeal.Value.canon4_eq _ _ _ _ _).trans ?_
  simp only [View.ld_unit_zero (S := S128x1024) Cert.Product.hz]
  show delta ((show Vec Ideal S128x1024 .f32 from iblk m c 0 t) (ix2 r s)) ((show Vec Ideal S128x1024 .f32 from iblk m c 1 t) (ix2 r s)) ((show Vec Ideal S128x1024 .f32 from iblk m c 2 t) (ix2 r s)) ((show Vec Ideal S128x1024 .f32 from iblk m c 3 t) (ix2 r s)) = _
  rw [blk_0, blk_1, blk_2, blk_3]

theorem final_newM (c : Dev nD) : (dats m 0 c).arrAt 5 cfg0.N = fun i => newM (W m c 1 i) (W m c 2 i) := by
  refine (dats m 0 c).arrAt_eq_of_covers 5 _ (by decide +kernel) fun t hf y => ?_
  blk_simp
  rw [after0_5]
  obtain ⟨r, s, rfl⟩ : ∃ (r : Fin 128) (s : Fin 1024), y = ix2 r s := ⟨y 0, y 1, eq_ix2 y⟩
  have e : (win0_5.blk t).view.emb (ix2 r s) = ix2 (ti t r) s := by
    unfold ti; blk_ext [idx t]
  rw [e]
  unfold out0_5
  refine (Cert.AdamWFfnDownIdeal.Value.canon5_eq _ _  _).trans ?_
  simp only [View.ld_unit_zero (S := S128x1024) Cert.Product.hz]
  show newM ((show Vec Ideal S128x1024 .f32 from iblk m c 1 t) (ix2 r s)) ((show Vec Ideal S128x1024 .f32 from iblk m c 2 t) (ix2 r s)) = _
  rw [blk_1, blk_2]

theorem final_newV (c : Dev nD) : (dats m 0 c).arrAt 6 cfg0.N = fun i => newV (W m c 1 i) (W m c 3 i) := by
  refine (dats m 0 c).arrAt_eq_of_covers 6 _ (by decide +kernel) fun t hf y => ?_
  blk_simp
  rw [after0_6]
  obtain ⟨r, s, rfl⟩ : ∃ (r : Fin 128) (s : Fin 1024), y = ix2 r s := ⟨y 0, y 1, eq_ix2 y⟩
  have e : (win0_6.blk t).view.emb (ix2 r s) = ix2 (ti t r) s := by
    unfold ti; blk_ext [idx t]
  rw [e]
  unfold out0_6
  refine (Cert.AdamWFfnDownIdeal.Value.canon6_eq _ _  _).trans ?_
  simp only [View.ld_unit_zero (S := S128x1024) Cert.Product.hz]
  show newV ((show Vec Ideal S128x1024 .f32 from iblk m c 1 t) (ix2 r s)) ((show Vec Ideal S128x1024 .f32 from iblk m c 3 t) (ix2 r s)) = _
  rw [blk_1, blk_3]

/-! ## The claims -/

theorem frame_ref : Cert.quiescent_AdamWFfnDownRefIdeal (hAdamWFfnDownRefIdeal := Cert.AdamWFfnDownRefIdeal.Gen.facts) := fun m ρ _ =>
  (θ_run _ _ _).mono (fun r h => ⟨fun c => ((h c).2.2.2 : _), sem_eq_zero_of_no_sems (by decide) r.2⟩)
    (Cert.AdamWFfnDownRefIdeal.Value.run m ρ)

theorem algebraic : Cert.algebraic_AdamWFfnDownIdeal_AdamWFfnDownRefIdeal
    (hAdamWFfnDownIdeal := Cert.AdamWFfnDownIdeal.Gen.facts) (hAdamWFfnDownRefIdeal := Cert.AdamWFfnDownRefIdeal.Gen.facts) := by
  intro m g m' g' _ hag
  refine ⟨fun c i => delta (W m c 0 i) (W m c 1 i) (W m c 2 i) (W m c 3 i), fun c i => newM (W m c 1 i) (W m c 2 i),
    fun c i => newV (W m c 1 i) (W m c 3 i), ?_, ?_⟩
  · refine (θ_run _ _ _).mono (fun r h c => ?_) (Cert.AdamWFfnDownIdeal.Value.run_blocks m g)
    exact ⟨(h c).1.trans (final_delta m c), (h c).2.1.trans (final_newM m c), (h c).2.2.1.trans (final_newV m c), (h c).2.2.2⟩
  · refine (θ_run _ _ _).mono (fun r h c => ?_) (Cert.AdamWFfnDownRefIdeal.Value.run m' g')
    obtain ⟨e0, e1, e2, e3⟩ := hag c
    refine ⟨(h c).1.trans ?_, (h c).2.1.trans ?_, (h c).2.2.1.trans ?_, (h c).2.2.2⟩
    · rw [e0, e1, e2, e3]
      exact ref_delta _ _ _ _
    · rw [e1, e2]
      exact ref_newM _ _
    · rw [e1, e3]
      exact ref_newV _ _

end Cert.AdamWFfnDownProof

end
-- ==== Proof.AttnFwArray.lean ====
/- What the attention forward's body computes of one tile of query rows, and what its result array holds after the run. -/
module

public import proofs.«01_k».proof.Proof.Gen.AttnFwIdeal.Value
public import proofs.«01_k».proof.Proof.AttnArray

@[expose] public section

set_option maxRecDepth 16384

noncomputable section

namespace Cert.AttnFw

open Idealize.ShloMosaic Idealize.ShloMosaic.TcCoe Idealize.SL.Sem
open Cert.Attn (Arr Row Mat row mat hd bI sI hI dI ex ln hz)
open Cert.AttnFwIdeal Cert.AttnFwIdeal.Gen

/-- The result row of the query row `x`, as the kernel orders it: the sum of the values, then its quotient. -/
def oK (x : Row 128) (K V : Mat 2048 128) (d : Fin 128) : EReal :=
  (∑ j, ex x K j * V j d) * Ideal.div 1 (ln x K)

theorem pay (v0 : Vec Ideal S512x128 .bf16) (v2 : Vec Ideal S2048x128 .bf16) (v4 : Vec Ideal S2048x128 .f32) (r : Fin 512) (d : Fin 128) :
    k0_pay1 (F := Ideal) v0 v2 v4 (ix2 r d) = oK (row v0 r) (mat v2) (mat v4) d := by
  pointwise [k0_pay1]
  rw [Cert.Attn.neg_infinity]
  rfl

/-- The result array as a function of the argument arrays. -/
def GO (a0 a1 a2 : Arr) : Arr := fun i => oK (hd a0 (bI i) (hI i) (sI i)) (hd a1 (bI i) (hI i)) (hd a2 (bI i) (hI i)) (dI i)

variable (m : (ℓ : Loc nD τ sig) → Buf (Elt Ideal) ℓ) (ρ : Dev nD → PrngReg)

theorem idx : ∀ t : Fin cfg0.N, win0_0.index t = ![t.val / 32 * 4 + t.val % 4, t.val / 4 % 8]
    ∧ win0_1.index t = ![t.val / 32, t.val / 4 % 8] ∧ win0_2.index t = ![t.val / 32, t.val / 4 % 8]
    ∧ win0_3.index t = ![t.val / 32 * 4 + t.val % 4, t.val / 4 % 8] ∧ t.val < 128 :=
  (by decide +kernel : ∀ t : Fin grid0.N, _)

def tb (t : Fin cfg0.N) : Fin 4 := ⟨t.val / 32, by have := (idx t).2.2.2.2; omega⟩
def th (t : Fin cfg0.N) : Fin 8 := ⟨t.val / 4 % 8, by omega⟩
def ts (t : Fin cfg0.N) (r : Fin 512) : Fin 2048 := ⟨t.val % 4 * 512 + r.val, by omega⟩

abbrev A0 (c : Dev nD) : Arr := m ((c : Thread nD τ).loc main_arg0)
abbrev A1 (c : Dev nD) : Arr := m ((c : Thread nD τ).loc main_arg1)
abbrev A2 (c : Dev nD) : Arr := m ((c : Thread nD τ).loc main_arg2)

theorem row_q (c : Dev nD) (t : Fin cfg0.N) (r : Fin 512) : row (iblk m c 0 t) r = hd (A0 m c) (tb t) (th t) (ts t r) := by
  funext d
  show (show Vec Ideal S512x128 .bf16 from iblk m c 0 t) (ix2 r d) = _
  unfold hd tb th ts A0
  blk_point [iblk, V, idx t]

theorem mat_k (c : Dev nD) (t : Fin cfg0.N) : mat (iblk m c 1 t) = hd (A1 m c) (tb t) (th t) := by
  funext r d
  show (show Vec Ideal S2048x128 .bf16 from iblk m c 1 t) (ix2 r d) = _
  unfold hd tb th A1
  blk_point [iblk, V, idx t]

theorem mat_v (c : Dev nD) (t : Fin cfg0.N) : mat (iblk m c 2 t) = hd (A2 m c) (tb t) (th t) := by
  funext r d
  show (show Vec Ideal S2048x128 .f32 from iblk m c 2 t) (ix2 r d) = _
  unfold hd tb th A2
  blk_point [iblk, V, idx t]

/-- What every point leaves in the result's block. -/
theorem leaves (c : Dev nD) (t : Fin cfg0.N) (r : Fin 512) (d : Fin 128) :
    out0_3 (iblk m c 0 t) (iblk m c 1 t) (iblk m c 2 t) (ix2 r d)
      = oK (hd (A0 m c) (tb t) (th t) (ts t r)) (hd (A1 m c) (tb t) (th t)) (hd (A2 m c) (tb t) (th t)) d := by
  rw [← row_q, ← mat_k, ← mat_v]
  unfold out0_3
  rw [View.canon_unit_zero (S := S512x128) hz]
  simp only [View.ld_unit_zero (S := S512x128) hz, View.ld_unit_zero (S := S2048x128) hz]
  exact pay _ _ _ r d

theorem final (c : Dev nD) : (dats m 0 c).arrAt 3 cfg0.N = GO (A0 m c) (A1 m c) (A2 m c) := by
  refine (dats m 0 c).arrAt_eq_of_covers 3 _ (by decide +kernel) fun t hf y => ?_
  blk_simp
  rw [after0_3]
  obtain ⟨r, d, rfl⟩ : ∃ (r : Fin 512) (d : Fin 128), y = ix2 r d := ⟨y 0, y 1, eq_ix2 y⟩
  refine (leaves m c t r d).trans ?_
  have e1 : bI ((win0_3.blk t).view.emb (ix2 r d)) = tb t := by
    have := (idx t).2.2.2.2
    unfold bI tb; apply Fin.ext; dsimp only; blk_simp [idx t]; omega
  have e2 : hI ((win0_3.blk t).view.emb (ix2 r d)) = th t := by
    unfold hI th; apply Fin.ext; dsimp only; blk_simp [idx t]; omega
  have e3 : sI ((win0_3.blk t).view.emb (ix2 r d)) = ts t r := by
    unfold sI ts; apply Fin.ext; dsimp only; blk_simp [idx t]; omega
  have e4 : dI ((win0_3.blk t).view.emb (ix2 r d)) = d := by
    unfold dI; apply Fin.ext; dsimp only; blk_simp [idx t]; omega
  unfold GO
  rw [e1, e2, e3, e4]

end Cert.AttnFw

end
-- ==== Proof.AttnFwRef.lean ====
/- What the attention forward's reference computes, read at an index. -/
module

public import proofs.«01_k».proof.Proof.Gen.AttnFwRefIdeal.Run
public import proofs.«01_k».proof.Proof.AttnRef

@[expose] public section

set_option maxRecDepth 16384

noncomputable section

namespace Cert.AttnFwRef

open Idealize.ShloMosaic Idealize.ShloMosaic.TcCoe Idealize.SL.Sem Cert.AttnFwRefIdeal Cert.AttnFwRefIdeal.Gen
open Cert.Attn (Arr hd bI sI hI dI)
open Cert.AttnRef (rH rE rL rH_at rE_at rL_at)

variable (a0 a1 : FVec Ideal S8192x1024 .bf16) (a2 : FVec Ideal S8192x1024 .f32)

/-- The probabilities. -/
def rP : FVec Ideal S4x8x2048x2048 .f32 :=
  Host.divf (rE a0 a1) (broadcastInDim S4x8x2048x2048 ![0, 1, 2, 3] bcast_S4x8x2048x1_S4x8x2048x2048_0_1_2_3 (rL a0 a1))

/-- The values' averages under the probabilities, by row and lane. -/
def rO : FVec Ideal S8192x1024 .bf16 :=
  truncf .bf16 (shapeCast _ (transpose S4x2048x8x128 [0, 3, 1, 2] (Host.dotGeneral dot_S4x2048x8x128_S4x8x2048x2048_S4x8x128x2048_1_3_3_2_02_01 none (rH a2) (rP a0 a1)) transposes_S4x8x128x2048_S4x2048x8x128_0_3_1_2) shapeCasts_S4x2048x8x128_S8192x1024) bitsLt_bf16_f32

section Run
variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v22) = rO (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans rfl, (h c).2⟩) (Cert.AttnFwRefIdeal.Value.run m ρ)

end Run

theorem rP_at (b : Fin 4) (h : Fin 8) (s j : Fin 2048) :
    rP a0 a1 (ix4 b h s j) = Ideal.div (Attn.ex (hd a0 b h s) (hd a1 b h) j) (Attn.ln (hd a0 b h s) (hd a1 b h)) := by
  pointwise [rP]
  simp only [rE_at, rL_at]

theorem rO_at (i : S8192x1024.Idx) : rO a0 a1 a2 i
    = ∑ j, hd a2 (bI i) (hI i) j (dI i)
        * Ideal.div (Attn.ex (hd a0 (bI i) (hI i) (sI i)) (hd a1 (bI i) (hI i)) j) (Attn.ln (hd a0 (bI i) (hI i) (sI i)) (hd a1 (bI i) (hI i))) := by
  simp only [← rP_at, ← rH_at]
  unfold bI sI hI dI
  pointwise [rO]

end Cert.AttnFwRef

end
-- ==== Proof.AttnFwValue.lean ====
/- The attention forward's result is the reference's, of finite queries and keys. -/
module

public import proofs.«01_k».proof.Defs
public import proofs.«01_k».proof.Proof.AttnFwArray
public import proofs.«01_k».proof.Proof.AttnFwRef
public import proofs.«01_k».proof.Proof.AttnClaim
public import Idealize.ShloMosaic.Lib.Claim

@[expose] public section

set_option maxRecDepth 16384

noncomputable section

namespace Cert.AttnFwProof

open Idealize.ShloMosaic Idealize.ShloMosaic.TcCoe Idealize.SL.Sem
open Cert.Attn (Arr Row Mat hd bI sI hI dI Fin' ex ln ex_real ln_real div_real)
open Cert.AttnClaim (fin_of_abs infinity_bf16 hd_fin)

/-- A real that is not negative distributes over a sum of any extended reals. -/
theorem sum_mul_real {ι : Type*} (s : Finset ι) (f : ι → EReal) (c : ℝ) (hc : 0 ≤ c) :
    (∑ i ∈ s, f i) * (c : EReal) = ∑ i ∈ s, f i * (c : EReal) := by
  classical
  induction s using Finset.induction_on with
  | empty => simp
  | insert a s h ih =>
    rw [Finset.sum_insert h, Finset.sum_insert h,
      EReal.right_distrib_of_nonneg_of_ne_top (by exact_mod_cast hc) (EReal.coe_ne_top _), ih]

/-- One lane of the result: the quotient may be taken of the sum or of its terms, whatever the values are. -/
theorem out_eq {n w : ℕ} [NeZero n] (x : Row w) (K V : Mat n w) (hx : ∀ d, Fin' (x d)) (hK : ∀ j d, Fin' (K j d)) (d : Fin w) :
    (∑ j, ex x K j * V j d) * Ideal.div 1 (ln x K) = ∑ j, V j d * Ideal.div (ex x K j) (ln x K) := by
  lift x to Fin w → ℝ using hx
  lift K to Fin n → Fin w → ℝ using hK
  obtain ⟨e, hp, he⟩ := ex_real x K
  have hL := ln_real he
  have hL0 : 0 < ∑ j, e j := Finset.sum_pos (fun j _ => hp j) ⟨0, Finset.mem_univ _⟩
  rw [hL, ← EReal.coe_one, div_real _ _ hL0.ne', one_mul, sum_mul_real _ _ _ (inv_nonneg.mpr hL0.le)]
  refine Finset.sum_congr rfl fun j _ => ?_
  rw [he, div_real _ _ hL0.ne', EReal.coe_mul, mul_comm (V j d), mul_right_comm]

instance preFacts : Cert.Pre_finite_scores.Facts where
  bcast_S_S8192x1024 := by decide

theorem and_two : ∀ p q : Bool, IntOp.andi (BitVec.ofBool p) (BitVec.ofBool q) = 1#1 → p = true ∧ q = true := by decide

theorem finite_of_pre (a0 a1 : FVec Ideal Cert.Pre_finite_scores.S8192x1024 .bf16) (a2 : FVec Ideal Cert.Pre_finite_scores.S8192x1024 .f32)
    (h : Cert.Pre_finite_scores.fn (F := Ideal) a0 a1 a2 = fun _ => 1#1) (i : Cert.Pre_finite_scores.S8192x1024.Idx) :
    Fin' (a0 i) ∧ Fin' (a1 i) := by
  have e := congrFun h i
  revert e
  pointwise [Cert.Pre_finite_scores.fn]
  intro e
  obtain ⟨p, q⟩ := and_two _ _ e
  rw [infinity_bf16] at p q
  exact ⟨fin_of_abs _ (of_decide_eq_true p), fin_of_abs _ (of_decide_eq_true q)⟩

theorem eq_o (a0 a1 a2 : Arr) (h0 : ∀ i, Fin' (a0 i)) (h1 : ∀ i, Fin' (a1 i)) : Cert.AttnFwRef.rO a0 a1 a2 = Cert.AttnFw.GO a0 a1 a2 := by
  funext i
  refine (Cert.AttnFwRef.rO_at a0 a1 a2 i).trans ?_
  unfold Cert.AttnFw.GO Cert.AttnFw.oK
  rw [out_eq _ _ _ (hd_fin a0 h0 _ _ _) (hd_fin a1 h1 _ _)]

theorem frame_ref : Cert.quiescent_AttnFwRefIdeal (hAttnFwRefIdeal := Cert.AttnFwRefIdeal.Gen.facts) := fun m ρ _ =>
  (θ_run _ _ _).mono (fun r h => ⟨fun c => ((h c).2 : _), sem_eq_zero_of_no_sems (by decide) r.2⟩)
    (Cert.AttnFwRefIdeal.Value.run m ρ)

theorem algebraic : Cert.algebraic_AttnFwIdeal_AttnFwRefIdeal_pre_finite_scores
    (hAttnFwIdeal := Cert.AttnFwIdeal.Gen.facts) (hAttnFwRefIdeal := Cert.AttnFwRefIdeal.Gen.facts) := by
  intro m g m' g' hpre hag
  have hf := fun c => finite_of_pre _ _ _ (hpre c)
  refine ⟨fun c => Cert.AttnFw.GO (Cert.AttnFw.A0 m c) (Cert.AttnFw.A1 m c) (Cert.AttnFw.A2 m c), ?_, ?_⟩
  · refine (θ_run _ _ _).mono (fun r h c => ?_) (Cert.AttnFwIdeal.Value.run_blocks m g)
    obtain ⟨o, rest⟩ := h c
    exact ⟨o.trans (Cert.AttnFw.final m c), rest⟩
  · refine (θ_run _ _ _).mono (fun r h c => ?_) (Cert.AttnFwRef.run m' g')
    obtain ⟨o, rest⟩ := h c
    obtain ⟨e0, e1, e2⟩ := hag c
    refine ⟨o.trans ?_, rest⟩
    rw [e0, e1, e2]
    exact eq_o _ _ _ (fun i => (hf c i).1) (fun i => (hf c i).2)

end Cert.AttnFwProof

end
-- ==== Proof.AdamSmallPack.lean ====
/- The eighteen small weights side by side in rows of 1024, and one weight read back out of them. -/
module

public import proofs.«01_k».proof.Proof.Gen.AdamSmallIdeal
public import Idealize.ShloMosaic.Lib.Pipeline.ValueKit

@[expose] public section

set_option maxRecDepth 16384

noncomputable section

namespace Cert.AdamSmallProof

open Idealize.ShloMosaic Idealize.ShloMosaic.TcCoe Idealize.SL.Sem Cert.AdamSmallIdeal Cert.AdamSmallIdeal.Gen

variable {α : Type}

/-! ## The vectors laid end to end -/

section Ends
variable (f0 : S1536.Idx → α) (f1 : S512.Idx → α) (f2 : S512.Idx → α) (f3 : S2048.Idx → α) (f4 : S768.Idx → α) (f5 : S512.Idx → α) (f6 : S1024.Idx → α) (f7 : S1024.Idx → α) (f8 : S262144.Idx → α) (f9 : S2048.Idx → α) (f10 : S3840.Idx → α) (f11 : S1024.Idx → α) (f12 : S1024.Idx → α) (f13 : S1024.Idx → α) (f14 : S1024.Idx → α) (f15 : S1024.Idx → α)

abbrev pieces : List ((s : Shape) × (s.Idx → α)) :=
  [⟨S1536, f0⟩, ⟨S512, f1⟩, ⟨S512, f2⟩, ⟨S2048, f3⟩, ⟨S768, f4⟩, ⟨S512, f5⟩, ⟨S1024, f6⟩, ⟨S1024, f7⟩, ⟨S262144, f8⟩, ⟨S2048, f9⟩, ⟨S3840, f10⟩, ⟨S1024, f11⟩, ⟨S1024, f12⟩, ⟨S1024, f13⟩, ⟨S1024, f14⟩, ⟨S1024, f15⟩]

def cat : S281088.Idx → α := concatenate S281088 0 (pieces f0 f1 f2 f3 f4 f5 f6 f7 f8 f9 f10 f11 f12 f13 f14 f15)
  concatenates_S1536_S512_S512_S2048_S768_S512_S1024_S1024_S262144_S2048_S3840_S1024_S1024_S1024_S1024_S1024_S281088_d0

theorem cat_at (k : Nat) (hk : k < 16) (n : Nat) (f : (⟨1, ![n]⟩ : Shape).Idx → α) (hf : (pieces f0 f1 f2 f3 f4 f5 f6 f7 f8 f9 f10 f11 f12 f13 f14 f15)[k] = ⟨⟨1, ![n]⟩, f⟩)
    (off : Nat) (ho : ((((pieces f0 f1 f2 f3 f4 f5 f6 f7 f8 f9 f10 f11 f12 f13 f14 f15).take k).map (·.1)).map fun s => if h : s.rank = S281088.rank then s.size ((0 : Fin 1).cast h.symm) else 0).sum = off)
    (p : Nat) (hp : p < n) (h : off + p < 281088) : cat f0 f1 f2 f3 f4 f5 f6 f7 f8 f9 f10 f11 f12 f13 f14 f15 (ix1 ⟨off + p, h⟩) = f (ix1 ⟨p, hp⟩) :=
  concatenate_apply_piece (t := S281088) 0 (pieces f0 f1 f2 f3 f4 f5 f6 f7 f8 f9 f10 f11 f12 f13 f14 f15) _ _ k hk _ f hf rfl off ho (ix1 ⟨p, hp⟩)
    (fun b hb => by match b with | ⟨0, _⟩ => exact absurd rfl hb) rfl

end Ends

def cat2 (f16 : S2048.Idx → α) (f17 : S1024.Idx → α) : S3072.Idx → α :=
  concatenate S3072 0 [⟨S2048, f16⟩, ⟨S1024, f17⟩] concatenates_S2048_S1024_S3072_d0

def cats (x : S281088.Idx → α) (y : S3072.Idx → α) : S284160.Idx → α :=
  concatenate S284160 0 [⟨S281088, x⟩, ⟨S3072, y⟩] concatenates_S281088_S3072_S284160_d0

def rows (x : S284160.Idx → α) (v : S_.Idx → α) : S280x1024.Idx → α :=
  shapeCast S280x1024 (pad S286720 ![0] ![2560] ![0] x v pads_S284160_S286720_025600 h_S_) shapeCasts_S286720_S280x1024

/-- The `n` entries of the packed array from `off` on. -/
def part (n off : Nat) (h : S286720.Slices ![off] ⟨1, ![n]⟩) (x : S280x1024.Idx → α) : (⟨1, ![n]⟩ : Shape).Idx → α :=
  extractStridedSlice ⟨1, ![n]⟩ ![off] (shapeCast S286720 x shapeCasts_S280x1024_S286720) h

theorem part_rows (n off : Nat) (h : S286720.Slices ![off] ⟨1, ![n]⟩) (hn : off + n ≤ 284160) (x : S284160.Idx → α) (v : S_.Idx → α)
    (j : (⟨1, ![n]⟩ : Shape).Idx) : part n off h (rows x v) j
      = x (ix1 ⟨off + (j 0).val, by have : (j 0).val < n := (j 0).isLt; omega⟩) := by
  have hj : (j 0).val < n := (j 0).isLt
  unfold part rows
  rw [shapeCast_shapeCast]
  show pad S286720 ![0] ![2560] ![0] x v pads_S284160_S286720_025600 h_S_ _ = _
  rw [pad_apply, dif_pos]
  · refine congrArg x (funext fun a => ?_)
    match a with
    | ⟨0, _⟩ => exact Fin.ext (by simp [Shape.Idx.norm, ix1])
  · intro a
    match a with
    | ⟨0, _⟩ =>
      refine ⟨Nat.zero_le _, Nat.mod_one _, ?_⟩
      show (off + (j 0).val - 0) / 1 < 284160
      omega

theorem cats_left (x : S281088.Idx → α) (y : S3072.Idx → α) (p : Nat) (hp : p < 281088) (h : p < 284160) :
    cats x y (ix1 ⟨p, h⟩) = x (ix1 ⟨p, hp⟩) :=
  concatenate_pair_apply_left (t := S284160) (s₁ := S281088) (s₂ := S3072) 0 x y _ _ rfl (ix1 ⟨p, hp⟩) fun b => by match b with | ⟨0, _⟩ => rfl

theorem cats_right (x : S281088.Idx → α) (y : S3072.Idx → α) (p : Nat) (hp : p < 3072) (h : 281088 + p < 284160) :
    cats x y (ix1 ⟨281088 + p, h⟩) = y (ix1 ⟨p, hp⟩) :=
  concatenate_pair_apply_right (t := S284160) (s₁ := S281088) (s₂ := S3072) 0 x y _ _ rfl rfl (ix1 ⟨p, hp⟩) (fun b hb => by match b with | ⟨0, _⟩ => exact absurd rfl hb) (Nat.add_comm _ _)

theorem cats_right_of (x : S281088.Idx → α) (y : S3072.Idx → α) (p : Nat) (hp : p < 3072) (n : Nat) (h : n < 284160) (e : n = 281088 + p) :
    cats x y (ix1 ⟨n, h⟩) = y (ix1 ⟨p, hp⟩) := by
  subst e
  exact cats_right x y p hp h

theorem cat2_left (x : S2048.Idx → α) (y : S1024.Idx → α) (p : Nat) (hp : p < 2048) (h : p < 3072) :
    cat2 x y (ix1 ⟨p, h⟩) = x (ix1 ⟨p, hp⟩) :=
  concatenate_pair_apply_left (t := S3072) (s₁ := S2048) (s₂ := S1024) 0 x y _ _ rfl (ix1 ⟨p, hp⟩) fun b => by match b with | ⟨0, _⟩ => rfl

theorem cat2_right (x : S2048.Idx → α) (y : S1024.Idx → α) (p : Nat) (hp : p < 1024) (h : 2048 + p < 3072) :
    cat2 x y (ix1 ⟨2048 + p, h⟩) = y (ix1 ⟨p, hp⟩) :=
  concatenate_pair_apply_right (t := S3072) (s₁ := S2048) (s₂ := S1024) 0 x y _ _ rfl rfl (ix1 ⟨p, hp⟩) (fun b hb => by match b with | ⟨0, _⟩ => exact absurd rfl hb) (Nat.add_comm _ _)

/-! ## One weight out of the packed array -/

variable (a0 : S2x3x256.Idx → α) (a1 : S2x2x128.Idx → α) (a2 : S2x2x128.Idx → α) (a3 : S2x1024.Idx → α) (a4 : S2x384.Idx → α) (a5 : S2x256.Idx → α) (a6 : S2x512.Idx → α) (a7 : S2x512.Idx → α) (a8 : S2x8x128x128.Idx → α) (a9 : S2x8x128.Idx → α) (a10 : S2x1920.Idx → α) (a11 : S2x512.Idx → α) (a12 : S2x512.Idx → α) (a13 : S2x8x64.Idx → α) (a14 : S2x512.Idx → α) (a15 : S2x512.Idx → α) (a16 : S2x1024.Idx → α) (a17 : S1024.Idx → α) (v : S_.Idx → α)

/-- The packed array. -/
def pack : S280x1024.Idx → α :=
  rows (cats (cat (shapeCast S1536 a0 shapeCasts_S2x3x256_S1536) (shapeCast S512 a1 shapeCasts_S2x2x128_S512) (shapeCast S512 a2 shapeCasts_S2x2x128_S512) (shapeCast S2048 a3 shapeCasts_S2x1024_S2048) (shapeCast S768 a4 shapeCasts_S2x384_S768) (shapeCast S512 a5 shapeCasts_S2x256_S512) (shapeCast S1024 a6 shapeCasts_S2x512_S1024) (shapeCast S1024 a7 shapeCasts_S2x512_S1024) (shapeCast S262144 a8 shapeCasts_S2x8x128x128_S262144) (shapeCast S2048 a9 shapeCasts_S2x8x128_S2048) (shapeCast S3840 a10 shapeCasts_S2x1920_S3840) (shapeCast S1024 a11 shapeCasts_S2x512_S1024) (shapeCast S1024 a12 shapeCasts_S2x512_S1024) (shapeCast S1024 a13 shapeCasts_S2x8x64_S1024) (shapeCast S1024 a14 shapeCasts_S2x512_S1024) (shapeCast S1024 a15 shapeCasts_S2x512_S1024))
    (cat2 (shapeCast S2048 a16 shapeCasts_S2x1024_S2048) a17)) v

theorem part_pack (k : Nat) (hk : k < 16) (n : Nat) (f : (⟨1, ![n]⟩ : Shape).Idx → α) (off : Nat) (hs : S286720.Slices ![off] ⟨1, ![n]⟩)
    (hn : off + n ≤ 281088) (hf : (pieces (shapeCast S1536 a0 shapeCasts_S2x3x256_S1536) (shapeCast S512 a1 shapeCasts_S2x2x128_S512) (shapeCast S512 a2 shapeCasts_S2x2x128_S512) (shapeCast S2048 a3 shapeCasts_S2x1024_S2048) (shapeCast S768 a4 shapeCasts_S2x384_S768) (shapeCast S512 a5 shapeCasts_S2x256_S512) (shapeCast S1024 a6 shapeCasts_S2x512_S1024) (shapeCast S1024 a7 shapeCasts_S2x512_S1024) (shapeCast S262144 a8 shapeCasts_S2x8x128x128_S262144) (shapeCast S2048 a9 shapeCasts_S2x8x128_S2048) (shapeCast S3840 a10 shapeCasts_S2x1920_S3840) (shapeCast S1024 a11 shapeCasts_S2x512_S1024) (shapeCast S1024 a12 shapeCasts_S2x512_S1024) (shapeCast S1024 a13 shapeCasts_S2x8x64_S1024) (shapeCast S1024 a14 shapeCasts_S2x512_S1024) (shapeCast S1024 a15 shapeCasts_S2x512_S1024))[k] = ⟨⟨1, ![n]⟩, f⟩)
    (ho : ((((pieces (shapeCast S1536 a0 shapeCasts_S2x3x256_S1536) (shapeCast S512 a1 shapeCasts_S2x2x128_S512) (shapeCast S512 a2 shapeCasts_S2x2x128_S512) (shapeCast S2048 a3 shapeCasts_S2x1024_S2048) (shapeCast S768 a4 shapeCasts_S2x384_S768) (shapeCast S512 a5 shapeCasts_S2x256_S512) (shapeCast S1024 a6 shapeCasts_S2x512_S1024) (shapeCast S1024 a7 shapeCasts_S2x512_S1024) (shapeCast S262144 a8 shapeCasts_S2x8x128x128_S262144) (shapeCast S2048 a9 shapeCasts_S2x8x128_S2048) (shapeCast S3840 a10 shapeCasts_S2x1920_S3840) (shapeCast S1024 a11 shapeCasts_S2x512_S1024) (shapeCast S1024 a12 shapeCasts_S2x512_S1024) (shapeCast S1024 a13 shapeCasts_S2x8x64_S1024) (shapeCast S1024 a14 shapeCasts_S2x512_S1024) (shapeCast S1024 a15 shapeCasts_S2x512_S1024)).take k).map (·.1)).map fun s => if h : s.rank = S281088.rank then s.size ((0 : Fin 1).cast h.symm) else 0).sum = off) :
    part n off hs (pack a0 a1 a2 a3 a4 a5 a6 a7 a8 a9 a10 a11 a12 a13 a14 a15 a16 a17 v) = f := by
  funext j
  have hj : (j 0).val < n := (j 0).isLt
  refine (part_rows n off _ (by omega) _ v j).trans ?_
  refine (cats_left _ _ _ (by omega) _).trans ((cat_at _ _ _ _ _ _ _ _ _ _ _ _ _ _ _ _ k hk n f hf off ho _ hj _).trans ?_)
  exact congrArg f (funext fun a => by match a with | ⟨0, _⟩ => rfl)

def un0 (x : S280x1024.Idx → α) : S2x3x256.Idx → α := shapeCast S2x3x256 (part 1536 0 slices_S286720_S1536_0 x) shapeCasts_S1536_S2x3x256

theorem len0 : (([] : List Shape).map fun s => if h : s.rank = S281088.rank then s.size ((0 : Fin 1).cast h.symm) else 0).sum = 0 := by
  decide +kernel

theorem un0_pack : un0 (pack a0 a1 a2 a3 a4 a5 a6 a7 a8 a9 a10 a11 a12 a13 a14 a15 a16 a17 v) = a0 := by
  unfold un0
  rw [part_pack a0 a1 a2 a3 a4 a5 a6 a7 a8 a9 a10 a11 a12 a13 a14 a15 a16 a17 v 0 (by omega) 1536 _ 0 _ (by omega) rfl len0, shapeCast_shapeCast]

def un1 (x : S280x1024.Idx → α) : S2x2x128.Idx → α := shapeCast S2x2x128 (part 512 1536 slices_S286720_S512_1536 x) shapeCasts_S512_S2x2x128

theorem len1 : (([S1536] : List Shape).map fun s => if h : s.rank = S281088.rank then s.size ((0 : Fin 1).cast h.symm) else 0).sum = 1536 := by
  decide +kernel

theorem un1_pack : un1 (pack a0 a1 a2 a3 a4 a5 a6 a7 a8 a9 a10 a11 a12 a13 a14 a15 a16 a17 v) = a1 := by
  unfold un1
  rw [part_pack a0 a1 a2 a3 a4 a5 a6 a7 a8 a9 a10 a11 a12 a13 a14 a15 a16 a17 v 1 (by omega) 512 _ 1536 _ (by omega) rfl len1, shapeCast_shapeCast]

def un2 (x : S280x1024.Idx → α) : S2x2x128.Idx → α := shapeCast S2x2x128 (part 512 2048 slices_S286720_S512_2048 x) shapeCasts_S512_S2x2x128

theorem len2 : (([S1536, S512] : List Shape).map fun s => if h : s.rank = S281088.rank then s.size ((0 : Fin 1).cast h.symm) else 0).sum = 2048 := by
  decide +kernel

theorem un2_pack : un2 (pack a0 a1 a2 a3 a4 a5 a6 a7 a8 a9 a10 a11 a12 a13 a14 a15 a16 a17 v) = a2 := by
  unfold un2
  rw [part_pack a0 a1 a2 a3 a4 a5 a6 a7 a8 a9 a10 a11 a12 a13 a14 a15 a16 a17 v 2 (by omega) 512 _ 2048 _ (by omega) rfl len2, shapeCast_shapeCast]

def un3 (x : S280x1024.Idx → α) : S2x1024.Idx → α := shapeCast S2x1024 (part 2048 2560 slices_S286720_S2048_2560 x) shapeCasts_S2048_S2x1024

theorem len3 : (([S1536, S512, S512] : List Shape).map fun s => if h : s.rank = S281088.rank then s.size ((0 : Fin 1).cast h.symm) else 0).sum = 2560 := by
  decide +kernel

theorem un3_pack : un3 (pack a0 a1 a2 a3 a4 a5 a6 a7 a8 a9 a10 a11 a12 a13 a14 a15 a16 a17 v) = a3 := by
  unfold un3
  rw [part_pack a0 a1 a2 a3 a4 a5 a6 a7 a8 a9 a10 a11 a12 a13 a14 a15 a16 a17 v 3 (by omega) 2048 _ 2560 _ (by omega) rfl len3, shapeCast_shapeCast]

def un4 (x : S280x1024.Idx → α) : S2x384.Idx → α := shapeCast S2x384 (part 768 4608 slices_S286720_S768_4608 x) shapeCasts_S768_S2x384

theorem len4 : (([S1536, S512, S512, S2048] : List Shape).map fun s => if h : s.rank = S281088.rank then s.size ((0 : Fin 1).cast h.symm) else 0).sum = 4608 := by
  decide +kernel

theorem un4_pack : un4 (pack a0 a1 a2 a3 a4 a5 a6 a7 a8 a9 a10 a11 a12 a13 a14 a15 a16 a17 v) = a4 := by
  unfold un4
  rw [part_pack a0 a1 a2 a3 a4 a5 a6 a7 a8 a9 a10 a11 a12 a13 a14 a15 a16 a17 v 4 (by omega) 768 _ 4608 _ (by omega) rfl len4, shapeCast_shapeCast]

def un5 (x : S280x1024.Idx → α) : S2x256.Idx → α := shapeCast S2x256 (part 512 5376 slices_S286720_S512_5376 x) shapeCasts_S512_S2x256

theorem len5 : (([S1536, S512, S512, S2048, S768] : List Shape).map fun s => if h : s.rank = S281088.rank then s.size ((0 : Fin 1).cast h.symm) else 0).sum = 5376 := by
  decide +kernel

theorem un5_pack : un5 (pack a0 a1 a2 a3 a4 a5 a6 a7 a8 a9 a10 a11 a12 a13 a14 a15 a16 a17 v) = a5 := by
  unfold un5
  rw [part_pack a0 a1 a2 a3 a4 a5 a6 a7 a8 a9 a10 a11 a12 a13 a14 a15 a16 a17 v 5 (by omega) 512 _ 5376 _ (by omega) rfl len5, shapeCast_shapeCast]

def un6 (x : S280x1024.Idx → α) : S2x512.Idx → α := shapeCast S2x512 (part 1024 5888 slices_S286720_S1024_5888 x) shapeCasts_S1024_S2x512

theorem len6 : (([S1536, S512, S512, S2048, S768, S512] : List Shape).map fun s => if h : s.rank = S281088.rank then s.size ((0 : Fin 1).cast h.symm) else 0).sum = 5888 := by
  decide +kernel

theorem un6_pack : un6 (pack a0 a1 a2 a3 a4 a5 a6 a7 a8 a9 a10 a11 a12 a13 a14 a15 a16 a17 v) = a6 := by
  unfold un6
  rw [part_pack a0 a1 a2 a3 a4 a5 a6 a7 a8 a9 a10 a11 a12 a13 a14 a15 a16 a17 v 6 (by omega) 1024 _ 5888 _ (by omega) rfl len6, shapeCast_shapeCast]

def un7 (x : S280x1024.Idx → α) : S2x512.Idx → α := shapeCast S2x512 (part 1024 6912 slices_S286720_S1024_6912 x) shapeCasts_S1024_S2x512

theorem len7 : (([S1536, S512, S512, S2048, S768, S512, S1024] : List Shape).map fun s => if h : s.rank = S281088.rank then s.size ((0 : Fin 1).cast h.symm) else 0).sum = 6912 := by
  decide +kernel

theorem un7_pack : un7 (pack a0 a1 a2 a3 a4 a5 a6 a7 a8 a9 a10 a11 a12 a13 a14 a15 a16 a17 v) = a7 := by
  unfold un7
  rw [part_pack a0 a1 a2 a3 a4 a5 a6 a7 a8 a9 a10 a11 a12 a13 a14 a15 a16 a17 v 7 (by omega) 1024 _ 6912 _ (by omega) rfl len7, shapeCast_shapeCast]

def un8 (x : S280x1024.Idx → α) : S2x8x128x128.Idx → α := shapeCast S2x8x128x128 (part 262144 7936 slices_S286720_S262144_7936 x) shapeCasts_S262144_S2x8x128x128

theorem len8 : (([S1536, S512, S512, S2048, S768, S512, S1024, S1024] : List Shape).map fun s => if h : s.rank = S281088.rank then s.size ((0 : Fin 1).cast h.symm) else 0).sum = 7936 := by
  decide +kernel

theorem un8_pack : un8 (pack a0 a1 a2 a3 a4 a5 a6 a7 a8 a9 a10 a11 a12 a13 a14 a15 a16 a17 v) = a8 := by
  unfold un8
  rw [part_pack a0 a1 a2 a3 a4 a5 a6 a7 a8 a9 a10 a11 a12 a13 a14 a15 a16 a17 v 8 (by omega) 262144 _ 7936 _ (by omega) rfl len8, shapeCast_shapeCast]

def un9 (x : S280x1024.Idx → α) : S2x8x128.Idx → α := shapeCast S2x8x128 (part 2048 270080 slices_S286720_S2048_270080 x) shapeCasts_S2048_S2x8x128

theorem len9 : (([S1536, S512, S512, S2048, S768, S512, S1024, S1024, S262144] : List Shape).map fun s => if h : s.rank = S281088.rank then s.size ((0 : Fin 1).cast h.symm) else 0).sum = 270080 := by
  decide +kernel

theorem un9_pack : un9 (pack a0 a1 a2 a3 a4 a5 a6 a7 a8 a9 a10 a11 a12 a13 a14 a15 a16 a17 v) = a9 := by
  unfold un9
  rw [part_pack a0 a1 a2 a3 a4 a5 a6 a7 a8 a9 a10 a11 a12 a13 a14 a15 a16 a17 v 9 (by omega) 2048 _ 270080 _ (by omega) rfl len9, shapeCast_shapeCast]

def un10 (x : S280x1024.Idx → α) : S2x1920.Idx → α := shapeCast S2x1920 (part 3840 272128 slices_S286720_S3840_272128 x) shapeCasts_S3840_S2x1920

theorem len10 : (([S1536, S512, S512, S2048, S768, S512, S1024, S1024, S262144, S2048] : List Shape).map fun s => if h : s.rank = S281088.rank then s.size ((0 : Fin 1).cast h.symm) else 0).sum = 272128 := by
  decide +kernel

theorem un10_pack : un10 (pack a0 a1 a2 a3 a4 a5 a6 a7 a8 a9 a10 a11 a12 a13 a14 a15 a16 a17 v) = a10 := by
  unfold un10
  rw [part_pack a0 a1 a2 a3 a4 a5 a6 a7 a8 a9 a10 a11 a12 a13 a14 a15 a16 a17 v 10 (by omega) 3840 _ 272128 _ (by omega) rfl len10, shapeCast_shapeCast]

def un11 (x : S280x1024.Idx → α) : S2x512.Idx → α := shapeCast S2x512 (part 1024 275968 slices_S286720_S1024_275968 x) shapeCasts_S1024_S2x512

theorem len11 : (([S1536, S512, S512, S2048, S768, S512, S1024, S1024, S262144, S2048, S3840] : List Shape).map fun s => if h : s.rank = S281088.rank then s.size ((0 : Fin 1).cast h.symm) else 0).sum = 275968 := by
  decide +kernel

theorem un11_pack : un11 (pack a0 a1 a2 a3 a4 a5 a6 a7 a8 a9 a10 a11 a12 a13 a14 a15 a16 a17 v) = a11 := by
  unfold un11
  rw [part_pack a0 a1 a2 a3 a4 a5 a6 a7 a8 a9 a10 a11 a12 a13 a14 a15 a16 a17 v 11 (by omega) 1024 _ 275968 _ (by omega) rfl len11, shapeCast_shapeCast]

def un12 (x : S280x1024.Idx → α) : S2x512.Idx → α := shapeCast S2x512 (part 1024 276992 slices_S286720_S1024_276992 x) shapeCasts_S1024_S2x512

theorem len12 : (([S1536, S512, S512, S2048, S768, S512, S1024, S1024, S262144, S2048, S3840, S1024] : List Shape).map fun s => if h : s.rank = S281088.rank then s.size ((0 : Fin 1).cast h.symm) else 0).sum = 276992 := by
  decide +kernel

theorem un12_pack : un12 (pack a0 a1 a2 a3 a4 a5 a6 a7 a8 a9 a10 a11 a12 a13 a14 a15 a16 a17 v) = a12 := by
  unfold un12
  rw [part_pack a0 a1 a2 a3 a4 a5 a6 a7 a8 a9 a10 a11 a12 a13 a14 a15 a16 a17 v 12 (by omega) 1024 _ 276992 _ (by omega) rfl len12, shapeCast_shapeCast]

def un13 (x : S280x1024.Idx → α) : S2x8x64.Idx → α := shapeCast S2x8x64 (part 1024 278016 slices_S286720_S1024_278016 x) shapeCasts_S1024_S2x8x64

theorem len13 : (([S1536, S512, S512, S2048, S768, S512, S1024, S1024, S262144, S2048, S3840, S1024, S1024] : List Shape).map fun s => if h : s.rank = S281088.rank then s.size ((0 : Fin 1).cast h.symm) else 0).sum = 278016 := by
  decide +kernel

theorem un13_pack : un13 (pack a0 a1 a2 a3 a4 a5 a6 a7 a8 a9 a10 a11 a12 a13 a14 a15 a16 a17 v) = a13 := by
  unfold un13
  rw [part_pack a0 a1 a2 a3 a4 a5 a6 a7 a8 a9 a10 a11 a12 a13 a14 a15 a16 a17 v 13 (by omega) 1024 _ 278016 _ (by omega) rfl len13, shapeCast_shapeCast]

def un14 (x : S280x1024.Idx → α) : S2x512.Idx → α := shapeCast S2x512 (part 1024 279040 slices_S286720_S1024_279040 x) shapeCasts_S1024_S2x512

theorem len14 : (([S1536, S512, S512, S2048, S768, S512, S1024, S1024, S262144, S2048, S3840, S1024, S1024, S1024] : List Shape).map fun s => if h : s.rank = S281088.rank then s.size ((0 : Fin 1).cast h.symm) else 0).sum = 279040 := by
  decide +kernel

theorem un14_pack : un14 (pack a0 a1 a2 a3 a4 a5 a6 a7 a8 a9 a10 a11 a12 a13 a14 a15 a16 a17 v) = a14 := by
  unfold un14
  rw [part_pack a0 a1 a2 a3 a4 a5 a6 a7 a8 a9 a10 a11 a12 a13 a14 a15 a16 a17 v 14 (by omega) 1024 _ 279040 _ (by omega) rfl len14, shapeCast_shapeCast]

def un15 (x : S280x1024.Idx → α) : S2x512.Idx → α := shapeCast S2x512 (part 1024 280064 slices_S286720_S1024_280064 x) shapeCasts_S1024_S2x512

theorem len15 : (([S1536, S512, S512, S2048, S768, S512, S1024, S1024, S262144, S2048, S3840, S1024, S1024, S1024, S1024] : List Shape).map fun s => if h : s.rank = S281088.rank then s.size ((0 : Fin 1).cast h.symm) else 0).sum = 280064 := by
  decide +kernel

theorem un15_pack : un15 (pack a0 a1 a2 a3 a4 a5 a6 a7 a8 a9 a10 a11 a12 a13 a14 a15 a16 a17 v) = a15 := by
  unfold un15
  rw [part_pack a0 a1 a2 a3 a4 a5 a6 a7 a8 a9 a10 a11 a12 a13 a14 a15 a16 a17 v 15 (by omega) 1024 _ 280064 _ (by omega) rfl len15, shapeCast_shapeCast]

def un16 (x : S280x1024.Idx → α) : S2x1024.Idx → α := shapeCast S2x1024 (part 2048 281088 slices_S286720_S2048_281088 x) shapeCasts_S2048_S2x1024

theorem un16_pack : un16 (pack a0 a1 a2 a3 a4 a5 a6 a7 a8 a9 a10 a11 a12 a13 a14 a15 a16 a17 v) = a16 := by
  have e : part 2048 281088 slices_S286720_S2048_281088 (pack a0 a1 a2 a3 a4 a5 a6 a7 a8 a9 a10 a11 a12 a13 a14 a15 a16 a17 v) = (shapeCast S2048 a16 shapeCasts_S2x1024_S2048) := by
    funext j
    have hj : (j 0).val < 2048 := (j 0).isLt
    refine (part_rows 2048 281088 _ (by decide) _ v j).trans ?_
    refine (cats_right_of _ _ ((j 0).val) (by omega) _ _ (by omega)).trans ((cat2_left _ _ _ hj _).trans ?_)
    exact congrArg _ (funext fun a => by match a with | ⟨0, _⟩ => rfl)
  unfold un16
  rw [e, shapeCast_shapeCast]

def un17 (x : S280x1024.Idx → α) : S1024.Idx → α := part 1024 283136 slices_S286720_S1024_283136 x

theorem un17_pack : un17 (pack a0 a1 a2 a3 a4 a5 a6 a7 a8 a9 a10 a11 a12 a13 a14 a15 a16 a17 v) = a17 := by
  have e : part 1024 283136 slices_S286720_S1024_283136 (pack a0 a1 a2 a3 a4 a5 a6 a7 a8 a9 a10 a11 a12 a13 a14 a15 a16 a17 v) = a17 := by
    funext j
    have hj : (j 0).val < 1024 := (j 0).isLt
    refine (part_rows 1024 283136 _ (by decide) _ v j).trans ?_
    refine (cats_right_of _ _ (2048 + (j 0).val) (by omega) _ _ (by omega)).trans ((cat2_right _ _ _ hj _).trans ?_)
    exact congrArg _ (funext fun a => by match a with | ⟨0, _⟩ => rfl)
  exact e

end Cert.AdamSmallProof

end
-- ==== Proof.AdamSmallEntry.lean ====
/- What the four packed operands hold when the region starts. -/
module

public import proofs.«01_k».proof.Proof.AdamSmallPack
public import proofs.«01_k».proof.Proof.Gen.AdamSmallIdeal.Frame
public import Idealize.ShloMosaic.Lib.StableHlo.RunRead
public import Idealize.ShloMosaic.Lib.Claim

@[expose] public section

set_option maxRecDepth 16384

noncomputable section

namespace Cert.AdamSmallProof

open Idealize.ShloMosaic Idealize.ShloMosaic.TcCoe Idealize.SL.Sem Cert.AdamSmallIdeal Cert.AdamSmallIdeal.Gen

variable (m : (ℓ : Loc nD τ sig) → Buf (Elt Ideal) ℓ)

/-- Weight 0 of operand `q` as launched. -/
abbrev x0 (c : Dev nD) (q : Fin 4) : FVec Ideal S2x3x256 .f32 :=
  match q with
    | 0 => m ((c : Thread nD τ).loc main_arg0)
    | 1 => m ((c : Thread nD τ).loc main_arg18)
    | 2 => m ((c : Thread nD τ).loc main_arg36)
    | 3 => m ((c : Thread nD τ).loc main_arg54)

/-- Weight 1 of operand `q` as launched. -/
abbrev x1 (c : Dev nD) (q : Fin 4) : FVec Ideal S2x2x128 .f32 :=
  match q with
    | 0 => m ((c : Thread nD τ).loc main_arg1)
    | 1 => m ((c : Thread nD τ).loc main_arg19)
    | 2 => m ((c : Thread nD τ).loc main_arg37)
    | 3 => m ((c : Thread nD τ).loc main_arg55)

/-- Weight 2 of operand `q` as launched. -/
abbrev x2 (c : Dev nD) (q : Fin 4) : FVec Ideal S2x2x128 .f32 :=
  match q with
    | 0 => m ((c : Thread nD τ).loc main_arg2)
    | 1 => m ((c : Thread nD τ).loc main_arg20)
    | 2 => m ((c : Thread nD τ).loc main_arg38)
    | 3 => m ((c : Thread nD τ).loc main_arg56)

/-- Weight 3 of operand `q` as launched. -/
abbrev x3 (c : Dev nD) (q : Fin 4) : FVec Ideal S2x1024 .f32 :=
  match q with
    | 0 => m ((c : Thread nD τ).loc main_arg3)
    | 1 => m ((c : Thread nD τ).loc main_arg21)
    | 2 => m ((c : Thread nD τ).loc main_arg39)
    | 3 => m ((c : Thread nD τ).loc main_arg57)

/-- Weight 4 of operand `q` as launched. -/
abbrev x4 (c : Dev nD) (q : Fin 4) : FVec Ideal S2x384 .f32 :=
  match q with
    | 0 => m ((c : Thread nD τ).loc main_arg4)
    | 1 => m ((c : Thread nD τ).loc main_arg22)
    | 2 => m ((c : Thread nD τ).loc main_arg40)
    | 3 => m ((c : Thread nD τ).loc main_arg58)

/-- Weight 5 of operand `q` as launched. -/
abbrev x5 (c : Dev nD) (q : Fin 4) : FVec Ideal S2x256 .f32 :=
  match q with
    | 0 => m ((c : Thread nD τ).loc main_arg5)
    | 1 => m ((c : Thread nD τ).loc main_arg23)
    | 2 => m ((c : Thread nD τ).loc main_arg41)
    | 3 => m ((c : Thread nD τ).loc main_arg59)

/-- Weight 6 of operand `q` as launched. -/
abbrev x6 (c : Dev nD) (q : Fin 4) : FVec Ideal S2x512 .f32 :=
  match q with
    | 0 => m ((c : Thread nD τ).loc main_arg6)
    | 1 => m ((c : Thread nD τ).loc main_arg24)
    | 2 => m ((c : Thread nD τ).loc main_arg42)
    | 3 => m ((c : Thread nD τ).loc main_arg60)

/-- Weight 7 of operand `q` as launched. -/
abbrev x7 (c : Dev nD) (q : Fin 4) : FVec Ideal S2x512 .f32 :=
  match q with
    | 0 => m ((c : Thread nD τ).loc main_arg7)
    | 1 => m ((c : Thread nD τ).loc main_arg25)
    | 2 => m ((c : Thread nD τ).loc main_arg43)
    | 3 => m ((c : Thread nD τ).loc main_arg61)

/-- Weight 8 of operand `q` as launched. -/
abbrev x8 (c : Dev nD) (q : Fin 4) : FVec Ideal S2x8x128x128 .f32 :=
  match q with
    | 0 => m ((c : Thread nD τ).loc main_arg8)
    | 1 => m ((c : Thread nD τ).loc main_arg26)
    | 2 => m ((c : Thread nD τ).loc main_arg44)
    | 3 => m ((c : Thread nD τ).loc main_arg62)

/-- Weight 9 of operand `q` as launched. -/
abbrev x9 (c : Dev nD) (q : Fin 4) : FVec Ideal S2x8x128 .f32 :=
  match q with
    | 0 => m ((c : Thread nD τ).loc main_arg9)
    | 1 => m ((c : Thread nD τ).loc main_arg27)
    | 2 => m ((c : Thread nD τ).loc main_arg45)
    | 3 => m ((c : Thread nD τ).loc main_arg63)

/-- Weight 10 of operand `q` as launched. -/
abbrev x10 (c : Dev nD) (q : Fin 4) : FVec Ideal S2x1920 .f32 :=
  match q with
    | 0 => m ((c : Thread nD τ).loc main_arg10)
    | 1 => m ((c : Thread nD τ).loc main_arg28)
    | 2 => m ((c : Thread nD τ).loc main_arg46)
    | 3 => m ((c : Thread nD τ).loc main_arg64)

/-- Weight 11 of operand `q` as launched. -/
abbrev x11 (c : Dev nD) (q : Fin 4) : FVec Ideal S2x512 .f32 :=
  match q with
    | 0 => m ((c : Thread nD τ).loc main_arg11)
    | 1 => m ((c : Thread nD τ).loc main_arg29)
    | 2 => m ((c : Thread nD τ).loc main_arg47)
    | 3 => m ((c : Thread nD τ).loc main_arg65)

/-- Weight 12 of operand `q` as launched. -/
abbrev x12 (c : Dev nD) (q : Fin 4) : FVec Ideal S2x512 .f32 :=
  match q with
    | 0 => m ((c : Thread nD τ).loc main_arg12)
    | 1 => m ((c : Thread nD τ).loc main_arg30)
    | 2 => m ((c : Thread nD τ).loc main_arg48)
    | 3 => m ((c : Thread nD τ).loc main_arg66)

/-- Weight 13 of operand `q` as launched. -/
abbrev x13 (c : Dev nD) (q : Fin 4) : FVec Ideal S2x8x64 .f32 :=
  match q with
    | 0 => m ((c : Thread nD τ).loc main_arg13)
    | 1 => m ((c : Thread nD τ).loc main_arg31)
    | 2 => m ((c : Thread nD τ).loc main_arg49)
    | 3 => m ((c : Thread nD τ).loc main_arg67)

/-- Weight 14 of operand `q` as launched. -/
abbrev x14 (c : Dev nD) (q : Fin 4) : FVec Ideal S2x512 .f32 :=
  match q with
    | 0 => m ((c : Thread nD τ).loc main_arg14)
    | 1 => m ((c : Thread nD τ).loc main_arg32)
    | 2 => m ((c : Thread nD τ).loc main_arg50)
    | 3 => m ((c : Thread nD τ).loc main_arg68)

/-- Weight 15 of operand `q` as launched. -/
abbrev x15 (c : Dev nD) (q : Fin 4) : FVec Ideal S2x512 .f32 :=
  match q with
    | 0 => m ((c : Thread nD τ).loc main_arg15)
    | 1 => m ((c : Thread nD τ).loc main_arg33)
    | 2 => m ((c : Thread nD τ).loc main_arg51)
    | 3 => m ((c : Thread nD τ).loc main_arg69)

/-- Weight 16 of operand `q` as launched. -/
abbrev x16 (c : Dev nD) (q : Fin 4) : FVec Ideal S2x1024 .f32 :=
  match q with
    | 0 => m ((c : Thread nD τ).loc main_arg16)
    | 1 => m ((c : Thread nD τ).loc main_arg34)
    | 2 => m ((c : Thread nD τ).loc main_arg52)
    | 3 => m ((c : Thread nD τ).loc main_arg70)

/-- Weight 17 of operand `q` as launched. -/
abbrev x17 (c : Dev nD) (q : Fin 4) : FVec Ideal S1024 .f32 :=
  match q with
    | 0 => m ((c : Thread nD τ).loc main_arg17)
    | 1 => m ((c : Thread nD τ).loc main_arg35)
    | 2 => m ((c : Thread nD τ).loc main_arg53)
    | 3 => m ((c : Thread nD τ).loc main_arg71)

def filler : FVec Ideal S_ .f32 := sitofp .f32 (constantI S_ 32 0#32)

def packed (c : Dev nD) (q : Fin 4) : FVec Ideal S280x1024 .f32 :=
  pack (x0 m c q) (x1 m c q) (x2 m c q) (x3 m c q) (x4 m c q) (x5 m c q) (x6 m c q) (x7 m c q) (x8 m c q) (x9 m c q) (x10 m c q) (x11 m c q) (x12 m c q) (x13 m c q) (x14 m c q) (x15 m c q) (x16 m c q) (x17 m c q) filler

theorem toCat2 {α : Type} (x : S2048.Idx → α) (y : S1024.Idx → α) : concatenate S3072 0 [⟨S2048, x⟩, ⟨S1024, y⟩] concatenates_S2048_S1024_S3072_d0 = cat2 x y := rfl

theorem toCats {α : Type} (x : S281088.Idx → α) (y : S3072.Idx → α) : concatenate S284160 0 [⟨S281088, x⟩, ⟨S3072, y⟩] concatenates_S281088_S3072_S284160_d0 = cats x y := rfl

theorem toCat {α : Type} {f0 g0 : S1536.Idx → α} {f1 g1 : S512.Idx → α} {f2 g2 : S512.Idx → α} {f3 g3 : S2048.Idx → α} {f4 g4 : S768.Idx → α} {f5 g5 : S512.Idx → α} {f6 g6 : S1024.Idx → α} {f7 g7 : S1024.Idx → α} {f8 g8 : S262144.Idx → α} {f9 g9 : S2048.Idx → α} {f10 g10 : S3840.Idx → α} {f11 g11 : S1024.Idx → α} {f12 g12 : S1024.Idx → α} {f13 g13 : S1024.Idx → α} {f14 g14 : S1024.Idx → α} {f15 g15 : S1024.Idx → α} (h0 : f0 = g0) (h1 : f1 = g1) (h2 : f2 = g2) (h3 : f3 = g3) (h4 : f4 = g4) (h5 : f5 = g5) (h6 : f6 = g6) (h7 : f7 = g7) (h8 : f8 = g8) (h9 : f9 = g9) (h10 : f10 = g10) (h11 : f11 = g11) (h12 : f12 = g12) (h13 : f13 = g13) (h14 : f14 = g14) (h15 : f15 = g15) :
    concatenate S281088 0 [⟨S1536, f0⟩, ⟨S512, f1⟩, ⟨S512, f2⟩, ⟨S2048, f3⟩, ⟨S768, f4⟩, ⟨S512, f5⟩, ⟨S1024, f6⟩, ⟨S1024, f7⟩, ⟨S262144, f8⟩, ⟨S2048, f9⟩, ⟨S3840, f10⟩, ⟨S1024, f11⟩, ⟨S1024, f12⟩, ⟨S1024, f13⟩, ⟨S1024, f14⟩, ⟨S1024, f15⟩]
      concatenates_S1536_S512_S512_S2048_S768_S512_S1024_S1024_S262144_S2048_S3840_S1024_S1024_S1024_S1024_S1024_S281088_d0
      = cat g0 g1 g2 g3 g4 g5 g6 g7 g8 g9 g10 g11 g12 g13 g14 g15 := by
  subst h0 h1 h2 h3 h4 h5 h6 h7 h8 h9 h10 h11 h12 h13 h14 h15
  rfl

theorem entry_0 (c : Dev nD) : V m c main_v21 = packed m c 0 := by
  unfold V V0
  simp only [List.flatten_cons, List.flatten_nil, List.append_nil, List.cons_append, List.nil_append]
  after_reads_simp [toCat2, toCats]
  unfold packed pack
  show rows (cats _ _) filler = rows (cats _ _) filler
  refine congrArg₂ (fun x y => rows (cats x y) filler) ?_ ?_
  · refine toCat ?_ ?_ ?_ ?_ ?_ ?_ ?_ ?_ ?_ ?_ ?_ ?_ ?_ ?_ ?_ ?_ <;>
      (after_reads_simp; rfl)
  · rfl

theorem entry_1 (c : Dev nD) : V m c main_v43 = packed m c 1 := by
  unfold V V0
  simp only [List.flatten_cons, List.flatten_nil, List.append_nil, List.cons_append, List.nil_append]
  after_reads_simp [toCat2, toCats]
  unfold packed pack
  show rows (cats _ _) filler = rows (cats _ _) filler
  refine congrArg₂ (fun x y => rows (cats x y) filler) ?_ ?_
  · refine toCat ?_ ?_ ?_ ?_ ?_ ?_ ?_ ?_ ?_ ?_ ?_ ?_ ?_ ?_ ?_ ?_ <;>
      (after_reads_simp; rfl)
  · rfl

theorem entry_2 (c : Dev nD) : V m c main_v65 = packed m c 2 := by
  unfold V V0
  simp only [List.flatten_cons, List.flatten_nil, List.append_nil, List.cons_append, List.nil_append]
  after_reads_simp [toCat2, toCats]
  unfold packed pack
  show rows (cats _ _) filler = rows (cats _ _) filler
  refine congrArg₂ (fun x y => rows (cats x y) filler) ?_ ?_
  · refine toCat ?_ ?_ ?_ ?_ ?_ ?_ ?_ ?_ ?_ ?_ ?_ ?_ ?_ ?_ ?_ ?_ <;>
      (after_reads_simp; rfl)
  · rfl

theorem entry_3 (c : Dev nD) : V m c main_v87 = packed m c 3 := by
  unfold V V0
  simp only [List.flatten_cons, List.flatten_nil, List.append_nil, List.cons_append, List.nil_append]
  after_reads_simp [toCat2, toCats]
  unfold packed pack
  show rows (cats _ _) filler = rows (cats _ _) filler
  refine congrArg₂ (fun x y => rows (cats x y) filler) ?_ ?_
  · refine toCat ?_ ?_ ?_ ?_ ?_ ?_ ?_ ?_ ?_ ?_ ?_ ?_ ?_ ?_ ?_ ?_ <;>
      (after_reads_simp; rfl)
  · rfl

end Cert.AdamSmallProof

end
-- ==== Proof.AdamSmallTail.lean ====
/- What the lines after the region leave in each result. -/
module

public import proofs.«01_k».proof.Proof.AdamSmallPack
public import proofs.«01_k».proof.Proof.Gen.AdamSmallIdeal.Frame
public import Idealize.ShloMosaic.Lib.StableHlo.RunRead

@[expose] public section

set_option maxRecDepth 16384

noncomputable section

namespace Cert.AdamSmallProof

open Idealize.ShloMosaic Idealize.ShloMosaic.TcCoe Idealize.SL.Sem Cert.AdamSmallIdeal Cert.AdamSmallIdeal.Gen

variable (X : Valuation τ sig (Elt Ideal))

theorem line_0 : StableHlo.after hostOps1 X (Proc.devRef .tc main_v91) = un0 (X (Proc.devRef .tc main_v88_0)) := by
  after_reads_simp
  rfl

theorem line_1 : StableHlo.after hostOps1 X (Proc.devRef .tc main_v93) = un1 (X (Proc.devRef .tc main_v88_0)) := by
  after_reads_simp
  rfl

theorem line_2 : StableHlo.after hostOps1 X (Proc.devRef .tc main_v95) = un2 (X (Proc.devRef .tc main_v88_0)) := by
  after_reads_simp
  rfl

theorem line_3 : StableHlo.after hostOps1 X (Proc.devRef .tc main_v97) = un3 (X (Proc.devRef .tc main_v88_0)) := by
  after_reads_simp
  rfl

theorem line_4 : StableHlo.after hostOps1 X (Proc.devRef .tc main_v99) = un4 (X (Proc.devRef .tc main_v88_0)) := by
  after_reads_simp
  rfl

theorem line_5 : StableHlo.after hostOps1 X (Proc.devRef .tc main_v101) = un5 (X (Proc.devRef .tc main_v88_0)) := by
  after_reads_simp
  rfl

theorem line_6 : StableHlo.after hostOps1 X (Proc.devRef .tc main_v103) = un6 (X (Proc.devRef .tc main_v88_0)) := by
  after_reads_simp
  rfl

theorem line_7 : StableHlo.after hostOps1 X (Proc.devRef .tc main_v105) = un7 (X (Proc.devRef .tc main_v88_0)) := by
  after_reads_simp
  rfl

theorem line_8 : StableHlo.after hostOps1 X (Proc.devRef .tc main_v107) = un8 (X (Proc.devRef .tc main_v88_0)) := by
  after_reads_simp
  rfl

theorem line_9 : StableHlo.after hostOps1 X (Proc.devRef .tc main_v109) = un9 (X (Proc.devRef .tc main_v88_0)) := by
  after_reads_simp
  rfl

theorem line_10 : StableHlo.after hostOps1 X (Proc.devRef .tc main_v111) = un10 (X (Proc.devRef .tc main_v88_0)) := by
  after_reads_simp
  rfl

theorem line_11 : StableHlo.after hostOps1 X (Proc.devRef .tc main_v113) = un11 (X (Proc.devRef .tc main_v88_0)) := by
  after_reads_simp
  rfl

theorem line_12 : StableHlo.after hostOps1 X (Proc.devRef .tc main_v115) = un12 (X (Proc.devRef .tc main_v88_0)) := by
  after_reads_simp
  rfl

theorem line_13 : StableHlo.after hostOps1 X (Proc.devRef .tc main_v117) = un13 (X (Proc.devRef .tc main_v88_0)) := by
  after_reads_simp
  rfl

theorem line_14 : StableHlo.after hostOps1 X (Proc.devRef .tc main_v119) = un14 (X (Proc.devRef .tc main_v88_0)) := by
  after_reads_simp
  rfl

theorem line_15 : StableHlo.after hostOps1 X (Proc.devRef .tc main_v121) = un15 (X (Proc.devRef .tc main_v88_0)) := by
  after_reads_simp
  rfl

theorem line_16 : StableHlo.after hostOps1 X (Proc.devRef .tc main_v123) = un16 (X (Proc.devRef .tc main_v88_0)) := by
  after_reads_simp
  rfl

theorem line_17 : StableHlo.after hostOps1 X (Proc.devRef .tc main_v124) = un17 (X (Proc.devRef .tc main_v88_0)) := by
  after_reads_simp
  rfl

theorem line_18 : StableHlo.after hostOps1 X (Proc.devRef .tc main_v127) = un0 (X (Proc.devRef .tc main_v88_1)) := by
  after_reads_simp
  rfl

theorem line_19 : StableHlo.after hostOps1 X (Proc.devRef .tc main_v129) = un1 (X (Proc.devRef .tc main_v88_1)) := by
  after_reads_simp
  rfl

theorem line_20 : StableHlo.after hostOps1 X (Proc.devRef .tc main_v131) = un2 (X (Proc.devRef .tc main_v88_1)) := by
  after_reads_simp
  rfl

theorem line_21 : StableHlo.after hostOps1 X (Proc.devRef .tc main_v133) = un3 (X (Proc.devRef .tc main_v88_1)) := by
  after_reads_simp
  rfl

theorem line_22 : StableHlo.after hostOps1 X (Proc.devRef .tc main_v135) = un4 (X (Proc.devRef .tc main_v88_1)) := by
  after_reads_simp
  rfl

theorem line_23 : StableHlo.after hostOps1 X (Proc.devRef .tc main_v137) = un5 (X (Proc.devRef .tc main_v88_1)) := by
  after_reads_simp
  rfl

theorem line_24 : StableHlo.after hostOps1 X (Proc.devRef .tc main_v139) = un6 (X (Proc.devRef .tc main_v88_1)) := by
  after_reads_simp
  rfl

theorem line_25 : StableHlo.after hostOps1 X (Proc.devRef .tc main_v141) = un7 (X (Proc.devRef .tc main_v88_1)) := by
  after_reads_simp
  rfl

theorem line_26 : StableHlo.after hostOps1 X (Proc.devRef .tc main_v143) = un8 (X (Proc.devRef .tc main_v88_1)) := by
  after_reads_simp
  rfl

theorem line_27 : StableHlo.after hostOps1 X (Proc.devRef .tc main_v145) = un9 (X (Proc.devRef .tc main_v88_1)) := by
  after_reads_simp
  rfl

theorem line_28 : StableHlo.after hostOps1 X (Proc.devRef .tc main_v147) = un10 (X (Proc.devRef .tc main_v88_1)) := by
  after_reads_simp
  rfl

theorem line_29 : StableHlo.after hostOps1 X (Proc.devRef .tc main_v149) = un11 (X (Proc.devRef .tc main_v88_1)) := by
  after_reads_simp
  rfl

theorem line_30 : StableHlo.after hostOps1 X (Proc.devRef .tc main_v151) = un12 (X (Proc.devRef .tc main_v88_1)) := by
  after_reads_simp
  rfl

theorem line_31 : StableHlo.after hostOps1 X (Proc.devRef .tc main_v153) = un13 (X (Proc.devRef .tc main_v88_1)) := by
  after_reads_simp
  rfl

theorem line_32 : StableHlo.after hostOps1 X (Proc.devRef .tc main_v155) = un14 (X (Proc.devRef .tc main_v88_1)) := by
  after_reads_simp
  rfl

theorem line_33 : StableHlo.after hostOps1 X (Proc.devRef .tc main_v157) = un15 (X (Proc.devRef .tc main_v88_1)) := by
  after_reads_simp
  rfl

theorem line_34 : StableHlo.after hostOps1 X (Proc.devRef .tc main_v159) = un16 (X (Proc.devRef .tc main_v88_1)) := by
  after_reads_simp
  rfl

theorem line_35 : StableHlo.after hostOps1 X (Proc.devRef .tc main_v160) = un17 (X (Proc.devRef .tc main_v88_1)) := by
  after_reads_simp
  rfl

theorem line_36 : StableHlo.after hostOps1 X (Proc.devRef .tc main_v163) = un0 (X (Proc.devRef .tc main_v88_2)) := by
  after_reads_simp
  rfl

theorem line_37 : StableHlo.after hostOps1 X (Proc.devRef .tc main_v165) = un1 (X (Proc.devRef .tc main_v88_2)) := by
  after_reads_simp
  rfl

theorem line_38 : StableHlo.after hostOps1 X (Proc.devRef .tc main_v167) = un2 (X (Proc.devRef .tc main_v88_2)) := by
  after_reads_simp
  rfl

theorem line_39 : StableHlo.after hostOps1 X (Proc.devRef .tc main_v169) = un3 (X (Proc.devRef .tc main_v88_2)) := by
  after_reads_simp
  rfl

theorem line_40 : StableHlo.after hostOps1 X (Proc.devRef .tc main_v171) = un4 (X (Proc.devRef .tc main_v88_2)) := by
  after_reads_simp
  rfl

theorem line_41 : StableHlo.after hostOps1 X (Proc.devRef .tc main_v173) = un5 (X (Proc.devRef .tc main_v88_2)) := by
  after_reads_simp
  rfl

theorem line_42 : StableHlo.after hostOps1 X (Proc.devRef .tc main_v175) = un6 (X (Proc.devRef .tc main_v88_2)) := by
  after_reads_simp
  rfl

theorem line_43 : StableHlo.after hostOps1 X (Proc.devRef .tc main_v177) = un7 (X (Proc.devRef .tc main_v88_2)) := by
  after_reads_simp
  rfl

theorem line_44 : StableHlo.after hostOps1 X (Proc.devRef .tc main_v179) = un8 (X (Proc.devRef .tc main_v88_2)) := by
  after_reads_simp
  rfl

theorem line_45 : StableHlo.after hostOps1 X (Proc.devRef .tc main_v181) = un9 (X (Proc.devRef .tc main_v88_2)) := by
  after_reads_simp
  rfl

theorem line_46 : StableHlo.after hostOps1 X (Proc.devRef .tc main_v183) = un10 (X (Proc.devRef .tc main_v88_2)) := by
  after_reads_simp
  rfl

theorem line_47 : StableHlo.after hostOps1 X (Proc.devRef .tc main_v185) = un11 (X (Proc.devRef .tc main_v88_2)) := by
  after_reads_simp
  rfl

theorem line_48 : StableHlo.after hostOps1 X (Proc.devRef .tc main_v187) = un12 (X (Proc.devRef .tc main_v88_2)) := by
  after_reads_simp
  rfl

theorem line_49 : StableHlo.after hostOps1 X (Proc.devRef .tc main_v189) = un13 (X (Proc.devRef .tc main_v88_2)) := by
  after_reads_simp
  rfl

theorem line_50 : StableHlo.after hostOps1 X (Proc.devRef .tc main_v191) = un14 (X (Proc.devRef .tc main_v88_2)) := by
  after_reads_simp
  rfl

theorem line_51 : StableHlo.after hostOps1 X (Proc.devRef .tc main_v193) = un15 (X (Proc.devRef .tc main_v88_2)) := by
  after_reads_simp
  rfl

theorem line_52 : StableHlo.after hostOps1 X (Proc.devRef .tc main_v195) = un16 (X (Proc.devRef .tc main_v88_2)) := by
  after_reads_simp
  rfl

theorem line_53 : StableHlo.after hostOps1 X (Proc.devRef .tc main_v196) = un17 (X (Proc.devRef .tc main_v88_2)) := by
  after_reads_simp
  rfl

variable (m : (ℓ : Loc nD τ sig) → Buf (Elt Ideal) ℓ)

theorem arr_inj : Function.Injective (Pipeline.arrRef spec0) := by decide

theorem tail_0 {b : Ref sig .tc} {f : FVec Ideal S280x1024 .f32 → Buf (Elt Ideal) ((0 : Dev nD), Proc.devRef (τ := τ) .tc b)} (c : Dev nD)
    (h : ∀ X : Valuation τ sig (Elt Ideal), StableHlo.after hostOps1 X (Proc.devRef .tc b) = f (X (Proc.devRef .tc main_v88_0))) :
    Pipeline.afterTail₀ cfgs (dats m) 0 (V0 m) [hostOps1] c b = f ((dats m 0 c).arrAt 4 cfg0.N) := by
  unfold Pipeline.afterTail₀
  rw [List.flatten_cons, List.flatten_nil, List.append_nil]
  exact (h _).trans (congrArg f (Pipeline.withArrays_arr spec0 arr_inj c (V0 m c) (fun w => (dats m 0 c).arrAt w cfg0.N) 4))

theorem tail_1 {b : Ref sig .tc} {f : FVec Ideal S280x1024 .f32 → Buf (Elt Ideal) ((0 : Dev nD), Proc.devRef (τ := τ) .tc b)} (c : Dev nD)
    (h : ∀ X : Valuation τ sig (Elt Ideal), StableHlo.after hostOps1 X (Proc.devRef .tc b) = f (X (Proc.devRef .tc main_v88_1))) :
    Pipeline.afterTail₀ cfgs (dats m) 0 (V0 m) [hostOps1] c b = f ((dats m 0 c).arrAt 5 cfg0.N) := by
  unfold Pipeline.afterTail₀
  rw [List.flatten_cons, List.flatten_nil, List.append_nil]
  exact (h _).trans (congrArg f (Pipeline.withArrays_arr spec0 arr_inj c (V0 m c) (fun w => (dats m 0 c).arrAt w cfg0.N) 5))

theorem tail_2 {b : Ref sig .tc} {f : FVec Ideal S280x1024 .f32 → Buf (Elt Ideal) ((0 : Dev nD), Proc.devRef (τ := τ) .tc b)} (c : Dev nD)
    (h : ∀ X : Valuation τ sig (Elt Ideal), StableHlo.after hostOps1 X (Proc.devRef .tc b) = f (X (Proc.devRef .tc main_v88_2))) :
    Pipeline.afterTail₀ cfgs (dats m) 0 (V0 m) [hostOps1] c b = f ((dats m 0 c).arrAt 6 cfg0.N) := by
  unfold Pipeline.afterTail₀
  rw [List.flatten_cons, List.flatten_nil, List.append_nil]
  exact (h _).trans (congrArg f (Pipeline.withArrays_arr spec0 arr_inj c (V0 m c) (fun w => (dats m 0 c).arrAt w cfg0.N) 6))

end Cert.AdamSmallProof

end
-- ==== Proof.AdamSmallArrays.lean ====
/- The three packed result arrays, entry by entry. -/
module

public import proofs.«01_k».proof.Proof.Gen.AdamSmallIdeal.Frame
public import proofs.«01_k».proof.Proof.Adam
public import proofs.«01_k».proof.Proof.Product
public import Idealize.ShloMosaic.Lib.Pipeline.ValueKit

@[expose] public section

set_option maxRecDepth 16384

noncomputable section

namespace Cert.AdamSmallProof

open Idealize.ShloMosaic Idealize.ShloMosaic.TcCoe Idealize.SL.Sem Cert.Adam Cert.AdamSmallIdeal Cert.AdamSmallIdeal.Gen

theorem pay_delta (g m v w : Vec Ideal S8x1024 .f32) (r : Fin 8) (s : Fin 1024) :
    k0_pay4 (F := Ideal) g m v w (ix2 r s) = delta (w (ix2 r s)) (g (ix2 r s)) (m (ix2 r s)) (v (ix2 r s)) := by
  pointwise [k0_pay4, k0_pay2, k0_pay3, k0_pay1]
  rfl

theorem pay_newM (g m : Vec Ideal S8x1024 .f32) (r : Fin 8) (s : Fin 1024) :
    k0_pay2 (F := Ideal) g m (ix2 r s) = newM (g (ix2 r s)) (m (ix2 r s)) := by
  pointwise [k0_pay2, k0_pay1]
  rfl

theorem pay_newV (g v : Vec Ideal S8x1024 .f32) (r : Fin 8) (s : Fin 1024) :
    k0_pay3 (F := Ideal) g v (ix2 r s) = newV (g (ix2 r s)) (v (ix2 r s)) := by
  pointwise [k0_pay3, k0_pay1]
  rfl

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ t.val < 35 :=
  (by decide +kernel : ∀ t : Fin grid0.N, _)

/-- The row of the packed array that row `r` of tile `t` is. -/
def ti (t : Fin cfg0.N) (r : Fin 8) : Fin 280 := ⟨t.val * 8 + r.val, by have := (idx t).2.2.2.2.2.2.2; omega⟩

abbrev A0 (c : Dev nD) : FVec Ideal S280x1024 .f32 := V m c main_v21

theorem blk_0 (c : Dev nD) (t : Fin cfg0.N) (r : Fin 8) (s : Fin 1024) :
    (show Vec Ideal S8x1024 .f32 from iblk m c 0 t) (ix2 r s) = A0 m c (ix2 (ti t r) s) := by
  have e : (win0_0.blk t).view.emb (ix2 r s) = ix2 (ti t r) s := by
    unfold ti; blk_ext [idx t]
  exact congrArg (A0 m c) e

abbrev A1 (c : Dev nD) : FVec Ideal S280x1024 .f32 := V m c main_v43

theorem blk_1 (c : Dev nD) (t : Fin cfg0.N) (r : Fin 8) (s : Fin 1024) :
    (show Vec Ideal S8x1024 .f32 from iblk m c 1 t) (ix2 r s) = A1 m c (ix2 (ti t r) s) := by
  have e : (win0_1.blk t).view.emb (ix2 r s) = ix2 (ti t r) s := by
    unfold ti; blk_ext [idx t]
  exact congrArg (A1 m c) e

abbrev A2 (c : Dev nD) : FVec Ideal S280x1024 .f32 := V m c main_v65

theorem blk_2 (c : Dev nD) (t : Fin cfg0.N) (r : Fin 8) (s : Fin 1024) :
    (show Vec Ideal S8x1024 .f32 from iblk m c 2 t) (ix2 r s) = A2 m c (ix2 (ti t r) s) := by
  have e : (win0_2.blk t).view.emb (ix2 r s) = ix2 (ti t r) s := by
    unfold ti; blk_ext [idx t]
  exact congrArg (A2 m c) e

abbrev A3 (c : Dev nD) : FVec Ideal S280x1024 .f32 := V m c main_v87

theorem blk_3 (c : Dev nD) (t : Fin cfg0.N) (r : Fin 8) (s : Fin 1024) :
    (show Vec Ideal S8x1024 .f32 from iblk m c 3 t) (ix2 r s) = A3 m c (ix2 (ti t r) s) := by
  have e : (win0_3.blk t).view.emb (ix2 r s) = ix2 (ti t r) s := by
    unfold ti; blk_ext [idx t]
  exact congrArg (A3 m c) e

theorem final_delta (c : Dev nD) : (dats m 0 c).arrAt 4 cfg0.N = fun i => delta (A0 m c i) (A1 m c i) (A2 m c i) (A3 m c i) := by
  refine (dats m 0 c).arrAt_eq_of_covers 4 _ (by decide +kernel) fun t hf y => ?_
  blk_simp
  rw [after0_4]
  obtain ⟨r, s, rfl⟩ : ∃ (r : Fin 8) (s : Fin 1024), y = ix2 r s := ⟨y 0, y 1, eq_ix2 y⟩
  have e : (win0_4.blk t).view.emb (ix2 r s) = ix2 (ti t r) s := by
    unfold ti; blk_ext [idx t]
  rw [e]
  unfold out0_4
  rw [View.canon_unit_zero (S := S8x1024) Cert.Product.hz]
  simp only [View.ld_unit_zero (S := S8x1024) Cert.Product.hz]
  refine (pay_delta _ _ _ _ r s).trans ?_
  show delta ((show Vec Ideal S8x1024 .f32 from iblk m c 0 t) (ix2 r s)) ((show Vec Ideal S8x1024 .f32 from iblk m c 1 t) (ix2 r s)) ((show Vec Ideal S8x1024 .f32 from iblk m c 2 t) (ix2 r s)) ((show Vec Ideal S8x1024 .f32 from iblk m c 3 t) (ix2 r s)) = _
  rw [blk_0, blk_1, blk_2, blk_3]

theorem final_newM (c : Dev nD) : (dats m 0 c).arrAt 5 cfg0.N = fun i => newM (A1 m c i) (A2 m c i) := by
  refine (dats m 0 c).arrAt_eq_of_covers 5 _ (by decide +kernel) fun t hf y => ?_
  blk_simp
  rw [after0_5]
  obtain ⟨r, s, rfl⟩ : ∃ (r : Fin 8) (s : Fin 1024), y = ix2 r s := ⟨y 0, y 1, eq_ix2 y⟩
  have e : (win0_5.blk t).view.emb (ix2 r s) = ix2 (ti t r) s := by
    unfold ti; blk_ext [idx t]
  rw [e]
  unfold out0_5
  rw [View.canon_unit_zero (S := S8x1024) Cert.Product.hz]
  simp only [View.ld_unit_zero (S := S8x1024) Cert.Product.hz]
  refine (pay_newM _ _ r s).trans ?_
  show newM ((show Vec Ideal S8x1024 .f32 from iblk m c 1 t) (ix2 r s)) ((show Vec Ideal S8x1024 .f32 from iblk m c 2 t) (ix2 r s)) = _
  rw [blk_1, blk_2]

theorem final_newV (c : Dev nD) : (dats m 0 c).arrAt 6 cfg0.N = fun i => newV (A1 m c i) (A3 m c i) := by
  refine (dats m 0 c).arrAt_eq_of_covers 6 _ (by decide +kernel) fun t hf y => ?_
  blk_simp
  rw [after0_6]
  obtain ⟨r, s, rfl⟩ : ∃ (r : Fin 8) (s : Fin 1024), y = ix2 r s := ⟨y 0, y 1, eq_ix2 y⟩
  have e : (win0_6.blk t).view.emb (ix2 r s) = ix2 (ti t r) s := by
    unfold ti; blk_ext [idx t]
  rw [e]
  unfold out0_6
  rw [View.canon_unit_zero (S := S8x1024) Cert.Product.hz]
  simp only [View.ld_unit_zero (S := S8x1024) Cert.Product.hz]
  refine (pay_newV _ _ r s).trans ?_
  show newV ((show Vec Ideal S8x1024 .f32 from iblk m c 1 t) (ix2 r s)) ((show Vec Ideal S8x1024 .f32 from iblk m c 3 t) (ix2 r s)) = _
  rw [blk_1, blk_3]

end Cert.AdamSmallProof

end
-- ==== Proof.AdamSmallResults.lean ====
/- Each result of the kernel as one AdamW step of the weight it belongs to. -/
module

public import proofs.«01_k».proof.Proof.AdamSmallEntry
public import proofs.«01_k».proof.Proof.AdamSmallTail
public import proofs.«01_k».proof.Proof.AdamSmallArrays

@[expose] public section

set_option maxRecDepth 16384

noncomputable section

namespace Cert.AdamSmallProof

open Idealize.ShloMosaic Idealize.ShloMosaic.TcCoe Idealize.SL.Sem Cert.Adam Cert.AdamSmallIdeal Cert.AdamSmallIdeal.Gen

variable (m : (ℓ : Loc nD τ sig) → Buf (Elt Ideal) ℓ)

/-- A function of four numbers, entry by entry of four arrays. -/
def each {I : Type} (f : EReal → EReal → EReal → EReal → EReal) (p : Fin 4 → I → EReal) : I → EReal :=
  fun i => f (p 0 i) (p 1 i) (p 2 i) (p 3 i)

abbrev stepM (_ g m _v : EReal) : EReal := newM g m
abbrev stepV (_ g _m v : EReal) : EReal := newV g v

theorem array_delta (c : Dev nD) : (dats m 0 c).arrAt 4 cfg0.N
    = each delta (packed m c) := by
  refine (final_delta m c).trans ?_
  unfold A0 A1 A2 A3
  rw [entry_0, entry_1, entry_2, entry_3]
  rfl

theorem array_newM (c : Dev nD) : (dats m 0 c).arrAt 5 cfg0.N = each stepM (packed m c) := by
  refine (final_newM m c).trans ?_
  unfold A1 A2
  rw [entry_1, entry_2]
  rfl

theorem array_newV (c : Dev nD) : (dats m 0 c).arrAt 6 cfg0.N = each stepV (packed m c) := by
  refine (final_newV m c).trans ?_
  unfold A1 A3
  rw [entry_1, entry_3]
  rfl

theorem un0_each (f : EReal → EReal → EReal → EReal → EReal) (c : Dev nD) : un0 (each f (packed m c)) = each f (x0 m c) :=
  congrArg (each f) (funext fun q => un0_pack _ _ _ _ _ _ _ _ _ _ _ _ _ _ _ _ _ _ _)

theorem un1_each (f : EReal → EReal → EReal → EReal → EReal) (c : Dev nD) : un1 (each f (packed m c)) = each f (x1 m c) :=
  congrArg (each f) (funext fun q => un1_pack _ _ _ _ _ _ _ _ _ _ _ _ _ _ _ _ _ _ _)

theorem un2_each (f : EReal → EReal → EReal → EReal → EReal) (c : Dev nD) : un2 (each f (packed m c)) = each f (x2 m c) :=
  congrArg (each f) (funext fun q => un2_pack _ _ _ _ _ _ _ _ _ _ _ _ _ _ _ _ _ _ _)

theorem un3_each (f : EReal → EReal → EReal → EReal → EReal) (c : Dev nD) : un3 (each f (packed m c)) = each f (x3 m c) :=
  congrArg (each f) (funext fun q => un3_pack _ _ _ _ _ _ _ _ _ _ _ _ _ _ _ _ _ _ _)

theorem un4_each (f : EReal → EReal → EReal → EReal → EReal) (c : Dev nD) : un4 (each f (packed m c)) = each f (x4 m c) :=
  congrArg (each f) (funext fun q => un4_pack _ _ _ _ _ _ _ _ _ _ _ _ _ _ _ _ _ _ _)

theorem un5_each (f : EReal → EReal → EReal → EReal → EReal) (c : Dev nD) : un5 (each f (packed m c)) = each f (x5 m c) :=
  congrArg (each f) (funext fun q => un5_pack _ _ _ _ _ _ _ _ _ _ _ _ _ _ _ _ _ _ _)

theorem un6_each (f : EReal → EReal → EReal → EReal → EReal) (c : Dev nD) : un6 (each f (packed m c)) = each f (x6 m c) :=
  congrArg (each f) (funext fun q => un6_pack _ _ _ _ _ _ _ _ _ _ _ _ _ _ _ _ _ _ _)

theorem un7_each (f : EReal → EReal → EReal → EReal → EReal) (c : Dev nD) : un7 (each f (packed m c)) = each f (x7 m c) :=
  congrArg (each f) (funext fun q => un7_pack _ _ _ _ _ _ _ _ _ _ _ _ _ _ _ _ _ _ _)

theorem un8_each (f : EReal → EReal → EReal → EReal → EReal) (c : Dev nD) : un8 (each f (packed m c)) = each f (x8 m c) :=
  congrArg (each f) (funext fun q => un8_pack _ _ _ _ _ _ _ _ _ _ _ _ _ _ _ _ _ _ _)

theorem un9_each (f : EReal → EReal → EReal → EReal → EReal) (c : Dev nD) : un9 (each f (packed m c)) = each f (x9 m c) :=
  congrArg (each f) (funext fun q => un9_pack _ _ _ _ _ _ _ _ _ _ _ _ _ _ _ _ _ _ _)

theorem un10_each (f : EReal → EReal → EReal → EReal → EReal) (c : Dev nD) : un10 (each f (packed m c)) = each f (x10 m c) :=
  congrArg (each f) (funext fun q => un10_pack _ _ _ _ _ _ _ _ _ _ _ _ _ _ _ _ _ _ _)

theorem un11_each (f : EReal → EReal → EReal → EReal → EReal) (c : Dev nD) : un11 (each f (packed m c)) = each f (x11 m c) :=
  congrArg (each f) (funext fun q => un11_pack _ _ _ _ _ _ _ _ _ _ _ _ _ _ _ _ _ _ _)

theorem un12_each (f : EReal → EReal → EReal → EReal → EReal) (c : Dev nD) : un12 (each f (packed m c)) = each f (x12 m c) :=
  congrArg (each f) (funext fun q => un12_pack _ _ _ _ _ _ _ _ _ _ _ _ _ _ _ _ _ _ _)

theorem un13_each (f : EReal → EReal → EReal → EReal → EReal) (c : Dev nD) : un13 (each f (packed m c)) = each f (x13 m c) :=
  congrArg (each f) (funext fun q => un13_pack _ _ _ _ _ _ _ _ _ _ _ _ _ _ _ _ _ _ _)

theorem un14_each (f : EReal → EReal → EReal → EReal → EReal) (c : Dev nD) : un14 (each f (packed m c)) = each f (x14 m c) :=
  congrArg (each f) (funext fun q => un14_pack _ _ _ _ _ _ _ _ _ _ _ _ _ _ _ _ _ _ _)

theorem un15_each (f : EReal → EReal → EReal → EReal → EReal) (c : Dev nD) : un15 (each f (packed m c)) = each f (x15 m c) :=
  congrArg (each f) (funext fun q => un15_pack _ _ _ _ _ _ _ _ _ _ _ _ _ _ _ _ _ _ _)

theorem un16_each (f : EReal → EReal → EReal → EReal → EReal) (c : Dev nD) : un16 (each f (packed m c)) = each f (x16 m c) :=
  congrArg (each f) (funext fun q => un16_pack _ _ _ _ _ _ _ _ _ _ _ _ _ _ _ _ _ _ _)

theorem un17_each (f : EReal → EReal → EReal → EReal → EReal) (c : Dev nD) : un17 (each f (packed m c)) = each f (x17 m c) :=
  congrArg (each f) (funext fun q => un17_pack _ _ _ _ _ _ _ _ _ _ _ _ _ _ _ _ _ _ _)

end Cert.AdamSmallProof

end
-- ==== Proof.AdamSmallRef.lean ====
/- The reference: one AdamW step of an array of any shape. -/
module

public import proofs.«01_k».proof.Proof.Gen.AdamSmallRefIdeal
public import proofs.«01_k».proof.Proof.Adam
public import Idealize.ShloMosaic.Lib.Pipeline.ValueKit

@[expose] public section

set_option maxRecDepth 16384

noncomputable section

namespace Cert.AdamSmallProof

open Idealize.ShloMosaic Idealize.ShloMosaic.TcCoe Idealize.SL.Sem Cert.Adam Cert.AdamSmallRefIdeal

variable {S : Shape} (h : S_.BroadcastsInDim S (![] : Fin 0 → Fin S.rank)) {w g mu nu w' g' mu' nu' : FVec Ideal S .f32}

theorem ref_newM (eg : g = g') (em : mu = mu') :
    addf (mulf (broadcastInDim S ![] h (constant S_ .f32 0x3F666666#32)) mu) (mulf (broadcastInDim S ![] h (constant S_ .f32 0x3DCCCCCD#32)) g)
      = fun j => newM (g' j) (mu' j) := by
  subst eg em
  funext j
  pointwise
  rfl

theorem ref_newV (eg : g = g') (ev : nu = nu') :
    addf (mulf (broadcastInDim S ![] h (constant S_ .f32 0x3F7FBE77#32)) nu) (mulf (broadcastInDim S ![] h (constant S_ .f32 0x3A83126F#32)) (mulf g g))
      = fun j => newV (g' j) (nu' j) := by
  subst eg ev
  funext j
  pointwise
  rfl

theorem ref_delta (ew : w = w') (eg : g = g') (em : mu = mu') (ev : nu = nu') :
    mulf (broadcastInDim S ![] h (constant S_ .f32 0xBA83126F#32)) (addf (Host.divf (Host.divf (addf (mulf (broadcastInDim S ![] h (constant S_ .f32 0x3F666666#32)) mu) (mulf (broadcastInDim S ![] h (constant S_ .f32 0x3DCCCCCD#32)) g)) (broadcastInDim S ![] h (constant S_ .f32 0x3F26BD02#32))) (addf (Host.sqrt (Host.divf (addf (mulf (broadcastInDim S ![] h (constant S_ .f32 0x3F7FBE77#32)) nu) (mulf (broadcastInDim S ![] h (constant S_ .f32 0x3A83126F#32)) (mulf g g))) (broadcastInDim S ![] h (constant S_ .f32 0x3C231ACC#32)))) (broadcastInDim S ![] h (constant S_ .f32 0x322BCC77#32)))) (mulf (broadcastInDim S ![] h (constant S_ .f32 0x3C23D70A#32)) w))
      = fun j => delta (w' j) (g' j) (mu' j) (nu' j) := by
  subst ew eg em ev
  funext j
  pointwise
  rfl

end Cert.AdamSmallProof

end
-- ==== Proof.AdamSmallValue.lean ====
/- The kernel AdamSmall: one AdamW step of the eighteen small weights packed into one array, against the reference. -/
module

public import proofs.«01_k».proof.Defs
public import proofs.«01_k».proof.Proof.AdamSmallResults
public import proofs.«01_k».proof.Proof.AdamSmallRef
public import proofs.«01_k».proof.Proof.Gen.AdamSmallRefIdeal.Run
public import Idealize.ShloMosaic.Lib.Claim

@[expose] public section

set_option maxRecDepth 16384

noncomputable section

namespace Cert.AdamSmallProof

open Idealize.ShloMosaic Idealize.ShloMosaic.TcCoe Idealize.SL.Sem Cert.Adam Cert.AdamSmallIdeal Cert.AdamSmallIdeal.Gen

theorem frame_ref : Cert.quiescent_AdamSmallRefIdeal (hAdamSmallRefIdeal := Cert.AdamSmallRefIdeal.Gen.facts) := fun m ρ _ =>
  (θ_run _ _ _).mono (fun r h => ⟨fun c => ((h c).2.2.2.2.2.2.2.2.2.2.2.2.2.2.2.2.2.2.2.2.2.2.2.2.2.2.2.2.2.2.2.2.2.2.2.2.2.2.2.2.2.2.2.2.2.2.2.2.2.2.2.2.2.2 : _), sem_eq_zero_of_no_sems (by decide) r.2⟩)
    (Cert.AdamSmallRefIdeal.Value.run m ρ)

theorem rest (b : Ref sig .tc) (h₁ : b.isScoped = false) (h₂ : ∀ w, (spec0 w).arr.view.ref ≠ b) : b ∈ Pipeline.restRefs sig spec0 := Pipeline.mem_restRefs_of b h₁ h₂

set_option maxHeartbeats 8000000 in
theorem algebraic : Cert.algebraic_AdamSmallIdeal_AdamSmallRefIdeal
    (hAdamSmallIdeal := Cert.AdamSmallIdeal.Gen.facts) (hAdamSmallRefIdeal := Cert.AdamSmallRefIdeal.Gen.facts) := by
  intro m g m' g' _ hag
  refine ⟨fun c => each delta (x0 m c),
    fun c => each delta (x1 m c),
    fun c => each delta (x2 m c),
    fun c => each delta (x3 m c),
    fun c => each delta (x4 m c),
    fun c => each delta (x5 m c),
    fun c => each delta (x6 m c),
    fun c => each delta (x7 m c),
    fun c => each delta (x8 m c),
    fun c => each delta (x9 m c),
    fun c => each delta (x10 m c),
    fun c => each delta (x11 m c),
    fun c => each delta (x12 m c),
    fun c => each delta (x13 m c),
    fun c => each delta (x14 m c),
    fun c => each delta (x15 m c),
    fun c => each delta (x16 m c),
    fun c => each delta (x17 m c),
    fun c => each stepM (x0 m c),
    fun c => each stepM (x1 m c),
    fun c => each stepM (x2 m c),
    fun c => each stepM (x3 m c),
    fun c => each stepM (x4 m c),
    fun c => each stepM (x5 m c),
    fun c => each stepM (x6 m c),
    fun c => each stepM (x7 m c),
    fun c => each stepM (x8 m c),
    fun c => each stepM (x9 m c),
    fun c => each stepM (x10 m c),
    fun c => each stepM (x11 m c),
    fun c => each stepM (x12 m c),
    fun c => each stepM (x13 m c),
    fun c => each stepM (x14 m c),
    fun c => each stepM (x15 m c),
    fun c => each stepM (x16 m c),
    fun c => each stepM (x17 m c),
    fun c => each stepV (x0 m c),
    fun c => each stepV (x1 m c),
    fun c => each stepV (x2 m c),
    fun c => each stepV (x3 m c),
    fun c => each stepV (x4 m c),
    fun c => each stepV (x5 m c),
    fun c => each stepV (x6 m c),
    fun c => each stepV (x7 m c),
    fun c => each stepV (x8 m c),
    fun c => each stepV (x9 m c),
    fun c => each stepV (x10 m c),
    fun c => each stepV (x11 m c),
    fun c => each stepV (x12 m c),
    fun c => each stepV (x13 m c),
    fun c => each stepV (x14 m c),
    fun c => each stepV (x15 m c),
    fun c => each stepV (x16 m c),
    fun c => each stepV (x17 m c), ?_, ?_⟩
  · refine (θ_run _ _ _).mono (fun r h c => ?_) (θ_run_and (run_main m g) (unchanged m g))
    exact ⟨((h.1 c).2 main_v91 (rest main_v91 (by decide) (by decide))).trans ((tail_0 m c line_0).trans ((congrArg un0 (array_delta m c)).trans (un0_each m _ c))),
      ((h.1 c).2 main_v93 (rest main_v93 (by decide) (by decide))).trans ((tail_0 m c line_1).trans ((congrArg un1 (array_delta m c)).trans (un1_each m _ c))),
      ((h.1 c).2 main_v95 (rest main_v95 (by decide) (by decide))).trans ((tail_0 m c line_2).trans ((congrArg un2 (array_delta m c)).trans (un2_each m _ c))),
      ((h.1 c).2 main_v97 (rest main_v97 (by decide) (by decide))).trans ((tail_0 m c line_3).trans ((congrArg un3 (array_delta m c)).trans (un3_each m _ c))),
      ((h.1 c).2 main_v99 (rest main_v99 (by decide) (by decide))).trans ((tail_0 m c line_4).trans ((congrArg un4 (array_delta m c)).trans (un4_each m _ c))),
      ((h.1 c).2 main_v101 (rest main_v101 (by decide) (by decide))).trans ((tail_0 m c line_5).trans ((congrArg un5 (array_delta m c)).trans (un5_each m _ c))),
      ((h.1 c).2 main_v103 (rest main_v103 (by decide) (by decide))).trans ((tail_0 m c line_6).trans ((congrArg un6 (array_delta m c)).trans (un6_each m _ c))),
      ((h.1 c).2 main_v105 (rest main_v105 (by decide) (by decide))).trans ((tail_0 m c line_7).trans ((congrArg un7 (array_delta m c)).trans (un7_each m _ c))),
      ((h.1 c).2 main_v107 (rest main_v107 (by decide) (by decide))).trans ((tail_0 m c line_8).trans ((congrArg un8 (array_delta m c)).trans (un8_each m _ c))),
      ((h.1 c).2 main_v109 (rest main_v109 (by decide) (by decide))).trans ((tail_0 m c line_9).trans ((congrArg un9 (array_delta m c)).trans (un9_each m _ c))),
      ((h.1 c).2 main_v111 (rest main_v111 (by decide) (by decide))).trans ((tail_0 m c line_10).trans ((congrArg un10 (array_delta m c)).trans (un10_each m _ c))),
      ((h.1 c).2 main_v113 (rest main_v113 (by decide) (by decide))).trans ((tail_0 m c line_11).trans ((congrArg un11 (array_delta m c)).trans (un11_each m _ c))),
      ((h.1 c).2 main_v115 (rest main_v115 (by decide) (by decide))).trans ((tail_0 m c line_12).trans ((congrArg un12 (array_delta m c)).trans (un12_each m _ c))),
      ((h.1 c).2 main_v117 (rest main_v117 (by decide) (by decide))).trans ((tail_0 m c line_13).trans ((congrArg un13 (array_delta m c)).trans (un13_each m _ c))),
      ((h.1 c).2 main_v119 (rest main_v119 (by decide) (by decide))).trans ((tail_0 m c line_14).trans ((congrArg un14 (array_delta m c)).trans (un14_each m _ c))),
      ((h.1 c).2 main_v121 (rest main_v121 (by decide) (by decide))).trans ((tail_0 m c line_15).trans ((congrArg un15 (array_delta m c)).trans (un15_each m _ c))),
      ((h.1 c).2 main_v123 (rest main_v123 (by decide) (by decide))).trans ((tail_0 m c line_16).trans ((congrArg un16 (array_delta m c)).trans (un16_each m _ c))),
      ((h.1 c).2 main_v124 (rest main_v124 (by decide) (by decide))).trans ((tail_0 m c line_17).trans ((congrArg un17 (array_delta m c)).trans (un17_each m _ c))),
      ((h.1 c).2 main_v127 (rest main_v127 (by decide) (by decide))).trans ((tail_1 m c line_18).trans ((congrArg un0 (array_newM m c)).trans (un0_each m _ c))),
      ((h.1 c).2 main_v129 (rest main_v129 (by decide) (by decide))).trans ((tail_1 m c line_19).trans ((congrArg un1 (array_newM m c)).trans (un1_each m _ c))),
      ((h.1 c).2 main_v131 (rest main_v131 (by decide) (by decide))).trans ((tail_1 m c line_20).trans ((congrArg un2 (array_newM m c)).trans (un2_each m _ c))),
      ((h.1 c).2 main_v133 (rest main_v133 (by decide) (by decide))).trans ((tail_1 m c line_21).trans ((congrArg un3 (array_newM m c)).trans (un3_each m _ c))),
      ((h.1 c).2 main_v135 (rest main_v135 (by decide) (by decide))).trans ((tail_1 m c line_22).trans ((congrArg un4 (array_newM m c)).trans (un4_each m _ c))),
      ((h.1 c).2 main_v137 (rest main_v137 (by decide) (by decide))).trans ((tail_1 m c line_23).trans ((congrArg un5 (array_newM m c)).trans (un5_each m _ c))),
      ((h.1 c).2 main_v139 (rest main_v139 (by decide) (by decide))).trans ((tail_1 m c line_24).trans ((congrArg un6 (array_newM m c)).trans (un6_each m _ c))),
      ((h.1 c).2 main_v141 (rest main_v141 (by decide) (by decide))).trans ((tail_1 m c line_25).trans ((congrArg un7 (array_newM m c)).trans (un7_each m _ c))),
      ((h.1 c).2 main_v143 (rest main_v143 (by decide) (by decide))).trans ((tail_1 m c line_26).trans ((congrArg un8 (array_newM m c)).trans (un8_each m _ c))),
      ((h.1 c).2 main_v145 (rest main_v145 (by decide) (by decide))).trans ((tail_1 m c line_27).trans ((congrArg un9 (array_newM m c)).trans (un9_each m _ c))),
      ((h.1 c).2 main_v147 (rest main_v147 (by decide) (by decide))).trans ((tail_1 m c line_28).trans ((congrArg un10 (array_newM m c)).trans (un10_each m _ c))),
      ((h.1 c).2 main_v149 (rest main_v149 (by decide) (by decide))).trans ((tail_1 m c line_29).trans ((congrArg un11 (array_newM m c)).trans (un11_each m _ c))),
      ((h.1 c).2 main_v151 (rest main_v151 (by decide) (by decide))).trans ((tail_1 m c line_30).trans ((congrArg un12 (array_newM m c)).trans (un12_each m _ c))),
      ((h.1 c).2 main_v153 (rest main_v153 (by decide) (by decide))).trans ((tail_1 m c line_31).trans ((congrArg un13 (array_newM m c)).trans (un13_each m _ c))),
      ((h.1 c).2 main_v155 (rest main_v155 (by decide) (by decide))).trans ((tail_1 m c line_32).trans ((congrArg un14 (array_newM m c)).trans (un14_each m _ c))),
      ((h.1 c).2 main_v157 (rest main_v157 (by decide) (by decide))).trans ((tail_1 m c line_33).trans ((congrArg un15 (array_newM m c)).trans (un15_each m _ c))),
      ((h.1 c).2 main_v159 (rest main_v159 (by decide) (by decide))).trans ((tail_1 m c line_34).trans ((congrArg un16 (array_newM m c)).trans (un16_each m _ c))),
      ((h.1 c).2 main_v160 (rest main_v160 (by decide) (by decide))).trans ((tail_1 m c line_35).trans ((congrArg un17 (array_newM m c)).trans (un17_each m _ c))),
      ((h.1 c).2 main_v163 (rest main_v163 (by decide) (by decide))).trans ((tail_2 m c line_36).trans ((congrArg un0 (array_newV m c)).trans (un0_each m _ c))),
      ((h.1 c).2 main_v165 (rest main_v165 (by decide) (by decide))).trans ((tail_2 m c line_37).trans ((congrArg un1 (array_newV m c)).trans (un1_each m _ c))),
      ((h.1 c).2 main_v167 (rest main_v167 (by decide) (by decide))).trans ((tail_2 m c line_38).trans ((congrArg un2 (array_newV m c)).trans (un2_each m _ c))),
      ((h.1 c).2 main_v169 (rest main_v169 (by decide) (by decide))).trans ((tail_2 m c line_39).trans ((congrArg un3 (array_newV m c)).trans (un3_each m _ c))),
      ((h.1 c).2 main_v171 (rest main_v171 (by decide) (by decide))).trans ((tail_2 m c line_40).trans ((congrArg un4 (array_newV m c)).trans (un4_each m _ c))),
      ((h.1 c).2 main_v173 (rest main_v173 (by decide) (by decide))).trans ((tail_2 m c line_41).trans ((congrArg un5 (array_newV m c)).trans (un5_each m _ c))),
      ((h.1 c).2 main_v175 (rest main_v175 (by decide) (by decide))).trans ((tail_2 m c line_42).trans ((congrArg un6 (array_newV m c)).trans (un6_each m _ c))),
      ((h.1 c).2 main_v177 (rest main_v177 (by decide) (by decide))).trans ((tail_2 m c line_43).trans ((congrArg un7 (array_newV m c)).trans (un7_each m _ c))),
      ((h.1 c).2 main_v179 (rest main_v179 (by decide) (by decide))).trans ((tail_2 m c line_44).trans ((congrArg un8 (array_newV m c)).trans (un8_each m _ c))),
      ((h.1 c).2 main_v181 (rest main_v181 (by decide) (by decide))).trans ((tail_2 m c line_45).trans ((congrArg un9 (array_newV m c)).trans (un9_each m _ c))),
      ((h.1 c).2 main_v183 (rest main_v183 (by decide) (by decide))).trans ((tail_2 m c line_46).trans ((congrArg un10 (array_newV m c)).trans (un10_each m _ c))),
      ((h.1 c).2 main_v185 (rest main_v185 (by decide) (by decide))).trans ((tail_2 m c line_47).trans ((congrArg un11 (array_newV m c)).trans (un11_each m _ c))),
      ((h.1 c).2 main_v187 (rest main_v187 (by decide) (by decide))).trans ((tail_2 m c line_48).trans ((congrArg un12 (array_newV m c)).trans (un12_each m _ c))),
      ((h.1 c).2 main_v189 (rest main_v189 (by decide) (by decide))).trans ((tail_2 m c line_49).trans ((congrArg un13 (array_newV m c)).trans (un13_each m _ c))),
      ((h.1 c).2 main_v191 (rest main_v191 (by decide) (by decide))).trans ((tail_2 m c line_50).trans ((congrArg un14 (array_newV m c)).trans (un14_each m _ c))),
      ((h.1 c).2 main_v193 (rest main_v193 (by decide) (by decide))).trans ((tail_2 m c line_51).trans ((congrArg un15 (array_newV m c)).trans (un15_each m _ c))),
      ((h.1 c).2 main_v195 (rest main_v195 (by decide) (by decide))).trans ((tail_2 m c line_52).trans ((congrArg un16 (array_newV m c)).trans (un16_each m _ c))),
      ((h.1 c).2 main_v196 (rest main_v196 (by decide) (by decide))).trans ((tail_2 m c line_53).trans ((congrArg un17 (array_newV m c)).trans (un17_each m _ c))),
      h.2 c⟩
  · refine (θ_run _ _ _).mono (fun r h c => ?_) (Cert.AdamSmallRefIdeal.Value.run m' g')
    obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49, h50, h51, h52, h53, hr⟩ := h c
    obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43, e44, e45, e46, e47, e48, e49, e50, e51, e52, e53, e54, e55, e56, e57, e58, e59, e60, e61, e62, e63, e64, e65, e66, e67, e68, e69, e70, e71⟩ := hag c
    exact ⟨h0.trans (ref_delta _ e0 e18 e36 e54),
      h1.trans (ref_delta _ e1 e19 e37 e55),
      h2.trans (ref_delta _ e2 e20 e38 e56),
      h3.trans (ref_delta _ e3 e21 e39 e57),
      h4.trans (ref_delta _ e4 e22 e40 e58),
      h5.trans (ref_delta _ e5 e23 e41 e59),
      h6.trans (ref_delta _ e6 e24 e42 e60),
      h7.trans (ref_delta _ e7 e25 e43 e61),
      h8.trans (ref_delta _ e8 e26 e44 e62),
      h9.trans (ref_delta _ e9 e27 e45 e63),
      h10.trans (ref_delta _ e10 e28 e46 e64),
      h11.trans (ref_delta _ e11 e29 e47 e65),
      h12.trans (ref_delta _ e12 e30 e48 e66),
      h13.trans (ref_delta _ e13 e31 e49 e67),
      h14.trans (ref_delta _ e14 e32 e50 e68),
      h15.trans (ref_delta _ e15 e33 e51 e69),
      h16.trans (ref_delta _ e16 e34 e52 e70),
      h17.trans (ref_delta _ e17 e35 e53 e71),
      h18.trans (ref_newM _ e18 e36),
      h19.trans (ref_newM _ e19 e37),
      h20.trans (ref_newM _ e20 e38),
      h21.trans (ref_newM _ e21 e39),
      h22.trans (ref_newM _ e22 e40),
      h23.trans (ref_newM _ e23 e41),
      h24.trans (ref_newM _ e24 e42),
      h25.trans (ref_newM _ e25 e43),
      h26.trans (ref_newM _ e26 e44),
      h27.trans (ref_newM _ e27 e45),
      h28.trans (ref_newM _ e28 e46),
      h29.trans (ref_newM _ e29 e47),
      h30.trans (ref_newM _ e30 e48),
      h31.trans (ref_newM _ e31 e49),
      h32.trans (ref_newM _ e32 e50),
      h33.trans (ref_newM _ e33 e51),
      h34.trans (ref_newM _ e34 e52),
      h35.trans (ref_newM _ e35 e53),
      h36.trans (ref_newV _ e18 e54),
      h37.trans (ref_newV _ e19 e55),
      h38.trans (ref_newV _ e20 e56),
      h39.trans (ref_newV _ e21 e57),
      h40.trans (ref_newV _ e22 e58),
      h41.trans (ref_newV _ e23 e59),
      h42.trans (ref_newV _ e24 e60),
      h43.trans (ref_newV _ e25 e61),
      h44.trans (ref_newV _ e26 e62),
      h45.trans (ref_newV _ e27 e63),
      h46.trans (ref_newV _ e28 e64),
      h47.trans (ref_newV _ e29 e65),
      h48.trans (ref_newV _ e30 e66),
      h49.trans (ref_newV _ e31 e67),
      h50.trans (ref_newV _ e32 e68),
      h51.trans (ref_newV _ e33 e69),
      h52.trans (ref_newV _ e34 e70),
      h53.trans (ref_newV _ e35 e71),
      hr⟩

end Cert.AdamSmallProof

end
-- ==== Proof.lean ====
/- The proof of the claim: each program's frame, and each value claim from the module that proves it. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.FfnOutDx
public import proofs.«01_k».proof.Proof.Gen.FfnOutDx.Frame
public import proofs.«01_k».proof.Proof.Gen.FfnOutDxIdeal
public import proofs.«01_k».proof.Proof.Gen.FfnOutDxIdeal.Frame
public import proofs.«01_k».proof.Proof.Gen.FfnOutDxRefIdeal
public import proofs.«01_k».proof.Proof.Gen.FfnOutDw
public import proofs.«01_k».proof.Proof.Gen.FfnOutDw.Frame
public import proofs.«01_k».proof.Proof.Gen.FfnOutDwIdeal
public import proofs.«01_k».proof.Proof.Gen.FfnOutDwIdeal.Frame
public import proofs.«01_k».proof.Proof.Gen.FfnOutDwRefIdeal
public import proofs.«01_k».proof.Proof.Gen.FfnInDx
public import proofs.«01_k».proof.Proof.Gen.FfnInDx.Frame
public import proofs.«01_k».proof.Proof.Gen.FfnInDxIdeal
public import proofs.«01_k».proof.Proof.Gen.FfnInDxIdeal.Frame
public import proofs.«01_k».proof.Proof.Gen.FfnInDxRefIdeal
public import proofs.«01_k».proof.Proof.Gen.FfnInDw
public import proofs.«01_k».proof.Proof.Gen.FfnInDw.Frame
public import proofs.«01_k».proof.Proof.Gen.FfnInDwIdeal
public import proofs.«01_k».proof.Proof.Gen.FfnInDwIdeal.Frame
public import proofs.«01_k».proof.Proof.Gen.FfnInDwRefIdeal
public import proofs.«01_k».proof.Proof.Gen.OutDx
public import proofs.«01_k».proof.Proof.Gen.OutDx.Frame
public import proofs.«01_k».proof.Proof.Gen.OutDxIdeal
public import proofs.«01_k».proof.Proof.Gen.OutDxIdeal.Frame
public import proofs.«01_k».proof.Proof.Gen.OutDxRefIdeal
public import proofs.«01_k».proof.Proof.Gen.OutDw
public import proofs.«01_k».proof.Proof.Gen.OutDw.Frame
public import proofs.«01_k».proof.Proof.Gen.OutDwIdeal
public import proofs.«01_k».proof.Proof.Gen.OutDwIdeal.Frame
public import proofs.«01_k».proof.Proof.Gen.OutDwRefIdeal
public import proofs.«01_k».proof.Proof.Gen.BranchDx
public import proofs.«01_k».proof.Proof.Gen.BranchDx.Frame
public import proofs.«01_k».proof.Proof.Gen.BranchDxIdeal
public import proofs.«01_k».proof.Proof.Gen.BranchDxIdeal.Frame
public import proofs.«01_k».proof.Proof.Gen.BranchDxRefIdeal
public import proofs.«01_k».proof.Proof.Gen.BranchDw
public import proofs.«01_k».proof.Proof.Gen.BranchDw.Frame
public import proofs.«01_k».proof.Proof.Gen.BranchDwIdeal
public import proofs.«01_k».proof.Proof.Gen.BranchDwIdeal.Frame
public import proofs.«01_k».proof.Proof.Gen.BranchDwRefIdeal
public import proofs.«01_k».proof.Proof.Gen.UkvDx
public import proofs.«01_k».proof.Proof.Gen.UkvDx.Frame
public import proofs.«01_k».proof.Proof.Gen.UkvDxIdeal
public import proofs.«01_k».proof.Proof.Gen.UkvDxIdeal.Frame
public import proofs.«01_k».proof.Proof.Gen.UkvDxRefIdeal
public import proofs.«01_k».proof.Proof.Gen.UkvDw
public import proofs.«01_k».proof.Proof.Gen.UkvDw.Frame
public import proofs.«01_k».proof.Proof.Gen.UkvDwIdeal
public import proofs.«01_k».proof.Proof.Gen.UkvDwIdeal.Frame
public import proofs.«01_k».proof.Proof.Gen.UkvDwRefIdeal
public import proofs.«01_k».proof.Proof.Gen.InQDx
public import proofs.«01_k».proof.Proof.Gen.InQDx.Frame
public import proofs.«01_k».proof.Proof.Gen.InQDxIdeal
public import proofs.«01_k».proof.Proof.Gen.InQDxIdeal.Frame
public import proofs.«01_k».proof.Proof.Gen.InQDxRefIdeal
public import proofs.«01_k».proof.Proof.Gen.InQDw
public import proofs.«01_k».proof.Proof.Gen.InQDw.Frame
public import proofs.«01_k».proof.Proof.Gen.InQDwIdeal
public import proofs.«01_k».proof.Proof.Gen.InQDwIdeal.Frame
public import proofs.«01_k».proof.Proof.Gen.InQDwRefIdeal
public import proofs.«01_k».proof.Proof.Gen.InCkvDx
public import proofs.«01_k».proof.Proof.Gen.InCkvDx.Frame
public import proofs.«01_k».proof.Proof.Gen.InCkvDxIdeal
public import proofs.«01_k».proof.Proof.Gen.InCkvDxIdeal.Frame
public import proofs.«01_k».proof.Proof.Gen.InCkvDxRefIdeal
public import proofs.«01_k».proof.Proof.Gen.InCkvDw
public import proofs.«01_k».proof.Proof.Gen.InCkvDw.Frame
public import proofs.«01_k».proof.Proof.Gen.InCkvDwIdeal
public import proofs.«01_k».proof.Proof.Gen.InCkvDwIdeal.Frame
public import proofs.«01_k».proof.Proof.Gen.InCkvDwRefIdeal
public import proofs.«01_k».proof.Proof.Gen.InSgDx
public import proofs.«01_k».proof.Proof.Gen.InSgDx.Frame
public import proofs.«01_k».proof.Proof.Gen.InSgDxIdeal
public import proofs.«01_k».proof.Proof.Gen.InSgDxIdeal.Frame
public import proofs.«01_k».proof.Proof.Gen.InSgDxRefIdeal
public import proofs.«01_k».proof.Proof.Gen.InSgDw
public import proofs.«01_k».proof.Proof.Gen.InSgDw.Frame
public import proofs.«01_k».proof.Proof.Gen.InSgDwIdeal
public import proofs.«01_k».proof.Proof.Gen.InSgDwIdeal.Frame
public import proofs.«01_k».proof.Proof.Gen.InSgDwRefIdeal
public import proofs.«01_k».proof.Proof.Gen.InRwDx
public import proofs.«01_k».proof.Proof.Gen.InRwDx.Frame
public import proofs.«01_k».proof.Proof.Gen.InRwDxIdeal
public import proofs.«01_k».proof.Proof.Gen.InRwDxIdeal.Frame
public import proofs.«01_k».proof.Proof.Gen.InRwDxRefIdeal
public import proofs.«01_k».proof.Proof.Gen.InRwDw
public import proofs.«01_k».proof.Proof.Gen.InRwDw.Frame
public import proofs.«01_k».proof.Proof.Gen.InRwDwIdeal
public import proofs.«01_k».proof.Proof.Gen.InRwDwIdeal.Frame
public import proofs.«01_k».proof.Proof.Gen.InRwDwRefIdeal
public import proofs.«01_k».proof.Proof.Gen.InGateDx
public import proofs.«01_k».proof.Proof.Gen.InGateDx.Frame
public import proofs.«01_k».proof.Proof.Gen.InGateDxIdeal
public import proofs.«01_k».proof.Proof.Gen.InGateDxIdeal.Frame
public import proofs.«01_k».proof.Proof.Gen.InGateDxRefIdeal
public import proofs.«01_k».proof.Proof.Gen.InGateDw
public import proofs.«01_k».proof.Proof.Gen.InGateDw.Frame
public import proofs.«01_k».proof.Proof.Gen.InGateDwIdeal
public import proofs.«01_k».proof.Proof.Gen.InGateDwIdeal.Frame
public import proofs.«01_k».proof.Proof.Gen.InGateDwRefIdeal
public import proofs.«01_k».proof.Proof.Gen.InKrDx
public import proofs.«01_k».proof.Proof.Gen.InKrDx.Frame
public import proofs.«01_k».proof.Proof.Gen.InKrDxIdeal
public import proofs.«01_k».proof.Proof.Gen.InKrDxIdeal.Frame
public import proofs.«01_k».proof.Proof.Gen.InKrDxRefIdeal
public import proofs.«01_k».proof.Proof.Gen.InKrDw
public import proofs.«01_k».proof.Proof.Gen.InKrDw.Frame
public import proofs.«01_k».proof.Proof.Gen.InKrDwIdeal
public import proofs.«01_k».proof.Proof.Gen.InKrDwIdeal.Frame
public import proofs.«01_k».proof.Proof.Gen.InKrDwRefIdeal
public import proofs.«01_k».proof.Proof.Gen.UqDx
public import proofs.«01_k».proof.Proof.Gen.UqDx.Frame
public import proofs.«01_k».proof.Proof.Gen.UqDxIdeal
public import proofs.«01_k».proof.Proof.Gen.UqDxIdeal.Frame
public import proofs.«01_k».proof.Proof.Gen.UqDxRefIdeal
public import proofs.«01_k».proof.Proof.Gen.UqDw
public import proofs.«01_k».proof.Proof.Gen.UqDw.Frame
public import proofs.«01_k».proof.Proof.Gen.UqDwIdeal
public import proofs.«01_k».proof.Proof.Gen.UqDwIdeal.Frame
public import proofs.«01_k».proof.Proof.Gen.UqDwRefIdeal
public import proofs.«01_k».proof.Proof.Gen.BranchAttnDx
public import proofs.«01_k».proof.Proof.Gen.BranchAttnDx.Frame
public import proofs.«01_k».proof.Proof.Gen.BranchAttnDxIdeal
public import proofs.«01_k».proof.Proof.Gen.BranchAttnDxIdeal.Frame
public import proofs.«01_k».proof.Proof.Gen.BranchAttnDxRefIdeal
public import proofs.«01_k».proof.Proof.Gen.BranchAttnDw
public import proofs.«01_k».proof.Proof.Gen.BranchAttnDw.Frame
public import proofs.«01_k».proof.Proof.Gen.BranchAttnDwIdeal
public import proofs.«01_k».proof.Proof.Gen.BranchAttnDwIdeal.Frame
public import proofs.«01_k».proof.Proof.Gen.BranchAttnDwRefIdeal
public import proofs.«01_k».proof.Proof.Gen.InQFw
public import proofs.«01_k».proof.Proof.Gen.InQFw.Frame
public import proofs.«01_k».proof.Proof.Gen.InQFwIdeal
public import proofs.«01_k».proof.Proof.Gen.InQFwIdeal.Frame
public import proofs.«01_k».proof.Proof.Gen.InQFwRefIdeal
public import proofs.«01_k».proof.Proof.Gen.InCkvFw
public import proofs.«01_k».proof.Proof.Gen.InCkvFw.Frame
public import proofs.«01_k».proof.Proof.Gen.InCkvFwIdeal
public import proofs.«01_k».proof.Proof.Gen.InCkvFwIdeal.Frame
public import proofs.«01_k».proof.Proof.Gen.InCkvFwRefIdeal
public import proofs.«01_k».proof.Proof.Gen.InKrFw
public import proofs.«01_k».proof.Proof.Gen.InKrFw.Frame
public import proofs.«01_k».proof.Proof.Gen.InKrFwIdeal
public import proofs.«01_k».proof.Proof.Gen.InKrFwIdeal.Frame
public import proofs.«01_k».proof.Proof.Gen.InKrFwRefIdeal
public import proofs.«01_k».proof.Proof.Gen.InSgFw
public import proofs.«01_k».proof.Proof.Gen.InSgFw.Frame
public import proofs.«01_k».proof.Proof.Gen.InSgFwIdeal
public import proofs.«01_k».proof.Proof.Gen.InSgFwIdeal.Frame
public import proofs.«01_k».proof.Proof.Gen.InSgFwRefIdeal
public import proofs.«01_k».proof.Proof.Gen.InRwFw
public import proofs.«01_k».proof.Proof.Gen.InRwFw.Frame
public import proofs.«01_k».proof.Proof.Gen.InRwFwIdeal
public import proofs.«01_k».proof.Proof.Gen.InRwFwIdeal.Frame
public import proofs.«01_k».proof.Proof.Gen.InRwFwRefIdeal
public import proofs.«01_k».proof.Proof.Gen.InGateFw
public import proofs.«01_k».proof.Proof.Gen.InGateFw.Frame
public import proofs.«01_k».proof.Proof.Gen.InGateFwIdeal
public import proofs.«01_k».proof.Proof.Gen.InGateFwIdeal.Frame
public import proofs.«01_k».proof.Proof.Gen.InGateFwRefIdeal
public import proofs.«01_k».proof.Proof.Gen.UqFw
public import proofs.«01_k».proof.Proof.Gen.UqFw.Frame
public import proofs.«01_k».proof.Proof.Gen.UqFwIdeal
public import proofs.«01_k».proof.Proof.Gen.UqFwIdeal.Frame
public import proofs.«01_k».proof.Proof.Gen.UqFwRefIdeal
public import proofs.«01_k».proof.Proof.Gen.UkvFw
public import proofs.«01_k».proof.Proof.Gen.UkvFw.Frame
public import proofs.«01_k».proof.Proof.Gen.UkvFwIdeal
public import proofs.«01_k».proof.Proof.Gen.UkvFwIdeal.Frame
public import proofs.«01_k».proof.Proof.Gen.UkvFwRefIdeal
public import proofs.«01_k».proof.Proof.Gen.BranchAttnFw
public import proofs.«01_k».proof.Proof.Gen.BranchAttnFw.Frame
public import proofs.«01_k».proof.Proof.Gen.BranchAttnFwIdeal
public import proofs.«01_k».proof.Proof.Gen.BranchAttnFwIdeal.Frame
public import proofs.«01_k».proof.Proof.Gen.BranchAttnFwRefIdeal
public import proofs.«01_k».proof.Proof.Gen.BranchFw
public import proofs.«01_k».proof.Proof.Gen.BranchFw.Frame
public import proofs.«01_k».proof.Proof.Gen.BranchFwIdeal
public import proofs.«01_k».proof.Proof.Gen.BranchFwIdeal.Frame
public import proofs.«01_k».proof.Proof.Gen.BranchFwRefIdeal
public import proofs.«01_k».proof.Proof.Gen.OutFw
public import proofs.«01_k».proof.Proof.Gen.OutFw.Frame
public import proofs.«01_k».proof.Proof.Gen.OutFwIdeal
public import proofs.«01_k».proof.Proof.Gen.OutFwIdeal.Frame
public import proofs.«01_k».proof.Proof.Gen.OutFwRefIdeal
public import proofs.«01_k».proof.Proof.Gen.FfnInFw
public import proofs.«01_k».proof.Proof.Gen.FfnInFw.Frame
public import proofs.«01_k».proof.Proof.Gen.FfnInFwIdeal
public import proofs.«01_k».proof.Proof.Gen.FfnInFwIdeal.Frame
public import proofs.«01_k».proof.Proof.Gen.FfnInFwRefIdeal
public import proofs.«01_k».proof.Proof.Gen.FfnOutFw
public import proofs.«01_k».proof.Proof.Gen.FfnOutFw.Frame
public import proofs.«01_k».proof.Proof.Gen.FfnOutFwIdeal
public import proofs.«01_k».proof.Proof.Gen.FfnOutFwIdeal.Frame
public import proofs.«01_k».proof.Proof.Gen.FfnOutFwRefIdeal
public import proofs.«01_k».proof.Proof.Gen.AdamWIn
public import proofs.«01_k».proof.Proof.Gen.AdamWIn.Frame
public import proofs.«01_k».proof.Proof.Gen.AdamWInIdeal
public import proofs.«01_k».proof.Proof.Gen.AdamWInIdeal.Frame
public import proofs.«01_k».proof.Proof.Gen.AdamWInRefIdeal
public import proofs.«01_k».proof.Proof.Gen.AdamWUq
public import proofs.«01_k».proof.Proof.Gen.AdamWUq.Frame
public import proofs.«01_k».proof.Proof.Gen.AdamWUqIdeal
public import proofs.«01_k».proof.Proof.Gen.AdamWUqIdeal.Frame
public import proofs.«01_k».proof.Proof.Gen.AdamWUqRefIdeal
public import proofs.«01_k».proof.Proof.Gen.AdamWUkv
public import proofs.«01_k».proof.Proof.Gen.AdamWUkv.Frame
public import proofs.«01_k».proof.Proof.Gen.AdamWUkvIdeal
public import proofs.«01_k».proof.Proof.Gen.AdamWUkvIdeal.Frame
public import proofs.«01_k».proof.Proof.Gen.AdamWUkvRefIdeal
public import proofs.«01_k».proof.Proof.Gen.AdamRwW2
public import proofs.«01_k».proof.Proof.Gen.AdamRwW2.Frame
public import proofs.«01_k».proof.Proof.Gen.AdamRwW2Ideal
public import proofs.«01_k».proof.Proof.Gen.AdamRwW2Ideal.Frame
public import proofs.«01_k».proof.Proof.Gen.AdamRwW2RefIdeal
public import proofs.«01_k».proof.Proof.Gen.AdamRwA2
public import proofs.«01_k».proof.Proof.Gen.AdamRwA2.Frame
public import proofs.«01_k».proof.Proof.Gen.AdamRwA2Ideal
public import proofs.«01_k».proof.Proof.Gen.AdamRwA2Ideal.Frame
public import proofs.«01_k».proof.Proof.Gen.AdamRwA2RefIdeal
public import proofs.«01_k».proof.Proof.Gen.AdamRwG2
public import proofs.«01_k».proof.Proof.Gen.AdamRwG2.Frame
public import proofs.«01_k».proof.Proof.Gen.AdamRwG2Ideal
public import proofs.«01_k».proof.Proof.Gen.AdamRwG2Ideal.Frame
public import proofs.«01_k».proof.Proof.Gen.AdamRwG2RefIdeal
public import proofs.«01_k».proof.Proof.Gen.AdamWBranch
public import proofs.«01_k».proof.Proof.Gen.AdamWBranch.Frame
public import proofs.«01_k».proof.Proof.Gen.AdamWBranchIdeal
public import proofs.«01_k».proof.Proof.Gen.AdamWBranchIdeal.Frame
public import proofs.«01_k».proof.Proof.Gen.AdamWBranchRefIdeal
public import proofs.«01_k».proof.Proof.Gen.AdamWOut
public import proofs.«01_k».proof.Proof.Gen.AdamWOut.Frame
public import proofs.«01_k».proof.Proof.Gen.AdamWOutIdeal
public import proofs.«01_k».proof.Proof.Gen.AdamWOutIdeal.Frame
public import proofs.«01_k».proof.Proof.Gen.AdamWOutRefIdeal
public import proofs.«01_k».proof.Proof.Gen.AdamWFfnGate
public import proofs.«01_k».proof.Proof.Gen.AdamWFfnGate.Frame
public import proofs.«01_k».proof.Proof.Gen.AdamWFfnGateIdeal
public import proofs.«01_k».proof.Proof.Gen.AdamWFfnGateIdeal.Frame
public import proofs.«01_k».proof.Proof.Gen.AdamWFfnGateRefIdeal
public import proofs.«01_k».proof.Proof.Gen.AdamWFfnUp
public import proofs.«01_k».proof.Proof.Gen.AdamWFfnUp.Frame
public import proofs.«01_k».proof.Proof.Gen.AdamWFfnUpIdeal
public import proofs.«01_k».proof.Proof.Gen.AdamWFfnUpIdeal.Frame
public import proofs.«01_k».proof.Proof.Gen.AdamWFfnUpRefIdeal
public import proofs.«01_k».proof.Proof.Gen.AdamWFfnDown
public import proofs.«01_k».proof.Proof.Gen.AdamWFfnDown.Frame
public import proofs.«01_k».proof.Proof.Gen.AdamWFfnDownIdeal
public import proofs.«01_k».proof.Proof.Gen.AdamWFfnDownIdeal.Frame
public import proofs.«01_k».proof.Proof.Gen.AdamWFfnDownRefIdeal
public import proofs.«01_k».proof.Proof.Gen.AttnFw
public import proofs.«01_k».proof.Proof.Gen.AttnFw.Frame
public import proofs.«01_k».proof.Proof.Gen.AttnFwIdeal
public import proofs.«01_k».proof.Proof.Gen.AttnFwIdeal.Frame
public import proofs.«01_k».proof.Proof.Gen.AttnFwRefIdeal
public import proofs.«01_k».proof.Proof.Gen.AdamSmall
public import proofs.«01_k».proof.Proof.Gen.AdamSmall.Frame
public import proofs.«01_k».proof.Proof.Gen.AdamSmallIdeal
public import proofs.«01_k».proof.Proof.Gen.AdamSmallIdeal.Frame
public import proofs.«01_k».proof.Proof.Gen.AdamSmallRefIdeal
public import proofs.«01_k».proof.Proof.Gen.Pre_finite
public import proofs.«01_k».proof.Proof.AttnClaim
public import proofs.«01_k».proof.Proof.FfnOutDxValue
public import proofs.«01_k».proof.Proof.FfnOutDwValue
public import proofs.«01_k».proof.Proof.FfnInDxValue
public import proofs.«01_k».proof.Proof.FfnInDwValue
public import proofs.«01_k».proof.Proof.OutDxValue
public import proofs.«01_k».proof.Proof.OutDwValue
public import proofs.«01_k».proof.Proof.BranchDxValue
public import proofs.«01_k».proof.Proof.BranchDwValue
public import proofs.«01_k».proof.Proof.UkvDxValue
public import proofs.«01_k».proof.Proof.UkvDwValue
public import proofs.«01_k».proof.Proof.InQDxValue
public import proofs.«01_k».proof.Proof.InQDwValue
public import proofs.«01_k».proof.Proof.InCkvDxValue
public import proofs.«01_k».proof.Proof.InCkvDwValue
public import proofs.«01_k».proof.Proof.InSgDxValue
public import proofs.«01_k».proof.Proof.InSgDwValue
public import proofs.«01_k».proof.Proof.InRwDxValue
public import proofs.«01_k».proof.Proof.InRwDwValue
public import proofs.«01_k».proof.Proof.InGateDxValue
public import proofs.«01_k».proof.Proof.InGateDwValue
public import proofs.«01_k».proof.Proof.InKrDxValue
public import proofs.«01_k».proof.Proof.InKrDwValue
public import proofs.«01_k».proof.Proof.UqDxValue
public import proofs.«01_k».proof.Proof.UqDwValue
public import proofs.«01_k».proof.Proof.BranchAttnDxValue
public import proofs.«01_k».proof.Proof.BranchAttnDwValue
public import proofs.«01_k».proof.Proof.InQFwValue
public import proofs.«01_k».proof.Proof.InCkvFwValue
public import proofs.«01_k».proof.Proof.InKrFwValue
public import proofs.«01_k».proof.Proof.InSgFwValue
public import proofs.«01_k».proof.Proof.InRwFwValue
public import proofs.«01_k».proof.Proof.InGateFwValue
public import proofs.«01_k».proof.Proof.UqFwValue
public import proofs.«01_k».proof.Proof.UkvFwValue
public import proofs.«01_k».proof.Proof.BranchAttnFwValue
public import proofs.«01_k».proof.Proof.BranchFwValue
public import proofs.«01_k».proof.Proof.OutFwValue
public import proofs.«01_k».proof.Proof.FfnInFwValue
public import proofs.«01_k».proof.Proof.FfnOutFwValue
public import proofs.«01_k».proof.Proof.AdamWInValue
public import proofs.«01_k».proof.Proof.AdamWUqValue
public import proofs.«01_k».proof.Proof.AdamWUkvValue
public import proofs.«01_k».proof.Proof.AdamRwW2Value
public import proofs.«01_k».proof.Proof.AdamRwA2Value
public import proofs.«01_k».proof.Proof.AdamRwG2Value
public import proofs.«01_k».proof.Proof.AdamWBranchValue
public import proofs.«01_k».proof.Proof.AdamWOutValue
public import proofs.«01_k».proof.Proof.AdamWFfnGateValue
public import proofs.«01_k».proof.Proof.AdamWFfnUpValue
public import proofs.«01_k».proof.Proof.AdamWFfnDownValue
public import proofs.«01_k».proof.Proof.AttnFwValue
public import proofs.«01_k».proof.Proof.AdamSmallValue
public import Idealize.ShloMosaic.Adequacy
public import Idealize.ShloMosaic.Init

@[expose] public section

noncomputable section

namespace Cert.Proof

open Idealize.ShloMosaic Idealize.SL.Sem Cert.Kernel

/-- The reference leaves its arguments unchanged and every counter at zero: it is a straight line of host operations and
    declares no semaphore. -/
theorem frame_ref : Cert.quiescent_ReferenceIdeal (hReferenceIdeal := Cert.ReferenceIdeal.Gen.facts) := fun m ρ _ =>
  (θ_run _ _ _).mono (fun r h => ⟨fun c => ((h c).2.2.2 : _), sem_eq_zero_of_no_sems (by decide) r.2⟩)
    (Cert.ReferenceIdeal.Value.run m ρ)

theorem claim : Cert.Claim :=
  ⟨Cert.Kernel.Gen.facts, Cert.KernelIdeal.Gen.facts, Cert.ReferenceIdeal.Gen.facts,
    Cert.FfnOutDx.Gen.facts, Cert.FfnOutDxIdeal.Gen.facts, Cert.FfnOutDxRefIdeal.Gen.facts,
    Cert.FfnOutDw.Gen.facts, Cert.FfnOutDwIdeal.Gen.facts, Cert.FfnOutDwRefIdeal.Gen.facts,
    Cert.FfnInDx.Gen.facts, Cert.FfnInDxIdeal.Gen.facts, Cert.FfnInDxRefIdeal.Gen.facts,
    Cert.FfnInDw.Gen.facts, Cert.FfnInDwIdeal.Gen.facts, Cert.FfnInDwRefIdeal.Gen.facts,
    Cert.OutDx.Gen.facts, Cert.OutDxIdeal.Gen.facts, Cert.OutDxRefIdeal.Gen.facts,
    Cert.OutDw.Gen.facts, Cert.OutDwIdeal.Gen.facts, Cert.OutDwRefIdeal.Gen.facts,
    Cert.BranchDx.Gen.facts, Cert.BranchDxIdeal.Gen.facts, Cert.BranchDxRefIdeal.Gen.facts,
    Cert.BranchDw.Gen.facts, Cert.BranchDwIdeal.Gen.facts, Cert.BranchDwRefIdeal.Gen.facts,
    Cert.UkvDx.Gen.facts, Cert.UkvDxIdeal.Gen.facts, Cert.UkvDxRefIdeal.Gen.facts,
    Cert.UkvDw.Gen.facts, Cert.UkvDwIdeal.Gen.facts, Cert.UkvDwRefIdeal.Gen.facts,
    Cert.InQDx.Gen.facts, Cert.InQDxIdeal.Gen.facts, Cert.InQDxRefIdeal.Gen.facts,
    Cert.InQDw.Gen.facts, Cert.InQDwIdeal.Gen.facts, Cert.InQDwRefIdeal.Gen.facts,
    Cert.InCkvDx.Gen.facts, Cert.InCkvDxIdeal.Gen.facts, Cert.InCkvDxRefIdeal.Gen.facts,
    Cert.InCkvDw.Gen.facts, Cert.InCkvDwIdeal.Gen.facts, Cert.InCkvDwRefIdeal.Gen.facts,
    Cert.InSgDx.Gen.facts, Cert.InSgDxIdeal.Gen.facts, Cert.InSgDxRefIdeal.Gen.facts,
    Cert.InSgDw.Gen.facts, Cert.InSgDwIdeal.Gen.facts, Cert.InSgDwRefIdeal.Gen.facts,
    Cert.InRwDx.Gen.facts, Cert.InRwDxIdeal.Gen.facts, Cert.InRwDxRefIdeal.Gen.facts,
    Cert.InRwDw.Gen.facts, Cert.InRwDwIdeal.Gen.facts, Cert.InRwDwRefIdeal.Gen.facts,
    Cert.InGateDx.Gen.facts, Cert.InGateDxIdeal.Gen.facts, Cert.InGateDxRefIdeal.Gen.facts,
    Cert.InGateDw.Gen.facts, Cert.InGateDwIdeal.Gen.facts, Cert.InGateDwRefIdeal.Gen.facts,
    Cert.InKrDx.Gen.facts, Cert.InKrDxIdeal.Gen.facts, Cert.InKrDxRefIdeal.Gen.facts,
    Cert.InKrDw.Gen.facts, Cert.InKrDwIdeal.Gen.facts, Cert.InKrDwRefIdeal.Gen.facts,
    Cert.UqDx.Gen.facts, Cert.UqDxIdeal.Gen.facts, Cert.UqDxRefIdeal.Gen.facts,
    Cert.UqDw.Gen.facts, Cert.UqDwIdeal.Gen.facts, Cert.UqDwRefIdeal.Gen.facts,
    Cert.BranchAttnDx.Gen.facts, Cert.BranchAttnDxIdeal.Gen.facts, Cert.BranchAttnDxRefIdeal.Gen.facts,
    Cert.BranchAttnDw.Gen.facts, Cert.BranchAttnDwIdeal.Gen.facts, Cert.BranchAttnDwRefIdeal.Gen.facts,
    Cert.InQFw.Gen.facts, Cert.InQFwIdeal.Gen.facts, Cert.InQFwRefIdeal.Gen.facts,
    Cert.InCkvFw.Gen.facts, Cert.InCkvFwIdeal.Gen.facts, Cert.InCkvFwRefIdeal.Gen.facts,
    Cert.InKrFw.Gen.facts, Cert.InKrFwIdeal.Gen.facts, Cert.InKrFwRefIdeal.Gen.facts,
    Cert.InSgFw.Gen.facts, Cert.InSgFwIdeal.Gen.facts, Cert.InSgFwRefIdeal.Gen.facts,
    Cert.InRwFw.Gen.facts, Cert.InRwFwIdeal.Gen.facts, Cert.InRwFwRefIdeal.Gen.facts,
    Cert.InGateFw.Gen.facts, Cert.InGateFwIdeal.Gen.facts, Cert.InGateFwRefIdeal.Gen.facts,
    Cert.UqFw.Gen.facts, Cert.UqFwIdeal.Gen.facts, Cert.UqFwRefIdeal.Gen.facts,
    Cert.UkvFw.Gen.facts, Cert.UkvFwIdeal.Gen.facts, Cert.UkvFwRefIdeal.Gen.facts,
    Cert.BranchAttnFw.Gen.facts, Cert.BranchAttnFwIdeal.Gen.facts, Cert.BranchAttnFwRefIdeal.Gen.facts,
    Cert.BranchFw.Gen.facts, Cert.BranchFwIdeal.Gen.facts, Cert.BranchFwRefIdeal.Gen.facts,
    Cert.OutFw.Gen.facts, Cert.OutFwIdeal.Gen.facts, Cert.OutFwRefIdeal.Gen.facts,
    Cert.FfnInFw.Gen.facts, Cert.FfnInFwIdeal.Gen.facts, Cert.FfnInFwRefIdeal.Gen.facts,
    Cert.FfnOutFw.Gen.facts, Cert.FfnOutFwIdeal.Gen.facts, Cert.FfnOutFwRefIdeal.Gen.facts,
    Cert.AdamWIn.Gen.facts, Cert.AdamWInIdeal.Gen.facts, Cert.AdamWInRefIdeal.Gen.facts,
    Cert.AdamWUq.Gen.facts, Cert.AdamWUqIdeal.Gen.facts, Cert.AdamWUqRefIdeal.Gen.facts,
    Cert.AdamWUkv.Gen.facts, Cert.AdamWUkvIdeal.Gen.facts, Cert.AdamWUkvRefIdeal.Gen.facts,
    Cert.AdamRwW2.Gen.facts, Cert.AdamRwW2Ideal.Gen.facts, Cert.AdamRwW2RefIdeal.Gen.facts,
    Cert.AdamRwA2.Gen.facts, Cert.AdamRwA2Ideal.Gen.facts, Cert.AdamRwA2RefIdeal.Gen.facts,
    Cert.AdamRwG2.Gen.facts, Cert.AdamRwG2Ideal.Gen.facts, Cert.AdamRwG2RefIdeal.Gen.facts,
    Cert.AdamWBranch.Gen.facts, Cert.AdamWBranchIdeal.Gen.facts, Cert.AdamWBranchRefIdeal.Gen.facts,
    Cert.AdamWOut.Gen.facts, Cert.AdamWOutIdeal.Gen.facts, Cert.AdamWOutRefIdeal.Gen.facts,
    Cert.AdamWFfnGate.Gen.facts, Cert.AdamWFfnGateIdeal.Gen.facts, Cert.AdamWFfnGateRefIdeal.Gen.facts,
    Cert.AdamWFfnUp.Gen.facts, Cert.AdamWFfnUpIdeal.Gen.facts, Cert.AdamWFfnUpRefIdeal.Gen.facts,
    Cert.AdamWFfnDown.Gen.facts, Cert.AdamWFfnDownIdeal.Gen.facts, Cert.AdamWFfnDownRefIdeal.Gen.facts,
    Cert.AttnFw.Gen.facts, Cert.AttnFwIdeal.Gen.facts, Cert.AttnFwRefIdeal.Gen.facts,
    Cert.AdamSmall.Gen.facts, Cert.AdamSmallIdeal.Gen.facts, Cert.AdamSmallRefIdeal.Gen.facts,
    Cert.AttnClaim.preFacts, Cert.AttnFwProof.preFacts,
    fun m ρ _ => Cert.Kernel.Gen.frame m ρ,
    fun m ρ _ => Cert.KernelIdeal.Gen.frame m ρ,
    fun m ρ _ => Cert.KernelIdeal.Gen.frame m ρ,
    fun m ρ _ => frame_ref m ρ trivial,
    fun m ρ _ => frame_ref m ρ trivial,
    fun m ρ _ => Cert.FfnOutDx.Gen.frame m ρ,
    fun m ρ _ => Cert.FfnOutDxIdeal.Gen.frame m ρ,
    Cert.FfnOutDxProof.frame_ref,
    fun m ρ _ => Cert.FfnOutDw.Gen.frame m ρ,
    fun m ρ _ => Cert.FfnOutDwIdeal.Gen.frame m ρ,
    Cert.FfnOutDwProof.frame_ref,
    fun m ρ _ => Cert.FfnInDx.Gen.frame m ρ,
    fun m ρ _ => Cert.FfnInDxIdeal.Gen.frame m ρ,
    Cert.FfnInDxProof.frame_ref,
    fun m ρ _ => Cert.FfnInDw.Gen.frame m ρ,
    fun m ρ _ => Cert.FfnInDwIdeal.Gen.frame m ρ,
    Cert.FfnInDwProof.frame_ref,
    fun m ρ _ => Cert.OutDx.Gen.frame m ρ,
    fun m ρ _ => Cert.OutDxIdeal.Gen.frame m ρ,
    Cert.OutDxProof.frame_ref,
    fun m ρ _ => Cert.OutDw.Gen.frame m ρ,
    fun m ρ _ => Cert.OutDwIdeal.Gen.frame m ρ,
    Cert.OutDwProof.frame_ref,
    fun m ρ _ => Cert.BranchDx.Gen.frame m ρ,
    fun m ρ _ => Cert.BranchDxIdeal.Gen.frame m ρ,
    Cert.BranchDxProof.frame_ref,
    fun m ρ _ => Cert.BranchDw.Gen.frame m ρ,
    fun m ρ _ => Cert.BranchDwIdeal.Gen.frame m ρ,
    Cert.BranchDwProof.frame_ref,
    fun m ρ _ => Cert.UkvDx.Gen.frame m ρ,
    fun m ρ _ => Cert.UkvDxIdeal.Gen.frame m ρ,
    Cert.UkvDxProof.frame_ref,
    fun m ρ _ => Cert.UkvDw.Gen.frame m ρ,
    fun m ρ _ => Cert.UkvDwIdeal.Gen.frame m ρ,
    Cert.UkvDwProof.frame_ref,
    fun m ρ _ => Cert.InQDx.Gen.frame m ρ,
    fun m ρ _ => Cert.InQDxIdeal.Gen.frame m ρ,
    Cert.InQDxProof.frame_ref,
    fun m ρ _ => Cert.InQDw.Gen.frame m ρ,
    fun m ρ _ => Cert.InQDwIdeal.Gen.frame m ρ,
    Cert.InQDwProof.frame_ref,
    fun m ρ _ => Cert.InCkvDx.Gen.frame m ρ,
    fun m ρ _ => Cert.InCkvDxIdeal.Gen.frame m ρ,
    Cert.InCkvDxProof.frame_ref,
    fun m ρ _ => Cert.InCkvDw.Gen.frame m ρ,
    fun m ρ _ => Cert.InCkvDwIdeal.Gen.frame m ρ,
    Cert.InCkvDwProof.frame_ref,
    fun m ρ _ => Cert.InSgDx.Gen.frame m ρ,
    fun m ρ _ => Cert.InSgDxIdeal.Gen.frame m ρ,
    Cert.InSgDxProof.frame_ref,
    fun m ρ _ => Cert.InSgDw.Gen.frame m ρ,
    fun m ρ _ => Cert.InSgDwIdeal.Gen.frame m ρ,
    Cert.InSgDwProof.frame_ref,
    fun m ρ _ => Cert.InRwDx.Gen.frame m ρ,
    fun m ρ _ => Cert.InRwDxIdeal.Gen.frame m ρ,
    Cert.InRwDxProof.frame_ref,
    fun m ρ _ => Cert.InRwDw.Gen.frame m ρ,
    fun m ρ _ => Cert.InRwDwIdeal.Gen.frame m ρ,
    Cert.InRwDwProof.frame_ref,
    fun m ρ _ => Cert.InGateDx.Gen.frame m ρ,
    fun m ρ _ => Cert.InGateDxIdeal.Gen.frame m ρ,
    Cert.InGateDxProof.frame_ref,
    fun m ρ _ => Cert.InGateDw.Gen.frame m ρ,
    fun m ρ _ => Cert.InGateDwIdeal.Gen.frame m ρ,
    Cert.InGateDwProof.frame_ref,
    fun m ρ _ => Cert.InKrDx.Gen.frame m ρ,
    fun m ρ _ => Cert.InKrDxIdeal.Gen.frame m ρ,
    Cert.InKrDxProof.frame_ref,
    fun m ρ _ => Cert.InKrDw.Gen.frame m ρ,
    fun m ρ _ => Cert.InKrDwIdeal.Gen.frame m ρ,
    Cert.InKrDwProof.frame_ref,
    fun m ρ _ => Cert.UqDx.Gen.frame m ρ,
    fun m ρ _ => Cert.UqDxIdeal.Gen.frame m ρ,
    Cert.UqDxProof.frame_ref,
    fun m ρ _ => Cert.UqDw.Gen.frame m ρ,
    fun m ρ _ => Cert.UqDwIdeal.Gen.frame m ρ,
    Cert.UqDwProof.frame_ref,
    fun m ρ _ => Cert.BranchAttnDx.Gen.frame m ρ,
    fun m ρ _ => Cert.BranchAttnDxIdeal.Gen.frame m ρ,
    Cert.BranchAttnDxProof.frame_ref,
    fun m ρ _ => Cert.BranchAttnDw.Gen.frame m ρ,
    fun m ρ _ => Cert.BranchAttnDwIdeal.Gen.frame m ρ,
    Cert.BranchAttnDwProof.frame_ref,
    fun m ρ _ => Cert.InQFw.Gen.frame m ρ,
    fun m ρ _ => Cert.InQFwIdeal.Gen.frame m ρ,
    Cert.InQFwProof.frame_ref,
    fun m ρ _ => Cert.InCkvFw.Gen.frame m ρ,
    fun m ρ _ => Cert.InCkvFwIdeal.Gen.frame m ρ,
    Cert.InCkvFwProof.frame_ref,
    fun m ρ _ => Cert.InKrFw.Gen.frame m ρ,
    fun m ρ _ => Cert.InKrFwIdeal.Gen.frame m ρ,
    Cert.InKrFwProof.frame_ref,
    fun m ρ _ => Cert.InSgFw.Gen.frame m ρ,
    fun m ρ _ => Cert.InSgFwIdeal.Gen.frame m ρ,
    Cert.InSgFwProof.frame_ref,
    fun m ρ _ => Cert.InRwFw.Gen.frame m ρ,
    fun m ρ _ => Cert.InRwFwIdeal.Gen.frame m ρ,
    Cert.InRwFwProof.frame_ref,
    fun m ρ _ => Cert.InGateFw.Gen.frame m ρ,
    fun m ρ _ => Cert.InGateFwIdeal.Gen.frame m ρ,
    Cert.InGateFwProof.frame_ref,
    fun m ρ _ => Cert.UqFw.Gen.frame m ρ,
    fun m ρ _ => Cert.UqFwIdeal.Gen.frame m ρ,
    Cert.UqFwProof.frame_ref,
    fun m ρ _ => Cert.UkvFw.Gen.frame m ρ,
    fun m ρ _ => Cert.UkvFwIdeal.Gen.frame m ρ,
    Cert.UkvFwProof.frame_ref,
    fun m ρ _ => Cert.BranchAttnFw.Gen.frame m ρ,
    fun m ρ _ => Cert.BranchAttnFwIdeal.Gen.frame m ρ,
    Cert.BranchAttnFwProof.frame_ref,
    fun m ρ _ => Cert.BranchFw.Gen.frame m ρ,
    fun m ρ _ => Cert.BranchFwIdeal.Gen.frame m ρ,
    Cert.BranchFwProof.frame_ref,
    fun m ρ _ => Cert.OutFw.Gen.frame m ρ,
    fun m ρ _ => Cert.OutFwIdeal.Gen.frame m ρ,
    Cert.OutFwProof.frame_ref,
    fun m ρ _ => Cert.FfnInFw.Gen.frame m ρ,
    fun m ρ _ => Cert.FfnInFwIdeal.Gen.frame m ρ,
    Cert.FfnInFwProof.frame_ref,
    fun m ρ _ => Cert.FfnOutFw.Gen.frame m ρ,
    fun m ρ _ => Cert.FfnOutFwIdeal.Gen.frame m ρ,
    Cert.FfnOutFwProof.frame_ref,
    fun m ρ _ => Cert.AdamWIn.Gen.frame m ρ,
    fun m ρ _ => Cert.AdamWInIdeal.Gen.frame m ρ,
    Cert.AdamWInProof.frame_ref,
    fun m ρ _ => Cert.AdamWUq.Gen.frame m ρ,
    fun m ρ _ => Cert.AdamWUqIdeal.Gen.frame m ρ,
    Cert.AdamWUqProof.frame_ref,
    fun m ρ _ => Cert.AdamWUkv.Gen.frame m ρ,
    fun m ρ _ => Cert.AdamWUkvIdeal.Gen.frame m ρ,
    Cert.AdamWUkvProof.frame_ref,
    fun m ρ _ => Cert.AdamRwW2.Gen.frame m ρ,
    fun m ρ _ => Cert.AdamRwW2Ideal.Gen.frame m ρ,
    Cert.AdamRwW2Proof.frame_ref,
    fun m ρ _ => Cert.AdamRwA2.Gen.frame m ρ,
    fun m ρ _ => Cert.AdamRwA2Ideal.Gen.frame m ρ,
    Cert.AdamRwA2Proof.frame_ref,
    fun m ρ _ => Cert.AdamRwG2.Gen.frame m ρ,
    fun m ρ _ => Cert.AdamRwG2Ideal.Gen.frame m ρ,
    Cert.AdamRwG2Proof.frame_ref,
    fun m ρ _ => Cert.AdamWBranch.Gen.frame m ρ,
    fun m ρ _ => Cert.AdamWBranchIdeal.Gen.frame m ρ,
    Cert.AdamWBranchProof.frame_ref,
    fun m ρ _ => Cert.AdamWOut.Gen.frame m ρ,
    fun m ρ _ => Cert.AdamWOutIdeal.Gen.frame m ρ,
    Cert.AdamWOutProof.frame_ref,
    fun m ρ _ => Cert.AdamWFfnGate.Gen.frame m ρ,
    fun m ρ _ => Cert.AdamWFfnGateIdeal.Gen.frame m ρ,
    Cert.AdamWFfnGateProof.frame_ref,
    fun m ρ _ => Cert.AdamWFfnUp.Gen.frame m ρ,
    fun m ρ _ => Cert.AdamWFfnUpIdeal.Gen.frame m ρ,
    Cert.AdamWFfnUpProof.frame_ref,
    fun m ρ _ => Cert.AdamWFfnDown.Gen.frame m ρ,
    fun m ρ _ => Cert.AdamWFfnDownIdeal.Gen.frame m ρ,
    Cert.AdamWFfnDownProof.frame_ref,
    fun m ρ _ => Cert.AttnFw.Gen.frame m ρ,
    fun m ρ _ => Cert.AttnFwIdeal.Gen.frame m ρ,
    fun m ρ _ => Cert.AttnFwIdeal.Gen.frame m ρ,
    fun m ρ _ => Cert.AttnFwProof.frame_ref m ρ trivial,
    fun m ρ _ => Cert.AttnFwProof.frame_ref m ρ trivial,
    fun m ρ _ => Cert.AdamSmall.Gen.frame m ρ,
    fun m ρ _ => Cert.AdamSmallIdeal.Gen.frame m ρ,
    Cert.AdamSmallProof.frame_ref,
    trivial,
    Cert.AttnClaim.algebraic,
    trivial,
    Cert.FfnOutDxProof.algebraic,
    trivial,
    Cert.FfnOutDwProof.algebraic,
    trivial,
    Cert.FfnInDxProof.algebraic,
    trivial,
    Cert.FfnInDwProof.algebraic,
    trivial,
    Cert.OutDxProof.algebraic,
    trivial,
    Cert.OutDwProof.algebraic,
    trivial,
    Cert.BranchDxProof.algebraic,
    trivial,
    Cert.BranchDwProof.algebraic,
    trivial,
    Cert.UkvDxProof.algebraic,
    trivial,
    Cert.UkvDwProof.algebraic,
    trivial,
    Cert.InQDxProof.algebraic,
    trivial,
    Cert.InQDwProof.algebraic,
    trivial,
    Cert.InCkvDxProof.algebraic,
    trivial,
    Cert.InCkvDwProof.algebraic,
    trivial,
    Cert.InSgDxProof.algebraic,
    trivial,
    Cert.InSgDwProof.algebraic,
    trivial,
    Cert.InRwDxProof.algebraic,
    trivial,
    Cert.InRwDwProof.algebraic,
    trivial,
    Cert.InGateDxProof.algebraic,
    trivial,
    Cert.InGateDwProof.algebraic,
    trivial,
    Cert.InKrDxProof.algebraic,
    trivial,
    Cert.InKrDwProof.algebraic,
    trivial,
    Cert.UqDxProof.algebraic,
    trivial,
    Cert.UqDwProof.algebraic,
    trivial,
    Cert.BranchAttnDxProof.algebraic,
    trivial,
    Cert.BranchAttnDwProof.algebraic,
    trivial,
    Cert.InQFwProof.algebraic,
    trivial,
    Cert.InCkvFwProof.algebraic,
    trivial,
    Cert.InKrFwProof.algebraic,
    trivial,
    Cert.InSgFwProof.algebraic,
    trivial,
    Cert.InRwFwProof.algebraic,
    trivial,
    Cert.InGateFwProof.algebraic,
    trivial,
    Cert.UqFwProof.algebraic,
    trivial,
    Cert.UkvFwProof.algebraic,
    trivial,
    Cert.BranchAttnFwProof.algebraic,
    trivial,
    Cert.BranchFwProof.algebraic,
    trivial,
    Cert.OutFwProof.algebraic,
    trivial,
    Cert.FfnInFwProof.algebraic,
    trivial,
    Cert.FfnOutFwProof.algebraic,
    trivial,
    Cert.AdamWInProof.algebraic,
    trivial,
    Cert.AdamWUqProof.algebraic,
    trivial,
    Cert.AdamWUkvProof.algebraic,
    trivial,
    Cert.AdamRwW2Proof.algebraic,
    trivial,
    Cert.AdamRwA2Proof.algebraic,
    trivial,
    Cert.AdamRwG2Proof.algebraic,
    trivial,
    Cert.AdamWBranchProof.algebraic,
    trivial,
    Cert.AdamWOutProof.algebraic,
    trivial,
    Cert.AdamWFfnGateProof.algebraic,
    trivial,
    Cert.AdamWFfnUpProof.algebraic,
    trivial,
    Cert.AdamWFfnDownProof.algebraic,
    trivial,
    Cert.AttnFwProof.algebraic,
    trivial,
    Cert.AdamSmallProof.algebraic⟩

end Cert.Proof

end
